-- ==== Defs.lean ====
def Pre_Kernel [hPre_in_bounds : Cert.Pre_in_bounds.Facts] (m : (ℓ : Loc Cert.Kernel.nD Cert.Kernel.τ Cert.Kernel.sig) → Buf (Elt Bits) ℓ) : Prop :=
  ∀ c : Dev Cert.Kernel.nD,
    (Cert.Pre_in_bounds.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_bounds : Cert.Pre_in_bounds.Facts] (m : (ℓ : Loc Cert.KernelIdeal.nD Cert.KernelIdeal.τ Cert.KernelIdeal.sig) → Buf (Elt Ideal) ℓ) : Prop :=
  ∀ c : Dev Cert.KernelIdeal.nD,
    (Cert.Pre_in_bounds.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_grouped [hPre_grouped : Cert.Pre_grouped.Facts] (m : (ℓ : Loc Cert.KernelIdeal.nD Cert.KernelIdeal.τ Cert.KernelIdeal.sig) → Buf (Elt Ideal) ℓ) : Prop :=
  ∀ c : Dev Cert.KernelIdeal.nD,
    (Cert.Pre_grouped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_grouped [hPre_grouped : Cert.Pre_grouped.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_grouped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel0 [hPre_in_bounds_0 : Cert.Pre_in_bounds_0.Facts] (m : (ℓ : Loc Cert.Kernel0.nD Cert.Kernel0.τ Cert.Kernel0.sig) → Buf (Elt Bits) ℓ) : Prop :=
  ∀ c : Dev Cert.Kernel0.nD,
    (Cert.Pre_in_bounds_0.fn (F := Bits) (m ((c.tc : Thread Cert.Kernel0.nD Cert.Kernel0.τ).loc Cert.Kernel0.main_arg0)) (m ((c.tc : Thread Cert.Kernel0.nD Cert.Kernel0.τ).loc Cert.Kernel0.main_arg1)) (m ((c.tc : Thread Cert.Kernel0.nD Cert.Kernel0.τ).loc Cert.Kernel0.main_arg2)) (m ((c.tc : Thread Cert.Kernel0.nD Cert.Kernel0.τ).loc Cert.Kernel0.main_arg3)) (m ((c.tc : Thread Cert.Kernel0.nD Cert.Kernel0.τ).loc Cert.Kernel0.main_arg4)) (m ((c.tc : Thread Cert.Kernel0.nD Cert.Kernel0.τ).loc Cert.Kernel0.main_arg5)) (m ((c.tc : Thread Cert.Kernel0.nD Cert.Kernel0.τ).loc Cert.Kernel0.main_arg6)) (m ((c.tc : Thread Cert.Kernel0.nD Cert.Kernel0.τ).loc Cert.Kernel0.main_arg7))) = (fun _ => 1#1)

def Pre_Kernel0Ideal [hPre_in_bounds_0 : Cert.Pre_in_bounds_0.Facts] (m : (ℓ : Loc Cert.Kernel0Ideal.nD Cert.Kernel0Ideal.τ Cert.Kernel0Ideal.sig) → Buf (Elt Ideal) ℓ) : Prop :=
  ∀ c : Dev Cert.Kernel0Ideal.nD,
    (Cert.Pre_in_bounds_0.fn (F := Ideal) (m ((c.tc : Thread Cert.Kernel0Ideal.nD Cert.Kernel0Ideal.τ).loc Cert.Kernel0Ideal.main_arg0)) (m ((c.tc : Thread Cert.Kernel0Ideal.nD Cert.Kernel0Ideal.τ).loc Cert.Kernel0Ideal.main_arg1)) (m ((c.tc : Thread Cert.Kernel0Ideal.nD Cert.Kernel0Ideal.τ).loc Cert.Kernel0Ideal.main_arg2)) (m ((c.tc : Thread Cert.Kernel0Ideal.nD Cert.Kernel0Ideal.τ).loc Cert.Kernel0Ideal.main_arg3)) (m ((c.tc : Thread Cert.Kernel0Ideal.nD Cert.Kernel0Ideal.τ).loc Cert.Kernel0Ideal.main_arg4)) (m ((c.tc : Thread Cert.Kernel0Ideal.nD Cert.Kernel0Ideal.τ).loc Cert.Kernel0Ideal.main_arg5)) (m ((c.tc : Thread Cert.Kernel0Ideal.nD Cert.Kernel0Ideal.τ).loc Cert.Kernel0Ideal.main_arg6)) (m ((c.tc : Thread Cert.Kernel0Ideal.nD Cert.Kernel0Ideal.τ).loc Cert.Kernel0Ideal.main_arg7))) = (fun _ => 1#1)

def Pre_Kernel0Ideal_grouped_0 [hPre_grouped_0 : Cert.Pre_grouped_0.Facts] (m : (ℓ : Loc Cert.Kernel0Ideal.nD Cert.Kernel0Ideal.τ Cert.Kernel0Ideal.sig) → Buf (Elt Ideal) ℓ) : Prop :=
  ∀ c : Dev Cert.Kernel0Ideal.nD,
    (Cert.Pre_grouped_0.fn (F := Ideal) (m ((c.tc : Thread Cert.Kernel0Ideal.nD Cert.Kernel0Ideal.τ).loc Cert.Kernel0Ideal.main_arg0)) (m ((c.tc : Thread Cert.Kernel0Ideal.nD Cert.Kernel0Ideal.τ).loc Cert.Kernel0Ideal.main_arg1)) (m ((c.tc : Thread Cert.Kernel0Ideal.nD Cert.Kernel0Ideal.τ).loc Cert.Kernel0Ideal.main_arg2)) (m ((c.tc : Thread Cert.Kernel0Ideal.nD Cert.Kernel0Ideal.τ).loc Cert.Kernel0Ideal.main_arg3)) (m ((c.tc : Thread Cert.Kernel0Ideal.nD Cert.Kernel0Ideal.τ).loc Cert.Kernel0Ideal.main_arg4)) (m ((c.tc : Thread Cert.Kernel0Ideal.nD Cert.Kernel0Ideal.τ).loc Cert.Kernel0Ideal.main_arg5)) (m ((c.tc : Thread Cert.Kernel0Ideal.nD Cert.Kernel0Ideal.τ).loc Cert.Kernel0Ideal.main_arg6)) (m ((c.tc : Thread Cert.Kernel0Ideal.nD Cert.Kernel0Ideal.τ).loc Cert.Kernel0Ideal.main_arg7))) = (fun _ => 1#1)

def Pre_Reference0Ideal (m : (ℓ : Loc Cert.Reference0Ideal.nD Cert.Reference0Ideal.τ Cert.Reference0Ideal.sig) → Buf (Elt Ideal) ℓ) : Prop :=
  True

def Pre_Reference0Ideal_grouped_0 [hPre_grouped_0 : Cert.Pre_grouped_0.Facts] (m : (ℓ : Loc Cert.Reference0Ideal.nD Cert.Reference0Ideal.τ Cert.Reference0Ideal.sig) → Buf (Elt Ideal) ℓ) : Prop :=
  ∀ c : Dev Cert.Reference0Ideal.nD,
    (Cert.Pre_grouped_0.fn (F := Ideal) (m ((c.tc : Thread Cert.Reference0Ideal.nD Cert.Reference0Ideal.τ).loc Cert.Reference0Ideal.main_arg0)) (m ((c.tc : Thread Cert.Reference0Ideal.nD Cert.Reference0Ideal.τ).loc Cert.Reference0Ideal.main_arg1)) (m ((c.tc : Thread Cert.Reference0Ideal.nD Cert.Reference0Ideal.τ).loc Cert.Reference0Ideal.main_arg2)) (m ((c.tc : Thread Cert.Reference0Ideal.nD Cert.Reference0Ideal.τ).loc Cert.Reference0Ideal.main_arg3)) (m ((c.tc : Thread Cert.Reference0Ideal.nD Cert.Reference0Ideal.τ).loc Cert.Reference0Ideal.main_arg4)) (m ((c.tc : Thread Cert.Reference0Ideal.nD Cert.Reference0Ideal.τ).loc Cert.Reference0Ideal.main_arg5)) (m ((c.tc : Thread Cert.Reference0Ideal.nD Cert.Reference0Ideal.τ).loc Cert.Reference0Ideal.main_arg6)) (m ((c.tc : Thread Cert.Reference0Ideal.nD Cert.Reference0Ideal.τ).loc Cert.Reference0Ideal.main_arg7))) = (fun _ => 1#1)

def Pre_Kernel2 [hPre_in_bounds_2 : Cert.Pre_in_bounds_2.Facts] (m : (ℓ : Loc Cert.Kernel2.nD Cert.Kernel2.τ Cert.Kernel2.sig) → Buf (Elt Bits) ℓ) : Prop :=
  ∀ c : Dev Cert.Kernel2.nD,
    (Cert.Pre_in_bounds_2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))) = (fun _ => 1#1)

def Pre_Kernel2Ideal [hPre_in_bounds_2 : Cert.Pre_in_bounds_2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_bounds_2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Kernel2Ideal_grouped_2 [hPre_grouped_2 : Cert.Pre_grouped_2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_grouped_2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_grouped_2 [hPre_grouped_2 : Cert.Pre_grouped_2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_grouped_2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def quiescent_Kernel [hKernel : Cert.Kernel.Facts] [hPre_in_bounds : Cert.Pre_in_bounds.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_bounds : Cert.Pre_in_bounds.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_grouped [hKernelIdeal : Cert.KernelIdeal.Facts] [hPre_grouped : Cert.Pre_grouped.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_grouped m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_grouped [hReferenceIdeal : Cert.ReferenceIdeal.Facts] [hPre_grouped : Cert.Pre_grouped.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_grouped m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel0 [hKernel0 : Cert.Kernel0.Facts] [hPre_in_bounds_0 : Cert.Pre_in_bounds_0.Facts] : Prop :=
  ∀ (m : (ℓ : Loc Cert.Kernel0.nD Cert.Kernel0.τ Cert.Kernel0.sig) → Buf (Elt Bits) ℓ) (g : Dev Cert.Kernel0.nD → PrngReg), Pre_Kernel0 m →
    θ_run (Cert.Kernel0.defs (F := Bits)) (onTc (τ := Cert.Kernel0.τ) (Cert.Kernel0.main (F := Bits))) ⟨m, fun _ => 0, g⟩ (fun r => (∀ c : Dev Cert.Kernel0.nD,
      r.2.mem ((c.tc : Thread Cert.Kernel0.nD Cert.Kernel0.τ).loc Cert.Kernel0.main_arg0) = m ((c.tc : Thread Cert.Kernel0.nD Cert.Kernel0.τ).loc Cert.Kernel0.main_arg0)
      ∧ r.2.mem ((c.tc : Thread Cert.Kernel0.nD Cert.Kernel0.τ).loc Cert.Kernel0.main_arg1) = m ((c.tc : Thread Cert.Kernel0.nD Cert.Kernel0.τ).loc Cert.Kernel0.main_arg1)
      ∧ r.2.mem ((c.tc : Thread Cert.Kernel0.nD Cert.Kernel0.τ).loc Cert.Kernel0.main_arg2) = m ((c.tc : Thread Cert.Kernel0.nD Cert.Kernel0.τ).loc Cert.Kernel0.main_arg2)
      ∧ r.2.mem ((c.tc : Thread Cert.Kernel0.nD Cert.Kernel0.τ).loc Cert.Kernel0.main_arg3) = m ((c.tc : Thread Cert.Kernel0.nD Cert.Kernel0.τ).loc Cert.Kernel0.main_arg3)
      ∧ r.2.mem ((c.tc : Thread Cert.Kernel0.nD Cert.Kernel0.τ).loc Cert.Kernel0.main_arg4) = m ((c.tc : Thread Cert.Kernel0.nD Cert.Kernel0.τ).loc Cert.Kernel0.main_arg4)
      ∧ r.2.mem ((c.tc : Thread Cert.Kernel0.nD Cert.Kernel0.τ).loc Cert.Kernel0.main_arg5) = m ((c.tc : Thread Cert.Kernel0.nD Cert.Kernel0.τ).loc Cert.Kernel0.main_arg5)
      ∧ r.2.mem ((c.tc : Thread Cert.Kernel0.nD Cert.Kernel0.τ).loc Cert.Kernel0.main_arg6) = m ((c.tc : Thread Cert.Kernel0.nD Cert.Kernel0.τ).loc Cert.Kernel0.main_arg6)
      ∧ r.2.mem ((c.tc : Thread Cert.Kernel0.nD Cert.Kernel0.τ).loc Cert.Kernel0.main_arg7) = m ((c.tc : Thread Cert.Kernel0.nD Cert.Kernel0.τ).loc Cert.Kernel0.main_arg7))
      ∧ r.2.sem = fun _ => 0)

def quiescent_Kernel0Ideal [hKernel0Ideal : Cert.Kernel0Ideal.Facts] [hPre_in_bounds_0 : Cert.Pre_in_bounds_0.Facts] : Prop :=
  ∀ (m : (ℓ : Loc Cert.Kernel0Ideal.nD Cert.Kernel0Ideal.τ Cert.Kernel0Ideal.sig) → Buf (Elt Ideal) ℓ) (g : Dev Cert.Kernel0Ideal.nD → PrngReg), Pre_Kernel0Ideal m →
    θ_run (Cert.Kernel0Ideal.defs (F := Ideal)) (onTc (τ := Cert.Kernel0Ideal.τ) (Cert.Kernel0Ideal.main (F := Ideal))) ⟨m, fun _ => 0, g⟩ (fun r => (∀ c : Dev Cert.Kernel0Ideal.nD,
      r.2.mem ((c.tc : Thread Cert.Kernel0Ideal.nD Cert.Kernel0Ideal.τ).loc Cert.Kernel0Ideal.main_arg0) = m ((c.tc : Thread Cert.Kernel0Ideal.nD Cert.Kernel0Ideal.τ).loc Cert.Kernel0Ideal.main_arg0)
      ∧ r.2.mem ((c.tc : Thread Cert.Kernel0Ideal.nD Cert.Kernel0Ideal.τ).loc Cert.Kernel0Ideal.main_arg1) = m ((c.tc : Thread Cert.Kernel0Ideal.nD Cert.Kernel0Ideal.τ).loc Cert.Kernel0Ideal.main_arg1)
      ∧ r.2.mem ((c.tc : Thread Cert.Kernel0Ideal.nD Cert.Kernel0Ideal.τ).loc Cert.Kernel0Ideal.main_arg2) = m ((c.tc : Thread Cert.Kernel0Ideal.nD Cert.Kernel0Ideal.τ).loc Cert.Kernel0Ideal.main_arg2)
      ∧ r.2.mem ((c.tc : Thread Cert.Kernel0Ideal.nD Cert.Kernel0Ideal.τ).loc Cert.Kernel0Ideal.main_arg3) = m ((c.tc : Thread Cert.Kernel0Ideal.nD Cert.Kernel0Ideal.τ).loc Cert.Kernel0Ideal.main_arg3)
      ∧ r.2.mem ((c.tc : Thread Cert.Kernel0Ideal.nD Cert.Kernel0Ideal.τ).loc Cert.Kernel0Ideal.main_arg4) = m ((c.tc : Thread Cert.Kernel0Ideal.nD Cert.Kernel0Ideal.τ).loc Cert.Kernel0Ideal.main_arg4)
      ∧ r.2.mem ((c.tc : Thread Cert.Kernel0Ideal.nD Cert.Kernel0Ideal.τ).loc Cert.Kernel0Ideal.main_arg5) = m ((c.tc : Thread Cert.Kernel0Ideal.nD Cert.Kernel0Ideal.τ).loc Cert.Kernel0Ideal.main_arg5)
      ∧ r.2.mem ((c.tc : Thread Cert.Kernel0Ideal.nD Cert.Kernel0Ideal.τ).loc Cert.Kernel0Ideal.main_arg6) = m ((c.tc : Thread Cert.Kernel0Ideal.nD Cert.Kernel0Ideal.τ).loc Cert.Kernel0Ideal.main_arg6)
      ∧ r.2.mem ((c.tc : Thread Cert.Kernel0Ideal.nD Cert.Kernel0Ideal.τ).loc Cert.Kernel0Ideal.main_arg7) = m ((c.tc : Thread Cert.Kernel0Ideal.nD Cert.Kernel0Ideal.τ).loc Cert.Kernel0Ideal.main_arg7))
      ∧ r.2.sem = fun _ => 0)

def quiescent_Kernel0Ideal_pre_grouped_0 [hKernel0Ideal : Cert.Kernel0Ideal.Facts] [hPre_grouped_0 : Cert.Pre_grouped_0.Facts] : Prop :=
  ∀ (m : (ℓ : Loc Cert.Kernel0Ideal.nD Cert.Kernel0Ideal.τ Cert.Kernel0Ideal.sig) → Buf (Elt Ideal) ℓ) (g : Dev Cert.Kernel0Ideal.nD → PrngReg), Pre_Kernel0Ideal_grouped_0 m →
    θ_run (Cert.Kernel0Ideal.defs (F := Ideal)) (onTc (τ := Cert.Kernel0Ideal.τ) (Cert.Kernel0Ideal.main (F := Ideal))) ⟨m, fun _ => 0, g⟩ (fun r => (∀ c : Dev Cert.Kernel0Ideal.nD,
      r.2.mem ((c.tc : Thread Cert.Kernel0Ideal.nD Cert.Kernel0Ideal.τ).loc Cert.Kernel0Ideal.main_arg0) = m ((c.tc : Thread Cert.Kernel0Ideal.nD Cert.Kernel0Ideal.τ).loc Cert.Kernel0Ideal.main_arg0)
      ∧ r.2.mem ((c.tc : Thread Cert.Kernel0Ideal.nD Cert.Kernel0Ideal.τ).loc Cert.Kernel0Ideal.main_arg1) = m ((c.tc : Thread Cert.Kernel0Ideal.nD Cert.Kernel0Ideal.τ).loc Cert.Kernel0Ideal.main_arg1)
      ∧ r.2.mem ((c.tc : Thread Cert.Kernel0Ideal.nD Cert.Kernel0Ideal.τ).loc Cert.Kernel0Ideal.main_arg2) = m ((c.tc : Thread Cert.Kernel0Ideal.nD Cert.Kernel0Ideal.τ).loc Cert.Kernel0Ideal.main_arg2)
      ∧ r.2.mem ((c.tc : Thread Cert.Kernel0Ideal.nD Cert.Kernel0Ideal.τ).loc Cert.Kernel0Ideal.main_arg3) = m ((c.tc : Thread Cert.Kernel0Ideal.nD Cert.Kernel0Ideal.τ).loc Cert.Kernel0Ideal.main_arg3)
      ∧ r.2.mem ((c.tc : Thread Cert.Kernel0Ideal.nD Cert.Kernel0Ideal.τ).loc Cert.Kernel0Ideal.main_arg4) = m ((c.tc : Thread Cert.Kernel0Ideal.nD Cert.Kernel0Ideal.τ).loc Cert.Kernel0Ideal.main_arg4)
      ∧ r.2.mem ((c.tc : Thread Cert.Kernel0Ideal.nD Cert.Kernel0Ideal.τ).loc Cert.Kernel0Ideal.main_arg5) = m ((c.tc : Thread Cert.Kernel0Ideal.nD Cert.Kernel0Ideal.τ).loc Cert.Kernel0Ideal.main_arg5)
      ∧ r.2.mem ((c.tc : Thread Cert.Kernel0Ideal.nD Cert.Kernel0Ideal.τ).loc Cert.Kernel0Ideal.main_arg6) = m ((c.tc : Thread Cert.Kernel0Ideal.nD Cert.Kernel0Ideal.τ).loc Cert.Kernel0Ideal.main_arg6)
      ∧ r.2.mem ((c.tc : Thread Cert.Kernel0Ideal.nD Cert.Kernel0Ideal.τ).loc Cert.Kernel0Ideal.main_arg7) = m ((c.tc : Thread Cert.Kernel0Ideal.nD Cert.Kernel0Ideal.τ).loc Cert.Kernel0Ideal.main_arg7))
      ∧ r.2.sem = fun _ => 0)

def quiescent_Reference0Ideal [hReference0Ideal : Cert.Reference0Ideal.Facts] : Prop :=
  ∀ (m : (ℓ : Loc Cert.Reference0Ideal.nD Cert.Reference0Ideal.τ Cert.Reference0Ideal.sig) → Buf (Elt Ideal) ℓ) (g : Dev Cert.Reference0Ideal.nD → PrngReg), Pre_Reference0Ideal m →
    θ_run (Cert.Reference0Ideal.defs (F := Ideal)) (onTc (τ := Cert.Reference0Ideal.τ) (Cert.Reference0Ideal.main (F := Ideal))) ⟨m, fun _ => 0, g⟩ (fun r => (∀ c : Dev Cert.Reference0Ideal.nD,
      r.2.mem ((c.tc : Thread Cert.Reference0Ideal.nD Cert.Reference0Ideal.τ).loc Cert.Reference0Ideal.main_arg0) = m ((c.tc : Thread Cert.Reference0Ideal.nD Cert.Reference0Ideal.τ).loc Cert.Reference0Ideal.main_arg0)
      ∧ r.2.mem ((c.tc : Thread Cert.Reference0Ideal.nD Cert.Reference0Ideal.τ).loc Cert.Reference0Ideal.main_arg1) = m ((c.tc : Thread Cert.Reference0Ideal.nD Cert.Reference0Ideal.τ).loc Cert.Reference0Ideal.main_arg1)
      ∧ r.2.mem ((c.tc : Thread Cert.Reference0Ideal.nD Cert.Reference0Ideal.τ).loc Cert.Reference0Ideal.main_arg2) = m ((c.tc : Thread Cert.Reference0Ideal.nD Cert.Reference0Ideal.τ).loc Cert.Reference0Ideal.main_arg2)
      ∧ r.2.mem ((c.tc : Thread Cert.Reference0Ideal.nD Cert.Reference0Ideal.τ).loc Cert.Reference0Ideal.main_arg3) = m ((c.tc : Thread Cert.Reference0Ideal.nD Cert.Reference0Ideal.τ).loc Cert.Reference0Ideal.main_arg3)
      ∧ r.2.mem ((c.tc : Thread Cert.Reference0Ideal.nD Cert.Reference0Ideal.τ).loc Cert.Reference0Ideal.main_arg4) = m ((c.tc : Thread Cert.Reference0Ideal.nD Cert.Reference0Ideal.τ).loc Cert.Reference0Ideal.main_arg4)
      ∧ r.2.mem ((c.tc : Thread Cert.Reference0Ideal.nD Cert.Reference0Ideal.τ).loc Cert.Reference0Ideal.main_arg5) = m ((c.tc : Thread Cert.Reference0Ideal.nD Cert.Reference0Ideal.τ).loc Cert.Reference0Ideal.main_arg5)
      ∧ r.2.mem ((c.tc : Thread Cert.Reference0Ideal.nD Cert.Reference0Ideal.τ).loc Cert.Reference0Ideal.main_arg6) = m ((c.tc : Thread Cert.Reference0Ideal.nD Cert.Reference0Ideal.τ).loc Cert.Reference0Ideal.main_arg6)
      ∧ r.2.mem ((c.tc : Thread Cert.Reference0Ideal.nD Cert.Reference0Ideal.τ).loc Cert.Reference0Ideal.main_arg7) = m ((c.tc : Thread Cert.Reference0Ideal.nD Cert.Reference0Ideal.τ).loc Cert.Reference0Ideal.main_arg7))
      ∧ r.2.sem = fun _ => 0)

def quiescent_Reference0Ideal_pre_grouped_0 [hReference0Ideal : Cert.Reference0Ideal.Facts] [hPre_grouped_0 : Cert.Pre_grouped_0.Facts] : Prop :=
  ∀ (m : (ℓ : Loc Cert.Reference0Ideal.nD Cert.Reference0Ideal.τ Cert.Reference0Ideal.sig) → Buf (Elt Ideal) ℓ) (g : Dev Cert.Reference0Ideal.nD → PrngReg), Pre_Reference0Ideal_grouped_0 m →
    θ_run (Cert.Reference0Ideal.defs (F := Ideal)) (onTc (τ := Cert.Reference0Ideal.τ) (Cert.Reference0Ideal.main (F := Ideal))) ⟨m, fun _ => 0, g⟩ (fun r => (∀ c : Dev Cert.Reference0Ideal.nD,
      r.2.mem ((c.tc : Thread Cert.Reference0Ideal.nD Cert.Reference0Ideal.τ).loc Cert.Reference0Ideal.main_arg0) = m ((c.tc : Thread Cert.Reference0Ideal.nD Cert.Reference0Ideal.τ).loc Cert.Reference0Ideal.main_arg0)
      ∧ r.2.mem ((c.tc : Thread Cert.Reference0Ideal.nD Cert.Reference0Ideal.τ).loc Cert.Reference0Ideal.main_arg1) = m ((c.tc : Thread Cert.Reference0Ideal.nD Cert.Reference0Ideal.τ).loc Cert.Reference0Ideal.main_arg1)
      ∧ r.2.mem ((c.tc : Thread Cert.Reference0Ideal.nD Cert.Reference0Ideal.τ).loc Cert.Reference0Ideal.main_arg2) = m ((c.tc : Thread Cert.Reference0Ideal.nD Cert.Reference0Ideal.τ).loc Cert.Reference0Ideal.main_arg2)
      ∧ r.2.mem ((c.tc : Thread Cert.Reference0Ideal.nD Cert.Reference0Ideal.τ).loc Cert.Reference0Ideal.main_arg3) = m ((c.tc : Thread Cert.Reference0Ideal.nD Cert.Reference0Ideal.τ).loc Cert.Reference0Ideal.main_arg3)
      ∧ r.2.mem ((c.tc : Thread Cert.Reference0Ideal.nD Cert.Reference0Ideal.τ).loc Cert.Reference0Ideal.main_arg4) = m ((c.tc : Thread Cert.Reference0Ideal.nD Cert.Reference0Ideal.τ).loc Cert.Reference0Ideal.main_arg4)
      ∧ r.2.mem ((c.tc : Thread Cert.Reference0Ideal.nD Cert.Reference0Ideal.τ).loc Cert.Reference0Ideal.main_arg5) = m ((c.tc : Thread Cert.Reference0Ideal.nD Cert.Reference0Ideal.τ).loc Cert.Reference0Ideal.main_arg5)
      ∧ r.2.mem ((c.tc : Thread Cert.Reference0Ideal.nD Cert.Reference0Ideal.τ).loc Cert.Reference0Ideal.main_arg6) = m ((c.tc : Thread Cert.Reference0Ideal.nD Cert.Reference0Ideal.τ).loc Cert.Reference0Ideal.main_arg6)
      ∧ r.2.mem ((c.tc : Thread Cert.Reference0Ideal.nD Cert.Reference0Ideal.τ).loc Cert.Reference0Ideal.main_arg7) = m ((c.tc : Thread Cert.Reference0Ideal.nD Cert.Reference0Ideal.τ).loc Cert.Reference0Ideal.main_arg7))
      ∧ r.2.sem = fun _ => 0)

def quiescent_Kernel2 [hKernel2 : Cert.Kernel2.Facts] [hPre_in_bounds_2 : Cert.Pre_in_bounds_2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_in_bounds_2 : Cert.Pre_in_bounds_2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_grouped_2 [hKernel2Ideal : Cert.Kernel2Ideal.Facts] [hPre_grouped_2 : Cert.Pre_grouped_2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_grouped_2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_grouped_2 [hReference2Ideal : Cert.Reference2Ideal.Facts] [hPre_grouped_2 : Cert.Pre_grouped_2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_grouped_2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def preserves_Kernel_KernelIdeal : Prop :=
  True

def algebraic_KernelIdeal_ReferenceIdeal_pre_grouped [hKernelIdeal : Cert.KernelIdeal.Facts] [hReferenceIdeal : Cert.ReferenceIdeal.Facts] [hPre_grouped : Cert.Pre_grouped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_grouped m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel0_Kernel0Ideal : Prop :=
  True

def algebraic_Kernel0Ideal_Reference0Ideal_pre_grouped_0 [hKernel0Ideal : Cert.Kernel0Ideal.Facts] [hReference0Ideal : Cert.Reference0Ideal.Facts] [hPre_grouped_0 : Cert.Pre_grouped_0.Facts] : Prop :=
  ∀ (m : (ℓ : Loc Cert.Kernel0Ideal.nD Cert.Kernel0Ideal.τ Cert.Kernel0Ideal.sig) → Buf (Elt Ideal) ℓ) (g : Dev Cert.Kernel0Ideal.nD → PrngReg)
    (m' : (ℓ : Loc Cert.Reference0Ideal.nD Cert.Reference0Ideal.τ Cert.Reference0Ideal.sig) → Buf (Elt Ideal) ℓ) (g' : Dev Cert.Reference0Ideal.nD → PrngReg), Pre_Kernel0Ideal_grouped_0 m →
    (∀ c : Dev Cert.Kernel0Ideal.nD,
      m' ((c.tc : Thread Cert.Reference0Ideal.nD Cert.Reference0Ideal.τ).loc Cert.Reference0Ideal.main_arg0) = m ((c.tc : Thread Cert.Kernel0Ideal.nD Cert.Kernel0Ideal.τ).loc Cert.Kernel0Ideal.main_arg0)
      ∧ m' ((c.tc : Thread Cert.Reference0Ideal.nD Cert.Reference0Ideal.τ).loc Cert.Reference0Ideal.main_arg1) = m ((c.tc : Thread Cert.Kernel0Ideal.nD Cert.Kernel0Ideal.τ).loc Cert.Kernel0Ideal.main_arg1)
      ∧ m' ((c.tc : Thread Cert.Reference0Ideal.nD Cert.Reference0Ideal.τ).loc Cert.Reference0Ideal.main_arg2) = m ((c.tc : Thread Cert.Kernel0Ideal.nD Cert.Kernel0Ideal.τ).loc Cert.Kernel0Ideal.main_arg2)
      ∧ m' ((c.tc : Thread Cert.Reference0Ideal.nD Cert.Reference0Ideal.τ).loc Cert.Reference0Ideal.main_arg3) = m ((c.tc : Thread Cert.Kernel0Ideal.nD Cert.Kernel0Ideal.τ).loc Cert.Kernel0Ideal.main_arg3)
      ∧ m' ((c.tc : Thread Cert.Reference0Ideal.nD Cert.Reference0Ideal.τ).loc Cert.Reference0Ideal.main_arg4) = m ((c.tc : Thread Cert.Kernel0Ideal.nD Cert.Kernel0Ideal.τ).loc Cert.Kernel0Ideal.main_arg4)
      ∧ m' ((c.tc : Thread Cert.Reference0Ideal.nD Cert.Reference0Ideal.τ).loc Cert.Reference0Ideal.main_arg5) = m ((c.tc : Thread Cert.Kernel0Ideal.nD Cert.Kernel0Ideal.τ).loc Cert.Kernel0Ideal.main_arg5)
      ∧ m' ((c.tc : Thread Cert.Reference0Ideal.nD Cert.Reference0Ideal.τ).loc Cert.Reference0Ideal.main_arg6) = m ((c.tc : Thread Cert.Kernel0Ideal.nD Cert.Kernel0Ideal.τ).loc Cert.Kernel0Ideal.main_arg6)
      ∧ m' ((c.tc : Thread Cert.Reference0Ideal.nD Cert.Reference0Ideal.τ).loc Cert.Reference0Ideal.main_arg7) = m ((c.tc : Thread Cert.Kernel0Ideal.nD Cert.Kernel0Ideal.τ).loc Cert.Kernel0Ideal.main_arg7)) →
    ∃ (v0 : (c : Dev Cert.Kernel0Ideal.nD) → Buf (Elt Ideal) ((c.tc : Thread Cert.Kernel0Ideal.nD Cert.Kernel0Ideal.τ).loc Cert.Kernel0Ideal.main_v26_0)) (v1 : (c : Dev Cert.Kernel0Ideal.nD) → Buf (Elt Ideal) ((c.tc : Thread Cert.Kernel0Ideal.nD Cert.Kernel0Ideal.τ).loc Cert.Kernel0Ideal.main_v26_1)),
      θ_run (Cert.Kernel0Ideal.defs (F := Ideal)) (onTc (τ := Cert.Kernel0Ideal.τ) (Cert.Kernel0Ideal.main (F := Ideal))) ⟨m, fun _ => 0, g⟩ (fun r => ∀ c : Dev Cert.Kernel0Ideal.nD,
          r.2.mem ((c.tc : Thread Cert.Kernel0Ideal.nD Cert.Kernel0Ideal.τ).loc Cert.Kernel0Ideal.main_v26_0) = v0 c
          ∧ r.2.mem ((c.tc : Thread Cert.Kernel0Ideal.nD Cert.Kernel0Ideal.τ).loc Cert.Kernel0Ideal.main_v26_1) = v1 c
          ∧ r.2.mem ((c.tc : Thread Cert.Kernel0Ideal.nD Cert.Kernel0Ideal.τ).loc Cert.Kernel0Ideal.main_arg0) = m ((c.tc : Thread Cert.Kernel0Ideal.nD Cert.Kernel0Ideal.τ).loc Cert.Kernel0Ideal.main_arg0)
          ∧ r.2.mem ((c.tc : Thread Cert.Kernel0Ideal.nD Cert.Kernel0Ideal.τ).loc Cert.Kernel0Ideal.main_arg1) = m ((c.tc : Thread Cert.Kernel0Ideal.nD Cert.Kernel0Ideal.τ).loc Cert.Kernel0Ideal.main_arg1)
          ∧ r.2.mem ((c.tc : Thread Cert.Kernel0Ideal.nD Cert.Kernel0Ideal.τ).loc Cert.Kernel0Ideal.main_arg2) = m ((c.tc : Thread Cert.Kernel0Ideal.nD Cert.Kernel0Ideal.τ).loc Cert.Kernel0Ideal.main_arg2)
          ∧ r.2.mem ((c.tc : Thread Cert.Kernel0Ideal.nD Cert.Kernel0Ideal.τ).loc Cert.Kernel0Ideal.main_arg3) = m ((c.tc : Thread Cert.Kernel0Ideal.nD Cert.Kernel0Ideal.τ).loc Cert.Kernel0Ideal.main_arg3)
          ∧ r.2.mem ((c.tc : Thread Cert.Kernel0Ideal.nD Cert.Kernel0Ideal.τ).loc Cert.Kernel0Ideal.main_arg4) = m ((c.tc : Thread Cert.Kernel0Ideal.nD Cert.Kernel0Ideal.τ).loc Cert.Kernel0Ideal.main_arg4)
          ∧ r.2.mem ((c.tc : Thread Cert.Kernel0Ideal.nD Cert.Kernel0Ideal.τ).loc Cert.Kernel0Ideal.main_arg5) = m ((c.tc : Thread Cert.Kernel0Ideal.nD Cert.Kernel0Ideal.τ).loc Cert.Kernel0Ideal.main_arg5)
          ∧ r.2.mem ((c.tc : Thread Cert.Kernel0Ideal.nD Cert.Kernel0Ideal.τ).loc Cert.Kernel0Ideal.main_arg6) = m ((c.tc : Thread Cert.Kernel0Ideal.nD Cert.Kernel0Ideal.τ).loc Cert.Kernel0Ideal.main_arg6)
          ∧ r.2.mem ((c.tc : Thread Cert.Kernel0Ideal.nD Cert.Kernel0Ideal.τ).loc Cert.Kernel0Ideal.main_arg7) = m ((c.tc : Thread Cert.Kernel0Ideal.nD Cert.Kernel0Ideal.τ).loc Cert.Kernel0Ideal.main_arg7))
      ∧ θ_run (Cert.Reference0Ideal.defs (F := Ideal)) (onTc (τ := Cert.Reference0Ideal.τ) (Cert.Reference0Ideal.main (F := Ideal))) ⟨m', fun _ => 0, g'⟩ (fun r => ∀ c : Dev Cert.Reference0Ideal.nD,
          r.2.mem ((c.tc : Thread Cert.Reference0Ideal.nD Cert.Reference0Ideal.τ).loc Cert.Reference0Ideal.main_v54) = v0 c
          ∧ r.2.mem ((c.tc : Thread Cert.Reference0Ideal.nD Cert.Reference0Ideal.τ).loc Cert.Reference0Ideal.main_v57) = v1 c
          ∧ r.2.mem ((c.tc : Thread Cert.Reference0Ideal.nD Cert.Reference0Ideal.τ).loc Cert.Reference0Ideal.main_arg0) = m' ((c.tc : Thread Cert.Reference0Ideal.nD Cert.Reference0Ideal.τ).loc Cert.Reference0Ideal.main_arg0)
          ∧ r.2.mem ((c.tc : Thread Cert.Reference0Ideal.nD Cert.Reference0Ideal.τ).loc Cert.Reference0Ideal.main_arg1) = m' ((c.tc : Thread Cert.Reference0Ideal.nD Cert.Reference0Ideal.τ).loc Cert.Reference0Ideal.main_arg1)
          ∧ r.2.mem ((c.tc : Thread Cert.Reference0Ideal.nD Cert.Reference0Ideal.τ).loc Cert.Reference0Ideal.main_arg2) = m' ((c.tc : Thread Cert.Reference0Ideal.nD Cert.Reference0Ideal.τ).loc Cert.Reference0Ideal.main_arg2)
          ∧ r.2.mem ((c.tc : Thread Cert.Reference0Ideal.nD Cert.Reference0Ideal.τ).loc Cert.Reference0Ideal.main_arg3) = m' ((c.tc : Thread Cert.Reference0Ideal.nD Cert.Reference0Ideal.τ).loc Cert.Reference0Ideal.main_arg3)
          ∧ r.2.mem ((c.tc : Thread Cert.Reference0Ideal.nD Cert.Reference0Ideal.τ).loc Cert.Reference0Ideal.main_arg4) = m' ((c.tc : Thread Cert.Reference0Ideal.nD Cert.Reference0Ideal.τ).loc Cert.Reference0Ideal.main_arg4)
          ∧ r.2.mem ((c.tc : Thread Cert.Reference0Ideal.nD Cert.Reference0Ideal.τ).loc Cert.Reference0Ideal.main_arg5) = m' ((c.tc : Thread Cert.Reference0Ideal.nD Cert.Reference0Ideal.τ).loc Cert.Reference0Ideal.main_arg5)
          ∧ r.2.mem ((c.tc : Thread Cert.Reference0Ideal.nD Cert.Reference0Ideal.τ).loc Cert.Reference0Ideal.main_arg6) = m' ((c.tc : Thread Cert.Reference0Ideal.nD Cert.Reference0Ideal.τ).loc Cert.Reference0Ideal.main_arg6)
          ∧ r.2.mem ((c.tc : Thread Cert.Reference0Ideal.nD Cert.Reference0Ideal.τ).loc Cert.Reference0Ideal.main_arg7) = m' ((c.tc : Thread Cert.Reference0Ideal.nD Cert.Reference0Ideal.τ).loc Cert.Reference0Ideal.main_arg7))

def preserves_Kernel2_Kernel2Ideal : Prop :=
  True

def algebraic_Kernel2Ideal_Reference2Ideal_pre_grouped_2 [hKernel2Ideal : Cert.Kernel2Ideal.Facts] [hReference2Ideal : Cert.Reference2Ideal.Facts] [hPre_grouped_2 : Cert.Pre_grouped_2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_grouped_2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v26_0)) (v1 : (c : Dev Cert.Kernel2Ideal.nD) → Buf (Elt Ideal) ((c.tc : Thread Cert.Kernel2Ideal.nD Cert.Kernel2Ideal.τ).loc Cert.Kernel2Ideal.main_v26_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26_0) = v0 c
          ∧ r.2.mem ((c.tc : Thread Cert.Kernel2Ideal.nD Cert.Kernel2Ideal.τ).loc Cert.Kernel2Ideal.main_v26_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_v57) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def Claim : Prop :=
  ∃ (hKernel : Cert.Kernel.Facts) (hKernelIdeal : Cert.KernelIdeal.Facts) (hReferenceIdeal : Cert.ReferenceIdeal.Facts) (hKernel0 : Cert.Kernel0.Facts) (hKernel0Ideal : Cert.Kernel0Ideal.Facts) (hReference0Ideal : Cert.Reference0Ideal.Facts) (hKernel2 : Cert.Kernel2.Facts) (hKernel2Ideal : Cert.Kernel2Ideal.Facts) (hReference2Ideal : Cert.Reference2Ideal.Facts) (hPre_in_bounds : Cert.Pre_in_bounds.Facts) (hPre_grouped : Cert.Pre_grouped.Facts) (hPre_in_bounds_0 : Cert.Pre_in_bounds_0.Facts) (hPre_grouped_0 : Cert.Pre_grouped_0.Facts) (hPre_in_bounds_2 : Cert.Pre_in_bounds_2.Facts) (hPre_grouped_2 : Cert.Pre_grouped_2.Facts),
    quiescent_Kernel (hKernel := hKernel) (hPre_in_bounds := hPre_in_bounds)
    ∧ quiescent_KernelIdeal (hKernelIdeal := hKernelIdeal) (hPre_in_bounds := hPre_in_bounds)
    ∧ quiescent_KernelIdeal_pre_grouped (hKernelIdeal := hKernelIdeal) (hPre_grouped := hPre_grouped)
    ∧ quiescent_ReferenceIdeal (hReferenceIdeal := hReferenceIdeal)
    ∧ quiescent_ReferenceIdeal_pre_grouped (hReferenceIdeal := hReferenceIdeal) (hPre_grouped := hPre_grouped)
    ∧ quiescent_Kernel0 (hKernel0 := hKernel0) (hPre_in_bounds_0 := hPre_in_bounds_0)
    ∧ quiescent_Kernel0Ideal (hKernel0Ideal := hKernel0Ideal) (hPre_in_bounds_0 := hPre_in_bounds_0)
    ∧ quiescent_Kernel0Ideal_pre_grouped_0 (hKernel0Ideal := hKernel0Ideal) (hPre_grouped_0 := hPre_grouped_0)
    ∧ quiescent_Reference0Ideal (hReference0Ideal := hReference0Ideal)
    ∧ quiescent_Reference0Ideal_pre_grouped_0 (hReference0Ideal := hReference0Ideal) (hPre_grouped_0 := hPre_grouped_0)
    ∧ quiescent_Kernel2 (hKernel2 := hKernel2) (hPre_in_bounds_2 := hPre_in_bounds_2)
    ∧ quiescent_Kernel2Ideal (hKernel2Ideal := hKernel2Ideal) (hPre_in_bounds_2 := hPre_in_bounds_2)
    ∧ quiescent_Kernel2Ideal_pre_grouped_2 (hKernel2Ideal := hKernel2Ideal) (hPre_grouped_2 := hPre_grouped_2)
    ∧ quiescent_Reference2Ideal (hReference2Ideal := hReference2Ideal)
    ∧ quiescent_Reference2Ideal_pre_grouped_2 (hReference2Ideal := hReference2Ideal) (hPre_grouped_2 := hPre_grouped_2)
    ∧ preserves_Kernel_KernelIdeal
    ∧ algebraic_KernelIdeal_ReferenceIdeal_pre_grouped (hKernelIdeal := hKernelIdeal) (hReferenceIdeal := hReferenceIdeal) (hPre_grouped := hPre_grouped)
    ∧ preserves_Kernel0_Kernel0Ideal
    ∧ algebraic_Kernel0Ideal_Reference0Ideal_pre_grouped_0 (hKernel0Ideal := hKernel0Ideal) (hReference0Ideal := hReference0Ideal) (hPre_grouped_0 := hPre_grouped_0)
    ∧ preserves_Kernel2_Kernel2Ideal
    ∧ algebraic_Kernel2Ideal_Reference2Ideal_pre_grouped_2 (hKernel2Ideal := hKernel2Ideal) (hReference2Ideal := hReference2Ideal) (hPre_grouped_2 := hPre_grouped_2)
-- ==== Pre_grouped.lean ====
abbrev S425984x128 : Shape := ⟨2, ![425984, 128]⟩
abbrev S212992 : Shape := ⟨1, ![212992]⟩
abbrev S6x32x64 : Shape := ⟨3, ![6, 32, 64]⟩
abbrev S60x128 : Shape := ⟨2, ![60, 128]⟩
abbrev S_ : Shape := ⟨0, ![]⟩
abbrev S192x30208 : Shape := ⟨2, ![192, 30208]⟩
abbrev S6x30208 : Shape := ⟨2, ![6, 30208]⟩
abbrev S53248 : Shape := ⟨1, ![53248]⟩
abbrev S1 : Shape := ⟨1, ![1]⟩
abbrev S53247 : Shape := ⟨1, ![53247]⟩
abbrev S53248x1 : Shape := ⟨2, ![53248, 1]⟩
abbrev S1x53248 : Shape := ⟨2, ![1, 53248]⟩
abbrev S53248x53248 : Shape := ⟨2, ![53248, 53248]⟩
abbrev S960 : Shape := ⟨1, ![960]⟩
abbrev S960x1 : Shape := ⟨2, ![960, 1]⟩
abbrev S960x53248 : Shape := ⟨2, ![960, 53248]⟩

class Facts : Prop where
  slices_S212992_S53248_53248 : S212992.Slices ![53248] S53248
  bcast_S_S53248 : S_.BroadcastsInDim S53248 (![] : Fin 0 → Fin S53248.rank)
  bcast_S_S1 : S_.BroadcastsInDim S1 (![] : Fin 0 → Fin S1.rank)
  slices_S53248_S53247_0 : S53248.Slices ![0] S53247
  concatenates_S1_S53247_S53248_d0 : Shape.Concatenates [S1, S53247] S53248 0
  reducesTo_S53248_S_d0 : S53248.ReducesTo [0] S_
  h_S_ : 0 < S_.numel
  bcast_S53248_S53248x1_0 : S53248.BroadcastsInDim S53248x1 (![0] : Fin 1 → Fin S53248x1.rank)
  bcast_S53248_S1x53248_1 : S53248.BroadcastsInDim S1x53248 (![1] : Fin 1 → Fin S1x53248.rank)
  bcast_S53248x1_S53248x53248_0_1 : S53248x1.BroadcastsInDim S53248x53248 (![0, 1] : Fin 2 → Fin S53248x53248.rank)
  bcast_S1x53248_S53248x53248_0_1 : S1x53248.BroadcastsInDim S53248x53248 (![0, 1] : Fin 2 → Fin S53248x53248.rank)
  reducesTo_S53248x53248_S_d0_1 : S53248x53248.ReducesTo [0, 1] S_
  bcast_S_S960 : S_.BroadcastsInDim S960 (![] : Fin 0 → Fin S960.rank)
  bcast_S_S1x53248 : S_.BroadcastsInDim S1x53248 (![] : Fin 0 → Fin S1x53248.rank)
  bcast_S960_S960x1_0 : S960.BroadcastsInDim S960x1 (![0] : Fin 1 → Fin S960x1.rank)
  bcast_S1x53248_S960x53248_0_1 : S1x53248.BroadcastsInDim S960x53248 (![0, 1] : Fin 2 → Fin S960x53248.rank)
  bcast_S960x1_S960x53248_0_1 : S960x1.BroadcastsInDim S960x53248 (![0, 1] : Fin 2 → Fin S960x53248.rank)
  reducesTo_S960x53248_S960_d1 : S960x53248.ReducesTo [1] S960
  reducesTo_S960_S_d0 : S960.ReducesTo [0] S_
  bcast_S_S60x128 : S_.BroadcastsInDim S60x128 (![] : Fin 0 → Fin S60x128.rank)
  reducesTo_S60x128_S_d0_1 : S60x128.ReducesTo [0, 1] S_

variable [Facts]

def fn_part5 {F : FTy → Type} [FloatOps F] (main_v16 : IVec S_ 1) (main_v42 : IVec S_ 1) (main_v57 : IVec S_ 1) (main_v63 : IVec S_ 1) (main_v67 : IVec S53248 32) (main_v74 : IVec S_ 1) (main_v88 : IVec S_ 1) (main_v93 : IVec S53248 1) (main_v95 : IVec S53248 1) (main_c_22 : IVec S_ 32) : IVec S_ 1 :=
  let main_v96 : IVec S53248 32 := broadcastInDim S53248 ![] bcast_S_S53248 main_c_22
  let main_v97 : IVec S53248 1 := cmpi .slt main_v67 main_v96
  let main_v98 : IVec S53248 1 := andi main_v95 main_v97
  let main_v99 : IVec S53248 1 := ori main_v93 main_v98
  let main_c_23 : IVec S_ 1 := constantI S_ 1 1#1
  let main_v100 : IVec S_ 1 := (fun x v => Host.reduce IntOp.andi x v reducesTo_S53248_S_d0 h_S_) main_v99 main_c_23
  let main_v101 : IVec S_ 1 := andi main_v74 main_v88
  let main_v102 : IVec S_ 1 := andi main_v101 main_v100
  let main_v103 : IVec S_ 1 := andi main_v102 main_v16
  let main_v104 : IVec S_ 1 := andi main_v103 main_v42
  let main_v105 : IVec S_ 1 := andi main_v104 main_v57
  let main_v106 : IVec S_ 1 := andi main_v105 main_v63
  main_v106

def fn_part4 {F : FTy → Type} [FloatOps F] (main_arg4 : IVec S_ 32) (main_arg5 : IVec S_ 32) (main_v16 : IVec S_ 1) (main_v42 : IVec S_ 1) (main_v57 : IVec S_ 1) (main_v63 : IVec S_ 1) (main_v65 : IVec S53248 32) (main_v67 : IVec S53248 32) (main_v74 : IVec S_ 1) (main_v76 : IVec S53248 1) (main_v77 : IVec S53248 32) : IVec S_ 1 :=
  let main_v78 : IVec S53248 1 := cmpi .sge main_v67 main_v77
  let main_c_17 : IVec S_ 32 := constantI S_ 32 7680#32
  let main_v79 : IVec S53248 32 := broadcastInDim S53248 ![] bcast_S_S53248 main_c_17
  let main_v80 : IVec S53248 1 := cmpi .sle main_v67 main_v79
  let main_v81 : IVec S53248 1 := andi main_v78 main_v80
  let main_c_18 : IVec S_ 32 := constantI S_ 32 7#32
  let main_v82 : IVec S53248 32 := broadcastInDim S53248 ![] bcast_S_S53248 main_c_18
  let main_v83 : IVec S53248 32 := andi main_v67 main_v82
  let main_c_19 : IVec S_ 32 := constantI S_ 32 0#32
  let main_v84 : IVec S53248 32 := broadcastInDim S53248 ![] bcast_S_S53248 main_c_19
  let main_v85 : IVec S53248 1 := cmpi .eq main_v83 main_v84
  let main_v86 : IVec S53248 1 := andi main_v81 main_v85
  let main_v87 : IVec S53248 1 := ori main_v76 main_v86
  let main_c_20 : IVec S_ 1 := constantI S_ 1 1#1
  let main_v88 : IVec S_ 1 := (fun x v => Host.reduce IntOp.andi x v reducesTo_S53248_S_d0 h_S_) main_v87 main_c_20
  let main_v89 : IVec S53248 32 := broadcastInDim S53248 ![] bcast_S_S53248 main_arg4
  let main_v90 : IVec S53248 1 := cmpi .slt main_v65 main_v89
  let main_v91 : IVec S53248 32 := broadcastInDim S53248 ![] bcast_S_S53248 main_arg5
  let main_v92 : IVec S53248 1 := cmpi .sge main_v65 main_v91
  let main_v93 : IVec S53248 1 := ori main_v90 main_v92
  let main_c_21 : IVec S_ 32 := constantI S_ 32 0#32
  let main_v94 : IVec S53248 32 := broadcastInDim S53248 ![] bcast_S_S53248 main_c_21
  let main_v95 : IVec S53248 1 := cmpi .sge main_v67 main_v94
  let main_c_22 : IVec S_ 32 := constantI S_ 32 7688#32
  fn_part5 (F := F) main_v16 main_v42 main_v57 main_v63 main_v67 main_v74 main_v88 main_v93 main_v95 main_c_22

def fn_part3 {F : FTy → Type} [FloatOps F] (main_arg1 : IVec S212992 32) (main_arg3 : IVec S60x128 32) (main_arg4 : IVec S_ 32) (main_arg5 : IVec S_ 32) (main_v16 : IVec S_ 1) (main_v42 : IVec S_ 1) (main_v57 : IVec S_ 1) (main_v59 : IVec S60x128 1) (main_c_10 : IVec S_ 32) : IVec S_ 1 :=
  let main_v60 : IVec S60x128 32 := broadcastInDim S60x128 ![] bcast_S_S60x128 main_c_10
  let main_v61 : IVec S60x128 1 := cmpi .slt main_arg3 main_v60
  let main_v62 : IVec S60x128 1 := andi main_v59 main_v61
  let main_c_11 : IVec S_ 1 := constantI S_ 1 1#1
  let main_v63 : IVec S_ 1 := (fun x v => Host.reduce IntOp.andi x v reducesTo_S60x128_S_d0_1 h_S_) main_v62 main_c_11
  let main_v64 : IVec S53248 32 := (extractStridedSlice S53248 ![53248] · slices_S212992_S53248_53248) main_arg1
  let main_v65 : IVec S53248 32 := iotaInDim S53248 32 0
  let main_c_12 : IVec S_ 32 := constantI S_ 32 1#32
  let main_v66 : IVec S53248 32 := broadcastInDim S53248 ![] bcast_S_S53248 main_c_12
  let main_v67 : IVec S53248 32 := Host.shrsi main_v64 main_v66
  let main_c_13 : IVec S_ 32 := constantI S_ 32 1#32
  let main_v68 : IVec S_ 1 := cmpi .sge main_arg5 main_c_13
  let main_c_14 : IVec S_ 32 := constantI S_ 32 53248#32
  let main_v69 : IVec S_ 1 := cmpi .sle main_arg5 main_c_14
  let main_v70 : IVec S_ 1 := andi main_v68 main_v69
  let main_c_15 : IVec S_ 32 := constantI S_ 32 0#32
  let main_v71 : IVec S_ 1 := cmpi .sge main_arg4 main_c_15
  let main_v72 : IVec S_ 1 := andi main_v70 main_v71
  let main_v73 : IVec S_ 1 := cmpi .sle main_arg4 main_arg5
  let main_v74 : IVec S_ 1 := andi main_v72 main_v73
  let main_v75 : IVec S53248 32 := broadcastInDim S53248 ![] bcast_S_S53248 main_arg4
  let main_v76 : IVec S53248 1 := cmpi .sge main_v65 main_v75
  let main_c_16 : IVec S_ 32 := constantI S_ 32 0#32
  let main_v77 : IVec S53248 32 := broadcastInDim S53248 ![] bcast_S_S53248 main_c_16
  fn_part4 (F := F) main_arg4 main_arg5 main_v16 main_v42 main_v57 main_v63 main_v65 main_v67 main_v74 main_v76 main_v77

def fn_part2 {F : FTy → Type} [FloatOps F] (main_arg1 : IVec S212992 32) (main_arg3 : IVec S60x128 32) (main_arg4 : IVec S_ 32) (main_arg5 : IVec S_ 32) (main_v1 : IVec S53248 32) (main_v3 : IVec S53248 32) (main_v16 : IVec S_ 1) (main_v41 : IVec S53248x53248 1) : IVec S_ 1 :=
  let main_c_5 : IVec S_ 1 := constantI S_ 1 1#1
  let main_v42 : IVec S_ 1 := (fun x v => Host.reduce IntOp.andi x v reducesTo_S53248x53248_S_d0_1 h_S_) main_v41 main_c_5
  let main_v43 : IVec S960 32 := iotaInDim S960 32 0
  let main_c_6 : IVec S_ 32 := constantI S_ 32 8#32
  let main_v44 : IVec S960 32 := broadcastInDim S960 ![] bcast_S_S960 main_c_6
  let main_v45 : IVec S960 32 := muli main_v44 main_v43
  let main_v46 : IVec S1x53248 32 := broadcastInDim S1x53248 ![1] bcast_S53248_S1x53248_1 main_v1
  let main_v47 : IVec S1x53248 32 := broadcastInDim S1x53248 ![] bcast_S_S1x53248 main_arg4
  let main_v48 : IVec S1x53248 1 := cmpi .slt main_v46 main_v47
  let main_v49 : IVec S1x53248 32 := broadcastInDim S1x53248 ![1] bcast_S53248_S1x53248_1 main_v3
  let main_v50 : IVec S960x1 32 := broadcastInDim S960x1 ![0] bcast_S960_S960x1_0 main_v45
  let main_v51 : IVec S960x53248 32 := broadcastInDim S960x53248 ![0, 1] bcast_S1x53248_S960x53248_0_1 main_v49
  let main_v52 : IVec S960x53248 32 := broadcastInDim S960x53248 ![0, 1] bcast_S960x1_S960x53248_0_1 main_v50
  let main_v53 : IVec S960x53248 1 := cmpi .eq main_v51 main_v52
  let main_v54 : IVec S960x53248 1 := broadcastInDim S960x53248 ![0, 1] bcast_S1x53248_S960x53248_0_1 main_v48
  let main_v55 : IVec S960x53248 1 := andi main_v54 main_v53
  let main_c_7 : IVec S_ 1 := constantI S_ 1 0#1
  let main_v56 : IVec S960 1 := (fun x v => Host.reduce IntOp.ori x v reducesTo_S960x53248_S960_d1 h_S_) main_v55 main_c_7
  let main_c_8 : IVec S_ 1 := constantI S_ 1 1#1
  let main_v57 : IVec S_ 1 := (fun x v => Host.reduce IntOp.andi x v reducesTo_S960_S_d0 h_S_) main_v56 main_c_8
  let main_c_9 : IVec S_ 32 := constantI S_ 32 0#32
  let main_v58 : IVec S60x128 32 := broadcastInDim S60x128 ![] bcast_S_S60x128 main_c_9
  let main_v59 : IVec S60x128 1 := cmpi .sge main_arg3 main_v58
  let main_c_10 : IVec S_ 32 := constantI S_ 32 128#32
  fn_part3 (F := F) main_arg1 main_arg3 main_arg4 main_arg5 main_v16 main_v42 main_v57 main_v59 main_c_10

def fn_part1 {F : FTy → Type} [FloatOps F] (main_arg1 : IVec S212992 32) (main_arg3 : IVec S60x128 32) (main_arg4 : IVec S_ 32) (main_arg5 : IVec S_ 32) (main_v1 : IVec S53248 32) (main_v3 : IVec S53248 32) (main_v7 : IVec S53248 1) (main_v16 : IVec S_ 1) (main_v18 : IVec S53248 1) : IVec S_ 1 :=
  let main_v19 : IVec S53248 1 := andi main_v18 main_v7
  let main_c_4 : IVec S_ 32 := constantI S_ 32 7680#32
  let main_v20 : IVec S53248 32 := broadcastInDim S53248 ![] bcast_S_S53248 main_c_4
  let main_v21 : IVec S53248 1 := cmpi .slt main_v3 main_v20
  let main_v22 : IVec S53248 1 := andi main_v19 main_v21
  let main_v23 : IVec S53248x1 32 := broadcastInDim S53248x1 ![0] bcast_S53248_S53248x1_0 main_v1
  let main_v24 : IVec S1x53248 32 := broadcastInDim S1x53248 ![1] bcast_S53248_S1x53248_1 main_v1
  let main_v25 : IVec S53248x53248 32 := broadcastInDim S53248x53248 ![0, 1] bcast_S53248x1_S53248x53248_0_1 main_v23
  let main_v26 : IVec S53248x53248 32 := broadcastInDim S53248x53248 ![0, 1] bcast_S1x53248_S53248x53248_0_1 main_v24
  let main_v27 : IVec S53248x53248 1 := cmpi .eq main_v25 main_v26
  let main_v28 : IVec S53248x1 1 := broadcastInDim S53248x1 ![0] bcast_S53248_S53248x1_0 main_v22
  let main_v29 : IVec S53248x1 1 := noti main_v28
  let main_v30 : IVec S53248x53248 1 := broadcastInDim S53248x53248 ![0, 1] bcast_S53248x1_S53248x53248_0_1 main_v29
  let main_v31 : IVec S53248x53248 1 := ori main_v27 main_v30
  let main_v32 : IVec S1x53248 1 := broadcastInDim S1x53248 ![1] bcast_S53248_S1x53248_1 main_v22
  let main_v33 : IVec S1x53248 1 := noti main_v32
  let main_v34 : IVec S53248x53248 1 := broadcastInDim S53248x53248 ![0, 1] bcast_S1x53248_S53248x53248_0_1 main_v33
  let main_v35 : IVec S53248x53248 1 := ori main_v31 main_v34
  let main_v36 : IVec S53248x1 32 := broadcastInDim S53248x1 ![0] bcast_S53248_S53248x1_0 main_v3
  let main_v37 : IVec S1x53248 32 := broadcastInDim S1x53248 ![1] bcast_S53248_S1x53248_1 main_v3
  let main_v38 : IVec S53248x53248 32 := broadcastInDim S53248x53248 ![0, 1] bcast_S53248x1_S53248x53248_0_1 main_v36
  let main_v39 : IVec S53248x53248 32 := broadcastInDim S53248x53248 ![0, 1] bcast_S1x53248_S53248x53248_0_1 main_v37
  let main_v40 : IVec S53248x53248 1 := cmpi .ne main_v38 main_v39
  let main_v41 : IVec S53248x53248 1 := ori main_v35 main_v40
  fn_part2 (F := F) main_arg1 main_arg3 main_arg4 main_arg5 main_v1 main_v3 main_v16 main_v41

def fn {F : FTy → Type} [FloatOps F] (main_arg0 : IVec S425984x128 32) (main_arg1 : IVec S212992 32) (main_arg2 : FVec F S6x32x64 .bf16) (main_arg3 : IVec S60x128 32) (main_arg4 : IVec S_ 32) (main_arg5 : IVec S_ 32) (main_arg6 : FVec F S192x30208 .f32) (main_arg7 : FVec F S6x30208 .f32) : IVec S_ 1 :=
  let main_v0 : IVec S53248 32 := (extractStridedSlice S53248 ![53248] · slices_S212992_S53248_53248) main_arg1
  let main_v1 : IVec S53248 32 := iotaInDim S53248 32 0
  let main_c : IVec S_ 32 := constantI S_ 32 1#32
  let main_v2 : IVec S53248 32 := broadcastInDim S53248 ![] bcast_S_S53248 main_c
  let main_v3 : IVec S53248 32 := Host.shrsi main_v0 main_v2
  let main_c_0 : IVec S_ 32 := constantI S_ 32 1#32
  let main_v4 : IVec S53248 32 := broadcastInDim S53248 ![] bcast_S_S53248 main_c_0
  let main_v5 : IVec S53248 32 := andi main_v0 main_v4
  let main_c_1 : IVec S_ 32 := constantI S_ 32 1#32
  let main_v6 : IVec S53248 32 := broadcastInDim S53248 ![] bcast_S_S53248 main_c_1
  let main_v7 : IVec S53248 1 := cmpi .eq main_v5 main_v6
  let main_c_2 : IVec S_ 32 := constantI S_ 32 4294967295#32
  let main_v8 : IVec S1 32 := broadcastInDim S1 ![] bcast_S_S1 main_c_2
  let main_v9 : IVec S53247 32 := (extractStridedSlice S53247 ![0] · slices_S53248_S53247_0) main_v3
  let main_v10 : IVec S53248 32 := (fun a b => concatenate S53248 0 [⟨S1, a⟩, ⟨S53247, b⟩] concatenates_S1_S53247_S53248_d0) main_v8 main_v9
  let main_v11 : IVec S53248 32 := broadcastInDim S53248 ![] bcast_S_S53248 main_arg4
  let main_v12 : IVec S53248 1 := cmpi .sge main_v1 main_v11
  let main_v13 : IVec S53248 1 := ori main_v12 main_v7
  let main_v14 : IVec S53248 1 := cmpi .eq main_v10 main_v3
  let main_v15 : IVec S53248 1 := ori main_v13 main_v14
  let main_c_3 : IVec S_ 1 := constantI S_ 1 1#1
  let main_v16 : IVec S_ 1 := (fun x v => Host.reduce IntOp.andi x v reducesTo_S53248_S_d0 h_S_) main_v15 main_c_3
  let main_v17 : IVec S53248 32 := broadcastInDim S53248 ![] bcast_S_S53248 main_arg4
  let main_v18 : IVec S53248 1 := cmpi .slt main_v1 main_v17
  fn_part1 (F := F) main_arg1 main_arg3 main_arg4 main_arg5 main_v1 main_v3 main_v7 main_v16 main_v18
-- ==== Pre_grouped_0.lean ====
abbrev S425984x128 : Shape := ⟨2, ![425984, 128]⟩
abbrev S212992 : Shape := ⟨1, ![212992]⟩
abbrev S6x32x64 : Shape := ⟨3, ![6, 32, 64]⟩
abbrev S60x128 : Shape := ⟨2, ![60, 128]⟩
abbrev S_ : Shape := ⟨0, ![]⟩
abbrev S192x30208 : Shape := ⟨2, ![192, 30208]⟩
abbrev S6x30208 : Shape := ⟨2, ![6, 30208]⟩
abbrev S53248 : Shape := ⟨1, ![53248]⟩
abbrev S1 : Shape := ⟨1, ![1]⟩
abbrev S53247 : Shape := ⟨1, ![53247]⟩
abbrev S53248x1 : Shape := ⟨2, ![53248, 1]⟩
abbrev S1x53248 : Shape := ⟨2, ![1, 53248]⟩
abbrev S53248x53248 : Shape := ⟨2, ![53248, 53248]⟩
abbrev S960 : Shape := ⟨1, ![960]⟩
abbrev S960x1 : Shape := ⟨2, ![960, 1]⟩
abbrev S960x53248 : Shape := ⟨2, ![960, 53248]⟩

class Facts : Prop where
  slices_S212992_S53248_0 : S212992.Slices ![0] S53248
  bcast_S_S53248 : S_.BroadcastsInDim S53248 (![] : Fin 0 → Fin S53248.rank)
  bcast_S_S1 : S_.BroadcastsInDim S1 (![] : Fin 0 → Fin S1.rank)
  slices_S53248_S53247_0 : S53248.Slices ![0] S53247
  concatenates_S1_S53247_S53248_d0 : Shape.Concatenates [S1, S53247] S53248 0
  reducesTo_S53248_S_d0 : S53248.ReducesTo [0] S_
  h_S_ : 0 < S_.numel
  bcast_S53248_S53248x1_0 : S53248.BroadcastsInDim S53248x1 (![0] : Fin 1 → Fin S53248x1.rank)
  bcast_S53248_S1x53248_1 : S53248.BroadcastsInDim S1x53248 (![1] : Fin 1 → Fin S1x53248.rank)
  bcast_S53248x1_S53248x53248_0_1 : S53248x1.BroadcastsInDim S53248x53248 (![0, 1] : Fin 2 → Fin S53248x53248.rank)
  bcast_S1x53248_S53248x53248_0_1 : S1x53248.BroadcastsInDim S53248x53248 (![0, 1] : Fin 2 → Fin S53248x53248.rank)
  reducesTo_S53248x53248_S_d0_1 : S53248x53248.ReducesTo [0, 1] S_
  bcast_S_S960 : S_.BroadcastsInDim S960 (![] : Fin 0 → Fin S960.rank)
  bcast_S_S1x53248 : S_.BroadcastsInDim S1x53248 (![] : Fin 0 → Fin S1x53248.rank)
  bcast_S960_S960x1_0 : S960.BroadcastsInDim S960x1 (![0] : Fin 1 → Fin S960x1.rank)
  bcast_S1x53248_S960x53248_0_1 : S1x53248.BroadcastsInDim S960x53248 (![0, 1] : Fin 2 → Fin S960x53248.rank)
  bcast_S960x1_S960x53248_0_1 : S960x1.BroadcastsInDim S960x53248 (![0, 1] : Fin 2 → Fin S960x53248.rank)
  reducesTo_S960x53248_S960_d1 : S960x53248.ReducesTo [1] S960
  reducesTo_S960_S_d0 : S960.ReducesTo [0] S_
  bcast_S_S60x128 : S_.BroadcastsInDim S60x128 (![] : Fin 0 → Fin S60x128.rank)
  reducesTo_S60x128_S_d0_1 : S60x128.ReducesTo [0, 1] S_

variable [Facts]

def fn_part5 {F : FTy → Type} [FloatOps F] (main_v16 : IVec S_ 1) (main_v42 : IVec S_ 1) (main_v57 : IVec S_ 1) (main_v63 : IVec S_ 1) (main_v67 : IVec S53248 32) (main_v74 : IVec S_ 1) (main_v88 : IVec S_ 1) (main_v93 : IVec S53248 1) (main_v95 : IVec S53248 1) (main_c_22 : IVec S_ 32) : IVec S_ 1 :=
  let main_v96 : IVec S53248 32 := broadcastInDim S53248 ![] bcast_S_S53248 main_c_22
  let main_v97 : IVec S53248 1 := cmpi .slt main_v67 main_v96
  let main_v98 : IVec S53248 1 := andi main_v95 main_v97
  let main_v99 : IVec S53248 1 := ori main_v93 main_v98
  let main_c_23 : IVec S_ 1 := constantI S_ 1 1#1
  let main_v100 : IVec S_ 1 := (fun x v => Host.reduce IntOp.andi x v reducesTo_S53248_S_d0 h_S_) main_v99 main_c_23
  let main_v101 : IVec S_ 1 := andi main_v74 main_v88
  let main_v102 : IVec S_ 1 := andi main_v101 main_v100
  let main_v103 : IVec S_ 1 := andi main_v102 main_v16
  let main_v104 : IVec S_ 1 := andi main_v103 main_v42
  let main_v105 : IVec S_ 1 := andi main_v104 main_v57
  let main_v106 : IVec S_ 1 := andi main_v105 main_v63
  main_v106

def fn_part4 {F : FTy → Type} [FloatOps F] (main_arg4 : IVec S_ 32) (main_arg5 : IVec S_ 32) (main_v16 : IVec S_ 1) (main_v42 : IVec S_ 1) (main_v57 : IVec S_ 1) (main_v63 : IVec S_ 1) (main_v65 : IVec S53248 32) (main_v67 : IVec S53248 32) (main_v74 : IVec S_ 1) (main_v76 : IVec S53248 1) (main_v77 : IVec S53248 32) : IVec S_ 1 :=
  let main_v78 : IVec S53248 1 := cmpi .sge main_v67 main_v77
  let main_c_17 : IVec S_ 32 := constantI S_ 32 7680#32
  let main_v79 : IVec S53248 32 := broadcastInDim S53248 ![] bcast_S_S53248 main_c_17
  let main_v80 : IVec S53248 1 := cmpi .sle main_v67 main_v79
  let main_v81 : IVec S53248 1 := andi main_v78 main_v80
  let main_c_18 : IVec S_ 32 := constantI S_ 32 7#32
  let main_v82 : IVec S53248 32 := broadcastInDim S53248 ![] bcast_S_S53248 main_c_18
  let main_v83 : IVec S53248 32 := andi main_v67 main_v82
  let main_c_19 : IVec S_ 32 := constantI S_ 32 0#32
  let main_v84 : IVec S53248 32 := broadcastInDim S53248 ![] bcast_S_S53248 main_c_19
  let main_v85 : IVec S53248 1 := cmpi .eq main_v83 main_v84
  let main_v86 : IVec S53248 1 := andi main_v81 main_v85
  let main_v87 : IVec S53248 1 := ori main_v76 main_v86
  let main_c_20 : IVec S_ 1 := constantI S_ 1 1#1
  let main_v88 : IVec S_ 1 := (fun x v => Host.reduce IntOp.andi x v reducesTo_S53248_S_d0 h_S_) main_v87 main_c_20
  let main_v89 : IVec S53248 32 := broadcastInDim S53248 ![] bcast_S_S53248 main_arg4
  let main_v90 : IVec S53248 1 := cmpi .slt main_v65 main_v89
  let main_v91 : IVec S53248 32 := broadcastInDim S53248 ![] bcast_S_S53248 main_arg5
  let main_v92 : IVec S53248 1 := cmpi .sge main_v65 main_v91
  let main_v93 : IVec S53248 1 := ori main_v90 main_v92
  let main_c_21 : IVec S_ 32 := constantI S_ 32 0#32
  let main_v94 : IVec S53248 32 := broadcastInDim S53248 ![] bcast_S_S53248 main_c_21
  let main_v95 : IVec S53248 1 := cmpi .sge main_v67 main_v94
  let main_c_22 : IVec S_ 32 := constantI S_ 32 7688#32
  fn_part5 (F := F) main_v16 main_v42 main_v57 main_v63 main_v67 main_v74 main_v88 main_v93 main_v95 main_c_22

def fn_part3 {F : FTy → Type} [FloatOps F] (main_arg1 : IVec S212992 32) (main_arg3 : IVec S60x128 32) (main_arg4 : IVec S_ 32) (main_arg5 : IVec S_ 32) (main_v16 : IVec S_ 1) (main_v42 : IVec S_ 1) (main_v57 : IVec S_ 1) (main_v59 : IVec S60x128 1) (main_c_10 : IVec S_ 32) : IVec S_ 1 :=
  let main_v60 : IVec S60x128 32 := broadcastInDim S60x128 ![] bcast_S_S60x128 main_c_10
  let main_v61 : IVec S60x128 1 := cmpi .slt main_arg3 main_v60
  let main_v62 : IVec S60x128 1 := andi main_v59 main_v61
  let main_c_11 : IVec S_ 1 := constantI S_ 1 1#1
  let main_v63 : IVec S_ 1 := (fun x v => Host.reduce IntOp.andi x v reducesTo_S60x128_S_d0_1 h_S_) main_v62 main_c_11
  let main_v64 : IVec S53248 32 := (extractStridedSlice S53248 ![0] · slices_S212992_S53248_0) main_arg1
  let main_v65 : IVec S53248 32 := iotaInDim S53248 32 0
  let main_c_12 : IVec S_ 32 := constantI S_ 32 1#32
  let main_v66 : IVec S53248 32 := broadcastInDim S53248 ![] bcast_S_S53248 main_c_12
  let main_v67 : IVec S53248 32 := Host.shrsi main_v64 main_v66
  let main_c_13 : IVec S_ 32 := constantI S_ 32 1#32
  let main_v68 : IVec S_ 1 := cmpi .sge main_arg5 main_c_13
  let main_c_14 : IVec S_ 32 := constantI S_ 32 53248#32
  let main_v69 : IVec S_ 1 := cmpi .sle main_arg5 main_c_14
  let main_v70 : IVec S_ 1 := andi main_v68 main_v69
  let main_c_15 : IVec S_ 32 := constantI S_ 32 0#32
  let main_v71 : IVec S_ 1 := cmpi .sge main_arg4 main_c_15
  let main_v72 : IVec S_ 1 := andi main_v70 main_v71
  let main_v73 : IVec S_ 1 := cmpi .sle main_arg4 main_arg5
  let main_v74 : IVec S_ 1 := andi main_v72 main_v73
  let main_v75 : IVec S53248 32 := broadcastInDim S53248 ![] bcast_S_S53248 main_arg4
  let main_v76 : IVec S53248 1 := cmpi .sge main_v65 main_v75
  let main_c_16 : IVec S_ 32 := constantI S_ 32 0#32
  let main_v77 : IVec S53248 32 := broadcastInDim S53248 ![] bcast_S_S53248 main_c_16
  fn_part4 (F := F) main_arg4 main_arg5 main_v16 main_v42 main_v57 main_v63 main_v65 main_v67 main_v74 main_v76 main_v77

def fn_part2 {F : FTy → Type} [FloatOps F] (main_arg1 : IVec S212992 32) (main_arg3 : IVec S60x128 32) (main_arg4 : IVec S_ 32) (main_arg5 : IVec S_ 32) (main_v1 : IVec S53248 32) (main_v3 : IVec S53248 32) (main_v16 : IVec S_ 1) (main_v41 : IVec S53248x53248 1) : IVec S_ 1 :=
  let main_c_5 : IVec S_ 1 := constantI S_ 1 1#1
  let main_v42 : IVec S_ 1 := (fun x v => Host.reduce IntOp.andi x v reducesTo_S53248x53248_S_d0_1 h_S_) main_v41 main_c_5
  let main_v43 : IVec S960 32 := iotaInDim S960 32 0
  let main_c_6 : IVec S_ 32 := constantI S_ 32 8#32
  let main_v44 : IVec S960 32 := broadcastInDim S960 ![] bcast_S_S960 main_c_6
  let main_v45 : IVec S960 32 := muli main_v44 main_v43
  let main_v46 : IVec S1x53248 32 := broadcastInDim S1x53248 ![1] bcast_S53248_S1x53248_1 main_v1
  let main_v47 : IVec S1x53248 32 := broadcastInDim S1x53248 ![] bcast_S_S1x53248 main_arg4
  let main_v48 : IVec S1x53248 1 := cmpi .slt main_v46 main_v47
  let main_v49 : IVec S1x53248 32 := broadcastInDim S1x53248 ![1] bcast_S53248_S1x53248_1 main_v3
  let main_v50 : IVec S960x1 32 := broadcastInDim S960x1 ![0] bcast_S960_S960x1_0 main_v45
  let main_v51 : IVec S960x53248 32 := broadcastInDim S960x53248 ![0, 1] bcast_S1x53248_S960x53248_0_1 main_v49
  let main_v52 : IVec S960x53248 32 := broadcastInDim S960x53248 ![0, 1] bcast_S960x1_S960x53248_0_1 main_v50
  let main_v53 : IVec S960x53248 1 := cmpi .eq main_v51 main_v52
  let main_v54 : IVec S960x53248 1 := broadcastInDim S960x53248 ![0, 1] bcast_S1x53248_S960x53248_0_1 main_v48
  let main_v55 : IVec S960x53248 1 := andi main_v54 main_v53
  let main_c_7 : IVec S_ 1 := constantI S_ 1 0#1
  let main_v56 : IVec S960 1 := (fun x v => Host.reduce IntOp.ori x v reducesTo_S960x53248_S960_d1 h_S_) main_v55 main_c_7
  let main_c_8 : IVec S_ 1 := constantI S_ 1 1#1
  let main_v57 : IVec S_ 1 := (fun x v => Host.reduce IntOp.andi x v reducesTo_S960_S_d0 h_S_) main_v56 main_c_8
  let main_c_9 : IVec S_ 32 := constantI S_ 32 0#32
  let main_v58 : IVec S60x128 32 := broadcastInDim S60x128 ![] bcast_S_S60x128 main_c_9
  let main_v59 : IVec S60x128 1 := cmpi .sge main_arg3 main_v58
  let main_c_10 : IVec S_ 32 := constantI S_ 32 128#32
  fn_part3 (F := F) main_arg1 main_arg3 main_arg4 main_arg5 main_v16 main_v42 main_v57 main_v59 main_c_10

def fn_part1 {F : FTy → Type} [FloatOps F] (main_arg1 : IVec S212992 32) (main_arg3 : IVec S60x128 32) (main_arg4 : IVec S_ 32) (main_arg5 : IVec S_ 32) (main_v1 : IVec S53248 32) (main_v3 : IVec S53248 32) (main_v7 : IVec S53248 1) (main_v16 : IVec S_ 1) (main_v18 : IVec S53248 1) : IVec S_ 1 :=
  let main_v19 : IVec S53248 1 := andi main_v18 main_v7
  let main_c_4 : IVec S_ 32 := constantI S_ 32 7680#32
  let main_v20 : IVec S53248 32 := broadcastInDim S53248 ![] bcast_S_S53248 main_c_4
  let main_v21 : IVec S53248 1 := cmpi .slt main_v3 main_v20
  let main_v22 : IVec S53248 1 := andi main_v19 main_v21
  let main_v23 : IVec S53248x1 32 := broadcastInDim S53248x1 ![0] bcast_S53248_S53248x1_0 main_v1
  let main_v24 : IVec S1x53248 32 := broadcastInDim S1x53248 ![1] bcast_S53248_S1x53248_1 main_v1
  let main_v25 : IVec S53248x53248 32 := broadcastInDim S53248x53248 ![0, 1] bcast_S53248x1_S53248x53248_0_1 main_v23
  let main_v26 : IVec S53248x53248 32 := broadcastInDim S53248x53248 ![0, 1] bcast_S1x53248_S53248x53248_0_1 main_v24
  let main_v27 : IVec S53248x53248 1 := cmpi .eq main_v25 main_v26
  let main_v28 : IVec S53248x1 1 := broadcastInDim S53248x1 ![0] bcast_S53248_S53248x1_0 main_v22
  let main_v29 : IVec S53248x1 1 := noti main_v28
  let main_v30 : IVec S53248x53248 1 := broadcastInDim S53248x53248 ![0, 1] bcast_S53248x1_S53248x53248_0_1 main_v29
  let main_v31 : IVec S53248x53248 1 := ori main_v27 main_v30
  let main_v32 : IVec S1x53248 1 := broadcastInDim S1x53248 ![1] bcast_S53248_S1x53248_1 main_v22
  let main_v33 : IVec S1x53248 1 := noti main_v32
  let main_v34 : IVec S53248x53248 1 := broadcastInDim S53248x53248 ![0, 1] bcast_S1x53248_S53248x53248_0_1 main_v33
  let main_v35 : IVec S53248x53248 1 := ori main_v31 main_v34
  let main_v36 : IVec S53248x1 32 := broadcastInDim S53248x1 ![0] bcast_S53248_S53248x1_0 main_v3
  let main_v37 : IVec S1x53248 32 := broadcastInDim S1x53248 ![1] bcast_S53248_S1x53248_1 main_v3
  let main_v38 : IVec S53248x53248 32 := broadcastInDim S53248x53248 ![0, 1] bcast_S53248x1_S53248x53248_0_1 main_v36
  let main_v39 : IVec S53248x53248 32 := broadcastInDim S53248x53248 ![0, 1] bcast_S1x53248_S53248x53248_0_1 main_v37
  let main_v40 : IVec S53248x53248 1 := cmpi .ne main_v38 main_v39
  let main_v41 : IVec S53248x53248 1 := ori main_v35 main_v40
  fn_part2 (F := F) main_arg1 main_arg3 main_arg4 main_arg5 main_v1 main_v3 main_v16 main_v41

def fn {F : FTy → Type} [FloatOps F] (main_arg0 : IVec S425984x128 32) (main_arg1 : IVec S212992 32) (main_arg2 : FVec F S6x32x64 .bf16) (main_arg3 : IVec S60x128 32) (main_arg4 : IVec S_ 32) (main_arg5 : IVec S_ 32) (main_arg6 : FVec F S192x30208 .f32) (main_arg7 : FVec F S6x30208 .f32) : IVec S_ 1 :=
  let main_v0 : IVec S53248 32 := (extractStridedSlice S53248 ![0] · slices_S212992_S53248_0) main_arg1
  let main_v1 : IVec S53248 32 := iotaInDim S53248 32 0
  let main_c : IVec S_ 32 := constantI S_ 32 1#32
  let main_v2 : IVec S53248 32 := broadcastInDim S53248 ![] bcast_S_S53248 main_c
  let main_v3 : IVec S53248 32 := Host.shrsi main_v0 main_v2
  let main_c_0 : IVec S_ 32 := constantI S_ 32 1#32
  let main_v4 : IVec S53248 32 := broadcastInDim S53248 ![] bcast_S_S53248 main_c_0
  let main_v5 : IVec S53248 32 := andi main_v0 main_v4
  let main_c_1 : IVec S_ 32 := constantI S_ 32 1#32
  let main_v6 : IVec S53248 32 := broadcastInDim S53248 ![] bcast_S_S53248 main_c_1
  let main_v7 : IVec S53248 1 := cmpi .eq main_v5 main_v6
  let main_c_2 : IVec S_ 32 := constantI S_ 32 4294967295#32
  let main_v8 : IVec S1 32 := broadcastInDim S1 ![] bcast_S_S1 main_c_2
  let main_v9 : IVec S53247 32 := (extractStridedSlice S53247 ![0] · slices_S53248_S53247_0) main_v3
  let main_v10 : IVec S53248 32 := (fun a b => concatenate S53248 0 [⟨S1, a⟩, ⟨S53247, b⟩] concatenates_S1_S53247_S53248_d0) main_v8 main_v9
  let main_v11 : IVec S53248 32 := broadcastInDim S53248 ![] bcast_S_S53248 main_arg4
  let main_v12 : IVec S53248 1 := cmpi .sge main_v1 main_v11
  let main_v13 : IVec S53248 1 := ori main_v12 main_v7
  let main_v14 : IVec S53248 1 := cmpi .eq main_v10 main_v3
  let main_v15 : IVec S53248 1 := ori main_v13 main_v14
  let main_c_3 : IVec S_ 1 := constantI S_ 1 1#1
  let main_v16 : IVec S_ 1 := (fun x v => Host.reduce IntOp.andi x v reducesTo_S53248_S_d0 h_S_) main_v15 main_c_3
  let main_v17 : IVec S53248 32 := broadcastInDim S53248 ![] bcast_S_S53248 main_arg4
  let main_v18 : IVec S53248 1 := cmpi .slt main_v1 main_v17
  fn_part1 (F := F) main_arg1 main_arg3 main_arg4 main_arg5 main_v1 main_v3 main_v7 main_v16 main_v18
-- ==== Pre_grouped_2.lean ====
abbrev S425984x128 : Shape := ⟨2, ![425984, 128]⟩
abbrev S212992 : Shape := ⟨1, ![212992]⟩
abbrev S6x32x64 : Shape := ⟨3, ![6, 32, 64]⟩
abbrev S60x128 : Shape := ⟨2, ![60, 128]⟩
abbrev S_ : Shape := ⟨0, ![]⟩
abbrev S192x30208 : Shape := ⟨2, ![192, 30208]⟩
abbrev S6x30208 : Shape := ⟨2, ![6, 30208]⟩
abbrev S53248 : Shape := ⟨1, ![53248]⟩
abbrev S1 : Shape := ⟨1, ![1]⟩
abbrev S53247 : Shape := ⟨1, ![53247]⟩
abbrev S53248x1 : Shape := ⟨2, ![53248, 1]⟩
abbrev S1x53248 : Shape := ⟨2, ![1, 53248]⟩
abbrev S53248x53248 : Shape := ⟨2, ![53248, 53248]⟩
abbrev S960 : Shape := ⟨1, ![960]⟩
abbrev S960x1 : Shape := ⟨2, ![960, 1]⟩
abbrev S960x53248 : Shape := ⟨2, ![960, 53248]⟩

class Facts : Prop where
  slices_S212992_S53248_106496 : S212992.Slices ![106496] S53248
  bcast_S_S53248 : S_.BroadcastsInDim S53248 (![] : Fin 0 → Fin S53248.rank)
  bcast_S_S1 : S_.BroadcastsInDim S1 (![] : Fin 0 → Fin S1.rank)
  slices_S53248_S53247_0 : S53248.Slices ![0] S53247
  concatenates_S1_S53247_S53248_d0 : Shape.Concatenates [S1, S53247] S53248 0
  reducesTo_S53248_S_d0 : S53248.ReducesTo [0] S_
  h_S_ : 0 < S_.numel
  bcast_S53248_S53248x1_0 : S53248.BroadcastsInDim S53248x1 (![0] : Fin 1 → Fin S53248x1.rank)
  bcast_S53248_S1x53248_1 : S53248.BroadcastsInDim S1x53248 (![1] : Fin 1 → Fin S1x53248.rank)
  bcast_S53248x1_S53248x53248_0_1 : S53248x1.BroadcastsInDim S53248x53248 (![0, 1] : Fin 2 → Fin S53248x53248.rank)
  bcast_S1x53248_S53248x53248_0_1 : S1x53248.BroadcastsInDim S53248x53248 (![0, 1] : Fin 2 → Fin S53248x53248.rank)
  reducesTo_S53248x53248_S_d0_1 : S53248x53248.ReducesTo [0, 1] S_
  bcast_S_S960 : S_.BroadcastsInDim S960 (![] : Fin 0 → Fin S960.rank)
  bcast_S_S1x53248 : S_.BroadcastsInDim S1x53248 (![] : Fin 0 → Fin S1x53248.rank)
  bcast_S960_S960x1_0 : S960.BroadcastsInDim S960x1 (![0] : Fin 1 → Fin S960x1.rank)
  bcast_S1x53248_S960x53248_0_1 : S1x53248.BroadcastsInDim S960x53248 (![0, 1] : Fin 2 → Fin S960x53248.rank)
  bcast_S960x1_S960x53248_0_1 : S960x1.BroadcastsInDim S960x53248 (![0, 1] : Fin 2 → Fin S960x53248.rank)
  reducesTo_S960x53248_S960_d1 : S960x53248.ReducesTo [1] S960
  reducesTo_S960_S_d0 : S960.ReducesTo [0] S_
  bcast_S_S60x128 : S_.BroadcastsInDim S60x128 (![] : Fin 0 → Fin S60x128.rank)
  reducesTo_S60x128_S_d0_1 : S60x128.ReducesTo [0, 1] S_

variable [Facts]

def fn_part5 {F : FTy → Type} [FloatOps F] (main_v16 : IVec S_ 1) (main_v42 : IVec S_ 1) (main_v57 : IVec S_ 1) (main_v63 : IVec S_ 1) (main_v67 : IVec S53248 32) (main_v74 : IVec S_ 1) (main_v88 : IVec S_ 1) (main_v93 : IVec S53248 1) (main_v95 : IVec S53248 1) (main_c_22 : IVec S_ 32) : IVec S_ 1 :=
  let main_v96 : IVec S53248 32 := broadcastInDim S53248 ![] bcast_S_S53248 main_c_22
  let main_v97 : IVec S53248 1 := cmpi .slt main_v67 main_v96
  let main_v98 : IVec S53248 1 := andi main_v95 main_v97
  let main_v99 : IVec S53248 1 := ori main_v93 main_v98
  let main_c_23 : IVec S_ 1 := constantI S_ 1 1#1
  let main_v100 : IVec S_ 1 := (fun x v => Host.reduce IntOp.andi x v reducesTo_S53248_S_d0 h_S_) main_v99 main_c_23
  let main_v101 : IVec S_ 1 := andi main_v74 main_v88
  let main_v102 : IVec S_ 1 := andi main_v101 main_v100
  let main_v103 : IVec S_ 1 := andi main_v102 main_v16
  let main_v104 : IVec S_ 1 := andi main_v103 main_v42
  let main_v105 : IVec S_ 1 := andi main_v104 main_v57
  let main_v106 : IVec S_ 1 := andi main_v105 main_v63
  main_v106

def fn_part4 {F : FTy → Type} [FloatOps F] (main_arg4 : IVec S_ 32) (main_arg5 : IVec S_ 32) (main_v16 : IVec S_ 1) (main_v42 : IVec S_ 1) (main_v57 : IVec S_ 1) (main_v63 : IVec S_ 1) (main_v65 : IVec S53248 32) (main_v67 : IVec S53248 32) (main_v74 : IVec S_ 1) (main_v76 : IVec S53248 1) (main_v77 : IVec S53248 32) : IVec S_ 1 :=
  let main_v78 : IVec S53248 1 := cmpi .sge main_v67 main_v77
  let main_c_17 : IVec S_ 32 := constantI S_ 32 7680#32
  let main_v79 : IVec S53248 32 := broadcastInDim S53248 ![] bcast_S_S53248 main_c_17
  let main_v80 : IVec S53248 1 := cmpi .sle main_v67 main_v79
  let main_v81 : IVec S53248 1 := andi main_v78 main_v80
  let main_c_18 : IVec S_ 32 := constantI S_ 32 7#32
  let main_v82 : IVec S53248 32 := broadcastInDim S53248 ![] bcast_S_S53248 main_c_18
  let main_v83 : IVec S53248 32 := andi main_v67 main_v82
  let main_c_19 : IVec S_ 32 := constantI S_ 32 0#32
  let main_v84 : IVec S53248 32 := broadcastInDim S53248 ![] bcast_S_S53248 main_c_19
  let main_v85 : IVec S53248 1 := cmpi .eq main_v83 main_v84
  let main_v86 : IVec S53248 1 := andi main_v81 main_v85
  let main_v87 : IVec S53248 1 := ori main_v76 main_v86
  let main_c_20 : IVec S_ 1 := constantI S_ 1 1#1
  let main_v88 : IVec S_ 1 := (fun x v => Host.reduce IntOp.andi x v reducesTo_S53248_S_d0 h_S_) main_v87 main_c_20
  let main_v89 : IVec S53248 32 := broadcastInDim S53248 ![] bcast_S_S53248 main_arg4
  let main_v90 : IVec S53248 1 := cmpi .slt main_v65 main_v89
  let main_v91 : IVec S53248 32 := broadcastInDim S53248 ![] bcast_S_S53248 main_arg5
  let main_v92 : IVec S53248 1 := cmpi .sge main_v65 main_v91
  let main_v93 : IVec S53248 1 := ori main_v90 main_v92
  let main_c_21 : IVec S_ 32 := constantI S_ 32 0#32
  let main_v94 : IVec S53248 32 := broadcastInDim S53248 ![] bcast_S_S53248 main_c_21
  let main_v95 : IVec S53248 1 := cmpi .sge main_v67 main_v94
  let main_c_22 : IVec S_ 32 := constantI S_ 32 7688#32
  fn_part5 (F := F) main_v16 main_v42 main_v57 main_v63 main_v67 main_v74 main_v88 main_v93 main_v95 main_c_22

def fn_part3 {F : FTy → Type} [FloatOps F] (main_arg1 : IVec S212992 32) (main_arg3 : IVec S60x128 32) (main_arg4 : IVec S_ 32) (main_arg5 : IVec S_ 32) (main_v16 : IVec S_ 1) (main_v42 : IVec S_ 1) (main_v57 : IVec S_ 1) (main_v59 : IVec S60x128 1) (main_c_10 : IVec S_ 32) : IVec S_ 1 :=
  let main_v60 : IVec S60x128 32 := broadcastInDim S60x128 ![] bcast_S_S60x128 main_c_10
  let main_v61 : IVec S60x128 1 := cmpi .slt main_arg3 main_v60
  let main_v62 : IVec S60x128 1 := andi main_v59 main_v61
  let main_c_11 : IVec S_ 1 := constantI S_ 1 1#1
  let main_v63 : IVec S_ 1 := (fun x v => Host.reduce IntOp.andi x v reducesTo_S60x128_S_d0_1 h_S_) main_v62 main_c_11
  let main_v64 : IVec S53248 32 := (extractStridedSlice S53248 ![106496] · slices_S212992_S53248_106496) main_arg1
  let main_v65 : IVec S53248 32 := iotaInDim S53248 32 0
  let main_c_12 : IVec S_ 32 := constantI S_ 32 1#32
  let main_v66 : IVec S53248 32 := broadcastInDim S53248 ![] bcast_S_S53248 main_c_12
  let main_v67 : IVec S53248 32 := Host.shrsi main_v64 main_v66
  let main_c_13 : IVec S_ 32 := constantI S_ 32 1#32
  let main_v68 : IVec S_ 1 := cmpi .sge main_arg5 main_c_13
  let main_c_14 : IVec S_ 32 := constantI S_ 32 53248#32
  let main_v69 : IVec S_ 1 := cmpi .sle main_arg5 main_c_14
  let main_v70 : IVec S_ 1 := andi main_v68 main_v69
  let main_c_15 : IVec S_ 32 := constantI S_ 32 0#32
  let main_v71 : IVec S_ 1 := cmpi .sge main_arg4 main_c_15
  let main_v72 : IVec S_ 1 := andi main_v70 main_v71
  let main_v73 : IVec S_ 1 := cmpi .sle main_arg4 main_arg5
  let main_v74 : IVec S_ 1 := andi main_v72 main_v73
  let main_v75 : IVec S53248 32 := broadcastInDim S53248 ![] bcast_S_S53248 main_arg4
  let main_v76 : IVec S53248 1 := cmpi .sge main_v65 main_v75
  let main_c_16 : IVec S_ 32 := constantI S_ 32 0#32
  let main_v77 : IVec S53248 32 := broadcastInDim S53248 ![] bcast_S_S53248 main_c_16
  fn_part4 (F := F) main_arg4 main_arg5 main_v16 main_v42 main_v57 main_v63 main_v65 main_v67 main_v74 main_v76 main_v77

def fn_part2 {F : FTy → Type} [FloatOps F] (main_arg1 : IVec S212992 32) (main_arg3 : IVec S60x128 32) (main_arg4 : IVec S_ 32) (main_arg5 : IVec S_ 32) (main_v1 : IVec S53248 32) (main_v3 : IVec S53248 32) (main_v16 : IVec S_ 1) (main_v41 : IVec S53248x53248 1) : IVec S_ 1 :=
  let main_c_5 : IVec S_ 1 := constantI S_ 1 1#1
  let main_v42 : IVec S_ 1 := (fun x v => Host.reduce IntOp.andi x v reducesTo_S53248x53248_S_d0_1 h_S_) main_v41 main_c_5
  let main_v43 : IVec S960 32 := iotaInDim S960 32 0
  let main_c_6 : IVec S_ 32 := constantI S_ 32 8#32
  let main_v44 : IVec S960 32 := broadcastInDim S960 ![] bcast_S_S960 main_c_6
  let main_v45 : IVec S960 32 := muli main_v44 main_v43
  let main_v46 : IVec S1x53248 32 := broadcastInDim S1x53248 ![1] bcast_S53248_S1x53248_1 main_v1
  let main_v47 : IVec S1x53248 32 := broadcastInDim S1x53248 ![] bcast_S_S1x53248 main_arg4
  let main_v48 : IVec S1x53248 1 := cmpi .slt main_v46 main_v47
  let main_v49 : IVec S1x53248 32 := broadcastInDim S1x53248 ![1] bcast_S53248_S1x53248_1 main_v3
  let main_v50 : IVec S960x1 32 := broadcastInDim S960x1 ![0] bcast_S960_S960x1_0 main_v45
  let main_v51 : IVec S960x53248 32 := broadcastInDim S960x53248 ![0, 1] bcast_S1x53248_S960x53248_0_1 main_v49
  let main_v52 : IVec S960x53248 32 := broadcastInDim S960x53248 ![0, 1] bcast_S960x1_S960x53248_0_1 main_v50
  let main_v53 : IVec S960x53248 1 := cmpi .eq main_v51 main_v52
  let main_v54 : IVec S960x53248 1 := broadcastInDim S960x53248 ![0, 1] bcast_S1x53248_S960x53248_0_1 main_v48
  let main_v55 : IVec S960x53248 1 := andi main_v54 main_v53
  let main_c_7 : IVec S_ 1 := constantI S_ 1 0#1
  let main_v56 : IVec S960 1 := (fun x v => Host.reduce IntOp.ori x v reducesTo_S960x53248_S960_d1 h_S_) main_v55 main_c_7
  let main_c_8 : IVec S_ 1 := constantI S_ 1 1#1
  let main_v57 : IVec S_ 1 := (fun x v => Host.reduce IntOp.andi x v reducesTo_S960_S_d0 h_S_) main_v56 main_c_8
  let main_c_9 : IVec S_ 32 := constantI S_ 32 0#32
  let main_v58 : IVec S60x128 32 := broadcastInDim S60x128 ![] bcast_S_S60x128 main_c_9
  let main_v59 : IVec S60x128 1 := cmpi .sge main_arg3 main_v58
  let main_c_10 : IVec S_ 32 := constantI S_ 32 128#32
  fn_part3 (F := F) main_arg1 main_arg3 main_arg4 main_arg5 main_v16 main_v42 main_v57 main_v59 main_c_10

def fn_part1 {F : FTy → Type} [FloatOps F] (main_arg1 : IVec S212992 32) (main_arg3 : IVec S60x128 32) (main_arg4 : IVec S_ 32) (main_arg5 : IVec S_ 32) (main_v1 : IVec S53248 32) (main_v3 : IVec S53248 32) (main_v7 : IVec S53248 1) (main_v16 : IVec S_ 1) (main_v18 : IVec S53248 1) : IVec S_ 1 :=
  let main_v19 : IVec S53248 1 := andi main_v18 main_v7
  let main_c_4 : IVec S_ 32 := constantI S_ 32 7680#32
  let main_v20 : IVec S53248 32 := broadcastInDim S53248 ![] bcast_S_S53248 main_c_4
  let main_v21 : IVec S53248 1 := cmpi .slt main_v3 main_v20
  let main_v22 : IVec S53248 1 := andi main_v19 main_v21
  let main_v23 : IVec S53248x1 32 := broadcastInDim S53248x1 ![0] bcast_S53248_S53248x1_0 main_v1
  let main_v24 : IVec S1x53248 32 := broadcastInDim S1x53248 ![1] bcast_S53248_S1x53248_1 main_v1
  let main_v25 : IVec S53248x53248 32 := broadcastInDim S53248x53248 ![0, 1] bcast_S53248x1_S53248x53248_0_1 main_v23
  let main_v26 : IVec S53248x53248 32 := broadcastInDim S53248x53248 ![0, 1] bcast_S1x53248_S53248x53248_0_1 main_v24
  let main_v27 : IVec S53248x53248 1 := cmpi .eq main_v25 main_v26
  let main_v28 : IVec S53248x1 1 := broadcastInDim S53248x1 ![0] bcast_S53248_S53248x1_0 main_v22
  let main_v29 : IVec S53248x1 1 := noti main_v28
  let main_v30 : IVec S53248x53248 1 := broadcastInDim S53248x53248 ![0, 1] bcast_S53248x1_S53248x53248_0_1 main_v29
  let main_v31 : IVec S53248x53248 1 := ori main_v27 main_v30
  let main_v32 : IVec S1x53248 1 := broadcastInDim S1x53248 ![1] bcast_S53248_S1x53248_1 main_v22
  let main_v33 : IVec S1x53248 1 := noti main_v32
  let main_v34 : IVec S53248x53248 1 := broadcastInDim S53248x53248 ![0, 1] bcast_S1x53248_S53248x53248_0_1 main_v33
  let main_v35 : IVec S53248x53248 1 := ori main_v31 main_v34
  let main_v36 : IVec S53248x1 32 := broadcastInDim S53248x1 ![0] bcast_S53248_S53248x1_0 main_v3
  let main_v37 : IVec S1x53248 32 := broadcastInDim S1x53248 ![1] bcast_S53248_S1x53248_1 main_v3
  let main_v38 : IVec S53248x53248 32 := broadcastInDim S53248x53248 ![0, 1] bcast_S53248x1_S53248x53248_0_1 main_v36
  let main_v39 : IVec S53248x53248 32 := broadcastInDim S53248x53248 ![0, 1] bcast_S1x53248_S53248x53248_0_1 main_v37
  let main_v40 : IVec S53248x53248 1 := cmpi .ne main_v38 main_v39
  let main_v41 : IVec S53248x53248 1 := ori main_v35 main_v40
  fn_part2 (F := F) main_arg1 main_arg3 main_arg4 main_arg5 main_v1 main_v3 main_v16 main_v41

def fn {F : FTy → Type} [FloatOps F] (main_arg0 : IVec S425984x128 32) (main_arg1 : IVec S212992 32) (main_arg2 : FVec F S6x32x64 .bf16) (main_arg3 : IVec S60x128 32) (main_arg4 : IVec S_ 32) (main_arg5 : IVec S_ 32) (main_arg6 : FVec F S192x30208 .f32) (main_arg7 : FVec F S6x30208 .f32) : IVec S_ 1 :=
  let main_v0 : IVec S53248 32 := (extractStridedSlice S53248 ![106496] · slices_S212992_S53248_106496) main_arg1
  let main_v1 : IVec S53248 32 := iotaInDim S53248 32 0
  let main_c : IVec S_ 32 := constantI S_ 32 1#32
  let main_v2 : IVec S53248 32 := broadcastInDim S53248 ![] bcast_S_S53248 main_c
  let main_v3 : IVec S53248 32 := Host.shrsi main_v0 main_v2
  let main_c_0 : IVec S_ 32 := constantI S_ 32 1#32
  let main_v4 : IVec S53248 32 := broadcastInDim S53248 ![] bcast_S_S53248 main_c_0
  let main_v5 : IVec S53248 32 := andi main_v0 main_v4
  let main_c_1 : IVec S_ 32 := constantI S_ 32 1#32
  let main_v6 : IVec S53248 32 := broadcastInDim S53248 ![] bcast_S_S53248 main_c_1
  let main_v7 : IVec S53248 1 := cmpi .eq main_v5 main_v6
  let main_c_2 : IVec S_ 32 := constantI S_ 32 4294967295#32
  let main_v8 : IVec S1 32 := broadcastInDim S1 ![] bcast_S_S1 main_c_2
  let main_v9 : IVec S53247 32 := (extractStridedSlice S53247 ![0] · slices_S53248_S53247_0) main_v3
  let main_v10 : IVec S53248 32 := (fun a b => concatenate S53248 0 [⟨S1, a⟩, ⟨S53247, b⟩] concatenates_S1_S53247_S53248_d0) main_v8 main_v9
  let main_v11 : IVec S53248 32 := broadcastInDim S53248 ![] bcast_S_S53248 main_arg4
  let main_v12 : IVec S53248 1 := cmpi .sge main_v1 main_v11
  let main_v13 : IVec S53248 1 := ori main_v12 main_v7
  let main_v14 : IVec S53248 1 := cmpi .eq main_v10 main_v3
  let main_v15 : IVec S53248 1 := ori main_v13 main_v14
  let main_c_3 : IVec S_ 1 := constantI S_ 1 1#1
  let main_v16 : IVec S_ 1 := (fun x v => Host.reduce IntOp.andi x v reducesTo_S53248_S_d0 h_S_) main_v15 main_c_3
  let main_v17 : IVec S53248 32 := broadcastInDim S53248 ![] bcast_S_S53248 main_arg4
  let main_v18 : IVec S53248 1 := cmpi .slt main_v1 main_v17
  fn_part1 (F := F) main_arg1 main_arg3 main_arg4 main_arg5 main_v1 main_v3 main_v7 main_v16 main_v18
-- ==== Pre_in_bounds.lean ====
abbrev S425984x128 : Shape := ⟨2, ![425984, 128]⟩
abbrev S212992 : Shape := ⟨1, ![212992]⟩
abbrev S6x32x64 : Shape := ⟨3, ![6, 32, 64]⟩
abbrev S60x128 : Shape := ⟨2, ![60, 128]⟩
abbrev S_ : Shape := ⟨0, ![]⟩
abbrev S192x30208 : Shape := ⟨2, ![192, 30208]⟩
abbrev S6x30208 : Shape := ⟨2, ![6, 30208]⟩
abbrev S53248 : Shape := ⟨1, ![53248]⟩

class Facts : Prop where
  slices_S212992_S53248_53248 : S212992.Slices ![53248] S53248
  bcast_S_S53248 : S_.BroadcastsInDim S53248 (![] : Fin 0 → Fin S53248.rank)
  reducesTo_S53248_S_d0 : S53248.ReducesTo [0] S_
  h_S_ : 0 < S_.numel

variable [Facts]

def fn_part2 {F : FTy → Type} [FloatOps F] (main_v10 : IVec S_ 1) (main_v24 : IVec S_ 1) (main_v35 : IVec S53248 1) (main_c_10 : IVec S_ 1) : IVec S_ 1 :=
  let main_v36 : IVec S_ 1 := (fun x v => Host.reduce IntOp.andi x v reducesTo_S53248_S_d0 h_S_) main_v35 main_c_10
  let main_v37 : IVec S_ 1 := andi main_v10 main_v24
  let main_v38 : IVec S_ 1 := andi main_v37 main_v36
  main_v38

def fn_part1 {F : FTy → Type} [FloatOps F] (main_arg4 : IVec S_ 32) (main_arg5 : IVec S_ 32) (main_v1 : IVec S53248 32) (main_v3 : IVec S53248 32) (main_v10 : IVec S_ 1) (main_v12 : IVec S53248 1) (main_v17 : IVec S53248 1) : IVec S_ 1 :=
  let main_c_5 : IVec S_ 32 := constantI S_ 32 7#32
  let main_v18 : IVec S53248 32 := broadcastInDim S53248 ![] bcast_S_S53248 main_c_5
  let main_v19 : IVec S53248 32 := andi main_v3 main_v18
  let main_c_6 : IVec S_ 32 := constantI S_ 32 0#32
  let main_v20 : IVec S53248 32 := broadcastInDim S53248 ![] bcast_S_S53248 main_c_6
  let main_v21 : IVec S53248 1 := cmpi .eq main_v19 main_v20
  let main_v22 : IVec S53248 1 := andi main_v17 main_v21
  let main_v23 : IVec S53248 1 := ori main_v12 main_v22
  let main_c_7 : IVec S_ 1 := constantI S_ 1 1#1
  let main_v24 : IVec S_ 1 := (fun x v => Host.reduce IntOp.andi x v reducesTo_S53248_S_d0 h_S_) main_v23 main_c_7
  let main_v25 : IVec S53248 32 := broadcastInDim S53248 ![] bcast_S_S53248 main_arg4
  let main_v26 : IVec S53248 1 := cmpi .slt main_v1 main_v25
  let main_v27 : IVec S53248 32 := broadcastInDim S53248 ![] bcast_S_S53248 main_arg5
  let main_v28 : IVec S53248 1 := cmpi .sge main_v1 main_v27
  let main_v29 : IVec S53248 1 := ori main_v26 main_v28
  let main_c_8 : IVec S_ 32 := constantI S_ 32 0#32
  let main_v30 : IVec S53248 32 := broadcastInDim S53248 ![] bcast_S_S53248 main_c_8
  let main_v31 : IVec S53248 1 := cmpi .sge main_v3 main_v30
  let main_c_9 : IVec S_ 32 := constantI S_ 32 7688#32
  let main_v32 : IVec S53248 32 := broadcastInDim S53248 ![] bcast_S_S53248 main_c_9
  let main_v33 : IVec S53248 1 := cmpi .slt main_v3 main_v32
  let main_v34 : IVec S53248 1 := andi main_v31 main_v33
  let main_v35 : IVec S53248 1 := ori main_v29 main_v34
  let main_c_10 : IVec S_ 1 := constantI S_ 1 1#1
  fn_part2 (F := F) main_v10 main_v24 main_v35 main_c_10

def fn {F : FTy → Type} [FloatOps F] (main_arg0 : IVec S425984x128 32) (main_arg1 : IVec S212992 32) (main_arg2 : FVec F S6x32x64 .bf16) (main_arg3 : IVec S60x128 32) (main_arg4 : IVec S_ 32) (main_arg5 : IVec S_ 32) (main_arg6 : FVec F S192x30208 .f32) (main_arg7 : FVec F S6x30208 .f32) : IVec S_ 1 :=
  let main_v0 : IVec S53248 32 := (extractStridedSlice S53248 ![53248] · slices_S212992_S53248_53248) main_arg1
  let main_v1 : IVec S53248 32 := iotaInDim S53248 32 0
  let main_c : IVec S_ 32 := constantI S_ 32 1#32
  let main_v2 : IVec S53248 32 := broadcastInDim S53248 ![] bcast_S_S53248 main_c
  let main_v3 : IVec S53248 32 := Host.shrsi main_v0 main_v2
  let main_c_0 : IVec S_ 32 := constantI S_ 32 1#32
  let main_v4 : IVec S_ 1 := cmpi .sge main_arg5 main_c_0
  let main_c_1 : IVec S_ 32 := constantI S_ 32 53248#32
  let main_v5 : IVec S_ 1 := cmpi .sle main_arg5 main_c_1
  let main_v6 : IVec S_ 1 := andi main_v4 main_v5
  let main_c_2 : IVec S_ 32 := constantI S_ 32 0#32
  let main_v7 : IVec S_ 1 := cmpi .sge main_arg4 main_c_2
  let main_v8 : IVec S_ 1 := andi main_v6 main_v7
  let main_v9 : IVec S_ 1 := cmpi .sle main_arg4 main_arg5
  let main_v10 : IVec S_ 1 := andi main_v8 main_v9
  let main_v11 : IVec S53248 32 := broadcastInDim S53248 ![] bcast_S_S53248 main_arg4
  let main_v12 : IVec S53248 1 := cmpi .sge main_v1 main_v11
  let main_c_3 : IVec S_ 32 := constantI S_ 32 0#32
  let main_v13 : IVec S53248 32 := broadcastInDim S53248 ![] bcast_S_S53248 main_c_3
  let main_v14 : IVec S53248 1 := cmpi .sge main_v3 main_v13
  let main_c_4 : IVec S_ 32 := constantI S_ 32 7680#32
  let main_v15 : IVec S53248 32 := broadcastInDim S53248 ![] bcast_S_S53248 main_c_4
  let main_v16 : IVec S53248 1 := cmpi .sle main_v3 main_v15
  let main_v17 : IVec S53248 1 := andi main_v14 main_v16
  fn_part1 (F := F) main_arg4 main_arg5 main_v1 main_v3 main_v10 main_v12 main_v17
-- ==== Pre_in_bounds_0.lean ====
abbrev S425984x128 : Shape := ⟨2, ![425984, 128]⟩
abbrev S212992 : Shape := ⟨1, ![212992]⟩
abbrev S6x32x64 : Shape := ⟨3, ![6, 32, 64]⟩
abbrev S60x128 : Shape := ⟨2, ![60, 128]⟩
abbrev S_ : Shape := ⟨0, ![]⟩
abbrev S192x30208 : Shape := ⟨2, ![192, 30208]⟩
abbrev S6x30208 : Shape := ⟨2, ![6, 30208]⟩
abbrev S53248 : Shape := ⟨1, ![53248]⟩

class Facts : Prop where
  slices_S212992_S53248_0 : S212992.Slices ![0] S53248
  bcast_S_S53248 : S_.BroadcastsInDim S53248 (![] : Fin 0 → Fin S53248.rank)
  reducesTo_S53248_S_d0 : S53248.ReducesTo [0] S_
  h_S_ : 0 < S_.numel

variable [Facts]

def fn_part2 {F : FTy → Type} [FloatOps F] (main_v10 : IVec S_ 1) (main_v24 : IVec S_ 1) (main_v35 : IVec S53248 1) (main_c_10 : IVec S_ 1) : IVec S_ 1 :=
  let main_v36 : IVec S_ 1 := (fun x v => Host.reduce IntOp.andi x v reducesTo_S53248_S_d0 h_S_) main_v35 main_c_10
  let main_v37 : IVec S_ 1 := andi main_v10 main_v24
  let main_v38 : IVec S_ 1 := andi main_v37 main_v36
  main_v38

def fn_part1 {F : FTy → Type} [FloatOps F] (main_arg4 : IVec S_ 32) (main_arg5 : IVec S_ 32) (main_v1 : IVec S53248 32) (main_v3 : IVec S53248 32) (main_v10 : IVec S_ 1) (main_v12 : IVec S53248 1) (main_v17 : IVec S53248 1) : IVec S_ 1 :=
  let main_c_5 : IVec S_ 32 := constantI S_ 32 7#32
  let main_v18 : IVec S53248 32 := broadcastInDim S53248 ![] bcast_S_S53248 main_c_5
  let main_v19 : IVec S53248 32 := andi main_v3 main_v18
  let main_c_6 : IVec S_ 32 := constantI S_ 32 0#32
  let main_v20 : IVec S53248 32 := broadcastInDim S53248 ![] bcast_S_S53248 main_c_6
  let main_v21 : IVec S53248 1 := cmpi .eq main_v19 main_v20
  let main_v22 : IVec S53248 1 := andi main_v17 main_v21
  let main_v23 : IVec S53248 1 := ori main_v12 main_v22
  let main_c_7 : IVec S_ 1 := constantI S_ 1 1#1
  let main_v24 : IVec S_ 1 := (fun x v => Host.reduce IntOp.andi x v reducesTo_S53248_S_d0 h_S_) main_v23 main_c_7
  let main_v25 : IVec S53248 32 := broadcastInDim S53248 ![] bcast_S_S53248 main_arg4
  let main_v26 : IVec S53248 1 := cmpi .slt main_v1 main_v25
  let main_v27 : IVec S53248 32 := broadcastInDim S53248 ![] bcast_S_S53248 main_arg5
  let main_v28 : IVec S53248 1 := cmpi .sge main_v1 main_v27
  let main_v29 : IVec S53248 1 := ori main_v26 main_v28
  let main_c_8 : IVec S_ 32 := constantI S_ 32 0#32
  let main_v30 : IVec S53248 32 := broadcastInDim S53248 ![] bcast_S_S53248 main_c_8
  let main_v31 : IVec S53248 1 := cmpi .sge main_v3 main_v30
  let main_c_9 : IVec S_ 32 := constantI S_ 32 7688#32
  let main_v32 : IVec S53248 32 := broadcastInDim S53248 ![] bcast_S_S53248 main_c_9
  let main_v33 : IVec S53248 1 := cmpi .slt main_v3 main_v32
  let main_v34 : IVec S53248 1 := andi main_v31 main_v33
  let main_v35 : IVec S53248 1 := ori main_v29 main_v34
  let main_c_10 : IVec S_ 1 := constantI S_ 1 1#1
  fn_part2 (F := F) main_v10 main_v24 main_v35 main_c_10

def fn {F : FTy → Type} [FloatOps F] (main_arg0 : IVec S425984x128 32) (main_arg1 : IVec S212992 32) (main_arg2 : FVec F S6x32x64 .bf16) (main_arg3 : IVec S60x128 32) (main_arg4 : IVec S_ 32) (main_arg5 : IVec S_ 32) (main_arg6 : FVec F S192x30208 .f32) (main_arg7 : FVec F S6x30208 .f32) : IVec S_ 1 :=
  let main_v0 : IVec S53248 32 := (extractStridedSlice S53248 ![0] · slices_S212992_S53248_0) main_arg1
  let main_v1 : IVec S53248 32 := iotaInDim S53248 32 0
  let main_c : IVec S_ 32 := constantI S_ 32 1#32
  let main_v2 : IVec S53248 32 := broadcastInDim S53248 ![] bcast_S_S53248 main_c
  let main_v3 : IVec S53248 32 := Host.shrsi main_v0 main_v2
  let main_c_0 : IVec S_ 32 := constantI S_ 32 1#32
  let main_v4 : IVec S_ 1 := cmpi .sge main_arg5 main_c_0
  let main_c_1 : IVec S_ 32 := constantI S_ 32 53248#32
  let main_v5 : IVec S_ 1 := cmpi .sle main_arg5 main_c_1
  let main_v6 : IVec S_ 1 := andi main_v4 main_v5
  let main_c_2 : IVec S_ 32 := constantI S_ 32 0#32
  let main_v7 : IVec S_ 1 := cmpi .sge main_arg4 main_c_2
  let main_v8 : IVec S_ 1 := andi main_v6 main_v7
  let main_v9 : IVec S_ 1 := cmpi .sle main_arg4 main_arg5
  let main_v10 : IVec S_ 1 := andi main_v8 main_v9
  let main_v11 : IVec S53248 32 := broadcastInDim S53248 ![] bcast_S_S53248 main_arg4
  let main_v12 : IVec S53248 1 := cmpi .sge main_v1 main_v11
  let main_c_3 : IVec S_ 32 := constantI S_ 32 0#32
  let main_v13 : IVec S53248 32 := broadcastInDim S53248 ![] bcast_S_S53248 main_c_3
  let main_v14 : IVec S53248 1 := cmpi .sge main_v3 main_v13
  let main_c_4 : IVec S_ 32 := constantI S_ 32 7680#32
  let main_v15 : IVec S53248 32 := broadcastInDim S53248 ![] bcast_S_S53248 main_c_4
  let main_v16 : IVec S53248 1 := cmpi .sle main_v3 main_v15
  let main_v17 : IVec S53248 1 := andi main_v14 main_v16
  fn_part1 (F := F) main_arg4 main_arg5 main_v1 main_v3 main_v10 main_v12 main_v17
-- ==== Pre_in_bounds_2.lean ====
abbrev S425984x128 : Shape := ⟨2, ![425984, 128]⟩
abbrev S212992 : Shape := ⟨1, ![212992]⟩
abbrev S6x32x64 : Shape := ⟨3, ![6, 32, 64]⟩
abbrev S60x128 : Shape := ⟨2, ![60, 128]⟩
abbrev S_ : Shape := ⟨0, ![]⟩
abbrev S192x30208 : Shape := ⟨2, ![192, 30208]⟩
abbrev S6x30208 : Shape := ⟨2, ![6, 30208]⟩
abbrev S53248 : Shape := ⟨1, ![53248]⟩

class Facts : Prop where
  slices_S212992_S53248_106496 : S212992.Slices ![106496] S53248
  bcast_S_S53248 : S_.BroadcastsInDim S53248 (![] : Fin 0 → Fin S53248.rank)
  reducesTo_S53248_S_d0 : S53248.ReducesTo [0] S_
  h_S_ : 0 < S_.numel

variable [Facts]

def fn_part2 {F : FTy → Type} [FloatOps F] (main_v10 : IVec S_ 1) (main_v24 : IVec S_ 1) (main_v35 : IVec S53248 1) (main_c_10 : IVec S_ 1) : IVec S_ 1 :=
  let main_v36 : IVec S_ 1 := (fun x v => Host.reduce IntOp.andi x v reducesTo_S53248_S_d0 h_S_) main_v35 main_c_10
  let main_v37 : IVec S_ 1 := andi main_v10 main_v24
  let main_v38 : IVec S_ 1 := andi main_v37 main_v36
  main_v38

def fn_part1 {F : FTy → Type} [FloatOps F] (main_arg4 : IVec S_ 32) (main_arg5 : IVec S_ 32) (main_v1 : IVec S53248 32) (main_v3 : IVec S53248 32) (main_v10 : IVec S_ 1) (main_v12 : IVec S53248 1) (main_v17 : IVec S53248 1) : IVec S_ 1 :=
  let main_c_5 : IVec S_ 32 := constantI S_ 32 7#32
  let main_v18 : IVec S53248 32 := broadcastInDim S53248 ![] bcast_S_S53248 main_c_5
  let main_v19 : IVec S53248 32 := andi main_v3 main_v18
  let main_c_6 : IVec S_ 32 := constantI S_ 32 0#32
  let main_v20 : IVec S53248 32 := broadcastInDim S53248 ![] bcast_S_S53248 main_c_6
  let main_v21 : IVec S53248 1 := cmpi .eq main_v19 main_v20
  let main_v22 : IVec S53248 1 := andi main_v17 main_v21
  let main_v23 : IVec S53248 1 := ori main_v12 main_v22
  let main_c_7 : IVec S_ 1 := constantI S_ 1 1#1
  let main_v24 : IVec S_ 1 := (fun x v => Host.reduce IntOp.andi x v reducesTo_S53248_S_d0 h_S_) main_v23 main_c_7
  let main_v25 : IVec S53248 32 := broadcastInDim S53248 ![] bcast_S_S53248 main_arg4
  let main_v26 : IVec S53248 1 := cmpi .slt main_v1 main_v25
  let main_v27 : IVec S53248 32 := broadcastInDim S53248 ![] bcast_S_S53248 main_arg5
  let main_v28 : IVec S53248 1 := cmpi .sge main_v1 main_v27
  let main_v29 : IVec S53248 1 := ori main_v26 main_v28
  let main_c_8 : IVec S_ 32 := constantI S_ 32 0#32
  let main_v30 : IVec S53248 32 := broadcastInDim S53248 ![] bcast_S_S53248 main_c_8
  let main_v31 : IVec S53248 1 := cmpi .sge main_v3 main_v30
  let main_c_9 : IVec S_ 32 := constantI S_ 32 7688#32
  let main_v32 : IVec S53248 32 := broadcastInDim S53248 ![] bcast_S_S53248 main_c_9
  let main_v33 : IVec S53248 1 := cmpi .slt main_v3 main_v32
  let main_v34 : IVec S53248 1 := andi main_v31 main_v33
  let main_v35 : IVec S53248 1 := ori main_v29 main_v34
  let main_c_10 : IVec S_ 1 := constantI S_ 1 1#1
  fn_part2 (F := F) main_v10 main_v24 main_v35 main_c_10

def fn {F : FTy → Type} [FloatOps F] (main_arg0 : IVec S425984x128 32) (main_arg1 : IVec S212992 32) (main_arg2 : FVec F S6x32x64 .bf16) (main_arg3 : IVec S60x128 32) (main_arg4 : IVec S_ 32) (main_arg5 : IVec S_ 32) (main_arg6 : FVec F S192x30208 .f32) (main_arg7 : FVec F S6x30208 .f32) : IVec S_ 1 :=
  let main_v0 : IVec S53248 32 := (extractStridedSlice S53248 ![106496] · slices_S212992_S53248_106496) main_arg1
  let main_v1 : IVec S53248 32 := iotaInDim S53248 32 0
  let main_c : IVec S_ 32 := constantI S_ 32 1#32
  let main_v2 : IVec S53248 32 := broadcastInDim S53248 ![] bcast_S_S53248 main_c
  let main_v3 : IVec S53248 32 := Host.shrsi main_v0 main_v2
  let main_c_0 : IVec S_ 32 := constantI S_ 32 1#32
  let main_v4 : IVec S_ 1 := cmpi .sge main_arg5 main_c_0
  let main_c_1 : IVec S_ 32 := constantI S_ 32 53248#32
  let main_v5 : IVec S_ 1 := cmpi .sle main_arg5 main_c_1
  let main_v6 : IVec S_ 1 := andi main_v4 main_v5
  let main_c_2 : IVec S_ 32 := constantI S_ 32 0#32
  let main_v7 : IVec S_ 1 := cmpi .sge main_arg4 main_c_2
  let main_v8 : IVec S_ 1 := andi main_v6 main_v7
  let main_v9 : IVec S_ 1 := cmpi .sle main_arg4 main_arg5
  let main_v10 : IVec S_ 1 := andi main_v8 main_v9
  let main_v11 : IVec S53248 32 := broadcastInDim S53248 ![] bcast_S_S53248 main_arg4
  let main_v12 : IVec S53248 1 := cmpi .sge main_v1 main_v11
  let main_c_3 : IVec S_ 32 := constantI S_ 32 0#32
  let main_v13 : IVec S53248 32 := broadcastInDim S53248 ![] bcast_S_S53248 main_c_3
  let main_v14 : IVec S53248 1 := cmpi .sge main_v3 main_v13
  let main_c_4 : IVec S_ 32 := constantI S_ 32 7680#32
  let main_v15 : IVec S53248 32 := broadcastInDim S53248 ![] bcast_S_S53248 main_c_4
  let main_v16 : IVec S53248 1 := cmpi .sle main_v3 main_v15
  let main_v17 : IVec S53248 1 := andi main_v14 main_v16
  fn_part1 (F := F) main_arg4 main_arg5 main_v1 main_v3 main_v10 main_v12 main_v17
-- ==== Kernel.lean ====
abbrev S425984x128 : Shape := ⟨2, ![425984, 128]⟩
abbrev S212992 : Shape := ⟨1, ![212992]⟩
abbrev S6x32x64 : Shape := ⟨3, ![6, 32, 64]⟩
abbrev S60x128 : Shape := ⟨2, ![60, 128]⟩
abbrev S_ : Shape := ⟨0, ![]⟩
abbrev S192x30208 : Shape := ⟨2, ![192, 30208]⟩
abbrev S6x30208 : Shape := ⟨2, ![6, 30208]⟩
abbrev S192x2x32 : Shape := ⟨3, ![192, 2, 32]⟩
abbrev S2x32x192 : Shape := ⟨3, ![2, 32, 192]⟩
abbrev S4x4 : Shape := ⟨2, ![4, 4]⟩
abbrev S2x1x32x1x192 : Shape := ⟨5, ![2, 1, 32, 1, 192]⟩
abbrev S1x4x1x4x1 : Shape := ⟨5, ![1, 4, 1, 4, 1]⟩
abbrev S2x4x32x4x192 : Shape := ⟨5, ![2, 4, 32, 4, 192]⟩
abbrev S2x4x32x4x128 : Shape := ⟨5, ![2, 4, 32, 4, 128]⟩
abbrev S256x512 : Shape := ⟨2, ![256, 512]⟩
abbrev S2x4x32x4x64 : Shape := ⟨5, ![2, 4, 32, 4, 64]⟩
abbrev S256x256 : Shape := ⟨2, ![256, 256]⟩
abbrev S256x768 : Shape := ⟨2, ![256, 768]⟩
abbrev S1 : Shape := ⟨1, ![1]⟩
abbrev S3 : Shape := ⟨1, ![3]⟩
abbrev S1024x128 : Shape := ⟨2, ![1024, 128]⟩
abbrev S128 : Shape := ⟨1, ![128]⟩
abbrev S192x512 : Shape := ⟨2, ![192, 512]⟩
abbrev S6x512 : Shape := ⟨2, ![6, 512]⟩
abbrev S7688x256 : Shape := ⟨2, ![7688, 256]⟩
abbrev S2x8x128 : Shape := ⟨3, ![2, 8, 128]⟩
abbrev S1024x768 : Shape := ⟨2, ![1024, 768]⟩
abbrev S1024x256 : Shape := ⟨2, ![1024, 256]⟩
abbrev S1x8x128 : Shape := ⟨3, ![1, 8, 128]⟩
abbrev S8x128 : Shape := ⟨2, ![8, 128]⟩
abbrev S8x768 : Shape := ⟨2, ![8, 768]⟩
abbrev S8x256 : Shape := ⟨2, ![8, 256]⟩
abbrev S1x256 : Shape := ⟨2, ![1, 256]⟩
abbrev S256 : Shape := ⟨1, ![256]⟩
abbrev S128x128 : Shape := ⟨2, ![128, 128]⟩
abbrev S64x128 : Shape := ⟨2, ![64, 128]⟩
abbrev S192x128 : Shape := ⟨2, ![192, 128]⟩
abbrev S1x128 : Shape := ⟨2, ![1, 128]⟩
abbrev S192x128x1 : Shape := ⟨3, ![192, 128, 1]⟩
abbrev S6x32x128 : Shape := ⟨3, ![6, 32, 128]⟩
abbrev S6x128 : Shape := ⟨2, ![6, 128]⟩

abbrev nBuf : Space → Nat
  | .hbm => 50
  | .vmem => 11
  | .smem => 4
  | _ => 0

abbrev bufTy : (tb : Table) → Fin (tcTables nBuf tb) → BufTy
  | .hbm, ⟨0, _⟩ => ⟨S425984x128, .i32⟩
  | .hbm, ⟨1, _⟩ => ⟨S212992, .i32⟩
  | .hbm, ⟨2, _⟩ => ⟨S6x32x64, .bf16⟩
  | .hbm, ⟨3, _⟩ => ⟨S60x128, .i32⟩
  | .hbm, ⟨4, _⟩ => ⟨S_, .i32⟩
  | .hbm, ⟨5, _⟩ => ⟨S_, .i32⟩
  | .hbm, ⟨6, _⟩ => ⟨S192x30208, .f32⟩
  | .hbm, ⟨7, _⟩ => ⟨S6x30208, .f32⟩
  | .hbm, ⟨8, _⟩ => ⟨S192x2x32, .bf16⟩
  | .hbm, ⟨9, _⟩ => ⟨S2x32x192, .bf16⟩
  | .hbm, ⟨10, _⟩ => ⟨S4x4, .i32⟩
  | .hbm, ⟨11, _⟩ => ⟨S4x4, .i32⟩
  | .hbm, ⟨12, _⟩ => ⟨S_, .i32⟩
  | .hbm, ⟨13, _⟩ => ⟨S4x4, .i32⟩
  | .hbm, ⟨14, _⟩ => ⟨S4x4, .i32⟩
  | .hbm, ⟨15, _⟩ => ⟨S4x4, .i1⟩
  | .hbm, ⟨16, _⟩ => ⟨S4x4, .bf16⟩
  | .hbm, ⟨17, _⟩ => ⟨S2x1x32x1x192, .bf16⟩
  | .hbm, ⟨18, _⟩ => ⟨S1x4x1x4x1, .bf16⟩
  | .hbm, ⟨19, _⟩ => ⟨S2x4x32x4x192, .bf16⟩
  | .hbm, ⟨20, _⟩ => ⟨S2x4x32x4x192, .bf16⟩
  | .hbm, ⟨21, _⟩ => ⟨S2x4x32x4x192, .bf16⟩
  | .hbm, ⟨22, _⟩ => ⟨S2x4x32x4x128, .bf16⟩
  | .hbm, ⟨23, _⟩ => ⟨S256x512, .bf16⟩
  | .hbm, ⟨24, _⟩ => ⟨S2x4x32x4x64, .bf16⟩
  | .hbm, ⟨25, _⟩ => ⟨S256x256, .bf16⟩
  | .hbm, ⟨26, _⟩ => ⟨S256x768, .bf16⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1, .i32⟩
  | .hbm, ⟨45, _⟩ => ⟨S1, .i32⟩
  | .hbm, ⟨46, _⟩ => ⟨S1, .i32⟩
  | .hbm, ⟨47, _⟩ => ⟨S_, .i32⟩
  | .hbm, ⟨48, _⟩ => ⟨S192x30208, .f32⟩
  | .hbm, ⟨49, _⟩ => ⟨S6x30208, .f32⟩
  | .local _ .vmem, ⟨0, _⟩ => ⟨S1024x128, .i32⟩
  | .local _ .vmem, ⟨1, _⟩ => ⟨S1024x128, .i32⟩
  | .local _ .vmem, ⟨2, _⟩ => ⟨S256x768, .bf16⟩
  | .local _ .vmem, ⟨3, _⟩ => ⟨S60x128, .i32⟩
  | .local _ .vmem, ⟨4, _⟩ => ⟨S192x512, .f32⟩
  | .local _ .vmem, ⟨5, _⟩ => ⟨S192x512, .f32⟩
  | .local _ .vmem, ⟨6, _⟩ => ⟨S6x512, .f32⟩
  | .local _ .vmem, ⟨7, _⟩ => ⟨S6x512, .f32⟩
  | .local _ .vmem, ⟨8, _⟩ => ⟨S7688x256, .f32⟩
  | .local _ .vmem, ⟨9, _⟩ => ⟨S2x8x128, .f32⟩
  | .local _ .vmem, ⟨10, _⟩ => ⟨S1024x768, .f32⟩
  | .local _ .smem, ⟨0, _⟩ => ⟨S_, .i32⟩
  | .local _ .smem, ⟨1, _⟩ => ⟨S3, .i32⟩
  | .local _ .smem, ⟨2, _⟩ => ⟨S128, .i32⟩
  | .local _ .smem, ⟨3, _⟩ => ⟨S128, .i32⟩
  | _, _ => ⟨S425984x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_0 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_c_2 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c : Ref sig .tc := ⟨.hbm, 38, rfl⟩
abbrev main_call0_v6 : Ref sig .tc := ⟨.hbm, 39, rfl⟩
abbrev main_call0_v7 : Ref sig .tc := ⟨.hbm, 40, rfl⟩
abbrev main_call0_c_0 : Ref sig .tc := ⟨.hbm, 41, rfl⟩
abbrev main_call0_v8 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_3 : Ref sig .tc := ⟨.hbm, 47, rfl⟩
abbrev main_v26_0 : Ref sig .tc := ⟨.hbm, 48, rfl⟩
abbrev main_v26_1 : Ref sig .tc := ⟨.hbm, 49, rfl⟩
abbrev main_v25 : Ref sig .tc := ⟨.smem, 0, rfl⟩
abbrev main_v24 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![0], ![true]⟩

abbrev pre0 : Pipeline.Prefetch sig := ⟨2, ![main_v25.idx, main_v24.idx], fun | 0 => main_v25.names | 1 => main_v24.names | ⟨_ + 2, h⟩ => absurd h (Nat.not_lt.2 (Nat.le_add_left _ _)), fun | 0 => rfl | 1 => rfl | ⟨_ + 2, h⟩ => absurd h (Nat.not_lt.2 (Nat.le_add_left _ _))⟩

def dynb0 (pf : pre0.Contents (Elt F)) : grid0.Bounds := ![(pf 0 fun a => a.elim0).toNat]

def k0_mult1 (v35 : BitVec 32) : BitVec 32 :=
  let c1_i32_19 : BitVec 32 := 1#32
  let v55 : BitVec 32 := Scalar.shrsi v35 c1_i32_19
  v55
def k0_cond1 (arg0 : BitVec 32) (v1 : BitVec 32) : BitVec 1 :=
  let c1_i32 : BitVec 32 := 1#32
  let v3 : BitVec 32 := Scalar.addi arg0 c1_i32
  let c128_i32 : BitVec 32 := 128#32
  let v4 : BitVec 32 := Scalar.muli v3 c128_i32
  let v5 : BitVec 1 := Scalar.cmpi .sle v4 v1
  let v6 : BitVec 32 := Scalar.extui v5
  let c0_i32 : BitVec 32 := 0#32
  let v7 : BitVec 1 := Scalar.cmpi .ne v6 c0_i32
  v7

def k0_off1 (v35 : BitVec 32) : Fin 2 → Nat :=
  let c1_i32_19 : BitVec 32 := 1#32
  let v55 : BitVec 32 := Scalar.shrsi v35 c1_i32_19
  let v56 : BitVec 32 := v55
  let v57 : Index := Scalar.indexCast v56
  let c0_20 : Index := 0#32
  ![v57.toNat, 0]
def k0_off2 (v35 : BitVec 32) : Fin 2 → Nat :=
  let c1_i32_19 : BitVec 32 := 1#32
  let v55 : BitVec 32 := Scalar.shrsi v35 c1_i32_19
  let v56 : BitVec 32 := v55
  let v61 : Index := Scalar.indexCast v56
  let c128 : Index := 128#32
  ![v61.toNat, 128]

def k0_chk1 (arg0 : BitVec 32) (v1 : BitVec 32) (v35 : BitVec 32) : Prop :=
  (∀ (k0_h1 : k0_cond1 arg0 v1 = 1#1), 8 ∣ (k0_mult1 v35).toNat) ∧
  (∀ (k0_h1 : k0_cond1 arg0 v1 = 1#1), ∀ a, (k0_off1 v35) a + S8x128.size a ≤ S7688x256.size a) ∧
  (∀ (k0_h1 : k0_cond1 arg0 v1 = 1#1), ∀ a, (k0_off2 v35) a + S8x128.size a ≤ S7688x256.size a)
theorem k0_mult1_dvd : ∀ (arg0 : BitVec 32) (v1 : BitVec 32) (v35 : BitVec 32) (k0_hw1 : k0_chk1 arg0 v1 v35), ∀ (k0_h1 : k0_cond1 arg0 v1 = 1#1), 8 ∣ (k0_mult1 v35).toNat := fun arg0 v1 v35 k0_hw1 k0_h1 => k0_hw1.1 k0_h1
theorem k0_off1_inb : ∀ (arg0 : BitVec 32) (v1 : BitVec 32) (v35 : BitVec 32) (k0_hw1 : k0_chk1 arg0 v1 v35), ∀ (k0_h1 : k0_cond1 arg0 v1 = 1#1), ∀ a, (k0_off1 v35) a + S8x128.size a ≤ S7688x256.size a := fun arg0 v1 v35 k0_hw1 k0_h1 => k0_hw1.2.1 k0_h1
theorem k0_off2_inb : ∀ (arg0 : BitVec 32) (v1 : BitVec 32) (v35 : BitVec 32) (k0_hw1 : k0_chk1 arg0 v1 v35), ∀ (k0_h1 : k0_cond1 arg0 v1 = 1#1), ∀ a, (k0_off2 v35) a + S8x128.size a ≤ S7688x256.size a := fun arg0 v1 v35 k0_hw1 k0_h1 => k0_hw1.2.2 k0_h1

def k0_mult2 (v65 : BitVec 32) : BitVec 32 :=
  let c1_i32_26 : BitVec 32 := 1#32
  let v85 : BitVec 32 := Scalar.shrsi v65 c1_i32_26
  v85

def k0_off3 (v65 : BitVec 32) : Fin 2 → Nat :=
  let c1_i32_26 : BitVec 32 := 1#32
  let v85 : BitVec 32 := Scalar.shrsi v65 c1_i32_26
  let v86 : BitVec 32 := v85
  let v87 : Index := Scalar.indexCast v86
  let c0_27 : Index := 0#32
  ![v87.toNat, 0]
def k0_off4 (v65 : BitVec 32) : Fin 2 → Nat :=
  let c1_i32_26 : BitVec 32 := 1#32
  let v85 : BitVec 32 := Scalar.shrsi v65 c1_i32_26
  let v86 : BitVec 32 := v85
  let v91 : Index := Scalar.indexCast v86
  let c128_28 : Index := 128#32
  ![v91.toNat, 128]

def k0_chk2 (arg0 : BitVec 32) (v1 : BitVec 32) (v65 : BitVec 32) : Prop :=
  (∀ (k0_h1 : k0_cond1 arg0 v1 = 1#1), 8 ∣ (k0_mult2 v65).toNat) ∧
  (∀ (k0_h1 : k0_cond1 arg0 v1 = 1#1), ∀ a, (k0_off3 v65) a + S8x128.size a ≤ S7688x256.size a) ∧
  (∀ (k0_h1 : k0_cond1 arg0 v1 = 1#1), ∀ a, (k0_off4 v65) a + S8x128.size a ≤ S7688x256.size a)
theorem k0_mult2_dvd : ∀ (arg0 : BitVec 32) (v1 : BitVec 32) (v65 : BitVec 32) (k0_hw2 : k0_chk2 arg0 v1 v65), ∀ (k0_h1 : k0_cond1 arg0 v1 = 1#1), 8 ∣ (k0_mult2 v65).toNat := fun arg0 v1 v65 k0_hw2 k0_h1 => k0_hw2.1 k0_h1
theorem k0_off3_inb : ∀ (arg0 : BitVec 32) (v1 : BitVec 32) (v65 : BitVec 32) (k0_hw2 : k0_chk2 arg0 v1 v65), ∀ (k0_h1 : k0_cond1 arg0 v1 = 1#1), ∀ a, (k0_off3 v65) a + S8x128.size a ≤ S7688x256.size a := fun arg0 v1 v65 k0_hw2 k0_h1 => k0_hw2.2.1 k0_h1
theorem k0_off4_inb : ∀ (arg0 : BitVec 32) (v1 : BitVec 32) (v65 : BitVec 32) (k0_hw2 : k0_chk2 arg0 v1 v65), ∀ (k0_h1 : k0_cond1 arg0 v1 = 1#1), ∀ a, (k0_off4 v65) a + S8x128.size a ≤ S7688x256.size a := fun arg0 v1 v65 k0_hw2 k0_h1 => k0_hw2.2.2 k0_h1

def k0_mult3 (v95 : BitVec 32) : BitVec 32 :=
  let c1_i32_34 : BitVec 32 := 1#32
  let v115 : BitVec 32 := Scalar.shrsi v95 c1_i32_34
  v115

def k0_off5 (v95 : BitVec 32) : Fin 2 → Nat :=
  let c1_i32_34 : BitVec 32 := 1#32
  let v115 : BitVec 32 := Scalar.shrsi v95 c1_i32_34
  let v116 : BitVec 32 := v115
  let v117 : Index := Scalar.indexCast v116
  let c0_35 : Index := 0#32
  ![v117.toNat, 0]
def k0_off6 (v95 : BitVec 32) : Fin 2 → Nat :=
  let c1_i32_34 : BitVec 32 := 1#32
  let v115 : BitVec 32 := Scalar.shrsi v95 c1_i32_34
  let v116 : BitVec 32 := v115
  let v121 : Index := Scalar.indexCast v116
  let c128_36 : Index := 128#32
  ![v121.toNat, 128]

def k0_chk3 (arg0 : BitVec 32) (v1 : BitVec 32) (v95 : BitVec 32) : Prop :=
  (∀ (k0_h1 : k0_cond1 arg0 v1 = 1#1), 8 ∣ (k0_mult3 v95).toNat) ∧
  (∀ (k0_h1 : k0_cond1 arg0 v1 = 1#1), ∀ a, (k0_off5 v95) a + S8x128.size a ≤ S7688x256.size a) ∧
  (∀ (k0_h1 : k0_cond1 arg0 v1 = 1#1), ∀ a, (k0_off6 v95) a + S8x128.size a ≤ S7688x256.size a)
theorem k0_mult3_dvd : ∀ (arg0 : BitVec 32) (v1 : BitVec 32) (v95 : BitVec 32) (k0_hw3 : k0_chk3 arg0 v1 v95), ∀ (k0_h1 : k0_cond1 arg0 v1 = 1#1), 8 ∣ (k0_mult3 v95).toNat := fun arg0 v1 v95 k0_hw3 k0_h1 => k0_hw3.1 k0_h1
theorem k0_off5_inb : ∀ (arg0 : BitVec 32) (v1 : BitVec 32) (v95 : BitVec 32) (k0_hw3 : k0_chk3 arg0 v1 v95), ∀ (k0_h1 : k0_cond1 arg0 v1 = 1#1), ∀ a, (k0_off5 v95) a + S8x128.size a ≤ S7688x256.size a := fun arg0 v1 v95 k0_hw3 k0_h1 => k0_hw3.2.1 k0_h1
theorem k0_off6_inb : ∀ (arg0 : BitVec 32) (v1 : BitVec 32) (v95 : BitVec 32) (k0_hw3 : k0_chk3 arg0 v1 v95), ∀ (k0_h1 : k0_cond1 arg0 v1 = 1#1), ∀ a, (k0_off6 v95) a + S8x128.size a ≤ S7688x256.size a := fun arg0 v1 v95 k0_hw3 k0_h1 => k0_hw3.2.2 k0_h1

def k0_mult4 (v125 : BitVec 32) : BitVec 32 :=
  let c1_i32_41 : BitVec 32 := 1#32
  let v145 : BitVec 32 := Scalar.shrsi v125 c1_i32_41
  v145

def k0_off7 (v125 : BitVec 32) : Fin 2 → Nat :=
  let c1_i32_41 : BitVec 32 := 1#32
  let v145 : BitVec 32 := Scalar.shrsi v125 c1_i32_41
  let v146 : BitVec 32 := v145
  let v147 : Index := Scalar.indexCast v146
  let c0_42 : Index := 0#32
  ![v147.toNat, 0]
def k0_off8 (v125 : BitVec 32) : Fin 2 → Nat :=
  let c1_i32_41 : BitVec 32 := 1#32
  let v145 : BitVec 32 := Scalar.shrsi v125 c1_i32_41
  let v146 : BitVec 32 := v145
  let v151 : Index := Scalar.indexCast v146
  let c128_43 : Index := 128#32
  ![v151.toNat, 128]

def k0_chk4 (arg0 : BitVec 32) (v1 : BitVec 32) (v125 : BitVec 32) : Prop :=
  (∀ (k0_h1 : k0_cond1 arg0 v1 = 1#1), 8 ∣ (k0_mult4 v125).toNat) ∧
  (∀ (k0_h1 : k0_cond1 arg0 v1 = 1#1), ∀ a, (k0_off7 v125) a + S8x128.size a ≤ S7688x256.size a) ∧
  (∀ (k0_h1 : k0_cond1 arg0 v1 = 1#1), ∀ a, (k0_off8 v125) a + S8x128.size a ≤ S7688x256.size a)
theorem k0_mult4_dvd : ∀ (arg0 : BitVec 32) (v1 : BitVec 32) (v125 : BitVec 32) (k0_hw4 : k0_chk4 arg0 v1 v125), ∀ (k0_h1 : k0_cond1 arg0 v1 = 1#1), 8 ∣ (k0_mult4 v125).toNat := fun arg0 v1 v125 k0_hw4 k0_h1 => k0_hw4.1 k0_h1
theorem k0_off7_inb : ∀ (arg0 : BitVec 32) (v1 : BitVec 32) (v125 : BitVec 32) (k0_hw4 : k0_chk4 arg0 v1 v125), ∀ (k0_h1 : k0_cond1 arg0 v1 = 1#1), ∀ a, (k0_off7 v125) a + S8x128.size a ≤ S7688x256.size a := fun arg0 v1 v125 k0_hw4 k0_h1 => k0_hw4.2.1 k0_h1
theorem k0_off8_inb : ∀ (arg0 : BitVec 32) (v1 : BitVec 32) (v125 : BitVec 32) (k0_hw4 : k0_chk4 arg0 v1 v125), ∀ (k0_h1 : k0_cond1 arg0 v1 = 1#1), ∀ a, (k0_off8 v125) a + S8x128.size a ≤ S7688x256.size a := fun arg0 v1 v125 k0_hw4 k0_h1 => k0_hw4.2.2 k0_h1

def k0_mult5 (v155 : BitVec 32) : BitVec 32 :=
  let c1_i32_48 : BitVec 32 := 1#32
  let v175 : BitVec 32 := Scalar.shrsi v155 c1_i32_48
  v175

def k0_off9 (v155 : BitVec 32) : Fin 2 → Nat :=
  let c1_i32_48 : BitVec 32 := 1#32
  let v175 : BitVec 32 := Scalar.shrsi v155 c1_i32_48
  let v176 : BitVec 32 := v175
  let v177 : Index := Scalar.indexCast v176
  let c0_49 : Index := 0#32
  ![v177.toNat, 0]
def k0_off10 (v155 : BitVec 32) : Fin 2 → Nat :=
  let c1_i32_48 : BitVec 32 := 1#32
  let v175 : BitVec 32 := Scalar.shrsi v155 c1_i32_48
  let v176 : BitVec 32 := v175
  let v181 : Index := Scalar.indexCast v176
  let c128_50 : Index := 128#32
  ![v181.toNat, 128]

def k0_chk5 (arg0 : BitVec 32) (v1 : BitVec 32) (v155 : BitVec 32) : Prop :=
  (∀ (k0_h1 : k0_cond1 arg0 v1 = 1#1), 8 ∣ (k0_mult5 v155).toNat) ∧
  (∀ (k0_h1 : k0_cond1 arg0 v1 = 1#1), ∀ a, (k0_off9 v155) a + S8x128.size a ≤ S7688x256.size a) ∧
  (∀ (k0_h1 : k0_cond1 arg0 v1 = 1#1), ∀ a, (k0_off10 v155) a + S8x128.size a ≤ S7688x256.size a)
theorem k0_mult5_dvd : ∀ (arg0 : BitVec 32) (v1 : BitVec 32) (v155 : BitVec 32) (k0_hw5 : k0_chk5 arg0 v1 v155), ∀ (k0_h1 : k0_cond1 arg0 v1 = 1#1), 8 ∣ (k0_mult5 v155).toNat := fun arg0 v1 v155 k0_hw5 k0_h1 => k0_hw5.1 k0_h1
theorem k0_off9_inb : ∀ (arg0 : BitVec 32) (v1 : BitVec 32) (v155 : BitVec 32) (k0_hw5 : k0_chk5 arg0 v1 v155), ∀ (k0_h1 : k0_cond1 arg0 v1 = 1#1), ∀ a, (k0_off9 v155) a + S8x128.size a ≤ S7688x256.size a := fun arg0 v1 v155 k0_hw5 k0_h1 => k0_hw5.2.1 k0_h1
theorem k0_off10_inb : ∀ (arg0 : BitVec 32) (v1 : BitVec 32) (v155 : BitVec 32) (k0_hw5 : k0_chk5 arg0 v1 v155), ∀ (k0_h1 : k0_cond1 arg0 v1 = 1#1), ∀ a, (k0_off10 v155) a + S8x128.size a ≤ S7688x256.size a := fun arg0 v1 v155 k0_hw5 k0_h1 => k0_hw5.2.2 k0_h1

def k0_mult6 (v185 : BitVec 32) : BitVec 32 :=
  let c1_i32_55 : BitVec 32 := 1#32
  let v205 : BitVec 32 := Scalar.shrsi v185 c1_i32_55
  v205

def k0_off11 (v185 : BitVec 32) : Fin 2 → Nat :=
  let c1_i32_55 : BitVec 32 := 1#32
  let v205 : BitVec 32 := Scalar.shrsi v185 c1_i32_55
  let v206 : BitVec 32 := v205
  let v207 : Index := Scalar.indexCast v206
  let c0_56 : Index := 0#32
  ![v207.toNat, 0]
def k0_off12 (v185 : BitVec 32) : Fin 2 → Nat :=
  let c1_i32_55 : BitVec 32 := 1#32
  let v205 : BitVec 32 := Scalar.shrsi v185 c1_i32_55
  let v206 : BitVec 32 := v205
  let v211 : Index := Scalar.indexCast v206
  let c128_57 : Index := 128#32
  ![v211.toNat, 128]

def k0_chk6 (arg0 : BitVec 32) (v1 : BitVec 32) (v185 : BitVec 32) : Prop :=
  (∀ (k0_h1 : k0_cond1 arg0 v1 = 1#1), 8 ∣ (k0_mult6 v185).toNat) ∧
  (∀ (k0_h1 : k0_cond1 arg0 v1 = 1#1), ∀ a, (k0_off11 v185) a + S8x128.size a ≤ S7688x256.size a) ∧
  (∀ (k0_h1 : k0_cond1 arg0 v1 = 1#1), ∀ a, (k0_off12 v185) a + S8x128.size a ≤ S7688x256.size a)
theorem k0_mult6_dvd : ∀ (arg0 : BitVec 32) (v1 : BitVec 32) (v185 : BitVec 32) (k0_hw6 : k0_chk6 arg0 v1 v185), ∀ (k0_h1 : k0_cond1 arg0 v1 = 1#1), 8 ∣ (k0_mult6 v185).toNat := fun arg0 v1 v185 k0_hw6 k0_h1 => k0_hw6.1 k0_h1
theorem k0_off11_inb : ∀ (arg0 : BitVec 32) (v1 : BitVec 32) (v185 : BitVec 32) (k0_hw6 : k0_chk6 arg0 v1 v185), ∀ (k0_h1 : k0_cond1 arg0 v1 = 1#1), ∀ a, (k0_off11 v185) a + S8x128.size a ≤ S7688x256.size a := fun arg0 v1 v185 k0_hw6 k0_h1 => k0_hw6.2.1 k0_h1
theorem k0_off12_inb : ∀ (arg0 : BitVec 32) (v1 : BitVec 32) (v185 : BitVec 32) (k0_hw6 : k0_chk6 arg0 v1 v185), ∀ (k0_h1 : k0_cond1 arg0 v1 = 1#1), ∀ a, (k0_off12 v185) a + S8x128.size a ≤ S7688x256.size a := fun arg0 v1 v185 k0_hw6 k0_h1 => k0_hw6.2.2 k0_h1

def k0_mult7 (v215 : BitVec 32) : BitVec 32 :=
  let c1_i32_62 : BitVec 32 := 1#32
  let v235 : BitVec 32 := Scalar.shrsi v215 c1_i32_62
  v235

def k0_off13 (v215 : BitVec 32) : Fin 2 → Nat :=
  let c1_i32_62 : BitVec 32 := 1#32
  let v235 : BitVec 32 := Scalar.shrsi v215 c1_i32_62
  let v236 : BitVec 32 := v235
  let v237 : Index := Scalar.indexCast v236
  let c0_63 : Index := 0#32
  ![v237.toNat, 0]
def k0_off14 (v215 : BitVec 32) : Fin 2 → Nat :=
  let c1_i32_62 : BitVec 32 := 1#32
  let v235 : BitVec 32 := Scalar.shrsi v215 c1_i32_62
  let v236 : BitVec 32 := v235
  let v241 : Index := Scalar.indexCast v236
  let c128_64 : Index := 128#32
  ![v241.toNat, 128]

def k0_chk7 (arg0 : BitVec 32) (v1 : BitVec 32) (v215 : BitVec 32) : Prop :=
  (∀ (k0_h1 : k0_cond1 arg0 v1 = 1#1), 8 ∣ (k0_mult7 v215).toNat) ∧
  (∀ (k0_h1 : k0_cond1 arg0 v1 = 1#1), ∀ a, (k0_off13 v215) a + S8x128.size a ≤ S7688x256.size a) ∧
  (∀ (k0_h1 : k0_cond1 arg0 v1 = 1#1), ∀ a, (k0_off14 v215) a + S8x128.size a ≤ S7688x256.size a)
theorem k0_mult7_dvd : ∀ (arg0 : BitVec 32) (v1 : BitVec 32) (v215 : BitVec 32) (k0_hw7 : k0_chk7 arg0 v1 v215), ∀ (k0_h1 : k0_cond1 arg0 v1 = 1#1), 8 ∣ (k0_mult7 v215).toNat := fun arg0 v1 v215 k0_hw7 k0_h1 => k0_hw7.1 k0_h1
theorem k0_off13_inb : ∀ (arg0 : BitVec 32) (v1 : BitVec 32) (v215 : BitVec 32) (k0_hw7 : k0_chk7 arg0 v1 v215), ∀ (k0_h1 : k0_cond1 arg0 v1 = 1#1), ∀ a, (k0_off13 v215) a + S8x128.size a ≤ S7688x256.size a := fun arg0 v1 v215 k0_hw7 k0_h1 => k0_hw7.2.1 k0_h1
theorem k0_off14_inb : ∀ (arg0 : BitVec 32) (v1 : BitVec 32) (v215 : BitVec 32) (k0_hw7 : k0_chk7 arg0 v1 v215), ∀ (k0_h1 : k0_cond1 arg0 v1 = 1#1), ∀ a, (k0_off14 v215) a + S8x128.size a ≤ S7688x256.size a := fun arg0 v1 v215 k0_hw7 k0_h1 => k0_hw7.2.2 k0_h1

def k0_mult8 (v245 : BitVec 32) : BitVec 32 :=
  let c1_i32_69 : BitVec 32 := 1#32
  let v265 : BitVec 32 := Scalar.shrsi v245 c1_i32_69
  v265

def k0_off15 (v245 : BitVec 32) : Fin 2 → Nat :=
  let c1_i32_69 : BitVec 32 := 1#32
  let v265 : BitVec 32 := Scalar.shrsi v245 c1_i32_69
  let v266 : BitVec 32 := v265
  let v267 : Index := Scalar.indexCast v266
  let c0_70 : Index := 0#32
  ![v267.toNat, 0]
def k0_off16 (v245 : BitVec 32) : Fin 2 → Nat :=
  let c1_i32_69 : BitVec 32 := 1#32
  let v265 : BitVec 32 := Scalar.shrsi v245 c1_i32_69
  let v266 : BitVec 32 := v265
  let v271 : Index := Scalar.indexCast v266
  let c128_71 : Index := 128#32
  ![v271.toNat, 128]

def k0_chk8 (arg0 : BitVec 32) (v1 : BitVec 32) (v245 : BitVec 32) : Prop :=
  (∀ (k0_h1 : k0_cond1 arg0 v1 = 1#1), 8 ∣ (k0_mult8 v245).toNat) ∧
  (∀ (k0_h1 : k0_cond1 arg0 v1 = 1#1), ∀ a, (k0_off15 v245) a + S8x128.size a ≤ S7688x256.size a) ∧
  (∀ (k0_h1 : k0_cond1 arg0 v1 = 1#1), ∀ a, (k0_off16 v245) a + S8x128.size a ≤ S7688x256.size a)
theorem k0_mult8_dvd : ∀ (arg0 : BitVec 32) (v1 : BitVec 32) (v245 : BitVec 32) (k0_hw8 : k0_chk8 arg0 v1 v245), ∀ (k0_h1 : k0_cond1 arg0 v1 = 1#1), 8 ∣ (k0_mult8 v245).toNat := fun arg0 v1 v245 k0_hw8 k0_h1 => k0_hw8.1 k0_h1
theorem k0_off15_inb : ∀ (arg0 : BitVec 32) (v1 : BitVec 32) (v245 : BitVec 32) (k0_hw8 : k0_chk8 arg0 v1 v245), ∀ (k0_h1 : k0_cond1 arg0 v1 = 1#1), ∀ a, (k0_off15 v245) a + S8x128.size a ≤ S7688x256.size a := fun arg0 v1 v245 k0_hw8 k0_h1 => k0_hw8.2.1 k0_h1
theorem k0_off16_inb : ∀ (arg0 : BitVec 32) (v1 : BitVec 32) (v245 : BitVec 32) (k0_hw8 : k0_chk8 arg0 v1 v245), ∀ (k0_h1 : k0_cond1 arg0 v1 = 1#1), ∀ a, (k0_off16 v245) a + S8x128.size a ≤ S7688x256.size a := fun arg0 v1 v245 k0_hw8 k0_h1 => k0_hw8.2.2 k0_h1

def k0_mult9 (v275 : BitVec 32) : BitVec 32 :=
  let c1_i32_76 : BitVec 32 := 1#32
  let v295 : BitVec 32 := Scalar.shrsi v275 c1_i32_76
  v295

def k0_off17 (v275 : BitVec 32) : Fin 2 → Nat :=
  let c1_i32_76 : BitVec 32 := 1#32
  let v295 : BitVec 32 := Scalar.shrsi v275 c1_i32_76
  let v296 : BitVec 32 := v295
  let v297 : Index := Scalar.indexCast v296
  let c0_77 : Index := 0#32
  ![v297.toNat, 0]
def k0_off18 (v275 : BitVec 32) : Fin 2 → Nat :=
  let c1_i32_76 : BitVec 32 := 1#32
  let v295 : BitVec 32 := Scalar.shrsi v275 c1_i32_76
  let v296 : BitVec 32 := v295
  let v301 : Index := Scalar.indexCast v296
  let c128_78 : Index := 128#32
  ![v301.toNat, 128]

def k0_chk9 (arg0 : BitVec 32) (v1 : BitVec 32) (v275 : BitVec 32) : Prop :=
  (∀ (k0_h1 : k0_cond1 arg0 v1 = 1#1), 8 ∣ (k0_mult9 v275).toNat) ∧
  (∀ (k0_h1 : k0_cond1 arg0 v1 = 1#1), ∀ a, (k0_off17 v275) a + S8x128.size a ≤ S7688x256.size a) ∧
  (∀ (k0_h1 : k0_cond1 arg0 v1 = 1#1), ∀ a, (k0_off18 v275) a + S8x128.size a ≤ S7688x256.size a)
theorem k0_mult9_dvd : ∀ (arg0 : BitVec 32) (v1 : BitVec 32) (v275 : BitVec 32) (k0_hw9 : k0_chk9 arg0 v1 v275), ∀ (k0_h1 : k0_cond1 arg0 v1 = 1#1), 8 ∣ (k0_mult9 v275).toNat := fun arg0 v1 v275 k0_hw9 k0_h1 => k0_hw9.1 k0_h1
theorem k0_off17_inb : ∀ (arg0 : BitVec 32) (v1 : BitVec 32) (v275 : BitVec 32) (k0_hw9 : k0_chk9 arg0 v1 v275), ∀ (k0_h1 : k0_cond1 arg0 v1 = 1#1), ∀ a, (k0_off17 v275) a + S8x128.size a ≤ S7688x256.size a := fun arg0 v1 v275 k0_hw9 k0_h1 => k0_hw9.2.1 k0_h1
theorem k0_off18_inb : ∀ (arg0 : BitVec 32) (v1 : BitVec 32) (v275 : BitVec 32) (k0_hw9 : k0_chk9 arg0 v1 v275), ∀ (k0_h1 : k0_cond1 arg0 v1 = 1#1), ∀ a, (k0_off18 v275) a + S8x128.size a ≤ S7688x256.size a := fun arg0 v1 v275 k0_hw9 k0_h1 => k0_hw9.2.2 k0_h1

def k0_mult10 (v305 : BitVec 32) : BitVec 32 :=
  let c1_i32_83 : BitVec 32 := 1#32
  let v325 : BitVec 32 := Scalar.shrsi v305 c1_i32_83
  v325

def k0_off19 (v305 : BitVec 32) : Fin 2 → Nat :=
  let c1_i32_83 : BitVec 32 := 1#32
  let v325 : BitVec 32 := Scalar.shrsi v305 c1_i32_83
  let v326 : BitVec 32 := v325
  let v327 : Index := Scalar.indexCast v326
  let c0_84 : Index := 0#32
  ![v327.toNat, 0]
def k0_off20 (v305 : BitVec 32) : Fin 2 → Nat :=
  let c1_i32_83 : BitVec 32 := 1#32
  let v325 : BitVec 32 := Scalar.shrsi v305 c1_i32_83
  let v326 : BitVec 32 := v325
  let v331 : Index := Scalar.indexCast v326
  let c128_85 : Index := 128#32
  ![v331.toNat, 128]

def k0_chk10 (arg0 : BitVec 32) (v1 : BitVec 32) (v305 : BitVec 32) : Prop :=
  (∀ (k0_h1 : k0_cond1 arg0 v1 = 1#1), 8 ∣ (k0_mult10 v305).toNat) ∧
  (∀ (k0_h1 : k0_cond1 arg0 v1 = 1#1), ∀ a, (k0_off19 v305) a + S8x128.size a ≤ S7688x256.size a) ∧
  (∀ (k0_h1 : k0_cond1 arg0 v1 = 1#1), ∀ a, (k0_off20 v305) a + S8x128.size a ≤ S7688x256.size a)
theorem k0_mult10_dvd : ∀ (arg0 : BitVec 32) (v1 : BitVec 32) (v305 : BitVec 32) (k0_hw10 : k0_chk10 arg0 v1 v305), ∀ (k0_h1 : k0_cond1 arg0 v1 = 1#1), 8 ∣ (k0_mult10 v305).toNat := fun arg0 v1 v305 k0_hw10 k0_h1 => k0_hw10.1 k0_h1
theorem k0_off19_inb : ∀ (arg0 : BitVec 32) (v1 : BitVec 32) (v305 : BitVec 32) (k0_hw10 : k0_chk10 arg0 v1 v305), ∀ (k0_h1 : k0_cond1 arg0 v1 = 1#1), ∀ a, (k0_off19 v305) a + S8x128.size a ≤ S7688x256.size a := fun arg0 v1 v305 k0_hw10 k0_h1 => k0_hw10.2.1 k0_h1
theorem k0_off20_inb : ∀ (arg0 : BitVec 32) (v1 : BitVec 32) (v305 : BitVec 32) (k0_hw10 : k0_chk10 arg0 v1 v305), ∀ (k0_h1 : k0_cond1 arg0 v1 = 1#1), ∀ a, (k0_off20 v305) a + S8x128.size a ≤ S7688x256.size a := fun arg0 v1 v305 k0_hw10 k0_h1 => k0_hw10.2.2 k0_h1

def k0_mult11 (v335 : BitVec 32) : BitVec 32 :=
  let c1_i32_90 : BitVec 32 := 1#32
  let v355 : BitVec 32 := Scalar.shrsi v335 c1_i32_90
  v355

def k0_off21 (v335 : BitVec 32) : Fin 2 → Nat :=
  let c1_i32_90 : BitVec 32 := 1#32
  let v355 : BitVec 32 := Scalar.shrsi v335 c1_i32_90
  let v356 : BitVec 32 := v355
  let v357 : Index := Scalar.indexCast v356
  let c0_91 : Index := 0#32
  ![v357.toNat, 0]
def k0_off22 (v335 : BitVec 32) : Fin 2 → Nat :=
  let c1_i32_90 : BitVec 32 := 1#32
  let v355 : BitVec 32 := Scalar.shrsi v335 c1_i32_90
  let v356 : BitVec 32 := v355
  let v361 : Index := Scalar.indexCast v356
  let c128_92 : Index := 128#32
  ![v361.toNat, 128]

def k0_chk11 (arg0 : BitVec 32) (v1 : BitVec 32) (v335 : BitVec 32) : Prop :=
  (∀ (k0_h1 : k0_cond1 arg0 v1 = 1#1), 8 ∣ (k0_mult11 v335).toNat) ∧
  (∀ (k0_h1 : k0_cond1 arg0 v1 = 1#1), ∀ a, (k0_off21 v335) a + S8x128.size a ≤ S7688x256.size a) ∧
  (∀ (k0_h1 : k0_cond1 arg0 v1 = 1#1), ∀ a, (k0_off22 v335) a + S8x128.size a ≤ S7688x256.size a)
theorem k0_mult11_dvd : ∀ (arg0 : BitVec 32) (v1 : BitVec 32) (v335 : BitVec 32) (k0_hw11 : k0_chk11 arg0 v1 v335), ∀ (k0_h1 : k0_cond1 arg0 v1 = 1#1), 8 ∣ (k0_mult11 v335).toNat := fun arg0 v1 v335 k0_hw11 k0_h1 => k0_hw11.1 k0_h1
theorem k0_off21_inb : ∀ (arg0 : BitVec 32) (v1 : BitVec 32) (v335 : BitVec 32) (k0_hw11 : k0_chk11 arg0 v1 v335), ∀ (k0_h1 : k0_cond1 arg0 v1 = 1#1), ∀ a, (k0_off21 v335) a + S8x128.size a ≤ S7688x256.size a := fun arg0 v1 v335 k0_hw11 k0_h1 => k0_hw11.2.1 k0_h1
theorem k0_off22_inb : ∀ (arg0 : BitVec 32) (v1 : BitVec 32) (v335 : BitVec 32) (k0_hw11 : k0_chk11 arg0 v1 v335), ∀ (k0_h1 : k0_cond1 arg0 v1 = 1#1), ∀ a, (k0_off22 v335) a + S8x128.size a ≤ S7688x256.size a := fun arg0 v1 v335 k0_hw11 k0_h1 => k0_hw11.2.2 k0_h1

def k0_mult12 (v365 : BitVec 32) : BitVec 32 :=
  let c1_i32_97 : BitVec 32 := 1#32
  let v385 : BitVec 32 := Scalar.shrsi v365 c1_i32_97
  v385

def k0_off23 (v365 : BitVec 32) : Fin 2 → Nat :=
  let c1_i32_97 : BitVec 32 := 1#32
  let v385 : BitVec 32 := Scalar.shrsi v365 c1_i32_97
  let v386 : BitVec 32 := v385
  let v387 : Index := Scalar.indexCast v386
  let c0_98 : Index := 0#32
  ![v387.toNat, 0]
def k0_off24 (v365 : BitVec 32) : Fin 2 → Nat :=
  let c1_i32_97 : BitVec 32 := 1#32
  let v385 : BitVec 32 := Scalar.shrsi v365 c1_i32_97
  let v386 : BitVec 32 := v385
  let v391 : Index := Scalar.indexCast v386
  let c128_99 : Index := 128#32
  ![v391.toNat, 128]

def k0_chk12 (arg0 : BitVec 32) (v1 : BitVec 32) (v365 : BitVec 32) : Prop :=
  (∀ (k0_h1 : k0_cond1 arg0 v1 = 1#1), 8 ∣ (k0_mult12 v365).toNat) ∧
  (∀ (k0_h1 : k0_cond1 arg0 v1 = 1#1), ∀ a, (k0_off23 v365) a + S8x128.size a ≤ S7688x256.size a) ∧
  (∀ (k0_h1 : k0_cond1 arg0 v1 = 1#1), ∀ a, (k0_off24 v365) a + S8x128.size a ≤ S7688x256.size a)
theorem k0_mult12_dvd : ∀ (arg0 : BitVec 32) (v1 : BitVec 32) (v365 : BitVec 32) (k0_hw12 : k0_chk12 arg0 v1 v365), ∀ (k0_h1 : k0_cond1 arg0 v1 = 1#1), 8 ∣ (k0_mult12 v365).toNat := fun arg0 v1 v365 k0_hw12 k0_h1 => k0_hw12.1 k0_h1
theorem k0_off23_inb : ∀ (arg0 : BitVec 32) (v1 : BitVec 32) (v365 : BitVec 32) (k0_hw12 : k0_chk12 arg0 v1 v365), ∀ (k0_h1 : k0_cond1 arg0 v1 = 1#1), ∀ a, (k0_off23 v365) a + S8x128.size a ≤ S7688x256.size a := fun arg0 v1 v365 k0_hw12 k0_h1 => k0_hw12.2.1 k0_h1
theorem k0_off24_inb : ∀ (arg0 : BitVec 32) (v1 : BitVec 32) (v365 : BitVec 32) (k0_hw12 : k0_chk12 arg0 v1 v365), ∀ (k0_h1 : k0_cond1 arg0 v1 = 1#1), ∀ a, (k0_off24 v365) a + S8x128.size a ≤ S7688x256.size a := fun arg0 v1 v365 k0_hw12 k0_h1 => k0_hw12.2.2 k0_h1

def k0_mult13 (v395 : BitVec 32) : BitVec 32 :=
  let c1_i32_104 : BitVec 32 := 1#32
  let v415 : BitVec 32 := Scalar.shrsi v395 c1_i32_104
  v415

def k0_off25 (v395 : BitVec 32) : Fin 2 → Nat :=
  let c1_i32_104 : BitVec 32 := 1#32
  let v415 : BitVec 32 := Scalar.shrsi v395 c1_i32_104
  let v416 : BitVec 32 := v415
  let v417 : Index := Scalar.indexCast v416
  let c0_105 : Index := 0#32
  ![v417.toNat, 0]
def k0_off26 (v395 : BitVec 32) : Fin 2 → Nat :=
  let c1_i32_104 : BitVec 32 := 1#32
  let v415 : BitVec 32 := Scalar.shrsi v395 c1_i32_104
  let v416 : BitVec 32 := v415
  let v421 : Index := Scalar.indexCast v416
  let c128_106 : Index := 128#32
  ![v421.toNat, 128]

def k0_chk13 (arg0 : BitVec 32) (v1 : BitVec 32) (v395 : BitVec 32) : Prop :=
  (∀ (k0_h1 : k0_cond1 arg0 v1 = 1#1), 8 ∣ (k0_mult13 v395).toNat) ∧
  (∀ (k0_h1 : k0_cond1 arg0 v1 = 1#1), ∀ a, (k0_off25 v395) a + S8x128.size a ≤ S7688x256.size a) ∧
  (∀ (k0_h1 : k0_cond1 arg0 v1 = 1#1), ∀ a, (k0_off26 v395) a + S8x128.size a ≤ S7688x256.size a)
theorem k0_mult13_dvd : ∀ (arg0 : BitVec 32) (v1 : BitVec 32) (v395 : BitVec 32) (k0_hw13 : k0_chk13 arg0 v1 v395), ∀ (k0_h1 : k0_cond1 arg0 v1 = 1#1), 8 ∣ (k0_mult13 v395).toNat := fun arg0 v1 v395 k0_hw13 k0_h1 => k0_hw13.1 k0_h1
theorem k0_off25_inb : ∀ (arg0 : BitVec 32) (v1 : BitVec 32) (v395 : BitVec 32) (k0_hw13 : k0_chk13 arg0 v1 v395), ∀ (k0_h1 : k0_cond1 arg0 v1 = 1#1), ∀ a, (k0_off25 v395) a + S8x128.size a ≤ S7688x256.size a := fun arg0 v1 v395 k0_hw13 k0_h1 => k0_hw13.2.1 k0_h1
theorem k0_off26_inb : ∀ (arg0 : BitVec 32) (v1 : BitVec 32) (v395 : BitVec 32) (k0_hw13 : k0_chk13 arg0 v1 v395), ∀ (k0_h1 : k0_cond1 arg0 v1 = 1#1), ∀ a, (k0_off26 v395) a + S8x128.size a ≤ S7688x256.size a := fun arg0 v1 v395 k0_hw13 k0_h1 => k0_hw13.2.2 k0_h1

def k0_mult14 (v425 : BitVec 32) : BitVec 32 :=
  let c1_i32_111 : BitVec 32 := 1#32
  let v445 : BitVec 32 := Scalar.shrsi v425 c1_i32_111
  v445

def k0_off27 (v425 : BitVec 32) : Fin 2 → Nat :=
  let c1_i32_111 : BitVec 32 := 1#32
  let v445 : BitVec 32 := Scalar.shrsi v425 c1_i32_111
  let v446 : BitVec 32 := v445
  let v447 : Index := Scalar.indexCast v446
  let c0_112 : Index := 0#32
  ![v447.toNat, 0]
def k0_off28 (v425 : BitVec 32) : Fin 2 → Nat :=
  let c1_i32_111 : BitVec 32 := 1#32
  let v445 : BitVec 32 := Scalar.shrsi v425 c1_i32_111
  let v446 : BitVec 32 := v445
  let v451 : Index := Scalar.indexCast v446
  let c128_113 : Index := 128#32
  ![v451.toNat, 128]

def k0_chk14 (arg0 : BitVec 32) (v1 : BitVec 32) (v425 : BitVec 32) : Prop :=
  (∀ (k0_h1 : k0_cond1 arg0 v1 = 1#1), 8 ∣ (k0_mult14 v425).toNat) ∧
  (∀ (k0_h1 : k0_cond1 arg0 v1 = 1#1), ∀ a, (k0_off27 v425) a + S8x128.size a ≤ S7688x256.size a) ∧
  (∀ (k0_h1 : k0_cond1 arg0 v1 = 1#1), ∀ a, (k0_off28 v425) a + S8x128.size a ≤ S7688x256.size a)
theorem k0_mult14_dvd : ∀ (arg0 : BitVec 32) (v1 : BitVec 32) (v425 : BitVec 32) (k0_hw14 : k0_chk14 arg0 v1 v425), ∀ (k0_h1 : k0_cond1 arg0 v1 = 1#1), 8 ∣ (k0_mult14 v425).toNat := fun arg0 v1 v425 k0_hw14 k0_h1 => k0_hw14.1 k0_h1
theorem k0_off27_inb : ∀ (arg0 : BitVec 32) (v1 : BitVec 32) (v425 : BitVec 32) (k0_hw14 : k0_chk14 arg0 v1 v425), ∀ (k0_h1 : k0_cond1 arg0 v1 = 1#1), ∀ a, (k0_off27 v425) a + S8x128.size a ≤ S7688x256.size a := fun arg0 v1 v425 k0_hw14 k0_h1 => k0_hw14.2.1 k0_h1
theorem k0_off28_inb : ∀ (arg0 : BitVec 32) (v1 : BitVec 32) (v425 : BitVec 32) (k0_hw14 : k0_chk14 arg0 v1 v425), ∀ (k0_h1 : k0_cond1 arg0 v1 = 1#1), ∀ a, (k0_off28 v425) a + S8x128.size a ≤ S7688x256.size a := fun arg0 v1 v425 k0_hw14 k0_h1 => k0_hw14.2.2 k0_h1

def k0_mult15 (v455 : BitVec 32) : BitVec 32 :=
  let c1_i32_118 : BitVec 32 := 1#32
  let v475 : BitVec 32 := Scalar.shrsi v455 c1_i32_118
  v475

def k0_off29 (v455 : BitVec 32) : Fin 2 → Nat :=
  let c1_i32_118 : BitVec 32 := 1#32
  let v475 : BitVec 32 := Scalar.shrsi v455 c1_i32_118
  let v476 : BitVec 32 := v475
  let v477 : Index := Scalar.indexCast v476
  let c0_119 : Index := 0#32
  ![v477.toNat, 0]
def k0_off30 (v455 : BitVec 32) : Fin 2 → Nat :=
  let c1_i32_118 : BitVec 32 := 1#32
  let v475 : BitVec 32 := Scalar.shrsi v455 c1_i32_118
  let v476 : BitVec 32 := v475
  let v481 : Index := Scalar.indexCast v476
  let c128_120 : Index := 128#32
  ![v481.toNat, 128]

def k0_chk15 (arg0 : BitVec 32) (v1 : BitVec 32) (v455 : BitVec 32) : Prop :=
  (∀ (k0_h1 : k0_cond1 arg0 v1 = 1#1), 8 ∣ (k0_mult15 v455).toNat) ∧
  (∀ (k0_h1 : k0_cond1 arg0 v1 = 1#1), ∀ a, (k0_off29 v455) a + S8x128.size a ≤ S7688x256.size a) ∧
  (∀ (k0_h1 : k0_cond1 arg0 v1 = 1#1), ∀ a, (k0_off30 v455) a + S8x128.size a ≤ S7688x256.size a)
theorem k0_mult15_dvd : ∀ (arg0 : BitVec 32) (v1 : BitVec 32) (v455 : BitVec 32) (k0_hw15 : k0_chk15 arg0 v1 v455), ∀ (k0_h1 : k0_cond1 arg0 v1 = 1#1), 8 ∣ (k0_mult15 v455).toNat := fun arg0 v1 v455 k0_hw15 k0_h1 => k0_hw15.1 k0_h1
theorem k0_off29_inb : ∀ (arg0 : BitVec 32) (v1 : BitVec 32) (v455 : BitVec 32) (k0_hw15 : k0_chk15 arg0 v1 v455), ∀ (k0_h1 : k0_cond1 arg0 v1 = 1#1), ∀ a, (k0_off29 v455) a + S8x128.size a ≤ S7688x256.size a := fun arg0 v1 v455 k0_hw15 k0_h1 => k0_hw15.2.1 k0_h1
theorem k0_off30_inb : ∀ (arg0 : BitVec 32) (v1 : BitVec 32) (v455 : BitVec 32) (k0_hw15 : k0_chk15 arg0 v1 v455), ∀ (k0_h1 : k0_cond1 arg0 v1 = 1#1), ∀ a, (k0_off30 v455) a + S8x128.size a ≤ S7688x256.size a := fun arg0 v1 v455 k0_hw15 k0_h1 => k0_hw15.2.2 k0_h1

def k0_mult16 (v485 : BitVec 32) : BitVec 32 :=
  let c1_i32_125 : BitVec 32 := 1#32
  let v505 : BitVec 32 := Scalar.shrsi v485 c1_i32_125
  v505

def k0_off31 (v485 : BitVec 32) : Fin 2 → Nat :=
  let c1_i32_125 : BitVec 32 := 1#32
  let v505 : BitVec 32 := Scalar.shrsi v485 c1_i32_125
  let v506 : BitVec 32 := v505
  let v507 : Index := Scalar.indexCast v506
  let c0_126 : Index := 0#32
  ![v507.toNat, 0]
def k0_off32 (v485 : BitVec 32) : Fin 2 → Nat :=
  let c1_i32_125 : BitVec 32 := 1#32
  let v505 : BitVec 32 := Scalar.shrsi v485 c1_i32_125
  let v506 : BitVec 32 := v505
  let v511 : Index := Scalar.indexCast v506
  let c128_127 : Index := 128#32
  ![v511.toNat, 128]

def k0_chk16 (arg0 : BitVec 32) (v1 : BitVec 32) (v485 : BitVec 32) : Prop :=
  (∀ (k0_h1 : k0_cond1 arg0 v1 = 1#1), 8 ∣ (k0_mult16 v485).toNat) ∧
  (∀ (k0_h1 : k0_cond1 arg0 v1 = 1#1), ∀ a, (k0_off31 v485) a + S8x128.size a ≤ S7688x256.size a) ∧
  (∀ (k0_h1 : k0_cond1 arg0 v1 = 1#1), ∀ a, (k0_off32 v485) a + S8x128.size a ≤ S7688x256.size a)
theorem k0_mult16_dvd : ∀ (arg0 : BitVec 32) (v1 : BitVec 32) (v485 : BitVec 32) (k0_hw16 : k0_chk16 arg0 v1 v485), ∀ (k0_h1 : k0_cond1 arg0 v1 = 1#1), 8 ∣ (k0_mult16 v485).toNat := fun arg0 v1 v485 k0_hw16 k0_h1 => k0_hw16.1 k0_h1
theorem k0_off31_inb : ∀ (arg0 : BitVec 32) (v1 : BitVec 32) (v485 : BitVec 32) (k0_hw16 : k0_chk16 arg0 v1 v485), ∀ (k0_h1 : k0_cond1 arg0 v1 = 1#1), ∀ a, (k0_off31 v485) a + S8x128.size a ≤ S7688x256.size a := fun arg0 v1 v485 k0_hw16 k0_h1 => k0_hw16.2.1 k0_h1
theorem k0_off32_inb : ∀ (arg0 : BitVec 32) (v1 : BitVec 32) (v485 : BitVec 32) (k0_hw16 : k0_chk16 arg0 v1 v485), ∀ (k0_h1 : k0_cond1 arg0 v1 = 1#1), ∀ a, (k0_off32 v485) a + S8x128.size a ≤ S7688x256.size a := fun arg0 v1 v485 k0_hw16 k0_h1 => k0_hw16.2.2 k0_h1

def k0_mult17 (v515 : BitVec 32) : BitVec 32 :=
  let c1_i32_132 : BitVec 32 := 1#32
  let v535 : BitVec 32 := Scalar.shrsi v515 c1_i32_132
  v535

def k0_off33 (v515 : BitVec 32) : Fin 2 → Nat :=
  let c1_i32_132 : BitVec 32 := 1#32
  let v535 : BitVec 32 := Scalar.shrsi v515 c1_i32_132
  let v536 : BitVec 32 := v535
  let v537 : Index := Scalar.indexCast v536
  let c0_133 : Index := 0#32
  ![v537.toNat, 0]
def k0_off34 (v515 : BitVec 32) : Fin 2 → Nat :=
  let c1_i32_132 : BitVec 32 := 1#32
  let v535 : BitVec 32 := Scalar.shrsi v515 c1_i32_132
  let v536 : BitVec 32 := v535
  let v541 : Index := Scalar.indexCast v536
  let c128_134 : Index := 128#32
  ![v541.toNat, 128]

def k0_chk17 (arg0 : BitVec 32) (v1 : BitVec 32) (v515 : BitVec 32) : Prop :=
  (∀ (k0_h1 : k0_cond1 arg0 v1 = 1#1), 8 ∣ (k0_mult17 v515).toNat) ∧
  (∀ (k0_h1 : k0_cond1 arg0 v1 = 1#1), ∀ a, (k0_off33 v515) a + S8x128.size a ≤ S7688x256.size a) ∧
  (∀ (k0_h1 : k0_cond1 arg0 v1 = 1#1), ∀ a, (k0_off34 v515) a + S8x128.size a ≤ S7688x256.size a)
theorem k0_mult17_dvd : ∀ (arg0 : BitVec 32) (v1 : BitVec 32) (v515 : BitVec 32) (k0_hw17 : k0_chk17 arg0 v1 v515), ∀ (k0_h1 : k0_cond1 arg0 v1 = 1#1), 8 ∣ (k0_mult17 v515).toNat := fun arg0 v1 v515 k0_hw17 k0_h1 => k0_hw17.1 k0_h1
theorem k0_off33_inb : ∀ (arg0 : BitVec 32) (v1 : BitVec 32) (v515 : BitVec 32) (k0_hw17 : k0_chk17 arg0 v1 v515), ∀ (k0_h1 : k0_cond1 arg0 v1 = 1#1), ∀ a, (k0_off33 v515) a + S8x128.size a ≤ S7688x256.size a := fun arg0 v1 v515 k0_hw17 k0_h1 => k0_hw17.2.1 k0_h1
theorem k0_off34_inb : ∀ (arg0 : BitVec 32) (v1 : BitVec 32) (v515 : BitVec 32) (k0_hw17 : k0_chk17 arg0 v1 v515), ∀ (k0_h1 : k0_cond1 arg0 v1 = 1#1), ∀ a, (k0_off34 v515) a + S8x128.size a ≤ S7688x256.size a := fun arg0 v1 v515 k0_hw17 k0_h1 => k0_hw17.2.2 k0_h1

def k0_mult18 (v545 : BitVec 32) : BitVec 32 :=
  let c1_i32_139 : BitVec 32 := 1#32
  let v565 : BitVec 32 := Scalar.shrsi v545 c1_i32_139
  v565

def k0_off35 (v545 : BitVec 32) : Fin 2 → Nat :=
  let c1_i32_139 : BitVec 32 := 1#32
  let v565 : BitVec 32 := Scalar.shrsi v545 c1_i32_139
  let v566 : BitVec 32 := v565
  let v567 : Index := Scalar.indexCast v566
  let c0_140 : Index := 0#32
  ![v567.toNat, 0]
def k0_off36 (v545 : BitVec 32) : Fin 2 → Nat :=
  let c1_i32_139 : BitVec 32 := 1#32
  let v565 : BitVec 32 := Scalar.shrsi v545 c1_i32_139
  let v566 : BitVec 32 := v565
  let v571 : Index := Scalar.indexCast v566
  let c128_141 : Index := 128#32
  ![v571.toNat, 128]

def k0_chk18 (arg0 : BitVec 32) (v1 : BitVec 32) (v545 : BitVec 32) : Prop :=
  (∀ (k0_h1 : k0_cond1 arg0 v1 = 1#1), 8 ∣ (k0_mult18 v545).toNat) ∧
  (∀ (k0_h1 : k0_cond1 arg0 v1 = 1#1), ∀ a, (k0_off35 v545) a + S8x128.size a ≤ S7688x256.size a) ∧
  (∀ (k0_h1 : k0_cond1 arg0 v1 = 1#1), ∀ a, (k0_off36 v545) a + S8x128.size a ≤ S7688x256.size a)
theorem k0_mult18_dvd : ∀ (arg0 : BitVec 32) (v1 : BitVec 32) (v545 : BitVec 32) (k0_hw18 : k0_chk18 arg0 v1 v545), ∀ (k0_h1 : k0_cond1 arg0 v1 = 1#1), 8 ∣ (k0_mult18 v545).toNat := fun arg0 v1 v545 k0_hw18 k0_h1 => k0_hw18.1 k0_h1
theorem k0_off35_inb : ∀ (arg0 : BitVec 32) (v1 : BitVec 32) (v545 : BitVec 32) (k0_hw18 : k0_chk18 arg0 v1 v545), ∀ (k0_h1 : k0_cond1 arg0 v1 = 1#1), ∀ a, (k0_off35 v545) a + S8x128.size a ≤ S7688x256.size a := fun arg0 v1 v545 k0_hw18 k0_h1 => k0_hw18.2.1 k0_h1
theorem k0_off36_inb : ∀ (arg0 : BitVec 32) (v1 : BitVec 32) (v545 : BitVec 32) (k0_hw18 : k0_chk18 arg0 v1 v545), ∀ (k0_h1 : k0_cond1 arg0 v1 = 1#1), ∀ a, (k0_off36 v545) a + S8x128.size a ≤ S7688x256.size a := fun arg0 v1 v545 k0_hw18 k0_h1 => k0_hw18.2.2 k0_h1

def k0_mult19 (v575 : BitVec 32) : BitVec 32 :=
  let c1_i32_146 : BitVec 32 := 1#32
  let v595 : BitVec 32 := Scalar.shrsi v575 c1_i32_146
  v595

def k0_off37 (v575 : BitVec 32) : Fin 2 → Nat :=
  let c1_i32_146 : BitVec 32 := 1#32
  let v595 : BitVec 32 := Scalar.shrsi v575 c1_i32_146
  let v596 : BitVec 32 := v595
  let v597 : Index := Scalar.indexCast v596
  let c0_147 : Index := 0#32
  ![v597.toNat, 0]
def k0_off38 (v575 : BitVec 32) : Fin 2 → Nat :=
  let c1_i32_146 : BitVec 32 := 1#32
  let v595 : BitVec 32 := Scalar.shrsi v575 c1_i32_146
  let v596 : BitVec 32 := v595
  let v601 : Index := Scalar.indexCast v596
  let c128_148 : Index := 128#32
  ![v601.toNat, 128]

def k0_chk19 (arg0 : BitVec 32) (v1 : BitVec 32) (v575 : BitVec 32) : Prop :=
  (∀ (k0_h1 : k0_cond1 arg0 v1 = 1#1), 8 ∣ (k0_mult19 v575).toNat) ∧
  (∀ (k0_h1 : k0_cond1 arg0 v1 = 1#1), ∀ a, (k0_off37 v575) a + S8x128.size a ≤ S7688x256.size a) ∧
  (∀ (k0_h1 : k0_cond1 arg0 v1 = 1#1), ∀ a, (k0_off38 v575) a + S8x128.size a ≤ S7688x256.size a)
theorem k0_mult19_dvd : ∀ (arg0 : BitVec 32) (v1 : BitVec 32) (v575 : BitVec 32) (k0_hw19 : k0_chk19 arg0 v1 v575), ∀ (k0_h1 : k0_cond1 arg0 v1 = 1#1), 8 ∣ (k0_mult19 v575).toNat := fun arg0 v1 v575 k0_hw19 k0_h1 => k0_hw19.1 k0_h1
theorem k0_off37_inb : ∀ (arg0 : BitVec 32) (v1 : BitVec 32) (v575 : BitVec 32) (k0_hw19 : k0_chk19 arg0 v1 v575), ∀ (k0_h1 : k0_cond1 arg0 v1 = 1#1), ∀ a, (k0_off37 v575) a + S8x128.size a ≤ S7688x256.size a := fun arg0 v1 v575 k0_hw19 k0_h1 => k0_hw19.2.1 k0_h1
theorem k0_off38_inb : ∀ (arg0 : BitVec 32) (v1 : BitVec 32) (v575 : BitVec 32) (k0_hw19 : k0_chk19 arg0 v1 v575), ∀ (k0_h1 : k0_cond1 arg0 v1 = 1#1), ∀ a, (k0_off38 v575) a + S8x128.size a ≤ S7688x256.size a := fun arg0 v1 v575 k0_hw19 k0_h1 => k0_hw19.2.2 k0_h1

def k0_mult20 (v605 : BitVec 32) : BitVec 32 :=
  let c1_i32_153 : BitVec 32 := 1#32
  let v625 : BitVec 32 := Scalar.shrsi v605 c1_i32_153
  v625

def k0_off39 (v605 : BitVec 32) : Fin 2 → Nat :=
  let c1_i32_153 : BitVec 32 := 1#32
  let v625 : BitVec 32 := Scalar.shrsi v605 c1_i32_153
  let v626 : BitVec 32 := v625
  let v627 : Index := Scalar.indexCast v626
  let c0_154 : Index := 0#32
  ![v627.toNat, 0]
def k0_off40 (v605 : BitVec 32) : Fin 2 → Nat :=
  let c1_i32_153 : BitVec 32 := 1#32
  let v625 : BitVec 32 := Scalar.shrsi v605 c1_i32_153
  let v626 : BitVec 32 := v625
  let v631 : Index := Scalar.indexCast v626
  let c128_155 : Index := 128#32
  ![v631.toNat, 128]

def k0_chk20 (arg0 : BitVec 32) (v1 : BitVec 32) (v605 : BitVec 32) : Prop :=
  (∀ (k0_h1 : k0_cond1 arg0 v1 = 1#1), 8 ∣ (k0_mult20 v605).toNat) ∧
  (∀ (k0_h1 : k0_cond1 arg0 v1 = 1#1), ∀ a, (k0_off39 v605) a + S8x128.size a ≤ S7688x256.size a) ∧
  (∀ (k0_h1 : k0_cond1 arg0 v1 = 1#1), ∀ a, (k0_off40 v605) a + S8x128.size a ≤ S7688x256.size a)
theorem k0_mult20_dvd : ∀ (arg0 : BitVec 32) (v1 : BitVec 32) (v605 : BitVec 32) (k0_hw20 : k0_chk20 arg0 v1 v605), ∀ (k0_h1 : k0_cond1 arg0 v1 = 1#1), 8 ∣ (k0_mult20 v605).toNat := fun arg0 v1 v605 k0_hw20 k0_h1 => k0_hw20.1 k0_h1
theorem k0_off39_inb : ∀ (arg0 : BitVec 32) (v1 : BitVec 32) (v605 : BitVec 32) (k0_hw20 : k0_chk20 arg0 v1 v605), ∀ (k0_h1 : k0_cond1 arg0 v1 = 1#1), ∀ a, (k0_off39 v605) a + S8x128.size a ≤ S7688x256.size a := fun arg0 v1 v605 k0_hw20 k0_h1 => k0_hw20.2.1 k0_h1
theorem k0_off40_inb : ∀ (arg0 : BitVec 32) (v1 : BitVec 32) (v605 : BitVec 32) (k0_hw20 : k0_chk20 arg0 v1 v605), ∀ (k0_h1 : k0_cond1 arg0 v1 = 1#1), ∀ a, (k0_off40 v605) a + S8x128.size a ≤ S7688x256.size a := fun arg0 v1 v605 k0_hw20 k0_h1 => k0_hw20.2.2 k0_h1

def k0_mult21 (v635 : BitVec 32) : BitVec 32 :=
  let c1_i32_160 : BitVec 32 := 1#32
  let v655 : BitVec 32 := Scalar.shrsi v635 c1_i32_160
  v655

def k0_off41 (v635 : BitVec 32) : Fin 2 → Nat :=
  let c1_i32_160 : BitVec 32 := 1#32
  let v655 : BitVec 32 := Scalar.shrsi v635 c1_i32_160
  let v656 : BitVec 32 := v655
  let v657 : Index := Scalar.indexCast v656
  let c0_161 : Index := 0#32
  ![v657.toNat, 0]
def k0_off42 (v635 : BitVec 32) : Fin 2 → Nat :=
  let c1_i32_160 : BitVec 32 := 1#32
  let v655 : BitVec 32 := Scalar.shrsi v635 c1_i32_160
  let v656 : BitVec 32 := v655
  let v661 : Index := Scalar.indexCast v656
  let c128_162 : Index := 128#32
  ![v661.toNat, 128]

def k0_chk21 (arg0 : BitVec 32) (v1 : BitVec 32) (v635 : BitVec 32) : Prop :=
  (∀ (k0_h1 : k0_cond1 arg0 v1 = 1#1), 8 ∣ (k0_mult21 v635).toNat) ∧
  (∀ (k0_h1 : k0_cond1 arg0 v1 = 1#1), ∀ a, (k0_off41 v635) a + S8x128.size a ≤ S7688x256.size a) ∧
  (∀ (k0_h1 : k0_cond1 arg0 v1 = 1#1), ∀ a, (k0_off42 v635) a + S8x128.size a ≤ S7688x256.size a)
theorem k0_mult21_dvd : ∀ (arg0 : BitVec 32) (v1 : BitVec 32) (v635 : BitVec 32) (k0_hw21 : k0_chk21 arg0 v1 v635), ∀ (k0_h1 : k0_cond1 arg0 v1 = 1#1), 8 ∣ (k0_mult21 v635).toNat := fun arg0 v1 v635 k0_hw21 k0_h1 => k0_hw21.1 k0_h1
theorem k0_off41_inb : ∀ (arg0 : BitVec 32) (v1 : BitVec 32) (v635 : BitVec 32) (k0_hw21 : k0_chk21 arg0 v1 v635), ∀ (k0_h1 : k0_cond1 arg0 v1 = 1#1), ∀ a, (k0_off41 v635) a + S8x128.size a ≤ S7688x256.size a := fun arg0 v1 v635 k0_hw21 k0_h1 => k0_hw21.2.1 k0_h1
theorem k0_off42_inb : ∀ (arg0 : BitVec 32) (v1 : BitVec 32) (v635 : BitVec 32) (k0_hw21 : k0_chk21 arg0 v1 v635), ∀ (k0_h1 : k0_cond1 arg0 v1 = 1#1), ∀ a, (k0_off42 v635) a + S8x128.size a ≤ S7688x256.size a := fun arg0 v1 v635 k0_hw21 k0_h1 => k0_hw21.2.2 k0_h1

def k0_mult22 (v665 : BitVec 32) : BitVec 32 :=
  let c1_i32_167 : BitVec 32 := 1#32
  let v685 : BitVec 32 := Scalar.shrsi v665 c1_i32_167
  v685

def k0_off43 (v665 : BitVec 32) : Fin 2 → Nat :=
  let c1_i32_167 : BitVec 32 := 1#32
  let v685 : BitVec 32 := Scalar.shrsi v665 c1_i32_167
  let v686 : BitVec 32 := v685
  let v687 : Index := Scalar.indexCast v686
  let c0_168 : Index := 0#32
  ![v687.toNat, 0]
def k0_off44 (v665 : BitVec 32) : Fin 2 → Nat :=
  let c1_i32_167 : BitVec 32 := 1#32
  let v685 : BitVec 32 := Scalar.shrsi v665 c1_i32_167
  let v686 : BitVec 32 := v685
  let v691 : Index := Scalar.indexCast v686
  let c128_169 : Index := 128#32
  ![v691.toNat, 128]

def k0_chk22 (arg0 : BitVec 32) (v1 : BitVec 32) (v665 : BitVec 32) : Prop :=
  (∀ (k0_h1 : k0_cond1 arg0 v1 = 1#1), 8 ∣ (k0_mult22 v665).toNat) ∧
  (∀ (k0_h1 : k0_cond1 arg0 v1 = 1#1), ∀ a, (k0_off43 v665) a + S8x128.size a ≤ S7688x256.size a) ∧
  (∀ (k0_h1 : k0_cond1 arg0 v1 = 1#1), ∀ a, (k0_off44 v665) a + S8x128.size a ≤ S7688x256.size a)
theorem k0_mult22_dvd : ∀ (arg0 : BitVec 32) (v1 : BitVec 32) (v665 : BitVec 32) (k0_hw22 : k0_chk22 arg0 v1 v665), ∀ (k0_h1 : k0_cond1 arg0 v1 = 1#1), 8 ∣ (k0_mult22 v665).toNat := fun arg0 v1 v665 k0_hw22 k0_h1 => k0_hw22.1 k0_h1
theorem k0_off43_inb : ∀ (arg0 : BitVec 32) (v1 : BitVec 32) (v665 : BitVec 32) (k0_hw22 : k0_chk22 arg0 v1 v665), ∀ (k0_h1 : k0_cond1 arg0 v1 = 1#1), ∀ a, (k0_off43 v665) a + S8x128.size a ≤ S7688x256.size a := fun arg0 v1 v665 k0_hw22 k0_h1 => k0_hw22.2.1 k0_h1
theorem k0_off44_inb : ∀ (arg0 : BitVec 32) (v1 : BitVec 32) (v665 : BitVec 32) (k0_hw22 : k0_chk22 arg0 v1 v665), ∀ (k0_h1 : k0_cond1 arg0 v1 = 1#1), ∀ a, (k0_off44 v665) a + S8x128.size a ≤ S7688x256.size a := fun arg0 v1 v665 k0_hw22 k0_h1 => k0_hw22.2.2 k0_h1

def k0_mult23 (v695 : BitVec 32) : BitVec 32 :=
  let c1_i32_174 : BitVec 32 := 1#32
  let v715 : BitVec 32 := Scalar.shrsi v695 c1_i32_174
  v715

def k0_off45 (v695 : BitVec 32) : Fin 2 → Nat :=
  let c1_i32_174 : BitVec 32 := 1#32
  let v715 : BitVec 32 := Scalar.shrsi v695 c1_i32_174
  let v716 : BitVec 32 := v715
  let v717 : Index := Scalar.indexCast v716
  let c0_175 : Index := 0#32
  ![v717.toNat, 0]
def k0_off46 (v695 : BitVec 32) : Fin 2 → Nat :=
  let c1_i32_174 : BitVec 32 := 1#32
  let v715 : BitVec 32 := Scalar.shrsi v695 c1_i32_174
  let v716 : BitVec 32 := v715
  let v721 : Index := Scalar.indexCast v716
  let c128_176 : Index := 128#32
  ![v721.toNat, 128]

def k0_chk23 (arg0 : BitVec 32) (v1 : BitVec 32) (v695 : BitVec 32) : Prop :=
  (∀ (k0_h1 : k0_cond1 arg0 v1 = 1#1), 8 ∣ (k0_mult23 v695).toNat) ∧
  (∀ (k0_h1 : k0_cond1 arg0 v1 = 1#1), ∀ a, (k0_off45 v695) a + S8x128.size a ≤ S7688x256.size a) ∧
  (∀ (k0_h1 : k0_cond1 arg0 v1 = 1#1), ∀ a, (k0_off46 v695) a + S8x128.size a ≤ S7688x256.size a)
theorem k0_mult23_dvd : ∀ (arg0 : BitVec 32) (v1 : BitVec 32) (v695 : BitVec 32) (k0_hw23 : k0_chk23 arg0 v1 v695), ∀ (k0_h1 : k0_cond1 arg0 v1 = 1#1), 8 ∣ (k0_mult23 v695).toNat := fun arg0 v1 v695 k0_hw23 k0_h1 => k0_hw23.1 k0_h1
theorem k0_off45_inb : ∀ (arg0 : BitVec 32) (v1 : BitVec 32) (v695 : BitVec 32) (k0_hw23 : k0_chk23 arg0 v1 v695), ∀ (k0_h1 : k0_cond1 arg0 v1 = 1#1), ∀ a, (k0_off45 v695) a + S8x128.size a ≤ S7688x256.size a := fun arg0 v1 v695 k0_hw23 k0_h1 => k0_hw23.2.1 k0_h1
theorem k0_off46_inb : ∀ (arg0 : BitVec 32) (v1 : BitVec 32) (v695 : BitVec 32) (k0_hw23 : k0_chk23 arg0 v1 v695), ∀ (k0_h1 : k0_cond1 arg0 v1 = 1#1), ∀ a, (k0_off46 v695) a + S8x128.size a ≤ S7688x256.size a := fun arg0 v1 v695 k0_hw23 k0_h1 => k0_hw23.2.2 k0_h1

def k0_mult24 (v725 : BitVec 32) : BitVec 32 :=
  let c1_i32_181 : BitVec 32 := 1#32
  let v745 : BitVec 32 := Scalar.shrsi v725 c1_i32_181
  v745

def k0_off47 (v725 : BitVec 32) : Fin 2 → Nat :=
  let c1_i32_181 : BitVec 32 := 1#32
  let v745 : BitVec 32 := Scalar.shrsi v725 c1_i32_181
  let v746 : BitVec 32 := v745
  let v747 : Index := Scalar.indexCast v746
  let c0_182 : Index := 0#32
  ![v747.toNat, 0]
def k0_off48 (v725 : BitVec 32) : Fin 2 → Nat :=
  let c1_i32_181 : BitVec 32 := 1#32
  let v745 : BitVec 32 := Scalar.shrsi v725 c1_i32_181
  let v746 : BitVec 32 := v745
  let v751 : Index := Scalar.indexCast v746
  let c128_183 : Index := 128#32
  ![v751.toNat, 128]

def k0_chk24 (arg0 : BitVec 32) (v1 : BitVec 32) (v725 : BitVec 32) : Prop :=
  (∀ (k0_h1 : k0_cond1 arg0 v1 = 1#1), 8 ∣ (k0_mult24 v725).toNat) ∧
  (∀ (k0_h1 : k0_cond1 arg0 v1 = 1#1), ∀ a, (k0_off47 v725) a + S8x128.size a ≤ S7688x256.size a) ∧
  (∀ (k0_h1 : k0_cond1 arg0 v1 = 1#1), ∀ a, (k0_off48 v725) a + S8x128.size a ≤ S7688x256.size a)
theorem k0_mult24_dvd : ∀ (arg0 : BitVec 32) (v1 : BitVec 32) (v725 : BitVec 32) (k0_hw24 : k0_chk24 arg0 v1 v725), ∀ (k0_h1 : k0_cond1 arg0 v1 = 1#1), 8 ∣ (k0_mult24 v725).toNat := fun arg0 v1 v725 k0_hw24 k0_h1 => k0_hw24.1 k0_h1
theorem k0_off47_inb : ∀ (arg0 : BitVec 32) (v1 : BitVec 32) (v725 : BitVec 32) (k0_hw24 : k0_chk24 arg0 v1 v725), ∀ (k0_h1 : k0_cond1 arg0 v1 = 1#1), ∀ a, (k0_off47 v725) a + S8x128.size a ≤ S7688x256.size a := fun arg0 v1 v725 k0_hw24 k0_h1 => k0_hw24.2.1 k0_h1
theorem k0_off48_inb : ∀ (arg0 : BitVec 32) (v1 : BitVec 32) (v725 : BitVec 32) (k0_hw24 : k0_chk24 arg0 v1 v725), ∀ (k0_h1 : k0_cond1 arg0 v1 = 1#1), ∀ a, (k0_off48 v725) a + S8x128.size a ≤ S7688x256.size a := fun arg0 v1 v725 k0_hw24 k0_h1 => k0_hw24.2.2 k0_h1

def k0_mult25 (v755 : BitVec 32) : BitVec 32 :=
  let c1_i32_188 : BitVec 32 := 1#32
  let v775 : BitVec 32 := Scalar.shrsi v755 c1_i32_188
  v775

def k0_off49 (v755 : BitVec 32) : Fin 2 → Nat :=
  let c1_i32_188 : BitVec 32 := 1#32
  let v775 : BitVec 32 := Scalar.shrsi v755 c1_i32_188
  let v776 : BitVec 32 := v775
  let v777 : Index := Scalar.indexCast v776
  let c0_189 : Index := 0#32
  ![v777.toNat, 0]
def k0_off50 (v755 : BitVec 32) : Fin 2 → Nat :=
  let c1_i32_188 : BitVec 32 := 1#32
  let v775 : BitVec 32 := Scalar.shrsi v755 c1_i32_188
  let v776 : BitVec 32 := v775
  let v781 : Index := Scalar.indexCast v776
  let c128_190 : Index := 128#32
  ![v781.toNat, 128]

def k0_chk25 (arg0 : BitVec 32) (v1 : BitVec 32) (v755 : BitVec 32) : Prop :=
  (∀ (k0_h1 : k0_cond1 arg0 v1 = 1#1), 8 ∣ (k0_mult25 v755).toNat) ∧
  (∀ (k0_h1 : k0_cond1 arg0 v1 = 1#1), ∀ a, (k0_off49 v755) a + S8x128.size a ≤ S7688x256.size a) ∧
  (∀ (k0_h1 : k0_cond1 arg0 v1 = 1#1), ∀ a, (k0_off50 v755) a + S8x128.size a ≤ S7688x256.size a)
theorem k0_mult25_dvd : ∀ (arg0 : BitVec 32) (v1 : BitVec 32) (v755 : BitVec 32) (k0_hw25 : k0_chk25 arg0 v1 v755), ∀ (k0_h1 : k0_cond1 arg0 v1 = 1#1), 8 ∣ (k0_mult25 v755).toNat := fun arg0 v1 v755 k0_hw25 k0_h1 => k0_hw25.1 k0_h1
theorem k0_off49_inb : ∀ (arg0 : BitVec 32) (v1 : BitVec 32) (v755 : BitVec 32) (k0_hw25 : k0_chk25 arg0 v1 v755), ∀ (k0_h1 : k0_cond1 arg0 v1 = 1#1), ∀ a, (k0_off49 v755) a + S8x128.size a ≤ S7688x256.size a := fun arg0 v1 v755 k0_hw25 k0_h1 => k0_hw25.2.1 k0_h1
theorem k0_off50_inb : ∀ (arg0 : BitVec 32) (v1 : BitVec 32) (v755 : BitVec 32) (k0_hw25 : k0_chk25 arg0 v1 v755), ∀ (k0_h1 : k0_cond1 arg0 v1 = 1#1), ∀ a, (k0_off50 v755) a + S8x128.size a ≤ S7688x256.size a := fun arg0 v1 v755 k0_hw25 k0_h1 => k0_hw25.2.2 k0_h1

def k0_mult26 (v785 : BitVec 32) : BitVec 32 :=
  let c1_i32_195 : BitVec 32 := 1#32
  let v805 : BitVec 32 := Scalar.shrsi v785 c1_i32_195
  v805

def k0_off51 (v785 : BitVec 32) : Fin 2 → Nat :=
  let c1_i32_195 : BitVec 32 := 1#32
  let v805 : BitVec 32 := Scalar.shrsi v785 c1_i32_195
  let v806 : BitVec 32 := v805
  let v807 : Index := Scalar.indexCast v806
  let c0_196 : Index := 0#32
  ![v807.toNat, 0]
def k0_off52 (v785 : BitVec 32) : Fin 2 → Nat :=
  let c1_i32_195 : BitVec 32 := 1#32
  let v805 : BitVec 32 := Scalar.shrsi v785 c1_i32_195
  let v806 : BitVec 32 := v805
  let v811 : Index := Scalar.indexCast v806
  let c128_197 : Index := 128#32
  ![v811.toNat, 128]

def k0_chk26 (arg0 : BitVec 32) (v1 : BitVec 32) (v785 : BitVec 32) : Prop :=
  (∀ (k0_h1 : k0_cond1 arg0 v1 = 1#1), 8 ∣ (k0_mult26 v785).toNat) ∧
  (∀ (k0_h1 : k0_cond1 arg0 v1 = 1#1), ∀ a, (k0_off51 v785) a + S8x128.size a ≤ S7688x256.size a) ∧
  (∀ (k0_h1 : k0_cond1 arg0 v1 = 1#1), ∀ a, (k0_off52 v785) a + S8x128.size a ≤ S7688x256.size a)
theorem k0_mult26_dvd : ∀ (arg0 : BitVec 32) (v1 : BitVec 32) (v785 : BitVec 32) (k0_hw26 : k0_chk26 arg0 v1 v785), ∀ (k0_h1 : k0_cond1 arg0 v1 = 1#1), 8 ∣ (k0_mult26 v785).toNat := fun arg0 v1 v785 k0_hw26 k0_h1 => k0_hw26.1 k0_h1
theorem k0_off51_inb : ∀ (arg0 : BitVec 32) (v1 : BitVec 32) (v785 : BitVec 32) (k0_hw26 : k0_chk26 arg0 v1 v785), ∀ (k0_h1 : k0_cond1 arg0 v1 = 1#1), ∀ a, (k0_off51 v785) a + S8x128.size a ≤ S7688x256.size a := fun arg0 v1 v785 k0_hw26 k0_h1 => k0_hw26.2.1 k0_h1
theorem k0_off52_inb : ∀ (arg0 : BitVec 32) (v1 : BitVec 32) (v785 : BitVec 32) (k0_hw26 : k0_chk26 arg0 v1 v785), ∀ (k0_h1 : k0_cond1 arg0 v1 = 1#1), ∀ a, (k0_off52 v785) a + S8x128.size a ≤ S7688x256.size a := fun arg0 v1 v785 k0_hw26 k0_h1 => k0_hw26.2.2 k0_h1

def k0_mult27 (v815 : BitVec 32) : BitVec 32 :=
  let c1_i32_202 : BitVec 32 := 1#32
  let v835 : BitVec 32 := Scalar.shrsi v815 c1_i32_202
  v835

def k0_off53 (v815 : BitVec 32) : Fin 2 → Nat :=
  let c1_i32_202 : BitVec 32 := 1#32
  let v835 : BitVec 32 := Scalar.shrsi v815 c1_i32_202
  let v836 : BitVec 32 := v835
  let v837 : Index := Scalar.indexCast v836
  let c0_203 : Index := 0#32
  ![v837.toNat, 0]
def k0_off54 (v815 : BitVec 32) : Fin 2 → Nat :=
  let c1_i32_202 : BitVec 32 := 1#32
  let v835 : BitVec 32 := Scalar.shrsi v815 c1_i32_202
  let v836 : BitVec 32 := v835
  let v841 : Index := Scalar.indexCast v836
  let c128_204 : Index := 128#32
  ![v841.toNat, 128]

def k0_chk27 (arg0 : BitVec 32) (v1 : BitVec 32) (v815 : BitVec 32) : Prop :=
  (∀ (k0_h1 : k0_cond1 arg0 v1 = 1#1), 8 ∣ (k0_mult27 v815).toNat) ∧
  (∀ (k0_h1 : k0_cond1 arg0 v1 = 1#1), ∀ a, (k0_off53 v815) a + S8x128.size a ≤ S7688x256.size a) ∧
  (∀ (k0_h1 : k0_cond1 arg0 v1 = 1#1), ∀ a, (k0_off54 v815) a + S8x128.size a ≤ S7688x256.size a)
theorem k0_mult27_dvd : ∀ (arg0 : BitVec 32) (v1 : BitVec 32) (v815 : BitVec 32) (k0_hw27 : k0_chk27 arg0 v1 v815), ∀ (k0_h1 : k0_cond1 arg0 v1 = 1#1), 8 ∣ (k0_mult27 v815).toNat := fun arg0 v1 v815 k0_hw27 k0_h1 => k0_hw27.1 k0_h1
theorem k0_off53_inb : ∀ (arg0 : BitVec 32) (v1 : BitVec 32) (v815 : BitVec 32) (k0_hw27 : k0_chk27 arg0 v1 v815), ∀ (k0_h1 : k0_cond1 arg0 v1 = 1#1), ∀ a, (k0_off53 v815) a + S8x128.size a ≤ S7688x256.size a := fun arg0 v1 v815 k0_hw27 k0_h1 => k0_hw27.2.1 k0_h1
theorem k0_off54_inb : ∀ (arg0 : BitVec 32) (v1 : BitVec 32) (v815 : BitVec 32) (k0_hw27 : k0_chk27 arg0 v1 v815), ∀ (k0_h1 : k0_cond1 arg0 v1 = 1#1), ∀ a, (k0_off54 v815) a + S8x128.size a ≤ S7688x256.size a := fun arg0 v1 v815 k0_hw27 k0_h1 => k0_hw27.2.2 k0_h1

def k0_mult28 (v845 : BitVec 32) : BitVec 32 :=
  let c1_i32_209 : BitVec 32 := 1#32
  let v865 : BitVec 32 := Scalar.shrsi v845 c1_i32_209
  v865

def k0_off55 (v845 : BitVec 32) : Fin 2 → Nat :=
  let c1_i32_209 : BitVec 32 := 1#32
  let v865 : BitVec 32 := Scalar.shrsi v845 c1_i32_209
  let v866 : BitVec 32 := v865
  let v867 : Index := Scalar.indexCast v866
  let c0_210 : Index := 0#32
  ![v867.toNat, 0]
def k0_off56 (v845 : BitVec 32) : Fin 2 → Nat :=
  let c1_i32_209 : BitVec 32 := 1#32
  let v865 : BitVec 32 := Scalar.shrsi v845 c1_i32_209
  let v866 : BitVec 32 := v865
  let v871 : Index := Scalar.indexCast v866
  let c128_211 : Index := 128#32
  ![v871.toNat, 128]

def k0_chk28 (arg0 : BitVec 32) (v1 : BitVec 32) (v845 : BitVec 32) : Prop :=
  (∀ (k0_h1 : k0_cond1 arg0 v1 = 1#1), 8 ∣ (k0_mult28 v845).toNat) ∧
  (∀ (k0_h1 : k0_cond1 arg0 v1 = 1#1), ∀ a, (k0_off55 v845) a + S8x128.size a ≤ S7688x256.size a) ∧
  (∀ (k0_h1 : k0_cond1 arg0 v1 = 1#1), ∀ a, (k0_off56 v845) a + S8x128.size a ≤ S7688x256.size a)
theorem k0_mult28_dvd : ∀ (arg0 : BitVec 32) (v1 : BitVec 32) (v845 : BitVec 32) (k0_hw28 : k0_chk28 arg0 v1 v845), ∀ (k0_h1 : k0_cond1 arg0 v1 = 1#1), 8 ∣ (k0_mult28 v845).toNat := fun arg0 v1 v845 k0_hw28 k0_h1 => k0_hw28.1 k0_h1
theorem k0_off55_inb : ∀ (arg0 : BitVec 32) (v1 : BitVec 32) (v845 : BitVec 32) (k0_hw28 : k0_chk28 arg0 v1 v845), ∀ (k0_h1 : k0_cond1 arg0 v1 = 1#1), ∀ a, (k0_off55 v845) a + S8x128.size a ≤ S7688x256.size a := fun arg0 v1 v845 k0_hw28 k0_h1 => k0_hw28.2.1 k0_h1
theorem k0_off56_inb : ∀ (arg0 : BitVec 32) (v1 : BitVec 32) (v845 : BitVec 32) (k0_hw28 : k0_chk28 arg0 v1 v845), ∀ (k0_h1 : k0_cond1 arg0 v1 = 1#1), ∀ a, (k0_off56 v845) a + S8x128.size a ≤ S7688x256.size a := fun arg0 v1 v845 k0_hw28 k0_h1 => k0_hw28.2.2 k0_h1

def k0_mult29 (v875 : BitVec 32) : BitVec 32 :=
  let c1_i32_216 : BitVec 32 := 1#32
  let v895 : BitVec 32 := Scalar.shrsi v875 c1_i32_216
  v895

def k0_off57 (v875 : BitVec 32) : Fin 2 → Nat :=
  let c1_i32_216 : BitVec 32 := 1#32
  let v895 : BitVec 32 := Scalar.shrsi v875 c1_i32_216
  let v896 : BitVec 32 := v895
  let v897 : Index := Scalar.indexCast v896
  let c0_217 : Index := 0#32
  ![v897.toNat, 0]
def k0_off58 (v875 : BitVec 32) : Fin 2 → Nat :=
  let c1_i32_216 : BitVec 32 := 1#32
  let v895 : BitVec 32 := Scalar.shrsi v875 c1_i32_216
  let v896 : BitVec 32 := v895
  let v901 : Index := Scalar.indexCast v896
  let c128_218 : Index := 128#32
  ![v901.toNat, 128]

def k0_chk29 (arg0 : BitVec 32) (v1 : BitVec 32) (v875 : BitVec 32) : Prop :=
  (∀ (k0_h1 : k0_cond1 arg0 v1 = 1#1), 8 ∣ (k0_mult29 v875).toNat) ∧
  (∀ (k0_h1 : k0_cond1 arg0 v1 = 1#1), ∀ a, (k0_off57 v875) a + S8x128.size a ≤ S7688x256.size a) ∧
  (∀ (k0_h1 : k0_cond1 arg0 v1 = 1#1), ∀ a, (k0_off58 v875) a + S8x128.size a ≤ S7688x256.size a)
theorem k0_mult29_dvd : ∀ (arg0 : BitVec 32) (v1 : BitVec 32) (v875 : BitVec 32) (k0_hw29 : k0_chk29 arg0 v1 v875), ∀ (k0_h1 : k0_cond1 arg0 v1 = 1#1), 8 ∣ (k0_mult29 v875).toNat := fun arg0 v1 v875 k0_hw29 k0_h1 => k0_hw29.1 k0_h1
theorem k0_off57_inb : ∀ (arg0 : BitVec 32) (v1 : BitVec 32) (v875 : BitVec 32) (k0_hw29 : k0_chk29 arg0 v1 v875), ∀ (k0_h1 : k0_cond1 arg0 v1 = 1#1), ∀ a, (k0_off57 v875) a + S8x128.size a ≤ S7688x256.size a := fun arg0 v1 v875 k0_hw29 k0_h1 => k0_hw29.2.1 k0_h1
theorem k0_off58_inb : ∀ (arg0 : BitVec 32) (v1 : BitVec 32) (v875 : BitVec 32) (k0_hw29 : k0_chk29 arg0 v1 v875), ∀ (k0_h1 : k0_cond1 arg0 v1 = 1#1), ∀ a, (k0_off58 v875) a + S8x128.size a ≤ S7688x256.size a := fun arg0 v1 v875 k0_hw29 k0_h1 => k0_hw29.2.2 k0_h1

def k0_mult30 (v905 : BitVec 32) : BitVec 32 :=
  let c1_i32_223 : BitVec 32 := 1#32
  let v925 : BitVec 32 := Scalar.shrsi v905 c1_i32_223
  v925

def k0_off59 (v905 : BitVec 32) : Fin 2 → Nat :=
  let c1_i32_223 : BitVec 32 := 1#32
  let v925 : BitVec 32 := Scalar.shrsi v905 c1_i32_223
  let v926 : BitVec 32 := v925
  let v927 : Index := Scalar.indexCast v926
  let c0_224 : Index := 0#32
  ![v927.toNat, 0]
def k0_off60 (v905 : BitVec 32) : Fin 2 → Nat :=
  let c1_i32_223 : BitVec 32 := 1#32
  let v925 : BitVec 32 := Scalar.shrsi v905 c1_i32_223
  let v926 : BitVec 32 := v925
  let v931 : Index := Scalar.indexCast v926
  let c128_225 : Index := 128#32
  ![v931.toNat, 128]

def k0_chk30 (arg0 : BitVec 32) (v1 : BitVec 32) (v905 : BitVec 32) : Prop :=
  (∀ (k0_h1 : k0_cond1 arg0 v1 = 1#1), 8 ∣ (k0_mult30 v905).toNat) ∧
  (∀ (k0_h1 : k0_cond1 arg0 v1 = 1#1), ∀ a, (k0_off59 v905) a + S8x128.size a ≤ S7688x256.size a) ∧
  (∀ (k0_h1 : k0_cond1 arg0 v1 = 1#1), ∀ a, (k0_off60 v905) a + S8x128.size a ≤ S7688x256.size a)
theorem k0_mult30_dvd : ∀ (arg0 : BitVec 32) (v1 : BitVec 32) (v905 : BitVec 32) (k0_hw30 : k0_chk30 arg0 v1 v905), ∀ (k0_h1 : k0_cond1 arg0 v1 = 1#1), 8 ∣ (k0_mult30 v905).toNat := fun arg0 v1 v905 k0_hw30 k0_h1 => k0_hw30.1 k0_h1
theorem k0_off59_inb : ∀ (arg0 : BitVec 32) (v1 : BitVec 32) (v905 : BitVec 32) (k0_hw30 : k0_chk30 arg0 v1 v905), ∀ (k0_h1 : k0_cond1 arg0 v1 = 1#1), ∀ a, (k0_off59 v905) a + S8x128.size a ≤ S7688x256.size a := fun arg0 v1 v905 k0_hw30 k0_h1 => k0_hw30.2.1 k0_h1
theorem k0_off60_inb : ∀ (arg0 : BitVec 32) (v1 : BitVec 32) (v905 : BitVec 32) (k0_hw30 : k0_chk30 arg0 v1 v905), ∀ (k0_h1 : k0_cond1 arg0 v1 = 1#1), ∀ a, (k0_off60 v905) a + S8x128.size a ≤ S7688x256.size a := fun arg0 v1 v905 k0_hw30 k0_h1 => k0_hw30.2.2 k0_h1

def k0_mult31 (v935 : BitVec 32) : BitVec 32 :=
  let c1_i32_230 : BitVec 32 := 1#32
  let v955 : BitVec 32 := Scalar.shrsi v935 c1_i32_230
  v955

def k0_off61 (v935 : BitVec 32) : Fin 2 → Nat :=
  let c1_i32_230 : BitVec 32 := 1#32
  let v955 : BitVec 32 := Scalar.shrsi v935 c1_i32_230
  let v956 : BitVec 32 := v955
  let v957 : Index := Scalar.indexCast v956
  let c0_231 : Index := 0#32
  ![v957.toNat, 0]
def k0_off62 (v935 : BitVec 32) : Fin 2 → Nat :=
  let c1_i32_230 : BitVec 32 := 1#32
  let v955 : BitVec 32 := Scalar.shrsi v935 c1_i32_230
  let v956 : BitVec 32 := v955
  let v961 : Index := Scalar.indexCast v956
  let c128_232 : Index := 128#32
  ![v961.toNat, 128]

def k0_chk31 (arg0 : BitVec 32) (v1 : BitVec 32) (v935 : BitVec 32) : Prop :=
  (∀ (k0_h1 : k0_cond1 arg0 v1 = 1#1), 8 ∣ (k0_mult31 v935).toNat) ∧
  (∀ (k0_h1 : k0_cond1 arg0 v1 = 1#1), ∀ a, (k0_off61 v935) a + S8x128.size a ≤ S7688x256.size a) ∧
  (∀ (k0_h1 : k0_cond1 arg0 v1 = 1#1), ∀ a, (k0_off62 v935) a + S8x128.size a ≤ S7688x256.size a)
theorem k0_mult31_dvd : ∀ (arg0 : BitVec 32) (v1 : BitVec 32) (v935 : BitVec 32) (k0_hw31 : k0_chk31 arg0 v1 v935), ∀ (k0_h1 : k0_cond1 arg0 v1 = 1#1), 8 ∣ (k0_mult31 v935).toNat := fun arg0 v1 v935 k0_hw31 k0_h1 => k0_hw31.1 k0_h1
theorem k0_off61_inb : ∀ (arg0 : BitVec 32) (v1 : BitVec 32) (v935 : BitVec 32) (k0_hw31 : k0_chk31 arg0 v1 v935), ∀ (k0_h1 : k0_cond1 arg0 v1 = 1#1), ∀ a, (k0_off61 v935) a + S8x128.size a ≤ S7688x256.size a := fun arg0 v1 v935 k0_hw31 k0_h1 => k0_hw31.2.1 k0_h1
theorem k0_off62_inb : ∀ (arg0 : BitVec 32) (v1 : BitVec 32) (v935 : BitVec 32) (k0_hw31 : k0_chk31 arg0 v1 v935), ∀ (k0_h1 : k0_cond1 arg0 v1 = 1#1), ∀ a, (k0_off62 v935) a + S8x128.size a ≤ S7688x256.size a := fun arg0 v1 v935 k0_hw31 k0_h1 => k0_hw31.2.2 k0_h1

def k0_mult32 (v965 : BitVec 32) : BitVec 32 :=
  let c1_i32_237 : BitVec 32 := 1#32
  let v985 : BitVec 32 := Scalar.shrsi v965 c1_i32_237
  v985

def k0_off63 (v965 : BitVec 32) : Fin 2 → Nat :=
  let c1_i32_237 : BitVec 32 := 1#32
  let v985 : BitVec 32 := Scalar.shrsi v965 c1_i32_237
  let v986 : BitVec 32 := v985
  let v987 : Index := Scalar.indexCast v986
  let c0_238 : Index := 0#32
  ![v987.toNat, 0]
def k0_off64 (v965 : BitVec 32) : Fin 2 → Nat :=
  let c1_i32_237 : BitVec 32 := 1#32
  let v985 : BitVec 32 := Scalar.shrsi v965 c1_i32_237
  let v986 : BitVec 32 := v985
  let v991 : Index := Scalar.indexCast v986
  let c128_239 : Index := 128#32
  ![v991.toNat, 128]

def k0_chk32 (arg0 : BitVec 32) (v1 : BitVec 32) (v965 : BitVec 32) : Prop :=
  (∀ (k0_h1 : k0_cond1 arg0 v1 = 1#1), 8 ∣ (k0_mult32 v965).toNat) ∧
  (∀ (k0_h1 : k0_cond1 arg0 v1 = 1#1), ∀ a, (k0_off63 v965) a + S8x128.size a ≤ S7688x256.size a) ∧
  (∀ (k0_h1 : k0_cond1 arg0 v1 = 1#1), ∀ a, (k0_off64 v965) a + S8x128.size a ≤ S7688x256.size a)
theorem k0_mult32_dvd : ∀ (arg0 : BitVec 32) (v1 : BitVec 32) (v965 : BitVec 32) (k0_hw32 : k0_chk32 arg0 v1 v965), ∀ (k0_h1 : k0_cond1 arg0 v1 = 1#1), 8 ∣ (k0_mult32 v965).toNat := fun arg0 v1 v965 k0_hw32 k0_h1 => k0_hw32.1 k0_h1
theorem k0_off63_inb : ∀ (arg0 : BitVec 32) (v1 : BitVec 32) (v965 : BitVec 32) (k0_hw32 : k0_chk32 arg0 v1 v965), ∀ (k0_h1 : k0_cond1 arg0 v1 = 1#1), ∀ a, (k0_off63 v965) a + S8x128.size a ≤ S7688x256.size a := fun arg0 v1 v965 k0_hw32 k0_h1 => k0_hw32.2.1 k0_h1
theorem k0_off64_inb : ∀ (arg0 : BitVec 32) (v1 : BitVec 32) (v965 : BitVec 32) (k0_hw32 : k0_chk32 arg0 v1 v965), ∀ (k0_h1 : k0_cond1 arg0 v1 = 1#1), ∀ a, (k0_off64 v965) a + S8x128.size a ≤ S7688x256.size a := fun arg0 v1 v965 k0_hw32 k0_h1 => k0_hw32.2.2 k0_h1

def k0_mult33 (v995 : BitVec 32) : BitVec 32 :=
  let c1_i32_244 : BitVec 32 := 1#32
  let v1015 : BitVec 32 := Scalar.shrsi v995 c1_i32_244
  v1015

def k0_off65 (v995 : BitVec 32) : Fin 2 → Nat :=
  let c1_i32_244 : BitVec 32 := 1#32
  let v1015 : BitVec 32 := Scalar.shrsi v995 c1_i32_244
  let v1016 : BitVec 32 := v1015
  let v1017 : Index := Scalar.indexCast v1016
  let c0_245 : Index := 0#32
  ![v1017.toNat, 0]
def k0_off66 (v995 : BitVec 32) : Fin 2 → Nat :=
  let c1_i32_244 : BitVec 32 := 1#32
  let v1015 : BitVec 32 := Scalar.shrsi v995 c1_i32_244
  let v1016 : BitVec 32 := v1015
  let v1021 : Index := Scalar.indexCast v1016
  let c128_246 : Index := 128#32
  ![v1021.toNat, 128]

def k0_chk33 (arg0 : BitVec 32) (v1 : BitVec 32) (v995 : BitVec 32) : Prop :=
  (∀ (k0_h1 : k0_cond1 arg0 v1 = 1#1), 8 ∣ (k0_mult33 v995).toNat) ∧
  (∀ (k0_h1 : k0_cond1 arg0 v1 = 1#1), ∀ a, (k0_off65 v995) a + S8x128.size a ≤ S7688x256.size a) ∧
  (∀ (k0_h1 : k0_cond1 arg0 v1 = 1#1), ∀ a, (k0_off66 v995) a + S8x128.size a ≤ S7688x256.size a)
theorem k0_mult33_dvd : ∀ (arg0 : BitVec 32) (v1 : BitVec 32) (v995 : BitVec 32) (k0_hw33 : k0_chk33 arg0 v1 v995), ∀ (k0_h1 : k0_cond1 arg0 v1 = 1#1), 8 ∣ (k0_mult33 v995).toNat := fun arg0 v1 v995 k0_hw33 k0_h1 => k0_hw33.1 k0_h1
theorem k0_off65_inb : ∀ (arg0 : BitVec 32) (v1 : BitVec 32) (v995 : BitVec 32) (k0_hw33 : k0_chk33 arg0 v1 v995), ∀ (k0_h1 : k0_cond1 arg0 v1 = 1#1), ∀ a, (k0_off65 v995) a + S8x128.size a ≤ S7688x256.size a := fun arg0 v1 v995 k0_hw33 k0_h1 => k0_hw33.2.1 k0_h1
theorem k0_off66_inb : ∀ (arg0 : BitVec 32) (v1 : BitVec 32) (v995 : BitVec 32) (k0_hw33 : k0_chk33 arg0 v1 v995), ∀ (k0_h1 : k0_cond1 arg0 v1 = 1#1), ∀ a, (k0_off66 v995) a + S8x128.size a ≤ S7688x256.size a := fun arg0 v1 v995 k0_hw33 k0_h1 => k0_hw33.2.2 k0_h1

def k0_mult34 (v1025 : BitVec 32) : BitVec 32 :=
  let c1_i32_251 : BitVec 32 := 1#32
  let v1045 : BitVec 32 := Scalar.shrsi v1025 c1_i32_251
  v1045

def k0_off67 (v1025 : BitVec 32) : Fin 2 → Nat :=
  let c1_i32_251 : BitVec 32 := 1#32
  let v1045 : BitVec 32 := Scalar.shrsi v1025 c1_i32_251
  let v1046 : BitVec 32 := v1045
  let v1047 : Index := Scalar.indexCast v1046
  let c0_252 : Index := 0#32
  ![v1047.toNat, 0]
def k0_off68 (v1025 : BitVec 32) : Fin 2 → Nat :=
  let c1_i32_251 : BitVec 32 := 1#32
  let v1045 : BitVec 32 := Scalar.shrsi v1025 c1_i32_251
  let v1046 : BitVec 32 := v1045
  let v1051 : Index := Scalar.indexCast v1046
  let c128_253 : Index := 128#32
  ![v1051.toNat, 128]

def k0_chk34 (arg0 : BitVec 32) (v1 : BitVec 32) (v1025 : BitVec 32) : Prop :=
  (∀ (k0_h1 : k0_cond1 arg0 v1 = 1#1), 8 ∣ (k0_mult34 v1025).toNat) ∧
  (∀ (k0_h1 : k0_cond1 arg0 v1 = 1#1), ∀ a, (k0_off67 v1025) a + S8x128.size a ≤ S7688x256.size a) ∧
  (∀ (k0_h1 : k0_cond1 arg0 v1 = 1#1), ∀ a, (k0_off68 v1025) a + S8x128.size a ≤ S7688x256.size a)
theorem k0_mult34_dvd : ∀ (arg0 : BitVec 32) (v1 : BitVec 32) (v1025 : BitVec 32) (k0_hw34 : k0_chk34 arg0 v1 v1025), ∀ (k0_h1 : k0_cond1 arg0 v1 = 1#1), 8 ∣ (k0_mult34 v1025).toNat := fun arg0 v1 v1025 k0_hw34 k0_h1 => k0_hw34.1 k0_h1
theorem k0_off67_inb : ∀ (arg0 : BitVec 32) (v1 : BitVec 32) (v1025 : BitVec 32) (k0_hw34 : k0_chk34 arg0 v1 v1025), ∀ (k0_h1 : k0_cond1 arg0 v1 = 1#1), ∀ a, (k0_off67 v1025) a + S8x128.size a ≤ S7688x256.size a := fun arg0 v1 v1025 k0_hw34 k0_h1 => k0_hw34.2.1 k0_h1
theorem k0_off68_inb : ∀ (arg0 : BitVec 32) (v1 : BitVec 32) (v1025 : BitVec 32) (k0_hw34 : k0_chk34 arg0 v1 v1025), ∀ (k0_h1 : k0_cond1 arg0 v1 = 1#1), ∀ a, (k0_off68 v1025) a + S8x128.size a ≤ S7688x256.size a := fun arg0 v1 v1025 k0_hw34 k0_h1 => k0_hw34.2.2 k0_h1

def k0_mult35 (v1055 : BitVec 32) : BitVec 32 :=
  let c1_i32_258 : BitVec 32 := 1#32
  let v1075 : BitVec 32 := Scalar.shrsi v1055 c1_i32_258
  v1075

def k0_off69 (v1055 : BitVec 32) : Fin 2 → Nat :=
  let c1_i32_258 : BitVec 32 := 1#32
  let v1075 : BitVec 32 := Scalar.shrsi v1055 c1_i32_258
  let v1076 : BitVec 32 := v1075
  let v1077 : Index := Scalar.indexCast v1076
  let c0_259 : Index := 0#32
  ![v1077.toNat, 0]
def k0_off70 (v1055 : BitVec 32) : Fin 2 → Nat :=
  let c1_i32_258 : BitVec 32 := 1#32
  let v1075 : BitVec 32 := Scalar.shrsi v1055 c1_i32_258
  let v1076 : BitVec 32 := v1075
  let v1081 : Index := Scalar.indexCast v1076
  let c128_260 : Index := 128#32
  ![v1081.toNat, 128]

def k0_chk35 (arg0 : BitVec 32) (v1 : BitVec 32) (v1055 : BitVec 32) : Prop :=
  (∀ (k0_h1 : k0_cond1 arg0 v1 = 1#1), 8 ∣ (k0_mult35 v1055).toNat) ∧
  (∀ (k0_h1 : k0_cond1 arg0 v1 = 1#1), ∀ a, (k0_off69 v1055) a + S8x128.size a ≤ S7688x256.size a) ∧
  (∀ (k0_h1 : k0_cond1 arg0 v1 = 1#1), ∀ a, (k0_off70 v1055) a + S8x128.size a ≤ S7688x256.size a)
theorem k0_mult35_dvd : ∀ (arg0 : BitVec 32) (v1 : BitVec 32) (v1055 : BitVec 32) (k0_hw35 : k0_chk35 arg0 v1 v1055), ∀ (k0_h1 : k0_cond1 arg0 v1 = 1#1), 8 ∣ (k0_mult35 v1055).toNat := fun arg0 v1 v1055 k0_hw35 k0_h1 => k0_hw35.1 k0_h1
theorem k0_off69_inb : ∀ (arg0 : BitVec 32) (v1 : BitVec 32) (v1055 : BitVec 32) (k0_hw35 : k0_chk35 arg0 v1 v1055), ∀ (k0_h1 : k0_cond1 arg0 v1 = 1#1), ∀ a, (k0_off69 v1055) a + S8x128.size a ≤ S7688x256.size a := fun arg0 v1 v1055 k0_hw35 k0_h1 => k0_hw35.2.1 k0_h1
theorem k0_off70_inb : ∀ (arg0 : BitVec 32) (v1 : BitVec 32) (v1055 : BitVec 32) (k0_hw35 : k0_chk35 arg0 v1 v1055), ∀ (k0_h1 : k0_cond1 arg0 v1 = 1#1), ∀ a, (k0_off70 v1055) a + S8x128.size a ≤ S7688x256.size a := fun arg0 v1 v1055 k0_hw35 k0_h1 => k0_hw35.2.2 k0_h1

def k0_mult36 (v1085 : BitVec 32) : BitVec 32 :=
  let c1_i32_265 : BitVec 32 := 1#32
  let v1105 : BitVec 32 := Scalar.shrsi v1085 c1_i32_265
  v1105

def k0_off71 (v1085 : BitVec 32) : Fin 2 → Nat :=
  let c1_i32_265 : BitVec 32 := 1#32
  let v1105 : BitVec 32 := Scalar.shrsi v1085 c1_i32_265
  let v1106 : BitVec 32 := v1105
  let v1107 : Index := Scalar.indexCast v1106
  let c0_266 : Index := 0#32
  ![v1107.toNat, 0]
def k0_off72 (v1085 : BitVec 32) : Fin 2 → Nat :=
  let c1_i32_265 : BitVec 32 := 1#32
  let v1105 : BitVec 32 := Scalar.shrsi v1085 c1_i32_265
  let v1106 : BitVec 32 := v1105
  let v1111 : Index := Scalar.indexCast v1106
  let c128_267 : Index := 128#32
  ![v1111.toNat, 128]

def k0_chk36 (arg0 : BitVec 32) (v1 : BitVec 32) (v1085 : BitVec 32) : Prop :=
  (∀ (k0_h1 : k0_cond1 arg0 v1 = 1#1), 8 ∣ (k0_mult36 v1085).toNat) ∧
  (∀ (k0_h1 : k0_cond1 arg0 v1 = 1#1), ∀ a, (k0_off71 v1085) a + S8x128.size a ≤ S7688x256.size a) ∧
  (∀ (k0_h1 : k0_cond1 arg0 v1 = 1#1), ∀ a, (k0_off72 v1085) a + S8x128.size a ≤ S7688x256.size a)
theorem k0_mult36_dvd : ∀ (arg0 : BitVec 32) (v1 : BitVec 32) (v1085 : BitVec 32) (k0_hw36 : k0_chk36 arg0 v1 v1085), ∀ (k0_h1 : k0_cond1 arg0 v1 = 1#1), 8 ∣ (k0_mult36 v1085).toNat := fun arg0 v1 v1085 k0_hw36 k0_h1 => k0_hw36.1 k0_h1
theorem k0_off71_inb : ∀ (arg0 : BitVec 32) (v1 : BitVec 32) (v1085 : BitVec 32) (k0_hw36 : k0_chk36 arg0 v1 v1085), ∀ (k0_h1 : k0_cond1 arg0 v1 = 1#1), ∀ a, (k0_off71 v1085) a + S8x128.size a ≤ S7688x256.size a := fun arg0 v1 v1085 k0_hw36 k0_h1 => k0_hw36.2.1 k0_h1
theorem k0_off72_inb : ∀ (arg0 : BitVec 32) (v1 : BitVec 32) (v1085 : BitVec 32) (k0_hw36 : k0_chk36 arg0 v1 v1085), ∀ (k0_h1 : k0_cond1 arg0 v1 = 1#1), ∀ a, (k0_off72 v1085) a + S8x128.size a ≤ S7688x256.size a := fun arg0 v1 v1085 k0_hw36 k0_h1 => k0_hw36.2.2 k0_h1

def k0_mult37 (v1115 : BitVec 32) : BitVec 32 :=
  let c1_i32_272 : BitVec 32 := 1#32
  let v1135 : BitVec 32 := Scalar.shrsi v1115 c1_i32_272
  v1135

def k0_off73 (v1115 : BitVec 32) : Fin 2 → Nat :=
  let c1_i32_272 : BitVec 32 := 1#32
  let v1135 : BitVec 32 := Scalar.shrsi v1115 c1_i32_272
  let v1136 : BitVec 32 := v1135
  let v1137 : Index := Scalar.indexCast v1136
  let c0_273 : Index := 0#32
  ![v1137.toNat, 0]
def k0_off74 (v1115 : BitVec 32) : Fin 2 → Nat :=
  let c1_i32_272 : BitVec 32 := 1#32
  let v1135 : BitVec 32 := Scalar.shrsi v1115 c1_i32_272
  let v1136 : BitVec 32 := v1135
  let v1141 : Index := Scalar.indexCast v1136
  let c128_274 : Index := 128#32
  ![v1141.toNat, 128]

def k0_chk37 (arg0 : BitVec 32) (v1 : BitVec 32) (v1115 : BitVec 32) : Prop :=
  (∀ (k0_h1 : k0_cond1 arg0 v1 = 1#1), 8 ∣ (k0_mult37 v1115).toNat) ∧
  (∀ (k0_h1 : k0_cond1 arg0 v1 = 1#1), ∀ a, (k0_off73 v1115) a + S8x128.size a ≤ S7688x256.size a) ∧
  (∀ (k0_h1 : k0_cond1 arg0 v1 = 1#1), ∀ a, (k0_off74 v1115) a + S8x128.size a ≤ S7688x256.size a)
theorem k0_mult37_dvd : ∀ (arg0 : BitVec 32) (v1 : BitVec 32) (v1115 : BitVec 32) (k0_hw37 : k0_chk37 arg0 v1 v1115), ∀ (k0_h1 : k0_cond1 arg0 v1 = 1#1), 8 ∣ (k0_mult37 v1115).toNat := fun arg0 v1 v1115 k0_hw37 k0_h1 => k0_hw37.1 k0_h1
theorem k0_off73_inb : ∀ (arg0 : BitVec 32) (v1 : BitVec 32) (v1115 : BitVec 32) (k0_hw37 : k0_chk37 arg0 v1 v1115), ∀ (k0_h1 : k0_cond1 arg0 v1 = 1#1), ∀ a, (k0_off73 v1115) a + S8x128.size a ≤ S7688x256.size a := fun arg0 v1 v1115 k0_hw37 k0_h1 => k0_hw37.2.1 k0_h1
theorem k0_off74_inb : ∀ (arg0 : BitVec 32) (v1 : BitVec 32) (v1115 : BitVec 32) (k0_hw37 : k0_chk37 arg0 v1 v1115), ∀ (k0_h1 : k0_cond1 arg0 v1 = 1#1), ∀ a, (k0_off74 v1115) a + S8x128.size a ≤ S7688x256.size a := fun arg0 v1 v1115 k0_hw37 k0_h1 => k0_hw37.2.2 k0_h1

def k0_mult38 (v1145 : BitVec 32) : BitVec 32 :=
  let c1_i32_279 : BitVec 32 := 1#32
  let v1165 : BitVec 32 := Scalar.shrsi v1145 c1_i32_279
  v1165

def k0_off75 (v1145 : BitVec 32) : Fin 2 → Nat :=
  let c1_i32_279 : BitVec 32 := 1#32
  let v1165 : BitVec 32 := Scalar.shrsi v1145 c1_i32_279
  let v1166 : BitVec 32 := v1165
  let v1167 : Index := Scalar.indexCast v1166
  let c0_280 : Index := 0#32
  ![v1167.toNat, 0]
def k0_off76 (v1145 : BitVec 32) : Fin 2 → Nat :=
  let c1_i32_279 : BitVec 32 := 1#32
  let v1165 : BitVec 32 := Scalar.shrsi v1145 c1_i32_279
  let v1166 : BitVec 32 := v1165
  let v1171 : Index := Scalar.indexCast v1166
  let c128_281 : Index := 128#32
  ![v1171.toNat, 128]

def k0_chk38 (arg0 : BitVec 32) (v1 : BitVec 32) (v1145 : BitVec 32) : Prop :=
  (∀ (k0_h1 : k0_cond1 arg0 v1 = 1#1), 8 ∣ (k0_mult38 v1145).toNat) ∧
  (∀ (k0_h1 : k0_cond1 arg0 v1 = 1#1), ∀ a, (k0_off75 v1145) a + S8x128.size a ≤ S7688x256.size a) ∧
  (∀ (k0_h1 : k0_cond1 arg0 v1 = 1#1), ∀ a, (k0_off76 v1145) a + S8x128.size a ≤ S7688x256.size a)
theorem k0_mult38_dvd : ∀ (arg0 : BitVec 32) (v1 : BitVec 32) (v1145 : BitVec 32) (k0_hw38 : k0_chk38 arg0 v1 v1145), ∀ (k0_h1 : k0_cond1 arg0 v1 = 1#1), 8 ∣ (k0_mult38 v1145).toNat := fun arg0 v1 v1145 k0_hw38 k0_h1 => k0_hw38.1 k0_h1
theorem k0_off75_inb : ∀ (arg0 : BitVec 32) (v1 : BitVec 32) (v1145 : BitVec 32) (k0_hw38 : k0_chk38 arg0 v1 v1145), ∀ (k0_h1 : k0_cond1 arg0 v1 = 1#1), ∀ a, (k0_off75 v1145) a + S8x128.size a ≤ S7688x256.size a := fun arg0 v1 v1145 k0_hw38 k0_h1 => k0_hw38.2.1 k0_h1
theorem k0_off76_inb : ∀ (arg0 : BitVec 32) (v1 : BitVec 32) (v1145 : BitVec 32) (k0_hw38 : k0_chk38 arg0 v1 v1145), ∀ (k0_h1 : k0_cond1 arg0 v1 = 1#1), ∀ a, (k0_off76 v1145) a + S8x128.size a ≤ S7688x256.size a := fun arg0 v1 v1145 k0_hw38 k0_h1 => k0_hw38.2.2 k0_h1

def k0_mult39 (v1175 : BitVec 32) : BitVec 32 :=
  let c1_i32_286 : BitVec 32 := 1#32
  let v1195 : BitVec 32 := Scalar.shrsi v1175 c1_i32_286
  v1195

def k0_off77 (v1175 : BitVec 32) : Fin 2 → Nat :=
  let c1_i32_286 : BitVec 32 := 1#32
  let v1195 : BitVec 32 := Scalar.shrsi v1175 c1_i32_286
  let v1196 : BitVec 32 := v1195
  let v1197 : Index := Scalar.indexCast v1196
  let c0_287 : Index := 0#32
  ![v1197.toNat, 0]
def k0_off78 (v1175 : BitVec 32) : Fin 2 → Nat :=
  let c1_i32_286 : BitVec 32 := 1#32
  let v1195 : BitVec 32 := Scalar.shrsi v1175 c1_i32_286
  let v1196 : BitVec 32 := v1195
  let v1201 : Index := Scalar.indexCast v1196
  let c128_288 : Index := 128#32
  ![v1201.toNat, 128]

def k0_chk39 (arg0 : BitVec 32) (v1 : BitVec 32) (v1175 : BitVec 32) : Prop :=
  (∀ (k0_h1 : k0_cond1 arg0 v1 = 1#1), 8 ∣ (k0_mult39 v1175).toNat) ∧
  (∀ (k0_h1 : k0_cond1 arg0 v1 = 1#1), ∀ a, (k0_off77 v1175) a + S8x128.size a ≤ S7688x256.size a) ∧
  (∀ (k0_h1 : k0_cond1 arg0 v1 = 1#1), ∀ a, (k0_off78 v1175) a + S8x128.size a ≤ S7688x256.size a)
theorem k0_mult39_dvd : ∀ (arg0 : BitVec 32) (v1 : BitVec 32) (v1175 : BitVec 32) (k0_hw39 : k0_chk39 arg0 v1 v1175), ∀ (k0_h1 : k0_cond1 arg0 v1 = 1#1), 8 ∣ (k0_mult39 v1175).toNat := fun arg0 v1 v1175 k0_hw39 k0_h1 => k0_hw39.1 k0_h1
theorem k0_off77_inb : ∀ (arg0 : BitVec 32) (v1 : BitVec 32) (v1175 : BitVec 32) (k0_hw39 : k0_chk39 arg0 v1 v1175), ∀ (k0_h1 : k0_cond1 arg0 v1 = 1#1), ∀ a, (k0_off77 v1175) a + S8x128.size a ≤ S7688x256.size a := fun arg0 v1 v1175 k0_hw39 k0_h1 => k0_hw39.2.1 k0_h1
theorem k0_off78_inb : ∀ (arg0 : BitVec 32) (v1 : BitVec 32) (v1175 : BitVec 32) (k0_hw39 : k0_chk39 arg0 v1 v1175), ∀ (k0_h1 : k0_cond1 arg0 v1 = 1#1), ∀ a, (k0_off78 v1175) a + S8x128.size a ≤ S7688x256.size a := fun arg0 v1 v1175 k0_hw39 k0_h1 => k0_hw39.2.2 k0_h1

def k0_mult40 (v1205 : BitVec 32) : BitVec 32 :=
  let c1_i32_293 : BitVec 32 := 1#32
  let v1225 : BitVec 32 := Scalar.shrsi v1205 c1_i32_293
  v1225

def k0_off79 (v1205 : BitVec 32) : Fin 2 → Nat :=
  let c1_i32_293 : BitVec 32 := 1#32
  let v1225 : BitVec 32 := Scalar.shrsi v1205 c1_i32_293
  let v1226 : BitVec 32 := v1225
  let v1227 : Index := Scalar.indexCast v1226
  let c0_294 : Index := 0#32
  ![v1227.toNat, 0]
def k0_off80 (v1205 : BitVec 32) : Fin 2 → Nat :=
  let c1_i32_293 : BitVec 32 := 1#32
  let v1225 : BitVec 32 := Scalar.shrsi v1205 c1_i32_293
  let v1226 : BitVec 32 := v1225
  let v1231 : Index := Scalar.indexCast v1226
  let c128_295 : Index := 128#32
  ![v1231.toNat, 128]

def k0_chk40 (arg0 : BitVec 32) (v1 : BitVec 32) (v1205 : BitVec 32) : Prop :=
  (∀ (k0_h1 : k0_cond1 arg0 v1 = 1#1), 8 ∣ (k0_mult40 v1205).toNat) ∧
  (∀ (k0_h1 : k0_cond1 arg0 v1 = 1#1), ∀ a, (k0_off79 v1205) a + S8x128.size a ≤ S7688x256.size a) ∧
  (∀ (k0_h1 : k0_cond1 arg0 v1 = 1#1), ∀ a, (k0_off80 v1205) a + S8x128.size a ≤ S7688x256.size a)
theorem k0_mult40_dvd : ∀ (arg0 : BitVec 32) (v1 : BitVec 32) (v1205 : BitVec 32) (k0_hw40 : k0_chk40 arg0 v1 v1205), ∀ (k0_h1 : k0_cond1 arg0 v1 = 1#1), 8 ∣ (k0_mult40 v1205).toNat := fun arg0 v1 v1205 k0_hw40 k0_h1 => k0_hw40.1 k0_h1
theorem k0_off79_inb : ∀ (arg0 : BitVec 32) (v1 : BitVec 32) (v1205 : BitVec 32) (k0_hw40 : k0_chk40 arg0 v1 v1205), ∀ (k0_h1 : k0_cond1 arg0 v1 = 1#1), ∀ a, (k0_off79 v1205) a + S8x128.size a ≤ S7688x256.size a := fun arg0 v1 v1205 k0_hw40 k0_h1 => k0_hw40.2.1 k0_h1
theorem k0_off80_inb : ∀ (arg0 : BitVec 32) (v1 : BitVec 32) (v1205 : BitVec 32) (k0_hw40 : k0_chk40 arg0 v1 v1205), ∀ (k0_h1 : k0_cond1 arg0 v1 = 1#1), ∀ a, (k0_off80 v1205) a + S8x128.size a ≤ S7688x256.size a := fun arg0 v1 v1205 k0_hw40 k0_h1 => k0_hw40.2.2 k0_h1

def k0_mult41 (v1235 : BitVec 32) : BitVec 32 :=
  let c1_i32_300 : BitVec 32 := 1#32
  let v1255 : BitVec 32 := Scalar.shrsi v1235 c1_i32_300
  v1255

def k0_off81 (v1235 : BitVec 32) : Fin 2 → Nat :=
  let c1_i32_300 : BitVec 32 := 1#32
  let v1255 : BitVec 32 := Scalar.shrsi v1235 c1_i32_300
  let v1256 : BitVec 32 := v1255
  let v1257 : Index := Scalar.indexCast v1256
  let c0_301 : Index := 0#32
  ![v1257.toNat, 0]
def k0_off82 (v1235 : BitVec 32) : Fin 2 → Nat :=
  let c1_i32_300 : BitVec 32 := 1#32
  let v1255 : BitVec 32 := Scalar.shrsi v1235 c1_i32_300
  let v1256 : BitVec 32 := v1255
  let v1261 : Index := Scalar.indexCast v1256
  let c128_302 : Index := 128#32
  ![v1261.toNat, 128]

def k0_chk41 (arg0 : BitVec 32) (v1 : BitVec 32) (v1235 : BitVec 32) : Prop :=
  (∀ (k0_h1 : k0_cond1 arg0 v1 = 1#1), 8 ∣ (k0_mult41 v1235).toNat) ∧
  (∀ (k0_h1 : k0_cond1 arg0 v1 = 1#1), ∀ a, (k0_off81 v1235) a + S8x128.size a ≤ S7688x256.size a) ∧
  (∀ (k0_h1 : k0_cond1 arg0 v1 = 1#1), ∀ a, (k0_off82 v1235) a + S8x128.size a ≤ S7688x256.size a)
theorem k0_mult41_dvd : ∀ (arg0 : BitVec 32) (v1 : BitVec 32) (v1235 : BitVec 32) (k0_hw41 : k0_chk41 arg0 v1 v1235), ∀ (k0_h1 : k0_cond1 arg0 v1 = 1#1), 8 ∣ (k0_mult41 v1235).toNat := fun arg0 v1 v1235 k0_hw41 k0_h1 => k0_hw41.1 k0_h1
theorem k0_off81_inb : ∀ (arg0 : BitVec 32) (v1 : BitVec 32) (v1235 : BitVec 32) (k0_hw41 : k0_chk41 arg0 v1 v1235), ∀ (k0_h1 : k0_cond1 arg0 v1 = 1#1), ∀ a, (k0_off81 v1235) a + S8x128.size a ≤ S7688x256.size a := fun arg0 v1 v1235 k0_hw41 k0_h1 => k0_hw41.2.1 k0_h1
theorem k0_off82_inb : ∀ (arg0 : BitVec 32) (v1 : BitVec 32) (v1235 : BitVec 32) (k0_hw41 : k0_chk41 arg0 v1 v1235), ∀ (k0_h1 : k0_cond1 arg0 v1 = 1#1), ∀ a, (k0_off82 v1235) a + S8x128.size a ≤ S7688x256.size a := fun arg0 v1 v1235 k0_hw41 k0_h1 => k0_hw41.2.2 k0_h1

def k0_mult42 (v1265 : BitVec 32) : BitVec 32 :=
  let c1_i32_307 : BitVec 32 := 1#32
  let v1285 : BitVec 32 := Scalar.shrsi v1265 c1_i32_307
  v1285

def k0_off83 (v1265 : BitVec 32) : Fin 2 → Nat :=
  let c1_i32_307 : BitVec 32 := 1#32
  let v1285 : BitVec 32 := Scalar.shrsi v1265 c1_i32_307
  let v1286 : BitVec 32 := v1285
  let v1287 : Index := Scalar.indexCast v1286
  let c0_308 : Index := 0#32
  ![v1287.toNat, 0]
def k0_off84 (v1265 : BitVec 32) : Fin 2 → Nat :=
  let c1_i32_307 : BitVec 32 := 1#32
  let v1285 : BitVec 32 := Scalar.shrsi v1265 c1_i32_307
  let v1286 : BitVec 32 := v1285
  let v1291 : Index := Scalar.indexCast v1286
  let c128_309 : Index := 128#32
  ![v1291.toNat, 128]

def k0_chk42 (arg0 : BitVec 32) (v1 : BitVec 32) (v1265 : BitVec 32) : Prop :=
  (∀ (k0_h1 : k0_cond1 arg0 v1 = 1#1), 8 ∣ (k0_mult42 v1265).toNat) ∧
  (∀ (k0_h1 : k0_cond1 arg0 v1 = 1#1), ∀ a, (k0_off83 v1265) a + S8x128.size a ≤ S7688x256.size a) ∧
  (∀ (k0_h1 : k0_cond1 arg0 v1 = 1#1), ∀ a, (k0_off84 v1265) a + S8x128.size a ≤ S7688x256.size a)
theorem k0_mult42_dvd : ∀ (arg0 : BitVec 32) (v1 : BitVec 32) (v1265 : BitVec 32) (k0_hw42 : k0_chk42 arg0 v1 v1265), ∀ (k0_h1 : k0_cond1 arg0 v1 = 1#1), 8 ∣ (k0_mult42 v1265).toNat := fun arg0 v1 v1265 k0_hw42 k0_h1 => k0_hw42.1 k0_h1
theorem k0_off83_inb : ∀ (arg0 : BitVec 32) (v1 : BitVec 32) (v1265 : BitVec 32) (k0_hw42 : k0_chk42 arg0 v1 v1265), ∀ (k0_h1 : k0_cond1 arg0 v1 = 1#1), ∀ a, (k0_off83 v1265) a + S8x128.size a ≤ S7688x256.size a := fun arg0 v1 v1265 k0_hw42 k0_h1 => k0_hw42.2.1 k0_h1
theorem k0_off84_inb : ∀ (arg0 : BitVec 32) (v1 : BitVec 32) (v1265 : BitVec 32) (k0_hw42 : k0_chk42 arg0 v1 v1265), ∀ (k0_h1 : k0_cond1 arg0 v1 = 1#1), ∀ a, (k0_off84 v1265) a + S8x128.size a ≤ S7688x256.size a := fun arg0 v1 v1265 k0_hw42 k0_h1 => k0_hw42.2.2 k0_h1

def k0_mult43 (v1295 : BitVec 32) : BitVec 32 :=
  let c1_i32_314 : BitVec 32 := 1#32
  let v1315 : BitVec 32 := Scalar.shrsi v1295 c1_i32_314
  v1315

def k0_off85 (v1295 : BitVec 32) : Fin 2 → Nat :=
  let c1_i32_314 : BitVec 32 := 1#32
  let v1315 : BitVec 32 := Scalar.shrsi v1295 c1_i32_314
  let v1316 : BitVec 32 := v1315
  let v1317 : Index := Scalar.indexCast v1316
  let c0_315 : Index := 0#32
  ![v1317.toNat, 0]
def k0_off86 (v1295 : BitVec 32) : Fin 2 → Nat :=
  let c1_i32_314 : BitVec 32 := 1#32
  let v1315 : BitVec 32 := Scalar.shrsi v1295 c1_i32_314
  let v1316 : BitVec 32 := v1315
  let v1321 : Index := Scalar.indexCast v1316
  let c128_316 : Index := 128#32
  ![v1321.toNat, 128]

def k0_chk43 (arg0 : BitVec 32) (v1 : BitVec 32) (v1295 : BitVec 32) : Prop :=
  (∀ (k0_h1 : k0_cond1 arg0 v1 = 1#1), 8 ∣ (k0_mult43 v1295).toNat) ∧
  (∀ (k0_h1 : k0_cond1 arg0 v1 = 1#1), ∀ a, (k0_off85 v1295) a + S8x128.size a ≤ S7688x256.size a) ∧
  (∀ (k0_h1 : k0_cond1 arg0 v1 = 1#1), ∀ a, (k0_off86 v1295) a + S8x128.size a ≤ S7688x256.size a)
theorem k0_mult43_dvd : ∀ (arg0 : BitVec 32) (v1 : BitVec 32) (v1295 : BitVec 32) (k0_hw43 : k0_chk43 arg0 v1 v1295), ∀ (k0_h1 : k0_cond1 arg0 v1 = 1#1), 8 ∣ (k0_mult43 v1295).toNat := fun arg0 v1 v1295 k0_hw43 k0_h1 => k0_hw43.1 k0_h1
theorem k0_off85_inb : ∀ (arg0 : BitVec 32) (v1 : BitVec 32) (v1295 : BitVec 32) (k0_hw43 : k0_chk43 arg0 v1 v1295), ∀ (k0_h1 : k0_cond1 arg0 v1 = 1#1), ∀ a, (k0_off85 v1295) a + S8x128.size a ≤ S7688x256.size a := fun arg0 v1 v1295 k0_hw43 k0_h1 => k0_hw43.2.1 k0_h1
theorem k0_off86_inb : ∀ (arg0 : BitVec 32) (v1 : BitVec 32) (v1295 : BitVec 32) (k0_hw43 : k0_chk43 arg0 v1 v1295), ∀ (k0_h1 : k0_cond1 arg0 v1 = 1#1), ∀ a, (k0_off86 v1295) a + S8x128.size a ≤ S7688x256.size a := fun arg0 v1 v1295 k0_hw43 k0_h1 => k0_hw43.2.2 k0_h1

def k0_mult44 (v1325 : BitVec 32) : BitVec 32 :=
  let c1_i32_321 : BitVec 32 := 1#32
  let v1345 : BitVec 32 := Scalar.shrsi v1325 c1_i32_321
  v1345

def k0_off87 (v1325 : BitVec 32) : Fin 2 → Nat :=
  let c1_i32_321 : BitVec 32 := 1#32
  let v1345 : BitVec 32 := Scalar.shrsi v1325 c1_i32_321
  let v1346 : BitVec 32 := v1345
  let v1347 : Index := Scalar.indexCast v1346
  let c0_322 : Index := 0#32
  ![v1347.toNat, 0]
def k0_off88 (v1325 : BitVec 32) : Fin 2 → Nat :=
  let c1_i32_321 : BitVec 32 := 1#32
  let v1345 : BitVec 32 := Scalar.shrsi v1325 c1_i32_321
  let v1346 : BitVec 32 := v1345
  let v1351 : Index := Scalar.indexCast v1346
  let c128_323 : Index := 128#32
  ![v1351.toNat, 128]

def k0_chk44 (arg0 : BitVec 32) (v1 : BitVec 32) (v1325 : BitVec 32) : Prop :=
  (∀ (k0_h1 : k0_cond1 arg0 v1 = 1#1), 8 ∣ (k0_mult44 v1325).toNat) ∧
  (∀ (k0_h1 : k0_cond1 arg0 v1 = 1#1), ∀ a, (k0_off87 v1325) a + S8x128.size a ≤ S7688x256.size a) ∧
  (∀ (k0_h1 : k0_cond1 arg0 v1 = 1#1), ∀ a, (k0_off88 v1325) a + S8x128.size a ≤ S7688x256.size a)
theorem k0_mult44_dvd : ∀ (arg0 : BitVec 32) (v1 : BitVec 32) (v1325 : BitVec 32) (k0_hw44 : k0_chk44 arg0 v1 v1325), ∀ (k0_h1 : k0_cond1 arg0 v1 = 1#1), 8 ∣ (k0_mult44 v1325).toNat := fun arg0 v1 v1325 k0_hw44 k0_h1 => k0_hw44.1 k0_h1
theorem k0_off87_inb : ∀ (arg0 : BitVec 32) (v1 : BitVec 32) (v1325 : BitVec 32) (k0_hw44 : k0_chk44 arg0 v1 v1325), ∀ (k0_h1 : k0_cond1 arg0 v1 = 1#1), ∀ a, (k0_off87 v1325) a + S8x128.size a ≤ S7688x256.size a := fun arg0 v1 v1325 k0_hw44 k0_h1 => k0_hw44.2.1 k0_h1
theorem k0_off88_inb : ∀ (arg0 : BitVec 32) (v1 : BitVec 32) (v1325 : BitVec 32) (k0_hw44 : k0_chk44 arg0 v1 v1325), ∀ (k0_h1 : k0_cond1 arg0 v1 = 1#1), ∀ a, (k0_off88 v1325) a + S8x128.size a ≤ S7688x256.size a := fun arg0 v1 v1325 k0_hw44 k0_h1 => k0_hw44.2.2 k0_h1

def k0_mult45 (v1355 : BitVec 32) : BitVec 32 :=
  let c1_i32_328 : BitVec 32 := 1#32
  let v1375 : BitVec 32 := Scalar.shrsi v1355 c1_i32_328
  v1375

def k0_off89 (v1355 : BitVec 32) : Fin 2 → Nat :=
  let c1_i32_328 : BitVec 32 := 1#32
  let v1375 : BitVec 32 := Scalar.shrsi v1355 c1_i32_328
  let v1376 : BitVec 32 := v1375
  let v1377 : Index := Scalar.indexCast v1376
  let c0_329 : Index := 0#32
  ![v1377.toNat, 0]
def k0_off90 (v1355 : BitVec 32) : Fin 2 → Nat :=
  let c1_i32_328 : BitVec 32 := 1#32
  let v1375 : BitVec 32 := Scalar.shrsi v1355 c1_i32_328
  let v1376 : BitVec 32 := v1375
  let v1381 : Index := Scalar.indexCast v1376
  let c128_330 : Index := 128#32
  ![v1381.toNat, 128]

def k0_chk45 (arg0 : BitVec 32) (v1 : BitVec 32) (v1355 : BitVec 32) : Prop :=
  (∀ (k0_h1 : k0_cond1 arg0 v1 = 1#1), 8 ∣ (k0_mult45 v1355).toNat) ∧
  (∀ (k0_h1 : k0_cond1 arg0 v1 = 1#1), ∀ a, (k0_off89 v1355) a + S8x128.size a ≤ S7688x256.size a) ∧
  (∀ (k0_h1 : k0_cond1 arg0 v1 = 1#1), ∀ a, (k0_off90 v1355) a + S8x128.size a ≤ S7688x256.size a)
theorem k0_mult45_dvd : ∀ (arg0 : BitVec 32) (v1 : BitVec 32) (v1355 : BitVec 32) (k0_hw45 : k0_chk45 arg0 v1 v1355), ∀ (k0_h1 : k0_cond1 arg0 v1 = 1#1), 8 ∣ (k0_mult45 v1355).toNat := fun arg0 v1 v1355 k0_hw45 k0_h1 => k0_hw45.1 k0_h1
theorem k0_off89_inb : ∀ (arg0 : BitVec 32) (v1 : BitVec 32) (v1355 : BitVec 32) (k0_hw45 : k0_chk45 arg0 v1 v1355), ∀ (k0_h1 : k0_cond1 arg0 v1 = 1#1), ∀ a, (k0_off89 v1355) a + S8x128.size a ≤ S7688x256.size a := fun arg0 v1 v1355 k0_hw45 k0_h1 => k0_hw45.2.1 k0_h1
theorem k0_off90_inb : ∀ (arg0 : BitVec 32) (v1 : BitVec 32) (v1355 : BitVec 32) (k0_hw45 : k0_chk45 arg0 v1 v1355), ∀ (k0_h1 : k0_cond1 arg0 v1 = 1#1), ∀ a, (k0_off90 v1355) a + S8x128.size a ≤ S7688x256.size a := fun arg0 v1 v1355 k0_hw45 k0_h1 => k0_hw45.2.2 k0_h1

def k0_mult46 (v1385 : BitVec 32) : BitVec 32 :=
  let c1_i32_335 : BitVec 32 := 1#32
  let v1405 : BitVec 32 := Scalar.shrsi v1385 c1_i32_335
  v1405

def k0_off91 (v1385 : BitVec 32) : Fin 2 → Nat :=
  let c1_i32_335 : BitVec 32 := 1#32
  let v1405 : BitVec 32 := Scalar.shrsi v1385 c1_i32_335
  let v1406 : BitVec 32 := v1405
  let v1407 : Index := Scalar.indexCast v1406
  let c0_336 : Index := 0#32
  ![v1407.toNat, 0]
def k0_off92 (v1385 : BitVec 32) : Fin 2 → Nat :=
  let c1_i32_335 : BitVec 32 := 1#32
  let v1405 : BitVec 32 := Scalar.shrsi v1385 c1_i32_335
  let v1406 : BitVec 32 := v1405
  let v1411 : Index := Scalar.indexCast v1406
  let c128_337 : Index := 128#32
  ![v1411.toNat, 128]

def k0_chk46 (arg0 : BitVec 32) (v1 : BitVec 32) (v1385 : BitVec 32) : Prop :=
  (∀ (k0_h1 : k0_cond1 arg0 v1 = 1#1), 8 ∣ (k0_mult46 v1385).toNat) ∧
  (∀ (k0_h1 : k0_cond1 arg0 v1 = 1#1), ∀ a, (k0_off91 v1385) a + S8x128.size a ≤ S7688x256.size a) ∧
  (∀ (k0_h1 : k0_cond1 arg0 v1 = 1#1), ∀ a, (k0_off92 v1385) a + S8x128.size a ≤ S7688x256.size a)
theorem k0_mult46_dvd : ∀ (arg0 : BitVec 32) (v1 : BitVec 32) (v1385 : BitVec 32) (k0_hw46 : k0_chk46 arg0 v1 v1385), ∀ (k0_h1 : k0_cond1 arg0 v1 = 1#1), 8 ∣ (k0_mult46 v1385).toNat := fun arg0 v1 v1385 k0_hw46 k0_h1 => k0_hw46.1 k0_h1
theorem k0_off91_inb : ∀ (arg0 : BitVec 32) (v1 : BitVec 32) (v1385 : BitVec 32) (k0_hw46 : k0_chk46 arg0 v1 v1385), ∀ (k0_h1 : k0_cond1 arg0 v1 = 1#1), ∀ a, (k0_off91 v1385) a + S8x128.size a ≤ S7688x256.size a := fun arg0 v1 v1385 k0_hw46 k0_h1 => k0_hw46.2.1 k0_h1
theorem k0_off92_inb : ∀ (arg0 : BitVec 32) (v1 : BitVec 32) (v1385 : BitVec 32) (k0_hw46 : k0_chk46 arg0 v1 v1385), ∀ (k0_h1 : k0_cond1 arg0 v1 = 1#1), ∀ a, (k0_off92 v1385) a + S8x128.size a ≤ S7688x256.size a := fun arg0 v1 v1385 k0_hw46 k0_h1 => k0_hw46.2.2 k0_h1

def k0_mult47 (v1415 : BitVec 32) : BitVec 32 :=
  let c1_i32_342 : BitVec 32 := 1#32
  let v1435 : BitVec 32 := Scalar.shrsi v1415 c1_i32_342
  v1435

def k0_off93 (v1415 : BitVec 32) : Fin 2 → Nat :=
  let c1_i32_342 : BitVec 32 := 1#32
  let v1435 : BitVec 32 := Scalar.shrsi v1415 c1_i32_342
  let v1436 : BitVec 32 := v1435
  let v1437 : Index := Scalar.indexCast v1436
  let c0_343 : Index := 0#32
  ![v1437.toNat, 0]
def k0_off94 (v1415 : BitVec 32) : Fin 2 → Nat :=
  let c1_i32_342 : BitVec 32 := 1#32
  let v1435 : BitVec 32 := Scalar.shrsi v1415 c1_i32_342
  let v1436 : BitVec 32 := v1435
  let v1441 : Index := Scalar.indexCast v1436
  let c128_344 : Index := 128#32
  ![v1441.toNat, 128]

def k0_chk47 (arg0 : BitVec 32) (v1 : BitVec 32) (v1415 : BitVec 32) : Prop :=
  (∀ (k0_h1 : k0_cond1 arg0 v1 = 1#1), 8 ∣ (k0_mult47 v1415).toNat) ∧
  (∀ (k0_h1 : k0_cond1 arg0 v1 = 1#1), ∀ a, (k0_off93 v1415) a + S8x128.size a ≤ S7688x256.size a) ∧
  (∀ (k0_h1 : k0_cond1 arg0 v1 = 1#1), ∀ a, (k0_off94 v1415) a + S8x128.size a ≤ S7688x256.size a)
theorem k0_mult47_dvd : ∀ (arg0 : BitVec 32) (v1 : BitVec 32) (v1415 : BitVec 32) (k0_hw47 : k0_chk47 arg0 v1 v1415), ∀ (k0_h1 : k0_cond1 arg0 v1 = 1#1), 8 ∣ (k0_mult47 v1415).toNat := fun arg0 v1 v1415 k0_hw47 k0_h1 => k0_hw47.1 k0_h1
theorem k0_off93_inb : ∀ (arg0 : BitVec 32) (v1 : BitVec 32) (v1415 : BitVec 32) (k0_hw47 : k0_chk47 arg0 v1 v1415), ∀ (k0_h1 : k0_cond1 arg0 v1 = 1#1), ∀ a, (k0_off93 v1415) a + S8x128.size a ≤ S7688x256.size a := fun arg0 v1 v1415 k0_hw47 k0_h1 => k0_hw47.2.1 k0_h1
theorem k0_off94_inb : ∀ (arg0 : BitVec 32) (v1 : BitVec 32) (v1415 : BitVec 32) (k0_hw47 : k0_chk47 arg0 v1 v1415), ∀ (k0_h1 : k0_cond1 arg0 v1 = 1#1), ∀ a, (k0_off94 v1415) a + S8x128.size a ≤ S7688x256.size a := fun arg0 v1 v1415 k0_hw47 k0_h1 => k0_hw47.2.2 k0_h1

def k0_mult48 (v1445 : BitVec 32) : BitVec 32 :=
  let c1_i32_349 : BitVec 32 := 1#32
  let v1465 : BitVec 32 := Scalar.shrsi v1445 c1_i32_349
  v1465

def k0_off95 (v1445 : BitVec 32) : Fin 2 → Nat :=
  let c1_i32_349 : BitVec 32 := 1#32
  let v1465 : BitVec 32 := Scalar.shrsi v1445 c1_i32_349
  let v1466 : BitVec 32 := v1465
  let v1467 : Index := Scalar.indexCast v1466
  let c0_350 : Index := 0#32
  ![v1467.toNat, 0]
def k0_off96 (v1445 : BitVec 32) : Fin 2 → Nat :=
  let c1_i32_349 : BitVec 32 := 1#32
  let v1465 : BitVec 32 := Scalar.shrsi v1445 c1_i32_349
  let v1466 : BitVec 32 := v1465
  let v1471 : Index := Scalar.indexCast v1466
  let c128_351 : Index := 128#32
  ![v1471.toNat, 128]

def k0_chk48 (arg0 : BitVec 32) (v1 : BitVec 32) (v1445 : BitVec 32) : Prop :=
  (∀ (k0_h1 : k0_cond1 arg0 v1 = 1#1), 8 ∣ (k0_mult48 v1445).toNat) ∧
  (∀ (k0_h1 : k0_cond1 arg0 v1 = 1#1), ∀ a, (k0_off95 v1445) a + S8x128.size a ≤ S7688x256.size a) ∧
  (∀ (k0_h1 : k0_cond1 arg0 v1 = 1#1), ∀ a, (k0_off96 v1445) a + S8x128.size a ≤ S7688x256.size a)
theorem k0_mult48_dvd : ∀ (arg0 : BitVec 32) (v1 : BitVec 32) (v1445 : BitVec 32) (k0_hw48 : k0_chk48 arg0 v1 v1445), ∀ (k0_h1 : k0_cond1 arg0 v1 = 1#1), 8 ∣ (k0_mult48 v1445).toNat := fun arg0 v1 v1445 k0_hw48 k0_h1 => k0_hw48.1 k0_h1
theorem k0_off95_inb : ∀ (arg0 : BitVec 32) (v1 : BitVec 32) (v1445 : BitVec 32) (k0_hw48 : k0_chk48 arg0 v1 v1445), ∀ (k0_h1 : k0_cond1 arg0 v1 = 1#1), ∀ a, (k0_off95 v1445) a + S8x128.size a ≤ S7688x256.size a := fun arg0 v1 v1445 k0_hw48 k0_h1 => k0_hw48.2.1 k0_h1
theorem k0_off96_inb : ∀ (arg0 : BitVec 32) (v1 : BitVec 32) (v1445 : BitVec 32) (k0_hw48 : k0_chk48 arg0 v1 v1445), ∀ (k0_h1 : k0_cond1 arg0 v1 = 1#1), ∀ a, (k0_off96 v1445) a + S8x128.size a ≤ S7688x256.size a := fun arg0 v1 v1445 k0_hw48 k0_h1 => k0_hw48.2.2 k0_h1

def k0_mult49 (v1475 : BitVec 32) : BitVec 32 :=
  let c1_i32_356 : BitVec 32 := 1#32
  let v1495 : BitVec 32 := Scalar.shrsi v1475 c1_i32_356
  v1495

def k0_off97 (v1475 : BitVec 32) : Fin 2 → Nat :=
  let c1_i32_356 : BitVec 32 := 1#32
  let v1495 : BitVec 32 := Scalar.shrsi v1475 c1_i32_356
  let v1496 : BitVec 32 := v1495
  let v1497 : Index := Scalar.indexCast v1496
  let c0_357 : Index := 0#32
  ![v1497.toNat, 0]
def k0_off98 (v1475 : BitVec 32) : Fin 2 → Nat :=
  let c1_i32_356 : BitVec 32 := 1#32
  let v1495 : BitVec 32 := Scalar.shrsi v1475 c1_i32_356
  let v1496 : BitVec 32 := v1495
  let v1501 : Index := Scalar.indexCast v1496
  let c128_358 : Index := 128#32
  ![v1501.toNat, 128]

def k0_chk49 (arg0 : BitVec 32) (v1 : BitVec 32) (v1475 : BitVec 32) : Prop :=
  (∀ (k0_h1 : k0_cond1 arg0 v1 = 1#1), 8 ∣ (k0_mult49 v1475).toNat) ∧
  (∀ (k0_h1 : k0_cond1 arg0 v1 = 1#1), ∀ a, (k0_off97 v1475) a + S8x128.size a ≤ S7688x256.size a) ∧
  (∀ (k0_h1 : k0_cond1 arg0 v1 = 1#1), ∀ a, (k0_off98 v1475) a + S8x128.size a ≤ S7688x256.size a)
theorem k0_mult49_dvd : ∀ (arg0 : BitVec 32) (v1 : BitVec 32) (v1475 : BitVec 32) (k0_hw49 : k0_chk49 arg0 v1 v1475), ∀ (k0_h1 : k0_cond1 arg0 v1 = 1#1), 8 ∣ (k0_mult49 v1475).toNat := fun arg0 v1 v1475 k0_hw49 k0_h1 => k0_hw49.1 k0_h1
theorem k0_off97_inb : ∀ (arg0 : BitVec 32) (v1 : BitVec 32) (v1475 : BitVec 32) (k0_hw49 : k0_chk49 arg0 v1 v1475), ∀ (k0_h1 : k0_cond1 arg0 v1 = 1#1), ∀ a, (k0_off97 v1475) a + S8x128.size a ≤ S7688x256.size a := fun arg0 v1 v1475 k0_hw49 k0_h1 => k0_hw49.2.1 k0_h1
theorem k0_off98_inb : ∀ (arg0 : BitVec 32) (v1 : BitVec 32) (v1475 : BitVec 32) (k0_hw49 : k0_chk49 arg0 v1 v1475), ∀ (k0_h1 : k0_cond1 arg0 v1 = 1#1), ∀ a, (k0_off98 v1475) a + S8x128.size a ≤ S7688x256.size a := fun arg0 v1 v1475 k0_hw49 k0_h1 => k0_hw49.2.2 k0_h1

def k0_mult50 (v1505 : BitVec 32) : BitVec 32 :=
  let c1_i32_363 : BitVec 32 := 1#32
  let v1525 : BitVec 32 := Scalar.shrsi v1505 c1_i32_363
  v1525

def k0_off99 (v1505 : BitVec 32) : Fin 2 → Nat :=
  let c1_i32_363 : BitVec 32 := 1#32
  let v1525 : BitVec 32 := Scalar.shrsi v1505 c1_i32_363
  let v1526 : BitVec 32 := v1525
  let v1527 : Index := Scalar.indexCast v1526
  let c0_364 : Index := 0#32
  ![v1527.toNat, 0]
def k0_off100 (v1505 : BitVec 32) : Fin 2 → Nat :=
  let c1_i32_363 : BitVec 32 := 1#32
  let v1525 : BitVec 32 := Scalar.shrsi v1505 c1_i32_363
  let v1526 : BitVec 32 := v1525
  let v1531 : Index := Scalar.indexCast v1526
  let c128_365 : Index := 128#32
  ![v1531.toNat, 128]

def k0_chk50 (arg0 : BitVec 32) (v1 : BitVec 32) (v1505 : BitVec 32) : Prop :=
  (∀ (k0_h1 : k0_cond1 arg0 v1 = 1#1), 8 ∣ (k0_mult50 v1505).toNat) ∧
  (∀ (k0_h1 : k0_cond1 arg0 v1 = 1#1), ∀ a, (k0_off99 v1505) a + S8x128.size a ≤ S7688x256.size a) ∧
  (∀ (k0_h1 : k0_cond1 arg0 v1 = 1#1), ∀ a, (k0_off100 v1505) a + S8x128.size a ≤ S7688x256.size a)
theorem k0_mult50_dvd : ∀ (arg0 : BitVec 32) (v1 : BitVec 32) (v1505 : BitVec 32) (k0_hw50 : k0_chk50 arg0 v1 v1505), ∀ (k0_h1 : k0_cond1 arg0 v1 = 1#1), 8 ∣ (k0_mult50 v1505).toNat := fun arg0 v1 v1505 k0_hw50 k0_h1 => k0_hw50.1 k0_h1
theorem k0_off99_inb : ∀ (arg0 : BitVec 32) (v1 : BitVec 32) (v1505 : BitVec 32) (k0_hw50 : k0_chk50 arg0 v1 v1505), ∀ (k0_h1 : k0_cond1 arg0 v1 = 1#1), ∀ a, (k0_off99 v1505) a + S8x128.size a ≤ S7688x256.size a := fun arg0 v1 v1505 k0_hw50 k0_h1 => k0_hw50.2.1 k0_h1
theorem k0_off100_inb : ∀ (arg0 : BitVec 32) (v1 : BitVec 32) (v1505 : BitVec 32) (k0_hw50 : k0_chk50 arg0 v1 v1505), ∀ (k0_h1 : k0_cond1 arg0 v1 = 1#1), ∀ a, (k0_off100 v1505) a + S8x128.size a ≤ S7688x256.size a := fun arg0 v1 v1505 k0_hw50 k0_h1 => k0_hw50.2.2 k0_h1

def k0_mult51 (v1535 : BitVec 32) : BitVec 32 :=
  let c1_i32_370 : BitVec 32 := 1#32
  let v1555 : BitVec 32 := Scalar.shrsi v1535 c1_i32_370
  v1555

def k0_off101 (v1535 : BitVec 32) : Fin 2 → Nat :=
  let c1_i32_370 : BitVec 32 := 1#32
  let v1555 : BitVec 32 := Scalar.shrsi v1535 c1_i32_370
  let v1556 : BitVec 32 := v1555
  let v1557 : Index := Scalar.indexCast v1556
  let c0_371 : Index := 0#32
  ![v1557.toNat, 0]
def k0_off102 (v1535 : BitVec 32) : Fin 2 → Nat :=
  let c1_i32_370 : BitVec 32 := 1#32
  let v1555 : BitVec 32 := Scalar.shrsi v1535 c1_i32_370
  let v1556 : BitVec 32 := v1555
  let v1561 : Index := Scalar.indexCast v1556
  let c128_372 : Index := 128#32
  ![v1561.toNat, 128]

def k0_chk51 (arg0 : BitVec 32) (v1 : BitVec 32) (v1535 : BitVec 32) : Prop :=
  (∀ (k0_h1 : k0_cond1 arg0 v1 = 1#1), 8 ∣ (k0_mult51 v1535).toNat) ∧
  (∀ (k0_h1 : k0_cond1 arg0 v1 = 1#1), ∀ a, (k0_off101 v1535) a + S8x128.size a ≤ S7688x256.size a) ∧
  (∀ (k0_h1 : k0_cond1 arg0 v1 = 1#1), ∀ a, (k0_off102 v1535) a + S8x128.size a ≤ S7688x256.size a)
theorem k0_mult51_dvd : ∀ (arg0 : BitVec 32) (v1 : BitVec 32) (v1535 : BitVec 32) (k0_hw51 : k0_chk51 arg0 v1 v1535), ∀ (k0_h1 : k0_cond1 arg0 v1 = 1#1), 8 ∣ (k0_mult51 v1535).toNat := fun arg0 v1 v1535 k0_hw51 k0_h1 => k0_hw51.1 k0_h1
theorem k0_off101_inb : ∀ (arg0 : BitVec 32) (v1 : BitVec 32) (v1535 : BitVec 32) (k0_hw51 : k0_chk51 arg0 v1 v1535), ∀ (k0_h1 : k0_cond1 arg0 v1 = 1#1), ∀ a, (k0_off101 v1535) a + S8x128.size a ≤ S7688x256.size a := fun arg0 v1 v1535 k0_hw51 k0_h1 => k0_hw51.2.1 k0_h1
theorem k0_off102_inb : ∀ (arg0 : BitVec 32) (v1 : BitVec 32) (v1535 : BitVec 32) (k0_hw51 : k0_chk51 arg0 v1 v1535), ∀ (k0_h1 : k0_cond1 arg0 v1 = 1#1), ∀ a, (k0_off102 v1535) a + S8x128.size a ≤ S7688x256.size a := fun arg0 v1 v1535 k0_hw51 k0_h1 => k0_hw51.2.2 k0_h1

def k0_mult52 (v1565 : BitVec 32) : BitVec 32 :=
  let c1_i32_377 : BitVec 32 := 1#32
  let v1585 : BitVec 32 := Scalar.shrsi v1565 c1_i32_377
  v1585

def k0_off103 (v1565 : BitVec 32) : Fin 2 → Nat :=
  let c1_i32_377 : BitVec 32 := 1#32
  let v1585 : BitVec 32 := Scalar.shrsi v1565 c1_i32_377
  let v1586 : BitVec 32 := v1585
  let v1587 : Index := Scalar.indexCast v1586
  let c0_378 : Index := 0#32
  ![v1587.toNat, 0]
def k0_off104 (v1565 : BitVec 32) : Fin 2 → Nat :=
  let c1_i32_377 : BitVec 32 := 1#32
  let v1585 : BitVec 32 := Scalar.shrsi v1565 c1_i32_377
  let v1586 : BitVec 32 := v1585
  let v1591 : Index := Scalar.indexCast v1586
  let c128_379 : Index := 128#32
  ![v1591.toNat, 128]

def k0_chk52 (arg0 : BitVec 32) (v1 : BitVec 32) (v1565 : BitVec 32) : Prop :=
  (∀ (k0_h1 : k0_cond1 arg0 v1 = 1#1), 8 ∣ (k0_mult52 v1565).toNat) ∧
  (∀ (k0_h1 : k0_cond1 arg0 v1 = 1#1), ∀ a, (k0_off103 v1565) a + S8x128.size a ≤ S7688x256.size a) ∧
  (∀ (k0_h1 : k0_cond1 arg0 v1 = 1#1), ∀ a, (k0_off104 v1565) a + S8x128.size a ≤ S7688x256.size a)
theorem k0_mult52_dvd : ∀ (arg0 : BitVec 32) (v1 : BitVec 32) (v1565 : BitVec 32) (k0_hw52 : k0_chk52 arg0 v1 v1565), ∀ (k0_h1 : k0_cond1 arg0 v1 = 1#1), 8 ∣ (k0_mult52 v1565).toNat := fun arg0 v1 v1565 k0_hw52 k0_h1 => k0_hw52.1 k0_h1
theorem k0_off103_inb : ∀ (arg0 : BitVec 32) (v1 : BitVec 32) (v1565 : BitVec 32) (k0_hw52 : k0_chk52 arg0 v1 v1565), ∀ (k0_h1 : k0_cond1 arg0 v1 = 1#1), ∀ a, (k0_off103 v1565) a + S8x128.size a ≤ S7688x256.size a := fun arg0 v1 v1565 k0_hw52 k0_h1 => k0_hw52.2.1 k0_h1
theorem k0_off104_inb : ∀ (arg0 : BitVec 32) (v1 : BitVec 32) (v1565 : BitVec 32) (k0_hw52 : k0_chk52 arg0 v1 v1565), ∀ (k0_h1 : k0_cond1 arg0 v1 = 1#1), ∀ a, (k0_off104 v1565) a + S8x128.size a ≤ S7688x256.size a := fun arg0 v1 v1565 k0_hw52 k0_h1 => k0_hw52.2.2 k0_h1

def k0_mult53 (v1595 : BitVec 32) : BitVec 32 :=
  let c1_i32_384 : BitVec 32 := 1#32
  let v1615 : BitVec 32 := Scalar.shrsi v1595 c1_i32_384
  v1615

def k0_off105 (v1595 : BitVec 32) : Fin 2 → Nat :=
  let c1_i32_384 : BitVec 32 := 1#32
  let v1615 : BitVec 32 := Scalar.shrsi v1595 c1_i32_384
  let v1616 : BitVec 32 := v1615
  let v1617 : Index := Scalar.indexCast v1616
  let c0_385 : Index := 0#32
  ![v1617.toNat, 0]
def k0_off106 (v1595 : BitVec 32) : Fin 2 → Nat :=
  let c1_i32_384 : BitVec 32 := 1#32
  let v1615 : BitVec 32 := Scalar.shrsi v1595 c1_i32_384
  let v1616 : BitVec 32 := v1615
  let v1621 : Index := Scalar.indexCast v1616
  let c128_386 : Index := 128#32
  ![v1621.toNat, 128]

def k0_chk53 (arg0 : BitVec 32) (v1 : BitVec 32) (v1595 : BitVec 32) : Prop :=
  (∀ (k0_h1 : k0_cond1 arg0 v1 = 1#1), 8 ∣ (k0_mult53 v1595).toNat) ∧
  (∀ (k0_h1 : k0_cond1 arg0 v1 = 1#1), ∀ a, (k0_off105 v1595) a + S8x128.size a ≤ S7688x256.size a) ∧
  (∀ (k0_h1 : k0_cond1 arg0 v1 = 1#1), ∀ a, (k0_off106 v1595) a + S8x128.size a ≤ S7688x256.size a)
theorem k0_mult53_dvd : ∀ (arg0 : BitVec 32) (v1 : BitVec 32) (v1595 : BitVec 32) (k0_hw53 : k0_chk53 arg0 v1 v1595), ∀ (k0_h1 : k0_cond1 arg0 v1 = 1#1), 8 ∣ (k0_mult53 v1595).toNat := fun arg0 v1 v1595 k0_hw53 k0_h1 => k0_hw53.1 k0_h1
theorem k0_off105_inb : ∀ (arg0 : BitVec 32) (v1 : BitVec 32) (v1595 : BitVec 32) (k0_hw53 : k0_chk53 arg0 v1 v1595), ∀ (k0_h1 : k0_cond1 arg0 v1 = 1#1), ∀ a, (k0_off105 v1595) a + S8x128.size a ≤ S7688x256.size a := fun arg0 v1 v1595 k0_hw53 k0_h1 => k0_hw53.2.1 k0_h1
theorem k0_off106_inb : ∀ (arg0 : BitVec 32) (v1 : BitVec 32) (v1595 : BitVec 32) (k0_hw53 : k0_chk53 arg0 v1 v1595), ∀ (k0_h1 : k0_cond1 arg0 v1 = 1#1), ∀ a, (k0_off106 v1595) a + S8x128.size a ≤ S7688x256.size a := fun arg0 v1 v1595 k0_hw53 k0_h1 => k0_hw53.2.2 k0_h1

def k0_mult54 (v1625 : BitVec 32) : BitVec 32 :=
  let c1_i32_391 : BitVec 32 := 1#32
  let v1645 : BitVec 32 := Scalar.shrsi v1625 c1_i32_391
  v1645

def k0_off107 (v1625 : BitVec 32) : Fin 2 → Nat :=
  let c1_i32_391 : BitVec 32 := 1#32
  let v1645 : BitVec 32 := Scalar.shrsi v1625 c1_i32_391
  let v1646 : BitVec 32 := v1645
  let v1647 : Index := Scalar.indexCast v1646
  let c0_392 : Index := 0#32
  ![v1647.toNat, 0]
def k0_off108 (v1625 : BitVec 32) : Fin 2 → Nat :=
  let c1_i32_391 : BitVec 32 := 1#32
  let v1645 : BitVec 32 := Scalar.shrsi v1625 c1_i32_391
  let v1646 : BitVec 32 := v1645
  let v1651 : Index := Scalar.indexCast v1646
  let c128_393 : Index := 128#32
  ![v1651.toNat, 128]

def k0_chk54 (arg0 : BitVec 32) (v1 : BitVec 32) (v1625 : BitVec 32) : Prop :=
  (∀ (k0_h1 : k0_cond1 arg0 v1 = 1#1), 8 ∣ (k0_mult54 v1625).toNat) ∧
  (∀ (k0_h1 : k0_cond1 arg0 v1 = 1#1), ∀ a, (k0_off107 v1625) a + S8x128.size a ≤ S7688x256.size a) ∧
  (∀ (k0_h1 : k0_cond1 arg0 v1 = 1#1), ∀ a, (k0_off108 v1625) a + S8x128.size a ≤ S7688x256.size a)
theorem k0_mult54_dvd : ∀ (arg0 : BitVec 32) (v1 : BitVec 32) (v1625 : BitVec 32) (k0_hw54 : k0_chk54 arg0 v1 v1625), ∀ (k0_h1 : k0_cond1 arg0 v1 = 1#1), 8 ∣ (k0_mult54 v1625).toNat := fun arg0 v1 v1625 k0_hw54 k0_h1 => k0_hw54.1 k0_h1
theorem k0_off107_inb : ∀ (arg0 : BitVec 32) (v1 : BitVec 32) (v1625 : BitVec 32) (k0_hw54 : k0_chk54 arg0 v1 v1625), ∀ (k0_h1 : k0_cond1 arg0 v1 = 1#1), ∀ a, (k0_off107 v1625) a + S8x128.size a ≤ S7688x256.size a := fun arg0 v1 v1625 k0_hw54 k0_h1 => k0_hw54.2.1 k0_h1
theorem k0_off108_inb : ∀ (arg0 : BitVec 32) (v1 : BitVec 32) (v1625 : BitVec 32) (k0_hw54 : k0_chk54 arg0 v1 v1625), ∀ (k0_h1 : k0_cond1 arg0 v1 = 1#1), ∀ a, (k0_off108 v1625) a + S8x128.size a ≤ S7688x256.size a := fun arg0 v1 v1625 k0_hw54 k0_h1 => k0_hw54.2.2 k0_h1

def k0_mult55 (v1655 : BitVec 32) : BitVec 32 :=
  let c1_i32_398 : BitVec 32 := 1#32
  let v1675 : BitVec 32 := Scalar.shrsi v1655 c1_i32_398
  v1675

def k0_off109 (v1655 : BitVec 32) : Fin 2 → Nat :=
  let c1_i32_398 : BitVec 32 := 1#32
  let v1675 : BitVec 32 := Scalar.shrsi v1655 c1_i32_398
  let v1676 : BitVec 32 := v1675
  let v1677 : Index := Scalar.indexCast v1676
  let c0_399 : Index := 0#32
  ![v1677.toNat, 0]
def k0_off110 (v1655 : BitVec 32) : Fin 2 → Nat :=
  let c1_i32_398 : BitVec 32 := 1#32
  let v1675 : BitVec 32 := Scalar.shrsi v1655 c1_i32_398
  let v1676 : BitVec 32 := v1675
  let v1681 : Index := Scalar.indexCast v1676
  let c128_400 : Index := 128#32
  ![v1681.toNat, 128]

def k0_chk55 (arg0 : BitVec 32) (v1 : BitVec 32) (v1655 : BitVec 32) : Prop :=
  (∀ (k0_h1 : k0_cond1 arg0 v1 = 1#1), 8 ∣ (k0_mult55 v1655).toNat) ∧
  (∀ (k0_h1 : k0_cond1 arg0 v1 = 1#1), ∀ a, (k0_off109 v1655) a + S8x128.size a ≤ S7688x256.size a) ∧
  (∀ (k0_h1 : k0_cond1 arg0 v1 = 1#1), ∀ a, (k0_off110 v1655) a + S8x128.size a ≤ S7688x256.size a)
theorem k0_mult55_dvd : ∀ (arg0 : BitVec 32) (v1 : BitVec 32) (v1655 : BitVec 32) (k0_hw55 : k0_chk55 arg0 v1 v1655), ∀ (k0_h1 : k0_cond1 arg0 v1 = 1#1), 8 ∣ (k0_mult55 v1655).toNat := fun arg0 v1 v1655 k0_hw55 k0_h1 => k0_hw55.1 k0_h1
theorem k0_off109_inb : ∀ (arg0 : BitVec 32) (v1 : BitVec 32) (v1655 : BitVec 32) (k0_hw55 : k0_chk55 arg0 v1 v1655), ∀ (k0_h1 : k0_cond1 arg0 v1 = 1#1), ∀ a, (k0_off109 v1655) a + S8x128.size a ≤ S7688x256.size a := fun arg0 v1 v1655 k0_hw55 k0_h1 => k0_hw55.2.1 k0_h1
theorem k0_off110_inb : ∀ (arg0 : BitVec 32) (v1 : BitVec 32) (v1655 : BitVec 32) (k0_hw55 : k0_chk55 arg0 v1 v1655), ∀ (k0_h1 : k0_cond1 arg0 v1 = 1#1), ∀ a, (k0_off110 v1655) a + S8x128.size a ≤ S7688x256.size a := fun arg0 v1 v1655 k0_hw55 k0_h1 => k0_hw55.2.2 k0_h1

def k0_mult56 (v1685 : BitVec 32) : BitVec 32 :=
  let c1_i32_405 : BitVec 32 := 1#32
  let v1705 : BitVec 32 := Scalar.shrsi v1685 c1_i32_405
  v1705

def k0_off111 (v1685 : BitVec 32) : Fin 2 → Nat :=
  let c1_i32_405 : BitVec 32 := 1#32
  let v1705 : BitVec 32 := Scalar.shrsi v1685 c1_i32_405
  let v1706 : BitVec 32 := v1705
  let v1707 : Index := Scalar.indexCast v1706
  let c0_406 : Index := 0#32
  ![v1707.toNat, 0]
def k0_off112 (v1685 : BitVec 32) : Fin 2 → Nat :=
  let c1_i32_405 : BitVec 32 := 1#32
  let v1705 : BitVec 32 := Scalar.shrsi v1685 c1_i32_405
  let v1706 : BitVec 32 := v1705
  let v1711 : Index := Scalar.indexCast v1706
  let c128_407 : Index := 128#32
  ![v1711.toNat, 128]

def k0_chk56 (arg0 : BitVec 32) (v1 : BitVec 32) (v1685 : BitVec 32) : Prop :=
  (∀ (k0_h1 : k0_cond1 arg0 v1 = 1#1), 8 ∣ (k0_mult56 v1685).toNat) ∧
  (∀ (k0_h1 : k0_cond1 arg0 v1 = 1#1), ∀ a, (k0_off111 v1685) a + S8x128.size a ≤ S7688x256.size a) ∧
  (∀ (k0_h1 : k0_cond1 arg0 v1 = 1#1), ∀ a, (k0_off112 v1685) a + S8x128.size a ≤ S7688x256.size a)
theorem k0_mult56_dvd : ∀ (arg0 : BitVec 32) (v1 : BitVec 32) (v1685 : BitVec 32) (k0_hw56 : k0_chk56 arg0 v1 v1685), ∀ (k0_h1 : k0_cond1 arg0 v1 = 1#1), 8 ∣ (k0_mult56 v1685).toNat := fun arg0 v1 v1685 k0_hw56 k0_h1 => k0_hw56.1 k0_h1
theorem k0_off111_inb : ∀ (arg0 : BitVec 32) (v1 : BitVec 32) (v1685 : BitVec 32) (k0_hw56 : k0_chk56 arg0 v1 v1685), ∀ (k0_h1 : k0_cond1 arg0 v1 = 1#1), ∀ a, (k0_off111 v1685) a + S8x128.size a ≤ S7688x256.size a := fun arg0 v1 v1685 k0_hw56 k0_h1 => k0_hw56.2.1 k0_h1
theorem k0_off112_inb : ∀ (arg0 : BitVec 32) (v1 : BitVec 32) (v1685 : BitVec 32) (k0_hw56 : k0_chk56 arg0 v1 v1685), ∀ (k0_h1 : k0_cond1 arg0 v1 = 1#1), ∀ a, (k0_off112 v1685) a + S8x128.size a ≤ S7688x256.size a := fun arg0 v1 v1685 k0_hw56 k0_h1 => k0_hw56.2.2 k0_h1

def k0_mult57 (v1715 : BitVec 32) : BitVec 32 :=
  let c1_i32_412 : BitVec 32 := 1#32
  let v1735 : BitVec 32 := Scalar.shrsi v1715 c1_i32_412
  v1735

def k0_off113 (v1715 : BitVec 32) : Fin 2 → Nat :=
  let c1_i32_412 : BitVec 32 := 1#32
  let v1735 : BitVec 32 := Scalar.shrsi v1715 c1_i32_412
  let v1736 : BitVec 32 := v1735
  let v1737 : Index := Scalar.indexCast v1736
  let c0_413 : Index := 0#32
  ![v1737.toNat, 0]
def k0_off114 (v1715 : BitVec 32) : Fin 2 → Nat :=
  let c1_i32_412 : BitVec 32 := 1#32
  let v1735 : BitVec 32 := Scalar.shrsi v1715 c1_i32_412
  let v1736 : BitVec 32 := v1735
  let v1741 : Index := Scalar.indexCast v1736
  let c128_414 : Index := 128#32
  ![v1741.toNat, 128]

def k0_chk57 (arg0 : BitVec 32) (v1 : BitVec 32) (v1715 : BitVec 32) : Prop :=
  (∀ (k0_h1 : k0_cond1 arg0 v1 = 1#1), 8 ∣ (k0_mult57 v1715).toNat) ∧
  (∀ (k0_h1 : k0_cond1 arg0 v1 = 1#1), ∀ a, (k0_off113 v1715) a + S8x128.size a ≤ S7688x256.size a) ∧
  (∀ (k0_h1 : k0_cond1 arg0 v1 = 1#1), ∀ a, (k0_off114 v1715) a + S8x128.size a ≤ S7688x256.size a)
theorem k0_mult57_dvd : ∀ (arg0 : BitVec 32) (v1 : BitVec 32) (v1715 : BitVec 32) (k0_hw57 : k0_chk57 arg0 v1 v1715), ∀ (k0_h1 : k0_cond1 arg0 v1 = 1#1), 8 ∣ (k0_mult57 v1715).toNat := fun arg0 v1 v1715 k0_hw57 k0_h1 => k0_hw57.1 k0_h1
theorem k0_off113_inb : ∀ (arg0 : BitVec 32) (v1 : BitVec 32) (v1715 : BitVec 32) (k0_hw57 : k0_chk57 arg0 v1 v1715), ∀ (k0_h1 : k0_cond1 arg0 v1 = 1#1), ∀ a, (k0_off113 v1715) a + S8x128.size a ≤ S7688x256.size a := fun arg0 v1 v1715 k0_hw57 k0_h1 => k0_hw57.2.1 k0_h1
theorem k0_off114_inb : ∀ (arg0 : BitVec 32) (v1 : BitVec 32) (v1715 : BitVec 32) (k0_hw57 : k0_chk57 arg0 v1 v1715), ∀ (k0_h1 : k0_cond1 arg0 v1 = 1#1), ∀ a, (k0_off114 v1715) a + S8x128.size a ≤ S7688x256.size a := fun arg0 v1 v1715 k0_hw57 k0_h1 => k0_hw57.2.2 k0_h1

def k0_mult58 (v1745 : BitVec 32) : BitVec 32 :=
  let c1_i32_419 : BitVec 32 := 1#32
  let v1765 : BitVec 32 := Scalar.shrsi v1745 c1_i32_419
  v1765

def k0_off115 (v1745 : BitVec 32) : Fin 2 → Nat :=
  let c1_i32_419 : BitVec 32 := 1#32
  let v1765 : BitVec 32 := Scalar.shrsi v1745 c1_i32_419
  let v1766 : BitVec 32 := v1765
  let v1767 : Index := Scalar.indexCast v1766
  let c0_420 : Index := 0#32
  ![v1767.toNat, 0]
def k0_off116 (v1745 : BitVec 32) : Fin 2 → Nat :=
  let c1_i32_419 : BitVec 32 := 1#32
  let v1765 : BitVec 32 := Scalar.shrsi v1745 c1_i32_419
  let v1766 : BitVec 32 := v1765
  let v1771 : Index := Scalar.indexCast v1766
  let c128_421 : Index := 128#32
  ![v1771.toNat, 128]

def k0_chk58 (arg0 : BitVec 32) (v1 : BitVec 32) (v1745 : BitVec 32) : Prop :=
  (∀ (k0_h1 : k0_cond1 arg0 v1 = 1#1), 8 ∣ (k0_mult58 v1745).toNat) ∧
  (∀ (k0_h1 : k0_cond1 arg0 v1 = 1#1), ∀ a, (k0_off115 v1745) a + S8x128.size a ≤ S7688x256.size a) ∧
  (∀ (k0_h1 : k0_cond1 arg0 v1 = 1#1), ∀ a, (k0_off116 v1745) a + S8x128.size a ≤ S7688x256.size a)
theorem k0_mult58_dvd : ∀ (arg0 : BitVec 32) (v1 : BitVec 32) (v1745 : BitVec 32) (k0_hw58 : k0_chk58 arg0 v1 v1745), ∀ (k0_h1 : k0_cond1 arg0 v1 = 1#1), 8 ∣ (k0_mult58 v1745).toNat := fun arg0 v1 v1745 k0_hw58 k0_h1 => k0_hw58.1 k0_h1
theorem k0_off115_inb : ∀ (arg0 : BitVec 32) (v1 : BitVec 32) (v1745 : BitVec 32) (k0_hw58 : k0_chk58 arg0 v1 v1745), ∀ (k0_h1 : k0_cond1 arg0 v1 = 1#1), ∀ a, (k0_off115 v1745) a + S8x128.size a ≤ S7688x256.size a := fun arg0 v1 v1745 k0_hw58 k0_h1 => k0_hw58.2.1 k0_h1
theorem k0_off116_inb : ∀ (arg0 : BitVec 32) (v1 : BitVec 32) (v1745 : BitVec 32) (k0_hw58 : k0_chk58 arg0 v1 v1745), ∀ (k0_h1 : k0_cond1 arg0 v1 = 1#1), ∀ a, (k0_off116 v1745) a + S8x128.size a ≤ S7688x256.size a := fun arg0 v1 v1745 k0_hw58 k0_h1 => k0_hw58.2.2 k0_h1

def k0_mult59 (v1775 : BitVec 32) : BitVec 32 :=
  let c1_i32_426 : BitVec 32 := 1#32
  let v1795 : BitVec 32 := Scalar.shrsi v1775 c1_i32_426
  v1795

def k0_off117 (v1775 : BitVec 32) : Fin 2 → Nat :=
  let c1_i32_426 : BitVec 32 := 1#32
  let v1795 : BitVec 32 := Scalar.shrsi v1775 c1_i32_426
  let v1796 : BitVec 32 := v1795
  let v1797 : Index := Scalar.indexCast v1796
  let c0_427 : Index := 0#32
  ![v1797.toNat, 0]
def k0_off118 (v1775 : BitVec 32) : Fin 2 → Nat :=
  let c1_i32_426 : BitVec 32 := 1#32
  let v1795 : BitVec 32 := Scalar.shrsi v1775 c1_i32_426
  let v1796 : BitVec 32 := v1795
  let v1801 : Index := Scalar.indexCast v1796
  let c128_428 : Index := 128#32
  ![v1801.toNat, 128]

def k0_chk59 (arg0 : BitVec 32) (v1 : BitVec 32) (v1775 : BitVec 32) : Prop :=
  (∀ (k0_h1 : k0_cond1 arg0 v1 = 1#1), 8 ∣ (k0_mult59 v1775).toNat) ∧
  (∀ (k0_h1 : k0_cond1 arg0 v1 = 1#1), ∀ a, (k0_off117 v1775) a + S8x128.size a ≤ S7688x256.size a) ∧
  (∀ (k0_h1 : k0_cond1 arg0 v1 = 1#1), ∀ a, (k0_off118 v1775) a + S8x128.size a ≤ S7688x256.size a)
theorem k0_mult59_dvd : ∀ (arg0 : BitVec 32) (v1 : BitVec 32) (v1775 : BitVec 32) (k0_hw59 : k0_chk59 arg0 v1 v1775), ∀ (k0_h1 : k0_cond1 arg0 v1 = 1#1), 8 ∣ (k0_mult59 v1775).toNat := fun arg0 v1 v1775 k0_hw59 k0_h1 => k0_hw59.1 k0_h1
theorem k0_off117_inb : ∀ (arg0 : BitVec 32) (v1 : BitVec 32) (v1775 : BitVec 32) (k0_hw59 : k0_chk59 arg0 v1 v1775), ∀ (k0_h1 : k0_cond1 arg0 v1 = 1#1), ∀ a, (k0_off117 v1775) a + S8x128.size a ≤ S7688x256.size a := fun arg0 v1 v1775 k0_hw59 k0_h1 => k0_hw59.2.1 k0_h1
theorem k0_off118_inb : ∀ (arg0 : BitVec 32) (v1 : BitVec 32) (v1775 : BitVec 32) (k0_hw59 : k0_chk59 arg0 v1 v1775), ∀ (k0_h1 : k0_cond1 arg0 v1 = 1#1), ∀ a, (k0_off118 v1775) a + S8x128.size a ≤ S7688x256.size a := fun arg0 v1 v1775 k0_hw59 k0_h1 => k0_hw59.2.2 k0_h1

def k0_mult60 (v1805 : BitVec 32) : BitVec 32 :=
  let c1_i32_433 : BitVec 32 := 1#32
  let v1825 : BitVec 32 := Scalar.shrsi v1805 c1_i32_433
  v1825

def k0_off119 (v1805 : BitVec 32) : Fin 2 → Nat :=
  let c1_i32_433 : BitVec 32 := 1#32
  let v1825 : BitVec 32 := Scalar.shrsi v1805 c1_i32_433
  let v1826 : BitVec 32 := v1825
  let v1827 : Index := Scalar.indexCast v1826
  let c0_434 : Index := 0#32
  ![v1827.toNat, 0]
def k0_off120 (v1805 : BitVec 32) : Fin 2 → Nat :=
  let c1_i32_433 : BitVec 32 := 1#32
  let v1825 : BitVec 32 := Scalar.shrsi v1805 c1_i32_433
  let v1826 : BitVec 32 := v1825
  let v1831 : Index := Scalar.indexCast v1826
  let c128_435 : Index := 128#32
  ![v1831.toNat, 128]

def k0_chk60 (arg0 : BitVec 32) (v1 : BitVec 32) (v1805 : BitVec 32) : Prop :=
  (∀ (k0_h1 : k0_cond1 arg0 v1 = 1#1), 8 ∣ (k0_mult60 v1805).toNat) ∧
  (∀ (k0_h1 : k0_cond1 arg0 v1 = 1#1), ∀ a, (k0_off119 v1805) a + S8x128.size a ≤ S7688x256.size a) ∧
  (∀ (k0_h1 : k0_cond1 arg0 v1 = 1#1), ∀ a, (k0_off120 v1805) a + S8x128.size a ≤ S7688x256.size a)
theorem k0_mult60_dvd : ∀ (arg0 : BitVec 32) (v1 : BitVec 32) (v1805 : BitVec 32) (k0_hw60 : k0_chk60 arg0 v1 v1805), ∀ (k0_h1 : k0_cond1 arg0 v1 = 1#1), 8 ∣ (k0_mult60 v1805).toNat := fun arg0 v1 v1805 k0_hw60 k0_h1 => k0_hw60.1 k0_h1
theorem k0_off119_inb : ∀ (arg0 : BitVec 32) (v1 : BitVec 32) (v1805 : BitVec 32) (k0_hw60 : k0_chk60 arg0 v1 v1805), ∀ (k0_h1 : k0_cond1 arg0 v1 = 1#1), ∀ a, (k0_off119 v1805) a + S8x128.size a ≤ S7688x256.size a := fun arg0 v1 v1805 k0_hw60 k0_h1 => k0_hw60.2.1 k0_h1
theorem k0_off120_inb : ∀ (arg0 : BitVec 32) (v1 : BitVec 32) (v1805 : BitVec 32) (k0_hw60 : k0_chk60 arg0 v1 v1805), ∀ (k0_h1 : k0_cond1 arg0 v1 = 1#1), ∀ a, (k0_off120 v1805) a + S8x128.size a ≤ S7688x256.size a := fun arg0 v1 v1805 k0_hw60 k0_h1 => k0_hw60.2.2 k0_h1

def k0_mult61 (v1835 : BitVec 32) : BitVec 32 :=
  let c1_i32_440 : BitVec 32 := 1#32
  let v1855 : BitVec 32 := Scalar.shrsi v1835 c1_i32_440
  v1855

def k0_off121 (v1835 : BitVec 32) : Fin 2 → Nat :=
  let c1_i32_440 : BitVec 32 := 1#32
  let v1855 : BitVec 32 := Scalar.shrsi v1835 c1_i32_440
  let v1856 : BitVec 32 := v1855
  let v1857 : Index := Scalar.indexCast v1856
  let c0_441 : Index := 0#32
  ![v1857.toNat, 0]
def k0_off122 (v1835 : BitVec 32) : Fin 2 → Nat :=
  let c1_i32_440 : BitVec 32 := 1#32
  let v1855 : BitVec 32 := Scalar.shrsi v1835 c1_i32_440
  let v1856 : BitVec 32 := v1855
  let v1861 : Index := Scalar.indexCast v1856
  let c128_442 : Index := 128#32
  ![v1861.toNat, 128]

def k0_chk61 (arg0 : BitVec 32) (v1 : BitVec 32) (v1835 : BitVec 32) : Prop :=
  (∀ (k0_h1 : k0_cond1 arg0 v1 = 1#1), 8 ∣ (k0_mult61 v1835).toNat) ∧
  (∀ (k0_h1 : k0_cond1 arg0 v1 = 1#1), ∀ a, (k0_off121 v1835) a + S8x128.size a ≤ S7688x256.size a) ∧
  (∀ (k0_h1 : k0_cond1 arg0 v1 = 1#1), ∀ a, (k0_off122 v1835) a + S8x128.size a ≤ S7688x256.size a)
theorem k0_mult61_dvd : ∀ (arg0 : BitVec 32) (v1 : BitVec 32) (v1835 : BitVec 32) (k0_hw61 : k0_chk61 arg0 v1 v1835), ∀ (k0_h1 : k0_cond1 arg0 v1 = 1#1), 8 ∣ (k0_mult61 v1835).toNat := fun arg0 v1 v1835 k0_hw61 k0_h1 => k0_hw61.1 k0_h1
theorem k0_off121_inb : ∀ (arg0 : BitVec 32) (v1 : BitVec 32) (v1835 : BitVec 32) (k0_hw61 : k0_chk61 arg0 v1 v1835), ∀ (k0_h1 : k0_cond1 arg0 v1 = 1#1), ∀ a, (k0_off121 v1835) a + S8x128.size a ≤ S7688x256.size a := fun arg0 v1 v1835 k0_hw61 k0_h1 => k0_hw61.2.1 k0_h1
theorem k0_off122_inb : ∀ (arg0 : BitVec 32) (v1 : BitVec 32) (v1835 : BitVec 32) (k0_hw61 : k0_chk61 arg0 v1 v1835), ∀ (k0_h1 : k0_cond1 arg0 v1 = 1#1), ∀ a, (k0_off122 v1835) a + S8x128.size a ≤ S7688x256.size a := fun arg0 v1 v1835 k0_hw61 k0_h1 => k0_hw61.2.2 k0_h1

def k0_mult62 (v1865 : BitVec 32) : BitVec 32 :=
  let c1_i32_447 : BitVec 32 := 1#32
  let v1885 : BitVec 32 := Scalar.shrsi v1865 c1_i32_447
  v1885

def k0_off123 (v1865 : BitVec 32) : Fin 2 → Nat :=
  let c1_i32_447 : BitVec 32 := 1#32
  let v1885 : BitVec 32 := Scalar.shrsi v1865 c1_i32_447
  let v1886 : BitVec 32 := v1885
  let v1887 : Index := Scalar.indexCast v1886
  let c0_448 : Index := 0#32
  ![v1887.toNat, 0]
def k0_off124 (v1865 : BitVec 32) : Fin 2 → Nat :=
  let c1_i32_447 : BitVec 32 := 1#32
  let v1885 : BitVec 32 := Scalar.shrsi v1865 c1_i32_447
  let v1886 : BitVec 32 := v1885
  let v1891 : Index := Scalar.indexCast v1886
  let c128_449 : Index := 128#32
  ![v1891.toNat, 128]

def k0_chk62 (arg0 : BitVec 32) (v1 : BitVec 32) (v1865 : BitVec 32) : Prop :=
  (∀ (k0_h1 : k0_cond1 arg0 v1 = 1#1), 8 ∣ (k0_mult62 v1865).toNat) ∧
  (∀ (k0_h1 : k0_cond1 arg0 v1 = 1#1), ∀ a, (k0_off123 v1865) a + S8x128.size a ≤ S7688x256.size a) ∧
  (∀ (k0_h1 : k0_cond1 arg0 v1 = 1#1), ∀ a, (k0_off124 v1865) a + S8x128.size a ≤ S7688x256.size a)
theorem k0_mult62_dvd : ∀ (arg0 : BitVec 32) (v1 : BitVec 32) (v1865 : BitVec 32) (k0_hw62 : k0_chk62 arg0 v1 v1865), ∀ (k0_h1 : k0_cond1 arg0 v1 = 1#1), 8 ∣ (k0_mult62 v1865).toNat := fun arg0 v1 v1865 k0_hw62 k0_h1 => k0_hw62.1 k0_h1
theorem k0_off123_inb : ∀ (arg0 : BitVec 32) (v1 : BitVec 32) (v1865 : BitVec 32) (k0_hw62 : k0_chk62 arg0 v1 v1865), ∀ (k0_h1 : k0_cond1 arg0 v1 = 1#1), ∀ a, (k0_off123 v1865) a + S8x128.size a ≤ S7688x256.size a := fun arg0 v1 v1865 k0_hw62 k0_h1 => k0_hw62.2.1 k0_h1
theorem k0_off124_inb : ∀ (arg0 : BitVec 32) (v1 : BitVec 32) (v1865 : BitVec 32) (k0_hw62 : k0_chk62 arg0 v1 v1865), ∀ (k0_h1 : k0_cond1 arg0 v1 = 1#1), ∀ a, (k0_off124 v1865) a + S8x128.size a ≤ S7688x256.size a := fun arg0 v1 v1865 k0_hw62 k0_h1 => k0_hw62.2.2 k0_h1

def k0_mult63 (v1895 : BitVec 32) : BitVec 32 :=
  let c1_i32_454 : BitVec 32 := 1#32
  let v1915 : BitVec 32 := Scalar.shrsi v1895 c1_i32_454
  v1915

def k0_off125 (v1895 : BitVec 32) : Fin 2 → Nat :=
  let c1_i32_454 : BitVec 32 := 1#32
  let v1915 : BitVec 32 := Scalar.shrsi v1895 c1_i32_454
  let v1916 : BitVec 32 := v1915
  let v1917 : Index := Scalar.indexCast v1916
  let c0_455 : Index := 0#32
  ![v1917.toNat, 0]
def k0_off126 (v1895 : BitVec 32) : Fin 2 → Nat :=
  let c1_i32_454 : BitVec 32 := 1#32
  let v1915 : BitVec 32 := Scalar.shrsi v1895 c1_i32_454
  let v1916 : BitVec 32 := v1915
  let v1921 : Index := Scalar.indexCast v1916
  let c128_456 : Index := 128#32
  ![v1921.toNat, 128]

def k0_chk63 (arg0 : BitVec 32) (v1 : BitVec 32) (v1895 : BitVec 32) : Prop :=
  (∀ (k0_h1 : k0_cond1 arg0 v1 = 1#1), 8 ∣ (k0_mult63 v1895).toNat) ∧
  (∀ (k0_h1 : k0_cond1 arg0 v1 = 1#1), ∀ a, (k0_off125 v1895) a + S8x128.size a ≤ S7688x256.size a) ∧
  (∀ (k0_h1 : k0_cond1 arg0 v1 = 1#1), ∀ a, (k0_off126 v1895) a + S8x128.size a ≤ S7688x256.size a)
theorem k0_mult63_dvd : ∀ (arg0 : BitVec 32) (v1 : BitVec 32) (v1895 : BitVec 32) (k0_hw63 : k0_chk63 arg0 v1 v1895), ∀ (k0_h1 : k0_cond1 arg0 v1 = 1#1), 8 ∣ (k0_mult63 v1895).toNat := fun arg0 v1 v1895 k0_hw63 k0_h1 => k0_hw63.1 k0_h1
theorem k0_off125_inb : ∀ (arg0 : BitVec 32) (v1 : BitVec 32) (v1895 : BitVec 32) (k0_hw63 : k0_chk63 arg0 v1 v1895), ∀ (k0_h1 : k0_cond1 arg0 v1 = 1#1), ∀ a, (k0_off125 v1895) a + S8x128.size a ≤ S7688x256.size a := fun arg0 v1 v1895 k0_hw63 k0_h1 => k0_hw63.2.1 k0_h1
theorem k0_off126_inb : ∀ (arg0 : BitVec 32) (v1 : BitVec 32) (v1895 : BitVec 32) (k0_hw63 : k0_chk63 arg0 v1 v1895), ∀ (k0_h1 : k0_cond1 arg0 v1 = 1#1), ∀ a, (k0_off126 v1895) a + S8x128.size a ≤ S7688x256.size a := fun arg0 v1 v1895 k0_hw63 k0_h1 => k0_hw63.2.2 k0_h1

def k0_mult64 (v1925 : BitVec 32) : BitVec 32 :=
  let c1_i32_461 : BitVec 32 := 1#32
  let v1945 : BitVec 32 := Scalar.shrsi v1925 c1_i32_461
  v1945

def k0_off127 (v1925 : BitVec 32) : Fin 2 → Nat :=
  let c1_i32_461 : BitVec 32 := 1#32
  let v1945 : BitVec 32 := Scalar.shrsi v1925 c1_i32_461
  let v1946 : BitVec 32 := v1945
  let v1947 : Index := Scalar.indexCast v1946
  let c0_462 : Index := 0#32
  ![v1947.toNat, 0]
def k0_off128 (v1925 : BitVec 32) : Fin 2 → Nat :=
  let c1_i32_461 : BitVec 32 := 1#32
  let v1945 : BitVec 32 := Scalar.shrsi v1925 c1_i32_461
  let v1946 : BitVec 32 := v1945
  let v1951 : Index := Scalar.indexCast v1946
  let c128_463 : Index := 128#32
  ![v1951.toNat, 128]

def k0_chk64 (arg0 : BitVec 32) (v1 : BitVec 32) (v1925 : BitVec 32) : Prop :=
  (∀ (k0_h1 : k0_cond1 arg0 v1 = 1#1), 8 ∣ (k0_mult64 v1925).toNat) ∧
  (∀ (k0_h1 : k0_cond1 arg0 v1 = 1#1), ∀ a, (k0_off127 v1925) a + S8x128.size a ≤ S7688x256.size a) ∧
  (∀ (k0_h1 : k0_cond1 arg0 v1 = 1#1), ∀ a, (k0_off128 v1925) a + S8x128.size a ≤ S7688x256.size a)
theorem k0_mult64_dvd : ∀ (arg0 : BitVec 32) (v1 : BitVec 32) (v1925 : BitVec 32) (k0_hw64 : k0_chk64 arg0 v1 v1925), ∀ (k0_h1 : k0_cond1 arg0 v1 = 1#1), 8 ∣ (k0_mult64 v1925).toNat := fun arg0 v1 v1925 k0_hw64 k0_h1 => k0_hw64.1 k0_h1
theorem k0_off127_inb : ∀ (arg0 : BitVec 32) (v1 : BitVec 32) (v1925 : BitVec 32) (k0_hw64 : k0_chk64 arg0 v1 v1925), ∀ (k0_h1 : k0_cond1 arg0 v1 = 1#1), ∀ a, (k0_off127 v1925) a + S8x128.size a ≤ S7688x256.size a := fun arg0 v1 v1925 k0_hw64 k0_h1 => k0_hw64.2.1 k0_h1
theorem k0_off128_inb : ∀ (arg0 : BitVec 32) (v1 : BitVec 32) (v1925 : BitVec 32) (k0_hw64 : k0_chk64 arg0 v1 v1925), ∀ (k0_h1 : k0_cond1 arg0 v1 = 1#1), ∀ a, (k0_off128 v1925) a + S8x128.size a ≤ S7688x256.size a := fun arg0 v1 v1925 k0_hw64 k0_h1 => k0_hw64.2.2 k0_h1

def k0_mult65 (v1955 : BitVec 32) : BitVec 32 :=
  let c1_i32_468 : BitVec 32 := 1#32
  let v1975 : BitVec 32 := Scalar.shrsi v1955 c1_i32_468
  v1975

def k0_off129 (v1955 : BitVec 32) : Fin 2 → Nat :=
  let c1_i32_468 : BitVec 32 := 1#32
  let v1975 : BitVec 32 := Scalar.shrsi v1955 c1_i32_468
  let v1976 : BitVec 32 := v1975
  let v1977 : Index := Scalar.indexCast v1976
  let c0_469 : Index := 0#32
  ![v1977.toNat, 0]
def k0_off130 (v1955 : BitVec 32) : Fin 2 → Nat :=
  let c1_i32_468 : BitVec 32 := 1#32
  let v1975 : BitVec 32 := Scalar.shrsi v1955 c1_i32_468
  let v1976 : BitVec 32 := v1975
  let v1981 : Index := Scalar.indexCast v1976
  let c128_470 : Index := 128#32
  ![v1981.toNat, 128]

def k0_chk65 (arg0 : BitVec 32) (v1 : BitVec 32) (v1955 : BitVec 32) : Prop :=
  (∀ (k0_h1 : k0_cond1 arg0 v1 = 1#1), 8 ∣ (k0_mult65 v1955).toNat) ∧
  (∀ (k0_h1 : k0_cond1 arg0 v1 = 1#1), ∀ a, (k0_off129 v1955) a + S8x128.size a ≤ S7688x256.size a) ∧
  (∀ (k0_h1 : k0_cond1 arg0 v1 = 1#1), ∀ a, (k0_off130 v1955) a + S8x128.size a ≤ S7688x256.size a)
theorem k0_mult65_dvd : ∀ (arg0 : BitVec 32) (v1 : BitVec 32) (v1955 : BitVec 32) (k0_hw65 : k0_chk65 arg0 v1 v1955), ∀ (k0_h1 : k0_cond1 arg0 v1 = 1#1), 8 ∣ (k0_mult65 v1955).toNat := fun arg0 v1 v1955 k0_hw65 k0_h1 => k0_hw65.1 k0_h1
theorem k0_off129_inb : ∀ (arg0 : BitVec 32) (v1 : BitVec 32) (v1955 : BitVec 32) (k0_hw65 : k0_chk65 arg0 v1 v1955), ∀ (k0_h1 : k0_cond1 arg0 v1 = 1#1), ∀ a, (k0_off129 v1955) a + S8x128.size a ≤ S7688x256.size a := fun arg0 v1 v1955 k0_hw65 k0_h1 => k0_hw65.2.1 k0_h1
theorem k0_off130_inb : ∀ (arg0 : BitVec 32) (v1 : BitVec 32) (v1955 : BitVec 32) (k0_hw65 : k0_chk65 arg0 v1 v1955), ∀ (k0_h1 : k0_cond1 arg0 v1 = 1#1), ∀ a, (k0_off130 v1955) a + S8x128.size a ≤ S7688x256.size a := fun arg0 v1 v1955 k0_hw65 k0_h1 => k0_hw65.2.2 k0_h1

def k0_mult66 (v1985 : BitVec 32) : BitVec 32 :=
  let c1_i32_475 : BitVec 32 := 1#32
  let v2005 : BitVec 32 := Scalar.shrsi v1985 c1_i32_475
  v2005

def k0_off131 (v1985 : BitVec 32) : Fin 2 → Nat :=
  let c1_i32_475 : BitVec 32 := 1#32
  let v2005 : BitVec 32 := Scalar.shrsi v1985 c1_i32_475
  let v2006 : BitVec 32 := v2005
  let v2007 : Index := Scalar.indexCast v2006
  let c0_476 : Index := 0#32
  ![v2007.toNat, 0]
def k0_off132 (v1985 : BitVec 32) : Fin 2 → Nat :=
  let c1_i32_475 : BitVec 32 := 1#32
  let v2005 : BitVec 32 := Scalar.shrsi v1985 c1_i32_475
  let v2006 : BitVec 32 := v2005
  let v2011 : Index := Scalar.indexCast v2006
  let c128_477 : Index := 128#32
  ![v2011.toNat, 128]

def k0_chk66 (arg0 : BitVec 32) (v1 : BitVec 32) (v1985 : BitVec 32) : Prop :=
  (∀ (k0_h1 : k0_cond1 arg0 v1 = 1#1), 8 ∣ (k0_mult66 v1985).toNat) ∧
  (∀ (k0_h1 : k0_cond1 arg0 v1 = 1#1), ∀ a, (k0_off131 v1985) a + S8x128.size a ≤ S7688x256.size a) ∧
  (∀ (k0_h1 : k0_cond1 arg0 v1 = 1#1), ∀ a, (k0_off132 v1985) a + S8x128.size a ≤ S7688x256.size a)
theorem k0_mult66_dvd : ∀ (arg0 : BitVec 32) (v1 : BitVec 32) (v1985 : BitVec 32) (k0_hw66 : k0_chk66 arg0 v1 v1985), ∀ (k0_h1 : k0_cond1 arg0 v1 = 1#1), 8 ∣ (k0_mult66 v1985).toNat := fun arg0 v1 v1985 k0_hw66 k0_h1 => k0_hw66.1 k0_h1
theorem k0_off131_inb : ∀ (arg0 : BitVec 32) (v1 : BitVec 32) (v1985 : BitVec 32) (k0_hw66 : k0_chk66 arg0 v1 v1985), ∀ (k0_h1 : k0_cond1 arg0 v1 = 1#1), ∀ a, (k0_off131 v1985) a + S8x128.size a ≤ S7688x256.size a := fun arg0 v1 v1985 k0_hw66 k0_h1 => k0_hw66.2.1 k0_h1
theorem k0_off132_inb : ∀ (arg0 : BitVec 32) (v1 : BitVec 32) (v1985 : BitVec 32) (k0_hw66 : k0_chk66 arg0 v1 v1985), ∀ (k0_h1 : k0_cond1 arg0 v1 = 1#1), ∀ a, (k0_off132 v1985) a + S8x128.size a ≤ S7688x256.size a := fun arg0 v1 v1985 k0_hw66 k0_h1 => k0_hw66.2.2 k0_h1

def k0_mult67 (v2015 : BitVec 32) : BitVec 32 :=
  let c1_i32_482 : BitVec 32 := 1#32
  let v2035 : BitVec 32 := Scalar.shrsi v2015 c1_i32_482
  v2035

def k0_off133 (v2015 : BitVec 32) : Fin 2 → Nat :=
  let c1_i32_482 : BitVec 32 := 1#32
  let v2035 : BitVec 32 := Scalar.shrsi v2015 c1_i32_482
  let v2036 : BitVec 32 := v2035
  let v2037 : Index := Scalar.indexCast v2036
  let c0_483 : Index := 0#32
  ![v2037.toNat, 0]
def k0_off134 (v2015 : BitVec 32) : Fin 2 → Nat :=
  let c1_i32_482 : BitVec 32 := 1#32
  let v2035 : BitVec 32 := Scalar.shrsi v2015 c1_i32_482
  let v2036 : BitVec 32 := v2035
  let v2041 : Index := Scalar.indexCast v2036
  let c128_484 : Index := 128#32
  ![v2041.toNat, 128]

def k0_chk67 (arg0 : BitVec 32) (v1 : BitVec 32) (v2015 : BitVec 32) : Prop :=
  (∀ (k0_h1 : k0_cond1 arg0 v1 = 1#1), 8 ∣ (k0_mult67 v2015).toNat) ∧
  (∀ (k0_h1 : k0_cond1 arg0 v1 = 1#1), ∀ a, (k0_off133 v2015) a + S8x128.size a ≤ S7688x256.size a) ∧
  (∀ (k0_h1 : k0_cond1 arg0 v1 = 1#1), ∀ a, (k0_off134 v2015) a + S8x128.size a ≤ S7688x256.size a)
theorem k0_mult67_dvd : ∀ (arg0 : BitVec 32) (v1 : BitVec 32) (v2015 : BitVec 32) (k0_hw67 : k0_chk67 arg0 v1 v2015), ∀ (k0_h1 : k0_cond1 arg0 v1 = 1#1), 8 ∣ (k0_mult67 v2015).toNat := fun arg0 v1 v2015 k0_hw67 k0_h1 => k0_hw67.1 k0_h1
theorem k0_off133_inb : ∀ (arg0 : BitVec 32) (v1 : BitVec 32) (v2015 : BitVec 32) (k0_hw67 : k0_chk67 arg0 v1 v2015), ∀ (k0_h1 : k0_cond1 arg0 v1 = 1#1), ∀ a, (k0_off133 v2015) a + S8x128.size a ≤ S7688x256.size a := fun arg0 v1 v2015 k0_hw67 k0_h1 => k0_hw67.2.1 k0_h1
theorem k0_off134_inb : ∀ (arg0 : BitVec 32) (v1 : BitVec 32) (v2015 : BitVec 32) (k0_hw67 : k0_chk67 arg0 v1 v2015), ∀ (k0_h1 : k0_cond1 arg0 v1 = 1#1), ∀ a, (k0_off134 v2015) a + S8x128.size a ≤ S7688x256.size a := fun arg0 v1 v2015 k0_hw67 k0_h1 => k0_hw67.2.2 k0_h1

def k0_mult68 (v2045 : BitVec 32) : BitVec 32 :=
  let c1_i32_489 : BitVec 32 := 1#32
  let v2065 : BitVec 32 := Scalar.shrsi v2045 c1_i32_489
  v2065

def k0_off135 (v2045 : BitVec 32) : Fin 2 → Nat :=
  let c1_i32_489 : BitVec 32 := 1#32
  let v2065 : BitVec 32 := Scalar.shrsi v2045 c1_i32_489
  let v2066 : BitVec 32 := v2065
  let v2067 : Index := Scalar.indexCast v2066
  let c0_490 : Index := 0#32
  ![v2067.toNat, 0]
def k0_off136 (v2045 : BitVec 32) : Fin 2 → Nat :=
  let c1_i32_489 : BitVec 32 := 1#32
  let v2065 : BitVec 32 := Scalar.shrsi v2045 c1_i32_489
  let v2066 : BitVec 32 := v2065
  let v2071 : Index := Scalar.indexCast v2066
  let c128_491 : Index := 128#32
  ![v2071.toNat, 128]

def k0_chk68 (arg0 : BitVec 32) (v1 : BitVec 32) (v2045 : BitVec 32) : Prop :=
  (∀ (k0_h1 : k0_cond1 arg0 v1 = 1#1), 8 ∣ (k0_mult68 v2045).toNat) ∧
  (∀ (k0_h1 : k0_cond1 arg0 v1 = 1#1), ∀ a, (k0_off135 v2045) a + S8x128.size a ≤ S7688x256.size a) ∧
  (∀ (k0_h1 : k0_cond1 arg0 v1 = 1#1), ∀ a, (k0_off136 v2045) a + S8x128.size a ≤ S7688x256.size a)
theorem k0_mult68_dvd : ∀ (arg0 : BitVec 32) (v1 : BitVec 32) (v2045 : BitVec 32) (k0_hw68 : k0_chk68 arg0 v1 v2045), ∀ (k0_h1 : k0_cond1 arg0 v1 = 1#1), 8 ∣ (k0_mult68 v2045).toNat := fun arg0 v1 v2045 k0_hw68 k0_h1 => k0_hw68.1 k0_h1
theorem k0_off135_inb : ∀ (arg0 : BitVec 32) (v1 : BitVec 32) (v2045 : BitVec 32) (k0_hw68 : k0_chk68 arg0 v1 v2045), ∀ (k0_h1 : k0_cond1 arg0 v1 = 1#1), ∀ a, (k0_off135 v2045) a + S8x128.size a ≤ S7688x256.size a := fun arg0 v1 v2045 k0_hw68 k0_h1 => k0_hw68.2.1 k0_h1
theorem k0_off136_inb : ∀ (arg0 : BitVec 32) (v1 : BitVec 32) (v2045 : BitVec 32) (k0_hw68 : k0_chk68 arg0 v1 v2045), ∀ (k0_h1 : k0_cond1 arg0 v1 = 1#1), ∀ a, (k0_off136 v2045) a + S8x128.size a ≤ S7688x256.size a := fun arg0 v1 v2045 k0_hw68 k0_h1 => k0_hw68.2.2 k0_h1

def k0_mult69 (v2075 : BitVec 32) : BitVec 32 :=
  let c1_i32_496 : BitVec 32 := 1#32
  let v2095 : BitVec 32 := Scalar.shrsi v2075 c1_i32_496
  v2095

def k0_off137 (v2075 : BitVec 32) : Fin 2 → Nat :=
  let c1_i32_496 : BitVec 32 := 1#32
  let v2095 : BitVec 32 := Scalar.shrsi v2075 c1_i32_496
  let v2096 : BitVec 32 := v2095
  let v2097 : Index := Scalar.indexCast v2096
  let c0_497 : Index := 0#32
  ![v2097.toNat, 0]
def k0_off138 (v2075 : BitVec 32) : Fin 2 → Nat :=
  let c1_i32_496 : BitVec 32 := 1#32
  let v2095 : BitVec 32 := Scalar.shrsi v2075 c1_i32_496
  let v2096 : BitVec 32 := v2095
  let v2101 : Index := Scalar.indexCast v2096
  let c128_498 : Index := 128#32
  ![v2101.toNat, 128]

def k0_chk69 (arg0 : BitVec 32) (v1 : BitVec 32) (v2075 : BitVec 32) : Prop :=
  (∀ (k0_h1 : k0_cond1 arg0 v1 = 1#1), 8 ∣ (k0_mult69 v2075).toNat) ∧
  (∀ (k0_h1 : k0_cond1 arg0 v1 = 1#1), ∀ a, (k0_off137 v2075) a + S8x128.size a ≤ S7688x256.size a) ∧
  (∀ (k0_h1 : k0_cond1 arg0 v1 = 1#1), ∀ a, (k0_off138 v2075) a + S8x128.size a ≤ S7688x256.size a)
theorem k0_mult69_dvd : ∀ (arg0 : BitVec 32) (v1 : BitVec 32) (v2075 : BitVec 32) (k0_hw69 : k0_chk69 arg0 v1 v2075), ∀ (k0_h1 : k0_cond1 arg0 v1 = 1#1), 8 ∣ (k0_mult69 v2075).toNat := fun arg0 v1 v2075 k0_hw69 k0_h1 => k0_hw69.1 k0_h1
theorem k0_off137_inb : ∀ (arg0 : BitVec 32) (v1 : BitVec 32) (v2075 : BitVec 32) (k0_hw69 : k0_chk69 arg0 v1 v2075), ∀ (k0_h1 : k0_cond1 arg0 v1 = 1#1), ∀ a, (k0_off137 v2075) a + S8x128.size a ≤ S7688x256.size a := fun arg0 v1 v2075 k0_hw69 k0_h1 => k0_hw69.2.1 k0_h1
theorem k0_off138_inb : ∀ (arg0 : BitVec 32) (v1 : BitVec 32) (v2075 : BitVec 32) (k0_hw69 : k0_chk69 arg0 v1 v2075), ∀ (k0_h1 : k0_cond1 arg0 v1 = 1#1), ∀ a, (k0_off138 v2075) a + S8x128.size a ≤ S7688x256.size a := fun arg0 v1 v2075 k0_hw69 k0_h1 => k0_hw69.2.2 k0_h1

def k0_mult70 (v2105 : BitVec 32) : BitVec 32 :=
  let c1_i32_503 : BitVec 32 := 1#32
  let v2125 : BitVec 32 := Scalar.shrsi v2105 c1_i32_503
  v2125

def k0_off139 (v2105 : BitVec 32) : Fin 2 → Nat :=
  let c1_i32_503 : BitVec 32 := 1#32
  let v2125 : BitVec 32 := Scalar.shrsi v2105 c1_i32_503
  let v2126 : BitVec 32 := v2125
  let v2127 : Index := Scalar.indexCast v2126
  let c0_504 : Index := 0#32
  ![v2127.toNat, 0]
def k0_off140 (v2105 : BitVec 32) : Fin 2 → Nat :=
  let c1_i32_503 : BitVec 32 := 1#32
  let v2125 : BitVec 32 := Scalar.shrsi v2105 c1_i32_503
  let v2126 : BitVec 32 := v2125
  let v2131 : Index := Scalar.indexCast v2126
  let c128_505 : Index := 128#32
  ![v2131.toNat, 128]

def k0_chk70 (arg0 : BitVec 32) (v1 : BitVec 32) (v2105 : BitVec 32) : Prop :=
  (∀ (k0_h1 : k0_cond1 arg0 v1 = 1#1), 8 ∣ (k0_mult70 v2105).toNat) ∧
  (∀ (k0_h1 : k0_cond1 arg0 v1 = 1#1), ∀ a, (k0_off139 v2105) a + S8x128.size a ≤ S7688x256.size a) ∧
  (∀ (k0_h1 : k0_cond1 arg0 v1 = 1#1), ∀ a, (k0_off140 v2105) a + S8x128.size a ≤ S7688x256.size a)
theorem k0_mult70_dvd : ∀ (arg0 : BitVec 32) (v1 : BitVec 32) (v2105 : BitVec 32) (k0_hw70 : k0_chk70 arg0 v1 v2105), ∀ (k0_h1 : k0_cond1 arg0 v1 = 1#1), 8 ∣ (k0_mult70 v2105).toNat := fun arg0 v1 v2105 k0_hw70 k0_h1 => k0_hw70.1 k0_h1
theorem k0_off139_inb : ∀ (arg0 : BitVec 32) (v1 : BitVec 32) (v2105 : BitVec 32) (k0_hw70 : k0_chk70 arg0 v1 v2105), ∀ (k0_h1 : k0_cond1 arg0 v1 = 1#1), ∀ a, (k0_off139 v2105) a + S8x128.size a ≤ S7688x256.size a := fun arg0 v1 v2105 k0_hw70 k0_h1 => k0_hw70.2.1 k0_h1
theorem k0_off140_inb : ∀ (arg0 : BitVec 32) (v1 : BitVec 32) (v2105 : BitVec 32) (k0_hw70 : k0_chk70 arg0 v1 v2105), ∀ (k0_h1 : k0_cond1 arg0 v1 = 1#1), ∀ a, (k0_off140 v2105) a + S8x128.size a ≤ S7688x256.size a := fun arg0 v1 v2105 k0_hw70 k0_h1 => k0_hw70.2.2 k0_h1

def k0_mult71 (v2135 : BitVec 32) : BitVec 32 :=
  let c1_i32_510 : BitVec 32 := 1#32
  let v2155 : BitVec 32 := Scalar.shrsi v2135 c1_i32_510
  v2155

def k0_off141 (v2135 : BitVec 32) : Fin 2 → Nat :=
  let c1_i32_510 : BitVec 32 := 1#32
  let v2155 : BitVec 32 := Scalar.shrsi v2135 c1_i32_510
  let v2156 : BitVec 32 := v2155
  let v2157 : Index := Scalar.indexCast v2156
  let c0_511 : Index := 0#32
  ![v2157.toNat, 0]
def k0_off142 (v2135 : BitVec 32) : Fin 2 → Nat :=
  let c1_i32_510 : BitVec 32 := 1#32
  let v2155 : BitVec 32 := Scalar.shrsi v2135 c1_i32_510
  let v2156 : BitVec 32 := v2155
  let v2161 : Index := Scalar.indexCast v2156
  let c128_512 : Index := 128#32
  ![v2161.toNat, 128]

def k0_chk71 (arg0 : BitVec 32) (v1 : BitVec 32) (v2135 : BitVec 32) : Prop :=
  (∀ (k0_h1 : k0_cond1 arg0 v1 = 1#1), 8 ∣ (k0_mult71 v2135).toNat) ∧
  (∀ (k0_h1 : k0_cond1 arg0 v1 = 1#1), ∀ a, (k0_off141 v2135) a + S8x128.size a ≤ S7688x256.size a) ∧
  (∀ (k0_h1 : k0_cond1 arg0 v1 = 1#1), ∀ a, (k0_off142 v2135) a + S8x128.size a ≤ S7688x256.size a)
theorem k0_mult71_dvd : ∀ (arg0 : BitVec 32) (v1 : BitVec 32) (v2135 : BitVec 32) (k0_hw71 : k0_chk71 arg0 v1 v2135), ∀ (k0_h1 : k0_cond1 arg0 v1 = 1#1), 8 ∣ (k0_mult71 v2135).toNat := fun arg0 v1 v2135 k0_hw71 k0_h1 => k0_hw71.1 k0_h1
theorem k0_off141_inb : ∀ (arg0 : BitVec 32) (v1 : BitVec 32) (v2135 : BitVec 32) (k0_hw71 : k0_chk71 arg0 v1 v2135), ∀ (k0_h1 : k0_cond1 arg0 v1 = 1#1), ∀ a, (k0_off141 v2135) a + S8x128.size a ≤ S7688x256.size a := fun arg0 v1 v2135 k0_hw71 k0_h1 => k0_hw71.2.1 k0_h1
theorem k0_off142_inb : ∀ (arg0 : BitVec 32) (v1 : BitVec 32) (v2135 : BitVec 32) (k0_hw71 : k0_chk71 arg0 v1 v2135), ∀ (k0_h1 : k0_cond1 arg0 v1 = 1#1), ∀ a, (k0_off142 v2135) a + S8x128.size a ≤ S7688x256.size a := fun arg0 v1 v2135 k0_hw71 k0_h1 => k0_hw71.2.2 k0_h1

def k0_mult72 (v2165 : BitVec 32) : BitVec 32 :=
  let c1_i32_517 : BitVec 32 := 1#32
  let v2185 : BitVec 32 := Scalar.shrsi v2165 c1_i32_517
  v2185

def k0_off143 (v2165 : BitVec 32) : Fin 2 → Nat :=
  let c1_i32_517 : BitVec 32 := 1#32
  let v2185 : BitVec 32 := Scalar.shrsi v2165 c1_i32_517
  let v2186 : BitVec 32 := v2185
  let v2187 : Index := Scalar.indexCast v2186
  let c0_518 : Index := 0#32
  ![v2187.toNat, 0]
def k0_off144 (v2165 : BitVec 32) : Fin 2 → Nat :=
  let c1_i32_517 : BitVec 32 := 1#32
  let v2185 : BitVec 32 := Scalar.shrsi v2165 c1_i32_517
  let v2186 : BitVec 32 := v2185
  let v2191 : Index := Scalar.indexCast v2186
  let c128_519 : Index := 128#32
  ![v2191.toNat, 128]

def k0_chk72 (arg0 : BitVec 32) (v1 : BitVec 32) (v2165 : BitVec 32) : Prop :=
  (∀ (k0_h1 : k0_cond1 arg0 v1 = 1#1), 8 ∣ (k0_mult72 v2165).toNat) ∧
  (∀ (k0_h1 : k0_cond1 arg0 v1 = 1#1), ∀ a, (k0_off143 v2165) a + S8x128.size a ≤ S7688x256.size a) ∧
  (∀ (k0_h1 : k0_cond1 arg0 v1 = 1#1), ∀ a, (k0_off144 v2165) a + S8x128.size a ≤ S7688x256.size a)
theorem k0_mult72_dvd : ∀ (arg0 : BitVec 32) (v1 : BitVec 32) (v2165 : BitVec 32) (k0_hw72 : k0_chk72 arg0 v1 v2165), ∀ (k0_h1 : k0_cond1 arg0 v1 = 1#1), 8 ∣ (k0_mult72 v2165).toNat := fun arg0 v1 v2165 k0_hw72 k0_h1 => k0_hw72.1 k0_h1
theorem k0_off143_inb : ∀ (arg0 : BitVec 32) (v1 : BitVec 32) (v2165 : BitVec 32) (k0_hw72 : k0_chk72 arg0 v1 v2165), ∀ (k0_h1 : k0_cond1 arg0 v1 = 1#1), ∀ a, (k0_off143 v2165) a + S8x128.size a ≤ S7688x256.size a := fun arg0 v1 v2165 k0_hw72 k0_h1 => k0_hw72.2.1 k0_h1
theorem k0_off144_inb : ∀ (arg0 : BitVec 32) (v1 : BitVec 32) (v2165 : BitVec 32) (k0_hw72 : k0_chk72 arg0 v1 v2165), ∀ (k0_h1 : k0_cond1 arg0 v1 = 1#1), ∀ a, (k0_off144 v2165) a + S8x128.size a ≤ S7688x256.size a := fun arg0 v1 v2165 k0_hw72 k0_h1 => k0_hw72.2.2 k0_h1

def k0_mult73 (v2195 : BitVec 32) : BitVec 32 :=
  let c1_i32_524 : BitVec 32 := 1#32
  let v2215 : BitVec 32 := Scalar.shrsi v2195 c1_i32_524
  v2215

def k0_off145 (v2195 : BitVec 32) : Fin 2 → Nat :=
  let c1_i32_524 : BitVec 32 := 1#32
  let v2215 : BitVec 32 := Scalar.shrsi v2195 c1_i32_524
  let v2216 : BitVec 32 := v2215
  let v2217 : Index := Scalar.indexCast v2216
  let c0_525 : Index := 0#32
  ![v2217.toNat, 0]
def k0_off146 (v2195 : BitVec 32) : Fin 2 → Nat :=
  let c1_i32_524 : BitVec 32 := 1#32
  let v2215 : BitVec 32 := Scalar.shrsi v2195 c1_i32_524
  let v2216 : BitVec 32 := v2215
  let v2221 : Index := Scalar.indexCast v2216
  let c128_526 : Index := 128#32
  ![v2221.toNat, 128]

def k0_chk73 (arg0 : BitVec 32) (v1 : BitVec 32) (v2195 : BitVec 32) : Prop :=
  (∀ (k0_h1 : k0_cond1 arg0 v1 = 1#1), 8 ∣ (k0_mult73 v2195).toNat) ∧
  (∀ (k0_h1 : k0_cond1 arg0 v1 = 1#1), ∀ a, (k0_off145 v2195) a + S8x128.size a ≤ S7688x256.size a) ∧
  (∀ (k0_h1 : k0_cond1 arg0 v1 = 1#1), ∀ a, (k0_off146 v2195) a + S8x128.size a ≤ S7688x256.size a)
theorem k0_mult73_dvd : ∀ (arg0 : BitVec 32) (v1 : BitVec 32) (v2195 : BitVec 32) (k0_hw73 : k0_chk73 arg0 v1 v2195), ∀ (k0_h1 : k0_cond1 arg0 v1 = 1#1), 8 ∣ (k0_mult73 v2195).toNat := fun arg0 v1 v2195 k0_hw73 k0_h1 => k0_hw73.1 k0_h1
theorem k0_off145_inb : ∀ (arg0 : BitVec 32) (v1 : BitVec 32) (v2195 : BitVec 32) (k0_hw73 : k0_chk73 arg0 v1 v2195), ∀ (k0_h1 : k0_cond1 arg0 v1 = 1#1), ∀ a, (k0_off145 v2195) a + S8x128.size a ≤ S7688x256.size a := fun arg0 v1 v2195 k0_hw73 k0_h1 => k0_hw73.2.1 k0_h1
theorem k0_off146_inb : ∀ (arg0 : BitVec 32) (v1 : BitVec 32) (v2195 : BitVec 32) (k0_hw73 : k0_chk73 arg0 v1 v2195), ∀ (k0_h1 : k0_cond1 arg0 v1 = 1#1), ∀ a, (k0_off146 v2195) a + S8x128.size a ≤ S7688x256.size a := fun arg0 v1 v2195 k0_hw73 k0_h1 => k0_hw73.2.2 k0_h1

def k0_mult74 (v2225 : BitVec 32) : BitVec 32 :=
  let c1_i32_531 : BitVec 32 := 1#32
  let v2245 : BitVec 32 := Scalar.shrsi v2225 c1_i32_531
  v2245

def k0_off147 (v2225 : BitVec 32) : Fin 2 → Nat :=
  let c1_i32_531 : BitVec 32 := 1#32
  let v2245 : BitVec 32 := Scalar.shrsi v2225 c1_i32_531
  let v2246 : BitVec 32 := v2245
  let v2247 : Index := Scalar.indexCast v2246
  let c0_532 : Index := 0#32
  ![v2247.toNat, 0]
def k0_off148 (v2225 : BitVec 32) : Fin 2 → Nat :=
  let c1_i32_531 : BitVec 32 := 1#32
  let v2245 : BitVec 32 := Scalar.shrsi v2225 c1_i32_531
  let v2246 : BitVec 32 := v2245
  let v2251 : Index := Scalar.indexCast v2246
  let c128_533 : Index := 128#32
  ![v2251.toNat, 128]

def k0_chk74 (arg0 : BitVec 32) (v1 : BitVec 32) (v2225 : BitVec 32) : Prop :=
  (∀ (k0_h1 : k0_cond1 arg0 v1 = 1#1), 8 ∣ (k0_mult74 v2225).toNat) ∧
  (∀ (k0_h1 : k0_cond1 arg0 v1 = 1#1), ∀ a, (k0_off147 v2225) a + S8x128.size a ≤ S7688x256.size a) ∧
  (∀ (k0_h1 : k0_cond1 arg0 v1 = 1#1), ∀ a, (k0_off148 v2225) a + S8x128.size a ≤ S7688x256.size a)
theorem k0_mult74_dvd : ∀ (arg0 : BitVec 32) (v1 : BitVec 32) (v2225 : BitVec 32) (k0_hw74 : k0_chk74 arg0 v1 v2225), ∀ (k0_h1 : k0_cond1 arg0 v1 = 1#1), 8 ∣ (k0_mult74 v2225).toNat := fun arg0 v1 v2225 k0_hw74 k0_h1 => k0_hw74.1 k0_h1
theorem k0_off147_inb : ∀ (arg0 : BitVec 32) (v1 : BitVec 32) (v2225 : BitVec 32) (k0_hw74 : k0_chk74 arg0 v1 v2225), ∀ (k0_h1 : k0_cond1 arg0 v1 = 1#1), ∀ a, (k0_off147 v2225) a + S8x128.size a ≤ S7688x256.size a := fun arg0 v1 v2225 k0_hw74 k0_h1 => k0_hw74.2.1 k0_h1
theorem k0_off148_inb : ∀ (arg0 : BitVec 32) (v1 : BitVec 32) (v2225 : BitVec 32) (k0_hw74 : k0_chk74 arg0 v1 v2225), ∀ (k0_h1 : k0_cond1 arg0 v1 = 1#1), ∀ a, (k0_off148 v2225) a + S8x128.size a ≤ S7688x256.size a := fun arg0 v1 v2225 k0_hw74 k0_h1 => k0_hw74.2.2 k0_h1

def k0_mult75 (v2255 : BitVec 32) : BitVec 32 :=
  let c1_i32_538 : BitVec 32 := 1#32
  let v2275 : BitVec 32 := Scalar.shrsi v2255 c1_i32_538
  v2275

def k0_off149 (v2255 : BitVec 32) : Fin 2 → Nat :=
  let c1_i32_538 : BitVec 32 := 1#32
  let v2275 : BitVec 32 := Scalar.shrsi v2255 c1_i32_538
  let v2276 : BitVec 32 := v2275
  let v2277 : Index := Scalar.indexCast v2276
  let c0_539 : Index := 0#32
  ![v2277.toNat, 0]
def k0_off150 (v2255 : BitVec 32) : Fin 2 → Nat :=
  let c1_i32_538 : BitVec 32 := 1#32
  let v2275 : BitVec 32 := Scalar.shrsi v2255 c1_i32_538
  let v2276 : BitVec 32 := v2275
  let v2281 : Index := Scalar.indexCast v2276
  let c128_540 : Index := 128#32
  ![v2281.toNat, 128]

def k0_chk75 (arg0 : BitVec 32) (v1 : BitVec 32) (v2255 : BitVec 32) : Prop :=
  (∀ (k0_h1 : k0_cond1 arg0 v1 = 1#1), 8 ∣ (k0_mult75 v2255).toNat) ∧
  (∀ (k0_h1 : k0_cond1 arg0 v1 = 1#1), ∀ a, (k0_off149 v2255) a + S8x128.size a ≤ S7688x256.size a) ∧
  (∀ (k0_h1 : k0_cond1 arg0 v1 = 1#1), ∀ a, (k0_off150 v2255) a + S8x128.size a ≤ S7688x256.size a)
theorem k0_mult75_dvd : ∀ (arg0 : BitVec 32) (v1 : BitVec 32) (v2255 : BitVec 32) (k0_hw75 : k0_chk75 arg0 v1 v2255), ∀ (k0_h1 : k0_cond1 arg0 v1 = 1#1), 8 ∣ (k0_mult75 v2255).toNat := fun arg0 v1 v2255 k0_hw75 k0_h1 => k0_hw75.1 k0_h1
theorem k0_off149_inb : ∀ (arg0 : BitVec 32) (v1 : BitVec 32) (v2255 : BitVec 32) (k0_hw75 : k0_chk75 arg0 v1 v2255), ∀ (k0_h1 : k0_cond1 arg0 v1 = 1#1), ∀ a, (k0_off149 v2255) a + S8x128.size a ≤ S7688x256.size a := fun arg0 v1 v2255 k0_hw75 k0_h1 => k0_hw75.2.1 k0_h1
theorem k0_off150_inb : ∀ (arg0 : BitVec 32) (v1 : BitVec 32) (v2255 : BitVec 32) (k0_hw75 : k0_chk75 arg0 v1 v2255), ∀ (k0_h1 : k0_cond1 arg0 v1 = 1#1), ∀ a, (k0_off150 v2255) a + S8x128.size a ≤ S7688x256.size a := fun arg0 v1 v2255 k0_hw75 k0_h1 => k0_hw75.2.2 k0_h1

def k0_mult76 (v2285 : BitVec 32) : BitVec 32 :=
  let c1_i32_545 : BitVec 32 := 1#32
  let v2305 : BitVec 32 := Scalar.shrsi v2285 c1_i32_545
  v2305

def k0_off151 (v2285 : BitVec 32) : Fin 2 → Nat :=
  let c1_i32_545 : BitVec 32 := 1#32
  let v2305 : BitVec 32 := Scalar.shrsi v2285 c1_i32_545
  let v2306 : BitVec 32 := v2305
  let v2307 : Index := Scalar.indexCast v2306
  let c0_546 : Index := 0#32
  ![v2307.toNat, 0]
def k0_off152 (v2285 : BitVec 32) : Fin 2 → Nat :=
  let c1_i32_545 : BitVec 32 := 1#32
  let v2305 : BitVec 32 := Scalar.shrsi v2285 c1_i32_545
  let v2306 : BitVec 32 := v2305
  let v2311 : Index := Scalar.indexCast v2306
  let c128_547 : Index := 128#32
  ![v2311.toNat, 128]

def k0_chk76 (arg0 : BitVec 32) (v1 : BitVec 32) (v2285 : BitVec 32) : Prop :=
  (∀ (k0_h1 : k0_cond1 arg0 v1 = 1#1), 8 ∣ (k0_mult76 v2285).toNat) ∧
  (∀ (k0_h1 : k0_cond1 arg0 v1 = 1#1), ∀ a, (k0_off151 v2285) a + S8x128.size a ≤ S7688x256.size a) ∧
  (∀ (k0_h1 : k0_cond1 arg0 v1 = 1#1), ∀ a, (k0_off152 v2285) a + S8x128.size a ≤ S7688x256.size a)
theorem k0_mult76_dvd : ∀ (arg0 : BitVec 32) (v1 : BitVec 32) (v2285 : BitVec 32) (k0_hw76 : k0_chk76 arg0 v1 v2285), ∀ (k0_h1 : k0_cond1 arg0 v1 = 1#1), 8 ∣ (k0_mult76 v2285).toNat := fun arg0 v1 v2285 k0_hw76 k0_h1 => k0_hw76.1 k0_h1
theorem k0_off151_inb : ∀ (arg0 : BitVec 32) (v1 : BitVec 32) (v2285 : BitVec 32) (k0_hw76 : k0_chk76 arg0 v1 v2285), ∀ (k0_h1 : k0_cond1 arg0 v1 = 1#1), ∀ a, (k0_off151 v2285) a + S8x128.size a ≤ S7688x256.size a := fun arg0 v1 v2285 k0_hw76 k0_h1 => k0_hw76.2.1 k0_h1
theorem k0_off152_inb : ∀ (arg0 : BitVec 32) (v1 : BitVec 32) (v2285 : BitVec 32) (k0_hw76 : k0_chk76 arg0 v1 v2285), ∀ (k0_h1 : k0_cond1 arg0 v1 = 1#1), ∀ a, (k0_off152 v2285) a + S8x128.size a ≤ S7688x256.size a := fun arg0 v1 v2285 k0_hw76 k0_h1 => k0_hw76.2.2 k0_h1

def k0_mult77 (v2315 : BitVec 32) : BitVec 32 :=
  let c1_i32_552 : BitVec 32 := 1#32
  let v2335 : BitVec 32 := Scalar.shrsi v2315 c1_i32_552
  v2335

def k0_off153 (v2315 : BitVec 32) : Fin 2 → Nat :=
  let c1_i32_552 : BitVec 32 := 1#32
  let v2335 : BitVec 32 := Scalar.shrsi v2315 c1_i32_552
  let v2336 : BitVec 32 := v2335
  let v2337 : Index := Scalar.indexCast v2336
  let c0_553 : Index := 0#32
  ![v2337.toNat, 0]
def k0_off154 (v2315 : BitVec 32) : Fin 2 → Nat :=
  let c1_i32_552 : BitVec 32 := 1#32
  let v2335 : BitVec 32 := Scalar.shrsi v2315 c1_i32_552
  let v2336 : BitVec 32 := v2335
  let v2341 : Index := Scalar.indexCast v2336
  let c128_554 : Index := 128#32
  ![v2341.toNat, 128]

def k0_chk77 (arg0 : BitVec 32) (v1 : BitVec 32) (v2315 : BitVec 32) : Prop :=
  (∀ (k0_h1 : k0_cond1 arg0 v1 = 1#1), 8 ∣ (k0_mult77 v2315).toNat) ∧
  (∀ (k0_h1 : k0_cond1 arg0 v1 = 1#1), ∀ a, (k0_off153 v2315) a + S8x128.size a ≤ S7688x256.size a) ∧
  (∀ (k0_h1 : k0_cond1 arg0 v1 = 1#1), ∀ a, (k0_off154 v2315) a + S8x128.size a ≤ S7688x256.size a)
theorem k0_mult77_dvd : ∀ (arg0 : BitVec 32) (v1 : BitVec 32) (v2315 : BitVec 32) (k0_hw77 : k0_chk77 arg0 v1 v2315), ∀ (k0_h1 : k0_cond1 arg0 v1 = 1#1), 8 ∣ (k0_mult77 v2315).toNat := fun arg0 v1 v2315 k0_hw77 k0_h1 => k0_hw77.1 k0_h1
theorem k0_off153_inb : ∀ (arg0 : BitVec 32) (v1 : BitVec 32) (v2315 : BitVec 32) (k0_hw77 : k0_chk77 arg0 v1 v2315), ∀ (k0_h1 : k0_cond1 arg0 v1 = 1#1), ∀ a, (k0_off153 v2315) a + S8x128.size a ≤ S7688x256.size a := fun arg0 v1 v2315 k0_hw77 k0_h1 => k0_hw77.2.1 k0_h1
theorem k0_off154_inb : ∀ (arg0 : BitVec 32) (v1 : BitVec 32) (v2315 : BitVec 32) (k0_hw77 : k0_chk77 arg0 v1 v2315), ∀ (k0_h1 : k0_cond1 arg0 v1 = 1#1), ∀ a, (k0_off154 v2315) a + S8x128.size a ≤ S7688x256.size a := fun arg0 v1 v2315 k0_hw77 k0_h1 => k0_hw77.2.2 k0_h1

def k0_mult78 (v2345 : BitVec 32) : BitVec 32 :=
  let c1_i32_559 : BitVec 32 := 1#32
  let v2365 : BitVec 32 := Scalar.shrsi v2345 c1_i32_559
  v2365

def k0_off155 (v2345 : BitVec 32) : Fin 2 → Nat :=
  let c1_i32_559 : BitVec 32 := 1#32
  let v2365 : BitVec 32 := Scalar.shrsi v2345 c1_i32_559
  let v2366 : BitVec 32 := v2365
  let v2367 : Index := Scalar.indexCast v2366
  let c0_560 : Index := 0#32
  ![v2367.toNat, 0]
def k0_off156 (v2345 : BitVec 32) : Fin 2 → Nat :=
  let c1_i32_559 : BitVec 32 := 1#32
  let v2365 : BitVec 32 := Scalar.shrsi v2345 c1_i32_559
  let v2366 : BitVec 32 := v2365
  let v2371 : Index := Scalar.indexCast v2366
  let c128_561 : Index := 128#32
  ![v2371.toNat, 128]

def k0_chk78 (arg0 : BitVec 32) (v1 : BitVec 32) (v2345 : BitVec 32) : Prop :=
  (∀ (k0_h1 : k0_cond1 arg0 v1 = 1#1), 8 ∣ (k0_mult78 v2345).toNat) ∧
  (∀ (k0_h1 : k0_cond1 arg0 v1 = 1#1), ∀ a, (k0_off155 v2345) a + S8x128.size a ≤ S7688x256.size a) ∧
  (∀ (k0_h1 : k0_cond1 arg0 v1 = 1#1), ∀ a, (k0_off156 v2345) a + S8x128.size a ≤ S7688x256.size a)
theorem k0_mult78_dvd : ∀ (arg0 : BitVec 32) (v1 : BitVec 32) (v2345 : BitVec 32) (k0_hw78 : k0_chk78 arg0 v1 v2345), ∀ (k0_h1 : k0_cond1 arg0 v1 = 1#1), 8 ∣ (k0_mult78 v2345).toNat := fun arg0 v1 v2345 k0_hw78 k0_h1 => k0_hw78.1 k0_h1
theorem k0_off155_inb : ∀ (arg0 : BitVec 32) (v1 : BitVec 32) (v2345 : BitVec 32) (k0_hw78 : k0_chk78 arg0 v1 v2345), ∀ (k0_h1 : k0_cond1 arg0 v1 = 1#1), ∀ a, (k0_off155 v2345) a + S8x128.size a ≤ S7688x256.size a := fun arg0 v1 v2345 k0_hw78 k0_h1 => k0_hw78.2.1 k0_h1
theorem k0_off156_inb : ∀ (arg0 : BitVec 32) (v1 : BitVec 32) (v2345 : BitVec 32) (k0_hw78 : k0_chk78 arg0 v1 v2345), ∀ (k0_h1 : k0_cond1 arg0 v1 = 1#1), ∀ a, (k0_off156 v2345) a + S8x128.size a ≤ S7688x256.size a := fun arg0 v1 v2345 k0_hw78 k0_h1 => k0_hw78.2.2 k0_h1

def k0_mult79 (v2375 : BitVec 32) : BitVec 32 :=
  let c1_i32_566 : BitVec 32 := 1#32
  let v2395 : BitVec 32 := Scalar.shrsi v2375 c1_i32_566
  v2395

def k0_off157 (v2375 : BitVec 32) : Fin 2 → Nat :=
  let c1_i32_566 : BitVec 32 := 1#32
  let v2395 : BitVec 32 := Scalar.shrsi v2375 c1_i32_566
  let v2396 : BitVec 32 := v2395
  let v2397 : Index := Scalar.indexCast v2396
  let c0_567 : Index := 0#32
  ![v2397.toNat, 0]
def k0_off158 (v2375 : BitVec 32) : Fin 2 → Nat :=
  let c1_i32_566 : BitVec 32 := 1#32
  let v2395 : BitVec 32 := Scalar.shrsi v2375 c1_i32_566
  let v2396 : BitVec 32 := v2395
  let v2401 : Index := Scalar.indexCast v2396
  let c128_568 : Index := 128#32
  ![v2401.toNat, 128]

def k0_chk79 (arg0 : BitVec 32) (v1 : BitVec 32) (v2375 : BitVec 32) : Prop :=
  (∀ (k0_h1 : k0_cond1 arg0 v1 = 1#1), 8 ∣ (k0_mult79 v2375).toNat) ∧
  (∀ (k0_h1 : k0_cond1 arg0 v1 = 1#1), ∀ a, (k0_off157 v2375) a + S8x128.size a ≤ S7688x256.size a) ∧
  (∀ (k0_h1 : k0_cond1 arg0 v1 = 1#1), ∀ a, (k0_off158 v2375) a + S8x128.size a ≤ S7688x256.size a)
theorem k0_mult79_dvd : ∀ (arg0 : BitVec 32) (v1 : BitVec 32) (v2375 : BitVec 32) (k0_hw79 : k0_chk79 arg0 v1 v2375), ∀ (k0_h1 : k0_cond1 arg0 v1 = 1#1), 8 ∣ (k0_mult79 v2375).toNat := fun arg0 v1 v2375 k0_hw79 k0_h1 => k0_hw79.1 k0_h1
theorem k0_off157_inb : ∀ (arg0 : BitVec 32) (v1 : BitVec 32) (v2375 : BitVec 32) (k0_hw79 : k0_chk79 arg0 v1 v2375), ∀ (k0_h1 : k0_cond1 arg0 v1 = 1#1), ∀ a, (k0_off157 v2375) a + S8x128.size a ≤ S7688x256.size a := fun arg0 v1 v2375 k0_hw79 k0_h1 => k0_hw79.2.1 k0_h1
theorem k0_off158_inb : ∀ (arg0 : BitVec 32) (v1 : BitVec 32) (v2375 : BitVec 32) (k0_hw79 : k0_chk79 arg0 v1 v2375), ∀ (k0_h1 : k0_cond1 arg0 v1 = 1#1), ∀ a, (k0_off158 v2375) a + S8x128.size a ≤ S7688x256.size a := fun arg0 v1 v2375 k0_hw79 k0_h1 => k0_hw79.2.2 k0_h1

def k0_mult80 (v2405 : BitVec 32) : BitVec 32 :=
  let c1_i32_573 : BitVec 32 := 1#32
  let v2425 : BitVec 32 := Scalar.shrsi v2405 c1_i32_573
  v2425

def k0_off159 (v2405 : BitVec 32) : Fin 2 → Nat :=
  let c1_i32_573 : BitVec 32 := 1#32
  let v2425 : BitVec 32 := Scalar.shrsi v2405 c1_i32_573
  let v2426 : BitVec 32 := v2425
  let v2427 : Index := Scalar.indexCast v2426
  let c0_574 : Index := 0#32
  ![v2427.toNat, 0]
def k0_off160 (v2405 : BitVec 32) : Fin 2 → Nat :=
  let c1_i32_573 : BitVec 32 := 1#32
  let v2425 : BitVec 32 := Scalar.shrsi v2405 c1_i32_573
  let v2426 : BitVec 32 := v2425
  let v2431 : Index := Scalar.indexCast v2426
  let c128_575 : Index := 128#32
  ![v2431.toNat, 128]

def k0_chk80 (arg0 : BitVec 32) (v1 : BitVec 32) (v2405 : BitVec 32) : Prop :=
  (∀ (k0_h1 : k0_cond1 arg0 v1 = 1#1), 8 ∣ (k0_mult80 v2405).toNat) ∧
  (∀ (k0_h1 : k0_cond1 arg0 v1 = 1#1), ∀ a, (k0_off159 v2405) a + S8x128.size a ≤ S7688x256.size a) ∧
  (∀ (k0_h1 : k0_cond1 arg0 v1 = 1#1), ∀ a, (k0_off160 v2405) a + S8x128.size a ≤ S7688x256.size a)
theorem k0_mult80_dvd : ∀ (arg0 : BitVec 32) (v1 : BitVec 32) (v2405 : BitVec 32) (k0_hw80 : k0_chk80 arg0 v1 v2405), ∀ (k0_h1 : k0_cond1 arg0 v1 = 1#1), 8 ∣ (k0_mult80 v2405).toNat := fun arg0 v1 v2405 k0_hw80 k0_h1 => k0_hw80.1 k0_h1
theorem k0_off159_inb : ∀ (arg0 : BitVec 32) (v1 : BitVec 32) (v2405 : BitVec 32) (k0_hw80 : k0_chk80 arg0 v1 v2405), ∀ (k0_h1 : k0_cond1 arg0 v1 = 1#1), ∀ a, (k0_off159 v2405) a + S8x128.size a ≤ S7688x256.size a := fun arg0 v1 v2405 k0_hw80 k0_h1 => k0_hw80.2.1 k0_h1
theorem k0_off160_inb : ∀ (arg0 : BitVec 32) (v1 : BitVec 32) (v2405 : BitVec 32) (k0_hw80 : k0_chk80 arg0 v1 v2405), ∀ (k0_h1 : k0_cond1 arg0 v1 = 1#1), ∀ a, (k0_off160 v2405) a + S8x128.size a ≤ S7688x256.size a := fun arg0 v1 v2405 k0_hw80 k0_h1 => k0_hw80.2.2 k0_h1

def k0_mult81 (v2435 : BitVec 32) : BitVec 32 :=
  let c1_i32_580 : BitVec 32 := 1#32
  let v2455 : BitVec 32 := Scalar.shrsi v2435 c1_i32_580
  v2455

def k0_off161 (v2435 : BitVec 32) : Fin 2 → Nat :=
  let c1_i32_580 : BitVec 32 := 1#32
  let v2455 : BitVec 32 := Scalar.shrsi v2435 c1_i32_580
  let v2456 : BitVec 32 := v2455
  let v2457 : Index := Scalar.indexCast v2456
  let c0_581 : Index := 0#32
  ![v2457.toNat, 0]
def k0_off162 (v2435 : BitVec 32) : Fin 2 → Nat :=
  let c1_i32_580 : BitVec 32 := 1#32
  let v2455 : BitVec 32 := Scalar.shrsi v2435 c1_i32_580
  let v2456 : BitVec 32 := v2455
  let v2461 : Index := Scalar.indexCast v2456
  let c128_582 : Index := 128#32
  ![v2461.toNat, 128]

def k0_chk81 (arg0 : BitVec 32) (v1 : BitVec 32) (v2435 : BitVec 32) : Prop :=
  (∀ (k0_h1 : k0_cond1 arg0 v1 = 1#1), 8 ∣ (k0_mult81 v2435).toNat) ∧
  (∀ (k0_h1 : k0_cond1 arg0 v1 = 1#1), ∀ a, (k0_off161 v2435) a + S8x128.size a ≤ S7688x256.size a) ∧
  (∀ (k0_h1 : k0_cond1 arg0 v1 = 1#1), ∀ a, (k0_off162 v2435) a + S8x128.size a ≤ S7688x256.size a)
theorem k0_mult81_dvd : ∀ (arg0 : BitVec 32) (v1 : BitVec 32) (v2435 : BitVec 32) (k0_hw81 : k0_chk81 arg0 v1 v2435), ∀ (k0_h1 : k0_cond1 arg0 v1 = 1#1), 8 ∣ (k0_mult81 v2435).toNat := fun arg0 v1 v2435 k0_hw81 k0_h1 => k0_hw81.1 k0_h1
theorem k0_off161_inb : ∀ (arg0 : BitVec 32) (v1 : BitVec 32) (v2435 : BitVec 32) (k0_hw81 : k0_chk81 arg0 v1 v2435), ∀ (k0_h1 : k0_cond1 arg0 v1 = 1#1), ∀ a, (k0_off161 v2435) a + S8x128.size a ≤ S7688x256.size a := fun arg0 v1 v2435 k0_hw81 k0_h1 => k0_hw81.2.1 k0_h1
theorem k0_off162_inb : ∀ (arg0 : BitVec 32) (v1 : BitVec 32) (v2435 : BitVec 32) (k0_hw81 : k0_chk81 arg0 v1 v2435), ∀ (k0_h1 : k0_cond1 arg0 v1 = 1#1), ∀ a, (k0_off162 v2435) a + S8x128.size a ≤ S7688x256.size a := fun arg0 v1 v2435 k0_hw81 k0_h1 => k0_hw81.2.2 k0_h1

def k0_mult82 (v2465 : BitVec 32) : BitVec 32 :=
  let c1_i32_587 : BitVec 32 := 1#32
  let v2485 : BitVec 32 := Scalar.shrsi v2465 c1_i32_587
  v2485

def k0_off163 (v2465 : BitVec 32) : Fin 2 → Nat :=
  let c1_i32_587 : BitVec 32 := 1#32
  let v2485 : BitVec 32 := Scalar.shrsi v2465 c1_i32_587
  let v2486 : BitVec 32 := v2485
  let v2487 : Index := Scalar.indexCast v2486
  let c0_588 : Index := 0#32
  ![v2487.toNat, 0]
def k0_off164 (v2465 : BitVec 32) : Fin 2 → Nat :=
  let c1_i32_587 : BitVec 32 := 1#32
  let v2485 : BitVec 32 := Scalar.shrsi v2465 c1_i32_587
  let v2486 : BitVec 32 := v2485
  let v2491 : Index := Scalar.indexCast v2486
  let c128_589 : Index := 128#32
  ![v2491.toNat, 128]

def k0_chk82 (arg0 : BitVec 32) (v1 : BitVec 32) (v2465 : BitVec 32) : Prop :=
  (∀ (k0_h1 : k0_cond1 arg0 v1 = 1#1), 8 ∣ (k0_mult82 v2465).toNat) ∧
  (∀ (k0_h1 : k0_cond1 arg0 v1 = 1#1), ∀ a, (k0_off163 v2465) a + S8x128.size a ≤ S7688x256.size a) ∧
  (∀ (k0_h1 : k0_cond1 arg0 v1 = 1#1), ∀ a, (k0_off164 v2465) a + S8x128.size a ≤ S7688x256.size a)
theorem k0_mult82_dvd : ∀ (arg0 : BitVec 32) (v1 : BitVec 32) (v2465 : BitVec 32) (k0_hw82 : k0_chk82 arg0 v1 v2465), ∀ (k0_h1 : k0_cond1 arg0 v1 = 1#1), 8 ∣ (k0_mult82 v2465).toNat := fun arg0 v1 v2465 k0_hw82 k0_h1 => k0_hw82.1 k0_h1
theorem k0_off163_inb : ∀ (arg0 : BitVec 32) (v1 : BitVec 32) (v2465 : BitVec 32) (k0_hw82 : k0_chk82 arg0 v1 v2465), ∀ (k0_h1 : k0_cond1 arg0 v1 = 1#1), ∀ a, (k0_off163 v2465) a + S8x128.size a ≤ S7688x256.size a := fun arg0 v1 v2465 k0_hw82 k0_h1 => k0_hw82.2.1 k0_h1
theorem k0_off164_inb : ∀ (arg0 : BitVec 32) (v1 : BitVec 32) (v2465 : BitVec 32) (k0_hw82 : k0_chk82 arg0 v1 v2465), ∀ (k0_h1 : k0_cond1 arg0 v1 = 1#1), ∀ a, (k0_off164 v2465) a + S8x128.size a ≤ S7688x256.size a := fun arg0 v1 v2465 k0_hw82 k0_h1 => k0_hw82.2.2 k0_h1

def k0_mult83 (v2495 : BitVec 32) : BitVec 32 :=
  let c1_i32_594 : BitVec 32 := 1#32
  let v2515 : BitVec 32 := Scalar.shrsi v2495 c1_i32_594
  v2515

def k0_off165 (v2495 : BitVec 32) : Fin 2 → Nat :=
  let c1_i32_594 : BitVec 32 := 1#32
  let v2515 : BitVec 32 := Scalar.shrsi v2495 c1_i32_594
  let v2516 : BitVec 32 := v2515
  let v2517 : Index := Scalar.indexCast v2516
  let c0_595 : Index := 0#32
  ![v2517.toNat, 0]
def k0_off166 (v2495 : BitVec 32) : Fin 2 → Nat :=
  let c1_i32_594 : BitVec 32 := 1#32
  let v2515 : BitVec 32 := Scalar.shrsi v2495 c1_i32_594
  let v2516 : BitVec 32 := v2515
  let v2521 : Index := Scalar.indexCast v2516
  let c128_596 : Index := 128#32
  ![v2521.toNat, 128]

def k0_chk83 (arg0 : BitVec 32) (v1 : BitVec 32) (v2495 : BitVec 32) : Prop :=
  (∀ (k0_h1 : k0_cond1 arg0 v1 = 1#1), 8 ∣ (k0_mult83 v2495).toNat) ∧
  (∀ (k0_h1 : k0_cond1 arg0 v1 = 1#1), ∀ a, (k0_off165 v2495) a + S8x128.size a ≤ S7688x256.size a) ∧
  (∀ (k0_h1 : k0_cond1 arg0 v1 = 1#1), ∀ a, (k0_off166 v2495) a + S8x128.size a ≤ S7688x256.size a)
theorem k0_mult83_dvd : ∀ (arg0 : BitVec 32) (v1 : BitVec 32) (v2495 : BitVec 32) (k0_hw83 : k0_chk83 arg0 v1 v2495), ∀ (k0_h1 : k0_cond1 arg0 v1 = 1#1), 8 ∣ (k0_mult83 v2495).toNat := fun arg0 v1 v2495 k0_hw83 k0_h1 => k0_hw83.1 k0_h1
theorem k0_off165_inb : ∀ (arg0 : BitVec 32) (v1 : BitVec 32) (v2495 : BitVec 32) (k0_hw83 : k0_chk83 arg0 v1 v2495), ∀ (k0_h1 : k0_cond1 arg0 v1 = 1#1), ∀ a, (k0_off165 v2495) a + S8x128.size a ≤ S7688x256.size a := fun arg0 v1 v2495 k0_hw83 k0_h1 => k0_hw83.2.1 k0_h1
theorem k0_off166_inb : ∀ (arg0 : BitVec 32) (v1 : BitVec 32) (v2495 : BitVec 32) (k0_hw83 : k0_chk83 arg0 v1 v2495), ∀ (k0_h1 : k0_cond1 arg0 v1 = 1#1), ∀ a, (k0_off166 v2495) a + S8x128.size a ≤ S7688x256.size a := fun arg0 v1 v2495 k0_hw83 k0_h1 => k0_hw83.2.2 k0_h1

def k0_mult84 (v2525 : BitVec 32) : BitVec 32 :=
  let c1_i32_601 : BitVec 32 := 1#32
  let v2545 : BitVec 32 := Scalar.shrsi v2525 c1_i32_601
  v2545

def k0_off167 (v2525 : BitVec 32) : Fin 2 → Nat :=
  let c1_i32_601 : BitVec 32 := 1#32
  let v2545 : BitVec 32 := Scalar.shrsi v2525 c1_i32_601
  let v2546 : BitVec 32 := v2545
  let v2547 : Index := Scalar.indexCast v2546
  let c0_602 : Index := 0#32
  ![v2547.toNat, 0]
def k0_off168 (v2525 : BitVec 32) : Fin 2 → Nat :=
  let c1_i32_601 : BitVec 32 := 1#32
  let v2545 : BitVec 32 := Scalar.shrsi v2525 c1_i32_601
  let v2546 : BitVec 32 := v2545
  let v2551 : Index := Scalar.indexCast v2546
  let c128_603 : Index := 128#32
  ![v2551.toNat, 128]

def k0_chk84 (arg0 : BitVec 32) (v1 : BitVec 32) (v2525 : BitVec 32) : Prop :=
  (∀ (k0_h1 : k0_cond1 arg0 v1 = 1#1), 8 ∣ (k0_mult84 v2525).toNat) ∧
  (∀ (k0_h1 : k0_cond1 arg0 v1 = 1#1), ∀ a, (k0_off167 v2525) a + S8x128.size a ≤ S7688x256.size a) ∧
  (∀ (k0_h1 : k0_cond1 arg0 v1 = 1#1), ∀ a, (k0_off168 v2525) a + S8x128.size a ≤ S7688x256.size a)
theorem k0_mult84_dvd : ∀ (arg0 : BitVec 32) (v1 : BitVec 32) (v2525 : BitVec 32) (k0_hw84 : k0_chk84 arg0 v1 v2525), ∀ (k0_h1 : k0_cond1 arg0 v1 = 1#1), 8 ∣ (k0_mult84 v2525).toNat := fun arg0 v1 v2525 k0_hw84 k0_h1 => k0_hw84.1 k0_h1
theorem k0_off167_inb : ∀ (arg0 : BitVec 32) (v1 : BitVec 32) (v2525 : BitVec 32) (k0_hw84 : k0_chk84 arg0 v1 v2525), ∀ (k0_h1 : k0_cond1 arg0 v1 = 1#1), ∀ a, (k0_off167 v2525) a + S8x128.size a ≤ S7688x256.size a := fun arg0 v1 v2525 k0_hw84 k0_h1 => k0_hw84.2.1 k0_h1
theorem k0_off168_inb : ∀ (arg0 : BitVec 32) (v1 : BitVec 32) (v2525 : BitVec 32) (k0_hw84 : k0_chk84 arg0 v1 v2525), ∀ (k0_h1 : k0_cond1 arg0 v1 = 1#1), ∀ a, (k0_off168 v2525) a + S8x128.size a ≤ S7688x256.size a := fun arg0 v1 v2525 k0_hw84 k0_h1 => k0_hw84.2.2 k0_h1

def k0_mult85 (v2555 : BitVec 32) : BitVec 32 :=
  let c1_i32_608 : BitVec 32 := 1#32
  let v2575 : BitVec 32 := Scalar.shrsi v2555 c1_i32_608
  v2575

def k0_off169 (v2555 : BitVec 32) : Fin 2 → Nat :=
  let c1_i32_608 : BitVec 32 := 1#32
  let v2575 : BitVec 32 := Scalar.shrsi v2555 c1_i32_608
  let v2576 : BitVec 32 := v2575
  let v2577 : Index := Scalar.indexCast v2576
  let c0_609 : Index := 0#32
  ![v2577.toNat, 0]
def k0_off170 (v2555 : BitVec 32) : Fin 2 → Nat :=
  let c1_i32_608 : BitVec 32 := 1#32
  let v2575 : BitVec 32 := Scalar.shrsi v2555 c1_i32_608
  let v2576 : BitVec 32 := v2575
  let v2581 : Index := Scalar.indexCast v2576
  let c128_610 : Index := 128#32
  ![v2581.toNat, 128]

def k0_chk85 (arg0 : BitVec 32) (v1 : BitVec 32) (v2555 : BitVec 32) : Prop :=
  (∀ (k0_h1 : k0_cond1 arg0 v1 = 1#1), 8 ∣ (k0_mult85 v2555).toNat) ∧
  (∀ (k0_h1 : k0_cond1 arg0 v1 = 1#1), ∀ a, (k0_off169 v2555) a + S8x128.size a ≤ S7688x256.size a) ∧
  (∀ (k0_h1 : k0_cond1 arg0 v1 = 1#1), ∀ a, (k0_off170 v2555) a + S8x128.size a ≤ S7688x256.size a)
theorem k0_mult85_dvd : ∀ (arg0 : BitVec 32) (v1 : BitVec 32) (v2555 : BitVec 32) (k0_hw85 : k0_chk85 arg0 v1 v2555), ∀ (k0_h1 : k0_cond1 arg0 v1 = 1#1), 8 ∣ (k0_mult85 v2555).toNat := fun arg0 v1 v2555 k0_hw85 k0_h1 => k0_hw85.1 k0_h1
theorem k0_off169_inb : ∀ (arg0 : BitVec 32) (v1 : BitVec 32) (v2555 : BitVec 32) (k0_hw85 : k0_chk85 arg0 v1 v2555), ∀ (k0_h1 : k0_cond1 arg0 v1 = 1#1), ∀ a, (k0_off169 v2555) a + S8x128.size a ≤ S7688x256.size a := fun arg0 v1 v2555 k0_hw85 k0_h1 => k0_hw85.2.1 k0_h1
theorem k0_off170_inb : ∀ (arg0 : BitVec 32) (v1 : BitVec 32) (v2555 : BitVec 32) (k0_hw85 : k0_chk85 arg0 v1 v2555), ∀ (k0_h1 : k0_cond1 arg0 v1 = 1#1), ∀ a, (k0_off170 v2555) a + S8x128.size a ≤ S7688x256.size a := fun arg0 v1 v2555 k0_hw85 k0_h1 => k0_hw85.2.2 k0_h1

def k0_mult86 (v2585 : BitVec 32) : BitVec 32 :=
  let c1_i32_615 : BitVec 32 := 1#32
  let v2605 : BitVec 32 := Scalar.shrsi v2585 c1_i32_615
  v2605

def k0_off171 (v2585 : BitVec 32) : Fin 2 → Nat :=
  let c1_i32_615 : BitVec 32 := 1#32
  let v2605 : BitVec 32 := Scalar.shrsi v2585 c1_i32_615
  let v2606 : BitVec 32 := v2605
  let v2607 : Index := Scalar.indexCast v2606
  let c0_616 : Index := 0#32
  ![v2607.toNat, 0]
def k0_off172 (v2585 : BitVec 32) : Fin 2 → Nat :=
  let c1_i32_615 : BitVec 32 := 1#32
  let v2605 : BitVec 32 := Scalar.shrsi v2585 c1_i32_615
  let v2606 : BitVec 32 := v2605
  let v2611 : Index := Scalar.indexCast v2606
  let c128_617 : Index := 128#32
  ![v2611.toNat, 128]

def k0_chk86 (arg0 : BitVec 32) (v1 : BitVec 32) (v2585 : BitVec 32) : Prop :=
  (∀ (k0_h1 : k0_cond1 arg0 v1 = 1#1), 8 ∣ (k0_mult86 v2585).toNat) ∧
  (∀ (k0_h1 : k0_cond1 arg0 v1 = 1#1), ∀ a, (k0_off171 v2585) a + S8x128.size a ≤ S7688x256.size a) ∧
  (∀ (k0_h1 : k0_cond1 arg0 v1 = 1#1), ∀ a, (k0_off172 v2585) a + S8x128.size a ≤ S7688x256.size a)
theorem k0_mult86_dvd : ∀ (arg0 : BitVec 32) (v1 : BitVec 32) (v2585 : BitVec 32) (k0_hw86 : k0_chk86 arg0 v1 v2585), ∀ (k0_h1 : k0_cond1 arg0 v1 = 1#1), 8 ∣ (k0_mult86 v2585).toNat := fun arg0 v1 v2585 k0_hw86 k0_h1 => k0_hw86.1 k0_h1
theorem k0_off171_inb : ∀ (arg0 : BitVec 32) (v1 : BitVec 32) (v2585 : BitVec 32) (k0_hw86 : k0_chk86 arg0 v1 v2585), ∀ (k0_h1 : k0_cond1 arg0 v1 = 1#1), ∀ a, (k0_off171 v2585) a + S8x128.size a ≤ S7688x256.size a := fun arg0 v1 v2585 k0_hw86 k0_h1 => k0_hw86.2.1 k0_h1
theorem k0_off172_inb : ∀ (arg0 : BitVec 32) (v1 : BitVec 32) (v2585 : BitVec 32) (k0_hw86 : k0_chk86 arg0 v1 v2585), ∀ (k0_h1 : k0_cond1 arg0 v1 = 1#1), ∀ a, (k0_off172 v2585) a + S8x128.size a ≤ S7688x256.size a := fun arg0 v1 v2585 k0_hw86 k0_h1 => k0_hw86.2.2 k0_h1

def k0_mult87 (v2615 : BitVec 32) : BitVec 32 :=
  let c1_i32_622 : BitVec 32 := 1#32
  let v2635 : BitVec 32 := Scalar.shrsi v2615 c1_i32_622
  v2635

def k0_off173 (v2615 : BitVec 32) : Fin 2 → Nat :=
  let c1_i32_622 : BitVec 32 := 1#32
  let v2635 : BitVec 32 := Scalar.shrsi v2615 c1_i32_622
  let v2636 : BitVec 32 := v2635
  let v2637 : Index := Scalar.indexCast v2636
  let c0_623 : Index := 0#32
  ![v2637.toNat, 0]
def k0_off174 (v2615 : BitVec 32) : Fin 2 → Nat :=
  let c1_i32_622 : BitVec 32 := 1#32
  let v2635 : BitVec 32 := Scalar.shrsi v2615 c1_i32_622
  let v2636 : BitVec 32 := v2635
  let v2641 : Index := Scalar.indexCast v2636
  let c128_624 : Index := 128#32
  ![v2641.toNat, 128]

def k0_chk87 (arg0 : BitVec 32) (v1 : BitVec 32) (v2615 : BitVec 32) : Prop :=
  (∀ (k0_h1 : k0_cond1 arg0 v1 = 1#1), 8 ∣ (k0_mult87 v2615).toNat) ∧
  (∀ (k0_h1 : k0_cond1 arg0 v1 = 1#1), ∀ a, (k0_off173 v2615) a + S8x128.size a ≤ S7688x256.size a) ∧
  (∀ (k0_h1 : k0_cond1 arg0 v1 = 1#1), ∀ a, (k0_off174 v2615) a + S8x128.size a ≤ S7688x256.size a)
theorem k0_mult87_dvd : ∀ (arg0 : BitVec 32) (v1 : BitVec 32) (v2615 : BitVec 32) (k0_hw87 : k0_chk87 arg0 v1 v2615), ∀ (k0_h1 : k0_cond1 arg0 v1 = 1#1), 8 ∣ (k0_mult87 v2615).toNat := fun arg0 v1 v2615 k0_hw87 k0_h1 => k0_hw87.1 k0_h1
theorem k0_off173_inb : ∀ (arg0 : BitVec 32) (v1 : BitVec 32) (v2615 : BitVec 32) (k0_hw87 : k0_chk87 arg0 v1 v2615), ∀ (k0_h1 : k0_cond1 arg0 v1 = 1#1), ∀ a, (k0_off173 v2615) a + S8x128.size a ≤ S7688x256.size a := fun arg0 v1 v2615 k0_hw87 k0_h1 => k0_hw87.2.1 k0_h1
theorem k0_off174_inb : ∀ (arg0 : BitVec 32) (v1 : BitVec 32) (v2615 : BitVec 32) (k0_hw87 : k0_chk87 arg0 v1 v2615), ∀ (k0_h1 : k0_cond1 arg0 v1 = 1#1), ∀ a, (k0_off174 v2615) a + S8x128.size a ≤ S7688x256.size a := fun arg0 v1 v2615 k0_hw87 k0_h1 => k0_hw87.2.2 k0_h1

def k0_mult88 (v2645 : BitVec 32) : BitVec 32 :=
  let c1_i32_629 : BitVec 32 := 1#32
  let v2665 : BitVec 32 := Scalar.shrsi v2645 c1_i32_629
  v2665

def k0_off175 (v2645 : BitVec 32) : Fin 2 → Nat :=
  let c1_i32_629 : BitVec 32 := 1#32
  let v2665 : BitVec 32 := Scalar.shrsi v2645 c1_i32_629
  let v2666 : BitVec 32 := v2665
  let v2667 : Index := Scalar.indexCast v2666
  let c0_630 : Index := 0#32
  ![v2667.toNat, 0]
def k0_off176 (v2645 : BitVec 32) : Fin 2 → Nat :=
  let c1_i32_629 : BitVec 32 := 1#32
  let v2665 : BitVec 32 := Scalar.shrsi v2645 c1_i32_629
  let v2666 : BitVec 32 := v2665
  let v2671 : Index := Scalar.indexCast v2666
  let c128_631 : Index := 128#32
  ![v2671.toNat, 128]

def k0_chk88 (arg0 : BitVec 32) (v1 : BitVec 32) (v2645 : BitVec 32) : Prop :=
  (∀ (k0_h1 : k0_cond1 arg0 v1 = 1#1), 8 ∣ (k0_mult88 v2645).toNat) ∧
  (∀ (k0_h1 : k0_cond1 arg0 v1 = 1#1), ∀ a, (k0_off175 v2645) a + S8x128.size a ≤ S7688x256.size a) ∧
  (∀ (k0_h1 : k0_cond1 arg0 v1 = 1#1), ∀ a, (k0_off176 v2645) a + S8x128.size a ≤ S7688x256.size a)
theorem k0_mult88_dvd : ∀ (arg0 : BitVec 32) (v1 : BitVec 32) (v2645 : BitVec 32) (k0_hw88 : k0_chk88 arg0 v1 v2645), ∀ (k0_h1 : k0_cond1 arg0 v1 = 1#1), 8 ∣ (k0_mult88 v2645).toNat := fun arg0 v1 v2645 k0_hw88 k0_h1 => k0_hw88.1 k0_h1
theorem k0_off175_inb : ∀ (arg0 : BitVec 32) (v1 : BitVec 32) (v2645 : BitVec 32) (k0_hw88 : k0_chk88 arg0 v1 v2645), ∀ (k0_h1 : k0_cond1 arg0 v1 = 1#1), ∀ a, (k0_off175 v2645) a + S8x128.size a ≤ S7688x256.size a := fun arg0 v1 v2645 k0_hw88 k0_h1 => k0_hw88.2.1 k0_h1
theorem k0_off176_inb : ∀ (arg0 : BitVec 32) (v1 : BitVec 32) (v2645 : BitVec 32) (k0_hw88 : k0_chk88 arg0 v1 v2645), ∀ (k0_h1 : k0_cond1 arg0 v1 = 1#1), ∀ a, (k0_off176 v2645) a + S8x128.size a ≤ S7688x256.size a := fun arg0 v1 v2645 k0_hw88 k0_h1 => k0_hw88.2.2 k0_h1

def k0_mult89 (v2675 : BitVec 32) : BitVec 32 :=
  let c1_i32_636 : BitVec 32 := 1#32
  let v2695 : BitVec 32 := Scalar.shrsi v2675 c1_i32_636
  v2695

def k0_off177 (v2675 : BitVec 32) : Fin 2 → Nat :=
  let c1_i32_636 : BitVec 32 := 1#32
  let v2695 : BitVec 32 := Scalar.shrsi v2675 c1_i32_636
  let v2696 : BitVec 32 := v2695
  let v2697 : Index := Scalar.indexCast v2696
  let c0_637 : Index := 0#32
  ![v2697.toNat, 0]
def k0_off178 (v2675 : BitVec 32) : Fin 2 → Nat :=
  let c1_i32_636 : BitVec 32 := 1#32
  let v2695 : BitVec 32 := Scalar.shrsi v2675 c1_i32_636
  let v2696 : BitVec 32 := v2695
  let v2701 : Index := Scalar.indexCast v2696
  let c128_638 : Index := 128#32
  ![v2701.toNat, 128]

def k0_chk89 (arg0 : BitVec 32) (v1 : BitVec 32) (v2675 : BitVec 32) : Prop :=
  (∀ (k0_h1 : k0_cond1 arg0 v1 = 1#1), 8 ∣ (k0_mult89 v2675).toNat) ∧
  (∀ (k0_h1 : k0_cond1 arg0 v1 = 1#1), ∀ a, (k0_off177 v2675) a + S8x128.size a ≤ S7688x256.size a) ∧
  (∀ (k0_h1 : k0_cond1 arg0 v1 = 1#1), ∀ a, (k0_off178 v2675) a + S8x128.size a ≤ S7688x256.size a)
theorem k0_mult89_dvd : ∀ (arg0 : BitVec 32) (v1 : BitVec 32) (v2675 : BitVec 32) (k0_hw89 : k0_chk89 arg0 v1 v2675), ∀ (k0_h1 : k0_cond1 arg0 v1 = 1#1), 8 ∣ (k0_mult89 v2675).toNat := fun arg0 v1 v2675 k0_hw89 k0_h1 => k0_hw89.1 k0_h1
theorem k0_off177_inb : ∀ (arg0 : BitVec 32) (v1 : BitVec 32) (v2675 : BitVec 32) (k0_hw89 : k0_chk89 arg0 v1 v2675), ∀ (k0_h1 : k0_cond1 arg0 v1 = 1#1), ∀ a, (k0_off177 v2675) a + S8x128.size a ≤ S7688x256.size a := fun arg0 v1 v2675 k0_hw89 k0_h1 => k0_hw89.2.1 k0_h1
theorem k0_off178_inb : ∀ (arg0 : BitVec 32) (v1 : BitVec 32) (v2675 : BitVec 32) (k0_hw89 : k0_chk89 arg0 v1 v2675), ∀ (k0_h1 : k0_cond1 arg0 v1 = 1#1), ∀ a, (k0_off178 v2675) a + S8x128.size a ≤ S7688x256.size a := fun arg0 v1 v2675 k0_hw89 k0_h1 => k0_hw89.2.2 k0_h1

def k0_mult90 (v2705 : BitVec 32) : BitVec 32 :=
  let c1_i32_643 : BitVec 32 := 1#32
  let v2725 : BitVec 32 := Scalar.shrsi v2705 c1_i32_643
  v2725

def k0_off179 (v2705 : BitVec 32) : Fin 2 → Nat :=
  let c1_i32_643 : BitVec 32 := 1#32
  let v2725 : BitVec 32 := Scalar.shrsi v2705 c1_i32_643
  let v2726 : BitVec 32 := v2725
  let v2727 : Index := Scalar.indexCast v2726
  let c0_644 : Index := 0#32
  ![v2727.toNat, 0]
def k0_off180 (v2705 : BitVec 32) : Fin 2 → Nat :=
  let c1_i32_643 : BitVec 32 := 1#32
  let v2725 : BitVec 32 := Scalar.shrsi v2705 c1_i32_643
  let v2726 : BitVec 32 := v2725
  let v2731 : Index := Scalar.indexCast v2726
  let c128_645 : Index := 128#32
  ![v2731.toNat, 128]

def k0_chk90 (arg0 : BitVec 32) (v1 : BitVec 32) (v2705 : BitVec 32) : Prop :=
  (∀ (k0_h1 : k0_cond1 arg0 v1 = 1#1), 8 ∣ (k0_mult90 v2705).toNat) ∧
  (∀ (k0_h1 : k0_cond1 arg0 v1 = 1#1), ∀ a, (k0_off179 v2705) a + S8x128.size a ≤ S7688x256.size a) ∧
  (∀ (k0_h1 : k0_cond1 arg0 v1 = 1#1), ∀ a, (k0_off180 v2705) a + S8x128.size a ≤ S7688x256.size a)
theorem k0_mult90_dvd : ∀ (arg0 : BitVec 32) (v1 : BitVec 32) (v2705 : BitVec 32) (k0_hw90 : k0_chk90 arg0 v1 v2705), ∀ (k0_h1 : k0_cond1 arg0 v1 = 1#1), 8 ∣ (k0_mult90 v2705).toNat := fun arg0 v1 v2705 k0_hw90 k0_h1 => k0_hw90.1 k0_h1
theorem k0_off179_inb : ∀ (arg0 : BitVec 32) (v1 : BitVec 32) (v2705 : BitVec 32) (k0_hw90 : k0_chk90 arg0 v1 v2705), ∀ (k0_h1 : k0_cond1 arg0 v1 = 1#1), ∀ a, (k0_off179 v2705) a + S8x128.size a ≤ S7688x256.size a := fun arg0 v1 v2705 k0_hw90 k0_h1 => k0_hw90.2.1 k0_h1
theorem k0_off180_inb : ∀ (arg0 : BitVec 32) (v1 : BitVec 32) (v2705 : BitVec 32) (k0_hw90 : k0_chk90 arg0 v1 v2705), ∀ (k0_h1 : k0_cond1 arg0 v1 = 1#1), ∀ a, (k0_off180 v2705) a + S8x128.size a ≤ S7688x256.size a := fun arg0 v1 v2705 k0_hw90 k0_h1 => k0_hw90.2.2 k0_h1

def k0_mult91 (v2735 : BitVec 32) : BitVec 32 :=
  let c1_i32_650 : BitVec 32 := 1#32
  let v2755 : BitVec 32 := Scalar.shrsi v2735 c1_i32_650
  v2755

def k0_off181 (v2735 : BitVec 32) : Fin 2 → Nat :=
  let c1_i32_650 : BitVec 32 := 1#32
  let v2755 : BitVec 32 := Scalar.shrsi v2735 c1_i32_650
  let v2756 : BitVec 32 := v2755
  let v2757 : Index := Scalar.indexCast v2756
  let c0_651 : Index := 0#32
  ![v2757.toNat, 0]
def k0_off182 (v2735 : BitVec 32) : Fin 2 → Nat :=
  let c1_i32_650 : BitVec 32 := 1#32
  let v2755 : BitVec 32 := Scalar.shrsi v2735 c1_i32_650
  let v2756 : BitVec 32 := v2755
  let v2761 : Index := Scalar.indexCast v2756
  let c128_652 : Index := 128#32
  ![v2761.toNat, 128]

def k0_chk91 (arg0 : BitVec 32) (v1 : BitVec 32) (v2735 : BitVec 32) : Prop :=
  (∀ (k0_h1 : k0_cond1 arg0 v1 = 1#1), 8 ∣ (k0_mult91 v2735).toNat) ∧
  (∀ (k0_h1 : k0_cond1 arg0 v1 = 1#1), ∀ a, (k0_off181 v2735) a + S8x128.size a ≤ S7688x256.size a) ∧
  (∀ (k0_h1 : k0_cond1 arg0 v1 = 1#1), ∀ a, (k0_off182 v2735) a + S8x128.size a ≤ S7688x256.size a)
theorem k0_mult91_dvd : ∀ (arg0 : BitVec 32) (v1 : BitVec 32) (v2735 : BitVec 32) (k0_hw91 : k0_chk91 arg0 v1 v2735), ∀ (k0_h1 : k0_cond1 arg0 v1 = 1#1), 8 ∣ (k0_mult91 v2735).toNat := fun arg0 v1 v2735 k0_hw91 k0_h1 => k0_hw91.1 k0_h1
theorem k0_off181_inb : ∀ (arg0 : BitVec 32) (v1 : BitVec 32) (v2735 : BitVec 32) (k0_hw91 : k0_chk91 arg0 v1 v2735), ∀ (k0_h1 : k0_cond1 arg0 v1 = 1#1), ∀ a, (k0_off181 v2735) a + S8x128.size a ≤ S7688x256.size a := fun arg0 v1 v2735 k0_hw91 k0_h1 => k0_hw91.2.1 k0_h1
theorem k0_off182_inb : ∀ (arg0 : BitVec 32) (v1 : BitVec 32) (v2735 : BitVec 32) (k0_hw91 : k0_chk91 arg0 v1 v2735), ∀ (k0_h1 : k0_cond1 arg0 v1 = 1#1), ∀ a, (k0_off182 v2735) a + S8x128.size a ≤ S7688x256.size a := fun arg0 v1 v2735 k0_hw91 k0_h1 => k0_hw91.2.2 k0_h1

def k0_mult92 (v2765 : BitVec 32) : BitVec 32 :=
  let c1_i32_657 : BitVec 32 := 1#32
  let v2785 : BitVec 32 := Scalar.shrsi v2765 c1_i32_657
  v2785

def k0_off183 (v2765 : BitVec 32) : Fin 2 → Nat :=
  let c1_i32_657 : BitVec 32 := 1#32
  let v2785 : BitVec 32 := Scalar.shrsi v2765 c1_i32_657
  let v2786 : BitVec 32 := v2785
  let v2787 : Index := Scalar.indexCast v2786
  let c0_658 : Index := 0#32
  ![v2787.toNat, 0]
def k0_off184 (v2765 : BitVec 32) : Fin 2 → Nat :=
  let c1_i32_657 : BitVec 32 := 1#32
  let v2785 : BitVec 32 := Scalar.shrsi v2765 c1_i32_657
  let v2786 : BitVec 32 := v2785
  let v2791 : Index := Scalar.indexCast v2786
  let c128_659 : Index := 128#32
  ![v2791.toNat, 128]

def k0_chk92 (arg0 : BitVec 32) (v1 : BitVec 32) (v2765 : BitVec 32) : Prop :=
  (∀ (k0_h1 : k0_cond1 arg0 v1 = 1#1), 8 ∣ (k0_mult92 v2765).toNat) ∧
  (∀ (k0_h1 : k0_cond1 arg0 v1 = 1#1), ∀ a, (k0_off183 v2765) a + S8x128.size a ≤ S7688x256.size a) ∧
  (∀ (k0_h1 : k0_cond1 arg0 v1 = 1#1), ∀ a, (k0_off184 v2765) a + S8x128.size a ≤ S7688x256.size a)
theorem k0_mult92_dvd : ∀ (arg0 : BitVec 32) (v1 : BitVec 32) (v2765 : BitVec 32) (k0_hw92 : k0_chk92 arg0 v1 v2765), ∀ (k0_h1 : k0_cond1 arg0 v1 = 1#1), 8 ∣ (k0_mult92 v2765).toNat := fun arg0 v1 v2765 k0_hw92 k0_h1 => k0_hw92.1 k0_h1
theorem k0_off183_inb : ∀ (arg0 : BitVec 32) (v1 : BitVec 32) (v2765 : BitVec 32) (k0_hw92 : k0_chk92 arg0 v1 v2765), ∀ (k0_h1 : k0_cond1 arg0 v1 = 1#1), ∀ a, (k0_off183 v2765) a + S8x128.size a ≤ S7688x256.size a := fun arg0 v1 v2765 k0_hw92 k0_h1 => k0_hw92.2.1 k0_h1
theorem k0_off184_inb : ∀ (arg0 : BitVec 32) (v1 : BitVec 32) (v2765 : BitVec 32) (k0_hw92 : k0_chk92 arg0 v1 v2765), ∀ (k0_h1 : k0_cond1 arg0 v1 = 1#1), ∀ a, (k0_off184 v2765) a + S8x128.size a ≤ S7688x256.size a := fun arg0 v1 v2765 k0_hw92 k0_h1 => k0_hw92.2.2 k0_h1

def k0_mult93 (v2795 : BitVec 32) : BitVec 32 :=
  let c1_i32_664 : BitVec 32 := 1#32
  let v2815 : BitVec 32 := Scalar.shrsi v2795 c1_i32_664
  v2815

def k0_off185 (v2795 : BitVec 32) : Fin 2 → Nat :=
  let c1_i32_664 : BitVec 32 := 1#32
  let v2815 : BitVec 32 := Scalar.shrsi v2795 c1_i32_664
  let v2816 : BitVec 32 := v2815
  let v2817 : Index := Scalar.indexCast v2816
  let c0_665 : Index := 0#32
  ![v2817.toNat, 0]
def k0_off186 (v2795 : BitVec 32) : Fin 2 → Nat :=
  let c1_i32_664 : BitVec 32 := 1#32
  let v2815 : BitVec 32 := Scalar.shrsi v2795 c1_i32_664
  let v2816 : BitVec 32 := v2815
  let v2821 : Index := Scalar.indexCast v2816
  let c128_666 : Index := 128#32
  ![v2821.toNat, 128]

def k0_chk93 (arg0 : BitVec 32) (v1 : BitVec 32) (v2795 : BitVec 32) : Prop :=
  (∀ (k0_h1 : k0_cond1 arg0 v1 = 1#1), 8 ∣ (k0_mult93 v2795).toNat) ∧
  (∀ (k0_h1 : k0_cond1 arg0 v1 = 1#1), ∀ a, (k0_off185 v2795) a + S8x128.size a ≤ S7688x256.size a) ∧
  (∀ (k0_h1 : k0_cond1 arg0 v1 = 1#1), ∀ a, (k0_off186 v2795) a + S8x128.size a ≤ S7688x256.size a)
theorem k0_mult93_dvd : ∀ (arg0 : BitVec 32) (v1 : BitVec 32) (v2795 : BitVec 32) (k0_hw93 : k0_chk93 arg0 v1 v2795), ∀ (k0_h1 : k0_cond1 arg0 v1 = 1#1), 8 ∣ (k0_mult93 v2795).toNat := fun arg0 v1 v2795 k0_hw93 k0_h1 => k0_hw93.1 k0_h1
theorem k0_off185_inb : ∀ (arg0 : BitVec 32) (v1 : BitVec 32) (v2795 : BitVec 32) (k0_hw93 : k0_chk93 arg0 v1 v2795), ∀ (k0_h1 : k0_cond1 arg0 v1 = 1#1), ∀ a, (k0_off185 v2795) a + S8x128.size a ≤ S7688x256.size a := fun arg0 v1 v2795 k0_hw93 k0_h1 => k0_hw93.2.1 k0_h1
theorem k0_off186_inb : ∀ (arg0 : BitVec 32) (v1 : BitVec 32) (v2795 : BitVec 32) (k0_hw93 : k0_chk93 arg0 v1 v2795), ∀ (k0_h1 : k0_cond1 arg0 v1 = 1#1), ∀ a, (k0_off186 v2795) a + S8x128.size a ≤ S7688x256.size a := fun arg0 v1 v2795 k0_hw93 k0_h1 => k0_hw93.2.2 k0_h1

def k0_mult94 (v2825 : BitVec 32) : BitVec 32 :=
  let c1_i32_671 : BitVec 32 := 1#32
  let v2845 : BitVec 32 := Scalar.shrsi v2825 c1_i32_671
  v2845

def k0_off187 (v2825 : BitVec 32) : Fin 2 → Nat :=
  let c1_i32_671 : BitVec 32 := 1#32
  let v2845 : BitVec 32 := Scalar.shrsi v2825 c1_i32_671
  let v2846 : BitVec 32 := v2845
  let v2847 : Index := Scalar.indexCast v2846
  let c0_672 : Index := 0#32
  ![v2847.toNat, 0]
def k0_off188 (v2825 : BitVec 32) : Fin 2 → Nat :=
  let c1_i32_671 : BitVec 32 := 1#32
  let v2845 : BitVec 32 := Scalar.shrsi v2825 c1_i32_671
  let v2846 : BitVec 32 := v2845
  let v2851 : Index := Scalar.indexCast v2846
  let c128_673 : Index := 128#32
  ![v2851.toNat, 128]

def k0_chk94 (arg0 : BitVec 32) (v1 : BitVec 32) (v2825 : BitVec 32) : Prop :=
  (∀ (k0_h1 : k0_cond1 arg0 v1 = 1#1), 8 ∣ (k0_mult94 v2825).toNat) ∧
  (∀ (k0_h1 : k0_cond1 arg0 v1 = 1#1), ∀ a, (k0_off187 v2825) a + S8x128.size a ≤ S7688x256.size a) ∧
  (∀ (k0_h1 : k0_cond1 arg0 v1 = 1#1), ∀ a, (k0_off188 v2825) a + S8x128.size a ≤ S7688x256.size a)
theorem k0_mult94_dvd : ∀ (arg0 : BitVec 32) (v1 : BitVec 32) (v2825 : BitVec 32) (k0_hw94 : k0_chk94 arg0 v1 v2825), ∀ (k0_h1 : k0_cond1 arg0 v1 = 1#1), 8 ∣ (k0_mult94 v2825).toNat := fun arg0 v1 v2825 k0_hw94 k0_h1 => k0_hw94.1 k0_h1
theorem k0_off187_inb : ∀ (arg0 : BitVec 32) (v1 : BitVec 32) (v2825 : BitVec 32) (k0_hw94 : k0_chk94 arg0 v1 v2825), ∀ (k0_h1 : k0_cond1 arg0 v1 = 1#1), ∀ a, (k0_off187 v2825) a + S8x128.size a ≤ S7688x256.size a := fun arg0 v1 v2825 k0_hw94 k0_h1 => k0_hw94.2.1 k0_h1
theorem k0_off188_inb : ∀ (arg0 : BitVec 32) (v1 : BitVec 32) (v2825 : BitVec 32) (k0_hw94 : k0_chk94 arg0 v1 v2825), ∀ (k0_h1 : k0_cond1 arg0 v1 = 1#1), ∀ a, (k0_off188 v2825) a + S8x128.size a ≤ S7688x256.size a := fun arg0 v1 v2825 k0_hw94 k0_h1 => k0_hw94.2.2 k0_h1

def k0_mult95 (v2855 : BitVec 32) : BitVec 32 :=
  let c1_i32_678 : BitVec 32 := 1#32
  let v2875 : BitVec 32 := Scalar.shrsi v2855 c1_i32_678
  v2875

def k0_off189 (v2855 : BitVec 32) : Fin 2 → Nat :=
  let c1_i32_678 : BitVec 32 := 1#32
  let v2875 : BitVec 32 := Scalar.shrsi v2855 c1_i32_678
  let v2876 : BitVec 32 := v2875
  let v2877 : Index := Scalar.indexCast v2876
  let c0_679 : Index := 0#32
  ![v2877.toNat, 0]
def k0_off190 (v2855 : BitVec 32) : Fin 2 → Nat :=
  let c1_i32_678 : BitVec 32 := 1#32
  let v2875 : BitVec 32 := Scalar.shrsi v2855 c1_i32_678
  let v2876 : BitVec 32 := v2875
  let v2881 : Index := Scalar.indexCast v2876
  let c128_680 : Index := 128#32
  ![v2881.toNat, 128]

def k0_chk95 (arg0 : BitVec 32) (v1 : BitVec 32) (v2855 : BitVec 32) : Prop :=
  (∀ (k0_h1 : k0_cond1 arg0 v1 = 1#1), 8 ∣ (k0_mult95 v2855).toNat) ∧
  (∀ (k0_h1 : k0_cond1 arg0 v1 = 1#1), ∀ a, (k0_off189 v2855) a + S8x128.size a ≤ S7688x256.size a) ∧
  (∀ (k0_h1 : k0_cond1 arg0 v1 = 1#1), ∀ a, (k0_off190 v2855) a + S8x128.size a ≤ S7688x256.size a)
theorem k0_mult95_dvd : ∀ (arg0 : BitVec 32) (v1 : BitVec 32) (v2855 : BitVec 32) (k0_hw95 : k0_chk95 arg0 v1 v2855), ∀ (k0_h1 : k0_cond1 arg0 v1 = 1#1), 8 ∣ (k0_mult95 v2855).toNat := fun arg0 v1 v2855 k0_hw95 k0_h1 => k0_hw95.1 k0_h1
theorem k0_off189_inb : ∀ (arg0 : BitVec 32) (v1 : BitVec 32) (v2855 : BitVec 32) (k0_hw95 : k0_chk95 arg0 v1 v2855), ∀ (k0_h1 : k0_cond1 arg0 v1 = 1#1), ∀ a, (k0_off189 v2855) a + S8x128.size a ≤ S7688x256.size a := fun arg0 v1 v2855 k0_hw95 k0_h1 => k0_hw95.2.1 k0_h1
theorem k0_off190_inb : ∀ (arg0 : BitVec 32) (v1 : BitVec 32) (v2855 : BitVec 32) (k0_hw95 : k0_chk95 arg0 v1 v2855), ∀ (k0_h1 : k0_cond1 arg0 v1 = 1#1), ∀ a, (k0_off190 v2855) a + S8x128.size a ≤ S7688x256.size a := fun arg0 v1 v2855 k0_hw95 k0_h1 => k0_hw95.2.2 k0_h1

def k0_mult96 (v2885 : BitVec 32) : BitVec 32 :=
  let c1_i32_685 : BitVec 32 := 1#32
  let v2905 : BitVec 32 := Scalar.shrsi v2885 c1_i32_685
  v2905

def k0_off191 (v2885 : BitVec 32) : Fin 2 → Nat :=
  let c1_i32_685 : BitVec 32 := 1#32
  let v2905 : BitVec 32 := Scalar.shrsi v2885 c1_i32_685
  let v2906 : BitVec 32 := v2905
  let v2907 : Index := Scalar.indexCast v2906
  let c0_686 : Index := 0#32
  ![v2907.toNat, 0]
def k0_off192 (v2885 : BitVec 32) : Fin 2 → Nat :=
  let c1_i32_685 : BitVec 32 := 1#32
  let v2905 : BitVec 32 := Scalar.shrsi v2885 c1_i32_685
  let v2906 : BitVec 32 := v2905
  let v2911 : Index := Scalar.indexCast v2906
  let c128_687 : Index := 128#32
  ![v2911.toNat, 128]

def k0_chk96 (arg0 : BitVec 32) (v1 : BitVec 32) (v2885 : BitVec 32) : Prop :=
  (∀ (k0_h1 : k0_cond1 arg0 v1 = 1#1), 8 ∣ (k0_mult96 v2885).toNat) ∧
  (∀ (k0_h1 : k0_cond1 arg0 v1 = 1#1), ∀ a, (k0_off191 v2885) a + S8x128.size a ≤ S7688x256.size a) ∧
  (∀ (k0_h1 : k0_cond1 arg0 v1 = 1#1), ∀ a, (k0_off192 v2885) a + S8x128.size a ≤ S7688x256.size a)
theorem k0_mult96_dvd : ∀ (arg0 : BitVec 32) (v1 : BitVec 32) (v2885 : BitVec 32) (k0_hw96 : k0_chk96 arg0 v1 v2885), ∀ (k0_h1 : k0_cond1 arg0 v1 = 1#1), 8 ∣ (k0_mult96 v2885).toNat := fun arg0 v1 v2885 k0_hw96 k0_h1 => k0_hw96.1 k0_h1
theorem k0_off191_inb : ∀ (arg0 : BitVec 32) (v1 : BitVec 32) (v2885 : BitVec 32) (k0_hw96 : k0_chk96 arg0 v1 v2885), ∀ (k0_h1 : k0_cond1 arg0 v1 = 1#1), ∀ a, (k0_off191 v2885) a + S8x128.size a ≤ S7688x256.size a := fun arg0 v1 v2885 k0_hw96 k0_h1 => k0_hw96.2.1 k0_h1
theorem k0_off192_inb : ∀ (arg0 : BitVec 32) (v1 : BitVec 32) (v2885 : BitVec 32) (k0_hw96 : k0_chk96 arg0 v1 v2885), ∀ (k0_h1 : k0_cond1 arg0 v1 = 1#1), ∀ a, (k0_off192 v2885) a + S8x128.size a ≤ S7688x256.size a := fun arg0 v1 v2885 k0_hw96 k0_h1 => k0_hw96.2.2 k0_h1

def k0_mult97 (v2915 : BitVec 32) : BitVec 32 :=
  let c1_i32_692 : BitVec 32 := 1#32
  let v2935 : BitVec 32 := Scalar.shrsi v2915 c1_i32_692
  v2935

def k0_off193 (v2915 : BitVec 32) : Fin 2 → Nat :=
  let c1_i32_692 : BitVec 32 := 1#32
  let v2935 : BitVec 32 := Scalar.shrsi v2915 c1_i32_692
  let v2936 : BitVec 32 := v2935
  let v2937 : Index := Scalar.indexCast v2936
  let c0_693 : Index := 0#32
  ![v2937.toNat, 0]
def k0_off194 (v2915 : BitVec 32) : Fin 2 → Nat :=
  let c1_i32_692 : BitVec 32 := 1#32
  let v2935 : BitVec 32 := Scalar.shrsi v2915 c1_i32_692
  let v2936 : BitVec 32 := v2935
  let v2941 : Index := Scalar.indexCast v2936
  let c128_694 : Index := 128#32
  ![v2941.toNat, 128]

def k0_chk97 (arg0 : BitVec 32) (v1 : BitVec 32) (v2915 : BitVec 32) : Prop :=
  (∀ (k0_h1 : k0_cond1 arg0 v1 = 1#1), 8 ∣ (k0_mult97 v2915).toNat) ∧
  (∀ (k0_h1 : k0_cond1 arg0 v1 = 1#1), ∀ a, (k0_off193 v2915) a + S8x128.size a ≤ S7688x256.size a) ∧
  (∀ (k0_h1 : k0_cond1 arg0 v1 = 1#1), ∀ a, (k0_off194 v2915) a + S8x128.size a ≤ S7688x256.size a)
theorem k0_mult97_dvd : ∀ (arg0 : BitVec 32) (v1 : BitVec 32) (v2915 : BitVec 32) (k0_hw97 : k0_chk97 arg0 v1 v2915), ∀ (k0_h1 : k0_cond1 arg0 v1 = 1#1), 8 ∣ (k0_mult97 v2915).toNat := fun arg0 v1 v2915 k0_hw97 k0_h1 => k0_hw97.1 k0_h1
theorem k0_off193_inb : ∀ (arg0 : BitVec 32) (v1 : BitVec 32) (v2915 : BitVec 32) (k0_hw97 : k0_chk97 arg0 v1 v2915), ∀ (k0_h1 : k0_cond1 arg0 v1 = 1#1), ∀ a, (k0_off193 v2915) a + S8x128.size a ≤ S7688x256.size a := fun arg0 v1 v2915 k0_hw97 k0_h1 => k0_hw97.2.1 k0_h1
theorem k0_off194_inb : ∀ (arg0 : BitVec 32) (v1 : BitVec 32) (v2915 : BitVec 32) (k0_hw97 : k0_chk97 arg0 v1 v2915), ∀ (k0_h1 : k0_cond1 arg0 v1 = 1#1), ∀ a, (k0_off194 v2915) a + S8x128.size a ≤ S7688x256.size a := fun arg0 v1 v2915 k0_hw97 k0_h1 => k0_hw97.2.2 k0_h1

def k0_mult98 (v2945 : BitVec 32) : BitVec 32 :=
  let c1_i32_699 : BitVec 32 := 1#32
  let v2965 : BitVec 32 := Scalar.shrsi v2945 c1_i32_699
  v2965

def k0_off195 (v2945 : BitVec 32) : Fin 2 → Nat :=
  let c1_i32_699 : BitVec 32 := 1#32
  let v2965 : BitVec 32 := Scalar.shrsi v2945 c1_i32_699
  let v2966 : BitVec 32 := v2965
  let v2967 : Index := Scalar.indexCast v2966
  let c0_700 : Index := 0#32
  ![v2967.toNat, 0]
def k0_off196 (v2945 : BitVec 32) : Fin 2 → Nat :=
  let c1_i32_699 : BitVec 32 := 1#32
  let v2965 : BitVec 32 := Scalar.shrsi v2945 c1_i32_699
  let v2966 : BitVec 32 := v2965
  let v2971 : Index := Scalar.indexCast v2966
  let c128_701 : Index := 128#32
  ![v2971.toNat, 128]

def k0_chk98 (arg0 : BitVec 32) (v1 : BitVec 32) (v2945 : BitVec 32) : Prop :=
  (∀ (k0_h1 : k0_cond1 arg0 v1 = 1#1), 8 ∣ (k0_mult98 v2945).toNat) ∧
  (∀ (k0_h1 : k0_cond1 arg0 v1 = 1#1), ∀ a, (k0_off195 v2945) a + S8x128.size a ≤ S7688x256.size a) ∧
  (∀ (k0_h1 : k0_cond1 arg0 v1 = 1#1), ∀ a, (k0_off196 v2945) a + S8x128.size a ≤ S7688x256.size a)
theorem k0_mult98_dvd : ∀ (arg0 : BitVec 32) (v1 : BitVec 32) (v2945 : BitVec 32) (k0_hw98 : k0_chk98 arg0 v1 v2945), ∀ (k0_h1 : k0_cond1 arg0 v1 = 1#1), 8 ∣ (k0_mult98 v2945).toNat := fun arg0 v1 v2945 k0_hw98 k0_h1 => k0_hw98.1 k0_h1
theorem k0_off195_inb : ∀ (arg0 : BitVec 32) (v1 : BitVec 32) (v2945 : BitVec 32) (k0_hw98 : k0_chk98 arg0 v1 v2945), ∀ (k0_h1 : k0_cond1 arg0 v1 = 1#1), ∀ a, (k0_off195 v2945) a + S8x128.size a ≤ S7688x256.size a := fun arg0 v1 v2945 k0_hw98 k0_h1 => k0_hw98.2.1 k0_h1
theorem k0_off196_inb : ∀ (arg0 : BitVec 32) (v1 : BitVec 32) (v2945 : BitVec 32) (k0_hw98 : k0_chk98 arg0 v1 v2945), ∀ (k0_h1 : k0_cond1 arg0 v1 = 1#1), ∀ a, (k0_off196 v2945) a + S8x128.size a ≤ S7688x256.size a := fun arg0 v1 v2945 k0_hw98 k0_h1 => k0_hw98.2.2 k0_h1

def k0_mult99 (v2975 : BitVec 32) : BitVec 32 :=
  let c1_i32_706 : BitVec 32 := 1#32
  let v2995 : BitVec 32 := Scalar.shrsi v2975 c1_i32_706
  v2995

def k0_off197 (v2975 : BitVec 32) : Fin 2 → Nat :=
  let c1_i32_706 : BitVec 32 := 1#32
  let v2995 : BitVec 32 := Scalar.shrsi v2975 c1_i32_706
  let v2996 : BitVec 32 := v2995
  let v2997 : Index := Scalar.indexCast v2996
  let c0_707 : Index := 0#32
  ![v2997.toNat, 0]
def k0_off198 (v2975 : BitVec 32) : Fin 2 → Nat :=
  let c1_i32_706 : BitVec 32 := 1#32
  let v2995 : BitVec 32 := Scalar.shrsi v2975 c1_i32_706
  let v2996 : BitVec 32 := v2995
  let v3001 : Index := Scalar.indexCast v2996
  let c128_708 : Index := 128#32
  ![v3001.toNat, 128]

def k0_chk99 (arg0 : BitVec 32) (v1 : BitVec 32) (v2975 : BitVec 32) : Prop :=
  (∀ (k0_h1 : k0_cond1 arg0 v1 = 1#1), 8 ∣ (k0_mult99 v2975).toNat) ∧
  (∀ (k0_h1 : k0_cond1 arg0 v1 = 1#1), ∀ a, (k0_off197 v2975) a + S8x128.size a ≤ S7688x256.size a) ∧
  (∀ (k0_h1 : k0_cond1 arg0 v1 = 1#1), ∀ a, (k0_off198 v2975) a + S8x128.size a ≤ S7688x256.size a)
theorem k0_mult99_dvd : ∀ (arg0 : BitVec 32) (v1 : BitVec 32) (v2975 : BitVec 32) (k0_hw99 : k0_chk99 arg0 v1 v2975), ∀ (k0_h1 : k0_cond1 arg0 v1 = 1#1), 8 ∣ (k0_mult99 v2975).toNat := fun arg0 v1 v2975 k0_hw99 k0_h1 => k0_hw99.1 k0_h1
theorem k0_off197_inb : ∀ (arg0 : BitVec 32) (v1 : BitVec 32) (v2975 : BitVec 32) (k0_hw99 : k0_chk99 arg0 v1 v2975), ∀ (k0_h1 : k0_cond1 arg0 v1 = 1#1), ∀ a, (k0_off197 v2975) a + S8x128.size a ≤ S7688x256.size a := fun arg0 v1 v2975 k0_hw99 k0_h1 => k0_hw99.2.1 k0_h1
theorem k0_off198_inb : ∀ (arg0 : BitVec 32) (v1 : BitVec 32) (v2975 : BitVec 32) (k0_hw99 : k0_chk99 arg0 v1 v2975), ∀ (k0_h1 : k0_cond1 arg0 v1 = 1#1), ∀ a, (k0_off198 v2975) a + S8x128.size a ≤ S7688x256.size a := fun arg0 v1 v2975 k0_hw99 k0_h1 => k0_hw99.2.2 k0_h1

def k0_mult100 (v3005 : BitVec 32) : BitVec 32 :=
  let c1_i32_713 : BitVec 32 := 1#32
  let v3025 : BitVec 32 := Scalar.shrsi v3005 c1_i32_713
  v3025

def k0_off199 (v3005 : BitVec 32) : Fin 2 → Nat :=
  let c1_i32_713 : BitVec 32 := 1#32
  let v3025 : BitVec 32 := Scalar.shrsi v3005 c1_i32_713
  let v3026 : BitVec 32 := v3025
  let v3027 : Index := Scalar.indexCast v3026
  let c0_714 : Index := 0#32
  ![v3027.toNat, 0]
def k0_off200 (v3005 : BitVec 32) : Fin 2 → Nat :=
  let c1_i32_713 : BitVec 32 := 1#32
  let v3025 : BitVec 32 := Scalar.shrsi v3005 c1_i32_713
  let v3026 : BitVec 32 := v3025
  let v3031 : Index := Scalar.indexCast v3026
  let c128_715 : Index := 128#32
  ![v3031.toNat, 128]

def k0_chk100 (arg0 : BitVec 32) (v1 : BitVec 32) (v3005 : BitVec 32) : Prop :=
  (∀ (k0_h1 : k0_cond1 arg0 v1 = 1#1), 8 ∣ (k0_mult100 v3005).toNat) ∧
  (∀ (k0_h1 : k0_cond1 arg0 v1 = 1#1), ∀ a, (k0_off199 v3005) a + S8x128.size a ≤ S7688x256.size a) ∧
  (∀ (k0_h1 : k0_cond1 arg0 v1 = 1#1), ∀ a, (k0_off200 v3005) a + S8x128.size a ≤ S7688x256.size a)
theorem k0_mult100_dvd : ∀ (arg0 : BitVec 32) (v1 : BitVec 32) (v3005 : BitVec 32) (k0_hw100 : k0_chk100 arg0 v1 v3005), ∀ (k0_h1 : k0_cond1 arg0 v1 = 1#1), 8 ∣ (k0_mult100 v3005).toNat := fun arg0 v1 v3005 k0_hw100 k0_h1 => k0_hw100.1 k0_h1
theorem k0_off199_inb : ∀ (arg0 : BitVec 32) (v1 : BitVec 32) (v3005 : BitVec 32) (k0_hw100 : k0_chk100 arg0 v1 v3005), ∀ (k0_h1 : k0_cond1 arg0 v1 = 1#1), ∀ a, (k0_off199 v3005) a + S8x128.size a ≤ S7688x256.size a := fun arg0 v1 v3005 k0_hw100 k0_h1 => k0_hw100.2.1 k0_h1
theorem k0_off200_inb : ∀ (arg0 : BitVec 32) (v1 : BitVec 32) (v3005 : BitVec 32) (k0_hw100 : k0_chk100 arg0 v1 v3005), ∀ (k0_h1 : k0_cond1 arg0 v1 = 1#1), ∀ a, (k0_off200 v3005) a + S8x128.size a ≤ S7688x256.size a := fun arg0 v1 v3005 k0_hw100 k0_h1 => k0_hw100.2.2 k0_h1

def k0_mult101 (v3035 : BitVec 32) : BitVec 32 :=
  let c1_i32_720 : BitVec 32 := 1#32
  let v3055 : BitVec 32 := Scalar.shrsi v3035 c1_i32_720
  v3055

def k0_off201 (v3035 : BitVec 32) : Fin 2 → Nat :=
  let c1_i32_720 : BitVec 32 := 1#32
  let v3055 : BitVec 32 := Scalar.shrsi v3035 c1_i32_720
  let v3056 : BitVec 32 := v3055
  let v3057 : Index := Scalar.indexCast v3056
  let c0_721 : Index := 0#32
  ![v3057.toNat, 0]
def k0_off202 (v3035 : BitVec 32) : Fin 2 → Nat :=
  let c1_i32_720 : BitVec 32 := 1#32
  let v3055 : BitVec 32 := Scalar.shrsi v3035 c1_i32_720
  let v3056 : BitVec 32 := v3055
  let v3061 : Index := Scalar.indexCast v3056
  let c128_722 : Index := 128#32
  ![v3061.toNat, 128]

def k0_chk101 (arg0 : BitVec 32) (v1 : BitVec 32) (v3035 : BitVec 32) : Prop :=
  (∀ (k0_h1 : k0_cond1 arg0 v1 = 1#1), 8 ∣ (k0_mult101 v3035).toNat) ∧
  (∀ (k0_h1 : k0_cond1 arg0 v1 = 1#1), ∀ a, (k0_off201 v3035) a + S8x128.size a ≤ S7688x256.size a) ∧
  (∀ (k0_h1 : k0_cond1 arg0 v1 = 1#1), ∀ a, (k0_off202 v3035) a + S8x128.size a ≤ S7688x256.size a)
theorem k0_mult101_dvd : ∀ (arg0 : BitVec 32) (v1 : BitVec 32) (v3035 : BitVec 32) (k0_hw101 : k0_chk101 arg0 v1 v3035), ∀ (k0_h1 : k0_cond1 arg0 v1 = 1#1), 8 ∣ (k0_mult101 v3035).toNat := fun arg0 v1 v3035 k0_hw101 k0_h1 => k0_hw101.1 k0_h1
theorem k0_off201_inb : ∀ (arg0 : BitVec 32) (v1 : BitVec 32) (v3035 : BitVec 32) (k0_hw101 : k0_chk101 arg0 v1 v3035), ∀ (k0_h1 : k0_cond1 arg0 v1 = 1#1), ∀ a, (k0_off201 v3035) a + S8x128.size a ≤ S7688x256.size a := fun arg0 v1 v3035 k0_hw101 k0_h1 => k0_hw101.2.1 k0_h1
theorem k0_off202_inb : ∀ (arg0 : BitVec 32) (v1 : BitVec 32) (v3035 : BitVec 32) (k0_hw101 : k0_chk101 arg0 v1 v3035), ∀ (k0_h1 : k0_cond1 arg0 v1 = 1#1), ∀ a, (k0_off202 v3035) a + S8x128.size a ≤ S7688x256.size a := fun arg0 v1 v3035 k0_hw101 k0_h1 => k0_hw101.2.2 k0_h1

def k0_mult102 (v3065 : BitVec 32) : BitVec 32 :=
  let c1_i32_727 : BitVec 32 := 1#32
  let v3085 : BitVec 32 := Scalar.shrsi v3065 c1_i32_727
  v3085

def k0_off203 (v3065 : BitVec 32) : Fin 2 → Nat :=
  let c1_i32_727 : BitVec 32 := 1#32
  let v3085 : BitVec 32 := Scalar.shrsi v3065 c1_i32_727
  let v3086 : BitVec 32 := v3085
  let v3087 : Index := Scalar.indexCast v3086
  let c0_728 : Index := 0#32
  ![v3087.toNat, 0]
def k0_off204 (v3065 : BitVec 32) : Fin 2 → Nat :=
  let c1_i32_727 : BitVec 32 := 1#32
  let v3085 : BitVec 32 := Scalar.shrsi v3065 c1_i32_727
  let v3086 : BitVec 32 := v3085
  let v3091 : Index := Scalar.indexCast v3086
  let c128_729 : Index := 128#32
  ![v3091.toNat, 128]

def k0_chk102 (arg0 : BitVec 32) (v1 : BitVec 32) (v3065 : BitVec 32) : Prop :=
  (∀ (k0_h1 : k0_cond1 arg0 v1 = 1#1), 8 ∣ (k0_mult102 v3065).toNat) ∧
  (∀ (k0_h1 : k0_cond1 arg0 v1 = 1#1), ∀ a, (k0_off203 v3065) a + S8x128.size a ≤ S7688x256.size a) ∧
  (∀ (k0_h1 : k0_cond1 arg0 v1 = 1#1), ∀ a, (k0_off204 v3065) a + S8x128.size a ≤ S7688x256.size a)
theorem k0_mult102_dvd : ∀ (arg0 : BitVec 32) (v1 : BitVec 32) (v3065 : BitVec 32) (k0_hw102 : k0_chk102 arg0 v1 v3065), ∀ (k0_h1 : k0_cond1 arg0 v1 = 1#1), 8 ∣ (k0_mult102 v3065).toNat := fun arg0 v1 v3065 k0_hw102 k0_h1 => k0_hw102.1 k0_h1
theorem k0_off203_inb : ∀ (arg0 : BitVec 32) (v1 : BitVec 32) (v3065 : BitVec 32) (k0_hw102 : k0_chk102 arg0 v1 v3065), ∀ (k0_h1 : k0_cond1 arg0 v1 = 1#1), ∀ a, (k0_off203 v3065) a + S8x128.size a ≤ S7688x256.size a := fun arg0 v1 v3065 k0_hw102 k0_h1 => k0_hw102.2.1 k0_h1
theorem k0_off204_inb : ∀ (arg0 : BitVec 32) (v1 : BitVec 32) (v3065 : BitVec 32) (k0_hw102 : k0_chk102 arg0 v1 v3065), ∀ (k0_h1 : k0_cond1 arg0 v1 = 1#1), ∀ a, (k0_off204 v3065) a + S8x128.size a ≤ S7688x256.size a := fun arg0 v1 v3065 k0_hw102 k0_h1 => k0_hw102.2.2 k0_h1

def k0_mult103 (v3095 : BitVec 32) : BitVec 32 :=
  let c1_i32_734 : BitVec 32 := 1#32
  let v3115 : BitVec 32 := Scalar.shrsi v3095 c1_i32_734
  v3115

def k0_off205 (v3095 : BitVec 32) : Fin 2 → Nat :=
  let c1_i32_734 : BitVec 32 := 1#32
  let v3115 : BitVec 32 := Scalar.shrsi v3095 c1_i32_734
  let v3116 : BitVec 32 := v3115
  let v3117 : Index := Scalar.indexCast v3116
  let c0_735 : Index := 0#32
  ![v3117.toNat, 0]
def k0_off206 (v3095 : BitVec 32) : Fin 2 → Nat :=
  let c1_i32_734 : BitVec 32 := 1#32
  let v3115 : BitVec 32 := Scalar.shrsi v3095 c1_i32_734
  let v3116 : BitVec 32 := v3115
  let v3121 : Index := Scalar.indexCast v3116
  let c128_736 : Index := 128#32
  ![v3121.toNat, 128]

def k0_chk103 (arg0 : BitVec 32) (v1 : BitVec 32) (v3095 : BitVec 32) : Prop :=
  (∀ (k0_h1 : k0_cond1 arg0 v1 = 1#1), 8 ∣ (k0_mult103 v3095).toNat) ∧
  (∀ (k0_h1 : k0_cond1 arg0 v1 = 1#1), ∀ a, (k0_off205 v3095) a + S8x128.size a ≤ S7688x256.size a) ∧
  (∀ (k0_h1 : k0_cond1 arg0 v1 = 1#1), ∀ a, (k0_off206 v3095) a + S8x128.size a ≤ S7688x256.size a)
theorem k0_mult103_dvd : ∀ (arg0 : BitVec 32) (v1 : BitVec 32) (v3095 : BitVec 32) (k0_hw103 : k0_chk103 arg0 v1 v3095), ∀ (k0_h1 : k0_cond1 arg0 v1 = 1#1), 8 ∣ (k0_mult103 v3095).toNat := fun arg0 v1 v3095 k0_hw103 k0_h1 => k0_hw103.1 k0_h1
theorem k0_off205_inb : ∀ (arg0 : BitVec 32) (v1 : BitVec 32) (v3095 : BitVec 32) (k0_hw103 : k0_chk103 arg0 v1 v3095), ∀ (k0_h1 : k0_cond1 arg0 v1 = 1#1), ∀ a, (k0_off205 v3095) a + S8x128.size a ≤ S7688x256.size a := fun arg0 v1 v3095 k0_hw103 k0_h1 => k0_hw103.2.1 k0_h1
theorem k0_off206_inb : ∀ (arg0 : BitVec 32) (v1 : BitVec 32) (v3095 : BitVec 32) (k0_hw103 : k0_chk103 arg0 v1 v3095), ∀ (k0_h1 : k0_cond1 arg0 v1 = 1#1), ∀ a, (k0_off206 v3095) a + S8x128.size a ≤ S7688x256.size a := fun arg0 v1 v3095 k0_hw103 k0_h1 => k0_hw103.2.2 k0_h1

def k0_mult104 (v3125 : BitVec 32) : BitVec 32 :=
  let c1_i32_741 : BitVec 32 := 1#32
  let v3145 : BitVec 32 := Scalar.shrsi v3125 c1_i32_741
  v3145

def k0_off207 (v3125 : BitVec 32) : Fin 2 → Nat :=
  let c1_i32_741 : BitVec 32 := 1#32
  let v3145 : BitVec 32 := Scalar.shrsi v3125 c1_i32_741
  let v3146 : BitVec 32 := v3145
  let v3147 : Index := Scalar.indexCast v3146
  let c0_742 : Index := 0#32
  ![v3147.toNat, 0]
def k0_off208 (v3125 : BitVec 32) : Fin 2 → Nat :=
  let c1_i32_741 : BitVec 32 := 1#32
  let v3145 : BitVec 32 := Scalar.shrsi v3125 c1_i32_741
  let v3146 : BitVec 32 := v3145
  let v3151 : Index := Scalar.indexCast v3146
  let c128_743 : Index := 128#32
  ![v3151.toNat, 128]

def k0_chk104 (arg0 : BitVec 32) (v1 : BitVec 32) (v3125 : BitVec 32) : Prop :=
  (∀ (k0_h1 : k0_cond1 arg0 v1 = 1#1), 8 ∣ (k0_mult104 v3125).toNat) ∧
  (∀ (k0_h1 : k0_cond1 arg0 v1 = 1#1), ∀ a, (k0_off207 v3125) a + S8x128.size a ≤ S7688x256.size a) ∧
  (∀ (k0_h1 : k0_cond1 arg0 v1 = 1#1), ∀ a, (k0_off208 v3125) a + S8x128.size a ≤ S7688x256.size a)
theorem k0_mult104_dvd : ∀ (arg0 : BitVec 32) (v1 : BitVec 32) (v3125 : BitVec 32) (k0_hw104 : k0_chk104 arg0 v1 v3125), ∀ (k0_h1 : k0_cond1 arg0 v1 = 1#1), 8 ∣ (k0_mult104 v3125).toNat := fun arg0 v1 v3125 k0_hw104 k0_h1 => k0_hw104.1 k0_h1
theorem k0_off207_inb : ∀ (arg0 : BitVec 32) (v1 : BitVec 32) (v3125 : BitVec 32) (k0_hw104 : k0_chk104 arg0 v1 v3125), ∀ (k0_h1 : k0_cond1 arg0 v1 = 1#1), ∀ a, (k0_off207 v3125) a + S8x128.size a ≤ S7688x256.size a := fun arg0 v1 v3125 k0_hw104 k0_h1 => k0_hw104.2.1 k0_h1
theorem k0_off208_inb : ∀ (arg0 : BitVec 32) (v1 : BitVec 32) (v3125 : BitVec 32) (k0_hw104 : k0_chk104 arg0 v1 v3125), ∀ (k0_h1 : k0_cond1 arg0 v1 = 1#1), ∀ a, (k0_off208 v3125) a + S8x128.size a ≤ S7688x256.size a := fun arg0 v1 v3125 k0_hw104 k0_h1 => k0_hw104.2.2 k0_h1

def k0_mult105 (v3155 : BitVec 32) : BitVec 32 :=
  let c1_i32_748 : BitVec 32 := 1#32
  let v3175 : BitVec 32 := Scalar.shrsi v3155 c1_i32_748
  v3175

def k0_off209 (v3155 : BitVec 32) : Fin 2 → Nat :=
  let c1_i32_748 : BitVec 32 := 1#32
  let v3175 : BitVec 32 := Scalar.shrsi v3155 c1_i32_748
  let v3176 : BitVec 32 := v3175
  let v3177 : Index := Scalar.indexCast v3176
  let c0_749 : Index := 0#32
  ![v3177.toNat, 0]
def k0_off210 (v3155 : BitVec 32) : Fin 2 → Nat :=
  let c1_i32_748 : BitVec 32 := 1#32
  let v3175 : BitVec 32 := Scalar.shrsi v3155 c1_i32_748
  let v3176 : BitVec 32 := v3175
  let v3181 : Index := Scalar.indexCast v3176
  let c128_750 : Index := 128#32
  ![v3181.toNat, 128]

def k0_chk105 (arg0 : BitVec 32) (v1 : BitVec 32) (v3155 : BitVec 32) : Prop :=
  (∀ (k0_h1 : k0_cond1 arg0 v1 = 1#1), 8 ∣ (k0_mult105 v3155).toNat) ∧
  (∀ (k0_h1 : k0_cond1 arg0 v1 = 1#1), ∀ a, (k0_off209 v3155) a + S8x128.size a ≤ S7688x256.size a) ∧
  (∀ (k0_h1 : k0_cond1 arg0 v1 = 1#1), ∀ a, (k0_off210 v3155) a + S8x128.size a ≤ S7688x256.size a)
theorem k0_mult105_dvd : ∀ (arg0 : BitVec 32) (v1 : BitVec 32) (v3155 : BitVec 32) (k0_hw105 : k0_chk105 arg0 v1 v3155), ∀ (k0_h1 : k0_cond1 arg0 v1 = 1#1), 8 ∣ (k0_mult105 v3155).toNat := fun arg0 v1 v3155 k0_hw105 k0_h1 => k0_hw105.1 k0_h1
theorem k0_off209_inb : ∀ (arg0 : BitVec 32) (v1 : BitVec 32) (v3155 : BitVec 32) (k0_hw105 : k0_chk105 arg0 v1 v3155), ∀ (k0_h1 : k0_cond1 arg0 v1 = 1#1), ∀ a, (k0_off209 v3155) a + S8x128.size a ≤ S7688x256.size a := fun arg0 v1 v3155 k0_hw105 k0_h1 => k0_hw105.2.1 k0_h1
theorem k0_off210_inb : ∀ (arg0 : BitVec 32) (v1 : BitVec 32) (v3155 : BitVec 32) (k0_hw105 : k0_chk105 arg0 v1 v3155), ∀ (k0_h1 : k0_cond1 arg0 v1 = 1#1), ∀ a, (k0_off210 v3155) a + S8x128.size a ≤ S7688x256.size a := fun arg0 v1 v3155 k0_hw105 k0_h1 => k0_hw105.2.2 k0_h1

def k0_mult106 (v3185 : BitVec 32) : BitVec 32 :=
  let c1_i32_755 : BitVec 32 := 1#32
  let v3205 : BitVec 32 := Scalar.shrsi v3185 c1_i32_755
  v3205

def k0_off211 (v3185 : BitVec 32) : Fin 2 → Nat :=
  let c1_i32_755 : BitVec 32 := 1#32
  let v3205 : BitVec 32 := Scalar.shrsi v3185 c1_i32_755
  let v3206 : BitVec 32 := v3205
  let v3207 : Index := Scalar.indexCast v3206
  let c0_756 : Index := 0#32
  ![v3207.toNat, 0]
def k0_off212 (v3185 : BitVec 32) : Fin 2 → Nat :=
  let c1_i32_755 : BitVec 32 := 1#32
  let v3205 : BitVec 32 := Scalar.shrsi v3185 c1_i32_755
  let v3206 : BitVec 32 := v3205
  let v3211 : Index := Scalar.indexCast v3206
  let c128_757 : Index := 128#32
  ![v3211.toNat, 128]

def k0_chk106 (arg0 : BitVec 32) (v1 : BitVec 32) (v3185 : BitVec 32) : Prop :=
  (∀ (k0_h1 : k0_cond1 arg0 v1 = 1#1), 8 ∣ (k0_mult106 v3185).toNat) ∧
  (∀ (k0_h1 : k0_cond1 arg0 v1 = 1#1), ∀ a, (k0_off211 v3185) a + S8x128.size a ≤ S7688x256.size a) ∧
  (∀ (k0_h1 : k0_cond1 arg0 v1 = 1#1), ∀ a, (k0_off212 v3185) a + S8x128.size a ≤ S7688x256.size a)
theorem k0_mult106_dvd : ∀ (arg0 : BitVec 32) (v1 : BitVec 32) (v3185 : BitVec 32) (k0_hw106 : k0_chk106 arg0 v1 v3185), ∀ (k0_h1 : k0_cond1 arg0 v1 = 1#1), 8 ∣ (k0_mult106 v3185).toNat := fun arg0 v1 v3185 k0_hw106 k0_h1 => k0_hw106.1 k0_h1
theorem k0_off211_inb : ∀ (arg0 : BitVec 32) (v1 : BitVec 32) (v3185 : BitVec 32) (k0_hw106 : k0_chk106 arg0 v1 v3185), ∀ (k0_h1 : k0_cond1 arg0 v1 = 1#1), ∀ a, (k0_off211 v3185) a + S8x128.size a ≤ S7688x256.size a := fun arg0 v1 v3185 k0_hw106 k0_h1 => k0_hw106.2.1 k0_h1
theorem k0_off212_inb : ∀ (arg0 : BitVec 32) (v1 : BitVec 32) (v3185 : BitVec 32) (k0_hw106 : k0_chk106 arg0 v1 v3185), ∀ (k0_h1 : k0_cond1 arg0 v1 = 1#1), ∀ a, (k0_off212 v3185) a + S8x128.size a ≤ S7688x256.size a := fun arg0 v1 v3185 k0_hw106 k0_h1 => k0_hw106.2.2 k0_h1

def k0_mult107 (v3215 : BitVec 32) : BitVec 32 :=
  let c1_i32_762 : BitVec 32 := 1#32
  let v3235 : BitVec 32 := Scalar.shrsi v3215 c1_i32_762
  v3235

def k0_off213 (v3215 : BitVec 32) : Fin 2 → Nat :=
  let c1_i32_762 : BitVec 32 := 1#32
  let v3235 : BitVec 32 := Scalar.shrsi v3215 c1_i32_762
  let v3236 : BitVec 32 := v3235
  let v3237 : Index := Scalar.indexCast v3236
  let c0_763 : Index := 0#32
  ![v3237.toNat, 0]
def k0_off214 (v3215 : BitVec 32) : Fin 2 → Nat :=
  let c1_i32_762 : BitVec 32 := 1#32
  let v3235 : BitVec 32 := Scalar.shrsi v3215 c1_i32_762
  let v3236 : BitVec 32 := v3235
  let v3241 : Index := Scalar.indexCast v3236
  let c128_764 : Index := 128#32
  ![v3241.toNat, 128]

def k0_chk107 (arg0 : BitVec 32) (v1 : BitVec 32) (v3215 : BitVec 32) : Prop :=
  (∀ (k0_h1 : k0_cond1 arg0 v1 = 1#1), 8 ∣ (k0_mult107 v3215).toNat) ∧
  (∀ (k0_h1 : k0_cond1 arg0 v1 = 1#1), ∀ a, (k0_off213 v3215) a + S8x128.size a ≤ S7688x256.size a) ∧
  (∀ (k0_h1 : k0_cond1 arg0 v1 = 1#1), ∀ a, (k0_off214 v3215) a + S8x128.size a ≤ S7688x256.size a)
theorem k0_mult107_dvd : ∀ (arg0 : BitVec 32) (v1 : BitVec 32) (v3215 : BitVec 32) (k0_hw107 : k0_chk107 arg0 v1 v3215), ∀ (k0_h1 : k0_cond1 arg0 v1 = 1#1), 8 ∣ (k0_mult107 v3215).toNat := fun arg0 v1 v3215 k0_hw107 k0_h1 => k0_hw107.1 k0_h1
theorem k0_off213_inb : ∀ (arg0 : BitVec 32) (v1 : BitVec 32) (v3215 : BitVec 32) (k0_hw107 : k0_chk107 arg0 v1 v3215), ∀ (k0_h1 : k0_cond1 arg0 v1 = 1#1), ∀ a, (k0_off213 v3215) a + S8x128.size a ≤ S7688x256.size a := fun arg0 v1 v3215 k0_hw107 k0_h1 => k0_hw107.2.1 k0_h1
theorem k0_off214_inb : ∀ (arg0 : BitVec 32) (v1 : BitVec 32) (v3215 : BitVec 32) (k0_hw107 : k0_chk107 arg0 v1 v3215), ∀ (k0_h1 : k0_cond1 arg0 v1 = 1#1), ∀ a, (k0_off214 v3215) a + S8x128.size a ≤ S7688x256.size a := fun arg0 v1 v3215 k0_hw107 k0_h1 => k0_hw107.2.2 k0_h1

def k0_mult108 (v3245 : BitVec 32) : BitVec 32 :=
  let c1_i32_769 : BitVec 32 := 1#32
  let v3265 : BitVec 32 := Scalar.shrsi v3245 c1_i32_769
  v3265

def k0_off215 (v3245 : BitVec 32) : Fin 2 → Nat :=
  let c1_i32_769 : BitVec 32 := 1#32
  let v3265 : BitVec 32 := Scalar.shrsi v3245 c1_i32_769
  let v3266 : BitVec 32 := v3265
  let v3267 : Index := Scalar.indexCast v3266
  let c0_770 : Index := 0#32
  ![v3267.toNat, 0]
def k0_off216 (v3245 : BitVec 32) : Fin 2 → Nat :=
  let c1_i32_769 : BitVec 32 := 1#32
  let v3265 : BitVec 32 := Scalar.shrsi v3245 c1_i32_769
  let v3266 : BitVec 32 := v3265
  let v3271 : Index := Scalar.indexCast v3266
  let c128_771 : Index := 128#32
  ![v3271.toNat, 128]

def k0_chk108 (arg0 : BitVec 32) (v1 : BitVec 32) (v3245 : BitVec 32) : Prop :=
  (∀ (k0_h1 : k0_cond1 arg0 v1 = 1#1), 8 ∣ (k0_mult108 v3245).toNat) ∧
  (∀ (k0_h1 : k0_cond1 arg0 v1 = 1#1), ∀ a, (k0_off215 v3245) a + S8x128.size a ≤ S7688x256.size a) ∧
  (∀ (k0_h1 : k0_cond1 arg0 v1 = 1#1), ∀ a, (k0_off216 v3245) a + S8x128.size a ≤ S7688x256.size a)
theorem k0_mult108_dvd : ∀ (arg0 : BitVec 32) (v1 : BitVec 32) (v3245 : BitVec 32) (k0_hw108 : k0_chk108 arg0 v1 v3245), ∀ (k0_h1 : k0_cond1 arg0 v1 = 1#1), 8 ∣ (k0_mult108 v3245).toNat := fun arg0 v1 v3245 k0_hw108 k0_h1 => k0_hw108.1 k0_h1
theorem k0_off215_inb : ∀ (arg0 : BitVec 32) (v1 : BitVec 32) (v3245 : BitVec 32) (k0_hw108 : k0_chk108 arg0 v1 v3245), ∀ (k0_h1 : k0_cond1 arg0 v1 = 1#1), ∀ a, (k0_off215 v3245) a + S8x128.size a ≤ S7688x256.size a := fun arg0 v1 v3245 k0_hw108 k0_h1 => k0_hw108.2.1 k0_h1
theorem k0_off216_inb : ∀ (arg0 : BitVec 32) (v1 : BitVec 32) (v3245 : BitVec 32) (k0_hw108 : k0_chk108 arg0 v1 v3245), ∀ (k0_h1 : k0_cond1 arg0 v1 = 1#1), ∀ a, (k0_off216 v3245) a + S8x128.size a ≤ S7688x256.size a := fun arg0 v1 v3245 k0_hw108 k0_h1 => k0_hw108.2.2 k0_h1

def k0_mult109 (v3275 : BitVec 32) : BitVec 32 :=
  let c1_i32_776 : BitVec 32 := 1#32
  let v3295 : BitVec 32 := Scalar.shrsi v3275 c1_i32_776
  v3295

def k0_off217 (v3275 : BitVec 32) : Fin 2 → Nat :=
  let c1_i32_776 : BitVec 32 := 1#32
  let v3295 : BitVec 32 := Scalar.shrsi v3275 c1_i32_776
  let v3296 : BitVec 32 := v3295
  let v3297 : Index := Scalar.indexCast v3296
  let c0_777 : Index := 0#32
  ![v3297.toNat, 0]
def k0_off218 (v3275 : BitVec 32) : Fin 2 → Nat :=
  let c1_i32_776 : BitVec 32 := 1#32
  let v3295 : BitVec 32 := Scalar.shrsi v3275 c1_i32_776
  let v3296 : BitVec 32 := v3295
  let v3301 : Index := Scalar.indexCast v3296
  let c128_778 : Index := 128#32
  ![v3301.toNat, 128]

def k0_chk109 (arg0 : BitVec 32) (v1 : BitVec 32) (v3275 : BitVec 32) : Prop :=
  (∀ (k0_h1 : k0_cond1 arg0 v1 = 1#1), 8 ∣ (k0_mult109 v3275).toNat) ∧
  (∀ (k0_h1 : k0_cond1 arg0 v1 = 1#1), ∀ a, (k0_off217 v3275) a + S8x128.size a ≤ S7688x256.size a) ∧
  (∀ (k0_h1 : k0_cond1 arg0 v1 = 1#1), ∀ a, (k0_off218 v3275) a + S8x128.size a ≤ S7688x256.size a)
theorem k0_mult109_dvd : ∀ (arg0 : BitVec 32) (v1 : BitVec 32) (v3275 : BitVec 32) (k0_hw109 : k0_chk109 arg0 v1 v3275), ∀ (k0_h1 : k0_cond1 arg0 v1 = 1#1), 8 ∣ (k0_mult109 v3275).toNat := fun arg0 v1 v3275 k0_hw109 k0_h1 => k0_hw109.1 k0_h1
theorem k0_off217_inb : ∀ (arg0 : BitVec 32) (v1 : BitVec 32) (v3275 : BitVec 32) (k0_hw109 : k0_chk109 arg0 v1 v3275), ∀ (k0_h1 : k0_cond1 arg0 v1 = 1#1), ∀ a, (k0_off217 v3275) a + S8x128.size a ≤ S7688x256.size a := fun arg0 v1 v3275 k0_hw109 k0_h1 => k0_hw109.2.1 k0_h1
theorem k0_off218_inb : ∀ (arg0 : BitVec 32) (v1 : BitVec 32) (v3275 : BitVec 32) (k0_hw109 : k0_chk109 arg0 v1 v3275), ∀ (k0_h1 : k0_cond1 arg0 v1 = 1#1), ∀ a, (k0_off218 v3275) a + S8x128.size a ≤ S7688x256.size a := fun arg0 v1 v3275 k0_hw109 k0_h1 => k0_hw109.2.2 k0_h1

def k0_mult110 (v3305 : BitVec 32) : BitVec 32 :=
  let c1_i32_783 : BitVec 32 := 1#32
  let v3325 : BitVec 32 := Scalar.shrsi v3305 c1_i32_783
  v3325

def k0_off219 (v3305 : BitVec 32) : Fin 2 → Nat :=
  let c1_i32_783 : BitVec 32 := 1#32
  let v3325 : BitVec 32 := Scalar.shrsi v3305 c1_i32_783
  let v3326 : BitVec 32 := v3325
  let v3327 : Index := Scalar.indexCast v3326
  let c0_784 : Index := 0#32
  ![v3327.toNat, 0]
def k0_off220 (v3305 : BitVec 32) : Fin 2 → Nat :=
  let c1_i32_783 : BitVec 32 := 1#32
  let v3325 : BitVec 32 := Scalar.shrsi v3305 c1_i32_783
  let v3326 : BitVec 32 := v3325
  let v3331 : Index := Scalar.indexCast v3326
  let c128_785 : Index := 128#32
  ![v3331.toNat, 128]

def k0_chk110 (arg0 : BitVec 32) (v1 : BitVec 32) (v3305 : BitVec 32) : Prop :=
  (∀ (k0_h1 : k0_cond1 arg0 v1 = 1#1), 8 ∣ (k0_mult110 v3305).toNat) ∧
  (∀ (k0_h1 : k0_cond1 arg0 v1 = 1#1), ∀ a, (k0_off219 v3305) a + S8x128.size a ≤ S7688x256.size a) ∧
  (∀ (k0_h1 : k0_cond1 arg0 v1 = 1#1), ∀ a, (k0_off220 v3305) a + S8x128.size a ≤ S7688x256.size a)
theorem k0_mult110_dvd : ∀ (arg0 : BitVec 32) (v1 : BitVec 32) (v3305 : BitVec 32) (k0_hw110 : k0_chk110 arg0 v1 v3305), ∀ (k0_h1 : k0_cond1 arg0 v1 = 1#1), 8 ∣ (k0_mult110 v3305).toNat := fun arg0 v1 v3305 k0_hw110 k0_h1 => k0_hw110.1 k0_h1
theorem k0_off219_inb : ∀ (arg0 : BitVec 32) (v1 : BitVec 32) (v3305 : BitVec 32) (k0_hw110 : k0_chk110 arg0 v1 v3305), ∀ (k0_h1 : k0_cond1 arg0 v1 = 1#1), ∀ a, (k0_off219 v3305) a + S8x128.size a ≤ S7688x256.size a := fun arg0 v1 v3305 k0_hw110 k0_h1 => k0_hw110.2.1 k0_h1
theorem k0_off220_inb : ∀ (arg0 : BitVec 32) (v1 : BitVec 32) (v3305 : BitVec 32) (k0_hw110 : k0_chk110 arg0 v1 v3305), ∀ (k0_h1 : k0_cond1 arg0 v1 = 1#1), ∀ a, (k0_off220 v3305) a + S8x128.size a ≤ S7688x256.size a := fun arg0 v1 v3305 k0_hw110 k0_h1 => k0_hw110.2.2 k0_h1

def k0_mult111 (v3335 : BitVec 32) : BitVec 32 :=
  let c1_i32_790 : BitVec 32 := 1#32
  let v3355 : BitVec 32 := Scalar.shrsi v3335 c1_i32_790
  v3355

def k0_off221 (v3335 : BitVec 32) : Fin 2 → Nat :=
  let c1_i32_790 : BitVec 32 := 1#32
  let v3355 : BitVec 32 := Scalar.shrsi v3335 c1_i32_790
  let v3356 : BitVec 32 := v3355
  let v3357 : Index := Scalar.indexCast v3356
  let c0_791 : Index := 0#32
  ![v3357.toNat, 0]
def k0_off222 (v3335 : BitVec 32) : Fin 2 → Nat :=
  let c1_i32_790 : BitVec 32 := 1#32
  let v3355 : BitVec 32 := Scalar.shrsi v3335 c1_i32_790
  let v3356 : BitVec 32 := v3355
  let v3361 : Index := Scalar.indexCast v3356
  let c128_792 : Index := 128#32
  ![v3361.toNat, 128]

def k0_chk111 (arg0 : BitVec 32) (v1 : BitVec 32) (v3335 : BitVec 32) : Prop :=
  (∀ (k0_h1 : k0_cond1 arg0 v1 = 1#1), 8 ∣ (k0_mult111 v3335).toNat) ∧
  (∀ (k0_h1 : k0_cond1 arg0 v1 = 1#1), ∀ a, (k0_off221 v3335) a + S8x128.size a ≤ S7688x256.size a) ∧
  (∀ (k0_h1 : k0_cond1 arg0 v1 = 1#1), ∀ a, (k0_off222 v3335) a + S8x128.size a ≤ S7688x256.size a)
theorem k0_mult111_dvd : ∀ (arg0 : BitVec 32) (v1 : BitVec 32) (v3335 : BitVec 32) (k0_hw111 : k0_chk111 arg0 v1 v3335), ∀ (k0_h1 : k0_cond1 arg0 v1 = 1#1), 8 ∣ (k0_mult111 v3335).toNat := fun arg0 v1 v3335 k0_hw111 k0_h1 => k0_hw111.1 k0_h1
theorem k0_off221_inb : ∀ (arg0 : BitVec 32) (v1 : BitVec 32) (v3335 : BitVec 32) (k0_hw111 : k0_chk111 arg0 v1 v3335), ∀ (k0_h1 : k0_cond1 arg0 v1 = 1#1), ∀ a, (k0_off221 v3335) a + S8x128.size a ≤ S7688x256.size a := fun arg0 v1 v3335 k0_hw111 k0_h1 => k0_hw111.2.1 k0_h1
theorem k0_off222_inb : ∀ (arg0 : BitVec 32) (v1 : BitVec 32) (v3335 : BitVec 32) (k0_hw111 : k0_chk111 arg0 v1 v3335), ∀ (k0_h1 : k0_cond1 arg0 v1 = 1#1), ∀ a, (k0_off222 v3335) a + S8x128.size a ≤ S7688x256.size a := fun arg0 v1 v3335 k0_hw111 k0_h1 => k0_hw111.2.2 k0_h1

def k0_mult112 (v3365 : BitVec 32) : BitVec 32 :=
  let c1_i32_797 : BitVec 32 := 1#32
  let v3385 : BitVec 32 := Scalar.shrsi v3365 c1_i32_797
  v3385

def k0_off223 (v3365 : BitVec 32) : Fin 2 → Nat :=
  let c1_i32_797 : BitVec 32 := 1#32
  let v3385 : BitVec 32 := Scalar.shrsi v3365 c1_i32_797
  let v3386 : BitVec 32 := v3385
  let v3387 : Index := Scalar.indexCast v3386
  let c0_798 : Index := 0#32
  ![v3387.toNat, 0]
def k0_off224 (v3365 : BitVec 32) : Fin 2 → Nat :=
  let c1_i32_797 : BitVec 32 := 1#32
  let v3385 : BitVec 32 := Scalar.shrsi v3365 c1_i32_797
  let v3386 : BitVec 32 := v3385
  let v3391 : Index := Scalar.indexCast v3386
  let c128_799 : Index := 128#32
  ![v3391.toNat, 128]

def k0_chk112 (arg0 : BitVec 32) (v1 : BitVec 32) (v3365 : BitVec 32) : Prop :=
  (∀ (k0_h1 : k0_cond1 arg0 v1 = 1#1), 8 ∣ (k0_mult112 v3365).toNat) ∧
  (∀ (k0_h1 : k0_cond1 arg0 v1 = 1#1), ∀ a, (k0_off223 v3365) a + S8x128.size a ≤ S7688x256.size a) ∧
  (∀ (k0_h1 : k0_cond1 arg0 v1 = 1#1), ∀ a, (k0_off224 v3365) a + S8x128.size a ≤ S7688x256.size a)
theorem k0_mult112_dvd : ∀ (arg0 : BitVec 32) (v1 : BitVec 32) (v3365 : BitVec 32) (k0_hw112 : k0_chk112 arg0 v1 v3365), ∀ (k0_h1 : k0_cond1 arg0 v1 = 1#1), 8 ∣ (k0_mult112 v3365).toNat := fun arg0 v1 v3365 k0_hw112 k0_h1 => k0_hw112.1 k0_h1
theorem k0_off223_inb : ∀ (arg0 : BitVec 32) (v1 : BitVec 32) (v3365 : BitVec 32) (k0_hw112 : k0_chk112 arg0 v1 v3365), ∀ (k0_h1 : k0_cond1 arg0 v1 = 1#1), ∀ a, (k0_off223 v3365) a + S8x128.size a ≤ S7688x256.size a := fun arg0 v1 v3365 k0_hw112 k0_h1 => k0_hw112.2.1 k0_h1
theorem k0_off224_inb : ∀ (arg0 : BitVec 32) (v1 : BitVec 32) (v3365 : BitVec 32) (k0_hw112 : k0_chk112 arg0 v1 v3365), ∀ (k0_h1 : k0_cond1 arg0 v1 = 1#1), ∀ a, (k0_off224 v3365) a + S8x128.size a ≤ S7688x256.size a := fun arg0 v1 v3365 k0_hw112 k0_h1 => k0_hw112.2.2 k0_h1

def k0_mult113 (v3395 : BitVec 32) : BitVec 32 :=
  let c1_i32_804 : BitVec 32 := 1#32
  let v3415 : BitVec 32 := Scalar.shrsi v3395 c1_i32_804
  v3415

def k0_off225 (v3395 : BitVec 32) : Fin 2 → Nat :=
  let c1_i32_804 : BitVec 32 := 1#32
  let v3415 : BitVec 32 := Scalar.shrsi v3395 c1_i32_804
  let v3416 : BitVec 32 := v3415
  let v3417 : Index := Scalar.indexCast v3416
  let c0_805 : Index := 0#32
  ![v3417.toNat, 0]
def k0_off226 (v3395 : BitVec 32) : Fin 2 → Nat :=
  let c1_i32_804 : BitVec 32 := 1#32
  let v3415 : BitVec 32 := Scalar.shrsi v3395 c1_i32_804
  let v3416 : BitVec 32 := v3415
  let v3421 : Index := Scalar.indexCast v3416
  let c128_806 : Index := 128#32
  ![v3421.toNat, 128]

def k0_chk113 (arg0 : BitVec 32) (v1 : BitVec 32) (v3395 : BitVec 32) : Prop :=
  (∀ (k0_h1 : k0_cond1 arg0 v1 = 1#1), 8 ∣ (k0_mult113 v3395).toNat) ∧
  (∀ (k0_h1 : k0_cond1 arg0 v1 = 1#1), ∀ a, (k0_off225 v3395) a + S8x128.size a ≤ S7688x256.size a) ∧
  (∀ (k0_h1 : k0_cond1 arg0 v1 = 1#1), ∀ a, (k0_off226 v3395) a + S8x128.size a ≤ S7688x256.size a)
theorem k0_mult113_dvd : ∀ (arg0 : BitVec 32) (v1 : BitVec 32) (v3395 : BitVec 32) (k0_hw113 : k0_chk113 arg0 v1 v3395), ∀ (k0_h1 : k0_cond1 arg0 v1 = 1#1), 8 ∣ (k0_mult113 v3395).toNat := fun arg0 v1 v3395 k0_hw113 k0_h1 => k0_hw113.1 k0_h1
theorem k0_off225_inb : ∀ (arg0 : BitVec 32) (v1 : BitVec 32) (v3395 : BitVec 32) (k0_hw113 : k0_chk113 arg0 v1 v3395), ∀ (k0_h1 : k0_cond1 arg0 v1 = 1#1), ∀ a, (k0_off225 v3395) a + S8x128.size a ≤ S7688x256.size a := fun arg0 v1 v3395 k0_hw113 k0_h1 => k0_hw113.2.1 k0_h1
theorem k0_off226_inb : ∀ (arg0 : BitVec 32) (v1 : BitVec 32) (v3395 : BitVec 32) (k0_hw113 : k0_chk113 arg0 v1 v3395), ∀ (k0_h1 : k0_cond1 arg0 v1 = 1#1), ∀ a, (k0_off226 v3395) a + S8x128.size a ≤ S7688x256.size a := fun arg0 v1 v3395 k0_hw113 k0_h1 => k0_hw113.2.2 k0_h1

def k0_mult114 (v3425 : BitVec 32) : BitVec 32 :=
  let c1_i32_811 : BitVec 32 := 1#32
  let v3445 : BitVec 32 := Scalar.shrsi v3425 c1_i32_811
  v3445

def k0_off227 (v3425 : BitVec 32) : Fin 2 → Nat :=
  let c1_i32_811 : BitVec 32 := 1#32
  let v3445 : BitVec 32 := Scalar.shrsi v3425 c1_i32_811
  let v3446 : BitVec 32 := v3445
  let v3447 : Index := Scalar.indexCast v3446
  let c0_812 : Index := 0#32
  ![v3447.toNat, 0]
def k0_off228 (v3425 : BitVec 32) : Fin 2 → Nat :=
  let c1_i32_811 : BitVec 32 := 1#32
  let v3445 : BitVec 32 := Scalar.shrsi v3425 c1_i32_811
  let v3446 : BitVec 32 := v3445
  let v3451 : Index := Scalar.indexCast v3446
  let c128_813 : Index := 128#32
  ![v3451.toNat, 128]

def k0_chk114 (arg0 : BitVec 32) (v1 : BitVec 32) (v3425 : BitVec 32) : Prop :=
  (∀ (k0_h1 : k0_cond1 arg0 v1 = 1#1), 8 ∣ (k0_mult114 v3425).toNat) ∧
  (∀ (k0_h1 : k0_cond1 arg0 v1 = 1#1), ∀ a, (k0_off227 v3425) a + S8x128.size a ≤ S7688x256.size a) ∧
  (∀ (k0_h1 : k0_cond1 arg0 v1 = 1#1), ∀ a, (k0_off228 v3425) a + S8x128.size a ≤ S7688x256.size a)
theorem k0_mult114_dvd : ∀ (arg0 : BitVec 32) (v1 : BitVec 32) (v3425 : BitVec 32) (k0_hw114 : k0_chk114 arg0 v1 v3425), ∀ (k0_h1 : k0_cond1 arg0 v1 = 1#1), 8 ∣ (k0_mult114 v3425).toNat := fun arg0 v1 v3425 k0_hw114 k0_h1 => k0_hw114.1 k0_h1
theorem k0_off227_inb : ∀ (arg0 : BitVec 32) (v1 : BitVec 32) (v3425 : BitVec 32) (k0_hw114 : k0_chk114 arg0 v1 v3425), ∀ (k0_h1 : k0_cond1 arg0 v1 = 1#1), ∀ a, (k0_off227 v3425) a + S8x128.size a ≤ S7688x256.size a := fun arg0 v1 v3425 k0_hw114 k0_h1 => k0_hw114.2.1 k0_h1
theorem k0_off228_inb : ∀ (arg0 : BitVec 32) (v1 : BitVec 32) (v3425 : BitVec 32) (k0_hw114 : k0_chk114 arg0 v1 v3425), ∀ (k0_h1 : k0_cond1 arg0 v1 = 1#1), ∀ a, (k0_off228 v3425) a + S8x128.size a ≤ S7688x256.size a := fun arg0 v1 v3425 k0_hw114 k0_h1 => k0_hw114.2.2 k0_h1

def k0_mult115 (v3455 : BitVec 32) : BitVec 32 :=
  let c1_i32_818 : BitVec 32 := 1#32
  let v3475 : BitVec 32 := Scalar.shrsi v3455 c1_i32_818
  v3475

def k0_off229 (v3455 : BitVec 32) : Fin 2 → Nat :=
  let c1_i32_818 : BitVec 32 := 1#32
  let v3475 : BitVec 32 := Scalar.shrsi v3455 c1_i32_818
  let v3476 : BitVec 32 := v3475
  let v3477 : Index := Scalar.indexCast v3476
  let c0_819 : Index := 0#32
  ![v3477.toNat, 0]
def k0_off230 (v3455 : BitVec 32) : Fin 2 → Nat :=
  let c1_i32_818 : BitVec 32 := 1#32
  let v3475 : BitVec 32 := Scalar.shrsi v3455 c1_i32_818
  let v3476 : BitVec 32 := v3475
  let v3481 : Index := Scalar.indexCast v3476
  let c128_820 : Index := 128#32
  ![v3481.toNat, 128]

def k0_chk115 (arg0 : BitVec 32) (v1 : BitVec 32) (v3455 : BitVec 32) : Prop :=
  (∀ (k0_h1 : k0_cond1 arg0 v1 = 1#1), 8 ∣ (k0_mult115 v3455).toNat) ∧
  (∀ (k0_h1 : k0_cond1 arg0 v1 = 1#1), ∀ a, (k0_off229 v3455) a + S8x128.size a ≤ S7688x256.size a) ∧
  (∀ (k0_h1 : k0_cond1 arg0 v1 = 1#1), ∀ a, (k0_off230 v3455) a + S8x128.size a ≤ S7688x256.size a)
theorem k0_mult115_dvd : ∀ (arg0 : BitVec 32) (v1 : BitVec 32) (v3455 : BitVec 32) (k0_hw115 : k0_chk115 arg0 v1 v3455), ∀ (k0_h1 : k0_cond1 arg0 v1 = 1#1), 8 ∣ (k0_mult115 v3455).toNat := fun arg0 v1 v3455 k0_hw115 k0_h1 => k0_hw115.1 k0_h1
theorem k0_off229_inb : ∀ (arg0 : BitVec 32) (v1 : BitVec 32) (v3455 : BitVec 32) (k0_hw115 : k0_chk115 arg0 v1 v3455), ∀ (k0_h1 : k0_cond1 arg0 v1 = 1#1), ∀ a, (k0_off229 v3455) a + S8x128.size a ≤ S7688x256.size a := fun arg0 v1 v3455 k0_hw115 k0_h1 => k0_hw115.2.1 k0_h1
theorem k0_off230_inb : ∀ (arg0 : BitVec 32) (v1 : BitVec 32) (v3455 : BitVec 32) (k0_hw115 : k0_chk115 arg0 v1 v3455), ∀ (k0_h1 : k0_cond1 arg0 v1 = 1#1), ∀ a, (k0_off230 v3455) a + S8x128.size a ≤ S7688x256.size a := fun arg0 v1 v3455 k0_hw115 k0_h1 => k0_hw115.2.2 k0_h1

def k0_mult116 (v3485 : BitVec 32) : BitVec 32 :=
  let c1_i32_825 : BitVec 32 := 1#32
  let v3505 : BitVec 32 := Scalar.shrsi v3485 c1_i32_825
  v3505

def k0_off231 (v3485 : BitVec 32) : Fin 2 → Nat :=
  let c1_i32_825 : BitVec 32 := 1#32
  let v3505 : BitVec 32 := Scalar.shrsi v3485 c1_i32_825
  let v3506 : BitVec 32 := v3505
  let v3507 : Index := Scalar.indexCast v3506
  let c0_826 : Index := 0#32
  ![v3507.toNat, 0]
def k0_off232 (v3485 : BitVec 32) : Fin 2 → Nat :=
  let c1_i32_825 : BitVec 32 := 1#32
  let v3505 : BitVec 32 := Scalar.shrsi v3485 c1_i32_825
  let v3506 : BitVec 32 := v3505
  let v3511 : Index := Scalar.indexCast v3506
  let c128_827 : Index := 128#32
  ![v3511.toNat, 128]

def k0_chk116 (arg0 : BitVec 32) (v1 : BitVec 32) (v3485 : BitVec 32) : Prop :=
  (∀ (k0_h1 : k0_cond1 arg0 v1 = 1#1), 8 ∣ (k0_mult116 v3485).toNat) ∧
  (∀ (k0_h1 : k0_cond1 arg0 v1 = 1#1), ∀ a, (k0_off231 v3485) a + S8x128.size a ≤ S7688x256.size a) ∧
  (∀ (k0_h1 : k0_cond1 arg0 v1 = 1#1), ∀ a, (k0_off232 v3485) a + S8x128.size a ≤ S7688x256.size a)
theorem k0_mult116_dvd : ∀ (arg0 : BitVec 32) (v1 : BitVec 32) (v3485 : BitVec 32) (k0_hw116 : k0_chk116 arg0 v1 v3485), ∀ (k0_h1 : k0_cond1 arg0 v1 = 1#1), 8 ∣ (k0_mult116 v3485).toNat := fun arg0 v1 v3485 k0_hw116 k0_h1 => k0_hw116.1 k0_h1
theorem k0_off231_inb : ∀ (arg0 : BitVec 32) (v1 : BitVec 32) (v3485 : BitVec 32) (k0_hw116 : k0_chk116 arg0 v1 v3485), ∀ (k0_h1 : k0_cond1 arg0 v1 = 1#1), ∀ a, (k0_off231 v3485) a + S8x128.size a ≤ S7688x256.size a := fun arg0 v1 v3485 k0_hw116 k0_h1 => k0_hw116.2.1 k0_h1
theorem k0_off232_inb : ∀ (arg0 : BitVec 32) (v1 : BitVec 32) (v3485 : BitVec 32) (k0_hw116 : k0_chk116 arg0 v1 v3485), ∀ (k0_h1 : k0_cond1 arg0 v1 = 1#1), ∀ a, (k0_off232 v3485) a + S8x128.size a ≤ S7688x256.size a := fun arg0 v1 v3485 k0_hw116 k0_h1 => k0_hw116.2.2 k0_h1

def k0_mult117 (v3515 : BitVec 32) : BitVec 32 :=
  let c1_i32_832 : BitVec 32 := 1#32
  let v3535 : BitVec 32 := Scalar.shrsi v3515 c1_i32_832
  v3535

def k0_off233 (v3515 : BitVec 32) : Fin 2 → Nat :=
  let c1_i32_832 : BitVec 32 := 1#32
  let v3535 : BitVec 32 := Scalar.shrsi v3515 c1_i32_832
  let v3536 : BitVec 32 := v3535
  let v3537 : Index := Scalar.indexCast v3536
  let c0_833 : Index := 0#32
  ![v3537.toNat, 0]
def k0_off234 (v3515 : BitVec 32) : Fin 2 → Nat :=
  let c1_i32_832 : BitVec 32 := 1#32
  let v3535 : BitVec 32 := Scalar.shrsi v3515 c1_i32_832
  let v3536 : BitVec 32 := v3535
  let v3541 : Index := Scalar.indexCast v3536
  let c128_834 : Index := 128#32
  ![v3541.toNat, 128]

def k0_chk117 (arg0 : BitVec 32) (v1 : BitVec 32) (v3515 : BitVec 32) : Prop :=
  (∀ (k0_h1 : k0_cond1 arg0 v1 = 1#1), 8 ∣ (k0_mult117 v3515).toNat) ∧
  (∀ (k0_h1 : k0_cond1 arg0 v1 = 1#1), ∀ a, (k0_off233 v3515) a + S8x128.size a ≤ S7688x256.size a) ∧
  (∀ (k0_h1 : k0_cond1 arg0 v1 = 1#1), ∀ a, (k0_off234 v3515) a + S8x128.size a ≤ S7688x256.size a)
theorem k0_mult117_dvd : ∀ (arg0 : BitVec 32) (v1 : BitVec 32) (v3515 : BitVec 32) (k0_hw117 : k0_chk117 arg0 v1 v3515), ∀ (k0_h1 : k0_cond1 arg0 v1 = 1#1), 8 ∣ (k0_mult117 v3515).toNat := fun arg0 v1 v3515 k0_hw117 k0_h1 => k0_hw117.1 k0_h1
theorem k0_off233_inb : ∀ (arg0 : BitVec 32) (v1 : BitVec 32) (v3515 : BitVec 32) (k0_hw117 : k0_chk117 arg0 v1 v3515), ∀ (k0_h1 : k0_cond1 arg0 v1 = 1#1), ∀ a, (k0_off233 v3515) a + S8x128.size a ≤ S7688x256.size a := fun arg0 v1 v3515 k0_hw117 k0_h1 => k0_hw117.2.1 k0_h1
theorem k0_off234_inb : ∀ (arg0 : BitVec 32) (v1 : BitVec 32) (v3515 : BitVec 32) (k0_hw117 : k0_chk117 arg0 v1 v3515), ∀ (k0_h1 : k0_cond1 arg0 v1 = 1#1), ∀ a, (k0_off234 v3515) a + S8x128.size a ≤ S7688x256.size a := fun arg0 v1 v3515 k0_hw117 k0_h1 => k0_hw117.2.2 k0_h1

def k0_mult118 (v3545 : BitVec 32) : BitVec 32 :=
  let c1_i32_839 : BitVec 32 := 1#32
  let v3565 : BitVec 32 := Scalar.shrsi v3545 c1_i32_839
  v3565

def k0_off235 (v3545 : BitVec 32) : Fin 2 → Nat :=
  let c1_i32_839 : BitVec 32 := 1#32
  let v3565 : BitVec 32 := Scalar.shrsi v3545 c1_i32_839
  let v3566 : BitVec 32 := v3565
  let v3567 : Index := Scalar.indexCast v3566
  let c0_840 : Index := 0#32
  ![v3567.toNat, 0]
def k0_off236 (v3545 : BitVec 32) : Fin 2 → Nat :=
  let c1_i32_839 : BitVec 32 := 1#32
  let v3565 : BitVec 32 := Scalar.shrsi v3545 c1_i32_839
  let v3566 : BitVec 32 := v3565
  let v3571 : Index := Scalar.indexCast v3566
  let c128_841 : Index := 128#32
  ![v3571.toNat, 128]

def k0_chk118 (arg0 : BitVec 32) (v1 : BitVec 32) (v3545 : BitVec 32) : Prop :=
  (∀ (k0_h1 : k0_cond1 arg0 v1 = 1#1), 8 ∣ (k0_mult118 v3545).toNat) ∧
  (∀ (k0_h1 : k0_cond1 arg0 v1 = 1#1), ∀ a, (k0_off235 v3545) a + S8x128.size a ≤ S7688x256.size a) ∧
  (∀ (k0_h1 : k0_cond1 arg0 v1 = 1#1), ∀ a, (k0_off236 v3545) a + S8x128.size a ≤ S7688x256.size a)
theorem k0_mult118_dvd : ∀ (arg0 : BitVec 32) (v1 : BitVec 32) (v3545 : BitVec 32) (k0_hw118 : k0_chk118 arg0 v1 v3545), ∀ (k0_h1 : k0_cond1 arg0 v1 = 1#1), 8 ∣ (k0_mult118 v3545).toNat := fun arg0 v1 v3545 k0_hw118 k0_h1 => k0_hw118.1 k0_h1
theorem k0_off235_inb : ∀ (arg0 : BitVec 32) (v1 : BitVec 32) (v3545 : BitVec 32) (k0_hw118 : k0_chk118 arg0 v1 v3545), ∀ (k0_h1 : k0_cond1 arg0 v1 = 1#1), ∀ a, (k0_off235 v3545) a + S8x128.size a ≤ S7688x256.size a := fun arg0 v1 v3545 k0_hw118 k0_h1 => k0_hw118.2.1 k0_h1
theorem k0_off236_inb : ∀ (arg0 : BitVec 32) (v1 : BitVec 32) (v3545 : BitVec 32) (k0_hw118 : k0_chk118 arg0 v1 v3545), ∀ (k0_h1 : k0_cond1 arg0 v1 = 1#1), ∀ a, (k0_off236 v3545) a + S8x128.size a ≤ S7688x256.size a := fun arg0 v1 v3545 k0_hw118 k0_h1 => k0_hw118.2.2 k0_h1

def k0_mult119 (v3575 : BitVec 32) : BitVec 32 :=
  let c1_i32_846 : BitVec 32 := 1#32
  let v3595 : BitVec 32 := Scalar.shrsi v3575 c1_i32_846
  v3595

def k0_off237 (v3575 : BitVec 32) : Fin 2 → Nat :=
  let c1_i32_846 : BitVec 32 := 1#32
  let v3595 : BitVec 32 := Scalar.shrsi v3575 c1_i32_846
  let v3596 : BitVec 32 := v3595
  let v3597 : Index := Scalar.indexCast v3596
  let c0_847 : Index := 0#32
  ![v3597.toNat, 0]
def k0_off238 (v3575 : BitVec 32) : Fin 2 → Nat :=
  let c1_i32_846 : BitVec 32 := 1#32
  let v3595 : BitVec 32 := Scalar.shrsi v3575 c1_i32_846
  let v3596 : BitVec 32 := v3595
  let v3601 : Index := Scalar.indexCast v3596
  let c128_848 : Index := 128#32
  ![v3601.toNat, 128]

def k0_chk119 (arg0 : BitVec 32) (v1 : BitVec 32) (v3575 : BitVec 32) : Prop :=
  (∀ (k0_h1 : k0_cond1 arg0 v1 = 1#1), 8 ∣ (k0_mult119 v3575).toNat) ∧
  (∀ (k0_h1 : k0_cond1 arg0 v1 = 1#1), ∀ a, (k0_off237 v3575) a + S8x128.size a ≤ S7688x256.size a) ∧
  (∀ (k0_h1 : k0_cond1 arg0 v1 = 1#1), ∀ a, (k0_off238 v3575) a + S8x128.size a ≤ S7688x256.size a)
theorem k0_mult119_dvd : ∀ (arg0 : BitVec 32) (v1 : BitVec 32) (v3575 : BitVec 32) (k0_hw119 : k0_chk119 arg0 v1 v3575), ∀ (k0_h1 : k0_cond1 arg0 v1 = 1#1), 8 ∣ (k0_mult119 v3575).toNat := fun arg0 v1 v3575 k0_hw119 k0_h1 => k0_hw119.1 k0_h1
theorem k0_off237_inb : ∀ (arg0 : BitVec 32) (v1 : BitVec 32) (v3575 : BitVec 32) (k0_hw119 : k0_chk119 arg0 v1 v3575), ∀ (k0_h1 : k0_cond1 arg0 v1 = 1#1), ∀ a, (k0_off237 v3575) a + S8x128.size a ≤ S7688x256.size a := fun arg0 v1 v3575 k0_hw119 k0_h1 => k0_hw119.2.1 k0_h1
theorem k0_off238_inb : ∀ (arg0 : BitVec 32) (v1 : BitVec 32) (v3575 : BitVec 32) (k0_hw119 : k0_chk119 arg0 v1 v3575), ∀ (k0_h1 : k0_cond1 arg0 v1 = 1#1), ∀ a, (k0_off238 v3575) a + S8x128.size a ≤ S7688x256.size a := fun arg0 v1 v3575 k0_hw119 k0_h1 => k0_hw119.2.2 k0_h1

def k0_mult120 (v3605 : BitVec 32) : BitVec 32 :=
  let c1_i32_853 : BitVec 32 := 1#32
  let v3625 : BitVec 32 := Scalar.shrsi v3605 c1_i32_853
  v3625

def k0_off239 (v3605 : BitVec 32) : Fin 2 → Nat :=
  let c1_i32_853 : BitVec 32 := 1#32
  let v3625 : BitVec 32 := Scalar.shrsi v3605 c1_i32_853
  let v3626 : BitVec 32 := v3625
  let v3627 : Index := Scalar.indexCast v3626
  let c0_854 : Index := 0#32
  ![v3627.toNat, 0]
def k0_off240 (v3605 : BitVec 32) : Fin 2 → Nat :=
  let c1_i32_853 : BitVec 32 := 1#32
  let v3625 : BitVec 32 := Scalar.shrsi v3605 c1_i32_853
  let v3626 : BitVec 32 := v3625
  let v3631 : Index := Scalar.indexCast v3626
  let c128_855 : Index := 128#32
  ![v3631.toNat, 128]

def k0_chk120 (arg0 : BitVec 32) (v1 : BitVec 32) (v3605 : BitVec 32) : Prop :=
  (∀ (k0_h1 : k0_cond1 arg0 v1 = 1#1), 8 ∣ (k0_mult120 v3605).toNat) ∧
  (∀ (k0_h1 : k0_cond1 arg0 v1 = 1#1), ∀ a, (k0_off239 v3605) a + S8x128.size a ≤ S7688x256.size a) ∧
  (∀ (k0_h1 : k0_cond1 arg0 v1 = 1#1), ∀ a, (k0_off240 v3605) a + S8x128.size a ≤ S7688x256.size a)
theorem k0_mult120_dvd : ∀ (arg0 : BitVec 32) (v1 : BitVec 32) (v3605 : BitVec 32) (k0_hw120 : k0_chk120 arg0 v1 v3605), ∀ (k0_h1 : k0_cond1 arg0 v1 = 1#1), 8 ∣ (k0_mult120 v3605).toNat := fun arg0 v1 v3605 k0_hw120 k0_h1 => k0_hw120.1 k0_h1
theorem k0_off239_inb : ∀ (arg0 : BitVec 32) (v1 : BitVec 32) (v3605 : BitVec 32) (k0_hw120 : k0_chk120 arg0 v1 v3605), ∀ (k0_h1 : k0_cond1 arg0 v1 = 1#1), ∀ a, (k0_off239 v3605) a + S8x128.size a ≤ S7688x256.size a := fun arg0 v1 v3605 k0_hw120 k0_h1 => k0_hw120.2.1 k0_h1
theorem k0_off240_inb : ∀ (arg0 : BitVec 32) (v1 : BitVec 32) (v3605 : BitVec 32) (k0_hw120 : k0_chk120 arg0 v1 v3605), ∀ (k0_h1 : k0_cond1 arg0 v1 = 1#1), ∀ a, (k0_off240 v3605) a + S8x128.size a ≤ S7688x256.size a := fun arg0 v1 v3605 k0_hw120 k0_h1 => k0_hw120.2.2 k0_h1

def k0_mult121 (v3635 : BitVec 32) : BitVec 32 :=
  let c1_i32_860 : BitVec 32 := 1#32
  let v3655 : BitVec 32 := Scalar.shrsi v3635 c1_i32_860
  v3655

def k0_off241 (v3635 : BitVec 32) : Fin 2 → Nat :=
  let c1_i32_860 : BitVec 32 := 1#32
  let v3655 : BitVec 32 := Scalar.shrsi v3635 c1_i32_860
  let v3656 : BitVec 32 := v3655
  let v3657 : Index := Scalar.indexCast v3656
  let c0_861 : Index := 0#32
  ![v3657.toNat, 0]
def k0_off242 (v3635 : BitVec 32) : Fin 2 → Nat :=
  let c1_i32_860 : BitVec 32 := 1#32
  let v3655 : BitVec 32 := Scalar.shrsi v3635 c1_i32_860
  let v3656 : BitVec 32 := v3655
  let v3661 : Index := Scalar.indexCast v3656
  let c128_862 : Index := 128#32
  ![v3661.toNat, 128]

def k0_chk121 (arg0 : BitVec 32) (v1 : BitVec 32) (v3635 : BitVec 32) : Prop :=
  (∀ (k0_h1 : k0_cond1 arg0 v1 = 1#1), 8 ∣ (k0_mult121 v3635).toNat) ∧
  (∀ (k0_h1 : k0_cond1 arg0 v1 = 1#1), ∀ a, (k0_off241 v3635) a + S8x128.size a ≤ S7688x256.size a) ∧
  (∀ (k0_h1 : k0_cond1 arg0 v1 = 1#1), ∀ a, (k0_off242 v3635) a + S8x128.size a ≤ S7688x256.size a)
theorem k0_mult121_dvd : ∀ (arg0 : BitVec 32) (v1 : BitVec 32) (v3635 : BitVec 32) (k0_hw121 : k0_chk121 arg0 v1 v3635), ∀ (k0_h1 : k0_cond1 arg0 v1 = 1#1), 8 ∣ (k0_mult121 v3635).toNat := fun arg0 v1 v3635 k0_hw121 k0_h1 => k0_hw121.1 k0_h1
theorem k0_off241_inb : ∀ (arg0 : BitVec 32) (v1 : BitVec 32) (v3635 : BitVec 32) (k0_hw121 : k0_chk121 arg0 v1 v3635), ∀ (k0_h1 : k0_cond1 arg0 v1 = 1#1), ∀ a, (k0_off241 v3635) a + S8x128.size a ≤ S7688x256.size a := fun arg0 v1 v3635 k0_hw121 k0_h1 => k0_hw121.2.1 k0_h1
theorem k0_off242_inb : ∀ (arg0 : BitVec 32) (v1 : BitVec 32) (v3635 : BitVec 32) (k0_hw121 : k0_chk121 arg0 v1 v3635), ∀ (k0_h1 : k0_cond1 arg0 v1 = 1#1), ∀ a, (k0_off242 v3635) a + S8x128.size a ≤ S7688x256.size a := fun arg0 v1 v3635 k0_hw121 k0_h1 => k0_hw121.2.2 k0_h1

def k0_mult122 (v3665 : BitVec 32) : BitVec 32 :=
  let c1_i32_867 : BitVec 32 := 1#32
  let v3685 : BitVec 32 := Scalar.shrsi v3665 c1_i32_867
  v3685

def k0_off243 (v3665 : BitVec 32) : Fin 2 → Nat :=
  let c1_i32_867 : BitVec 32 := 1#32
  let v3685 : BitVec 32 := Scalar.shrsi v3665 c1_i32_867
  let v3686 : BitVec 32 := v3685
  let v3687 : Index := Scalar.indexCast v3686
  let c0_868 : Index := 0#32
  ![v3687.toNat, 0]
def k0_off244 (v3665 : BitVec 32) : Fin 2 → Nat :=
  let c1_i32_867 : BitVec 32 := 1#32
  let v3685 : BitVec 32 := Scalar.shrsi v3665 c1_i32_867
  let v3686 : BitVec 32 := v3685
  let v3691 : Index := Scalar.indexCast v3686
  let c128_869 : Index := 128#32
  ![v3691.toNat, 128]

def k0_chk122 (arg0 : BitVec 32) (v1 : BitVec 32) (v3665 : BitVec 32) : Prop :=
  (∀ (k0_h1 : k0_cond1 arg0 v1 = 1#1), 8 ∣ (k0_mult122 v3665).toNat) ∧
  (∀ (k0_h1 : k0_cond1 arg0 v1 = 1#1), ∀ a, (k0_off243 v3665) a + S8x128.size a ≤ S7688x256.size a) ∧
  (∀ (k0_h1 : k0_cond1 arg0 v1 = 1#1), ∀ a, (k0_off244 v3665) a + S8x128.size a ≤ S7688x256.size a)
theorem k0_mult122_dvd : ∀ (arg0 : BitVec 32) (v1 : BitVec 32) (v3665 : BitVec 32) (k0_hw122 : k0_chk122 arg0 v1 v3665), ∀ (k0_h1 : k0_cond1 arg0 v1 = 1#1), 8 ∣ (k0_mult122 v3665).toNat := fun arg0 v1 v3665 k0_hw122 k0_h1 => k0_hw122.1 k0_h1
theorem k0_off243_inb : ∀ (arg0 : BitVec 32) (v1 : BitVec 32) (v3665 : BitVec 32) (k0_hw122 : k0_chk122 arg0 v1 v3665), ∀ (k0_h1 : k0_cond1 arg0 v1 = 1#1), ∀ a, (k0_off243 v3665) a + S8x128.size a ≤ S7688x256.size a := fun arg0 v1 v3665 k0_hw122 k0_h1 => k0_hw122.2.1 k0_h1
theorem k0_off244_inb : ∀ (arg0 : BitVec 32) (v1 : BitVec 32) (v3665 : BitVec 32) (k0_hw122 : k0_chk122 arg0 v1 v3665), ∀ (k0_h1 : k0_cond1 arg0 v1 = 1#1), ∀ a, (k0_off244 v3665) a + S8x128.size a ≤ S7688x256.size a := fun arg0 v1 v3665 k0_hw122 k0_h1 => k0_hw122.2.2 k0_h1

def k0_mult123 (v3695 : BitVec 32) : BitVec 32 :=
  let c1_i32_874 : BitVec 32 := 1#32
  let v3715 : BitVec 32 := Scalar.shrsi v3695 c1_i32_874
  v3715

def k0_off245 (v3695 : BitVec 32) : Fin 2 → Nat :=
  let c1_i32_874 : BitVec 32 := 1#32
  let v3715 : BitVec 32 := Scalar.shrsi v3695 c1_i32_874
  let v3716 : BitVec 32 := v3715
  let v3717 : Index := Scalar.indexCast v3716
  let c0_875 : Index := 0#32
  ![v3717.toNat, 0]
def k0_off246 (v3695 : BitVec 32) : Fin 2 → Nat :=
  let c1_i32_874 : BitVec 32 := 1#32
  let v3715 : BitVec 32 := Scalar.shrsi v3695 c1_i32_874
  let v3716 : BitVec 32 := v3715
  let v3721 : Index := Scalar.indexCast v3716
  let c128_876 : Index := 128#32
  ![v3721.toNat, 128]

def k0_chk123 (arg0 : BitVec 32) (v1 : BitVec 32) (v3695 : BitVec 32) : Prop :=
  (∀ (k0_h1 : k0_cond1 arg0 v1 = 1#1), 8 ∣ (k0_mult123 v3695).toNat) ∧
  (∀ (k0_h1 : k0_cond1 arg0 v1 = 1#1), ∀ a, (k0_off245 v3695) a + S8x128.size a ≤ S7688x256.size a) ∧
  (∀ (k0_h1 : k0_cond1 arg0 v1 = 1#1), ∀ a, (k0_off246 v3695) a + S8x128.size a ≤ S7688x256.size a)
theorem k0_mult123_dvd : ∀ (arg0 : BitVec 32) (v1 : BitVec 32) (v3695 : BitVec 32) (k0_hw123 : k0_chk123 arg0 v1 v3695), ∀ (k0_h1 : k0_cond1 arg0 v1 = 1#1), 8 ∣ (k0_mult123 v3695).toNat := fun arg0 v1 v3695 k0_hw123 k0_h1 => k0_hw123.1 k0_h1
theorem k0_off245_inb : ∀ (arg0 : BitVec 32) (v1 : BitVec 32) (v3695 : BitVec 32) (k0_hw123 : k0_chk123 arg0 v1 v3695), ∀ (k0_h1 : k0_cond1 arg0 v1 = 1#1), ∀ a, (k0_off245 v3695) a + S8x128.size a ≤ S7688x256.size a := fun arg0 v1 v3695 k0_hw123 k0_h1 => k0_hw123.2.1 k0_h1
theorem k0_off246_inb : ∀ (arg0 : BitVec 32) (v1 : BitVec 32) (v3695 : BitVec 32) (k0_hw123 : k0_chk123 arg0 v1 v3695), ∀ (k0_h1 : k0_cond1 arg0 v1 = 1#1), ∀ a, (k0_off246 v3695) a + S8x128.size a ≤ S7688x256.size a := fun arg0 v1 v3695 k0_hw123 k0_h1 => k0_hw123.2.2 k0_h1

def k0_mult124 (v3725 : BitVec 32) : BitVec 32 :=
  let c1_i32_881 : BitVec 32 := 1#32
  let v3745 : BitVec 32 := Scalar.shrsi v3725 c1_i32_881
  v3745

def k0_off247 (v3725 : BitVec 32) : Fin 2 → Nat :=
  let c1_i32_881 : BitVec 32 := 1#32
  let v3745 : BitVec 32 := Scalar.shrsi v3725 c1_i32_881
  let v3746 : BitVec 32 := v3745
  let v3747 : Index := Scalar.indexCast v3746
  let c0_882 : Index := 0#32
  ![v3747.toNat, 0]
def k0_off248 (v3725 : BitVec 32) : Fin 2 → Nat :=
  let c1_i32_881 : BitVec 32 := 1#32
  let v3745 : BitVec 32 := Scalar.shrsi v3725 c1_i32_881
  let v3746 : BitVec 32 := v3745
  let v3751 : Index := Scalar.indexCast v3746
  let c128_883 : Index := 128#32
  ![v3751.toNat, 128]

def k0_chk124 (arg0 : BitVec 32) (v1 : BitVec 32) (v3725 : BitVec 32) : Prop :=
  (∀ (k0_h1 : k0_cond1 arg0 v1 = 1#1), 8 ∣ (k0_mult124 v3725).toNat) ∧
  (∀ (k0_h1 : k0_cond1 arg0 v1 = 1#1), ∀ a, (k0_off247 v3725) a + S8x128.size a ≤ S7688x256.size a) ∧
  (∀ (k0_h1 : k0_cond1 arg0 v1 = 1#1), ∀ a, (k0_off248 v3725) a + S8x128.size a ≤ S7688x256.size a)
theorem k0_mult124_dvd : ∀ (arg0 : BitVec 32) (v1 : BitVec 32) (v3725 : BitVec 32) (k0_hw124 : k0_chk124 arg0 v1 v3725), ∀ (k0_h1 : k0_cond1 arg0 v1 = 1#1), 8 ∣ (k0_mult124 v3725).toNat := fun arg0 v1 v3725 k0_hw124 k0_h1 => k0_hw124.1 k0_h1
theorem k0_off247_inb : ∀ (arg0 : BitVec 32) (v1 : BitVec 32) (v3725 : BitVec 32) (k0_hw124 : k0_chk124 arg0 v1 v3725), ∀ (k0_h1 : k0_cond1 arg0 v1 = 1#1), ∀ a, (k0_off247 v3725) a + S8x128.size a ≤ S7688x256.size a := fun arg0 v1 v3725 k0_hw124 k0_h1 => k0_hw124.2.1 k0_h1
theorem k0_off248_inb : ∀ (arg0 : BitVec 32) (v1 : BitVec 32) (v3725 : BitVec 32) (k0_hw124 : k0_chk124 arg0 v1 v3725), ∀ (k0_h1 : k0_cond1 arg0 v1 = 1#1), ∀ a, (k0_off248 v3725) a + S8x128.size a ≤ S7688x256.size a := fun arg0 v1 v3725 k0_hw124 k0_h1 => k0_hw124.2.2 k0_h1

def k0_mult125 (v3755 : BitVec 32) : BitVec 32 :=
  let c1_i32_888 : BitVec 32 := 1#32
  let v3775 : BitVec 32 := Scalar.shrsi v3755 c1_i32_888
  v3775

def k0_off249 (v3755 : BitVec 32) : Fin 2 → Nat :=
  let c1_i32_888 : BitVec 32 := 1#32
  let v3775 : BitVec 32 := Scalar.shrsi v3755 c1_i32_888
  let v3776 : BitVec 32 := v3775
  let v3777 : Index := Scalar.indexCast v3776
  let c0_889 : Index := 0#32
  ![v3777.toNat, 0]
def k0_off250 (v3755 : BitVec 32) : Fin 2 → Nat :=
  let c1_i32_888 : BitVec 32 := 1#32
  let v3775 : BitVec 32 := Scalar.shrsi v3755 c1_i32_888
  let v3776 : BitVec 32 := v3775
  let v3781 : Index := Scalar.indexCast v3776
  let c128_890 : Index := 128#32
  ![v3781.toNat, 128]

def k0_chk125 (arg0 : BitVec 32) (v1 : BitVec 32) (v3755 : BitVec 32) : Prop :=
  (∀ (k0_h1 : k0_cond1 arg0 v1 = 1#1), 8 ∣ (k0_mult125 v3755).toNat) ∧
  (∀ (k0_h1 : k0_cond1 arg0 v1 = 1#1), ∀ a, (k0_off249 v3755) a + S8x128.size a ≤ S7688x256.size a) ∧
  (∀ (k0_h1 : k0_cond1 arg0 v1 = 1#1), ∀ a, (k0_off250 v3755) a + S8x128.size a ≤ S7688x256.size a)
theorem k0_mult125_dvd : ∀ (arg0 : BitVec 32) (v1 : BitVec 32) (v3755 : BitVec 32) (k0_hw125 : k0_chk125 arg0 v1 v3755), ∀ (k0_h1 : k0_cond1 arg0 v1 = 1#1), 8 ∣ (k0_mult125 v3755).toNat := fun arg0 v1 v3755 k0_hw125 k0_h1 => k0_hw125.1 k0_h1
theorem k0_off249_inb : ∀ (arg0 : BitVec 32) (v1 : BitVec 32) (v3755 : BitVec 32) (k0_hw125 : k0_chk125 arg0 v1 v3755), ∀ (k0_h1 : k0_cond1 arg0 v1 = 1#1), ∀ a, (k0_off249 v3755) a + S8x128.size a ≤ S7688x256.size a := fun arg0 v1 v3755 k0_hw125 k0_h1 => k0_hw125.2.1 k0_h1
theorem k0_off250_inb : ∀ (arg0 : BitVec 32) (v1 : BitVec 32) (v3755 : BitVec 32) (k0_hw125 : k0_chk125 arg0 v1 v3755), ∀ (k0_h1 : k0_cond1 arg0 v1 = 1#1), ∀ a, (k0_off250 v3755) a + S8x128.size a ≤ S7688x256.size a := fun arg0 v1 v3755 k0_hw125 k0_h1 => k0_hw125.2.2 k0_h1

def k0_mult126 (v3785 : BitVec 32) : BitVec 32 :=
  let c1_i32_895 : BitVec 32 := 1#32
  let v3805 : BitVec 32 := Scalar.shrsi v3785 c1_i32_895
  v3805

def k0_off251 (v3785 : BitVec 32) : Fin 2 → Nat :=
  let c1_i32_895 : BitVec 32 := 1#32
  let v3805 : BitVec 32 := Scalar.shrsi v3785 c1_i32_895
  let v3806 : BitVec 32 := v3805
  let v3807 : Index := Scalar.indexCast v3806
  let c0_896 : Index := 0#32
  ![v3807.toNat, 0]
def k0_off252 (v3785 : BitVec 32) : Fin 2 → Nat :=
  let c1_i32_895 : BitVec 32 := 1#32
  let v3805 : BitVec 32 := Scalar.shrsi v3785 c1_i32_895
  let v3806 : BitVec 32 := v3805
  let v3811 : Index := Scalar.indexCast v3806
  let c128_897 : Index := 128#32
  ![v3811.toNat, 128]

def k0_chk126 (arg0 : BitVec 32) (v1 : BitVec 32) (v3785 : BitVec 32) : Prop :=
  (∀ (k0_h1 : k0_cond1 arg0 v1 = 1#1), 8 ∣ (k0_mult126 v3785).toNat) ∧
  (∀ (k0_h1 : k0_cond1 arg0 v1 = 1#1), ∀ a, (k0_off251 v3785) a + S8x128.size a ≤ S7688x256.size a) ∧
  (∀ (k0_h1 : k0_cond1 arg0 v1 = 1#1), ∀ a, (k0_off252 v3785) a + S8x128.size a ≤ S7688x256.size a)
theorem k0_mult126_dvd : ∀ (arg0 : BitVec 32) (v1 : BitVec 32) (v3785 : BitVec 32) (k0_hw126 : k0_chk126 arg0 v1 v3785), ∀ (k0_h1 : k0_cond1 arg0 v1 = 1#1), 8 ∣ (k0_mult126 v3785).toNat := fun arg0 v1 v3785 k0_hw126 k0_h1 => k0_hw126.1 k0_h1
theorem k0_off251_inb : ∀ (arg0 : BitVec 32) (v1 : BitVec 32) (v3785 : BitVec 32) (k0_hw126 : k0_chk126 arg0 v1 v3785), ∀ (k0_h1 : k0_cond1 arg0 v1 = 1#1), ∀ a, (k0_off251 v3785) a + S8x128.size a ≤ S7688x256.size a := fun arg0 v1 v3785 k0_hw126 k0_h1 => k0_hw126.2.1 k0_h1
theorem k0_off252_inb : ∀ (arg0 : BitVec 32) (v1 : BitVec 32) (v3785 : BitVec 32) (k0_hw126 : k0_chk126 arg0 v1 v3785), ∀ (k0_h1 : k0_cond1 arg0 v1 = 1#1), ∀ a, (k0_off252 v3785) a + S8x128.size a ≤ S7688x256.size a := fun arg0 v1 v3785 k0_hw126 k0_h1 => k0_hw126.2.2 k0_h1

def k0_mult127 (v3815 : BitVec 32) : BitVec 32 :=
  let c1_i32_902 : BitVec 32 := 1#32
  let v3835 : BitVec 32 := Scalar.shrsi v3815 c1_i32_902
  v3835

def k0_off253 (v3815 : BitVec 32) : Fin 2 → Nat :=
  let c1_i32_902 : BitVec 32 := 1#32
  let v3835 : BitVec 32 := Scalar.shrsi v3815 c1_i32_902
  let v3836 : BitVec 32 := v3835
  let v3837 : Index := Scalar.indexCast v3836
  let c0_903 : Index := 0#32
  ![v3837.toNat, 0]
def k0_off254 (v3815 : BitVec 32) : Fin 2 → Nat :=
  let c1_i32_902 : BitVec 32 := 1#32
  let v3835 : BitVec 32 := Scalar.shrsi v3815 c1_i32_902
  let v3836 : BitVec 32 := v3835
  let v3841 : Index := Scalar.indexCast v3836
  let c128_904 : Index := 128#32
  ![v3841.toNat, 128]

def k0_chk127 (arg0 : BitVec 32) (v1 : BitVec 32) (v3815 : BitVec 32) : Prop :=
  (∀ (k0_h1 : k0_cond1 arg0 v1 = 1#1), 8 ∣ (k0_mult127 v3815).toNat) ∧
  (∀ (k0_h1 : k0_cond1 arg0 v1 = 1#1), ∀ a, (k0_off253 v3815) a + S8x128.size a ≤ S7688x256.size a) ∧
  (∀ (k0_h1 : k0_cond1 arg0 v1 = 1#1), ∀ a, (k0_off254 v3815) a + S8x128.size a ≤ S7688x256.size a)
theorem k0_mult127_dvd : ∀ (arg0 : BitVec 32) (v1 : BitVec 32) (v3815 : BitVec 32) (k0_hw127 : k0_chk127 arg0 v1 v3815), ∀ (k0_h1 : k0_cond1 arg0 v1 = 1#1), 8 ∣ (k0_mult127 v3815).toNat := fun arg0 v1 v3815 k0_hw127 k0_h1 => k0_hw127.1 k0_h1
theorem k0_off253_inb : ∀ (arg0 : BitVec 32) (v1 : BitVec 32) (v3815 : BitVec 32) (k0_hw127 : k0_chk127 arg0 v1 v3815), ∀ (k0_h1 : k0_cond1 arg0 v1 = 1#1), ∀ a, (k0_off253 v3815) a + S8x128.size a ≤ S7688x256.size a := fun arg0 v1 v3815 k0_hw127 k0_h1 => k0_hw127.2.1 k0_h1
theorem k0_off254_inb : ∀ (arg0 : BitVec 32) (v1 : BitVec 32) (v3815 : BitVec 32) (k0_hw127 : k0_chk127 arg0 v1 v3815), ∀ (k0_h1 : k0_cond1 arg0 v1 = 1#1), ∀ a, (k0_off254 v3815) a + S8x128.size a ≤ S7688x256.size a := fun arg0 v1 v3815 k0_hw127 k0_h1 => k0_hw127.2.2 k0_h1

def k0_mult128 (v3845 : BitVec 32) : BitVec 32 :=
  let c1_i32_909 : BitVec 32 := 1#32
  let v3865 : BitVec 32 := Scalar.shrsi v3845 c1_i32_909
  v3865

def k0_off255 (v3845 : BitVec 32) : Fin 2 → Nat :=
  let c1_i32_909 : BitVec 32 := 1#32
  let v3865 : BitVec 32 := Scalar.shrsi v3845 c1_i32_909
  let v3866 : BitVec 32 := v3865
  let v3867 : Index := Scalar.indexCast v3866
  let c0_910 : Index := 0#32
  ![v3867.toNat, 0]
def k0_off256 (v3845 : BitVec 32) : Fin 2 → Nat :=
  let c1_i32_909 : BitVec 32 := 1#32
  let v3865 : BitVec 32 := Scalar.shrsi v3845 c1_i32_909
  let v3866 : BitVec 32 := v3865
  let v3871 : Index := Scalar.indexCast v3866
  let c128_911 : Index := 128#32
  ![v3871.toNat, 128]

def k0_chk128 (arg0 : BitVec 32) (v1 : BitVec 32) (v3845 : BitVec 32) : Prop :=
  (∀ (k0_h1 : k0_cond1 arg0 v1 = 1#1), 8 ∣ (k0_mult128 v3845).toNat) ∧
  (∀ (k0_h1 : k0_cond1 arg0 v1 = 1#1), ∀ a, (k0_off255 v3845) a + S8x128.size a ≤ S7688x256.size a) ∧
  (∀ (k0_h1 : k0_cond1 arg0 v1 = 1#1), ∀ a, (k0_off256 v3845) a + S8x128.size a ≤ S7688x256.size a)
theorem k0_mult128_dvd : ∀ (arg0 : BitVec 32) (v1 : BitVec 32) (v3845 : BitVec 32) (k0_hw128 : k0_chk128 arg0 v1 v3845), ∀ (k0_h1 : k0_cond1 arg0 v1 = 1#1), 8 ∣ (k0_mult128 v3845).toNat := fun arg0 v1 v3845 k0_hw128 k0_h1 => k0_hw128.1 k0_h1
theorem k0_off255_inb : ∀ (arg0 : BitVec 32) (v1 : BitVec 32) (v3845 : BitVec 32) (k0_hw128 : k0_chk128 arg0 v1 v3845), ∀ (k0_h1 : k0_cond1 arg0 v1 = 1#1), ∀ a, (k0_off255 v3845) a + S8x128.size a ≤ S7688x256.size a := fun arg0 v1 v3845 k0_hw128 k0_h1 => k0_hw128.2.1 k0_h1
theorem k0_off256_inb : ∀ (arg0 : BitVec 32) (v1 : BitVec 32) (v3845 : BitVec 32) (k0_hw128 : k0_chk128 arg0 v1 v3845), ∀ (k0_h1 : k0_cond1 arg0 v1 = 1#1), ∀ a, (k0_off256 v3845) a + S8x128.size a ≤ S7688x256.size a := fun arg0 v1 v3845 k0_hw128 k0_h1 => k0_hw128.2.2 k0_h1

@[reducible] def k0_t1_loop : Scf.Loop 32 :=
  let c0_i32_10 : BitVec 32 := 0#32
  let c128_i32_11 : BitVec 32 := 128#32
  let v34 : BitVec 32 := Scalar.addi c0_i32_10 c128_i32_11
  let c1_i32_12 : BitVec 32 := 1#32
  ⟨c0_i32_10, v34, c1_i32_12⟩
def k0_off257 (k0_t1 : Fin k0_t1_loop.trips) : Fin 1 → Nat :=
  let c0_i32_10 : BitVec 32 := 0#32
  let c1_i32_12 : BitVec 32 := 1#32
  let arg13 : BitVec 32 := Scf.iv c0_i32_10 c1_i32_12 k0_t1
  let v35 : Index := Scalar.indexCast arg13
  ![v35.toNat]
def k0_mult129 (k0_t1 : Fin k0_t1_loop.trips) : BitVec 32 :=
  let c8_i32 : BitVec 32 := 8#32
  let c0_i32_10 : BitVec 32 := 0#32
  let c1_i32_12 : BitVec 32 := 1#32
  let arg13 : BitVec 32 := Scf.iv c0_i32_10 c1_i32_12 k0_t1
  let v37 : BitVec 32 := Scalar.muli c8_i32 arg13
  v37
def k0_off258 (k0_t1 : Fin k0_t1_loop.trips) : Fin 2 → Nat :=
  let c8_i32 : BitVec 32 := 8#32
  let c0_i32_10 : BitVec 32 := 0#32
  let c1_i32_12 : BitVec 32 := 1#32
  let arg13 : BitVec 32 := Scf.iv c0_i32_10 c1_i32_12 k0_t1
  let v37 : BitVec 32 := Scalar.muli c8_i32 arg13
  let v38 : BitVec 32 := v37
  let v39 : Index := Scalar.indexCast v38
  let c0_14 : Index := 0#32
  ![v39.toNat, 0]
def k0_mult130 (v36 : BitVec 32) : BitVec 32 :=
  let c1_i32_18 : BitVec 32 := 1#32
  let v61 : BitVec 32 := Scalar.shrsi v36 c1_i32_18
  v61
def k0_cond2 (arg0 : BitVec 32) (v0 : BitVec 32) (v1 : BitVec 32) : BitVec 1 :=
  let c1_i32_0 : BitVec 32 := 1#32
  let v8 : BitVec 32 := Scalar.addi arg0 c1_i32_0
  let c128_i32_1 : BitVec 32 := 128#32
  let v9 : BitVec 32 := Scalar.muli v8 c128_i32_1
  let v10 : BitVec 1 := Scalar.cmpi .sgt v9 v1
  let v11 : BitVec 1 := Scalar.cmpi .slt arg0 v0
  let v12 : BitVec 1 := Scalar.andi v10 v11
  let v13 : BitVec 32 := Scalar.extui v12
  let c0_i32_2 : BitVec 32 := 0#32
  let v14 : BitVec 1 := Scalar.cmpi .ne v13 c0_i32_2
  v14

def k0_cond3 (arg0 : BitVec 32) (v1 : BitVec 32) (k0_t1 : Fin k0_t1_loop.trips) : BitVec 1 :=
  let c128_i32_15 : BitVec 32 := 128#32
  let v51 : BitVec 32 := Scalar.muli arg0 c128_i32_15
  let c0_i32_10 : BitVec 32 := 0#32
  let c1_i32_12 : BitVec 32 := 1#32
  let arg13 : BitVec 32 := Scf.iv c0_i32_10 c1_i32_12 k0_t1
  let v52 : BitVec 32 := Scalar.addi v51 arg13
  let v53 : BitVec 1 := Scalar.cmpi .slt v52 v1
  let v54 : BitVec 32 := Scalar.extui v53
  let c0_i32_16 : BitVec 32 := 0#32
  let v55 : BitVec 1 := Scalar.cmpi .ne v54 c0_i32_16
  v55

def k0_off259 (v36 : BitVec 32) : Fin 2 → Nat :=
  let c1_i32_18 : BitVec 32 := 1#32
  let v61 : BitVec 32 := Scalar.shrsi v36 c1_i32_18
  let v62 : BitVec 32 := v61
  let v75 : Index := Scalar.indexCast v62
  let c0_29 : Index := 0#32
  ![v75.toNat, 0]
def k0_off260 (v36 : BitVec 32) : Fin 2 → Nat :=
  let c1_i32_18 : BitVec 32 := 1#32
  let v61 : BitVec 32 := Scalar.shrsi v36 c1_i32_18
  let v62 : BitVec 32 := v61
  let v79 : Index := Scalar.indexCast v62
  let c128 : Index := 128#32
  ![v79.toNat, 128]
def k0_off261 (v36 : BitVec 32) : Fin 2 → Nat :=
  let c1_i32_18 : BitVec 32 := 1#32
  let v61 : BitVec 32 := Scalar.shrsi v36 c1_i32_18
  let v63 : Index := Scalar.indexCast v61
  let c0_19 : Index := 0#32
  ![v63.toNat, 0]
def k0_cond4 (arg0 : BitVec 32) (v1 : BitVec 32) (v2 : BitVec 32) (k0_t1 : Fin k0_t1_loop.trips) : BitVec 1 :=
  let c128_i32_15 : BitVec 32 := 128#32
  let v51 : BitVec 32 := Scalar.muli arg0 c128_i32_15
  let c0_i32_10 : BitVec 32 := 0#32
  let c1_i32_12 : BitVec 32 := 1#32
  let arg13 : BitVec 32 := Scf.iv c0_i32_10 c1_i32_12 k0_t1
  let v52 : BitVec 32 := Scalar.addi v51 arg13
  let v56 : BitVec 1 := Scalar.cmpi .sge v52 v1
  let v57 : BitVec 1 := Scalar.cmpi .slt v52 v2
  let v58 : BitVec 1 := Scalar.andi v56 v57
  let v59 : BitVec 32 := Scalar.extui v58
  let c0_i32_17 : BitVec 32 := 0#32
  let v60 : BitVec 1 := Scalar.cmpi .ne v59 c0_i32_17
  v60

def k0_chk129 (arg0 : BitVec 32) (v0 : BitVec 32) (v1 : BitVec 32) (v2 : BitVec 32) (k0_t1 : Fin k0_t1_loop.trips) (v36 : BitVec 32) : Prop :=
  (∀ (k0_h2 : k0_cond2 arg0 v0 v1 = 1#1), ∀ (k0_h3 : k0_cond3 arg0 v1 k0_t1 = 1#1), 8 ∣ (k0_mult130 v36).toNat) ∧
  (∀ (k0_h2 : k0_cond2 arg0 v0 v1 = 1#1), ∀ (k0_h3 : k0_cond3 arg0 v1 k0_t1 = 1#1), ∀ a, (k0_off259 v36) a + S8x128.size a ≤ S7688x256.size a) ∧
  (∀ (k0_h2 : k0_cond2 arg0 v0 v1 = 1#1), ∀ (k0_h3 : k0_cond3 arg0 v1 k0_t1 = 1#1), ∀ a, (k0_off260 v36) a + S8x128.size a ≤ S7688x256.size a) ∧
  (∀ (k0_h2 : k0_cond2 arg0 v0 v1 = 1#1), ∀ (k0_h4 : k0_cond4 arg0 v1 v2 k0_t1 = 1#1), ∀ a, (k0_off261 v36) a + S1x256.size a ≤ S7688x256.size a)
theorem k0_mult130_dvd : ∀ (arg0 : BitVec 32) (v0 : BitVec 32) (v1 : BitVec 32) (v2 : BitVec 32) (k0_t1 : Fin k0_t1_loop.trips) (v36 : BitVec 32) (k0_hw129 : k0_chk129 arg0 v0 v1 v2 k0_t1 v36), ∀ (k0_h2 : k0_cond2 arg0 v0 v1 = 1#1), ∀ (k0_h3 : k0_cond3 arg0 v1 k0_t1 = 1#1), 8 ∣ (k0_mult130 v36).toNat := fun arg0 v0 v1 v2 k0_t1 v36 k0_hw129 k0_h2 k0_h3 => k0_hw129.1 k0_h2 k0_h3
theorem k0_off259_inb : ∀ (arg0 : BitVec 32) (v0 : BitVec 32) (v1 : BitVec 32) (v2 : BitVec 32) (k0_t1 : Fin k0_t1_loop.trips) (v36 : BitVec 32) (k0_hw129 : k0_chk129 arg0 v0 v1 v2 k0_t1 v36), ∀ (k0_h2 : k0_cond2 arg0 v0 v1 = 1#1), ∀ (k0_h3 : k0_cond3 arg0 v1 k0_t1 = 1#1), ∀ a, (k0_off259 v36) a + S8x128.size a ≤ S7688x256.size a := fun arg0 v0 v1 v2 k0_t1 v36 k0_hw129 k0_h2 k0_h3 => k0_hw129.2.1 k0_h2 k0_h3
theorem k0_off260_inb : ∀ (arg0 : BitVec 32) (v0 : BitVec 32) (v1 : BitVec 32) (v2 : BitVec 32) (k0_t1 : Fin k0_t1_loop.trips) (v36 : BitVec 32) (k0_hw129 : k0_chk129 arg0 v0 v1 v2 k0_t1 v36), ∀ (k0_h2 : k0_cond2 arg0 v0 v1 = 1#1), ∀ (k0_h3 : k0_cond3 arg0 v1 k0_t1 = 1#1), ∀ a, (k0_off260 v36) a + S8x128.size a ≤ S7688x256.size a := fun arg0 v0 v1 v2 k0_t1 v36 k0_hw129 k0_h2 k0_h3 => k0_hw129.2.2.1 k0_h2 k0_h3
theorem k0_off261_inb : ∀ (arg0 : BitVec 32) (v0 : BitVec 32) (v1 : BitVec 32) (v2 : BitVec 32) (k0_t1 : Fin k0_t1_loop.trips) (v36 : BitVec 32) (k0_hw129 : k0_chk129 arg0 v0 v1 v2 k0_t1 v36), ∀ (k0_h2 : k0_cond2 arg0 v0 v1 = 1#1), ∀ (k0_h4 : k0_cond4 arg0 v1 v2 k0_t1 = 1#1), ∀ a, (k0_off261 v36) a + S1x256.size a ≤ S7688x256.size a := fun arg0 v0 v1 v2 k0_t1 v36 k0_hw129 k0_h2 k0_h4 => k0_hw129.2.2.2 k0_h2 k0_h4

def k0_mult131 (arg0 : BitVec 32) (v0 : BitVec 32) : BitVec 32 :=
  let v18 : BitVec 32 := Scalar.subi arg0 v0
  let c4_i32 : BitVec 32 := 4#32
  let v19 : BitVec 32 := Scalar.muli v18 c4_i32
  let c0_i32_4 : BitVec 32 := 0#32
  let v20 : BitVec 32 := Scalar.addi v19 c0_i32_4
  let c128_i32_5 : BitVec 32 := 128#32
  let v21 : BitVec 32 := Scalar.muli v20 c128_i32_5
  v21
def k0_cond5 (arg0 : BitVec 32) (v0 : BitVec 32) : BitVec 1 :=
  let v15 : BitVec 1 := Scalar.cmpi .sge arg0 v0
  let v16 : BitVec 32 := Scalar.extui v15
  let c0_i32_3 : BitVec 32 := 0#32
  let v17 : BitVec 1 := Scalar.cmpi .ne v16 c0_i32_3
  v17

def k0_off262 (arg0 : BitVec 32) (v0 : BitVec 32) (c0_i32_4 : BitVec 32) : Fin 2 → Nat :=
  let v18 : BitVec 32 := Scalar.subi arg0 v0
  let c4_i32 : BitVec 32 := 4#32
  let v19 : BitVec 32 := Scalar.muli v18 c4_i32
  let v20 : BitVec 32 := Scalar.addi v19 c0_i32_4
  let c128_i32_5 : BitVec 32 := 128#32
  let v21 : BitVec 32 := Scalar.muli v20 c128_i32_5
  let v22 : BitVec 32 := v21
  let v23 : Index := Scalar.indexCast v22
  let c0_6 : Index := 0#32
  ![v23.toNat, 0]
def k0_off263 (arg0 : BitVec 32) (v0 : BitVec 32) (c0_i32_4 : BitVec 32) : Fin 2 → Nat :=
  let v18 : BitVec 32 := Scalar.subi arg0 v0
  let c4_i32 : BitVec 32 := 4#32
  let v19 : BitVec 32 := Scalar.muli v18 c4_i32
  let v20 : BitVec 32 := Scalar.addi v19 c0_i32_4
  let c128_i32_5 : BitVec 32 := 128#32
  let v21 : BitVec 32 := Scalar.muli v20 c128_i32_5
  let v22 : BitVec 32 := v21
  let v26 : Index := Scalar.indexCast v22
  let c128 : Index := 128#32
  ![v26.toNat, 128]
def k0_off264 (arg0 : BitVec 32) (v0 : BitVec 32) (c0_i32_4 : BitVec 32) : Fin 2 → Nat :=
  let v18 : BitVec 32 := Scalar.subi arg0 v0
  let c4_i32 : BitVec 32 := 4#32
  let v19 : BitVec 32 := Scalar.muli v18 c4_i32
  let v20 : BitVec 32 := Scalar.addi v19 c0_i32_4
  let v37 : Index := Scalar.indexCast v20
  let c0_8 : Index := 0#32
  ![v37.toNat, 0]
def k0_mult132 (arg0 : BitVec 32) (v0 : BitVec 32) : BitVec 32 :=
  let v18 : BitVec 32 := Scalar.subi arg0 v0
  let c4_i32_16 : BitVec 32 := 4#32
  let v53 : BitVec 32 := Scalar.muli v18 c4_i32_16
  let c1_i32_17 : BitVec 32 := 1#32
  let v54 : BitVec 32 := Scalar.addi v53 c1_i32_17
  let c128_i32_18 : BitVec 32 := 128#32
  let v55 : BitVec 32 := Scalar.muli v54 c128_i32_18
  v55
def k0_mult133 (arg0 : BitVec 32) (v0 : BitVec 32) : BitVec 32 :=
  let v18 : BitVec 32 := Scalar.subi arg0 v0
  let c4_i32_31 : BitVec 32 := 4#32
  let v87 : BitVec 32 := Scalar.muli v18 c4_i32_31
  let c2_i32 : BitVec 32 := 2#32
  let v88 : BitVec 32 := Scalar.addi v87 c2_i32
  let c128_i32_32 : BitVec 32 := 128#32
  let v89 : BitVec 32 := Scalar.muli v88 c128_i32_32
  v89
def k0_mult134 (arg0 : BitVec 32) (v0 : BitVec 32) : BitVec 32 :=
  let v18 : BitVec 32 := Scalar.subi arg0 v0
  let c4_i32_44 : BitVec 32 := 4#32
  let v121 : BitVec 32 := Scalar.muli v18 c4_i32_44
  let c3_i32 : BitVec 32 := 3#32
  let v122 : BitVec 32 := Scalar.addi v121 c3_i32
  let c128_i32_45 : BitVec 32 := 128#32
  let v123 : BitVec 32 := Scalar.muli v122 c128_i32_45
  v123

def k0_chk130 (arg0 : BitVec 32) (v0 : BitVec 32) : Prop :=
  (∀ (k0_h5 : k0_cond5 arg0 v0 = 1#1), 128 ∣ (k0_mult131 arg0 v0).toNat) ∧
  (∀ (k0_h5 : k0_cond5 arg0 v0 = 1#1), ∀ (r : Fin 4), ∀ a, (k0_off262 arg0 v0 (BitVec.ofNat 32 r.val)) a + S128x128.size a ≤ S7688x256.size a) ∧
  (∀ (k0_h5 : k0_cond5 arg0 v0 = 1#1), ∀ (r : Fin 4), ∀ a, (k0_off263 arg0 v0 (BitVec.ofNat 32 r.val)) a + S128x128.size a ≤ S7688x256.size a) ∧
  (∀ (k0_h5 : k0_cond5 arg0 v0 = 1#1), ∀ (r : Fin 4), ∀ a, (k0_off264 arg0 v0 (BitVec.ofNat 32 r.val)) a + S1x128.size a ≤ S60x128.size a) ∧
  (∀ (k0_h5 : k0_cond5 arg0 v0 = 1#1), 128 ∣ (k0_mult132 arg0 v0).toNat) ∧
  (∀ (k0_h5 : k0_cond5 arg0 v0 = 1#1), 128 ∣ (k0_mult133 arg0 v0).toNat) ∧
  (∀ (k0_h5 : k0_cond5 arg0 v0 = 1#1), 128 ∣ (k0_mult134 arg0 v0).toNat)
theorem k0_mult131_dvd : ∀ (arg0 : BitVec 32) (v0 : BitVec 32) (k0_hw130 : k0_chk130 arg0 v0), ∀ (k0_h5 : k0_cond5 arg0 v0 = 1#1), 128 ∣ (k0_mult131 arg0 v0).toNat := fun arg0 v0 k0_hw130 k0_h5 => k0_hw130.1 k0_h5
theorem k0_off262_inb : ∀ (arg0 : BitVec 32) (v0 : BitVec 32) (k0_hw130 : k0_chk130 arg0 v0), ∀ (k0_h5 : k0_cond5 arg0 v0 = 1#1), ∀ (r : Fin 4), ∀ a, (k0_off262 arg0 v0 (BitVec.ofNat 32 r.val)) a + S128x128.size a ≤ S7688x256.size a := fun arg0 v0 k0_hw130 k0_h5 r => k0_hw130.2.1 k0_h5 r
theorem k0_off263_inb : ∀ (arg0 : BitVec 32) (v0 : BitVec 32) (k0_hw130 : k0_chk130 arg0 v0), ∀ (k0_h5 : k0_cond5 arg0 v0 = 1#1), ∀ (r : Fin 4), ∀ a, (k0_off263 arg0 v0 (BitVec.ofNat 32 r.val)) a + S128x128.size a ≤ S7688x256.size a := fun arg0 v0 k0_hw130 k0_h5 r => k0_hw130.2.2.1 k0_h5 r
theorem k0_off264_inb : ∀ (arg0 : BitVec 32) (v0 : BitVec 32) (k0_hw130 : k0_chk130 arg0 v0), ∀ (k0_h5 : k0_cond5 arg0 v0 = 1#1), ∀ (r : Fin 4), ∀ a, (k0_off264 arg0 v0 (BitVec.ofNat 32 r.val)) a + S1x128.size a ≤ S60x128.size a := fun arg0 v0 k0_hw130 k0_h5 r => k0_hw130.2.2.2.1 k0_h5 r
theorem k0_mult132_dvd : ∀ (arg0 : BitVec 32) (v0 : BitVec 32) (k0_hw130 : k0_chk130 arg0 v0), ∀ (k0_h5 : k0_cond5 arg0 v0 = 1#1), 128 ∣ (k0_mult132 arg0 v0).toNat := fun arg0 v0 k0_hw130 k0_h5 => k0_hw130.2.2.2.2.1 k0_h5
theorem k0_mult133_dvd : ∀ (arg0 : BitVec 32) (v0 : BitVec 32) (k0_hw130 : k0_chk130 arg0 v0), ∀ (k0_h5 : k0_cond5 arg0 v0 = 1#1), 128 ∣ (k0_mult133 arg0 v0).toNat := fun arg0 v0 k0_hw130 k0_h5 => k0_hw130.2.2.2.2.2.1 k0_h5
theorem k0_mult134_dvd : ∀ (arg0 : BitVec 32) (v0 : BitVec 32) (k0_hw130 : k0_chk130 arg0 v0), ∀ (k0_h5 : k0_cond5 arg0 v0 = 1#1), 128 ∣ (k0_mult134 arg0 v0).toNat := fun arg0 v0 k0_hw130 k0_h5 => k0_hw130.2.2.2.2.2.2 k0_h5

def cc0_transform_0 (inb_S3_S1_0 : ∀ a, (![0] : Fin 1 → Nat) a + S1.size a ≤ S3.size a) (numel1_S1 : S1.numel = 1) (pf : pre0.Contents (Elt F)) (b : grid0.Bounds) (i : (grid0.at b).Coords) : Fin 2 → Nat :=
  let arg0 : BitVec 32 := BitVec.ofNat 32 (i 0).val
  let c0 : Index := 0#32
  let v0 : BitVec 32 := pf.at 1 (Rect.unit (s := S3) ![0] S1.size inb_S3_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (inb_S3_S1_0 : ∀ a, (![0] : Fin 1 → Nat) a + S1.size a ≤ S3.size a) (numel1_S1 : S1.numel = 1) (pf : pre0.Contents (Elt F)) (b : grid0.Bounds) (i : (grid0.at b).Coords) : Fin 1 → Nat :=
  let arg0 : BitVec 32 := BitVec.ofNat 32 (i 0).val
  let c0 : Index := 0#32
  let v0 : BitVec 32 := pf.at 1 (Rect.unit (s := S3) ![0] S1.size inb_S3_S1_0) numel1_S1
  let c1_i32 : BitVec 32 := 1#32
  let v1 : BitVec 32 := Scalar.subi v0 c1_i32
  let v2 : BitVec 32 := Scalar.minsi arg0 v1
  let c416_i32 : BitVec 32 := 416#32
  let v3 : BitVec 32 := Scalar.addi c416_i32 v2
  let c0_i32 : BitVec 32 := 0#32
  ![v3.toNat]

def cc0_transform_2 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (inb_S3_S1_0 : ∀ a, (![0] : Fin 1 → Nat) a + S1.size a ≤ S3.size a) (numel1_S1 : S1.numel = 1) (pf : pre0.Contents (Elt F)) (b : grid0.Bounds) (i : (grid0.at b).Coords) : Fin 2 → Nat :=
  let arg0 : BitVec 32 := BitVec.ofNat 32 (i 0).val
  let c0 : Index := 0#32
  let v0 : BitVec 32 := pf.at 1 (Rect.unit (s := S3) ![0] S1.size inb_S3_S1_0) numel1_S1
  let v1 : BitVec 32 := Scalar.subi arg0 v0
  let c0_i32 : BitVec 32 := 0#32
  let v2 : BitVec 32 := Scalar.maxsi v1 c0_i32
  let c15_i32 : BitVec 32 := 15#32
  let v3 : BitVec 32 := Scalar.addi c15_i32 v2
  let c0_i32_0 : BitVec 32 := 0#32
  let c0_i32_1 : BitVec 32 := 0#32
  ![c0_i32_0.toNat, v3.toNat]

def cc0_transform_7 (inb_S3_S1_0 : ∀ a, (![0] : Fin 1 → Nat) a + S1.size a ≤ S3.size a) (numel1_S1 : S1.numel = 1) (pf : pre0.Contents (Elt F)) (b : grid0.Bounds) (i : (grid0.at b).Coords) : Fin 2 → Nat :=
  let arg0 : BitVec 32 := BitVec.ofNat 32 (i 0).val
  let c0 : Index := 0#32
  let v0 : BitVec 32 := pf.at 1 (Rect.unit (s := S3) ![0] S1.size inb_S3_S1_0) numel1_S1
  let v1 : BitVec 32 := Scalar.subi arg0 v0
  let c0_i32 : BitVec 32 := 0#32
  let v2 : BitVec 32 := Scalar.maxsi v1 c0_i32
  let c15_i32 : BitVec 32 := 15#32
  let v3 : BitVec 32 := Scalar.addi c15_i32 v2
  let c0_i32_0 : BitVec 32 := 0#32
  let c0_i32_1 : BitVec 32 := 0#32
  ![c0_i32_0.toNat, v3.toNat]

abbrev stage0_0 : Fin 2 → Memref sig .tc .vmem S1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S60x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S192x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S425984x128 : Shape := ⟨2, ![425984, 128]⟩
abbrev S212992 : Shape := ⟨1, ![212992]⟩
abbrev S6x32x64 : Shape := ⟨3, ![6, 32, 64]⟩
abbrev S60x128 : Shape := ⟨2, ![60, 128]⟩
abbrev S_ : Shape := ⟨0, ![]⟩
abbrev S192x30208 : Shape := ⟨2, ![192, 30208]⟩
abbrev S6x30208 : Shape := ⟨2, ![6, 30208]⟩
abbrev S192x2x32 : Shape := ⟨3, ![192, 2, 32]⟩
abbrev S2x32x192 : Shape := ⟨3, ![2, 32, 192]⟩
abbrev S4x4 : Shape := ⟨2, ![4, 4]⟩
abbrev S2x1x32x1x192 : Shape := ⟨5, ![2, 1, 32, 1, 192]⟩
abbrev S1x4x1x4x1 : Shape := ⟨5, ![1, 4, 1, 4, 1]⟩
abbrev S2x4x32x4x192 : Shape := ⟨5, ![2, 4, 32, 4, 192]⟩
abbrev S2x4x32x4x128 : Shape := ⟨5, ![2, 4, 32, 4, 128]⟩
abbrev S256x512 : Shape := ⟨2, ![256, 512]⟩
abbrev S2x4x32x4x64 : Shape := ⟨5, ![2, 4, 32, 4, 64]⟩
abbrev S256x256 : Shape := ⟨2, ![256, 256]⟩
abbrev S256x768 : Shape := ⟨2, ![256, 768]⟩
abbrev S1 : Shape := ⟨1, ![1]⟩
abbrev S3 : Shape := ⟨1, ![3]⟩
abbrev S1024x128 : Shape := ⟨2, ![1024, 128]⟩
abbrev S128 : Shape := ⟨1, ![128]⟩
abbrev S192x512 : Shape := ⟨2, ![192, 512]⟩
abbrev S6x512 : Shape := ⟨2, ![6, 512]⟩
abbrev S7688x256 : Shape := ⟨2, ![7688, 256]⟩
abbrev S2x8x128 : Shape := ⟨3, ![2, 8, 128]⟩
abbrev S1024x768 : Shape := ⟨2, ![1024, 768]⟩
abbrev S1024x256 : Shape := ⟨2, ![1024, 256]⟩
abbrev S1x8x128 : Shape := ⟨3, ![1, 8, 128]⟩
abbrev S8x128 : Shape := ⟨2, ![8, 128]⟩
abbrev S8x768 : Shape := ⟨2, ![8, 768]⟩
abbrev S8x256 : Shape := ⟨2, ![8, 256]⟩
abbrev S1x256 : Shape := ⟨2, ![1, 256]⟩
abbrev S256 : Shape := ⟨1, ![256]⟩
abbrev S128x128 : Shape := ⟨2, ![128, 128]⟩
abbrev S64x128 : Shape := ⟨2, ![64, 128]⟩
abbrev S192x128 : Shape := ⟨2, ![192, 128]⟩
abbrev S1x128 : Shape := ⟨2, ![1, 128]⟩
abbrev S192x128x1 : Shape := ⟨3, ![192, 128, 1]⟩
abbrev S6x32x128 : Shape := ⟨3, ![6, 32, 128]⟩
abbrev S6x128 : Shape := ⟨2, ![6, 128]⟩

abbrev nBuf : Space → Nat
  | .hbm => 50
  | .vmem => 11
  | .smem => 4
  | _ => 0

abbrev bufTy : (tb : Table) → Fin (tcTables nBuf tb) → BufTy
  | .hbm, ⟨0, _⟩ => ⟨S425984x128, .i32⟩
  | .hbm, ⟨1, _⟩ => ⟨S212992, .i32⟩
  | .hbm, ⟨2, _⟩ => ⟨S6x32x64, .bf16⟩
  | .hbm, ⟨3, _⟩ => ⟨S60x128, .i32⟩
  | .hbm, ⟨4, _⟩ => ⟨S_, .i32⟩
  | .hbm, ⟨5, _⟩ => ⟨S_, .i32⟩
  | .hbm, ⟨6, _⟩ => ⟨S192x30208, .f32⟩
  | .hbm, ⟨7, _⟩ => ⟨S6x30208, .f32⟩
  | .hbm, ⟨8, _⟩ => ⟨S192x2x32, .bf16⟩
  | .hbm, ⟨9, _⟩ => ⟨S2x32x192, .bf16⟩
  | .hbm, ⟨10, _⟩ => ⟨S4x4, .i32⟩
  | .hbm, ⟨11, _⟩ => ⟨S4x4, .i32⟩
  | .hbm, ⟨12, _⟩ => ⟨S_, .i32⟩
  | .hbm, ⟨13, _⟩ => ⟨S4x4, .i32⟩
  | .hbm, ⟨14, _⟩ => ⟨S4x4, .i32⟩
  | .hbm, ⟨15, _⟩ => ⟨S4x4, .i1⟩
  | .hbm, ⟨16, _⟩ => ⟨S4x4, .bf16⟩
  | .hbm, ⟨17, _⟩ => ⟨S2x1x32x1x192, .bf16⟩
  | .hbm, ⟨18, _⟩ => ⟨S1x4x1x4x1, .bf16⟩
  | .hbm, ⟨19, _⟩ => ⟨S2x4x32x4x192, .bf16⟩
  | .hbm, ⟨20, _⟩ => ⟨S2x4x32x4x192, .bf16⟩
  | .hbm, ⟨21, _⟩ => ⟨S2x4x32x4x192, .bf16⟩
  | .hbm, ⟨22, _⟩ => ⟨S2x4x32x4x128, .bf16⟩
  | .hbm, ⟨23, _⟩ => ⟨S256x512, .bf16⟩
  | .hbm, ⟨24, _⟩ => ⟨S2x4x32x4x64, .bf16⟩
  | .hbm, ⟨25, _⟩ => ⟨S256x256, .bf16⟩
  | .hbm, ⟨26, _⟩ => ⟨S256x768, .bf16⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1, .i32⟩
  | .hbm, ⟨45, _⟩ => ⟨S1, .i32⟩
  | .hbm, ⟨46, _⟩ => ⟨S1, .i32⟩
  | .hbm, ⟨47, _⟩ => ⟨S_, .i32⟩
  | .hbm, ⟨48, _⟩ => ⟨S192x30208, .f32⟩
  | .hbm, ⟨49, _⟩ => ⟨S6x30208, .f32⟩
  | .local _ .vmem, ⟨0, _⟩ => ⟨S1024x128, .i32⟩
  | .local _ .vmem, ⟨1, _⟩ => ⟨S1024x128, .i32⟩
  | .local _ .vmem, ⟨2, _⟩ => ⟨S256x768, .bf16⟩
  | .local _ .vmem, ⟨3, _⟩ => ⟨S60x128, .i32⟩
  | .local _ .vmem, ⟨4, _⟩ => ⟨S192x512, .f32⟩
  | .local _ .vmem, ⟨5, _⟩ => ⟨S192x512, .f32⟩
  | .local _ .vmem, ⟨6, _⟩ => ⟨S6x512, .f32⟩
  | .local _ .vmem, ⟨7, _⟩ => ⟨S6x512, .f32⟩
  | .local _ .vmem, ⟨8, _⟩ => ⟨S7688x256, .f32⟩
  | .local _ .vmem, ⟨9, _⟩ => ⟨S2x8x128, .f32⟩
  | .local _ .vmem, ⟨10, _⟩ => ⟨S1024x768, .f32⟩
  | .local _ .smem, ⟨0, _⟩ => ⟨S_, .i32⟩
  | .local _ .smem, ⟨1, _⟩ => ⟨S3, .i32⟩
  | .local _ .smem, ⟨2, _⟩ => ⟨S128, .i32⟩
  | .local _ .smem, ⟨3, _⟩ => ⟨S128, .i32⟩
  | _, _ => ⟨S425984x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_0 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_c_2 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c : Ref sig .tc := ⟨.hbm, 38, rfl⟩
abbrev main_call0_v6 : Ref sig .tc := ⟨.hbm, 39, rfl⟩
abbrev main_call0_v7 : Ref sig .tc := ⟨.hbm, 40, rfl⟩
abbrev main_call0_c_0 : Ref sig .tc := ⟨.hbm, 41, rfl⟩
abbrev main_call0_v8 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_3 : Ref sig .tc := ⟨.hbm, 47, rfl⟩
abbrev main_v26_0 : Ref sig .tc := ⟨.hbm, 48, rfl⟩
abbrev main_v26_1 : Ref sig .tc := ⟨.hbm, 49, rfl⟩
abbrev main_v25 : Ref sig .tc := ⟨.smem, 0, rfl⟩
abbrev main_v24 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![0], ![true]⟩

abbrev pre0 : Pipeline.Prefetch sig := ⟨2, ![main_v25.idx, main_v24.idx], fun | 0 => main_v25.names | 1 => main_v24.names | ⟨_ + 2, h⟩ => absurd h (Nat.not_lt.2 (Nat.le_add_left _ _)), fun | 0 => rfl | 1 => rfl | ⟨_ + 2, h⟩ => absurd h (Nat.not_lt.2 (Nat.le_add_left _ _))⟩

def dynb0 (pf : pre0.Contents (Elt F)) : grid0.Bounds := ![(pf 0 fun a => a.elim0).toNat]

def k0_mult1 (v35 : BitVec 32) : BitVec 32 :=
  let c1_i32_19 : BitVec 32 := 1#32
  let v55 : BitVec 32 := Scalar.shrsi v35 c1_i32_19
  v55
def k0_cond1 (arg0 : BitVec 32) (v1 : BitVec 32) : BitVec 1 :=
  let c1_i32 : BitVec 32 := 1#32
  let v3 : BitVec 32 := Scalar.addi arg0 c1_i32
  let c128_i32 : BitVec 32 := 128#32
  let v4 : BitVec 32 := Scalar.muli v3 c128_i32
  let v5 : BitVec 1 := Scalar.cmpi .sle v4 v1
  let v6 : BitVec 32 := Scalar.extui v5
  let c0_i32 : BitVec 32 := 0#32
  let v7 : BitVec 1 := Scalar.cmpi .ne v6 c0_i32
  v7

def k0_off1 (v35 : BitVec 32) : Fin 2 → Nat :=
  let c1_i32_19 : BitVec 32 := 1#32
  let v55 : BitVec 32 := Scalar.shrsi v35 c1_i32_19
  let v56 : BitVec 32 := v55
  let v57 : Index := Scalar.indexCast v56
  let c0_20 : Index := 0#32
  ![v57.toNat, 0]
def k0_off2 (v35 : BitVec 32) : Fin 2 → Nat :=
  let c1_i32_19 : BitVec 32 := 1#32
  let v55 : BitVec 32 := Scalar.shrsi v35 c1_i32_19
  let v56 : BitVec 32 := v55
  let v61 : Index := Scalar.indexCast v56
  let c128 : Index := 128#32
  ![v61.toNat, 128]

def k0_chk1 (arg0 : BitVec 32) (v1 : BitVec 32) (v35 : BitVec 32) : Prop :=
  (∀ (k0_h1 : k0_cond1 arg0 v1 = 1#1), 8 ∣ (k0_mult1 v35).toNat) ∧
  (∀ (k0_h1 : k0_cond1 arg0 v1 = 1#1), ∀ a, (k0_off1 v35) a + S8x128.size a ≤ S7688x256.size a) ∧
  (∀ (k0_h1 : k0_cond1 arg0 v1 = 1#1), ∀ a, (k0_off2 v35) a + S8x128.size a ≤ S7688x256.size a)
theorem k0_mult1_dvd : ∀ (arg0 : BitVec 32) (v1 : BitVec 32) (v35 : BitVec 32) (k0_hw1 : k0_chk1 arg0 v1 v35), ∀ (k0_h1 : k0_cond1 arg0 v1 = 1#1), 8 ∣ (k0_mult1 v35).toNat := fun arg0 v1 v35 k0_hw1 k0_h1 => k0_hw1.1 k0_h1
theorem k0_off1_inb : ∀ (arg0 : BitVec 32) (v1 : BitVec 32) (v35 : BitVec 32) (k0_hw1 : k0_chk1 arg0 v1 v35), ∀ (k0_h1 : k0_cond1 arg0 v1 = 1#1), ∀ a, (k0_off1 v35) a + S8x128.size a ≤ S7688x256.size a := fun arg0 v1 v35 k0_hw1 k0_h1 => k0_hw1.2.1 k0_h1
theorem k0_off2_inb : ∀ (arg0 : BitVec 32) (v1 : BitVec 32) (v35 : BitVec 32) (k0_hw1 : k0_chk1 arg0 v1 v35), ∀ (k0_h1 : k0_cond1 arg0 v1 = 1#1), ∀ a, (k0_off2 v35) a + S8x128.size a ≤ S7688x256.size a := fun arg0 v1 v35 k0_hw1 k0_h1 => k0_hw1.2.2 k0_h1

def k0_mult2 (v65 : BitVec 32) : BitVec 32 :=
  let c1_i32_26 : BitVec 32 := 1#32
  let v85 : BitVec 32 := Scalar.shrsi v65 c1_i32_26
  v85

def k0_off3 (v65 : BitVec 32) : Fin 2 → Nat :=
  let c1_i32_26 : BitVec 32 := 1#32
  let v85 : BitVec 32 := Scalar.shrsi v65 c1_i32_26
  let v86 : BitVec 32 := v85
  let v87 : Index := Scalar.indexCast v86
  let c0_27 : Index := 0#32
  ![v87.toNat, 0]
def k0_off4 (v65 : BitVec 32) : Fin 2 → Nat :=
  let c1_i32_26 : BitVec 32 := 1#32
  let v85 : BitVec 32 := Scalar.shrsi v65 c1_i32_26
  let v86 : BitVec 32 := v85
  let v91 : Index := Scalar.indexCast v86
  let c128_28 : Index := 128#32
  ![v91.toNat, 128]

def k0_chk2 (arg0 : BitVec 32) (v1 : BitVec 32) (v65 : BitVec 32) : Prop :=
  (∀ (k0_h1 : k0_cond1 arg0 v1 = 1#1), 8 ∣ (k0_mult2 v65).toNat) ∧
  (∀ (k0_h1 : k0_cond1 arg0 v1 = 1#1), ∀ a, (k0_off3 v65) a + S8x128.size a ≤ S7688x256.size a) ∧
  (∀ (k0_h1 : k0_cond1 arg0 v1 = 1#1), ∀ a, (k0_off4 v65) a + S8x128.size a ≤ S7688x256.size a)
theorem k0_mult2_dvd : ∀ (arg0 : BitVec 32) (v1 : BitVec 32) (v65 : BitVec 32) (k0_hw2 : k0_chk2 arg0 v1 v65), ∀ (k0_h1 : k0_cond1 arg0 v1 = 1#1), 8 ∣ (k0_mult2 v65).toNat := fun arg0 v1 v65 k0_hw2 k0_h1 => k0_hw2.1 k0_h1
theorem k0_off3_inb : ∀ (arg0 : BitVec 32) (v1 : BitVec 32) (v65 : BitVec 32) (k0_hw2 : k0_chk2 arg0 v1 v65), ∀ (k0_h1 : k0_cond1 arg0 v1 = 1#1), ∀ a, (k0_off3 v65) a + S8x128.size a ≤ S7688x256.size a := fun arg0 v1 v65 k0_hw2 k0_h1 => k0_hw2.2.1 k0_h1
theorem k0_off4_inb : ∀ (arg0 : BitVec 32) (v1 : BitVec 32) (v65 : BitVec 32) (k0_hw2 : k0_chk2 arg0 v1 v65), ∀ (k0_h1 : k0_cond1 arg0 v1 = 1#1), ∀ a, (k0_off4 v65) a + S8x128.size a ≤ S7688x256.size a := fun arg0 v1 v65 k0_hw2 k0_h1 => k0_hw2.2.2 k0_h1

def k0_mult3 (v95 : BitVec 32) : BitVec 32 :=
  let c1_i32_34 : BitVec 32 := 1#32
  let v115 : BitVec 32 := Scalar.shrsi v95 c1_i32_34
  v115

def k0_off5 (v95 : BitVec 32) : Fin 2 → Nat :=
  let c1_i32_34 : BitVec 32 := 1#32
  let v115 : BitVec 32 := Scalar.shrsi v95 c1_i32_34
  let v116 : BitVec 32 := v115
  let v117 : Index := Scalar.indexCast v116
  let c0_35 : Index := 0#32
  ![v117.toNat, 0]
def k0_off6 (v95 : BitVec 32) : Fin 2 → Nat :=
  let c1_i32_34 : BitVec 32 := 1#32
  let v115 : BitVec 32 := Scalar.shrsi v95 c1_i32_34
  let v116 : BitVec 32 := v115
  let v121 : Index := Scalar.indexCast v116
  let c128_36 : Index := 128#32
  ![v121.toNat, 128]

def k0_chk3 (arg0 : BitVec 32) (v1 : BitVec 32) (v95 : BitVec 32) : Prop :=
  (∀ (k0_h1 : k0_cond1 arg0 v1 = 1#1), 8 ∣ (k0_mult3 v95).toNat) ∧
  (∀ (k0_h1 : k0_cond1 arg0 v1 = 1#1), ∀ a, (k0_off5 v95) a + S8x128.size a ≤ S7688x256.size a) ∧
  (∀ (k0_h1 : k0_cond1 arg0 v1 = 1#1), ∀ a, (k0_off6 v95) a + S8x128.size a ≤ S7688x256.size a)
theorem k0_mult3_dvd : ∀ (arg0 : BitVec 32) (v1 : BitVec 32) (v95 : BitVec 32) (k0_hw3 : k0_chk3 arg0 v1 v95), ∀ (k0_h1 : k0_cond1 arg0 v1 = 1#1), 8 ∣ (k0_mult3 v95).toNat := fun arg0 v1 v95 k0_hw3 k0_h1 => k0_hw3.1 k0_h1
theorem k0_off5_inb : ∀ (arg0 : BitVec 32) (v1 : BitVec 32) (v95 : BitVec 32) (k0_hw3 : k0_chk3 arg0 v1 v95), ∀ (k0_h1 : k0_cond1 arg0 v1 = 1#1), ∀ a, (k0_off5 v95) a + S8x128.size a ≤ S7688x256.size a := fun arg0 v1 v95 k0_hw3 k0_h1 => k0_hw3.2.1 k0_h1
theorem k0_off6_inb : ∀ (arg0 : BitVec 32) (v1 : BitVec 32) (v95 : BitVec 32) (k0_hw3 : k0_chk3 arg0 v1 v95), ∀ (k0_h1 : k0_cond1 arg0 v1 = 1#1), ∀ a, (k0_off6 v95) a + S8x128.size a ≤ S7688x256.size a := fun arg0 v1 v95 k0_hw3 k0_h1 => k0_hw3.2.2 k0_h1

def k0_mult4 (v125 : BitVec 32) : BitVec 32 :=
  let c1_i32_41 : BitVec 32 := 1#32
  let v145 : BitVec 32 := Scalar.shrsi v125 c1_i32_41
  v145

def k0_off7 (v125 : BitVec 32) : Fin 2 → Nat :=
  let c1_i32_41 : BitVec 32 := 1#32
  let v145 : BitVec 32 := Scalar.shrsi v125 c1_i32_41
  let v146 : BitVec 32 := v145
  let v147 : Index := Scalar.indexCast v146
  let c0_42 : Index := 0#32
  ![v147.toNat, 0]
def k0_off8 (v125 : BitVec 32) : Fin 2 → Nat :=
  let c1_i32_41 : BitVec 32 := 1#32
  let v145 : BitVec 32 := Scalar.shrsi v125 c1_i32_41
  let v146 : BitVec 32 := v145
  let v151 : Index := Scalar.indexCast v146
  let c128_43 : Index := 128#32
  ![v151.toNat, 128]

def k0_chk4 (arg0 : BitVec 32) (v1 : BitVec 32) (v125 : BitVec 32) : Prop :=
  (∀ (k0_h1 : k0_cond1 arg0 v1 = 1#1), 8 ∣ (k0_mult4 v125).toNat) ∧
  (∀ (k0_h1 : k0_cond1 arg0 v1 = 1#1), ∀ a, (k0_off7 v125) a + S8x128.size a ≤ S7688x256.size a) ∧
  (∀ (k0_h1 : k0_cond1 arg0 v1 = 1#1), ∀ a, (k0_off8 v125) a + S8x128.size a ≤ S7688x256.size a)
theorem k0_mult4_dvd : ∀ (arg0 : BitVec 32) (v1 : BitVec 32) (v125 : BitVec 32) (k0_hw4 : k0_chk4 arg0 v1 v125), ∀ (k0_h1 : k0_cond1 arg0 v1 = 1#1), 8 ∣ (k0_mult4 v125).toNat := fun arg0 v1 v125 k0_hw4 k0_h1 => k0_hw4.1 k0_h1
theorem k0_off7_inb : ∀ (arg0 : BitVec 32) (v1 : BitVec 32) (v125 : BitVec 32) (k0_hw4 : k0_chk4 arg0 v1 v125), ∀ (k0_h1 : k0_cond1 arg0 v1 = 1#1), ∀ a, (k0_off7 v125) a + S8x128.size a ≤ S7688x256.size a := fun arg0 v1 v125 k0_hw4 k0_h1 => k0_hw4.2.1 k0_h1
theorem k0_off8_inb : ∀ (arg0 : BitVec 32) (v1 : BitVec 32) (v125 : BitVec 32) (k0_hw4 : k0_chk4 arg0 v1 v125), ∀ (k0_h1 : k0_cond1 arg0 v1 = 1#1), ∀ a, (k0_off8 v125) a + S8x128.size a ≤ S7688x256.size a := fun arg0 v1 v125 k0_hw4 k0_h1 => k0_hw4.2.2 k0_h1

def k0_mult5 (v155 : BitVec 32) : BitVec 32 :=
  let c1_i32_48 : BitVec 32 := 1#32
  let v175 : BitVec 32 := Scalar.shrsi v155 c1_i32_48
  v175

def k0_off9 (v155 : BitVec 32) : Fin 2 → Nat :=
  let c1_i32_48 : BitVec 32 := 1#32
  let v175 : BitVec 32 := Scalar.shrsi v155 c1_i32_48
  let v176 : BitVec 32 := v175
  let v177 : Index := Scalar.indexCast v176
  let c0_49 : Index := 0#32
  ![v177.toNat, 0]
def k0_off10 (v155 : BitVec 32) : Fin 2 → Nat :=
  let c1_i32_48 : BitVec 32 := 1#32
  let v175 : BitVec 32 := Scalar.shrsi v155 c1_i32_48
  let v176 : BitVec 32 := v175
  let v181 : Index := Scalar.indexCast v176
  let c128_50 : Index := 128#32
  ![v181.toNat, 128]

def k0_chk5 (arg0 : BitVec 32) (v1 : BitVec 32) (v155 : BitVec 32) : Prop :=
  (∀ (k0_h1 : k0_cond1 arg0 v1 = 1#1), 8 ∣ (k0_mult5 v155).toNat) ∧
  (∀ (k0_h1 : k0_cond1 arg0 v1 = 1#1), ∀ a, (k0_off9 v155) a + S8x128.size a ≤ S7688x256.size a) ∧
  (∀ (k0_h1 : k0_cond1 arg0 v1 = 1#1), ∀ a, (k0_off10 v155) a + S8x128.size a ≤ S7688x256.size a)
theorem k0_mult5_dvd : ∀ (arg0 : BitVec 32) (v1 : BitVec 32) (v155 : BitVec 32) (k0_hw5 : k0_chk5 arg0 v1 v155), ∀ (k0_h1 : k0_cond1 arg0 v1 = 1#1), 8 ∣ (k0_mult5 v155).toNat := fun arg0 v1 v155 k0_hw5 k0_h1 => k0_hw5.1 k0_h1
theorem k0_off9_inb : ∀ (arg0 : BitVec 32) (v1 : BitVec 32) (v155 : BitVec 32) (k0_hw5 : k0_chk5 arg0 v1 v155), ∀ (k0_h1 : k0_cond1 arg0 v1 = 1#1), ∀ a, (k0_off9 v155) a + S8x128.size a ≤ S7688x256.size a := fun arg0 v1 v155 k0_hw5 k0_h1 => k0_hw5.2.1 k0_h1
theorem k0_off10_inb : ∀ (arg0 : BitVec 32) (v1 : BitVec 32) (v155 : BitVec 32) (k0_hw5 : k0_chk5 arg0 v1 v155), ∀ (k0_h1 : k0_cond1 arg0 v1 = 1#1), ∀ a, (k0_off10 v155) a + S8x128.size a ≤ S7688x256.size a := fun arg0 v1 v155 k0_hw5 k0_h1 => k0_hw5.2.2 k0_h1

def k0_mult6 (v185 : BitVec 32) : BitVec 32 :=
  let c1_i32_55 : BitVec 32 := 1#32
  let v205 : BitVec 32 := Scalar.shrsi v185 c1_i32_55
  v205

def k0_off11 (v185 : BitVec 32) : Fin 2 → Nat :=
  let c1_i32_55 : BitVec 32 := 1#32
  let v205 : BitVec 32 := Scalar.shrsi v185 c1_i32_55
  let v206 : BitVec 32 := v205
  let v207 : Index := Scalar.indexCast v206
  let c0_56 : Index := 0#32
  ![v207.toNat, 0]
def k0_off12 (v185 : BitVec 32) : Fin 2 → Nat :=
  let c1_i32_55 : BitVec 32 := 1#32
  let v205 : BitVec 32 := Scalar.shrsi v185 c1_i32_55
  let v206 : BitVec 32 := v205
  let v211 : Index := Scalar.indexCast v206
  let c128_57 : Index := 128#32
  ![v211.toNat, 128]

def k0_chk6 (arg0 : BitVec 32) (v1 : BitVec 32) (v185 : BitVec 32) : Prop :=
  (∀ (k0_h1 : k0_cond1 arg0 v1 = 1#1), 8 ∣ (k0_mult6 v185).toNat) ∧
  (∀ (k0_h1 : k0_cond1 arg0 v1 = 1#1), ∀ a, (k0_off11 v185) a + S8x128.size a ≤ S7688x256.size a) ∧
  (∀ (k0_h1 : k0_cond1 arg0 v1 = 1#1), ∀ a, (k0_off12 v185) a + S8x128.size a ≤ S7688x256.size a)
theorem k0_mult6_dvd : ∀ (arg0 : BitVec 32) (v1 : BitVec 32) (v185 : BitVec 32) (k0_hw6 : k0_chk6 arg0 v1 v185), ∀ (k0_h1 : k0_cond1 arg0 v1 = 1#1), 8 ∣ (k0_mult6 v185).toNat := fun arg0 v1 v185 k0_hw6 k0_h1 => k0_hw6.1 k0_h1
theorem k0_off11_inb : ∀ (arg0 : BitVec 32) (v1 : BitVec 32) (v185 : BitVec 32) (k0_hw6 : k0_chk6 arg0 v1 v185), ∀ (k0_h1 : k0_cond1 arg0 v1 = 1#1), ∀ a, (k0_off11 v185) a + S8x128.size a ≤ S7688x256.size a := fun arg0 v1 v185 k0_hw6 k0_h1 => k0_hw6.2.1 k0_h1
theorem k0_off12_inb : ∀ (arg0 : BitVec 32) (v1 : BitVec 32) (v185 : BitVec 32) (k0_hw6 : k0_chk6 arg0 v1 v185), ∀ (k0_h1 : k0_cond1 arg0 v1 = 1#1), ∀ a, (k0_off12 v185) a + S8x128.size a ≤ S7688x256.size a := fun arg0 v1 v185 k0_hw6 k0_h1 => k0_hw6.2.2 k0_h1

def k0_mult7 (v215 : BitVec 32) : BitVec 32 :=
  let c1_i32_62 : BitVec 32 := 1#32
  let v235 : BitVec 32 := Scalar.shrsi v215 c1_i32_62
  v235

def k0_off13 (v215 : BitVec 32) : Fin 2 → Nat :=
  let c1_i32_62 : BitVec 32 := 1#32
  let v235 : BitVec 32 := Scalar.shrsi v215 c1_i32_62
  let v236 : BitVec 32 := v235
  let v237 : Index := Scalar.indexCast v236
  let c0_63 : Index := 0#32
  ![v237.toNat, 0]
def k0_off14 (v215 : BitVec 32) : Fin 2 → Nat :=
  let c1_i32_62 : BitVec 32 := 1#32
  let v235 : BitVec 32 := Scalar.shrsi v215 c1_i32_62
  let v236 : BitVec 32 := v235
  let v241 : Index := Scalar.indexCast v236
  let c128_64 : Index := 128#32
  ![v241.toNat, 128]

def k0_chk7 (arg0 : BitVec 32) (v1 : BitVec 32) (v215 : BitVec 32) : Prop :=
  (∀ (k0_h1 : k0_cond1 arg0 v1 = 1#1), 8 ∣ (k0_mult7 v215).toNat) ∧
  (∀ (k0_h1 : k0_cond1 arg0 v1 = 1#1), ∀ a, (k0_off13 v215) a + S8x128.size a ≤ S7688x256.size a) ∧
  (∀ (k0_h1 : k0_cond1 arg0 v1 = 1#1), ∀ a, (k0_off14 v215) a + S8x128.size a ≤ S7688x256.size a)
theorem k0_mult7_dvd : ∀ (arg0 : BitVec 32) (v1 : BitVec 32) (v215 : BitVec 32) (k0_hw7 : k0_chk7 arg0 v1 v215), ∀ (k0_h1 : k0_cond1 arg0 v1 = 1#1), 8 ∣ (k0_mult7 v215).toNat := fun arg0 v1 v215 k0_hw7 k0_h1 => k0_hw7.1 k0_h1
theorem k0_off13_inb : ∀ (arg0 : BitVec 32) (v1 : BitVec 32) (v215 : BitVec 32) (k0_hw7 : k0_chk7 arg0 v1 v215), ∀ (k0_h1 : k0_cond1 arg0 v1 = 1#1), ∀ a, (k0_off13 v215) a + S8x128.size a ≤ S7688x256.size a := fun arg0 v1 v215 k0_hw7 k0_h1 => k0_hw7.2.1 k0_h1
theorem k0_off14_inb : ∀ (arg0 : BitVec 32) (v1 : BitVec 32) (v215 : BitVec 32) (k0_hw7 : k0_chk7 arg0 v1 v215), ∀ (k0_h1 : k0_cond1 arg0 v1 = 1#1), ∀ a, (k0_off14 v215) a + S8x128.size a ≤ S7688x256.size a := fun arg0 v1 v215 k0_hw7 k0_h1 => k0_hw7.2.2 k0_h1

def k0_mult8 (v245 : BitVec 32) : BitVec 32 :=
  let c1_i32_69 : BitVec 32 := 1#32
  let v265 : BitVec 32 := Scalar.shrsi v245 c1_i32_69
  v265

def k0_off15 (v245 : BitVec 32) : Fin 2 → Nat :=
  let c1_i32_69 : BitVec 32 := 1#32
  let v265 : BitVec 32 := Scalar.shrsi v245 c1_i32_69
  let v266 : BitVec 32 := v265
  let v267 : Index := Scalar.indexCast v266
  let c0_70 : Index := 0#32
  ![v267.toNat, 0]
def k0_off16 (v245 : BitVec 32) : Fin 2 → Nat :=
  let c1_i32_69 : BitVec 32 := 1#32
  let v265 : BitVec 32 := Scalar.shrsi v245 c1_i32_69
  let v266 : BitVec 32 := v265
  let v271 : Index := Scalar.indexCast v266
  let c128_71 : Index := 128#32
  ![v271.toNat, 128]

def k0_chk8 (arg0 : BitVec 32) (v1 : BitVec 32) (v245 : BitVec 32) : Prop :=
  (∀ (k0_h1 : k0_cond1 arg0 v1 = 1#1), 8 ∣ (k0_mult8 v245).toNat) ∧
  (∀ (k0_h1 : k0_cond1 arg0 v1 = 1#1), ∀ a, (k0_off15 v245) a + S8x128.size a ≤ S7688x256.size a) ∧
  (∀ (k0_h1 : k0_cond1 arg0 v1 = 1#1), ∀ a, (k0_off16 v245) a + S8x128.size a ≤ S7688x256.size a)
theorem k0_mult8_dvd : ∀ (arg0 : BitVec 32) (v1 : BitVec 32) (v245 : BitVec 32) (k0_hw8 : k0_chk8 arg0 v1 v245), ∀ (k0_h1 : k0_cond1 arg0 v1 = 1#1), 8 ∣ (k0_mult8 v245).toNat := fun arg0 v1 v245 k0_hw8 k0_h1 => k0_hw8.1 k0_h1
theorem k0_off15_inb : ∀ (arg0 : BitVec 32) (v1 : BitVec 32) (v245 : BitVec 32) (k0_hw8 : k0_chk8 arg0 v1 v245), ∀ (k0_h1 : k0_cond1 arg0 v1 = 1#1), ∀ a, (k0_off15 v245) a + S8x128.size a ≤ S7688x256.size a := fun arg0 v1 v245 k0_hw8 k0_h1 => k0_hw8.2.1 k0_h1
theorem k0_off16_inb : ∀ (arg0 : BitVec 32) (v1 : BitVec 32) (v245 : BitVec 32) (k0_hw8 : k0_chk8 arg0 v1 v245), ∀ (k0_h1 : k0_cond1 arg0 v1 = 1#1), ∀ a, (k0_off16 v245) a + S8x128.size a ≤ S7688x256.size a := fun arg0 v1 v245 k0_hw8 k0_h1 => k0_hw8.2.2 k0_h1

def k0_mult9 (v275 : BitVec 32) : BitVec 32 :=
  let c1_i32_76 : BitVec 32 := 1#32
  let v295 : BitVec 32 := Scalar.shrsi v275 c1_i32_76
  v295

def k0_off17 (v275 : BitVec 32) : Fin 2 → Nat :=
  let c1_i32_76 : BitVec 32 := 1#32
  let v295 : BitVec 32 := Scalar.shrsi v275 c1_i32_76
  let v296 : BitVec 32 := v295
  let v297 : Index := Scalar.indexCast v296
  let c0_77 : Index := 0#32
  ![v297.toNat, 0]
def k0_off18 (v275 : BitVec 32) : Fin 2 → Nat :=
  let c1_i32_76 : BitVec 32 := 1#32
  let v295 : BitVec 32 := Scalar.shrsi v275 c1_i32_76
  let v296 : BitVec 32 := v295
  let v301 : Index := Scalar.indexCast v296
  let c128_78 : Index := 128#32
  ![v301.toNat, 128]

def k0_chk9 (arg0 : BitVec 32) (v1 : BitVec 32) (v275 : BitVec 32) : Prop :=
  (∀ (k0_h1 : k0_cond1 arg0 v1 = 1#1), 8 ∣ (k0_mult9 v275).toNat) ∧
  (∀ (k0_h1 : k0_cond1 arg0 v1 = 1#1), ∀ a, (k0_off17 v275) a + S8x128.size a ≤ S7688x256.size a) ∧
  (∀ (k0_h1 : k0_cond1 arg0 v1 = 1#1), ∀ a, (k0_off18 v275) a + S8x128.size a ≤ S7688x256.size a)
theorem k0_mult9_dvd : ∀ (arg0 : BitVec 32) (v1 : BitVec 32) (v275 : BitVec 32) (k0_hw9 : k0_chk9 arg0 v1 v275), ∀ (k0_h1 : k0_cond1 arg0 v1 = 1#1), 8 ∣ (k0_mult9 v275).toNat := fun arg0 v1 v275 k0_hw9 k0_h1 => k0_hw9.1 k0_h1
theorem k0_off17_inb : ∀ (arg0 : BitVec 32) (v1 : BitVec 32) (v275 : BitVec 32) (k0_hw9 : k0_chk9 arg0 v1 v275), ∀ (k0_h1 : k0_cond1 arg0 v1 = 1#1), ∀ a, (k0_off17 v275) a + S8x128.size a ≤ S7688x256.size a := fun arg0 v1 v275 k0_hw9 k0_h1 => k0_hw9.2.1 k0_h1
theorem k0_off18_inb : ∀ (arg0 : BitVec 32) (v1 : BitVec 32) (v275 : BitVec 32) (k0_hw9 : k0_chk9 arg0 v1 v275), ∀ (k0_h1 : k0_cond1 arg0 v1 = 1#1), ∀ a, (k0_off18 v275) a + S8x128.size a ≤ S7688x256.size a := fun arg0 v1 v275 k0_hw9 k0_h1 => k0_hw9.2.2 k0_h1

def k0_mult10 (v305 : BitVec 32) : BitVec 32 :=
  let c1_i32_83 : BitVec 32 := 1#32
  let v325 : BitVec 32 := Scalar.shrsi v305 c1_i32_83
  v325

def k0_off19 (v305 : BitVec 32) : Fin 2 → Nat :=
  let c1_i32_83 : BitVec 32 := 1#32
  let v325 : BitVec 32 := Scalar.shrsi v305 c1_i32_83
  let v326 : BitVec 32 := v325
  let v327 : Index := Scalar.indexCast v326
  let c0_84 : Index := 0#32
  ![v327.toNat, 0]
def k0_off20 (v305 : BitVec 32) : Fin 2 → Nat :=
  let c1_i32_83 : BitVec 32 := 1#32
  let v325 : BitVec 32 := Scalar.shrsi v305 c1_i32_83
  let v326 : BitVec 32 := v325
  let v331 : Index := Scalar.indexCast v326
  let c128_85 : Index := 128#32
  ![v331.toNat, 128]

def k0_chk10 (arg0 : BitVec 32) (v1 : BitVec 32) (v305 : BitVec 32) : Prop :=
  (∀ (k0_h1 : k0_cond1 arg0 v1 = 1#1), 8 ∣ (k0_mult10 v305).toNat) ∧
  (∀ (k0_h1 : k0_cond1 arg0 v1 = 1#1), ∀ a, (k0_off19 v305) a + S8x128.size a ≤ S7688x256.size a) ∧
  (∀ (k0_h1 : k0_cond1 arg0 v1 = 1#1), ∀ a, (k0_off20 v305) a + S8x128.size a ≤ S7688x256.size a)
theorem k0_mult10_dvd : ∀ (arg0 : BitVec 32) (v1 : BitVec 32) (v305 : BitVec 32) (k0_hw10 : k0_chk10 arg0 v1 v305), ∀ (k0_h1 : k0_cond1 arg0 v1 = 1#1), 8 ∣ (k0_mult10 v305).toNat := fun arg0 v1 v305 k0_hw10 k0_h1 => k0_hw10.1 k0_h1
theorem k0_off19_inb : ∀ (arg0 : BitVec 32) (v1 : BitVec 32) (v305 : BitVec 32) (k0_hw10 : k0_chk10 arg0 v1 v305), ∀ (k0_h1 : k0_cond1 arg0 v1 = 1#1), ∀ a, (k0_off19 v305) a + S8x128.size a ≤ S7688x256.size a := fun arg0 v1 v305 k0_hw10 k0_h1 => k0_hw10.2.1 k0_h1
theorem k0_off20_inb : ∀ (arg0 : BitVec 32) (v1 : BitVec 32) (v305 : BitVec 32) (k0_hw10 : k0_chk10 arg0 v1 v305), ∀ (k0_h1 : k0_cond1 arg0 v1 = 1#1), ∀ a, (k0_off20 v305) a + S8x128.size a ≤ S7688x256.size a := fun arg0 v1 v305 k0_hw10 k0_h1 => k0_hw10.2.2 k0_h1

def k0_mult11 (v335 : BitVec 32) : BitVec 32 :=
  let c1_i32_90 : BitVec 32 := 1#32
  let v355 : BitVec 32 := Scalar.shrsi v335 c1_i32_90
  v355

def k0_off21 (v335 : BitVec 32) : Fin 2 → Nat :=
  let c1_i32_90 : BitVec 32 := 1#32
  let v355 : BitVec 32 := Scalar.shrsi v335 c1_i32_90
  let v356 : BitVec 32 := v355
  let v357 : Index := Scalar.indexCast v356
  let c0_91 : Index := 0#32
  ![v357.toNat, 0]
def k0_off22 (v335 : BitVec 32) : Fin 2 → Nat :=
  let c1_i32_90 : BitVec 32 := 1#32
  let v355 : BitVec 32 := Scalar.shrsi v335 c1_i32_90
  let v356 : BitVec 32 := v355
  let v361 : Index := Scalar.indexCast v356
  let c128_92 : Index := 128#32
  ![v361.toNat, 128]

def k0_chk11 (arg0 : BitVec 32) (v1 : BitVec 32) (v335 : BitVec 32) : Prop :=
  (∀ (k0_h1 : k0_cond1 arg0 v1 = 1#1), 8 ∣ (k0_mult11 v335).toNat) ∧
  (∀ (k0_h1 : k0_cond1 arg0 v1 = 1#1), ∀ a, (k0_off21 v335) a + S8x128.size a ≤ S7688x256.size a) ∧
  (∀ (k0_h1 : k0_cond1 arg0 v1 = 1#1), ∀ a, (k0_off22 v335) a + S8x128.size a ≤ S7688x256.size a)
theorem k0_mult11_dvd : ∀ (arg0 : BitVec 32) (v1 : BitVec 32) (v335 : BitVec 32) (k0_hw11 : k0_chk11 arg0 v1 v335), ∀ (k0_h1 : k0_cond1 arg0 v1 = 1#1), 8 ∣ (k0_mult11 v335).toNat := fun arg0 v1 v335 k0_hw11 k0_h1 => k0_hw11.1 k0_h1
theorem k0_off21_inb : ∀ (arg0 : BitVec 32) (v1 : BitVec 32) (v335 : BitVec 32) (k0_hw11 : k0_chk11 arg0 v1 v335), ∀ (k0_h1 : k0_cond1 arg0 v1 = 1#1), ∀ a, (k0_off21 v335) a + S8x128.size a ≤ S7688x256.size a := fun arg0 v1 v335 k0_hw11 k0_h1 => k0_hw11.2.1 k0_h1
theorem k0_off22_inb : ∀ (arg0 : BitVec 32) (v1 : BitVec 32) (v335 : BitVec 32) (k0_hw11 : k0_chk11 arg0 v1 v335), ∀ (k0_h1 : k0_cond1 arg0 v1 = 1#1), ∀ a, (k0_off22 v335) a + S8x128.size a ≤ S7688x256.size a := fun arg0 v1 v335 k0_hw11 k0_h1 => k0_hw11.2.2 k0_h1

def k0_mult12 (v365 : BitVec 32) : BitVec 32 :=
  let c1_i32_97 : BitVec 32 := 1#32
  let v385 : BitVec 32 := Scalar.shrsi v365 c1_i32_97
  v385

def k0_off23 (v365 : BitVec 32) : Fin 2 → Nat :=
  let c1_i32_97 : BitVec 32 := 1#32
  let v385 : BitVec 32 := Scalar.shrsi v365 c1_i32_97
  let v386 : BitVec 32 := v385
  let v387 : Index := Scalar.indexCast v386
  let c0_98 : Index := 0#32
  ![v387.toNat, 0]
def k0_off24 (v365 : BitVec 32) : Fin 2 → Nat :=
  let c1_i32_97 : BitVec 32 := 1#32
  let v385 : BitVec 32 := Scalar.shrsi v365 c1_i32_97
  let v386 : BitVec 32 := v385
  let v391 : Index := Scalar.indexCast v386
  let c128_99 : Index := 128#32
  ![v391.toNat, 128]

def k0_chk12 (arg0 : BitVec 32) (v1 : BitVec 32) (v365 : BitVec 32) : Prop :=
  (∀ (k0_h1 : k0_cond1 arg0 v1 = 1#1), 8 ∣ (k0_mult12 v365).toNat) ∧
  (∀ (k0_h1 : k0_cond1 arg0 v1 = 1#1), ∀ a, (k0_off23 v365) a + S8x128.size a ≤ S7688x256.size a) ∧
  (∀ (k0_h1 : k0_cond1 arg0 v1 = 1#1), ∀ a, (k0_off24 v365) a + S8x128.size a ≤ S7688x256.size a)
theorem k0_mult12_dvd : ∀ (arg0 : BitVec 32) (v1 : BitVec 32) (v365 : BitVec 32) (k0_hw12 : k0_chk12 arg0 v1 v365), ∀ (k0_h1 : k0_cond1 arg0 v1 = 1#1), 8 ∣ (k0_mult12 v365).toNat := fun arg0 v1 v365 k0_hw12 k0_h1 => k0_hw12.1 k0_h1
theorem k0_off23_inb : ∀ (arg0 : BitVec 32) (v1 : BitVec 32) (v365 : BitVec 32) (k0_hw12 : k0_chk12 arg0 v1 v365), ∀ (k0_h1 : k0_cond1 arg0 v1 = 1#1), ∀ a, (k0_off23 v365) a + S8x128.size a ≤ S7688x256.size a := fun arg0 v1 v365 k0_hw12 k0_h1 => k0_hw12.2.1 k0_h1
theorem k0_off24_inb : ∀ (arg0 : BitVec 32) (v1 : BitVec 32) (v365 : BitVec 32) (k0_hw12 : k0_chk12 arg0 v1 v365), ∀ (k0_h1 : k0_cond1 arg0 v1 = 1#1), ∀ a, (k0_off24 v365) a + S8x128.size a ≤ S7688x256.size a := fun arg0 v1 v365 k0_hw12 k0_h1 => k0_hw12.2.2 k0_h1

def k0_mult13 (v395 : BitVec 32) : BitVec 32 :=
  let c1_i32_104 : BitVec 32 := 1#32
  let v415 : BitVec 32 := Scalar.shrsi v395 c1_i32_104
  v415

def k0_off25 (v395 : BitVec 32) : Fin 2 → Nat :=
  let c1_i32_104 : BitVec 32 := 1#32
  let v415 : BitVec 32 := Scalar.shrsi v395 c1_i32_104
  let v416 : BitVec 32 := v415
  let v417 : Index := Scalar.indexCast v416
  let c0_105 : Index := 0#32
  ![v417.toNat, 0]
def k0_off26 (v395 : BitVec 32) : Fin 2 → Nat :=
  let c1_i32_104 : BitVec 32 := 1#32
  let v415 : BitVec 32 := Scalar.shrsi v395 c1_i32_104
  let v416 : BitVec 32 := v415
  let v421 : Index := Scalar.indexCast v416
  let c128_106 : Index := 128#32
  ![v421.toNat, 128]

def k0_chk13 (arg0 : BitVec 32) (v1 : BitVec 32) (v395 : BitVec 32) : Prop :=
  (∀ (k0_h1 : k0_cond1 arg0 v1 = 1#1), 8 ∣ (k0_mult13 v395).toNat) ∧
  (∀ (k0_h1 : k0_cond1 arg0 v1 = 1#1), ∀ a, (k0_off25 v395) a + S8x128.size a ≤ S7688x256.size a) ∧
  (∀ (k0_h1 : k0_cond1 arg0 v1 = 1#1), ∀ a, (k0_off26 v395) a + S8x128.size a ≤ S7688x256.size a)
theorem k0_mult13_dvd : ∀ (arg0 : BitVec 32) (v1 : BitVec 32) (v395 : BitVec 32) (k0_hw13 : k0_chk13 arg0 v1 v395), ∀ (k0_h1 : k0_cond1 arg0 v1 = 1#1), 8 ∣ (k0_mult13 v395).toNat := fun arg0 v1 v395 k0_hw13 k0_h1 => k0_hw13.1 k0_h1
theorem k0_off25_inb : ∀ (arg0 : BitVec 32) (v1 : BitVec 32) (v395 : BitVec 32) (k0_hw13 : k0_chk13 arg0 v1 v395), ∀ (k0_h1 : k0_cond1 arg0 v1 = 1#1), ∀ a, (k0_off25 v395) a + S8x128.size a ≤ S7688x256.size a := fun arg0 v1 v395 k0_hw13 k0_h1 => k0_hw13.2.1 k0_h1
theorem k0_off26_inb : ∀ (arg0 : BitVec 32) (v1 : BitVec 32) (v395 : BitVec 32) (k0_hw13 : k0_chk13 arg0 v1 v395), ∀ (k0_h1 : k0_cond1 arg0 v1 = 1#1), ∀ a, (k0_off26 v395) a + S8x128.size a ≤ S7688x256.size a := fun arg0 v1 v395 k0_hw13 k0_h1 => k0_hw13.2.2 k0_h1

def k0_mult14 (v425 : BitVec 32) : BitVec 32 :=
  let c1_i32_111 : BitVec 32 := 1#32
  let v445 : BitVec 32 := Scalar.shrsi v425 c1_i32_111
  v445

def k0_off27 (v425 : BitVec 32) : Fin 2 → Nat :=
  let c1_i32_111 : BitVec 32 := 1#32
  let v445 : BitVec 32 := Scalar.shrsi v425 c1_i32_111
  let v446 : BitVec 32 := v445
  let v447 : Index := Scalar.indexCast v446
  let c0_112 : Index := 0#32
  ![v447.toNat, 0]
def k0_off28 (v425 : BitVec 32) : Fin 2 → Nat :=
  let c1_i32_111 : BitVec 32 := 1#32
  let v445 : BitVec 32 := Scalar.shrsi v425 c1_i32_111
  let v446 : BitVec 32 := v445
  let v451 : Index := Scalar.indexCast v446
  let c128_113 : Index := 128#32
  ![v451.toNat, 128]

def k0_chk14 (arg0 : BitVec 32) (v1 : BitVec 32) (v425 : BitVec 32) : Prop :=
  (∀ (k0_h1 : k0_cond1 arg0 v1 = 1#1), 8 ∣ (k0_mult14 v425).toNat) ∧
  (∀ (k0_h1 : k0_cond1 arg0 v1 = 1#1), ∀ a, (k0_off27 v425) a + S8x128.size a ≤ S7688x256.size a) ∧
  (∀ (k0_h1 : k0_cond1 arg0 v1 = 1#1), ∀ a, (k0_off28 v425) a + S8x128.size a ≤ S7688x256.size a)
theorem k0_mult14_dvd : ∀ (arg0 : BitVec 32) (v1 : BitVec 32) (v425 : BitVec 32) (k0_hw14 : k0_chk14 arg0 v1 v425), ∀ (k0_h1 : k0_cond1 arg0 v1 = 1#1), 8 ∣ (k0_mult14 v425).toNat := fun arg0 v1 v425 k0_hw14 k0_h1 => k0_hw14.1 k0_h1
theorem k0_off27_inb : ∀ (arg0 : BitVec 32) (v1 : BitVec 32) (v425 : BitVec 32) (k0_hw14 : k0_chk14 arg0 v1 v425), ∀ (k0_h1 : k0_cond1 arg0 v1 = 1#1), ∀ a, (k0_off27 v425) a + S8x128.size a ≤ S7688x256.size a := fun arg0 v1 v425 k0_hw14 k0_h1 => k0_hw14.2.1 k0_h1
theorem k0_off28_inb : ∀ (arg0 : BitVec 32) (v1 : BitVec 32) (v425 : BitVec 32) (k0_hw14 : k0_chk14 arg0 v1 v425), ∀ (k0_h1 : k0_cond1 arg0 v1 = 1#1), ∀ a, (k0_off28 v425) a + S8x128.size a ≤ S7688x256.size a := fun arg0 v1 v425 k0_hw14 k0_h1 => k0_hw14.2.2 k0_h1

def k0_mult15 (v455 : BitVec 32) : BitVec 32 :=
  let c1_i32_118 : BitVec 32 := 1#32
  let v475 : BitVec 32 := Scalar.shrsi v455 c1_i32_118
  v475

def k0_off29 (v455 : BitVec 32) : Fin 2 → Nat :=
  let c1_i32_118 : BitVec 32 := 1#32
  let v475 : BitVec 32 := Scalar.shrsi v455 c1_i32_118
  let v476 : BitVec 32 := v475
  let v477 : Index := Scalar.indexCast v476
  let c0_119 : Index := 0#32
  ![v477.toNat, 0]
def k0_off30 (v455 : BitVec 32) : Fin 2 → Nat :=
  let c1_i32_118 : BitVec 32 := 1#32
  let v475 : BitVec 32 := Scalar.shrsi v455 c1_i32_118
  let v476 : BitVec 32 := v475
  let v481 : Index := Scalar.indexCast v476
  let c128_120 : Index := 128#32
  ![v481.toNat, 128]

def k0_chk15 (arg0 : BitVec 32) (v1 : BitVec 32) (v455 : BitVec 32) : Prop :=
  (∀ (k0_h1 : k0_cond1 arg0 v1 = 1#1), 8 ∣ (k0_mult15 v455).toNat) ∧
  (∀ (k0_h1 : k0_cond1 arg0 v1 = 1#1), ∀ a, (k0_off29 v455) a + S8x128.size a ≤ S7688x256.size a) ∧
  (∀ (k0_h1 : k0_cond1 arg0 v1 = 1#1), ∀ a, (k0_off30 v455) a + S8x128.size a ≤ S7688x256.size a)
theorem k0_mult15_dvd : ∀ (arg0 : BitVec 32) (v1 : BitVec 32) (v455 : BitVec 32) (k0_hw15 : k0_chk15 arg0 v1 v455), ∀ (k0_h1 : k0_cond1 arg0 v1 = 1#1), 8 ∣ (k0_mult15 v455).toNat := fun arg0 v1 v455 k0_hw15 k0_h1 => k0_hw15.1 k0_h1
theorem k0_off29_inb : ∀ (arg0 : BitVec 32) (v1 : BitVec 32) (v455 : BitVec 32) (k0_hw15 : k0_chk15 arg0 v1 v455), ∀ (k0_h1 : k0_cond1 arg0 v1 = 1#1), ∀ a, (k0_off29 v455) a + S8x128.size a ≤ S7688x256.size a := fun arg0 v1 v455 k0_hw15 k0_h1 => k0_hw15.2.1 k0_h1
theorem k0_off30_inb : ∀ (arg0 : BitVec 32) (v1 : BitVec 32) (v455 : BitVec 32) (k0_hw15 : k0_chk15 arg0 v1 v455), ∀ (k0_h1 : k0_cond1 arg0 v1 = 1#1), ∀ a, (k0_off30 v455) a + S8x128.size a ≤ S7688x256.size a := fun arg0 v1 v455 k0_hw15 k0_h1 => k0_hw15.2.2 k0_h1

def k0_mult16 (v485 : BitVec 32) : BitVec 32 :=
  let c1_i32_125 : BitVec 32 := 1#32
  let v505 : BitVec 32 := Scalar.shrsi v485 c1_i32_125
  v505

def k0_off31 (v485 : BitVec 32) : Fin 2 → Nat :=
  let c1_i32_125 : BitVec 32 := 1#32
  let v505 : BitVec 32 := Scalar.shrsi v485 c1_i32_125
  let v506 : BitVec 32 := v505
  let v507 : Index := Scalar.indexCast v506
  let c0_126 : Index := 0#32
  ![v507.toNat, 0]
def k0_off32 (v485 : BitVec 32) : Fin 2 → Nat :=
  let c1_i32_125 : BitVec 32 := 1#32
  let v505 : BitVec 32 := Scalar.shrsi v485 c1_i32_125
  let v506 : BitVec 32 := v505
  let v511 : Index := Scalar.indexCast v506
  let c128_127 : Index := 128#32
  ![v511.toNat, 128]

def k0_chk16 (arg0 : BitVec 32) (v1 : BitVec 32) (v485 : BitVec 32) : Prop :=
  (∀ (k0_h1 : k0_cond1 arg0 v1 = 1#1), 8 ∣ (k0_mult16 v485).toNat) ∧
  (∀ (k0_h1 : k0_cond1 arg0 v1 = 1#1), ∀ a, (k0_off31 v485) a + S8x128.size a ≤ S7688x256.size a) ∧
  (∀ (k0_h1 : k0_cond1 arg0 v1 = 1#1), ∀ a, (k0_off32 v485) a + S8x128.size a ≤ S7688x256.size a)
theorem k0_mult16_dvd : ∀ (arg0 : BitVec 32) (v1 : BitVec 32) (v485 : BitVec 32) (k0_hw16 : k0_chk16 arg0 v1 v485), ∀ (k0_h1 : k0_cond1 arg0 v1 = 1#1), 8 ∣ (k0_mult16 v485).toNat := fun arg0 v1 v485 k0_hw16 k0_h1 => k0_hw16.1 k0_h1
theorem k0_off31_inb : ∀ (arg0 : BitVec 32) (v1 : BitVec 32) (v485 : BitVec 32) (k0_hw16 : k0_chk16 arg0 v1 v485), ∀ (k0_h1 : k0_cond1 arg0 v1 = 1#1), ∀ a, (k0_off31 v485) a + S8x128.size a ≤ S7688x256.size a := fun arg0 v1 v485 k0_hw16 k0_h1 => k0_hw16.2.1 k0_h1
theorem k0_off32_inb : ∀ (arg0 : BitVec 32) (v1 : BitVec 32) (v485 : BitVec 32) (k0_hw16 : k0_chk16 arg0 v1 v485), ∀ (k0_h1 : k0_cond1 arg0 v1 = 1#1), ∀ a, (k0_off32 v485) a + S8x128.size a ≤ S7688x256.size a := fun arg0 v1 v485 k0_hw16 k0_h1 => k0_hw16.2.2 k0_h1

def k0_mult17 (v515 : BitVec 32) : BitVec 32 :=
  let c1_i32_132 : BitVec 32 := 1#32
  let v535 : BitVec 32 := Scalar.shrsi v515 c1_i32_132
  v535

def k0_off33 (v515 : BitVec 32) : Fin 2 → Nat :=
  let c1_i32_132 : BitVec 32 := 1#32
  let v535 : BitVec 32 := Scalar.shrsi v515 c1_i32_132
  let v536 : BitVec 32 := v535
  let v537 : Index := Scalar.indexCast v536
  let c0_133 : Index := 0#32
  ![v537.toNat, 0]
def k0_off34 (v515 : BitVec 32) : Fin 2 → Nat :=
  let c1_i32_132 : BitVec 32 := 1#32
  let v535 : BitVec 32 := Scalar.shrsi v515 c1_i32_132
  let v536 : BitVec 32 := v535
  let v541 : Index := Scalar.indexCast v536
  let c128_134 : Index := 128#32
  ![v541.toNat, 128]

def k0_chk17 (arg0 : BitVec 32) (v1 : BitVec 32) (v515 : BitVec 32) : Prop :=
  (∀ (k0_h1 : k0_cond1 arg0 v1 = 1#1), 8 ∣ (k0_mult17 v515).toNat) ∧
  (∀ (k0_h1 : k0_cond1 arg0 v1 = 1#1), ∀ a, (k0_off33 v515) a + S8x128.size a ≤ S7688x256.size a) ∧
  (∀ (k0_h1 : k0_cond1 arg0 v1 = 1#1), ∀ a, (k0_off34 v515) a + S8x128.size a ≤ S7688x256.size a)
theorem k0_mult17_dvd : ∀ (arg0 : BitVec 32) (v1 : BitVec 32) (v515 : BitVec 32) (k0_hw17 : k0_chk17 arg0 v1 v515), ∀ (k0_h1 : k0_cond1 arg0 v1 = 1#1), 8 ∣ (k0_mult17 v515).toNat := fun arg0 v1 v515 k0_hw17 k0_h1 => k0_hw17.1 k0_h1
theorem k0_off33_inb : ∀ (arg0 : BitVec 32) (v1 : BitVec 32) (v515 : BitVec 32) (k0_hw17 : k0_chk17 arg0 v1 v515), ∀ (k0_h1 : k0_cond1 arg0 v1 = 1#1), ∀ a, (k0_off33 v515) a + S8x128.size a ≤ S7688x256.size a := fun arg0 v1 v515 k0_hw17 k0_h1 => k0_hw17.2.1 k0_h1
theorem k0_off34_inb : ∀ (arg0 : BitVec 32) (v1 : BitVec 32) (v515 : BitVec 32) (k0_hw17 : k0_chk17 arg0 v1 v515), ∀ (k0_h1 : k0_cond1 arg0 v1 = 1#1), ∀ a, (k0_off34 v515) a + S8x128.size a ≤ S7688x256.size a := fun arg0 v1 v515 k0_hw17 k0_h1 => k0_hw17.2.2 k0_h1

def k0_mult18 (v545 : BitVec 32) : BitVec 32 :=
  let c1_i32_139 : BitVec 32 := 1#32
  let v565 : BitVec 32 := Scalar.shrsi v545 c1_i32_139
  v565

def k0_off35 (v545 : BitVec 32) : Fin 2 → Nat :=
  let c1_i32_139 : BitVec 32 := 1#32
  let v565 : BitVec 32 := Scalar.shrsi v545 c1_i32_139
  let v566 : BitVec 32 := v565
  let v567 : Index := Scalar.indexCast v566
  let c0_140 : Index := 0#32
  ![v567.toNat, 0]
def k0_off36 (v545 : BitVec 32) : Fin 2 → Nat :=
  let c1_i32_139 : BitVec 32 := 1#32
  let v565 : BitVec 32 := Scalar.shrsi v545 c1_i32_139
  let v566 : BitVec 32 := v565
  let v571 : Index := Scalar.indexCast v566
  let c128_141 : Index := 128#32
  ![v571.toNat, 128]

def k0_chk18 (arg0 : BitVec 32) (v1 : BitVec 32) (v545 : BitVec 32) : Prop :=
  (∀ (k0_h1 : k0_cond1 arg0 v1 = 1#1), 8 ∣ (k0_mult18 v545).toNat) ∧
  (∀ (k0_h1 : k0_cond1 arg0 v1 = 1#1), ∀ a, (k0_off35 v545) a + S8x128.size a ≤ S7688x256.size a) ∧
  (∀ (k0_h1 : k0_cond1 arg0 v1 = 1#1), ∀ a, (k0_off36 v545) a + S8x128.size a ≤ S7688x256.size a)
theorem k0_mult18_dvd : ∀ (arg0 : BitVec 32) (v1 : BitVec 32) (v545 : BitVec 32) (k0_hw18 : k0_chk18 arg0 v1 v545), ∀ (k0_h1 : k0_cond1 arg0 v1 = 1#1), 8 ∣ (k0_mult18 v545).toNat := fun arg0 v1 v545 k0_hw18 k0_h1 => k0_hw18.1 k0_h1
theorem k0_off35_inb : ∀ (arg0 : BitVec 32) (v1 : BitVec 32) (v545 : BitVec 32) (k0_hw18 : k0_chk18 arg0 v1 v545), ∀ (k0_h1 : k0_cond1 arg0 v1 = 1#1), ∀ a, (k0_off35 v545) a + S8x128.size a ≤ S7688x256.size a := fun arg0 v1 v545 k0_hw18 k0_h1 => k0_hw18.2.1 k0_h1
theorem k0_off36_inb : ∀ (arg0 : BitVec 32) (v1 : BitVec 32) (v545 : BitVec 32) (k0_hw18 : k0_chk18 arg0 v1 v545), ∀ (k0_h1 : k0_cond1 arg0 v1 = 1#1), ∀ a, (k0_off36 v545) a + S8x128.size a ≤ S7688x256.size a := fun arg0 v1 v545 k0_hw18 k0_h1 => k0_hw18.2.2 k0_h1

def k0_mult19 (v575 : BitVec 32) : BitVec 32 :=
  let c1_i32_146 : BitVec 32 := 1#32
  let v595 : BitVec 32 := Scalar.shrsi v575 c1_i32_146
  v595

def k0_off37 (v575 : BitVec 32) : Fin 2 → Nat :=
  let c1_i32_146 : BitVec 32 := 1#32
  let v595 : BitVec 32 := Scalar.shrsi v575 c1_i32_146
  let v596 : BitVec 32 := v595
  let v597 : Index := Scalar.indexCast v596
  let c0_147 : Index := 0#32
  ![v597.toNat, 0]
def k0_off38 (v575 : BitVec 32) : Fin 2 → Nat :=
  let c1_i32_146 : BitVec 32 := 1#32
  let v595 : BitVec 32 := Scalar.shrsi v575 c1_i32_146
  let v596 : BitVec 32 := v595
  let v601 : Index := Scalar.indexCast v596
  let c128_148 : Index := 128#32
  ![v601.toNat, 128]

def k0_chk19 (arg0 : BitVec 32) (v1 : BitVec 32) (v575 : BitVec 32) : Prop :=
  (∀ (k0_h1 : k0_cond1 arg0 v1 = 1#1), 8 ∣ (k0_mult19 v575).toNat) ∧
  (∀ (k0_h1 : k0_cond1 arg0 v1 = 1#1), ∀ a, (k0_off37 v575) a + S8x128.size a ≤ S7688x256.size a) ∧
  (∀ (k0_h1 : k0_cond1 arg0 v1 = 1#1), ∀ a, (k0_off38 v575) a + S8x128.size a ≤ S7688x256.size a)
theorem k0_mult19_dvd : ∀ (arg0 : BitVec 32) (v1 : BitVec 32) (v575 : BitVec 32) (k0_hw19 : k0_chk19 arg0 v1 v575), ∀ (k0_h1 : k0_cond1 arg0 v1 = 1#1), 8 ∣ (k0_mult19 v575).toNat := fun arg0 v1 v575 k0_hw19 k0_h1 => k0_hw19.1 k0_h1
theorem k0_off37_inb : ∀ (arg0 : BitVec 32) (v1 : BitVec 32) (v575 : BitVec 32) (k0_hw19 : k0_chk19 arg0 v1 v575), ∀ (k0_h1 : k0_cond1 arg0 v1 = 1#1), ∀ a, (k0_off37 v575) a + S8x128.size a ≤ S7688x256.size a := fun arg0 v1 v575 k0_hw19 k0_h1 => k0_hw19.2.1 k0_h1
theorem k0_off38_inb : ∀ (arg0 : BitVec 32) (v1 : BitVec 32) (v575 : BitVec 32) (k0_hw19 : k0_chk19 arg0 v1 v575), ∀ (k0_h1 : k0_cond1 arg0 v1 = 1#1), ∀ a, (k0_off38 v575) a + S8x128.size a ≤ S7688x256.size a := fun arg0 v1 v575 k0_hw19 k0_h1 => k0_hw19.2.2 k0_h1

def k0_mult20 (v605 : BitVec 32) : BitVec 32 :=
  let c1_i32_153 : BitVec 32 := 1#32
  let v625 : BitVec 32 := Scalar.shrsi v605 c1_i32_153
  v625

def k0_off39 (v605 : BitVec 32) : Fin 2 → Nat :=
  let c1_i32_153 : BitVec 32 := 1#32
  let v625 : BitVec 32 := Scalar.shrsi v605 c1_i32_153
  let v626 : BitVec 32 := v625
  let v627 : Index := Scalar.indexCast v626
  let c0_154 : Index := 0#32
  ![v627.toNat, 0]
def k0_off40 (v605 : BitVec 32) : Fin 2 → Nat :=
  let c1_i32_153 : BitVec 32 := 1#32
  let v625 : BitVec 32 := Scalar.shrsi v605 c1_i32_153
  let v626 : BitVec 32 := v625
  let v631 : Index := Scalar.indexCast v626
  let c128_155 : Index := 128#32
  ![v631.toNat, 128]

def k0_chk20 (arg0 : BitVec 32) (v1 : BitVec 32) (v605 : BitVec 32) : Prop :=
  (∀ (k0_h1 : k0_cond1 arg0 v1 = 1#1), 8 ∣ (k0_mult20 v605).toNat) ∧
  (∀ (k0_h1 : k0_cond1 arg0 v1 = 1#1), ∀ a, (k0_off39 v605) a + S8x128.size a ≤ S7688x256.size a) ∧
  (∀ (k0_h1 : k0_cond1 arg0 v1 = 1#1), ∀ a, (k0_off40 v605) a + S8x128.size a ≤ S7688x256.size a)
theorem k0_mult20_dvd : ∀ (arg0 : BitVec 32) (v1 : BitVec 32) (v605 : BitVec 32) (k0_hw20 : k0_chk20 arg0 v1 v605), ∀ (k0_h1 : k0_cond1 arg0 v1 = 1#1), 8 ∣ (k0_mult20 v605).toNat := fun arg0 v1 v605 k0_hw20 k0_h1 => k0_hw20.1 k0_h1
theorem k0_off39_inb : ∀ (arg0 : BitVec 32) (v1 : BitVec 32) (v605 : BitVec 32) (k0_hw20 : k0_chk20 arg0 v1 v605), ∀ (k0_h1 : k0_cond1 arg0 v1 = 1#1), ∀ a, (k0_off39 v605) a + S8x128.size a ≤ S7688x256.size a := fun arg0 v1 v605 k0_hw20 k0_h1 => k0_hw20.2.1 k0_h1
theorem k0_off40_inb : ∀ (arg0 : BitVec 32) (v1 : BitVec 32) (v605 : BitVec 32) (k0_hw20 : k0_chk20 arg0 v1 v605), ∀ (k0_h1 : k0_cond1 arg0 v1 = 1#1), ∀ a, (k0_off40 v605) a + S8x128.size a ≤ S7688x256.size a := fun arg0 v1 v605 k0_hw20 k0_h1 => k0_hw20.2.2 k0_h1

def k0_mult21 (v635 : BitVec 32) : BitVec 32 :=
  let c1_i32_160 : BitVec 32 := 1#32
  let v655 : BitVec 32 := Scalar.shrsi v635 c1_i32_160
  v655

def k0_off41 (v635 : BitVec 32) : Fin 2 → Nat :=
  let c1_i32_160 : BitVec 32 := 1#32
  let v655 : BitVec 32 := Scalar.shrsi v635 c1_i32_160
  let v656 : BitVec 32 := v655
  let v657 : Index := Scalar.indexCast v656
  let c0_161 : Index := 0#32
  ![v657.toNat, 0]
def k0_off42 (v635 : BitVec 32) : Fin 2 → Nat :=
  let c1_i32_160 : BitVec 32 := 1#32
  let v655 : BitVec 32 := Scalar.shrsi v635 c1_i32_160
  let v656 : BitVec 32 := v655
  let v661 : Index := Scalar.indexCast v656
  let c128_162 : Index := 128#32
  ![v661.toNat, 128]

def k0_chk21 (arg0 : BitVec 32) (v1 : BitVec 32) (v635 : BitVec 32) : Prop :=
  (∀ (k0_h1 : k0_cond1 arg0 v1 = 1#1), 8 ∣ (k0_mult21 v635).toNat) ∧
  (∀ (k0_h1 : k0_cond1 arg0 v1 = 1#1), ∀ a, (k0_off41 v635) a + S8x128.size a ≤ S7688x256.size a) ∧
  (∀ (k0_h1 : k0_cond1 arg0 v1 = 1#1), ∀ a, (k0_off42 v635) a + S8x128.size a ≤ S7688x256.size a)
theorem k0_mult21_dvd : ∀ (arg0 : BitVec 32) (v1 : BitVec 32) (v635 : BitVec 32) (k0_hw21 : k0_chk21 arg0 v1 v635), ∀ (k0_h1 : k0_cond1 arg0 v1 = 1#1), 8 ∣ (k0_mult21 v635).toNat := fun arg0 v1 v635 k0_hw21 k0_h1 => k0_hw21.1 k0_h1
theorem k0_off41_inb : ∀ (arg0 : BitVec 32) (v1 : BitVec 32) (v635 : BitVec 32) (k0_hw21 : k0_chk21 arg0 v1 v635), ∀ (k0_h1 : k0_cond1 arg0 v1 = 1#1), ∀ a, (k0_off41 v635) a + S8x128.size a ≤ S7688x256.size a := fun arg0 v1 v635 k0_hw21 k0_h1 => k0_hw21.2.1 k0_h1
theorem k0_off42_inb : ∀ (arg0 : BitVec 32) (v1 : BitVec 32) (v635 : BitVec 32) (k0_hw21 : k0_chk21 arg0 v1 v635), ∀ (k0_h1 : k0_cond1 arg0 v1 = 1#1), ∀ a, (k0_off42 v635) a + S8x128.size a ≤ S7688x256.size a := fun arg0 v1 v635 k0_hw21 k0_h1 => k0_hw21.2.2 k0_h1

def k0_mult22 (v665 : BitVec 32) : BitVec 32 :=
  let c1_i32_167 : BitVec 32 := 1#32
  let v685 : BitVec 32 := Scalar.shrsi v665 c1_i32_167
  v685

def k0_off43 (v665 : BitVec 32) : Fin 2 → Nat :=
  let c1_i32_167 : BitVec 32 := 1#32
  let v685 : BitVec 32 := Scalar.shrsi v665 c1_i32_167
  let v686 : BitVec 32 := v685
  let v687 : Index := Scalar.indexCast v686
  let c0_168 : Index := 0#32
  ![v687.toNat, 0]
def k0_off44 (v665 : BitVec 32) : Fin 2 → Nat :=
  let c1_i32_167 : BitVec 32 := 1#32
  let v685 : BitVec 32 := Scalar.shrsi v665 c1_i32_167
  let v686 : BitVec 32 := v685
  let v691 : Index := Scalar.indexCast v686
  let c128_169 : Index := 128#32
  ![v691.toNat, 128]

def k0_chk22 (arg0 : BitVec 32) (v1 : BitVec 32) (v665 : BitVec 32) : Prop :=
  (∀ (k0_h1 : k0_cond1 arg0 v1 = 1#1), 8 ∣ (k0_mult22 v665).toNat) ∧
  (∀ (k0_h1 : k0_cond1 arg0 v1 = 1#1), ∀ a, (k0_off43 v665) a + S8x128.size a ≤ S7688x256.size a) ∧
  (∀ (k0_h1 : k0_cond1 arg0 v1 = 1#1), ∀ a, (k0_off44 v665) a + S8x128.size a ≤ S7688x256.size a)
theorem k0_mult22_dvd : ∀ (arg0 : BitVec 32) (v1 : BitVec 32) (v665 : BitVec 32) (k0_hw22 : k0_chk22 arg0 v1 v665), ∀ (k0_h1 : k0_cond1 arg0 v1 = 1#1), 8 ∣ (k0_mult22 v665).toNat := fun arg0 v1 v665 k0_hw22 k0_h1 => k0_hw22.1 k0_h1
theorem k0_off43_inb : ∀ (arg0 : BitVec 32) (v1 : BitVec 32) (v665 : BitVec 32) (k0_hw22 : k0_chk22 arg0 v1 v665), ∀ (k0_h1 : k0_cond1 arg0 v1 = 1#1), ∀ a, (k0_off43 v665) a + S8x128.size a ≤ S7688x256.size a := fun arg0 v1 v665 k0_hw22 k0_h1 => k0_hw22.2.1 k0_h1
theorem k0_off44_inb : ∀ (arg0 : BitVec 32) (v1 : BitVec 32) (v665 : BitVec 32) (k0_hw22 : k0_chk22 arg0 v1 v665), ∀ (k0_h1 : k0_cond1 arg0 v1 = 1#1), ∀ a, (k0_off44 v665) a + S8x128.size a ≤ S7688x256.size a := fun arg0 v1 v665 k0_hw22 k0_h1 => k0_hw22.2.2 k0_h1

def k0_mult23 (v695 : BitVec 32) : BitVec 32 :=
  let c1_i32_174 : BitVec 32 := 1#32
  let v715 : BitVec 32 := Scalar.shrsi v695 c1_i32_174
  v715

def k0_off45 (v695 : BitVec 32) : Fin 2 → Nat :=
  let c1_i32_174 : BitVec 32 := 1#32
  let v715 : BitVec 32 := Scalar.shrsi v695 c1_i32_174
  let v716 : BitVec 32 := v715
  let v717 : Index := Scalar.indexCast v716
  let c0_175 : Index := 0#32
  ![v717.toNat, 0]
def k0_off46 (v695 : BitVec 32) : Fin 2 → Nat :=
  let c1_i32_174 : BitVec 32 := 1#32
  let v715 : BitVec 32 := Scalar.shrsi v695 c1_i32_174
  let v716 : BitVec 32 := v715
  let v721 : Index := Scalar.indexCast v716
  let c128_176 : Index := 128#32
  ![v721.toNat, 128]

def k0_chk23 (arg0 : BitVec 32) (v1 : BitVec 32) (v695 : BitVec 32) : Prop :=
  (∀ (k0_h1 : k0_cond1 arg0 v1 = 1#1), 8 ∣ (k0_mult23 v695).toNat) ∧
  (∀ (k0_h1 : k0_cond1 arg0 v1 = 1#1), ∀ a, (k0_off45 v695) a + S8x128.size a ≤ S7688x256.size a) ∧
  (∀ (k0_h1 : k0_cond1 arg0 v1 = 1#1), ∀ a, (k0_off46 v695) a + S8x128.size a ≤ S7688x256.size a)
theorem k0_mult23_dvd : ∀ (arg0 : BitVec 32) (v1 : BitVec 32) (v695 : BitVec 32) (k0_hw23 : k0_chk23 arg0 v1 v695), ∀ (k0_h1 : k0_cond1 arg0 v1 = 1#1), 8 ∣ (k0_mult23 v695).toNat := fun arg0 v1 v695 k0_hw23 k0_h1 => k0_hw23.1 k0_h1
theorem k0_off45_inb : ∀ (arg0 : BitVec 32) (v1 : BitVec 32) (v695 : BitVec 32) (k0_hw23 : k0_chk23 arg0 v1 v695), ∀ (k0_h1 : k0_cond1 arg0 v1 = 1#1), ∀ a, (k0_off45 v695) a + S8x128.size a ≤ S7688x256.size a := fun arg0 v1 v695 k0_hw23 k0_h1 => k0_hw23.2.1 k0_h1
theorem k0_off46_inb : ∀ (arg0 : BitVec 32) (v1 : BitVec 32) (v695 : BitVec 32) (k0_hw23 : k0_chk23 arg0 v1 v695), ∀ (k0_h1 : k0_cond1 arg0 v1 = 1#1), ∀ a, (k0_off46 v695) a + S8x128.size a ≤ S7688x256.size a := fun arg0 v1 v695 k0_hw23 k0_h1 => k0_hw23.2.2 k0_h1

def k0_mult24 (v725 : BitVec 32) : BitVec 32 :=
  let c1_i32_181 : BitVec 32 := 1#32
  let v745 : BitVec 32 := Scalar.shrsi v725 c1_i32_181
  v745

def k0_off47 (v725 : BitVec 32) : Fin 2 → Nat :=
  let c1_i32_181 : BitVec 32 := 1#32
  let v745 : BitVec 32 := Scalar.shrsi v725 c1_i32_181
  let v746 : BitVec 32 := v745
  let v747 : Index := Scalar.indexCast v746
  let c0_182 : Index := 0#32
  ![v747.toNat, 0]
def k0_off48 (v725 : BitVec 32) : Fin 2 → Nat :=
  let c1_i32_181 : BitVec 32 := 1#32
  let v745 : BitVec 32 := Scalar.shrsi v725 c1_i32_181
  let v746 : BitVec 32 := v745
  let v751 : Index := Scalar.indexCast v746
  let c128_183 : Index := 128#32
  ![v751.toNat, 128]

def k0_chk24 (arg0 : BitVec 32) (v1 : BitVec 32) (v725 : BitVec 32) : Prop :=
  (∀ (k0_h1 : k0_cond1 arg0 v1 = 1#1), 8 ∣ (k0_mult24 v725).toNat) ∧
  (∀ (k0_h1 : k0_cond1 arg0 v1 = 1#1), ∀ a, (k0_off47 v725) a + S8x128.size a ≤ S7688x256.size a) ∧
  (∀ (k0_h1 : k0_cond1 arg0 v1 = 1#1), ∀ a, (k0_off48 v725) a + S8x128.size a ≤ S7688x256.size a)
theorem k0_mult24_dvd : ∀ (arg0 : BitVec 32) (v1 : BitVec 32) (v725 : BitVec 32) (k0_hw24 : k0_chk24 arg0 v1 v725), ∀ (k0_h1 : k0_cond1 arg0 v1 = 1#1), 8 ∣ (k0_mult24 v725).toNat := fun arg0 v1 v725 k0_hw24 k0_h1 => k0_hw24.1 k0_h1
theorem k0_off47_inb : ∀ (arg0 : BitVec 32) (v1 : BitVec 32) (v725 : BitVec 32) (k0_hw24 : k0_chk24 arg0 v1 v725), ∀ (k0_h1 : k0_cond1 arg0 v1 = 1#1), ∀ a, (k0_off47 v725) a + S8x128.size a ≤ S7688x256.size a := fun arg0 v1 v725 k0_hw24 k0_h1 => k0_hw24.2.1 k0_h1
theorem k0_off48_inb : ∀ (arg0 : BitVec 32) (v1 : BitVec 32) (v725 : BitVec 32) (k0_hw24 : k0_chk24 arg0 v1 v725), ∀ (k0_h1 : k0_cond1 arg0 v1 = 1#1), ∀ a, (k0_off48 v725) a + S8x128.size a ≤ S7688x256.size a := fun arg0 v1 v725 k0_hw24 k0_h1 => k0_hw24.2.2 k0_h1

def k0_mult25 (v755 : BitVec 32) : BitVec 32 :=
  let c1_i32_188 : BitVec 32 := 1#32
  let v775 : BitVec 32 := Scalar.shrsi v755 c1_i32_188
  v775

def k0_off49 (v755 : BitVec 32) : Fin 2 → Nat :=
  let c1_i32_188 : BitVec 32 := 1#32
  let v775 : BitVec 32 := Scalar.shrsi v755 c1_i32_188
  let v776 : BitVec 32 := v775
  let v777 : Index := Scalar.indexCast v776
  let c0_189 : Index := 0#32
  ![v777.toNat, 0]
def k0_off50 (v755 : BitVec 32) : Fin 2 → Nat :=
  let c1_i32_188 : BitVec 32 := 1#32
  let v775 : BitVec 32 := Scalar.shrsi v755 c1_i32_188
  let v776 : BitVec 32 := v775
  let v781 : Index := Scalar.indexCast v776
  let c128_190 : Index := 128#32
  ![v781.toNat, 128]

def k0_chk25 (arg0 : BitVec 32) (v1 : BitVec 32) (v755 : BitVec 32) : Prop :=
  (∀ (k0_h1 : k0_cond1 arg0 v1 = 1#1), 8 ∣ (k0_mult25 v755).toNat) ∧
  (∀ (k0_h1 : k0_cond1 arg0 v1 = 1#1), ∀ a, (k0_off49 v755) a + S8x128.size a ≤ S7688x256.size a) ∧
  (∀ (k0_h1 : k0_cond1 arg0 v1 = 1#1), ∀ a, (k0_off50 v755) a + S8x128.size a ≤ S7688x256.size a)
theorem k0_mult25_dvd : ∀ (arg0 : BitVec 32) (v1 : BitVec 32) (v755 : BitVec 32) (k0_hw25 : k0_chk25 arg0 v1 v755), ∀ (k0_h1 : k0_cond1 arg0 v1 = 1#1), 8 ∣ (k0_mult25 v755).toNat := fun arg0 v1 v755 k0_hw25 k0_h1 => k0_hw25.1 k0_h1
theorem k0_off49_inb : ∀ (arg0 : BitVec 32) (v1 : BitVec 32) (v755 : BitVec 32) (k0_hw25 : k0_chk25 arg0 v1 v755), ∀ (k0_h1 : k0_cond1 arg0 v1 = 1#1), ∀ a, (k0_off49 v755) a + S8x128.size a ≤ S7688x256.size a := fun arg0 v1 v755 k0_hw25 k0_h1 => k0_hw25.2.1 k0_h1
theorem k0_off50_inb : ∀ (arg0 : BitVec 32) (v1 : BitVec 32) (v755 : BitVec 32) (k0_hw25 : k0_chk25 arg0 v1 v755), ∀ (k0_h1 : k0_cond1 arg0 v1 = 1#1), ∀ a, (k0_off50 v755) a + S8x128.size a ≤ S7688x256.size a := fun arg0 v1 v755 k0_hw25 k0_h1 => k0_hw25.2.2 k0_h1

def k0_mult26 (v785 : BitVec 32) : BitVec 32 :=
  let c1_i32_195 : BitVec 32 := 1#32
  let v805 : BitVec 32 := Scalar.shrsi v785 c1_i32_195
  v805

def k0_off51 (v785 : BitVec 32) : Fin 2 → Nat :=
  let c1_i32_195 : BitVec 32 := 1#32
  let v805 : BitVec 32 := Scalar.shrsi v785 c1_i32_195
  let v806 : BitVec 32 := v805
  let v807 : Index := Scalar.indexCast v806
  let c0_196 : Index := 0#32
  ![v807.toNat, 0]
def k0_off52 (v785 : BitVec 32) : Fin 2 → Nat :=
  let c1_i32_195 : BitVec 32 := 1#32
  let v805 : BitVec 32 := Scalar.shrsi v785 c1_i32_195
  let v806 : BitVec 32 := v805
  let v811 : Index := Scalar.indexCast v806
  let c128_197 : Index := 128#32
  ![v811.toNat, 128]

def k0_chk26 (arg0 : BitVec 32) (v1 : BitVec 32) (v785 : BitVec 32) : Prop :=
  (∀ (k0_h1 : k0_cond1 arg0 v1 = 1#1), 8 ∣ (k0_mult26 v785).toNat) ∧
  (∀ (k0_h1 : k0_cond1 arg0 v1 = 1#1), ∀ a, (k0_off51 v785) a + S8x128.size a ≤ S7688x256.size a) ∧
  (∀ (k0_h1 : k0_cond1 arg0 v1 = 1#1), ∀ a, (k0_off52 v785) a + S8x128.size a ≤ S7688x256.size a)
theorem k0_mult26_dvd : ∀ (arg0 : BitVec 32) (v1 : BitVec 32) (v785 : BitVec 32) (k0_hw26 : k0_chk26 arg0 v1 v785), ∀ (k0_h1 : k0_cond1 arg0 v1 = 1#1), 8 ∣ (k0_mult26 v785).toNat := fun arg0 v1 v785 k0_hw26 k0_h1 => k0_hw26.1 k0_h1
theorem k0_off51_inb : ∀ (arg0 : BitVec 32) (v1 : BitVec 32) (v785 : BitVec 32) (k0_hw26 : k0_chk26 arg0 v1 v785), ∀ (k0_h1 : k0_cond1 arg0 v1 = 1#1), ∀ a, (k0_off51 v785) a + S8x128.size a ≤ S7688x256.size a := fun arg0 v1 v785 k0_hw26 k0_h1 => k0_hw26.2.1 k0_h1
theorem k0_off52_inb : ∀ (arg0 : BitVec 32) (v1 : BitVec 32) (v785 : BitVec 32) (k0_hw26 : k0_chk26 arg0 v1 v785), ∀ (k0_h1 : k0_cond1 arg0 v1 = 1#1), ∀ a, (k0_off52 v785) a + S8x128.size a ≤ S7688x256.size a := fun arg0 v1 v785 k0_hw26 k0_h1 => k0_hw26.2.2 k0_h1

def k0_mult27 (v815 : BitVec 32) : BitVec 32 :=
  let c1_i32_202 : BitVec 32 := 1#32
  let v835 : BitVec 32 := Scalar.shrsi v815 c1_i32_202
  v835

def k0_off53 (v815 : BitVec 32) : Fin 2 → Nat :=
  let c1_i32_202 : BitVec 32 := 1#32
  let v835 : BitVec 32 := Scalar.shrsi v815 c1_i32_202
  let v836 : BitVec 32 := v835
  let v837 : Index := Scalar.indexCast v836
  let c0_203 : Index := 0#32
  ![v837.toNat, 0]
def k0_off54 (v815 : BitVec 32) : Fin 2 → Nat :=
  let c1_i32_202 : BitVec 32 := 1#32
  let v835 : BitVec 32 := Scalar.shrsi v815 c1_i32_202
  let v836 : BitVec 32 := v835
  let v841 : Index := Scalar.indexCast v836
  let c128_204 : Index := 128#32
  ![v841.toNat, 128]

def k0_chk27 (arg0 : BitVec 32) (v1 : BitVec 32) (v815 : BitVec 32) : Prop :=
  (∀ (k0_h1 : k0_cond1 arg0 v1 = 1#1), 8 ∣ (k0_mult27 v815).toNat) ∧
  (∀ (k0_h1 : k0_cond1 arg0 v1 = 1#1), ∀ a, (k0_off53 v815) a + S8x128.size a ≤ S7688x256.size a) ∧
  (∀ (k0_h1 : k0_cond1 arg0 v1 = 1#1), ∀ a, (k0_off54 v815) a + S8x128.size a ≤ S7688x256.size a)
theorem k0_mult27_dvd : ∀ (arg0 : BitVec 32) (v1 : BitVec 32) (v815 : BitVec 32) (k0_hw27 : k0_chk27 arg0 v1 v815), ∀ (k0_h1 : k0_cond1 arg0 v1 = 1#1), 8 ∣ (k0_mult27 v815).toNat := fun arg0 v1 v815 k0_hw27 k0_h1 => k0_hw27.1 k0_h1
theorem k0_off53_inb : ∀ (arg0 : BitVec 32) (v1 : BitVec 32) (v815 : BitVec 32) (k0_hw27 : k0_chk27 arg0 v1 v815), ∀ (k0_h1 : k0_cond1 arg0 v1 = 1#1), ∀ a, (k0_off53 v815) a + S8x128.size a ≤ S7688x256.size a := fun arg0 v1 v815 k0_hw27 k0_h1 => k0_hw27.2.1 k0_h1
theorem k0_off54_inb : ∀ (arg0 : BitVec 32) (v1 : BitVec 32) (v815 : BitVec 32) (k0_hw27 : k0_chk27 arg0 v1 v815), ∀ (k0_h1 : k0_cond1 arg0 v1 = 1#1), ∀ a, (k0_off54 v815) a + S8x128.size a ≤ S7688x256.size a := fun arg0 v1 v815 k0_hw27 k0_h1 => k0_hw27.2.2 k0_h1

def k0_mult28 (v845 : BitVec 32) : BitVec 32 :=
  let c1_i32_209 : BitVec 32 := 1#32
  let v865 : BitVec 32 := Scalar.shrsi v845 c1_i32_209
  v865

def k0_off55 (v845 : BitVec 32) : Fin 2 → Nat :=
  let c1_i32_209 : BitVec 32 := 1#32
  let v865 : BitVec 32 := Scalar.shrsi v845 c1_i32_209
  let v866 : BitVec 32 := v865
  let v867 : Index := Scalar.indexCast v866
  let c0_210 : Index := 0#32
  ![v867.toNat, 0]
def k0_off56 (v845 : BitVec 32) : Fin 2 → Nat :=
  let c1_i32_209 : BitVec 32 := 1#32
  let v865 : BitVec 32 := Scalar.shrsi v845 c1_i32_209
  let v866 : BitVec 32 := v865
  let v871 : Index := Scalar.indexCast v866
  let c128_211 : Index := 128#32
  ![v871.toNat, 128]

def k0_chk28 (arg0 : BitVec 32) (v1 : BitVec 32) (v845 : BitVec 32) : Prop :=
  (∀ (k0_h1 : k0_cond1 arg0 v1 = 1#1), 8 ∣ (k0_mult28 v845).toNat) ∧
  (∀ (k0_h1 : k0_cond1 arg0 v1 = 1#1), ∀ a, (k0_off55 v845) a + S8x128.size a ≤ S7688x256.size a) ∧
  (∀ (k0_h1 : k0_cond1 arg0 v1 = 1#1), ∀ a, (k0_off56 v845) a + S8x128.size a ≤ S7688x256.size a)
theorem k0_mult28_dvd : ∀ (arg0 : BitVec 32) (v1 : BitVec 32) (v845 : BitVec 32) (k0_hw28 : k0_chk28 arg0 v1 v845), ∀ (k0_h1 : k0_cond1 arg0 v1 = 1#1), 8 ∣ (k0_mult28 v845).toNat := fun arg0 v1 v845 k0_hw28 k0_h1 => k0_hw28.1 k0_h1
theorem k0_off55_inb : ∀ (arg0 : BitVec 32) (v1 : BitVec 32) (v845 : BitVec 32) (k0_hw28 : k0_chk28 arg0 v1 v845), ∀ (k0_h1 : k0_cond1 arg0 v1 = 1#1), ∀ a, (k0_off55 v845) a + S8x128.size a ≤ S7688x256.size a := fun arg0 v1 v845 k0_hw28 k0_h1 => k0_hw28.2.1 k0_h1
theorem k0_off56_inb : ∀ (arg0 : BitVec 32) (v1 : BitVec 32) (v845 : BitVec 32) (k0_hw28 : k0_chk28 arg0 v1 v845), ∀ (k0_h1 : k0_cond1 arg0 v1 = 1#1), ∀ a, (k0_off56 v845) a + S8x128.size a ≤ S7688x256.size a := fun arg0 v1 v845 k0_hw28 k0_h1 => k0_hw28.2.2 k0_h1

def k0_mult29 (v875 : BitVec 32) : BitVec 32 :=
  let c1_i32_216 : BitVec 32 := 1#32
  let v895 : BitVec 32 := Scalar.shrsi v875 c1_i32_216
  v895

def k0_off57 (v875 : BitVec 32) : Fin 2 → Nat :=
  let c1_i32_216 : BitVec 32 := 1#32
  let v895 : BitVec 32 := Scalar.shrsi v875 c1_i32_216
  let v896 : BitVec 32 := v895
  let v897 : Index := Scalar.indexCast v896
  let c0_217 : Index := 0#32
  ![v897.toNat, 0]
def k0_off58 (v875 : BitVec 32) : Fin 2 → Nat :=
  let c1_i32_216 : BitVec 32 := 1#32
  let v895 : BitVec 32 := Scalar.shrsi v875 c1_i32_216
  let v896 : BitVec 32 := v895
  let v901 : Index := Scalar.indexCast v896
  let c128_218 : Index := 128#32
  ![v901.toNat, 128]

def k0_chk29 (arg0 : BitVec 32) (v1 : BitVec 32) (v875 : BitVec 32) : Prop :=
  (∀ (k0_h1 : k0_cond1 arg0 v1 = 1#1), 8 ∣ (k0_mult29 v875).toNat) ∧
  (∀ (k0_h1 : k0_cond1 arg0 v1 = 1#1), ∀ a, (k0_off57 v875) a + S8x128.size a ≤ S7688x256.size a) ∧
  (∀ (k0_h1 : k0_cond1 arg0 v1 = 1#1), ∀ a, (k0_off58 v875) a + S8x128.size a ≤ S7688x256.size a)
theorem k0_mult29_dvd : ∀ (arg0 : BitVec 32) (v1 : BitVec 32) (v875 : BitVec 32) (k0_hw29 : k0_chk29 arg0 v1 v875), ∀ (k0_h1 : k0_cond1 arg0 v1 = 1#1), 8 ∣ (k0_mult29 v875).toNat := fun arg0 v1 v875 k0_hw29 k0_h1 => k0_hw29.1 k0_h1
theorem k0_off57_inb : ∀ (arg0 : BitVec 32) (v1 : BitVec 32) (v875 : BitVec 32) (k0_hw29 : k0_chk29 arg0 v1 v875), ∀ (k0_h1 : k0_cond1 arg0 v1 = 1#1), ∀ a, (k0_off57 v875) a + S8x128.size a ≤ S7688x256.size a := fun arg0 v1 v875 k0_hw29 k0_h1 => k0_hw29.2.1 k0_h1
theorem k0_off58_inb : ∀ (arg0 : BitVec 32) (v1 : BitVec 32) (v875 : BitVec 32) (k0_hw29 : k0_chk29 arg0 v1 v875), ∀ (k0_h1 : k0_cond1 arg0 v1 = 1#1), ∀ a, (k0_off58 v875) a + S8x128.size a ≤ S7688x256.size a := fun arg0 v1 v875 k0_hw29 k0_h1 => k0_hw29.2.2 k0_h1

def k0_mult30 (v905 : BitVec 32) : BitVec 32 :=
  let c1_i32_223 : BitVec 32 := 1#32
  let v925 : BitVec 32 := Scalar.shrsi v905 c1_i32_223
  v925

def k0_off59 (v905 : BitVec 32) : Fin 2 → Nat :=
  let c1_i32_223 : BitVec 32 := 1#32
  let v925 : BitVec 32 := Scalar.shrsi v905 c1_i32_223
  let v926 : BitVec 32 := v925
  let v927 : Index := Scalar.indexCast v926
  let c0_224 : Index := 0#32
  ![v927.toNat, 0]
def k0_off60 (v905 : BitVec 32) : Fin 2 → Nat :=
  let c1_i32_223 : BitVec 32 := 1#32
  let v925 : BitVec 32 := Scalar.shrsi v905 c1_i32_223
  let v926 : BitVec 32 := v925
  let v931 : Index := Scalar.indexCast v926
  let c128_225 : Index := 128#32
  ![v931.toNat, 128]

def k0_chk30 (arg0 : BitVec 32) (v1 : BitVec 32) (v905 : BitVec 32) : Prop :=
  (∀ (k0_h1 : k0_cond1 arg0 v1 = 1#1), 8 ∣ (k0_mult30 v905).toNat) ∧
  (∀ (k0_h1 : k0_cond1 arg0 v1 = 1#1), ∀ a, (k0_off59 v905) a + S8x128.size a ≤ S7688x256.size a) ∧
  (∀ (k0_h1 : k0_cond1 arg0 v1 = 1#1), ∀ a, (k0_off60 v905) a + S8x128.size a ≤ S7688x256.size a)
theorem k0_mult30_dvd : ∀ (arg0 : BitVec 32) (v1 : BitVec 32) (v905 : BitVec 32) (k0_hw30 : k0_chk30 arg0 v1 v905), ∀ (k0_h1 : k0_cond1 arg0 v1 = 1#1), 8 ∣ (k0_mult30 v905).toNat := fun arg0 v1 v905 k0_hw30 k0_h1 => k0_hw30.1 k0_h1
theorem k0_off59_inb : ∀ (arg0 : BitVec 32) (v1 : BitVec 32) (v905 : BitVec 32) (k0_hw30 : k0_chk30 arg0 v1 v905), ∀ (k0_h1 : k0_cond1 arg0 v1 = 1#1), ∀ a, (k0_off59 v905) a + S8x128.size a ≤ S7688x256.size a := fun arg0 v1 v905 k0_hw30 k0_h1 => k0_hw30.2.1 k0_h1
theorem k0_off60_inb : ∀ (arg0 : BitVec 32) (v1 : BitVec 32) (v905 : BitVec 32) (k0_hw30 : k0_chk30 arg0 v1 v905), ∀ (k0_h1 : k0_cond1 arg0 v1 = 1#1), ∀ a, (k0_off60 v905) a + S8x128.size a ≤ S7688x256.size a := fun arg0 v1 v905 k0_hw30 k0_h1 => k0_hw30.2.2 k0_h1

def k0_mult31 (v935 : BitVec 32) : BitVec 32 :=
  let c1_i32_230 : BitVec 32 := 1#32
  let v955 : BitVec 32 := Scalar.shrsi v935 c1_i32_230
  v955

def k0_off61 (v935 : BitVec 32) : Fin 2 → Nat :=
  let c1_i32_230 : BitVec 32 := 1#32
  let v955 : BitVec 32 := Scalar.shrsi v935 c1_i32_230
  let v956 : BitVec 32 := v955
  let v957 : Index := Scalar.indexCast v956
  let c0_231 : Index := 0#32
  ![v957.toNat, 0]
def k0_off62 (v935 : BitVec 32) : Fin 2 → Nat :=
  let c1_i32_230 : BitVec 32 := 1#32
  let v955 : BitVec 32 := Scalar.shrsi v935 c1_i32_230
  let v956 : BitVec 32 := v955
  let v961 : Index := Scalar.indexCast v956
  let c128_232 : Index := 128#32
  ![v961.toNat, 128]

def k0_chk31 (arg0 : BitVec 32) (v1 : BitVec 32) (v935 : BitVec 32) : Prop :=
  (∀ (k0_h1 : k0_cond1 arg0 v1 = 1#1), 8 ∣ (k0_mult31 v935).toNat) ∧
  (∀ (k0_h1 : k0_cond1 arg0 v1 = 1#1), ∀ a, (k0_off61 v935) a + S8x128.size a ≤ S7688x256.size a) ∧
  (∀ (k0_h1 : k0_cond1 arg0 v1 = 1#1), ∀ a, (k0_off62 v935) a + S8x128.size a ≤ S7688x256.size a)
theorem k0_mult31_dvd : ∀ (arg0 : BitVec 32) (v1 : BitVec 32) (v935 : BitVec 32) (k0_hw31 : k0_chk31 arg0 v1 v935), ∀ (k0_h1 : k0_cond1 arg0 v1 = 1#1), 8 ∣ (k0_mult31 v935).toNat := fun arg0 v1 v935 k0_hw31 k0_h1 => k0_hw31.1 k0_h1
theorem k0_off61_inb : ∀ (arg0 : BitVec 32) (v1 : BitVec 32) (v935 : BitVec 32) (k0_hw31 : k0_chk31 arg0 v1 v935), ∀ (k0_h1 : k0_cond1 arg0 v1 = 1#1), ∀ a, (k0_off61 v935) a + S8x128.size a ≤ S7688x256.size a := fun arg0 v1 v935 k0_hw31 k0_h1 => k0_hw31.2.1 k0_h1
theorem k0_off62_inb : ∀ (arg0 : BitVec 32) (v1 : BitVec 32) (v935 : BitVec 32) (k0_hw31 : k0_chk31 arg0 v1 v935), ∀ (k0_h1 : k0_cond1 arg0 v1 = 1#1), ∀ a, (k0_off62 v935) a + S8x128.size a ≤ S7688x256.size a := fun arg0 v1 v935 k0_hw31 k0_h1 => k0_hw31.2.2 k0_h1

def k0_mult32 (v965 : BitVec 32) : BitVec 32 :=
  let c1_i32_237 : BitVec 32 := 1#32
  let v985 : BitVec 32 := Scalar.shrsi v965 c1_i32_237
  v985

def k0_off63 (v965 : BitVec 32) : Fin 2 → Nat :=
  let c1_i32_237 : BitVec 32 := 1#32
  let v985 : BitVec 32 := Scalar.shrsi v965 c1_i32_237
  let v986 : BitVec 32 := v985
  let v987 : Index := Scalar.indexCast v986
  let c0_238 : Index := 0#32
  ![v987.toNat, 0]
def k0_off64 (v965 : BitVec 32) : Fin 2 → Nat :=
  let c1_i32_237 : BitVec 32 := 1#32
  let v985 : BitVec 32 := Scalar.shrsi v965 c1_i32_237
  let v986 : BitVec 32 := v985
  let v991 : Index := Scalar.indexCast v986
  let c128_239 : Index := 128#32
  ![v991.toNat, 128]

def k0_chk32 (arg0 : BitVec 32) (v1 : BitVec 32) (v965 : BitVec 32) : Prop :=
  (∀ (k0_h1 : k0_cond1 arg0 v1 = 1#1), 8 ∣ (k0_mult32 v965).toNat) ∧
  (∀ (k0_h1 : k0_cond1 arg0 v1 = 1#1), ∀ a, (k0_off63 v965) a + S8x128.size a ≤ S7688x256.size a) ∧
  (∀ (k0_h1 : k0_cond1 arg0 v1 = 1#1), ∀ a, (k0_off64 v965) a + S8x128.size a ≤ S7688x256.size a)
theorem k0_mult32_dvd : ∀ (arg0 : BitVec 32) (v1 : BitVec 32) (v965 : BitVec 32) (k0_hw32 : k0_chk32 arg0 v1 v965), ∀ (k0_h1 : k0_cond1 arg0 v1 = 1#1), 8 ∣ (k0_mult32 v965).toNat := fun arg0 v1 v965 k0_hw32 k0_h1 => k0_hw32.1 k0_h1
theorem k0_off63_inb : ∀ (arg0 : BitVec 32) (v1 : BitVec 32) (v965 : BitVec 32) (k0_hw32 : k0_chk32 arg0 v1 v965), ∀ (k0_h1 : k0_cond1 arg0 v1 = 1#1), ∀ a, (k0_off63 v965) a + S8x128.size a ≤ S7688x256.size a := fun arg0 v1 v965 k0_hw32 k0_h1 => k0_hw32.2.1 k0_h1
theorem k0_off64_inb : ∀ (arg0 : BitVec 32) (v1 : BitVec 32) (v965 : BitVec 32) (k0_hw32 : k0_chk32 arg0 v1 v965), ∀ (k0_h1 : k0_cond1 arg0 v1 = 1#1), ∀ a, (k0_off64 v965) a + S8x128.size a ≤ S7688x256.size a := fun arg0 v1 v965 k0_hw32 k0_h1 => k0_hw32.2.2 k0_h1

def k0_mult33 (v995 : BitVec 32) : BitVec 32 :=
  let c1_i32_244 : BitVec 32 := 1#32
  let v1015 : BitVec 32 := Scalar.shrsi v995 c1_i32_244
  v1015

def k0_off65 (v995 : BitVec 32) : Fin 2 → Nat :=
  let c1_i32_244 : BitVec 32 := 1#32
  let v1015 : BitVec 32 := Scalar.shrsi v995 c1_i32_244
  let v1016 : BitVec 32 := v1015
  let v1017 : Index := Scalar.indexCast v1016
  let c0_245 : Index := 0#32
  ![v1017.toNat, 0]
def k0_off66 (v995 : BitVec 32) : Fin 2 → Nat :=
  let c1_i32_244 : BitVec 32 := 1#32
  let v1015 : BitVec 32 := Scalar.shrsi v995 c1_i32_244
  let v1016 : BitVec 32 := v1015
  let v1021 : Index := Scalar.indexCast v1016
  let c128_246 : Index := 128#32
  ![v1021.toNat, 128]

def k0_chk33 (arg0 : BitVec 32) (v1 : BitVec 32) (v995 : BitVec 32) : Prop :=
  (∀ (k0_h1 : k0_cond1 arg0 v1 = 1#1), 8 ∣ (k0_mult33 v995).toNat) ∧
  (∀ (k0_h1 : k0_cond1 arg0 v1 = 1#1), ∀ a, (k0_off65 v995) a + S8x128.size a ≤ S7688x256.size a) ∧
  (∀ (k0_h1 : k0_cond1 arg0 v1 = 1#1), ∀ a, (k0_off66 v995) a + S8x128.size a ≤ S7688x256.size a)
theorem k0_mult33_dvd : ∀ (arg0 : BitVec 32) (v1 : BitVec 32) (v995 : BitVec 32) (k0_hw33 : k0_chk33 arg0 v1 v995), ∀ (k0_h1 : k0_cond1 arg0 v1 = 1#1), 8 ∣ (k0_mult33 v995).toNat := fun arg0 v1 v995 k0_hw33 k0_h1 => k0_hw33.1 k0_h1
theorem k0_off65_inb : ∀ (arg0 : BitVec 32) (v1 : BitVec 32) (v995 : BitVec 32) (k0_hw33 : k0_chk33 arg0 v1 v995), ∀ (k0_h1 : k0_cond1 arg0 v1 = 1#1), ∀ a, (k0_off65 v995) a + S8x128.size a ≤ S7688x256.size a := fun arg0 v1 v995 k0_hw33 k0_h1 => k0_hw33.2.1 k0_h1
theorem k0_off66_inb : ∀ (arg0 : BitVec 32) (v1 : BitVec 32) (v995 : BitVec 32) (k0_hw33 : k0_chk33 arg0 v1 v995), ∀ (k0_h1 : k0_cond1 arg0 v1 = 1#1), ∀ a, (k0_off66 v995) a + S8x128.size a ≤ S7688x256.size a := fun arg0 v1 v995 k0_hw33 k0_h1 => k0_hw33.2.2 k0_h1

def k0_mult34 (v1025 : BitVec 32) : BitVec 32 :=
  let c1_i32_251 : BitVec 32 := 1#32
  let v1045 : BitVec 32 := Scalar.shrsi v1025 c1_i32_251
  v1045

def k0_off67 (v1025 : BitVec 32) : Fin 2 → Nat :=
  let c1_i32_251 : BitVec 32 := 1#32
  let v1045 : BitVec 32 := Scalar.shrsi v1025 c1_i32_251
  let v1046 : BitVec 32 := v1045
  let v1047 : Index := Scalar.indexCast v1046
  let c0_252 : Index := 0#32
  ![v1047.toNat, 0]
def k0_off68 (v1025 : BitVec 32) : Fin 2 → Nat :=
  let c1_i32_251 : BitVec 32 := 1#32
  let v1045 : BitVec 32 := Scalar.shrsi v1025 c1_i32_251
  let v1046 : BitVec 32 := v1045
  let v1051 : Index := Scalar.indexCast v1046
  let c128_253 : Index := 128#32
  ![v1051.toNat, 128]

def k0_chk34 (arg0 : BitVec 32) (v1 : BitVec 32) (v1025 : BitVec 32) : Prop :=
  (∀ (k0_h1 : k0_cond1 arg0 v1 = 1#1), 8 ∣ (k0_mult34 v1025).toNat) ∧
  (∀ (k0_h1 : k0_cond1 arg0 v1 = 1#1), ∀ a, (k0_off67 v1025) a + S8x128.size a ≤ S7688x256.size a) ∧
  (∀ (k0_h1 : k0_cond1 arg0 v1 = 1#1), ∀ a, (k0_off68 v1025) a + S8x128.size a ≤ S7688x256.size a)
theorem k0_mult34_dvd : ∀ (arg0 : BitVec 32) (v1 : BitVec 32) (v1025 : BitVec 32) (k0_hw34 : k0_chk34 arg0 v1 v1025), ∀ (k0_h1 : k0_cond1 arg0 v1 = 1#1), 8 ∣ (k0_mult34 v1025).toNat := fun arg0 v1 v1025 k0_hw34 k0_h1 => k0_hw34.1 k0_h1
theorem k0_off67_inb : ∀ (arg0 : BitVec 32) (v1 : BitVec 32) (v1025 : BitVec 32) (k0_hw34 : k0_chk34 arg0 v1 v1025), ∀ (k0_h1 : k0_cond1 arg0 v1 = 1#1), ∀ a, (k0_off67 v1025) a + S8x128.size a ≤ S7688x256.size a := fun arg0 v1 v1025 k0_hw34 k0_h1 => k0_hw34.2.1 k0_h1
theorem k0_off68_inb : ∀ (arg0 : BitVec 32) (v1 : BitVec 32) (v1025 : BitVec 32) (k0_hw34 : k0_chk34 arg0 v1 v1025), ∀ (k0_h1 : k0_cond1 arg0 v1 = 1#1), ∀ a, (k0_off68 v1025) a + S8x128.size a ≤ S7688x256.size a := fun arg0 v1 v1025 k0_hw34 k0_h1 => k0_hw34.2.2 k0_h1

def k0_mult35 (v1055 : BitVec 32) : BitVec 32 :=
  let c1_i32_258 : BitVec 32 := 1#32
  let v1075 : BitVec 32 := Scalar.shrsi v1055 c1_i32_258
  v1075

def k0_off69 (v1055 : BitVec 32) : Fin 2 → Nat :=
  let c1_i32_258 : BitVec 32 := 1#32
  let v1075 : BitVec 32 := Scalar.shrsi v1055 c1_i32_258
  let v1076 : BitVec 32 := v1075
  let v1077 : Index := Scalar.indexCast v1076
  let c0_259 : Index := 0#32
  ![v1077.toNat, 0]
def k0_off70 (v1055 : BitVec 32) : Fin 2 → Nat :=
  let c1_i32_258 : BitVec 32 := 1#32
  let v1075 : BitVec 32 := Scalar.shrsi v1055 c1_i32_258
  let v1076 : BitVec 32 := v1075
  let v1081 : Index := Scalar.indexCast v1076
  let c128_260 : Index := 128#32
  ![v1081.toNat, 128]

def k0_chk35 (arg0 : BitVec 32) (v1 : BitVec 32) (v1055 : BitVec 32) : Prop :=
  (∀ (k0_h1 : k0_cond1 arg0 v1 = 1#1), 8 ∣ (k0_mult35 v1055).toNat) ∧
  (∀ (k0_h1 : k0_cond1 arg0 v1 = 1#1), ∀ a, (k0_off69 v1055) a + S8x128.size a ≤ S7688x256.size a) ∧
  (∀ (k0_h1 : k0_cond1 arg0 v1 = 1#1), ∀ a, (k0_off70 v1055) a + S8x128.size a ≤ S7688x256.size a)
theorem k0_mult35_dvd : ∀ (arg0 : BitVec 32) (v1 : BitVec 32) (v1055 : BitVec 32) (k0_hw35 : k0_chk35 arg0 v1 v1055), ∀ (k0_h1 : k0_cond1 arg0 v1 = 1#1), 8 ∣ (k0_mult35 v1055).toNat := fun arg0 v1 v1055 k0_hw35 k0_h1 => k0_hw35.1 k0_h1
theorem k0_off69_inb : ∀ (arg0 : BitVec 32) (v1 : BitVec 32) (v1055 : BitVec 32) (k0_hw35 : k0_chk35 arg0 v1 v1055), ∀ (k0_h1 : k0_cond1 arg0 v1 = 1#1), ∀ a, (k0_off69 v1055) a + S8x128.size a ≤ S7688x256.size a := fun arg0 v1 v1055 k0_hw35 k0_h1 => k0_hw35.2.1 k0_h1
theorem k0_off70_inb : ∀ (arg0 : BitVec 32) (v1 : BitVec 32) (v1055 : BitVec 32) (k0_hw35 : k0_chk35 arg0 v1 v1055), ∀ (k0_h1 : k0_cond1 arg0 v1 = 1#1), ∀ a, (k0_off70 v1055) a + S8x128.size a ≤ S7688x256.size a := fun arg0 v1 v1055 k0_hw35 k0_h1 => k0_hw35.2.2 k0_h1

def k0_mult36 (v1085 : BitVec 32) : BitVec 32 :=
  let c1_i32_265 : BitVec 32 := 1#32
  let v1105 : BitVec 32 := Scalar.shrsi v1085 c1_i32_265
  v1105

def k0_off71 (v1085 : BitVec 32) : Fin 2 → Nat :=
  let c1_i32_265 : BitVec 32 := 1#32
  let v1105 : BitVec 32 := Scalar.shrsi v1085 c1_i32_265
  let v1106 : BitVec 32 := v1105
  let v1107 : Index := Scalar.indexCast v1106
  let c0_266 : Index := 0#32
  ![v1107.toNat, 0]
def k0_off72 (v1085 : BitVec 32) : Fin 2 → Nat :=
  let c1_i32_265 : BitVec 32 := 1#32
  let v1105 : BitVec 32 := Scalar.shrsi v1085 c1_i32_265
  let v1106 : BitVec 32 := v1105
  let v1111 : Index := Scalar.indexCast v1106
  let c128_267 : Index := 128#32
  ![v1111.toNat, 128]

def k0_chk36 (arg0 : BitVec 32) (v1 : BitVec 32) (v1085 : BitVec 32) : Prop :=
  (∀ (k0_h1 : k0_cond1 arg0 v1 = 1#1), 8 ∣ (k0_mult36 v1085).toNat) ∧
  (∀ (k0_h1 : k0_cond1 arg0 v1 = 1#1), ∀ a, (k0_off71 v1085) a + S8x128.size a ≤ S7688x256.size a) ∧
  (∀ (k0_h1 : k0_cond1 arg0 v1 = 1#1), ∀ a, (k0_off72 v1085) a + S8x128.size a ≤ S7688x256.size a)
theorem k0_mult36_dvd : ∀ (arg0 : BitVec 32) (v1 : BitVec 32) (v1085 : BitVec 32) (k0_hw36 : k0_chk36 arg0 v1 v1085), ∀ (k0_h1 : k0_cond1 arg0 v1 = 1#1), 8 ∣ (k0_mult36 v1085).toNat := fun arg0 v1 v1085 k0_hw36 k0_h1 => k0_hw36.1 k0_h1
theorem k0_off71_inb : ∀ (arg0 : BitVec 32) (v1 : BitVec 32) (v1085 : BitVec 32) (k0_hw36 : k0_chk36 arg0 v1 v1085), ∀ (k0_h1 : k0_cond1 arg0 v1 = 1#1), ∀ a, (k0_off71 v1085) a + S8x128.size a ≤ S7688x256.size a := fun arg0 v1 v1085 k0_hw36 k0_h1 => k0_hw36.2.1 k0_h1
theorem k0_off72_inb : ∀ (arg0 : BitVec 32) (v1 : BitVec 32) (v1085 : BitVec 32) (k0_hw36 : k0_chk36 arg0 v1 v1085), ∀ (k0_h1 : k0_cond1 arg0 v1 = 1#1), ∀ a, (k0_off72 v1085) a + S8x128.size a ≤ S7688x256.size a := fun arg0 v1 v1085 k0_hw36 k0_h1 => k0_hw36.2.2 k0_h1

def k0_mult37 (v1115 : BitVec 32) : BitVec 32 :=
  let c1_i32_272 : BitVec 32 := 1#32
  let v1135 : BitVec 32 := Scalar.shrsi v1115 c1_i32_272
  v1135

def k0_off73 (v1115 : BitVec 32) : Fin 2 → Nat :=
  let c1_i32_272 : BitVec 32 := 1#32
  let v1135 : BitVec 32 := Scalar.shrsi v1115 c1_i32_272
  let v1136 : BitVec 32 := v1135
  let v1137 : Index := Scalar.indexCast v1136
  let c0_273 : Index := 0#32
  ![v1137.toNat, 0]
def k0_off74 (v1115 : BitVec 32) : Fin 2 → Nat :=
  let c1_i32_272 : BitVec 32 := 1#32
  let v1135 : BitVec 32 := Scalar.shrsi v1115 c1_i32_272
  let v1136 : BitVec 32 := v1135
  let v1141 : Index := Scalar.indexCast v1136
  let c128_274 : Index := 128#32
  ![v1141.toNat, 128]

def k0_chk37 (arg0 : BitVec 32) (v1 : BitVec 32) (v1115 : BitVec 32) : Prop :=
  (∀ (k0_h1 : k0_cond1 arg0 v1 = 1#1), 8 ∣ (k0_mult37 v1115).toNat) ∧
  (∀ (k0_h1 : k0_cond1 arg0 v1 = 1#1), ∀ a, (k0_off73 v1115) a + S8x128.size a ≤ S7688x256.size a) ∧
  (∀ (k0_h1 : k0_cond1 arg0 v1 = 1#1), ∀ a, (k0_off74 v1115) a + S8x128.size a ≤ S7688x256.size a)
theorem k0_mult37_dvd : ∀ (arg0 : BitVec 32) (v1 : BitVec 32) (v1115 : BitVec 32) (k0_hw37 : k0_chk37 arg0 v1 v1115), ∀ (k0_h1 : k0_cond1 arg0 v1 = 1#1), 8 ∣ (k0_mult37 v1115).toNat := fun arg0 v1 v1115 k0_hw37 k0_h1 => k0_hw37.1 k0_h1
theorem k0_off73_inb : ∀ (arg0 : BitVec 32) (v1 : BitVec 32) (v1115 : BitVec 32) (k0_hw37 : k0_chk37 arg0 v1 v1115), ∀ (k0_h1 : k0_cond1 arg0 v1 = 1#1), ∀ a, (k0_off73 v1115) a + S8x128.size a ≤ S7688x256.size a := fun arg0 v1 v1115 k0_hw37 k0_h1 => k0_hw37.2.1 k0_h1
theorem k0_off74_inb : ∀ (arg0 : BitVec 32) (v1 : BitVec 32) (v1115 : BitVec 32) (k0_hw37 : k0_chk37 arg0 v1 v1115), ∀ (k0_h1 : k0_cond1 arg0 v1 = 1#1), ∀ a, (k0_off74 v1115) a + S8x128.size a ≤ S7688x256.size a := fun arg0 v1 v1115 k0_hw37 k0_h1 => k0_hw37.2.2 k0_h1

def k0_mult38 (v1145 : BitVec 32) : BitVec 32 :=
  let c1_i32_279 : BitVec 32 := 1#32
  let v1165 : BitVec 32 := Scalar.shrsi v1145 c1_i32_279
  v1165

def k0_off75 (v1145 : BitVec 32) : Fin 2 → Nat :=
  let c1_i32_279 : BitVec 32 := 1#32
  let v1165 : BitVec 32 := Scalar.shrsi v1145 c1_i32_279
  let v1166 : BitVec 32 := v1165
  let v1167 : Index := Scalar.indexCast v1166
  let c0_280 : Index := 0#32
  ![v1167.toNat, 0]
def k0_off76 (v1145 : BitVec 32) : Fin 2 → Nat :=
  let c1_i32_279 : BitVec 32 := 1#32
  let v1165 : BitVec 32 := Scalar.shrsi v1145 c1_i32_279
  let v1166 : BitVec 32 := v1165
  let v1171 : Index := Scalar.indexCast v1166
  let c128_281 : Index := 128#32
  ![v1171.toNat, 128]

def k0_chk38 (arg0 : BitVec 32) (v1 : BitVec 32) (v1145 : BitVec 32) : Prop :=
  (∀ (k0_h1 : k0_cond1 arg0 v1 = 1#1), 8 ∣ (k0_mult38 v1145).toNat) ∧
  (∀ (k0_h1 : k0_cond1 arg0 v1 = 1#1), ∀ a, (k0_off75 v1145) a + S8x128.size a ≤ S7688x256.size a) ∧
  (∀ (k0_h1 : k0_cond1 arg0 v1 = 1#1), ∀ a, (k0_off76 v1145) a + S8x128.size a ≤ S7688x256.size a)
theorem k0_mult38_dvd : ∀ (arg0 : BitVec 32) (v1 : BitVec 32) (v1145 : BitVec 32) (k0_hw38 : k0_chk38 arg0 v1 v1145), ∀ (k0_h1 : k0_cond1 arg0 v1 = 1#1), 8 ∣ (k0_mult38 v1145).toNat := fun arg0 v1 v1145 k0_hw38 k0_h1 => k0_hw38.1 k0_h1
theorem k0_off75_inb : ∀ (arg0 : BitVec 32) (v1 : BitVec 32) (v1145 : BitVec 32) (k0_hw38 : k0_chk38 arg0 v1 v1145), ∀ (k0_h1 : k0_cond1 arg0 v1 = 1#1), ∀ a, (k0_off75 v1145) a + S8x128.size a ≤ S7688x256.size a := fun arg0 v1 v1145 k0_hw38 k0_h1 => k0_hw38.2.1 k0_h1
theorem k0_off76_inb : ∀ (arg0 : BitVec 32) (v1 : BitVec 32) (v1145 : BitVec 32) (k0_hw38 : k0_chk38 arg0 v1 v1145), ∀ (k0_h1 : k0_cond1 arg0 v1 = 1#1), ∀ a, (k0_off76 v1145) a + S8x128.size a ≤ S7688x256.size a := fun arg0 v1 v1145 k0_hw38 k0_h1 => k0_hw38.2.2 k0_h1

def k0_mult39 (v1175 : BitVec 32) : BitVec 32 :=
  let c1_i32_286 : BitVec 32 := 1#32
  let v1195 : BitVec 32 := Scalar.shrsi v1175 c1_i32_286
  v1195

def k0_off77 (v1175 : BitVec 32) : Fin 2 → Nat :=
  let c1_i32_286 : BitVec 32 := 1#32
  let v1195 : BitVec 32 := Scalar.shrsi v1175 c1_i32_286
  let v1196 : BitVec 32 := v1195
  let v1197 : Index := Scalar.indexCast v1196
  let c0_287 : Index := 0#32
  ![v1197.toNat, 0]
def k0_off78 (v1175 : BitVec 32) : Fin 2 → Nat :=
  let c1_i32_286 : BitVec 32 := 1#32
  let v1195 : BitVec 32 := Scalar.shrsi v1175 c1_i32_286
  let v1196 : BitVec 32 := v1195
  let v1201 : Index := Scalar.indexCast v1196
  let c128_288 : Index := 128#32
  ![v1201.toNat, 128]

def k0_chk39 (arg0 : BitVec 32) (v1 : BitVec 32) (v1175 : BitVec 32) : Prop :=
  (∀ (k0_h1 : k0_cond1 arg0 v1 = 1#1), 8 ∣ (k0_mult39 v1175).toNat) ∧
  (∀ (k0_h1 : k0_cond1 arg0 v1 = 1#1), ∀ a, (k0_off77 v1175) a + S8x128.size a ≤ S7688x256.size a) ∧
  (∀ (k0_h1 : k0_cond1 arg0 v1 = 1#1), ∀ a, (k0_off78 v1175) a + S8x128.size a ≤ S7688x256.size a)
theorem k0_mult39_dvd : ∀ (arg0 : BitVec 32) (v1 : BitVec 32) (v1175 : BitVec 32) (k0_hw39 : k0_chk39 arg0 v1 v1175), ∀ (k0_h1 : k0_cond1 arg0 v1 = 1#1), 8 ∣ (k0_mult39 v1175).toNat := fun arg0 v1 v1175 k0_hw39 k0_h1 => k0_hw39.1 k0_h1
theorem k0_off77_inb : ∀ (arg0 : BitVec 32) (v1 : BitVec 32) (v1175 : BitVec 32) (k0_hw39 : k0_chk39 arg0 v1 v1175), ∀ (k0_h1 : k0_cond1 arg0 v1 = 1#1), ∀ a, (k0_off77 v1175) a + S8x128.size a ≤ S7688x256.size a := fun arg0 v1 v1175 k0_hw39 k0_h1 => k0_hw39.2.1 k0_h1
theorem k0_off78_inb : ∀ (arg0 : BitVec 32) (v1 : BitVec 32) (v1175 : BitVec 32) (k0_hw39 : k0_chk39 arg0 v1 v1175), ∀ (k0_h1 : k0_cond1 arg0 v1 = 1#1), ∀ a, (k0_off78 v1175) a + S8x128.size a ≤ S7688x256.size a := fun arg0 v1 v1175 k0_hw39 k0_h1 => k0_hw39.2.2 k0_h1

def k0_mult40 (v1205 : BitVec 32) : BitVec 32 :=
  let c1_i32_293 : BitVec 32 := 1#32
  let v1225 : BitVec 32 := Scalar.shrsi v1205 c1_i32_293
  v1225

def k0_off79 (v1205 : BitVec 32) : Fin 2 → Nat :=
  let c1_i32_293 : BitVec 32 := 1#32
  let v1225 : BitVec 32 := Scalar.shrsi v1205 c1_i32_293
  let v1226 : BitVec 32 := v1225
  let v1227 : Index := Scalar.indexCast v1226
  let c0_294 : Index := 0#32
  ![v1227.toNat, 0]
def k0_off80 (v1205 : BitVec 32) : Fin 2 → Nat :=
  let c1_i32_293 : BitVec 32 := 1#32
  let v1225 : BitVec 32 := Scalar.shrsi v1205 c1_i32_293
  let v1226 : BitVec 32 := v1225
  let v1231 : Index := Scalar.indexCast v1226
  let c128_295 : Index := 128#32
  ![v1231.toNat, 128]

def k0_chk40 (arg0 : BitVec 32) (v1 : BitVec 32) (v1205 : BitVec 32) : Prop :=
  (∀ (k0_h1 : k0_cond1 arg0 v1 = 1#1), 8 ∣ (k0_mult40 v1205).toNat) ∧
  (∀ (k0_h1 : k0_cond1 arg0 v1 = 1#1), ∀ a, (k0_off79 v1205) a + S8x128.size a ≤ S7688x256.size a) ∧
  (∀ (k0_h1 : k0_cond1 arg0 v1 = 1#1), ∀ a, (k0_off80 v1205) a + S8x128.size a ≤ S7688x256.size a)
theorem k0_mult40_dvd : ∀ (arg0 : BitVec 32) (v1 : BitVec 32) (v1205 : BitVec 32) (k0_hw40 : k0_chk40 arg0 v1 v1205), ∀ (k0_h1 : k0_cond1 arg0 v1 = 1#1), 8 ∣ (k0_mult40 v1205).toNat := fun arg0 v1 v1205 k0_hw40 k0_h1 => k0_hw40.1 k0_h1
theorem k0_off79_inb : ∀ (arg0 : BitVec 32) (v1 : BitVec 32) (v1205 : BitVec 32) (k0_hw40 : k0_chk40 arg0 v1 v1205), ∀ (k0_h1 : k0_cond1 arg0 v1 = 1#1), ∀ a, (k0_off79 v1205) a + S8x128.size a ≤ S7688x256.size a := fun arg0 v1 v1205 k0_hw40 k0_h1 => k0_hw40.2.1 k0_h1
theorem k0_off80_inb : ∀ (arg0 : BitVec 32) (v1 : BitVec 32) (v1205 : BitVec 32) (k0_hw40 : k0_chk40 arg0 v1 v1205), ∀ (k0_h1 : k0_cond1 arg0 v1 = 1#1), ∀ a, (k0_off80 v1205) a + S8x128.size a ≤ S7688x256.size a := fun arg0 v1 v1205 k0_hw40 k0_h1 => k0_hw40.2.2 k0_h1

def k0_mult41 (v1235 : BitVec 32) : BitVec 32 :=
  let c1_i32_300 : BitVec 32 := 1#32
  let v1255 : BitVec 32 := Scalar.shrsi v1235 c1_i32_300
  v1255

def k0_off81 (v1235 : BitVec 32) : Fin 2 → Nat :=
  let c1_i32_300 : BitVec 32 := 1#32
  let v1255 : BitVec 32 := Scalar.shrsi v1235 c1_i32_300
  let v1256 : BitVec 32 := v1255
  let v1257 : Index := Scalar.indexCast v1256
  let c0_301 : Index := 0#32
  ![v1257.toNat, 0]
def k0_off82 (v1235 : BitVec 32) : Fin 2 → Nat :=
  let c1_i32_300 : BitVec 32 := 1#32
  let v1255 : BitVec 32 := Scalar.shrsi v1235 c1_i32_300
  let v1256 : BitVec 32 := v1255
  let v1261 : Index := Scalar.indexCast v1256
  let c128_302 : Index := 128#32
  ![v1261.toNat, 128]

def k0_chk41 (arg0 : BitVec 32) (v1 : BitVec 32) (v1235 : BitVec 32) : Prop :=
  (∀ (k0_h1 : k0_cond1 arg0 v1 = 1#1), 8 ∣ (k0_mult41 v1235).toNat) ∧
  (∀ (k0_h1 : k0_cond1 arg0 v1 = 1#1), ∀ a, (k0_off81 v1235) a + S8x128.size a ≤ S7688x256.size a) ∧
  (∀ (k0_h1 : k0_cond1 arg0 v1 = 1#1), ∀ a, (k0_off82 v1235) a + S8x128.size a ≤ S7688x256.size a)
theorem k0_mult41_dvd : ∀ (arg0 : BitVec 32) (v1 : BitVec 32) (v1235 : BitVec 32) (k0_hw41 : k0_chk41 arg0 v1 v1235), ∀ (k0_h1 : k0_cond1 arg0 v1 = 1#1), 8 ∣ (k0_mult41 v1235).toNat := fun arg0 v1 v1235 k0_hw41 k0_h1 => k0_hw41.1 k0_h1
theorem k0_off81_inb : ∀ (arg0 : BitVec 32) (v1 : BitVec 32) (v1235 : BitVec 32) (k0_hw41 : k0_chk41 arg0 v1 v1235), ∀ (k0_h1 : k0_cond1 arg0 v1 = 1#1), ∀ a, (k0_off81 v1235) a + S8x128.size a ≤ S7688x256.size a := fun arg0 v1 v1235 k0_hw41 k0_h1 => k0_hw41.2.1 k0_h1
theorem k0_off82_inb : ∀ (arg0 : BitVec 32) (v1 : BitVec 32) (v1235 : BitVec 32) (k0_hw41 : k0_chk41 arg0 v1 v1235), ∀ (k0_h1 : k0_cond1 arg0 v1 = 1#1), ∀ a, (k0_off82 v1235) a + S8x128.size a ≤ S7688x256.size a := fun arg0 v1 v1235 k0_hw41 k0_h1 => k0_hw41.2.2 k0_h1

def k0_mult42 (v1265 : BitVec 32) : BitVec 32 :=
  let c1_i32_307 : BitVec 32 := 1#32
  let v1285 : BitVec 32 := Scalar.shrsi v1265 c1_i32_307
  v1285

def k0_off83 (v1265 : BitVec 32) : Fin 2 → Nat :=
  let c1_i32_307 : BitVec 32 := 1#32
  let v1285 : BitVec 32 := Scalar.shrsi v1265 c1_i32_307
  let v1286 : BitVec 32 := v1285
  let v1287 : Index := Scalar.indexCast v1286
  let c0_308 : Index := 0#32
  ![v1287.toNat, 0]
def k0_off84 (v1265 : BitVec 32) : Fin 2 → Nat :=
  let c1_i32_307 : BitVec 32 := 1#32
  let v1285 : BitVec 32 := Scalar.shrsi v1265 c1_i32_307
  let v1286 : BitVec 32 := v1285
  let v1291 : Index := Scalar.indexCast v1286
  let c128_309 : Index := 128#32
  ![v1291.toNat, 128]

def k0_chk42 (arg0 : BitVec 32) (v1 : BitVec 32) (v1265 : BitVec 32) : Prop :=
  (∀ (k0_h1 : k0_cond1 arg0 v1 = 1#1), 8 ∣ (k0_mult42 v1265).toNat) ∧
  (∀ (k0_h1 : k0_cond1 arg0 v1 = 1#1), ∀ a, (k0_off83 v1265) a + S8x128.size a ≤ S7688x256.size a) ∧
  (∀ (k0_h1 : k0_cond1 arg0 v1 = 1#1), ∀ a, (k0_off84 v1265) a + S8x128.size a ≤ S7688x256.size a)
theorem k0_mult42_dvd : ∀ (arg0 : BitVec 32) (v1 : BitVec 32) (v1265 : BitVec 32) (k0_hw42 : k0_chk42 arg0 v1 v1265), ∀ (k0_h1 : k0_cond1 arg0 v1 = 1#1), 8 ∣ (k0_mult42 v1265).toNat := fun arg0 v1 v1265 k0_hw42 k0_h1 => k0_hw42.1 k0_h1
theorem k0_off83_inb : ∀ (arg0 : BitVec 32) (v1 : BitVec 32) (v1265 : BitVec 32) (k0_hw42 : k0_chk42 arg0 v1 v1265), ∀ (k0_h1 : k0_cond1 arg0 v1 = 1#1), ∀ a, (k0_off83 v1265) a + S8x128.size a ≤ S7688x256.size a := fun arg0 v1 v1265 k0_hw42 k0_h1 => k0_hw42.2.1 k0_h1
theorem k0_off84_inb : ∀ (arg0 : BitVec 32) (v1 : BitVec 32) (v1265 : BitVec 32) (k0_hw42 : k0_chk42 arg0 v1 v1265), ∀ (k0_h1 : k0_cond1 arg0 v1 = 1#1), ∀ a, (k0_off84 v1265) a + S8x128.size a ≤ S7688x256.size a := fun arg0 v1 v1265 k0_hw42 k0_h1 => k0_hw42.2.2 k0_h1

def k0_mult43 (v1295 : BitVec 32) : BitVec 32 :=
  let c1_i32_314 : BitVec 32 := 1#32
  let v1315 : BitVec 32 := Scalar.shrsi v1295 c1_i32_314
  v1315

def k0_off85 (v1295 : BitVec 32) : Fin 2 → Nat :=
  let c1_i32_314 : BitVec 32 := 1#32
  let v1315 : BitVec 32 := Scalar.shrsi v1295 c1_i32_314
  let v1316 : BitVec 32 := v1315
  let v1317 : Index := Scalar.indexCast v1316
  let c0_315 : Index := 0#32
  ![v1317.toNat, 0]
def k0_off86 (v1295 : BitVec 32) : Fin 2 → Nat :=
  let c1_i32_314 : BitVec 32 := 1#32
  let v1315 : BitVec 32 := Scalar.shrsi v1295 c1_i32_314
  let v1316 : BitVec 32 := v1315
  let v1321 : Index := Scalar.indexCast v1316
  let c128_316 : Index := 128#32
  ![v1321.toNat, 128]

def k0_chk43 (arg0 : BitVec 32) (v1 : BitVec 32) (v1295 : BitVec 32) : Prop :=
  (∀ (k0_h1 : k0_cond1 arg0 v1 = 1#1), 8 ∣ (k0_mult43 v1295).toNat) ∧
  (∀ (k0_h1 : k0_cond1 arg0 v1 = 1#1), ∀ a, (k0_off85 v1295) a + S8x128.size a ≤ S7688x256.size a) ∧
  (∀ (k0_h1 : k0_cond1 arg0 v1 = 1#1), ∀ a, (k0_off86 v1295) a + S8x128.size a ≤ S7688x256.size a)
theorem k0_mult43_dvd : ∀ (arg0 : BitVec 32) (v1 : BitVec 32) (v1295 : BitVec 32) (k0_hw43 : k0_chk43 arg0 v1 v1295), ∀ (k0_h1 : k0_cond1 arg0 v1 = 1#1), 8 ∣ (k0_mult43 v1295).toNat := fun arg0 v1 v1295 k0_hw43 k0_h1 => k0_hw43.1 k0_h1
theorem k0_off85_inb : ∀ (arg0 : BitVec 32) (v1 : BitVec 32) (v1295 : BitVec 32) (k0_hw43 : k0_chk43 arg0 v1 v1295), ∀ (k0_h1 : k0_cond1 arg0 v1 = 1#1), ∀ a, (k0_off85 v1295) a + S8x128.size a ≤ S7688x256.size a := fun arg0 v1 v1295 k0_hw43 k0_h1 => k0_hw43.2.1 k0_h1
theorem k0_off86_inb : ∀ (arg0 : BitVec 32) (v1 : BitVec 32) (v1295 : BitVec 32) (k0_hw43 : k0_chk43 arg0 v1 v1295), ∀ (k0_h1 : k0_cond1 arg0 v1 = 1#1), ∀ a, (k0_off86 v1295) a + S8x128.size a ≤ S7688x256.size a := fun arg0 v1 v1295 k0_hw43 k0_h1 => k0_hw43.2.2 k0_h1

def k0_mult44 (v1325 : BitVec 32) : BitVec 32 :=
  let c1_i32_321 : BitVec 32 := 1#32
  let v1345 : BitVec 32 := Scalar.shrsi v1325 c1_i32_321
  v1345

def k0_off87 (v1325 : BitVec 32) : Fin 2 → Nat :=
  let c1_i32_321 : BitVec 32 := 1#32
  let v1345 : BitVec 32 := Scalar.shrsi v1325 c1_i32_321
  let v1346 : BitVec 32 := v1345
  let v1347 : Index := Scalar.indexCast v1346
  let c0_322 : Index := 0#32
  ![v1347.toNat, 0]
def k0_off88 (v1325 : BitVec 32) : Fin 2 → Nat :=
  let c1_i32_321 : BitVec 32 := 1#32
  let v1345 : BitVec 32 := Scalar.shrsi v1325 c1_i32_321
  let v1346 : BitVec 32 := v1345
  let v1351 : Index := Scalar.indexCast v1346
  let c128_323 : Index := 128#32
  ![v1351.toNat, 128]

def k0_chk44 (arg0 : BitVec 32) (v1 : BitVec 32) (v1325 : BitVec 32) : Prop :=
  (∀ (k0_h1 : k0_cond1 arg0 v1 = 1#1), 8 ∣ (k0_mult44 v1325).toNat) ∧
  (∀ (k0_h1 : k0_cond1 arg0 v1 = 1#1), ∀ a, (k0_off87 v1325) a + S8x128.size a ≤ S7688x256.size a) ∧
  (∀ (k0_h1 : k0_cond1 arg0 v1 = 1#1), ∀ a, (k0_off88 v1325) a + S8x128.size a ≤ S7688x256.size a)
theorem k0_mult44_dvd : ∀ (arg0 : BitVec 32) (v1 : BitVec 32) (v1325 : BitVec 32) (k0_hw44 : k0_chk44 arg0 v1 v1325), ∀ (k0_h1 : k0_cond1 arg0 v1 = 1#1), 8 ∣ (k0_mult44 v1325).toNat := fun arg0 v1 v1325 k0_hw44 k0_h1 => k0_hw44.1 k0_h1
theorem k0_off87_inb : ∀ (arg0 : BitVec 32) (v1 : BitVec 32) (v1325 : BitVec 32) (k0_hw44 : k0_chk44 arg0 v1 v1325), ∀ (k0_h1 : k0_cond1 arg0 v1 = 1#1), ∀ a, (k0_off87 v1325) a + S8x128.size a ≤ S7688x256.size a := fun arg0 v1 v1325 k0_hw44 k0_h1 => k0_hw44.2.1 k0_h1
theorem k0_off88_inb : ∀ (arg0 : BitVec 32) (v1 : BitVec 32) (v1325 : BitVec 32) (k0_hw44 : k0_chk44 arg0 v1 v1325), ∀ (k0_h1 : k0_cond1 arg0 v1 = 1#1), ∀ a, (k0_off88 v1325) a + S8x128.size a ≤ S7688x256.size a := fun arg0 v1 v1325 k0_hw44 k0_h1 => k0_hw44.2.2 k0_h1

def k0_mult45 (v1355 : BitVec 32) : BitVec 32 :=
  let c1_i32_328 : BitVec 32 := 1#32
  let v1375 : BitVec 32 := Scalar.shrsi v1355 c1_i32_328
  v1375

def k0_off89 (v1355 : BitVec 32) : Fin 2 → Nat :=
  let c1_i32_328 : BitVec 32 := 1#32
  let v1375 : BitVec 32 := Scalar.shrsi v1355 c1_i32_328
  let v1376 : BitVec 32 := v1375
  let v1377 : Index := Scalar.indexCast v1376
  let c0_329 : Index := 0#32
  ![v1377.toNat, 0]
def k0_off90 (v1355 : BitVec 32) : Fin 2 → Nat :=
  let c1_i32_328 : BitVec 32 := 1#32
  let v1375 : BitVec 32 := Scalar.shrsi v1355 c1_i32_328
  let v1376 : BitVec 32 := v1375
  let v1381 : Index := Scalar.indexCast v1376
  let c128_330 : Index := 128#32
  ![v1381.toNat, 128]

def k0_chk45 (arg0 : BitVec 32) (v1 : BitVec 32) (v1355 : BitVec 32) : Prop :=
  (∀ (k0_h1 : k0_cond1 arg0 v1 = 1#1), 8 ∣ (k0_mult45 v1355).toNat) ∧
  (∀ (k0_h1 : k0_cond1 arg0 v1 = 1#1), ∀ a, (k0_off89 v1355) a + S8x128.size a ≤ S7688x256.size a) ∧
  (∀ (k0_h1 : k0_cond1 arg0 v1 = 1#1), ∀ a, (k0_off90 v1355) a + S8x128.size a ≤ S7688x256.size a)
theorem k0_mult45_dvd : ∀ (arg0 : BitVec 32) (v1 : BitVec 32) (v1355 : BitVec 32) (k0_hw45 : k0_chk45 arg0 v1 v1355), ∀ (k0_h1 : k0_cond1 arg0 v1 = 1#1), 8 ∣ (k0_mult45 v1355).toNat := fun arg0 v1 v1355 k0_hw45 k0_h1 => k0_hw45.1 k0_h1
theorem k0_off89_inb : ∀ (arg0 : BitVec 32) (v1 : BitVec 32) (v1355 : BitVec 32) (k0_hw45 : k0_chk45 arg0 v1 v1355), ∀ (k0_h1 : k0_cond1 arg0 v1 = 1#1), ∀ a, (k0_off89 v1355) a + S8x128.size a ≤ S7688x256.size a := fun arg0 v1 v1355 k0_hw45 k0_h1 => k0_hw45.2.1 k0_h1
theorem k0_off90_inb : ∀ (arg0 : BitVec 32) (v1 : BitVec 32) (v1355 : BitVec 32) (k0_hw45 : k0_chk45 arg0 v1 v1355), ∀ (k0_h1 : k0_cond1 arg0 v1 = 1#1), ∀ a, (k0_off90 v1355) a + S8x128.size a ≤ S7688x256.size a := fun arg0 v1 v1355 k0_hw45 k0_h1 => k0_hw45.2.2 k0_h1

def k0_mult46 (v1385 : BitVec 32) : BitVec 32 :=
  let c1_i32_335 : BitVec 32 := 1#32
  let v1405 : BitVec 32 := Scalar.shrsi v1385 c1_i32_335
  v1405

def k0_off91 (v1385 : BitVec 32) : Fin 2 → Nat :=
  let c1_i32_335 : BitVec 32 := 1#32
  let v1405 : BitVec 32 := Scalar.shrsi v1385 c1_i32_335
  let v1406 : BitVec 32 := v1405
  let v1407 : Index := Scalar.indexCast v1406
  let c0_336 : Index := 0#32
  ![v1407.toNat, 0]
def k0_off92 (v1385 : BitVec 32) : Fin 2 → Nat :=
  let c1_i32_335 : BitVec 32 := 1#32
  let v1405 : BitVec 32 := Scalar.shrsi v1385 c1_i32_335
  let v1406 : BitVec 32 := v1405
  let v1411 : Index := Scalar.indexCast v1406
  let c128_337 : Index := 128#32
  ![v1411.toNat, 128]

def k0_chk46 (arg0 : BitVec 32) (v1 : BitVec 32) (v1385 : BitVec 32) : Prop :=
  (∀ (k0_h1 : k0_cond1 arg0 v1 = 1#1), 8 ∣ (k0_mult46 v1385).toNat) ∧
  (∀ (k0_h1 : k0_cond1 arg0 v1 = 1#1), ∀ a, (k0_off91 v1385) a + S8x128.size a ≤ S7688x256.size a) ∧
  (∀ (k0_h1 : k0_cond1 arg0 v1 = 1#1), ∀ a, (k0_off92 v1385) a + S8x128.size a ≤ S7688x256.size a)
theorem k0_mult46_dvd : ∀ (arg0 : BitVec 32) (v1 : BitVec 32) (v1385 : BitVec 32) (k0_hw46 : k0_chk46 arg0 v1 v1385), ∀ (k0_h1 : k0_cond1 arg0 v1 = 1#1), 8 ∣ (k0_mult46 v1385).toNat := fun arg0 v1 v1385 k0_hw46 k0_h1 => k0_hw46.1 k0_h1
theorem k0_off91_inb : ∀ (arg0 : BitVec 32) (v1 : BitVec 32) (v1385 : BitVec 32) (k0_hw46 : k0_chk46 arg0 v1 v1385), ∀ (k0_h1 : k0_cond1 arg0 v1 = 1#1), ∀ a, (k0_off91 v1385) a + S8x128.size a ≤ S7688x256.size a := fun arg0 v1 v1385 k0_hw46 k0_h1 => k0_hw46.2.1 k0_h1
theorem k0_off92_inb : ∀ (arg0 : BitVec 32) (v1 : BitVec 32) (v1385 : BitVec 32) (k0_hw46 : k0_chk46 arg0 v1 v1385), ∀ (k0_h1 : k0_cond1 arg0 v1 = 1#1), ∀ a, (k0_off92 v1385) a + S8x128.size a ≤ S7688x256.size a := fun arg0 v1 v1385 k0_hw46 k0_h1 => k0_hw46.2.2 k0_h1

def k0_mult47 (v1415 : BitVec 32) : BitVec 32 :=
  let c1_i32_342 : BitVec 32 := 1#32
  let v1435 : BitVec 32 := Scalar.shrsi v1415 c1_i32_342
  v1435

def k0_off93 (v1415 : BitVec 32) : Fin 2 → Nat :=
  let c1_i32_342 : BitVec 32 := 1#32
  let v1435 : BitVec 32 := Scalar.shrsi v1415 c1_i32_342
  let v1436 : BitVec 32 := v1435
  let v1437 : Index := Scalar.indexCast v1436
  let c0_343 : Index := 0#32
  ![v1437.toNat, 0]
def k0_off94 (v1415 : BitVec 32) : Fin 2 → Nat :=
  let c1_i32_342 : BitVec 32 := 1#32
  let v1435 : BitVec 32 := Scalar.shrsi v1415 c1_i32_342
  let v1436 : BitVec 32 := v1435
  let v1441 : Index := Scalar.indexCast v1436
  let c128_344 : Index := 128#32
  ![v1441.toNat, 128]

def k0_chk47 (arg0 : BitVec 32) (v1 : BitVec 32) (v1415 : BitVec 32) : Prop :=
  (∀ (k0_h1 : k0_cond1 arg0 v1 = 1#1), 8 ∣ (k0_mult47 v1415).toNat) ∧
  (∀ (k0_h1 : k0_cond1 arg0 v1 = 1#1), ∀ a, (k0_off93 v1415) a + S8x128.size a ≤ S7688x256.size a) ∧
  (∀ (k0_h1 : k0_cond1 arg0 v1 = 1#1), ∀ a, (k0_off94 v1415) a + S8x128.size a ≤ S7688x256.size a)
theorem k0_mult47_dvd : ∀ (arg0 : BitVec 32) (v1 : BitVec 32) (v1415 : BitVec 32) (k0_hw47 : k0_chk47 arg0 v1 v1415), ∀ (k0_h1 : k0_cond1 arg0 v1 = 1#1), 8 ∣ (k0_mult47 v1415).toNat := fun arg0 v1 v1415 k0_hw47 k0_h1 => k0_hw47.1 k0_h1
theorem k0_off93_inb : ∀ (arg0 : BitVec 32) (v1 : BitVec 32) (v1415 : BitVec 32) (k0_hw47 : k0_chk47 arg0 v1 v1415), ∀ (k0_h1 : k0_cond1 arg0 v1 = 1#1), ∀ a, (k0_off93 v1415) a + S8x128.size a ≤ S7688x256.size a := fun arg0 v1 v1415 k0_hw47 k0_h1 => k0_hw47.2.1 k0_h1
theorem k0_off94_inb : ∀ (arg0 : BitVec 32) (v1 : BitVec 32) (v1415 : BitVec 32) (k0_hw47 : k0_chk47 arg0 v1 v1415), ∀ (k0_h1 : k0_cond1 arg0 v1 = 1#1), ∀ a, (k0_off94 v1415) a + S8x128.size a ≤ S7688x256.size a := fun arg0 v1 v1415 k0_hw47 k0_h1 => k0_hw47.2.2 k0_h1

def k0_mult48 (v1445 : BitVec 32) : BitVec 32 :=
  let c1_i32_349 : BitVec 32 := 1#32
  let v1465 : BitVec 32 := Scalar.shrsi v1445 c1_i32_349
  v1465

def k0_off95 (v1445 : BitVec 32) : Fin 2 → Nat :=
  let c1_i32_349 : BitVec 32 := 1#32
  let v1465 : BitVec 32 := Scalar.shrsi v1445 c1_i32_349
  let v1466 : BitVec 32 := v1465
  let v1467 : Index := Scalar.indexCast v1466
  let c0_350 : Index := 0#32
  ![v1467.toNat, 0]
def k0_off96 (v1445 : BitVec 32) : Fin 2 → Nat :=
  let c1_i32_349 : BitVec 32 := 1#32
  let v1465 : BitVec 32 := Scalar.shrsi v1445 c1_i32_349
  let v1466 : BitVec 32 := v1465
  let v1471 : Index := Scalar.indexCast v1466
  let c128_351 : Index := 128#32
  ![v1471.toNat, 128]

def k0_chk48 (arg0 : BitVec 32) (v1 : BitVec 32) (v1445 : BitVec 32) : Prop :=
  (∀ (k0_h1 : k0_cond1 arg0 v1 = 1#1), 8 ∣ (k0_mult48 v1445).toNat) ∧
  (∀ (k0_h1 : k0_cond1 arg0 v1 = 1#1), ∀ a, (k0_off95 v1445) a + S8x128.size a ≤ S7688x256.size a) ∧
  (∀ (k0_h1 : k0_cond1 arg0 v1 = 1#1), ∀ a, (k0_off96 v1445) a + S8x128.size a ≤ S7688x256.size a)
theorem k0_mult48_dvd : ∀ (arg0 : BitVec 32) (v1 : BitVec 32) (v1445 : BitVec 32) (k0_hw48 : k0_chk48 arg0 v1 v1445), ∀ (k0_h1 : k0_cond1 arg0 v1 = 1#1), 8 ∣ (k0_mult48 v1445).toNat := fun arg0 v1 v1445 k0_hw48 k0_h1 => k0_hw48.1 k0_h1
theorem k0_off95_inb : ∀ (arg0 : BitVec 32) (v1 : BitVec 32) (v1445 : BitVec 32) (k0_hw48 : k0_chk48 arg0 v1 v1445), ∀ (k0_h1 : k0_cond1 arg0 v1 = 1#1), ∀ a, (k0_off95 v1445) a + S8x128.size a ≤ S7688x256.size a := fun arg0 v1 v1445 k0_hw48 k0_h1 => k0_hw48.2.1 k0_h1
theorem k0_off96_inb : ∀ (arg0 : BitVec 32) (v1 : BitVec 32) (v1445 : BitVec 32) (k0_hw48 : k0_chk48 arg0 v1 v1445), ∀ (k0_h1 : k0_cond1 arg0 v1 = 1#1), ∀ a, (k0_off96 v1445) a + S8x128.size a ≤ S7688x256.size a := fun arg0 v1 v1445 k0_hw48 k0_h1 => k0_hw48.2.2 k0_h1

def k0_mult49 (v1475 : BitVec 32) : BitVec 32 :=
  let c1_i32_356 : BitVec 32 := 1#32
  let v1495 : BitVec 32 := Scalar.shrsi v1475 c1_i32_356
  v1495

def k0_off97 (v1475 : BitVec 32) : Fin 2 → Nat :=
  let c1_i32_356 : BitVec 32 := 1#32
  let v1495 : BitVec 32 := Scalar.shrsi v1475 c1_i32_356
  let v1496 : BitVec 32 := v1495
  let v1497 : Index := Scalar.indexCast v1496
  let c0_357 : Index := 0#32
  ![v1497.toNat, 0]
def k0_off98 (v1475 : BitVec 32) : Fin 2 → Nat :=
  let c1_i32_356 : BitVec 32 := 1#32
  let v1495 : BitVec 32 := Scalar.shrsi v1475 c1_i32_356
  let v1496 : BitVec 32 := v1495
  let v1501 : Index := Scalar.indexCast v1496
  let c128_358 : Index := 128#32
  ![v1501.toNat, 128]

def k0_chk49 (arg0 : BitVec 32) (v1 : BitVec 32) (v1475 : BitVec 32) : Prop :=
  (∀ (k0_h1 : k0_cond1 arg0 v1 = 1#1), 8 ∣ (k0_mult49 v1475).toNat) ∧
  (∀ (k0_h1 : k0_cond1 arg0 v1 = 1#1), ∀ a, (k0_off97 v1475) a + S8x128.size a ≤ S7688x256.size a) ∧
  (∀ (k0_h1 : k0_cond1 arg0 v1 = 1#1), ∀ a, (k0_off98 v1475) a + S8x128.size a ≤ S7688x256.size a)
theorem k0_mult49_dvd : ∀ (arg0 : BitVec 32) (v1 : BitVec 32) (v1475 : BitVec 32) (k0_hw49 : k0_chk49 arg0 v1 v1475), ∀ (k0_h1 : k0_cond1 arg0 v1 = 1#1), 8 ∣ (k0_mult49 v1475).toNat := fun arg0 v1 v1475 k0_hw49 k0_h1 => k0_hw49.1 k0_h1
theorem k0_off97_inb : ∀ (arg0 : BitVec 32) (v1 : BitVec 32) (v1475 : BitVec 32) (k0_hw49 : k0_chk49 arg0 v1 v1475), ∀ (k0_h1 : k0_cond1 arg0 v1 = 1#1), ∀ a, (k0_off97 v1475) a + S8x128.size a ≤ S7688x256.size a := fun arg0 v1 v1475 k0_hw49 k0_h1 => k0_hw49.2.1 k0_h1
theorem k0_off98_inb : ∀ (arg0 : BitVec 32) (v1 : BitVec 32) (v1475 : BitVec 32) (k0_hw49 : k0_chk49 arg0 v1 v1475), ∀ (k0_h1 : k0_cond1 arg0 v1 = 1#1), ∀ a, (k0_off98 v1475) a + S8x128.size a ≤ S7688x256.size a := fun arg0 v1 v1475 k0_hw49 k0_h1 => k0_hw49.2.2 k0_h1

def k0_mult50 (v1505 : BitVec 32) : BitVec 32 :=
  let c1_i32_363 : BitVec 32 := 1#32
  let v1525 : BitVec 32 := Scalar.shrsi v1505 c1_i32_363
  v1525

def k0_off99 (v1505 : BitVec 32) : Fin 2 → Nat :=
  let c1_i32_363 : BitVec 32 := 1#32
  let v1525 : BitVec 32 := Scalar.shrsi v1505 c1_i32_363
  let v1526 : BitVec 32 := v1525
  let v1527 : Index := Scalar.indexCast v1526
  let c0_364 : Index := 0#32
  ![v1527.toNat, 0]
def k0_off100 (v1505 : BitVec 32) : Fin 2 → Nat :=
  let c1_i32_363 : BitVec 32 := 1#32
  let v1525 : BitVec 32 := Scalar.shrsi v1505 c1_i32_363
  let v1526 : BitVec 32 := v1525
  let v1531 : Index := Scalar.indexCast v1526
  let c128_365 : Index := 128#32
  ![v1531.toNat, 128]

def k0_chk50 (arg0 : BitVec 32) (v1 : BitVec 32) (v1505 : BitVec 32) : Prop :=
  (∀ (k0_h1 : k0_cond1 arg0 v1 = 1#1), 8 ∣ (k0_mult50 v1505).toNat) ∧
  (∀ (k0_h1 : k0_cond1 arg0 v1 = 1#1), ∀ a, (k0_off99 v1505) a + S8x128.size a ≤ S7688x256.size a) ∧
  (∀ (k0_h1 : k0_cond1 arg0 v1 = 1#1), ∀ a, (k0_off100 v1505) a + S8x128.size a ≤ S7688x256.size a)
theorem k0_mult50_dvd : ∀ (arg0 : BitVec 32) (v1 : BitVec 32) (v1505 : BitVec 32) (k0_hw50 : k0_chk50 arg0 v1 v1505), ∀ (k0_h1 : k0_cond1 arg0 v1 = 1#1), 8 ∣ (k0_mult50 v1505).toNat := fun arg0 v1 v1505 k0_hw50 k0_h1 => k0_hw50.1 k0_h1
theorem k0_off99_inb : ∀ (arg0 : BitVec 32) (v1 : BitVec 32) (v1505 : BitVec 32) (k0_hw50 : k0_chk50 arg0 v1 v1505), ∀ (k0_h1 : k0_cond1 arg0 v1 = 1#1), ∀ a, (k0_off99 v1505) a + S8x128.size a ≤ S7688x256.size a := fun arg0 v1 v1505 k0_hw50 k0_h1 => k0_hw50.2.1 k0_h1
theorem k0_off100_inb : ∀ (arg0 : BitVec 32) (v1 : BitVec 32) (v1505 : BitVec 32) (k0_hw50 : k0_chk50 arg0 v1 v1505), ∀ (k0_h1 : k0_cond1 arg0 v1 = 1#1), ∀ a, (k0_off100 v1505) a + S8x128.size a ≤ S7688x256.size a := fun arg0 v1 v1505 k0_hw50 k0_h1 => k0_hw50.2.2 k0_h1

def k0_mult51 (v1535 : BitVec 32) : BitVec 32 :=
  let c1_i32_370 : BitVec 32 := 1#32
  let v1555 : BitVec 32 := Scalar.shrsi v1535 c1_i32_370
  v1555

def k0_off101 (v1535 : BitVec 32) : Fin 2 → Nat :=
  let c1_i32_370 : BitVec 32 := 1#32
  let v1555 : BitVec 32 := Scalar.shrsi v1535 c1_i32_370
  let v1556 : BitVec 32 := v1555
  let v1557 : Index := Scalar.indexCast v1556
  let c0_371 : Index := 0#32
  ![v1557.toNat, 0]
def k0_off102 (v1535 : BitVec 32) : Fin 2 → Nat :=
  let c1_i32_370 : BitVec 32 := 1#32
  let v1555 : BitVec 32 := Scalar.shrsi v1535 c1_i32_370
  let v1556 : BitVec 32 := v1555
  let v1561 : Index := Scalar.indexCast v1556
  let c128_372 : Index := 128#32
  ![v1561.toNat, 128]

def k0_chk51 (arg0 : BitVec 32) (v1 : BitVec 32) (v1535 : BitVec 32) : Prop :=
  (∀ (k0_h1 : k0_cond1 arg0 v1 = 1#1), 8 ∣ (k0_mult51 v1535).toNat) ∧
  (∀ (k0_h1 : k0_cond1 arg0 v1 = 1#1), ∀ a, (k0_off101 v1535) a + S8x128.size a ≤ S7688x256.size a) ∧
  (∀ (k0_h1 : k0_cond1 arg0 v1 = 1#1), ∀ a, (k0_off102 v1535) a + S8x128.size a ≤ S7688x256.size a)
theorem k0_mult51_dvd : ∀ (arg0 : BitVec 32) (v1 : BitVec 32) (v1535 : BitVec 32) (k0_hw51 : k0_chk51 arg0 v1 v1535), ∀ (k0_h1 : k0_cond1 arg0 v1 = 1#1), 8 ∣ (k0_mult51 v1535).toNat := fun arg0 v1 v1535 k0_hw51 k0_h1 => k0_hw51.1 k0_h1
theorem k0_off101_inb : ∀ (arg0 : BitVec 32) (v1 : BitVec 32) (v1535 : BitVec 32) (k0_hw51 : k0_chk51 arg0 v1 v1535), ∀ (k0_h1 : k0_cond1 arg0 v1 = 1#1), ∀ a, (k0_off101 v1535) a + S8x128.size a ≤ S7688x256.size a := fun arg0 v1 v1535 k0_hw51 k0_h1 => k0_hw51.2.1 k0_h1
theorem k0_off102_inb : ∀ (arg0 : BitVec 32) (v1 : BitVec 32) (v1535 : BitVec 32) (k0_hw51 : k0_chk51 arg0 v1 v1535), ∀ (k0_h1 : k0_cond1 arg0 v1 = 1#1), ∀ a, (k0_off102 v1535) a + S8x128.size a ≤ S7688x256.size a := fun arg0 v1 v1535 k0_hw51 k0_h1 => k0_hw51.2.2 k0_h1

def k0_mult52 (v1565 : BitVec 32) : BitVec 32 :=
  let c1_i32_377 : BitVec 32 := 1#32
  let v1585 : BitVec 32 := Scalar.shrsi v1565 c1_i32_377
  v1585

def k0_off103 (v1565 : BitVec 32) : Fin 2 → Nat :=
  let c1_i32_377 : BitVec 32 := 1#32
  let v1585 : BitVec 32 := Scalar.shrsi v1565 c1_i32_377
  let v1586 : BitVec 32 := v1585
  let v1587 : Index := Scalar.indexCast v1586
  let c0_378 : Index := 0#32
  ![v1587.toNat, 0]
def k0_off104 (v1565 : BitVec 32) : Fin 2 → Nat :=
  let c1_i32_377 : BitVec 32 := 1#32
  let v1585 : BitVec 32 := Scalar.shrsi v1565 c1_i32_377
  let v1586 : BitVec 32 := v1585
  let v1591 : Index := Scalar.indexCast v1586
  let c128_379 : Index := 128#32
  ![v1591.toNat, 128]

def k0_chk52 (arg0 : BitVec 32) (v1 : BitVec 32) (v1565 : BitVec 32) : Prop :=
  (∀ (k0_h1 : k0_cond1 arg0 v1 = 1#1), 8 ∣ (k0_mult52 v1565).toNat) ∧
  (∀ (k0_h1 : k0_cond1 arg0 v1 = 1#1), ∀ a, (k0_off103 v1565) a + S8x128.size a ≤ S7688x256.size a) ∧
  (∀ (k0_h1 : k0_cond1 arg0 v1 = 1#1), ∀ a, (k0_off104 v1565) a + S8x128.size a ≤ S7688x256.size a)
theorem k0_mult52_dvd : ∀ (arg0 : BitVec 32) (v1 : BitVec 32) (v1565 : BitVec 32) (k0_hw52 : k0_chk52 arg0 v1 v1565), ∀ (k0_h1 : k0_cond1 arg0 v1 = 1#1), 8 ∣ (k0_mult52 v1565).toNat := fun arg0 v1 v1565 k0_hw52 k0_h1 => k0_hw52.1 k0_h1
theorem k0_off103_inb : ∀ (arg0 : BitVec 32) (v1 : BitVec 32) (v1565 : BitVec 32) (k0_hw52 : k0_chk52 arg0 v1 v1565), ∀ (k0_h1 : k0_cond1 arg0 v1 = 1#1), ∀ a, (k0_off103 v1565) a + S8x128.size a ≤ S7688x256.size a := fun arg0 v1 v1565 k0_hw52 k0_h1 => k0_hw52.2.1 k0_h1
theorem k0_off104_inb : ∀ (arg0 : BitVec 32) (v1 : BitVec 32) (v1565 : BitVec 32) (k0_hw52 : k0_chk52 arg0 v1 v1565), ∀ (k0_h1 : k0_cond1 arg0 v1 = 1#1), ∀ a, (k0_off104 v1565) a + S8x128.size a ≤ S7688x256.size a := fun arg0 v1 v1565 k0_hw52 k0_h1 => k0_hw52.2.2 k0_h1

def k0_mult53 (v1595 : BitVec 32) : BitVec 32 :=
  let c1_i32_384 : BitVec 32 := 1#32
  let v1615 : BitVec 32 := Scalar.shrsi v1595 c1_i32_384
  v1615

def k0_off105 (v1595 : BitVec 32) : Fin 2 → Nat :=
  let c1_i32_384 : BitVec 32 := 1#32
  let v1615 : BitVec 32 := Scalar.shrsi v1595 c1_i32_384
  let v1616 : BitVec 32 := v1615
  let v1617 : Index := Scalar.indexCast v1616
  let c0_385 : Index := 0#32
  ![v1617.toNat, 0]
def k0_off106 (v1595 : BitVec 32) : Fin 2 → Nat :=
  let c1_i32_384 : BitVec 32 := 1#32
  let v1615 : BitVec 32 := Scalar.shrsi v1595 c1_i32_384
  let v1616 : BitVec 32 := v1615
  let v1621 : Index := Scalar.indexCast v1616
  let c128_386 : Index := 128#32
  ![v1621.toNat, 128]

def k0_chk53 (arg0 : BitVec 32) (v1 : BitVec 32) (v1595 : BitVec 32) : Prop :=
  (∀ (k0_h1 : k0_cond1 arg0 v1 = 1#1), 8 ∣ (k0_mult53 v1595).toNat) ∧
  (∀ (k0_h1 : k0_cond1 arg0 v1 = 1#1), ∀ a, (k0_off105 v1595) a + S8x128.size a ≤ S7688x256.size a) ∧
  (∀ (k0_h1 : k0_cond1 arg0 v1 = 1#1), ∀ a, (k0_off106 v1595) a + S8x128.size a ≤ S7688x256.size a)
theorem k0_mult53_dvd : ∀ (arg0 : BitVec 32) (v1 : BitVec 32) (v1595 : BitVec 32) (k0_hw53 : k0_chk53 arg0 v1 v1595), ∀ (k0_h1 : k0_cond1 arg0 v1 = 1#1), 8 ∣ (k0_mult53 v1595).toNat := fun arg0 v1 v1595 k0_hw53 k0_h1 => k0_hw53.1 k0_h1
theorem k0_off105_inb : ∀ (arg0 : BitVec 32) (v1 : BitVec 32) (v1595 : BitVec 32) (k0_hw53 : k0_chk53 arg0 v1 v1595), ∀ (k0_h1 : k0_cond1 arg0 v1 = 1#1), ∀ a, (k0_off105 v1595) a + S8x128.size a ≤ S7688x256.size a := fun arg0 v1 v1595 k0_hw53 k0_h1 => k0_hw53.2.1 k0_h1
theorem k0_off106_inb : ∀ (arg0 : BitVec 32) (v1 : BitVec 32) (v1595 : BitVec 32) (k0_hw53 : k0_chk53 arg0 v1 v1595), ∀ (k0_h1 : k0_cond1 arg0 v1 = 1#1), ∀ a, (k0_off106 v1595) a + S8x128.size a ≤ S7688x256.size a := fun arg0 v1 v1595 k0_hw53 k0_h1 => k0_hw53.2.2 k0_h1

def k0_mult54 (v1625 : BitVec 32) : BitVec 32 :=
  let c1_i32_391 : BitVec 32 := 1#32
  let v1645 : BitVec 32 := Scalar.shrsi v1625 c1_i32_391
  v1645

def k0_off107 (v1625 : BitVec 32) : Fin 2 → Nat :=
  let c1_i32_391 : BitVec 32 := 1#32
  let v1645 : BitVec 32 := Scalar.shrsi v1625 c1_i32_391
  let v1646 : BitVec 32 := v1645
  let v1647 : Index := Scalar.indexCast v1646
  let c0_392 : Index := 0#32
  ![v1647.toNat, 0]
def k0_off108 (v1625 : BitVec 32) : Fin 2 → Nat :=
  let c1_i32_391 : BitVec 32 := 1#32
  let v1645 : BitVec 32 := Scalar.shrsi v1625 c1_i32_391
  let v1646 : BitVec 32 := v1645
  let v1651 : Index := Scalar.indexCast v1646
  let c128_393 : Index := 128#32
  ![v1651.toNat, 128]

def k0_chk54 (arg0 : BitVec 32) (v1 : BitVec 32) (v1625 : BitVec 32) : Prop :=
  (∀ (k0_h1 : k0_cond1 arg0 v1 = 1#1), 8 ∣ (k0_mult54 v1625).toNat) ∧
  (∀ (k0_h1 : k0_cond1 arg0 v1 = 1#1), ∀ a, (k0_off107 v1625) a + S8x128.size a ≤ S7688x256.size a) ∧
  (∀ (k0_h1 : k0_cond1 arg0 v1 = 1#1), ∀ a, (k0_off108 v1625) a + S8x128.size a ≤ S7688x256.size a)
theorem k0_mult54_dvd : ∀ (arg0 : BitVec 32) (v1 : BitVec 32) (v1625 : BitVec 32) (k0_hw54 : k0_chk54 arg0 v1 v1625), ∀ (k0_h1 : k0_cond1 arg0 v1 = 1#1), 8 ∣ (k0_mult54 v1625).toNat := fun arg0 v1 v1625 k0_hw54 k0_h1 => k0_hw54.1 k0_h1
theorem k0_off107_inb : ∀ (arg0 : BitVec 32) (v1 : BitVec 32) (v1625 : BitVec 32) (k0_hw54 : k0_chk54 arg0 v1 v1625), ∀ (k0_h1 : k0_cond1 arg0 v1 = 1#1), ∀ a, (k0_off107 v1625) a + S8x128.size a ≤ S7688x256.size a := fun arg0 v1 v1625 k0_hw54 k0_h1 => k0_hw54.2.1 k0_h1
theorem k0_off108_inb : ∀ (arg0 : BitVec 32) (v1 : BitVec 32) (v1625 : BitVec 32) (k0_hw54 : k0_chk54 arg0 v1 v1625), ∀ (k0_h1 : k0_cond1 arg0 v1 = 1#1), ∀ a, (k0_off108 v1625) a + S8x128.size a ≤ S7688x256.size a := fun arg0 v1 v1625 k0_hw54 k0_h1 => k0_hw54.2.2 k0_h1

def k0_mult55 (v1655 : BitVec 32) : BitVec 32 :=
  let c1_i32_398 : BitVec 32 := 1#32
  let v1675 : BitVec 32 := Scalar.shrsi v1655 c1_i32_398
  v1675

def k0_off109 (v1655 : BitVec 32) : Fin 2 → Nat :=
  let c1_i32_398 : BitVec 32 := 1#32
  let v1675 : BitVec 32 := Scalar.shrsi v1655 c1_i32_398
  let v1676 : BitVec 32 := v1675
  let v1677 : Index := Scalar.indexCast v1676
  let c0_399 : Index := 0#32
  ![v1677.toNat, 0]
def k0_off110 (v1655 : BitVec 32) : Fin 2 → Nat :=
  let c1_i32_398 : BitVec 32 := 1#32
  let v1675 : BitVec 32 := Scalar.shrsi v1655 c1_i32_398
  let v1676 : BitVec 32 := v1675
  let v1681 : Index := Scalar.indexCast v1676
  let c128_400 : Index := 128#32
  ![v1681.toNat, 128]

def k0_chk55 (arg0 : BitVec 32) (v1 : BitVec 32) (v1655 : BitVec 32) : Prop :=
  (∀ (k0_h1 : k0_cond1 arg0 v1 = 1#1), 8 ∣ (k0_mult55 v1655).toNat) ∧
  (∀ (k0_h1 : k0_cond1 arg0 v1 = 1#1), ∀ a, (k0_off109 v1655) a + S8x128.size a ≤ S7688x256.size a) ∧
  (∀ (k0_h1 : k0_cond1 arg0 v1 = 1#1), ∀ a, (k0_off110 v1655) a + S8x128.size a ≤ S7688x256.size a)
theorem k0_mult55_dvd : ∀ (arg0 : BitVec 32) (v1 : BitVec 32) (v1655 : BitVec 32) (k0_hw55 : k0_chk55 arg0 v1 v1655), ∀ (k0_h1 : k0_cond1 arg0 v1 = 1#1), 8 ∣ (k0_mult55 v1655).toNat := fun arg0 v1 v1655 k0_hw55 k0_h1 => k0_hw55.1 k0_h1
theorem k0_off109_inb : ∀ (arg0 : BitVec 32) (v1 : BitVec 32) (v1655 : BitVec 32) (k0_hw55 : k0_chk55 arg0 v1 v1655), ∀ (k0_h1 : k0_cond1 arg0 v1 = 1#1), ∀ a, (k0_off109 v1655) a + S8x128.size a ≤ S7688x256.size a := fun arg0 v1 v1655 k0_hw55 k0_h1 => k0_hw55.2.1 k0_h1
theorem k0_off110_inb : ∀ (arg0 : BitVec 32) (v1 : BitVec 32) (v1655 : BitVec 32) (k0_hw55 : k0_chk55 arg0 v1 v1655), ∀ (k0_h1 : k0_cond1 arg0 v1 = 1#1), ∀ a, (k0_off110 v1655) a + S8x128.size a ≤ S7688x256.size a := fun arg0 v1 v1655 k0_hw55 k0_h1 => k0_hw55.2.2 k0_h1

def k0_mult56 (v1685 : BitVec 32) : BitVec 32 :=
  let c1_i32_405 : BitVec 32 := 1#32
  let v1705 : BitVec 32 := Scalar.shrsi v1685 c1_i32_405
  v1705

def k0_off111 (v1685 : BitVec 32) : Fin 2 → Nat :=
  let c1_i32_405 : BitVec 32 := 1#32
  let v1705 : BitVec 32 := Scalar.shrsi v1685 c1_i32_405
  let v1706 : BitVec 32 := v1705
  let v1707 : Index := Scalar.indexCast v1706
  let c0_406 : Index := 0#32
  ![v1707.toNat, 0]
def k0_off112 (v1685 : BitVec 32) : Fin 2 → Nat :=
  let c1_i32_405 : BitVec 32 := 1#32
  let v1705 : BitVec 32 := Scalar.shrsi v1685 c1_i32_405
  let v1706 : BitVec 32 := v1705
  let v1711 : Index := Scalar.indexCast v1706
  let c128_407 : Index := 128#32
  ![v1711.toNat, 128]

def k0_chk56 (arg0 : BitVec 32) (v1 : BitVec 32) (v1685 : BitVec 32) : Prop :=
  (∀ (k0_h1 : k0_cond1 arg0 v1 = 1#1), 8 ∣ (k0_mult56 v1685).toNat) ∧
  (∀ (k0_h1 : k0_cond1 arg0 v1 = 1#1), ∀ a, (k0_off111 v1685) a + S8x128.size a ≤ S7688x256.size a) ∧
  (∀ (k0_h1 : k0_cond1 arg0 v1 = 1#1), ∀ a, (k0_off112 v1685) a + S8x128.size a ≤ S7688x256.size a)
theorem k0_mult56_dvd : ∀ (arg0 : BitVec 32) (v1 : BitVec 32) (v1685 : BitVec 32) (k0_hw56 : k0_chk56 arg0 v1 v1685), ∀ (k0_h1 : k0_cond1 arg0 v1 = 1#1), 8 ∣ (k0_mult56 v1685).toNat := fun arg0 v1 v1685 k0_hw56 k0_h1 => k0_hw56.1 k0_h1
theorem k0_off111_inb : ∀ (arg0 : BitVec 32) (v1 : BitVec 32) (v1685 : BitVec 32) (k0_hw56 : k0_chk56 arg0 v1 v1685), ∀ (k0_h1 : k0_cond1 arg0 v1 = 1#1), ∀ a, (k0_off111 v1685) a + S8x128.size a ≤ S7688x256.size a := fun arg0 v1 v1685 k0_hw56 k0_h1 => k0_hw56.2.1 k0_h1
theorem k0_off112_inb : ∀ (arg0 : BitVec 32) (v1 : BitVec 32) (v1685 : BitVec 32) (k0_hw56 : k0_chk56 arg0 v1 v1685), ∀ (k0_h1 : k0_cond1 arg0 v1 = 1#1), ∀ a, (k0_off112 v1685) a + S8x128.size a ≤ S7688x256.size a := fun arg0 v1 v1685 k0_hw56 k0_h1 => k0_hw56.2.2 k0_h1

def k0_mult57 (v1715 : BitVec 32) : BitVec 32 :=
  let c1_i32_412 : BitVec 32 := 1#32
  let v1735 : BitVec 32 := Scalar.shrsi v1715 c1_i32_412
  v1735

def k0_off113 (v1715 : BitVec 32) : Fin 2 → Nat :=
  let c1_i32_412 : BitVec 32 := 1#32
  let v1735 : BitVec 32 := Scalar.shrsi v1715 c1_i32_412
  let v1736 : BitVec 32 := v1735
  let v1737 : Index := Scalar.indexCast v1736
  let c0_413 : Index := 0#32
  ![v1737.toNat, 0]
def k0_off114 (v1715 : BitVec 32) : Fin 2 → Nat :=
  let c1_i32_412 : BitVec 32 := 1#32
  let v1735 : BitVec 32 := Scalar.shrsi v1715 c1_i32_412
  let v1736 : BitVec 32 := v1735
  let v1741 : Index := Scalar.indexCast v1736
  let c128_414 : Index := 128#32
  ![v1741.toNat, 128]

def k0_chk57 (arg0 : BitVec 32) (v1 : BitVec 32) (v1715 : BitVec 32) : Prop :=
  (∀ (k0_h1 : k0_cond1 arg0 v1 = 1#1), 8 ∣ (k0_mult57 v1715).toNat) ∧
  (∀ (k0_h1 : k0_cond1 arg0 v1 = 1#1), ∀ a, (k0_off113 v1715) a + S8x128.size a ≤ S7688x256.size a) ∧
  (∀ (k0_h1 : k0_cond1 arg0 v1 = 1#1), ∀ a, (k0_off114 v1715) a + S8x128.size a ≤ S7688x256.size a)
theorem k0_mult57_dvd : ∀ (arg0 : BitVec 32) (v1 : BitVec 32) (v1715 : BitVec 32) (k0_hw57 : k0_chk57 arg0 v1 v1715), ∀ (k0_h1 : k0_cond1 arg0 v1 = 1#1), 8 ∣ (k0_mult57 v1715).toNat := fun arg0 v1 v1715 k0_hw57 k0_h1 => k0_hw57.1 k0_h1
theorem k0_off113_inb : ∀ (arg0 : BitVec 32) (v1 : BitVec 32) (v1715 : BitVec 32) (k0_hw57 : k0_chk57 arg0 v1 v1715), ∀ (k0_h1 : k0_cond1 arg0 v1 = 1#1), ∀ a, (k0_off113 v1715) a + S8x128.size a ≤ S7688x256.size a := fun arg0 v1 v1715 k0_hw57 k0_h1 => k0_hw57.2.1 k0_h1
theorem k0_off114_inb : ∀ (arg0 : BitVec 32) (v1 : BitVec 32) (v1715 : BitVec 32) (k0_hw57 : k0_chk57 arg0 v1 v1715), ∀ (k0_h1 : k0_cond1 arg0 v1 = 1#1), ∀ a, (k0_off114 v1715) a + S8x128.size a ≤ S7688x256.size a := fun arg0 v1 v1715 k0_hw57 k0_h1 => k0_hw57.2.2 k0_h1

def k0_mult58 (v1745 : BitVec 32) : BitVec 32 :=
  let c1_i32_419 : BitVec 32 := 1#32
  let v1765 : BitVec 32 := Scalar.shrsi v1745 c1_i32_419
  v1765

def k0_off115 (v1745 : BitVec 32) : Fin 2 → Nat :=
  let c1_i32_419 : BitVec 32 := 1#32
  let v1765 : BitVec 32 := Scalar.shrsi v1745 c1_i32_419
  let v1766 : BitVec 32 := v1765
  let v1767 : Index := Scalar.indexCast v1766
  let c0_420 : Index := 0#32
  ![v1767.toNat, 0]
def k0_off116 (v1745 : BitVec 32) : Fin 2 → Nat :=
  let c1_i32_419 : BitVec 32 := 1#32
  let v1765 : BitVec 32 := Scalar.shrsi v1745 c1_i32_419
  let v1766 : BitVec 32 := v1765
  let v1771 : Index := Scalar.indexCast v1766
  let c128_421 : Index := 128#32
  ![v1771.toNat, 128]

def k0_chk58 (arg0 : BitVec 32) (v1 : BitVec 32) (v1745 : BitVec 32) : Prop :=
  (∀ (k0_h1 : k0_cond1 arg0 v1 = 1#1), 8 ∣ (k0_mult58 v1745).toNat) ∧
  (∀ (k0_h1 : k0_cond1 arg0 v1 = 1#1), ∀ a, (k0_off115 v1745) a + S8x128.size a ≤ S7688x256.size a) ∧
  (∀ (k0_h1 : k0_cond1 arg0 v1 = 1#1), ∀ a, (k0_off116 v1745) a + S8x128.size a ≤ S7688x256.size a)
theorem k0_mult58_dvd : ∀ (arg0 : BitVec 32) (v1 : BitVec 32) (v1745 : BitVec 32) (k0_hw58 : k0_chk58 arg0 v1 v1745), ∀ (k0_h1 : k0_cond1 arg0 v1 = 1#1), 8 ∣ (k0_mult58 v1745).toNat := fun arg0 v1 v1745 k0_hw58 k0_h1 => k0_hw58.1 k0_h1
theorem k0_off115_inb : ∀ (arg0 : BitVec 32) (v1 : BitVec 32) (v1745 : BitVec 32) (k0_hw58 : k0_chk58 arg0 v1 v1745), ∀ (k0_h1 : k0_cond1 arg0 v1 = 1#1), ∀ a, (k0_off115 v1745) a + S8x128.size a ≤ S7688x256.size a := fun arg0 v1 v1745 k0_hw58 k0_h1 => k0_hw58.2.1 k0_h1
theorem k0_off116_inb : ∀ (arg0 : BitVec 32) (v1 : BitVec 32) (v1745 : BitVec 32) (k0_hw58 : k0_chk58 arg0 v1 v1745), ∀ (k0_h1 : k0_cond1 arg0 v1 = 1#1), ∀ a, (k0_off116 v1745) a + S8x128.size a ≤ S7688x256.size a := fun arg0 v1 v1745 k0_hw58 k0_h1 => k0_hw58.2.2 k0_h1

def k0_mult59 (v1775 : BitVec 32) : BitVec 32 :=
  let c1_i32_426 : BitVec 32 := 1#32
  let v1795 : BitVec 32 := Scalar.shrsi v1775 c1_i32_426
  v1795

def k0_off117 (v1775 : BitVec 32) : Fin 2 → Nat :=
  let c1_i32_426 : BitVec 32 := 1#32
  let v1795 : BitVec 32 := Scalar.shrsi v1775 c1_i32_426
  let v1796 : BitVec 32 := v1795
  let v1797 : Index := Scalar.indexCast v1796
  let c0_427 : Index := 0#32
  ![v1797.toNat, 0]
def k0_off118 (v1775 : BitVec 32) : Fin 2 → Nat :=
  let c1_i32_426 : BitVec 32 := 1#32
  let v1795 : BitVec 32 := Scalar.shrsi v1775 c1_i32_426
  let v1796 : BitVec 32 := v1795
  let v1801 : Index := Scalar.indexCast v1796
  let c128_428 : Index := 128#32
  ![v1801.toNat, 128]

def k0_chk59 (arg0 : BitVec 32) (v1 : BitVec 32) (v1775 : BitVec 32) : Prop :=
  (∀ (k0_h1 : k0_cond1 arg0 v1 = 1#1), 8 ∣ (k0_mult59 v1775).toNat) ∧
  (∀ (k0_h1 : k0_cond1 arg0 v1 = 1#1), ∀ a, (k0_off117 v1775) a + S8x128.size a ≤ S7688x256.size a) ∧
  (∀ (k0_h1 : k0_cond1 arg0 v1 = 1#1), ∀ a, (k0_off118 v1775) a + S8x128.size a ≤ S7688x256.size a)
theorem k0_mult59_dvd : ∀ (arg0 : BitVec 32) (v1 : BitVec 32) (v1775 : BitVec 32) (k0_hw59 : k0_chk59 arg0 v1 v1775), ∀ (k0_h1 : k0_cond1 arg0 v1 = 1#1), 8 ∣ (k0_mult59 v1775).toNat := fun arg0 v1 v1775 k0_hw59 k0_h1 => k0_hw59.1 k0_h1
theorem k0_off117_inb : ∀ (arg0 : BitVec 32) (v1 : BitVec 32) (v1775 : BitVec 32) (k0_hw59 : k0_chk59 arg0 v1 v1775), ∀ (k0_h1 : k0_cond1 arg0 v1 = 1#1), ∀ a, (k0_off117 v1775) a + S8x128.size a ≤ S7688x256.size a := fun arg0 v1 v1775 k0_hw59 k0_h1 => k0_hw59.2.1 k0_h1
theorem k0_off118_inb : ∀ (arg0 : BitVec 32) (v1 : BitVec 32) (v1775 : BitVec 32) (k0_hw59 : k0_chk59 arg0 v1 v1775), ∀ (k0_h1 : k0_cond1 arg0 v1 = 1#1), ∀ a, (k0_off118 v1775) a + S8x128.size a ≤ S7688x256.size a := fun arg0 v1 v1775 k0_hw59 k0_h1 => k0_hw59.2.2 k0_h1

def k0_mult60 (v1805 : BitVec 32) : BitVec 32 :=
  let c1_i32_433 : BitVec 32 := 1#32
  let v1825 : BitVec 32 := Scalar.shrsi v1805 c1_i32_433
  v1825

def k0_off119 (v1805 : BitVec 32) : Fin 2 → Nat :=
  let c1_i32_433 : BitVec 32 := 1#32
  let v1825 : BitVec 32 := Scalar.shrsi v1805 c1_i32_433
  let v1826 : BitVec 32 := v1825
  let v1827 : Index := Scalar.indexCast v1826
  let c0_434 : Index := 0#32
  ![v1827.toNat, 0]
def k0_off120 (v1805 : BitVec 32) : Fin 2 → Nat :=
  let c1_i32_433 : BitVec 32 := 1#32
  let v1825 : BitVec 32 := Scalar.shrsi v1805 c1_i32_433
  let v1826 : BitVec 32 := v1825
  let v1831 : Index := Scalar.indexCast v1826
  let c128_435 : Index := 128#32
  ![v1831.toNat, 128]

def k0_chk60 (arg0 : BitVec 32) (v1 : BitVec 32) (v1805 : BitVec 32) : Prop :=
  (∀ (k0_h1 : k0_cond1 arg0 v1 = 1#1), 8 ∣ (k0_mult60 v1805).toNat) ∧
  (∀ (k0_h1 : k0_cond1 arg0 v1 = 1#1), ∀ a, (k0_off119 v1805) a + S8x128.size a ≤ S7688x256.size a) ∧
  (∀ (k0_h1 : k0_cond1 arg0 v1 = 1#1), ∀ a, (k0_off120 v1805) a + S8x128.size a ≤ S7688x256.size a)
theorem k0_mult60_dvd : ∀ (arg0 : BitVec 32) (v1 : BitVec 32) (v1805 : BitVec 32) (k0_hw60 : k0_chk60 arg0 v1 v1805), ∀ (k0_h1 : k0_cond1 arg0 v1 = 1#1), 8 ∣ (k0_mult60 v1805).toNat := fun arg0 v1 v1805 k0_hw60 k0_h1 => k0_hw60.1 k0_h1
theorem k0_off119_inb : ∀ (arg0 : BitVec 32) (v1 : BitVec 32) (v1805 : BitVec 32) (k0_hw60 : k0_chk60 arg0 v1 v1805), ∀ (k0_h1 : k0_cond1 arg0 v1 = 1#1), ∀ a, (k0_off119 v1805) a + S8x128.size a ≤ S7688x256.size a := fun arg0 v1 v1805 k0_hw60 k0_h1 => k0_hw60.2.1 k0_h1
theorem k0_off120_inb : ∀ (arg0 : BitVec 32) (v1 : BitVec 32) (v1805 : BitVec 32) (k0_hw60 : k0_chk60 arg0 v1 v1805), ∀ (k0_h1 : k0_cond1 arg0 v1 = 1#1), ∀ a, (k0_off120 v1805) a + S8x128.size a ≤ S7688x256.size a := fun arg0 v1 v1805 k0_hw60 k0_h1 => k0_hw60.2.2 k0_h1

def k0_mult61 (v1835 : BitVec 32) : BitVec 32 :=
  let c1_i32_440 : BitVec 32 := 1#32
  let v1855 : BitVec 32 := Scalar.shrsi v1835 c1_i32_440
  v1855

def k0_off121 (v1835 : BitVec 32) : Fin 2 → Nat :=
  let c1_i32_440 : BitVec 32 := 1#32
  let v1855 : BitVec 32 := Scalar.shrsi v1835 c1_i32_440
  let v1856 : BitVec 32 := v1855
  let v1857 : Index := Scalar.indexCast v1856
  let c0_441 : Index := 0#32
  ![v1857.toNat, 0]
def k0_off122 (v1835 : BitVec 32) : Fin 2 → Nat :=
  let c1_i32_440 : BitVec 32 := 1#32
  let v1855 : BitVec 32 := Scalar.shrsi v1835 c1_i32_440
  let v1856 : BitVec 32 := v1855
  let v1861 : Index := Scalar.indexCast v1856
  let c128_442 : Index := 128#32
  ![v1861.toNat, 128]

def k0_chk61 (arg0 : BitVec 32) (v1 : BitVec 32) (v1835 : BitVec 32) : Prop :=
  (∀ (k0_h1 : k0_cond1 arg0 v1 = 1#1), 8 ∣ (k0_mult61 v1835).toNat) ∧
  (∀ (k0_h1 : k0_cond1 arg0 v1 = 1#1), ∀ a, (k0_off121 v1835) a + S8x128.size a ≤ S7688x256.size a) ∧
  (∀ (k0_h1 : k0_cond1 arg0 v1 = 1#1), ∀ a, (k0_off122 v1835) a + S8x128.size a ≤ S7688x256.size a)
theorem k0_mult61_dvd : ∀ (arg0 : BitVec 32) (v1 : BitVec 32) (v1835 : BitVec 32) (k0_hw61 : k0_chk61 arg0 v1 v1835), ∀ (k0_h1 : k0_cond1 arg0 v1 = 1#1), 8 ∣ (k0_mult61 v1835).toNat := fun arg0 v1 v1835 k0_hw61 k0_h1 => k0_hw61.1 k0_h1
theorem k0_off121_inb : ∀ (arg0 : BitVec 32) (v1 : BitVec 32) (v1835 : BitVec 32) (k0_hw61 : k0_chk61 arg0 v1 v1835), ∀ (k0_h1 : k0_cond1 arg0 v1 = 1#1), ∀ a, (k0_off121 v1835) a + S8x128.size a ≤ S7688x256.size a := fun arg0 v1 v1835 k0_hw61 k0_h1 => k0_hw61.2.1 k0_h1
theorem k0_off122_inb : ∀ (arg0 : BitVec 32) (v1 : BitVec 32) (v1835 : BitVec 32) (k0_hw61 : k0_chk61 arg0 v1 v1835), ∀ (k0_h1 : k0_cond1 arg0 v1 = 1#1), ∀ a, (k0_off122 v1835) a + S8x128.size a ≤ S7688x256.size a := fun arg0 v1 v1835 k0_hw61 k0_h1 => k0_hw61.2.2 k0_h1

def k0_mult62 (v1865 : BitVec 32) : BitVec 32 :=
  let c1_i32_447 : BitVec 32 := 1#32
  let v1885 : BitVec 32 := Scalar.shrsi v1865 c1_i32_447
  v1885

def k0_off123 (v1865 : BitVec 32) : Fin 2 → Nat :=
  let c1_i32_447 : BitVec 32 := 1#32
  let v1885 : BitVec 32 := Scalar.shrsi v1865 c1_i32_447
  let v1886 : BitVec 32 := v1885
  let v1887 : Index := Scalar.indexCast v1886
  let c0_448 : Index := 0#32
  ![v1887.toNat, 0]
def k0_off124 (v1865 : BitVec 32) : Fin 2 → Nat :=
  let c1_i32_447 : BitVec 32 := 1#32
  let v1885 : BitVec 32 := Scalar.shrsi v1865 c1_i32_447
  let v1886 : BitVec 32 := v1885
  let v1891 : Index := Scalar.indexCast v1886
  let c128_449 : Index := 128#32
  ![v1891.toNat, 128]

def k0_chk62 (arg0 : BitVec 32) (v1 : BitVec 32) (v1865 : BitVec 32) : Prop :=
  (∀ (k0_h1 : k0_cond1 arg0 v1 = 1#1), 8 ∣ (k0_mult62 v1865).toNat) ∧
  (∀ (k0_h1 : k0_cond1 arg0 v1 = 1#1), ∀ a, (k0_off123 v1865) a + S8x128.size a ≤ S7688x256.size a) ∧
  (∀ (k0_h1 : k0_cond1 arg0 v1 = 1#1), ∀ a, (k0_off124 v1865) a + S8x128.size a ≤ S7688x256.size a)
theorem k0_mult62_dvd : ∀ (arg0 : BitVec 32) (v1 : BitVec 32) (v1865 : BitVec 32) (k0_hw62 : k0_chk62 arg0 v1 v1865), ∀ (k0_h1 : k0_cond1 arg0 v1 = 1#1), 8 ∣ (k0_mult62 v1865).toNat := fun arg0 v1 v1865 k0_hw62 k0_h1 => k0_hw62.1 k0_h1
theorem k0_off123_inb : ∀ (arg0 : BitVec 32) (v1 : BitVec 32) (v1865 : BitVec 32) (k0_hw62 : k0_chk62 arg0 v1 v1865), ∀ (k0_h1 : k0_cond1 arg0 v1 = 1#1), ∀ a, (k0_off123 v1865) a + S8x128.size a ≤ S7688x256.size a := fun arg0 v1 v1865 k0_hw62 k0_h1 => k0_hw62.2.1 k0_h1
theorem k0_off124_inb : ∀ (arg0 : BitVec 32) (v1 : BitVec 32) (v1865 : BitVec 32) (k0_hw62 : k0_chk62 arg0 v1 v1865), ∀ (k0_h1 : k0_cond1 arg0 v1 = 1#1), ∀ a, (k0_off124 v1865) a + S8x128.size a ≤ S7688x256.size a := fun arg0 v1 v1865 k0_hw62 k0_h1 => k0_hw62.2.2 k0_h1

def k0_mult63 (v1895 : BitVec 32) : BitVec 32 :=
  let c1_i32_454 : BitVec 32 := 1#32
  let v1915 : BitVec 32 := Scalar.shrsi v1895 c1_i32_454
  v1915

def k0_off125 (v1895 : BitVec 32) : Fin 2 → Nat :=
  let c1_i32_454 : BitVec 32 := 1#32
  let v1915 : BitVec 32 := Scalar.shrsi v1895 c1_i32_454
  let v1916 : BitVec 32 := v1915
  let v1917 : Index := Scalar.indexCast v1916
  let c0_455 : Index := 0#32
  ![v1917.toNat, 0]
def k0_off126 (v1895 : BitVec 32) : Fin 2 → Nat :=
  let c1_i32_454 : BitVec 32 := 1#32
  let v1915 : BitVec 32 := Scalar.shrsi v1895 c1_i32_454
  let v1916 : BitVec 32 := v1915
  let v1921 : Index := Scalar.indexCast v1916
  let c128_456 : Index := 128#32
  ![v1921.toNat, 128]

def k0_chk63 (arg0 : BitVec 32) (v1 : BitVec 32) (v1895 : BitVec 32) : Prop :=
  (∀ (k0_h1 : k0_cond1 arg0 v1 = 1#1), 8 ∣ (k0_mult63 v1895).toNat) ∧
  (∀ (k0_h1 : k0_cond1 arg0 v1 = 1#1), ∀ a, (k0_off125 v1895) a + S8x128.size a ≤ S7688x256.size a) ∧
  (∀ (k0_h1 : k0_cond1 arg0 v1 = 1#1), ∀ a, (k0_off126 v1895) a + S8x128.size a ≤ S7688x256.size a)
theorem k0_mult63_dvd : ∀ (arg0 : BitVec 32) (v1 : BitVec 32) (v1895 : BitVec 32) (k0_hw63 : k0_chk63 arg0 v1 v1895), ∀ (k0_h1 : k0_cond1 arg0 v1 = 1#1), 8 ∣ (k0_mult63 v1895).toNat := fun arg0 v1 v1895 k0_hw63 k0_h1 => k0_hw63.1 k0_h1
theorem k0_off125_inb : ∀ (arg0 : BitVec 32) (v1 : BitVec 32) (v1895 : BitVec 32) (k0_hw63 : k0_chk63 arg0 v1 v1895), ∀ (k0_h1 : k0_cond1 arg0 v1 = 1#1), ∀ a, (k0_off125 v1895) a + S8x128.size a ≤ S7688x256.size a := fun arg0 v1 v1895 k0_hw63 k0_h1 => k0_hw63.2.1 k0_h1
theorem k0_off126_inb : ∀ (arg0 : BitVec 32) (v1 : BitVec 32) (v1895 : BitVec 32) (k0_hw63 : k0_chk63 arg0 v1 v1895), ∀ (k0_h1 : k0_cond1 arg0 v1 = 1#1), ∀ a, (k0_off126 v1895) a + S8x128.size a ≤ S7688x256.size a := fun arg0 v1 v1895 k0_hw63 k0_h1 => k0_hw63.2.2 k0_h1

def k0_mult64 (v1925 : BitVec 32) : BitVec 32 :=
  let c1_i32_461 : BitVec 32 := 1#32
  let v1945 : BitVec 32 := Scalar.shrsi v1925 c1_i32_461
  v1945

def k0_off127 (v1925 : BitVec 32) : Fin 2 → Nat :=
  let c1_i32_461 : BitVec 32 := 1#32
  let v1945 : BitVec 32 := Scalar.shrsi v1925 c1_i32_461
  let v1946 : BitVec 32 := v1945
  let v1947 : Index := Scalar.indexCast v1946
  let c0_462 : Index := 0#32
  ![v1947.toNat, 0]
def k0_off128 (v1925 : BitVec 32) : Fin 2 → Nat :=
  let c1_i32_461 : BitVec 32 := 1#32
  let v1945 : BitVec 32 := Scalar.shrsi v1925 c1_i32_461
  let v1946 : BitVec 32 := v1945
  let v1951 : Index := Scalar.indexCast v1946
  let c128_463 : Index := 128#32
  ![v1951.toNat, 128]

def k0_chk64 (arg0 : BitVec 32) (v1 : BitVec 32) (v1925 : BitVec 32) : Prop :=
  (∀ (k0_h1 : k0_cond1 arg0 v1 = 1#1), 8 ∣ (k0_mult64 v1925).toNat) ∧
  (∀ (k0_h1 : k0_cond1 arg0 v1 = 1#1), ∀ a, (k0_off127 v1925) a + S8x128.size a ≤ S7688x256.size a) ∧
  (∀ (k0_h1 : k0_cond1 arg0 v1 = 1#1), ∀ a, (k0_off128 v1925) a + S8x128.size a ≤ S7688x256.size a)
theorem k0_mult64_dvd : ∀ (arg0 : BitVec 32) (v1 : BitVec 32) (v1925 : BitVec 32) (k0_hw64 : k0_chk64 arg0 v1 v1925), ∀ (k0_h1 : k0_cond1 arg0 v1 = 1#1), 8 ∣ (k0_mult64 v1925).toNat := fun arg0 v1 v1925 k0_hw64 k0_h1 => k0_hw64.1 k0_h1
theorem k0_off127_inb : ∀ (arg0 : BitVec 32) (v1 : BitVec 32) (v1925 : BitVec 32) (k0_hw64 : k0_chk64 arg0 v1 v1925), ∀ (k0_h1 : k0_cond1 arg0 v1 = 1#1), ∀ a, (k0_off127 v1925) a + S8x128.size a ≤ S7688x256.size a := fun arg0 v1 v1925 k0_hw64 k0_h1 => k0_hw64.2.1 k0_h1
theorem k0_off128_inb : ∀ (arg0 : BitVec 32) (v1 : BitVec 32) (v1925 : BitVec 32) (k0_hw64 : k0_chk64 arg0 v1 v1925), ∀ (k0_h1 : k0_cond1 arg0 v1 = 1#1), ∀ a, (k0_off128 v1925) a + S8x128.size a ≤ S7688x256.size a := fun arg0 v1 v1925 k0_hw64 k0_h1 => k0_hw64.2.2 k0_h1

def k0_mult65 (v1955 : BitVec 32) : BitVec 32 :=
  let c1_i32_468 : BitVec 32 := 1#32
  let v1975 : BitVec 32 := Scalar.shrsi v1955 c1_i32_468
  v1975

def k0_off129 (v1955 : BitVec 32) : Fin 2 → Nat :=
  let c1_i32_468 : BitVec 32 := 1#32
  let v1975 : BitVec 32 := Scalar.shrsi v1955 c1_i32_468
  let v1976 : BitVec 32 := v1975
  let v1977 : Index := Scalar.indexCast v1976
  let c0_469 : Index := 0#32
  ![v1977.toNat, 0]
def k0_off130 (v1955 : BitVec 32) : Fin 2 → Nat :=
  let c1_i32_468 : BitVec 32 := 1#32
  let v1975 : BitVec 32 := Scalar.shrsi v1955 c1_i32_468
  let v1976 : BitVec 32 := v1975
  let v1981 : Index := Scalar.indexCast v1976
  let c128_470 : Index := 128#32
  ![v1981.toNat, 128]

def k0_chk65 (arg0 : BitVec 32) (v1 : BitVec 32) (v1955 : BitVec 32) : Prop :=
  (∀ (k0_h1 : k0_cond1 arg0 v1 = 1#1), 8 ∣ (k0_mult65 v1955).toNat) ∧
  (∀ (k0_h1 : k0_cond1 arg0 v1 = 1#1), ∀ a, (k0_off129 v1955) a + S8x128.size a ≤ S7688x256.size a) ∧
  (∀ (k0_h1 : k0_cond1 arg0 v1 = 1#1), ∀ a, (k0_off130 v1955) a + S8x128.size a ≤ S7688x256.size a)
theorem k0_mult65_dvd : ∀ (arg0 : BitVec 32) (v1 : BitVec 32) (v1955 : BitVec 32) (k0_hw65 : k0_chk65 arg0 v1 v1955), ∀ (k0_h1 : k0_cond1 arg0 v1 = 1#1), 8 ∣ (k0_mult65 v1955).toNat := fun arg0 v1 v1955 k0_hw65 k0_h1 => k0_hw65.1 k0_h1
theorem k0_off129_inb : ∀ (arg0 : BitVec 32) (v1 : BitVec 32) (v1955 : BitVec 32) (k0_hw65 : k0_chk65 arg0 v1 v1955), ∀ (k0_h1 : k0_cond1 arg0 v1 = 1#1), ∀ a, (k0_off129 v1955) a + S8x128.size a ≤ S7688x256.size a := fun arg0 v1 v1955 k0_hw65 k0_h1 => k0_hw65.2.1 k0_h1
theorem k0_off130_inb : ∀ (arg0 : BitVec 32) (v1 : BitVec 32) (v1955 : BitVec 32) (k0_hw65 : k0_chk65 arg0 v1 v1955), ∀ (k0_h1 : k0_cond1 arg0 v1 = 1#1), ∀ a, (k0_off130 v1955) a + S8x128.size a ≤ S7688x256.size a := fun arg0 v1 v1955 k0_hw65 k0_h1 => k0_hw65.2.2 k0_h1

def k0_mult66 (v1985 : BitVec 32) : BitVec 32 :=
  let c1_i32_475 : BitVec 32 := 1#32
  let v2005 : BitVec 32 := Scalar.shrsi v1985 c1_i32_475
  v2005

def k0_off131 (v1985 : BitVec 32) : Fin 2 → Nat :=
  let c1_i32_475 : BitVec 32 := 1#32
  let v2005 : BitVec 32 := Scalar.shrsi v1985 c1_i32_475
  let v2006 : BitVec 32 := v2005
  let v2007 : Index := Scalar.indexCast v2006
  let c0_476 : Index := 0#32
  ![v2007.toNat, 0]
def k0_off132 (v1985 : BitVec 32) : Fin 2 → Nat :=
  let c1_i32_475 : BitVec 32 := 1#32
  let v2005 : BitVec 32 := Scalar.shrsi v1985 c1_i32_475
  let v2006 : BitVec 32 := v2005
  let v2011 : Index := Scalar.indexCast v2006
  let c128_477 : Index := 128#32
  ![v2011.toNat, 128]

def k0_chk66 (arg0 : BitVec 32) (v1 : BitVec 32) (v1985 : BitVec 32) : Prop :=
  (∀ (k0_h1 : k0_cond1 arg0 v1 = 1#1), 8 ∣ (k0_mult66 v1985).toNat) ∧
  (∀ (k0_h1 : k0_cond1 arg0 v1 = 1#1), ∀ a, (k0_off131 v1985) a + S8x128.size a ≤ S7688x256.size a) ∧
  (∀ (k0_h1 : k0_cond1 arg0 v1 = 1#1), ∀ a, (k0_off132 v1985) a + S8x128.size a ≤ S7688x256.size a)
theorem k0_mult66_dvd : ∀ (arg0 : BitVec 32) (v1 : BitVec 32) (v1985 : BitVec 32) (k0_hw66 : k0_chk66 arg0 v1 v1985), ∀ (k0_h1 : k0_cond1 arg0 v1 = 1#1), 8 ∣ (k0_mult66 v1985).toNat := fun arg0 v1 v1985 k0_hw66 k0_h1 => k0_hw66.1 k0_h1
theorem k0_off131_inb : ∀ (arg0 : BitVec 32) (v1 : BitVec 32) (v1985 : BitVec 32) (k0_hw66 : k0_chk66 arg0 v1 v1985), ∀ (k0_h1 : k0_cond1 arg0 v1 = 1#1), ∀ a, (k0_off131 v1985) a + S8x128.size a ≤ S7688x256.size a := fun arg0 v1 v1985 k0_hw66 k0_h1 => k0_hw66.2.1 k0_h1
theorem k0_off132_inb : ∀ (arg0 : BitVec 32) (v1 : BitVec 32) (v1985 : BitVec 32) (k0_hw66 : k0_chk66 arg0 v1 v1985), ∀ (k0_h1 : k0_cond1 arg0 v1 = 1#1), ∀ a, (k0_off132 v1985) a + S8x128.size a ≤ S7688x256.size a := fun arg0 v1 v1985 k0_hw66 k0_h1 => k0_hw66.2.2 k0_h1

def k0_mult67 (v2015 : BitVec 32) : BitVec 32 :=
  let c1_i32_482 : BitVec 32 := 1#32
  let v2035 : BitVec 32 := Scalar.shrsi v2015 c1_i32_482
  v2035

def k0_off133 (v2015 : BitVec 32) : Fin 2 → Nat :=
  let c1_i32_482 : BitVec 32 := 1#32
  let v2035 : BitVec 32 := Scalar.shrsi v2015 c1_i32_482
  let v2036 : BitVec 32 := v2035
  let v2037 : Index := Scalar.indexCast v2036
  let c0_483 : Index := 0#32
  ![v2037.toNat, 0]
def k0_off134 (v2015 : BitVec 32) : Fin 2 → Nat :=
  let c1_i32_482 : BitVec 32 := 1#32
  let v2035 : BitVec 32 := Scalar.shrsi v2015 c1_i32_482
  let v2036 : BitVec 32 := v2035
  let v2041 : Index := Scalar.indexCast v2036
  let c128_484 : Index := 128#32
  ![v2041.toNat, 128]

def k0_chk67 (arg0 : BitVec 32) (v1 : BitVec 32) (v2015 : BitVec 32) : Prop :=
  (∀ (k0_h1 : k0_cond1 arg0 v1 = 1#1), 8 ∣ (k0_mult67 v2015).toNat) ∧
  (∀ (k0_h1 : k0_cond1 arg0 v1 = 1#1), ∀ a, (k0_off133 v2015) a + S8x128.size a ≤ S7688x256.size a) ∧
  (∀ (k0_h1 : k0_cond1 arg0 v1 = 1#1), ∀ a, (k0_off134 v2015) a + S8x128.size a ≤ S7688x256.size a)
theorem k0_mult67_dvd : ∀ (arg0 : BitVec 32) (v1 : BitVec 32) (v2015 : BitVec 32) (k0_hw67 : k0_chk67 arg0 v1 v2015), ∀ (k0_h1 : k0_cond1 arg0 v1 = 1#1), 8 ∣ (k0_mult67 v2015).toNat := fun arg0 v1 v2015 k0_hw67 k0_h1 => k0_hw67.1 k0_h1
theorem k0_off133_inb : ∀ (arg0 : BitVec 32) (v1 : BitVec 32) (v2015 : BitVec 32) (k0_hw67 : k0_chk67 arg0 v1 v2015), ∀ (k0_h1 : k0_cond1 arg0 v1 = 1#1), ∀ a, (k0_off133 v2015) a + S8x128.size a ≤ S7688x256.size a := fun arg0 v1 v2015 k0_hw67 k0_h1 => k0_hw67.2.1 k0_h1
theorem k0_off134_inb : ∀ (arg0 : BitVec 32) (v1 : BitVec 32) (v2015 : BitVec 32) (k0_hw67 : k0_chk67 arg0 v1 v2015), ∀ (k0_h1 : k0_cond1 arg0 v1 = 1#1), ∀ a, (k0_off134 v2015) a + S8x128.size a ≤ S7688x256.size a := fun arg0 v1 v2015 k0_hw67 k0_h1 => k0_hw67.2.2 k0_h1

def k0_mult68 (v2045 : BitVec 32) : BitVec 32 :=
  let c1_i32_489 : BitVec 32 := 1#32
  let v2065 : BitVec 32 := Scalar.shrsi v2045 c1_i32_489
  v2065

def k0_off135 (v2045 : BitVec 32) : Fin 2 → Nat :=
  let c1_i32_489 : BitVec 32 := 1#32
  let v2065 : BitVec 32 := Scalar.shrsi v2045 c1_i32_489
  let v2066 : BitVec 32 := v2065
  let v2067 : Index := Scalar.indexCast v2066
  let c0_490 : Index := 0#32
  ![v2067.toNat, 0]
def k0_off136 (v2045 : BitVec 32) : Fin 2 → Nat :=
  let c1_i32_489 : BitVec 32 := 1#32
  let v2065 : BitVec 32 := Scalar.shrsi v2045 c1_i32_489
  let v2066 : BitVec 32 := v2065
  let v2071 : Index := Scalar.indexCast v2066
  let c128_491 : Index := 128#32
  ![v2071.toNat, 128]

def k0_chk68 (arg0 : BitVec 32) (v1 : BitVec 32) (v2045 : BitVec 32) : Prop :=
  (∀ (k0_h1 : k0_cond1 arg0 v1 = 1#1), 8 ∣ (k0_mult68 v2045).toNat) ∧
  (∀ (k0_h1 : k0_cond1 arg0 v1 = 1#1), ∀ a, (k0_off135 v2045) a + S8x128.size a ≤ S7688x256.size a) ∧
  (∀ (k0_h1 : k0_cond1 arg0 v1 = 1#1), ∀ a, (k0_off136 v2045) a + S8x128.size a ≤ S7688x256.size a)
theorem k0_mult68_dvd : ∀ (arg0 : BitVec 32) (v1 : BitVec 32) (v2045 : BitVec 32) (k0_hw68 : k0_chk68 arg0 v1 v2045), ∀ (k0_h1 : k0_cond1 arg0 v1 = 1#1), 8 ∣ (k0_mult68 v2045).toNat := fun arg0 v1 v2045 k0_hw68 k0_h1 => k0_hw68.1 k0_h1
theorem k0_off135_inb : ∀ (arg0 : BitVec 32) (v1 : BitVec 32) (v2045 : BitVec 32) (k0_hw68 : k0_chk68 arg0 v1 v2045), ∀ (k0_h1 : k0_cond1 arg0 v1 = 1#1), ∀ a, (k0_off135 v2045) a + S8x128.size a ≤ S7688x256.size a := fun arg0 v1 v2045 k0_hw68 k0_h1 => k0_hw68.2.1 k0_h1
theorem k0_off136_inb : ∀ (arg0 : BitVec 32) (v1 : BitVec 32) (v2045 : BitVec 32) (k0_hw68 : k0_chk68 arg0 v1 v2045), ∀ (k0_h1 : k0_cond1 arg0 v1 = 1#1), ∀ a, (k0_off136 v2045) a + S8x128.size a ≤ S7688x256.size a := fun arg0 v1 v2045 k0_hw68 k0_h1 => k0_hw68.2.2 k0_h1

def k0_mult69 (v2075 : BitVec 32) : BitVec 32 :=
  let c1_i32_496 : BitVec 32 := 1#32
  let v2095 : BitVec 32 := Scalar.shrsi v2075 c1_i32_496
  v2095

def k0_off137 (v2075 : BitVec 32) : Fin 2 → Nat :=
  let c1_i32_496 : BitVec 32 := 1#32
  let v2095 : BitVec 32 := Scalar.shrsi v2075 c1_i32_496
  let v2096 : BitVec 32 := v2095
  let v2097 : Index := Scalar.indexCast v2096
  let c0_497 : Index := 0#32
  ![v2097.toNat, 0]
def k0_off138 (v2075 : BitVec 32) : Fin 2 → Nat :=
  let c1_i32_496 : BitVec 32 := 1#32
  let v2095 : BitVec 32 := Scalar.shrsi v2075 c1_i32_496
  let v2096 : BitVec 32 := v2095
  let v2101 : Index := Scalar.indexCast v2096
  let c128_498 : Index := 128#32
  ![v2101.toNat, 128]

def k0_chk69 (arg0 : BitVec 32) (v1 : BitVec 32) (v2075 : BitVec 32) : Prop :=
  (∀ (k0_h1 : k0_cond1 arg0 v1 = 1#1), 8 ∣ (k0_mult69 v2075).toNat) ∧
  (∀ (k0_h1 : k0_cond1 arg0 v1 = 1#1), ∀ a, (k0_off137 v2075) a + S8x128.size a ≤ S7688x256.size a) ∧
  (∀ (k0_h1 : k0_cond1 arg0 v1 = 1#1), ∀ a, (k0_off138 v2075) a + S8x128.size a ≤ S7688x256.size a)
theorem k0_mult69_dvd : ∀ (arg0 : BitVec 32) (v1 : BitVec 32) (v2075 : BitVec 32) (k0_hw69 : k0_chk69 arg0 v1 v2075), ∀ (k0_h1 : k0_cond1 arg0 v1 = 1#1), 8 ∣ (k0_mult69 v2075).toNat := fun arg0 v1 v2075 k0_hw69 k0_h1 => k0_hw69.1 k0_h1
theorem k0_off137_inb : ∀ (arg0 : BitVec 32) (v1 : BitVec 32) (v2075 : BitVec 32) (k0_hw69 : k0_chk69 arg0 v1 v2075), ∀ (k0_h1 : k0_cond1 arg0 v1 = 1#1), ∀ a, (k0_off137 v2075) a + S8x128.size a ≤ S7688x256.size a := fun arg0 v1 v2075 k0_hw69 k0_h1 => k0_hw69.2.1 k0_h1
theorem k0_off138_inb : ∀ (arg0 : BitVec 32) (v1 : BitVec 32) (v2075 : BitVec 32) (k0_hw69 : k0_chk69 arg0 v1 v2075), ∀ (k0_h1 : k0_cond1 arg0 v1 = 1#1), ∀ a, (k0_off138 v2075) a + S8x128.size a ≤ S7688x256.size a := fun arg0 v1 v2075 k0_hw69 k0_h1 => k0_hw69.2.2 k0_h1

def k0_mult70 (v2105 : BitVec 32) : BitVec 32 :=
  let c1_i32_503 : BitVec 32 := 1#32
  let v2125 : BitVec 32 := Scalar.shrsi v2105 c1_i32_503
  v2125

def k0_off139 (v2105 : BitVec 32) : Fin 2 → Nat :=
  let c1_i32_503 : BitVec 32 := 1#32
  let v2125 : BitVec 32 := Scalar.shrsi v2105 c1_i32_503
  let v2126 : BitVec 32 := v2125
  let v2127 : Index := Scalar.indexCast v2126
  let c0_504 : Index := 0#32
  ![v2127.toNat, 0]
def k0_off140 (v2105 : BitVec 32) : Fin 2 → Nat :=
  let c1_i32_503 : BitVec 32 := 1#32
  let v2125 : BitVec 32 := Scalar.shrsi v2105 c1_i32_503
  let v2126 : BitVec 32 := v2125
  let v2131 : Index := Scalar.indexCast v2126
  let c128_505 : Index := 128#32
  ![v2131.toNat, 128]

def k0_chk70 (arg0 : BitVec 32) (v1 : BitVec 32) (v2105 : BitVec 32) : Prop :=
  (∀ (k0_h1 : k0_cond1 arg0 v1 = 1#1), 8 ∣ (k0_mult70 v2105).toNat) ∧
  (∀ (k0_h1 : k0_cond1 arg0 v1 = 1#1), ∀ a, (k0_off139 v2105) a + S8x128.size a ≤ S7688x256.size a) ∧
  (∀ (k0_h1 : k0_cond1 arg0 v1 = 1#1), ∀ a, (k0_off140 v2105) a + S8x128.size a ≤ S7688x256.size a)
theorem k0_mult70_dvd : ∀ (arg0 : BitVec 32) (v1 : BitVec 32) (v2105 : BitVec 32) (k0_hw70 : k0_chk70 arg0 v1 v2105), ∀ (k0_h1 : k0_cond1 arg0 v1 = 1#1), 8 ∣ (k0_mult70 v2105).toNat := fun arg0 v1 v2105 k0_hw70 k0_h1 => k0_hw70.1 k0_h1
theorem k0_off139_inb : ∀ (arg0 : BitVec 32) (v1 : BitVec 32) (v2105 : BitVec 32) (k0_hw70 : k0_chk70 arg0 v1 v2105), ∀ (k0_h1 : k0_cond1 arg0 v1 = 1#1), ∀ a, (k0_off139 v2105) a + S8x128.size a ≤ S7688x256.size a := fun arg0 v1 v2105 k0_hw70 k0_h1 => k0_hw70.2.1 k0_h1
theorem k0_off140_inb : ∀ (arg0 : BitVec 32) (v1 : BitVec 32) (v2105 : BitVec 32) (k0_hw70 : k0_chk70 arg0 v1 v2105), ∀ (k0_h1 : k0_cond1 arg0 v1 = 1#1), ∀ a, (k0_off140 v2105) a + S8x128.size a ≤ S7688x256.size a := fun arg0 v1 v2105 k0_hw70 k0_h1 => k0_hw70.2.2 k0_h1

def k0_mult71 (v2135 : BitVec 32) : BitVec 32 :=
  let c1_i32_510 : BitVec 32 := 1#32
  let v2155 : BitVec 32 := Scalar.shrsi v2135 c1_i32_510
  v2155

def k0_off141 (v2135 : BitVec 32) : Fin 2 → Nat :=
  let c1_i32_510 : BitVec 32 := 1#32
  let v2155 : BitVec 32 := Scalar.shrsi v2135 c1_i32_510
  let v2156 : BitVec 32 := v2155
  let v2157 : Index := Scalar.indexCast v2156
  let c0_511 : Index := 0#32
  ![v2157.toNat, 0]
def k0_off142 (v2135 : BitVec 32) : Fin 2 → Nat :=
  let c1_i32_510 : BitVec 32 := 1#32
  let v2155 : BitVec 32 := Scalar.shrsi v2135 c1_i32_510
  let v2156 : BitVec 32 := v2155
  let v2161 : Index := Scalar.indexCast v2156
  let c128_512 : Index := 128#32
  ![v2161.toNat, 128]

def k0_chk71 (arg0 : BitVec 32) (v1 : BitVec 32) (v2135 : BitVec 32) : Prop :=
  (∀ (k0_h1 : k0_cond1 arg0 v1 = 1#1), 8 ∣ (k0_mult71 v2135).toNat) ∧
  (∀ (k0_h1 : k0_cond1 arg0 v1 = 1#1), ∀ a, (k0_off141 v2135) a + S8x128.size a ≤ S7688x256.size a) ∧
  (∀ (k0_h1 : k0_cond1 arg0 v1 = 1#1), ∀ a, (k0_off142 v2135) a + S8x128.size a ≤ S7688x256.size a)
theorem k0_mult71_dvd : ∀ (arg0 : BitVec 32) (v1 : BitVec 32) (v2135 : BitVec 32) (k0_hw71 : k0_chk71 arg0 v1 v2135), ∀ (k0_h1 : k0_cond1 arg0 v1 = 1#1), 8 ∣ (k0_mult71 v2135).toNat := fun arg0 v1 v2135 k0_hw71 k0_h1 => k0_hw71.1 k0_h1
theorem k0_off141_inb : ∀ (arg0 : BitVec 32) (v1 : BitVec 32) (v2135 : BitVec 32) (k0_hw71 : k0_chk71 arg0 v1 v2135), ∀ (k0_h1 : k0_cond1 arg0 v1 = 1#1), ∀ a, (k0_off141 v2135) a + S8x128.size a ≤ S7688x256.size a := fun arg0 v1 v2135 k0_hw71 k0_h1 => k0_hw71.2.1 k0_h1
theorem k0_off142_inb : ∀ (arg0 : BitVec 32) (v1 : BitVec 32) (v2135 : BitVec 32) (k0_hw71 : k0_chk71 arg0 v1 v2135), ∀ (k0_h1 : k0_cond1 arg0 v1 = 1#1), ∀ a, (k0_off142 v2135) a + S8x128.size a ≤ S7688x256.size a := fun arg0 v1 v2135 k0_hw71 k0_h1 => k0_hw71.2.2 k0_h1

def k0_mult72 (v2165 : BitVec 32) : BitVec 32 :=
  let c1_i32_517 : BitVec 32 := 1#32
  let v2185 : BitVec 32 := Scalar.shrsi v2165 c1_i32_517
  v2185

def k0_off143 (v2165 : BitVec 32) : Fin 2 → Nat :=
  let c1_i32_517 : BitVec 32 := 1#32
  let v2185 : BitVec 32 := Scalar.shrsi v2165 c1_i32_517
  let v2186 : BitVec 32 := v2185
  let v2187 : Index := Scalar.indexCast v2186
  let c0_518 : Index := 0#32
  ![v2187.toNat, 0]
def k0_off144 (v2165 : BitVec 32) : Fin 2 → Nat :=
  let c1_i32_517 : BitVec 32 := 1#32
  let v2185 : BitVec 32 := Scalar.shrsi v2165 c1_i32_517
  let v2186 : BitVec 32 := v2185
  let v2191 : Index := Scalar.indexCast v2186
  let c128_519 : Index := 128#32
  ![v2191.toNat, 128]

def k0_chk72 (arg0 : BitVec 32) (v1 : BitVec 32) (v2165 : BitVec 32) : Prop :=
  (∀ (k0_h1 : k0_cond1 arg0 v1 = 1#1), 8 ∣ (k0_mult72 v2165).toNat) ∧
  (∀ (k0_h1 : k0_cond1 arg0 v1 = 1#1), ∀ a, (k0_off143 v2165) a + S8x128.size a ≤ S7688x256.size a) ∧
  (∀ (k0_h1 : k0_cond1 arg0 v1 = 1#1), ∀ a, (k0_off144 v2165) a + S8x128.size a ≤ S7688x256.size a)
theorem k0_mult72_dvd : ∀ (arg0 : BitVec 32) (v1 : BitVec 32) (v2165 : BitVec 32) (k0_hw72 : k0_chk72 arg0 v1 v2165), ∀ (k0_h1 : k0_cond1 arg0 v1 = 1#1), 8 ∣ (k0_mult72 v2165).toNat := fun arg0 v1 v2165 k0_hw72 k0_h1 => k0_hw72.1 k0_h1
theorem k0_off143_inb : ∀ (arg0 : BitVec 32) (v1 : BitVec 32) (v2165 : BitVec 32) (k0_hw72 : k0_chk72 arg0 v1 v2165), ∀ (k0_h1 : k0_cond1 arg0 v1 = 1#1), ∀ a, (k0_off143 v2165) a + S8x128.size a ≤ S7688x256.size a := fun arg0 v1 v2165 k0_hw72 k0_h1 => k0_hw72.2.1 k0_h1
theorem k0_off144_inb : ∀ (arg0 : BitVec 32) (v1 : BitVec 32) (v2165 : BitVec 32) (k0_hw72 : k0_chk72 arg0 v1 v2165), ∀ (k0_h1 : k0_cond1 arg0 v1 = 1#1), ∀ a, (k0_off144 v2165) a + S8x128.size a ≤ S7688x256.size a := fun arg0 v1 v2165 k0_hw72 k0_h1 => k0_hw72.2.2 k0_h1

def k0_mult73 (v2195 : BitVec 32) : BitVec 32 :=
  let c1_i32_524 : BitVec 32 := 1#32
  let v2215 : BitVec 32 := Scalar.shrsi v2195 c1_i32_524
  v2215

def k0_off145 (v2195 : BitVec 32) : Fin 2 → Nat :=
  let c1_i32_524 : BitVec 32 := 1#32
  let v2215 : BitVec 32 := Scalar.shrsi v2195 c1_i32_524
  let v2216 : BitVec 32 := v2215
  let v2217 : Index := Scalar.indexCast v2216
  let c0_525 : Index := 0#32
  ![v2217.toNat, 0]
def k0_off146 (v2195 : BitVec 32) : Fin 2 → Nat :=
  let c1_i32_524 : BitVec 32 := 1#32
  let v2215 : BitVec 32 := Scalar.shrsi v2195 c1_i32_524
  let v2216 : BitVec 32 := v2215
  let v2221 : Index := Scalar.indexCast v2216
  let c128_526 : Index := 128#32
  ![v2221.toNat, 128]

def k0_chk73 (arg0 : BitVec 32) (v1 : BitVec 32) (v2195 : BitVec 32) : Prop :=
  (∀ (k0_h1 : k0_cond1 arg0 v1 = 1#1), 8 ∣ (k0_mult73 v2195).toNat) ∧
  (∀ (k0_h1 : k0_cond1 arg0 v1 = 1#1), ∀ a, (k0_off145 v2195) a + S8x128.size a ≤ S7688x256.size a) ∧
  (∀ (k0_h1 : k0_cond1 arg0 v1 = 1#1), ∀ a, (k0_off146 v2195) a + S8x128.size a ≤ S7688x256.size a)
theorem k0_mult73_dvd : ∀ (arg0 : BitVec 32) (v1 : BitVec 32) (v2195 : BitVec 32) (k0_hw73 : k0_chk73 arg0 v1 v2195), ∀ (k0_h1 : k0_cond1 arg0 v1 = 1#1), 8 ∣ (k0_mult73 v2195).toNat := fun arg0 v1 v2195 k0_hw73 k0_h1 => k0_hw73.1 k0_h1
theorem k0_off145_inb : ∀ (arg0 : BitVec 32) (v1 : BitVec 32) (v2195 : BitVec 32) (k0_hw73 : k0_chk73 arg0 v1 v2195), ∀ (k0_h1 : k0_cond1 arg0 v1 = 1#1), ∀ a, (k0_off145 v2195) a + S8x128.size a ≤ S7688x256.size a := fun arg0 v1 v2195 k0_hw73 k0_h1 => k0_hw73.2.1 k0_h1
theorem k0_off146_inb : ∀ (arg0 : BitVec 32) (v1 : BitVec 32) (v2195 : BitVec 32) (k0_hw73 : k0_chk73 arg0 v1 v2195), ∀ (k0_h1 : k0_cond1 arg0 v1 = 1#1), ∀ a, (k0_off146 v2195) a + S8x128.size a ≤ S7688x256.size a := fun arg0 v1 v2195 k0_hw73 k0_h1 => k0_hw73.2.2 k0_h1

def k0_mult74 (v2225 : BitVec 32) : BitVec 32 :=
  let c1_i32_531 : BitVec 32 := 1#32
  let v2245 : BitVec 32 := Scalar.shrsi v2225 c1_i32_531
  v2245

def k0_off147 (v2225 : BitVec 32) : Fin 2 → Nat :=
  let c1_i32_531 : BitVec 32 := 1#32
  let v2245 : BitVec 32 := Scalar.shrsi v2225 c1_i32_531
  let v2246 : BitVec 32 := v2245
  let v2247 : Index := Scalar.indexCast v2246
  let c0_532 : Index := 0#32
  ![v2247.toNat, 0]
def k0_off148 (v2225 : BitVec 32) : Fin 2 → Nat :=
  let c1_i32_531 : BitVec 32 := 1#32
  let v2245 : BitVec 32 := Scalar.shrsi v2225 c1_i32_531
  let v2246 : BitVec 32 := v2245
  let v2251 : Index := Scalar.indexCast v2246
  let c128_533 : Index := 128#32
  ![v2251.toNat, 128]

def k0_chk74 (arg0 : BitVec 32) (v1 : BitVec 32) (v2225 : BitVec 32) : Prop :=
  (∀ (k0_h1 : k0_cond1 arg0 v1 = 1#1), 8 ∣ (k0_mult74 v2225).toNat) ∧
  (∀ (k0_h1 : k0_cond1 arg0 v1 = 1#1), ∀ a, (k0_off147 v2225) a + S8x128.size a ≤ S7688x256.size a) ∧
  (∀ (k0_h1 : k0_cond1 arg0 v1 = 1#1), ∀ a, (k0_off148 v2225) a + S8x128.size a ≤ S7688x256.size a)
theorem k0_mult74_dvd : ∀ (arg0 : BitVec 32) (v1 : BitVec 32) (v2225 : BitVec 32) (k0_hw74 : k0_chk74 arg0 v1 v2225), ∀ (k0_h1 : k0_cond1 arg0 v1 = 1#1), 8 ∣ (k0_mult74 v2225).toNat := fun arg0 v1 v2225 k0_hw74 k0_h1 => k0_hw74.1 k0_h1
theorem k0_off147_inb : ∀ (arg0 : BitVec 32) (v1 : BitVec 32) (v2225 : BitVec 32) (k0_hw74 : k0_chk74 arg0 v1 v2225), ∀ (k0_h1 : k0_cond1 arg0 v1 = 1#1), ∀ a, (k0_off147 v2225) a + S8x128.size a ≤ S7688x256.size a := fun arg0 v1 v2225 k0_hw74 k0_h1 => k0_hw74.2.1 k0_h1
theorem k0_off148_inb : ∀ (arg0 : BitVec 32) (v1 : BitVec 32) (v2225 : BitVec 32) (k0_hw74 : k0_chk74 arg0 v1 v2225), ∀ (k0_h1 : k0_cond1 arg0 v1 = 1#1), ∀ a, (k0_off148 v2225) a + S8x128.size a ≤ S7688x256.size a := fun arg0 v1 v2225 k0_hw74 k0_h1 => k0_hw74.2.2 k0_h1

def k0_mult75 (v2255 : BitVec 32) : BitVec 32 :=
  let c1_i32_538 : BitVec 32 := 1#32
  let v2275 : BitVec 32 := Scalar.shrsi v2255 c1_i32_538
  v2275

def k0_off149 (v2255 : BitVec 32) : Fin 2 → Nat :=
  let c1_i32_538 : BitVec 32 := 1#32
  let v2275 : BitVec 32 := Scalar.shrsi v2255 c1_i32_538
  let v2276 : BitVec 32 := v2275
  let v2277 : Index := Scalar.indexCast v2276
  let c0_539 : Index := 0#32
  ![v2277.toNat, 0]
def k0_off150 (v2255 : BitVec 32) : Fin 2 → Nat :=
  let c1_i32_538 : BitVec 32 := 1#32
  let v2275 : BitVec 32 := Scalar.shrsi v2255 c1_i32_538
  let v2276 : BitVec 32 := v2275
  let v2281 : Index := Scalar.indexCast v2276
  let c128_540 : Index := 128#32
  ![v2281.toNat, 128]

def k0_chk75 (arg0 : BitVec 32) (v1 : BitVec 32) (v2255 : BitVec 32) : Prop :=
  (∀ (k0_h1 : k0_cond1 arg0 v1 = 1#1), 8 ∣ (k0_mult75 v2255).toNat) ∧
  (∀ (k0_h1 : k0_cond1 arg0 v1 = 1#1), ∀ a, (k0_off149 v2255) a + S8x128.size a ≤ S7688x256.size a) ∧
  (∀ (k0_h1 : k0_cond1 arg0 v1 = 1#1), ∀ a, (k0_off150 v2255) a + S8x128.size a ≤ S7688x256.size a)
theorem k0_mult75_dvd : ∀ (arg0 : BitVec 32) (v1 : BitVec 32) (v2255 : BitVec 32) (k0_hw75 : k0_chk75 arg0 v1 v2255), ∀ (k0_h1 : k0_cond1 arg0 v1 = 1#1), 8 ∣ (k0_mult75 v2255).toNat := fun arg0 v1 v2255 k0_hw75 k0_h1 => k0_hw75.1 k0_h1
theorem k0_off149_inb : ∀ (arg0 : BitVec 32) (v1 : BitVec 32) (v2255 : BitVec 32) (k0_hw75 : k0_chk75 arg0 v1 v2255), ∀ (k0_h1 : k0_cond1 arg0 v1 = 1#1), ∀ a, (k0_off149 v2255) a + S8x128.size a ≤ S7688x256.size a := fun arg0 v1 v2255 k0_hw75 k0_h1 => k0_hw75.2.1 k0_h1
theorem k0_off150_inb : ∀ (arg0 : BitVec 32) (v1 : BitVec 32) (v2255 : BitVec 32) (k0_hw75 : k0_chk75 arg0 v1 v2255), ∀ (k0_h1 : k0_cond1 arg0 v1 = 1#1), ∀ a, (k0_off150 v2255) a + S8x128.size a ≤ S7688x256.size a := fun arg0 v1 v2255 k0_hw75 k0_h1 => k0_hw75.2.2 k0_h1

def k0_mult76 (v2285 : BitVec 32) : BitVec 32 :=
  let c1_i32_545 : BitVec 32 := 1#32
  let v2305 : BitVec 32 := Scalar.shrsi v2285 c1_i32_545
  v2305

def k0_off151 (v2285 : BitVec 32) : Fin 2 → Nat :=
  let c1_i32_545 : BitVec 32 := 1#32
  let v2305 : BitVec 32 := Scalar.shrsi v2285 c1_i32_545
  let v2306 : BitVec 32 := v2305
  let v2307 : Index := Scalar.indexCast v2306
  let c0_546 : Index := 0#32
  ![v2307.toNat, 0]
def k0_off152 (v2285 : BitVec 32) : Fin 2 → Nat :=
  let c1_i32_545 : BitVec 32 := 1#32
  let v2305 : BitVec 32 := Scalar.shrsi v2285 c1_i32_545
  let v2306 : BitVec 32 := v2305
  let v2311 : Index := Scalar.indexCast v2306
  let c128_547 : Index := 128#32
  ![v2311.toNat, 128]

def k0_chk76 (arg0 : BitVec 32) (v1 : BitVec 32) (v2285 : BitVec 32) : Prop :=
  (∀ (k0_h1 : k0_cond1 arg0 v1 = 1#1), 8 ∣ (k0_mult76 v2285).toNat) ∧
  (∀ (k0_h1 : k0_cond1 arg0 v1 = 1#1), ∀ a, (k0_off151 v2285) a + S8x128.size a ≤ S7688x256.size a) ∧
  (∀ (k0_h1 : k0_cond1 arg0 v1 = 1#1), ∀ a, (k0_off152 v2285) a + S8x128.size a ≤ S7688x256.size a)
theorem k0_mult76_dvd : ∀ (arg0 : BitVec 32) (v1 : BitVec 32) (v2285 : BitVec 32) (k0_hw76 : k0_chk76 arg0 v1 v2285), ∀ (k0_h1 : k0_cond1 arg0 v1 = 1#1), 8 ∣ (k0_mult76 v2285).toNat := fun arg0 v1 v2285 k0_hw76 k0_h1 => k0_hw76.1 k0_h1
theorem k0_off151_inb : ∀ (arg0 : BitVec 32) (v1 : BitVec 32) (v2285 : BitVec 32) (k0_hw76 : k0_chk76 arg0 v1 v2285), ∀ (k0_h1 : k0_cond1 arg0 v1 = 1#1), ∀ a, (k0_off151 v2285) a + S8x128.size a ≤ S7688x256.size a := fun arg0 v1 v2285 k0_hw76 k0_h1 => k0_hw76.2.1 k0_h1
theorem k0_off152_inb : ∀ (arg0 : BitVec 32) (v1 : BitVec 32) (v2285 : BitVec 32) (k0_hw76 : k0_chk76 arg0 v1 v2285), ∀ (k0_h1 : k0_cond1 arg0 v1 = 1#1), ∀ a, (k0_off152 v2285) a + S8x128.size a ≤ S7688x256.size a := fun arg0 v1 v2285 k0_hw76 k0_h1 => k0_hw76.2.2 k0_h1

def k0_mult77 (v2315 : BitVec 32) : BitVec 32 :=
  let c1_i32_552 : BitVec 32 := 1#32
  let v2335 : BitVec 32 := Scalar.shrsi v2315 c1_i32_552
  v2335

def k0_off153 (v2315 : BitVec 32) : Fin 2 → Nat :=
  let c1_i32_552 : BitVec 32 := 1#32
  let v2335 : BitVec 32 := Scalar.shrsi v2315 c1_i32_552
  let v2336 : BitVec 32 := v2335
  let v2337 : Index := Scalar.indexCast v2336
  let c0_553 : Index := 0#32
  ![v2337.toNat, 0]
def k0_off154 (v2315 : BitVec 32) : Fin 2 → Nat :=
  let c1_i32_552 : BitVec 32 := 1#32
  let v2335 : BitVec 32 := Scalar.shrsi v2315 c1_i32_552
  let v2336 : BitVec 32 := v2335
  let v2341 : Index := Scalar.indexCast v2336
  let c128_554 : Index := 128#32
  ![v2341.toNat, 128]

def k0_chk77 (arg0 : BitVec 32) (v1 : BitVec 32) (v2315 : BitVec 32) : Prop :=
  (∀ (k0_h1 : k0_cond1 arg0 v1 = 1#1), 8 ∣ (k0_mult77 v2315).toNat) ∧
  (∀ (k0_h1 : k0_cond1 arg0 v1 = 1#1), ∀ a, (k0_off153 v2315) a + S8x128.size a ≤ S7688x256.size a) ∧
  (∀ (k0_h1 : k0_cond1 arg0 v1 = 1#1), ∀ a, (k0_off154 v2315) a + S8x128.size a ≤ S7688x256.size a)
theorem k0_mult77_dvd : ∀ (arg0 : BitVec 32) (v1 : BitVec 32) (v2315 : BitVec 32) (k0_hw77 : k0_chk77 arg0 v1 v2315), ∀ (k0_h1 : k0_cond1 arg0 v1 = 1#1), 8 ∣ (k0_mult77 v2315).toNat := fun arg0 v1 v2315 k0_hw77 k0_h1 => k0_hw77.1 k0_h1
theorem k0_off153_inb : ∀ (arg0 : BitVec 32) (v1 : BitVec 32) (v2315 : BitVec 32) (k0_hw77 : k0_chk77 arg0 v1 v2315), ∀ (k0_h1 : k0_cond1 arg0 v1 = 1#1), ∀ a, (k0_off153 v2315) a + S8x128.size a ≤ S7688x256.size a := fun arg0 v1 v2315 k0_hw77 k0_h1 => k0_hw77.2.1 k0_h1
theorem k0_off154_inb : ∀ (arg0 : BitVec 32) (v1 : BitVec 32) (v2315 : BitVec 32) (k0_hw77 : k0_chk77 arg0 v1 v2315), ∀ (k0_h1 : k0_cond1 arg0 v1 = 1#1), ∀ a, (k0_off154 v2315) a + S8x128.size a ≤ S7688x256.size a := fun arg0 v1 v2315 k0_hw77 k0_h1 => k0_hw77.2.2 k0_h1

def k0_mult78 (v2345 : BitVec 32) : BitVec 32 :=
  let c1_i32_559 : BitVec 32 := 1#32
  let v2365 : BitVec 32 := Scalar.shrsi v2345 c1_i32_559
  v2365

def k0_off155 (v2345 : BitVec 32) : Fin 2 → Nat :=
  let c1_i32_559 : BitVec 32 := 1#32
  let v2365 : BitVec 32 := Scalar.shrsi v2345 c1_i32_559
  let v2366 : BitVec 32 := v2365
  let v2367 : Index := Scalar.indexCast v2366
  let c0_560 : Index := 0#32
  ![v2367.toNat, 0]
def k0_off156 (v2345 : BitVec 32) : Fin 2 → Nat :=
  let c1_i32_559 : BitVec 32 := 1#32
  let v2365 : BitVec 32 := Scalar.shrsi v2345 c1_i32_559
  let v2366 : BitVec 32 := v2365
  let v2371 : Index := Scalar.indexCast v2366
  let c128_561 : Index := 128#32
  ![v2371.toNat, 128]

def k0_chk78 (arg0 : BitVec 32) (v1 : BitVec 32) (v2345 : BitVec 32) : Prop :=
  (∀ (k0_h1 : k0_cond1 arg0 v1 = 1#1), 8 ∣ (k0_mult78 v2345).toNat) ∧
  (∀ (k0_h1 : k0_cond1 arg0 v1 = 1#1), ∀ a, (k0_off155 v2345) a + S8x128.size a ≤ S7688x256.size a) ∧
  (∀ (k0_h1 : k0_cond1 arg0 v1 = 1#1), ∀ a, (k0_off156 v2345) a + S8x128.size a ≤ S7688x256.size a)
theorem k0_mult78_dvd : ∀ (arg0 : BitVec 32) (v1 : BitVec 32) (v2345 : BitVec 32) (k0_hw78 : k0_chk78 arg0 v1 v2345), ∀ (k0_h1 : k0_cond1 arg0 v1 = 1#1), 8 ∣ (k0_mult78 v2345).toNat := fun arg0 v1 v2345 k0_hw78 k0_h1 => k0_hw78.1 k0_h1
theorem k0_off155_inb : ∀ (arg0 : BitVec 32) (v1 : BitVec 32) (v2345 : BitVec 32) (k0_hw78 : k0_chk78 arg0 v1 v2345), ∀ (k0_h1 : k0_cond1 arg0 v1 = 1#1), ∀ a, (k0_off155 v2345) a + S8x128.size a ≤ S7688x256.size a := fun arg0 v1 v2345 k0_hw78 k0_h1 => k0_hw78.2.1 k0_h1
theorem k0_off156_inb : ∀ (arg0 : BitVec 32) (v1 : BitVec 32) (v2345 : BitVec 32) (k0_hw78 : k0_chk78 arg0 v1 v2345), ∀ (k0_h1 : k0_cond1 arg0 v1 = 1#1), ∀ a, (k0_off156 v2345) a + S8x128.size a ≤ S7688x256.size a := fun arg0 v1 v2345 k0_hw78 k0_h1 => k0_hw78.2.2 k0_h1

def k0_mult79 (v2375 : BitVec 32) : BitVec 32 :=
  let c1_i32_566 : BitVec 32 := 1#32
  let v2395 : BitVec 32 := Scalar.shrsi v2375 c1_i32_566
  v2395

def k0_off157 (v2375 : BitVec 32) : Fin 2 → Nat :=
  let c1_i32_566 : BitVec 32 := 1#32
  let v2395 : BitVec 32 := Scalar.shrsi v2375 c1_i32_566
  let v2396 : BitVec 32 := v2395
  let v2397 : Index := Scalar.indexCast v2396
  let c0_567 : Index := 0#32
  ![v2397.toNat, 0]
def k0_off158 (v2375 : BitVec 32) : Fin 2 → Nat :=
  let c1_i32_566 : BitVec 32 := 1#32
  let v2395 : BitVec 32 := Scalar.shrsi v2375 c1_i32_566
  let v2396 : BitVec 32 := v2395
  let v2401 : Index := Scalar.indexCast v2396
  let c128_568 : Index := 128#32
  ![v2401.toNat, 128]

def k0_chk79 (arg0 : BitVec 32) (v1 : BitVec 32) (v2375 : BitVec 32) : Prop :=
  (∀ (k0_h1 : k0_cond1 arg0 v1 = 1#1), 8 ∣ (k0_mult79 v2375).toNat) ∧
  (∀ (k0_h1 : k0_cond1 arg0 v1 = 1#1), ∀ a, (k0_off157 v2375) a + S8x128.size a ≤ S7688x256.size a) ∧
  (∀ (k0_h1 : k0_cond1 arg0 v1 = 1#1), ∀ a, (k0_off158 v2375) a + S8x128.size a ≤ S7688x256.size a)
theorem k0_mult79_dvd : ∀ (arg0 : BitVec 32) (v1 : BitVec 32) (v2375 : BitVec 32) (k0_hw79 : k0_chk79 arg0 v1 v2375), ∀ (k0_h1 : k0_cond1 arg0 v1 = 1#1), 8 ∣ (k0_mult79 v2375).toNat := fun arg0 v1 v2375 k0_hw79 k0_h1 => k0_hw79.1 k0_h1
theorem k0_off157_inb : ∀ (arg0 : BitVec 32) (v1 : BitVec 32) (v2375 : BitVec 32) (k0_hw79 : k0_chk79 arg0 v1 v2375), ∀ (k0_h1 : k0_cond1 arg0 v1 = 1#1), ∀ a, (k0_off157 v2375) a + S8x128.size a ≤ S7688x256.size a := fun arg0 v1 v2375 k0_hw79 k0_h1 => k0_hw79.2.1 k0_h1
theorem k0_off158_inb : ∀ (arg0 : BitVec 32) (v1 : BitVec 32) (v2375 : BitVec 32) (k0_hw79 : k0_chk79 arg0 v1 v2375), ∀ (k0_h1 : k0_cond1 arg0 v1 = 1#1), ∀ a, (k0_off158 v2375) a + S8x128.size a ≤ S7688x256.size a := fun arg0 v1 v2375 k0_hw79 k0_h1 => k0_hw79.2.2 k0_h1

def k0_mult80 (v2405 : BitVec 32) : BitVec 32 :=
  let c1_i32_573 : BitVec 32 := 1#32
  let v2425 : BitVec 32 := Scalar.shrsi v2405 c1_i32_573
  v2425

def k0_off159 (v2405 : BitVec 32) : Fin 2 → Nat :=
  let c1_i32_573 : BitVec 32 := 1#32
  let v2425 : BitVec 32 := Scalar.shrsi v2405 c1_i32_573
  let v2426 : BitVec 32 := v2425
  let v2427 : Index := Scalar.indexCast v2426
  let c0_574 : Index := 0#32
  ![v2427.toNat, 0]
def k0_off160 (v2405 : BitVec 32) : Fin 2 → Nat :=
  let c1_i32_573 : BitVec 32 := 1#32
  let v2425 : BitVec 32 := Scalar.shrsi v2405 c1_i32_573
  let v2426 : BitVec 32 := v2425
  let v2431 : Index := Scalar.indexCast v2426
  let c128_575 : Index := 128#32
  ![v2431.toNat, 128]

def k0_chk80 (arg0 : BitVec 32) (v1 : BitVec 32) (v2405 : BitVec 32) : Prop :=
  (∀ (k0_h1 : k0_cond1 arg0 v1 = 1#1), 8 ∣ (k0_mult80 v2405).toNat) ∧
  (∀ (k0_h1 : k0_cond1 arg0 v1 = 1#1), ∀ a, (k0_off159 v2405) a + S8x128.size a ≤ S7688x256.size a) ∧
  (∀ (k0_h1 : k0_cond1 arg0 v1 = 1#1), ∀ a, (k0_off160 v2405) a + S8x128.size a ≤ S7688x256.size a)
theorem k0_mult80_dvd : ∀ (arg0 : BitVec 32) (v1 : BitVec 32) (v2405 : BitVec 32) (k0_hw80 : k0_chk80 arg0 v1 v2405), ∀ (k0_h1 : k0_cond1 arg0 v1 = 1#1), 8 ∣ (k0_mult80 v2405).toNat := fun arg0 v1 v2405 k0_hw80 k0_h1 => k0_hw80.1 k0_h1
theorem k0_off159_inb : ∀ (arg0 : BitVec 32) (v1 : BitVec 32) (v2405 : BitVec 32) (k0_hw80 : k0_chk80 arg0 v1 v2405), ∀ (k0_h1 : k0_cond1 arg0 v1 = 1#1), ∀ a, (k0_off159 v2405) a + S8x128.size a ≤ S7688x256.size a := fun arg0 v1 v2405 k0_hw80 k0_h1 => k0_hw80.2.1 k0_h1
theorem k0_off160_inb : ∀ (arg0 : BitVec 32) (v1 : BitVec 32) (v2405 : BitVec 32) (k0_hw80 : k0_chk80 arg0 v1 v2405), ∀ (k0_h1 : k0_cond1 arg0 v1 = 1#1), ∀ a, (k0_off160 v2405) a + S8x128.size a ≤ S7688x256.size a := fun arg0 v1 v2405 k0_hw80 k0_h1 => k0_hw80.2.2 k0_h1

def k0_mult81 (v2435 : BitVec 32) : BitVec 32 :=
  let c1_i32_580 : BitVec 32 := 1#32
  let v2455 : BitVec 32 := Scalar.shrsi v2435 c1_i32_580
  v2455

def k0_off161 (v2435 : BitVec 32) : Fin 2 → Nat :=
  let c1_i32_580 : BitVec 32 := 1#32
  let v2455 : BitVec 32 := Scalar.shrsi v2435 c1_i32_580
  let v2456 : BitVec 32 := v2455
  let v2457 : Index := Scalar.indexCast v2456
  let c0_581 : Index := 0#32
  ![v2457.toNat, 0]
def k0_off162 (v2435 : BitVec 32) : Fin 2 → Nat :=
  let c1_i32_580 : BitVec 32 := 1#32
  let v2455 : BitVec 32 := Scalar.shrsi v2435 c1_i32_580
  let v2456 : BitVec 32 := v2455
  let v2461 : Index := Scalar.indexCast v2456
  let c128_582 : Index := 128#32
  ![v2461.toNat, 128]

def k0_chk81 (arg0 : BitVec 32) (v1 : BitVec 32) (v2435 : BitVec 32) : Prop :=
  (∀ (k0_h1 : k0_cond1 arg0 v1 = 1#1), 8 ∣ (k0_mult81 v2435).toNat) ∧
  (∀ (k0_h1 : k0_cond1 arg0 v1 = 1#1), ∀ a, (k0_off161 v2435) a + S8x128.size a ≤ S7688x256.size a) ∧
  (∀ (k0_h1 : k0_cond1 arg0 v1 = 1#1), ∀ a, (k0_off162 v2435) a + S8x128.size a ≤ S7688x256.size a)
theorem k0_mult81_dvd : ∀ (arg0 : BitVec 32) (v1 : BitVec 32) (v2435 : BitVec 32) (k0_hw81 : k0_chk81 arg0 v1 v2435), ∀ (k0_h1 : k0_cond1 arg0 v1 = 1#1), 8 ∣ (k0_mult81 v2435).toNat := fun arg0 v1 v2435 k0_hw81 k0_h1 => k0_hw81.1 k0_h1
theorem k0_off161_inb : ∀ (arg0 : BitVec 32) (v1 : BitVec 32) (v2435 : BitVec 32) (k0_hw81 : k0_chk81 arg0 v1 v2435), ∀ (k0_h1 : k0_cond1 arg0 v1 = 1#1), ∀ a, (k0_off161 v2435) a + S8x128.size a ≤ S7688x256.size a := fun arg0 v1 v2435 k0_hw81 k0_h1 => k0_hw81.2.1 k0_h1
theorem k0_off162_inb : ∀ (arg0 : BitVec 32) (v1 : BitVec 32) (v2435 : BitVec 32) (k0_hw81 : k0_chk81 arg0 v1 v2435), ∀ (k0_h1 : k0_cond1 arg0 v1 = 1#1), ∀ a, (k0_off162 v2435) a + S8x128.size a ≤ S7688x256.size a := fun arg0 v1 v2435 k0_hw81 k0_h1 => k0_hw81.2.2 k0_h1

def k0_mult82 (v2465 : BitVec 32) : BitVec 32 :=
  let c1_i32_587 : BitVec 32 := 1#32
  let v2485 : BitVec 32 := Scalar.shrsi v2465 c1_i32_587
  v2485

def k0_off163 (v2465 : BitVec 32) : Fin 2 → Nat :=
  let c1_i32_587 : BitVec 32 := 1#32
  let v2485 : BitVec 32 := Scalar.shrsi v2465 c1_i32_587
  let v2486 : BitVec 32 := v2485
  let v2487 : Index := Scalar.indexCast v2486
  let c0_588 : Index := 0#32
  ![v2487.toNat, 0]
def k0_off164 (v2465 : BitVec 32) : Fin 2 → Nat :=
  let c1_i32_587 : BitVec 32 := 1#32
  let v2485 : BitVec 32 := Scalar.shrsi v2465 c1_i32_587
  let v2486 : BitVec 32 := v2485
  let v2491 : Index := Scalar.indexCast v2486
  let c128_589 : Index := 128#32
  ![v2491.toNat, 128]

def k0_chk82 (arg0 : BitVec 32) (v1 : BitVec 32) (v2465 : BitVec 32) : Prop :=
  (∀ (k0_h1 : k0_cond1 arg0 v1 = 1#1), 8 ∣ (k0_mult82 v2465).toNat) ∧
  (∀ (k0_h1 : k0_cond1 arg0 v1 = 1#1), ∀ a, (k0_off163 v2465) a + S8x128.size a ≤ S7688x256.size a) ∧
  (∀ (k0_h1 : k0_cond1 arg0 v1 = 1#1), ∀ a, (k0_off164 v2465) a + S8x128.size a ≤ S7688x256.size a)
theorem k0_mult82_dvd : ∀ (arg0 : BitVec 32) (v1 : BitVec 32) (v2465 : BitVec 32) (k0_hw82 : k0_chk82 arg0 v1 v2465), ∀ (k0_h1 : k0_cond1 arg0 v1 = 1#1), 8 ∣ (k0_mult82 v2465).toNat := fun arg0 v1 v2465 k0_hw82 k0_h1 => k0_hw82.1 k0_h1
theorem k0_off163_inb : ∀ (arg0 : BitVec 32) (v1 : BitVec 32) (v2465 : BitVec 32) (k0_hw82 : k0_chk82 arg0 v1 v2465), ∀ (k0_h1 : k0_cond1 arg0 v1 = 1#1), ∀ a, (k0_off163 v2465) a + S8x128.size a ≤ S7688x256.size a := fun arg0 v1 v2465 k0_hw82 k0_h1 => k0_hw82.2.1 k0_h1
theorem k0_off164_inb : ∀ (arg0 : BitVec 32) (v1 : BitVec 32) (v2465 : BitVec 32) (k0_hw82 : k0_chk82 arg0 v1 v2465), ∀ (k0_h1 : k0_cond1 arg0 v1 = 1#1), ∀ a, (k0_off164 v2465) a + S8x128.size a ≤ S7688x256.size a := fun arg0 v1 v2465 k0_hw82 k0_h1 => k0_hw82.2.2 k0_h1

def k0_mult83 (v2495 : BitVec 32) : BitVec 32 :=
  let c1_i32_594 : BitVec 32 := 1#32
  let v2515 : BitVec 32 := Scalar.shrsi v2495 c1_i32_594
  v2515

def k0_off165 (v2495 : BitVec 32) : Fin 2 → Nat :=
  let c1_i32_594 : BitVec 32 := 1#32
  let v2515 : BitVec 32 := Scalar.shrsi v2495 c1_i32_594
  let v2516 : BitVec 32 := v2515
  let v2517 : Index := Scalar.indexCast v2516
  let c0_595 : Index := 0#32
  ![v2517.toNat, 0]
def k0_off166 (v2495 : BitVec 32) : Fin 2 → Nat :=
  let c1_i32_594 : BitVec 32 := 1#32
  let v2515 : BitVec 32 := Scalar.shrsi v2495 c1_i32_594
  let v2516 : BitVec 32 := v2515
  let v2521 : Index := Scalar.indexCast v2516
  let c128_596 : Index := 128#32
  ![v2521.toNat, 128]

def k0_chk83 (arg0 : BitVec 32) (v1 : BitVec 32) (v2495 : BitVec 32) : Prop :=
  (∀ (k0_h1 : k0_cond1 arg0 v1 = 1#1), 8 ∣ (k0_mult83 v2495).toNat) ∧
  (∀ (k0_h1 : k0_cond1 arg0 v1 = 1#1), ∀ a, (k0_off165 v2495) a + S8x128.size a ≤ S7688x256.size a) ∧
  (∀ (k0_h1 : k0_cond1 arg0 v1 = 1#1), ∀ a, (k0_off166 v2495) a + S8x128.size a ≤ S7688x256.size a)
theorem k0_mult83_dvd : ∀ (arg0 : BitVec 32) (v1 : BitVec 32) (v2495 : BitVec 32) (k0_hw83 : k0_chk83 arg0 v1 v2495), ∀ (k0_h1 : k0_cond1 arg0 v1 = 1#1), 8 ∣ (k0_mult83 v2495).toNat := fun arg0 v1 v2495 k0_hw83 k0_h1 => k0_hw83.1 k0_h1
theorem k0_off165_inb : ∀ (arg0 : BitVec 32) (v1 : BitVec 32) (v2495 : BitVec 32) (k0_hw83 : k0_chk83 arg0 v1 v2495), ∀ (k0_h1 : k0_cond1 arg0 v1 = 1#1), ∀ a, (k0_off165 v2495) a + S8x128.size a ≤ S7688x256.size a := fun arg0 v1 v2495 k0_hw83 k0_h1 => k0_hw83.2.1 k0_h1
theorem k0_off166_inb : ∀ (arg0 : BitVec 32) (v1 : BitVec 32) (v2495 : BitVec 32) (k0_hw83 : k0_chk83 arg0 v1 v2495), ∀ (k0_h1 : k0_cond1 arg0 v1 = 1#1), ∀ a, (k0_off166 v2495) a + S8x128.size a ≤ S7688x256.size a := fun arg0 v1 v2495 k0_hw83 k0_h1 => k0_hw83.2.2 k0_h1

def k0_mult84 (v2525 : BitVec 32) : BitVec 32 :=
  let c1_i32_601 : BitVec 32 := 1#32
  let v2545 : BitVec 32 := Scalar.shrsi v2525 c1_i32_601
  v2545

def k0_off167 (v2525 : BitVec 32) : Fin 2 → Nat :=
  let c1_i32_601 : BitVec 32 := 1#32
  let v2545 : BitVec 32 := Scalar.shrsi v2525 c1_i32_601
  let v2546 : BitVec 32 := v2545
  let v2547 : Index := Scalar.indexCast v2546
  let c0_602 : Index := 0#32
  ![v2547.toNat, 0]
def k0_off168 (v2525 : BitVec 32) : Fin 2 → Nat :=
  let c1_i32_601 : BitVec 32 := 1#32
  let v2545 : BitVec 32 := Scalar.shrsi v2525 c1_i32_601
  let v2546 : BitVec 32 := v2545
  let v2551 : Index := Scalar.indexCast v2546
  let c128_603 : Index := 128#32
  ![v2551.toNat, 128]

def k0_chk84 (arg0 : BitVec 32) (v1 : BitVec 32) (v2525 : BitVec 32) : Prop :=
  (∀ (k0_h1 : k0_cond1 arg0 v1 = 1#1), 8 ∣ (k0_mult84 v2525).toNat) ∧
  (∀ (k0_h1 : k0_cond1 arg0 v1 = 1#1), ∀ a, (k0_off167 v2525) a + S8x128.size a ≤ S7688x256.size a) ∧
  (∀ (k0_h1 : k0_cond1 arg0 v1 = 1#1), ∀ a, (k0_off168 v2525) a + S8x128.size a ≤ S7688x256.size a)
theorem k0_mult84_dvd : ∀ (arg0 : BitVec 32) (v1 : BitVec 32) (v2525 : BitVec 32) (k0_hw84 : k0_chk84 arg0 v1 v2525), ∀ (k0_h1 : k0_cond1 arg0 v1 = 1#1), 8 ∣ (k0_mult84 v2525).toNat := fun arg0 v1 v2525 k0_hw84 k0_h1 => k0_hw84.1 k0_h1
theorem k0_off167_inb : ∀ (arg0 : BitVec 32) (v1 : BitVec 32) (v2525 : BitVec 32) (k0_hw84 : k0_chk84 arg0 v1 v2525), ∀ (k0_h1 : k0_cond1 arg0 v1 = 1#1), ∀ a, (k0_off167 v2525) a + S8x128.size a ≤ S7688x256.size a := fun arg0 v1 v2525 k0_hw84 k0_h1 => k0_hw84.2.1 k0_h1
theorem k0_off168_inb : ∀ (arg0 : BitVec 32) (v1 : BitVec 32) (v2525 : BitVec 32) (k0_hw84 : k0_chk84 arg0 v1 v2525), ∀ (k0_h1 : k0_cond1 arg0 v1 = 1#1), ∀ a, (k0_off168 v2525) a + S8x128.size a ≤ S7688x256.size a := fun arg0 v1 v2525 k0_hw84 k0_h1 => k0_hw84.2.2 k0_h1

def k0_mult85 (v2555 : BitVec 32) : BitVec 32 :=
  let c1_i32_608 : BitVec 32 := 1#32
  let v2575 : BitVec 32 := Scalar.shrsi v2555 c1_i32_608
  v2575

def k0_off169 (v2555 : BitVec 32) : Fin 2 → Nat :=
  let c1_i32_608 : BitVec 32 := 1#32
  let v2575 : BitVec 32 := Scalar.shrsi v2555 c1_i32_608
  let v2576 : BitVec 32 := v2575
  let v2577 : Index := Scalar.indexCast v2576
  let c0_609 : Index := 0#32
  ![v2577.toNat, 0]
def k0_off170 (v2555 : BitVec 32) : Fin 2 → Nat :=
  let c1_i32_608 : BitVec 32 := 1#32
  let v2575 : BitVec 32 := Scalar.shrsi v2555 c1_i32_608
  let v2576 : BitVec 32 := v2575
  let v2581 : Index := Scalar.indexCast v2576
  let c128_610 : Index := 128#32
  ![v2581.toNat, 128]

def k0_chk85 (arg0 : BitVec 32) (v1 : BitVec 32) (v2555 : BitVec 32) : Prop :=
  (∀ (k0_h1 : k0_cond1 arg0 v1 = 1#1), 8 ∣ (k0_mult85 v2555).toNat) ∧
  (∀ (k0_h1 : k0_cond1 arg0 v1 = 1#1), ∀ a, (k0_off169 v2555) a + S8x128.size a ≤ S7688x256.size a) ∧
  (∀ (k0_h1 : k0_cond1 arg0 v1 = 1#1), ∀ a, (k0_off170 v2555) a + S8x128.size a ≤ S7688x256.size a)
theorem k0_mult85_dvd : ∀ (arg0 : BitVec 32) (v1 : BitVec 32) (v2555 : BitVec 32) (k0_hw85 : k0_chk85 arg0 v1 v2555), ∀ (k0_h1 : k0_cond1 arg0 v1 = 1#1), 8 ∣ (k0_mult85 v2555).toNat := fun arg0 v1 v2555 k0_hw85 k0_h1 => k0_hw85.1 k0_h1
theorem k0_off169_inb : ∀ (arg0 : BitVec 32) (v1 : BitVec 32) (v2555 : BitVec 32) (k0_hw85 : k0_chk85 arg0 v1 v2555), ∀ (k0_h1 : k0_cond1 arg0 v1 = 1#1), ∀ a, (k0_off169 v2555) a + S8x128.size a ≤ S7688x256.size a := fun arg0 v1 v2555 k0_hw85 k0_h1 => k0_hw85.2.1 k0_h1
theorem k0_off170_inb : ∀ (arg0 : BitVec 32) (v1 : BitVec 32) (v2555 : BitVec 32) (k0_hw85 : k0_chk85 arg0 v1 v2555), ∀ (k0_h1 : k0_cond1 arg0 v1 = 1#1), ∀ a, (k0_off170 v2555) a + S8x128.size a ≤ S7688x256.size a := fun arg0 v1 v2555 k0_hw85 k0_h1 => k0_hw85.2.2 k0_h1

def k0_mult86 (v2585 : BitVec 32) : BitVec 32 :=
  let c1_i32_615 : BitVec 32 := 1#32
  let v2605 : BitVec 32 := Scalar.shrsi v2585 c1_i32_615
  v2605

def k0_off171 (v2585 : BitVec 32) : Fin 2 → Nat :=
  let c1_i32_615 : BitVec 32 := 1#32
  let v2605 : BitVec 32 := Scalar.shrsi v2585 c1_i32_615
  let v2606 : BitVec 32 := v2605
  let v2607 : Index := Scalar.indexCast v2606
  let c0_616 : Index := 0#32
  ![v2607.toNat, 0]
def k0_off172 (v2585 : BitVec 32) : Fin 2 → Nat :=
  let c1_i32_615 : BitVec 32 := 1#32
  let v2605 : BitVec 32 := Scalar.shrsi v2585 c1_i32_615
  let v2606 : BitVec 32 := v2605
  let v2611 : Index := Scalar.indexCast v2606
  let c128_617 : Index := 128#32
  ![v2611.toNat, 128]

def k0_chk86 (arg0 : BitVec 32) (v1 : BitVec 32) (v2585 : BitVec 32) : Prop :=
  (∀ (k0_h1 : k0_cond1 arg0 v1 = 1#1), 8 ∣ (k0_mult86 v2585).toNat) ∧
  (∀ (k0_h1 : k0_cond1 arg0 v1 = 1#1), ∀ a, (k0_off171 v2585) a + S8x128.size a ≤ S7688x256.size a) ∧
  (∀ (k0_h1 : k0_cond1 arg0 v1 = 1#1), ∀ a, (k0_off172 v2585) a + S8x128.size a ≤ S7688x256.size a)
theorem k0_mult86_dvd : ∀ (arg0 : BitVec 32) (v1 : BitVec 32) (v2585 : BitVec 32) (k0_hw86 : k0_chk86 arg0 v1 v2585), ∀ (k0_h1 : k0_cond1 arg0 v1 = 1#1), 8 ∣ (k0_mult86 v2585).toNat := fun arg0 v1 v2585 k0_hw86 k0_h1 => k0_hw86.1 k0_h1
theorem k0_off171_inb : ∀ (arg0 : BitVec 32) (v1 : BitVec 32) (v2585 : BitVec 32) (k0_hw86 : k0_chk86 arg0 v1 v2585), ∀ (k0_h1 : k0_cond1 arg0 v1 = 1#1), ∀ a, (k0_off171 v2585) a + S8x128.size a ≤ S7688x256.size a := fun arg0 v1 v2585 k0_hw86 k0_h1 => k0_hw86.2.1 k0_h1
theorem k0_off172_inb : ∀ (arg0 : BitVec 32) (v1 : BitVec 32) (v2585 : BitVec 32) (k0_hw86 : k0_chk86 arg0 v1 v2585), ∀ (k0_h1 : k0_cond1 arg0 v1 = 1#1), ∀ a, (k0_off172 v2585) a + S8x128.size a ≤ S7688x256.size a := fun arg0 v1 v2585 k0_hw86 k0_h1 => k0_hw86.2.2 k0_h1

def k0_mult87 (v2615 : BitVec 32) : BitVec 32 :=
  let c1_i32_622 : BitVec 32 := 1#32
  let v2635 : BitVec 32 := Scalar.shrsi v2615 c1_i32_622
  v2635

def k0_off173 (v2615 : BitVec 32) : Fin 2 → Nat :=
  let c1_i32_622 : BitVec 32 := 1#32
  let v2635 : BitVec 32 := Scalar.shrsi v2615 c1_i32_622
  let v2636 : BitVec 32 := v2635
  let v2637 : Index := Scalar.indexCast v2636
  let c0_623 : Index := 0#32
  ![v2637.toNat, 0]
def k0_off174 (v2615 : BitVec 32) : Fin 2 → Nat :=
  let c1_i32_622 : BitVec 32 := 1#32
  let v2635 : BitVec 32 := Scalar.shrsi v2615 c1_i32_622
  let v2636 : BitVec 32 := v2635
  let v2641 : Index := Scalar.indexCast v2636
  let c128_624 : Index := 128#32
  ![v2641.toNat, 128]

def k0_chk87 (arg0 : BitVec 32) (v1 : BitVec 32) (v2615 : BitVec 32) : Prop :=
  (∀ (k0_h1 : k0_cond1 arg0 v1 = 1#1), 8 ∣ (k0_mult87 v2615).toNat) ∧
  (∀ (k0_h1 : k0_cond1 arg0 v1 = 1#1), ∀ a, (k0_off173 v2615) a + S8x128.size a ≤ S7688x256.size a) ∧
  (∀ (k0_h1 : k0_cond1 arg0 v1 = 1#1), ∀ a, (k0_off174 v2615) a + S8x128.size a ≤ S7688x256.size a)
theorem k0_mult87_dvd : ∀ (arg0 : BitVec 32) (v1 : BitVec 32) (v2615 : BitVec 32) (k0_hw87 : k0_chk87 arg0 v1 v2615), ∀ (k0_h1 : k0_cond1 arg0 v1 = 1#1), 8 ∣ (k0_mult87 v2615).toNat := fun arg0 v1 v2615 k0_hw87 k0_h1 => k0_hw87.1 k0_h1
theorem k0_off173_inb : ∀ (arg0 : BitVec 32) (v1 : BitVec 32) (v2615 : BitVec 32) (k0_hw87 : k0_chk87 arg0 v1 v2615), ∀ (k0_h1 : k0_cond1 arg0 v1 = 1#1), ∀ a, (k0_off173 v2615) a + S8x128.size a ≤ S7688x256.size a := fun arg0 v1 v2615 k0_hw87 k0_h1 => k0_hw87.2.1 k0_h1
theorem k0_off174_inb : ∀ (arg0 : BitVec 32) (v1 : BitVec 32) (v2615 : BitVec 32) (k0_hw87 : k0_chk87 arg0 v1 v2615), ∀ (k0_h1 : k0_cond1 arg0 v1 = 1#1), ∀ a, (k0_off174 v2615) a + S8x128.size a ≤ S7688x256.size a := fun arg0 v1 v2615 k0_hw87 k0_h1 => k0_hw87.2.2 k0_h1

def k0_mult88 (v2645 : BitVec 32) : BitVec 32 :=
  let c1_i32_629 : BitVec 32 := 1#32
  let v2665 : BitVec 32 := Scalar.shrsi v2645 c1_i32_629
  v2665

def k0_off175 (v2645 : BitVec 32) : Fin 2 → Nat :=
  let c1_i32_629 : BitVec 32 := 1#32
  let v2665 : BitVec 32 := Scalar.shrsi v2645 c1_i32_629
  let v2666 : BitVec 32 := v2665
  let v2667 : Index := Scalar.indexCast v2666
  let c0_630 : Index := 0#32
  ![v2667.toNat, 0]
def k0_off176 (v2645 : BitVec 32) : Fin 2 → Nat :=
  let c1_i32_629 : BitVec 32 := 1#32
  let v2665 : BitVec 32 := Scalar.shrsi v2645 c1_i32_629
  let v2666 : BitVec 32 := v2665
  let v2671 : Index := Scalar.indexCast v2666
  let c128_631 : Index := 128#32
  ![v2671.toNat, 128]

def k0_chk88 (arg0 : BitVec 32) (v1 : BitVec 32) (v2645 : BitVec 32) : Prop :=
  (∀ (k0_h1 : k0_cond1 arg0 v1 = 1#1), 8 ∣ (k0_mult88 v2645).toNat) ∧
  (∀ (k0_h1 : k0_cond1 arg0 v1 = 1#1), ∀ a, (k0_off175 v2645) a + S8x128.size a ≤ S7688x256.size a) ∧
  (∀ (k0_h1 : k0_cond1 arg0 v1 = 1#1), ∀ a, (k0_off176 v2645) a + S8x128.size a ≤ S7688x256.size a)
theorem k0_mult88_dvd : ∀ (arg0 : BitVec 32) (v1 : BitVec 32) (v2645 : BitVec 32) (k0_hw88 : k0_chk88 arg0 v1 v2645), ∀ (k0_h1 : k0_cond1 arg0 v1 = 1#1), 8 ∣ (k0_mult88 v2645).toNat := fun arg0 v1 v2645 k0_hw88 k0_h1 => k0_hw88.1 k0_h1
theorem k0_off175_inb : ∀ (arg0 : BitVec 32) (v1 : BitVec 32) (v2645 : BitVec 32) (k0_hw88 : k0_chk88 arg0 v1 v2645), ∀ (k0_h1 : k0_cond1 arg0 v1 = 1#1), ∀ a, (k0_off175 v2645) a + S8x128.size a ≤ S7688x256.size a := fun arg0 v1 v2645 k0_hw88 k0_h1 => k0_hw88.2.1 k0_h1
theorem k0_off176_inb : ∀ (arg0 : BitVec 32) (v1 : BitVec 32) (v2645 : BitVec 32) (k0_hw88 : k0_chk88 arg0 v1 v2645), ∀ (k0_h1 : k0_cond1 arg0 v1 = 1#1), ∀ a, (k0_off176 v2645) a + S8x128.size a ≤ S7688x256.size a := fun arg0 v1 v2645 k0_hw88 k0_h1 => k0_hw88.2.2 k0_h1

def k0_mult89 (v2675 : BitVec 32) : BitVec 32 :=
  let c1_i32_636 : BitVec 32 := 1#32
  let v2695 : BitVec 32 := Scalar.shrsi v2675 c1_i32_636
  v2695

def k0_off177 (v2675 : BitVec 32) : Fin 2 → Nat :=
  let c1_i32_636 : BitVec 32 := 1#32
  let v2695 : BitVec 32 := Scalar.shrsi v2675 c1_i32_636
  let v2696 : BitVec 32 := v2695
  let v2697 : Index := Scalar.indexCast v2696
  let c0_637 : Index := 0#32
  ![v2697.toNat, 0]
def k0_off178 (v2675 : BitVec 32) : Fin 2 → Nat :=
  let c1_i32_636 : BitVec 32 := 1#32
  let v2695 : BitVec 32 := Scalar.shrsi v2675 c1_i32_636
  let v2696 : BitVec 32 := v2695
  let v2701 : Index := Scalar.indexCast v2696
  let c128_638 : Index := 128#32
  ![v2701.toNat, 128]

def k0_chk89 (arg0 : BitVec 32) (v1 : BitVec 32) (v2675 : BitVec 32) : Prop :=
  (∀ (k0_h1 : k0_cond1 arg0 v1 = 1#1), 8 ∣ (k0_mult89 v2675).toNat) ∧
  (∀ (k0_h1 : k0_cond1 arg0 v1 = 1#1), ∀ a, (k0_off177 v2675) a + S8x128.size a ≤ S7688x256.size a) ∧
  (∀ (k0_h1 : k0_cond1 arg0 v1 = 1#1), ∀ a, (k0_off178 v2675) a + S8x128.size a ≤ S7688x256.size a)
theorem k0_mult89_dvd : ∀ (arg0 : BitVec 32) (v1 : BitVec 32) (v2675 : BitVec 32) (k0_hw89 : k0_chk89 arg0 v1 v2675), ∀ (k0_h1 : k0_cond1 arg0 v1 = 1#1), 8 ∣ (k0_mult89 v2675).toNat := fun arg0 v1 v2675 k0_hw89 k0_h1 => k0_hw89.1 k0_h1
theorem k0_off177_inb : ∀ (arg0 : BitVec 32) (v1 : BitVec 32) (v2675 : BitVec 32) (k0_hw89 : k0_chk89 arg0 v1 v2675), ∀ (k0_h1 : k0_cond1 arg0 v1 = 1#1), ∀ a, (k0_off177 v2675) a + S8x128.size a ≤ S7688x256.size a := fun arg0 v1 v2675 k0_hw89 k0_h1 => k0_hw89.2.1 k0_h1
theorem k0_off178_inb : ∀ (arg0 : BitVec 32) (v1 : BitVec 32) (v2675 : BitVec 32) (k0_hw89 : k0_chk89 arg0 v1 v2675), ∀ (k0_h1 : k0_cond1 arg0 v1 = 1#1), ∀ a, (k0_off178 v2675) a + S8x128.size a ≤ S7688x256.size a := fun arg0 v1 v2675 k0_hw89 k0_h1 => k0_hw89.2.2 k0_h1

def k0_mult90 (v2705 : BitVec 32) : BitVec 32 :=
  let c1_i32_643 : BitVec 32 := 1#32
  let v2725 : BitVec 32 := Scalar.shrsi v2705 c1_i32_643
  v2725

def k0_off179 (v2705 : BitVec 32) : Fin 2 → Nat :=
  let c1_i32_643 : BitVec 32 := 1#32
  let v2725 : BitVec 32 := Scalar.shrsi v2705 c1_i32_643
  let v2726 : BitVec 32 := v2725
  let v2727 : Index := Scalar.indexCast v2726
  let c0_644 : Index := 0#32
  ![v2727.toNat, 0]
def k0_off180 (v2705 : BitVec 32) : Fin 2 → Nat :=
  let c1_i32_643 : BitVec 32 := 1#32
  let v2725 : BitVec 32 := Scalar.shrsi v2705 c1_i32_643
  let v2726 : BitVec 32 := v2725
  let v2731 : Index := Scalar.indexCast v2726
  let c128_645 : Index := 128#32
  ![v2731.toNat, 128]

def k0_chk90 (arg0 : BitVec 32) (v1 : BitVec 32) (v2705 : BitVec 32) : Prop :=
  (∀ (k0_h1 : k0_cond1 arg0 v1 = 1#1), 8 ∣ (k0_mult90 v2705).toNat) ∧
  (∀ (k0_h1 : k0_cond1 arg0 v1 = 1#1), ∀ a, (k0_off179 v2705) a + S8x128.size a ≤ S7688x256.size a) ∧
  (∀ (k0_h1 : k0_cond1 arg0 v1 = 1#1), ∀ a, (k0_off180 v2705) a + S8x128.size a ≤ S7688x256.size a)
theorem k0_mult90_dvd : ∀ (arg0 : BitVec 32) (v1 : BitVec 32) (v2705 : BitVec 32) (k0_hw90 : k0_chk90 arg0 v1 v2705), ∀ (k0_h1 : k0_cond1 arg0 v1 = 1#1), 8 ∣ (k0_mult90 v2705).toNat := fun arg0 v1 v2705 k0_hw90 k0_h1 => k0_hw90.1 k0_h1
theorem k0_off179_inb : ∀ (arg0 : BitVec 32) (v1 : BitVec 32) (v2705 : BitVec 32) (k0_hw90 : k0_chk90 arg0 v1 v2705), ∀ (k0_h1 : k0_cond1 arg0 v1 = 1#1), ∀ a, (k0_off179 v2705) a + S8x128.size a ≤ S7688x256.size a := fun arg0 v1 v2705 k0_hw90 k0_h1 => k0_hw90.2.1 k0_h1
theorem k0_off180_inb : ∀ (arg0 : BitVec 32) (v1 : BitVec 32) (v2705 : BitVec 32) (k0_hw90 : k0_chk90 arg0 v1 v2705), ∀ (k0_h1 : k0_cond1 arg0 v1 = 1#1), ∀ a, (k0_off180 v2705) a + S8x128.size a ≤ S7688x256.size a := fun arg0 v1 v2705 k0_hw90 k0_h1 => k0_hw90.2.2 k0_h1

def k0_mult91 (v2735 : BitVec 32) : BitVec 32 :=
  let c1_i32_650 : BitVec 32 := 1#32
  let v2755 : BitVec 32 := Scalar.shrsi v2735 c1_i32_650
  v2755

def k0_off181 (v2735 : BitVec 32) : Fin 2 → Nat :=
  let c1_i32_650 : BitVec 32 := 1#32
  let v2755 : BitVec 32 := Scalar.shrsi v2735 c1_i32_650
  let v2756 : BitVec 32 := v2755
  let v2757 : Index := Scalar.indexCast v2756
  let c0_651 : Index := 0#32
  ![v2757.toNat, 0]
def k0_off182 (v2735 : BitVec 32) : Fin 2 → Nat :=
  let c1_i32_650 : BitVec 32 := 1#32
  let v2755 : BitVec 32 := Scalar.shrsi v2735 c1_i32_650
  let v2756 : BitVec 32 := v2755
  let v2761 : Index := Scalar.indexCast v2756
  let c128_652 : Index := 128#32
  ![v2761.toNat, 128]

def k0_chk91 (arg0 : BitVec 32) (v1 : BitVec 32) (v2735 : BitVec 32) : Prop :=
  (∀ (k0_h1 : k0_cond1 arg0 v1 = 1#1), 8 ∣ (k0_mult91 v2735).toNat) ∧
  (∀ (k0_h1 : k0_cond1 arg0 v1 = 1#1), ∀ a, (k0_off181 v2735) a + S8x128.size a ≤ S7688x256.size a) ∧
  (∀ (k0_h1 : k0_cond1 arg0 v1 = 1#1), ∀ a, (k0_off182 v2735) a + S8x128.size a ≤ S7688x256.size a)
theorem k0_mult91_dvd : ∀ (arg0 : BitVec 32) (v1 : BitVec 32) (v2735 : BitVec 32) (k0_hw91 : k0_chk91 arg0 v1 v2735), ∀ (k0_h1 : k0_cond1 arg0 v1 = 1#1), 8 ∣ (k0_mult91 v2735).toNat := fun arg0 v1 v2735 k0_hw91 k0_h1 => k0_hw91.1 k0_h1
theorem k0_off181_inb : ∀ (arg0 : BitVec 32) (v1 : BitVec 32) (v2735 : BitVec 32) (k0_hw91 : k0_chk91 arg0 v1 v2735), ∀ (k0_h1 : k0_cond1 arg0 v1 = 1#1), ∀ a, (k0_off181 v2735) a + S8x128.size a ≤ S7688x256.size a := fun arg0 v1 v2735 k0_hw91 k0_h1 => k0_hw91.2.1 k0_h1
theorem k0_off182_inb : ∀ (arg0 : BitVec 32) (v1 : BitVec 32) (v2735 : BitVec 32) (k0_hw91 : k0_chk91 arg0 v1 v2735), ∀ (k0_h1 : k0_cond1 arg0 v1 = 1#1), ∀ a, (k0_off182 v2735) a + S8x128.size a ≤ S7688x256.size a := fun arg0 v1 v2735 k0_hw91 k0_h1 => k0_hw91.2.2 k0_h1

def k0_mult92 (v2765 : BitVec 32) : BitVec 32 :=
  let c1_i32_657 : BitVec 32 := 1#32
  let v2785 : BitVec 32 := Scalar.shrsi v2765 c1_i32_657
  v2785

def k0_off183 (v2765 : BitVec 32) : Fin 2 → Nat :=
  let c1_i32_657 : BitVec 32 := 1#32
  let v2785 : BitVec 32 := Scalar.shrsi v2765 c1_i32_657
  let v2786 : BitVec 32 := v2785
  let v2787 : Index := Scalar.indexCast v2786
  let c0_658 : Index := 0#32
  ![v2787.toNat, 0]
def k0_off184 (v2765 : BitVec 32) : Fin 2 → Nat :=
  let c1_i32_657 : BitVec 32 := 1#32
  let v2785 : BitVec 32 := Scalar.shrsi v2765 c1_i32_657
  let v2786 : BitVec 32 := v2785
  let v2791 : Index := Scalar.indexCast v2786
  let c128_659 : Index := 128#32
  ![v2791.toNat, 128]

def k0_chk92 (arg0 : BitVec 32) (v1 : BitVec 32) (v2765 : BitVec 32) : Prop :=
  (∀ (k0_h1 : k0_cond1 arg0 v1 = 1#1), 8 ∣ (k0_mult92 v2765).toNat) ∧
  (∀ (k0_h1 : k0_cond1 arg0 v1 = 1#1), ∀ a, (k0_off183 v2765) a + S8x128.size a ≤ S7688x256.size a) ∧
  (∀ (k0_h1 : k0_cond1 arg0 v1 = 1#1), ∀ a, (k0_off184 v2765) a + S8x128.size a ≤ S7688x256.size a)
theorem k0_mult92_dvd : ∀ (arg0 : BitVec 32) (v1 : BitVec 32) (v2765 : BitVec 32) (k0_hw92 : k0_chk92 arg0 v1 v2765), ∀ (k0_h1 : k0_cond1 arg0 v1 = 1#1), 8 ∣ (k0_mult92 v2765).toNat := fun arg0 v1 v2765 k0_hw92 k0_h1 => k0_hw92.1 k0_h1
theorem k0_off183_inb : ∀ (arg0 : BitVec 32) (v1 : BitVec 32) (v2765 : BitVec 32) (k0_hw92 : k0_chk92 arg0 v1 v2765), ∀ (k0_h1 : k0_cond1 arg0 v1 = 1#1), ∀ a, (k0_off183 v2765) a + S8x128.size a ≤ S7688x256.size a := fun arg0 v1 v2765 k0_hw92 k0_h1 => k0_hw92.2.1 k0_h1
theorem k0_off184_inb : ∀ (arg0 : BitVec 32) (v1 : BitVec 32) (v2765 : BitVec 32) (k0_hw92 : k0_chk92 arg0 v1 v2765), ∀ (k0_h1 : k0_cond1 arg0 v1 = 1#1), ∀ a, (k0_off184 v2765) a + S8x128.size a ≤ S7688x256.size a := fun arg0 v1 v2765 k0_hw92 k0_h1 => k0_hw92.2.2 k0_h1

def k0_mult93 (v2795 : BitVec 32) : BitVec 32 :=
  let c1_i32_664 : BitVec 32 := 1#32
  let v2815 : BitVec 32 := Scalar.shrsi v2795 c1_i32_664
  v2815

def k0_off185 (v2795 : BitVec 32) : Fin 2 → Nat :=
  let c1_i32_664 : BitVec 32 := 1#32
  let v2815 : BitVec 32 := Scalar.shrsi v2795 c1_i32_664
  let v2816 : BitVec 32 := v2815
  let v2817 : Index := Scalar.indexCast v2816
  let c0_665 : Index := 0#32
  ![v2817.toNat, 0]
def k0_off186 (v2795 : BitVec 32) : Fin 2 → Nat :=
  let c1_i32_664 : BitVec 32 := 1#32
  let v2815 : BitVec 32 := Scalar.shrsi v2795 c1_i32_664
  let v2816 : BitVec 32 := v2815
  let v2821 : Index := Scalar.indexCast v2816
  let c128_666 : Index := 128#32
  ![v2821.toNat, 128]

def k0_chk93 (arg0 : BitVec 32) (v1 : BitVec 32) (v2795 : BitVec 32) : Prop :=
  (∀ (k0_h1 : k0_cond1 arg0 v1 = 1#1), 8 ∣ (k0_mult93 v2795).toNat) ∧
  (∀ (k0_h1 : k0_cond1 arg0 v1 = 1#1), ∀ a, (k0_off185 v2795) a + S8x128.size a ≤ S7688x256.size a) ∧
  (∀ (k0_h1 : k0_cond1 arg0 v1 = 1#1), ∀ a, (k0_off186 v2795) a + S8x128.size a ≤ S7688x256.size a)
theorem k0_mult93_dvd : ∀ (arg0 : BitVec 32) (v1 : BitVec 32) (v2795 : BitVec 32) (k0_hw93 : k0_chk93 arg0 v1 v2795), ∀ (k0_h1 : k0_cond1 arg0 v1 = 1#1), 8 ∣ (k0_mult93 v2795).toNat := fun arg0 v1 v2795 k0_hw93 k0_h1 => k0_hw93.1 k0_h1
theorem k0_off185_inb : ∀ (arg0 : BitVec 32) (v1 : BitVec 32) (v2795 : BitVec 32) (k0_hw93 : k0_chk93 arg0 v1 v2795), ∀ (k0_h1 : k0_cond1 arg0 v1 = 1#1), ∀ a, (k0_off185 v2795) a + S8x128.size a ≤ S7688x256.size a := fun arg0 v1 v2795 k0_hw93 k0_h1 => k0_hw93.2.1 k0_h1
theorem k0_off186_inb : ∀ (arg0 : BitVec 32) (v1 : BitVec 32) (v2795 : BitVec 32) (k0_hw93 : k0_chk93 arg0 v1 v2795), ∀ (k0_h1 : k0_cond1 arg0 v1 = 1#1), ∀ a, (k0_off186 v2795) a + S8x128.size a ≤ S7688x256.size a := fun arg0 v1 v2795 k0_hw93 k0_h1 => k0_hw93.2.2 k0_h1

def k0_mult94 (v2825 : BitVec 32) : BitVec 32 :=
  let c1_i32_671 : BitVec 32 := 1#32
  let v2845 : BitVec 32 := Scalar.shrsi v2825 c1_i32_671
  v2845

def k0_off187 (v2825 : BitVec 32) : Fin 2 → Nat :=
  let c1_i32_671 : BitVec 32 := 1#32
  let v2845 : BitVec 32 := Scalar.shrsi v2825 c1_i32_671
  let v2846 : BitVec 32 := v2845
  let v2847 : Index := Scalar.indexCast v2846
  let c0_672 : Index := 0#32
  ![v2847.toNat, 0]
def k0_off188 (v2825 : BitVec 32) : Fin 2 → Nat :=
  let c1_i32_671 : BitVec 32 := 1#32
  let v2845 : BitVec 32 := Scalar.shrsi v2825 c1_i32_671
  let v2846 : BitVec 32 := v2845
  let v2851 : Index := Scalar.indexCast v2846
  let c128_673 : Index := 128#32
  ![v2851.toNat, 128]

def k0_chk94 (arg0 : BitVec 32) (v1 : BitVec 32) (v2825 : BitVec 32) : Prop :=
  (∀ (k0_h1 : k0_cond1 arg0 v1 = 1#1), 8 ∣ (k0_mult94 v2825).toNat) ∧
  (∀ (k0_h1 : k0_cond1 arg0 v1 = 1#1), ∀ a, (k0_off187 v2825) a + S8x128.size a ≤ S7688x256.size a) ∧
  (∀ (k0_h1 : k0_cond1 arg0 v1 = 1#1), ∀ a, (k0_off188 v2825) a + S8x128.size a ≤ S7688x256.size a)
theorem k0_mult94_dvd : ∀ (arg0 : BitVec 32) (v1 : BitVec 32) (v2825 : BitVec 32) (k0_hw94 : k0_chk94 arg0 v1 v2825), ∀ (k0_h1 : k0_cond1 arg0 v1 = 1#1), 8 ∣ (k0_mult94 v2825).toNat := fun arg0 v1 v2825 k0_hw94 k0_h1 => k0_hw94.1 k0_h1
theorem k0_off187_inb : ∀ (arg0 : BitVec 32) (v1 : BitVec 32) (v2825 : BitVec 32) (k0_hw94 : k0_chk94 arg0 v1 v2825), ∀ (k0_h1 : k0_cond1 arg0 v1 = 1#1), ∀ a, (k0_off187 v2825) a + S8x128.size a ≤ S7688x256.size a := fun arg0 v1 v2825 k0_hw94 k0_h1 => k0_hw94.2.1 k0_h1
theorem k0_off188_inb : ∀ (arg0 : BitVec 32) (v1 : BitVec 32) (v2825 : BitVec 32) (k0_hw94 : k0_chk94 arg0 v1 v2825), ∀ (k0_h1 : k0_cond1 arg0 v1 = 1#1), ∀ a, (k0_off188 v2825) a + S8x128.size a ≤ S7688x256.size a := fun arg0 v1 v2825 k0_hw94 k0_h1 => k0_hw94.2.2 k0_h1

def k0_mult95 (v2855 : BitVec 32) : BitVec 32 :=
  let c1_i32_678 : BitVec 32 := 1#32
  let v2875 : BitVec 32 := Scalar.shrsi v2855 c1_i32_678
  v2875

def k0_off189 (v2855 : BitVec 32) : Fin 2 → Nat :=
  let c1_i32_678 : BitVec 32 := 1#32
  let v2875 : BitVec 32 := Scalar.shrsi v2855 c1_i32_678
  let v2876 : BitVec 32 := v2875
  let v2877 : Index := Scalar.indexCast v2876
  let c0_679 : Index := 0#32
  ![v2877.toNat, 0]
def k0_off190 (v2855 : BitVec 32) : Fin 2 → Nat :=
  let c1_i32_678 : BitVec 32 := 1#32
  let v2875 : BitVec 32 := Scalar.shrsi v2855 c1_i32_678
  let v2876 : BitVec 32 := v2875
  let v2881 : Index := Scalar.indexCast v2876
  let c128_680 : Index := 128#32
  ![v2881.toNat, 128]

def k0_chk95 (arg0 : BitVec 32) (v1 : BitVec 32) (v2855 : BitVec 32) : Prop :=
  (∀ (k0_h1 : k0_cond1 arg0 v1 = 1#1), 8 ∣ (k0_mult95 v2855).toNat) ∧
  (∀ (k0_h1 : k0_cond1 arg0 v1 = 1#1), ∀ a, (k0_off189 v2855) a + S8x128.size a ≤ S7688x256.size a) ∧
  (∀ (k0_h1 : k0_cond1 arg0 v1 = 1#1), ∀ a, (k0_off190 v2855) a + S8x128.size a ≤ S7688x256.size a)
theorem k0_mult95_dvd : ∀ (arg0 : BitVec 32) (v1 : BitVec 32) (v2855 : BitVec 32) (k0_hw95 : k0_chk95 arg0 v1 v2855), ∀ (k0_h1 : k0_cond1 arg0 v1 = 1#1), 8 ∣ (k0_mult95 v2855).toNat := fun arg0 v1 v2855 k0_hw95 k0_h1 => k0_hw95.1 k0_h1
theorem k0_off189_inb : ∀ (arg0 : BitVec 32) (v1 : BitVec 32) (v2855 : BitVec 32) (k0_hw95 : k0_chk95 arg0 v1 v2855), ∀ (k0_h1 : k0_cond1 arg0 v1 = 1#1), ∀ a, (k0_off189 v2855) a + S8x128.size a ≤ S7688x256.size a := fun arg0 v1 v2855 k0_hw95 k0_h1 => k0_hw95.2.1 k0_h1
theorem k0_off190_inb : ∀ (arg0 : BitVec 32) (v1 : BitVec 32) (v2855 : BitVec 32) (k0_hw95 : k0_chk95 arg0 v1 v2855), ∀ (k0_h1 : k0_cond1 arg0 v1 = 1#1), ∀ a, (k0_off190 v2855) a + S8x128.size a ≤ S7688x256.size a := fun arg0 v1 v2855 k0_hw95 k0_h1 => k0_hw95.2.2 k0_h1

def k0_mult96 (v2885 : BitVec 32) : BitVec 32 :=
  let c1_i32_685 : BitVec 32 := 1#32
  let v2905 : BitVec 32 := Scalar.shrsi v2885 c1_i32_685
  v2905

def k0_off191 (v2885 : BitVec 32) : Fin 2 → Nat :=
  let c1_i32_685 : BitVec 32 := 1#32
  let v2905 : BitVec 32 := Scalar.shrsi v2885 c1_i32_685
  let v2906 : BitVec 32 := v2905
  let v2907 : Index := Scalar.indexCast v2906
  let c0_686 : Index := 0#32
  ![v2907.toNat, 0]
def k0_off192 (v2885 : BitVec 32) : Fin 2 → Nat :=
  let c1_i32_685 : BitVec 32 := 1#32
  let v2905 : BitVec 32 := Scalar.shrsi v2885 c1_i32_685
  let v2906 : BitVec 32 := v2905
  let v2911 : Index := Scalar.indexCast v2906
  let c128_687 : Index := 128#32
  ![v2911.toNat, 128]

def k0_chk96 (arg0 : BitVec 32) (v1 : BitVec 32) (v2885 : BitVec 32) : Prop :=
  (∀ (k0_h1 : k0_cond1 arg0 v1 = 1#1), 8 ∣ (k0_mult96 v2885).toNat) ∧
  (∀ (k0_h1 : k0_cond1 arg0 v1 = 1#1), ∀ a, (k0_off191 v2885) a + S8x128.size a ≤ S7688x256.size a) ∧
  (∀ (k0_h1 : k0_cond1 arg0 v1 = 1#1), ∀ a, (k0_off192 v2885) a + S8x128.size a ≤ S7688x256.size a)
theorem k0_mult96_dvd : ∀ (arg0 : BitVec 32) (v1 : BitVec 32) (v2885 : BitVec 32) (k0_hw96 : k0_chk96 arg0 v1 v2885), ∀ (k0_h1 : k0_cond1 arg0 v1 = 1#1), 8 ∣ (k0_mult96 v2885).toNat := fun arg0 v1 v2885 k0_hw96 k0_h1 => k0_hw96.1 k0_h1
theorem k0_off191_inb : ∀ (arg0 : BitVec 32) (v1 : BitVec 32) (v2885 : BitVec 32) (k0_hw96 : k0_chk96 arg0 v1 v2885), ∀ (k0_h1 : k0_cond1 arg0 v1 = 1#1), ∀ a, (k0_off191 v2885) a + S8x128.size a ≤ S7688x256.size a := fun arg0 v1 v2885 k0_hw96 k0_h1 => k0_hw96.2.1 k0_h1
theorem k0_off192_inb : ∀ (arg0 : BitVec 32) (v1 : BitVec 32) (v2885 : BitVec 32) (k0_hw96 : k0_chk96 arg0 v1 v2885), ∀ (k0_h1 : k0_cond1 arg0 v1 = 1#1), ∀ a, (k0_off192 v2885) a + S8x128.size a ≤ S7688x256.size a := fun arg0 v1 v2885 k0_hw96 k0_h1 => k0_hw96.2.2 k0_h1

def k0_mult97 (v2915 : BitVec 32) : BitVec 32 :=
  let c1_i32_692 : BitVec 32 := 1#32
  let v2935 : BitVec 32 := Scalar.shrsi v2915 c1_i32_692
  v2935

def k0_off193 (v2915 : BitVec 32) : Fin 2 → Nat :=
  let c1_i32_692 : BitVec 32 := 1#32
  let v2935 : BitVec 32 := Scalar.shrsi v2915 c1_i32_692
  let v2936 : BitVec 32 := v2935
  let v2937 : Index := Scalar.indexCast v2936
  let c0_693 : Index := 0#32
  ![v2937.toNat, 0]
def k0_off194 (v2915 : BitVec 32) : Fin 2 → Nat :=
  let c1_i32_692 : BitVec 32 := 1#32
  let v2935 : BitVec 32 := Scalar.shrsi v2915 c1_i32_692
  let v2936 : BitVec 32 := v2935
  let v2941 : Index := Scalar.indexCast v2936
  let c128_694 : Index := 128#32
  ![v2941.toNat, 128]

def k0_chk97 (arg0 : BitVec 32) (v1 : BitVec 32) (v2915 : BitVec 32) : Prop :=
  (∀ (k0_h1 : k0_cond1 arg0 v1 = 1#1), 8 ∣ (k0_mult97 v2915).toNat) ∧
  (∀ (k0_h1 : k0_cond1 arg0 v1 = 1#1), ∀ a, (k0_off193 v2915) a + S8x128.size a ≤ S7688x256.size a) ∧
  (∀ (k0_h1 : k0_cond1 arg0 v1 = 1#1), ∀ a, (k0_off194 v2915) a + S8x128.size a ≤ S7688x256.size a)
theorem k0_mult97_dvd : ∀ (arg0 : BitVec 32) (v1 : BitVec 32) (v2915 : BitVec 32) (k0_hw97 : k0_chk97 arg0 v1 v2915), ∀ (k0_h1 : k0_cond1 arg0 v1 = 1#1), 8 ∣ (k0_mult97 v2915).toNat := fun arg0 v1 v2915 k0_hw97 k0_h1 => k0_hw97.1 k0_h1
theorem k0_off193_inb : ∀ (arg0 : BitVec 32) (v1 : BitVec 32) (v2915 : BitVec 32) (k0_hw97 : k0_chk97 arg0 v1 v2915), ∀ (k0_h1 : k0_cond1 arg0 v1 = 1#1), ∀ a, (k0_off193 v2915) a + S8x128.size a ≤ S7688x256.size a := fun arg0 v1 v2915 k0_hw97 k0_h1 => k0_hw97.2.1 k0_h1
theorem k0_off194_inb : ∀ (arg0 : BitVec 32) (v1 : BitVec 32) (v2915 : BitVec 32) (k0_hw97 : k0_chk97 arg0 v1 v2915), ∀ (k0_h1 : k0_cond1 arg0 v1 = 1#1), ∀ a, (k0_off194 v2915) a + S8x128.size a ≤ S7688x256.size a := fun arg0 v1 v2915 k0_hw97 k0_h1 => k0_hw97.2.2 k0_h1

def k0_mult98 (v2945 : BitVec 32) : BitVec 32 :=
  let c1_i32_699 : BitVec 32 := 1#32
  let v2965 : BitVec 32 := Scalar.shrsi v2945 c1_i32_699
  v2965

def k0_off195 (v2945 : BitVec 32) : Fin 2 → Nat :=
  let c1_i32_699 : BitVec 32 := 1#32
  let v2965 : BitVec 32 := Scalar.shrsi v2945 c1_i32_699
  let v2966 : BitVec 32 := v2965
  let v2967 : Index := Scalar.indexCast v2966
  let c0_700 : Index := 0#32
  ![v2967.toNat, 0]
def k0_off196 (v2945 : BitVec 32) : Fin 2 → Nat :=
  let c1_i32_699 : BitVec 32 := 1#32
  let v2965 : BitVec 32 := Scalar.shrsi v2945 c1_i32_699
  let v2966 : BitVec 32 := v2965
  let v2971 : Index := Scalar.indexCast v2966
  let c128_701 : Index := 128#32
  ![v2971.toNat, 128]

def k0_chk98 (arg0 : BitVec 32) (v1 : BitVec 32) (v2945 : BitVec 32) : Prop :=
  (∀ (k0_h1 : k0_cond1 arg0 v1 = 1#1), 8 ∣ (k0_mult98 v2945).toNat) ∧
  (∀ (k0_h1 : k0_cond1 arg0 v1 = 1#1), ∀ a, (k0_off195 v2945) a + S8x128.size a ≤ S7688x256.size a) ∧
  (∀ (k0_h1 : k0_cond1 arg0 v1 = 1#1), ∀ a, (k0_off196 v2945) a + S8x128.size a ≤ S7688x256.size a)
theorem k0_mult98_dvd : ∀ (arg0 : BitVec 32) (v1 : BitVec 32) (v2945 : BitVec 32) (k0_hw98 : k0_chk98 arg0 v1 v2945), ∀ (k0_h1 : k0_cond1 arg0 v1 = 1#1), 8 ∣ (k0_mult98 v2945).toNat := fun arg0 v1 v2945 k0_hw98 k0_h1 => k0_hw98.1 k0_h1
theorem k0_off195_inb : ∀ (arg0 : BitVec 32) (v1 : BitVec 32) (v2945 : BitVec 32) (k0_hw98 : k0_chk98 arg0 v1 v2945), ∀ (k0_h1 : k0_cond1 arg0 v1 = 1#1), ∀ a, (k0_off195 v2945) a + S8x128.size a ≤ S7688x256.size a := fun arg0 v1 v2945 k0_hw98 k0_h1 => k0_hw98.2.1 k0_h1
theorem k0_off196_inb : ∀ (arg0 : BitVec 32) (v1 : BitVec 32) (v2945 : BitVec 32) (k0_hw98 : k0_chk98 arg0 v1 v2945), ∀ (k0_h1 : k0_cond1 arg0 v1 = 1#1), ∀ a, (k0_off196 v2945) a + S8x128.size a ≤ S7688x256.size a := fun arg0 v1 v2945 k0_hw98 k0_h1 => k0_hw98.2.2 k0_h1

def k0_mult99 (v2975 : BitVec 32) : BitVec 32 :=
  let c1_i32_706 : BitVec 32 := 1#32
  let v2995 : BitVec 32 := Scalar.shrsi v2975 c1_i32_706
  v2995

def k0_off197 (v2975 : BitVec 32) : Fin 2 → Nat :=
  let c1_i32_706 : BitVec 32 := 1#32
  let v2995 : BitVec 32 := Scalar.shrsi v2975 c1_i32_706
  let v2996 : BitVec 32 := v2995
  let v2997 : Index := Scalar.indexCast v2996
  let c0_707 : Index := 0#32
  ![v2997.toNat, 0]
def k0_off198 (v2975 : BitVec 32) : Fin 2 → Nat :=
  let c1_i32_706 : BitVec 32 := 1#32
  let v2995 : BitVec 32 := Scalar.shrsi v2975 c1_i32_706
  let v2996 : BitVec 32 := v2995
  let v3001 : Index := Scalar.indexCast v2996
  let c128_708 : Index := 128#32
  ![v3001.toNat, 128]

def k0_chk99 (arg0 : BitVec 32) (v1 : BitVec 32) (v2975 : BitVec 32) : Prop :=
  (∀ (k0_h1 : k0_cond1 arg0 v1 = 1#1), 8 ∣ (k0_mult99 v2975).toNat) ∧
  (∀ (k0_h1 : k0_cond1 arg0 v1 = 1#1), ∀ a, (k0_off197 v2975) a + S8x128.size a ≤ S7688x256.size a) ∧
  (∀ (k0_h1 : k0_cond1 arg0 v1 = 1#1), ∀ a, (k0_off198 v2975) a + S8x128.size a ≤ S7688x256.size a)
theorem k0_mult99_dvd : ∀ (arg0 : BitVec 32) (v1 : BitVec 32) (v2975 : BitVec 32) (k0_hw99 : k0_chk99 arg0 v1 v2975), ∀ (k0_h1 : k0_cond1 arg0 v1 = 1#1), 8 ∣ (k0_mult99 v2975).toNat := fun arg0 v1 v2975 k0_hw99 k0_h1 => k0_hw99.1 k0_h1
theorem k0_off197_inb : ∀ (arg0 : BitVec 32) (v1 : BitVec 32) (v2975 : BitVec 32) (k0_hw99 : k0_chk99 arg0 v1 v2975), ∀ (k0_h1 : k0_cond1 arg0 v1 = 1#1), ∀ a, (k0_off197 v2975) a + S8x128.size a ≤ S7688x256.size a := fun arg0 v1 v2975 k0_hw99 k0_h1 => k0_hw99.2.1 k0_h1
theorem k0_off198_inb : ∀ (arg0 : BitVec 32) (v1 : BitVec 32) (v2975 : BitVec 32) (k0_hw99 : k0_chk99 arg0 v1 v2975), ∀ (k0_h1 : k0_cond1 arg0 v1 = 1#1), ∀ a, (k0_off198 v2975) a + S8x128.size a ≤ S7688x256.size a := fun arg0 v1 v2975 k0_hw99 k0_h1 => k0_hw99.2.2 k0_h1

def k0_mult100 (v3005 : BitVec 32) : BitVec 32 :=
  let c1_i32_713 : BitVec 32 := 1#32
  let v3025 : BitVec 32 := Scalar.shrsi v3005 c1_i32_713
  v3025

def k0_off199 (v3005 : BitVec 32) : Fin 2 → Nat :=
  let c1_i32_713 : BitVec 32 := 1#32
  let v3025 : BitVec 32 := Scalar.shrsi v3005 c1_i32_713
  let v3026 : BitVec 32 := v3025
  let v3027 : Index := Scalar.indexCast v3026
  let c0_714 : Index := 0#32
  ![v3027.toNat, 0]
def k0_off200 (v3005 : BitVec 32) : Fin 2 → Nat :=
  let c1_i32_713 : BitVec 32 := 1#32
  let v3025 : BitVec 32 := Scalar.shrsi v3005 c1_i32_713
  let v3026 : BitVec 32 := v3025
  let v3031 : Index := Scalar.indexCast v3026
  let c128_715 : Index := 128#32
  ![v3031.toNat, 128]

def k0_chk100 (arg0 : BitVec 32) (v1 : BitVec 32) (v3005 : BitVec 32) : Prop :=
  (∀ (k0_h1 : k0_cond1 arg0 v1 = 1#1), 8 ∣ (k0_mult100 v3005).toNat) ∧
  (∀ (k0_h1 : k0_cond1 arg0 v1 = 1#1), ∀ a, (k0_off199 v3005) a + S8x128.size a ≤ S7688x256.size a) ∧
  (∀ (k0_h1 : k0_cond1 arg0 v1 = 1#1), ∀ a, (k0_off200 v3005) a + S8x128.size a ≤ S7688x256.size a)
theorem k0_mult100_dvd : ∀ (arg0 : BitVec 32) (v1 : BitVec 32) (v3005 : BitVec 32) (k0_hw100 : k0_chk100 arg0 v1 v3005), ∀ (k0_h1 : k0_cond1 arg0 v1 = 1#1), 8 ∣ (k0_mult100 v3005).toNat := fun arg0 v1 v3005 k0_hw100 k0_h1 => k0_hw100.1 k0_h1
theorem k0_off199_inb : ∀ (arg0 : BitVec 32) (v1 : BitVec 32) (v3005 : BitVec 32) (k0_hw100 : k0_chk100 arg0 v1 v3005), ∀ (k0_h1 : k0_cond1 arg0 v1 = 1#1), ∀ a, (k0_off199 v3005) a + S8x128.size a ≤ S7688x256.size a := fun arg0 v1 v3005 k0_hw100 k0_h1 => k0_hw100.2.1 k0_h1
theorem k0_off200_inb : ∀ (arg0 : BitVec 32) (v1 : BitVec 32) (v3005 : BitVec 32) (k0_hw100 : k0_chk100 arg0 v1 v3005), ∀ (k0_h1 : k0_cond1 arg0 v1 = 1#1), ∀ a, (k0_off200 v3005) a + S8x128.size a ≤ S7688x256.size a := fun arg0 v1 v3005 k0_hw100 k0_h1 => k0_hw100.2.2 k0_h1

def k0_mult101 (v3035 : BitVec 32) : BitVec 32 :=
  let c1_i32_720 : BitVec 32 := 1#32
  let v3055 : BitVec 32 := Scalar.shrsi v3035 c1_i32_720
  v3055

def k0_off201 (v3035 : BitVec 32) : Fin 2 → Nat :=
  let c1_i32_720 : BitVec 32 := 1#32
  let v3055 : BitVec 32 := Scalar.shrsi v3035 c1_i32_720
  let v3056 : BitVec 32 := v3055
  let v3057 : Index := Scalar.indexCast v3056
  let c0_721 : Index := 0#32
  ![v3057.toNat, 0]
def k0_off202 (v3035 : BitVec 32) : Fin 2 → Nat :=
  let c1_i32_720 : BitVec 32 := 1#32
  let v3055 : BitVec 32 := Scalar.shrsi v3035 c1_i32_720
  let v3056 : BitVec 32 := v3055
  let v3061 : Index := Scalar.indexCast v3056
  let c128_722 : Index := 128#32
  ![v3061.toNat, 128]

def k0_chk101 (arg0 : BitVec 32) (v1 : BitVec 32) (v3035 : BitVec 32) : Prop :=
  (∀ (k0_h1 : k0_cond1 arg0 v1 = 1#1), 8 ∣ (k0_mult101 v3035).toNat) ∧
  (∀ (k0_h1 : k0_cond1 arg0 v1 = 1#1), ∀ a, (k0_off201 v3035) a + S8x128.size a ≤ S7688x256.size a) ∧
  (∀ (k0_h1 : k0_cond1 arg0 v1 = 1#1), ∀ a, (k0_off202 v3035) a + S8x128.size a ≤ S7688x256.size a)
theorem k0_mult101_dvd : ∀ (arg0 : BitVec 32) (v1 : BitVec 32) (v3035 : BitVec 32) (k0_hw101 : k0_chk101 arg0 v1 v3035), ∀ (k0_h1 : k0_cond1 arg0 v1 = 1#1), 8 ∣ (k0_mult101 v3035).toNat := fun arg0 v1 v3035 k0_hw101 k0_h1 => k0_hw101.1 k0_h1
theorem k0_off201_inb : ∀ (arg0 : BitVec 32) (v1 : BitVec 32) (v3035 : BitVec 32) (k0_hw101 : k0_chk101 arg0 v1 v3035), ∀ (k0_h1 : k0_cond1 arg0 v1 = 1#1), ∀ a, (k0_off201 v3035) a + S8x128.size a ≤ S7688x256.size a := fun arg0 v1 v3035 k0_hw101 k0_h1 => k0_hw101.2.1 k0_h1
theorem k0_off202_inb : ∀ (arg0 : BitVec 32) (v1 : BitVec 32) (v3035 : BitVec 32) (k0_hw101 : k0_chk101 arg0 v1 v3035), ∀ (k0_h1 : k0_cond1 arg0 v1 = 1#1), ∀ a, (k0_off202 v3035) a + S8x128.size a ≤ S7688x256.size a := fun arg0 v1 v3035 k0_hw101 k0_h1 => k0_hw101.2.2 k0_h1

def k0_mult102 (v3065 : BitVec 32) : BitVec 32 :=
  let c1_i32_727 : BitVec 32 := 1#32
  let v3085 : BitVec 32 := Scalar.shrsi v3065 c1_i32_727
  v3085

def k0_off203 (v3065 : BitVec 32) : Fin 2 → Nat :=
  let c1_i32_727 : BitVec 32 := 1#32
  let v3085 : BitVec 32 := Scalar.shrsi v3065 c1_i32_727
  let v3086 : BitVec 32 := v3085
  let v3087 : Index := Scalar.indexCast v3086
  let c0_728 : Index := 0#32
  ![v3087.toNat, 0]
def k0_off204 (v3065 : BitVec 32) : Fin 2 → Nat :=
  let c1_i32_727 : BitVec 32 := 1#32
  let v3085 : BitVec 32 := Scalar.shrsi v3065 c1_i32_727
  let v3086 : BitVec 32 := v3085
  let v3091 : Index := Scalar.indexCast v3086
  let c128_729 : Index := 128#32
  ![v3091.toNat, 128]

def k0_chk102 (arg0 : BitVec 32) (v1 : BitVec 32) (v3065 : BitVec 32) : Prop :=
  (∀ (k0_h1 : k0_cond1 arg0 v1 = 1#1), 8 ∣ (k0_mult102 v3065).toNat) ∧
  (∀ (k0_h1 : k0_cond1 arg0 v1 = 1#1), ∀ a, (k0_off203 v3065) a + S8x128.size a ≤ S7688x256.size a) ∧
  (∀ (k0_h1 : k0_cond1 arg0 v1 = 1#1), ∀ a, (k0_off204 v3065) a + S8x128.size a ≤ S7688x256.size a)
theorem k0_mult102_dvd : ∀ (arg0 : BitVec 32) (v1 : BitVec 32) (v3065 : BitVec 32) (k0_hw102 : k0_chk102 arg0 v1 v3065), ∀ (k0_h1 : k0_cond1 arg0 v1 = 1#1), 8 ∣ (k0_mult102 v3065).toNat := fun arg0 v1 v3065 k0_hw102 k0_h1 => k0_hw102.1 k0_h1
theorem k0_off203_inb : ∀ (arg0 : BitVec 32) (v1 : BitVec 32) (v3065 : BitVec 32) (k0_hw102 : k0_chk102 arg0 v1 v3065), ∀ (k0_h1 : k0_cond1 arg0 v1 = 1#1), ∀ a, (k0_off203 v3065) a + S8x128.size a ≤ S7688x256.size a := fun arg0 v1 v3065 k0_hw102 k0_h1 => k0_hw102.2.1 k0_h1
theorem k0_off204_inb : ∀ (arg0 : BitVec 32) (v1 : BitVec 32) (v3065 : BitVec 32) (k0_hw102 : k0_chk102 arg0 v1 v3065), ∀ (k0_h1 : k0_cond1 arg0 v1 = 1#1), ∀ a, (k0_off204 v3065) a + S8x128.size a ≤ S7688x256.size a := fun arg0 v1 v3065 k0_hw102 k0_h1 => k0_hw102.2.2 k0_h1

def k0_mult103 (v3095 : BitVec 32) : BitVec 32 :=
  let c1_i32_734 : BitVec 32 := 1#32
  let v3115 : BitVec 32 := Scalar.shrsi v3095 c1_i32_734
  v3115

def k0_off205 (v3095 : BitVec 32) : Fin 2 → Nat :=
  let c1_i32_734 : BitVec 32 := 1#32
  let v3115 : BitVec 32 := Scalar.shrsi v3095 c1_i32_734
  let v3116 : BitVec 32 := v3115
  let v3117 : Index := Scalar.indexCast v3116
  let c0_735 : Index := 0#32
  ![v3117.toNat, 0]
def k0_off206 (v3095 : BitVec 32) : Fin 2 → Nat :=
  let c1_i32_734 : BitVec 32 := 1#32
  let v3115 : BitVec 32 := Scalar.shrsi v3095 c1_i32_734
  let v3116 : BitVec 32 := v3115
  let v3121 : Index := Scalar.indexCast v3116
  let c128_736 : Index := 128#32
  ![v3121.toNat, 128]

def k0_chk103 (arg0 : BitVec 32) (v1 : BitVec 32) (v3095 : BitVec 32) : Prop :=
  (∀ (k0_h1 : k0_cond1 arg0 v1 = 1#1), 8 ∣ (k0_mult103 v3095).toNat) ∧
  (∀ (k0_h1 : k0_cond1 arg0 v1 = 1#1), ∀ a, (k0_off205 v3095) a + S8x128.size a ≤ S7688x256.size a) ∧
  (∀ (k0_h1 : k0_cond1 arg0 v1 = 1#1), ∀ a, (k0_off206 v3095) a + S8x128.size a ≤ S7688x256.size a)
theorem k0_mult103_dvd : ∀ (arg0 : BitVec 32) (v1 : BitVec 32) (v3095 : BitVec 32) (k0_hw103 : k0_chk103 arg0 v1 v3095), ∀ (k0_h1 : k0_cond1 arg0 v1 = 1#1), 8 ∣ (k0_mult103 v3095).toNat := fun arg0 v1 v3095 k0_hw103 k0_h1 => k0_hw103.1 k0_h1
theorem k0_off205_inb : ∀ (arg0 : BitVec 32) (v1 : BitVec 32) (v3095 : BitVec 32) (k0_hw103 : k0_chk103 arg0 v1 v3095), ∀ (k0_h1 : k0_cond1 arg0 v1 = 1#1), ∀ a, (k0_off205 v3095) a + S8x128.size a ≤ S7688x256.size a := fun arg0 v1 v3095 k0_hw103 k0_h1 => k0_hw103.2.1 k0_h1
theorem k0_off206_inb : ∀ (arg0 : BitVec 32) (v1 : BitVec 32) (v3095 : BitVec 32) (k0_hw103 : k0_chk103 arg0 v1 v3095), ∀ (k0_h1 : k0_cond1 arg0 v1 = 1#1), ∀ a, (k0_off206 v3095) a + S8x128.size a ≤ S7688x256.size a := fun arg0 v1 v3095 k0_hw103 k0_h1 => k0_hw103.2.2 k0_h1

def k0_mult104 (v3125 : BitVec 32) : BitVec 32 :=
  let c1_i32_741 : BitVec 32 := 1#32
  let v3145 : BitVec 32 := Scalar.shrsi v3125 c1_i32_741
  v3145

def k0_off207 (v3125 : BitVec 32) : Fin 2 → Nat :=
  let c1_i32_741 : BitVec 32 := 1#32
  let v3145 : BitVec 32 := Scalar.shrsi v3125 c1_i32_741
  let v3146 : BitVec 32 := v3145
  let v3147 : Index := Scalar.indexCast v3146
  let c0_742 : Index := 0#32
  ![v3147.toNat, 0]
def k0_off208 (v3125 : BitVec 32) : Fin 2 → Nat :=
  let c1_i32_741 : BitVec 32 := 1#32
  let v3145 : BitVec 32 := Scalar.shrsi v3125 c1_i32_741
  let v3146 : BitVec 32 := v3145
  let v3151 : Index := Scalar.indexCast v3146
  let c128_743 : Index := 128#32
  ![v3151.toNat, 128]

def k0_chk104 (arg0 : BitVec 32) (v1 : BitVec 32) (v3125 : BitVec 32) : Prop :=
  (∀ (k0_h1 : k0_cond1 arg0 v1 = 1#1), 8 ∣ (k0_mult104 v3125).toNat) ∧
  (∀ (k0_h1 : k0_cond1 arg0 v1 = 1#1), ∀ a, (k0_off207 v3125) a + S8x128.size a ≤ S7688x256.size a) ∧
  (∀ (k0_h1 : k0_cond1 arg0 v1 = 1#1), ∀ a, (k0_off208 v3125) a + S8x128.size a ≤ S7688x256.size a)
theorem k0_mult104_dvd : ∀ (arg0 : BitVec 32) (v1 : BitVec 32) (v3125 : BitVec 32) (k0_hw104 : k0_chk104 arg0 v1 v3125), ∀ (k0_h1 : k0_cond1 arg0 v1 = 1#1), 8 ∣ (k0_mult104 v3125).toNat := fun arg0 v1 v3125 k0_hw104 k0_h1 => k0_hw104.1 k0_h1
theorem k0_off207_inb : ∀ (arg0 : BitVec 32) (v1 : BitVec 32) (v3125 : BitVec 32) (k0_hw104 : k0_chk104 arg0 v1 v3125), ∀ (k0_h1 : k0_cond1 arg0 v1 = 1#1), ∀ a, (k0_off207 v3125) a + S8x128.size a ≤ S7688x256.size a := fun arg0 v1 v3125 k0_hw104 k0_h1 => k0_hw104.2.1 k0_h1
theorem k0_off208_inb : ∀ (arg0 : BitVec 32) (v1 : BitVec 32) (v3125 : BitVec 32) (k0_hw104 : k0_chk104 arg0 v1 v3125), ∀ (k0_h1 : k0_cond1 arg0 v1 = 1#1), ∀ a, (k0_off208 v3125) a + S8x128.size a ≤ S7688x256.size a := fun arg0 v1 v3125 k0_hw104 k0_h1 => k0_hw104.2.2 k0_h1

def k0_mult105 (v3155 : BitVec 32) : BitVec 32 :=
  let c1_i32_748 : BitVec 32 := 1#32
  let v3175 : BitVec 32 := Scalar.shrsi v3155 c1_i32_748
  v3175

def k0_off209 (v3155 : BitVec 32) : Fin 2 → Nat :=
  let c1_i32_748 : BitVec 32 := 1#32
  let v3175 : BitVec 32 := Scalar.shrsi v3155 c1_i32_748
  let v3176 : BitVec 32 := v3175
  let v3177 : Index := Scalar.indexCast v3176
  let c0_749 : Index := 0#32
  ![v3177.toNat, 0]
def k0_off210 (v3155 : BitVec 32) : Fin 2 → Nat :=
  let c1_i32_748 : BitVec 32 := 1#32
  let v3175 : BitVec 32 := Scalar.shrsi v3155 c1_i32_748
  let v3176 : BitVec 32 := v3175
  let v3181 : Index := Scalar.indexCast v3176
  let c128_750 : Index := 128#32
  ![v3181.toNat, 128]

def k0_chk105 (arg0 : BitVec 32) (v1 : BitVec 32) (v3155 : BitVec 32) : Prop :=
  (∀ (k0_h1 : k0_cond1 arg0 v1 = 1#1), 8 ∣ (k0_mult105 v3155).toNat) ∧
  (∀ (k0_h1 : k0_cond1 arg0 v1 = 1#1), ∀ a, (k0_off209 v3155) a + S8x128.size a ≤ S7688x256.size a) ∧
  (∀ (k0_h1 : k0_cond1 arg0 v1 = 1#1), ∀ a, (k0_off210 v3155) a + S8x128.size a ≤ S7688x256.size a)
theorem k0_mult105_dvd : ∀ (arg0 : BitVec 32) (v1 : BitVec 32) (v3155 : BitVec 32) (k0_hw105 : k0_chk105 arg0 v1 v3155), ∀ (k0_h1 : k0_cond1 arg0 v1 = 1#1), 8 ∣ (k0_mult105 v3155).toNat := fun arg0 v1 v3155 k0_hw105 k0_h1 => k0_hw105.1 k0_h1
theorem k0_off209_inb : ∀ (arg0 : BitVec 32) (v1 : BitVec 32) (v3155 : BitVec 32) (k0_hw105 : k0_chk105 arg0 v1 v3155), ∀ (k0_h1 : k0_cond1 arg0 v1 = 1#1), ∀ a, (k0_off209 v3155) a + S8x128.size a ≤ S7688x256.size a := fun arg0 v1 v3155 k0_hw105 k0_h1 => k0_hw105.2.1 k0_h1
theorem k0_off210_inb : ∀ (arg0 : BitVec 32) (v1 : BitVec 32) (v3155 : BitVec 32) (k0_hw105 : k0_chk105 arg0 v1 v3155), ∀ (k0_h1 : k0_cond1 arg0 v1 = 1#1), ∀ a, (k0_off210 v3155) a + S8x128.size a ≤ S7688x256.size a := fun arg0 v1 v3155 k0_hw105 k0_h1 => k0_hw105.2.2 k0_h1

def k0_mult106 (v3185 : BitVec 32) : BitVec 32 :=
  let c1_i32_755 : BitVec 32 := 1#32
  let v3205 : BitVec 32 := Scalar.shrsi v3185 c1_i32_755
  v3205

def k0_off211 (v3185 : BitVec 32) : Fin 2 → Nat :=
  let c1_i32_755 : BitVec 32 := 1#32
  let v3205 : BitVec 32 := Scalar.shrsi v3185 c1_i32_755
  let v3206 : BitVec 32 := v3205
  let v3207 : Index := Scalar.indexCast v3206
  let c0_756 : Index := 0#32
  ![v3207.toNat, 0]
def k0_off212 (v3185 : BitVec 32) : Fin 2 → Nat :=
  let c1_i32_755 : BitVec 32 := 1#32
  let v3205 : BitVec 32 := Scalar.shrsi v3185 c1_i32_755
  let v3206 : BitVec 32 := v3205
  let v3211 : Index := Scalar.indexCast v3206
  let c128_757 : Index := 128#32
  ![v3211.toNat, 128]

def k0_chk106 (arg0 : BitVec 32) (v1 : BitVec 32) (v3185 : BitVec 32) : Prop :=
  (∀ (k0_h1 : k0_cond1 arg0 v1 = 1#1), 8 ∣ (k0_mult106 v3185).toNat) ∧
  (∀ (k0_h1 : k0_cond1 arg0 v1 = 1#1), ∀ a, (k0_off211 v3185) a + S8x128.size a ≤ S7688x256.size a) ∧
  (∀ (k0_h1 : k0_cond1 arg0 v1 = 1#1), ∀ a, (k0_off212 v3185) a + S8x128.size a ≤ S7688x256.size a)
theorem k0_mult106_dvd : ∀ (arg0 : BitVec 32) (v1 : BitVec 32) (v3185 : BitVec 32) (k0_hw106 : k0_chk106 arg0 v1 v3185), ∀ (k0_h1 : k0_cond1 arg0 v1 = 1#1), 8 ∣ (k0_mult106 v3185).toNat := fun arg0 v1 v3185 k0_hw106 k0_h1 => k0_hw106.1 k0_h1
theorem k0_off211_inb : ∀ (arg0 : BitVec 32) (v1 : BitVec 32) (v3185 : BitVec 32) (k0_hw106 : k0_chk106 arg0 v1 v3185), ∀ (k0_h1 : k0_cond1 arg0 v1 = 1#1), ∀ a, (k0_off211 v3185) a + S8x128.size a ≤ S7688x256.size a := fun arg0 v1 v3185 k0_hw106 k0_h1 => k0_hw106.2.1 k0_h1
theorem k0_off212_inb : ∀ (arg0 : BitVec 32) (v1 : BitVec 32) (v3185 : BitVec 32) (k0_hw106 : k0_chk106 arg0 v1 v3185), ∀ (k0_h1 : k0_cond1 arg0 v1 = 1#1), ∀ a, (k0_off212 v3185) a + S8x128.size a ≤ S7688x256.size a := fun arg0 v1 v3185 k0_hw106 k0_h1 => k0_hw106.2.2 k0_h1

def k0_mult107 (v3215 : BitVec 32) : BitVec 32 :=
  let c1_i32_762 : BitVec 32 := 1#32
  let v3235 : BitVec 32 := Scalar.shrsi v3215 c1_i32_762
  v3235

def k0_off213 (v3215 : BitVec 32) : Fin 2 → Nat :=
  let c1_i32_762 : BitVec 32 := 1#32
  let v3235 : BitVec 32 := Scalar.shrsi v3215 c1_i32_762
  let v3236 : BitVec 32 := v3235
  let v3237 : Index := Scalar.indexCast v3236
  let c0_763 : Index := 0#32
  ![v3237.toNat, 0]
def k0_off214 (v3215 : BitVec 32) : Fin 2 → Nat :=
  let c1_i32_762 : BitVec 32 := 1#32
  let v3235 : BitVec 32 := Scalar.shrsi v3215 c1_i32_762
  let v3236 : BitVec 32 := v3235
  let v3241 : Index := Scalar.indexCast v3236
  let c128_764 : Index := 128#32
  ![v3241.toNat, 128]

def k0_chk107 (arg0 : BitVec 32) (v1 : BitVec 32) (v3215 : BitVec 32) : Prop :=
  (∀ (k0_h1 : k0_cond1 arg0 v1 = 1#1), 8 ∣ (k0_mult107 v3215).toNat) ∧
  (∀ (k0_h1 : k0_cond1 arg0 v1 = 1#1), ∀ a, (k0_off213 v3215) a + S8x128.size a ≤ S7688x256.size a) ∧
  (∀ (k0_h1 : k0_cond1 arg0 v1 = 1#1), ∀ a, (k0_off214 v3215) a + S8x128.size a ≤ S7688x256.size a)
theorem k0_mult107_dvd : ∀ (arg0 : BitVec 32) (v1 : BitVec 32) (v3215 : BitVec 32) (k0_hw107 : k0_chk107 arg0 v1 v3215), ∀ (k0_h1 : k0_cond1 arg0 v1 = 1#1), 8 ∣ (k0_mult107 v3215).toNat := fun arg0 v1 v3215 k0_hw107 k0_h1 => k0_hw107.1 k0_h1
theorem k0_off213_inb : ∀ (arg0 : BitVec 32) (v1 : BitVec 32) (v3215 : BitVec 32) (k0_hw107 : k0_chk107 arg0 v1 v3215), ∀ (k0_h1 : k0_cond1 arg0 v1 = 1#1), ∀ a, (k0_off213 v3215) a + S8x128.size a ≤ S7688x256.size a := fun arg0 v1 v3215 k0_hw107 k0_h1 => k0_hw107.2.1 k0_h1
theorem k0_off214_inb : ∀ (arg0 : BitVec 32) (v1 : BitVec 32) (v3215 : BitVec 32) (k0_hw107 : k0_chk107 arg0 v1 v3215), ∀ (k0_h1 : k0_cond1 arg0 v1 = 1#1), ∀ a, (k0_off214 v3215) a + S8x128.size a ≤ S7688x256.size a := fun arg0 v1 v3215 k0_hw107 k0_h1 => k0_hw107.2.2 k0_h1

def k0_mult108 (v3245 : BitVec 32) : BitVec 32 :=
  let c1_i32_769 : BitVec 32 := 1#32
  let v3265 : BitVec 32 := Scalar.shrsi v3245 c1_i32_769
  v3265

def k0_off215 (v3245 : BitVec 32) : Fin 2 → Nat :=
  let c1_i32_769 : BitVec 32 := 1#32
  let v3265 : BitVec 32 := Scalar.shrsi v3245 c1_i32_769
  let v3266 : BitVec 32 := v3265
  let v3267 : Index := Scalar.indexCast v3266
  let c0_770 : Index := 0#32
  ![v3267.toNat, 0]
def k0_off216 (v3245 : BitVec 32) : Fin 2 → Nat :=
  let c1_i32_769 : BitVec 32 := 1#32
  let v3265 : BitVec 32 := Scalar.shrsi v3245 c1_i32_769
  let v3266 : BitVec 32 := v3265
  let v3271 : Index := Scalar.indexCast v3266
  let c128_771 : Index := 128#32
  ![v3271.toNat, 128]

def k0_chk108 (arg0 : BitVec 32) (v1 : BitVec 32) (v3245 : BitVec 32) : Prop :=
  (∀ (k0_h1 : k0_cond1 arg0 v1 = 1#1), 8 ∣ (k0_mult108 v3245).toNat) ∧
  (∀ (k0_h1 : k0_cond1 arg0 v1 = 1#1), ∀ a, (k0_off215 v3245) a + S8x128.size a ≤ S7688x256.size a) ∧
  (∀ (k0_h1 : k0_cond1 arg0 v1 = 1#1), ∀ a, (k0_off216 v3245) a + S8x128.size a ≤ S7688x256.size a)
theorem k0_mult108_dvd : ∀ (arg0 : BitVec 32) (v1 : BitVec 32) (v3245 : BitVec 32) (k0_hw108 : k0_chk108 arg0 v1 v3245), ∀ (k0_h1 : k0_cond1 arg0 v1 = 1#1), 8 ∣ (k0_mult108 v3245).toNat := fun arg0 v1 v3245 k0_hw108 k0_h1 => k0_hw108.1 k0_h1
theorem k0_off215_inb : ∀ (arg0 : BitVec 32) (v1 : BitVec 32) (v3245 : BitVec 32) (k0_hw108 : k0_chk108 arg0 v1 v3245), ∀ (k0_h1 : k0_cond1 arg0 v1 = 1#1), ∀ a, (k0_off215 v3245) a + S8x128.size a ≤ S7688x256.size a := fun arg0 v1 v3245 k0_hw108 k0_h1 => k0_hw108.2.1 k0_h1
theorem k0_off216_inb : ∀ (arg0 : BitVec 32) (v1 : BitVec 32) (v3245 : BitVec 32) (k0_hw108 : k0_chk108 arg0 v1 v3245), ∀ (k0_h1 : k0_cond1 arg0 v1 = 1#1), ∀ a, (k0_off216 v3245) a + S8x128.size a ≤ S7688x256.size a := fun arg0 v1 v3245 k0_hw108 k0_h1 => k0_hw108.2.2 k0_h1

def k0_mult109 (v3275 : BitVec 32) : BitVec 32 :=
  let c1_i32_776 : BitVec 32 := 1#32
  let v3295 : BitVec 32 := Scalar.shrsi v3275 c1_i32_776
  v3295

def k0_off217 (v3275 : BitVec 32) : Fin 2 → Nat :=
  let c1_i32_776 : BitVec 32 := 1#32
  let v3295 : BitVec 32 := Scalar.shrsi v3275 c1_i32_776
  let v3296 : BitVec 32 := v3295
  let v3297 : Index := Scalar.indexCast v3296
  let c0_777 : Index := 0#32
  ![v3297.toNat, 0]
def k0_off218 (v3275 : BitVec 32) : Fin 2 → Nat :=
  let c1_i32_776 : BitVec 32 := 1#32
  let v3295 : BitVec 32 := Scalar.shrsi v3275 c1_i32_776
  let v3296 : BitVec 32 := v3295
  let v3301 : Index := Scalar.indexCast v3296
  let c128_778 : Index := 128#32
  ![v3301.toNat, 128]

def k0_chk109 (arg0 : BitVec 32) (v1 : BitVec 32) (v3275 : BitVec 32) : Prop :=
  (∀ (k0_h1 : k0_cond1 arg0 v1 = 1#1), 8 ∣ (k0_mult109 v3275).toNat) ∧
  (∀ (k0_h1 : k0_cond1 arg0 v1 = 1#1), ∀ a, (k0_off217 v3275) a + S8x128.size a ≤ S7688x256.size a) ∧
  (∀ (k0_h1 : k0_cond1 arg0 v1 = 1#1), ∀ a, (k0_off218 v3275) a + S8x128.size a ≤ S7688x256.size a)
theorem k0_mult109_dvd : ∀ (arg0 : BitVec 32) (v1 : BitVec 32) (v3275 : BitVec 32) (k0_hw109 : k0_chk109 arg0 v1 v3275), ∀ (k0_h1 : k0_cond1 arg0 v1 = 1#1), 8 ∣ (k0_mult109 v3275).toNat := fun arg0 v1 v3275 k0_hw109 k0_h1 => k0_hw109.1 k0_h1
theorem k0_off217_inb : ∀ (arg0 : BitVec 32) (v1 : BitVec 32) (v3275 : BitVec 32) (k0_hw109 : k0_chk109 arg0 v1 v3275), ∀ (k0_h1 : k0_cond1 arg0 v1 = 1#1), ∀ a, (k0_off217 v3275) a + S8x128.size a ≤ S7688x256.size a := fun arg0 v1 v3275 k0_hw109 k0_h1 => k0_hw109.2.1 k0_h1
theorem k0_off218_inb : ∀ (arg0 : BitVec 32) (v1 : BitVec 32) (v3275 : BitVec 32) (k0_hw109 : k0_chk109 arg0 v1 v3275), ∀ (k0_h1 : k0_cond1 arg0 v1 = 1#1), ∀ a, (k0_off218 v3275) a + S8x128.size a ≤ S7688x256.size a := fun arg0 v1 v3275 k0_hw109 k0_h1 => k0_hw109.2.2 k0_h1

def k0_mult110 (v3305 : BitVec 32) : BitVec 32 :=
  let c1_i32_783 : BitVec 32 := 1#32
  let v3325 : BitVec 32 := Scalar.shrsi v3305 c1_i32_783
  v3325

def k0_off219 (v3305 : BitVec 32) : Fin 2 → Nat :=
  let c1_i32_783 : BitVec 32 := 1#32
  let v3325 : BitVec 32 := Scalar.shrsi v3305 c1_i32_783
  let v3326 : BitVec 32 := v3325
  let v3327 : Index := Scalar.indexCast v3326
  let c0_784 : Index := 0#32
  ![v3327.toNat, 0]
def k0_off220 (v3305 : BitVec 32) : Fin 2 → Nat :=
  let c1_i32_783 : BitVec 32 := 1#32
  let v3325 : BitVec 32 := Scalar.shrsi v3305 c1_i32_783
  let v3326 : BitVec 32 := v3325
  let v3331 : Index := Scalar.indexCast v3326
  let c128_785 : Index := 128#32
  ![v3331.toNat, 128]

def k0_chk110 (arg0 : BitVec 32) (v1 : BitVec 32) (v3305 : BitVec 32) : Prop :=
  (∀ (k0_h1 : k0_cond1 arg0 v1 = 1#1), 8 ∣ (k0_mult110 v3305).toNat) ∧
  (∀ (k0_h1 : k0_cond1 arg0 v1 = 1#1), ∀ a, (k0_off219 v3305) a + S8x128.size a ≤ S7688x256.size a) ∧
  (∀ (k0_h1 : k0_cond1 arg0 v1 = 1#1), ∀ a, (k0_off220 v3305) a + S8x128.size a ≤ S7688x256.size a)
theorem k0_mult110_dvd : ∀ (arg0 : BitVec 32) (v1 : BitVec 32) (v3305 : BitVec 32) (k0_hw110 : k0_chk110 arg0 v1 v3305), ∀ (k0_h1 : k0_cond1 arg0 v1 = 1#1), 8 ∣ (k0_mult110 v3305).toNat := fun arg0 v1 v3305 k0_hw110 k0_h1 => k0_hw110.1 k0_h1
theorem k0_off219_inb : ∀ (arg0 : BitVec 32) (v1 : BitVec 32) (v3305 : BitVec 32) (k0_hw110 : k0_chk110 arg0 v1 v3305), ∀ (k0_h1 : k0_cond1 arg0 v1 = 1#1), ∀ a, (k0_off219 v3305) a + S8x128.size a ≤ S7688x256.size a := fun arg0 v1 v3305 k0_hw110 k0_h1 => k0_hw110.2.1 k0_h1
theorem k0_off220_inb : ∀ (arg0 : BitVec 32) (v1 : BitVec 32) (v3305 : BitVec 32) (k0_hw110 : k0_chk110 arg0 v1 v3305), ∀ (k0_h1 : k0_cond1 arg0 v1 = 1#1), ∀ a, (k0_off220 v3305) a + S8x128.size a ≤ S7688x256.size a := fun arg0 v1 v3305 k0_hw110 k0_h1 => k0_hw110.2.2 k0_h1

def k0_mult111 (v3335 : BitVec 32) : BitVec 32 :=
  let c1_i32_790 : BitVec 32 := 1#32
  let v3355 : BitVec 32 := Scalar.shrsi v3335 c1_i32_790
  v3355

def k0_off221 (v3335 : BitVec 32) : Fin 2 → Nat :=
  let c1_i32_790 : BitVec 32 := 1#32
  let v3355 : BitVec 32 := Scalar.shrsi v3335 c1_i32_790
  let v3356 : BitVec 32 := v3355
  let v3357 : Index := Scalar.indexCast v3356
  let c0_791 : Index := 0#32
  ![v3357.toNat, 0]
def k0_off222 (v3335 : BitVec 32) : Fin 2 → Nat :=
  let c1_i32_790 : BitVec 32 := 1#32
  let v3355 : BitVec 32 := Scalar.shrsi v3335 c1_i32_790
  let v3356 : BitVec 32 := v3355
  let v3361 : Index := Scalar.indexCast v3356
  let c128_792 : Index := 128#32
  ![v3361.toNat, 128]

def k0_chk111 (arg0 : BitVec 32) (v1 : BitVec 32) (v3335 : BitVec 32) : Prop :=
  (∀ (k0_h1 : k0_cond1 arg0 v1 = 1#1), 8 ∣ (k0_mult111 v3335).toNat) ∧
  (∀ (k0_h1 : k0_cond1 arg0 v1 = 1#1), ∀ a, (k0_off221 v3335) a + S8x128.size a ≤ S7688x256.size a) ∧
  (∀ (k0_h1 : k0_cond1 arg0 v1 = 1#1), ∀ a, (k0_off222 v3335) a + S8x128.size a ≤ S7688x256.size a)
theorem k0_mult111_dvd : ∀ (arg0 : BitVec 32) (v1 : BitVec 32) (v3335 : BitVec 32) (k0_hw111 : k0_chk111 arg0 v1 v3335), ∀ (k0_h1 : k0_cond1 arg0 v1 = 1#1), 8 ∣ (k0_mult111 v3335).toNat := fun arg0 v1 v3335 k0_hw111 k0_h1 => k0_hw111.1 k0_h1
theorem k0_off221_inb : ∀ (arg0 : BitVec 32) (v1 : BitVec 32) (v3335 : BitVec 32) (k0_hw111 : k0_chk111 arg0 v1 v3335), ∀ (k0_h1 : k0_cond1 arg0 v1 = 1#1), ∀ a, (k0_off221 v3335) a + S8x128.size a ≤ S7688x256.size a := fun arg0 v1 v3335 k0_hw111 k0_h1 => k0_hw111.2.1 k0_h1
theorem k0_off222_inb : ∀ (arg0 : BitVec 32) (v1 : BitVec 32) (v3335 : BitVec 32) (k0_hw111 : k0_chk111 arg0 v1 v3335), ∀ (k0_h1 : k0_cond1 arg0 v1 = 1#1), ∀ a, (k0_off222 v3335) a + S8x128.size a ≤ S7688x256.size a := fun arg0 v1 v3335 k0_hw111 k0_h1 => k0_hw111.2.2 k0_h1

def k0_mult112 (v3365 : BitVec 32) : BitVec 32 :=
  let c1_i32_797 : BitVec 32 := 1#32
  let v3385 : BitVec 32 := Scalar.shrsi v3365 c1_i32_797
  v3385

def k0_off223 (v3365 : BitVec 32) : Fin 2 → Nat :=
  let c1_i32_797 : BitVec 32 := 1#32
  let v3385 : BitVec 32 := Scalar.shrsi v3365 c1_i32_797
  let v3386 : BitVec 32 := v3385
  let v3387 : Index := Scalar.indexCast v3386
  let c0_798 : Index := 0#32
  ![v3387.toNat, 0]
def k0_off224 (v3365 : BitVec 32) : Fin 2 → Nat :=
  let c1_i32_797 : BitVec 32 := 1#32
  let v3385 : BitVec 32 := Scalar.shrsi v3365 c1_i32_797
  let v3386 : BitVec 32 := v3385
  let v3391 : Index := Scalar.indexCast v3386
  let c128_799 : Index := 128#32
  ![v3391.toNat, 128]

def k0_chk112 (arg0 : BitVec 32) (v1 : BitVec 32) (v3365 : BitVec 32) : Prop :=
  (∀ (k0_h1 : k0_cond1 arg0 v1 = 1#1), 8 ∣ (k0_mult112 v3365).toNat) ∧
  (∀ (k0_h1 : k0_cond1 arg0 v1 = 1#1), ∀ a, (k0_off223 v3365) a + S8x128.size a ≤ S7688x256.size a) ∧
  (∀ (k0_h1 : k0_cond1 arg0 v1 = 1#1), ∀ a, (k0_off224 v3365) a + S8x128.size a ≤ S7688x256.size a)
theorem k0_mult112_dvd : ∀ (arg0 : BitVec 32) (v1 : BitVec 32) (v3365 : BitVec 32) (k0_hw112 : k0_chk112 arg0 v1 v3365), ∀ (k0_h1 : k0_cond1 arg0 v1 = 1#1), 8 ∣ (k0_mult112 v3365).toNat := fun arg0 v1 v3365 k0_hw112 k0_h1 => k0_hw112.1 k0_h1
theorem k0_off223_inb : ∀ (arg0 : BitVec 32) (v1 : BitVec 32) (v3365 : BitVec 32) (k0_hw112 : k0_chk112 arg0 v1 v3365), ∀ (k0_h1 : k0_cond1 arg0 v1 = 1#1), ∀ a, (k0_off223 v3365) a + S8x128.size a ≤ S7688x256.size a := fun arg0 v1 v3365 k0_hw112 k0_h1 => k0_hw112.2.1 k0_h1
theorem k0_off224_inb : ∀ (arg0 : BitVec 32) (v1 : BitVec 32) (v3365 : BitVec 32) (k0_hw112 : k0_chk112 arg0 v1 v3365), ∀ (k0_h1 : k0_cond1 arg0 v1 = 1#1), ∀ a, (k0_off224 v3365) a + S8x128.size a ≤ S7688x256.size a := fun arg0 v1 v3365 k0_hw112 k0_h1 => k0_hw112.2.2 k0_h1

def k0_mult113 (v3395 : BitVec 32) : BitVec 32 :=
  let c1_i32_804 : BitVec 32 := 1#32
  let v3415 : BitVec 32 := Scalar.shrsi v3395 c1_i32_804
  v3415

def k0_off225 (v3395 : BitVec 32) : Fin 2 → Nat :=
  let c1_i32_804 : BitVec 32 := 1#32
  let v3415 : BitVec 32 := Scalar.shrsi v3395 c1_i32_804
  let v3416 : BitVec 32 := v3415
  let v3417 : Index := Scalar.indexCast v3416
  let c0_805 : Index := 0#32
  ![v3417.toNat, 0]
def k0_off226 (v3395 : BitVec 32) : Fin 2 → Nat :=
  let c1_i32_804 : BitVec 32 := 1#32
  let v3415 : BitVec 32 := Scalar.shrsi v3395 c1_i32_804
  let v3416 : BitVec 32 := v3415
  let v3421 : Index := Scalar.indexCast v3416
  let c128_806 : Index := 128#32
  ![v3421.toNat, 128]

def k0_chk113 (arg0 : BitVec 32) (v1 : BitVec 32) (v3395 : BitVec 32) : Prop :=
  (∀ (k0_h1 : k0_cond1 arg0 v1 = 1#1), 8 ∣ (k0_mult113 v3395).toNat) ∧
  (∀ (k0_h1 : k0_cond1 arg0 v1 = 1#1), ∀ a, (k0_off225 v3395) a + S8x128.size a ≤ S7688x256.size a) ∧
  (∀ (k0_h1 : k0_cond1 arg0 v1 = 1#1), ∀ a, (k0_off226 v3395) a + S8x128.size a ≤ S7688x256.size a)
theorem k0_mult113_dvd : ∀ (arg0 : BitVec 32) (v1 : BitVec 32) (v3395 : BitVec 32) (k0_hw113 : k0_chk113 arg0 v1 v3395), ∀ (k0_h1 : k0_cond1 arg0 v1 = 1#1), 8 ∣ (k0_mult113 v3395).toNat := fun arg0 v1 v3395 k0_hw113 k0_h1 => k0_hw113.1 k0_h1
theorem k0_off225_inb : ∀ (arg0 : BitVec 32) (v1 : BitVec 32) (v3395 : BitVec 32) (k0_hw113 : k0_chk113 arg0 v1 v3395), ∀ (k0_h1 : k0_cond1 arg0 v1 = 1#1), ∀ a, (k0_off225 v3395) a + S8x128.size a ≤ S7688x256.size a := fun arg0 v1 v3395 k0_hw113 k0_h1 => k0_hw113.2.1 k0_h1
theorem k0_off226_inb : ∀ (arg0 : BitVec 32) (v1 : BitVec 32) (v3395 : BitVec 32) (k0_hw113 : k0_chk113 arg0 v1 v3395), ∀ (k0_h1 : k0_cond1 arg0 v1 = 1#1), ∀ a, (k0_off226 v3395) a + S8x128.size a ≤ S7688x256.size a := fun arg0 v1 v3395 k0_hw113 k0_h1 => k0_hw113.2.2 k0_h1

def k0_mult114 (v3425 : BitVec 32) : BitVec 32 :=
  let c1_i32_811 : BitVec 32 := 1#32
  let v3445 : BitVec 32 := Scalar.shrsi v3425 c1_i32_811
  v3445

def k0_off227 (v3425 : BitVec 32) : Fin 2 → Nat :=
  let c1_i32_811 : BitVec 32 := 1#32
  let v3445 : BitVec 32 := Scalar.shrsi v3425 c1_i32_811
  let v3446 : BitVec 32 := v3445
  let v3447 : Index := Scalar.indexCast v3446
  let c0_812 : Index := 0#32
  ![v3447.toNat, 0]
def k0_off228 (v3425 : BitVec 32) : Fin 2 → Nat :=
  let c1_i32_811 : BitVec 32 := 1#32
  let v3445 : BitVec 32 := Scalar.shrsi v3425 c1_i32_811
  let v3446 : BitVec 32 := v3445
  let v3451 : Index := Scalar.indexCast v3446
  let c128_813 : Index := 128#32
  ![v3451.toNat, 128]

def k0_chk114 (arg0 : BitVec 32) (v1 : BitVec 32) (v3425 : BitVec 32) : Prop :=
  (∀ (k0_h1 : k0_cond1 arg0 v1 = 1#1), 8 ∣ (k0_mult114 v3425).toNat) ∧
  (∀ (k0_h1 : k0_cond1 arg0 v1 = 1#1), ∀ a, (k0_off227 v3425) a + S8x128.size a ≤ S7688x256.size a) ∧
  (∀ (k0_h1 : k0_cond1 arg0 v1 = 1#1), ∀ a, (k0_off228 v3425) a + S8x128.size a ≤ S7688x256.size a)
theorem k0_mult114_dvd : ∀ (arg0 : BitVec 32) (v1 : BitVec 32) (v3425 : BitVec 32) (k0_hw114 : k0_chk114 arg0 v1 v3425), ∀ (k0_h1 : k0_cond1 arg0 v1 = 1#1), 8 ∣ (k0_mult114 v3425).toNat := fun arg0 v1 v3425 k0_hw114 k0_h1 => k0_hw114.1 k0_h1
theorem k0_off227_inb : ∀ (arg0 : BitVec 32) (v1 : BitVec 32) (v3425 : BitVec 32) (k0_hw114 : k0_chk114 arg0 v1 v3425), ∀ (k0_h1 : k0_cond1 arg0 v1 = 1#1), ∀ a, (k0_off227 v3425) a + S8x128.size a ≤ S7688x256.size a := fun arg0 v1 v3425 k0_hw114 k0_h1 => k0_hw114.2.1 k0_h1
theorem k0_off228_inb : ∀ (arg0 : BitVec 32) (v1 : BitVec 32) (v3425 : BitVec 32) (k0_hw114 : k0_chk114 arg0 v1 v3425), ∀ (k0_h1 : k0_cond1 arg0 v1 = 1#1), ∀ a, (k0_off228 v3425) a + S8x128.size a ≤ S7688x256.size a := fun arg0 v1 v3425 k0_hw114 k0_h1 => k0_hw114.2.2 k0_h1

def k0_mult115 (v3455 : BitVec 32) : BitVec 32 :=
  let c1_i32_818 : BitVec 32 := 1#32
  let v3475 : BitVec 32 := Scalar.shrsi v3455 c1_i32_818
  v3475

def k0_off229 (v3455 : BitVec 32) : Fin 2 → Nat :=
  let c1_i32_818 : BitVec 32 := 1#32
  let v3475 : BitVec 32 := Scalar.shrsi v3455 c1_i32_818
  let v3476 : BitVec 32 := v3475
  let v3477 : Index := Scalar.indexCast v3476
  let c0_819 : Index := 0#32
  ![v3477.toNat, 0]
def k0_off230 (v3455 : BitVec 32) : Fin 2 → Nat :=
  let c1_i32_818 : BitVec 32 := 1#32
  let v3475 : BitVec 32 := Scalar.shrsi v3455 c1_i32_818
  let v3476 : BitVec 32 := v3475
  let v3481 : Index := Scalar.indexCast v3476
  let c128_820 : Index := 128#32
  ![v3481.toNat, 128]

def k0_chk115 (arg0 : BitVec 32) (v1 : BitVec 32) (v3455 : BitVec 32) : Prop :=
  (∀ (k0_h1 : k0_cond1 arg0 v1 = 1#1), 8 ∣ (k0_mult115 v3455).toNat) ∧
  (∀ (k0_h1 : k0_cond1 arg0 v1 = 1#1), ∀ a, (k0_off229 v3455) a + S8x128.size a ≤ S7688x256.size a) ∧
  (∀ (k0_h1 : k0_cond1 arg0 v1 = 1#1), ∀ a, (k0_off230 v3455) a + S8x128.size a ≤ S7688x256.size a)
theorem k0_mult115_dvd : ∀ (arg0 : BitVec 32) (v1 : BitVec 32) (v3455 : BitVec 32) (k0_hw115 : k0_chk115 arg0 v1 v3455), ∀ (k0_h1 : k0_cond1 arg0 v1 = 1#1), 8 ∣ (k0_mult115 v3455).toNat := fun arg0 v1 v3455 k0_hw115 k0_h1 => k0_hw115.1 k0_h1
theorem k0_off229_inb : ∀ (arg0 : BitVec 32) (v1 : BitVec 32) (v3455 : BitVec 32) (k0_hw115 : k0_chk115 arg0 v1 v3455), ∀ (k0_h1 : k0_cond1 arg0 v1 = 1#1), ∀ a, (k0_off229 v3455) a + S8x128.size a ≤ S7688x256.size a := fun arg0 v1 v3455 k0_hw115 k0_h1 => k0_hw115.2.1 k0_h1
theorem k0_off230_inb : ∀ (arg0 : BitVec 32) (v1 : BitVec 32) (v3455 : BitVec 32) (k0_hw115 : k0_chk115 arg0 v1 v3455), ∀ (k0_h1 : k0_cond1 arg0 v1 = 1#1), ∀ a, (k0_off230 v3455) a + S8x128.size a ≤ S7688x256.size a := fun arg0 v1 v3455 k0_hw115 k0_h1 => k0_hw115.2.2 k0_h1

def k0_mult116 (v3485 : BitVec 32) : BitVec 32 :=
  let c1_i32_825 : BitVec 32 := 1#32
  let v3505 : BitVec 32 := Scalar.shrsi v3485 c1_i32_825
  v3505

def k0_off231 (v3485 : BitVec 32) : Fin 2 → Nat :=
  let c1_i32_825 : BitVec 32 := 1#32
  let v3505 : BitVec 32 := Scalar.shrsi v3485 c1_i32_825
  let v3506 : BitVec 32 := v3505
  let v3507 : Index := Scalar.indexCast v3506
  let c0_826 : Index := 0#32
  ![v3507.toNat, 0]
def k0_off232 (v3485 : BitVec 32) : Fin 2 → Nat :=
  let c1_i32_825 : BitVec 32 := 1#32
  let v3505 : BitVec 32 := Scalar.shrsi v3485 c1_i32_825
  let v3506 : BitVec 32 := v3505
  let v3511 : Index := Scalar.indexCast v3506
  let c128_827 : Index := 128#32
  ![v3511.toNat, 128]

def k0_chk116 (arg0 : BitVec 32) (v1 : BitVec 32) (v3485 : BitVec 32) : Prop :=
  (∀ (k0_h1 : k0_cond1 arg0 v1 = 1#1), 8 ∣ (k0_mult116 v3485).toNat) ∧
  (∀ (k0_h1 : k0_cond1 arg0 v1 = 1#1), ∀ a, (k0_off231 v3485) a + S8x128.size a ≤ S7688x256.size a) ∧
  (∀ (k0_h1 : k0_cond1 arg0 v1 = 1#1), ∀ a, (k0_off232 v3485) a + S8x128.size a ≤ S7688x256.size a)
theorem k0_mult116_dvd : ∀ (arg0 : BitVec 32) (v1 : BitVec 32) (v3485 : BitVec 32) (k0_hw116 : k0_chk116 arg0 v1 v3485), ∀ (k0_h1 : k0_cond1 arg0 v1 = 1#1), 8 ∣ (k0_mult116 v3485).toNat := fun arg0 v1 v3485 k0_hw116 k0_h1 => k0_hw116.1 k0_h1
theorem k0_off231_inb : ∀ (arg0 : BitVec 32) (v1 : BitVec 32) (v3485 : BitVec 32) (k0_hw116 : k0_chk116 arg0 v1 v3485), ∀ (k0_h1 : k0_cond1 arg0 v1 = 1#1), ∀ a, (k0_off231 v3485) a + S8x128.size a ≤ S7688x256.size a := fun arg0 v1 v3485 k0_hw116 k0_h1 => k0_hw116.2.1 k0_h1
theorem k0_off232_inb : ∀ (arg0 : BitVec 32) (v1 : BitVec 32) (v3485 : BitVec 32) (k0_hw116 : k0_chk116 arg0 v1 v3485), ∀ (k0_h1 : k0_cond1 arg0 v1 = 1#1), ∀ a, (k0_off232 v3485) a + S8x128.size a ≤ S7688x256.size a := fun arg0 v1 v3485 k0_hw116 k0_h1 => k0_hw116.2.2 k0_h1

def k0_mult117 (v3515 : BitVec 32) : BitVec 32 :=
  let c1_i32_832 : BitVec 32 := 1#32
  let v3535 : BitVec 32 := Scalar.shrsi v3515 c1_i32_832
  v3535

def k0_off233 (v3515 : BitVec 32) : Fin 2 → Nat :=
  let c1_i32_832 : BitVec 32 := 1#32
  let v3535 : BitVec 32 := Scalar.shrsi v3515 c1_i32_832
  let v3536 : BitVec 32 := v3535
  let v3537 : Index := Scalar.indexCast v3536
  let c0_833 : Index := 0#32
  ![v3537.toNat, 0]
def k0_off234 (v3515 : BitVec 32) : Fin 2 → Nat :=
  let c1_i32_832 : BitVec 32 := 1#32
  let v3535 : BitVec 32 := Scalar.shrsi v3515 c1_i32_832
  let v3536 : BitVec 32 := v3535
  let v3541 : Index := Scalar.indexCast v3536
  let c128_834 : Index := 128#32
  ![v3541.toNat, 128]

def k0_chk117 (arg0 : BitVec 32) (v1 : BitVec 32) (v3515 : BitVec 32) : Prop :=
  (∀ (k0_h1 : k0_cond1 arg0 v1 = 1#1), 8 ∣ (k0_mult117 v3515).toNat) ∧
  (∀ (k0_h1 : k0_cond1 arg0 v1 = 1#1), ∀ a, (k0_off233 v3515) a + S8x128.size a ≤ S7688x256.size a) ∧
  (∀ (k0_h1 : k0_cond1 arg0 v1 = 1#1), ∀ a, (k0_off234 v3515) a + S8x128.size a ≤ S7688x256.size a)
theorem k0_mult117_dvd : ∀ (arg0 : BitVec 32) (v1 : BitVec 32) (v3515 : BitVec 32) (k0_hw117 : k0_chk117 arg0 v1 v3515), ∀ (k0_h1 : k0_cond1 arg0 v1 = 1#1), 8 ∣ (k0_mult117 v3515).toNat := fun arg0 v1 v3515 k0_hw117 k0_h1 => k0_hw117.1 k0_h1
theorem k0_off233_inb : ∀ (arg0 : BitVec 32) (v1 : BitVec 32) (v3515 : BitVec 32) (k0_hw117 : k0_chk117 arg0 v1 v3515), ∀ (k0_h1 : k0_cond1 arg0 v1 = 1#1), ∀ a, (k0_off233 v3515) a + S8x128.size a ≤ S7688x256.size a := fun arg0 v1 v3515 k0_hw117 k0_h1 => k0_hw117.2.1 k0_h1
theorem k0_off234_inb : ∀ (arg0 : BitVec 32) (v1 : BitVec 32) (v3515 : BitVec 32) (k0_hw117 : k0_chk117 arg0 v1 v3515), ∀ (k0_h1 : k0_cond1 arg0 v1 = 1#1), ∀ a, (k0_off234 v3515) a + S8x128.size a ≤ S7688x256.size a := fun arg0 v1 v3515 k0_hw117 k0_h1 => k0_hw117.2.2 k0_h1

def k0_mult118 (v3545 : BitVec 32) : BitVec 32 :=
  let c1_i32_839 : BitVec 32 := 1#32
  let v3565 : BitVec 32 := Scalar.shrsi v3545 c1_i32_839
  v3565

def k0_off235 (v3545 : BitVec 32) : Fin 2 → Nat :=
  let c1_i32_839 : BitVec 32 := 1#32
  let v3565 : BitVec 32 := Scalar.shrsi v3545 c1_i32_839
  let v3566 : BitVec 32 := v3565
  let v3567 : Index := Scalar.indexCast v3566
  let c0_840 : Index := 0#32
  ![v3567.toNat, 0]
def k0_off236 (v3545 : BitVec 32) : Fin 2 → Nat :=
  let c1_i32_839 : BitVec 32 := 1#32
  let v3565 : BitVec 32 := Scalar.shrsi v3545 c1_i32_839
  let v3566 : BitVec 32 := v3565
  let v3571 : Index := Scalar.indexCast v3566
  let c128_841 : Index := 128#32
  ![v3571.toNat, 128]

def k0_chk118 (arg0 : BitVec 32) (v1 : BitVec 32) (v3545 : BitVec 32) : Prop :=
  (∀ (k0_h1 : k0_cond1 arg0 v1 = 1#1), 8 ∣ (k0_mult118 v3545).toNat) ∧
  (∀ (k0_h1 : k0_cond1 arg0 v1 = 1#1), ∀ a, (k0_off235 v3545) a + S8x128.size a ≤ S7688x256.size a) ∧
  (∀ (k0_h1 : k0_cond1 arg0 v1 = 1#1), ∀ a, (k0_off236 v3545) a + S8x128.size a ≤ S7688x256.size a)
theorem k0_mult118_dvd : ∀ (arg0 : BitVec 32) (v1 : BitVec 32) (v3545 : BitVec 32) (k0_hw118 : k0_chk118 arg0 v1 v3545), ∀ (k0_h1 : k0_cond1 arg0 v1 = 1#1), 8 ∣ (k0_mult118 v3545).toNat := fun arg0 v1 v3545 k0_hw118 k0_h1 => k0_hw118.1 k0_h1
theorem k0_off235_inb : ∀ (arg0 : BitVec 32) (v1 : BitVec 32) (v3545 : BitVec 32) (k0_hw118 : k0_chk118 arg0 v1 v3545), ∀ (k0_h1 : k0_cond1 arg0 v1 = 1#1), ∀ a, (k0_off235 v3545) a + S8x128.size a ≤ S7688x256.size a := fun arg0 v1 v3545 k0_hw118 k0_h1 => k0_hw118.2.1 k0_h1
theorem k0_off236_inb : ∀ (arg0 : BitVec 32) (v1 : BitVec 32) (v3545 : BitVec 32) (k0_hw118 : k0_chk118 arg0 v1 v3545), ∀ (k0_h1 : k0_cond1 arg0 v1 = 1#1), ∀ a, (k0_off236 v3545) a + S8x128.size a ≤ S7688x256.size a := fun arg0 v1 v3545 k0_hw118 k0_h1 => k0_hw118.2.2 k0_h1

def k0_mult119 (v3575 : BitVec 32) : BitVec 32 :=
  let c1_i32_846 : BitVec 32 := 1#32
  let v3595 : BitVec 32 := Scalar.shrsi v3575 c1_i32_846
  v3595

def k0_off237 (v3575 : BitVec 32) : Fin 2 → Nat :=
  let c1_i32_846 : BitVec 32 := 1#32
  let v3595 : BitVec 32 := Scalar.shrsi v3575 c1_i32_846
  let v3596 : BitVec 32 := v3595
  let v3597 : Index := Scalar.indexCast v3596
  let c0_847 : Index := 0#32
  ![v3597.toNat, 0]
def k0_off238 (v3575 : BitVec 32) : Fin 2 → Nat :=
  let c1_i32_846 : BitVec 32 := 1#32
  let v3595 : BitVec 32 := Scalar.shrsi v3575 c1_i32_846
  let v3596 : BitVec 32 := v3595
  let v3601 : Index := Scalar.indexCast v3596
  let c128_848 : Index := 128#32
  ![v3601.toNat, 128]

def k0_chk119 (arg0 : BitVec 32) (v1 : BitVec 32) (v3575 : BitVec 32) : Prop :=
  (∀ (k0_h1 : k0_cond1 arg0 v1 = 1#1), 8 ∣ (k0_mult119 v3575).toNat) ∧
  (∀ (k0_h1 : k0_cond1 arg0 v1 = 1#1), ∀ a, (k0_off237 v3575) a + S8x128.size a ≤ S7688x256.size a) ∧
  (∀ (k0_h1 : k0_cond1 arg0 v1 = 1#1), ∀ a, (k0_off238 v3575) a + S8x128.size a ≤ S7688x256.size a)
theorem k0_mult119_dvd : ∀ (arg0 : BitVec 32) (v1 : BitVec 32) (v3575 : BitVec 32) (k0_hw119 : k0_chk119 arg0 v1 v3575), ∀ (k0_h1 : k0_cond1 arg0 v1 = 1#1), 8 ∣ (k0_mult119 v3575).toNat := fun arg0 v1 v3575 k0_hw119 k0_h1 => k0_hw119.1 k0_h1
theorem k0_off237_inb : ∀ (arg0 : BitVec 32) (v1 : BitVec 32) (v3575 : BitVec 32) (k0_hw119 : k0_chk119 arg0 v1 v3575), ∀ (k0_h1 : k0_cond1 arg0 v1 = 1#1), ∀ a, (k0_off237 v3575) a + S8x128.size a ≤ S7688x256.size a := fun arg0 v1 v3575 k0_hw119 k0_h1 => k0_hw119.2.1 k0_h1
theorem k0_off238_inb : ∀ (arg0 : BitVec 32) (v1 : BitVec 32) (v3575 : BitVec 32) (k0_hw119 : k0_chk119 arg0 v1 v3575), ∀ (k0_h1 : k0_cond1 arg0 v1 = 1#1), ∀ a, (k0_off238 v3575) a + S8x128.size a ≤ S7688x256.size a := fun arg0 v1 v3575 k0_hw119 k0_h1 => k0_hw119.2.2 k0_h1

def k0_mult120 (v3605 : BitVec 32) : BitVec 32 :=
  let c1_i32_853 : BitVec 32 := 1#32
  let v3625 : BitVec 32 := Scalar.shrsi v3605 c1_i32_853
  v3625

def k0_off239 (v3605 : BitVec 32) : Fin 2 → Nat :=
  let c1_i32_853 : BitVec 32 := 1#32
  let v3625 : BitVec 32 := Scalar.shrsi v3605 c1_i32_853
  let v3626 : BitVec 32 := v3625
  let v3627 : Index := Scalar.indexCast v3626
  let c0_854 : Index := 0#32
  ![v3627.toNat, 0]
def k0_off240 (v3605 : BitVec 32) : Fin 2 → Nat :=
  let c1_i32_853 : BitVec 32 := 1#32
  let v3625 : BitVec 32 := Scalar.shrsi v3605 c1_i32_853
  let v3626 : BitVec 32 := v3625
  let v3631 : Index := Scalar.indexCast v3626
  let c128_855 : Index := 128#32
  ![v3631.toNat, 128]

def k0_chk120 (arg0 : BitVec 32) (v1 : BitVec 32) (v3605 : BitVec 32) : Prop :=
  (∀ (k0_h1 : k0_cond1 arg0 v1 = 1#1), 8 ∣ (k0_mult120 v3605).toNat) ∧
  (∀ (k0_h1 : k0_cond1 arg0 v1 = 1#1), ∀ a, (k0_off239 v3605) a + S8x128.size a ≤ S7688x256.size a) ∧
  (∀ (k0_h1 : k0_cond1 arg0 v1 = 1#1), ∀ a, (k0_off240 v3605) a + S8x128.size a ≤ S7688x256.size a)
theorem k0_mult120_dvd : ∀ (arg0 : BitVec 32) (v1 : BitVec 32) (v3605 : BitVec 32) (k0_hw120 : k0_chk120 arg0 v1 v3605), ∀ (k0_h1 : k0_cond1 arg0 v1 = 1#1), 8 ∣ (k0_mult120 v3605).toNat := fun arg0 v1 v3605 k0_hw120 k0_h1 => k0_hw120.1 k0_h1
theorem k0_off239_inb : ∀ (arg0 : BitVec 32) (v1 : BitVec 32) (v3605 : BitVec 32) (k0_hw120 : k0_chk120 arg0 v1 v3605), ∀ (k0_h1 : k0_cond1 arg0 v1 = 1#1), ∀ a, (k0_off239 v3605) a + S8x128.size a ≤ S7688x256.size a := fun arg0 v1 v3605 k0_hw120 k0_h1 => k0_hw120.2.1 k0_h1
theorem k0_off240_inb : ∀ (arg0 : BitVec 32) (v1 : BitVec 32) (v3605 : BitVec 32) (k0_hw120 : k0_chk120 arg0 v1 v3605), ∀ (k0_h1 : k0_cond1 arg0 v1 = 1#1), ∀ a, (k0_off240 v3605) a + S8x128.size a ≤ S7688x256.size a := fun arg0 v1 v3605 k0_hw120 k0_h1 => k0_hw120.2.2 k0_h1

def k0_mult121 (v3635 : BitVec 32) : BitVec 32 :=
  let c1_i32_860 : BitVec 32 := 1#32
  let v3655 : BitVec 32 := Scalar.shrsi v3635 c1_i32_860
  v3655

def k0_off241 (v3635 : BitVec 32) : Fin 2 → Nat :=
  let c1_i32_860 : BitVec 32 := 1#32
  let v3655 : BitVec 32 := Scalar.shrsi v3635 c1_i32_860
  let v3656 : BitVec 32 := v3655
  let v3657 : Index := Scalar.indexCast v3656
  let c0_861 : Index := 0#32
  ![v3657.toNat, 0]
def k0_off242 (v3635 : BitVec 32) : Fin 2 → Nat :=
  let c1_i32_860 : BitVec 32 := 1#32
  let v3655 : BitVec 32 := Scalar.shrsi v3635 c1_i32_860
  let v3656 : BitVec 32 := v3655
  let v3661 : Index := Scalar.indexCast v3656
  let c128_862 : Index := 128#32
  ![v3661.toNat, 128]

def k0_chk121 (arg0 : BitVec 32) (v1 : BitVec 32) (v3635 : BitVec 32) : Prop :=
  (∀ (k0_h1 : k0_cond1 arg0 v1 = 1#1), 8 ∣ (k0_mult121 v3635).toNat) ∧
  (∀ (k0_h1 : k0_cond1 arg0 v1 = 1#1), ∀ a, (k0_off241 v3635) a + S8x128.size a ≤ S7688x256.size a) ∧
  (∀ (k0_h1 : k0_cond1 arg0 v1 = 1#1), ∀ a, (k0_off242 v3635) a + S8x128.size a ≤ S7688x256.size a)
theorem k0_mult121_dvd : ∀ (arg0 : BitVec 32) (v1 : BitVec 32) (v3635 : BitVec 32) (k0_hw121 : k0_chk121 arg0 v1 v3635), ∀ (k0_h1 : k0_cond1 arg0 v1 = 1#1), 8 ∣ (k0_mult121 v3635).toNat := fun arg0 v1 v3635 k0_hw121 k0_h1 => k0_hw121.1 k0_h1
theorem k0_off241_inb : ∀ (arg0 : BitVec 32) (v1 : BitVec 32) (v3635 : BitVec 32) (k0_hw121 : k0_chk121 arg0 v1 v3635), ∀ (k0_h1 : k0_cond1 arg0 v1 = 1#1), ∀ a, (k0_off241 v3635) a + S8x128.size a ≤ S7688x256.size a := fun arg0 v1 v3635 k0_hw121 k0_h1 => k0_hw121.2.1 k0_h1
theorem k0_off242_inb : ∀ (arg0 : BitVec 32) (v1 : BitVec 32) (v3635 : BitVec 32) (k0_hw121 : k0_chk121 arg0 v1 v3635), ∀ (k0_h1 : k0_cond1 arg0 v1 = 1#1), ∀ a, (k0_off242 v3635) a + S8x128.size a ≤ S7688x256.size a := fun arg0 v1 v3635 k0_hw121 k0_h1 => k0_hw121.2.2 k0_h1

def k0_mult122 (v3665 : BitVec 32) : BitVec 32 :=
  let c1_i32_867 : BitVec 32 := 1#32
  let v3685 : BitVec 32 := Scalar.shrsi v3665 c1_i32_867
  v3685

def k0_off243 (v3665 : BitVec 32) : Fin 2 → Nat :=
  let c1_i32_867 : BitVec 32 := 1#32
  let v3685 : BitVec 32 := Scalar.shrsi v3665 c1_i32_867
  let v3686 : BitVec 32 := v3685
  let v3687 : Index := Scalar.indexCast v3686
  let c0_868 : Index := 0#32
  ![v3687.toNat, 0]
def k0_off244 (v3665 : BitVec 32) : Fin 2 → Nat :=
  let c1_i32_867 : BitVec 32 := 1#32
  let v3685 : BitVec 32 := Scalar.shrsi v3665 c1_i32_867
  let v3686 : BitVec 32 := v3685
  let v3691 : Index := Scalar.indexCast v3686
  let c128_869 : Index := 128#32
  ![v3691.toNat, 128]

def k0_chk122 (arg0 : BitVec 32) (v1 : BitVec 32) (v3665 : BitVec 32) : Prop :=
  (∀ (k0_h1 : k0_cond1 arg0 v1 = 1#1), 8 ∣ (k0_mult122 v3665).toNat) ∧
  (∀ (k0_h1 : k0_cond1 arg0 v1 = 1#1), ∀ a, (k0_off243 v3665) a + S8x128.size a ≤ S7688x256.size a) ∧
  (∀ (k0_h1 : k0_cond1 arg0 v1 = 1#1), ∀ a, (k0_off244 v3665) a + S8x128.size a ≤ S7688x256.size a)
theorem k0_mult122_dvd : ∀ (arg0 : BitVec 32) (v1 : BitVec 32) (v3665 : BitVec 32) (k0_hw122 : k0_chk122 arg0 v1 v3665), ∀ (k0_h1 : k0_cond1 arg0 v1 = 1#1), 8 ∣ (k0_mult122 v3665).toNat := fun arg0 v1 v3665 k0_hw122 k0_h1 => k0_hw122.1 k0_h1
theorem k0_off243_inb : ∀ (arg0 : BitVec 32) (v1 : BitVec 32) (v3665 : BitVec 32) (k0_hw122 : k0_chk122 arg0 v1 v3665), ∀ (k0_h1 : k0_cond1 arg0 v1 = 1#1), ∀ a, (k0_off243 v3665) a + S8x128.size a ≤ S7688x256.size a := fun arg0 v1 v3665 k0_hw122 k0_h1 => k0_hw122.2.1 k0_h1
theorem k0_off244_inb : ∀ (arg0 : BitVec 32) (v1 : BitVec 32) (v3665 : BitVec 32) (k0_hw122 : k0_chk122 arg0 v1 v3665), ∀ (k0_h1 : k0_cond1 arg0 v1 = 1#1), ∀ a, (k0_off244 v3665) a + S8x128.size a ≤ S7688x256.size a := fun arg0 v1 v3665 k0_hw122 k0_h1 => k0_hw122.2.2 k0_h1

def k0_mult123 (v3695 : BitVec 32) : BitVec 32 :=
  let c1_i32_874 : BitVec 32 := 1#32
  let v3715 : BitVec 32 := Scalar.shrsi v3695 c1_i32_874
  v3715

def k0_off245 (v3695 : BitVec 32) : Fin 2 → Nat :=
  let c1_i32_874 : BitVec 32 := 1#32
  let v3715 : BitVec 32 := Scalar.shrsi v3695 c1_i32_874
  let v3716 : BitVec 32 := v3715
  let v3717 : Index := Scalar.indexCast v3716
  let c0_875 : Index := 0#32
  ![v3717.toNat, 0]
def k0_off246 (v3695 : BitVec 32) : Fin 2 → Nat :=
  let c1_i32_874 : BitVec 32 := 1#32
  let v3715 : BitVec 32 := Scalar.shrsi v3695 c1_i32_874
  let v3716 : BitVec 32 := v3715
  let v3721 : Index := Scalar.indexCast v3716
  let c128_876 : Index := 128#32
  ![v3721.toNat, 128]

def k0_chk123 (arg0 : BitVec 32) (v1 : BitVec 32) (v3695 : BitVec 32) : Prop :=
  (∀ (k0_h1 : k0_cond1 arg0 v1 = 1#1), 8 ∣ (k0_mult123 v3695).toNat) ∧
  (∀ (k0_h1 : k0_cond1 arg0 v1 = 1#1), ∀ a, (k0_off245 v3695) a + S8x128.size a ≤ S7688x256.size a) ∧
  (∀ (k0_h1 : k0_cond1 arg0 v1 = 1#1), ∀ a, (k0_off246 v3695) a + S8x128.size a ≤ S7688x256.size a)
theorem k0_mult123_dvd : ∀ (arg0 : BitVec 32) (v1 : BitVec 32) (v3695 : BitVec 32) (k0_hw123 : k0_chk123 arg0 v1 v3695), ∀ (k0_h1 : k0_cond1 arg0 v1 = 1#1), 8 ∣ (k0_mult123 v3695).toNat := fun arg0 v1 v3695 k0_hw123 k0_h1 => k0_hw123.1 k0_h1
theorem k0_off245_inb : ∀ (arg0 : BitVec 32) (v1 : BitVec 32) (v3695 : BitVec 32) (k0_hw123 : k0_chk123 arg0 v1 v3695), ∀ (k0_h1 : k0_cond1 arg0 v1 = 1#1), ∀ a, (k0_off245 v3695) a + S8x128.size a ≤ S7688x256.size a := fun arg0 v1 v3695 k0_hw123 k0_h1 => k0_hw123.2.1 k0_h1
theorem k0_off246_inb : ∀ (arg0 : BitVec 32) (v1 : BitVec 32) (v3695 : BitVec 32) (k0_hw123 : k0_chk123 arg0 v1 v3695), ∀ (k0_h1 : k0_cond1 arg0 v1 = 1#1), ∀ a, (k0_off246 v3695) a + S8x128.size a ≤ S7688x256.size a := fun arg0 v1 v3695 k0_hw123 k0_h1 => k0_hw123.2.2 k0_h1

def k0_mult124 (v3725 : BitVec 32) : BitVec 32 :=
  let c1_i32_881 : BitVec 32 := 1#32
  let v3745 : BitVec 32 := Scalar.shrsi v3725 c1_i32_881
  v3745

def k0_off247 (v3725 : BitVec 32) : Fin 2 → Nat :=
  let c1_i32_881 : BitVec 32 := 1#32
  let v3745 : BitVec 32 := Scalar.shrsi v3725 c1_i32_881
  let v3746 : BitVec 32 := v3745
  let v3747 : Index := Scalar.indexCast v3746
  let c0_882 : Index := 0#32
  ![v3747.toNat, 0]
def k0_off248 (v3725 : BitVec 32) : Fin 2 → Nat :=
  let c1_i32_881 : BitVec 32 := 1#32
  let v3745 : BitVec 32 := Scalar.shrsi v3725 c1_i32_881
  let v3746 : BitVec 32 := v3745
  let v3751 : Index := Scalar.indexCast v3746
  let c128_883 : Index := 128#32
  ![v3751.toNat, 128]

def k0_chk124 (arg0 : BitVec 32) (v1 : BitVec 32) (v3725 : BitVec 32) : Prop :=
  (∀ (k0_h1 : k0_cond1 arg0 v1 = 1#1), 8 ∣ (k0_mult124 v3725).toNat) ∧
  (∀ (k0_h1 : k0_cond1 arg0 v1 = 1#1), ∀ a, (k0_off247 v3725) a + S8x128.size a ≤ S7688x256.size a) ∧
  (∀ (k0_h1 : k0_cond1 arg0 v1 = 1#1), ∀ a, (k0_off248 v3725) a + S8x128.size a ≤ S7688x256.size a)
theorem k0_mult124_dvd : ∀ (arg0 : BitVec 32) (v1 : BitVec 32) (v3725 : BitVec 32) (k0_hw124 : k0_chk124 arg0 v1 v3725), ∀ (k0_h1 : k0_cond1 arg0 v1 = 1#1), 8 ∣ (k0_mult124 v3725).toNat := fun arg0 v1 v3725 k0_hw124 k0_h1 => k0_hw124.1 k0_h1
theorem k0_off247_inb : ∀ (arg0 : BitVec 32) (v1 : BitVec 32) (v3725 : BitVec 32) (k0_hw124 : k0_chk124 arg0 v1 v3725), ∀ (k0_h1 : k0_cond1 arg0 v1 = 1#1), ∀ a, (k0_off247 v3725) a + S8x128.size a ≤ S7688x256.size a := fun arg0 v1 v3725 k0_hw124 k0_h1 => k0_hw124.2.1 k0_h1
theorem k0_off248_inb : ∀ (arg0 : BitVec 32) (v1 : BitVec 32) (v3725 : BitVec 32) (k0_hw124 : k0_chk124 arg0 v1 v3725), ∀ (k0_h1 : k0_cond1 arg0 v1 = 1#1), ∀ a, (k0_off248 v3725) a + S8x128.size a ≤ S7688x256.size a := fun arg0 v1 v3725 k0_hw124 k0_h1 => k0_hw124.2.2 k0_h1

def k0_mult125 (v3755 : BitVec 32) : BitVec 32 :=
  let c1_i32_888 : BitVec 32 := 1#32
  let v3775 : BitVec 32 := Scalar.shrsi v3755 c1_i32_888
  v3775

def k0_off249 (v3755 : BitVec 32) : Fin 2 → Nat :=
  let c1_i32_888 : BitVec 32 := 1#32
  let v3775 : BitVec 32 := Scalar.shrsi v3755 c1_i32_888
  let v3776 : BitVec 32 := v3775
  let v3777 : Index := Scalar.indexCast v3776
  let c0_889 : Index := 0#32
  ![v3777.toNat, 0]
def k0_off250 (v3755 : BitVec 32) : Fin 2 → Nat :=
  let c1_i32_888 : BitVec 32 := 1#32
  let v3775 : BitVec 32 := Scalar.shrsi v3755 c1_i32_888
  let v3776 : BitVec 32 := v3775
  let v3781 : Index := Scalar.indexCast v3776
  let c128_890 : Index := 128#32
  ![v3781.toNat, 128]

def k0_chk125 (arg0 : BitVec 32) (v1 : BitVec 32) (v3755 : BitVec 32) : Prop :=
  (∀ (k0_h1 : k0_cond1 arg0 v1 = 1#1), 8 ∣ (k0_mult125 v3755).toNat) ∧
  (∀ (k0_h1 : k0_cond1 arg0 v1 = 1#1), ∀ a, (k0_off249 v3755) a + S8x128.size a ≤ S7688x256.size a) ∧
  (∀ (k0_h1 : k0_cond1 arg0 v1 = 1#1), ∀ a, (k0_off250 v3755) a + S8x128.size a ≤ S7688x256.size a)
theorem k0_mult125_dvd : ∀ (arg0 : BitVec 32) (v1 : BitVec 32) (v3755 : BitVec 32) (k0_hw125 : k0_chk125 arg0 v1 v3755), ∀ (k0_h1 : k0_cond1 arg0 v1 = 1#1), 8 ∣ (k0_mult125 v3755).toNat := fun arg0 v1 v3755 k0_hw125 k0_h1 => k0_hw125.1 k0_h1
theorem k0_off249_inb : ∀ (arg0 : BitVec 32) (v1 : BitVec 32) (v3755 : BitVec 32) (k0_hw125 : k0_chk125 arg0 v1 v3755), ∀ (k0_h1 : k0_cond1 arg0 v1 = 1#1), ∀ a, (k0_off249 v3755) a + S8x128.size a ≤ S7688x256.size a := fun arg0 v1 v3755 k0_hw125 k0_h1 => k0_hw125.2.1 k0_h1
theorem k0_off250_inb : ∀ (arg0 : BitVec 32) (v1 : BitVec 32) (v3755 : BitVec 32) (k0_hw125 : k0_chk125 arg0 v1 v3755), ∀ (k0_h1 : k0_cond1 arg0 v1 = 1#1), ∀ a, (k0_off250 v3755) a + S8x128.size a ≤ S7688x256.size a := fun arg0 v1 v3755 k0_hw125 k0_h1 => k0_hw125.2.2 k0_h1

def k0_mult126 (v3785 : BitVec 32) : BitVec 32 :=
  let c1_i32_895 : BitVec 32 := 1#32
  let v3805 : BitVec 32 := Scalar.shrsi v3785 c1_i32_895
  v3805

def k0_off251 (v3785 : BitVec 32) : Fin 2 → Nat :=
  let c1_i32_895 : BitVec 32 := 1#32
  let v3805 : BitVec 32 := Scalar.shrsi v3785 c1_i32_895
  let v3806 : BitVec 32 := v3805
  let v3807 : Index := Scalar.indexCast v3806
  let c0_896 : Index := 0#32
  ![v3807.toNat, 0]
def k0_off252 (v3785 : BitVec 32) : Fin 2 → Nat :=
  let c1_i32_895 : BitVec 32 := 1#32
  let v3805 : BitVec 32 := Scalar.shrsi v3785 c1_i32_895
  let v3806 : BitVec 32 := v3805
  let v3811 : Index := Scalar.indexCast v3806
  let c128_897 : Index := 128#32
  ![v3811.toNat, 128]

def k0_chk126 (arg0 : BitVec 32) (v1 : BitVec 32) (v3785 : BitVec 32) : Prop :=
  (∀ (k0_h1 : k0_cond1 arg0 v1 = 1#1), 8 ∣ (k0_mult126 v3785).toNat) ∧
  (∀ (k0_h1 : k0_cond1 arg0 v1 = 1#1), ∀ a, (k0_off251 v3785) a + S8x128.size a ≤ S7688x256.size a) ∧
  (∀ (k0_h1 : k0_cond1 arg0 v1 = 1#1), ∀ a, (k0_off252 v3785) a + S8x128.size a ≤ S7688x256.size a)
theorem k0_mult126_dvd : ∀ (arg0 : BitVec 32) (v1 : BitVec 32) (v3785 : BitVec 32) (k0_hw126 : k0_chk126 arg0 v1 v3785), ∀ (k0_h1 : k0_cond1 arg0 v1 = 1#1), 8 ∣ (k0_mult126 v3785).toNat := fun arg0 v1 v3785 k0_hw126 k0_h1 => k0_hw126.1 k0_h1
theorem k0_off251_inb : ∀ (arg0 : BitVec 32) (v1 : BitVec 32) (v3785 : BitVec 32) (k0_hw126 : k0_chk126 arg0 v1 v3785), ∀ (k0_h1 : k0_cond1 arg0 v1 = 1#1), ∀ a, (k0_off251 v3785) a + S8x128.size a ≤ S7688x256.size a := fun arg0 v1 v3785 k0_hw126 k0_h1 => k0_hw126.2.1 k0_h1
theorem k0_off252_inb : ∀ (arg0 : BitVec 32) (v1 : BitVec 32) (v3785 : BitVec 32) (k0_hw126 : k0_chk126 arg0 v1 v3785), ∀ (k0_h1 : k0_cond1 arg0 v1 = 1#1), ∀ a, (k0_off252 v3785) a + S8x128.size a ≤ S7688x256.size a := fun arg0 v1 v3785 k0_hw126 k0_h1 => k0_hw126.2.2 k0_h1

def k0_mult127 (v3815 : BitVec 32) : BitVec 32 :=
  let c1_i32_902 : BitVec 32 := 1#32
  let v3835 : BitVec 32 := Scalar.shrsi v3815 c1_i32_902
  v3835

def k0_off253 (v3815 : BitVec 32) : Fin 2 → Nat :=
  let c1_i32_902 : BitVec 32 := 1#32
  let v3835 : BitVec 32 := Scalar.shrsi v3815 c1_i32_902
  let v3836 : BitVec 32 := v3835
  let v3837 : Index := Scalar.indexCast v3836
  let c0_903 : Index := 0#32
  ![v3837.toNat, 0]
def k0_off254 (v3815 : BitVec 32) : Fin 2 → Nat :=
  let c1_i32_902 : BitVec 32 := 1#32
  let v3835 : BitVec 32 := Scalar.shrsi v3815 c1_i32_902
  let v3836 : BitVec 32 := v3835
  let v3841 : Index := Scalar.indexCast v3836
  let c128_904 : Index := 128#32
  ![v3841.toNat, 128]

def k0_chk127 (arg0 : BitVec 32) (v1 : BitVec 32) (v3815 : BitVec 32) : Prop :=
  (∀ (k0_h1 : k0_cond1 arg0 v1 = 1#1), 8 ∣ (k0_mult127 v3815).toNat) ∧
  (∀ (k0_h1 : k0_cond1 arg0 v1 = 1#1), ∀ a, (k0_off253 v3815) a + S8x128.size a ≤ S7688x256.size a) ∧
  (∀ (k0_h1 : k0_cond1 arg0 v1 = 1#1), ∀ a, (k0_off254 v3815) a + S8x128.size a ≤ S7688x256.size a)
theorem k0_mult127_dvd : ∀ (arg0 : BitVec 32) (v1 : BitVec 32) (v3815 : BitVec 32) (k0_hw127 : k0_chk127 arg0 v1 v3815), ∀ (k0_h1 : k0_cond1 arg0 v1 = 1#1), 8 ∣ (k0_mult127 v3815).toNat := fun arg0 v1 v3815 k0_hw127 k0_h1 => k0_hw127.1 k0_h1
theorem k0_off253_inb : ∀ (arg0 : BitVec 32) (v1 : BitVec 32) (v3815 : BitVec 32) (k0_hw127 : k0_chk127 arg0 v1 v3815), ∀ (k0_h1 : k0_cond1 arg0 v1 = 1#1), ∀ a, (k0_off253 v3815) a + S8x128.size a ≤ S7688x256.size a := fun arg0 v1 v3815 k0_hw127 k0_h1 => k0_hw127.2.1 k0_h1
theorem k0_off254_inb : ∀ (arg0 : BitVec 32) (v1 : BitVec 32) (v3815 : BitVec 32) (k0_hw127 : k0_chk127 arg0 v1 v3815), ∀ (k0_h1 : k0_cond1 arg0 v1 = 1#1), ∀ a, (k0_off254 v3815) a + S8x128.size a ≤ S7688x256.size a := fun arg0 v1 v3815 k0_hw127 k0_h1 => k0_hw127.2.2 k0_h1

def k0_mult128 (v3845 : BitVec 32) : BitVec 32 :=
  let c1_i32_909 : BitVec 32 := 1#32
  let v3865 : BitVec 32 := Scalar.shrsi v3845 c1_i32_909
  v3865

def k0_off255 (v3845 : BitVec 32) : Fin 2 → Nat :=
  let c1_i32_909 : BitVec 32 := 1#32
  let v3865 : BitVec 32 := Scalar.shrsi v3845 c1_i32_909
  let v3866 : BitVec 32 := v3865
  let v3867 : Index := Scalar.indexCast v3866
  let c0_910 : Index := 0#32
  ![v3867.toNat, 0]
def k0_off256 (v3845 : BitVec 32) : Fin 2 → Nat :=
  let c1_i32_909 : BitVec 32 := 1#32
  let v3865 : BitVec 32 := Scalar.shrsi v3845 c1_i32_909
  let v3866 : BitVec 32 := v3865
  let v3871 : Index := Scalar.indexCast v3866
  let c128_911 : Index := 128#32
  ![v3871.toNat, 128]

def k0_chk128 (arg0 : BitVec 32) (v1 : BitVec 32) (v3845 : BitVec 32) : Prop :=
  (∀ (k0_h1 : k0_cond1 arg0 v1 = 1#1), 8 ∣ (k0_mult128 v3845).toNat) ∧
  (∀ (k0_h1 : k0_cond1 arg0 v1 = 1#1), ∀ a, (k0_off255 v3845) a + S8x128.size a ≤ S7688x256.size a) ∧
  (∀ (k0_h1 : k0_cond1 arg0 v1 = 1#1), ∀ a, (k0_off256 v3845) a + S8x128.size a ≤ S7688x256.size a)
theorem k0_mult128_dvd : ∀ (arg0 : BitVec 32) (v1 : BitVec 32) (v3845 : BitVec 32) (k0_hw128 : k0_chk128 arg0 v1 v3845), ∀ (k0_h1 : k0_cond1 arg0 v1 = 1#1), 8 ∣ (k0_mult128 v3845).toNat := fun arg0 v1 v3845 k0_hw128 k0_h1 => k0_hw128.1 k0_h1
theorem k0_off255_inb : ∀ (arg0 : BitVec 32) (v1 : BitVec 32) (v3845 : BitVec 32) (k0_hw128 : k0_chk128 arg0 v1 v3845), ∀ (k0_h1 : k0_cond1 arg0 v1 = 1#1), ∀ a, (k0_off255 v3845) a + S8x128.size a ≤ S7688x256.size a := fun arg0 v1 v3845 k0_hw128 k0_h1 => k0_hw128.2.1 k0_h1
theorem k0_off256_inb : ∀ (arg0 : BitVec 32) (v1 : BitVec 32) (v3845 : BitVec 32) (k0_hw128 : k0_chk128 arg0 v1 v3845), ∀ (k0_h1 : k0_cond1 arg0 v1 = 1#1), ∀ a, (k0_off256 v3845) a + S8x128.size a ≤ S7688x256.size a := fun arg0 v1 v3845 k0_hw128 k0_h1 => k0_hw128.2.2 k0_h1

@[reducible] def k0_t1_loop : Scf.Loop 32 :=
  let c0_i32_10 : BitVec 32 := 0#32
  let c128_i32_11 : BitVec 32 := 128#32
  let v34 : BitVec 32 := Scalar.addi c0_i32_10 c128_i32_11
  let c1_i32_12 : BitVec 32 := 1#32
  ⟨c0_i32_10, v34, c1_i32_12⟩
def k0_off257 (k0_t1 : Fin k0_t1_loop.trips) : Fin 1 → Nat :=
  let c0_i32_10 : BitVec 32 := 0#32
  let c1_i32_12 : BitVec 32 := 1#32
  let arg13 : BitVec 32 := Scf.iv c0_i32_10 c1_i32_12 k0_t1
  let v35 : Index := Scalar.indexCast arg13
  ![v35.toNat]
def k0_mult129 (k0_t1 : Fin k0_t1_loop.trips) : BitVec 32 :=
  let c8_i32 : BitVec 32 := 8#32
  let c0_i32_10 : BitVec 32 := 0#32
  let c1_i32_12 : BitVec 32 := 1#32
  let arg13 : BitVec 32 := Scf.iv c0_i32_10 c1_i32_12 k0_t1
  let v37 : BitVec 32 := Scalar.muli c8_i32 arg13
  v37
def k0_off258 (k0_t1 : Fin k0_t1_loop.trips) : Fin 2 → Nat :=
  let c8_i32 : BitVec 32 := 8#32
  let c0_i32_10 : BitVec 32 := 0#32
  let c1_i32_12 : BitVec 32 := 1#32
  let arg13 : BitVec 32 := Scf.iv c0_i32_10 c1_i32_12 k0_t1
  let v37 : BitVec 32 := Scalar.muli c8_i32 arg13
  let v38 : BitVec 32 := v37
  let v39 : Index := Scalar.indexCast v38
  let c0_14 : Index := 0#32
  ![v39.toNat, 0]
def k0_mult130 (v36 : BitVec 32) : BitVec 32 :=
  let c1_i32_18 : BitVec 32 := 1#32
  let v61 : BitVec 32 := Scalar.shrsi v36 c1_i32_18
  v61
def k0_cond2 (arg0 : BitVec 32) (v0 : BitVec 32) (v1 : BitVec 32) : BitVec 1 :=
  let c1_i32_0 : BitVec 32 := 1#32
  let v8 : BitVec 32 := Scalar.addi arg0 c1_i32_0
  let c128_i32_1 : BitVec 32 := 128#32
  let v9 : BitVec 32 := Scalar.muli v8 c128_i32_1
  let v10 : BitVec 1 := Scalar.cmpi .sgt v9 v1
  let v11 : BitVec 1 := Scalar.cmpi .slt arg0 v0
  let v12 : BitVec 1 := Scalar.andi v10 v11
  let v13 : BitVec 32 := Scalar.extui v12
  let c0_i32_2 : BitVec 32 := 0#32
  let v14 : BitVec 1 := Scalar.cmpi .ne v13 c0_i32_2
  v14

def k0_cond3 (arg0 : BitVec 32) (v1 : BitVec 32) (k0_t1 : Fin k0_t1_loop.trips) : BitVec 1 :=
  let c128_i32_15 : BitVec 32 := 128#32
  let v51 : BitVec 32 := Scalar.muli arg0 c128_i32_15
  let c0_i32_10 : BitVec 32 := 0#32
  let c1_i32_12 : BitVec 32 := 1#32
  let arg13 : BitVec 32 := Scf.iv c0_i32_10 c1_i32_12 k0_t1
  let v52 : BitVec 32 := Scalar.addi v51 arg13
  let v53 : BitVec 1 := Scalar.cmpi .slt v52 v1
  let v54 : BitVec 32 := Scalar.extui v53
  let c0_i32_16 : BitVec 32 := 0#32
  let v55 : BitVec 1 := Scalar.cmpi .ne v54 c0_i32_16
  v55

def k0_off259 (v36 : BitVec 32) : Fin 2 → Nat :=
  let c1_i32_18 : BitVec 32 := 1#32
  let v61 : BitVec 32 := Scalar.shrsi v36 c1_i32_18
  let v62 : BitVec 32 := v61
  let v75 : Index := Scalar.indexCast v62
  let c0_29 : Index := 0#32
  ![v75.toNat, 0]
def k0_off260 (v36 : BitVec 32) : Fin 2 → Nat :=
  let c1_i32_18 : BitVec 32 := 1#32
  let v61 : BitVec 32 := Scalar.shrsi v36 c1_i32_18
  let v62 : BitVec 32 := v61
  let v79 : Index := Scalar.indexCast v62
  let c128 : Index := 128#32
  ![v79.toNat, 128]
def k0_off261 (v36 : BitVec 32) : Fin 2 → Nat :=
  let c1_i32_18 : BitVec 32 := 1#32
  let v61 : BitVec 32 := Scalar.shrsi v36 c1_i32_18
  let v63 : Index := Scalar.indexCast v61
  let c0_19 : Index := 0#32
  ![v63.toNat, 0]
def k0_cond4 (arg0 : BitVec 32) (v1 : BitVec 32) (v2 : BitVec 32) (k0_t1 : Fin k0_t1_loop.trips) : BitVec 1 :=
  let c128_i32_15 : BitVec 32 := 128#32
  let v51 : BitVec 32 := Scalar.muli arg0 c128_i32_15
  let c0_i32_10 : BitVec 32 := 0#32
  let c1_i32_12 : BitVec 32 := 1#32
  let arg13 : BitVec 32 := Scf.iv c0_i32_10 c1_i32_12 k0_t1
  let v52 : BitVec 32 := Scalar.addi v51 arg13
  let v56 : BitVec 1 := Scalar.cmpi .sge v52 v1
  let v57 : BitVec 1 := Scalar.cmpi .slt v52 v2
  let v58 : BitVec 1 := Scalar.andi v56 v57
  let v59 : BitVec 32 := Scalar.extui v58
  let c0_i32_17 : BitVec 32 := 0#32
  let v60 : BitVec 1 := Scalar.cmpi .ne v59 c0_i32_17
  v60

def k0_chk129 (arg0 : BitVec 32) (v0 : BitVec 32) (v1 : BitVec 32) (v2 : BitVec 32) (k0_t1 : Fin k0_t1_loop.trips) (v36 : BitVec 32) : Prop :=
  (∀ (k0_h2 : k0_cond2 arg0 v0 v1 = 1#1), ∀ (k0_h3 : k0_cond3 arg0 v1 k0_t1 = 1#1), 8 ∣ (k0_mult130 v36).toNat) ∧
  (∀ (k0_h2 : k0_cond2 arg0 v0 v1 = 1#1), ∀ (k0_h3 : k0_cond3 arg0 v1 k0_t1 = 1#1), ∀ a, (k0_off259 v36) a + S8x128.size a ≤ S7688x256.size a) ∧
  (∀ (k0_h2 : k0_cond2 arg0 v0 v1 = 1#1), ∀ (k0_h3 : k0_cond3 arg0 v1 k0_t1 = 1#1), ∀ a, (k0_off260 v36) a + S8x128.size a ≤ S7688x256.size a) ∧
  (∀ (k0_h2 : k0_cond2 arg0 v0 v1 = 1#1), ∀ (k0_h4 : k0_cond4 arg0 v1 v2 k0_t1 = 1#1), ∀ a, (k0_off261 v36) a + S1x256.size a ≤ S7688x256.size a)
theorem k0_mult130_dvd : ∀ (arg0 : BitVec 32) (v0 : BitVec 32) (v1 : BitVec 32) (v2 : BitVec 32) (k0_t1 : Fin k0_t1_loop.trips) (v36 : BitVec 32) (k0_hw129 : k0_chk129 arg0 v0 v1 v2 k0_t1 v36), ∀ (k0_h2 : k0_cond2 arg0 v0 v1 = 1#1), ∀ (k0_h3 : k0_cond3 arg0 v1 k0_t1 = 1#1), 8 ∣ (k0_mult130 v36).toNat := fun arg0 v0 v1 v2 k0_t1 v36 k0_hw129 k0_h2 k0_h3 => k0_hw129.1 k0_h2 k0_h3
theorem k0_off259_inb : ∀ (arg0 : BitVec 32) (v0 : BitVec 32) (v1 : BitVec 32) (v2 : BitVec 32) (k0_t1 : Fin k0_t1_loop.trips) (v36 : BitVec 32) (k0_hw129 : k0_chk129 arg0 v0 v1 v2 k0_t1 v36), ∀ (k0_h2 : k0_cond2 arg0 v0 v1 = 1#1), ∀ (k0_h3 : k0_cond3 arg0 v1 k0_t1 = 1#1), ∀ a, (k0_off259 v36) a + S8x128.size a ≤ S7688x256.size a := fun arg0 v0 v1 v2 k0_t1 v36 k0_hw129 k0_h2 k0_h3 => k0_hw129.2.1 k0_h2 k0_h3
theorem k0_off260_inb : ∀ (arg0 : BitVec 32) (v0 : BitVec 32) (v1 : BitVec 32) (v2 : BitVec 32) (k0_t1 : Fin k0_t1_loop.trips) (v36 : BitVec 32) (k0_hw129 : k0_chk129 arg0 v0 v1 v2 k0_t1 v36), ∀ (k0_h2 : k0_cond2 arg0 v0 v1 = 1#1), ∀ (k0_h3 : k0_cond3 arg0 v1 k0_t1 = 1#1), ∀ a, (k0_off260 v36) a + S8x128.size a ≤ S7688x256.size a := fun arg0 v0 v1 v2 k0_t1 v36 k0_hw129 k0_h2 k0_h3 => k0_hw129.2.2.1 k0_h2 k0_h3
theorem k0_off261_inb : ∀ (arg0 : BitVec 32) (v0 : BitVec 32) (v1 : BitVec 32) (v2 : BitVec 32) (k0_t1 : Fin k0_t1_loop.trips) (v36 : BitVec 32) (k0_hw129 : k0_chk129 arg0 v0 v1 v2 k0_t1 v36), ∀ (k0_h2 : k0_cond2 arg0 v0 v1 = 1#1), ∀ (k0_h4 : k0_cond4 arg0 v1 v2 k0_t1 = 1#1), ∀ a, (k0_off261 v36) a + S1x256.size a ≤ S7688x256.size a := fun arg0 v0 v1 v2 k0_t1 v36 k0_hw129 k0_h2 k0_h4 => k0_hw129.2.2.2 k0_h2 k0_h4

def k0_mult131 (arg0 : BitVec 32) (v0 : BitVec 32) : BitVec 32 :=
  let v18 : BitVec 32 := Scalar.subi arg0 v0
  let c4_i32 : BitVec 32 := 4#32
  let v19 : BitVec 32 := Scalar.muli v18 c4_i32
  let c0_i32_4 : BitVec 32 := 0#32
  let v20 : BitVec 32 := Scalar.addi v19 c0_i32_4
  let c128_i32_5 : BitVec 32 := 128#32
  let v21 : BitVec 32 := Scalar.muli v20 c128_i32_5
  v21
def k0_cond5 (arg0 : BitVec 32) (v0 : BitVec 32) : BitVec 1 :=
  let v15 : BitVec 1 := Scalar.cmpi .sge arg0 v0
  let v16 : BitVec 32 := Scalar.extui v15
  let c0_i32_3 : BitVec 32 := 0#32
  let v17 : BitVec 1 := Scalar.cmpi .ne v16 c0_i32_3
  v17

def k0_off262 (arg0 : BitVec 32) (v0 : BitVec 32) (c0_i32_4 : BitVec 32) : Fin 2 → Nat :=
  let v18 : BitVec 32 := Scalar.subi arg0 v0
  let c4_i32 : BitVec 32 := 4#32
  let v19 : BitVec 32 := Scalar.muli v18 c4_i32
  let v20 : BitVec 32 := Scalar.addi v19 c0_i32_4
  let c128_i32_5 : BitVec 32 := 128#32
  let v21 : BitVec 32 := Scalar.muli v20 c128_i32_5
  let v22 : BitVec 32 := v21
  let v23 : Index := Scalar.indexCast v22
  let c0_6 : Index := 0#32
  ![v23.toNat, 0]
def k0_off263 (arg0 : BitVec 32) (v0 : BitVec 32) (c0_i32_4 : BitVec 32) : Fin 2 → Nat :=
  let v18 : BitVec 32 := Scalar.subi arg0 v0
  let c4_i32 : BitVec 32 := 4#32
  let v19 : BitVec 32 := Scalar.muli v18 c4_i32
  let v20 : BitVec 32 := Scalar.addi v19 c0_i32_4
  let c128_i32_5 : BitVec 32 := 128#32
  let v21 : BitVec 32 := Scalar.muli v20 c128_i32_5
  let v22 : BitVec 32 := v21
  let v26 : Index := Scalar.indexCast v22
  let c128 : Index := 128#32
  ![v26.toNat, 128]
def k0_off264 (arg0 : BitVec 32) (v0 : BitVec 32) (c0_i32_4 : BitVec 32) : Fin 2 → Nat :=
  let v18 : BitVec 32 := Scalar.subi arg0 v0
  let c4_i32 : BitVec 32 := 4#32
  let v19 : BitVec 32 := Scalar.muli v18 c4_i32
  let v20 : BitVec 32 := Scalar.addi v19 c0_i32_4
  let v37 : Index := Scalar.indexCast v20
  let c0_8 : Index := 0#32
  ![v37.toNat, 0]
def k0_mult132 (arg0 : BitVec 32) (v0 : BitVec 32) : BitVec 32 :=
  let v18 : BitVec 32 := Scalar.subi arg0 v0
  let c4_i32_16 : BitVec 32 := 4#32
  let v53 : BitVec 32 := Scalar.muli v18 c4_i32_16
  let c1_i32_17 : BitVec 32 := 1#32
  let v54 : BitVec 32 := Scalar.addi v53 c1_i32_17
  let c128_i32_18 : BitVec 32 := 128#32
  let v55 : BitVec 32 := Scalar.muli v54 c128_i32_18
  v55
def k0_mult133 (arg0 : BitVec 32) (v0 : BitVec 32) : BitVec 32 :=
  let v18 : BitVec 32 := Scalar.subi arg0 v0
  let c4_i32_31 : BitVec 32 := 4#32
  let v87 : BitVec 32 := Scalar.muli v18 c4_i32_31
  let c2_i32 : BitVec 32 := 2#32
  let v88 : BitVec 32 := Scalar.addi v87 c2_i32
  let c128_i32_32 : BitVec 32 := 128#32
  let v89 : BitVec 32 := Scalar.muli v88 c128_i32_32
  v89
def k0_mult134 (arg0 : BitVec 32) (v0 : BitVec 32) : BitVec 32 :=
  let v18 : BitVec 32 := Scalar.subi arg0 v0
  let c4_i32_44 : BitVec 32 := 4#32
  let v121 : BitVec 32 := Scalar.muli v18 c4_i32_44
  let c3_i32 : BitVec 32 := 3#32
  let v122 : BitVec 32 := Scalar.addi v121 c3_i32
  let c128_i32_45 : BitVec 32 := 128#32
  let v123 : BitVec 32 := Scalar.muli v122 c128_i32_45
  v123

def k0_chk130 (arg0 : BitVec 32) (v0 : BitVec 32) : Prop :=
  (∀ (k0_h5 : k0_cond5 arg0 v0 = 1#1), 128 ∣ (k0_mult131 arg0 v0).toNat) ∧
  (∀ (k0_h5 : k0_cond5 arg0 v0 = 1#1), ∀ (r : Fin 4), ∀ a, (k0_off262 arg0 v0 (BitVec.ofNat 32 r.val)) a + S128x128.size a ≤ S7688x256.size a) ∧
  (∀ (k0_h5 : k0_cond5 arg0 v0 = 1#1), ∀ (r : Fin 4), ∀ a, (k0_off263 arg0 v0 (BitVec.ofNat 32 r.val)) a + S128x128.size a ≤ S7688x256.size a) ∧
  (∀ (k0_h5 : k0_cond5 arg0 v0 = 1#1), ∀ (r : Fin 4), ∀ a, (k0_off264 arg0 v0 (BitVec.ofNat 32 r.val)) a + S1x128.size a ≤ S60x128.size a) ∧
  (∀ (k0_h5 : k0_cond5 arg0 v0 = 1#1), 128 ∣ (k0_mult132 arg0 v0).toNat) ∧
  (∀ (k0_h5 : k0_cond5 arg0 v0 = 1#1), 128 ∣ (k0_mult133 arg0 v0).toNat) ∧
  (∀ (k0_h5 : k0_cond5 arg0 v0 = 1#1), 128 ∣ (k0_mult134 arg0 v0).toNat)
theorem k0_mult131_dvd : ∀ (arg0 : BitVec 32) (v0 : BitVec 32) (k0_hw130 : k0_chk130 arg0 v0), ∀ (k0_h5 : k0_cond5 arg0 v0 = 1#1), 128 ∣ (k0_mult131 arg0 v0).toNat := fun arg0 v0 k0_hw130 k0_h5 => k0_hw130.1 k0_h5
theorem k0_off262_inb : ∀ (arg0 : BitVec 32) (v0 : BitVec 32) (k0_hw130 : k0_chk130 arg0 v0), ∀ (k0_h5 : k0_cond5 arg0 v0 = 1#1), ∀ (r : Fin 4), ∀ a, (k0_off262 arg0 v0 (BitVec.ofNat 32 r.val)) a + S128x128.size a ≤ S7688x256.size a := fun arg0 v0 k0_hw130 k0_h5 r => k0_hw130.2.1 k0_h5 r
theorem k0_off263_inb : ∀ (arg0 : BitVec 32) (v0 : BitVec 32) (k0_hw130 : k0_chk130 arg0 v0), ∀ (k0_h5 : k0_cond5 arg0 v0 = 1#1), ∀ (r : Fin 4), ∀ a, (k0_off263 arg0 v0 (BitVec.ofNat 32 r.val)) a + S128x128.size a ≤ S7688x256.size a := fun arg0 v0 k0_hw130 k0_h5 r => k0_hw130.2.2.1 k0_h5 r
theorem k0_off264_inb : ∀ (arg0 : BitVec 32) (v0 : BitVec 32) (k0_hw130 : k0_chk130 arg0 v0), ∀ (k0_h5 : k0_cond5 arg0 v0 = 1#1), ∀ (r : Fin 4), ∀ a, (k0_off264 arg0 v0 (BitVec.ofNat 32 r.val)) a + S1x128.size a ≤ S60x128.size a := fun arg0 v0 k0_hw130 k0_h5 r => k0_hw130.2.2.2.1 k0_h5 r
theorem k0_mult132_dvd : ∀ (arg0 : BitVec 32) (v0 : BitVec 32) (k0_hw130 : k0_chk130 arg0 v0), ∀ (k0_h5 : k0_cond5 arg0 v0 = 1#1), 128 ∣ (k0_mult132 arg0 v0).toNat := fun arg0 v0 k0_hw130 k0_h5 => k0_hw130.2.2.2.2.1 k0_h5
theorem k0_mult133_dvd : ∀ (arg0 : BitVec 32) (v0 : BitVec 32) (k0_hw130 : k0_chk130 arg0 v0), ∀ (k0_h5 : k0_cond5 arg0 v0 = 1#1), 128 ∣ (k0_mult133 arg0 v0).toNat := fun arg0 v0 k0_hw130 k0_h5 => k0_hw130.2.2.2.2.2.1 k0_h5
theorem k0_mult134_dvd : ∀ (arg0 : BitVec 32) (v0 : BitVec 32) (k0_hw130 : k0_chk130 arg0 v0), ∀ (k0_h5 : k0_cond5 arg0 v0 = 1#1), 128 ∣ (k0_mult134 arg0 v0).toNat := fun arg0 v0 k0_hw130 k0_h5 => k0_hw130.2.2.2.2.2.2 k0_h5

def cc0_transform_0 (inb_S3_S1_0 : ∀ a, (![0] : Fin 1 → Nat) a + S1.size a ≤ S3.size a) (numel1_S1 : S1.numel = 1) (pf : pre0.Contents (Elt F)) (b : grid0.Bounds) (i : (grid0.at b).Coords) : Fin 2 → Nat :=
  let arg0 : BitVec 32 := BitVec.ofNat 32 (i 0).val
  let c0 : Index := 0#32
  let v0 : BitVec 32 := pf.at 1 (Rect.unit (s := S3) ![0] S1.size inb_S3_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (inb_S3_S1_0 : ∀ a, (![0] : Fin 1 → Nat) a + S1.size a ≤ S3.size a) (numel1_S1 : S1.numel = 1) (pf : pre0.Contents (Elt F)) (b : grid0.Bounds) (i : (grid0.at b).Coords) : Fin 1 → Nat :=
  let arg0 : BitVec 32 := BitVec.ofNat 32 (i 0).val
  let c0 : Index := 0#32
  let v0 : BitVec 32 := pf.at 1 (Rect.unit (s := S3) ![0] S1.size inb_S3_S1_0) numel1_S1
  let c1_i32 : BitVec 32 := 1#32
  let v1 : BitVec 32 := Scalar.subi v0 c1_i32
  let v2 : BitVec 32 := Scalar.minsi arg0 v1
  let c416_i32 : BitVec 32 := 416#32
  let v3 : BitVec 32 := Scalar.addi c416_i32 v2
  let c0_i32 : BitVec 32 := 0#32
  ![v3.toNat]

def cc0_transform_2 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (inb_S3_S1_0 : ∀ a, (![0] : Fin 1 → Nat) a + S1.size a ≤ S3.size a) (numel1_S1 : S1.numel = 1) (pf : pre0.Contents (Elt F)) (b : grid0.Bounds) (i : (grid0.at b).Coords) : Fin 2 → Nat :=
  let arg0 : BitVec 32 := BitVec.ofNat 32 (i 0).val
  let c0 : Index := 0#32
  let v0 : BitVec 32 := pf.at 1 (Rect.unit (s := S3) ![0] S1.size inb_S3_S1_0) numel1_S1
  let v1 : BitVec 32 := Scalar.subi arg0 v0
  let c0_i32 : BitVec 32 := 0#32
  let v2 : BitVec 32 := Scalar.maxsi v1 c0_i32
  let c15_i32 : BitVec 32 := 15#32
  let v3 : BitVec 32 := Scalar.addi c15_i32 v2
  let c0_i32_0 : BitVec 32 := 0#32
  let c0_i32_1 : BitVec 32 := 0#32
  ![c0_i32_0.toNat, v3.toNat]

def cc0_transform_7 (inb_S3_S1_0 : ∀ a, (![0] : Fin 1 → Nat) a + S1.size a ≤ S3.size a) (numel1_S1 : S1.numel = 1) (pf : pre0.Contents (Elt F)) (b : grid0.Bounds) (i : (grid0.at b).Coords) : Fin 2 → Nat :=
  let arg0 : BitVec 32 := BitVec.ofNat 32 (i 0).val
  let c0 : Index := 0#32
  let v0 : BitVec 32 := pf.at 1 (Rect.unit (s := S3) ![0] S1.size inb_S3_S1_0) numel1_S1
  let v1 : BitVec 32 := Scalar.subi arg0 v0
  let c0_i32 : BitVec 32 := 0#32
  let v2 : BitVec 32 := Scalar.maxsi v1 c0_i32
  let c15_i32 : BitVec 32 := 15#32
  let v3 : BitVec 32 := Scalar.addi c15_i32 v2
  let c0_i32_0 : BitVec 32 := 0#32
  let c0_i32_1 : BitVec 32 := 0#32
  ![c0_i32_0.toNat, v3.toNat]

abbrev stage0_0 : Fin 2 → Memref sig .tc .vmem S1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S60x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S192x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S425984x128 : Shape := ⟨2, ![425984, 128]⟩
abbrev S212992 : Shape := ⟨1, ![212992]⟩
abbrev S6x32x64 : Shape := ⟨3, ![6, 32, 64]⟩
abbrev S60x128 : Shape := ⟨2, ![60, 128]⟩
abbrev S_ : Shape := ⟨0, ![]⟩
abbrev S192x30208 : Shape := ⟨2, ![192, 30208]⟩
abbrev S6x30208 : Shape := ⟨2, ![6, 30208]⟩
abbrev S425984x4x32 : Shape := ⟨3, ![425984, 4, 32]⟩
abbrev S425984x4x64 : Shape := ⟨3, ![425984, 4, 64]⟩
abbrev S192x64 : Shape := ⟨2, ![192, 64]⟩
abbrev S425984x4x192 : Shape := ⟨3, ![425984, 4, 192]⟩
abbrev S425984 : Shape := ⟨1, ![425984]⟩
abbrev S53248 : Shape := ⟨1, ![53248]⟩
abbrev S53248x8 : Shape := ⟨2, ![53248, 8]⟩
abbrev S1x425984 : Shape := ⟨2, ![1, 425984]⟩
abbrev S7680 : Shape := ⟨1, ![7680]⟩
abbrev S7680x1 : Shape := ⟨2, ![7680, 1]⟩
abbrev S7680x425984 : Shape := ⟨2, ![7680, 425984]⟩
abbrev S7680x425984x1x1 : Shape := ⟨4, ![7680, 425984, 1, 1]⟩
abbrev S1x425984x4x192 : Shape := ⟨4, ![1, 425984, 4, 192]⟩
abbrev S7680x425984x4x192 : Shape := ⟨4, ![7680, 425984, 4, 192]⟩
abbrev S7680x192 : Shape := ⟨2, ![7680, 192]⟩
abbrev S192x7680 : Shape := ⟨2, ![192, 7680]⟩
abbrev S192x60x128 : Shape := ⟨3, ![192, 60, 128]⟩
abbrev S1x60x128 : Shape := ⟨3, ![1, 60, 128]⟩
abbrev S60x128x1 : Shape := ⟨3, ![60, 128, 1]⟩
abbrev S6x32x7680 : Shape := ⟨3, ![6, 32, 7680]⟩
abbrev S6x7680 : Shape := ⟨2, ![6, 7680]⟩
abbrev S192x14848 : Shape := ⟨2, ![192, 14848]⟩
abbrev S6x14848 : Shape := ⟨2, ![6, 14848]⟩

abbrev nBuf : Space → Nat
  | .hbm => 91
  | .vmem => 0
  | .smem => 0
  | _ => 0

abbrev bufTy : (tb : Table) → Fin (tcTables nBuf tb) → BufTy
  | .hbm, ⟨0, _⟩ => ⟨S425984x128, .i32⟩
  | .hbm, ⟨1, _⟩ => ⟨S212992, .i32⟩
  | .hbm, ⟨2, _⟩ => ⟨S6x32x64, .bf16⟩
  | .hbm, ⟨3, _⟩ => ⟨S60x128, .i32⟩
  | .hbm, ⟨4, _⟩ => ⟨S_, .i32⟩
  | .hbm, ⟨5, _⟩ => ⟨S_, .i32⟩
  | .hbm, ⟨6, _⟩ => ⟨S192x30208, .f32⟩
  | .hbm, ⟨7, _⟩ => ⟨S6x30208, .f32⟩
  | .hbm, ⟨8, _⟩ => ⟨S_, .i32⟩
  | .hbm, ⟨9, _⟩ => ⟨S425984x128, .i32⟩
  | .hbm, ⟨10, _⟩ => ⟨S425984x128, .i32⟩
  | .hbm, ⟨11, _⟩ => ⟨S425984x128, .f32⟩
  | .hbm, ⟨12, _⟩ => ⟨S425984x128, .bf16⟩
  | .hbm, ⟨13, _⟩ => ⟨S425984x4x32, .bf16⟩
  | .hbm, ⟨14, _⟩ => ⟨S_, .i32⟩
  | .hbm, ⟨15, _⟩ => ⟨S425984x128, .i32⟩
  | .hbm, ⟨16, _⟩ => ⟨S425984x128, .i32⟩
  | .hbm, ⟨17, _⟩ => ⟨S425984x128, .f32⟩
  | .hbm, ⟨18, _⟩ => ⟨S425984x128, .bf16⟩
  | .hbm, ⟨19, _⟩ => ⟨S425984x4x32, .bf16⟩
  | .hbm, ⟨20, _⟩ => ⟨S425984x4x64, .bf16⟩
  | .hbm, ⟨21, _⟩ => ⟨S192x64, .bf16⟩
  | .hbm, ⟨22, _⟩ => ⟨S425984x4x192, .f32⟩
  | .hbm, ⟨23, _⟩ => ⟨S_, .f32⟩
  | .hbm, ⟨24, _⟩ => ⟨S425984x4x192, .f32⟩
  | .hbm, ⟨25, _⟩ => ⟨S425984x4x192, .f32⟩
  | .hbm, ⟨26, _⟩ => ⟨S_, .f32⟩
  | .hbm, ⟨27, _⟩ => ⟨S425984x4x192, .f32⟩
  | .hbm, ⟨28, _⟩ => ⟨S425984x4x192, .f32⟩
  | .hbm, ⟨29, _⟩ => ⟨S425984, .i32⟩
  | .hbm, ⟨30, _⟩ => ⟨S_, .i32⟩
  | .hbm, ⟨31, _⟩ => ⟨S425984, .i32⟩
  | .hbm, ⟨32, _⟩ => ⟨S425984, .i32⟩
  | .hbm, ⟨33, _⟩ => ⟨S425984, .i32⟩
  | .hbm, ⟨34, _⟩ => ⟨S_, .i32⟩
  | .hbm, ⟨35, _⟩ => ⟨S425984, .i32⟩
  | .hbm, ⟨36, _⟩ => ⟨S425984, .i32⟩
  | .hbm, ⟨37, _⟩ => ⟨S53248, .i32⟩
  | .hbm, ⟨38, _⟩ => ⟨S_, .i32⟩
  | .hbm, ⟨39, _⟩ => ⟨S53248, .i32⟩
  | .hbm, ⟨40, _⟩ => ⟨S53248, .i32⟩
  | .hbm, ⟨41, _⟩ => ⟨S53248x8, .i32⟩
  | .hbm, ⟨42, _⟩ => ⟨S425984, .i32⟩
  | .hbm, ⟨43, _⟩ => ⟨S425984, .i32⟩
  | .hbm, ⟨44, _⟩ => ⟨S425984, .i1⟩
  | .hbm, ⟨45, _⟩ => ⟨S425984, .i32⟩
  | .hbm, ⟨46, _⟩ => ⟨S425984, .i32⟩
  | .hbm, ⟨47, _⟩ => ⟨S425984, .i1⟩
  | .hbm, ⟨48, _⟩ => ⟨S_, .i32⟩
  | .hbm, ⟨49, _⟩ => ⟨S_, .i32⟩
  | .hbm, ⟨50, _⟩ => ⟨S425984, .i32⟩
  | .hbm, ⟨51, _⟩ => ⟨S425984, .i32⟩
  | .hbm, ⟨52, _⟩ => ⟨S425984, .i32⟩
  | .hbm, ⟨53, _⟩ => ⟨S1x425984, .i32⟩
  | .hbm, ⟨54, _⟩ => ⟨S7680, .i32⟩
  | .hbm, ⟨55, _⟩ => ⟨S7680x1, .i32⟩
  | .hbm, ⟨56, _⟩ => ⟨S7680x425984, .i32⟩
  | .hbm, ⟨57, _⟩ => ⟨S7680x425984, .i32⟩
  | .hbm, ⟨58, _⟩ => ⟨S7680x425984, .i1⟩
  | .hbm, ⟨59, _⟩ => ⟨S7680x425984x1x1, .i1⟩
  | .hbm, ⟨60, _⟩ => ⟨S1x425984x4x192, .f32⟩
  | .hbm, ⟨61, _⟩ => ⟨S_, .f32⟩
  | .hbm, ⟨62, _⟩ => ⟨S_, .f32⟩
  | .hbm, ⟨63, _⟩ => ⟨S7680x425984x4x192, .i1⟩
  | .hbm, ⟨64, _⟩ => ⟨S7680x425984x4x192, .f32⟩
  | .hbm, ⟨65, _⟩ => ⟨S7680x425984x4x192, .f32⟩
  | .hbm, ⟨66, _⟩ => ⟨S7680x425984x4x192, .f32⟩
  | .hbm, ⟨67, _⟩ => ⟨S_, .f32⟩
  | .hbm, ⟨68, _⟩ => ⟨S7680x192, .f32⟩
  | .hbm, ⟨69, _⟩ => ⟨S192x7680, .f32⟩
  | .hbm, ⟨70, _⟩ => ⟨S192x60x128, .f32⟩
  | .hbm, ⟨71, _⟩ => ⟨S1x60x128, .i32⟩
  | .hbm, ⟨72, _⟩ => ⟨S_, .i32⟩
  | .hbm, ⟨73, _⟩ => ⟨S1x60x128, .i32⟩
  | .hbm, ⟨74, _⟩ => ⟨S1x60x128, .i1⟩
  | .hbm, ⟨75, _⟩ => ⟨S_, .i32⟩
  | .hbm, ⟨76, _⟩ => ⟨S1x60x128, .i32⟩
  | .hbm, ⟨77, _⟩ => ⟨S1x60x128, .i32⟩
  | .hbm, ⟨78, _⟩ => ⟨S1x60x128, .i32⟩
  | .hbm, ⟨79, _⟩ => ⟨S60x128x1, .i32⟩
  | .hbm, ⟨80, _⟩ => ⟨S192x60x128, .f32⟩
  | .hbm, ⟨81, _⟩ => ⟨S192x7680, .f32⟩
  | .hbm, ⟨82, _⟩ => ⟨S6x32x7680, .f32⟩
  | .hbm, ⟨83, _⟩ => ⟨S_, .f32⟩
  | .hbm, ⟨84, _⟩ => ⟨S6x7680, .f32⟩
  | .hbm, ⟨85, _⟩ => ⟨S192x7680, .f32⟩
  | .hbm, ⟨86, _⟩ => ⟨S192x14848, .f32⟩
  | .hbm, ⟨87, _⟩ => ⟨S192x30208, .f32⟩
  | .hbm, ⟨88, _⟩ => ⟨S6x7680, .f32⟩
  | .hbm, ⟨89, _⟩ => ⟨S6x14848, .f32⟩
  | .hbm, ⟨90, _⟩ => ⟨S6x30208, .f32⟩
  | _, _ => ⟨S425984x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_call0_v0 : Ref sig .tc := ⟨.hbm, 49, rfl⟩
abbrev main_call0_v1 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call3_c : Ref sig .tc := ⟨.hbm, 72, rfl⟩
abbrev main_call3_v0 : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_8 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩

abbrev nD : Nat := 1
abbrev τ : Topo := Topo.v7x

variable {F : FTy → Type} [FloatOps F]
-- ==== Kernel0.lean ====
abbrev S425984x128 : Shape := ⟨2, ![425984, 128]⟩
abbrev S212992 : Shape := ⟨1, ![212992]⟩
abbrev S6x32x64 : Shape := ⟨3, ![6, 32, 64]⟩
abbrev S60x128 : Shape := ⟨2, ![60, 128]⟩
abbrev S_ : Shape := ⟨0, ![]⟩
abbrev S192x30208 : Shape := ⟨2, ![192, 30208]⟩
abbrev S6x30208 : Shape := ⟨2, ![6, 30208]⟩
abbrev S192x2x32 : Shape := ⟨3, ![192, 2, 32]⟩
abbrev S2x32x192 : Shape := ⟨3, ![2, 32, 192]⟩
abbrev S4x4 : Shape := ⟨2, ![4, 4]⟩
abbrev S2x1x32x1x192 : Shape := ⟨5, ![2, 1, 32, 1, 192]⟩
abbrev S1x4x1x4x1 : Shape := ⟨5, ![1, 4, 1, 4, 1]⟩
abbrev S2x4x32x4x192 : Shape := ⟨5, ![2, 4, 32, 4, 192]⟩
abbrev S2x4x32x4x128 : Shape := ⟨5, ![2, 4, 32, 4, 128]⟩
abbrev S256x512 : Shape := ⟨2, ![256, 512]⟩
abbrev S2x4x32x4x64 : Shape := ⟨5, ![2, 4, 32, 4, 64]⟩
abbrev S256x256 : Shape := ⟨2, ![256, 256]⟩
abbrev S256x768 : Shape := ⟨2, ![256, 768]⟩
abbrev S1 : Shape := ⟨1, ![1]⟩
abbrev S3 : Shape := ⟨1, ![3]⟩
abbrev S1024x128 : Shape := ⟨2, ![1024, 128]⟩
abbrev S128 : Shape := ⟨1, ![128]⟩
abbrev S192x512 : Shape := ⟨2, ![192, 512]⟩
abbrev S6x512 : Shape := ⟨2, ![6, 512]⟩
abbrev S7688x256 : Shape := ⟨2, ![7688, 256]⟩
abbrev S2x8x128 : Shape := ⟨3, ![2, 8, 128]⟩
abbrev S1024x768 : Shape := ⟨2, ![1024, 768]⟩
abbrev S1024x256 : Shape := ⟨2, ![1024, 256]⟩
abbrev S1x8x128 : Shape := ⟨3, ![1, 8, 128]⟩
abbrev S8x128 : Shape := ⟨2, ![8, 128]⟩
abbrev S8x768 : Shape := ⟨2, ![8, 768]⟩
abbrev S8x256 : Shape := ⟨2, ![8, 256]⟩
abbrev S1x256 : Shape := ⟨2, ![1, 256]⟩
abbrev S256 : Shape := ⟨1, ![256]⟩
abbrev S128x128 : Shape := ⟨2, ![128, 128]⟩
abbrev S64x128 : Shape := ⟨2, ![64, 128]⟩
abbrev S192x128 : Shape := ⟨2, ![192, 128]⟩
abbrev S1x128 : Shape := ⟨2, ![1, 128]⟩
abbrev S192x128x1 : Shape := ⟨3, ![192, 128, 1]⟩
abbrev S6x32x128 : Shape := ⟨3, ![6, 32, 128]⟩
abbrev S6x128 : Shape := ⟨2, ![6, 128]⟩

abbrev nBuf : Space → Nat
  | .hbm => 50
  | .vmem => 11
  | .smem => 4
  | _ => 0

abbrev bufTy : (tb : Table) → Fin (tcTables nBuf tb) → BufTy
  | .hbm, ⟨0, _⟩ => ⟨S425984x128, .i32⟩
  | .hbm, ⟨1, _⟩ => ⟨S212992, .i32⟩
  | .hbm, ⟨2, _⟩ => ⟨S6x32x64, .bf16⟩
  | .hbm, ⟨3, _⟩ => ⟨S60x128, .i32⟩
  | .hbm, ⟨4, _⟩ => ⟨S_, .i32⟩
  | .hbm, ⟨5, _⟩ => ⟨S_, .i32⟩
  | .hbm, ⟨6, _⟩ => ⟨S192x30208, .f32⟩
  | .hbm, ⟨7, _⟩ => ⟨S6x30208, .f32⟩
  | .hbm, ⟨8, _⟩ => ⟨S192x2x32, .bf16⟩
  | .hbm, ⟨9, _⟩ => ⟨S2x32x192, .bf16⟩
  | .hbm, ⟨10, _⟩ => ⟨S4x4, .i32⟩
  | .hbm, ⟨11, _⟩ => ⟨S4x4, .i32⟩
  | .hbm, ⟨12, _⟩ => ⟨S_, .i32⟩
  | .hbm, ⟨13, _⟩ => ⟨S4x4, .i32⟩
  | .hbm, ⟨14, _⟩ => ⟨S4x4, .i32⟩
  | .hbm, ⟨15, _⟩ => ⟨S4x4, .i1⟩
  | .hbm, ⟨16, _⟩ => ⟨S4x4, .bf16⟩
  | .hbm, ⟨17, _⟩ => ⟨S2x1x32x1x192, .bf16⟩
  | .hbm, ⟨18, _⟩ => ⟨S1x4x1x4x1, .bf16⟩
  | .hbm, ⟨19, _⟩ => ⟨S2x4x32x4x192, .bf16⟩
  | .hbm, ⟨20, _⟩ => ⟨S2x4x32x4x192, .bf16⟩
  | .hbm, ⟨21, _⟩ => ⟨S2x4x32x4x192, .bf16⟩
  | .hbm, ⟨22, _⟩ => ⟨S2x4x32x4x128, .bf16⟩
  | .hbm, ⟨23, _⟩ => ⟨S256x512, .bf16⟩
  | .hbm, ⟨24, _⟩ => ⟨S2x4x32x4x64, .bf16⟩
  | .hbm, ⟨25, _⟩ => ⟨S256x256, .bf16⟩
  | .hbm, ⟨26, _⟩ => ⟨S256x768, .bf16⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1, .i32⟩
  | .hbm, ⟨45, _⟩ => ⟨S1, .i32⟩
  | .hbm, ⟨46, _⟩ => ⟨S1, .i32⟩
  | .hbm, ⟨47, _⟩ => ⟨S_, .i32⟩
  | .hbm, ⟨48, _⟩ => ⟨S192x30208, .f32⟩
  | .hbm, ⟨49, _⟩ => ⟨S6x30208, .f32⟩
  | .local _ .vmem, ⟨0, _⟩ => ⟨S1024x128, .i32⟩
  | .local _ .vmem, ⟨1, _⟩ => ⟨S1024x128, .i32⟩
  | .local _ .vmem, ⟨2, _⟩ => ⟨S256x768, .bf16⟩
  | .local _ .vmem, ⟨3, _⟩ => ⟨S60x128, .i32⟩
  | .local _ .vmem, ⟨4, _⟩ => ⟨S192x512, .f32⟩
  | .local _ .vmem, ⟨5, _⟩ => ⟨S192x512, .f32⟩
  | .local _ .vmem, ⟨6, _⟩ => ⟨S6x512, .f32⟩
  | .local _ .vmem, ⟨7, _⟩ => ⟨S6x512, .f32⟩
  | .local _ .vmem, ⟨8, _⟩ => ⟨S7688x256, .f32⟩
  | .local _ .vmem, ⟨9, _⟩ => ⟨S2x8x128, .f32⟩
  | .local _ .vmem, ⟨10, _⟩ => ⟨S1024x768, .f32⟩
  | .local _ .smem, ⟨0, _⟩ => ⟨S_, .i32⟩
  | .local _ .smem, ⟨1, _⟩ => ⟨S3, .i32⟩
  | .local _ .smem, ⟨2, _⟩ => ⟨S128, .i32⟩
  | .local _ .smem, ⟨3, _⟩ => ⟨S128, .i32⟩
  | _, _ => ⟨S425984x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_0 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_c_2 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c : Ref sig .tc := ⟨.hbm, 38, rfl⟩
abbrev main_call0_v6 : Ref sig .tc := ⟨.hbm, 39, rfl⟩
abbrev main_call0_v7 : Ref sig .tc := ⟨.hbm, 40, rfl⟩
abbrev main_call0_c_0 : Ref sig .tc := ⟨.hbm, 41, rfl⟩
abbrev main_call0_v8 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_3 : Ref sig .tc := ⟨.hbm, 47, rfl⟩
abbrev main_v26_0 : Ref sig .tc := ⟨.hbm, 48, rfl⟩
abbrev main_v26_1 : Ref sig .tc := ⟨.hbm, 49, rfl⟩
abbrev main_v25 : Ref sig .tc := ⟨.smem, 0, rfl⟩
abbrev main_v24 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![0], ![true]⟩

abbrev pre0 : Pipeline.Prefetch sig := ⟨2, ![main_v25.idx, main_v24.idx], fun | 0 => main_v25.names | 1 => main_v24.names | ⟨_ + 2, h⟩ => absurd h (Nat.not_lt.2 (Nat.le_add_left _ _)), fun | 0 => rfl | 1 => rfl | ⟨_ + 2, h⟩ => absurd h (Nat.not_lt.2 (Nat.le_add_left _ _))⟩

def dynb0 (pf : pre0.Contents (Elt F)) : grid0.Bounds := ![(pf 0 fun a => a.elim0).toNat]

def k0_mult1 (v35 : BitVec 32) : BitVec 32 :=
  let c1_i32_19 : BitVec 32 := 1#32
  let v55 : BitVec 32 := Scalar.shrsi v35 c1_i32_19
  v55
def k0_cond1 (arg0 : BitVec 32) (v1 : BitVec 32) : BitVec 1 :=
  let c1_i32 : BitVec 32 := 1#32
  let v3 : BitVec 32 := Scalar.addi arg0 c1_i32
  let c128_i32 : BitVec 32 := 128#32
  let v4 : BitVec 32 := Scalar.muli v3 c128_i32
  let v5 : BitVec 1 := Scalar.cmpi .sle v4 v1
  let v6 : BitVec 32 := Scalar.extui v5
  let c0_i32 : BitVec 32 := 0#32
  let v7 : BitVec 1 := Scalar.cmpi .ne v6 c0_i32
  v7

def k0_off1 (v35 : BitVec 32) : Fin 2 → Nat :=
  let c1_i32_19 : BitVec 32 := 1#32
  let v55 : BitVec 32 := Scalar.shrsi v35 c1_i32_19
  let v56 : BitVec 32 := v55
  let v57 : Index := Scalar.indexCast v56
  let c0_20 : Index := 0#32
  ![v57.toNat, 0]
def k0_off2 (v35 : BitVec 32) : Fin 2 → Nat :=
  let c1_i32_19 : BitVec 32 := 1#32
  let v55 : BitVec 32 := Scalar.shrsi v35 c1_i32_19
  let v56 : BitVec 32 := v55
  let v61 : Index := Scalar.indexCast v56
  let c128 : Index := 128#32
  ![v61.toNat, 128]

def k0_chk1 (arg0 : BitVec 32) (v1 : BitVec 32) (v35 : BitVec 32) : Prop :=
  (∀ (k0_h1 : k0_cond1 arg0 v1 = 1#1), 8 ∣ (k0_mult1 v35).toNat) ∧
  (∀ (k0_h1 : k0_cond1 arg0 v1 = 1#1), ∀ a, (k0_off1 v35) a + S8x128.size a ≤ S7688x256.size a) ∧
  (∀ (k0_h1 : k0_cond1 arg0 v1 = 1#1), ∀ a, (k0_off2 v35) a + S8x128.size a ≤ S7688x256.size a)
theorem k0_mult1_dvd : ∀ (arg0 : BitVec 32) (v1 : BitVec 32) (v35 : BitVec 32) (k0_hw1 : k0_chk1 arg0 v1 v35), ∀ (k0_h1 : k0_cond1 arg0 v1 = 1#1), 8 ∣ (k0_mult1 v35).toNat := fun arg0 v1 v35 k0_hw1 k0_h1 => k0_hw1.1 k0_h1
theorem k0_off1_inb : ∀ (arg0 : BitVec 32) (v1 : BitVec 32) (v35 : BitVec 32) (k0_hw1 : k0_chk1 arg0 v1 v35), ∀ (k0_h1 : k0_cond1 arg0 v1 = 1#1), ∀ a, (k0_off1 v35) a + S8x128.size a ≤ S7688x256.size a := fun arg0 v1 v35 k0_hw1 k0_h1 => k0_hw1.2.1 k0_h1
theorem k0_off2_inb : ∀ (arg0 : BitVec 32) (v1 : BitVec 32) (v35 : BitVec 32) (k0_hw1 : k0_chk1 arg0 v1 v35), ∀ (k0_h1 : k0_cond1 arg0 v1 = 1#1), ∀ a, (k0_off2 v35) a + S8x128.size a ≤ S7688x256.size a := fun arg0 v1 v35 k0_hw1 k0_h1 => k0_hw1.2.2 k0_h1

def k0_mult2 (v65 : BitVec 32) : BitVec 32 :=
  let c1_i32_26 : BitVec 32 := 1#32
  let v85 : BitVec 32 := Scalar.shrsi v65 c1_i32_26
  v85

def k0_off3 (v65 : BitVec 32) : Fin 2 → Nat :=
  let c1_i32_26 : BitVec 32 := 1#32
  let v85 : BitVec 32 := Scalar.shrsi v65 c1_i32_26
  let v86 : BitVec 32 := v85
  let v87 : Index := Scalar.indexCast v86
  let c0_27 : Index := 0#32
  ![v87.toNat, 0]
def k0_off4 (v65 : BitVec 32) : Fin 2 → Nat :=
  let c1_i32_26 : BitVec 32 := 1#32
  let v85 : BitVec 32 := Scalar.shrsi v65 c1_i32_26
  let v86 : BitVec 32 := v85
  let v91 : Index := Scalar.indexCast v86
  let c128_28 : Index := 128#32
  ![v91.toNat, 128]

def k0_chk2 (arg0 : BitVec 32) (v1 : BitVec 32) (v65 : BitVec 32) : Prop :=
  (∀ (k0_h1 : k0_cond1 arg0 v1 = 1#1), 8 ∣ (k0_mult2 v65).toNat) ∧
  (∀ (k0_h1 : k0_cond1 arg0 v1 = 1#1), ∀ a, (k0_off3 v65) a + S8x128.size a ≤ S7688x256.size a) ∧
  (∀ (k0_h1 : k0_cond1 arg0 v1 = 1#1), ∀ a, (k0_off4 v65) a + S8x128.size a ≤ S7688x256.size a)
theorem k0_mult2_dvd : ∀ (arg0 : BitVec 32) (v1 : BitVec 32) (v65 : BitVec 32) (k0_hw2 : k0_chk2 arg0 v1 v65), ∀ (k0_h1 : k0_cond1 arg0 v1 = 1#1), 8 ∣ (k0_mult2 v65).toNat := fun arg0 v1 v65 k0_hw2 k0_h1 => k0_hw2.1 k0_h1
theorem k0_off3_inb : ∀ (arg0 : BitVec 32) (v1 : BitVec 32) (v65 : BitVec 32) (k0_hw2 : k0_chk2 arg0 v1 v65), ∀ (k0_h1 : k0_cond1 arg0 v1 = 1#1), ∀ a, (k0_off3 v65) a + S8x128.size a ≤ S7688x256.size a := fun arg0 v1 v65 k0_hw2 k0_h1 => k0_hw2.2.1 k0_h1
theorem k0_off4_inb : ∀ (arg0 : BitVec 32) (v1 : BitVec 32) (v65 : BitVec 32) (k0_hw2 : k0_chk2 arg0 v1 v65), ∀ (k0_h1 : k0_cond1 arg0 v1 = 1#1), ∀ a, (k0_off4 v65) a + S8x128.size a ≤ S7688x256.size a := fun arg0 v1 v65 k0_hw2 k0_h1 => k0_hw2.2.2 k0_h1

def k0_mult3 (v95 : BitVec 32) : BitVec 32 :=
  let c1_i32_34 : BitVec 32 := 1#32
  let v115 : BitVec 32 := Scalar.shrsi v95 c1_i32_34
  v115

def k0_off5 (v95 : BitVec 32) : Fin 2 → Nat :=
  let c1_i32_34 : BitVec 32 := 1#32
  let v115 : BitVec 32 := Scalar.shrsi v95 c1_i32_34
  let v116 : BitVec 32 := v115
  let v117 : Index := Scalar.indexCast v116
  let c0_35 : Index := 0#32
  ![v117.toNat, 0]
def k0_off6 (v95 : BitVec 32) : Fin 2 → Nat :=
  let c1_i32_34 : BitVec 32 := 1#32
  let v115 : BitVec 32 := Scalar.shrsi v95 c1_i32_34
  let v116 : BitVec 32 := v115
  let v121 : Index := Scalar.indexCast v116
  let c128_36 : Index := 128#32
  ![v121.toNat, 128]

def k0_chk3 (arg0 : BitVec 32) (v1 : BitVec 32) (v95 : BitVec 32) : Prop :=
  (∀ (k0_h1 : k0_cond1 arg0 v1 = 1#1), 8 ∣ (k0_mult3 v95).toNat) ∧
  (∀ (k0_h1 : k0_cond1 arg0 v1 = 1#1), ∀ a, (k0_off5 v95) a + S8x128.size a ≤ S7688x256.size a) ∧
  (∀ (k0_h1 : k0_cond1 arg0 v1 = 1#1), ∀ a, (k0_off6 v95) a + S8x128.size a ≤ S7688x256.size a)
theorem k0_mult3_dvd : ∀ (arg0 : BitVec 32) (v1 : BitVec 32) (v95 : BitVec 32) (k0_hw3 : k0_chk3 arg0 v1 v95), ∀ (k0_h1 : k0_cond1 arg0 v1 = 1#1), 8 ∣ (k0_mult3 v95).toNat := fun arg0 v1 v95 k0_hw3 k0_h1 => k0_hw3.1 k0_h1
theorem k0_off5_inb : ∀ (arg0 : BitVec 32) (v1 : BitVec 32) (v95 : BitVec 32) (k0_hw3 : k0_chk3 arg0 v1 v95), ∀ (k0_h1 : k0_cond1 arg0 v1 = 1#1), ∀ a, (k0_off5 v95) a + S8x128.size a ≤ S7688x256.size a := fun arg0 v1 v95 k0_hw3 k0_h1 => k0_hw3.2.1 k0_h1
theorem k0_off6_inb : ∀ (arg0 : BitVec 32) (v1 : BitVec 32) (v95 : BitVec 32) (k0_hw3 : k0_chk3 arg0 v1 v95), ∀ (k0_h1 : k0_cond1 arg0 v1 = 1#1), ∀ a, (k0_off6 v95) a + S8x128.size a ≤ S7688x256.size a := fun arg0 v1 v95 k0_hw3 k0_h1 => k0_hw3.2.2 k0_h1

def k0_mult4 (v125 : BitVec 32) : BitVec 32 :=
  let c1_i32_41 : BitVec 32 := 1#32
  let v145 : BitVec 32 := Scalar.shrsi v125 c1_i32_41
  v145

def k0_off7 (v125 : BitVec 32) : Fin 2 → Nat :=
  let c1_i32_41 : BitVec 32 := 1#32
  let v145 : BitVec 32 := Scalar.shrsi v125 c1_i32_41
  let v146 : BitVec 32 := v145
  let v147 : Index := Scalar.indexCast v146
  let c0_42 : Index := 0#32
  ![v147.toNat, 0]
def k0_off8 (v125 : BitVec 32) : Fin 2 → Nat :=
  let c1_i32_41 : BitVec 32 := 1#32
  let v145 : BitVec 32 := Scalar.shrsi v125 c1_i32_41
  let v146 : BitVec 32 := v145
  let v151 : Index := Scalar.indexCast v146
  let c128_43 : Index := 128#32
  ![v151.toNat, 128]

def k0_chk4 (arg0 : BitVec 32) (v1 : BitVec 32) (v125 : BitVec 32) : Prop :=
  (∀ (k0_h1 : k0_cond1 arg0 v1 = 1#1), 8 ∣ (k0_mult4 v125).toNat) ∧
  (∀ (k0_h1 : k0_cond1 arg0 v1 = 1#1), ∀ a, (k0_off7 v125) a + S8x128.size a ≤ S7688x256.size a) ∧
  (∀ (k0_h1 : k0_cond1 arg0 v1 = 1#1), ∀ a, (k0_off8 v125) a + S8x128.size a ≤ S7688x256.size a)
theorem k0_mult4_dvd : ∀ (arg0 : BitVec 32) (v1 : BitVec 32) (v125 : BitVec 32) (k0_hw4 : k0_chk4 arg0 v1 v125), ∀ (k0_h1 : k0_cond1 arg0 v1 = 1#1), 8 ∣ (k0_mult4 v125).toNat := fun arg0 v1 v125 k0_hw4 k0_h1 => k0_hw4.1 k0_h1
theorem k0_off7_inb : ∀ (arg0 : BitVec 32) (v1 : BitVec 32) (v125 : BitVec 32) (k0_hw4 : k0_chk4 arg0 v1 v125), ∀ (k0_h1 : k0_cond1 arg0 v1 = 1#1), ∀ a, (k0_off7 v125) a + S8x128.size a ≤ S7688x256.size a := fun arg0 v1 v125 k0_hw4 k0_h1 => k0_hw4.2.1 k0_h1
theorem k0_off8_inb : ∀ (arg0 : BitVec 32) (v1 : BitVec 32) (v125 : BitVec 32) (k0_hw4 : k0_chk4 arg0 v1 v125), ∀ (k0_h1 : k0_cond1 arg0 v1 = 1#1), ∀ a, (k0_off8 v125) a + S8x128.size a ≤ S7688x256.size a := fun arg0 v1 v125 k0_hw4 k0_h1 => k0_hw4.2.2 k0_h1

def k0_mult5 (v155 : BitVec 32) : BitVec 32 :=
  let c1_i32_48 : BitVec 32 := 1#32
  let v175 : BitVec 32 := Scalar.shrsi v155 c1_i32_48
  v175

def k0_off9 (v155 : BitVec 32) : Fin 2 → Nat :=
  let c1_i32_48 : BitVec 32 := 1#32
  let v175 : BitVec 32 := Scalar.shrsi v155 c1_i32_48
  let v176 : BitVec 32 := v175
  let v177 : Index := Scalar.indexCast v176
  let c0_49 : Index := 0#32
  ![v177.toNat, 0]
def k0_off10 (v155 : BitVec 32) : Fin 2 → Nat :=
  let c1_i32_48 : BitVec 32 := 1#32
  let v175 : BitVec 32 := Scalar.shrsi v155 c1_i32_48
  let v176 : BitVec 32 := v175
  let v181 : Index := Scalar.indexCast v176
  let c128_50 : Index := 128#32
  ![v181.toNat, 128]

def k0_chk5 (arg0 : BitVec 32) (v1 : BitVec 32) (v155 : BitVec 32) : Prop :=
  (∀ (k0_h1 : k0_cond1 arg0 v1 = 1#1), 8 ∣ (k0_mult5 v155).toNat) ∧
  (∀ (k0_h1 : k0_cond1 arg0 v1 = 1#1), ∀ a, (k0_off9 v155) a + S8x128.size a ≤ S7688x256.size a) ∧
  (∀ (k0_h1 : k0_cond1 arg0 v1 = 1#1), ∀ a, (k0_off10 v155) a + S8x128.size a ≤ S7688x256.size a)
theorem k0_mult5_dvd : ∀ (arg0 : BitVec 32) (v1 : BitVec 32) (v155 : BitVec 32) (k0_hw5 : k0_chk5 arg0 v1 v155), ∀ (k0_h1 : k0_cond1 arg0 v1 = 1#1), 8 ∣ (k0_mult5 v155).toNat := fun arg0 v1 v155 k0_hw5 k0_h1 => k0_hw5.1 k0_h1
theorem k0_off9_inb : ∀ (arg0 : BitVec 32) (v1 : BitVec 32) (v155 : BitVec 32) (k0_hw5 : k0_chk5 arg0 v1 v155), ∀ (k0_h1 : k0_cond1 arg0 v1 = 1#1), ∀ a, (k0_off9 v155) a + S8x128.size a ≤ S7688x256.size a := fun arg0 v1 v155 k0_hw5 k0_h1 => k0_hw5.2.1 k0_h1
theorem k0_off10_inb : ∀ (arg0 : BitVec 32) (v1 : BitVec 32) (v155 : BitVec 32) (k0_hw5 : k0_chk5 arg0 v1 v155), ∀ (k0_h1 : k0_cond1 arg0 v1 = 1#1), ∀ a, (k0_off10 v155) a + S8x128.size a ≤ S7688x256.size a := fun arg0 v1 v155 k0_hw5 k0_h1 => k0_hw5.2.2 k0_h1

def k0_mult6 (v185 : BitVec 32) : BitVec 32 :=
  let c1_i32_55 : BitVec 32 := 1#32
  let v205 : BitVec 32 := Scalar.shrsi v185 c1_i32_55
  v205

def k0_off11 (v185 : BitVec 32) : Fin 2 → Nat :=
  let c1_i32_55 : BitVec 32 := 1#32
  let v205 : BitVec 32 := Scalar.shrsi v185 c1_i32_55
  let v206 : BitVec 32 := v205
  let v207 : Index := Scalar.indexCast v206
  let c0_56 : Index := 0#32
  ![v207.toNat, 0]
def k0_off12 (v185 : BitVec 32) : Fin 2 → Nat :=
  let c1_i32_55 : BitVec 32 := 1#32
  let v205 : BitVec 32 := Scalar.shrsi v185 c1_i32_55
  let v206 : BitVec 32 := v205
  let v211 : Index := Scalar.indexCast v206
  let c128_57 : Index := 128#32
  ![v211.toNat, 128]

def k0_chk6 (arg0 : BitVec 32) (v1 : BitVec 32) (v185 : BitVec 32) : Prop :=
  (∀ (k0_h1 : k0_cond1 arg0 v1 = 1#1), 8 ∣ (k0_mult6 v185).toNat) ∧
  (∀ (k0_h1 : k0_cond1 arg0 v1 = 1#1), ∀ a, (k0_off11 v185) a + S8x128.size a ≤ S7688x256.size a) ∧
  (∀ (k0_h1 : k0_cond1 arg0 v1 = 1#1), ∀ a, (k0_off12 v185) a + S8x128.size a ≤ S7688x256.size a)
theorem k0_mult6_dvd : ∀ (arg0 : BitVec 32) (v1 : BitVec 32) (v185 : BitVec 32) (k0_hw6 : k0_chk6 arg0 v1 v185), ∀ (k0_h1 : k0_cond1 arg0 v1 = 1#1), 8 ∣ (k0_mult6 v185).toNat := fun arg0 v1 v185 k0_hw6 k0_h1 => k0_hw6.1 k0_h1
theorem k0_off11_inb : ∀ (arg0 : BitVec 32) (v1 : BitVec 32) (v185 : BitVec 32) (k0_hw6 : k0_chk6 arg0 v1 v185), ∀ (k0_h1 : k0_cond1 arg0 v1 = 1#1), ∀ a, (k0_off11 v185) a + S8x128.size a ≤ S7688x256.size a := fun arg0 v1 v185 k0_hw6 k0_h1 => k0_hw6.2.1 k0_h1
theorem k0_off12_inb : ∀ (arg0 : BitVec 32) (v1 : BitVec 32) (v185 : BitVec 32) (k0_hw6 : k0_chk6 arg0 v1 v185), ∀ (k0_h1 : k0_cond1 arg0 v1 = 1#1), ∀ a, (k0_off12 v185) a + S8x128.size a ≤ S7688x256.size a := fun arg0 v1 v185 k0_hw6 k0_h1 => k0_hw6.2.2 k0_h1

def k0_mult7 (v215 : BitVec 32) : BitVec 32 :=
  let c1_i32_62 : BitVec 32 := 1#32
  let v235 : BitVec 32 := Scalar.shrsi v215 c1_i32_62
  v235

def k0_off13 (v215 : BitVec 32) : Fin 2 → Nat :=
  let c1_i32_62 : BitVec 32 := 1#32
  let v235 : BitVec 32 := Scalar.shrsi v215 c1_i32_62
  let v236 : BitVec 32 := v235
  let v237 : Index := Scalar.indexCast v236
  let c0_63 : Index := 0#32
  ![v237.toNat, 0]
def k0_off14 (v215 : BitVec 32) : Fin 2 → Nat :=
  let c1_i32_62 : BitVec 32 := 1#32
  let v235 : BitVec 32 := Scalar.shrsi v215 c1_i32_62
  let v236 : BitVec 32 := v235
  let v241 : Index := Scalar.indexCast v236
  let c128_64 : Index := 128#32
  ![v241.toNat, 128]

def k0_chk7 (arg0 : BitVec 32) (v1 : BitVec 32) (v215 : BitVec 32) : Prop :=
  (∀ (k0_h1 : k0_cond1 arg0 v1 = 1#1), 8 ∣ (k0_mult7 v215).toNat) ∧
  (∀ (k0_h1 : k0_cond1 arg0 v1 = 1#1), ∀ a, (k0_off13 v215) a + S8x128.size a ≤ S7688x256.size a) ∧
  (∀ (k0_h1 : k0_cond1 arg0 v1 = 1#1), ∀ a, (k0_off14 v215) a + S8x128.size a ≤ S7688x256.size a)
theorem k0_mult7_dvd : ∀ (arg0 : BitVec 32) (v1 : BitVec 32) (v215 : BitVec 32) (k0_hw7 : k0_chk7 arg0 v1 v215), ∀ (k0_h1 : k0_cond1 arg0 v1 = 1#1), 8 ∣ (k0_mult7 v215).toNat := fun arg0 v1 v215 k0_hw7 k0_h1 => k0_hw7.1 k0_h1
theorem k0_off13_inb : ∀ (arg0 : BitVec 32) (v1 : BitVec 32) (v215 : BitVec 32) (k0_hw7 : k0_chk7 arg0 v1 v215), ∀ (k0_h1 : k0_cond1 arg0 v1 = 1#1), ∀ a, (k0_off13 v215) a + S8x128.size a ≤ S7688x256.size a := fun arg0 v1 v215 k0_hw7 k0_h1 => k0_hw7.2.1 k0_h1
theorem k0_off14_inb : ∀ (arg0 : BitVec 32) (v1 : BitVec 32) (v215 : BitVec 32) (k0_hw7 : k0_chk7 arg0 v1 v215), ∀ (k0_h1 : k0_cond1 arg0 v1 = 1#1), ∀ a, (k0_off14 v215) a + S8x128.size a ≤ S7688x256.size a := fun arg0 v1 v215 k0_hw7 k0_h1 => k0_hw7.2.2 k0_h1

def k0_mult8 (v245 : BitVec 32) : BitVec 32 :=
  let c1_i32_69 : BitVec 32 := 1#32
  let v265 : BitVec 32 := Scalar.shrsi v245 c1_i32_69
  v265

def k0_off15 (v245 : BitVec 32) : Fin 2 → Nat :=
  let c1_i32_69 : BitVec 32 := 1#32
  let v265 : BitVec 32 := Scalar.shrsi v245 c1_i32_69
  let v266 : BitVec 32 := v265
  let v267 : Index := Scalar.indexCast v266
  let c0_70 : Index := 0#32
  ![v267.toNat, 0]
def k0_off16 (v245 : BitVec 32) : Fin 2 → Nat :=
  let c1_i32_69 : BitVec 32 := 1#32
  let v265 : BitVec 32 := Scalar.shrsi v245 c1_i32_69
  let v266 : BitVec 32 := v265
  let v271 : Index := Scalar.indexCast v266
  let c128_71 : Index := 128#32
  ![v271.toNat, 128]

def k0_chk8 (arg0 : BitVec 32) (v1 : BitVec 32) (v245 : BitVec 32) : Prop :=
  (∀ (k0_h1 : k0_cond1 arg0 v1 = 1#1), 8 ∣ (k0_mult8 v245).toNat) ∧
  (∀ (k0_h1 : k0_cond1 arg0 v1 = 1#1), ∀ a, (k0_off15 v245) a + S8x128.size a ≤ S7688x256.size a) ∧
  (∀ (k0_h1 : k0_cond1 arg0 v1 = 1#1), ∀ a, (k0_off16 v245) a + S8x128.size a ≤ S7688x256.size a)
theorem k0_mult8_dvd : ∀ (arg0 : BitVec 32) (v1 : BitVec 32) (v245 : BitVec 32) (k0_hw8 : k0_chk8 arg0 v1 v245), ∀ (k0_h1 : k0_cond1 arg0 v1 = 1#1), 8 ∣ (k0_mult8 v245).toNat := fun arg0 v1 v245 k0_hw8 k0_h1 => k0_hw8.1 k0_h1
theorem k0_off15_inb : ∀ (arg0 : BitVec 32) (v1 : BitVec 32) (v245 : BitVec 32) (k0_hw8 : k0_chk8 arg0 v1 v245), ∀ (k0_h1 : k0_cond1 arg0 v1 = 1#1), ∀ a, (k0_off15 v245) a + S8x128.size a ≤ S7688x256.size a := fun arg0 v1 v245 k0_hw8 k0_h1 => k0_hw8.2.1 k0_h1
theorem k0_off16_inb : ∀ (arg0 : BitVec 32) (v1 : BitVec 32) (v245 : BitVec 32) (k0_hw8 : k0_chk8 arg0 v1 v245), ∀ (k0_h1 : k0_cond1 arg0 v1 = 1#1), ∀ a, (k0_off16 v245) a + S8x128.size a ≤ S7688x256.size a := fun arg0 v1 v245 k0_hw8 k0_h1 => k0_hw8.2.2 k0_h1

def k0_mult9 (v275 : BitVec 32) : BitVec 32 :=
  let c1_i32_76 : BitVec 32 := 1#32
  let v295 : BitVec 32 := Scalar.shrsi v275 c1_i32_76
  v295

def k0_off17 (v275 : BitVec 32) : Fin 2 → Nat :=
  let c1_i32_76 : BitVec 32 := 1#32
  let v295 : BitVec 32 := Scalar.shrsi v275 c1_i32_76
  let v296 : BitVec 32 := v295
  let v297 : Index := Scalar.indexCast v296
  let c0_77 : Index := 0#32
  ![v297.toNat, 0]
def k0_off18 (v275 : BitVec 32) : Fin 2 → Nat :=
  let c1_i32_76 : BitVec 32 := 1#32
  let v295 : BitVec 32 := Scalar.shrsi v275 c1_i32_76
  let v296 : BitVec 32 := v295
  let v301 : Index := Scalar.indexCast v296
  let c128_78 : Index := 128#32
  ![v301.toNat, 128]

def k0_chk9 (arg0 : BitVec 32) (v1 : BitVec 32) (v275 : BitVec 32) : Prop :=
  (∀ (k0_h1 : k0_cond1 arg0 v1 = 1#1), 8 ∣ (k0_mult9 v275).toNat) ∧
  (∀ (k0_h1 : k0_cond1 arg0 v1 = 1#1), ∀ a, (k0_off17 v275) a + S8x128.size a ≤ S7688x256.size a) ∧
  (∀ (k0_h1 : k0_cond1 arg0 v1 = 1#1), ∀ a, (k0_off18 v275) a + S8x128.size a ≤ S7688x256.size a)
theorem k0_mult9_dvd : ∀ (arg0 : BitVec 32) (v1 : BitVec 32) (v275 : BitVec 32) (k0_hw9 : k0_chk9 arg0 v1 v275), ∀ (k0_h1 : k0_cond1 arg0 v1 = 1#1), 8 ∣ (k0_mult9 v275).toNat := fun arg0 v1 v275 k0_hw9 k0_h1 => k0_hw9.1 k0_h1
theorem k0_off17_inb : ∀ (arg0 : BitVec 32) (v1 : BitVec 32) (v275 : BitVec 32) (k0_hw9 : k0_chk9 arg0 v1 v275), ∀ (k0_h1 : k0_cond1 arg0 v1 = 1#1), ∀ a, (k0_off17 v275) a + S8x128.size a ≤ S7688x256.size a := fun arg0 v1 v275 k0_hw9 k0_h1 => k0_hw9.2.1 k0_h1
theorem k0_off18_inb : ∀ (arg0 : BitVec 32) (v1 : BitVec 32) (v275 : BitVec 32) (k0_hw9 : k0_chk9 arg0 v1 v275), ∀ (k0_h1 : k0_cond1 arg0 v1 = 1#1), ∀ a, (k0_off18 v275) a + S8x128.size a ≤ S7688x256.size a := fun arg0 v1 v275 k0_hw9 k0_h1 => k0_hw9.2.2 k0_h1

def k0_mult10 (v305 : BitVec 32) : BitVec 32 :=
  let c1_i32_83 : BitVec 32 := 1#32
  let v325 : BitVec 32 := Scalar.shrsi v305 c1_i32_83
  v325

def k0_off19 (v305 : BitVec 32) : Fin 2 → Nat :=
  let c1_i32_83 : BitVec 32 := 1#32
  let v325 : BitVec 32 := Scalar.shrsi v305 c1_i32_83
  let v326 : BitVec 32 := v325
  let v327 : Index := Scalar.indexCast v326
  let c0_84 : Index := 0#32
  ![v327.toNat, 0]
def k0_off20 (v305 : BitVec 32) : Fin 2 → Nat :=
  let c1_i32_83 : BitVec 32 := 1#32
  let v325 : BitVec 32 := Scalar.shrsi v305 c1_i32_83
  let v326 : BitVec 32 := v325
  let v331 : Index := Scalar.indexCast v326
  let c128_85 : Index := 128#32
  ![v331.toNat, 128]

def k0_chk10 (arg0 : BitVec 32) (v1 : BitVec 32) (v305 : BitVec 32) : Prop :=
  (∀ (k0_h1 : k0_cond1 arg0 v1 = 1#1), 8 ∣ (k0_mult10 v305).toNat) ∧
  (∀ (k0_h1 : k0_cond1 arg0 v1 = 1#1), ∀ a, (k0_off19 v305) a + S8x128.size a ≤ S7688x256.size a) ∧
  (∀ (k0_h1 : k0_cond1 arg0 v1 = 1#1), ∀ a, (k0_off20 v305) a + S8x128.size a ≤ S7688x256.size a)
theorem k0_mult10_dvd : ∀ (arg0 : BitVec 32) (v1 : BitVec 32) (v305 : BitVec 32) (k0_hw10 : k0_chk10 arg0 v1 v305), ∀ (k0_h1 : k0_cond1 arg0 v1 = 1#1), 8 ∣ (k0_mult10 v305).toNat := fun arg0 v1 v305 k0_hw10 k0_h1 => k0_hw10.1 k0_h1
theorem k0_off19_inb : ∀ (arg0 : BitVec 32) (v1 : BitVec 32) (v305 : BitVec 32) (k0_hw10 : k0_chk10 arg0 v1 v305), ∀ (k0_h1 : k0_cond1 arg0 v1 = 1#1), ∀ a, (k0_off19 v305) a + S8x128.size a ≤ S7688x256.size a := fun arg0 v1 v305 k0_hw10 k0_h1 => k0_hw10.2.1 k0_h1
theorem k0_off20_inb : ∀ (arg0 : BitVec 32) (v1 : BitVec 32) (v305 : BitVec 32) (k0_hw10 : k0_chk10 arg0 v1 v305), ∀ (k0_h1 : k0_cond1 arg0 v1 = 1#1), ∀ a, (k0_off20 v305) a + S8x128.size a ≤ S7688x256.size a := fun arg0 v1 v305 k0_hw10 k0_h1 => k0_hw10.2.2 k0_h1

def k0_mult11 (v335 : BitVec 32) : BitVec 32 :=
  let c1_i32_90 : BitVec 32 := 1#32
  let v355 : BitVec 32 := Scalar.shrsi v335 c1_i32_90
  v355

def k0_off21 (v335 : BitVec 32) : Fin 2 → Nat :=
  let c1_i32_90 : BitVec 32 := 1#32
  let v355 : BitVec 32 := Scalar.shrsi v335 c1_i32_90
  let v356 : BitVec 32 := v355
  let v357 : Index := Scalar.indexCast v356
  let c0_91 : Index := 0#32
  ![v357.toNat, 0]
def k0_off22 (v335 : BitVec 32) : Fin 2 → Nat :=
  let c1_i32_90 : BitVec 32 := 1#32
  let v355 : BitVec 32 := Scalar.shrsi v335 c1_i32_90
  let v356 : BitVec 32 := v355
  let v361 : Index := Scalar.indexCast v356
  let c128_92 : Index := 128#32
  ![v361.toNat, 128]

def k0_chk11 (arg0 : BitVec 32) (v1 : BitVec 32) (v335 : BitVec 32) : Prop :=
  (∀ (k0_h1 : k0_cond1 arg0 v1 = 1#1), 8 ∣ (k0_mult11 v335).toNat) ∧
  (∀ (k0_h1 : k0_cond1 arg0 v1 = 1#1), ∀ a, (k0_off21 v335) a + S8x128.size a ≤ S7688x256.size a) ∧
  (∀ (k0_h1 : k0_cond1 arg0 v1 = 1#1), ∀ a, (k0_off22 v335) a + S8x128.size a ≤ S7688x256.size a)
theorem k0_mult11_dvd : ∀ (arg0 : BitVec 32) (v1 : BitVec 32) (v335 : BitVec 32) (k0_hw11 : k0_chk11 arg0 v1 v335), ∀ (k0_h1 : k0_cond1 arg0 v1 = 1#1), 8 ∣ (k0_mult11 v335).toNat := fun arg0 v1 v335 k0_hw11 k0_h1 => k0_hw11.1 k0_h1
theorem k0_off21_inb : ∀ (arg0 : BitVec 32) (v1 : BitVec 32) (v335 : BitVec 32) (k0_hw11 : k0_chk11 arg0 v1 v335), ∀ (k0_h1 : k0_cond1 arg0 v1 = 1#1), ∀ a, (k0_off21 v335) a + S8x128.size a ≤ S7688x256.size a := fun arg0 v1 v335 k0_hw11 k0_h1 => k0_hw11.2.1 k0_h1
theorem k0_off22_inb : ∀ (arg0 : BitVec 32) (v1 : BitVec 32) (v335 : BitVec 32) (k0_hw11 : k0_chk11 arg0 v1 v335), ∀ (k0_h1 : k0_cond1 arg0 v1 = 1#1), ∀ a, (k0_off22 v335) a + S8x128.size a ≤ S7688x256.size a := fun arg0 v1 v335 k0_hw11 k0_h1 => k0_hw11.2.2 k0_h1

def k0_mult12 (v365 : BitVec 32) : BitVec 32 :=
  let c1_i32_97 : BitVec 32 := 1#32
  let v385 : BitVec 32 := Scalar.shrsi v365 c1_i32_97
  v385

def k0_off23 (v365 : BitVec 32) : Fin 2 → Nat :=
  let c1_i32_97 : BitVec 32 := 1#32
  let v385 : BitVec 32 := Scalar.shrsi v365 c1_i32_97
  let v386 : BitVec 32 := v385
  let v387 : Index := Scalar.indexCast v386
  let c0_98 : Index := 0#32
  ![v387.toNat, 0]
def k0_off24 (v365 : BitVec 32) : Fin 2 → Nat :=
  let c1_i32_97 : BitVec 32 := 1#32
  let v385 : BitVec 32 := Scalar.shrsi v365 c1_i32_97
  let v386 : BitVec 32 := v385
  let v391 : Index := Scalar.indexCast v386
  let c128_99 : Index := 128#32
  ![v391.toNat, 128]

def k0_chk12 (arg0 : BitVec 32) (v1 : BitVec 32) (v365 : BitVec 32) : Prop :=
  (∀ (k0_h1 : k0_cond1 arg0 v1 = 1#1), 8 ∣ (k0_mult12 v365).toNat) ∧
  (∀ (k0_h1 : k0_cond1 arg0 v1 = 1#1), ∀ a, (k0_off23 v365) a + S8x128.size a ≤ S7688x256.size a) ∧
  (∀ (k0_h1 : k0_cond1 arg0 v1 = 1#1), ∀ a, (k0_off24 v365) a + S8x128.size a ≤ S7688x256.size a)
theorem k0_mult12_dvd : ∀ (arg0 : BitVec 32) (v1 : BitVec 32) (v365 : BitVec 32) (k0_hw12 : k0_chk12 arg0 v1 v365), ∀ (k0_h1 : k0_cond1 arg0 v1 = 1#1), 8 ∣ (k0_mult12 v365).toNat := fun arg0 v1 v365 k0_hw12 k0_h1 => k0_hw12.1 k0_h1
theorem k0_off23_inb : ∀ (arg0 : BitVec 32) (v1 : BitVec 32) (v365 : BitVec 32) (k0_hw12 : k0_chk12 arg0 v1 v365), ∀ (k0_h1 : k0_cond1 arg0 v1 = 1#1), ∀ a, (k0_off23 v365) a + S8x128.size a ≤ S7688x256.size a := fun arg0 v1 v365 k0_hw12 k0_h1 => k0_hw12.2.1 k0_h1
theorem k0_off24_inb : ∀ (arg0 : BitVec 32) (v1 : BitVec 32) (v365 : BitVec 32) (k0_hw12 : k0_chk12 arg0 v1 v365), ∀ (k0_h1 : k0_cond1 arg0 v1 = 1#1), ∀ a, (k0_off24 v365) a + S8x128.size a ≤ S7688x256.size a := fun arg0 v1 v365 k0_hw12 k0_h1 => k0_hw12.2.2 k0_h1

def k0_mult13 (v395 : BitVec 32) : BitVec 32 :=
  let c1_i32_104 : BitVec 32 := 1#32
  let v415 : BitVec 32 := Scalar.shrsi v395 c1_i32_104
  v415

def k0_off25 (v395 : BitVec 32) : Fin 2 → Nat :=
  let c1_i32_104 : BitVec 32 := 1#32
  let v415 : BitVec 32 := Scalar.shrsi v395 c1_i32_104
  let v416 : BitVec 32 := v415
  let v417 : Index := Scalar.indexCast v416
  let c0_105 : Index := 0#32
  ![v417.toNat, 0]
def k0_off26 (v395 : BitVec 32) : Fin 2 → Nat :=
  let c1_i32_104 : BitVec 32 := 1#32
  let v415 : BitVec 32 := Scalar.shrsi v395 c1_i32_104
  let v416 : BitVec 32 := v415
  let v421 : Index := Scalar.indexCast v416
  let c128_106 : Index := 128#32
  ![v421.toNat, 128]

def k0_chk13 (arg0 : BitVec 32) (v1 : BitVec 32) (v395 : BitVec 32) : Prop :=
  (∀ (k0_h1 : k0_cond1 arg0 v1 = 1#1), 8 ∣ (k0_mult13 v395).toNat) ∧
  (∀ (k0_h1 : k0_cond1 arg0 v1 = 1#1), ∀ a, (k0_off25 v395) a + S8x128.size a ≤ S7688x256.size a) ∧
  (∀ (k0_h1 : k0_cond1 arg0 v1 = 1#1), ∀ a, (k0_off26 v395) a + S8x128.size a ≤ S7688x256.size a)
theorem k0_mult13_dvd : ∀ (arg0 : BitVec 32) (v1 : BitVec 32) (v395 : BitVec 32) (k0_hw13 : k0_chk13 arg0 v1 v395), ∀ (k0_h1 : k0_cond1 arg0 v1 = 1#1), 8 ∣ (k0_mult13 v395).toNat := fun arg0 v1 v395 k0_hw13 k0_h1 => k0_hw13.1 k0_h1
theorem k0_off25_inb : ∀ (arg0 : BitVec 32) (v1 : BitVec 32) (v395 : BitVec 32) (k0_hw13 : k0_chk13 arg0 v1 v395), ∀ (k0_h1 : k0_cond1 arg0 v1 = 1#1), ∀ a, (k0_off25 v395) a + S8x128.size a ≤ S7688x256.size a := fun arg0 v1 v395 k0_hw13 k0_h1 => k0_hw13.2.1 k0_h1
theorem k0_off26_inb : ∀ (arg0 : BitVec 32) (v1 : BitVec 32) (v395 : BitVec 32) (k0_hw13 : k0_chk13 arg0 v1 v395), ∀ (k0_h1 : k0_cond1 arg0 v1 = 1#1), ∀ a, (k0_off26 v395) a + S8x128.size a ≤ S7688x256.size a := fun arg0 v1 v395 k0_hw13 k0_h1 => k0_hw13.2.2 k0_h1

def k0_mult14 (v425 : BitVec 32) : BitVec 32 :=
  let c1_i32_111 : BitVec 32 := 1#32
  let v445 : BitVec 32 := Scalar.shrsi v425 c1_i32_111
  v445

def k0_off27 (v425 : BitVec 32) : Fin 2 → Nat :=
  let c1_i32_111 : BitVec 32 := 1#32
  let v445 : BitVec 32 := Scalar.shrsi v425 c1_i32_111
  let v446 : BitVec 32 := v445
  let v447 : Index := Scalar.indexCast v446
  let c0_112 : Index := 0#32
  ![v447.toNat, 0]
def k0_off28 (v425 : BitVec 32) : Fin 2 → Nat :=
  let c1_i32_111 : BitVec 32 := 1#32
  let v445 : BitVec 32 := Scalar.shrsi v425 c1_i32_111
  let v446 : BitVec 32 := v445
  let v451 : Index := Scalar.indexCast v446
  let c128_113 : Index := 128#32
  ![v451.toNat, 128]

def k0_chk14 (arg0 : BitVec 32) (v1 : BitVec 32) (v425 : BitVec 32) : Prop :=
  (∀ (k0_h1 : k0_cond1 arg0 v1 = 1#1), 8 ∣ (k0_mult14 v425).toNat) ∧
  (∀ (k0_h1 : k0_cond1 arg0 v1 = 1#1), ∀ a, (k0_off27 v425) a + S8x128.size a ≤ S7688x256.size a) ∧
  (∀ (k0_h1 : k0_cond1 arg0 v1 = 1#1), ∀ a, (k0_off28 v425) a + S8x128.size a ≤ S7688x256.size a)
theorem k0_mult14_dvd : ∀ (arg0 : BitVec 32) (v1 : BitVec 32) (v425 : BitVec 32) (k0_hw14 : k0_chk14 arg0 v1 v425), ∀ (k0_h1 : k0_cond1 arg0 v1 = 1#1), 8 ∣ (k0_mult14 v425).toNat := fun arg0 v1 v425 k0_hw14 k0_h1 => k0_hw14.1 k0_h1
theorem k0_off27_inb : ∀ (arg0 : BitVec 32) (v1 : BitVec 32) (v425 : BitVec 32) (k0_hw14 : k0_chk14 arg0 v1 v425), ∀ (k0_h1 : k0_cond1 arg0 v1 = 1#1), ∀ a, (k0_off27 v425) a + S8x128.size a ≤ S7688x256.size a := fun arg0 v1 v425 k0_hw14 k0_h1 => k0_hw14.2.1 k0_h1
theorem k0_off28_inb : ∀ (arg0 : BitVec 32) (v1 : BitVec 32) (v425 : BitVec 32) (k0_hw14 : k0_chk14 arg0 v1 v425), ∀ (k0_h1 : k0_cond1 arg0 v1 = 1#1), ∀ a, (k0_off28 v425) a + S8x128.size a ≤ S7688x256.size a := fun arg0 v1 v425 k0_hw14 k0_h1 => k0_hw14.2.2 k0_h1

def k0_mult15 (v455 : BitVec 32) : BitVec 32 :=
  let c1_i32_118 : BitVec 32 := 1#32
  let v475 : BitVec 32 := Scalar.shrsi v455 c1_i32_118
  v475

def k0_off29 (v455 : BitVec 32) : Fin 2 → Nat :=
  let c1_i32_118 : BitVec 32 := 1#32
  let v475 : BitVec 32 := Scalar.shrsi v455 c1_i32_118
  let v476 : BitVec 32 := v475
  let v477 : Index := Scalar.indexCast v476
  let c0_119 : Index := 0#32
  ![v477.toNat, 0]
def k0_off30 (v455 : BitVec 32) : Fin 2 → Nat :=
  let c1_i32_118 : BitVec 32 := 1#32
  let v475 : BitVec 32 := Scalar.shrsi v455 c1_i32_118
  let v476 : BitVec 32 := v475
  let v481 : Index := Scalar.indexCast v476
  let c128_120 : Index := 128#32
  ![v481.toNat, 128]

def k0_chk15 (arg0 : BitVec 32) (v1 : BitVec 32) (v455 : BitVec 32) : Prop :=
  (∀ (k0_h1 : k0_cond1 arg0 v1 = 1#1), 8 ∣ (k0_mult15 v455).toNat) ∧
  (∀ (k0_h1 : k0_cond1 arg0 v1 = 1#1), ∀ a, (k0_off29 v455) a + S8x128.size a ≤ S7688x256.size a) ∧
  (∀ (k0_h1 : k0_cond1 arg0 v1 = 1#1), ∀ a, (k0_off30 v455) a + S8x128.size a ≤ S7688x256.size a)
theorem k0_mult15_dvd : ∀ (arg0 : BitVec 32) (v1 : BitVec 32) (v455 : BitVec 32) (k0_hw15 : k0_chk15 arg0 v1 v455), ∀ (k0_h1 : k0_cond1 arg0 v1 = 1#1), 8 ∣ (k0_mult15 v455).toNat := fun arg0 v1 v455 k0_hw15 k0_h1 => k0_hw15.1 k0_h1
theorem k0_off29_inb : ∀ (arg0 : BitVec 32) (v1 : BitVec 32) (v455 : BitVec 32) (k0_hw15 : k0_chk15 arg0 v1 v455), ∀ (k0_h1 : k0_cond1 arg0 v1 = 1#1), ∀ a, (k0_off29 v455) a + S8x128.size a ≤ S7688x256.size a := fun arg0 v1 v455 k0_hw15 k0_h1 => k0_hw15.2.1 k0_h1
theorem k0_off30_inb : ∀ (arg0 : BitVec 32) (v1 : BitVec 32) (v455 : BitVec 32) (k0_hw15 : k0_chk15 arg0 v1 v455), ∀ (k0_h1 : k0_cond1 arg0 v1 = 1#1), ∀ a, (k0_off30 v455) a + S8x128.size a ≤ S7688x256.size a := fun arg0 v1 v455 k0_hw15 k0_h1 => k0_hw15.2.2 k0_h1

def k0_mult16 (v485 : BitVec 32) : BitVec 32 :=
  let c1_i32_125 : BitVec 32 := 1#32
  let v505 : BitVec 32 := Scalar.shrsi v485 c1_i32_125
  v505

def k0_off31 (v485 : BitVec 32) : Fin 2 → Nat :=
  let c1_i32_125 : BitVec 32 := 1#32
  let v505 : BitVec 32 := Scalar.shrsi v485 c1_i32_125
  let v506 : BitVec 32 := v505
  let v507 : Index := Scalar.indexCast v506
  let c0_126 : Index := 0#32
  ![v507.toNat, 0]
def k0_off32 (v485 : BitVec 32) : Fin 2 → Nat :=
  let c1_i32_125 : BitVec 32 := 1#32
  let v505 : BitVec 32 := Scalar.shrsi v485 c1_i32_125
  let v506 : BitVec 32 := v505
  let v511 : Index := Scalar.indexCast v506
  let c128_127 : Index := 128#32
  ![v511.toNat, 128]

def k0_chk16 (arg0 : BitVec 32) (v1 : BitVec 32) (v485 : BitVec 32) : Prop :=
  (∀ (k0_h1 : k0_cond1 arg0 v1 = 1#1), 8 ∣ (k0_mult16 v485).toNat) ∧
  (∀ (k0_h1 : k0_cond1 arg0 v1 = 1#1), ∀ a, (k0_off31 v485) a + S8x128.size a ≤ S7688x256.size a) ∧
  (∀ (k0_h1 : k0_cond1 arg0 v1 = 1#1), ∀ a, (k0_off32 v485) a + S8x128.size a ≤ S7688x256.size a)
theorem k0_mult16_dvd : ∀ (arg0 : BitVec 32) (v1 : BitVec 32) (v485 : BitVec 32) (k0_hw16 : k0_chk16 arg0 v1 v485), ∀ (k0_h1 : k0_cond1 arg0 v1 = 1#1), 8 ∣ (k0_mult16 v485).toNat := fun arg0 v1 v485 k0_hw16 k0_h1 => k0_hw16.1 k0_h1
theorem k0_off31_inb : ∀ (arg0 : BitVec 32) (v1 : BitVec 32) (v485 : BitVec 32) (k0_hw16 : k0_chk16 arg0 v1 v485), ∀ (k0_h1 : k0_cond1 arg0 v1 = 1#1), ∀ a, (k0_off31 v485) a + S8x128.size a ≤ S7688x256.size a := fun arg0 v1 v485 k0_hw16 k0_h1 => k0_hw16.2.1 k0_h1
theorem k0_off32_inb : ∀ (arg0 : BitVec 32) (v1 : BitVec 32) (v485 : BitVec 32) (k0_hw16 : k0_chk16 arg0 v1 v485), ∀ (k0_h1 : k0_cond1 arg0 v1 = 1#1), ∀ a, (k0_off32 v485) a + S8x128.size a ≤ S7688x256.size a := fun arg0 v1 v485 k0_hw16 k0_h1 => k0_hw16.2.2 k0_h1

def k0_mult17 (v515 : BitVec 32) : BitVec 32 :=
  let c1_i32_132 : BitVec 32 := 1#32
  let v535 : BitVec 32 := Scalar.shrsi v515 c1_i32_132
  v535

def k0_off33 (v515 : BitVec 32) : Fin 2 → Nat :=
  let c1_i32_132 : BitVec 32 := 1#32
  let v535 : BitVec 32 := Scalar.shrsi v515 c1_i32_132
  let v536 : BitVec 32 := v535
  let v537 : Index := Scalar.indexCast v536
  let c0_133 : Index := 0#32
  ![v537.toNat, 0]
def k0_off34 (v515 : BitVec 32) : Fin 2 → Nat :=
  let c1_i32_132 : BitVec 32 := 1#32
  let v535 : BitVec 32 := Scalar.shrsi v515 c1_i32_132
  let v536 : BitVec 32 := v535
  let v541 : Index := Scalar.indexCast v536
  let c128_134 : Index := 128#32
  ![v541.toNat, 128]

def k0_chk17 (arg0 : BitVec 32) (v1 : BitVec 32) (v515 : BitVec 32) : Prop :=
  (∀ (k0_h1 : k0_cond1 arg0 v1 = 1#1), 8 ∣ (k0_mult17 v515).toNat) ∧
  (∀ (k0_h1 : k0_cond1 arg0 v1 = 1#1), ∀ a, (k0_off33 v515) a + S8x128.size a ≤ S7688x256.size a) ∧
  (∀ (k0_h1 : k0_cond1 arg0 v1 = 1#1), ∀ a, (k0_off34 v515) a + S8x128.size a ≤ S7688x256.size a)
theorem k0_mult17_dvd : ∀ (arg0 : BitVec 32) (v1 : BitVec 32) (v515 : BitVec 32) (k0_hw17 : k0_chk17 arg0 v1 v515), ∀ (k0_h1 : k0_cond1 arg0 v1 = 1#1), 8 ∣ (k0_mult17 v515).toNat := fun arg0 v1 v515 k0_hw17 k0_h1 => k0_hw17.1 k0_h1
theorem k0_off33_inb : ∀ (arg0 : BitVec 32) (v1 : BitVec 32) (v515 : BitVec 32) (k0_hw17 : k0_chk17 arg0 v1 v515), ∀ (k0_h1 : k0_cond1 arg0 v1 = 1#1), ∀ a, (k0_off33 v515) a + S8x128.size a ≤ S7688x256.size a := fun arg0 v1 v515 k0_hw17 k0_h1 => k0_hw17.2.1 k0_h1
theorem k0_off34_inb : ∀ (arg0 : BitVec 32) (v1 : BitVec 32) (v515 : BitVec 32) (k0_hw17 : k0_chk17 arg0 v1 v515), ∀ (k0_h1 : k0_cond1 arg0 v1 = 1#1), ∀ a, (k0_off34 v515) a + S8x128.size a ≤ S7688x256.size a := fun arg0 v1 v515 k0_hw17 k0_h1 => k0_hw17.2.2 k0_h1

def k0_mult18 (v545 : BitVec 32) : BitVec 32 :=
  let c1_i32_139 : BitVec 32 := 1#32
  let v565 : BitVec 32 := Scalar.shrsi v545 c1_i32_139
  v565

def k0_off35 (v545 : BitVec 32) : Fin 2 → Nat :=
  let c1_i32_139 : BitVec 32 := 1#32
  let v565 : BitVec 32 := Scalar.shrsi v545 c1_i32_139
  let v566 : BitVec 32 := v565
  let v567 : Index := Scalar.indexCast v566
  let c0_140 : Index := 0#32
  ![v567.toNat, 0]
def k0_off36 (v545 : BitVec 32) : Fin 2 → Nat :=
  let c1_i32_139 : BitVec 32 := 1#32
  let v565 : BitVec 32 := Scalar.shrsi v545 c1_i32_139
  let v566 : BitVec 32 := v565
  let v571 : Index := Scalar.indexCast v566
  let c128_141 : Index := 128#32
  ![v571.toNat, 128]

def k0_chk18 (arg0 : BitVec 32) (v1 : BitVec 32) (v545 : BitVec 32) : Prop :=
  (∀ (k0_h1 : k0_cond1 arg0 v1 = 1#1), 8 ∣ (k0_mult18 v545).toNat) ∧
  (∀ (k0_h1 : k0_cond1 arg0 v1 = 1#1), ∀ a, (k0_off35 v545) a + S8x128.size a ≤ S7688x256.size a) ∧
  (∀ (k0_h1 : k0_cond1 arg0 v1 = 1#1), ∀ a, (k0_off36 v545) a + S8x128.size a ≤ S7688x256.size a)
theorem k0_mult18_dvd : ∀ (arg0 : BitVec 32) (v1 : BitVec 32) (v545 : BitVec 32) (k0_hw18 : k0_chk18 arg0 v1 v545), ∀ (k0_h1 : k0_cond1 arg0 v1 = 1#1), 8 ∣ (k0_mult18 v545).toNat := fun arg0 v1 v545 k0_hw18 k0_h1 => k0_hw18.1 k0_h1
theorem k0_off35_inb : ∀ (arg0 : BitVec 32) (v1 : BitVec 32) (v545 : BitVec 32) (k0_hw18 : k0_chk18 arg0 v1 v545), ∀ (k0_h1 : k0_cond1 arg0 v1 = 1#1), ∀ a, (k0_off35 v545) a + S8x128.size a ≤ S7688x256.size a := fun arg0 v1 v545 k0_hw18 k0_h1 => k0_hw18.2.1 k0_h1
theorem k0_off36_inb : ∀ (arg0 : BitVec 32) (v1 : BitVec 32) (v545 : BitVec 32) (k0_hw18 : k0_chk18 arg0 v1 v545), ∀ (k0_h1 : k0_cond1 arg0 v1 = 1#1), ∀ a, (k0_off36 v545) a + S8x128.size a ≤ S7688x256.size a := fun arg0 v1 v545 k0_hw18 k0_h1 => k0_hw18.2.2 k0_h1

def k0_mult19 (v575 : BitVec 32) : BitVec 32 :=
  let c1_i32_146 : BitVec 32 := 1#32
  let v595 : BitVec 32 := Scalar.shrsi v575 c1_i32_146
  v595

def k0_off37 (v575 : BitVec 32) : Fin 2 → Nat :=
  let c1_i32_146 : BitVec 32 := 1#32
  let v595 : BitVec 32 := Scalar.shrsi v575 c1_i32_146
  let v596 : BitVec 32 := v595
  let v597 : Index := Scalar.indexCast v596
  let c0_147 : Index := 0#32
  ![v597.toNat, 0]
def k0_off38 (v575 : BitVec 32) : Fin 2 → Nat :=
  let c1_i32_146 : BitVec 32 := 1#32
  let v595 : BitVec 32 := Scalar.shrsi v575 c1_i32_146
  let v596 : BitVec 32 := v595
  let v601 : Index := Scalar.indexCast v596
  let c128_148 : Index := 128#32
  ![v601.toNat, 128]

def k0_chk19 (arg0 : BitVec 32) (v1 : BitVec 32) (v575 : BitVec 32) : Prop :=
  (∀ (k0_h1 : k0_cond1 arg0 v1 = 1#1), 8 ∣ (k0_mult19 v575).toNat) ∧
  (∀ (k0_h1 : k0_cond1 arg0 v1 = 1#1), ∀ a, (k0_off37 v575) a + S8x128.size a ≤ S7688x256.size a) ∧
  (∀ (k0_h1 : k0_cond1 arg0 v1 = 1#1), ∀ a, (k0_off38 v575) a + S8x128.size a ≤ S7688x256.size a)
theorem k0_mult19_dvd : ∀ (arg0 : BitVec 32) (v1 : BitVec 32) (v575 : BitVec 32) (k0_hw19 : k0_chk19 arg0 v1 v575), ∀ (k0_h1 : k0_cond1 arg0 v1 = 1#1), 8 ∣ (k0_mult19 v575).toNat := fun arg0 v1 v575 k0_hw19 k0_h1 => k0_hw19.1 k0_h1
theorem k0_off37_inb : ∀ (arg0 : BitVec 32) (v1 : BitVec 32) (v575 : BitVec 32) (k0_hw19 : k0_chk19 arg0 v1 v575), ∀ (k0_h1 : k0_cond1 arg0 v1 = 1#1), ∀ a, (k0_off37 v575) a + S8x128.size a ≤ S7688x256.size a := fun arg0 v1 v575 k0_hw19 k0_h1 => k0_hw19.2.1 k0_h1
theorem k0_off38_inb : ∀ (arg0 : BitVec 32) (v1 : BitVec 32) (v575 : BitVec 32) (k0_hw19 : k0_chk19 arg0 v1 v575), ∀ (k0_h1 : k0_cond1 arg0 v1 = 1#1), ∀ a, (k0_off38 v575) a + S8x128.size a ≤ S7688x256.size a := fun arg0 v1 v575 k0_hw19 k0_h1 => k0_hw19.2.2 k0_h1

def k0_mult20 (v605 : BitVec 32) : BitVec 32 :=
  let c1_i32_153 : BitVec 32 := 1#32
  let v625 : BitVec 32 := Scalar.shrsi v605 c1_i32_153
  v625

def k0_off39 (v605 : BitVec 32) : Fin 2 → Nat :=
  let c1_i32_153 : BitVec 32 := 1#32
  let v625 : BitVec 32 := Scalar.shrsi v605 c1_i32_153
  let v626 : BitVec 32 := v625
  let v627 : Index := Scalar.indexCast v626
  let c0_154 : Index := 0#32
  ![v627.toNat, 0]
def k0_off40 (v605 : BitVec 32) : Fin 2 → Nat :=
  let c1_i32_153 : BitVec 32 := 1#32
  let v625 : BitVec 32 := Scalar.shrsi v605 c1_i32_153
  let v626 : BitVec 32 := v625
  let v631 : Index := Scalar.indexCast v626
  let c128_155 : Index := 128#32
  ![v631.toNat, 128]

def k0_chk20 (arg0 : BitVec 32) (v1 : BitVec 32) (v605 : BitVec 32) : Prop :=
  (∀ (k0_h1 : k0_cond1 arg0 v1 = 1#1), 8 ∣ (k0_mult20 v605).toNat) ∧
  (∀ (k0_h1 : k0_cond1 arg0 v1 = 1#1), ∀ a, (k0_off39 v605) a + S8x128.size a ≤ S7688x256.size a) ∧
  (∀ (k0_h1 : k0_cond1 arg0 v1 = 1#1), ∀ a, (k0_off40 v605) a + S8x128.size a ≤ S7688x256.size a)
theorem k0_mult20_dvd : ∀ (arg0 : BitVec 32) (v1 : BitVec 32) (v605 : BitVec 32) (k0_hw20 : k0_chk20 arg0 v1 v605), ∀ (k0_h1 : k0_cond1 arg0 v1 = 1#1), 8 ∣ (k0_mult20 v605).toNat := fun arg0 v1 v605 k0_hw20 k0_h1 => k0_hw20.1 k0_h1
theorem k0_off39_inb : ∀ (arg0 : BitVec 32) (v1 : BitVec 32) (v605 : BitVec 32) (k0_hw20 : k0_chk20 arg0 v1 v605), ∀ (k0_h1 : k0_cond1 arg0 v1 = 1#1), ∀ a, (k0_off39 v605) a + S8x128.size a ≤ S7688x256.size a := fun arg0 v1 v605 k0_hw20 k0_h1 => k0_hw20.2.1 k0_h1
theorem k0_off40_inb : ∀ (arg0 : BitVec 32) (v1 : BitVec 32) (v605 : BitVec 32) (k0_hw20 : k0_chk20 arg0 v1 v605), ∀ (k0_h1 : k0_cond1 arg0 v1 = 1#1), ∀ a, (k0_off40 v605) a + S8x128.size a ≤ S7688x256.size a := fun arg0 v1 v605 k0_hw20 k0_h1 => k0_hw20.2.2 k0_h1

def k0_mult21 (v635 : BitVec 32) : BitVec 32 :=
  let c1_i32_160 : BitVec 32 := 1#32
  let v655 : BitVec 32 := Scalar.shrsi v635 c1_i32_160
  v655

def k0_off41 (v635 : BitVec 32) : Fin 2 → Nat :=
  let c1_i32_160 : BitVec 32 := 1#32
  let v655 : BitVec 32 := Scalar.shrsi v635 c1_i32_160
  let v656 : BitVec 32 := v655
  let v657 : Index := Scalar.indexCast v656
  let c0_161 : Index := 0#32
  ![v657.toNat, 0]
def k0_off42 (v635 : BitVec 32) : Fin 2 → Nat :=
  let c1_i32_160 : BitVec 32 := 1#32
  let v655 : BitVec 32 := Scalar.shrsi v635 c1_i32_160
  let v656 : BitVec 32 := v655
  let v661 : Index := Scalar.indexCast v656
  let c128_162 : Index := 128#32
  ![v661.toNat, 128]

def k0_chk21 (arg0 : BitVec 32) (v1 : BitVec 32) (v635 : BitVec 32) : Prop :=
  (∀ (k0_h1 : k0_cond1 arg0 v1 = 1#1), 8 ∣ (k0_mult21 v635).toNat) ∧
  (∀ (k0_h1 : k0_cond1 arg0 v1 = 1#1), ∀ a, (k0_off41 v635) a + S8x128.size a ≤ S7688x256.size a) ∧
  (∀ (k0_h1 : k0_cond1 arg0 v1 = 1#1), ∀ a, (k0_off42 v635) a + S8x128.size a ≤ S7688x256.size a)
theorem k0_mult21_dvd : ∀ (arg0 : BitVec 32) (v1 : BitVec 32) (v635 : BitVec 32) (k0_hw21 : k0_chk21 arg0 v1 v635), ∀ (k0_h1 : k0_cond1 arg0 v1 = 1#1), 8 ∣ (k0_mult21 v635).toNat := fun arg0 v1 v635 k0_hw21 k0_h1 => k0_hw21.1 k0_h1
theorem k0_off41_inb : ∀ (arg0 : BitVec 32) (v1 : BitVec 32) (v635 : BitVec 32) (k0_hw21 : k0_chk21 arg0 v1 v635), ∀ (k0_h1 : k0_cond1 arg0 v1 = 1#1), ∀ a, (k0_off41 v635) a + S8x128.size a ≤ S7688x256.size a := fun arg0 v1 v635 k0_hw21 k0_h1 => k0_hw21.2.1 k0_h1
theorem k0_off42_inb : ∀ (arg0 : BitVec 32) (v1 : BitVec 32) (v635 : BitVec 32) (k0_hw21 : k0_chk21 arg0 v1 v635), ∀ (k0_h1 : k0_cond1 arg0 v1 = 1#1), ∀ a, (k0_off42 v635) a + S8x128.size a ≤ S7688x256.size a := fun arg0 v1 v635 k0_hw21 k0_h1 => k0_hw21.2.2 k0_h1

def k0_mult22 (v665 : BitVec 32) : BitVec 32 :=
  let c1_i32_167 : BitVec 32 := 1#32
  let v685 : BitVec 32 := Scalar.shrsi v665 c1_i32_167
  v685

def k0_off43 (v665 : BitVec 32) : Fin 2 → Nat :=
  let c1_i32_167 : BitVec 32 := 1#32
  let v685 : BitVec 32 := Scalar.shrsi v665 c1_i32_167
  let v686 : BitVec 32 := v685
  let v687 : Index := Scalar.indexCast v686
  let c0_168 : Index := 0#32
  ![v687.toNat, 0]
def k0_off44 (v665 : BitVec 32) : Fin 2 → Nat :=
  let c1_i32_167 : BitVec 32 := 1#32
  let v685 : BitVec 32 := Scalar.shrsi v665 c1_i32_167
  let v686 : BitVec 32 := v685
  let v691 : Index := Scalar.indexCast v686
  let c128_169 : Index := 128#32
  ![v691.toNat, 128]

def k0_chk22 (arg0 : BitVec 32) (v1 : BitVec 32) (v665 : BitVec 32) : Prop :=
  (∀ (k0_h1 : k0_cond1 arg0 v1 = 1#1), 8 ∣ (k0_mult22 v665).toNat) ∧
  (∀ (k0_h1 : k0_cond1 arg0 v1 = 1#1), ∀ a, (k0_off43 v665) a + S8x128.size a ≤ S7688x256.size a) ∧
  (∀ (k0_h1 : k0_cond1 arg0 v1 = 1#1), ∀ a, (k0_off44 v665) a + S8x128.size a ≤ S7688x256.size a)
theorem k0_mult22_dvd : ∀ (arg0 : BitVec 32) (v1 : BitVec 32) (v665 : BitVec 32) (k0_hw22 : k0_chk22 arg0 v1 v665), ∀ (k0_h1 : k0_cond1 arg0 v1 = 1#1), 8 ∣ (k0_mult22 v665).toNat := fun arg0 v1 v665 k0_hw22 k0_h1 => k0_hw22.1 k0_h1
theorem k0_off43_inb : ∀ (arg0 : BitVec 32) (v1 : BitVec 32) (v665 : BitVec 32) (k0_hw22 : k0_chk22 arg0 v1 v665), ∀ (k0_h1 : k0_cond1 arg0 v1 = 1#1), ∀ a, (k0_off43 v665) a + S8x128.size a ≤ S7688x256.size a := fun arg0 v1 v665 k0_hw22 k0_h1 => k0_hw22.2.1 k0_h1
theorem k0_off44_inb : ∀ (arg0 : BitVec 32) (v1 : BitVec 32) (v665 : BitVec 32) (k0_hw22 : k0_chk22 arg0 v1 v665), ∀ (k0_h1 : k0_cond1 arg0 v1 = 1#1), ∀ a, (k0_off44 v665) a + S8x128.size a ≤ S7688x256.size a := fun arg0 v1 v665 k0_hw22 k0_h1 => k0_hw22.2.2 k0_h1

def k0_mult23 (v695 : BitVec 32) : BitVec 32 :=
  let c1_i32_174 : BitVec 32 := 1#32
  let v715 : BitVec 32 := Scalar.shrsi v695 c1_i32_174
  v715

def k0_off45 (v695 : BitVec 32) : Fin 2 → Nat :=
  let c1_i32_174 : BitVec 32 := 1#32
  let v715 : BitVec 32 := Scalar.shrsi v695 c1_i32_174
  let v716 : BitVec 32 := v715
  let v717 : Index := Scalar.indexCast v716
  let c0_175 : Index := 0#32
  ![v717.toNat, 0]
def k0_off46 (v695 : BitVec 32) : Fin 2 → Nat :=
  let c1_i32_174 : BitVec 32 := 1#32
  let v715 : BitVec 32 := Scalar.shrsi v695 c1_i32_174
  let v716 : BitVec 32 := v715
  let v721 : Index := Scalar.indexCast v716
  let c128_176 : Index := 128#32
  ![v721.toNat, 128]

def k0_chk23 (arg0 : BitVec 32) (v1 : BitVec 32) (v695 : BitVec 32) : Prop :=
  (∀ (k0_h1 : k0_cond1 arg0 v1 = 1#1), 8 ∣ (k0_mult23 v695).toNat) ∧
  (∀ (k0_h1 : k0_cond1 arg0 v1 = 1#1), ∀ a, (k0_off45 v695) a + S8x128.size a ≤ S7688x256.size a) ∧
  (∀ (k0_h1 : k0_cond1 arg0 v1 = 1#1), ∀ a, (k0_off46 v695) a + S8x128.size a ≤ S7688x256.size a)
theorem k0_mult23_dvd : ∀ (arg0 : BitVec 32) (v1 : BitVec 32) (v695 : BitVec 32) (k0_hw23 : k0_chk23 arg0 v1 v695), ∀ (k0_h1 : k0_cond1 arg0 v1 = 1#1), 8 ∣ (k0_mult23 v695).toNat := fun arg0 v1 v695 k0_hw23 k0_h1 => k0_hw23.1 k0_h1
theorem k0_off45_inb : ∀ (arg0 : BitVec 32) (v1 : BitVec 32) (v695 : BitVec 32) (k0_hw23 : k0_chk23 arg0 v1 v695), ∀ (k0_h1 : k0_cond1 arg0 v1 = 1#1), ∀ a, (k0_off45 v695) a + S8x128.size a ≤ S7688x256.size a := fun arg0 v1 v695 k0_hw23 k0_h1 => k0_hw23.2.1 k0_h1
theorem k0_off46_inb : ∀ (arg0 : BitVec 32) (v1 : BitVec 32) (v695 : BitVec 32) (k0_hw23 : k0_chk23 arg0 v1 v695), ∀ (k0_h1 : k0_cond1 arg0 v1 = 1#1), ∀ a, (k0_off46 v695) a + S8x128.size a ≤ S7688x256.size a := fun arg0 v1 v695 k0_hw23 k0_h1 => k0_hw23.2.2 k0_h1

def k0_mult24 (v725 : BitVec 32) : BitVec 32 :=
  let c1_i32_181 : BitVec 32 := 1#32
  let v745 : BitVec 32 := Scalar.shrsi v725 c1_i32_181
  v745

def k0_off47 (v725 : BitVec 32) : Fin 2 → Nat :=
  let c1_i32_181 : BitVec 32 := 1#32
  let v745 : BitVec 32 := Scalar.shrsi v725 c1_i32_181
  let v746 : BitVec 32 := v745
  let v747 : Index := Scalar.indexCast v746
  let c0_182 : Index := 0#32
  ![v747.toNat, 0]
def k0_off48 (v725 : BitVec 32) : Fin 2 → Nat :=
  let c1_i32_181 : BitVec 32 := 1#32
  let v745 : BitVec 32 := Scalar.shrsi v725 c1_i32_181
  let v746 : BitVec 32 := v745
  let v751 : Index := Scalar.indexCast v746
  let c128_183 : Index := 128#32
  ![v751.toNat, 128]

def k0_chk24 (arg0 : BitVec 32) (v1 : BitVec 32) (v725 : BitVec 32) : Prop :=
  (∀ (k0_h1 : k0_cond1 arg0 v1 = 1#1), 8 ∣ (k0_mult24 v725).toNat) ∧
  (∀ (k0_h1 : k0_cond1 arg0 v1 = 1#1), ∀ a, (k0_off47 v725) a + S8x128.size a ≤ S7688x256.size a) ∧
  (∀ (k0_h1 : k0_cond1 arg0 v1 = 1#1), ∀ a, (k0_off48 v725) a + S8x128.size a ≤ S7688x256.size a)
theorem k0_mult24_dvd : ∀ (arg0 : BitVec 32) (v1 : BitVec 32) (v725 : BitVec 32) (k0_hw24 : k0_chk24 arg0 v1 v725), ∀ (k0_h1 : k0_cond1 arg0 v1 = 1#1), 8 ∣ (k0_mult24 v725).toNat := fun arg0 v1 v725 k0_hw24 k0_h1 => k0_hw24.1 k0_h1
theorem k0_off47_inb : ∀ (arg0 : BitVec 32) (v1 : BitVec 32) (v725 : BitVec 32) (k0_hw24 : k0_chk24 arg0 v1 v725), ∀ (k0_h1 : k0_cond1 arg0 v1 = 1#1), ∀ a, (k0_off47 v725) a + S8x128.size a ≤ S7688x256.size a := fun arg0 v1 v725 k0_hw24 k0_h1 => k0_hw24.2.1 k0_h1
theorem k0_off48_inb : ∀ (arg0 : BitVec 32) (v1 : BitVec 32) (v725 : BitVec 32) (k0_hw24 : k0_chk24 arg0 v1 v725), ∀ (k0_h1 : k0_cond1 arg0 v1 = 1#1), ∀ a, (k0_off48 v725) a + S8x128.size a ≤ S7688x256.size a := fun arg0 v1 v725 k0_hw24 k0_h1 => k0_hw24.2.2 k0_h1

def k0_mult25 (v755 : BitVec 32) : BitVec 32 :=
  let c1_i32_188 : BitVec 32 := 1#32
  let v775 : BitVec 32 := Scalar.shrsi v755 c1_i32_188
  v775

def k0_off49 (v755 : BitVec 32) : Fin 2 → Nat :=
  let c1_i32_188 : BitVec 32 := 1#32
  let v775 : BitVec 32 := Scalar.shrsi v755 c1_i32_188
  let v776 : BitVec 32 := v775
  let v777 : Index := Scalar.indexCast v776
  let c0_189 : Index := 0#32
  ![v777.toNat, 0]
def k0_off50 (v755 : BitVec 32) : Fin 2 → Nat :=
  let c1_i32_188 : BitVec 32 := 1#32
  let v775 : BitVec 32 := Scalar.shrsi v755 c1_i32_188
  let v776 : BitVec 32 := v775
  let v781 : Index := Scalar.indexCast v776
  let c128_190 : Index := 128#32
  ![v781.toNat, 128]

def k0_chk25 (arg0 : BitVec 32) (v1 : BitVec 32) (v755 : BitVec 32) : Prop :=
  (∀ (k0_h1 : k0_cond1 arg0 v1 = 1#1), 8 ∣ (k0_mult25 v755).toNat) ∧
  (∀ (k0_h1 : k0_cond1 arg0 v1 = 1#1), ∀ a, (k0_off49 v755) a + S8x128.size a ≤ S7688x256.size a) ∧
  (∀ (k0_h1 : k0_cond1 arg0 v1 = 1#1), ∀ a, (k0_off50 v755) a + S8x128.size a ≤ S7688x256.size a)
theorem k0_mult25_dvd : ∀ (arg0 : BitVec 32) (v1 : BitVec 32) (v755 : BitVec 32) (k0_hw25 : k0_chk25 arg0 v1 v755), ∀ (k0_h1 : k0_cond1 arg0 v1 = 1#1), 8 ∣ (k0_mult25 v755).toNat := fun arg0 v1 v755 k0_hw25 k0_h1 => k0_hw25.1 k0_h1
theorem k0_off49_inb : ∀ (arg0 : BitVec 32) (v1 : BitVec 32) (v755 : BitVec 32) (k0_hw25 : k0_chk25 arg0 v1 v755), ∀ (k0_h1 : k0_cond1 arg0 v1 = 1#1), ∀ a, (k0_off49 v755) a + S8x128.size a ≤ S7688x256.size a := fun arg0 v1 v755 k0_hw25 k0_h1 => k0_hw25.2.1 k0_h1
theorem k0_off50_inb : ∀ (arg0 : BitVec 32) (v1 : BitVec 32) (v755 : BitVec 32) (k0_hw25 : k0_chk25 arg0 v1 v755), ∀ (k0_h1 : k0_cond1 arg0 v1 = 1#1), ∀ a, (k0_off50 v755) a + S8x128.size a ≤ S7688x256.size a := fun arg0 v1 v755 k0_hw25 k0_h1 => k0_hw25.2.2 k0_h1

def k0_mult26 (v785 : BitVec 32) : BitVec 32 :=
  let c1_i32_195 : BitVec 32 := 1#32
  let v805 : BitVec 32 := Scalar.shrsi v785 c1_i32_195
  v805

def k0_off51 (v785 : BitVec 32) : Fin 2 → Nat :=
  let c1_i32_195 : BitVec 32 := 1#32
  let v805 : BitVec 32 := Scalar.shrsi v785 c1_i32_195
  let v806 : BitVec 32 := v805
  let v807 : Index := Scalar.indexCast v806
  let c0_196 : Index := 0#32
  ![v807.toNat, 0]
def k0_off52 (v785 : BitVec 32) : Fin 2 → Nat :=
  let c1_i32_195 : BitVec 32 := 1#32
  let v805 : BitVec 32 := Scalar.shrsi v785 c1_i32_195
  let v806 : BitVec 32 := v805
  let v811 : Index := Scalar.indexCast v806
  let c128_197 : Index := 128#32
  ![v811.toNat, 128]

def k0_chk26 (arg0 : BitVec 32) (v1 : BitVec 32) (v785 : BitVec 32) : Prop :=
  (∀ (k0_h1 : k0_cond1 arg0 v1 = 1#1), 8 ∣ (k0_mult26 v785).toNat) ∧
  (∀ (k0_h1 : k0_cond1 arg0 v1 = 1#1), ∀ a, (k0_off51 v785) a + S8x128.size a ≤ S7688x256.size a) ∧
  (∀ (k0_h1 : k0_cond1 arg0 v1 = 1#1), ∀ a, (k0_off52 v785) a + S8x128.size a ≤ S7688x256.size a)
theorem k0_mult26_dvd : ∀ (arg0 : BitVec 32) (v1 : BitVec 32) (v785 : BitVec 32) (k0_hw26 : k0_chk26 arg0 v1 v785), ∀ (k0_h1 : k0_cond1 arg0 v1 = 1#1), 8 ∣ (k0_mult26 v785).toNat := fun arg0 v1 v785 k0_hw26 k0_h1 => k0_hw26.1 k0_h1
theorem k0_off51_inb : ∀ (arg0 : BitVec 32) (v1 : BitVec 32) (v785 : BitVec 32) (k0_hw26 : k0_chk26 arg0 v1 v785), ∀ (k0_h1 : k0_cond1 arg0 v1 = 1#1), ∀ a, (k0_off51 v785) a + S8x128.size a ≤ S7688x256.size a := fun arg0 v1 v785 k0_hw26 k0_h1 => k0_hw26.2.1 k0_h1
theorem k0_off52_inb : ∀ (arg0 : BitVec 32) (v1 : BitVec 32) (v785 : BitVec 32) (k0_hw26 : k0_chk26 arg0 v1 v785), ∀ (k0_h1 : k0_cond1 arg0 v1 = 1#1), ∀ a, (k0_off52 v785) a + S8x128.size a ≤ S7688x256.size a := fun arg0 v1 v785 k0_hw26 k0_h1 => k0_hw26.2.2 k0_h1

def k0_mult27 (v815 : BitVec 32) : BitVec 32 :=
  let c1_i32_202 : BitVec 32 := 1#32
  let v835 : BitVec 32 := Scalar.shrsi v815 c1_i32_202
  v835

def k0_off53 (v815 : BitVec 32) : Fin 2 → Nat :=
  let c1_i32_202 : BitVec 32 := 1#32
  let v835 : BitVec 32 := Scalar.shrsi v815 c1_i32_202
  let v836 : BitVec 32 := v835
  let v837 : Index := Scalar.indexCast v836
  let c0_203 : Index := 0#32
  ![v837.toNat, 0]
def k0_off54 (v815 : BitVec 32) : Fin 2 → Nat :=
  let c1_i32_202 : BitVec 32 := 1#32
  let v835 : BitVec 32 := Scalar.shrsi v815 c1_i32_202
  let v836 : BitVec 32 := v835
  let v841 : Index := Scalar.indexCast v836
  let c128_204 : Index := 128#32
  ![v841.toNat, 128]

def k0_chk27 (arg0 : BitVec 32) (v1 : BitVec 32) (v815 : BitVec 32) : Prop :=
  (∀ (k0_h1 : k0_cond1 arg0 v1 = 1#1), 8 ∣ (k0_mult27 v815).toNat) ∧
  (∀ (k0_h1 : k0_cond1 arg0 v1 = 1#1), ∀ a, (k0_off53 v815) a + S8x128.size a ≤ S7688x256.size a) ∧
  (∀ (k0_h1 : k0_cond1 arg0 v1 = 1#1), ∀ a, (k0_off54 v815) a + S8x128.size a ≤ S7688x256.size a)
theorem k0_mult27_dvd : ∀ (arg0 : BitVec 32) (v1 : BitVec 32) (v815 : BitVec 32) (k0_hw27 : k0_chk27 arg0 v1 v815), ∀ (k0_h1 : k0_cond1 arg0 v1 = 1#1), 8 ∣ (k0_mult27 v815).toNat := fun arg0 v1 v815 k0_hw27 k0_h1 => k0_hw27.1 k0_h1
theorem k0_off53_inb : ∀ (arg0 : BitVec 32) (v1 : BitVec 32) (v815 : BitVec 32) (k0_hw27 : k0_chk27 arg0 v1 v815), ∀ (k0_h1 : k0_cond1 arg0 v1 = 1#1), ∀ a, (k0_off53 v815) a + S8x128.size a ≤ S7688x256.size a := fun arg0 v1 v815 k0_hw27 k0_h1 => k0_hw27.2.1 k0_h1
theorem k0_off54_inb : ∀ (arg0 : BitVec 32) (v1 : BitVec 32) (v815 : BitVec 32) (k0_hw27 : k0_chk27 arg0 v1 v815), ∀ (k0_h1 : k0_cond1 arg0 v1 = 1#1), ∀ a, (k0_off54 v815) a + S8x128.size a ≤ S7688x256.size a := fun arg0 v1 v815 k0_hw27 k0_h1 => k0_hw27.2.2 k0_h1

def k0_mult28 (v845 : BitVec 32) : BitVec 32 :=
  let c1_i32_209 : BitVec 32 := 1#32
  let v865 : BitVec 32 := Scalar.shrsi v845 c1_i32_209
  v865

def k0_off55 (v845 : BitVec 32) : Fin 2 → Nat :=
  let c1_i32_209 : BitVec 32 := 1#32
  let v865 : BitVec 32 := Scalar.shrsi v845 c1_i32_209
  let v866 : BitVec 32 := v865
  let v867 : Index := Scalar.indexCast v866
  let c0_210 : Index := 0#32
  ![v867.toNat, 0]
def k0_off56 (v845 : BitVec 32) : Fin 2 → Nat :=
  let c1_i32_209 : BitVec 32 := 1#32
  let v865 : BitVec 32 := Scalar.shrsi v845 c1_i32_209
  let v866 : BitVec 32 := v865
  let v871 : Index := Scalar.indexCast v866
  let c128_211 : Index := 128#32
  ![v871.toNat, 128]

def k0_chk28 (arg0 : BitVec 32) (v1 : BitVec 32) (v845 : BitVec 32) : Prop :=
  (∀ (k0_h1 : k0_cond1 arg0 v1 = 1#1), 8 ∣ (k0_mult28 v845).toNat) ∧
  (∀ (k0_h1 : k0_cond1 arg0 v1 = 1#1), ∀ a, (k0_off55 v845) a + S8x128.size a ≤ S7688x256.size a) ∧
  (∀ (k0_h1 : k0_cond1 arg0 v1 = 1#1), ∀ a, (k0_off56 v845) a + S8x128.size a ≤ S7688x256.size a)
theorem k0_mult28_dvd : ∀ (arg0 : BitVec 32) (v1 : BitVec 32) (v845 : BitVec 32) (k0_hw28 : k0_chk28 arg0 v1 v845), ∀ (k0_h1 : k0_cond1 arg0 v1 = 1#1), 8 ∣ (k0_mult28 v845).toNat := fun arg0 v1 v845 k0_hw28 k0_h1 => k0_hw28.1 k0_h1
theorem k0_off55_inb : ∀ (arg0 : BitVec 32) (v1 : BitVec 32) (v845 : BitVec 32) (k0_hw28 : k0_chk28 arg0 v1 v845), ∀ (k0_h1 : k0_cond1 arg0 v1 = 1#1), ∀ a, (k0_off55 v845) a + S8x128.size a ≤ S7688x256.size a := fun arg0 v1 v845 k0_hw28 k0_h1 => k0_hw28.2.1 k0_h1
theorem k0_off56_inb : ∀ (arg0 : BitVec 32) (v1 : BitVec 32) (v845 : BitVec 32) (k0_hw28 : k0_chk28 arg0 v1 v845), ∀ (k0_h1 : k0_cond1 arg0 v1 = 1#1), ∀ a, (k0_off56 v845) a + S8x128.size a ≤ S7688x256.size a := fun arg0 v1 v845 k0_hw28 k0_h1 => k0_hw28.2.2 k0_h1

def k0_mult29 (v875 : BitVec 32) : BitVec 32 :=
  let c1_i32_216 : BitVec 32 := 1#32
  let v895 : BitVec 32 := Scalar.shrsi v875 c1_i32_216
  v895

def k0_off57 (v875 : BitVec 32) : Fin 2 → Nat :=
  let c1_i32_216 : BitVec 32 := 1#32
  let v895 : BitVec 32 := Scalar.shrsi v875 c1_i32_216
  let v896 : BitVec 32 := v895
  let v897 : Index := Scalar.indexCast v896
  let c0_217 : Index := 0#32
  ![v897.toNat, 0]
def k0_off58 (v875 : BitVec 32) : Fin 2 → Nat :=
  let c1_i32_216 : BitVec 32 := 1#32
  let v895 : BitVec 32 := Scalar.shrsi v875 c1_i32_216
  let v896 : BitVec 32 := v895
  let v901 : Index := Scalar.indexCast v896
  let c128_218 : Index := 128#32
  ![v901.toNat, 128]

def k0_chk29 (arg0 : BitVec 32) (v1 : BitVec 32) (v875 : BitVec 32) : Prop :=
  (∀ (k0_h1 : k0_cond1 arg0 v1 = 1#1), 8 ∣ (k0_mult29 v875).toNat) ∧
  (∀ (k0_h1 : k0_cond1 arg0 v1 = 1#1), ∀ a, (k0_off57 v875) a + S8x128.size a ≤ S7688x256.size a) ∧
  (∀ (k0_h1 : k0_cond1 arg0 v1 = 1#1), ∀ a, (k0_off58 v875) a + S8x128.size a ≤ S7688x256.size a)
theorem k0_mult29_dvd : ∀ (arg0 : BitVec 32) (v1 : BitVec 32) (v875 : BitVec 32) (k0_hw29 : k0_chk29 arg0 v1 v875), ∀ (k0_h1 : k0_cond1 arg0 v1 = 1#1), 8 ∣ (k0_mult29 v875).toNat := fun arg0 v1 v875 k0_hw29 k0_h1 => k0_hw29.1 k0_h1
theorem k0_off57_inb : ∀ (arg0 : BitVec 32) (v1 : BitVec 32) (v875 : BitVec 32) (k0_hw29 : k0_chk29 arg0 v1 v875), ∀ (k0_h1 : k0_cond1 arg0 v1 = 1#1), ∀ a, (k0_off57 v875) a + S8x128.size a ≤ S7688x256.size a := fun arg0 v1 v875 k0_hw29 k0_h1 => k0_hw29.2.1 k0_h1
theorem k0_off58_inb : ∀ (arg0 : BitVec 32) (v1 : BitVec 32) (v875 : BitVec 32) (k0_hw29 : k0_chk29 arg0 v1 v875), ∀ (k0_h1 : k0_cond1 arg0 v1 = 1#1), ∀ a, (k0_off58 v875) a + S8x128.size a ≤ S7688x256.size a := fun arg0 v1 v875 k0_hw29 k0_h1 => k0_hw29.2.2 k0_h1

def k0_mult30 (v905 : BitVec 32) : BitVec 32 :=
  let c1_i32_223 : BitVec 32 := 1#32
  let v925 : BitVec 32 := Scalar.shrsi v905 c1_i32_223
  v925

def k0_off59 (v905 : BitVec 32) : Fin 2 → Nat :=
  let c1_i32_223 : BitVec 32 := 1#32
  let v925 : BitVec 32 := Scalar.shrsi v905 c1_i32_223
  let v926 : BitVec 32 := v925
  let v927 : Index := Scalar.indexCast v926
  let c0_224 : Index := 0#32
  ![v927.toNat, 0]
def k0_off60 (v905 : BitVec 32) : Fin 2 → Nat :=
  let c1_i32_223 : BitVec 32 := 1#32
  let v925 : BitVec 32 := Scalar.shrsi v905 c1_i32_223
  let v926 : BitVec 32 := v925
  let v931 : Index := Scalar.indexCast v926
  let c128_225 : Index := 128#32
  ![v931.toNat, 128]

def k0_chk30 (arg0 : BitVec 32) (v1 : BitVec 32) (v905 : BitVec 32) : Prop :=
  (∀ (k0_h1 : k0_cond1 arg0 v1 = 1#1), 8 ∣ (k0_mult30 v905).toNat) ∧
  (∀ (k0_h1 : k0_cond1 arg0 v1 = 1#1), ∀ a, (k0_off59 v905) a + S8x128.size a ≤ S7688x256.size a) ∧
  (∀ (k0_h1 : k0_cond1 arg0 v1 = 1#1), ∀ a, (k0_off60 v905) a + S8x128.size a ≤ S7688x256.size a)
theorem k0_mult30_dvd : ∀ (arg0 : BitVec 32) (v1 : BitVec 32) (v905 : BitVec 32) (k0_hw30 : k0_chk30 arg0 v1 v905), ∀ (k0_h1 : k0_cond1 arg0 v1 = 1#1), 8 ∣ (k0_mult30 v905).toNat := fun arg0 v1 v905 k0_hw30 k0_h1 => k0_hw30.1 k0_h1
theorem k0_off59_inb : ∀ (arg0 : BitVec 32) (v1 : BitVec 32) (v905 : BitVec 32) (k0_hw30 : k0_chk30 arg0 v1 v905), ∀ (k0_h1 : k0_cond1 arg0 v1 = 1#1), ∀ a, (k0_off59 v905) a + S8x128.size a ≤ S7688x256.size a := fun arg0 v1 v905 k0_hw30 k0_h1 => k0_hw30.2.1 k0_h1
theorem k0_off60_inb : ∀ (arg0 : BitVec 32) (v1 : BitVec 32) (v905 : BitVec 32) (k0_hw30 : k0_chk30 arg0 v1 v905), ∀ (k0_h1 : k0_cond1 arg0 v1 = 1#1), ∀ a, (k0_off60 v905) a + S8x128.size a ≤ S7688x256.size a := fun arg0 v1 v905 k0_hw30 k0_h1 => k0_hw30.2.2 k0_h1

def k0_mult31 (v935 : BitVec 32) : BitVec 32 :=
  let c1_i32_230 : BitVec 32 := 1#32
  let v955 : BitVec 32 := Scalar.shrsi v935 c1_i32_230
  v955

def k0_off61 (v935 : BitVec 32) : Fin 2 → Nat :=
  let c1_i32_230 : BitVec 32 := 1#32
  let v955 : BitVec 32 := Scalar.shrsi v935 c1_i32_230
  let v956 : BitVec 32 := v955
  let v957 : Index := Scalar.indexCast v956
  let c0_231 : Index := 0#32
  ![v957.toNat, 0]
def k0_off62 (v935 : BitVec 32) : Fin 2 → Nat :=
  let c1_i32_230 : BitVec 32 := 1#32
  let v955 : BitVec 32 := Scalar.shrsi v935 c1_i32_230
  let v956 : BitVec 32 := v955
  let v961 : Index := Scalar.indexCast v956
  let c128_232 : Index := 128#32
  ![v961.toNat, 128]

def k0_chk31 (arg0 : BitVec 32) (v1 : BitVec 32) (v935 : BitVec 32) : Prop :=
  (∀ (k0_h1 : k0_cond1 arg0 v1 = 1#1), 8 ∣ (k0_mult31 v935).toNat) ∧
  (∀ (k0_h1 : k0_cond1 arg0 v1 = 1#1), ∀ a, (k0_off61 v935) a + S8x128.size a ≤ S7688x256.size a) ∧
  (∀ (k0_h1 : k0_cond1 arg0 v1 = 1#1), ∀ a, (k0_off62 v935) a + S8x128.size a ≤ S7688x256.size a)
theorem k0_mult31_dvd : ∀ (arg0 : BitVec 32) (v1 : BitVec 32) (v935 : BitVec 32) (k0_hw31 : k0_chk31 arg0 v1 v935), ∀ (k0_h1 : k0_cond1 arg0 v1 = 1#1), 8 ∣ (k0_mult31 v935).toNat := fun arg0 v1 v935 k0_hw31 k0_h1 => k0_hw31.1 k0_h1
theorem k0_off61_inb : ∀ (arg0 : BitVec 32) (v1 : BitVec 32) (v935 : BitVec 32) (k0_hw31 : k0_chk31 arg0 v1 v935), ∀ (k0_h1 : k0_cond1 arg0 v1 = 1#1), ∀ a, (k0_off61 v935) a + S8x128.size a ≤ S7688x256.size a := fun arg0 v1 v935 k0_hw31 k0_h1 => k0_hw31.2.1 k0_h1
theorem k0_off62_inb : ∀ (arg0 : BitVec 32) (v1 : BitVec 32) (v935 : BitVec 32) (k0_hw31 : k0_chk31 arg0 v1 v935), ∀ (k0_h1 : k0_cond1 arg0 v1 = 1#1), ∀ a, (k0_off62 v935) a + S8x128.size a ≤ S7688x256.size a := fun arg0 v1 v935 k0_hw31 k0_h1 => k0_hw31.2.2 k0_h1

def k0_mult32 (v965 : BitVec 32) : BitVec 32 :=
  let c1_i32_237 : BitVec 32 := 1#32
  let v985 : BitVec 32 := Scalar.shrsi v965 c1_i32_237
  v985

def k0_off63 (v965 : BitVec 32) : Fin 2 → Nat :=
  let c1_i32_237 : BitVec 32 := 1#32
  let v985 : BitVec 32 := Scalar.shrsi v965 c1_i32_237
  let v986 : BitVec 32 := v985
  let v987 : Index := Scalar.indexCast v986
  let c0_238 : Index := 0#32
  ![v987.toNat, 0]
def k0_off64 (v965 : BitVec 32) : Fin 2 → Nat :=
  let c1_i32_237 : BitVec 32 := 1#32
  let v985 : BitVec 32 := Scalar.shrsi v965 c1_i32_237
  let v986 : BitVec 32 := v985
  let v991 : Index := Scalar.indexCast v986
  let c128_239 : Index := 128#32
  ![v991.toNat, 128]

def k0_chk32 (arg0 : BitVec 32) (v1 : BitVec 32) (v965 : BitVec 32) : Prop :=
  (∀ (k0_h1 : k0_cond1 arg0 v1 = 1#1), 8 ∣ (k0_mult32 v965).toNat) ∧
  (∀ (k0_h1 : k0_cond1 arg0 v1 = 1#1), ∀ a, (k0_off63 v965) a + S8x128.size a ≤ S7688x256.size a) ∧
  (∀ (k0_h1 : k0_cond1 arg0 v1 = 1#1), ∀ a, (k0_off64 v965) a + S8x128.size a ≤ S7688x256.size a)
theorem k0_mult32_dvd : ∀ (arg0 : BitVec 32) (v1 : BitVec 32) (v965 : BitVec 32) (k0_hw32 : k0_chk32 arg0 v1 v965), ∀ (k0_h1 : k0_cond1 arg0 v1 = 1#1), 8 ∣ (k0_mult32 v965).toNat := fun arg0 v1 v965 k0_hw32 k0_h1 => k0_hw32.1 k0_h1
theorem k0_off63_inb : ∀ (arg0 : BitVec 32) (v1 : BitVec 32) (v965 : BitVec 32) (k0_hw32 : k0_chk32 arg0 v1 v965), ∀ (k0_h1 : k0_cond1 arg0 v1 = 1#1), ∀ a, (k0_off63 v965) a + S8x128.size a ≤ S7688x256.size a := fun arg0 v1 v965 k0_hw32 k0_h1 => k0_hw32.2.1 k0_h1
theorem k0_off64_inb : ∀ (arg0 : BitVec 32) (v1 : BitVec 32) (v965 : BitVec 32) (k0_hw32 : k0_chk32 arg0 v1 v965), ∀ (k0_h1 : k0_cond1 arg0 v1 = 1#1), ∀ a, (k0_off64 v965) a + S8x128.size a ≤ S7688x256.size a := fun arg0 v1 v965 k0_hw32 k0_h1 => k0_hw32.2.2 k0_h1

def k0_mult33 (v995 : BitVec 32) : BitVec 32 :=
  let c1_i32_244 : BitVec 32 := 1#32
  let v1015 : BitVec 32 := Scalar.shrsi v995 c1_i32_244
  v1015

def k0_off65 (v995 : BitVec 32) : Fin 2 → Nat :=
  let c1_i32_244 : BitVec 32 := 1#32
  let v1015 : BitVec 32 := Scalar.shrsi v995 c1_i32_244
  let v1016 : BitVec 32 := v1015
  let v1017 : Index := Scalar.indexCast v1016
  let c0_245 : Index := 0#32
  ![v1017.toNat, 0]
def k0_off66 (v995 : BitVec 32) : Fin 2 → Nat :=
  let c1_i32_244 : BitVec 32 := 1#32
  let v1015 : BitVec 32 := Scalar.shrsi v995 c1_i32_244
  let v1016 : BitVec 32 := v1015
  let v1021 : Index := Scalar.indexCast v1016
  let c128_246 : Index := 128#32
  ![v1021.toNat, 128]

def k0_chk33 (arg0 : BitVec 32) (v1 : BitVec 32) (v995 : BitVec 32) : Prop :=
  (∀ (k0_h1 : k0_cond1 arg0 v1 = 1#1), 8 ∣ (k0_mult33 v995).toNat) ∧
  (∀ (k0_h1 : k0_cond1 arg0 v1 = 1#1), ∀ a, (k0_off65 v995) a + S8x128.size a ≤ S7688x256.size a) ∧
  (∀ (k0_h1 : k0_cond1 arg0 v1 = 1#1), ∀ a, (k0_off66 v995) a + S8x128.size a ≤ S7688x256.size a)
theorem k0_mult33_dvd : ∀ (arg0 : BitVec 32) (v1 : BitVec 32) (v995 : BitVec 32) (k0_hw33 : k0_chk33 arg0 v1 v995), ∀ (k0_h1 : k0_cond1 arg0 v1 = 1#1), 8 ∣ (k0_mult33 v995).toNat := fun arg0 v1 v995 k0_hw33 k0_h1 => k0_hw33.1 k0_h1
theorem k0_off65_inb : ∀ (arg0 : BitVec 32) (v1 : BitVec 32) (v995 : BitVec 32) (k0_hw33 : k0_chk33 arg0 v1 v995), ∀ (k0_h1 : k0_cond1 arg0 v1 = 1#1), ∀ a, (k0_off65 v995) a + S8x128.size a ≤ S7688x256.size a := fun arg0 v1 v995 k0_hw33 k0_h1 => k0_hw33.2.1 k0_h1
theorem k0_off66_inb : ∀ (arg0 : BitVec 32) (v1 : BitVec 32) (v995 : BitVec 32) (k0_hw33 : k0_chk33 arg0 v1 v995), ∀ (k0_h1 : k0_cond1 arg0 v1 = 1#1), ∀ a, (k0_off66 v995) a + S8x128.size a ≤ S7688x256.size a := fun arg0 v1 v995 k0_hw33 k0_h1 => k0_hw33.2.2 k0_h1

def k0_mult34 (v1025 : BitVec 32) : BitVec 32 :=
  let c1_i32_251 : BitVec 32 := 1#32
  let v1045 : BitVec 32 := Scalar.shrsi v1025 c1_i32_251
  v1045

def k0_off67 (v1025 : BitVec 32) : Fin 2 → Nat :=
  let c1_i32_251 : BitVec 32 := 1#32
  let v1045 : BitVec 32 := Scalar.shrsi v1025 c1_i32_251
  let v1046 : BitVec 32 := v1045
  let v1047 : Index := Scalar.indexCast v1046
  let c0_252 : Index := 0#32
  ![v1047.toNat, 0]
def k0_off68 (v1025 : BitVec 32) : Fin 2 → Nat :=
  let c1_i32_251 : BitVec 32 := 1#32
  let v1045 : BitVec 32 := Scalar.shrsi v1025 c1_i32_251
  let v1046 : BitVec 32 := v1045
  let v1051 : Index := Scalar.indexCast v1046
  let c128_253 : Index := 128#32
  ![v1051.toNat, 128]

def k0_chk34 (arg0 : BitVec 32) (v1 : BitVec 32) (v1025 : BitVec 32) : Prop :=
  (∀ (k0_h1 : k0_cond1 arg0 v1 = 1#1), 8 ∣ (k0_mult34 v1025).toNat) ∧
  (∀ (k0_h1 : k0_cond1 arg0 v1 = 1#1), ∀ a, (k0_off67 v1025) a + S8x128.size a ≤ S7688x256.size a) ∧
  (∀ (k0_h1 : k0_cond1 arg0 v1 = 1#1), ∀ a, (k0_off68 v1025) a + S8x128.size a ≤ S7688x256.size a)
theorem k0_mult34_dvd : ∀ (arg0 : BitVec 32) (v1 : BitVec 32) (v1025 : BitVec 32) (k0_hw34 : k0_chk34 arg0 v1 v1025), ∀ (k0_h1 : k0_cond1 arg0 v1 = 1#1), 8 ∣ (k0_mult34 v1025).toNat := fun arg0 v1 v1025 k0_hw34 k0_h1 => k0_hw34.1 k0_h1
theorem k0_off67_inb : ∀ (arg0 : BitVec 32) (v1 : BitVec 32) (v1025 : BitVec 32) (k0_hw34 : k0_chk34 arg0 v1 v1025), ∀ (k0_h1 : k0_cond1 arg0 v1 = 1#1), ∀ a, (k0_off67 v1025) a + S8x128.size a ≤ S7688x256.size a := fun arg0 v1 v1025 k0_hw34 k0_h1 => k0_hw34.2.1 k0_h1
theorem k0_off68_inb : ∀ (arg0 : BitVec 32) (v1 : BitVec 32) (v1025 : BitVec 32) (k0_hw34 : k0_chk34 arg0 v1 v1025), ∀ (k0_h1 : k0_cond1 arg0 v1 = 1#1), ∀ a, (k0_off68 v1025) a + S8x128.size a ≤ S7688x256.size a := fun arg0 v1 v1025 k0_hw34 k0_h1 => k0_hw34.2.2 k0_h1

def k0_mult35 (v1055 : BitVec 32) : BitVec 32 :=
  let c1_i32_258 : BitVec 32 := 1#32
  let v1075 : BitVec 32 := Scalar.shrsi v1055 c1_i32_258
  v1075

def k0_off69 (v1055 : BitVec 32) : Fin 2 → Nat :=
  let c1_i32_258 : BitVec 32 := 1#32
  let v1075 : BitVec 32 := Scalar.shrsi v1055 c1_i32_258
  let v1076 : BitVec 32 := v1075
  let v1077 : Index := Scalar.indexCast v1076
  let c0_259 : Index := 0#32
  ![v1077.toNat, 0]
def k0_off70 (v1055 : BitVec 32) : Fin 2 → Nat :=
  let c1_i32_258 : BitVec 32 := 1#32
  let v1075 : BitVec 32 := Scalar.shrsi v1055 c1_i32_258
  let v1076 : BitVec 32 := v1075
  let v1081 : Index := Scalar.indexCast v1076
  let c128_260 : Index := 128#32
  ![v1081.toNat, 128]

def k0_chk35 (arg0 : BitVec 32) (v1 : BitVec 32) (v1055 : BitVec 32) : Prop :=
  (∀ (k0_h1 : k0_cond1 arg0 v1 = 1#1), 8 ∣ (k0_mult35 v1055).toNat) ∧
  (∀ (k0_h1 : k0_cond1 arg0 v1 = 1#1), ∀ a, (k0_off69 v1055) a + S8x128.size a ≤ S7688x256.size a) ∧
  (∀ (k0_h1 : k0_cond1 arg0 v1 = 1#1), ∀ a, (k0_off70 v1055) a + S8x128.size a ≤ S7688x256.size a)
theorem k0_mult35_dvd : ∀ (arg0 : BitVec 32) (v1 : BitVec 32) (v1055 : BitVec 32) (k0_hw35 : k0_chk35 arg0 v1 v1055), ∀ (k0_h1 : k0_cond1 arg0 v1 = 1#1), 8 ∣ (k0_mult35 v1055).toNat := fun arg0 v1 v1055 k0_hw35 k0_h1 => k0_hw35.1 k0_h1
theorem k0_off69_inb : ∀ (arg0 : BitVec 32) (v1 : BitVec 32) (v1055 : BitVec 32) (k0_hw35 : k0_chk35 arg0 v1 v1055), ∀ (k0_h1 : k0_cond1 arg0 v1 = 1#1), ∀ a, (k0_off69 v1055) a + S8x128.size a ≤ S7688x256.size a := fun arg0 v1 v1055 k0_hw35 k0_h1 => k0_hw35.2.1 k0_h1
theorem k0_off70_inb : ∀ (arg0 : BitVec 32) (v1 : BitVec 32) (v1055 : BitVec 32) (k0_hw35 : k0_chk35 arg0 v1 v1055), ∀ (k0_h1 : k0_cond1 arg0 v1 = 1#1), ∀ a, (k0_off70 v1055) a + S8x128.size a ≤ S7688x256.size a := fun arg0 v1 v1055 k0_hw35 k0_h1 => k0_hw35.2.2 k0_h1

def k0_mult36 (v1085 : BitVec 32) : BitVec 32 :=
  let c1_i32_265 : BitVec 32 := 1#32
  let v1105 : BitVec 32 := Scalar.shrsi v1085 c1_i32_265
  v1105

def k0_off71 (v1085 : BitVec 32) : Fin 2 → Nat :=
  let c1_i32_265 : BitVec 32 := 1#32
  let v1105 : BitVec 32 := Scalar.shrsi v1085 c1_i32_265
  let v1106 : BitVec 32 := v1105
  let v1107 : Index := Scalar.indexCast v1106
  let c0_266 : Index := 0#32
  ![v1107.toNat, 0]
def k0_off72 (v1085 : BitVec 32) : Fin 2 → Nat :=
  let c1_i32_265 : BitVec 32 := 1#32
  let v1105 : BitVec 32 := Scalar.shrsi v1085 c1_i32_265
  let v1106 : BitVec 32 := v1105
  let v1111 : Index := Scalar.indexCast v1106
  let c128_267 : Index := 128#32
  ![v1111.toNat, 128]

def k0_chk36 (arg0 : BitVec 32) (v1 : BitVec 32) (v1085 : BitVec 32) : Prop :=
  (∀ (k0_h1 : k0_cond1 arg0 v1 = 1#1), 8 ∣ (k0_mult36 v1085).toNat) ∧
  (∀ (k0_h1 : k0_cond1 arg0 v1 = 1#1), ∀ a, (k0_off71 v1085) a + S8x128.size a ≤ S7688x256.size a) ∧
  (∀ (k0_h1 : k0_cond1 arg0 v1 = 1#1), ∀ a, (k0_off72 v1085) a + S8x128.size a ≤ S7688x256.size a)
theorem k0_mult36_dvd : ∀ (arg0 : BitVec 32) (v1 : BitVec 32) (v1085 : BitVec 32) (k0_hw36 : k0_chk36 arg0 v1 v1085), ∀ (k0_h1 : k0_cond1 arg0 v1 = 1#1), 8 ∣ (k0_mult36 v1085).toNat := fun arg0 v1 v1085 k0_hw36 k0_h1 => k0_hw36.1 k0_h1
theorem k0_off71_inb : ∀ (arg0 : BitVec 32) (v1 : BitVec 32) (v1085 : BitVec 32) (k0_hw36 : k0_chk36 arg0 v1 v1085), ∀ (k0_h1 : k0_cond1 arg0 v1 = 1#1), ∀ a, (k0_off71 v1085) a + S8x128.size a ≤ S7688x256.size a := fun arg0 v1 v1085 k0_hw36 k0_h1 => k0_hw36.2.1 k0_h1
theorem k0_off72_inb : ∀ (arg0 : BitVec 32) (v1 : BitVec 32) (v1085 : BitVec 32) (k0_hw36 : k0_chk36 arg0 v1 v1085), ∀ (k0_h1 : k0_cond1 arg0 v1 = 1#1), ∀ a, (k0_off72 v1085) a + S8x128.size a ≤ S7688x256.size a := fun arg0 v1 v1085 k0_hw36 k0_h1 => k0_hw36.2.2 k0_h1

def k0_mult37 (v1115 : BitVec 32) : BitVec 32 :=
  let c1_i32_272 : BitVec 32 := 1#32
  let v1135 : BitVec 32 := Scalar.shrsi v1115 c1_i32_272
  v1135

def k0_off73 (v1115 : BitVec 32) : Fin 2 → Nat :=
  let c1_i32_272 : BitVec 32 := 1#32
  let v1135 : BitVec 32 := Scalar.shrsi v1115 c1_i32_272
  let v1136 : BitVec 32 := v1135
  let v1137 : Index := Scalar.indexCast v1136
  let c0_273 : Index := 0#32
  ![v1137.toNat, 0]
def k0_off74 (v1115 : BitVec 32) : Fin 2 → Nat :=
  let c1_i32_272 : BitVec 32 := 1#32
  let v1135 : BitVec 32 := Scalar.shrsi v1115 c1_i32_272
  let v1136 : BitVec 32 := v1135
  let v1141 : Index := Scalar.indexCast v1136
  let c128_274 : Index := 128#32
  ![v1141.toNat, 128]

def k0_chk37 (arg0 : BitVec 32) (v1 : BitVec 32) (v1115 : BitVec 32) : Prop :=
  (∀ (k0_h1 : k0_cond1 arg0 v1 = 1#1), 8 ∣ (k0_mult37 v1115).toNat) ∧
  (∀ (k0_h1 : k0_cond1 arg0 v1 = 1#1), ∀ a, (k0_off73 v1115) a + S8x128.size a ≤ S7688x256.size a) ∧
  (∀ (k0_h1 : k0_cond1 arg0 v1 = 1#1), ∀ a, (k0_off74 v1115) a + S8x128.size a ≤ S7688x256.size a)
theorem k0_mult37_dvd : ∀ (arg0 : BitVec 32) (v1 : BitVec 32) (v1115 : BitVec 32) (k0_hw37 : k0_chk37 arg0 v1 v1115), ∀ (k0_h1 : k0_cond1 arg0 v1 = 1#1), 8 ∣ (k0_mult37 v1115).toNat := fun arg0 v1 v1115 k0_hw37 k0_h1 => k0_hw37.1 k0_h1
theorem k0_off73_inb : ∀ (arg0 : BitVec 32) (v1 : BitVec 32) (v1115 : BitVec 32) (k0_hw37 : k0_chk37 arg0 v1 v1115), ∀ (k0_h1 : k0_cond1 arg0 v1 = 1#1), ∀ a, (k0_off73 v1115) a + S8x128.size a ≤ S7688x256.size a := fun arg0 v1 v1115 k0_hw37 k0_h1 => k0_hw37.2.1 k0_h1
theorem k0_off74_inb : ∀ (arg0 : BitVec 32) (v1 : BitVec 32) (v1115 : BitVec 32) (k0_hw37 : k0_chk37 arg0 v1 v1115), ∀ (k0_h1 : k0_cond1 arg0 v1 = 1#1), ∀ a, (k0_off74 v1115) a + S8x128.size a ≤ S7688x256.size a := fun arg0 v1 v1115 k0_hw37 k0_h1 => k0_hw37.2.2 k0_h1

def k0_mult38 (v1145 : BitVec 32) : BitVec 32 :=
  let c1_i32_279 : BitVec 32 := 1#32
  let v1165 : BitVec 32 := Scalar.shrsi v1145 c1_i32_279
  v1165

def k0_off75 (v1145 : BitVec 32) : Fin 2 → Nat :=
  let c1_i32_279 : BitVec 32 := 1#32
  let v1165 : BitVec 32 := Scalar.shrsi v1145 c1_i32_279
  let v1166 : BitVec 32 := v1165
  let v1167 : Index := Scalar.indexCast v1166
  let c0_280 : Index := 0#32
  ![v1167.toNat, 0]
def k0_off76 (v1145 : BitVec 32) : Fin 2 → Nat :=
  let c1_i32_279 : BitVec 32 := 1#32
  let v1165 : BitVec 32 := Scalar.shrsi v1145 c1_i32_279
  let v1166 : BitVec 32 := v1165
  let v1171 : Index := Scalar.indexCast v1166
  let c128_281 : Index := 128#32
  ![v1171.toNat, 128]

def k0_chk38 (arg0 : BitVec 32) (v1 : BitVec 32) (v1145 : BitVec 32) : Prop :=
  (∀ (k0_h1 : k0_cond1 arg0 v1 = 1#1), 8 ∣ (k0_mult38 v1145).toNat) ∧
  (∀ (k0_h1 : k0_cond1 arg0 v1 = 1#1), ∀ a, (k0_off75 v1145) a + S8x128.size a ≤ S7688x256.size a) ∧
  (∀ (k0_h1 : k0_cond1 arg0 v1 = 1#1), ∀ a, (k0_off76 v1145) a + S8x128.size a ≤ S7688x256.size a)
theorem k0_mult38_dvd : ∀ (arg0 : BitVec 32) (v1 : BitVec 32) (v1145 : BitVec 32) (k0_hw38 : k0_chk38 arg0 v1 v1145), ∀ (k0_h1 : k0_cond1 arg0 v1 = 1#1), 8 ∣ (k0_mult38 v1145).toNat := fun arg0 v1 v1145 k0_hw38 k0_h1 => k0_hw38.1 k0_h1
theorem k0_off75_inb : ∀ (arg0 : BitVec 32) (v1 : BitVec 32) (v1145 : BitVec 32) (k0_hw38 : k0_chk38 arg0 v1 v1145), ∀ (k0_h1 : k0_cond1 arg0 v1 = 1#1), ∀ a, (k0_off75 v1145) a + S8x128.size a ≤ S7688x256.size a := fun arg0 v1 v1145 k0_hw38 k0_h1 => k0_hw38.2.1 k0_h1
theorem k0_off76_inb : ∀ (arg0 : BitVec 32) (v1 : BitVec 32) (v1145 : BitVec 32) (k0_hw38 : k0_chk38 arg0 v1 v1145), ∀ (k0_h1 : k0_cond1 arg0 v1 = 1#1), ∀ a, (k0_off76 v1145) a + S8x128.size a ≤ S7688x256.size a := fun arg0 v1 v1145 k0_hw38 k0_h1 => k0_hw38.2.2 k0_h1

def k0_mult39 (v1175 : BitVec 32) : BitVec 32 :=
  let c1_i32_286 : BitVec 32 := 1#32
  let v1195 : BitVec 32 := Scalar.shrsi v1175 c1_i32_286
  v1195

def k0_off77 (v1175 : BitVec 32) : Fin 2 → Nat :=
  let c1_i32_286 : BitVec 32 := 1#32
  let v1195 : BitVec 32 := Scalar.shrsi v1175 c1_i32_286
  let v1196 : BitVec 32 := v1195
  let v1197 : Index := Scalar.indexCast v1196
  let c0_287 : Index := 0#32
  ![v1197.toNat, 0]
def k0_off78 (v1175 : BitVec 32) : Fin 2 → Nat :=
  let c1_i32_286 : BitVec 32 := 1#32
  let v1195 : BitVec 32 := Scalar.shrsi v1175 c1_i32_286
  let v1196 : BitVec 32 := v1195
  let v1201 : Index := Scalar.indexCast v1196
  let c128_288 : Index := 128#32
  ![v1201.toNat, 128]

def k0_chk39 (arg0 : BitVec 32) (v1 : BitVec 32) (v1175 : BitVec 32) : Prop :=
  (∀ (k0_h1 : k0_cond1 arg0 v1 = 1#1), 8 ∣ (k0_mult39 v1175).toNat) ∧
  (∀ (k0_h1 : k0_cond1 arg0 v1 = 1#1), ∀ a, (k0_off77 v1175) a + S8x128.size a ≤ S7688x256.size a) ∧
  (∀ (k0_h1 : k0_cond1 arg0 v1 = 1#1), ∀ a, (k0_off78 v1175) a + S8x128.size a ≤ S7688x256.size a)
theorem k0_mult39_dvd : ∀ (arg0 : BitVec 32) (v1 : BitVec 32) (v1175 : BitVec 32) (k0_hw39 : k0_chk39 arg0 v1 v1175), ∀ (k0_h1 : k0_cond1 arg0 v1 = 1#1), 8 ∣ (k0_mult39 v1175).toNat := fun arg0 v1 v1175 k0_hw39 k0_h1 => k0_hw39.1 k0_h1
theorem k0_off77_inb : ∀ (arg0 : BitVec 32) (v1 : BitVec 32) (v1175 : BitVec 32) (k0_hw39 : k0_chk39 arg0 v1 v1175), ∀ (k0_h1 : k0_cond1 arg0 v1 = 1#1), ∀ a, (k0_off77 v1175) a + S8x128.size a ≤ S7688x256.size a := fun arg0 v1 v1175 k0_hw39 k0_h1 => k0_hw39.2.1 k0_h1
theorem k0_off78_inb : ∀ (arg0 : BitVec 32) (v1 : BitVec 32) (v1175 : BitVec 32) (k0_hw39 : k0_chk39 arg0 v1 v1175), ∀ (k0_h1 : k0_cond1 arg0 v1 = 1#1), ∀ a, (k0_off78 v1175) a + S8x128.size a ≤ S7688x256.size a := fun arg0 v1 v1175 k0_hw39 k0_h1 => k0_hw39.2.2 k0_h1

def k0_mult40 (v1205 : BitVec 32) : BitVec 32 :=
  let c1_i32_293 : BitVec 32 := 1#32
  let v1225 : BitVec 32 := Scalar.shrsi v1205 c1_i32_293
  v1225

def k0_off79 (v1205 : BitVec 32) : Fin 2 → Nat :=
  let c1_i32_293 : BitVec 32 := 1#32
  let v1225 : BitVec 32 := Scalar.shrsi v1205 c1_i32_293
  let v1226 : BitVec 32 := v1225
  let v1227 : Index := Scalar.indexCast v1226
  let c0_294 : Index := 0#32
  ![v1227.toNat, 0]
def k0_off80 (v1205 : BitVec 32) : Fin 2 → Nat :=
  let c1_i32_293 : BitVec 32 := 1#32
  let v1225 : BitVec 32 := Scalar.shrsi v1205 c1_i32_293
  let v1226 : BitVec 32 := v1225
  let v1231 : Index := Scalar.indexCast v1226
  let c128_295 : Index := 128#32
  ![v1231.toNat, 128]

def k0_chk40 (arg0 : BitVec 32) (v1 : BitVec 32) (v1205 : BitVec 32) : Prop :=
  (∀ (k0_h1 : k0_cond1 arg0 v1 = 1#1), 8 ∣ (k0_mult40 v1205).toNat) ∧
  (∀ (k0_h1 : k0_cond1 arg0 v1 = 1#1), ∀ a, (k0_off79 v1205) a + S8x128.size a ≤ S7688x256.size a) ∧
  (∀ (k0_h1 : k0_cond1 arg0 v1 = 1#1), ∀ a, (k0_off80 v1205) a + S8x128.size a ≤ S7688x256.size a)
theorem k0_mult40_dvd : ∀ (arg0 : BitVec 32) (v1 : BitVec 32) (v1205 : BitVec 32) (k0_hw40 : k0_chk40 arg0 v1 v1205), ∀ (k0_h1 : k0_cond1 arg0 v1 = 1#1), 8 ∣ (k0_mult40 v1205).toNat := fun arg0 v1 v1205 k0_hw40 k0_h1 => k0_hw40.1 k0_h1
theorem k0_off79_inb : ∀ (arg0 : BitVec 32) (v1 : BitVec 32) (v1205 : BitVec 32) (k0_hw40 : k0_chk40 arg0 v1 v1205), ∀ (k0_h1 : k0_cond1 arg0 v1 = 1#1), ∀ a, (k0_off79 v1205) a + S8x128.size a ≤ S7688x256.size a := fun arg0 v1 v1205 k0_hw40 k0_h1 => k0_hw40.2.1 k0_h1
theorem k0_off80_inb : ∀ (arg0 : BitVec 32) (v1 : BitVec 32) (v1205 : BitVec 32) (k0_hw40 : k0_chk40 arg0 v1 v1205), ∀ (k0_h1 : k0_cond1 arg0 v1 = 1#1), ∀ a, (k0_off80 v1205) a + S8x128.size a ≤ S7688x256.size a := fun arg0 v1 v1205 k0_hw40 k0_h1 => k0_hw40.2.2 k0_h1

def k0_mult41 (v1235 : BitVec 32) : BitVec 32 :=
  let c1_i32_300 : BitVec 32 := 1#32
  let v1255 : BitVec 32 := Scalar.shrsi v1235 c1_i32_300
  v1255

def k0_off81 (v1235 : BitVec 32) : Fin 2 → Nat :=
  let c1_i32_300 : BitVec 32 := 1#32
  let v1255 : BitVec 32 := Scalar.shrsi v1235 c1_i32_300
  let v1256 : BitVec 32 := v1255
  let v1257 : Index := Scalar.indexCast v1256
  let c0_301 : Index := 0#32
  ![v1257.toNat, 0]
def k0_off82 (v1235 : BitVec 32) : Fin 2 → Nat :=
  let c1_i32_300 : BitVec 32 := 1#32
  let v1255 : BitVec 32 := Scalar.shrsi v1235 c1_i32_300
  let v1256 : BitVec 32 := v1255
  let v1261 : Index := Scalar.indexCast v1256
  let c128_302 : Index := 128#32
  ![v1261.toNat, 128]

def k0_chk41 (arg0 : BitVec 32) (v1 : BitVec 32) (v1235 : BitVec 32) : Prop :=
  (∀ (k0_h1 : k0_cond1 arg0 v1 = 1#1), 8 ∣ (k0_mult41 v1235).toNat) ∧
  (∀ (k0_h1 : k0_cond1 arg0 v1 = 1#1), ∀ a, (k0_off81 v1235) a + S8x128.size a ≤ S7688x256.size a) ∧
  (∀ (k0_h1 : k0_cond1 arg0 v1 = 1#1), ∀ a, (k0_off82 v1235) a + S8x128.size a ≤ S7688x256.size a)
theorem k0_mult41_dvd : ∀ (arg0 : BitVec 32) (v1 : BitVec 32) (v1235 : BitVec 32) (k0_hw41 : k0_chk41 arg0 v1 v1235), ∀ (k0_h1 : k0_cond1 arg0 v1 = 1#1), 8 ∣ (k0_mult41 v1235).toNat := fun arg0 v1 v1235 k0_hw41 k0_h1 => k0_hw41.1 k0_h1
theorem k0_off81_inb : ∀ (arg0 : BitVec 32) (v1 : BitVec 32) (v1235 : BitVec 32) (k0_hw41 : k0_chk41 arg0 v1 v1235), ∀ (k0_h1 : k0_cond1 arg0 v1 = 1#1), ∀ a, (k0_off81 v1235) a + S8x128.size a ≤ S7688x256.size a := fun arg0 v1 v1235 k0_hw41 k0_h1 => k0_hw41.2.1 k0_h1
theorem k0_off82_inb : ∀ (arg0 : BitVec 32) (v1 : BitVec 32) (v1235 : BitVec 32) (k0_hw41 : k0_chk41 arg0 v1 v1235), ∀ (k0_h1 : k0_cond1 arg0 v1 = 1#1), ∀ a, (k0_off82 v1235) a + S8x128.size a ≤ S7688x256.size a := fun arg0 v1 v1235 k0_hw41 k0_h1 => k0_hw41.2.2 k0_h1

def k0_mult42 (v1265 : BitVec 32) : BitVec 32 :=
  let c1_i32_307 : BitVec 32 := 1#32
  let v1285 : BitVec 32 := Scalar.shrsi v1265 c1_i32_307
  v1285

def k0_off83 (v1265 : BitVec 32) : Fin 2 → Nat :=
  let c1_i32_307 : BitVec 32 := 1#32
  let v1285 : BitVec 32 := Scalar.shrsi v1265 c1_i32_307
  let v1286 : BitVec 32 := v1285
  let v1287 : Index := Scalar.indexCast v1286
  let c0_308 : Index := 0#32
  ![v1287.toNat, 0]
def k0_off84 (v1265 : BitVec 32) : Fin 2 → Nat :=
  let c1_i32_307 : BitVec 32 := 1#32
  let v1285 : BitVec 32 := Scalar.shrsi v1265 c1_i32_307
  let v1286 : BitVec 32 := v1285
  let v1291 : Index := Scalar.indexCast v1286
  let c128_309 : Index := 128#32
  ![v1291.toNat, 128]

def k0_chk42 (arg0 : BitVec 32) (v1 : BitVec 32) (v1265 : BitVec 32) : Prop :=
  (∀ (k0_h1 : k0_cond1 arg0 v1 = 1#1), 8 ∣ (k0_mult42 v1265).toNat) ∧
  (∀ (k0_h1 : k0_cond1 arg0 v1 = 1#1), ∀ a, (k0_off83 v1265) a + S8x128.size a ≤ S7688x256.size a) ∧
  (∀ (k0_h1 : k0_cond1 arg0 v1 = 1#1), ∀ a, (k0_off84 v1265) a + S8x128.size a ≤ S7688x256.size a)
theorem k0_mult42_dvd : ∀ (arg0 : BitVec 32) (v1 : BitVec 32) (v1265 : BitVec 32) (k0_hw42 : k0_chk42 arg0 v1 v1265), ∀ (k0_h1 : k0_cond1 arg0 v1 = 1#1), 8 ∣ (k0_mult42 v1265).toNat := fun arg0 v1 v1265 k0_hw42 k0_h1 => k0_hw42.1 k0_h1
theorem k0_off83_inb : ∀ (arg0 : BitVec 32) (v1 : BitVec 32) (v1265 : BitVec 32) (k0_hw42 : k0_chk42 arg0 v1 v1265), ∀ (k0_h1 : k0_cond1 arg0 v1 = 1#1), ∀ a, (k0_off83 v1265) a + S8x128.size a ≤ S7688x256.size a := fun arg0 v1 v1265 k0_hw42 k0_h1 => k0_hw42.2.1 k0_h1
theorem k0_off84_inb : ∀ (arg0 : BitVec 32) (v1 : BitVec 32) (v1265 : BitVec 32) (k0_hw42 : k0_chk42 arg0 v1 v1265), ∀ (k0_h1 : k0_cond1 arg0 v1 = 1#1), ∀ a, (k0_off84 v1265) a + S8x128.size a ≤ S7688x256.size a := fun arg0 v1 v1265 k0_hw42 k0_h1 => k0_hw42.2.2 k0_h1

def k0_mult43 (v1295 : BitVec 32) : BitVec 32 :=
  let c1_i32_314 : BitVec 32 := 1#32
  let v1315 : BitVec 32 := Scalar.shrsi v1295 c1_i32_314
  v1315

def k0_off85 (v1295 : BitVec 32) : Fin 2 → Nat :=
  let c1_i32_314 : BitVec 32 := 1#32
  let v1315 : BitVec 32 := Scalar.shrsi v1295 c1_i32_314
  let v1316 : BitVec 32 := v1315
  let v1317 : Index := Scalar.indexCast v1316
  let c0_315 : Index := 0#32
  ![v1317.toNat, 0]
def k0_off86 (v1295 : BitVec 32) : Fin 2 → Nat :=
  let c1_i32_314 : BitVec 32 := 1#32
  let v1315 : BitVec 32 := Scalar.shrsi v1295 c1_i32_314
  let v1316 : BitVec 32 := v1315
  let v1321 : Index := Scalar.indexCast v1316
  let c128_316 : Index := 128#32
  ![v1321.toNat, 128]

def k0_chk43 (arg0 : BitVec 32) (v1 : BitVec 32) (v1295 : BitVec 32) : Prop :=
  (∀ (k0_h1 : k0_cond1 arg0 v1 = 1#1), 8 ∣ (k0_mult43 v1295).toNat) ∧
  (∀ (k0_h1 : k0_cond1 arg0 v1 = 1#1), ∀ a, (k0_off85 v1295) a + S8x128.size a ≤ S7688x256.size a) ∧
  (∀ (k0_h1 : k0_cond1 arg0 v1 = 1#1), ∀ a, (k0_off86 v1295) a + S8x128.size a ≤ S7688x256.size a)
theorem k0_mult43_dvd : ∀ (arg0 : BitVec 32) (v1 : BitVec 32) (v1295 : BitVec 32) (k0_hw43 : k0_chk43 arg0 v1 v1295), ∀ (k0_h1 : k0_cond1 arg0 v1 = 1#1), 8 ∣ (k0_mult43 v1295).toNat := fun arg0 v1 v1295 k0_hw43 k0_h1 => k0_hw43.1 k0_h1
theorem k0_off85_inb : ∀ (arg0 : BitVec 32) (v1 : BitVec 32) (v1295 : BitVec 32) (k0_hw43 : k0_chk43 arg0 v1 v1295), ∀ (k0_h1 : k0_cond1 arg0 v1 = 1#1), ∀ a, (k0_off85 v1295) a + S8x128.size a ≤ S7688x256.size a := fun arg0 v1 v1295 k0_hw43 k0_h1 => k0_hw43.2.1 k0_h1
theorem k0_off86_inb : ∀ (arg0 : BitVec 32) (v1 : BitVec 32) (v1295 : BitVec 32) (k0_hw43 : k0_chk43 arg0 v1 v1295), ∀ (k0_h1 : k0_cond1 arg0 v1 = 1#1), ∀ a, (k0_off86 v1295) a + S8x128.size a ≤ S7688x256.size a := fun arg0 v1 v1295 k0_hw43 k0_h1 => k0_hw43.2.2 k0_h1

def k0_mult44 (v1325 : BitVec 32) : BitVec 32 :=
  let c1_i32_321 : BitVec 32 := 1#32
  let v1345 : BitVec 32 := Scalar.shrsi v1325 c1_i32_321
  v1345

def k0_off87 (v1325 : BitVec 32) : Fin 2 → Nat :=
  let c1_i32_321 : BitVec 32 := 1#32
  let v1345 : BitVec 32 := Scalar.shrsi v1325 c1_i32_321
  let v1346 : BitVec 32 := v1345
  let v1347 : Index := Scalar.indexCast v1346
  let c0_322 : Index := 0#32
  ![v1347.toNat, 0]
def k0_off88 (v1325 : BitVec 32) : Fin 2 → Nat :=
  let c1_i32_321 : BitVec 32 := 1#32
  let v1345 : BitVec 32 := Scalar.shrsi v1325 c1_i32_321
  let v1346 : BitVec 32 := v1345
  let v1351 : Index := Scalar.indexCast v1346
  let c128_323 : Index := 128#32
  ![v1351.toNat, 128]

def k0_chk44 (arg0 : BitVec 32) (v1 : BitVec 32) (v1325 : BitVec 32) : Prop :=
  (∀ (k0_h1 : k0_cond1 arg0 v1 = 1#1), 8 ∣ (k0_mult44 v1325).toNat) ∧
  (∀ (k0_h1 : k0_cond1 arg0 v1 = 1#1), ∀ a, (k0_off87 v1325) a + S8x128.size a ≤ S7688x256.size a) ∧
  (∀ (k0_h1 : k0_cond1 arg0 v1 = 1#1), ∀ a, (k0_off88 v1325) a + S8x128.size a ≤ S7688x256.size a)
theorem k0_mult44_dvd : ∀ (arg0 : BitVec 32) (v1 : BitVec 32) (v1325 : BitVec 32) (k0_hw44 : k0_chk44 arg0 v1 v1325), ∀ (k0_h1 : k0_cond1 arg0 v1 = 1#1), 8 ∣ (k0_mult44 v1325).toNat := fun arg0 v1 v1325 k0_hw44 k0_h1 => k0_hw44.1 k0_h1
theorem k0_off87_inb : ∀ (arg0 : BitVec 32) (v1 : BitVec 32) (v1325 : BitVec 32) (k0_hw44 : k0_chk44 arg0 v1 v1325), ∀ (k0_h1 : k0_cond1 arg0 v1 = 1#1), ∀ a, (k0_off87 v1325) a + S8x128.size a ≤ S7688x256.size a := fun arg0 v1 v1325 k0_hw44 k0_h1 => k0_hw44.2.1 k0_h1
theorem k0_off88_inb : ∀ (arg0 : BitVec 32) (v1 : BitVec 32) (v1325 : BitVec 32) (k0_hw44 : k0_chk44 arg0 v1 v1325), ∀ (k0_h1 : k0_cond1 arg0 v1 = 1#1), ∀ a, (k0_off88 v1325) a + S8x128.size a ≤ S7688x256.size a := fun arg0 v1 v1325 k0_hw44 k0_h1 => k0_hw44.2.2 k0_h1

def k0_mult45 (v1355 : BitVec 32) : BitVec 32 :=
  let c1_i32_328 : BitVec 32 := 1#32
  let v1375 : BitVec 32 := Scalar.shrsi v1355 c1_i32_328
  v1375

def k0_off89 (v1355 : BitVec 32) : Fin 2 → Nat :=
  let c1_i32_328 : BitVec 32 := 1#32
  let v1375 : BitVec 32 := Scalar.shrsi v1355 c1_i32_328
  let v1376 : BitVec 32 := v1375
  let v1377 : Index := Scalar.indexCast v1376
  let c0_329 : Index := 0#32
  ![v1377.toNat, 0]
def k0_off90 (v1355 : BitVec 32) : Fin 2 → Nat :=
  let c1_i32_328 : BitVec 32 := 1#32
  let v1375 : BitVec 32 := Scalar.shrsi v1355 c1_i32_328
  let v1376 : BitVec 32 := v1375
  let v1381 : Index := Scalar.indexCast v1376
  let c128_330 : Index := 128#32
  ![v1381.toNat, 128]

def k0_chk45 (arg0 : BitVec 32) (v1 : BitVec 32) (v1355 : BitVec 32) : Prop :=
  (∀ (k0_h1 : k0_cond1 arg0 v1 = 1#1), 8 ∣ (k0_mult45 v1355).toNat) ∧
  (∀ (k0_h1 : k0_cond1 arg0 v1 = 1#1), ∀ a, (k0_off89 v1355) a + S8x128.size a ≤ S7688x256.size a) ∧
  (∀ (k0_h1 : k0_cond1 arg0 v1 = 1#1), ∀ a, (k0_off90 v1355) a + S8x128.size a ≤ S7688x256.size a)
theorem k0_mult45_dvd : ∀ (arg0 : BitVec 32) (v1 : BitVec 32) (v1355 : BitVec 32) (k0_hw45 : k0_chk45 arg0 v1 v1355), ∀ (k0_h1 : k0_cond1 arg0 v1 = 1#1), 8 ∣ (k0_mult45 v1355).toNat := fun arg0 v1 v1355 k0_hw45 k0_h1 => k0_hw45.1 k0_h1
theorem k0_off89_inb : ∀ (arg0 : BitVec 32) (v1 : BitVec 32) (v1355 : BitVec 32) (k0_hw45 : k0_chk45 arg0 v1 v1355), ∀ (k0_h1 : k0_cond1 arg0 v1 = 1#1), ∀ a, (k0_off89 v1355) a + S8x128.size a ≤ S7688x256.size a := fun arg0 v1 v1355 k0_hw45 k0_h1 => k0_hw45.2.1 k0_h1
theorem k0_off90_inb : ∀ (arg0 : BitVec 32) (v1 : BitVec 32) (v1355 : BitVec 32) (k0_hw45 : k0_chk45 arg0 v1 v1355), ∀ (k0_h1 : k0_cond1 arg0 v1 = 1#1), ∀ a, (k0_off90 v1355) a + S8x128.size a ≤ S7688x256.size a := fun arg0 v1 v1355 k0_hw45 k0_h1 => k0_hw45.2.2 k0_h1

def k0_mult46 (v1385 : BitVec 32) : BitVec 32 :=
  let c1_i32_335 : BitVec 32 := 1#32
  let v1405 : BitVec 32 := Scalar.shrsi v1385 c1_i32_335
  v1405

def k0_off91 (v1385 : BitVec 32) : Fin 2 → Nat :=
  let c1_i32_335 : BitVec 32 := 1#32
  let v1405 : BitVec 32 := Scalar.shrsi v1385 c1_i32_335
  let v1406 : BitVec 32 := v1405
  let v1407 : Index := Scalar.indexCast v1406
  let c0_336 : Index := 0#32
  ![v1407.toNat, 0]
def k0_off92 (v1385 : BitVec 32) : Fin 2 → Nat :=
  let c1_i32_335 : BitVec 32 := 1#32
  let v1405 : BitVec 32 := Scalar.shrsi v1385 c1_i32_335
  let v1406 : BitVec 32 := v1405
  let v1411 : Index := Scalar.indexCast v1406
  let c128_337 : Index := 128#32
  ![v1411.toNat, 128]

def k0_chk46 (arg0 : BitVec 32) (v1 : BitVec 32) (v1385 : BitVec 32) : Prop :=
  (∀ (k0_h1 : k0_cond1 arg0 v1 = 1#1), 8 ∣ (k0_mult46 v1385).toNat) ∧
  (∀ (k0_h1 : k0_cond1 arg0 v1 = 1#1), ∀ a, (k0_off91 v1385) a + S8x128.size a ≤ S7688x256.size a) ∧
  (∀ (k0_h1 : k0_cond1 arg0 v1 = 1#1), ∀ a, (k0_off92 v1385) a + S8x128.size a ≤ S7688x256.size a)
theorem k0_mult46_dvd : ∀ (arg0 : BitVec 32) (v1 : BitVec 32) (v1385 : BitVec 32) (k0_hw46 : k0_chk46 arg0 v1 v1385), ∀ (k0_h1 : k0_cond1 arg0 v1 = 1#1), 8 ∣ (k0_mult46 v1385).toNat := fun arg0 v1 v1385 k0_hw46 k0_h1 => k0_hw46.1 k0_h1
theorem k0_off91_inb : ∀ (arg0 : BitVec 32) (v1 : BitVec 32) (v1385 : BitVec 32) (k0_hw46 : k0_chk46 arg0 v1 v1385), ∀ (k0_h1 : k0_cond1 arg0 v1 = 1#1), ∀ a, (k0_off91 v1385) a + S8x128.size a ≤ S7688x256.size a := fun arg0 v1 v1385 k0_hw46 k0_h1 => k0_hw46.2.1 k0_h1
theorem k0_off92_inb : ∀ (arg0 : BitVec 32) (v1 : BitVec 32) (v1385 : BitVec 32) (k0_hw46 : k0_chk46 arg0 v1 v1385), ∀ (k0_h1 : k0_cond1 arg0 v1 = 1#1), ∀ a, (k0_off92 v1385) a + S8x128.size a ≤ S7688x256.size a := fun arg0 v1 v1385 k0_hw46 k0_h1 => k0_hw46.2.2 k0_h1

def k0_mult47 (v1415 : BitVec 32) : BitVec 32 :=
  let c1_i32_342 : BitVec 32 := 1#32
  let v1435 : BitVec 32 := Scalar.shrsi v1415 c1_i32_342
  v1435

def k0_off93 (v1415 : BitVec 32) : Fin 2 → Nat :=
  let c1_i32_342 : BitVec 32 := 1#32
  let v1435 : BitVec 32 := Scalar.shrsi v1415 c1_i32_342
  let v1436 : BitVec 32 := v1435
  let v1437 : Index := Scalar.indexCast v1436
  let c0_343 : Index := 0#32
  ![v1437.toNat, 0]
def k0_off94 (v1415 : BitVec 32) : Fin 2 → Nat :=
  let c1_i32_342 : BitVec 32 := 1#32
  let v1435 : BitVec 32 := Scalar.shrsi v1415 c1_i32_342
  let v1436 : BitVec 32 := v1435
  let v1441 : Index := Scalar.indexCast v1436
  let c128_344 : Index := 128#32
  ![v1441.toNat, 128]

def k0_chk47 (arg0 : BitVec 32) (v1 : BitVec 32) (v1415 : BitVec 32) : Prop :=
  (∀ (k0_h1 : k0_cond1 arg0 v1 = 1#1), 8 ∣ (k0_mult47 v1415).toNat) ∧
  (∀ (k0_h1 : k0_cond1 arg0 v1 = 1#1), ∀ a, (k0_off93 v1415) a + S8x128.size a ≤ S7688x256.size a) ∧
  (∀ (k0_h1 : k0_cond1 arg0 v1 = 1#1), ∀ a, (k0_off94 v1415) a + S8x128.size a ≤ S7688x256.size a)
theorem k0_mult47_dvd : ∀ (arg0 : BitVec 32) (v1 : BitVec 32) (v1415 : BitVec 32) (k0_hw47 : k0_chk47 arg0 v1 v1415), ∀ (k0_h1 : k0_cond1 arg0 v1 = 1#1), 8 ∣ (k0_mult47 v1415).toNat := fun arg0 v1 v1415 k0_hw47 k0_h1 => k0_hw47.1 k0_h1
theorem k0_off93_inb : ∀ (arg0 : BitVec 32) (v1 : BitVec 32) (v1415 : BitVec 32) (k0_hw47 : k0_chk47 arg0 v1 v1415), ∀ (k0_h1 : k0_cond1 arg0 v1 = 1#1), ∀ a, (k0_off93 v1415) a + S8x128.size a ≤ S7688x256.size a := fun arg0 v1 v1415 k0_hw47 k0_h1 => k0_hw47.2.1 k0_h1
theorem k0_off94_inb : ∀ (arg0 : BitVec 32) (v1 : BitVec 32) (v1415 : BitVec 32) (k0_hw47 : k0_chk47 arg0 v1 v1415), ∀ (k0_h1 : k0_cond1 arg0 v1 = 1#1), ∀ a, (k0_off94 v1415) a + S8x128.size a ≤ S7688x256.size a := fun arg0 v1 v1415 k0_hw47 k0_h1 => k0_hw47.2.2 k0_h1

def k0_mult48 (v1445 : BitVec 32) : BitVec 32 :=
  let c1_i32_349 : BitVec 32 := 1#32
  let v1465 : BitVec 32 := Scalar.shrsi v1445 c1_i32_349
  v1465

def k0_off95 (v1445 : BitVec 32) : Fin 2 → Nat :=
  let c1_i32_349 : BitVec 32 := 1#32
  let v1465 : BitVec 32 := Scalar.shrsi v1445 c1_i32_349
  let v1466 : BitVec 32 := v1465
  let v1467 : Index := Scalar.indexCast v1466
  let c0_350 : Index := 0#32
  ![v1467.toNat, 0]
def k0_off96 (v1445 : BitVec 32) : Fin 2 → Nat :=
  let c1_i32_349 : BitVec 32 := 1#32
  let v1465 : BitVec 32 := Scalar.shrsi v1445 c1_i32_349
  let v1466 : BitVec 32 := v1465
  let v1471 : Index := Scalar.indexCast v1466
  let c128_351 : Index := 128#32
  ![v1471.toNat, 128]

def k0_chk48 (arg0 : BitVec 32) (v1 : BitVec 32) (v1445 : BitVec 32) : Prop :=
  (∀ (k0_h1 : k0_cond1 arg0 v1 = 1#1), 8 ∣ (k0_mult48 v1445).toNat) ∧
  (∀ (k0_h1 : k0_cond1 arg0 v1 = 1#1), ∀ a, (k0_off95 v1445) a + S8x128.size a ≤ S7688x256.size a) ∧
  (∀ (k0_h1 : k0_cond1 arg0 v1 = 1#1), ∀ a, (k0_off96 v1445) a + S8x128.size a ≤ S7688x256.size a)
theorem k0_mult48_dvd : ∀ (arg0 : BitVec 32) (v1 : BitVec 32) (v1445 : BitVec 32) (k0_hw48 : k0_chk48 arg0 v1 v1445), ∀ (k0_h1 : k0_cond1 arg0 v1 = 1#1), 8 ∣ (k0_mult48 v1445).toNat := fun arg0 v1 v1445 k0_hw48 k0_h1 => k0_hw48.1 k0_h1
theorem k0_off95_inb : ∀ (arg0 : BitVec 32) (v1 : BitVec 32) (v1445 : BitVec 32) (k0_hw48 : k0_chk48 arg0 v1 v1445), ∀ (k0_h1 : k0_cond1 arg0 v1 = 1#1), ∀ a, (k0_off95 v1445) a + S8x128.size a ≤ S7688x256.size a := fun arg0 v1 v1445 k0_hw48 k0_h1 => k0_hw48.2.1 k0_h1
theorem k0_off96_inb : ∀ (arg0 : BitVec 32) (v1 : BitVec 32) (v1445 : BitVec 32) (k0_hw48 : k0_chk48 arg0 v1 v1445), ∀ (k0_h1 : k0_cond1 arg0 v1 = 1#1), ∀ a, (k0_off96 v1445) a + S8x128.size a ≤ S7688x256.size a := fun arg0 v1 v1445 k0_hw48 k0_h1 => k0_hw48.2.2 k0_h1

def k0_mult49 (v1475 : BitVec 32) : BitVec 32 :=
  let c1_i32_356 : BitVec 32 := 1#32
  let v1495 : BitVec 32 := Scalar.shrsi v1475 c1_i32_356
  v1495

def k0_off97 (v1475 : BitVec 32) : Fin 2 → Nat :=
  let c1_i32_356 : BitVec 32 := 1#32
  let v1495 : BitVec 32 := Scalar.shrsi v1475 c1_i32_356
  let v1496 : BitVec 32 := v1495
  let v1497 : Index := Scalar.indexCast v1496
  let c0_357 : Index := 0#32
  ![v1497.toNat, 0]
def k0_off98 (v1475 : BitVec 32) : Fin 2 → Nat :=
  let c1_i32_356 : BitVec 32 := 1#32
  let v1495 : BitVec 32 := Scalar.shrsi v1475 c1_i32_356
  let v1496 : BitVec 32 := v1495
  let v1501 : Index := Scalar.indexCast v1496
  let c128_358 : Index := 128#32
  ![v1501.toNat, 128]

def k0_chk49 (arg0 : BitVec 32) (v1 : BitVec 32) (v1475 : BitVec 32) : Prop :=
  (∀ (k0_h1 : k0_cond1 arg0 v1 = 1#1), 8 ∣ (k0_mult49 v1475).toNat) ∧
  (∀ (k0_h1 : k0_cond1 arg0 v1 = 1#1), ∀ a, (k0_off97 v1475) a + S8x128.size a ≤ S7688x256.size a) ∧
  (∀ (k0_h1 : k0_cond1 arg0 v1 = 1#1), ∀ a, (k0_off98 v1475) a + S8x128.size a ≤ S7688x256.size a)
theorem k0_mult49_dvd : ∀ (arg0 : BitVec 32) (v1 : BitVec 32) (v1475 : BitVec 32) (k0_hw49 : k0_chk49 arg0 v1 v1475), ∀ (k0_h1 : k0_cond1 arg0 v1 = 1#1), 8 ∣ (k0_mult49 v1475).toNat := fun arg0 v1 v1475 k0_hw49 k0_h1 => k0_hw49.1 k0_h1
theorem k0_off97_inb : ∀ (arg0 : BitVec 32) (v1 : BitVec 32) (v1475 : BitVec 32) (k0_hw49 : k0_chk49 arg0 v1 v1475), ∀ (k0_h1 : k0_cond1 arg0 v1 = 1#1), ∀ a, (k0_off97 v1475) a + S8x128.size a ≤ S7688x256.size a := fun arg0 v1 v1475 k0_hw49 k0_h1 => k0_hw49.2.1 k0_h1
theorem k0_off98_inb : ∀ (arg0 : BitVec 32) (v1 : BitVec 32) (v1475 : BitVec 32) (k0_hw49 : k0_chk49 arg0 v1 v1475), ∀ (k0_h1 : k0_cond1 arg0 v1 = 1#1), ∀ a, (k0_off98 v1475) a + S8x128.size a ≤ S7688x256.size a := fun arg0 v1 v1475 k0_hw49 k0_h1 => k0_hw49.2.2 k0_h1

def k0_mult50 (v1505 : BitVec 32) : BitVec 32 :=
  let c1_i32_363 : BitVec 32 := 1#32
  let v1525 : BitVec 32 := Scalar.shrsi v1505 c1_i32_363
  v1525

def k0_off99 (v1505 : BitVec 32) : Fin 2 → Nat :=
  let c1_i32_363 : BitVec 32 := 1#32
  let v1525 : BitVec 32 := Scalar.shrsi v1505 c1_i32_363
  let v1526 : BitVec 32 := v1525
  let v1527 : Index := Scalar.indexCast v1526
  let c0_364 : Index := 0#32
  ![v1527.toNat, 0]
def k0_off100 (v1505 : BitVec 32) : Fin 2 → Nat :=
  let c1_i32_363 : BitVec 32 := 1#32
  let v1525 : BitVec 32 := Scalar.shrsi v1505 c1_i32_363
  let v1526 : BitVec 32 := v1525
  let v1531 : Index := Scalar.indexCast v1526
  let c128_365 : Index := 128#32
  ![v1531.toNat, 128]

def k0_chk50 (arg0 : BitVec 32) (v1 : BitVec 32) (v1505 : BitVec 32) : Prop :=
  (∀ (k0_h1 : k0_cond1 arg0 v1 = 1#1), 8 ∣ (k0_mult50 v1505).toNat) ∧
  (∀ (k0_h1 : k0_cond1 arg0 v1 = 1#1), ∀ a, (k0_off99 v1505) a + S8x128.size a ≤ S7688x256.size a) ∧
  (∀ (k0_h1 : k0_cond1 arg0 v1 = 1#1), ∀ a, (k0_off100 v1505) a + S8x128.size a ≤ S7688x256.size a)
theorem k0_mult50_dvd : ∀ (arg0 : BitVec 32) (v1 : BitVec 32) (v1505 : BitVec 32) (k0_hw50 : k0_chk50 arg0 v1 v1505), ∀ (k0_h1 : k0_cond1 arg0 v1 = 1#1), 8 ∣ (k0_mult50 v1505).toNat := fun arg0 v1 v1505 k0_hw50 k0_h1 => k0_hw50.1 k0_h1
theorem k0_off99_inb : ∀ (arg0 : BitVec 32) (v1 : BitVec 32) (v1505 : BitVec 32) (k0_hw50 : k0_chk50 arg0 v1 v1505), ∀ (k0_h1 : k0_cond1 arg0 v1 = 1#1), ∀ a, (k0_off99 v1505) a + S8x128.size a ≤ S7688x256.size a := fun arg0 v1 v1505 k0_hw50 k0_h1 => k0_hw50.2.1 k0_h1
theorem k0_off100_inb : ∀ (arg0 : BitVec 32) (v1 : BitVec 32) (v1505 : BitVec 32) (k0_hw50 : k0_chk50 arg0 v1 v1505), ∀ (k0_h1 : k0_cond1 arg0 v1 = 1#1), ∀ a, (k0_off100 v1505) a + S8x128.size a ≤ S7688x256.size a := fun arg0 v1 v1505 k0_hw50 k0_h1 => k0_hw50.2.2 k0_h1

def k0_mult51 (v1535 : BitVec 32) : BitVec 32 :=
  let c1_i32_370 : BitVec 32 := 1#32
  let v1555 : BitVec 32 := Scalar.shrsi v1535 c1_i32_370
  v1555

def k0_off101 (v1535 : BitVec 32) : Fin 2 → Nat :=
  let c1_i32_370 : BitVec 32 := 1#32
  let v1555 : BitVec 32 := Scalar.shrsi v1535 c1_i32_370
  let v1556 : BitVec 32 := v1555
  let v1557 : Index := Scalar.indexCast v1556
  let c0_371 : Index := 0#32
  ![v1557.toNat, 0]
def k0_off102 (v1535 : BitVec 32) : Fin 2 → Nat :=
  let c1_i32_370 : BitVec 32 := 1#32
  let v1555 : BitVec 32 := Scalar.shrsi v1535 c1_i32_370
  let v1556 : BitVec 32 := v1555
  let v1561 : Index := Scalar.indexCast v1556
  let c128_372 : Index := 128#32
  ![v1561.toNat, 128]

def k0_chk51 (arg0 : BitVec 32) (v1 : BitVec 32) (v1535 : BitVec 32) : Prop :=
  (∀ (k0_h1 : k0_cond1 arg0 v1 = 1#1), 8 ∣ (k0_mult51 v1535).toNat) ∧
  (∀ (k0_h1 : k0_cond1 arg0 v1 = 1#1), ∀ a, (k0_off101 v1535) a + S8x128.size a ≤ S7688x256.size a) ∧
  (∀ (k0_h1 : k0_cond1 arg0 v1 = 1#1), ∀ a, (k0_off102 v1535) a + S8x128.size a ≤ S7688x256.size a)
theorem k0_mult51_dvd : ∀ (arg0 : BitVec 32) (v1 : BitVec 32) (v1535 : BitVec 32) (k0_hw51 : k0_chk51 arg0 v1 v1535), ∀ (k0_h1 : k0_cond1 arg0 v1 = 1#1), 8 ∣ (k0_mult51 v1535).toNat := fun arg0 v1 v1535 k0_hw51 k0_h1 => k0_hw51.1 k0_h1
theorem k0_off101_inb : ∀ (arg0 : BitVec 32) (v1 : BitVec 32) (v1535 : BitVec 32) (k0_hw51 : k0_chk51 arg0 v1 v1535), ∀ (k0_h1 : k0_cond1 arg0 v1 = 1#1), ∀ a, (k0_off101 v1535) a + S8x128.size a ≤ S7688x256.size a := fun arg0 v1 v1535 k0_hw51 k0_h1 => k0_hw51.2.1 k0_h1
theorem k0_off102_inb : ∀ (arg0 : BitVec 32) (v1 : BitVec 32) (v1535 : BitVec 32) (k0_hw51 : k0_chk51 arg0 v1 v1535), ∀ (k0_h1 : k0_cond1 arg0 v1 = 1#1), ∀ a, (k0_off102 v1535) a + S8x128.size a ≤ S7688x256.size a := fun arg0 v1 v1535 k0_hw51 k0_h1 => k0_hw51.2.2 k0_h1

def k0_mult52 (v1565 : BitVec 32) : BitVec 32 :=
  let c1_i32_377 : BitVec 32 := 1#32
  let v1585 : BitVec 32 := Scalar.shrsi v1565 c1_i32_377
  v1585

def k0_off103 (v1565 : BitVec 32) : Fin 2 → Nat :=
  let c1_i32_377 : BitVec 32 := 1#32
  let v1585 : BitVec 32 := Scalar.shrsi v1565 c1_i32_377
  let v1586 : BitVec 32 := v1585
  let v1587 : Index := Scalar.indexCast v1586
  let c0_378 : Index := 0#32
  ![v1587.toNat, 0]
def k0_off104 (v1565 : BitVec 32) : Fin 2 → Nat :=
  let c1_i32_377 : BitVec 32 := 1#32
  let v1585 : BitVec 32 := Scalar.shrsi v1565 c1_i32_377
  let v1586 : BitVec 32 := v1585
  let v1591 : Index := Scalar.indexCast v1586
  let c128_379 : Index := 128#32
  ![v1591.toNat, 128]

def k0_chk52 (arg0 : BitVec 32) (v1 : BitVec 32) (v1565 : BitVec 32) : Prop :=
  (∀ (k0_h1 : k0_cond1 arg0 v1 = 1#1), 8 ∣ (k0_mult52 v1565).toNat) ∧
  (∀ (k0_h1 : k0_cond1 arg0 v1 = 1#1), ∀ a, (k0_off103 v1565) a + S8x128.size a ≤ S7688x256.size a) ∧
  (∀ (k0_h1 : k0_cond1 arg0 v1 = 1#1), ∀ a, (k0_off104 v1565) a + S8x128.size a ≤ S7688x256.size a)
theorem k0_mult52_dvd : ∀ (arg0 : BitVec 32) (v1 : BitVec 32) (v1565 : BitVec 32) (k0_hw52 : k0_chk52 arg0 v1 v1565), ∀ (k0_h1 : k0_cond1 arg0 v1 = 1#1), 8 ∣ (k0_mult52 v1565).toNat := fun arg0 v1 v1565 k0_hw52 k0_h1 => k0_hw52.1 k0_h1
theorem k0_off103_inb : ∀ (arg0 : BitVec 32) (v1 : BitVec 32) (v1565 : BitVec 32) (k0_hw52 : k0_chk52 arg0 v1 v1565), ∀ (k0_h1 : k0_cond1 arg0 v1 = 1#1), ∀ a, (k0_off103 v1565) a + S8x128.size a ≤ S7688x256.size a := fun arg0 v1 v1565 k0_hw52 k0_h1 => k0_hw52.2.1 k0_h1
theorem k0_off104_inb : ∀ (arg0 : BitVec 32) (v1 : BitVec 32) (v1565 : BitVec 32) (k0_hw52 : k0_chk52 arg0 v1 v1565), ∀ (k0_h1 : k0_cond1 arg0 v1 = 1#1), ∀ a, (k0_off104 v1565) a + S8x128.size a ≤ S7688x256.size a := fun arg0 v1 v1565 k0_hw52 k0_h1 => k0_hw52.2.2 k0_h1

def k0_mult53 (v1595 : BitVec 32) : BitVec 32 :=
  let c1_i32_384 : BitVec 32 := 1#32
  let v1615 : BitVec 32 := Scalar.shrsi v1595 c1_i32_384
  v1615

def k0_off105 (v1595 : BitVec 32) : Fin 2 → Nat :=
  let c1_i32_384 : BitVec 32 := 1#32
  let v1615 : BitVec 32 := Scalar.shrsi v1595 c1_i32_384
  let v1616 : BitVec 32 := v1615
  let v1617 : Index := Scalar.indexCast v1616
  let c0_385 : Index := 0#32
  ![v1617.toNat, 0]
def k0_off106 (v1595 : BitVec 32) : Fin 2 → Nat :=
  let c1_i32_384 : BitVec 32 := 1#32
  let v1615 : BitVec 32 := Scalar.shrsi v1595 c1_i32_384
  let v1616 : BitVec 32 := v1615
  let v1621 : Index := Scalar.indexCast v1616
  let c128_386 : Index := 128#32
  ![v1621.toNat, 128]

def k0_chk53 (arg0 : BitVec 32) (v1 : BitVec 32) (v1595 : BitVec 32) : Prop :=
  (∀ (k0_h1 : k0_cond1 arg0 v1 = 1#1), 8 ∣ (k0_mult53 v1595).toNat) ∧
  (∀ (k0_h1 : k0_cond1 arg0 v1 = 1#1), ∀ a, (k0_off105 v1595) a + S8x128.size a ≤ S7688x256.size a) ∧
  (∀ (k0_h1 : k0_cond1 arg0 v1 = 1#1), ∀ a, (k0_off106 v1595) a + S8x128.size a ≤ S7688x256.size a)
theorem k0_mult53_dvd : ∀ (arg0 : BitVec 32) (v1 : BitVec 32) (v1595 : BitVec 32) (k0_hw53 : k0_chk53 arg0 v1 v1595), ∀ (k0_h1 : k0_cond1 arg0 v1 = 1#1), 8 ∣ (k0_mult53 v1595).toNat := fun arg0 v1 v1595 k0_hw53 k0_h1 => k0_hw53.1 k0_h1
theorem k0_off105_inb : ∀ (arg0 : BitVec 32) (v1 : BitVec 32) (v1595 : BitVec 32) (k0_hw53 : k0_chk53 arg0 v1 v1595), ∀ (k0_h1 : k0_cond1 arg0 v1 = 1#1), ∀ a, (k0_off105 v1595) a + S8x128.size a ≤ S7688x256.size a := fun arg0 v1 v1595 k0_hw53 k0_h1 => k0_hw53.2.1 k0_h1
theorem k0_off106_inb : ∀ (arg0 : BitVec 32) (v1 : BitVec 32) (v1595 : BitVec 32) (k0_hw53 : k0_chk53 arg0 v1 v1595), ∀ (k0_h1 : k0_cond1 arg0 v1 = 1#1), ∀ a, (k0_off106 v1595) a + S8x128.size a ≤ S7688x256.size a := fun arg0 v1 v1595 k0_hw53 k0_h1 => k0_hw53.2.2 k0_h1

def k0_mult54 (v1625 : BitVec 32) : BitVec 32 :=
  let c1_i32_391 : BitVec 32 := 1#32
  let v1645 : BitVec 32 := Scalar.shrsi v1625 c1_i32_391
  v1645

def k0_off107 (v1625 : BitVec 32) : Fin 2 → Nat :=
  let c1_i32_391 : BitVec 32 := 1#32
  let v1645 : BitVec 32 := Scalar.shrsi v1625 c1_i32_391
  let v1646 : BitVec 32 := v1645
  let v1647 : Index := Scalar.indexCast v1646
  let c0_392 : Index := 0#32
  ![v1647.toNat, 0]
def k0_off108 (v1625 : BitVec 32) : Fin 2 → Nat :=
  let c1_i32_391 : BitVec 32 := 1#32
  let v1645 : BitVec 32 := Scalar.shrsi v1625 c1_i32_391
  let v1646 : BitVec 32 := v1645
  let v1651 : Index := Scalar.indexCast v1646
  let c128_393 : Index := 128#32
  ![v1651.toNat, 128]

def k0_chk54 (arg0 : BitVec 32) (v1 : BitVec 32) (v1625 : BitVec 32) : Prop :=
  (∀ (k0_h1 : k0_cond1 arg0 v1 = 1#1), 8 ∣ (k0_mult54 v1625).toNat) ∧
  (∀ (k0_h1 : k0_cond1 arg0 v1 = 1#1), ∀ a, (k0_off107 v1625) a + S8x128.size a ≤ S7688x256.size a) ∧
  (∀ (k0_h1 : k0_cond1 arg0 v1 = 1#1), ∀ a, (k0_off108 v1625) a + S8x128.size a ≤ S7688x256.size a)
theorem k0_mult54_dvd : ∀ (arg0 : BitVec 32) (v1 : BitVec 32) (v1625 : BitVec 32) (k0_hw54 : k0_chk54 arg0 v1 v1625), ∀ (k0_h1 : k0_cond1 arg0 v1 = 1#1), 8 ∣ (k0_mult54 v1625).toNat := fun arg0 v1 v1625 k0_hw54 k0_h1 => k0_hw54.1 k0_h1
theorem k0_off107_inb : ∀ (arg0 : BitVec 32) (v1 : BitVec 32) (v1625 : BitVec 32) (k0_hw54 : k0_chk54 arg0 v1 v1625), ∀ (k0_h1 : k0_cond1 arg0 v1 = 1#1), ∀ a, (k0_off107 v1625) a + S8x128.size a ≤ S7688x256.size a := fun arg0 v1 v1625 k0_hw54 k0_h1 => k0_hw54.2.1 k0_h1
theorem k0_off108_inb : ∀ (arg0 : BitVec 32) (v1 : BitVec 32) (v1625 : BitVec 32) (k0_hw54 : k0_chk54 arg0 v1 v1625), ∀ (k0_h1 : k0_cond1 arg0 v1 = 1#1), ∀ a, (k0_off108 v1625) a + S8x128.size a ≤ S7688x256.size a := fun arg0 v1 v1625 k0_hw54 k0_h1 => k0_hw54.2.2 k0_h1

def k0_mult55 (v1655 : BitVec 32) : BitVec 32 :=
  let c1_i32_398 : BitVec 32 := 1#32
  let v1675 : BitVec 32 := Scalar.shrsi v1655 c1_i32_398
  v1675

def k0_off109 (v1655 : BitVec 32) : Fin 2 → Nat :=
  let c1_i32_398 : BitVec 32 := 1#32
  let v1675 : BitVec 32 := Scalar.shrsi v1655 c1_i32_398
  let v1676 : BitVec 32 := v1675
  let v1677 : Index := Scalar.indexCast v1676
  let c0_399 : Index := 0#32
  ![v1677.toNat, 0]
def k0_off110 (v1655 : BitVec 32) : Fin 2 → Nat :=
  let c1_i32_398 : BitVec 32 := 1#32
  let v1675 : BitVec 32 := Scalar.shrsi v1655 c1_i32_398
  let v1676 : BitVec 32 := v1675
  let v1681 : Index := Scalar.indexCast v1676
  let c128_400 : Index := 128#32
  ![v1681.toNat, 128]

def k0_chk55 (arg0 : BitVec 32) (v1 : BitVec 32) (v1655 : BitVec 32) : Prop :=
  (∀ (k0_h1 : k0_cond1 arg0 v1 = 1#1), 8 ∣ (k0_mult55 v1655).toNat) ∧
  (∀ (k0_h1 : k0_cond1 arg0 v1 = 1#1), ∀ a, (k0_off109 v1655) a + S8x128.size a ≤ S7688x256.size a) ∧
  (∀ (k0_h1 : k0_cond1 arg0 v1 = 1#1), ∀ a, (k0_off110 v1655) a + S8x128.size a ≤ S7688x256.size a)
theorem k0_mult55_dvd : ∀ (arg0 : BitVec 32) (v1 : BitVec 32) (v1655 : BitVec 32) (k0_hw55 : k0_chk55 arg0 v1 v1655), ∀ (k0_h1 : k0_cond1 arg0 v1 = 1#1), 8 ∣ (k0_mult55 v1655).toNat := fun arg0 v1 v1655 k0_hw55 k0_h1 => k0_hw55.1 k0_h1
theorem k0_off109_inb : ∀ (arg0 : BitVec 32) (v1 : BitVec 32) (v1655 : BitVec 32) (k0_hw55 : k0_chk55 arg0 v1 v1655), ∀ (k0_h1 : k0_cond1 arg0 v1 = 1#1), ∀ a, (k0_off109 v1655) a + S8x128.size a ≤ S7688x256.size a := fun arg0 v1 v1655 k0_hw55 k0_h1 => k0_hw55.2.1 k0_h1
theorem k0_off110_inb : ∀ (arg0 : BitVec 32) (v1 : BitVec 32) (v1655 : BitVec 32) (k0_hw55 : k0_chk55 arg0 v1 v1655), ∀ (k0_h1 : k0_cond1 arg0 v1 = 1#1), ∀ a, (k0_off110 v1655) a + S8x128.size a ≤ S7688x256.size a := fun arg0 v1 v1655 k0_hw55 k0_h1 => k0_hw55.2.2 k0_h1

def k0_mult56 (v1685 : BitVec 32) : BitVec 32 :=
  let c1_i32_405 : BitVec 32 := 1#32
  let v1705 : BitVec 32 := Scalar.shrsi v1685 c1_i32_405
  v1705

def k0_off111 (v1685 : BitVec 32) : Fin 2 → Nat :=
  let c1_i32_405 : BitVec 32 := 1#32
  let v1705 : BitVec 32 := Scalar.shrsi v1685 c1_i32_405
  let v1706 : BitVec 32 := v1705
  let v1707 : Index := Scalar.indexCast v1706
  let c0_406 : Index := 0#32
  ![v1707.toNat, 0]
def k0_off112 (v1685 : BitVec 32) : Fin 2 → Nat :=
  let c1_i32_405 : BitVec 32 := 1#32
  let v1705 : BitVec 32 := Scalar.shrsi v1685 c1_i32_405
  let v1706 : BitVec 32 := v1705
  let v1711 : Index := Scalar.indexCast v1706
  let c128_407 : Index := 128#32
  ![v1711.toNat, 128]

def k0_chk56 (arg0 : BitVec 32) (v1 : BitVec 32) (v1685 : BitVec 32) : Prop :=
  (∀ (k0_h1 : k0_cond1 arg0 v1 = 1#1), 8 ∣ (k0_mult56 v1685).toNat) ∧
  (∀ (k0_h1 : k0_cond1 arg0 v1 = 1#1), ∀ a, (k0_off111 v1685) a + S8x128.size a ≤ S7688x256.size a) ∧
  (∀ (k0_h1 : k0_cond1 arg0 v1 = 1#1), ∀ a, (k0_off112 v1685) a + S8x128.size a ≤ S7688x256.size a)
theorem k0_mult56_dvd : ∀ (arg0 : BitVec 32) (v1 : BitVec 32) (v1685 : BitVec 32) (k0_hw56 : k0_chk56 arg0 v1 v1685), ∀ (k0_h1 : k0_cond1 arg0 v1 = 1#1), 8 ∣ (k0_mult56 v1685).toNat := fun arg0 v1 v1685 k0_hw56 k0_h1 => k0_hw56.1 k0_h1
theorem k0_off111_inb : ∀ (arg0 : BitVec 32) (v1 : BitVec 32) (v1685 : BitVec 32) (k0_hw56 : k0_chk56 arg0 v1 v1685), ∀ (k0_h1 : k0_cond1 arg0 v1 = 1#1), ∀ a, (k0_off111 v1685) a + S8x128.size a ≤ S7688x256.size a := fun arg0 v1 v1685 k0_hw56 k0_h1 => k0_hw56.2.1 k0_h1
theorem k0_off112_inb : ∀ (arg0 : BitVec 32) (v1 : BitVec 32) (v1685 : BitVec 32) (k0_hw56 : k0_chk56 arg0 v1 v1685), ∀ (k0_h1 : k0_cond1 arg0 v1 = 1#1), ∀ a, (k0_off112 v1685) a + S8x128.size a ≤ S7688x256.size a := fun arg0 v1 v1685 k0_hw56 k0_h1 => k0_hw56.2.2 k0_h1

def k0_mult57 (v1715 : BitVec 32) : BitVec 32 :=
  let c1_i32_412 : BitVec 32 := 1#32
  let v1735 : BitVec 32 := Scalar.shrsi v1715 c1_i32_412
  v1735

def k0_off113 (v1715 : BitVec 32) : Fin 2 → Nat :=
  let c1_i32_412 : BitVec 32 := 1#32
  let v1735 : BitVec 32 := Scalar.shrsi v1715 c1_i32_412
  let v1736 : BitVec 32 := v1735
  let v1737 : Index := Scalar.indexCast v1736
  let c0_413 : Index := 0#32
  ![v1737.toNat, 0]
def k0_off114 (v1715 : BitVec 32) : Fin 2 → Nat :=
  let c1_i32_412 : BitVec 32 := 1#32
  let v1735 : BitVec 32 := Scalar.shrsi v1715 c1_i32_412
  let v1736 : BitVec 32 := v1735
  let v1741 : Index := Scalar.indexCast v1736
  let c128_414 : Index := 128#32
  ![v1741.toNat, 128]

def k0_chk57 (arg0 : BitVec 32) (v1 : BitVec 32) (v1715 : BitVec 32) : Prop :=
  (∀ (k0_h1 : k0_cond1 arg0 v1 = 1#1), 8 ∣ (k0_mult57 v1715).toNat) ∧
  (∀ (k0_h1 : k0_cond1 arg0 v1 = 1#1), ∀ a, (k0_off113 v1715) a + S8x128.size a ≤ S7688x256.size a) ∧
  (∀ (k0_h1 : k0_cond1 arg0 v1 = 1#1), ∀ a, (k0_off114 v1715) a + S8x128.size a ≤ S7688x256.size a)
theorem k0_mult57_dvd : ∀ (arg0 : BitVec 32) (v1 : BitVec 32) (v1715 : BitVec 32) (k0_hw57 : k0_chk57 arg0 v1 v1715), ∀ (k0_h1 : k0_cond1 arg0 v1 = 1#1), 8 ∣ (k0_mult57 v1715).toNat := fun arg0 v1 v1715 k0_hw57 k0_h1 => k0_hw57.1 k0_h1
theorem k0_off113_inb : ∀ (arg0 : BitVec 32) (v1 : BitVec 32) (v1715 : BitVec 32) (k0_hw57 : k0_chk57 arg0 v1 v1715), ∀ (k0_h1 : k0_cond1 arg0 v1 = 1#1), ∀ a, (k0_off113 v1715) a + S8x128.size a ≤ S7688x256.size a := fun arg0 v1 v1715 k0_hw57 k0_h1 => k0_hw57.2.1 k0_h1
theorem k0_off114_inb : ∀ (arg0 : BitVec 32) (v1 : BitVec 32) (v1715 : BitVec 32) (k0_hw57 : k0_chk57 arg0 v1 v1715), ∀ (k0_h1 : k0_cond1 arg0 v1 = 1#1), ∀ a, (k0_off114 v1715) a + S8x128.size a ≤ S7688x256.size a := fun arg0 v1 v1715 k0_hw57 k0_h1 => k0_hw57.2.2 k0_h1

def k0_mult58 (v1745 : BitVec 32) : BitVec 32 :=
  let c1_i32_419 : BitVec 32 := 1#32
  let v1765 : BitVec 32 := Scalar.shrsi v1745 c1_i32_419
  v1765

def k0_off115 (v1745 : BitVec 32) : Fin 2 → Nat :=
  let c1_i32_419 : BitVec 32 := 1#32
  let v1765 : BitVec 32 := Scalar.shrsi v1745 c1_i32_419
  let v1766 : BitVec 32 := v1765
  let v1767 : Index := Scalar.indexCast v1766
  let c0_420 : Index := 0#32
  ![v1767.toNat, 0]
def k0_off116 (v1745 : BitVec 32) : Fin 2 → Nat :=
  let c1_i32_419 : BitVec 32 := 1#32
  let v1765 : BitVec 32 := Scalar.shrsi v1745 c1_i32_419
  let v1766 : BitVec 32 := v1765
  let v1771 : Index := Scalar.indexCast v1766
  let c128_421 : Index := 128#32
  ![v1771.toNat, 128]

def k0_chk58 (arg0 : BitVec 32) (v1 : BitVec 32) (v1745 : BitVec 32) : Prop :=
  (∀ (k0_h1 : k0_cond1 arg0 v1 = 1#1), 8 ∣ (k0_mult58 v1745).toNat) ∧
  (∀ (k0_h1 : k0_cond1 arg0 v1 = 1#1), ∀ a, (k0_off115 v1745) a + S8x128.size a ≤ S7688x256.size a) ∧
  (∀ (k0_h1 : k0_cond1 arg0 v1 = 1#1), ∀ a, (k0_off116 v1745) a + S8x128.size a ≤ S7688x256.size a)
theorem k0_mult58_dvd : ∀ (arg0 : BitVec 32) (v1 : BitVec 32) (v1745 : BitVec 32) (k0_hw58 : k0_chk58 arg0 v1 v1745), ∀ (k0_h1 : k0_cond1 arg0 v1 = 1#1), 8 ∣ (k0_mult58 v1745).toNat := fun arg0 v1 v1745 k0_hw58 k0_h1 => k0_hw58.1 k0_h1
theorem k0_off115_inb : ∀ (arg0 : BitVec 32) (v1 : BitVec 32) (v1745 : BitVec 32) (k0_hw58 : k0_chk58 arg0 v1 v1745), ∀ (k0_h1 : k0_cond1 arg0 v1 = 1#1), ∀ a, (k0_off115 v1745) a + S8x128.size a ≤ S7688x256.size a := fun arg0 v1 v1745 k0_hw58 k0_h1 => k0_hw58.2.1 k0_h1
theorem k0_off116_inb : ∀ (arg0 : BitVec 32) (v1 : BitVec 32) (v1745 : BitVec 32) (k0_hw58 : k0_chk58 arg0 v1 v1745), ∀ (k0_h1 : k0_cond1 arg0 v1 = 1#1), ∀ a, (k0_off116 v1745) a + S8x128.size a ≤ S7688x256.size a := fun arg0 v1 v1745 k0_hw58 k0_h1 => k0_hw58.2.2 k0_h1

def k0_mult59 (v1775 : BitVec 32) : BitVec 32 :=
  let c1_i32_426 : BitVec 32 := 1#32
  let v1795 : BitVec 32 := Scalar.shrsi v1775 c1_i32_426
  v1795

def k0_off117 (v1775 : BitVec 32) : Fin 2 → Nat :=
  let c1_i32_426 : BitVec 32 := 1#32
  let v1795 : BitVec 32 := Scalar.shrsi v1775 c1_i32_426
  let v1796 : BitVec 32 := v1795
  let v1797 : Index := Scalar.indexCast v1796
  let c0_427 : Index := 0#32
  ![v1797.toNat, 0]
def k0_off118 (v1775 : BitVec 32) : Fin 2 → Nat :=
  let c1_i32_426 : BitVec 32 := 1#32
  let v1795 : BitVec 32 := Scalar.shrsi v1775 c1_i32_426
  let v1796 : BitVec 32 := v1795
  let v1801 : Index := Scalar.indexCast v1796
  let c128_428 : Index := 128#32
  ![v1801.toNat, 128]

def k0_chk59 (arg0 : BitVec 32) (v1 : BitVec 32) (v1775 : BitVec 32) : Prop :=
  (∀ (k0_h1 : k0_cond1 arg0 v1 = 1#1), 8 ∣ (k0_mult59 v1775).toNat) ∧
  (∀ (k0_h1 : k0_cond1 arg0 v1 = 1#1), ∀ a, (k0_off117 v1775) a + S8x128.size a ≤ S7688x256.size a) ∧
  (∀ (k0_h1 : k0_cond1 arg0 v1 = 1#1), ∀ a, (k0_off118 v1775) a + S8x128.size a ≤ S7688x256.size a)
theorem k0_mult59_dvd : ∀ (arg0 : BitVec 32) (v1 : BitVec 32) (v1775 : BitVec 32) (k0_hw59 : k0_chk59 arg0 v1 v1775), ∀ (k0_h1 : k0_cond1 arg0 v1 = 1#1), 8 ∣ (k0_mult59 v1775).toNat := fun arg0 v1 v1775 k0_hw59 k0_h1 => k0_hw59.1 k0_h1
theorem k0_off117_inb : ∀ (arg0 : BitVec 32) (v1 : BitVec 32) (v1775 : BitVec 32) (k0_hw59 : k0_chk59 arg0 v1 v1775), ∀ (k0_h1 : k0_cond1 arg0 v1 = 1#1), ∀ a, (k0_off117 v1775) a + S8x128.size a ≤ S7688x256.size a := fun arg0 v1 v1775 k0_hw59 k0_h1 => k0_hw59.2.1 k0_h1
theorem k0_off118_inb : ∀ (arg0 : BitVec 32) (v1 : BitVec 32) (v1775 : BitVec 32) (k0_hw59 : k0_chk59 arg0 v1 v1775), ∀ (k0_h1 : k0_cond1 arg0 v1 = 1#1), ∀ a, (k0_off118 v1775) a + S8x128.size a ≤ S7688x256.size a := fun arg0 v1 v1775 k0_hw59 k0_h1 => k0_hw59.2.2 k0_h1

def k0_mult60 (v1805 : BitVec 32) : BitVec 32 :=
  let c1_i32_433 : BitVec 32 := 1#32
  let v1825 : BitVec 32 := Scalar.shrsi v1805 c1_i32_433
  v1825

def k0_off119 (v1805 : BitVec 32) : Fin 2 → Nat :=
  let c1_i32_433 : BitVec 32 := 1#32
  let v1825 : BitVec 32 := Scalar.shrsi v1805 c1_i32_433
  let v1826 : BitVec 32 := v1825
  let v1827 : Index := Scalar.indexCast v1826
  let c0_434 : Index := 0#32
  ![v1827.toNat, 0]
def k0_off120 (v1805 : BitVec 32) : Fin 2 → Nat :=
  let c1_i32_433 : BitVec 32 := 1#32
  let v1825 : BitVec 32 := Scalar.shrsi v1805 c1_i32_433
  let v1826 : BitVec 32 := v1825
  let v1831 : Index := Scalar.indexCast v1826
  let c128_435 : Index := 128#32
  ![v1831.toNat, 128]

def k0_chk60 (arg0 : BitVec 32) (v1 : BitVec 32) (v1805 : BitVec 32) : Prop :=
  (∀ (k0_h1 : k0_cond1 arg0 v1 = 1#1), 8 ∣ (k0_mult60 v1805).toNat) ∧
  (∀ (k0_h1 : k0_cond1 arg0 v1 = 1#1), ∀ a, (k0_off119 v1805) a + S8x128.size a ≤ S7688x256.size a) ∧
  (∀ (k0_h1 : k0_cond1 arg0 v1 = 1#1), ∀ a, (k0_off120 v1805) a + S8x128.size a ≤ S7688x256.size a)
theorem k0_mult60_dvd : ∀ (arg0 : BitVec 32) (v1 : BitVec 32) (v1805 : BitVec 32) (k0_hw60 : k0_chk60 arg0 v1 v1805), ∀ (k0_h1 : k0_cond1 arg0 v1 = 1#1), 8 ∣ (k0_mult60 v1805).toNat := fun arg0 v1 v1805 k0_hw60 k0_h1 => k0_hw60.1 k0_h1
theorem k0_off119_inb : ∀ (arg0 : BitVec 32) (v1 : BitVec 32) (v1805 : BitVec 32) (k0_hw60 : k0_chk60 arg0 v1 v1805), ∀ (k0_h1 : k0_cond1 arg0 v1 = 1#1), ∀ a, (k0_off119 v1805) a + S8x128.size a ≤ S7688x256.size a := fun arg0 v1 v1805 k0_hw60 k0_h1 => k0_hw60.2.1 k0_h1
theorem k0_off120_inb : ∀ (arg0 : BitVec 32) (v1 : BitVec 32) (v1805 : BitVec 32) (k0_hw60 : k0_chk60 arg0 v1 v1805), ∀ (k0_h1 : k0_cond1 arg0 v1 = 1#1), ∀ a, (k0_off120 v1805) a + S8x128.size a ≤ S7688x256.size a := fun arg0 v1 v1805 k0_hw60 k0_h1 => k0_hw60.2.2 k0_h1

def k0_mult61 (v1835 : BitVec 32) : BitVec 32 :=
  let c1_i32_440 : BitVec 32 := 1#32
  let v1855 : BitVec 32 := Scalar.shrsi v1835 c1_i32_440
  v1855

def k0_off121 (v1835 : BitVec 32) : Fin 2 → Nat :=
  let c1_i32_440 : BitVec 32 := 1#32
  let v1855 : BitVec 32 := Scalar.shrsi v1835 c1_i32_440
  let v1856 : BitVec 32 := v1855
  let v1857 : Index := Scalar.indexCast v1856
  let c0_441 : Index := 0#32
  ![v1857.toNat, 0]
def k0_off122 (v1835 : BitVec 32) : Fin 2 → Nat :=
  let c1_i32_440 : BitVec 32 := 1#32
  let v1855 : BitVec 32 := Scalar.shrsi v1835 c1_i32_440
  let v1856 : BitVec 32 := v1855
  let v1861 : Index := Scalar.indexCast v1856
  let c128_442 : Index := 128#32
  ![v1861.toNat, 128]

def k0_chk61 (arg0 : BitVec 32) (v1 : BitVec 32) (v1835 : BitVec 32) : Prop :=
  (∀ (k0_h1 : k0_cond1 arg0 v1 = 1#1), 8 ∣ (k0_mult61 v1835).toNat) ∧
  (∀ (k0_h1 : k0_cond1 arg0 v1 = 1#1), ∀ a, (k0_off121 v1835) a + S8x128.size a ≤ S7688x256.size a) ∧
  (∀ (k0_h1 : k0_cond1 arg0 v1 = 1#1), ∀ a, (k0_off122 v1835) a + S8x128.size a ≤ S7688x256.size a)
theorem k0_mult61_dvd : ∀ (arg0 : BitVec 32) (v1 : BitVec 32) (v1835 : BitVec 32) (k0_hw61 : k0_chk61 arg0 v1 v1835), ∀ (k0_h1 : k0_cond1 arg0 v1 = 1#1), 8 ∣ (k0_mult61 v1835).toNat := fun arg0 v1 v1835 k0_hw61 k0_h1 => k0_hw61.1 k0_h1
theorem k0_off121_inb : ∀ (arg0 : BitVec 32) (v1 : BitVec 32) (v1835 : BitVec 32) (k0_hw61 : k0_chk61 arg0 v1 v1835), ∀ (k0_h1 : k0_cond1 arg0 v1 = 1#1), ∀ a, (k0_off121 v1835) a + S8x128.size a ≤ S7688x256.size a := fun arg0 v1 v1835 k0_hw61 k0_h1 => k0_hw61.2.1 k0_h1
theorem k0_off122_inb : ∀ (arg0 : BitVec 32) (v1 : BitVec 32) (v1835 : BitVec 32) (k0_hw61 : k0_chk61 arg0 v1 v1835), ∀ (k0_h1 : k0_cond1 arg0 v1 = 1#1), ∀ a, (k0_off122 v1835) a + S8x128.size a ≤ S7688x256.size a := fun arg0 v1 v1835 k0_hw61 k0_h1 => k0_hw61.2.2 k0_h1

def k0_mult62 (v1865 : BitVec 32) : BitVec 32 :=
  let c1_i32_447 : BitVec 32 := 1#32
  let v1885 : BitVec 32 := Scalar.shrsi v1865 c1_i32_447
  v1885

def k0_off123 (v1865 : BitVec 32) : Fin 2 → Nat :=
  let c1_i32_447 : BitVec 32 := 1#32
  let v1885 : BitVec 32 := Scalar.shrsi v1865 c1_i32_447
  let v1886 : BitVec 32 := v1885
  let v1887 : Index := Scalar.indexCast v1886
  let c0_448 : Index := 0#32
  ![v1887.toNat, 0]
def k0_off124 (v1865 : BitVec 32) : Fin 2 → Nat :=
  let c1_i32_447 : BitVec 32 := 1#32
  let v1885 : BitVec 32 := Scalar.shrsi v1865 c1_i32_447
  let v1886 : BitVec 32 := v1885
  let v1891 : Index := Scalar.indexCast v1886
  let c128_449 : Index := 128#32
  ![v1891.toNat, 128]

def k0_chk62 (arg0 : BitVec 32) (v1 : BitVec 32) (v1865 : BitVec 32) : Prop :=
  (∀ (k0_h1 : k0_cond1 arg0 v1 = 1#1), 8 ∣ (k0_mult62 v1865).toNat) ∧
  (∀ (k0_h1 : k0_cond1 arg0 v1 = 1#1), ∀ a, (k0_off123 v1865) a + S8x128.size a ≤ S7688x256.size a) ∧
  (∀ (k0_h1 : k0_cond1 arg0 v1 = 1#1), ∀ a, (k0_off124 v1865) a + S8x128.size a ≤ S7688x256.size a)
theorem k0_mult62_dvd : ∀ (arg0 : BitVec 32) (v1 : BitVec 32) (v1865 : BitVec 32) (k0_hw62 : k0_chk62 arg0 v1 v1865), ∀ (k0_h1 : k0_cond1 arg0 v1 = 1#1), 8 ∣ (k0_mult62 v1865).toNat := fun arg0 v1 v1865 k0_hw62 k0_h1 => k0_hw62.1 k0_h1
theorem k0_off123_inb : ∀ (arg0 : BitVec 32) (v1 : BitVec 32) (v1865 : BitVec 32) (k0_hw62 : k0_chk62 arg0 v1 v1865), ∀ (k0_h1 : k0_cond1 arg0 v1 = 1#1), ∀ a, (k0_off123 v1865) a + S8x128.size a ≤ S7688x256.size a := fun arg0 v1 v1865 k0_hw62 k0_h1 => k0_hw62.2.1 k0_h1
theorem k0_off124_inb : ∀ (arg0 : BitVec 32) (v1 : BitVec 32) (v1865 : BitVec 32) (k0_hw62 : k0_chk62 arg0 v1 v1865), ∀ (k0_h1 : k0_cond1 arg0 v1 = 1#1), ∀ a, (k0_off124 v1865) a + S8x128.size a ≤ S7688x256.size a := fun arg0 v1 v1865 k0_hw62 k0_h1 => k0_hw62.2.2 k0_h1

def k0_mult63 (v1895 : BitVec 32) : BitVec 32 :=
  let c1_i32_454 : BitVec 32 := 1#32
  let v1915 : BitVec 32 := Scalar.shrsi v1895 c1_i32_454
  v1915

def k0_off125 (v1895 : BitVec 32) : Fin 2 → Nat :=
  let c1_i32_454 : BitVec 32 := 1#32
  let v1915 : BitVec 32 := Scalar.shrsi v1895 c1_i32_454
  let v1916 : BitVec 32 := v1915
  let v1917 : Index := Scalar.indexCast v1916
  let c0_455 : Index := 0#32
  ![v1917.toNat, 0]
def k0_off126 (v1895 : BitVec 32) : Fin 2 → Nat :=
  let c1_i32_454 : BitVec 32 := 1#32
  let v1915 : BitVec 32 := Scalar.shrsi v1895 c1_i32_454
  let v1916 : BitVec 32 := v1915
  let v1921 : Index := Scalar.indexCast v1916
  let c128_456 : Index := 128#32
  ![v1921.toNat, 128]

def k0_chk63 (arg0 : BitVec 32) (v1 : BitVec 32) (v1895 : BitVec 32) : Prop :=
  (∀ (k0_h1 : k0_cond1 arg0 v1 = 1#1), 8 ∣ (k0_mult63 v1895).toNat) ∧
  (∀ (k0_h1 : k0_cond1 arg0 v1 = 1#1), ∀ a, (k0_off125 v1895) a + S8x128.size a ≤ S7688x256.size a) ∧
  (∀ (k0_h1 : k0_cond1 arg0 v1 = 1#1), ∀ a, (k0_off126 v1895) a + S8x128.size a ≤ S7688x256.size a)
theorem k0_mult63_dvd : ∀ (arg0 : BitVec 32) (v1 : BitVec 32) (v1895 : BitVec 32) (k0_hw63 : k0_chk63 arg0 v1 v1895), ∀ (k0_h1 : k0_cond1 arg0 v1 = 1#1), 8 ∣ (k0_mult63 v1895).toNat := fun arg0 v1 v1895 k0_hw63 k0_h1 => k0_hw63.1 k0_h1
theorem k0_off125_inb : ∀ (arg0 : BitVec 32) (v1 : BitVec 32) (v1895 : BitVec 32) (k0_hw63 : k0_chk63 arg0 v1 v1895), ∀ (k0_h1 : k0_cond1 arg0 v1 = 1#1), ∀ a, (k0_off125 v1895) a + S8x128.size a ≤ S7688x256.size a := fun arg0 v1 v1895 k0_hw63 k0_h1 => k0_hw63.2.1 k0_h1
theorem k0_off126_inb : ∀ (arg0 : BitVec 32) (v1 : BitVec 32) (v1895 : BitVec 32) (k0_hw63 : k0_chk63 arg0 v1 v1895), ∀ (k0_h1 : k0_cond1 arg0 v1 = 1#1), ∀ a, (k0_off126 v1895) a + S8x128.size a ≤ S7688x256.size a := fun arg0 v1 v1895 k0_hw63 k0_h1 => k0_hw63.2.2 k0_h1

def k0_mult64 (v1925 : BitVec 32) : BitVec 32 :=
  let c1_i32_461 : BitVec 32 := 1#32
  let v1945 : BitVec 32 := Scalar.shrsi v1925 c1_i32_461
  v1945

def k0_off127 (v1925 : BitVec 32) : Fin 2 → Nat :=
  let c1_i32_461 : BitVec 32 := 1#32
  let v1945 : BitVec 32 := Scalar.shrsi v1925 c1_i32_461
  let v1946 : BitVec 32 := v1945
  let v1947 : Index := Scalar.indexCast v1946
  let c0_462 : Index := 0#32
  ![v1947.toNat, 0]
def k0_off128 (v1925 : BitVec 32) : Fin 2 → Nat :=
  let c1_i32_461 : BitVec 32 := 1#32
  let v1945 : BitVec 32 := Scalar.shrsi v1925 c1_i32_461
  let v1946 : BitVec 32 := v1945
  let v1951 : Index := Scalar.indexCast v1946
  let c128_463 : Index := 128#32
  ![v1951.toNat, 128]

def k0_chk64 (arg0 : BitVec 32) (v1 : BitVec 32) (v1925 : BitVec 32) : Prop :=
  (∀ (k0_h1 : k0_cond1 arg0 v1 = 1#1), 8 ∣ (k0_mult64 v1925).toNat) ∧
  (∀ (k0_h1 : k0_cond1 arg0 v1 = 1#1), ∀ a, (k0_off127 v1925) a + S8x128.size a ≤ S7688x256.size a) ∧
  (∀ (k0_h1 : k0_cond1 arg0 v1 = 1#1), ∀ a, (k0_off128 v1925) a + S8x128.size a ≤ S7688x256.size a)
theorem k0_mult64_dvd : ∀ (arg0 : BitVec 32) (v1 : BitVec 32) (v1925 : BitVec 32) (k0_hw64 : k0_chk64 arg0 v1 v1925), ∀ (k0_h1 : k0_cond1 arg0 v1 = 1#1), 8 ∣ (k0_mult64 v1925).toNat := fun arg0 v1 v1925 k0_hw64 k0_h1 => k0_hw64.1 k0_h1
theorem k0_off127_inb : ∀ (arg0 : BitVec 32) (v1 : BitVec 32) (v1925 : BitVec 32) (k0_hw64 : k0_chk64 arg0 v1 v1925), ∀ (k0_h1 : k0_cond1 arg0 v1 = 1#1), ∀ a, (k0_off127 v1925) a + S8x128.size a ≤ S7688x256.size a := fun arg0 v1 v1925 k0_hw64 k0_h1 => k0_hw64.2.1 k0_h1
theorem k0_off128_inb : ∀ (arg0 : BitVec 32) (v1 : BitVec 32) (v1925 : BitVec 32) (k0_hw64 : k0_chk64 arg0 v1 v1925), ∀ (k0_h1 : k0_cond1 arg0 v1 = 1#1), ∀ a, (k0_off128 v1925) a + S8x128.size a ≤ S7688x256.size a := fun arg0 v1 v1925 k0_hw64 k0_h1 => k0_hw64.2.2 k0_h1

def k0_mult65 (v1955 : BitVec 32) : BitVec 32 :=
  let c1_i32_468 : BitVec 32 := 1#32
  let v1975 : BitVec 32 := Scalar.shrsi v1955 c1_i32_468
  v1975

def k0_off129 (v1955 : BitVec 32) : Fin 2 → Nat :=
  let c1_i32_468 : BitVec 32 := 1#32
  let v1975 : BitVec 32 := Scalar.shrsi v1955 c1_i32_468
  let v1976 : BitVec 32 := v1975
  let v1977 : Index := Scalar.indexCast v1976
  let c0_469 : Index := 0#32
  ![v1977.toNat, 0]
def k0_off130 (v1955 : BitVec 32) : Fin 2 → Nat :=
  let c1_i32_468 : BitVec 32 := 1#32
  let v1975 : BitVec 32 := Scalar.shrsi v1955 c1_i32_468
  let v1976 : BitVec 32 := v1975
  let v1981 : Index := Scalar.indexCast v1976
  let c128_470 : Index := 128#32
  ![v1981.toNat, 128]

def k0_chk65 (arg0 : BitVec 32) (v1 : BitVec 32) (v1955 : BitVec 32) : Prop :=
  (∀ (k0_h1 : k0_cond1 arg0 v1 = 1#1), 8 ∣ (k0_mult65 v1955).toNat) ∧
  (∀ (k0_h1 : k0_cond1 arg0 v1 = 1#1), ∀ a, (k0_off129 v1955) a + S8x128.size a ≤ S7688x256.size a) ∧
  (∀ (k0_h1 : k0_cond1 arg0 v1 = 1#1), ∀ a, (k0_off130 v1955) a + S8x128.size a ≤ S7688x256.size a)
theorem k0_mult65_dvd : ∀ (arg0 : BitVec 32) (v1 : BitVec 32) (v1955 : BitVec 32) (k0_hw65 : k0_chk65 arg0 v1 v1955), ∀ (k0_h1 : k0_cond1 arg0 v1 = 1#1), 8 ∣ (k0_mult65 v1955).toNat := fun arg0 v1 v1955 k0_hw65 k0_h1 => k0_hw65.1 k0_h1
theorem k0_off129_inb : ∀ (arg0 : BitVec 32) (v1 : BitVec 32) (v1955 : BitVec 32) (k0_hw65 : k0_chk65 arg0 v1 v1955), ∀ (k0_h1 : k0_cond1 arg0 v1 = 1#1), ∀ a, (k0_off129 v1955) a + S8x128.size a ≤ S7688x256.size a := fun arg0 v1 v1955 k0_hw65 k0_h1 => k0_hw65.2.1 k0_h1
theorem k0_off130_inb : ∀ (arg0 : BitVec 32) (v1 : BitVec 32) (v1955 : BitVec 32) (k0_hw65 : k0_chk65 arg0 v1 v1955), ∀ (k0_h1 : k0_cond1 arg0 v1 = 1#1), ∀ a, (k0_off130 v1955) a + S8x128.size a ≤ S7688x256.size a := fun arg0 v1 v1955 k0_hw65 k0_h1 => k0_hw65.2.2 k0_h1

def k0_mult66 (v1985 : BitVec 32) : BitVec 32 :=
  let c1_i32_475 : BitVec 32 := 1#32
  let v2005 : BitVec 32 := Scalar.shrsi v1985 c1_i32_475
  v2005

def k0_off131 (v1985 : BitVec 32) : Fin 2 → Nat :=
  let c1_i32_475 : BitVec 32 := 1#32
  let v2005 : BitVec 32 := Scalar.shrsi v1985 c1_i32_475
  let v2006 : BitVec 32 := v2005
  let v2007 : Index := Scalar.indexCast v2006
  let c0_476 : Index := 0#32
  ![v2007.toNat, 0]
def k0_off132 (v1985 : BitVec 32) : Fin 2 → Nat :=
  let c1_i32_475 : BitVec 32 := 1#32
  let v2005 : BitVec 32 := Scalar.shrsi v1985 c1_i32_475
  let v2006 : BitVec 32 := v2005
  let v2011 : Index := Scalar.indexCast v2006
  let c128_477 : Index := 128#32
  ![v2011.toNat, 128]

def k0_chk66 (arg0 : BitVec 32) (v1 : BitVec 32) (v1985 : BitVec 32) : Prop :=
  (∀ (k0_h1 : k0_cond1 arg0 v1 = 1#1), 8 ∣ (k0_mult66 v1985).toNat) ∧
  (∀ (k0_h1 : k0_cond1 arg0 v1 = 1#1), ∀ a, (k0_off131 v1985) a + S8x128.size a ≤ S7688x256.size a) ∧
  (∀ (k0_h1 : k0_cond1 arg0 v1 = 1#1), ∀ a, (k0_off132 v1985) a + S8x128.size a ≤ S7688x256.size a)
theorem k0_mult66_dvd : ∀ (arg0 : BitVec 32) (v1 : BitVec 32) (v1985 : BitVec 32) (k0_hw66 : k0_chk66 arg0 v1 v1985), ∀ (k0_h1 : k0_cond1 arg0 v1 = 1#1), 8 ∣ (k0_mult66 v1985).toNat := fun arg0 v1 v1985 k0_hw66 k0_h1 => k0_hw66.1 k0_h1
theorem k0_off131_inb : ∀ (arg0 : BitVec 32) (v1 : BitVec 32) (v1985 : BitVec 32) (k0_hw66 : k0_chk66 arg0 v1 v1985), ∀ (k0_h1 : k0_cond1 arg0 v1 = 1#1), ∀ a, (k0_off131 v1985) a + S8x128.size a ≤ S7688x256.size a := fun arg0 v1 v1985 k0_hw66 k0_h1 => k0_hw66.2.1 k0_h1
theorem k0_off132_inb : ∀ (arg0 : BitVec 32) (v1 : BitVec 32) (v1985 : BitVec 32) (k0_hw66 : k0_chk66 arg0 v1 v1985), ∀ (k0_h1 : k0_cond1 arg0 v1 = 1#1), ∀ a, (k0_off132 v1985) a + S8x128.size a ≤ S7688x256.size a := fun arg0 v1 v1985 k0_hw66 k0_h1 => k0_hw66.2.2 k0_h1

def k0_mult67 (v2015 : BitVec 32) : BitVec 32 :=
  let c1_i32_482 : BitVec 32 := 1#32
  let v2035 : BitVec 32 := Scalar.shrsi v2015 c1_i32_482
  v2035

def k0_off133 (v2015 : BitVec 32) : Fin 2 → Nat :=
  let c1_i32_482 : BitVec 32 := 1#32
  let v2035 : BitVec 32 := Scalar.shrsi v2015 c1_i32_482
  let v2036 : BitVec 32 := v2035
  let v2037 : Index := Scalar.indexCast v2036
  let c0_483 : Index := 0#32
  ![v2037.toNat, 0]
def k0_off134 (v2015 : BitVec 32) : Fin 2 → Nat :=
  let c1_i32_482 : BitVec 32 := 1#32
  let v2035 : BitVec 32 := Scalar.shrsi v2015 c1_i32_482
  let v2036 : BitVec 32 := v2035
  let v2041 : Index := Scalar.indexCast v2036
  let c128_484 : Index := 128#32
  ![v2041.toNat, 128]

def k0_chk67 (arg0 : BitVec 32) (v1 : BitVec 32) (v2015 : BitVec 32) : Prop :=
  (∀ (k0_h1 : k0_cond1 arg0 v1 = 1#1), 8 ∣ (k0_mult67 v2015).toNat) ∧
  (∀ (k0_h1 : k0_cond1 arg0 v1 = 1#1), ∀ a, (k0_off133 v2015) a + S8x128.size a ≤ S7688x256.size a) ∧
  (∀ (k0_h1 : k0_cond1 arg0 v1 = 1#1), ∀ a, (k0_off134 v2015) a + S8x128.size a ≤ S7688x256.size a)
theorem k0_mult67_dvd : ∀ (arg0 : BitVec 32) (v1 : BitVec 32) (v2015 : BitVec 32) (k0_hw67 : k0_chk67 arg0 v1 v2015), ∀ (k0_h1 : k0_cond1 arg0 v1 = 1#1), 8 ∣ (k0_mult67 v2015).toNat := fun arg0 v1 v2015 k0_hw67 k0_h1 => k0_hw67.1 k0_h1
theorem k0_off133_inb : ∀ (arg0 : BitVec 32) (v1 : BitVec 32) (v2015 : BitVec 32) (k0_hw67 : k0_chk67 arg0 v1 v2015), ∀ (k0_h1 : k0_cond1 arg0 v1 = 1#1), ∀ a, (k0_off133 v2015) a + S8x128.size a ≤ S7688x256.size a := fun arg0 v1 v2015 k0_hw67 k0_h1 => k0_hw67.2.1 k0_h1
theorem k0_off134_inb : ∀ (arg0 : BitVec 32) (v1 : BitVec 32) (v2015 : BitVec 32) (k0_hw67 : k0_chk67 arg0 v1 v2015), ∀ (k0_h1 : k0_cond1 arg0 v1 = 1#1), ∀ a, (k0_off134 v2015) a + S8x128.size a ≤ S7688x256.size a := fun arg0 v1 v2015 k0_hw67 k0_h1 => k0_hw67.2.2 k0_h1

def k0_mult68 (v2045 : BitVec 32) : BitVec 32 :=
  let c1_i32_489 : BitVec 32 := 1#32
  let v2065 : BitVec 32 := Scalar.shrsi v2045 c1_i32_489
  v2065

def k0_off135 (v2045 : BitVec 32) : Fin 2 → Nat :=
  let c1_i32_489 : BitVec 32 := 1#32
  let v2065 : BitVec 32 := Scalar.shrsi v2045 c1_i32_489
  let v2066 : BitVec 32 := v2065
  let v2067 : Index := Scalar.indexCast v2066
  let c0_490 : Index := 0#32
  ![v2067.toNat, 0]
def k0_off136 (v2045 : BitVec 32) : Fin 2 → Nat :=
  let c1_i32_489 : BitVec 32 := 1#32
  let v2065 : BitVec 32 := Scalar.shrsi v2045 c1_i32_489
  let v2066 : BitVec 32 := v2065
  let v2071 : Index := Scalar.indexCast v2066
  let c128_491 : Index := 128#32
  ![v2071.toNat, 128]

def k0_chk68 (arg0 : BitVec 32) (v1 : BitVec 32) (v2045 : BitVec 32) : Prop :=
  (∀ (k0_h1 : k0_cond1 arg0 v1 = 1#1), 8 ∣ (k0_mult68 v2045).toNat) ∧
  (∀ (k0_h1 : k0_cond1 arg0 v1 = 1#1), ∀ a, (k0_off135 v2045) a + S8x128.size a ≤ S7688x256.size a) ∧
  (∀ (k0_h1 : k0_cond1 arg0 v1 = 1#1), ∀ a, (k0_off136 v2045) a + S8x128.size a ≤ S7688x256.size a)
theorem k0_mult68_dvd : ∀ (arg0 : BitVec 32) (v1 : BitVec 32) (v2045 : BitVec 32) (k0_hw68 : k0_chk68 arg0 v1 v2045), ∀ (k0_h1 : k0_cond1 arg0 v1 = 1#1), 8 ∣ (k0_mult68 v2045).toNat := fun arg0 v1 v2045 k0_hw68 k0_h1 => k0_hw68.1 k0_h1
theorem k0_off135_inb : ∀ (arg0 : BitVec 32) (v1 : BitVec 32) (v2045 : BitVec 32) (k0_hw68 : k0_chk68 arg0 v1 v2045), ∀ (k0_h1 : k0_cond1 arg0 v1 = 1#1), ∀ a, (k0_off135 v2045) a + S8x128.size a ≤ S7688x256.size a := fun arg0 v1 v2045 k0_hw68 k0_h1 => k0_hw68.2.1 k0_h1
theorem k0_off136_inb : ∀ (arg0 : BitVec 32) (v1 : BitVec 32) (v2045 : BitVec 32) (k0_hw68 : k0_chk68 arg0 v1 v2045), ∀ (k0_h1 : k0_cond1 arg0 v1 = 1#1), ∀ a, (k0_off136 v2045) a + S8x128.size a ≤ S7688x256.size a := fun arg0 v1 v2045 k0_hw68 k0_h1 => k0_hw68.2.2 k0_h1

def k0_mult69 (v2075 : BitVec 32) : BitVec 32 :=
  let c1_i32_496 : BitVec 32 := 1#32
  let v2095 : BitVec 32 := Scalar.shrsi v2075 c1_i32_496
  v2095

def k0_off137 (v2075 : BitVec 32) : Fin 2 → Nat :=
  let c1_i32_496 : BitVec 32 := 1#32
  let v2095 : BitVec 32 := Scalar.shrsi v2075 c1_i32_496
  let v2096 : BitVec 32 := v2095
  let v2097 : Index := Scalar.indexCast v2096
  let c0_497 : Index := 0#32
  ![v2097.toNat, 0]
def k0_off138 (v2075 : BitVec 32) : Fin 2 → Nat :=
  let c1_i32_496 : BitVec 32 := 1#32
  let v2095 : BitVec 32 := Scalar.shrsi v2075 c1_i32_496
  let v2096 : BitVec 32 := v2095
  let v2101 : Index := Scalar.indexCast v2096
  let c128_498 : Index := 128#32
  ![v2101.toNat, 128]

def k0_chk69 (arg0 : BitVec 32) (v1 : BitVec 32) (v2075 : BitVec 32) : Prop :=
  (∀ (k0_h1 : k0_cond1 arg0 v1 = 1#1), 8 ∣ (k0_mult69 v2075).toNat) ∧
  (∀ (k0_h1 : k0_cond1 arg0 v1 = 1#1), ∀ a, (k0_off137 v2075) a + S8x128.size a ≤ S7688x256.size a) ∧
  (∀ (k0_h1 : k0_cond1 arg0 v1 = 1#1), ∀ a, (k0_off138 v2075) a + S8x128.size a ≤ S7688x256.size a)
theorem k0_mult69_dvd : ∀ (arg0 : BitVec 32) (v1 : BitVec 32) (v2075 : BitVec 32) (k0_hw69 : k0_chk69 arg0 v1 v2075), ∀ (k0_h1 : k0_cond1 arg0 v1 = 1#1), 8 ∣ (k0_mult69 v2075).toNat := fun arg0 v1 v2075 k0_hw69 k0_h1 => k0_hw69.1 k0_h1
theorem k0_off137_inb : ∀ (arg0 : BitVec 32) (v1 : BitVec 32) (v2075 : BitVec 32) (k0_hw69 : k0_chk69 arg0 v1 v2075), ∀ (k0_h1 : k0_cond1 arg0 v1 = 1#1), ∀ a, (k0_off137 v2075) a + S8x128.size a ≤ S7688x256.size a := fun arg0 v1 v2075 k0_hw69 k0_h1 => k0_hw69.2.1 k0_h1
theorem k0_off138_inb : ∀ (arg0 : BitVec 32) (v1 : BitVec 32) (v2075 : BitVec 32) (k0_hw69 : k0_chk69 arg0 v1 v2075), ∀ (k0_h1 : k0_cond1 arg0 v1 = 1#1), ∀ a, (k0_off138 v2075) a + S8x128.size a ≤ S7688x256.size a := fun arg0 v1 v2075 k0_hw69 k0_h1 => k0_hw69.2.2 k0_h1

def k0_mult70 (v2105 : BitVec 32) : BitVec 32 :=
  let c1_i32_503 : BitVec 32 := 1#32
  let v2125 : BitVec 32 := Scalar.shrsi v2105 c1_i32_503
  v2125

def k0_off139 (v2105 : BitVec 32) : Fin 2 → Nat :=
  let c1_i32_503 : BitVec 32 := 1#32
  let v2125 : BitVec 32 := Scalar.shrsi v2105 c1_i32_503
  let v2126 : BitVec 32 := v2125
  let v2127 : Index := Scalar.indexCast v2126
  let c0_504 : Index := 0#32
  ![v2127.toNat, 0]
def k0_off140 (v2105 : BitVec 32) : Fin 2 → Nat :=
  let c1_i32_503 : BitVec 32 := 1#32
  let v2125 : BitVec 32 := Scalar.shrsi v2105 c1_i32_503
  let v2126 : BitVec 32 := v2125
  let v2131 : Index := Scalar.indexCast v2126
  let c128_505 : Index := 128#32
  ![v2131.toNat, 128]

def k0_chk70 (arg0 : BitVec 32) (v1 : BitVec 32) (v2105 : BitVec 32) : Prop :=
  (∀ (k0_h1 : k0_cond1 arg0 v1 = 1#1), 8 ∣ (k0_mult70 v2105).toNat) ∧
  (∀ (k0_h1 : k0_cond1 arg0 v1 = 1#1), ∀ a, (k0_off139 v2105) a + S8x128.size a ≤ S7688x256.size a) ∧
  (∀ (k0_h1 : k0_cond1 arg0 v1 = 1#1), ∀ a, (k0_off140 v2105) a + S8x128.size a ≤ S7688x256.size a)
theorem k0_mult70_dvd : ∀ (arg0 : BitVec 32) (v1 : BitVec 32) (v2105 : BitVec 32) (k0_hw70 : k0_chk70 arg0 v1 v2105), ∀ (k0_h1 : k0_cond1 arg0 v1 = 1#1), 8 ∣ (k0_mult70 v2105).toNat := fun arg0 v1 v2105 k0_hw70 k0_h1 => k0_hw70.1 k0_h1
theorem k0_off139_inb : ∀ (arg0 : BitVec 32) (v1 : BitVec 32) (v2105 : BitVec 32) (k0_hw70 : k0_chk70 arg0 v1 v2105), ∀ (k0_h1 : k0_cond1 arg0 v1 = 1#1), ∀ a, (k0_off139 v2105) a + S8x128.size a ≤ S7688x256.size a := fun arg0 v1 v2105 k0_hw70 k0_h1 => k0_hw70.2.1 k0_h1
theorem k0_off140_inb : ∀ (arg0 : BitVec 32) (v1 : BitVec 32) (v2105 : BitVec 32) (k0_hw70 : k0_chk70 arg0 v1 v2105), ∀ (k0_h1 : k0_cond1 arg0 v1 = 1#1), ∀ a, (k0_off140 v2105) a + S8x128.size a ≤ S7688x256.size a := fun arg0 v1 v2105 k0_hw70 k0_h1 => k0_hw70.2.2 k0_h1

def k0_mult71 (v2135 : BitVec 32) : BitVec 32 :=
  let c1_i32_510 : BitVec 32 := 1#32
  let v2155 : BitVec 32 := Scalar.shrsi v2135 c1_i32_510
  v2155

def k0_off141 (v2135 : BitVec 32) : Fin 2 → Nat :=
  let c1_i32_510 : BitVec 32 := 1#32
  let v2155 : BitVec 32 := Scalar.shrsi v2135 c1_i32_510
  let v2156 : BitVec 32 := v2155
  let v2157 : Index := Scalar.indexCast v2156
  let c0_511 : Index := 0#32
  ![v2157.toNat, 0]
def k0_off142 (v2135 : BitVec 32) : Fin 2 → Nat :=
  let c1_i32_510 : BitVec 32 := 1#32
  let v2155 : BitVec 32 := Scalar.shrsi v2135 c1_i32_510
  let v2156 : BitVec 32 := v2155
  let v2161 : Index := Scalar.indexCast v2156
  let c128_512 : Index := 128#32
  ![v2161.toNat, 128]

def k0_chk71 (arg0 : BitVec 32) (v1 : BitVec 32) (v2135 : BitVec 32) : Prop :=
  (∀ (k0_h1 : k0_cond1 arg0 v1 = 1#1), 8 ∣ (k0_mult71 v2135).toNat) ∧
  (∀ (k0_h1 : k0_cond1 arg0 v1 = 1#1), ∀ a, (k0_off141 v2135) a + S8x128.size a ≤ S7688x256.size a) ∧
  (∀ (k0_h1 : k0_cond1 arg0 v1 = 1#1), ∀ a, (k0_off142 v2135) a + S8x128.size a ≤ S7688x256.size a)
theorem k0_mult71_dvd : ∀ (arg0 : BitVec 32) (v1 : BitVec 32) (v2135 : BitVec 32) (k0_hw71 : k0_chk71 arg0 v1 v2135), ∀ (k0_h1 : k0_cond1 arg0 v1 = 1#1), 8 ∣ (k0_mult71 v2135).toNat := fun arg0 v1 v2135 k0_hw71 k0_h1 => k0_hw71.1 k0_h1
theorem k0_off141_inb : ∀ (arg0 : BitVec 32) (v1 : BitVec 32) (v2135 : BitVec 32) (k0_hw71 : k0_chk71 arg0 v1 v2135), ∀ (k0_h1 : k0_cond1 arg0 v1 = 1#1), ∀ a, (k0_off141 v2135) a + S8x128.size a ≤ S7688x256.size a := fun arg0 v1 v2135 k0_hw71 k0_h1 => k0_hw71.2.1 k0_h1
theorem k0_off142_inb : ∀ (arg0 : BitVec 32) (v1 : BitVec 32) (v2135 : BitVec 32) (k0_hw71 : k0_chk71 arg0 v1 v2135), ∀ (k0_h1 : k0_cond1 arg0 v1 = 1#1), ∀ a, (k0_off142 v2135) a + S8x128.size a ≤ S7688x256.size a := fun arg0 v1 v2135 k0_hw71 k0_h1 => k0_hw71.2.2 k0_h1

def k0_mult72 (v2165 : BitVec 32) : BitVec 32 :=
  let c1_i32_517 : BitVec 32 := 1#32
  let v2185 : BitVec 32 := Scalar.shrsi v2165 c1_i32_517
  v2185

def k0_off143 (v2165 : BitVec 32) : Fin 2 → Nat :=
  let c1_i32_517 : BitVec 32 := 1#32
  let v2185 : BitVec 32 := Scalar.shrsi v2165 c1_i32_517
  let v2186 : BitVec 32 := v2185
  let v2187 : Index := Scalar.indexCast v2186
  let c0_518 : Index := 0#32
  ![v2187.toNat, 0]
def k0_off144 (v2165 : BitVec 32) : Fin 2 → Nat :=
  let c1_i32_517 : BitVec 32 := 1#32
  let v2185 : BitVec 32 := Scalar.shrsi v2165 c1_i32_517
  let v2186 : BitVec 32 := v2185
  let v2191 : Index := Scalar.indexCast v2186
  let c128_519 : Index := 128#32
  ![v2191.toNat, 128]

def k0_chk72 (arg0 : BitVec 32) (v1 : BitVec 32) (v2165 : BitVec 32) : Prop :=
  (∀ (k0_h1 : k0_cond1 arg0 v1 = 1#1), 8 ∣ (k0_mult72 v2165).toNat) ∧
  (∀ (k0_h1 : k0_cond1 arg0 v1 = 1#1), ∀ a, (k0_off143 v2165) a + S8x128.size a ≤ S7688x256.size a) ∧
  (∀ (k0_h1 : k0_cond1 arg0 v1 = 1#1), ∀ a, (k0_off144 v2165) a + S8x128.size a ≤ S7688x256.size a)
theorem k0_mult72_dvd : ∀ (arg0 : BitVec 32) (v1 : BitVec 32) (v2165 : BitVec 32) (k0_hw72 : k0_chk72 arg0 v1 v2165), ∀ (k0_h1 : k0_cond1 arg0 v1 = 1#1), 8 ∣ (k0_mult72 v2165).toNat := fun arg0 v1 v2165 k0_hw72 k0_h1 => k0_hw72.1 k0_h1
theorem k0_off143_inb : ∀ (arg0 : BitVec 32) (v1 : BitVec 32) (v2165 : BitVec 32) (k0_hw72 : k0_chk72 arg0 v1 v2165), ∀ (k0_h1 : k0_cond1 arg0 v1 = 1#1), ∀ a, (k0_off143 v2165) a + S8x128.size a ≤ S7688x256.size a := fun arg0 v1 v2165 k0_hw72 k0_h1 => k0_hw72.2.1 k0_h1
theorem k0_off144_inb : ∀ (arg0 : BitVec 32) (v1 : BitVec 32) (v2165 : BitVec 32) (k0_hw72 : k0_chk72 arg0 v1 v2165), ∀ (k0_h1 : k0_cond1 arg0 v1 = 1#1), ∀ a, (k0_off144 v2165) a + S8x128.size a ≤ S7688x256.size a := fun arg0 v1 v2165 k0_hw72 k0_h1 => k0_hw72.2.2 k0_h1

def k0_mult73 (v2195 : BitVec 32) : BitVec 32 :=
  let c1_i32_524 : BitVec 32 := 1#32
  let v2215 : BitVec 32 := Scalar.shrsi v2195 c1_i32_524
  v2215

def k0_off145 (v2195 : BitVec 32) : Fin 2 → Nat :=
  let c1_i32_524 : BitVec 32 := 1#32
  let v2215 : BitVec 32 := Scalar.shrsi v2195 c1_i32_524
  let v2216 : BitVec 32 := v2215
  let v2217 : Index := Scalar.indexCast v2216
  let c0_525 : Index := 0#32
  ![v2217.toNat, 0]
def k0_off146 (v2195 : BitVec 32) : Fin 2 → Nat :=
  let c1_i32_524 : BitVec 32 := 1#32
  let v2215 : BitVec 32 := Scalar.shrsi v2195 c1_i32_524
  let v2216 : BitVec 32 := v2215
  let v2221 : Index := Scalar.indexCast v2216
  let c128_526 : Index := 128#32
  ![v2221.toNat, 128]

def k0_chk73 (arg0 : BitVec 32) (v1 : BitVec 32) (v2195 : BitVec 32) : Prop :=
  (∀ (k0_h1 : k0_cond1 arg0 v1 = 1#1), 8 ∣ (k0_mult73 v2195).toNat) ∧
  (∀ (k0_h1 : k0_cond1 arg0 v1 = 1#1), ∀ a, (k0_off145 v2195) a + S8x128.size a ≤ S7688x256.size a) ∧
  (∀ (k0_h1 : k0_cond1 arg0 v1 = 1#1), ∀ a, (k0_off146 v2195) a + S8x128.size a ≤ S7688x256.size a)
theorem k0_mult73_dvd : ∀ (arg0 : BitVec 32) (v1 : BitVec 32) (v2195 : BitVec 32) (k0_hw73 : k0_chk73 arg0 v1 v2195), ∀ (k0_h1 : k0_cond1 arg0 v1 = 1#1), 8 ∣ (k0_mult73 v2195).toNat := fun arg0 v1 v2195 k0_hw73 k0_h1 => k0_hw73.1 k0_h1
theorem k0_off145_inb : ∀ (arg0 : BitVec 32) (v1 : BitVec 32) (v2195 : BitVec 32) (k0_hw73 : k0_chk73 arg0 v1 v2195), ∀ (k0_h1 : k0_cond1 arg0 v1 = 1#1), ∀ a, (k0_off145 v2195) a + S8x128.size a ≤ S7688x256.size a := fun arg0 v1 v2195 k0_hw73 k0_h1 => k0_hw73.2.1 k0_h1
theorem k0_off146_inb : ∀ (arg0 : BitVec 32) (v1 : BitVec 32) (v2195 : BitVec 32) (k0_hw73 : k0_chk73 arg0 v1 v2195), ∀ (k0_h1 : k0_cond1 arg0 v1 = 1#1), ∀ a, (k0_off146 v2195) a + S8x128.size a ≤ S7688x256.size a := fun arg0 v1 v2195 k0_hw73 k0_h1 => k0_hw73.2.2 k0_h1

def k0_mult74 (v2225 : BitVec 32) : BitVec 32 :=
  let c1_i32_531 : BitVec 32 := 1#32
  let v2245 : BitVec 32 := Scalar.shrsi v2225 c1_i32_531
  v2245

def k0_off147 (v2225 : BitVec 32) : Fin 2 → Nat :=
  let c1_i32_531 : BitVec 32 := 1#32
  let v2245 : BitVec 32 := Scalar.shrsi v2225 c1_i32_531
  let v2246 : BitVec 32 := v2245
  let v2247 : Index := Scalar.indexCast v2246
  let c0_532 : Index := 0#32
  ![v2247.toNat, 0]
def k0_off148 (v2225 : BitVec 32) : Fin 2 → Nat :=
  let c1_i32_531 : BitVec 32 := 1#32
  let v2245 : BitVec 32 := Scalar.shrsi v2225 c1_i32_531
  let v2246 : BitVec 32 := v2245
  let v2251 : Index := Scalar.indexCast v2246
  let c128_533 : Index := 128#32
  ![v2251.toNat, 128]

def k0_chk74 (arg0 : BitVec 32) (v1 : BitVec 32) (v2225 : BitVec 32) : Prop :=
  (∀ (k0_h1 : k0_cond1 arg0 v1 = 1#1), 8 ∣ (k0_mult74 v2225).toNat) ∧
  (∀ (k0_h1 : k0_cond1 arg0 v1 = 1#1), ∀ a, (k0_off147 v2225) a + S8x128.size a ≤ S7688x256.size a) ∧
  (∀ (k0_h1 : k0_cond1 arg0 v1 = 1#1), ∀ a, (k0_off148 v2225) a + S8x128.size a ≤ S7688x256.size a)
theorem k0_mult74_dvd : ∀ (arg0 : BitVec 32) (v1 : BitVec 32) (v2225 : BitVec 32) (k0_hw74 : k0_chk74 arg0 v1 v2225), ∀ (k0_h1 : k0_cond1 arg0 v1 = 1#1), 8 ∣ (k0_mult74 v2225).toNat := fun arg0 v1 v2225 k0_hw74 k0_h1 => k0_hw74.1 k0_h1
theorem k0_off147_inb : ∀ (arg0 : BitVec 32) (v1 : BitVec 32) (v2225 : BitVec 32) (k0_hw74 : k0_chk74 arg0 v1 v2225), ∀ (k0_h1 : k0_cond1 arg0 v1 = 1#1), ∀ a, (k0_off147 v2225) a + S8x128.size a ≤ S7688x256.size a := fun arg0 v1 v2225 k0_hw74 k0_h1 => k0_hw74.2.1 k0_h1
theorem k0_off148_inb : ∀ (arg0 : BitVec 32) (v1 : BitVec 32) (v2225 : BitVec 32) (k0_hw74 : k0_chk74 arg0 v1 v2225), ∀ (k0_h1 : k0_cond1 arg0 v1 = 1#1), ∀ a, (k0_off148 v2225) a + S8x128.size a ≤ S7688x256.size a := fun arg0 v1 v2225 k0_hw74 k0_h1 => k0_hw74.2.2 k0_h1

def k0_mult75 (v2255 : BitVec 32) : BitVec 32 :=
  let c1_i32_538 : BitVec 32 := 1#32
  let v2275 : BitVec 32 := Scalar.shrsi v2255 c1_i32_538
  v2275

def k0_off149 (v2255 : BitVec 32) : Fin 2 → Nat :=
  let c1_i32_538 : BitVec 32 := 1#32
  let v2275 : BitVec 32 := Scalar.shrsi v2255 c1_i32_538
  let v2276 : BitVec 32 := v2275
  let v2277 : Index := Scalar.indexCast v2276
  let c0_539 : Index := 0#32
  ![v2277.toNat, 0]
def k0_off150 (v2255 : BitVec 32) : Fin 2 → Nat :=
  let c1_i32_538 : BitVec 32 := 1#32
  let v2275 : BitVec 32 := Scalar.shrsi v2255 c1_i32_538
  let v2276 : BitVec 32 := v2275
  let v2281 : Index := Scalar.indexCast v2276
  let c128_540 : Index := 128#32
  ![v2281.toNat, 128]

def k0_chk75 (arg0 : BitVec 32) (v1 : BitVec 32) (v2255 : BitVec 32) : Prop :=
  (∀ (k0_h1 : k0_cond1 arg0 v1 = 1#1), 8 ∣ (k0_mult75 v2255).toNat) ∧
  (∀ (k0_h1 : k0_cond1 arg0 v1 = 1#1), ∀ a, (k0_off149 v2255) a + S8x128.size a ≤ S7688x256.size a) ∧
  (∀ (k0_h1 : k0_cond1 arg0 v1 = 1#1), ∀ a, (k0_off150 v2255) a + S8x128.size a ≤ S7688x256.size a)
theorem k0_mult75_dvd : ∀ (arg0 : BitVec 32) (v1 : BitVec 32) (v2255 : BitVec 32) (k0_hw75 : k0_chk75 arg0 v1 v2255), ∀ (k0_h1 : k0_cond1 arg0 v1 = 1#1), 8 ∣ (k0_mult75 v2255).toNat := fun arg0 v1 v2255 k0_hw75 k0_h1 => k0_hw75.1 k0_h1
theorem k0_off149_inb : ∀ (arg0 : BitVec 32) (v1 : BitVec 32) (v2255 : BitVec 32) (k0_hw75 : k0_chk75 arg0 v1 v2255), ∀ (k0_h1 : k0_cond1 arg0 v1 = 1#1), ∀ a, (k0_off149 v2255) a + S8x128.size a ≤ S7688x256.size a := fun arg0 v1 v2255 k0_hw75 k0_h1 => k0_hw75.2.1 k0_h1
theorem k0_off150_inb : ∀ (arg0 : BitVec 32) (v1 : BitVec 32) (v2255 : BitVec 32) (k0_hw75 : k0_chk75 arg0 v1 v2255), ∀ (k0_h1 : k0_cond1 arg0 v1 = 1#1), ∀ a, (k0_off150 v2255) a + S8x128.size a ≤ S7688x256.size a := fun arg0 v1 v2255 k0_hw75 k0_h1 => k0_hw75.2.2 k0_h1

def k0_mult76 (v2285 : BitVec 32) : BitVec 32 :=
  let c1_i32_545 : BitVec 32 := 1#32
  let v2305 : BitVec 32 := Scalar.shrsi v2285 c1_i32_545
  v2305

def k0_off151 (v2285 : BitVec 32) : Fin 2 → Nat :=
  let c1_i32_545 : BitVec 32 := 1#32
  let v2305 : BitVec 32 := Scalar.shrsi v2285 c1_i32_545
  let v2306 : BitVec 32 := v2305
  let v2307 : Index := Scalar.indexCast v2306
  let c0_546 : Index := 0#32
  ![v2307.toNat, 0]
def k0_off152 (v2285 : BitVec 32) : Fin 2 → Nat :=
  let c1_i32_545 : BitVec 32 := 1#32
  let v2305 : BitVec 32 := Scalar.shrsi v2285 c1_i32_545
  let v2306 : BitVec 32 := v2305
  let v2311 : Index := Scalar.indexCast v2306
  let c128_547 : Index := 128#32
  ![v2311.toNat, 128]

def k0_chk76 (arg0 : BitVec 32) (v1 : BitVec 32) (v2285 : BitVec 32) : Prop :=
  (∀ (k0_h1 : k0_cond1 arg0 v1 = 1#1), 8 ∣ (k0_mult76 v2285).toNat) ∧
  (∀ (k0_h1 : k0_cond1 arg0 v1 = 1#1), ∀ a, (k0_off151 v2285) a + S8x128.size a ≤ S7688x256.size a) ∧
  (∀ (k0_h1 : k0_cond1 arg0 v1 = 1#1), ∀ a, (k0_off152 v2285) a + S8x128.size a ≤ S7688x256.size a)
theorem k0_mult76_dvd : ∀ (arg0 : BitVec 32) (v1 : BitVec 32) (v2285 : BitVec 32) (k0_hw76 : k0_chk76 arg0 v1 v2285), ∀ (k0_h1 : k0_cond1 arg0 v1 = 1#1), 8 ∣ (k0_mult76 v2285).toNat := fun arg0 v1 v2285 k0_hw76 k0_h1 => k0_hw76.1 k0_h1
theorem k0_off151_inb : ∀ (arg0 : BitVec 32) (v1 : BitVec 32) (v2285 : BitVec 32) (k0_hw76 : k0_chk76 arg0 v1 v2285), ∀ (k0_h1 : k0_cond1 arg0 v1 = 1#1), ∀ a, (k0_off151 v2285) a + S8x128.size a ≤ S7688x256.size a := fun arg0 v1 v2285 k0_hw76 k0_h1 => k0_hw76.2.1 k0_h1
theorem k0_off152_inb : ∀ (arg0 : BitVec 32) (v1 : BitVec 32) (v2285 : BitVec 32) (k0_hw76 : k0_chk76 arg0 v1 v2285), ∀ (k0_h1 : k0_cond1 arg0 v1 = 1#1), ∀ a, (k0_off152 v2285) a + S8x128.size a ≤ S7688x256.size a := fun arg0 v1 v2285 k0_hw76 k0_h1 => k0_hw76.2.2 k0_h1

def k0_mult77 (v2315 : BitVec 32) : BitVec 32 :=
  let c1_i32_552 : BitVec 32 := 1#32
  let v2335 : BitVec 32 := Scalar.shrsi v2315 c1_i32_552
  v2335

def k0_off153 (v2315 : BitVec 32) : Fin 2 → Nat :=
  let c1_i32_552 : BitVec 32 := 1#32
  let v2335 : BitVec 32 := Scalar.shrsi v2315 c1_i32_552
  let v2336 : BitVec 32 := v2335
  let v2337 : Index := Scalar.indexCast v2336
  let c0_553 : Index := 0#32
  ![v2337.toNat, 0]
def k0_off154 (v2315 : BitVec 32) : Fin 2 → Nat :=
  let c1_i32_552 : BitVec 32 := 1#32
  let v2335 : BitVec 32 := Scalar.shrsi v2315 c1_i32_552
  let v2336 : BitVec 32 := v2335
  let v2341 : Index := Scalar.indexCast v2336
  let c128_554 : Index := 128#32
  ![v2341.toNat, 128]

def k0_chk77 (arg0 : BitVec 32) (v1 : BitVec 32) (v2315 : BitVec 32) : Prop :=
  (∀ (k0_h1 : k0_cond1 arg0 v1 = 1#1), 8 ∣ (k0_mult77 v2315).toNat) ∧
  (∀ (k0_h1 : k0_cond1 arg0 v1 = 1#1), ∀ a, (k0_off153 v2315) a + S8x128.size a ≤ S7688x256.size a) ∧
  (∀ (k0_h1 : k0_cond1 arg0 v1 = 1#1), ∀ a, (k0_off154 v2315) a + S8x128.size a ≤ S7688x256.size a)
theorem k0_mult77_dvd : ∀ (arg0 : BitVec 32) (v1 : BitVec 32) (v2315 : BitVec 32) (k0_hw77 : k0_chk77 arg0 v1 v2315), ∀ (k0_h1 : k0_cond1 arg0 v1 = 1#1), 8 ∣ (k0_mult77 v2315).toNat := fun arg0 v1 v2315 k0_hw77 k0_h1 => k0_hw77.1 k0_h1
theorem k0_off153_inb : ∀ (arg0 : BitVec 32) (v1 : BitVec 32) (v2315 : BitVec 32) (k0_hw77 : k0_chk77 arg0 v1 v2315), ∀ (k0_h1 : k0_cond1 arg0 v1 = 1#1), ∀ a, (k0_off153 v2315) a + S8x128.size a ≤ S7688x256.size a := fun arg0 v1 v2315 k0_hw77 k0_h1 => k0_hw77.2.1 k0_h1
theorem k0_off154_inb : ∀ (arg0 : BitVec 32) (v1 : BitVec 32) (v2315 : BitVec 32) (k0_hw77 : k0_chk77 arg0 v1 v2315), ∀ (k0_h1 : k0_cond1 arg0 v1 = 1#1), ∀ a, (k0_off154 v2315) a + S8x128.size a ≤ S7688x256.size a := fun arg0 v1 v2315 k0_hw77 k0_h1 => k0_hw77.2.2 k0_h1

def k0_mult78 (v2345 : BitVec 32) : BitVec 32 :=
  let c1_i32_559 : BitVec 32 := 1#32
  let v2365 : BitVec 32 := Scalar.shrsi v2345 c1_i32_559
  v2365

def k0_off155 (v2345 : BitVec 32) : Fin 2 → Nat :=
  let c1_i32_559 : BitVec 32 := 1#32
  let v2365 : BitVec 32 := Scalar.shrsi v2345 c1_i32_559
  let v2366 : BitVec 32 := v2365
  let v2367 : Index := Scalar.indexCast v2366
  let c0_560 : Index := 0#32
  ![v2367.toNat, 0]
def k0_off156 (v2345 : BitVec 32) : Fin 2 → Nat :=
  let c1_i32_559 : BitVec 32 := 1#32
  let v2365 : BitVec 32 := Scalar.shrsi v2345 c1_i32_559
  let v2366 : BitVec 32 := v2365
  let v2371 : Index := Scalar.indexCast v2366
  let c128_561 : Index := 128#32
  ![v2371.toNat, 128]

def k0_chk78 (arg0 : BitVec 32) (v1 : BitVec 32) (v2345 : BitVec 32) : Prop :=
  (∀ (k0_h1 : k0_cond1 arg0 v1 = 1#1), 8 ∣ (k0_mult78 v2345).toNat) ∧
  (∀ (k0_h1 : k0_cond1 arg0 v1 = 1#1), ∀ a, (k0_off155 v2345) a + S8x128.size a ≤ S7688x256.size a) ∧
  (∀ (k0_h1 : k0_cond1 arg0 v1 = 1#1), ∀ a, (k0_off156 v2345) a + S8x128.size a ≤ S7688x256.size a)
theorem k0_mult78_dvd : ∀ (arg0 : BitVec 32) (v1 : BitVec 32) (v2345 : BitVec 32) (k0_hw78 : k0_chk78 arg0 v1 v2345), ∀ (k0_h1 : k0_cond1 arg0 v1 = 1#1), 8 ∣ (k0_mult78 v2345).toNat := fun arg0 v1 v2345 k0_hw78 k0_h1 => k0_hw78.1 k0_h1
theorem k0_off155_inb : ∀ (arg0 : BitVec 32) (v1 : BitVec 32) (v2345 : BitVec 32) (k0_hw78 : k0_chk78 arg0 v1 v2345), ∀ (k0_h1 : k0_cond1 arg0 v1 = 1#1), ∀ a, (k0_off155 v2345) a + S8x128.size a ≤ S7688x256.size a := fun arg0 v1 v2345 k0_hw78 k0_h1 => k0_hw78.2.1 k0_h1
theorem k0_off156_inb : ∀ (arg0 : BitVec 32) (v1 : BitVec 32) (v2345 : BitVec 32) (k0_hw78 : k0_chk78 arg0 v1 v2345), ∀ (k0_h1 : k0_cond1 arg0 v1 = 1#1), ∀ a, (k0_off156 v2345) a + S8x128.size a ≤ S7688x256.size a := fun arg0 v1 v2345 k0_hw78 k0_h1 => k0_hw78.2.2 k0_h1

def k0_mult79 (v2375 : BitVec 32) : BitVec 32 :=
  let c1_i32_566 : BitVec 32 := 1#32
  let v2395 : BitVec 32 := Scalar.shrsi v2375 c1_i32_566
  v2395

def k0_off157 (v2375 : BitVec 32) : Fin 2 → Nat :=
  let c1_i32_566 : BitVec 32 := 1#32
  let v2395 : BitVec 32 := Scalar.shrsi v2375 c1_i32_566
  let v2396 : BitVec 32 := v2395
  let v2397 : Index := Scalar.indexCast v2396
  let c0_567 : Index := 0#32
  ![v2397.toNat, 0]
def k0_off158 (v2375 : BitVec 32) : Fin 2 → Nat :=
  let c1_i32_566 : BitVec 32 := 1#32
  let v2395 : BitVec 32 := Scalar.shrsi v2375 c1_i32_566
  let v2396 : BitVec 32 := v2395
  let v2401 : Index := Scalar.indexCast v2396
  let c128_568 : Index := 128#32
  ![v2401.toNat, 128]

def k0_chk79 (arg0 : BitVec 32) (v1 : BitVec 32) (v2375 : BitVec 32) : Prop :=
  (∀ (k0_h1 : k0_cond1 arg0 v1 = 1#1), 8 ∣ (k0_mult79 v2375).toNat) ∧
  (∀ (k0_h1 : k0_cond1 arg0 v1 = 1#1), ∀ a, (k0_off157 v2375) a + S8x128.size a ≤ S7688x256.size a) ∧
  (∀ (k0_h1 : k0_cond1 arg0 v1 = 1#1), ∀ a, (k0_off158 v2375) a + S8x128.size a ≤ S7688x256.size a)
theorem k0_mult79_dvd : ∀ (arg0 : BitVec 32) (v1 : BitVec 32) (v2375 : BitVec 32) (k0_hw79 : k0_chk79 arg0 v1 v2375), ∀ (k0_h1 : k0_cond1 arg0 v1 = 1#1), 8 ∣ (k0_mult79 v2375).toNat := fun arg0 v1 v2375 k0_hw79 k0_h1 => k0_hw79.1 k0_h1
theorem k0_off157_inb : ∀ (arg0 : BitVec 32) (v1 : BitVec 32) (v2375 : BitVec 32) (k0_hw79 : k0_chk79 arg0 v1 v2375), ∀ (k0_h1 : k0_cond1 arg0 v1 = 1#1), ∀ a, (k0_off157 v2375) a + S8x128.size a ≤ S7688x256.size a := fun arg0 v1 v2375 k0_hw79 k0_h1 => k0_hw79.2.1 k0_h1
theorem k0_off158_inb : ∀ (arg0 : BitVec 32) (v1 : BitVec 32) (v2375 : BitVec 32) (k0_hw79 : k0_chk79 arg0 v1 v2375), ∀ (k0_h1 : k0_cond1 arg0 v1 = 1#1), ∀ a, (k0_off158 v2375) a + S8x128.size a ≤ S7688x256.size a := fun arg0 v1 v2375 k0_hw79 k0_h1 => k0_hw79.2.2 k0_h1

def k0_mult80 (v2405 : BitVec 32) : BitVec 32 :=
  let c1_i32_573 : BitVec 32 := 1#32
  let v2425 : BitVec 32 := Scalar.shrsi v2405 c1_i32_573
  v2425

def k0_off159 (v2405 : BitVec 32) : Fin 2 → Nat :=
  let c1_i32_573 : BitVec 32 := 1#32
  let v2425 : BitVec 32 := Scalar.shrsi v2405 c1_i32_573
  let v2426 : BitVec 32 := v2425
  let v2427 : Index := Scalar.indexCast v2426
  let c0_574 : Index := 0#32
  ![v2427.toNat, 0]
def k0_off160 (v2405 : BitVec 32) : Fin 2 → Nat :=
  let c1_i32_573 : BitVec 32 := 1#32
  let v2425 : BitVec 32 := Scalar.shrsi v2405 c1_i32_573
  let v2426 : BitVec 32 := v2425
  let v2431 : Index := Scalar.indexCast v2426
  let c128_575 : Index := 128#32
  ![v2431.toNat, 128]

def k0_chk80 (arg0 : BitVec 32) (v1 : BitVec 32) (v2405 : BitVec 32) : Prop :=
  (∀ (k0_h1 : k0_cond1 arg0 v1 = 1#1), 8 ∣ (k0_mult80 v2405).toNat) ∧
  (∀ (k0_h1 : k0_cond1 arg0 v1 = 1#1), ∀ a, (k0_off159 v2405) a + S8x128.size a ≤ S7688x256.size a) ∧
  (∀ (k0_h1 : k0_cond1 arg0 v1 = 1#1), ∀ a, (k0_off160 v2405) a + S8x128.size a ≤ S7688x256.size a)
theorem k0_mult80_dvd : ∀ (arg0 : BitVec 32) (v1 : BitVec 32) (v2405 : BitVec 32) (k0_hw80 : k0_chk80 arg0 v1 v2405), ∀ (k0_h1 : k0_cond1 arg0 v1 = 1#1), 8 ∣ (k0_mult80 v2405).toNat := fun arg0 v1 v2405 k0_hw80 k0_h1 => k0_hw80.1 k0_h1
theorem k0_off159_inb : ∀ (arg0 : BitVec 32) (v1 : BitVec 32) (v2405 : BitVec 32) (k0_hw80 : k0_chk80 arg0 v1 v2405), ∀ (k0_h1 : k0_cond1 arg0 v1 = 1#1), ∀ a, (k0_off159 v2405) a + S8x128.size a ≤ S7688x256.size a := fun arg0 v1 v2405 k0_hw80 k0_h1 => k0_hw80.2.1 k0_h1
theorem k0_off160_inb : ∀ (arg0 : BitVec 32) (v1 : BitVec 32) (v2405 : BitVec 32) (k0_hw80 : k0_chk80 arg0 v1 v2405), ∀ (k0_h1 : k0_cond1 arg0 v1 = 1#1), ∀ a, (k0_off160 v2405) a + S8x128.size a ≤ S7688x256.size a := fun arg0 v1 v2405 k0_hw80 k0_h1 => k0_hw80.2.2 k0_h1

def k0_mult81 (v2435 : BitVec 32) : BitVec 32 :=
  let c1_i32_580 : BitVec 32 := 1#32
  let v2455 : BitVec 32 := Scalar.shrsi v2435 c1_i32_580
  v2455

def k0_off161 (v2435 : BitVec 32) : Fin 2 → Nat :=
  let c1_i32_580 : BitVec 32 := 1#32
  let v2455 : BitVec 32 := Scalar.shrsi v2435 c1_i32_580
  let v2456 : BitVec 32 := v2455
  let v2457 : Index := Scalar.indexCast v2456
  let c0_581 : Index := 0#32
  ![v2457.toNat, 0]
def k0_off162 (v2435 : BitVec 32) : Fin 2 → Nat :=
  let c1_i32_580 : BitVec 32 := 1#32
  let v2455 : BitVec 32 := Scalar.shrsi v2435 c1_i32_580
  let v2456 : BitVec 32 := v2455
  let v2461 : Index := Scalar.indexCast v2456
  let c128_582 : Index := 128#32
  ![v2461.toNat, 128]

def k0_chk81 (arg0 : BitVec 32) (v1 : BitVec 32) (v2435 : BitVec 32) : Prop :=
  (∀ (k0_h1 : k0_cond1 arg0 v1 = 1#1), 8 ∣ (k0_mult81 v2435).toNat) ∧
  (∀ (k0_h1 : k0_cond1 arg0 v1 = 1#1), ∀ a, (k0_off161 v2435) a + S8x128.size a ≤ S7688x256.size a) ∧
  (∀ (k0_h1 : k0_cond1 arg0 v1 = 1#1), ∀ a, (k0_off162 v2435) a + S8x128.size a ≤ S7688x256.size a)
theorem k0_mult81_dvd : ∀ (arg0 : BitVec 32) (v1 : BitVec 32) (v2435 : BitVec 32) (k0_hw81 : k0_chk81 arg0 v1 v2435), ∀ (k0_h1 : k0_cond1 arg0 v1 = 1#1), 8 ∣ (k0_mult81 v2435).toNat := fun arg0 v1 v2435 k0_hw81 k0_h1 => k0_hw81.1 k0_h1
theorem k0_off161_inb : ∀ (arg0 : BitVec 32) (v1 : BitVec 32) (v2435 : BitVec 32) (k0_hw81 : k0_chk81 arg0 v1 v2435), ∀ (k0_h1 : k0_cond1 arg0 v1 = 1#1), ∀ a, (k0_off161 v2435) a + S8x128.size a ≤ S7688x256.size a := fun arg0 v1 v2435 k0_hw81 k0_h1 => k0_hw81.2.1 k0_h1
theorem k0_off162_inb : ∀ (arg0 : BitVec 32) (v1 : BitVec 32) (v2435 : BitVec 32) (k0_hw81 : k0_chk81 arg0 v1 v2435), ∀ (k0_h1 : k0_cond1 arg0 v1 = 1#1), ∀ a, (k0_off162 v2435) a + S8x128.size a ≤ S7688x256.size a := fun arg0 v1 v2435 k0_hw81 k0_h1 => k0_hw81.2.2 k0_h1

def k0_mult82 (v2465 : BitVec 32) : BitVec 32 :=
  let c1_i32_587 : BitVec 32 := 1#32
  let v2485 : BitVec 32 := Scalar.shrsi v2465 c1_i32_587
  v2485

def k0_off163 (v2465 : BitVec 32) : Fin 2 → Nat :=
  let c1_i32_587 : BitVec 32 := 1#32
  let v2485 : BitVec 32 := Scalar.shrsi v2465 c1_i32_587
  let v2486 : BitVec 32 := v2485
  let v2487 : Index := Scalar.indexCast v2486
  let c0_588 : Index := 0#32
  ![v2487.toNat, 0]
def k0_off164 (v2465 : BitVec 32) : Fin 2 → Nat :=
  let c1_i32_587 : BitVec 32 := 1#32
  let v2485 : BitVec 32 := Scalar.shrsi v2465 c1_i32_587
  let v2486 : BitVec 32 := v2485
  let v2491 : Index := Scalar.indexCast v2486
  let c128_589 : Index := 128#32
  ![v2491.toNat, 128]

def k0_chk82 (arg0 : BitVec 32) (v1 : BitVec 32) (v2465 : BitVec 32) : Prop :=
  (∀ (k0_h1 : k0_cond1 arg0 v1 = 1#1), 8 ∣ (k0_mult82 v2465).toNat) ∧
  (∀ (k0_h1 : k0_cond1 arg0 v1 = 1#1), ∀ a, (k0_off163 v2465) a + S8x128.size a ≤ S7688x256.size a) ∧
  (∀ (k0_h1 : k0_cond1 arg0 v1 = 1#1), ∀ a, (k0_off164 v2465) a + S8x128.size a ≤ S7688x256.size a)
theorem k0_mult82_dvd : ∀ (arg0 : BitVec 32) (v1 : BitVec 32) (v2465 : BitVec 32) (k0_hw82 : k0_chk82 arg0 v1 v2465), ∀ (k0_h1 : k0_cond1 arg0 v1 = 1#1), 8 ∣ (k0_mult82 v2465).toNat := fun arg0 v1 v2465 k0_hw82 k0_h1 => k0_hw82.1 k0_h1
theorem k0_off163_inb : ∀ (arg0 : BitVec 32) (v1 : BitVec 32) (v2465 : BitVec 32) (k0_hw82 : k0_chk82 arg0 v1 v2465), ∀ (k0_h1 : k0_cond1 arg0 v1 = 1#1), ∀ a, (k0_off163 v2465) a + S8x128.size a ≤ S7688x256.size a := fun arg0 v1 v2465 k0_hw82 k0_h1 => k0_hw82.2.1 k0_h1
theorem k0_off164_inb : ∀ (arg0 : BitVec 32) (v1 : BitVec 32) (v2465 : BitVec 32) (k0_hw82 : k0_chk82 arg0 v1 v2465), ∀ (k0_h1 : k0_cond1 arg0 v1 = 1#1), ∀ a, (k0_off164 v2465) a + S8x128.size a ≤ S7688x256.size a := fun arg0 v1 v2465 k0_hw82 k0_h1 => k0_hw82.2.2 k0_h1

def k0_mult83 (v2495 : BitVec 32) : BitVec 32 :=
  let c1_i32_594 : BitVec 32 := 1#32
  let v2515 : BitVec 32 := Scalar.shrsi v2495 c1_i32_594
  v2515

def k0_off165 (v2495 : BitVec 32) : Fin 2 → Nat :=
  let c1_i32_594 : BitVec 32 := 1#32
  let v2515 : BitVec 32 := Scalar.shrsi v2495 c1_i32_594
  let v2516 : BitVec 32 := v2515
  let v2517 : Index := Scalar.indexCast v2516
  let c0_595 : Index := 0#32
  ![v2517.toNat, 0]
def k0_off166 (v2495 : BitVec 32) : Fin 2 → Nat :=
  let c1_i32_594 : BitVec 32 := 1#32
  let v2515 : BitVec 32 := Scalar.shrsi v2495 c1_i32_594
  let v2516 : BitVec 32 := v2515
  let v2521 : Index := Scalar.indexCast v2516
  let c128_596 : Index := 128#32
  ![v2521.toNat, 128]

def k0_chk83 (arg0 : BitVec 32) (v1 : BitVec 32) (v2495 : BitVec 32) : Prop :=
  (∀ (k0_h1 : k0_cond1 arg0 v1 = 1#1), 8 ∣ (k0_mult83 v2495).toNat) ∧
  (∀ (k0_h1 : k0_cond1 arg0 v1 = 1#1), ∀ a, (k0_off165 v2495) a + S8x128.size a ≤ S7688x256.size a) ∧
  (∀ (k0_h1 : k0_cond1 arg0 v1 = 1#1), ∀ a, (k0_off166 v2495) a + S8x128.size a ≤ S7688x256.size a)
theorem k0_mult83_dvd : ∀ (arg0 : BitVec 32) (v1 : BitVec 32) (v2495 : BitVec 32) (k0_hw83 : k0_chk83 arg0 v1 v2495), ∀ (k0_h1 : k0_cond1 arg0 v1 = 1#1), 8 ∣ (k0_mult83 v2495).toNat := fun arg0 v1 v2495 k0_hw83 k0_h1 => k0_hw83.1 k0_h1
theorem k0_off165_inb : ∀ (arg0 : BitVec 32) (v1 : BitVec 32) (v2495 : BitVec 32) (k0_hw83 : k0_chk83 arg0 v1 v2495), ∀ (k0_h1 : k0_cond1 arg0 v1 = 1#1), ∀ a, (k0_off165 v2495) a + S8x128.size a ≤ S7688x256.size a := fun arg0 v1 v2495 k0_hw83 k0_h1 => k0_hw83.2.1 k0_h1
theorem k0_off166_inb : ∀ (arg0 : BitVec 32) (v1 : BitVec 32) (v2495 : BitVec 32) (k0_hw83 : k0_chk83 arg0 v1 v2495), ∀ (k0_h1 : k0_cond1 arg0 v1 = 1#1), ∀ a, (k0_off166 v2495) a + S8x128.size a ≤ S7688x256.size a := fun arg0 v1 v2495 k0_hw83 k0_h1 => k0_hw83.2.2 k0_h1

def k0_mult84 (v2525 : BitVec 32) : BitVec 32 :=
  let c1_i32_601 : BitVec 32 := 1#32
  let v2545 : BitVec 32 := Scalar.shrsi v2525 c1_i32_601
  v2545

def k0_off167 (v2525 : BitVec 32) : Fin 2 → Nat :=
  let c1_i32_601 : BitVec 32 := 1#32
  let v2545 : BitVec 32 := Scalar.shrsi v2525 c1_i32_601
  let v2546 : BitVec 32 := v2545
  let v2547 : Index := Scalar.indexCast v2546
  let c0_602 : Index := 0#32
  ![v2547.toNat, 0]
def k0_off168 (v2525 : BitVec 32) : Fin 2 → Nat :=
  let c1_i32_601 : BitVec 32 := 1#32
  let v2545 : BitVec 32 := Scalar.shrsi v2525 c1_i32_601
  let v2546 : BitVec 32 := v2545
  let v2551 : Index := Scalar.indexCast v2546
  let c128_603 : Index := 128#32
  ![v2551.toNat, 128]

def k0_chk84 (arg0 : BitVec 32) (v1 : BitVec 32) (v2525 : BitVec 32) : Prop :=
  (∀ (k0_h1 : k0_cond1 arg0 v1 = 1#1), 8 ∣ (k0_mult84 v2525).toNat) ∧
  (∀ (k0_h1 : k0_cond1 arg0 v1 = 1#1), ∀ a, (k0_off167 v2525) a + S8x128.size a ≤ S7688x256.size a) ∧
  (∀ (k0_h1 : k0_cond1 arg0 v1 = 1#1), ∀ a, (k0_off168 v2525) a + S8x128.size a ≤ S7688x256.size a)
theorem k0_mult84_dvd : ∀ (arg0 : BitVec 32) (v1 : BitVec 32) (v2525 : BitVec 32) (k0_hw84 : k0_chk84 arg0 v1 v2525), ∀ (k0_h1 : k0_cond1 arg0 v1 = 1#1), 8 ∣ (k0_mult84 v2525).toNat := fun arg0 v1 v2525 k0_hw84 k0_h1 => k0_hw84.1 k0_h1
theorem k0_off167_inb : ∀ (arg0 : BitVec 32) (v1 : BitVec 32) (v2525 : BitVec 32) (k0_hw84 : k0_chk84 arg0 v1 v2525), ∀ (k0_h1 : k0_cond1 arg0 v1 = 1#1), ∀ a, (k0_off167 v2525) a + S8x128.size a ≤ S7688x256.size a := fun arg0 v1 v2525 k0_hw84 k0_h1 => k0_hw84.2.1 k0_h1
theorem k0_off168_inb : ∀ (arg0 : BitVec 32) (v1 : BitVec 32) (v2525 : BitVec 32) (k0_hw84 : k0_chk84 arg0 v1 v2525), ∀ (k0_h1 : k0_cond1 arg0 v1 = 1#1), ∀ a, (k0_off168 v2525) a + S8x128.size a ≤ S7688x256.size a := fun arg0 v1 v2525 k0_hw84 k0_h1 => k0_hw84.2.2 k0_h1

def k0_mult85 (v2555 : BitVec 32) : BitVec 32 :=
  let c1_i32_608 : BitVec 32 := 1#32
  let v2575 : BitVec 32 := Scalar.shrsi v2555 c1_i32_608
  v2575

def k0_off169 (v2555 : BitVec 32) : Fin 2 → Nat :=
  let c1_i32_608 : BitVec 32 := 1#32
  let v2575 : BitVec 32 := Scalar.shrsi v2555 c1_i32_608
  let v2576 : BitVec 32 := v2575
  let v2577 : Index := Scalar.indexCast v2576
  let c0_609 : Index := 0#32
  ![v2577.toNat, 0]
def k0_off170 (v2555 : BitVec 32) : Fin 2 → Nat :=
  let c1_i32_608 : BitVec 32 := 1#32
  let v2575 : BitVec 32 := Scalar.shrsi v2555 c1_i32_608
  let v2576 : BitVec 32 := v2575
  let v2581 : Index := Scalar.indexCast v2576
  let c128_610 : Index := 128#32
  ![v2581.toNat, 128]

def k0_chk85 (arg0 : BitVec 32) (v1 : BitVec 32) (v2555 : BitVec 32) : Prop :=
  (∀ (k0_h1 : k0_cond1 arg0 v1 = 1#1), 8 ∣ (k0_mult85 v2555).toNat) ∧
  (∀ (k0_h1 : k0_cond1 arg0 v1 = 1#1), ∀ a, (k0_off169 v2555) a + S8x128.size a ≤ S7688x256.size a) ∧
  (∀ (k0_h1 : k0_cond1 arg0 v1 = 1#1), ∀ a, (k0_off170 v2555) a + S8x128.size a ≤ S7688x256.size a)
theorem k0_mult85_dvd : ∀ (arg0 : BitVec 32) (v1 : BitVec 32) (v2555 : BitVec 32) (k0_hw85 : k0_chk85 arg0 v1 v2555), ∀ (k0_h1 : k0_cond1 arg0 v1 = 1#1), 8 ∣ (k0_mult85 v2555).toNat := fun arg0 v1 v2555 k0_hw85 k0_h1 => k0_hw85.1 k0_h1
theorem k0_off169_inb : ∀ (arg0 : BitVec 32) (v1 : BitVec 32) (v2555 : BitVec 32) (k0_hw85 : k0_chk85 arg0 v1 v2555), ∀ (k0_h1 : k0_cond1 arg0 v1 = 1#1), ∀ a, (k0_off169 v2555) a + S8x128.size a ≤ S7688x256.size a := fun arg0 v1 v2555 k0_hw85 k0_h1 => k0_hw85.2.1 k0_h1
theorem k0_off170_inb : ∀ (arg0 : BitVec 32) (v1 : BitVec 32) (v2555 : BitVec 32) (k0_hw85 : k0_chk85 arg0 v1 v2555), ∀ (k0_h1 : k0_cond1 arg0 v1 = 1#1), ∀ a, (k0_off170 v2555) a + S8x128.size a ≤ S7688x256.size a := fun arg0 v1 v2555 k0_hw85 k0_h1 => k0_hw85.2.2 k0_h1

def k0_mult86 (v2585 : BitVec 32) : BitVec 32 :=
  let c1_i32_615 : BitVec 32 := 1#32
  let v2605 : BitVec 32 := Scalar.shrsi v2585 c1_i32_615
  v2605

def k0_off171 (v2585 : BitVec 32) : Fin 2 → Nat :=
  let c1_i32_615 : BitVec 32 := 1#32
  let v2605 : BitVec 32 := Scalar.shrsi v2585 c1_i32_615
  let v2606 : BitVec 32 := v2605
  let v2607 : Index := Scalar.indexCast v2606
  let c0_616 : Index := 0#32
  ![v2607.toNat, 0]
def k0_off172 (v2585 : BitVec 32) : Fin 2 → Nat :=
  let c1_i32_615 : BitVec 32 := 1#32
  let v2605 : BitVec 32 := Scalar.shrsi v2585 c1_i32_615
  let v2606 : BitVec 32 := v2605
  let v2611 : Index := Scalar.indexCast v2606
  let c128_617 : Index := 128#32
  ![v2611.toNat, 128]

def k0_chk86 (arg0 : BitVec 32) (v1 : BitVec 32) (v2585 : BitVec 32) : Prop :=
  (∀ (k0_h1 : k0_cond1 arg0 v1 = 1#1), 8 ∣ (k0_mult86 v2585).toNat) ∧
  (∀ (k0_h1 : k0_cond1 arg0 v1 = 1#1), ∀ a, (k0_off171 v2585) a + S8x128.size a ≤ S7688x256.size a) ∧
  (∀ (k0_h1 : k0_cond1 arg0 v1 = 1#1), ∀ a, (k0_off172 v2585) a + S8x128.size a ≤ S7688x256.size a)
theorem k0_mult86_dvd : ∀ (arg0 : BitVec 32) (v1 : BitVec 32) (v2585 : BitVec 32) (k0_hw86 : k0_chk86 arg0 v1 v2585), ∀ (k0_h1 : k0_cond1 arg0 v1 = 1#1), 8 ∣ (k0_mult86 v2585).toNat := fun arg0 v1 v2585 k0_hw86 k0_h1 => k0_hw86.1 k0_h1
theorem k0_off171_inb : ∀ (arg0 : BitVec 32) (v1 : BitVec 32) (v2585 : BitVec 32) (k0_hw86 : k0_chk86 arg0 v1 v2585), ∀ (k0_h1 : k0_cond1 arg0 v1 = 1#1), ∀ a, (k0_off171 v2585) a + S8x128.size a ≤ S7688x256.size a := fun arg0 v1 v2585 k0_hw86 k0_h1 => k0_hw86.2.1 k0_h1
theorem k0_off172_inb : ∀ (arg0 : BitVec 32) (v1 : BitVec 32) (v2585 : BitVec 32) (k0_hw86 : k0_chk86 arg0 v1 v2585), ∀ (k0_h1 : k0_cond1 arg0 v1 = 1#1), ∀ a, (k0_off172 v2585) a + S8x128.size a ≤ S7688x256.size a := fun arg0 v1 v2585 k0_hw86 k0_h1 => k0_hw86.2.2 k0_h1

def k0_mult87 (v2615 : BitVec 32) : BitVec 32 :=
  let c1_i32_622 : BitVec 32 := 1#32
  let v2635 : BitVec 32 := Scalar.shrsi v2615 c1_i32_622
  v2635

def k0_off173 (v2615 : BitVec 32) : Fin 2 → Nat :=
  let c1_i32_622 : BitVec 32 := 1#32
  let v2635 : BitVec 32 := Scalar.shrsi v2615 c1_i32_622
  let v2636 : BitVec 32 := v2635
  let v2637 : Index := Scalar.indexCast v2636
  let c0_623 : Index := 0#32
  ![v2637.toNat, 0]
def k0_off174 (v2615 : BitVec 32) : Fin 2 → Nat :=
  let c1_i32_622 : BitVec 32 := 1#32
  let v2635 : BitVec 32 := Scalar.shrsi v2615 c1_i32_622
  let v2636 : BitVec 32 := v2635
  let v2641 : Index := Scalar.indexCast v2636
  let c128_624 : Index := 128#32
  ![v2641.toNat, 128]

def k0_chk87 (arg0 : BitVec 32) (v1 : BitVec 32) (v2615 : BitVec 32) : Prop :=
  (∀ (k0_h1 : k0_cond1 arg0 v1 = 1#1), 8 ∣ (k0_mult87 v2615).toNat) ∧
  (∀ (k0_h1 : k0_cond1 arg0 v1 = 1#1), ∀ a, (k0_off173 v2615) a + S8x128.size a ≤ S7688x256.size a) ∧
  (∀ (k0_h1 : k0_cond1 arg0 v1 = 1#1), ∀ a, (k0_off174 v2615) a + S8x128.size a ≤ S7688x256.size a)
theorem k0_mult87_dvd : ∀ (arg0 : BitVec 32) (v1 : BitVec 32) (v2615 : BitVec 32) (k0_hw87 : k0_chk87 arg0 v1 v2615), ∀ (k0_h1 : k0_cond1 arg0 v1 = 1#1), 8 ∣ (k0_mult87 v2615).toNat := fun arg0 v1 v2615 k0_hw87 k0_h1 => k0_hw87.1 k0_h1
theorem k0_off173_inb : ∀ (arg0 : BitVec 32) (v1 : BitVec 32) (v2615 : BitVec 32) (k0_hw87 : k0_chk87 arg0 v1 v2615), ∀ (k0_h1 : k0_cond1 arg0 v1 = 1#1), ∀ a, (k0_off173 v2615) a + S8x128.size a ≤ S7688x256.size a := fun arg0 v1 v2615 k0_hw87 k0_h1 => k0_hw87.2.1 k0_h1
theorem k0_off174_inb : ∀ (arg0 : BitVec 32) (v1 : BitVec 32) (v2615 : BitVec 32) (k0_hw87 : k0_chk87 arg0 v1 v2615), ∀ (k0_h1 : k0_cond1 arg0 v1 = 1#1), ∀ a, (k0_off174 v2615) a + S8x128.size a ≤ S7688x256.size a := fun arg0 v1 v2615 k0_hw87 k0_h1 => k0_hw87.2.2 k0_h1

def k0_mult88 (v2645 : BitVec 32) : BitVec 32 :=
  let c1_i32_629 : BitVec 32 := 1#32
  let v2665 : BitVec 32 := Scalar.shrsi v2645 c1_i32_629
  v2665

def k0_off175 (v2645 : BitVec 32) : Fin 2 → Nat :=
  let c1_i32_629 : BitVec 32 := 1#32
  let v2665 : BitVec 32 := Scalar.shrsi v2645 c1_i32_629
  let v2666 : BitVec 32 := v2665
  let v2667 : Index := Scalar.indexCast v2666
  let c0_630 : Index := 0#32
  ![v2667.toNat, 0]
def k0_off176 (v2645 : BitVec 32) : Fin 2 → Nat :=
  let c1_i32_629 : BitVec 32 := 1#32
  let v2665 : BitVec 32 := Scalar.shrsi v2645 c1_i32_629
  let v2666 : BitVec 32 := v2665
  let v2671 : Index := Scalar.indexCast v2666
  let c128_631 : Index := 128#32
  ![v2671.toNat, 128]

def k0_chk88 (arg0 : BitVec 32) (v1 : BitVec 32) (v2645 : BitVec 32) : Prop :=
  (∀ (k0_h1 : k0_cond1 arg0 v1 = 1#1), 8 ∣ (k0_mult88 v2645).toNat) ∧
  (∀ (k0_h1 : k0_cond1 arg0 v1 = 1#1), ∀ a, (k0_off175 v2645) a + S8x128.size a ≤ S7688x256.size a) ∧
  (∀ (k0_h1 : k0_cond1 arg0 v1 = 1#1), ∀ a, (k0_off176 v2645) a + S8x128.size a ≤ S7688x256.size a)
theorem k0_mult88_dvd : ∀ (arg0 : BitVec 32) (v1 : BitVec 32) (v2645 : BitVec 32) (k0_hw88 : k0_chk88 arg0 v1 v2645), ∀ (k0_h1 : k0_cond1 arg0 v1 = 1#1), 8 ∣ (k0_mult88 v2645).toNat := fun arg0 v1 v2645 k0_hw88 k0_h1 => k0_hw88.1 k0_h1
theorem k0_off175_inb : ∀ (arg0 : BitVec 32) (v1 : BitVec 32) (v2645 : BitVec 32) (k0_hw88 : k0_chk88 arg0 v1 v2645), ∀ (k0_h1 : k0_cond1 arg0 v1 = 1#1), ∀ a, (k0_off175 v2645) a + S8x128.size a ≤ S7688x256.size a := fun arg0 v1 v2645 k0_hw88 k0_h1 => k0_hw88.2.1 k0_h1
theorem k0_off176_inb : ∀ (arg0 : BitVec 32) (v1 : BitVec 32) (v2645 : BitVec 32) (k0_hw88 : k0_chk88 arg0 v1 v2645), ∀ (k0_h1 : k0_cond1 arg0 v1 = 1#1), ∀ a, (k0_off176 v2645) a + S8x128.size a ≤ S7688x256.size a := fun arg0 v1 v2645 k0_hw88 k0_h1 => k0_hw88.2.2 k0_h1

def k0_mult89 (v2675 : BitVec 32) : BitVec 32 :=
  let c1_i32_636 : BitVec 32 := 1#32
  let v2695 : BitVec 32 := Scalar.shrsi v2675 c1_i32_636
  v2695

def k0_off177 (v2675 : BitVec 32) : Fin 2 → Nat :=
  let c1_i32_636 : BitVec 32 := 1#32
  let v2695 : BitVec 32 := Scalar.shrsi v2675 c1_i32_636
  let v2696 : BitVec 32 := v2695
  let v2697 : Index := Scalar.indexCast v2696
  let c0_637 : Index := 0#32
  ![v2697.toNat, 0]
def k0_off178 (v2675 : BitVec 32) : Fin 2 → Nat :=
  let c1_i32_636 : BitVec 32 := 1#32
  let v2695 : BitVec 32 := Scalar.shrsi v2675 c1_i32_636
  let v2696 : BitVec 32 := v2695
  let v2701 : Index := Scalar.indexCast v2696
  let c128_638 : Index := 128#32
  ![v2701.toNat, 128]

def k0_chk89 (arg0 : BitVec 32) (v1 : BitVec 32) (v2675 : BitVec 32) : Prop :=
  (∀ (k0_h1 : k0_cond1 arg0 v1 = 1#1), 8 ∣ (k0_mult89 v2675).toNat) ∧
  (∀ (k0_h1 : k0_cond1 arg0 v1 = 1#1), ∀ a, (k0_off177 v2675) a + S8x128.size a ≤ S7688x256.size a) ∧
  (∀ (k0_h1 : k0_cond1 arg0 v1 = 1#1), ∀ a, (k0_off178 v2675) a + S8x128.size a ≤ S7688x256.size a)
theorem k0_mult89_dvd : ∀ (arg0 : BitVec 32) (v1 : BitVec 32) (v2675 : BitVec 32) (k0_hw89 : k0_chk89 arg0 v1 v2675), ∀ (k0_h1 : k0_cond1 arg0 v1 = 1#1), 8 ∣ (k0_mult89 v2675).toNat := fun arg0 v1 v2675 k0_hw89 k0_h1 => k0_hw89.1 k0_h1
theorem k0_off177_inb : ∀ (arg0 : BitVec 32) (v1 : BitVec 32) (v2675 : BitVec 32) (k0_hw89 : k0_chk89 arg0 v1 v2675), ∀ (k0_h1 : k0_cond1 arg0 v1 = 1#1), ∀ a, (k0_off177 v2675) a + S8x128.size a ≤ S7688x256.size a := fun arg0 v1 v2675 k0_hw89 k0_h1 => k0_hw89.2.1 k0_h1
theorem k0_off178_inb : ∀ (arg0 : BitVec 32) (v1 : BitVec 32) (v2675 : BitVec 32) (k0_hw89 : k0_chk89 arg0 v1 v2675), ∀ (k0_h1 : k0_cond1 arg0 v1 = 1#1), ∀ a, (k0_off178 v2675) a + S8x128.size a ≤ S7688x256.size a := fun arg0 v1 v2675 k0_hw89 k0_h1 => k0_hw89.2.2 k0_h1

def k0_mult90 (v2705 : BitVec 32) : BitVec 32 :=
  let c1_i32_643 : BitVec 32 := 1#32
  let v2725 : BitVec 32 := Scalar.shrsi v2705 c1_i32_643
  v2725

def k0_off179 (v2705 : BitVec 32) : Fin 2 → Nat :=
  let c1_i32_643 : BitVec 32 := 1#32
  let v2725 : BitVec 32 := Scalar.shrsi v2705 c1_i32_643
  let v2726 : BitVec 32 := v2725
  let v2727 : Index := Scalar.indexCast v2726
  let c0_644 : Index := 0#32
  ![v2727.toNat, 0]
def k0_off180 (v2705 : BitVec 32) : Fin 2 → Nat :=
  let c1_i32_643 : BitVec 32 := 1#32
  let v2725 : BitVec 32 := Scalar.shrsi v2705 c1_i32_643
  let v2726 : BitVec 32 := v2725
  let v2731 : Index := Scalar.indexCast v2726
  let c128_645 : Index := 128#32
  ![v2731.toNat, 128]

def k0_chk90 (arg0 : BitVec 32) (v1 : BitVec 32) (v2705 : BitVec 32) : Prop :=
  (∀ (k0_h1 : k0_cond1 arg0 v1 = 1#1), 8 ∣ (k0_mult90 v2705).toNat) ∧
  (∀ (k0_h1 : k0_cond1 arg0 v1 = 1#1), ∀ a, (k0_off179 v2705) a + S8x128.size a ≤ S7688x256.size a) ∧
  (∀ (k0_h1 : k0_cond1 arg0 v1 = 1#1), ∀ a, (k0_off180 v2705) a + S8x128.size a ≤ S7688x256.size a)
theorem k0_mult90_dvd : ∀ (arg0 : BitVec 32) (v1 : BitVec 32) (v2705 : BitVec 32) (k0_hw90 : k0_chk90 arg0 v1 v2705), ∀ (k0_h1 : k0_cond1 arg0 v1 = 1#1), 8 ∣ (k0_mult90 v2705).toNat := fun arg0 v1 v2705 k0_hw90 k0_h1 => k0_hw90.1 k0_h1
theorem k0_off179_inb : ∀ (arg0 : BitVec 32) (v1 : BitVec 32) (v2705 : BitVec 32) (k0_hw90 : k0_chk90 arg0 v1 v2705), ∀ (k0_h1 : k0_cond1 arg0 v1 = 1#1), ∀ a, (k0_off179 v2705) a + S8x128.size a ≤ S7688x256.size a := fun arg0 v1 v2705 k0_hw90 k0_h1 => k0_hw90.2.1 k0_h1
theorem k0_off180_inb : ∀ (arg0 : BitVec 32) (v1 : BitVec 32) (v2705 : BitVec 32) (k0_hw90 : k0_chk90 arg0 v1 v2705), ∀ (k0_h1 : k0_cond1 arg0 v1 = 1#1), ∀ a, (k0_off180 v2705) a + S8x128.size a ≤ S7688x256.size a := fun arg0 v1 v2705 k0_hw90 k0_h1 => k0_hw90.2.2 k0_h1

def k0_mult91 (v2735 : BitVec 32) : BitVec 32 :=
  let c1_i32_650 : BitVec 32 := 1#32
  let v2755 : BitVec 32 := Scalar.shrsi v2735 c1_i32_650
  v2755

def k0_off181 (v2735 : BitVec 32) : Fin 2 → Nat :=
  let c1_i32_650 : BitVec 32 := 1#32
  let v2755 : BitVec 32 := Scalar.shrsi v2735 c1_i32_650
  let v2756 : BitVec 32 := v2755
  let v2757 : Index := Scalar.indexCast v2756
  let c0_651 : Index := 0#32
  ![v2757.toNat, 0]
def k0_off182 (v2735 : BitVec 32) : Fin 2 → Nat :=
  let c1_i32_650 : BitVec 32 := 1#32
  let v2755 : BitVec 32 := Scalar.shrsi v2735 c1_i32_650
  let v2756 : BitVec 32 := v2755
  let v2761 : Index := Scalar.indexCast v2756
  let c128_652 : Index := 128#32
  ![v2761.toNat, 128]

def k0_chk91 (arg0 : BitVec 32) (v1 : BitVec 32) (v2735 : BitVec 32) : Prop :=
  (∀ (k0_h1 : k0_cond1 arg0 v1 = 1#1), 8 ∣ (k0_mult91 v2735).toNat) ∧
  (∀ (k0_h1 : k0_cond1 arg0 v1 = 1#1), ∀ a, (k0_off181 v2735) a + S8x128.size a ≤ S7688x256.size a) ∧
  (∀ (k0_h1 : k0_cond1 arg0 v1 = 1#1), ∀ a, (k0_off182 v2735) a + S8x128.size a ≤ S7688x256.size a)
theorem k0_mult91_dvd : ∀ (arg0 : BitVec 32) (v1 : BitVec 32) (v2735 : BitVec 32) (k0_hw91 : k0_chk91 arg0 v1 v2735), ∀ (k0_h1 : k0_cond1 arg0 v1 = 1#1), 8 ∣ (k0_mult91 v2735).toNat := fun arg0 v1 v2735 k0_hw91 k0_h1 => k0_hw91.1 k0_h1
theorem k0_off181_inb : ∀ (arg0 : BitVec 32) (v1 : BitVec 32) (v2735 : BitVec 32) (k0_hw91 : k0_chk91 arg0 v1 v2735), ∀ (k0_h1 : k0_cond1 arg0 v1 = 1#1), ∀ a, (k0_off181 v2735) a + S8x128.size a ≤ S7688x256.size a := fun arg0 v1 v2735 k0_hw91 k0_h1 => k0_hw91.2.1 k0_h1
theorem k0_off182_inb : ∀ (arg0 : BitVec 32) (v1 : BitVec 32) (v2735 : BitVec 32) (k0_hw91 : k0_chk91 arg0 v1 v2735), ∀ (k0_h1 : k0_cond1 arg0 v1 = 1#1), ∀ a, (k0_off182 v2735) a + S8x128.size a ≤ S7688x256.size a := fun arg0 v1 v2735 k0_hw91 k0_h1 => k0_hw91.2.2 k0_h1

def k0_mult92 (v2765 : BitVec 32) : BitVec 32 :=
  let c1_i32_657 : BitVec 32 := 1#32
  let v2785 : BitVec 32 := Scalar.shrsi v2765 c1_i32_657
  v2785

def k0_off183 (v2765 : BitVec 32) : Fin 2 → Nat :=
  let c1_i32_657 : BitVec 32 := 1#32
  let v2785 : BitVec 32 := Scalar.shrsi v2765 c1_i32_657
  let v2786 : BitVec 32 := v2785
  let v2787 : Index := Scalar.indexCast v2786
  let c0_658 : Index := 0#32
  ![v2787.toNat, 0]
def k0_off184 (v2765 : BitVec 32) : Fin 2 → Nat :=
  let c1_i32_657 : BitVec 32 := 1#32
  let v2785 : BitVec 32 := Scalar.shrsi v2765 c1_i32_657
  let v2786 : BitVec 32 := v2785
  let v2791 : Index := Scalar.indexCast v2786
  let c128_659 : Index := 128#32
  ![v2791.toNat, 128]

def k0_chk92 (arg0 : BitVec 32) (v1 : BitVec 32) (v2765 : BitVec 32) : Prop :=
  (∀ (k0_h1 : k0_cond1 arg0 v1 = 1#1), 8 ∣ (k0_mult92 v2765).toNat) ∧
  (∀ (k0_h1 : k0_cond1 arg0 v1 = 1#1), ∀ a, (k0_off183 v2765) a + S8x128.size a ≤ S7688x256.size a) ∧
  (∀ (k0_h1 : k0_cond1 arg0 v1 = 1#1), ∀ a, (k0_off184 v2765) a + S8x128.size a ≤ S7688x256.size a)
theorem k0_mult92_dvd : ∀ (arg0 : BitVec 32) (v1 : BitVec 32) (v2765 : BitVec 32) (k0_hw92 : k0_chk92 arg0 v1 v2765), ∀ (k0_h1 : k0_cond1 arg0 v1 = 1#1), 8 ∣ (k0_mult92 v2765).toNat := fun arg0 v1 v2765 k0_hw92 k0_h1 => k0_hw92.1 k0_h1
theorem k0_off183_inb : ∀ (arg0 : BitVec 32) (v1 : BitVec 32) (v2765 : BitVec 32) (k0_hw92 : k0_chk92 arg0 v1 v2765), ∀ (k0_h1 : k0_cond1 arg0 v1 = 1#1), ∀ a, (k0_off183 v2765) a + S8x128.size a ≤ S7688x256.size a := fun arg0 v1 v2765 k0_hw92 k0_h1 => k0_hw92.2.1 k0_h1
theorem k0_off184_inb : ∀ (arg0 : BitVec 32) (v1 : BitVec 32) (v2765 : BitVec 32) (k0_hw92 : k0_chk92 arg0 v1 v2765), ∀ (k0_h1 : k0_cond1 arg0 v1 = 1#1), ∀ a, (k0_off184 v2765) a + S8x128.size a ≤ S7688x256.size a := fun arg0 v1 v2765 k0_hw92 k0_h1 => k0_hw92.2.2 k0_h1

def k0_mult93 (v2795 : BitVec 32) : BitVec 32 :=
  let c1_i32_664 : BitVec 32 := 1#32
  let v2815 : BitVec 32 := Scalar.shrsi v2795 c1_i32_664
  v2815

def k0_off185 (v2795 : BitVec 32) : Fin 2 → Nat :=
  let c1_i32_664 : BitVec 32 := 1#32
  let v2815 : BitVec 32 := Scalar.shrsi v2795 c1_i32_664
  let v2816 : BitVec 32 := v2815
  let v2817 : Index := Scalar.indexCast v2816
  let c0_665 : Index := 0#32
  ![v2817.toNat, 0]
def k0_off186 (v2795 : BitVec 32) : Fin 2 → Nat :=
  let c1_i32_664 : BitVec 32 := 1#32
  let v2815 : BitVec 32 := Scalar.shrsi v2795 c1_i32_664
  let v2816 : BitVec 32 := v2815
  let v2821 : Index := Scalar.indexCast v2816
  let c128_666 : Index := 128#32
  ![v2821.toNat, 128]

def k0_chk93 (arg0 : BitVec 32) (v1 : BitVec 32) (v2795 : BitVec 32) : Prop :=
  (∀ (k0_h1 : k0_cond1 arg0 v1 = 1#1), 8 ∣ (k0_mult93 v2795).toNat) ∧
  (∀ (k0_h1 : k0_cond1 arg0 v1 = 1#1), ∀ a, (k0_off185 v2795) a + S8x128.size a ≤ S7688x256.size a) ∧
  (∀ (k0_h1 : k0_cond1 arg0 v1 = 1#1), ∀ a, (k0_off186 v2795) a + S8x128.size a ≤ S7688x256.size a)
theorem k0_mult93_dvd : ∀ (arg0 : BitVec 32) (v1 : BitVec 32) (v2795 : BitVec 32) (k0_hw93 : k0_chk93 arg0 v1 v2795), ∀ (k0_h1 : k0_cond1 arg0 v1 = 1#1), 8 ∣ (k0_mult93 v2795).toNat := fun arg0 v1 v2795 k0_hw93 k0_h1 => k0_hw93.1 k0_h1
theorem k0_off185_inb : ∀ (arg0 : BitVec 32) (v1 : BitVec 32) (v2795 : BitVec 32) (k0_hw93 : k0_chk93 arg0 v1 v2795), ∀ (k0_h1 : k0_cond1 arg0 v1 = 1#1), ∀ a, (k0_off185 v2795) a + S8x128.size a ≤ S7688x256.size a := fun arg0 v1 v2795 k0_hw93 k0_h1 => k0_hw93.2.1 k0_h1
theorem k0_off186_inb : ∀ (arg0 : BitVec 32) (v1 : BitVec 32) (v2795 : BitVec 32) (k0_hw93 : k0_chk93 arg0 v1 v2795), ∀ (k0_h1 : k0_cond1 arg0 v1 = 1#1), ∀ a, (k0_off186 v2795) a + S8x128.size a ≤ S7688x256.size a := fun arg0 v1 v2795 k0_hw93 k0_h1 => k0_hw93.2.2 k0_h1

def k0_mult94 (v2825 : BitVec 32) : BitVec 32 :=
  let c1_i32_671 : BitVec 32 := 1#32
  let v2845 : BitVec 32 := Scalar.shrsi v2825 c1_i32_671
  v2845

def k0_off187 (v2825 : BitVec 32) : Fin 2 → Nat :=
  let c1_i32_671 : BitVec 32 := 1#32
  let v2845 : BitVec 32 := Scalar.shrsi v2825 c1_i32_671
  let v2846 : BitVec 32 := v2845
  let v2847 : Index := Scalar.indexCast v2846
  let c0_672 : Index := 0#32
  ![v2847.toNat, 0]
def k0_off188 (v2825 : BitVec 32) : Fin 2 → Nat :=
  let c1_i32_671 : BitVec 32 := 1#32
  let v2845 : BitVec 32 := Scalar.shrsi v2825 c1_i32_671
  let v2846 : BitVec 32 := v2845
  let v2851 : Index := Scalar.indexCast v2846
  let c128_673 : Index := 128#32
  ![v2851.toNat, 128]

def k0_chk94 (arg0 : BitVec 32) (v1 : BitVec 32) (v2825 : BitVec 32) : Prop :=
  (∀ (k0_h1 : k0_cond1 arg0 v1 = 1#1), 8 ∣ (k0_mult94 v2825).toNat) ∧
  (∀ (k0_h1 : k0_cond1 arg0 v1 = 1#1), ∀ a, (k0_off187 v2825) a + S8x128.size a ≤ S7688x256.size a) ∧
  (∀ (k0_h1 : k0_cond1 arg0 v1 = 1#1), ∀ a, (k0_off188 v2825) a + S8x128.size a ≤ S7688x256.size a)
theorem k0_mult94_dvd : ∀ (arg0 : BitVec 32) (v1 : BitVec 32) (v2825 : BitVec 32) (k0_hw94 : k0_chk94 arg0 v1 v2825), ∀ (k0_h1 : k0_cond1 arg0 v1 = 1#1), 8 ∣ (k0_mult94 v2825).toNat := fun arg0 v1 v2825 k0_hw94 k0_h1 => k0_hw94.1 k0_h1
theorem k0_off187_inb : ∀ (arg0 : BitVec 32) (v1 : BitVec 32) (v2825 : BitVec 32) (k0_hw94 : k0_chk94 arg0 v1 v2825), ∀ (k0_h1 : k0_cond1 arg0 v1 = 1#1), ∀ a, (k0_off187 v2825) a + S8x128.size a ≤ S7688x256.size a := fun arg0 v1 v2825 k0_hw94 k0_h1 => k0_hw94.2.1 k0_h1
theorem k0_off188_inb : ∀ (arg0 : BitVec 32) (v1 : BitVec 32) (v2825 : BitVec 32) (k0_hw94 : k0_chk94 arg0 v1 v2825), ∀ (k0_h1 : k0_cond1 arg0 v1 = 1#1), ∀ a, (k0_off188 v2825) a + S8x128.size a ≤ S7688x256.size a := fun arg0 v1 v2825 k0_hw94 k0_h1 => k0_hw94.2.2 k0_h1

def k0_mult95 (v2855 : BitVec 32) : BitVec 32 :=
  let c1_i32_678 : BitVec 32 := 1#32
  let v2875 : BitVec 32 := Scalar.shrsi v2855 c1_i32_678
  v2875

def k0_off189 (v2855 : BitVec 32) : Fin 2 → Nat :=
  let c1_i32_678 : BitVec 32 := 1#32
  let v2875 : BitVec 32 := Scalar.shrsi v2855 c1_i32_678
  let v2876 : BitVec 32 := v2875
  let v2877 : Index := Scalar.indexCast v2876
  let c0_679 : Index := 0#32
  ![v2877.toNat, 0]
def k0_off190 (v2855 : BitVec 32) : Fin 2 → Nat :=
  let c1_i32_678 : BitVec 32 := 1#32
  let v2875 : BitVec 32 := Scalar.shrsi v2855 c1_i32_678
  let v2876 : BitVec 32 := v2875
  let v2881 : Index := Scalar.indexCast v2876
  let c128_680 : Index := 128#32
  ![v2881.toNat, 128]

def k0_chk95 (arg0 : BitVec 32) (v1 : BitVec 32) (v2855 : BitVec 32) : Prop :=
  (∀ (k0_h1 : k0_cond1 arg0 v1 = 1#1), 8 ∣ (k0_mult95 v2855).toNat) ∧
  (∀ (k0_h1 : k0_cond1 arg0 v1 = 1#1), ∀ a, (k0_off189 v2855) a + S8x128.size a ≤ S7688x256.size a) ∧
  (∀ (k0_h1 : k0_cond1 arg0 v1 = 1#1), ∀ a, (k0_off190 v2855) a + S8x128.size a ≤ S7688x256.size a)
theorem k0_mult95_dvd : ∀ (arg0 : BitVec 32) (v1 : BitVec 32) (v2855 : BitVec 32) (k0_hw95 : k0_chk95 arg0 v1 v2855), ∀ (k0_h1 : k0_cond1 arg0 v1 = 1#1), 8 ∣ (k0_mult95 v2855).toNat := fun arg0 v1 v2855 k0_hw95 k0_h1 => k0_hw95.1 k0_h1
theorem k0_off189_inb : ∀ (arg0 : BitVec 32) (v1 : BitVec 32) (v2855 : BitVec 32) (k0_hw95 : k0_chk95 arg0 v1 v2855), ∀ (k0_h1 : k0_cond1 arg0 v1 = 1#1), ∀ a, (k0_off189 v2855) a + S8x128.size a ≤ S7688x256.size a := fun arg0 v1 v2855 k0_hw95 k0_h1 => k0_hw95.2.1 k0_h1
theorem k0_off190_inb : ∀ (arg0 : BitVec 32) (v1 : BitVec 32) (v2855 : BitVec 32) (k0_hw95 : k0_chk95 arg0 v1 v2855), ∀ (k0_h1 : k0_cond1 arg0 v1 = 1#1), ∀ a, (k0_off190 v2855) a + S8x128.size a ≤ S7688x256.size a := fun arg0 v1 v2855 k0_hw95 k0_h1 => k0_hw95.2.2 k0_h1

def k0_mult96 (v2885 : BitVec 32) : BitVec 32 :=
  let c1_i32_685 : BitVec 32 := 1#32
  let v2905 : BitVec 32 := Scalar.shrsi v2885 c1_i32_685
  v2905

def k0_off191 (v2885 : BitVec 32) : Fin 2 → Nat :=
  let c1_i32_685 : BitVec 32 := 1#32
  let v2905 : BitVec 32 := Scalar.shrsi v2885 c1_i32_685
  let v2906 : BitVec 32 := v2905
  let v2907 : Index := Scalar.indexCast v2906
  let c0_686 : Index := 0#32
  ![v2907.toNat, 0]
def k0_off192 (v2885 : BitVec 32) : Fin 2 → Nat :=
  let c1_i32_685 : BitVec 32 := 1#32
  let v2905 : BitVec 32 := Scalar.shrsi v2885 c1_i32_685
  let v2906 : BitVec 32 := v2905
  let v2911 : Index := Scalar.indexCast v2906
  let c128_687 : Index := 128#32
  ![v2911.toNat, 128]

def k0_chk96 (arg0 : BitVec 32) (v1 : BitVec 32) (v2885 : BitVec 32) : Prop :=
  (∀ (k0_h1 : k0_cond1 arg0 v1 = 1#1), 8 ∣ (k0_mult96 v2885).toNat) ∧
  (∀ (k0_h1 : k0_cond1 arg0 v1 = 1#1), ∀ a, (k0_off191 v2885) a + S8x128.size a ≤ S7688x256.size a) ∧
  (∀ (k0_h1 : k0_cond1 arg0 v1 = 1#1), ∀ a, (k0_off192 v2885) a + S8x128.size a ≤ S7688x256.size a)
theorem k0_mult96_dvd : ∀ (arg0 : BitVec 32) (v1 : BitVec 32) (v2885 : BitVec 32) (k0_hw96 : k0_chk96 arg0 v1 v2885), ∀ (k0_h1 : k0_cond1 arg0 v1 = 1#1), 8 ∣ (k0_mult96 v2885).toNat := fun arg0 v1 v2885 k0_hw96 k0_h1 => k0_hw96.1 k0_h1
theorem k0_off191_inb : ∀ (arg0 : BitVec 32) (v1 : BitVec 32) (v2885 : BitVec 32) (k0_hw96 : k0_chk96 arg0 v1 v2885), ∀ (k0_h1 : k0_cond1 arg0 v1 = 1#1), ∀ a, (k0_off191 v2885) a + S8x128.size a ≤ S7688x256.size a := fun arg0 v1 v2885 k0_hw96 k0_h1 => k0_hw96.2.1 k0_h1
theorem k0_off192_inb : ∀ (arg0 : BitVec 32) (v1 : BitVec 32) (v2885 : BitVec 32) (k0_hw96 : k0_chk96 arg0 v1 v2885), ∀ (k0_h1 : k0_cond1 arg0 v1 = 1#1), ∀ a, (k0_off192 v2885) a + S8x128.size a ≤ S7688x256.size a := fun arg0 v1 v2885 k0_hw96 k0_h1 => k0_hw96.2.2 k0_h1

def k0_mult97 (v2915 : BitVec 32) : BitVec 32 :=
  let c1_i32_692 : BitVec 32 := 1#32
  let v2935 : BitVec 32 := Scalar.shrsi v2915 c1_i32_692
  v2935

def k0_off193 (v2915 : BitVec 32) : Fin 2 → Nat :=
  let c1_i32_692 : BitVec 32 := 1#32
  let v2935 : BitVec 32 := Scalar.shrsi v2915 c1_i32_692
  let v2936 : BitVec 32 := v2935
  let v2937 : Index := Scalar.indexCast v2936
  let c0_693 : Index := 0#32
  ![v2937.toNat, 0]
def k0_off194 (v2915 : BitVec 32) : Fin 2 → Nat :=
  let c1_i32_692 : BitVec 32 := 1#32
  let v2935 : BitVec 32 := Scalar.shrsi v2915 c1_i32_692
  let v2936 : BitVec 32 := v2935
  let v2941 : Index := Scalar.indexCast v2936
  let c128_694 : Index := 128#32
  ![v2941.toNat, 128]

def k0_chk97 (arg0 : BitVec 32) (v1 : BitVec 32) (v2915 : BitVec 32) : Prop :=
  (∀ (k0_h1 : k0_cond1 arg0 v1 = 1#1), 8 ∣ (k0_mult97 v2915).toNat) ∧
  (∀ (k0_h1 : k0_cond1 arg0 v1 = 1#1), ∀ a, (k0_off193 v2915) a + S8x128.size a ≤ S7688x256.size a) ∧
  (∀ (k0_h1 : k0_cond1 arg0 v1 = 1#1), ∀ a, (k0_off194 v2915) a + S8x128.size a ≤ S7688x256.size a)
theorem k0_mult97_dvd : ∀ (arg0 : BitVec 32) (v1 : BitVec 32) (v2915 : BitVec 32) (k0_hw97 : k0_chk97 arg0 v1 v2915), ∀ (k0_h1 : k0_cond1 arg0 v1 = 1#1), 8 ∣ (k0_mult97 v2915).toNat := fun arg0 v1 v2915 k0_hw97 k0_h1 => k0_hw97.1 k0_h1
theorem k0_off193_inb : ∀ (arg0 : BitVec 32) (v1 : BitVec 32) (v2915 : BitVec 32) (k0_hw97 : k0_chk97 arg0 v1 v2915), ∀ (k0_h1 : k0_cond1 arg0 v1 = 1#1), ∀ a, (k0_off193 v2915) a + S8x128.size a ≤ S7688x256.size a := fun arg0 v1 v2915 k0_hw97 k0_h1 => k0_hw97.2.1 k0_h1
theorem k0_off194_inb : ∀ (arg0 : BitVec 32) (v1 : BitVec 32) (v2915 : BitVec 32) (k0_hw97 : k0_chk97 arg0 v1 v2915), ∀ (k0_h1 : k0_cond1 arg0 v1 = 1#1), ∀ a, (k0_off194 v2915) a + S8x128.size a ≤ S7688x256.size a := fun arg0 v1 v2915 k0_hw97 k0_h1 => k0_hw97.2.2 k0_h1

def k0_mult98 (v2945 : BitVec 32) : BitVec 32 :=
  let c1_i32_699 : BitVec 32 := 1#32
  let v2965 : BitVec 32 := Scalar.shrsi v2945 c1_i32_699
  v2965

def k0_off195 (v2945 : BitVec 32) : Fin 2 → Nat :=
  let c1_i32_699 : BitVec 32 := 1#32
  let v2965 : BitVec 32 := Scalar.shrsi v2945 c1_i32_699
  let v2966 : BitVec 32 := v2965
  let v2967 : Index := Scalar.indexCast v2966
  let c0_700 : Index := 0#32
  ![v2967.toNat, 0]
def k0_off196 (v2945 : BitVec 32) : Fin 2 → Nat :=
  let c1_i32_699 : BitVec 32 := 1#32
  let v2965 : BitVec 32 := Scalar.shrsi v2945 c1_i32_699
  let v2966 : BitVec 32 := v2965
  let v2971 : Index := Scalar.indexCast v2966
  let c128_701 : Index := 128#32
  ![v2971.toNat, 128]

def k0_chk98 (arg0 : BitVec 32) (v1 : BitVec 32) (v2945 : BitVec 32) : Prop :=
  (∀ (k0_h1 : k0_cond1 arg0 v1 = 1#1), 8 ∣ (k0_mult98 v2945).toNat) ∧
  (∀ (k0_h1 : k0_cond1 arg0 v1 = 1#1), ∀ a, (k0_off195 v2945) a + S8x128.size a ≤ S7688x256.size a) ∧
  (∀ (k0_h1 : k0_cond1 arg0 v1 = 1#1), ∀ a, (k0_off196 v2945) a + S8x128.size a ≤ S7688x256.size a)
theorem k0_mult98_dvd : ∀ (arg0 : BitVec 32) (v1 : BitVec 32) (v2945 : BitVec 32) (k0_hw98 : k0_chk98 arg0 v1 v2945), ∀ (k0_h1 : k0_cond1 arg0 v1 = 1#1), 8 ∣ (k0_mult98 v2945).toNat := fun arg0 v1 v2945 k0_hw98 k0_h1 => k0_hw98.1 k0_h1
theorem k0_off195_inb : ∀ (arg0 : BitVec 32) (v1 : BitVec 32) (v2945 : BitVec 32) (k0_hw98 : k0_chk98 arg0 v1 v2945), ∀ (k0_h1 : k0_cond1 arg0 v1 = 1#1), ∀ a, (k0_off195 v2945) a + S8x128.size a ≤ S7688x256.size a := fun arg0 v1 v2945 k0_hw98 k0_h1 => k0_hw98.2.1 k0_h1
theorem k0_off196_inb : ∀ (arg0 : BitVec 32) (v1 : BitVec 32) (v2945 : BitVec 32) (k0_hw98 : k0_chk98 arg0 v1 v2945), ∀ (k0_h1 : k0_cond1 arg0 v1 = 1#1), ∀ a, (k0_off196 v2945) a + S8x128.size a ≤ S7688x256.size a := fun arg0 v1 v2945 k0_hw98 k0_h1 => k0_hw98.2.2 k0_h1

def k0_mult99 (v2975 : BitVec 32) : BitVec 32 :=
  let c1_i32_706 : BitVec 32 := 1#32
  let v2995 : BitVec 32 := Scalar.shrsi v2975 c1_i32_706
  v2995

def k0_off197 (v2975 : BitVec 32) : Fin 2 → Nat :=
  let c1_i32_706 : BitVec 32 := 1#32
  let v2995 : BitVec 32 := Scalar.shrsi v2975 c1_i32_706
  let v2996 : BitVec 32 := v2995
  let v2997 : Index := Scalar.indexCast v2996
  let c0_707 : Index := 0#32
  ![v2997.toNat, 0]
def k0_off198 (v2975 : BitVec 32) : Fin 2 → Nat :=
  let c1_i32_706 : BitVec 32 := 1#32
  let v2995 : BitVec 32 := Scalar.shrsi v2975 c1_i32_706
  let v2996 : BitVec 32 := v2995
  let v3001 : Index := Scalar.indexCast v2996
  let c128_708 : Index := 128#32
  ![v3001.toNat, 128]

def k0_chk99 (arg0 : BitVec 32) (v1 : BitVec 32) (v2975 : BitVec 32) : Prop :=
  (∀ (k0_h1 : k0_cond1 arg0 v1 = 1#1), 8 ∣ (k0_mult99 v2975).toNat) ∧
  (∀ (k0_h1 : k0_cond1 arg0 v1 = 1#1), ∀ a, (k0_off197 v2975) a + S8x128.size a ≤ S7688x256.size a) ∧
  (∀ (k0_h1 : k0_cond1 arg0 v1 = 1#1), ∀ a, (k0_off198 v2975) a + S8x128.size a ≤ S7688x256.size a)
theorem k0_mult99_dvd : ∀ (arg0 : BitVec 32) (v1 : BitVec 32) (v2975 : BitVec 32) (k0_hw99 : k0_chk99 arg0 v1 v2975), ∀ (k0_h1 : k0_cond1 arg0 v1 = 1#1), 8 ∣ (k0_mult99 v2975).toNat := fun arg0 v1 v2975 k0_hw99 k0_h1 => k0_hw99.1 k0_h1
theorem k0_off197_inb : ∀ (arg0 : BitVec 32) (v1 : BitVec 32) (v2975 : BitVec 32) (k0_hw99 : k0_chk99 arg0 v1 v2975), ∀ (k0_h1 : k0_cond1 arg0 v1 = 1#1), ∀ a, (k0_off197 v2975) a + S8x128.size a ≤ S7688x256.size a := fun arg0 v1 v2975 k0_hw99 k0_h1 => k0_hw99.2.1 k0_h1
theorem k0_off198_inb : ∀ (arg0 : BitVec 32) (v1 : BitVec 32) (v2975 : BitVec 32) (k0_hw99 : k0_chk99 arg0 v1 v2975), ∀ (k0_h1 : k0_cond1 arg0 v1 = 1#1), ∀ a, (k0_off198 v2975) a + S8x128.size a ≤ S7688x256.size a := fun arg0 v1 v2975 k0_hw99 k0_h1 => k0_hw99.2.2 k0_h1

def k0_mult100 (v3005 : BitVec 32) : BitVec 32 :=
  let c1_i32_713 : BitVec 32 := 1#32
  let v3025 : BitVec 32 := Scalar.shrsi v3005 c1_i32_713
  v3025

def k0_off199 (v3005 : BitVec 32) : Fin 2 → Nat :=
  let c1_i32_713 : BitVec 32 := 1#32
  let v3025 : BitVec 32 := Scalar.shrsi v3005 c1_i32_713
  let v3026 : BitVec 32 := v3025
  let v3027 : Index := Scalar.indexCast v3026
  let c0_714 : Index := 0#32
  ![v3027.toNat, 0]
def k0_off200 (v3005 : BitVec 32) : Fin 2 → Nat :=
  let c1_i32_713 : BitVec 32 := 1#32
  let v3025 : BitVec 32 := Scalar.shrsi v3005 c1_i32_713
  let v3026 : BitVec 32 := v3025
  let v3031 : Index := Scalar.indexCast v3026
  let c128_715 : Index := 128#32
  ![v3031.toNat, 128]

def k0_chk100 (arg0 : BitVec 32) (v1 : BitVec 32) (v3005 : BitVec 32) : Prop :=
  (∀ (k0_h1 : k0_cond1 arg0 v1 = 1#1), 8 ∣ (k0_mult100 v3005).toNat) ∧
  (∀ (k0_h1 : k0_cond1 arg0 v1 = 1#1), ∀ a, (k0_off199 v3005) a + S8x128.size a ≤ S7688x256.size a) ∧
  (∀ (k0_h1 : k0_cond1 arg0 v1 = 1#1), ∀ a, (k0_off200 v3005) a + S8x128.size a ≤ S7688x256.size a)
theorem k0_mult100_dvd : ∀ (arg0 : BitVec 32) (v1 : BitVec 32) (v3005 : BitVec 32) (k0_hw100 : k0_chk100 arg0 v1 v3005), ∀ (k0_h1 : k0_cond1 arg0 v1 = 1#1), 8 ∣ (k0_mult100 v3005).toNat := fun arg0 v1 v3005 k0_hw100 k0_h1 => k0_hw100.1 k0_h1
theorem k0_off199_inb : ∀ (arg0 : BitVec 32) (v1 : BitVec 32) (v3005 : BitVec 32) (k0_hw100 : k0_chk100 arg0 v1 v3005), ∀ (k0_h1 : k0_cond1 arg0 v1 = 1#1), ∀ a, (k0_off199 v3005) a + S8x128.size a ≤ S7688x256.size a := fun arg0 v1 v3005 k0_hw100 k0_h1 => k0_hw100.2.1 k0_h1
theorem k0_off200_inb : ∀ (arg0 : BitVec 32) (v1 : BitVec 32) (v3005 : BitVec 32) (k0_hw100 : k0_chk100 arg0 v1 v3005), ∀ (k0_h1 : k0_cond1 arg0 v1 = 1#1), ∀ a, (k0_off200 v3005) a + S8x128.size a ≤ S7688x256.size a := fun arg0 v1 v3005 k0_hw100 k0_h1 => k0_hw100.2.2 k0_h1

def k0_mult101 (v3035 : BitVec 32) : BitVec 32 :=
  let c1_i32_720 : BitVec 32 := 1#32
  let v3055 : BitVec 32 := Scalar.shrsi v3035 c1_i32_720
  v3055

def k0_off201 (v3035 : BitVec 32) : Fin 2 → Nat :=
  let c1_i32_720 : BitVec 32 := 1#32
  let v3055 : BitVec 32 := Scalar.shrsi v3035 c1_i32_720
  let v3056 : BitVec 32 := v3055
  let v3057 : Index := Scalar.indexCast v3056
  let c0_721 : Index := 0#32
  ![v3057.toNat, 0]
def k0_off202 (v3035 : BitVec 32) : Fin 2 → Nat :=
  let c1_i32_720 : BitVec 32 := 1#32
  let v3055 : BitVec 32 := Scalar.shrsi v3035 c1_i32_720
  let v3056 : BitVec 32 := v3055
  let v3061 : Index := Scalar.indexCast v3056
  let c128_722 : Index := 128#32
  ![v3061.toNat, 128]

def k0_chk101 (arg0 : BitVec 32) (v1 : BitVec 32) (v3035 : BitVec 32) : Prop :=
  (∀ (k0_h1 : k0_cond1 arg0 v1 = 1#1), 8 ∣ (k0_mult101 v3035).toNat) ∧
  (∀ (k0_h1 : k0_cond1 arg0 v1 = 1#1), ∀ a, (k0_off201 v3035) a + S8x128.size a ≤ S7688x256.size a) ∧
  (∀ (k0_h1 : k0_cond1 arg0 v1 = 1#1), ∀ a, (k0_off202 v3035) a + S8x128.size a ≤ S7688x256.size a)
theorem k0_mult101_dvd : ∀ (arg0 : BitVec 32) (v1 : BitVec 32) (v3035 : BitVec 32) (k0_hw101 : k0_chk101 arg0 v1 v3035), ∀ (k0_h1 : k0_cond1 arg0 v1 = 1#1), 8 ∣ (k0_mult101 v3035).toNat := fun arg0 v1 v3035 k0_hw101 k0_h1 => k0_hw101.1 k0_h1
theorem k0_off201_inb : ∀ (arg0 : BitVec 32) (v1 : BitVec 32) (v3035 : BitVec 32) (k0_hw101 : k0_chk101 arg0 v1 v3035), ∀ (k0_h1 : k0_cond1 arg0 v1 = 1#1), ∀ a, (k0_off201 v3035) a + S8x128.size a ≤ S7688x256.size a := fun arg0 v1 v3035 k0_hw101 k0_h1 => k0_hw101.2.1 k0_h1
theorem k0_off202_inb : ∀ (arg0 : BitVec 32) (v1 : BitVec 32) (v3035 : BitVec 32) (k0_hw101 : k0_chk101 arg0 v1 v3035), ∀ (k0_h1 : k0_cond1 arg0 v1 = 1#1), ∀ a, (k0_off202 v3035) a + S8x128.size a ≤ S7688x256.size a := fun arg0 v1 v3035 k0_hw101 k0_h1 => k0_hw101.2.2 k0_h1

def k0_mult102 (v3065 : BitVec 32) : BitVec 32 :=
  let c1_i32_727 : BitVec 32 := 1#32
  let v3085 : BitVec 32 := Scalar.shrsi v3065 c1_i32_727
  v3085

def k0_off203 (v3065 : BitVec 32) : Fin 2 → Nat :=
  let c1_i32_727 : BitVec 32 := 1#32
  let v3085 : BitVec 32 := Scalar.shrsi v3065 c1_i32_727
  let v3086 : BitVec 32 := v3085
  let v3087 : Index := Scalar.indexCast v3086
  let c0_728 : Index := 0#32
  ![v3087.toNat, 0]
def k0_off204 (v3065 : BitVec 32) : Fin 2 → Nat :=
  let c1_i32_727 : BitVec 32 := 1#32
  let v3085 : BitVec 32 := Scalar.shrsi v3065 c1_i32_727
  let v3086 : BitVec 32 := v3085
  let v3091 : Index := Scalar.indexCast v3086
  let c128_729 : Index := 128#32
  ![v3091.toNat, 128]

def k0_chk102 (arg0 : BitVec 32) (v1 : BitVec 32) (v3065 : BitVec 32) : Prop :=
  (∀ (k0_h1 : k0_cond1 arg0 v1 = 1#1), 8 ∣ (k0_mult102 v3065).toNat) ∧
  (∀ (k0_h1 : k0_cond1 arg0 v1 = 1#1), ∀ a, (k0_off203 v3065) a + S8x128.size a ≤ S7688x256.size a) ∧
  (∀ (k0_h1 : k0_cond1 arg0 v1 = 1#1), ∀ a, (k0_off204 v3065) a + S8x128.size a ≤ S7688x256.size a)
theorem k0_mult102_dvd : ∀ (arg0 : BitVec 32) (v1 : BitVec 32) (v3065 : BitVec 32) (k0_hw102 : k0_chk102 arg0 v1 v3065), ∀ (k0_h1 : k0_cond1 arg0 v1 = 1#1), 8 ∣ (k0_mult102 v3065).toNat := fun arg0 v1 v3065 k0_hw102 k0_h1 => k0_hw102.1 k0_h1
theorem k0_off203_inb : ∀ (arg0 : BitVec 32) (v1 : BitVec 32) (v3065 : BitVec 32) (k0_hw102 : k0_chk102 arg0 v1 v3065), ∀ (k0_h1 : k0_cond1 arg0 v1 = 1#1), ∀ a, (k0_off203 v3065) a + S8x128.size a ≤ S7688x256.size a := fun arg0 v1 v3065 k0_hw102 k0_h1 => k0_hw102.2.1 k0_h1
theorem k0_off204_inb : ∀ (arg0 : BitVec 32) (v1 : BitVec 32) (v3065 : BitVec 32) (k0_hw102 : k0_chk102 arg0 v1 v3065), ∀ (k0_h1 : k0_cond1 arg0 v1 = 1#1), ∀ a, (k0_off204 v3065) a + S8x128.size a ≤ S7688x256.size a := fun arg0 v1 v3065 k0_hw102 k0_h1 => k0_hw102.2.2 k0_h1

def k0_mult103 (v3095 : BitVec 32) : BitVec 32 :=
  let c1_i32_734 : BitVec 32 := 1#32
  let v3115 : BitVec 32 := Scalar.shrsi v3095 c1_i32_734
  v3115

def k0_off205 (v3095 : BitVec 32) : Fin 2 → Nat :=
  let c1_i32_734 : BitVec 32 := 1#32
  let v3115 : BitVec 32 := Scalar.shrsi v3095 c1_i32_734
  let v3116 : BitVec 32 := v3115
  let v3117 : Index := Scalar.indexCast v3116
  let c0_735 : Index := 0#32
  ![v3117.toNat, 0]
def k0_off206 (v3095 : BitVec 32) : Fin 2 → Nat :=
  let c1_i32_734 : BitVec 32 := 1#32
  let v3115 : BitVec 32 := Scalar.shrsi v3095 c1_i32_734
  let v3116 : BitVec 32 := v3115
  let v3121 : Index := Scalar.indexCast v3116
  let c128_736 : Index := 128#32
  ![v3121.toNat, 128]

def k0_chk103 (arg0 : BitVec 32) (v1 : BitVec 32) (v3095 : BitVec 32) : Prop :=
  (∀ (k0_h1 : k0_cond1 arg0 v1 = 1#1), 8 ∣ (k0_mult103 v3095).toNat) ∧
  (∀ (k0_h1 : k0_cond1 arg0 v1 = 1#1), ∀ a, (k0_off205 v3095) a + S8x128.size a ≤ S7688x256.size a) ∧
  (∀ (k0_h1 : k0_cond1 arg0 v1 = 1#1), ∀ a, (k0_off206 v3095) a + S8x128.size a ≤ S7688x256.size a)
theorem k0_mult103_dvd : ∀ (arg0 : BitVec 32) (v1 : BitVec 32) (v3095 : BitVec 32) (k0_hw103 : k0_chk103 arg0 v1 v3095), ∀ (k0_h1 : k0_cond1 arg0 v1 = 1#1), 8 ∣ (k0_mult103 v3095).toNat := fun arg0 v1 v3095 k0_hw103 k0_h1 => k0_hw103.1 k0_h1
theorem k0_off205_inb : ∀ (arg0 : BitVec 32) (v1 : BitVec 32) (v3095 : BitVec 32) (k0_hw103 : k0_chk103 arg0 v1 v3095), ∀ (k0_h1 : k0_cond1 arg0 v1 = 1#1), ∀ a, (k0_off205 v3095) a + S8x128.size a ≤ S7688x256.size a := fun arg0 v1 v3095 k0_hw103 k0_h1 => k0_hw103.2.1 k0_h1
theorem k0_off206_inb : ∀ (arg0 : BitVec 32) (v1 : BitVec 32) (v3095 : BitVec 32) (k0_hw103 : k0_chk103 arg0 v1 v3095), ∀ (k0_h1 : k0_cond1 arg0 v1 = 1#1), ∀ a, (k0_off206 v3095) a + S8x128.size a ≤ S7688x256.size a := fun arg0 v1 v3095 k0_hw103 k0_h1 => k0_hw103.2.2 k0_h1

def k0_mult104 (v3125 : BitVec 32) : BitVec 32 :=
  let c1_i32_741 : BitVec 32 := 1#32
  let v3145 : BitVec 32 := Scalar.shrsi v3125 c1_i32_741
  v3145

def k0_off207 (v3125 : BitVec 32) : Fin 2 → Nat :=
  let c1_i32_741 : BitVec 32 := 1#32
  let v3145 : BitVec 32 := Scalar.shrsi v3125 c1_i32_741
  let v3146 : BitVec 32 := v3145
  let v3147 : Index := Scalar.indexCast v3146
  let c0_742 : Index := 0#32
  ![v3147.toNat, 0]
def k0_off208 (v3125 : BitVec 32) : Fin 2 → Nat :=
  let c1_i32_741 : BitVec 32 := 1#32
  let v3145 : BitVec 32 := Scalar.shrsi v3125 c1_i32_741
  let v3146 : BitVec 32 := v3145
  let v3151 : Index := Scalar.indexCast v3146
  let c128_743 : Index := 128#32
  ![v3151.toNat, 128]

def k0_chk104 (arg0 : BitVec 32) (v1 : BitVec 32) (v3125 : BitVec 32) : Prop :=
  (∀ (k0_h1 : k0_cond1 arg0 v1 = 1#1), 8 ∣ (k0_mult104 v3125).toNat) ∧
  (∀ (k0_h1 : k0_cond1 arg0 v1 = 1#1), ∀ a, (k0_off207 v3125) a + S8x128.size a ≤ S7688x256.size a) ∧
  (∀ (k0_h1 : k0_cond1 arg0 v1 = 1#1), ∀ a, (k0_off208 v3125) a + S8x128.size a ≤ S7688x256.size a)
theorem k0_mult104_dvd : ∀ (arg0 : BitVec 32) (v1 : BitVec 32) (v3125 : BitVec 32) (k0_hw104 : k0_chk104 arg0 v1 v3125), ∀ (k0_h1 : k0_cond1 arg0 v1 = 1#1), 8 ∣ (k0_mult104 v3125).toNat := fun arg0 v1 v3125 k0_hw104 k0_h1 => k0_hw104.1 k0_h1
theorem k0_off207_inb : ∀ (arg0 : BitVec 32) (v1 : BitVec 32) (v3125 : BitVec 32) (k0_hw104 : k0_chk104 arg0 v1 v3125), ∀ (k0_h1 : k0_cond1 arg0 v1 = 1#1), ∀ a, (k0_off207 v3125) a + S8x128.size a ≤ S7688x256.size a := fun arg0 v1 v3125 k0_hw104 k0_h1 => k0_hw104.2.1 k0_h1
theorem k0_off208_inb : ∀ (arg0 : BitVec 32) (v1 : BitVec 32) (v3125 : BitVec 32) (k0_hw104 : k0_chk104 arg0 v1 v3125), ∀ (k0_h1 : k0_cond1 arg0 v1 = 1#1), ∀ a, (k0_off208 v3125) a + S8x128.size a ≤ S7688x256.size a := fun arg0 v1 v3125 k0_hw104 k0_h1 => k0_hw104.2.2 k0_h1

def k0_mult105 (v3155 : BitVec 32) : BitVec 32 :=
  let c1_i32_748 : BitVec 32 := 1#32
  let v3175 : BitVec 32 := Scalar.shrsi v3155 c1_i32_748
  v3175

def k0_off209 (v3155 : BitVec 32) : Fin 2 → Nat :=
  let c1_i32_748 : BitVec 32 := 1#32
  let v3175 : BitVec 32 := Scalar.shrsi v3155 c1_i32_748
  let v3176 : BitVec 32 := v3175
  let v3177 : Index := Scalar.indexCast v3176
  let c0_749 : Index := 0#32
  ![v3177.toNat, 0]
def k0_off210 (v3155 : BitVec 32) : Fin 2 → Nat :=
  let c1_i32_748 : BitVec 32 := 1#32
  let v3175 : BitVec 32 := Scalar.shrsi v3155 c1_i32_748
  let v3176 : BitVec 32 := v3175
  let v3181 : Index := Scalar.indexCast v3176
  let c128_750 : Index := 128#32
  ![v3181.toNat, 128]

def k0_chk105 (arg0 : BitVec 32) (v1 : BitVec 32) (v3155 : BitVec 32) : Prop :=
  (∀ (k0_h1 : k0_cond1 arg0 v1 = 1#1), 8 ∣ (k0_mult105 v3155).toNat) ∧
  (∀ (k0_h1 : k0_cond1 arg0 v1 = 1#1), ∀ a, (k0_off209 v3155) a + S8x128.size a ≤ S7688x256.size a) ∧
  (∀ (k0_h1 : k0_cond1 arg0 v1 = 1#1), ∀ a, (k0_off210 v3155) a + S8x128.size a ≤ S7688x256.size a)
theorem k0_mult105_dvd : ∀ (arg0 : BitVec 32) (v1 : BitVec 32) (v3155 : BitVec 32) (k0_hw105 : k0_chk105 arg0 v1 v3155), ∀ (k0_h1 : k0_cond1 arg0 v1 = 1#1), 8 ∣ (k0_mult105 v3155).toNat := fun arg0 v1 v3155 k0_hw105 k0_h1 => k0_hw105.1 k0_h1
theorem k0_off209_inb : ∀ (arg0 : BitVec 32) (v1 : BitVec 32) (v3155 : BitVec 32) (k0_hw105 : k0_chk105 arg0 v1 v3155), ∀ (k0_h1 : k0_cond1 arg0 v1 = 1#1), ∀ a, (k0_off209 v3155) a + S8x128.size a ≤ S7688x256.size a := fun arg0 v1 v3155 k0_hw105 k0_h1 => k0_hw105.2.1 k0_h1
theorem k0_off210_inb : ∀ (arg0 : BitVec 32) (v1 : BitVec 32) (v3155 : BitVec 32) (k0_hw105 : k0_chk105 arg0 v1 v3155), ∀ (k0_h1 : k0_cond1 arg0 v1 = 1#1), ∀ a, (k0_off210 v3155) a + S8x128.size a ≤ S7688x256.size a := fun arg0 v1 v3155 k0_hw105 k0_h1 => k0_hw105.2.2 k0_h1

def k0_mult106 (v3185 : BitVec 32) : BitVec 32 :=
  let c1_i32_755 : BitVec 32 := 1#32
  let v3205 : BitVec 32 := Scalar.shrsi v3185 c1_i32_755
  v3205

def k0_off211 (v3185 : BitVec 32) : Fin 2 → Nat :=
  let c1_i32_755 : BitVec 32 := 1#32
  let v3205 : BitVec 32 := Scalar.shrsi v3185 c1_i32_755
  let v3206 : BitVec 32 := v3205
  let v3207 : Index := Scalar.indexCast v3206
  let c0_756 : Index := 0#32
  ![v3207.toNat, 0]
def k0_off212 (v3185 : BitVec 32) : Fin 2 → Nat :=
  let c1_i32_755 : BitVec 32 := 1#32
  let v3205 : BitVec 32 := Scalar.shrsi v3185 c1_i32_755
  let v3206 : BitVec 32 := v3205
  let v3211 : Index := Scalar.indexCast v3206
  let c128_757 : Index := 128#32
  ![v3211.toNat, 128]

def k0_chk106 (arg0 : BitVec 32) (v1 : BitVec 32) (v3185 : BitVec 32) : Prop :=
  (∀ (k0_h1 : k0_cond1 arg0 v1 = 1#1), 8 ∣ (k0_mult106 v3185).toNat) ∧
  (∀ (k0_h1 : k0_cond1 arg0 v1 = 1#1), ∀ a, (k0_off211 v3185) a + S8x128.size a ≤ S7688x256.size a) ∧
  (∀ (k0_h1 : k0_cond1 arg0 v1 = 1#1), ∀ a, (k0_off212 v3185) a + S8x128.size a ≤ S7688x256.size a)
theorem k0_mult106_dvd : ∀ (arg0 : BitVec 32) (v1 : BitVec 32) (v3185 : BitVec 32) (k0_hw106 : k0_chk106 arg0 v1 v3185), ∀ (k0_h1 : k0_cond1 arg0 v1 = 1#1), 8 ∣ (k0_mult106 v3185).toNat := fun arg0 v1 v3185 k0_hw106 k0_h1 => k0_hw106.1 k0_h1
theorem k0_off211_inb : ∀ (arg0 : BitVec 32) (v1 : BitVec 32) (v3185 : BitVec 32) (k0_hw106 : k0_chk106 arg0 v1 v3185), ∀ (k0_h1 : k0_cond1 arg0 v1 = 1#1), ∀ a, (k0_off211 v3185) a + S8x128.size a ≤ S7688x256.size a := fun arg0 v1 v3185 k0_hw106 k0_h1 => k0_hw106.2.1 k0_h1
theorem k0_off212_inb : ∀ (arg0 : BitVec 32) (v1 : BitVec 32) (v3185 : BitVec 32) (k0_hw106 : k0_chk106 arg0 v1 v3185), ∀ (k0_h1 : k0_cond1 arg0 v1 = 1#1), ∀ a, (k0_off212 v3185) a + S8x128.size a ≤ S7688x256.size a := fun arg0 v1 v3185 k0_hw106 k0_h1 => k0_hw106.2.2 k0_h1

def k0_mult107 (v3215 : BitVec 32) : BitVec 32 :=
  let c1_i32_762 : BitVec 32 := 1#32
  let v3235 : BitVec 32 := Scalar.shrsi v3215 c1_i32_762
  v3235

def k0_off213 (v3215 : BitVec 32) : Fin 2 → Nat :=
  let c1_i32_762 : BitVec 32 := 1#32
  let v3235 : BitVec 32 := Scalar.shrsi v3215 c1_i32_762
  let v3236 : BitVec 32 := v3235
  let v3237 : Index := Scalar.indexCast v3236
  let c0_763 : Index := 0#32
  ![v3237.toNat, 0]
def k0_off214 (v3215 : BitVec 32) : Fin 2 → Nat :=
  let c1_i32_762 : BitVec 32 := 1#32
  let v3235 : BitVec 32 := Scalar.shrsi v3215 c1_i32_762
  let v3236 : BitVec 32 := v3235
  let v3241 : Index := Scalar.indexCast v3236
  let c128_764 : Index := 128#32
  ![v3241.toNat, 128]

def k0_chk107 (arg0 : BitVec 32) (v1 : BitVec 32) (v3215 : BitVec 32) : Prop :=
  (∀ (k0_h1 : k0_cond1 arg0 v1 = 1#1), 8 ∣ (k0_mult107 v3215).toNat) ∧
  (∀ (k0_h1 : k0_cond1 arg0 v1 = 1#1), ∀ a, (k0_off213 v3215) a + S8x128.size a ≤ S7688x256.size a) ∧
  (∀ (k0_h1 : k0_cond1 arg0 v1 = 1#1), ∀ a, (k0_off214 v3215) a + S8x128.size a ≤ S7688x256.size a)
theorem k0_mult107_dvd : ∀ (arg0 : BitVec 32) (v1 : BitVec 32) (v3215 : BitVec 32) (k0_hw107 : k0_chk107 arg0 v1 v3215), ∀ (k0_h1 : k0_cond1 arg0 v1 = 1#1), 8 ∣ (k0_mult107 v3215).toNat := fun arg0 v1 v3215 k0_hw107 k0_h1 => k0_hw107.1 k0_h1
theorem k0_off213_inb : ∀ (arg0 : BitVec 32) (v1 : BitVec 32) (v3215 : BitVec 32) (k0_hw107 : k0_chk107 arg0 v1 v3215), ∀ (k0_h1 : k0_cond1 arg0 v1 = 1#1), ∀ a, (k0_off213 v3215) a + S8x128.size a ≤ S7688x256.size a := fun arg0 v1 v3215 k0_hw107 k0_h1 => k0_hw107.2.1 k0_h1
theorem k0_off214_inb : ∀ (arg0 : BitVec 32) (v1 : BitVec 32) (v3215 : BitVec 32) (k0_hw107 : k0_chk107 arg0 v1 v3215), ∀ (k0_h1 : k0_cond1 arg0 v1 = 1#1), ∀ a, (k0_off214 v3215) a + S8x128.size a ≤ S7688x256.size a := fun arg0 v1 v3215 k0_hw107 k0_h1 => k0_hw107.2.2 k0_h1

def k0_mult108 (v3245 : BitVec 32) : BitVec 32 :=
  let c1_i32_769 : BitVec 32 := 1#32
  let v3265 : BitVec 32 := Scalar.shrsi v3245 c1_i32_769
  v3265

def k0_off215 (v3245 : BitVec 32) : Fin 2 → Nat :=
  let c1_i32_769 : BitVec 32 := 1#32
  let v3265 : BitVec 32 := Scalar.shrsi v3245 c1_i32_769
  let v3266 : BitVec 32 := v3265
  let v3267 : Index := Scalar.indexCast v3266
  let c0_770 : Index := 0#32
  ![v3267.toNat, 0]
def k0_off216 (v3245 : BitVec 32) : Fin 2 → Nat :=
  let c1_i32_769 : BitVec 32 := 1#32
  let v3265 : BitVec 32 := Scalar.shrsi v3245 c1_i32_769
  let v3266 : BitVec 32 := v3265
  let v3271 : Index := Scalar.indexCast v3266
  let c128_771 : Index := 128#32
  ![v3271.toNat, 128]

def k0_chk108 (arg0 : BitVec 32) (v1 : BitVec 32) (v3245 : BitVec 32) : Prop :=
  (∀ (k0_h1 : k0_cond1 arg0 v1 = 1#1), 8 ∣ (k0_mult108 v3245).toNat) ∧
  (∀ (k0_h1 : k0_cond1 arg0 v1 = 1#1), ∀ a, (k0_off215 v3245) a + S8x128.size a ≤ S7688x256.size a) ∧
  (∀ (k0_h1 : k0_cond1 arg0 v1 = 1#1), ∀ a, (k0_off216 v3245) a + S8x128.size a ≤ S7688x256.size a)
theorem k0_mult108_dvd : ∀ (arg0 : BitVec 32) (v1 : BitVec 32) (v3245 : BitVec 32) (k0_hw108 : k0_chk108 arg0 v1 v3245), ∀ (k0_h1 : k0_cond1 arg0 v1 = 1#1), 8 ∣ (k0_mult108 v3245).toNat := fun arg0 v1 v3245 k0_hw108 k0_h1 => k0_hw108.1 k0_h1
theorem k0_off215_inb : ∀ (arg0 : BitVec 32) (v1 : BitVec 32) (v3245 : BitVec 32) (k0_hw108 : k0_chk108 arg0 v1 v3245), ∀ (k0_h1 : k0_cond1 arg0 v1 = 1#1), ∀ a, (k0_off215 v3245) a + S8x128.size a ≤ S7688x256.size a := fun arg0 v1 v3245 k0_hw108 k0_h1 => k0_hw108.2.1 k0_h1
theorem k0_off216_inb : ∀ (arg0 : BitVec 32) (v1 : BitVec 32) (v3245 : BitVec 32) (k0_hw108 : k0_chk108 arg0 v1 v3245), ∀ (k0_h1 : k0_cond1 arg0 v1 = 1#1), ∀ a, (k0_off216 v3245) a + S8x128.size a ≤ S7688x256.size a := fun arg0 v1 v3245 k0_hw108 k0_h1 => k0_hw108.2.2 k0_h1

def k0_mult109 (v3275 : BitVec 32) : BitVec 32 :=
  let c1_i32_776 : BitVec 32 := 1#32
  let v3295 : BitVec 32 := Scalar.shrsi v3275 c1_i32_776
  v3295

def k0_off217 (v3275 : BitVec 32) : Fin 2 → Nat :=
  let c1_i32_776 : BitVec 32 := 1#32
  let v3295 : BitVec 32 := Scalar.shrsi v3275 c1_i32_776
  let v3296 : BitVec 32 := v3295
  let v3297 : Index := Scalar.indexCast v3296
  let c0_777 : Index := 0#32
  ![v3297.toNat, 0]
def k0_off218 (v3275 : BitVec 32) : Fin 2 → Nat :=
  let c1_i32_776 : BitVec 32 := 1#32
  let v3295 : BitVec 32 := Scalar.shrsi v3275 c1_i32_776
  let v3296 : BitVec 32 := v3295
  let v3301 : Index := Scalar.indexCast v3296
  let c128_778 : Index := 128#32
  ![v3301.toNat, 128]

def k0_chk109 (arg0 : BitVec 32) (v1 : BitVec 32) (v3275 : BitVec 32) : Prop :=
  (∀ (k0_h1 : k0_cond1 arg0 v1 = 1#1), 8 ∣ (k0_mult109 v3275).toNat) ∧
  (∀ (k0_h1 : k0_cond1 arg0 v1 = 1#1), ∀ a, (k0_off217 v3275) a + S8x128.size a ≤ S7688x256.size a) ∧
  (∀ (k0_h1 : k0_cond1 arg0 v1 = 1#1), ∀ a, (k0_off218 v3275) a + S8x128.size a ≤ S7688x256.size a)
theorem k0_mult109_dvd : ∀ (arg0 : BitVec 32) (v1 : BitVec 32) (v3275 : BitVec 32) (k0_hw109 : k0_chk109 arg0 v1 v3275), ∀ (k0_h1 : k0_cond1 arg0 v1 = 1#1), 8 ∣ (k0_mult109 v3275).toNat := fun arg0 v1 v3275 k0_hw109 k0_h1 => k0_hw109.1 k0_h1
theorem k0_off217_inb : ∀ (arg0 : BitVec 32) (v1 : BitVec 32) (v3275 : BitVec 32) (k0_hw109 : k0_chk109 arg0 v1 v3275), ∀ (k0_h1 : k0_cond1 arg0 v1 = 1#1), ∀ a, (k0_off217 v3275) a + S8x128.size a ≤ S7688x256.size a := fun arg0 v1 v3275 k0_hw109 k0_h1 => k0_hw109.2.1 k0_h1
theorem k0_off218_inb : ∀ (arg0 : BitVec 32) (v1 : BitVec 32) (v3275 : BitVec 32) (k0_hw109 : k0_chk109 arg0 v1 v3275), ∀ (k0_h1 : k0_cond1 arg0 v1 = 1#1), ∀ a, (k0_off218 v3275) a + S8x128.size a ≤ S7688x256.size a := fun arg0 v1 v3275 k0_hw109 k0_h1 => k0_hw109.2.2 k0_h1

def k0_mult110 (v3305 : BitVec 32) : BitVec 32 :=
  let c1_i32_783 : BitVec 32 := 1#32
  let v3325 : BitVec 32 := Scalar.shrsi v3305 c1_i32_783
  v3325

def k0_off219 (v3305 : BitVec 32) : Fin 2 → Nat :=
  let c1_i32_783 : BitVec 32 := 1#32
  let v3325 : BitVec 32 := Scalar.shrsi v3305 c1_i32_783
  let v3326 : BitVec 32 := v3325
  let v3327 : Index := Scalar.indexCast v3326
  let c0_784 : Index := 0#32
  ![v3327.toNat, 0]
def k0_off220 (v3305 : BitVec 32) : Fin 2 → Nat :=
  let c1_i32_783 : BitVec 32 := 1#32
  let v3325 : BitVec 32 := Scalar.shrsi v3305 c1_i32_783
  let v3326 : BitVec 32 := v3325
  let v3331 : Index := Scalar.indexCast v3326
  let c128_785 : Index := 128#32
  ![v3331.toNat, 128]

def k0_chk110 (arg0 : BitVec 32) (v1 : BitVec 32) (v3305 : BitVec 32) : Prop :=
  (∀ (k0_h1 : k0_cond1 arg0 v1 = 1#1), 8 ∣ (k0_mult110 v3305).toNat) ∧
  (∀ (k0_h1 : k0_cond1 arg0 v1 = 1#1), ∀ a, (k0_off219 v3305) a + S8x128.size a ≤ S7688x256.size a) ∧
  (∀ (k0_h1 : k0_cond1 arg0 v1 = 1#1), ∀ a, (k0_off220 v3305) a + S8x128.size a ≤ S7688x256.size a)
theorem k0_mult110_dvd : ∀ (arg0 : BitVec 32) (v1 : BitVec 32) (v3305 : BitVec 32) (k0_hw110 : k0_chk110 arg0 v1 v3305), ∀ (k0_h1 : k0_cond1 arg0 v1 = 1#1), 8 ∣ (k0_mult110 v3305).toNat := fun arg0 v1 v3305 k0_hw110 k0_h1 => k0_hw110.1 k0_h1
theorem k0_off219_inb : ∀ (arg0 : BitVec 32) (v1 : BitVec 32) (v3305 : BitVec 32) (k0_hw110 : k0_chk110 arg0 v1 v3305), ∀ (k0_h1 : k0_cond1 arg0 v1 = 1#1), ∀ a, (k0_off219 v3305) a + S8x128.size a ≤ S7688x256.size a := fun arg0 v1 v3305 k0_hw110 k0_h1 => k0_hw110.2.1 k0_h1
theorem k0_off220_inb : ∀ (arg0 : BitVec 32) (v1 : BitVec 32) (v3305 : BitVec 32) (k0_hw110 : k0_chk110 arg0 v1 v3305), ∀ (k0_h1 : k0_cond1 arg0 v1 = 1#1), ∀ a, (k0_off220 v3305) a + S8x128.size a ≤ S7688x256.size a := fun arg0 v1 v3305 k0_hw110 k0_h1 => k0_hw110.2.2 k0_h1

def k0_mult111 (v3335 : BitVec 32) : BitVec 32 :=
  let c1_i32_790 : BitVec 32 := 1#32
  let v3355 : BitVec 32 := Scalar.shrsi v3335 c1_i32_790
  v3355

def k0_off221 (v3335 : BitVec 32) : Fin 2 → Nat :=
  let c1_i32_790 : BitVec 32 := 1#32
  let v3355 : BitVec 32 := Scalar.shrsi v3335 c1_i32_790
  let v3356 : BitVec 32 := v3355
  let v3357 : Index := Scalar.indexCast v3356
  let c0_791 : Index := 0#32
  ![v3357.toNat, 0]
def k0_off222 (v3335 : BitVec 32) : Fin 2 → Nat :=
  let c1_i32_790 : BitVec 32 := 1#32
  let v3355 : BitVec 32 := Scalar.shrsi v3335 c1_i32_790
  let v3356 : BitVec 32 := v3355
  let v3361 : Index := Scalar.indexCast v3356
  let c128_792 : Index := 128#32
  ![v3361.toNat, 128]

def k0_chk111 (arg0 : BitVec 32) (v1 : BitVec 32) (v3335 : BitVec 32) : Prop :=
  (∀ (k0_h1 : k0_cond1 arg0 v1 = 1#1), 8 ∣ (k0_mult111 v3335).toNat) ∧
  (∀ (k0_h1 : k0_cond1 arg0 v1 = 1#1), ∀ a, (k0_off221 v3335) a + S8x128.size a ≤ S7688x256.size a) ∧
  (∀ (k0_h1 : k0_cond1 arg0 v1 = 1#1), ∀ a, (k0_off222 v3335) a + S8x128.size a ≤ S7688x256.size a)
theorem k0_mult111_dvd : ∀ (arg0 : BitVec 32) (v1 : BitVec 32) (v3335 : BitVec 32) (k0_hw111 : k0_chk111 arg0 v1 v3335), ∀ (k0_h1 : k0_cond1 arg0 v1 = 1#1), 8 ∣ (k0_mult111 v3335).toNat := fun arg0 v1 v3335 k0_hw111 k0_h1 => k0_hw111.1 k0_h1
theorem k0_off221_inb : ∀ (arg0 : BitVec 32) (v1 : BitVec 32) (v3335 : BitVec 32) (k0_hw111 : k0_chk111 arg0 v1 v3335), ∀ (k0_h1 : k0_cond1 arg0 v1 = 1#1), ∀ a, (k0_off221 v3335) a + S8x128.size a ≤ S7688x256.size a := fun arg0 v1 v3335 k0_hw111 k0_h1 => k0_hw111.2.1 k0_h1
theorem k0_off222_inb : ∀ (arg0 : BitVec 32) (v1 : BitVec 32) (v3335 : BitVec 32) (k0_hw111 : k0_chk111 arg0 v1 v3335), ∀ (k0_h1 : k0_cond1 arg0 v1 = 1#1), ∀ a, (k0_off222 v3335) a + S8x128.size a ≤ S7688x256.size a := fun arg0 v1 v3335 k0_hw111 k0_h1 => k0_hw111.2.2 k0_h1

def k0_mult112 (v3365 : BitVec 32) : BitVec 32 :=
  let c1_i32_797 : BitVec 32 := 1#32
  let v3385 : BitVec 32 := Scalar.shrsi v3365 c1_i32_797
  v3385

def k0_off223 (v3365 : BitVec 32) : Fin 2 → Nat :=
  let c1_i32_797 : BitVec 32 := 1#32
  let v3385 : BitVec 32 := Scalar.shrsi v3365 c1_i32_797
  let v3386 : BitVec 32 := v3385
  let v3387 : Index := Scalar.indexCast v3386
  let c0_798 : Index := 0#32
  ![v3387.toNat, 0]
def k0_off224 (v3365 : BitVec 32) : Fin 2 → Nat :=
  let c1_i32_797 : BitVec 32 := 1#32
  let v3385 : BitVec 32 := Scalar.shrsi v3365 c1_i32_797
  let v3386 : BitVec 32 := v3385
  let v3391 : Index := Scalar.indexCast v3386
  let c128_799 : Index := 128#32
  ![v3391.toNat, 128]

def k0_chk112 (arg0 : BitVec 32) (v1 : BitVec 32) (v3365 : BitVec 32) : Prop :=
  (∀ (k0_h1 : k0_cond1 arg0 v1 = 1#1), 8 ∣ (k0_mult112 v3365).toNat) ∧
  (∀ (k0_h1 : k0_cond1 arg0 v1 = 1#1), ∀ a, (k0_off223 v3365) a + S8x128.size a ≤ S7688x256.size a) ∧
  (∀ (k0_h1 : k0_cond1 arg0 v1 = 1#1), ∀ a, (k0_off224 v3365) a + S8x128.size a ≤ S7688x256.size a)
theorem k0_mult112_dvd : ∀ (arg0 : BitVec 32) (v1 : BitVec 32) (v3365 : BitVec 32) (k0_hw112 : k0_chk112 arg0 v1 v3365), ∀ (k0_h1 : k0_cond1 arg0 v1 = 1#1), 8 ∣ (k0_mult112 v3365).toNat := fun arg0 v1 v3365 k0_hw112 k0_h1 => k0_hw112.1 k0_h1
theorem k0_off223_inb : ∀ (arg0 : BitVec 32) (v1 : BitVec 32) (v3365 : BitVec 32) (k0_hw112 : k0_chk112 arg0 v1 v3365), ∀ (k0_h1 : k0_cond1 arg0 v1 = 1#1), ∀ a, (k0_off223 v3365) a + S8x128.size a ≤ S7688x256.size a := fun arg0 v1 v3365 k0_hw112 k0_h1 => k0_hw112.2.1 k0_h1
theorem k0_off224_inb : ∀ (arg0 : BitVec 32) (v1 : BitVec 32) (v3365 : BitVec 32) (k0_hw112 : k0_chk112 arg0 v1 v3365), ∀ (k0_h1 : k0_cond1 arg0 v1 = 1#1), ∀ a, (k0_off224 v3365) a + S8x128.size a ≤ S7688x256.size a := fun arg0 v1 v3365 k0_hw112 k0_h1 => k0_hw112.2.2 k0_h1

def k0_mult113 (v3395 : BitVec 32) : BitVec 32 :=
  let c1_i32_804 : BitVec 32 := 1#32
  let v3415 : BitVec 32 := Scalar.shrsi v3395 c1_i32_804
  v3415

def k0_off225 (v3395 : BitVec 32) : Fin 2 → Nat :=
  let c1_i32_804 : BitVec 32 := 1#32
  let v3415 : BitVec 32 := Scalar.shrsi v3395 c1_i32_804
  let v3416 : BitVec 32 := v3415
  let v3417 : Index := Scalar.indexCast v3416
  let c0_805 : Index := 0#32
  ![v3417.toNat, 0]
def k0_off226 (v3395 : BitVec 32) : Fin 2 → Nat :=
  let c1_i32_804 : BitVec 32 := 1#32
  let v3415 : BitVec 32 := Scalar.shrsi v3395 c1_i32_804
  let v3416 : BitVec 32 := v3415
  let v3421 : Index := Scalar.indexCast v3416
  let c128_806 : Index := 128#32
  ![v3421.toNat, 128]

def k0_chk113 (arg0 : BitVec 32) (v1 : BitVec 32) (v3395 : BitVec 32) : Prop :=
  (∀ (k0_h1 : k0_cond1 arg0 v1 = 1#1), 8 ∣ (k0_mult113 v3395).toNat) ∧
  (∀ (k0_h1 : k0_cond1 arg0 v1 = 1#1), ∀ a, (k0_off225 v3395) a + S8x128.size a ≤ S7688x256.size a) ∧
  (∀ (k0_h1 : k0_cond1 arg0 v1 = 1#1), ∀ a, (k0_off226 v3395) a + S8x128.size a ≤ S7688x256.size a)
theorem k0_mult113_dvd : ∀ (arg0 : BitVec 32) (v1 : BitVec 32) (v3395 : BitVec 32) (k0_hw113 : k0_chk113 arg0 v1 v3395), ∀ (k0_h1 : k0_cond1 arg0 v1 = 1#1), 8 ∣ (k0_mult113 v3395).toNat := fun arg0 v1 v3395 k0_hw113 k0_h1 => k0_hw113.1 k0_h1
theorem k0_off225_inb : ∀ (arg0 : BitVec 32) (v1 : BitVec 32) (v3395 : BitVec 32) (k0_hw113 : k0_chk113 arg0 v1 v3395), ∀ (k0_h1 : k0_cond1 arg0 v1 = 1#1), ∀ a, (k0_off225 v3395) a + S8x128.size a ≤ S7688x256.size a := fun arg0 v1 v3395 k0_hw113 k0_h1 => k0_hw113.2.1 k0_h1
theorem k0_off226_inb : ∀ (arg0 : BitVec 32) (v1 : BitVec 32) (v3395 : BitVec 32) (k0_hw113 : k0_chk113 arg0 v1 v3395), ∀ (k0_h1 : k0_cond1 arg0 v1 = 1#1), ∀ a, (k0_off226 v3395) a + S8x128.size a ≤ S7688x256.size a := fun arg0 v1 v3395 k0_hw113 k0_h1 => k0_hw113.2.2 k0_h1

def k0_mult114 (v3425 : BitVec 32) : BitVec 32 :=
  let c1_i32_811 : BitVec 32 := 1#32
  let v3445 : BitVec 32 := Scalar.shrsi v3425 c1_i32_811
  v3445

def k0_off227 (v3425 : BitVec 32) : Fin 2 → Nat :=
  let c1_i32_811 : BitVec 32 := 1#32
  let v3445 : BitVec 32 := Scalar.shrsi v3425 c1_i32_811
  let v3446 : BitVec 32 := v3445
  let v3447 : Index := Scalar.indexCast v3446
  let c0_812 : Index := 0#32
  ![v3447.toNat, 0]
def k0_off228 (v3425 : BitVec 32) : Fin 2 → Nat :=
  let c1_i32_811 : BitVec 32 := 1#32
  let v3445 : BitVec 32 := Scalar.shrsi v3425 c1_i32_811
  let v3446 : BitVec 32 := v3445
  let v3451 : Index := Scalar.indexCast v3446
  let c128_813 : Index := 128#32
  ![v3451.toNat, 128]

def k0_chk114 (arg0 : BitVec 32) (v1 : BitVec 32) (v3425 : BitVec 32) : Prop :=
  (∀ (k0_h1 : k0_cond1 arg0 v1 = 1#1), 8 ∣ (k0_mult114 v3425).toNat) ∧
  (∀ (k0_h1 : k0_cond1 arg0 v1 = 1#1), ∀ a, (k0_off227 v3425) a + S8x128.size a ≤ S7688x256.size a) ∧
  (∀ (k0_h1 : k0_cond1 arg0 v1 = 1#1), ∀ a, (k0_off228 v3425) a + S8x128.size a ≤ S7688x256.size a)
theorem k0_mult114_dvd : ∀ (arg0 : BitVec 32) (v1 : BitVec 32) (v3425 : BitVec 32) (k0_hw114 : k0_chk114 arg0 v1 v3425), ∀ (k0_h1 : k0_cond1 arg0 v1 = 1#1), 8 ∣ (k0_mult114 v3425).toNat := fun arg0 v1 v3425 k0_hw114 k0_h1 => k0_hw114.1 k0_h1
theorem k0_off227_inb : ∀ (arg0 : BitVec 32) (v1 : BitVec 32) (v3425 : BitVec 32) (k0_hw114 : k0_chk114 arg0 v1 v3425), ∀ (k0_h1 : k0_cond1 arg0 v1 = 1#1), ∀ a, (k0_off227 v3425) a + S8x128.size a ≤ S7688x256.size a := fun arg0 v1 v3425 k0_hw114 k0_h1 => k0_hw114.2.1 k0_h1
theorem k0_off228_inb : ∀ (arg0 : BitVec 32) (v1 : BitVec 32) (v3425 : BitVec 32) (k0_hw114 : k0_chk114 arg0 v1 v3425), ∀ (k0_h1 : k0_cond1 arg0 v1 = 1#1), ∀ a, (k0_off228 v3425) a + S8x128.size a ≤ S7688x256.size a := fun arg0 v1 v3425 k0_hw114 k0_h1 => k0_hw114.2.2 k0_h1

def k0_mult115 (v3455 : BitVec 32) : BitVec 32 :=
  let c1_i32_818 : BitVec 32 := 1#32
  let v3475 : BitVec 32 := Scalar.shrsi v3455 c1_i32_818
  v3475

def k0_off229 (v3455 : BitVec 32) : Fin 2 → Nat :=
  let c1_i32_818 : BitVec 32 := 1#32
  let v3475 : BitVec 32 := Scalar.shrsi v3455 c1_i32_818
  let v3476 : BitVec 32 := v3475
  let v3477 : Index := Scalar.indexCast v3476
  let c0_819 : Index := 0#32
  ![v3477.toNat, 0]
def k0_off230 (v3455 : BitVec 32) : Fin 2 → Nat :=
  let c1_i32_818 : BitVec 32 := 1#32
  let v3475 : BitVec 32 := Scalar.shrsi v3455 c1_i32_818
  let v3476 : BitVec 32 := v3475
  let v3481 : Index := Scalar.indexCast v3476
  let c128_820 : Index := 128#32
  ![v3481.toNat, 128]

def k0_chk115 (arg0 : BitVec 32) (v1 : BitVec 32) (v3455 : BitVec 32) : Prop :=
  (∀ (k0_h1 : k0_cond1 arg0 v1 = 1#1), 8 ∣ (k0_mult115 v3455).toNat) ∧
  (∀ (k0_h1 : k0_cond1 arg0 v1 = 1#1), ∀ a, (k0_off229 v3455) a + S8x128.size a ≤ S7688x256.size a) ∧
  (∀ (k0_h1 : k0_cond1 arg0 v1 = 1#1), ∀ a, (k0_off230 v3455) a + S8x128.size a ≤ S7688x256.size a)
theorem k0_mult115_dvd : ∀ (arg0 : BitVec 32) (v1 : BitVec 32) (v3455 : BitVec 32) (k0_hw115 : k0_chk115 arg0 v1 v3455), ∀ (k0_h1 : k0_cond1 arg0 v1 = 1#1), 8 ∣ (k0_mult115 v3455).toNat := fun arg0 v1 v3455 k0_hw115 k0_h1 => k0_hw115.1 k0_h1
theorem k0_off229_inb : ∀ (arg0 : BitVec 32) (v1 : BitVec 32) (v3455 : BitVec 32) (k0_hw115 : k0_chk115 arg0 v1 v3455), ∀ (k0_h1 : k0_cond1 arg0 v1 = 1#1), ∀ a, (k0_off229 v3455) a + S8x128.size a ≤ S7688x256.size a := fun arg0 v1 v3455 k0_hw115 k0_h1 => k0_hw115.2.1 k0_h1
theorem k0_off230_inb : ∀ (arg0 : BitVec 32) (v1 : BitVec 32) (v3455 : BitVec 32) (k0_hw115 : k0_chk115 arg0 v1 v3455), ∀ (k0_h1 : k0_cond1 arg0 v1 = 1#1), ∀ a, (k0_off230 v3455) a + S8x128.size a ≤ S7688x256.size a := fun arg0 v1 v3455 k0_hw115 k0_h1 => k0_hw115.2.2 k0_h1

def k0_mult116 (v3485 : BitVec 32) : BitVec 32 :=
  let c1_i32_825 : BitVec 32 := 1#32
  let v3505 : BitVec 32 := Scalar.shrsi v3485 c1_i32_825
  v3505

def k0_off231 (v3485 : BitVec 32) : Fin 2 → Nat :=
  let c1_i32_825 : BitVec 32 := 1#32
  let v3505 : BitVec 32 := Scalar.shrsi v3485 c1_i32_825
  let v3506 : BitVec 32 := v3505
  let v3507 : Index := Scalar.indexCast v3506
  let c0_826 : Index := 0#32
  ![v3507.toNat, 0]
def k0_off232 (v3485 : BitVec 32) : Fin 2 → Nat :=
  let c1_i32_825 : BitVec 32 := 1#32
  let v3505 : BitVec 32 := Scalar.shrsi v3485 c1_i32_825
  let v3506 : BitVec 32 := v3505
  let v3511 : Index := Scalar.indexCast v3506
  let c128_827 : Index := 128#32
  ![v3511.toNat, 128]

def k0_chk116 (arg0 : BitVec 32) (v1 : BitVec 32) (v3485 : BitVec 32) : Prop :=
  (∀ (k0_h1 : k0_cond1 arg0 v1 = 1#1), 8 ∣ (k0_mult116 v3485).toNat) ∧
  (∀ (k0_h1 : k0_cond1 arg0 v1 = 1#1), ∀ a, (k0_off231 v3485) a + S8x128.size a ≤ S7688x256.size a) ∧
  (∀ (k0_h1 : k0_cond1 arg0 v1 = 1#1), ∀ a, (k0_off232 v3485) a + S8x128.size a ≤ S7688x256.size a)
theorem k0_mult116_dvd : ∀ (arg0 : BitVec 32) (v1 : BitVec 32) (v3485 : BitVec 32) (k0_hw116 : k0_chk116 arg0 v1 v3485), ∀ (k0_h1 : k0_cond1 arg0 v1 = 1#1), 8 ∣ (k0_mult116 v3485).toNat := fun arg0 v1 v3485 k0_hw116 k0_h1 => k0_hw116.1 k0_h1
theorem k0_off231_inb : ∀ (arg0 : BitVec 32) (v1 : BitVec 32) (v3485 : BitVec 32) (k0_hw116 : k0_chk116 arg0 v1 v3485), ∀ (k0_h1 : k0_cond1 arg0 v1 = 1#1), ∀ a, (k0_off231 v3485) a + S8x128.size a ≤ S7688x256.size a := fun arg0 v1 v3485 k0_hw116 k0_h1 => k0_hw116.2.1 k0_h1
theorem k0_off232_inb : ∀ (arg0 : BitVec 32) (v1 : BitVec 32) (v3485 : BitVec 32) (k0_hw116 : k0_chk116 arg0 v1 v3485), ∀ (k0_h1 : k0_cond1 arg0 v1 = 1#1), ∀ a, (k0_off232 v3485) a + S8x128.size a ≤ S7688x256.size a := fun arg0 v1 v3485 k0_hw116 k0_h1 => k0_hw116.2.2 k0_h1

def k0_mult117 (v3515 : BitVec 32) : BitVec 32 :=
  let c1_i32_832 : BitVec 32 := 1#32
  let v3535 : BitVec 32 := Scalar.shrsi v3515 c1_i32_832
  v3535

def k0_off233 (v3515 : BitVec 32) : Fin 2 → Nat :=
  let c1_i32_832 : BitVec 32 := 1#32
  let v3535 : BitVec 32 := Scalar.shrsi v3515 c1_i32_832
  let v3536 : BitVec 32 := v3535
  let v3537 : Index := Scalar.indexCast v3536
  let c0_833 : Index := 0#32
  ![v3537.toNat, 0]
def k0_off234 (v3515 : BitVec 32) : Fin 2 → Nat :=
  let c1_i32_832 : BitVec 32 := 1#32
  let v3535 : BitVec 32 := Scalar.shrsi v3515 c1_i32_832
  let v3536 : BitVec 32 := v3535
  let v3541 : Index := Scalar.indexCast v3536
  let c128_834 : Index := 128#32
  ![v3541.toNat, 128]

def k0_chk117 (arg0 : BitVec 32) (v1 : BitVec 32) (v3515 : BitVec 32) : Prop :=
  (∀ (k0_h1 : k0_cond1 arg0 v1 = 1#1), 8 ∣ (k0_mult117 v3515).toNat) ∧
  (∀ (k0_h1 : k0_cond1 arg0 v1 = 1#1), ∀ a, (k0_off233 v3515) a + S8x128.size a ≤ S7688x256.size a) ∧
  (∀ (k0_h1 : k0_cond1 arg0 v1 = 1#1), ∀ a, (k0_off234 v3515) a + S8x128.size a ≤ S7688x256.size a)
theorem k0_mult117_dvd : ∀ (arg0 : BitVec 32) (v1 : BitVec 32) (v3515 : BitVec 32) (k0_hw117 : k0_chk117 arg0 v1 v3515), ∀ (k0_h1 : k0_cond1 arg0 v1 = 1#1), 8 ∣ (k0_mult117 v3515).toNat := fun arg0 v1 v3515 k0_hw117 k0_h1 => k0_hw117.1 k0_h1
theorem k0_off233_inb : ∀ (arg0 : BitVec 32) (v1 : BitVec 32) (v3515 : BitVec 32) (k0_hw117 : k0_chk117 arg0 v1 v3515), ∀ (k0_h1 : k0_cond1 arg0 v1 = 1#1), ∀ a, (k0_off233 v3515) a + S8x128.size a ≤ S7688x256.size a := fun arg0 v1 v3515 k0_hw117 k0_h1 => k0_hw117.2.1 k0_h1
theorem k0_off234_inb : ∀ (arg0 : BitVec 32) (v1 : BitVec 32) (v3515 : BitVec 32) (k0_hw117 : k0_chk117 arg0 v1 v3515), ∀ (k0_h1 : k0_cond1 arg0 v1 = 1#1), ∀ a, (k0_off234 v3515) a + S8x128.size a ≤ S7688x256.size a := fun arg0 v1 v3515 k0_hw117 k0_h1 => k0_hw117.2.2 k0_h1

def k0_mult118 (v3545 : BitVec 32) : BitVec 32 :=
  let c1_i32_839 : BitVec 32 := 1#32
  let v3565 : BitVec 32 := Scalar.shrsi v3545 c1_i32_839
  v3565

def k0_off235 (v3545 : BitVec 32) : Fin 2 → Nat :=
  let c1_i32_839 : BitVec 32 := 1#32
  let v3565 : BitVec 32 := Scalar.shrsi v3545 c1_i32_839
  let v3566 : BitVec 32 := v3565
  let v3567 : Index := Scalar.indexCast v3566
  let c0_840 : Index := 0#32
  ![v3567.toNat, 0]
def k0_off236 (v3545 : BitVec 32) : Fin 2 → Nat :=
  let c1_i32_839 : BitVec 32 := 1#32
  let v3565 : BitVec 32 := Scalar.shrsi v3545 c1_i32_839
  let v3566 : BitVec 32 := v3565
  let v3571 : Index := Scalar.indexCast v3566
  let c128_841 : Index := 128#32
  ![v3571.toNat, 128]

def k0_chk118 (arg0 : BitVec 32) (v1 : BitVec 32) (v3545 : BitVec 32) : Prop :=
  (∀ (k0_h1 : k0_cond1 arg0 v1 = 1#1), 8 ∣ (k0_mult118 v3545).toNat) ∧
  (∀ (k0_h1 : k0_cond1 arg0 v1 = 1#1), ∀ a, (k0_off235 v3545) a + S8x128.size a ≤ S7688x256.size a) ∧
  (∀ (k0_h1 : k0_cond1 arg0 v1 = 1#1), ∀ a, (k0_off236 v3545) a + S8x128.size a ≤ S7688x256.size a)
theorem k0_mult118_dvd : ∀ (arg0 : BitVec 32) (v1 : BitVec 32) (v3545 : BitVec 32) (k0_hw118 : k0_chk118 arg0 v1 v3545), ∀ (k0_h1 : k0_cond1 arg0 v1 = 1#1), 8 ∣ (k0_mult118 v3545).toNat := fun arg0 v1 v3545 k0_hw118 k0_h1 => k0_hw118.1 k0_h1
theorem k0_off235_inb : ∀ (arg0 : BitVec 32) (v1 : BitVec 32) (v3545 : BitVec 32) (k0_hw118 : k0_chk118 arg0 v1 v3545), ∀ (k0_h1 : k0_cond1 arg0 v1 = 1#1), ∀ a, (k0_off235 v3545) a + S8x128.size a ≤ S7688x256.size a := fun arg0 v1 v3545 k0_hw118 k0_h1 => k0_hw118.2.1 k0_h1
theorem k0_off236_inb : ∀ (arg0 : BitVec 32) (v1 : BitVec 32) (v3545 : BitVec 32) (k0_hw118 : k0_chk118 arg0 v1 v3545), ∀ (k0_h1 : k0_cond1 arg0 v1 = 1#1), ∀ a, (k0_off236 v3545) a + S8x128.size a ≤ S7688x256.size a := fun arg0 v1 v3545 k0_hw118 k0_h1 => k0_hw118.2.2 k0_h1

def k0_mult119 (v3575 : BitVec 32) : BitVec 32 :=
  let c1_i32_846 : BitVec 32 := 1#32
  let v3595 : BitVec 32 := Scalar.shrsi v3575 c1_i32_846
  v3595

def k0_off237 (v3575 : BitVec 32) : Fin 2 → Nat :=
  let c1_i32_846 : BitVec 32 := 1#32
  let v3595 : BitVec 32 := Scalar.shrsi v3575 c1_i32_846
  let v3596 : BitVec 32 := v3595
  let v3597 : Index := Scalar.indexCast v3596
  let c0_847 : Index := 0#32
  ![v3597.toNat, 0]
def k0_off238 (v3575 : BitVec 32) : Fin 2 → Nat :=
  let c1_i32_846 : BitVec 32 := 1#32
  let v3595 : BitVec 32 := Scalar.shrsi v3575 c1_i32_846
  let v3596 : BitVec 32 := v3595
  let v3601 : Index := Scalar.indexCast v3596
  let c128_848 : Index := 128#32
  ![v3601.toNat, 128]

def k0_chk119 (arg0 : BitVec 32) (v1 : BitVec 32) (v3575 : BitVec 32) : Prop :=
  (∀ (k0_h1 : k0_cond1 arg0 v1 = 1#1), 8 ∣ (k0_mult119 v3575).toNat) ∧
  (∀ (k0_h1 : k0_cond1 arg0 v1 = 1#1), ∀ a, (k0_off237 v3575) a + S8x128.size a ≤ S7688x256.size a) ∧
  (∀ (k0_h1 : k0_cond1 arg0 v1 = 1#1), ∀ a, (k0_off238 v3575) a + S8x128.size a ≤ S7688x256.size a)
theorem k0_mult119_dvd : ∀ (arg0 : BitVec 32) (v1 : BitVec 32) (v3575 : BitVec 32) (k0_hw119 : k0_chk119 arg0 v1 v3575), ∀ (k0_h1 : k0_cond1 arg0 v1 = 1#1), 8 ∣ (k0_mult119 v3575).toNat := fun arg0 v1 v3575 k0_hw119 k0_h1 => k0_hw119.1 k0_h1
theorem k0_off237_inb : ∀ (arg0 : BitVec 32) (v1 : BitVec 32) (v3575 : BitVec 32) (k0_hw119 : k0_chk119 arg0 v1 v3575), ∀ (k0_h1 : k0_cond1 arg0 v1 = 1#1), ∀ a, (k0_off237 v3575) a + S8x128.size a ≤ S7688x256.size a := fun arg0 v1 v3575 k0_hw119 k0_h1 => k0_hw119.2.1 k0_h1
theorem k0_off238_inb : ∀ (arg0 : BitVec 32) (v1 : BitVec 32) (v3575 : BitVec 32) (k0_hw119 : k0_chk119 arg0 v1 v3575), ∀ (k0_h1 : k0_cond1 arg0 v1 = 1#1), ∀ a, (k0_off238 v3575) a + S8x128.size a ≤ S7688x256.size a := fun arg0 v1 v3575 k0_hw119 k0_h1 => k0_hw119.2.2 k0_h1

def k0_mult120 (v3605 : BitVec 32) : BitVec 32 :=
  let c1_i32_853 : BitVec 32 := 1#32
  let v3625 : BitVec 32 := Scalar.shrsi v3605 c1_i32_853
  v3625

def k0_off239 (v3605 : BitVec 32) : Fin 2 → Nat :=
  let c1_i32_853 : BitVec 32 := 1#32
  let v3625 : BitVec 32 := Scalar.shrsi v3605 c1_i32_853
  let v3626 : BitVec 32 := v3625
  let v3627 : Index := Scalar.indexCast v3626
  let c0_854 : Index := 0#32
  ![v3627.toNat, 0]
def k0_off240 (v3605 : BitVec 32) : Fin 2 → Nat :=
  let c1_i32_853 : BitVec 32 := 1#32
  let v3625 : BitVec 32 := Scalar.shrsi v3605 c1_i32_853
  let v3626 : BitVec 32 := v3625
  let v3631 : Index := Scalar.indexCast v3626
  let c128_855 : Index := 128#32
  ![v3631.toNat, 128]

def k0_chk120 (arg0 : BitVec 32) (v1 : BitVec 32) (v3605 : BitVec 32) : Prop :=
  (∀ (k0_h1 : k0_cond1 arg0 v1 = 1#1), 8 ∣ (k0_mult120 v3605).toNat) ∧
  (∀ (k0_h1 : k0_cond1 arg0 v1 = 1#1), ∀ a, (k0_off239 v3605) a + S8x128.size a ≤ S7688x256.size a) ∧
  (∀ (k0_h1 : k0_cond1 arg0 v1 = 1#1), ∀ a, (k0_off240 v3605) a + S8x128.size a ≤ S7688x256.size a)
theorem k0_mult120_dvd : ∀ (arg0 : BitVec 32) (v1 : BitVec 32) (v3605 : BitVec 32) (k0_hw120 : k0_chk120 arg0 v1 v3605), ∀ (k0_h1 : k0_cond1 arg0 v1 = 1#1), 8 ∣ (k0_mult120 v3605).toNat := fun arg0 v1 v3605 k0_hw120 k0_h1 => k0_hw120.1 k0_h1
theorem k0_off239_inb : ∀ (arg0 : BitVec 32) (v1 : BitVec 32) (v3605 : BitVec 32) (k0_hw120 : k0_chk120 arg0 v1 v3605), ∀ (k0_h1 : k0_cond1 arg0 v1 = 1#1), ∀ a, (k0_off239 v3605) a + S8x128.size a ≤ S7688x256.size a := fun arg0 v1 v3605 k0_hw120 k0_h1 => k0_hw120.2.1 k0_h1
theorem k0_off240_inb : ∀ (arg0 : BitVec 32) (v1 : BitVec 32) (v3605 : BitVec 32) (k0_hw120 : k0_chk120 arg0 v1 v3605), ∀ (k0_h1 : k0_cond1 arg0 v1 = 1#1), ∀ a, (k0_off240 v3605) a + S8x128.size a ≤ S7688x256.size a := fun arg0 v1 v3605 k0_hw120 k0_h1 => k0_hw120.2.2 k0_h1

def k0_mult121 (v3635 : BitVec 32) : BitVec 32 :=
  let c1_i32_860 : BitVec 32 := 1#32
  let v3655 : BitVec 32 := Scalar.shrsi v3635 c1_i32_860
  v3655

def k0_off241 (v3635 : BitVec 32) : Fin 2 → Nat :=
  let c1_i32_860 : BitVec 32 := 1#32
  let v3655 : BitVec 32 := Scalar.shrsi v3635 c1_i32_860
  let v3656 : BitVec 32 := v3655
  let v3657 : Index := Scalar.indexCast v3656
  let c0_861 : Index := 0#32
  ![v3657.toNat, 0]
def k0_off242 (v3635 : BitVec 32) : Fin 2 → Nat :=
  let c1_i32_860 : BitVec 32 := 1#32
  let v3655 : BitVec 32 := Scalar.shrsi v3635 c1_i32_860
  let v3656 : BitVec 32 := v3655
  let v3661 : Index := Scalar.indexCast v3656
  let c128_862 : Index := 128#32
  ![v3661.toNat, 128]

def k0_chk121 (arg0 : BitVec 32) (v1 : BitVec 32) (v3635 : BitVec 32) : Prop :=
  (∀ (k0_h1 : k0_cond1 arg0 v1 = 1#1), 8 ∣ (k0_mult121 v3635).toNat) ∧
  (∀ (k0_h1 : k0_cond1 arg0 v1 = 1#1), ∀ a, (k0_off241 v3635) a + S8x128.size a ≤ S7688x256.size a) ∧
  (∀ (k0_h1 : k0_cond1 arg0 v1 = 1#1), ∀ a, (k0_off242 v3635) a + S8x128.size a ≤ S7688x256.size a)
theorem k0_mult121_dvd : ∀ (arg0 : BitVec 32) (v1 : BitVec 32) (v3635 : BitVec 32) (k0_hw121 : k0_chk121 arg0 v1 v3635), ∀ (k0_h1 : k0_cond1 arg0 v1 = 1#1), 8 ∣ (k0_mult121 v3635).toNat := fun arg0 v1 v3635 k0_hw121 k0_h1 => k0_hw121.1 k0_h1
theorem k0_off241_inb : ∀ (arg0 : BitVec 32) (v1 : BitVec 32) (v3635 : BitVec 32) (k0_hw121 : k0_chk121 arg0 v1 v3635), ∀ (k0_h1 : k0_cond1 arg0 v1 = 1#1), ∀ a, (k0_off241 v3635) a + S8x128.size a ≤ S7688x256.size a := fun arg0 v1 v3635 k0_hw121 k0_h1 => k0_hw121.2.1 k0_h1
theorem k0_off242_inb : ∀ (arg0 : BitVec 32) (v1 : BitVec 32) (v3635 : BitVec 32) (k0_hw121 : k0_chk121 arg0 v1 v3635), ∀ (k0_h1 : k0_cond1 arg0 v1 = 1#1), ∀ a, (k0_off242 v3635) a + S8x128.size a ≤ S7688x256.size a := fun arg0 v1 v3635 k0_hw121 k0_h1 => k0_hw121.2.2 k0_h1

def k0_mult122 (v3665 : BitVec 32) : BitVec 32 :=
  let c1_i32_867 : BitVec 32 := 1#32
  let v3685 : BitVec 32 := Scalar.shrsi v3665 c1_i32_867
  v3685

def k0_off243 (v3665 : BitVec 32) : Fin 2 → Nat :=
  let c1_i32_867 : BitVec 32 := 1#32
  let v3685 : BitVec 32 := Scalar.shrsi v3665 c1_i32_867
  let v3686 : BitVec 32 := v3685
  let v3687 : Index := Scalar.indexCast v3686
  let c0_868 : Index := 0#32
  ![v3687.toNat, 0]
def k0_off244 (v3665 : BitVec 32) : Fin 2 → Nat :=
  let c1_i32_867 : BitVec 32 := 1#32
  let v3685 : BitVec 32 := Scalar.shrsi v3665 c1_i32_867
  let v3686 : BitVec 32 := v3685
  let v3691 : Index := Scalar.indexCast v3686
  let c128_869 : Index := 128#32
  ![v3691.toNat, 128]

def k0_chk122 (arg0 : BitVec 32) (v1 : BitVec 32) (v3665 : BitVec 32) : Prop :=
  (∀ (k0_h1 : k0_cond1 arg0 v1 = 1#1), 8 ∣ (k0_mult122 v3665).toNat) ∧
  (∀ (k0_h1 : k0_cond1 arg0 v1 = 1#1), ∀ a, (k0_off243 v3665) a + S8x128.size a ≤ S7688x256.size a) ∧
  (∀ (k0_h1 : k0_cond1 arg0 v1 = 1#1), ∀ a, (k0_off244 v3665) a + S8x128.size a ≤ S7688x256.size a)
theorem k0_mult122_dvd : ∀ (arg0 : BitVec 32) (v1 : BitVec 32) (v3665 : BitVec 32) (k0_hw122 : k0_chk122 arg0 v1 v3665), ∀ (k0_h1 : k0_cond1 arg0 v1 = 1#1), 8 ∣ (k0_mult122 v3665).toNat := fun arg0 v1 v3665 k0_hw122 k0_h1 => k0_hw122.1 k0_h1
theorem k0_off243_inb : ∀ (arg0 : BitVec 32) (v1 : BitVec 32) (v3665 : BitVec 32) (k0_hw122 : k0_chk122 arg0 v1 v3665), ∀ (k0_h1 : k0_cond1 arg0 v1 = 1#1), ∀ a, (k0_off243 v3665) a + S8x128.size a ≤ S7688x256.size a := fun arg0 v1 v3665 k0_hw122 k0_h1 => k0_hw122.2.1 k0_h1
theorem k0_off244_inb : ∀ (arg0 : BitVec 32) (v1 : BitVec 32) (v3665 : BitVec 32) (k0_hw122 : k0_chk122 arg0 v1 v3665), ∀ (k0_h1 : k0_cond1 arg0 v1 = 1#1), ∀ a, (k0_off244 v3665) a + S8x128.size a ≤ S7688x256.size a := fun arg0 v1 v3665 k0_hw122 k0_h1 => k0_hw122.2.2 k0_h1

def k0_mult123 (v3695 : BitVec 32) : BitVec 32 :=
  let c1_i32_874 : BitVec 32 := 1#32
  let v3715 : BitVec 32 := Scalar.shrsi v3695 c1_i32_874
  v3715

def k0_off245 (v3695 : BitVec 32) : Fin 2 → Nat :=
  let c1_i32_874 : BitVec 32 := 1#32
  let v3715 : BitVec 32 := Scalar.shrsi v3695 c1_i32_874
  let v3716 : BitVec 32 := v3715
  let v3717 : Index := Scalar.indexCast v3716
  let c0_875 : Index := 0#32
  ![v3717.toNat, 0]
def k0_off246 (v3695 : BitVec 32) : Fin 2 → Nat :=
  let c1_i32_874 : BitVec 32 := 1#32
  let v3715 : BitVec 32 := Scalar.shrsi v3695 c1_i32_874
  let v3716 : BitVec 32 := v3715
  let v3721 : Index := Scalar.indexCast v3716
  let c128_876 : Index := 128#32
  ![v3721.toNat, 128]

def k0_chk123 (arg0 : BitVec 32) (v1 : BitVec 32) (v3695 : BitVec 32) : Prop :=
  (∀ (k0_h1 : k0_cond1 arg0 v1 = 1#1), 8 ∣ (k0_mult123 v3695).toNat) ∧
  (∀ (k0_h1 : k0_cond1 arg0 v1 = 1#1), ∀ a, (k0_off245 v3695) a + S8x128.size a ≤ S7688x256.size a) ∧
  (∀ (k0_h1 : k0_cond1 arg0 v1 = 1#1), ∀ a, (k0_off246 v3695) a + S8x128.size a ≤ S7688x256.size a)
theorem k0_mult123_dvd : ∀ (arg0 : BitVec 32) (v1 : BitVec 32) (v3695 : BitVec 32) (k0_hw123 : k0_chk123 arg0 v1 v3695), ∀ (k0_h1 : k0_cond1 arg0 v1 = 1#1), 8 ∣ (k0_mult123 v3695).toNat := fun arg0 v1 v3695 k0_hw123 k0_h1 => k0_hw123.1 k0_h1
theorem k0_off245_inb : ∀ (arg0 : BitVec 32) (v1 : BitVec 32) (v3695 : BitVec 32) (k0_hw123 : k0_chk123 arg0 v1 v3695), ∀ (k0_h1 : k0_cond1 arg0 v1 = 1#1), ∀ a, (k0_off245 v3695) a + S8x128.size a ≤ S7688x256.size a := fun arg0 v1 v3695 k0_hw123 k0_h1 => k0_hw123.2.1 k0_h1
theorem k0_off246_inb : ∀ (arg0 : BitVec 32) (v1 : BitVec 32) (v3695 : BitVec 32) (k0_hw123 : k0_chk123 arg0 v1 v3695), ∀ (k0_h1 : k0_cond1 arg0 v1 = 1#1), ∀ a, (k0_off246 v3695) a + S8x128.size a ≤ S7688x256.size a := fun arg0 v1 v3695 k0_hw123 k0_h1 => k0_hw123.2.2 k0_h1

def k0_mult124 (v3725 : BitVec 32) : BitVec 32 :=
  let c1_i32_881 : BitVec 32 := 1#32
  let v3745 : BitVec 32 := Scalar.shrsi v3725 c1_i32_881
  v3745

def k0_off247 (v3725 : BitVec 32) : Fin 2 → Nat :=
  let c1_i32_881 : BitVec 32 := 1#32
  let v3745 : BitVec 32 := Scalar.shrsi v3725 c1_i32_881
  let v3746 : BitVec 32 := v3745
  let v3747 : Index := Scalar.indexCast v3746
  let c0_882 : Index := 0#32
  ![v3747.toNat, 0]
def k0_off248 (v3725 : BitVec 32) : Fin 2 → Nat :=
  let c1_i32_881 : BitVec 32 := 1#32
  let v3745 : BitVec 32 := Scalar.shrsi v3725 c1_i32_881
  let v3746 : BitVec 32 := v3745
  let v3751 : Index := Scalar.indexCast v3746
  let c128_883 : Index := 128#32
  ![v3751.toNat, 128]

def k0_chk124 (arg0 : BitVec 32) (v1 : BitVec 32) (v3725 : BitVec 32) : Prop :=
  (∀ (k0_h1 : k0_cond1 arg0 v1 = 1#1), 8 ∣ (k0_mult124 v3725).toNat) ∧
  (∀ (k0_h1 : k0_cond1 arg0 v1 = 1#1), ∀ a, (k0_off247 v3725) a + S8x128.size a ≤ S7688x256.size a) ∧
  (∀ (k0_h1 : k0_cond1 arg0 v1 = 1#1), ∀ a, (k0_off248 v3725) a + S8x128.size a ≤ S7688x256.size a)
theorem k0_mult124_dvd : ∀ (arg0 : BitVec 32) (v1 : BitVec 32) (v3725 : BitVec 32) (k0_hw124 : k0_chk124 arg0 v1 v3725), ∀ (k0_h1 : k0_cond1 arg0 v1 = 1#1), 8 ∣ (k0_mult124 v3725).toNat := fun arg0 v1 v3725 k0_hw124 k0_h1 => k0_hw124.1 k0_h1
theorem k0_off247_inb : ∀ (arg0 : BitVec 32) (v1 : BitVec 32) (v3725 : BitVec 32) (k0_hw124 : k0_chk124 arg0 v1 v3725), ∀ (k0_h1 : k0_cond1 arg0 v1 = 1#1), ∀ a, (k0_off247 v3725) a + S8x128.size a ≤ S7688x256.size a := fun arg0 v1 v3725 k0_hw124 k0_h1 => k0_hw124.2.1 k0_h1
theorem k0_off248_inb : ∀ (arg0 : BitVec 32) (v1 : BitVec 32) (v3725 : BitVec 32) (k0_hw124 : k0_chk124 arg0 v1 v3725), ∀ (k0_h1 : k0_cond1 arg0 v1 = 1#1), ∀ a, (k0_off248 v3725) a + S8x128.size a ≤ S7688x256.size a := fun arg0 v1 v3725 k0_hw124 k0_h1 => k0_hw124.2.2 k0_h1

def k0_mult125 (v3755 : BitVec 32) : BitVec 32 :=
  let c1_i32_888 : BitVec 32 := 1#32
  let v3775 : BitVec 32 := Scalar.shrsi v3755 c1_i32_888
  v3775

def k0_off249 (v3755 : BitVec 32) : Fin 2 → Nat :=
  let c1_i32_888 : BitVec 32 := 1#32
  let v3775 : BitVec 32 := Scalar.shrsi v3755 c1_i32_888
  let v3776 : BitVec 32 := v3775
  let v3777 : Index := Scalar.indexCast v3776
  let c0_889 : Index := 0#32
  ![v3777.toNat, 0]
def k0_off250 (v3755 : BitVec 32) : Fin 2 → Nat :=
  let c1_i32_888 : BitVec 32 := 1#32
  let v3775 : BitVec 32 := Scalar.shrsi v3755 c1_i32_888
  let v3776 : BitVec 32 := v3775
  let v3781 : Index := Scalar.indexCast v3776
  let c128_890 : Index := 128#32
  ![v3781.toNat, 128]

def k0_chk125 (arg0 : BitVec 32) (v1 : BitVec 32) (v3755 : BitVec 32) : Prop :=
  (∀ (k0_h1 : k0_cond1 arg0 v1 = 1#1), 8 ∣ (k0_mult125 v3755).toNat) ∧
  (∀ (k0_h1 : k0_cond1 arg0 v1 = 1#1), ∀ a, (k0_off249 v3755) a + S8x128.size a ≤ S7688x256.size a) ∧
  (∀ (k0_h1 : k0_cond1 arg0 v1 = 1#1), ∀ a, (k0_off250 v3755) a + S8x128.size a ≤ S7688x256.size a)
theorem k0_mult125_dvd : ∀ (arg0 : BitVec 32) (v1 : BitVec 32) (v3755 : BitVec 32) (k0_hw125 : k0_chk125 arg0 v1 v3755), ∀ (k0_h1 : k0_cond1 arg0 v1 = 1#1), 8 ∣ (k0_mult125 v3755).toNat := fun arg0 v1 v3755 k0_hw125 k0_h1 => k0_hw125.1 k0_h1
theorem k0_off249_inb : ∀ (arg0 : BitVec 32) (v1 : BitVec 32) (v3755 : BitVec 32) (k0_hw125 : k0_chk125 arg0 v1 v3755), ∀ (k0_h1 : k0_cond1 arg0 v1 = 1#1), ∀ a, (k0_off249 v3755) a + S8x128.size a ≤ S7688x256.size a := fun arg0 v1 v3755 k0_hw125 k0_h1 => k0_hw125.2.1 k0_h1
theorem k0_off250_inb : ∀ (arg0 : BitVec 32) (v1 : BitVec 32) (v3755 : BitVec 32) (k0_hw125 : k0_chk125 arg0 v1 v3755), ∀ (k0_h1 : k0_cond1 arg0 v1 = 1#1), ∀ a, (k0_off250 v3755) a + S8x128.size a ≤ S7688x256.size a := fun arg0 v1 v3755 k0_hw125 k0_h1 => k0_hw125.2.2 k0_h1

def k0_mult126 (v3785 : BitVec 32) : BitVec 32 :=
  let c1_i32_895 : BitVec 32 := 1#32
  let v3805 : BitVec 32 := Scalar.shrsi v3785 c1_i32_895
  v3805

def k0_off251 (v3785 : BitVec 32) : Fin 2 → Nat :=
  let c1_i32_895 : BitVec 32 := 1#32
  let v3805 : BitVec 32 := Scalar.shrsi v3785 c1_i32_895
  let v3806 : BitVec 32 := v3805
  let v3807 : Index := Scalar.indexCast v3806
  let c0_896 : Index := 0#32
  ![v3807.toNat, 0]
def k0_off252 (v3785 : BitVec 32) : Fin 2 → Nat :=
  let c1_i32_895 : BitVec 32 := 1#32
  let v3805 : BitVec 32 := Scalar.shrsi v3785 c1_i32_895
  let v3806 : BitVec 32 := v3805
  let v3811 : Index := Scalar.indexCast v3806
  let c128_897 : Index := 128#32
  ![v3811.toNat, 128]

def k0_chk126 (arg0 : BitVec 32) (v1 : BitVec 32) (v3785 : BitVec 32) : Prop :=
  (∀ (k0_h1 : k0_cond1 arg0 v1 = 1#1), 8 ∣ (k0_mult126 v3785).toNat) ∧
  (∀ (k0_h1 : k0_cond1 arg0 v1 = 1#1), ∀ a, (k0_off251 v3785) a + S8x128.size a ≤ S7688x256.size a) ∧
  (∀ (k0_h1 : k0_cond1 arg0 v1 = 1#1), ∀ a, (k0_off252 v3785) a + S8x128.size a ≤ S7688x256.size a)
theorem k0_mult126_dvd : ∀ (arg0 : BitVec 32) (v1 : BitVec 32) (v3785 : BitVec 32) (k0_hw126 : k0_chk126 arg0 v1 v3785), ∀ (k0_h1 : k0_cond1 arg0 v1 = 1#1), 8 ∣ (k0_mult126 v3785).toNat := fun arg0 v1 v3785 k0_hw126 k0_h1 => k0_hw126.1 k0_h1
theorem k0_off251_inb : ∀ (arg0 : BitVec 32) (v1 : BitVec 32) (v3785 : BitVec 32) (k0_hw126 : k0_chk126 arg0 v1 v3785), ∀ (k0_h1 : k0_cond1 arg0 v1 = 1#1), ∀ a, (k0_off251 v3785) a + S8x128.size a ≤ S7688x256.size a := fun arg0 v1 v3785 k0_hw126 k0_h1 => k0_hw126.2.1 k0_h1
theorem k0_off252_inb : ∀ (arg0 : BitVec 32) (v1 : BitVec 32) (v3785 : BitVec 32) (k0_hw126 : k0_chk126 arg0 v1 v3785), ∀ (k0_h1 : k0_cond1 arg0 v1 = 1#1), ∀ a, (k0_off252 v3785) a + S8x128.size a ≤ S7688x256.size a := fun arg0 v1 v3785 k0_hw126 k0_h1 => k0_hw126.2.2 k0_h1

def k0_mult127 (v3815 : BitVec 32) : BitVec 32 :=
  let c1_i32_902 : BitVec 32 := 1#32
  let v3835 : BitVec 32 := Scalar.shrsi v3815 c1_i32_902
  v3835

def k0_off253 (v3815 : BitVec 32) : Fin 2 → Nat :=
  let c1_i32_902 : BitVec 32 := 1#32
  let v3835 : BitVec 32 := Scalar.shrsi v3815 c1_i32_902
  let v3836 : BitVec 32 := v3835
  let v3837 : Index := Scalar.indexCast v3836
  let c0_903 : Index := 0#32
  ![v3837.toNat, 0]
def k0_off254 (v3815 : BitVec 32) : Fin 2 → Nat :=
  let c1_i32_902 : BitVec 32 := 1#32
  let v3835 : BitVec 32 := Scalar.shrsi v3815 c1_i32_902
  let v3836 : BitVec 32 := v3835
  let v3841 : Index := Scalar.indexCast v3836
  let c128_904 : Index := 128#32
  ![v3841.toNat, 128]

def k0_chk127 (arg0 : BitVec 32) (v1 : BitVec 32) (v3815 : BitVec 32) : Prop :=
  (∀ (k0_h1 : k0_cond1 arg0 v1 = 1#1), 8 ∣ (k0_mult127 v3815).toNat) ∧
  (∀ (k0_h1 : k0_cond1 arg0 v1 = 1#1), ∀ a, (k0_off253 v3815) a + S8x128.size a ≤ S7688x256.size a) ∧
  (∀ (k0_h1 : k0_cond1 arg0 v1 = 1#1), ∀ a, (k0_off254 v3815) a + S8x128.size a ≤ S7688x256.size a)
theorem k0_mult127_dvd : ∀ (arg0 : BitVec 32) (v1 : BitVec 32) (v3815 : BitVec 32) (k0_hw127 : k0_chk127 arg0 v1 v3815), ∀ (k0_h1 : k0_cond1 arg0 v1 = 1#1), 8 ∣ (k0_mult127 v3815).toNat := fun arg0 v1 v3815 k0_hw127 k0_h1 => k0_hw127.1 k0_h1
theorem k0_off253_inb : ∀ (arg0 : BitVec 32) (v1 : BitVec 32) (v3815 : BitVec 32) (k0_hw127 : k0_chk127 arg0 v1 v3815), ∀ (k0_h1 : k0_cond1 arg0 v1 = 1#1), ∀ a, (k0_off253 v3815) a + S8x128.size a ≤ S7688x256.size a := fun arg0 v1 v3815 k0_hw127 k0_h1 => k0_hw127.2.1 k0_h1
theorem k0_off254_inb : ∀ (arg0 : BitVec 32) (v1 : BitVec 32) (v3815 : BitVec 32) (k0_hw127 : k0_chk127 arg0 v1 v3815), ∀ (k0_h1 : k0_cond1 arg0 v1 = 1#1), ∀ a, (k0_off254 v3815) a + S8x128.size a ≤ S7688x256.size a := fun arg0 v1 v3815 k0_hw127 k0_h1 => k0_hw127.2.2 k0_h1

def k0_mult128 (v3845 : BitVec 32) : BitVec 32 :=
  let c1_i32_909 : BitVec 32 := 1#32
  let v3865 : BitVec 32 := Scalar.shrsi v3845 c1_i32_909
  v3865

def k0_off255 (v3845 : BitVec 32) : Fin 2 → Nat :=
  let c1_i32_909 : BitVec 32 := 1#32
  let v3865 : BitVec 32 := Scalar.shrsi v3845 c1_i32_909
  let v3866 : BitVec 32 := v3865
  let v3867 : Index := Scalar.indexCast v3866
  let c0_910 : Index := 0#32
  ![v3867.toNat, 0]
def k0_off256 (v3845 : BitVec 32) : Fin 2 → Nat :=
  let c1_i32_909 : BitVec 32 := 1#32
  let v3865 : BitVec 32 := Scalar.shrsi v3845 c1_i32_909
  let v3866 : BitVec 32 := v3865
  let v3871 : Index := Scalar.indexCast v3866
  let c128_911 : Index := 128#32
  ![v3871.toNat, 128]

def k0_chk128 (arg0 : BitVec 32) (v1 : BitVec 32) (v3845 : BitVec 32) : Prop :=
  (∀ (k0_h1 : k0_cond1 arg0 v1 = 1#1), 8 ∣ (k0_mult128 v3845).toNat) ∧
  (∀ (k0_h1 : k0_cond1 arg0 v1 = 1#1), ∀ a, (k0_off255 v3845) a + S8x128.size a ≤ S7688x256.size a) ∧
  (∀ (k0_h1 : k0_cond1 arg0 v1 = 1#1), ∀ a, (k0_off256 v3845) a + S8x128.size a ≤ S7688x256.size a)
theorem k0_mult128_dvd : ∀ (arg0 : BitVec 32) (v1 : BitVec 32) (v3845 : BitVec 32) (k0_hw128 : k0_chk128 arg0 v1 v3845), ∀ (k0_h1 : k0_cond1 arg0 v1 = 1#1), 8 ∣ (k0_mult128 v3845).toNat := fun arg0 v1 v3845 k0_hw128 k0_h1 => k0_hw128.1 k0_h1
theorem k0_off255_inb : ∀ (arg0 : BitVec 32) (v1 : BitVec 32) (v3845 : BitVec 32) (k0_hw128 : k0_chk128 arg0 v1 v3845), ∀ (k0_h1 : k0_cond1 arg0 v1 = 1#1), ∀ a, (k0_off255 v3845) a + S8x128.size a ≤ S7688x256.size a := fun arg0 v1 v3845 k0_hw128 k0_h1 => k0_hw128.2.1 k0_h1
theorem k0_off256_inb : ∀ (arg0 : BitVec 32) (v1 : BitVec 32) (v3845 : BitVec 32) (k0_hw128 : k0_chk128 arg0 v1 v3845), ∀ (k0_h1 : k0_cond1 arg0 v1 = 1#1), ∀ a, (k0_off256 v3845) a + S8x128.size a ≤ S7688x256.size a := fun arg0 v1 v3845 k0_hw128 k0_h1 => k0_hw128.2.2 k0_h1

@[reducible] def k0_t1_loop : Scf.Loop 32 :=
  let c0_i32_10 : BitVec 32 := 0#32
  let c128_i32_11 : BitVec 32 := 128#32
  let v34 : BitVec 32 := Scalar.addi c0_i32_10 c128_i32_11
  let c1_i32_12 : BitVec 32 := 1#32
  ⟨c0_i32_10, v34, c1_i32_12⟩
def k0_off257 (k0_t1 : Fin k0_t1_loop.trips) : Fin 1 → Nat :=
  let c0_i32_10 : BitVec 32 := 0#32
  let c1_i32_12 : BitVec 32 := 1#32
  let arg13 : BitVec 32 := Scf.iv c0_i32_10 c1_i32_12 k0_t1
  let v35 : Index := Scalar.indexCast arg13
  ![v35.toNat]
def k0_mult129 (k0_t1 : Fin k0_t1_loop.trips) : BitVec 32 :=
  let c8_i32 : BitVec 32 := 8#32
  let c0_i32_10 : BitVec 32 := 0#32
  let c1_i32_12 : BitVec 32 := 1#32
  let arg13 : BitVec 32 := Scf.iv c0_i32_10 c1_i32_12 k0_t1
  let v37 : BitVec 32 := Scalar.muli c8_i32 arg13
  v37
def k0_off258 (k0_t1 : Fin k0_t1_loop.trips) : Fin 2 → Nat :=
  let c8_i32 : BitVec 32 := 8#32
  let c0_i32_10 : BitVec 32 := 0#32
  let c1_i32_12 : BitVec 32 := 1#32
  let arg13 : BitVec 32 := Scf.iv c0_i32_10 c1_i32_12 k0_t1
  let v37 : BitVec 32 := Scalar.muli c8_i32 arg13
  let v38 : BitVec 32 := v37
  let v39 : Index := Scalar.indexCast v38
  let c0_14 : Index := 0#32
  ![v39.toNat, 0]
def k0_mult130 (v36 : BitVec 32) : BitVec 32 :=
  let c1_i32_18 : BitVec 32 := 1#32
  let v61 : BitVec 32 := Scalar.shrsi v36 c1_i32_18
  v61
def k0_cond2 (arg0 : BitVec 32) (v0 : BitVec 32) (v1 : BitVec 32) : BitVec 1 :=
  let c1_i32_0 : BitVec 32 := 1#32
  let v8 : BitVec 32 := Scalar.addi arg0 c1_i32_0
  let c128_i32_1 : BitVec 32 := 128#32
  let v9 : BitVec 32 := Scalar.muli v8 c128_i32_1
  let v10 : BitVec 1 := Scalar.cmpi .sgt v9 v1
  let v11 : BitVec 1 := Scalar.cmpi .slt arg0 v0
  let v12 : BitVec 1 := Scalar.andi v10 v11
  let v13 : BitVec 32 := Scalar.extui v12
  let c0_i32_2 : BitVec 32 := 0#32
  let v14 : BitVec 1 := Scalar.cmpi .ne v13 c0_i32_2
  v14

def k0_cond3 (arg0 : BitVec 32) (v1 : BitVec 32) (k0_t1 : Fin k0_t1_loop.trips) : BitVec 1 :=
  let c128_i32_15 : BitVec 32 := 128#32
  let v51 : BitVec 32 := Scalar.muli arg0 c128_i32_15
  let c0_i32_10 : BitVec 32 := 0#32
  let c1_i32_12 : BitVec 32 := 1#32
  let arg13 : BitVec 32 := Scf.iv c0_i32_10 c1_i32_12 k0_t1
  let v52 : BitVec 32 := Scalar.addi v51 arg13
  let v53 : BitVec 1 := Scalar.cmpi .slt v52 v1
  let v54 : BitVec 32 := Scalar.extui v53
  let c0_i32_16 : BitVec 32 := 0#32
  let v55 : BitVec 1 := Scalar.cmpi .ne v54 c0_i32_16
  v55

def k0_off259 (v36 : BitVec 32) : Fin 2 → Nat :=
  let c1_i32_18 : BitVec 32 := 1#32
  let v61 : BitVec 32 := Scalar.shrsi v36 c1_i32_18
  let v62 : BitVec 32 := v61
  let v75 : Index := Scalar.indexCast v62
  let c0_29 : Index := 0#32
  ![v75.toNat, 0]
def k0_off260 (v36 : BitVec 32) : Fin 2 → Nat :=
  let c1_i32_18 : BitVec 32 := 1#32
  let v61 : BitVec 32 := Scalar.shrsi v36 c1_i32_18
  let v62 : BitVec 32 := v61
  let v79 : Index := Scalar.indexCast v62
  let c128 : Index := 128#32
  ![v79.toNat, 128]
def k0_off261 (v36 : BitVec 32) : Fin 2 → Nat :=
  let c1_i32_18 : BitVec 32 := 1#32
  let v61 : BitVec 32 := Scalar.shrsi v36 c1_i32_18
  let v63 : Index := Scalar.indexCast v61
  let c0_19 : Index := 0#32
  ![v63.toNat, 0]
def k0_cond4 (arg0 : BitVec 32) (v1 : BitVec 32) (v2 : BitVec 32) (k0_t1 : Fin k0_t1_loop.trips) : BitVec 1 :=
  let c128_i32_15 : BitVec 32 := 128#32
  let v51 : BitVec 32 := Scalar.muli arg0 c128_i32_15
  let c0_i32_10 : BitVec 32 := 0#32
  let c1_i32_12 : BitVec 32 := 1#32
  let arg13 : BitVec 32 := Scf.iv c0_i32_10 c1_i32_12 k0_t1
  let v52 : BitVec 32 := Scalar.addi v51 arg13
  let v56 : BitVec 1 := Scalar.cmpi .sge v52 v1
  let v57 : BitVec 1 := Scalar.cmpi .slt v52 v2
  let v58 : BitVec 1 := Scalar.andi v56 v57
  let v59 : BitVec 32 := Scalar.extui v58
  let c0_i32_17 : BitVec 32 := 0#32
  let v60 : BitVec 1 := Scalar.cmpi .ne v59 c0_i32_17
  v60

def k0_chk129 (arg0 : BitVec 32) (v0 : BitVec 32) (v1 : BitVec 32) (v2 : BitVec 32) (k0_t1 : Fin k0_t1_loop.trips) (v36 : BitVec 32) : Prop :=
  (∀ (k0_h2 : k0_cond2 arg0 v0 v1 = 1#1), ∀ (k0_h3 : k0_cond3 arg0 v1 k0_t1 = 1#1), 8 ∣ (k0_mult130 v36).toNat) ∧
  (∀ (k0_h2 : k0_cond2 arg0 v0 v1 = 1#1), ∀ (k0_h3 : k0_cond3 arg0 v1 k0_t1 = 1#1), ∀ a, (k0_off259 v36) a + S8x128.size a ≤ S7688x256.size a) ∧
  (∀ (k0_h2 : k0_cond2 arg0 v0 v1 = 1#1), ∀ (k0_h3 : k0_cond3 arg0 v1 k0_t1 = 1#1), ∀ a, (k0_off260 v36) a + S8x128.size a ≤ S7688x256.size a) ∧
  (∀ (k0_h2 : k0_cond2 arg0 v0 v1 = 1#1), ∀ (k0_h4 : k0_cond4 arg0 v1 v2 k0_t1 = 1#1), ∀ a, (k0_off261 v36) a + S1x256.size a ≤ S7688x256.size a)
theorem k0_mult130_dvd : ∀ (arg0 : BitVec 32) (v0 : BitVec 32) (v1 : BitVec 32) (v2 : BitVec 32) (k0_t1 : Fin k0_t1_loop.trips) (v36 : BitVec 32) (k0_hw129 : k0_chk129 arg0 v0 v1 v2 k0_t1 v36), ∀ (k0_h2 : k0_cond2 arg0 v0 v1 = 1#1), ∀ (k0_h3 : k0_cond3 arg0 v1 k0_t1 = 1#1), 8 ∣ (k0_mult130 v36).toNat := fun arg0 v0 v1 v2 k0_t1 v36 k0_hw129 k0_h2 k0_h3 => k0_hw129.1 k0_h2 k0_h3
theorem k0_off259_inb : ∀ (arg0 : BitVec 32) (v0 : BitVec 32) (v1 : BitVec 32) (v2 : BitVec 32) (k0_t1 : Fin k0_t1_loop.trips) (v36 : BitVec 32) (k0_hw129 : k0_chk129 arg0 v0 v1 v2 k0_t1 v36), ∀ (k0_h2 : k0_cond2 arg0 v0 v1 = 1#1), ∀ (k0_h3 : k0_cond3 arg0 v1 k0_t1 = 1#1), ∀ a, (k0_off259 v36) a + S8x128.size a ≤ S7688x256.size a := fun arg0 v0 v1 v2 k0_t1 v36 k0_hw129 k0_h2 k0_h3 => k0_hw129.2.1 k0_h2 k0_h3
theorem k0_off260_inb : ∀ (arg0 : BitVec 32) (v0 : BitVec 32) (v1 : BitVec 32) (v2 : BitVec 32) (k0_t1 : Fin k0_t1_loop.trips) (v36 : BitVec 32) (k0_hw129 : k0_chk129 arg0 v0 v1 v2 k0_t1 v36), ∀ (k0_h2 : k0_cond2 arg0 v0 v1 = 1#1), ∀ (k0_h3 : k0_cond3 arg0 v1 k0_t1 = 1#1), ∀ a, (k0_off260 v36) a + S8x128.size a ≤ S7688x256.size a := fun arg0 v0 v1 v2 k0_t1 v36 k0_hw129 k0_h2 k0_h3 => k0_hw129.2.2.1 k0_h2 k0_h3
theorem k0_off261_inb : ∀ (arg0 : BitVec 32) (v0 : BitVec 32) (v1 : BitVec 32) (v2 : BitVec 32) (k0_t1 : Fin k0_t1_loop.trips) (v36 : BitVec 32) (k0_hw129 : k0_chk129 arg0 v0 v1 v2 k0_t1 v36), ∀ (k0_h2 : k0_cond2 arg0 v0 v1 = 1#1), ∀ (k0_h4 : k0_cond4 arg0 v1 v2 k0_t1 = 1#1), ∀ a, (k0_off261 v36) a + S1x256.size a ≤ S7688x256.size a := fun arg0 v0 v1 v2 k0_t1 v36 k0_hw129 k0_h2 k0_h4 => k0_hw129.2.2.2 k0_h2 k0_h4

def k0_mult131 (arg0 : BitVec 32) (v0 : BitVec 32) : BitVec 32 :=
  let v18 : BitVec 32 := Scalar.subi arg0 v0
  let c4_i32 : BitVec 32 := 4#32
  let v19 : BitVec 32 := Scalar.muli v18 c4_i32
  let c0_i32_4 : BitVec 32 := 0#32
  let v20 : BitVec 32 := Scalar.addi v19 c0_i32_4
  let c128_i32_5 : BitVec 32 := 128#32
  let v21 : BitVec 32 := Scalar.muli v20 c128_i32_5
  v21
def k0_cond5 (arg0 : BitVec 32) (v0 : BitVec 32) : BitVec 1 :=
  let v15 : BitVec 1 := Scalar.cmpi .sge arg0 v0
  let v16 : BitVec 32 := Scalar.extui v15
  let c0_i32_3 : BitVec 32 := 0#32
  let v17 : BitVec 1 := Scalar.cmpi .ne v16 c0_i32_3
  v17

def k0_off262 (arg0 : BitVec 32) (v0 : BitVec 32) (c0_i32_4 : BitVec 32) : Fin 2 → Nat :=
  let v18 : BitVec 32 := Scalar.subi arg0 v0
  let c4_i32 : BitVec 32 := 4#32
  let v19 : BitVec 32 := Scalar.muli v18 c4_i32
  let v20 : BitVec 32 := Scalar.addi v19 c0_i32_4
  let c128_i32_5 : BitVec 32 := 128#32
  let v21 : BitVec 32 := Scalar.muli v20 c128_i32_5
  let v22 : BitVec 32 := v21
  let v23 : Index := Scalar.indexCast v22
  let c0_6 : Index := 0#32
  ![v23.toNat, 0]
def k0_off263 (arg0 : BitVec 32) (v0 : BitVec 32) (c0_i32_4 : BitVec 32) : Fin 2 → Nat :=
  let v18 : BitVec 32 := Scalar.subi arg0 v0
  let c4_i32 : BitVec 32 := 4#32
  let v19 : BitVec 32 := Scalar.muli v18 c4_i32
  let v20 : BitVec 32 := Scalar.addi v19 c0_i32_4
  let c128_i32_5 : BitVec 32 := 128#32
  let v21 : BitVec 32 := Scalar.muli v20 c128_i32_5
  let v22 : BitVec 32 := v21
  let v26 : Index := Scalar.indexCast v22
  let c128 : Index := 128#32
  ![v26.toNat, 128]
def k0_off264 (arg0 : BitVec 32) (v0 : BitVec 32) (c0_i32_4 : BitVec 32) : Fin 2 → Nat :=
  let v18 : BitVec 32 := Scalar.subi arg0 v0
  let c4_i32 : BitVec 32 := 4#32
  let v19 : BitVec 32 := Scalar.muli v18 c4_i32
  let v20 : BitVec 32 := Scalar.addi v19 c0_i32_4
  let v37 : Index := Scalar.indexCast v20
  let c0_8 : Index := 0#32
  ![v37.toNat, 0]
def k0_mult132 (arg0 : BitVec 32) (v0 : BitVec 32) : BitVec 32 :=
  let v18 : BitVec 32 := Scalar.subi arg0 v0
  let c4_i32_16 : BitVec 32 := 4#32
  let v53 : BitVec 32 := Scalar.muli v18 c4_i32_16
  let c1_i32_17 : BitVec 32 := 1#32
  let v54 : BitVec 32 := Scalar.addi v53 c1_i32_17
  let c128_i32_18 : BitVec 32 := 128#32
  let v55 : BitVec 32 := Scalar.muli v54 c128_i32_18
  v55
def k0_mult133 (arg0 : BitVec 32) (v0 : BitVec 32) : BitVec 32 :=
  let v18 : BitVec 32 := Scalar.subi arg0 v0
  let c4_i32_31 : BitVec 32 := 4#32
  let v87 : BitVec 32 := Scalar.muli v18 c4_i32_31
  let c2_i32 : BitVec 32 := 2#32
  let v88 : BitVec 32 := Scalar.addi v87 c2_i32
  let c128_i32_32 : BitVec 32 := 128#32
  let v89 : BitVec 32 := Scalar.muli v88 c128_i32_32
  v89
def k0_mult134 (arg0 : BitVec 32) (v0 : BitVec 32) : BitVec 32 :=
  let v18 : BitVec 32 := Scalar.subi arg0 v0
  let c4_i32_44 : BitVec 32 := 4#32
  let v121 : BitVec 32 := Scalar.muli v18 c4_i32_44
  let c3_i32 : BitVec 32 := 3#32
  let v122 : BitVec 32 := Scalar.addi v121 c3_i32
  let c128_i32_45 : BitVec 32 := 128#32
  let v123 : BitVec 32 := Scalar.muli v122 c128_i32_45
  v123

def k0_chk130 (arg0 : BitVec 32) (v0 : BitVec 32) : Prop :=
  (∀ (k0_h5 : k0_cond5 arg0 v0 = 1#1), 128 ∣ (k0_mult131 arg0 v0).toNat) ∧
  (∀ (k0_h5 : k0_cond5 arg0 v0 = 1#1), ∀ (r : Fin 4), ∀ a, (k0_off262 arg0 v0 (BitVec.ofNat 32 r.val)) a + S128x128.size a ≤ S7688x256.size a) ∧
  (∀ (k0_h5 : k0_cond5 arg0 v0 = 1#1), ∀ (r : Fin 4), ∀ a, (k0_off263 arg0 v0 (BitVec.ofNat 32 r.val)) a + S128x128.size a ≤ S7688x256.size a) ∧
  (∀ (k0_h5 : k0_cond5 arg0 v0 = 1#1), ∀ (r : Fin 4), ∀ a, (k0_off264 arg0 v0 (BitVec.ofNat 32 r.val)) a + S1x128.size a ≤ S60x128.size a) ∧
  (∀ (k0_h5 : k0_cond5 arg0 v0 = 1#1), 128 ∣ (k0_mult132 arg0 v0).toNat) ∧
  (∀ (k0_h5 : k0_cond5 arg0 v0 = 1#1), 128 ∣ (k0_mult133 arg0 v0).toNat) ∧
  (∀ (k0_h5 : k0_cond5 arg0 v0 = 1#1), 128 ∣ (k0_mult134 arg0 v0).toNat)
theorem k0_mult131_dvd : ∀ (arg0 : BitVec 32) (v0 : BitVec 32) (k0_hw130 : k0_chk130 arg0 v0), ∀ (k0_h5 : k0_cond5 arg0 v0 = 1#1), 128 ∣ (k0_mult131 arg0 v0).toNat := fun arg0 v0 k0_hw130 k0_h5 => k0_hw130.1 k0_h5
theorem k0_off262_inb : ∀ (arg0 : BitVec 32) (v0 : BitVec 32) (k0_hw130 : k0_chk130 arg0 v0), ∀ (k0_h5 : k0_cond5 arg0 v0 = 1#1), ∀ (r : Fin 4), ∀ a, (k0_off262 arg0 v0 (BitVec.ofNat 32 r.val)) a + S128x128.size a ≤ S7688x256.size a := fun arg0 v0 k0_hw130 k0_h5 r => k0_hw130.2.1 k0_h5 r
theorem k0_off263_inb : ∀ (arg0 : BitVec 32) (v0 : BitVec 32) (k0_hw130 : k0_chk130 arg0 v0), ∀ (k0_h5 : k0_cond5 arg0 v0 = 1#1), ∀ (r : Fin 4), ∀ a, (k0_off263 arg0 v0 (BitVec.ofNat 32 r.val)) a + S128x128.size a ≤ S7688x256.size a := fun arg0 v0 k0_hw130 k0_h5 r => k0_hw130.2.2.1 k0_h5 r
theorem k0_off264_inb : ∀ (arg0 : BitVec 32) (v0 : BitVec 32) (k0_hw130 : k0_chk130 arg0 v0), ∀ (k0_h5 : k0_cond5 arg0 v0 = 1#1), ∀ (r : Fin 4), ∀ a, (k0_off264 arg0 v0 (BitVec.ofNat 32 r.val)) a + S1x128.size a ≤ S60x128.size a := fun arg0 v0 k0_hw130 k0_h5 r => k0_hw130.2.2.2.1 k0_h5 r
theorem k0_mult132_dvd : ∀ (arg0 : BitVec 32) (v0 : BitVec 32) (k0_hw130 : k0_chk130 arg0 v0), ∀ (k0_h5 : k0_cond5 arg0 v0 = 1#1), 128 ∣ (k0_mult132 arg0 v0).toNat := fun arg0 v0 k0_hw130 k0_h5 => k0_hw130.2.2.2.2.1 k0_h5
theorem k0_mult133_dvd : ∀ (arg0 : BitVec 32) (v0 : BitVec 32) (k0_hw130 : k0_chk130 arg0 v0), ∀ (k0_h5 : k0_cond5 arg0 v0 = 1#1), 128 ∣ (k0_mult133 arg0 v0).toNat := fun arg0 v0 k0_hw130 k0_h5 => k0_hw130.2.2.2.2.2.1 k0_h5
theorem k0_mult134_dvd : ∀ (arg0 : BitVec 32) (v0 : BitVec 32) (k0_hw130 : k0_chk130 arg0 v0), ∀ (k0_h5 : k0_cond5 arg0 v0 = 1#1), 128 ∣ (k0_mult134 arg0 v0).toNat := fun arg0 v0 k0_hw130 k0_h5 => k0_hw130.2.2.2.2.2.2 k0_h5

def cc0_transform_0 (inb_S3_S1_0 : ∀ a, (![0] : Fin 1 → Nat) a + S1.size a ≤ S3.size a) (numel1_S1 : S1.numel = 1) (pf : pre0.Contents (Elt F)) (b : grid0.Bounds) (i : (grid0.at b).Coords) : Fin 2 → Nat :=
  let arg0 : BitVec 32 := BitVec.ofNat 32 (i 0).val
  let c0 : Index := 0#32
  let v0 : BitVec 32 := pf.at 1 (Rect.unit (s := S3) ![0] S1.size inb_S3_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (inb_S3_S1_0 : ∀ a, (![0] : Fin 1 → Nat) a + S1.size a ≤ S3.size a) (numel1_S1 : S1.numel = 1) (pf : pre0.Contents (Elt F)) (b : grid0.Bounds) (i : (grid0.at b).Coords) : Fin 1 → Nat :=
  let arg0 : BitVec 32 := BitVec.ofNat 32 (i 0).val
  let c0 : Index := 0#32
  let v0 : BitVec 32 := pf.at 1 (Rect.unit (s := S3) ![0] S1.size inb_S3_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.addi c0_i32 v2
  let c0_i32_0 : BitVec 32 := 0#32
  ![v3.toNat]

def cc0_transform_2 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (inb_S3_S1_0 : ∀ a, (![0] : Fin 1 → Nat) a + S1.size a ≤ S3.size a) (numel1_S1 : S1.numel = 1) (pf : pre0.Contents (Elt F)) (b : grid0.Bounds) (i : (grid0.at b).Coords) : Fin 2 → Nat :=
  let arg0 : BitVec 32 := BitVec.ofNat 32 (i 0).val
  let c0 : Index := 0#32
  let v0 : BitVec 32 := pf.at 1 (Rect.unit (s := S3) ![0] S1.size inb_S3_S1_0) numel1_S1
  let v1 : BitVec 32 := Scalar.subi arg0 v0
  let c0_i32 : BitVec 32 := 0#32
  let v2 : BitVec 32 := Scalar.maxsi v1 c0_i32
  let c0_i32_0 : BitVec 32 := 0#32
  let v3 : BitVec 32 := Scalar.addi c0_i32_0 v2
  let c0_i32_1 : BitVec 32 := 0#32
  let c0_i32_2 : BitVec 32 := 0#32
  ![c0_i32_1.toNat, v3.toNat]

def cc0_transform_7 (inb_S3_S1_0 : ∀ a, (![0] : Fin 1 → Nat) a + S1.size a ≤ S3.size a) (numel1_S1 : S1.numel = 1) (pf : pre0.Contents (Elt F)) (b : grid0.Bounds) (i : (grid0.at b).Coords) : Fin 2 → Nat :=
  let arg0 : BitVec 32 := BitVec.ofNat 32 (i 0).val
  let c0 : Index := 0#32
  let v0 : BitVec 32 := pf.at 1 (Rect.unit (s := S3) ![0] S1.size inb_S3_S1_0) numel1_S1
  let v1 : BitVec 32 := Scalar.subi arg0 v0
  let c0_i32 : BitVec 32 := 0#32
  let v2 : BitVec 32 := Scalar.maxsi v1 c0_i32
  let c0_i32_0 : BitVec 32 := 0#32
  let v3 : BitVec 32 := Scalar.addi c0_i32_0 v2
  let c0_i32_1 : BitVec 32 := 0#32
  let c0_i32_2 : BitVec 32 := 0#32
  ![c0_i32_1.toNat, v3.toNat]

abbrev stage0_0 : Fin 2 → Memref sig .tc .vmem S1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S60x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S192x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel0Ideal.lean ====
abbrev S425984x128 : Shape := ⟨2, ![425984, 128]⟩
abbrev S212992 : Shape := ⟨1, ![212992]⟩
abbrev S6x32x64 : Shape := ⟨3, ![6, 32, 64]⟩
abbrev S60x128 : Shape := ⟨2, ![60, 128]⟩
abbrev S_ : Shape := ⟨0, ![]⟩
abbrev S192x30208 : Shape := ⟨2, ![192, 30208]⟩
abbrev S6x30208 : Shape := ⟨2, ![6, 30208]⟩
abbrev S192x2x32 : Shape := ⟨3, ![192, 2, 32]⟩
abbrev S2x32x192 : Shape := ⟨3, ![2, 32, 192]⟩
abbrev S4x4 : Shape := ⟨2, ![4, 4]⟩
abbrev S2x1x32x1x192 : Shape := ⟨5, ![2, 1, 32, 1, 192]⟩
abbrev S1x4x1x4x1 : Shape := ⟨5, ![1, 4, 1, 4, 1]⟩
abbrev S2x4x32x4x192 : Shape := ⟨5, ![2, 4, 32, 4, 192]⟩
abbrev S2x4x32x4x128 : Shape := ⟨5, ![2, 4, 32, 4, 128]⟩
abbrev S256x512 : Shape := ⟨2, ![256, 512]⟩
abbrev S2x4x32x4x64 : Shape := ⟨5, ![2, 4, 32, 4, 64]⟩
abbrev S256x256 : Shape := ⟨2, ![256, 256]⟩
abbrev S256x768 : Shape := ⟨2, ![256, 768]⟩
abbrev S1 : Shape := ⟨1, ![1]⟩
abbrev S3 : Shape := ⟨1, ![3]⟩
abbrev S1024x128 : Shape := ⟨2, ![1024, 128]⟩
abbrev S128 : Shape := ⟨1, ![128]⟩
abbrev S192x512 : Shape := ⟨2, ![192, 512]⟩
abbrev S6x512 : Shape := ⟨2, ![6, 512]⟩
abbrev S7688x256 : Shape := ⟨2, ![7688, 256]⟩
abbrev S2x8x128 : Shape := ⟨3, ![2, 8, 128]⟩
abbrev S1024x768 : Shape := ⟨2, ![1024, 768]⟩
abbrev S1024x256 : Shape := ⟨2, ![1024, 256]⟩
abbrev S1x8x128 : Shape := ⟨3, ![1, 8, 128]⟩
abbrev S8x128 : Shape := ⟨2, ![8, 128]⟩
abbrev S8x768 : Shape := ⟨2, ![8, 768]⟩
abbrev S8x256 : Shape := ⟨2, ![8, 256]⟩
abbrev S1x256 : Shape := ⟨2, ![1, 256]⟩
abbrev S256 : Shape := ⟨1, ![256]⟩
abbrev S128x128 : Shape := ⟨2, ![128, 128]⟩
abbrev S64x128 : Shape := ⟨2, ![64, 128]⟩
abbrev S192x128 : Shape := ⟨2, ![192, 128]⟩
abbrev S1x128 : Shape := ⟨2, ![1, 128]⟩
abbrev S192x128x1 : Shape := ⟨3, ![192, 128, 1]⟩
abbrev S6x32x128 : Shape := ⟨3, ![6, 32, 128]⟩
abbrev S6x128 : Shape := ⟨2, ![6, 128]⟩

abbrev nBuf : Space → Nat
  | .hbm => 50
  | .vmem => 11
  | .smem => 4
  | _ => 0

abbrev bufTy : (tb : Table) → Fin (tcTables nBuf tb) → BufTy
  | .hbm, ⟨0, _⟩ => ⟨S425984x128, .i32⟩
  | .hbm, ⟨1, _⟩ => ⟨S212992, .i32⟩
  | .hbm, ⟨2, _⟩ => ⟨S6x32x64, .bf16⟩
  | .hbm, ⟨3, _⟩ => ⟨S60x128, .i32⟩
  | .hbm, ⟨4, _⟩ => ⟨S_, .i32⟩
  | .hbm, ⟨5, _⟩ => ⟨S_, .i32⟩
  | .hbm, ⟨6, _⟩ => ⟨S192x30208, .f32⟩
  | .hbm, ⟨7, _⟩ => ⟨S6x30208, .f32⟩
  | .hbm, ⟨8, _⟩ => ⟨S192x2x32, .bf16⟩
  | .hbm, ⟨9, _⟩ => ⟨S2x32x192, .bf16⟩
  | .hbm, ⟨10, _⟩ => ⟨S4x4, .i32⟩
  | .hbm, ⟨11, _⟩ => ⟨S4x4, .i32⟩
  | .hbm, ⟨12, _⟩ => ⟨S_, .i32⟩
  | .hbm, ⟨13, _⟩ => ⟨S4x4, .i32⟩
  | .hbm, ⟨14, _⟩ => ⟨S4x4, .i32⟩
  | .hbm, ⟨15, _⟩ => ⟨S4x4, .i1⟩
  | .hbm, ⟨16, _⟩ => ⟨S4x4, .bf16⟩
  | .hbm, ⟨17, _⟩ => ⟨S2x1x32x1x192, .bf16⟩
  | .hbm, ⟨18, _⟩ => ⟨S1x4x1x4x1, .bf16⟩
  | .hbm, ⟨19, _⟩ => ⟨S2x4x32x4x192, .bf16⟩
  | .hbm, ⟨20, _⟩ => ⟨S2x4x32x4x192, .bf16⟩
  | .hbm, ⟨21, _⟩ => ⟨S2x4x32x4x192, .bf16⟩
  | .hbm, ⟨22, _⟩ => ⟨S2x4x32x4x128, .bf16⟩
  | .hbm, ⟨23, _⟩ => ⟨S256x512, .bf16⟩
  | .hbm, ⟨24, _⟩ => ⟨S2x4x32x4x64, .bf16⟩
  | .hbm, ⟨25, _⟩ => ⟨S256x256, .bf16⟩
  | .hbm, ⟨26, _⟩ => ⟨S256x768, .bf16⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1, .i32⟩
  | .hbm, ⟨45, _⟩ => ⟨S1, .i32⟩
  | .hbm, ⟨46, _⟩ => ⟨S1, .i32⟩
  | .hbm, ⟨47, _⟩ => ⟨S_, .i32⟩
  | .hbm, ⟨48, _⟩ => ⟨S192x30208, .f32⟩
  | .hbm, ⟨49, _⟩ => ⟨S6x30208, .f32⟩
  | .local _ .vmem, ⟨0, _⟩ => ⟨S1024x128, .i32⟩
  | .local _ .vmem, ⟨1, _⟩ => ⟨S1024x128, .i32⟩
  | .local _ .vmem, ⟨2, _⟩ => ⟨S256x768, .bf16⟩
  | .local _ .vmem, ⟨3, _⟩ => ⟨S60x128, .i32⟩
  | .local _ .vmem, ⟨4, _⟩ => ⟨S192x512, .f32⟩
  | .local _ .vmem, ⟨5, _⟩ => ⟨S192x512, .f32⟩
  | .local _ .vmem, ⟨6, _⟩ => ⟨S6x512, .f32⟩
  | .local _ .vmem, ⟨7, _⟩ => ⟨S6x512, .f32⟩
  | .local _ .vmem, ⟨8, _⟩ => ⟨S7688x256, .f32⟩
  | .local _ .vmem, ⟨9, _⟩ => ⟨S2x8x128, .f32⟩
  | .local _ .vmem, ⟨10, _⟩ => ⟨S1024x768, .f32⟩
  | .local _ .smem, ⟨0, _⟩ => ⟨S_, .i32⟩
  | .local _ .smem, ⟨1, _⟩ => ⟨S3, .i32⟩
  | .local _ .smem, ⟨2, _⟩ => ⟨S128, .i32⟩
  | .local _ .smem, ⟨3, _⟩ => ⟨S128, .i32⟩
  | _, _ => ⟨S425984x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_0 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_c_2 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c : Ref sig .tc := ⟨.hbm, 38, rfl⟩
abbrev main_call0_v6 : Ref sig .tc := ⟨.hbm, 39, rfl⟩
abbrev main_call0_v7 : Ref sig .tc := ⟨.hbm, 40, rfl⟩
abbrev main_call0_c_0 : Ref sig .tc := ⟨.hbm, 41, rfl⟩
abbrev main_call0_v8 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_3 : Ref sig .tc := ⟨.hbm, 47, rfl⟩
abbrev main_v26_0 : Ref sig .tc := ⟨.hbm, 48, rfl⟩
abbrev main_v26_1 : Ref sig .tc := ⟨.hbm, 49, rfl⟩
abbrev main_v25 : Ref sig .tc := ⟨.smem, 0, rfl⟩
abbrev main_v24 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![0], ![true]⟩

abbrev pre0 : Pipeline.Prefetch sig := ⟨2, ![main_v25.idx, main_v24.idx], fun | 0 => main_v25.names | 1 => main_v24.names | ⟨_ + 2, h⟩ => absurd h (Nat.not_lt.2 (Nat.le_add_left _ _)), fun | 0 => rfl | 1 => rfl | ⟨_ + 2, h⟩ => absurd h (Nat.not_lt.2 (Nat.le_add_left _ _))⟩

def dynb0 (pf : pre0.Contents (Elt F)) : grid0.Bounds := ![(pf 0 fun a => a.elim0).toNat]

def k0_mult1 (v35 : BitVec 32) : BitVec 32 :=
  let c1_i32_19 : BitVec 32 := 1#32
  let v55 : BitVec 32 := Scalar.shrsi v35 c1_i32_19
  v55
def k0_cond1 (arg0 : BitVec 32) (v1 : BitVec 32) : BitVec 1 :=
  let c1_i32 : BitVec 32 := 1#32
  let v3 : BitVec 32 := Scalar.addi arg0 c1_i32
  let c128_i32 : BitVec 32 := 128#32
  let v4 : BitVec 32 := Scalar.muli v3 c128_i32
  let v5 : BitVec 1 := Scalar.cmpi .sle v4 v1
  let v6 : BitVec 32 := Scalar.extui v5
  let c0_i32 : BitVec 32 := 0#32
  let v7 : BitVec 1 := Scalar.cmpi .ne v6 c0_i32
  v7

def k0_off1 (v35 : BitVec 32) : Fin 2 → Nat :=
  let c1_i32_19 : BitVec 32 := 1#32
  let v55 : BitVec 32 := Scalar.shrsi v35 c1_i32_19
  let v56 : BitVec 32 := v55
  let v57 : Index := Scalar.indexCast v56
  let c0_20 : Index := 0#32
  ![v57.toNat, 0]
def k0_off2 (v35 : BitVec 32) : Fin 2 → Nat :=
  let c1_i32_19 : BitVec 32 := 1#32
  let v55 : BitVec 32 := Scalar.shrsi v35 c1_i32_19
  let v56 : BitVec 32 := v55
  let v61 : Index := Scalar.indexCast v56
  let c128 : Index := 128#32
  ![v61.toNat, 128]

def k0_chk1 (arg0 : BitVec 32) (v1 : BitVec 32) (v35 : BitVec 32) : Prop :=
  (∀ (k0_h1 : k0_cond1 arg0 v1 = 1#1), 8 ∣ (k0_mult1 v35).toNat) ∧
  (∀ (k0_h1 : k0_cond1 arg0 v1 = 1#1), ∀ a, (k0_off1 v35) a + S8x128.size a ≤ S7688x256.size a) ∧
  (∀ (k0_h1 : k0_cond1 arg0 v1 = 1#1), ∀ a, (k0_off2 v35) a + S8x128.size a ≤ S7688x256.size a)
theorem k0_mult1_dvd : ∀ (arg0 : BitVec 32) (v1 : BitVec 32) (v35 : BitVec 32) (k0_hw1 : k0_chk1 arg0 v1 v35), ∀ (k0_h1 : k0_cond1 arg0 v1 = 1#1), 8 ∣ (k0_mult1 v35).toNat := fun arg0 v1 v35 k0_hw1 k0_h1 => k0_hw1.1 k0_h1
theorem k0_off1_inb : ∀ (arg0 : BitVec 32) (v1 : BitVec 32) (v35 : BitVec 32) (k0_hw1 : k0_chk1 arg0 v1 v35), ∀ (k0_h1 : k0_cond1 arg0 v1 = 1#1), ∀ a, (k0_off1 v35) a + S8x128.size a ≤ S7688x256.size a := fun arg0 v1 v35 k0_hw1 k0_h1 => k0_hw1.2.1 k0_h1
theorem k0_off2_inb : ∀ (arg0 : BitVec 32) (v1 : BitVec 32) (v35 : BitVec 32) (k0_hw1 : k0_chk1 arg0 v1 v35), ∀ (k0_h1 : k0_cond1 arg0 v1 = 1#1), ∀ a, (k0_off2 v35) a + S8x128.size a ≤ S7688x256.size a := fun arg0 v1 v35 k0_hw1 k0_h1 => k0_hw1.2.2 k0_h1

def k0_mult2 (v65 : BitVec 32) : BitVec 32 :=
  let c1_i32_26 : BitVec 32 := 1#32
  let v85 : BitVec 32 := Scalar.shrsi v65 c1_i32_26
  v85

def k0_off3 (v65 : BitVec 32) : Fin 2 → Nat :=
  let c1_i32_26 : BitVec 32 := 1#32
  let v85 : BitVec 32 := Scalar.shrsi v65 c1_i32_26
  let v86 : BitVec 32 := v85
  let v87 : Index := Scalar.indexCast v86
  let c0_27 : Index := 0#32
  ![v87.toNat, 0]
def k0_off4 (v65 : BitVec 32) : Fin 2 → Nat :=
  let c1_i32_26 : BitVec 32 := 1#32
  let v85 : BitVec 32 := Scalar.shrsi v65 c1_i32_26
  let v86 : BitVec 32 := v85
  let v91 : Index := Scalar.indexCast v86
  let c128_28 : Index := 128#32
  ![v91.toNat, 128]

def k0_chk2 (arg0 : BitVec 32) (v1 : BitVec 32) (v65 : BitVec 32) : Prop :=
  (∀ (k0_h1 : k0_cond1 arg0 v1 = 1#1), 8 ∣ (k0_mult2 v65).toNat) ∧
  (∀ (k0_h1 : k0_cond1 arg0 v1 = 1#1), ∀ a, (k0_off3 v65) a + S8x128.size a ≤ S7688x256.size a) ∧
  (∀ (k0_h1 : k0_cond1 arg0 v1 = 1#1), ∀ a, (k0_off4 v65) a + S8x128.size a ≤ S7688x256.size a)
theorem k0_mult2_dvd : ∀ (arg0 : BitVec 32) (v1 : BitVec 32) (v65 : BitVec 32) (k0_hw2 : k0_chk2 arg0 v1 v65), ∀ (k0_h1 : k0_cond1 arg0 v1 = 1#1), 8 ∣ (k0_mult2 v65).toNat := fun arg0 v1 v65 k0_hw2 k0_h1 => k0_hw2.1 k0_h1
theorem k0_off3_inb : ∀ (arg0 : BitVec 32) (v1 : BitVec 32) (v65 : BitVec 32) (k0_hw2 : k0_chk2 arg0 v1 v65), ∀ (k0_h1 : k0_cond1 arg0 v1 = 1#1), ∀ a, (k0_off3 v65) a + S8x128.size a ≤ S7688x256.size a := fun arg0 v1 v65 k0_hw2 k0_h1 => k0_hw2.2.1 k0_h1
theorem k0_off4_inb : ∀ (arg0 : BitVec 32) (v1 : BitVec 32) (v65 : BitVec 32) (k0_hw2 : k0_chk2 arg0 v1 v65), ∀ (k0_h1 : k0_cond1 arg0 v1 = 1#1), ∀ a, (k0_off4 v65) a + S8x128.size a ≤ S7688x256.size a := fun arg0 v1 v65 k0_hw2 k0_h1 => k0_hw2.2.2 k0_h1

def k0_mult3 (v95 : BitVec 32) : BitVec 32 :=
  let c1_i32_34 : BitVec 32 := 1#32
  let v115 : BitVec 32 := Scalar.shrsi v95 c1_i32_34
  v115

def k0_off5 (v95 : BitVec 32) : Fin 2 → Nat :=
  let c1_i32_34 : BitVec 32 := 1#32
  let v115 : BitVec 32 := Scalar.shrsi v95 c1_i32_34
  let v116 : BitVec 32 := v115
  let v117 : Index := Scalar.indexCast v116
  let c0_35 : Index := 0#32
  ![v117.toNat, 0]
def k0_off6 (v95 : BitVec 32) : Fin 2 → Nat :=
  let c1_i32_34 : BitVec 32 := 1#32
  let v115 : BitVec 32 := Scalar.shrsi v95 c1_i32_34
  let v116 : BitVec 32 := v115
  let v121 : Index := Scalar.indexCast v116
  let c128_36 : Index := 128#32
  ![v121.toNat, 128]

def k0_chk3 (arg0 : BitVec 32) (v1 : BitVec 32) (v95 : BitVec 32) : Prop :=
  (∀ (k0_h1 : k0_cond1 arg0 v1 = 1#1), 8 ∣ (k0_mult3 v95).toNat) ∧
  (∀ (k0_h1 : k0_cond1 arg0 v1 = 1#1), ∀ a, (k0_off5 v95) a + S8x128.size a ≤ S7688x256.size a) ∧
  (∀ (k0_h1 : k0_cond1 arg0 v1 = 1#1), ∀ a, (k0_off6 v95) a + S8x128.size a ≤ S7688x256.size a)
theorem k0_mult3_dvd : ∀ (arg0 : BitVec 32) (v1 : BitVec 32) (v95 : BitVec 32) (k0_hw3 : k0_chk3 arg0 v1 v95), ∀ (k0_h1 : k0_cond1 arg0 v1 = 1#1), 8 ∣ (k0_mult3 v95).toNat := fun arg0 v1 v95 k0_hw3 k0_h1 => k0_hw3.1 k0_h1
theorem k0_off5_inb : ∀ (arg0 : BitVec 32) (v1 : BitVec 32) (v95 : BitVec 32) (k0_hw3 : k0_chk3 arg0 v1 v95), ∀ (k0_h1 : k0_cond1 arg0 v1 = 1#1), ∀ a, (k0_off5 v95) a + S8x128.size a ≤ S7688x256.size a := fun arg0 v1 v95 k0_hw3 k0_h1 => k0_hw3.2.1 k0_h1
theorem k0_off6_inb : ∀ (arg0 : BitVec 32) (v1 : BitVec 32) (v95 : BitVec 32) (k0_hw3 : k0_chk3 arg0 v1 v95), ∀ (k0_h1 : k0_cond1 arg0 v1 = 1#1), ∀ a, (k0_off6 v95) a + S8x128.size a ≤ S7688x256.size a := fun arg0 v1 v95 k0_hw3 k0_h1 => k0_hw3.2.2 k0_h1

def k0_mult4 (v125 : BitVec 32) : BitVec 32 :=
  let c1_i32_41 : BitVec 32 := 1#32
  let v145 : BitVec 32 := Scalar.shrsi v125 c1_i32_41
  v145

def k0_off7 (v125 : BitVec 32) : Fin 2 → Nat :=
  let c1_i32_41 : BitVec 32 := 1#32
  let v145 : BitVec 32 := Scalar.shrsi v125 c1_i32_41
  let v146 : BitVec 32 := v145
  let v147 : Index := Scalar.indexCast v146
  let c0_42 : Index := 0#32
  ![v147.toNat, 0]
def k0_off8 (v125 : BitVec 32) : Fin 2 → Nat :=
  let c1_i32_41 : BitVec 32 := 1#32
  let v145 : BitVec 32 := Scalar.shrsi v125 c1_i32_41
  let v146 : BitVec 32 := v145
  let v151 : Index := Scalar.indexCast v146
  let c128_43 : Index := 128#32
  ![v151.toNat, 128]

def k0_chk4 (arg0 : BitVec 32) (v1 : BitVec 32) (v125 : BitVec 32) : Prop :=
  (∀ (k0_h1 : k0_cond1 arg0 v1 = 1#1), 8 ∣ (k0_mult4 v125).toNat) ∧
  (∀ (k0_h1 : k0_cond1 arg0 v1 = 1#1), ∀ a, (k0_off7 v125) a + S8x128.size a ≤ S7688x256.size a) ∧
  (∀ (k0_h1 : k0_cond1 arg0 v1 = 1#1), ∀ a, (k0_off8 v125) a + S8x128.size a ≤ S7688x256.size a)
theorem k0_mult4_dvd : ∀ (arg0 : BitVec 32) (v1 : BitVec 32) (v125 : BitVec 32) (k0_hw4 : k0_chk4 arg0 v1 v125), ∀ (k0_h1 : k0_cond1 arg0 v1 = 1#1), 8 ∣ (k0_mult4 v125).toNat := fun arg0 v1 v125 k0_hw4 k0_h1 => k0_hw4.1 k0_h1
theorem k0_off7_inb : ∀ (arg0 : BitVec 32) (v1 : BitVec 32) (v125 : BitVec 32) (k0_hw4 : k0_chk4 arg0 v1 v125), ∀ (k0_h1 : k0_cond1 arg0 v1 = 1#1), ∀ a, (k0_off7 v125) a + S8x128.size a ≤ S7688x256.size a := fun arg0 v1 v125 k0_hw4 k0_h1 => k0_hw4.2.1 k0_h1
theorem k0_off8_inb : ∀ (arg0 : BitVec 32) (v1 : BitVec 32) (v125 : BitVec 32) (k0_hw4 : k0_chk4 arg0 v1 v125), ∀ (k0_h1 : k0_cond1 arg0 v1 = 1#1), ∀ a, (k0_off8 v125) a + S8x128.size a ≤ S7688x256.size a := fun arg0 v1 v125 k0_hw4 k0_h1 => k0_hw4.2.2 k0_h1

def k0_mult5 (v155 : BitVec 32) : BitVec 32 :=
  let c1_i32_48 : BitVec 32 := 1#32
  let v175 : BitVec 32 := Scalar.shrsi v155 c1_i32_48
  v175

def k0_off9 (v155 : BitVec 32) : Fin 2 → Nat :=
  let c1_i32_48 : BitVec 32 := 1#32
  let v175 : BitVec 32 := Scalar.shrsi v155 c1_i32_48
  let v176 : BitVec 32 := v175
  let v177 : Index := Scalar.indexCast v176
  let c0_49 : Index := 0#32
  ![v177.toNat, 0]
def k0_off10 (v155 : BitVec 32) : Fin 2 → Nat :=
  let c1_i32_48 : BitVec 32 := 1#32
  let v175 : BitVec 32 := Scalar.shrsi v155 c1_i32_48
  let v176 : BitVec 32 := v175
  let v181 : Index := Scalar.indexCast v176
  let c128_50 : Index := 128#32
  ![v181.toNat, 128]

def k0_chk5 (arg0 : BitVec 32) (v1 : BitVec 32) (v155 : BitVec 32) : Prop :=
  (∀ (k0_h1 : k0_cond1 arg0 v1 = 1#1), 8 ∣ (k0_mult5 v155).toNat) ∧
  (∀ (k0_h1 : k0_cond1 arg0 v1 = 1#1), ∀ a, (k0_off9 v155) a + S8x128.size a ≤ S7688x256.size a) ∧
  (∀ (k0_h1 : k0_cond1 arg0 v1 = 1#1), ∀ a, (k0_off10 v155) a + S8x128.size a ≤ S7688x256.size a)
theorem k0_mult5_dvd : ∀ (arg0 : BitVec 32) (v1 : BitVec 32) (v155 : BitVec 32) (k0_hw5 : k0_chk5 arg0 v1 v155), ∀ (k0_h1 : k0_cond1 arg0 v1 = 1#1), 8 ∣ (k0_mult5 v155).toNat := fun arg0 v1 v155 k0_hw5 k0_h1 => k0_hw5.1 k0_h1
theorem k0_off9_inb : ∀ (arg0 : BitVec 32) (v1 : BitVec 32) (v155 : BitVec 32) (k0_hw5 : k0_chk5 arg0 v1 v155), ∀ (k0_h1 : k0_cond1 arg0 v1 = 1#1), ∀ a, (k0_off9 v155) a + S8x128.size a ≤ S7688x256.size a := fun arg0 v1 v155 k0_hw5 k0_h1 => k0_hw5.2.1 k0_h1
theorem k0_off10_inb : ∀ (arg0 : BitVec 32) (v1 : BitVec 32) (v155 : BitVec 32) (k0_hw5 : k0_chk5 arg0 v1 v155), ∀ (k0_h1 : k0_cond1 arg0 v1 = 1#1), ∀ a, (k0_off10 v155) a + S8x128.size a ≤ S7688x256.size a := fun arg0 v1 v155 k0_hw5 k0_h1 => k0_hw5.2.2 k0_h1

def k0_mult6 (v185 : BitVec 32) : BitVec 32 :=
  let c1_i32_55 : BitVec 32 := 1#32
  let v205 : BitVec 32 := Scalar.shrsi v185 c1_i32_55
  v205

def k0_off11 (v185 : BitVec 32) : Fin 2 → Nat :=
  let c1_i32_55 : BitVec 32 := 1#32
  let v205 : BitVec 32 := Scalar.shrsi v185 c1_i32_55
  let v206 : BitVec 32 := v205
  let v207 : Index := Scalar.indexCast v206
  let c0_56 : Index := 0#32
  ![v207.toNat, 0]
def k0_off12 (v185 : BitVec 32) : Fin 2 → Nat :=
  let c1_i32_55 : BitVec 32 := 1#32
  let v205 : BitVec 32 := Scalar.shrsi v185 c1_i32_55
  let v206 : BitVec 32 := v205
  let v211 : Index := Scalar.indexCast v206
  let c128_57 : Index := 128#32
  ![v211.toNat, 128]

def k0_chk6 (arg0 : BitVec 32) (v1 : BitVec 32) (v185 : BitVec 32) : Prop :=
  (∀ (k0_h1 : k0_cond1 arg0 v1 = 1#1), 8 ∣ (k0_mult6 v185).toNat) ∧
  (∀ (k0_h1 : k0_cond1 arg0 v1 = 1#1), ∀ a, (k0_off11 v185) a + S8x128.size a ≤ S7688x256.size a) ∧
  (∀ (k0_h1 : k0_cond1 arg0 v1 = 1#1), ∀ a, (k0_off12 v185) a + S8x128.size a ≤ S7688x256.size a)
theorem k0_mult6_dvd : ∀ (arg0 : BitVec 32) (v1 : BitVec 32) (v185 : BitVec 32) (k0_hw6 : k0_chk6 arg0 v1 v185), ∀ (k0_h1 : k0_cond1 arg0 v1 = 1#1), 8 ∣ (k0_mult6 v185).toNat := fun arg0 v1 v185 k0_hw6 k0_h1 => k0_hw6.1 k0_h1
theorem k0_off11_inb : ∀ (arg0 : BitVec 32) (v1 : BitVec 32) (v185 : BitVec 32) (k0_hw6 : k0_chk6 arg0 v1 v185), ∀ (k0_h1 : k0_cond1 arg0 v1 = 1#1), ∀ a, (k0_off11 v185) a + S8x128.size a ≤ S7688x256.size a := fun arg0 v1 v185 k0_hw6 k0_h1 => k0_hw6.2.1 k0_h1
theorem k0_off12_inb : ∀ (arg0 : BitVec 32) (v1 : BitVec 32) (v185 : BitVec 32) (k0_hw6 : k0_chk6 arg0 v1 v185), ∀ (k0_h1 : k0_cond1 arg0 v1 = 1#1), ∀ a, (k0_off12 v185) a + S8x128.size a ≤ S7688x256.size a := fun arg0 v1 v185 k0_hw6 k0_h1 => k0_hw6.2.2 k0_h1

def k0_mult7 (v215 : BitVec 32) : BitVec 32 :=
  let c1_i32_62 : BitVec 32 := 1#32
  let v235 : BitVec 32 := Scalar.shrsi v215 c1_i32_62
  v235

def k0_off13 (v215 : BitVec 32) : Fin 2 → Nat :=
  let c1_i32_62 : BitVec 32 := 1#32
  let v235 : BitVec 32 := Scalar.shrsi v215 c1_i32_62
  let v236 : BitVec 32 := v235
  let v237 : Index := Scalar.indexCast v236
  let c0_63 : Index := 0#32
  ![v237.toNat, 0]
def k0_off14 (v215 : BitVec 32) : Fin 2 → Nat :=
  let c1_i32_62 : BitVec 32 := 1#32
  let v235 : BitVec 32 := Scalar.shrsi v215 c1_i32_62
  let v236 : BitVec 32 := v235
  let v241 : Index := Scalar.indexCast v236
  let c128_64 : Index := 128#32
  ![v241.toNat, 128]

def k0_chk7 (arg0 : BitVec 32) (v1 : BitVec 32) (v215 : BitVec 32) : Prop :=
  (∀ (k0_h1 : k0_cond1 arg0 v1 = 1#1), 8 ∣ (k0_mult7 v215).toNat) ∧
  (∀ (k0_h1 : k0_cond1 arg0 v1 = 1#1), ∀ a, (k0_off13 v215) a + S8x128.size a ≤ S7688x256.size a) ∧
  (∀ (k0_h1 : k0_cond1 arg0 v1 = 1#1), ∀ a, (k0_off14 v215) a + S8x128.size a ≤ S7688x256.size a)
theorem k0_mult7_dvd : ∀ (arg0 : BitVec 32) (v1 : BitVec 32) (v215 : BitVec 32) (k0_hw7 : k0_chk7 arg0 v1 v215), ∀ (k0_h1 : k0_cond1 arg0 v1 = 1#1), 8 ∣ (k0_mult7 v215).toNat := fun arg0 v1 v215 k0_hw7 k0_h1 => k0_hw7.1 k0_h1
theorem k0_off13_inb : ∀ (arg0 : BitVec 32) (v1 : BitVec 32) (v215 : BitVec 32) (k0_hw7 : k0_chk7 arg0 v1 v215), ∀ (k0_h1 : k0_cond1 arg0 v1 = 1#1), ∀ a, (k0_off13 v215) a + S8x128.size a ≤ S7688x256.size a := fun arg0 v1 v215 k0_hw7 k0_h1 => k0_hw7.2.1 k0_h1
theorem k0_off14_inb : ∀ (arg0 : BitVec 32) (v1 : BitVec 32) (v215 : BitVec 32) (k0_hw7 : k0_chk7 arg0 v1 v215), ∀ (k0_h1 : k0_cond1 arg0 v1 = 1#1), ∀ a, (k0_off14 v215) a + S8x128.size a ≤ S7688x256.size a := fun arg0 v1 v215 k0_hw7 k0_h1 => k0_hw7.2.2 k0_h1

def k0_mult8 (v245 : BitVec 32) : BitVec 32 :=
  let c1_i32_69 : BitVec 32 := 1#32
  let v265 : BitVec 32 := Scalar.shrsi v245 c1_i32_69
  v265

def k0_off15 (v245 : BitVec 32) : Fin 2 → Nat :=
  let c1_i32_69 : BitVec 32 := 1#32
  let v265 : BitVec 32 := Scalar.shrsi v245 c1_i32_69
  let v266 : BitVec 32 := v265
  let v267 : Index := Scalar.indexCast v266
  let c0_70 : Index := 0#32
  ![v267.toNat, 0]
def k0_off16 (v245 : BitVec 32) : Fin 2 → Nat :=
  let c1_i32_69 : BitVec 32 := 1#32
  let v265 : BitVec 32 := Scalar.shrsi v245 c1_i32_69
  let v266 : BitVec 32 := v265
  let v271 : Index := Scalar.indexCast v266
  let c128_71 : Index := 128#32
  ![v271.toNat, 128]

def k0_chk8 (arg0 : BitVec 32) (v1 : BitVec 32) (v245 : BitVec 32) : Prop :=
  (∀ (k0_h1 : k0_cond1 arg0 v1 = 1#1), 8 ∣ (k0_mult8 v245).toNat) ∧
  (∀ (k0_h1 : k0_cond1 arg0 v1 = 1#1), ∀ a, (k0_off15 v245) a + S8x128.size a ≤ S7688x256.size a) ∧
  (∀ (k0_h1 : k0_cond1 arg0 v1 = 1#1), ∀ a, (k0_off16 v245) a + S8x128.size a ≤ S7688x256.size a)
theorem k0_mult8_dvd : ∀ (arg0 : BitVec 32) (v1 : BitVec 32) (v245 : BitVec 32) (k0_hw8 : k0_chk8 arg0 v1 v245), ∀ (k0_h1 : k0_cond1 arg0 v1 = 1#1), 8 ∣ (k0_mult8 v245).toNat := fun arg0 v1 v245 k0_hw8 k0_h1 => k0_hw8.1 k0_h1
theorem k0_off15_inb : ∀ (arg0 : BitVec 32) (v1 : BitVec 32) (v245 : BitVec 32) (k0_hw8 : k0_chk8 arg0 v1 v245), ∀ (k0_h1 : k0_cond1 arg0 v1 = 1#1), ∀ a, (k0_off15 v245) a + S8x128.size a ≤ S7688x256.size a := fun arg0 v1 v245 k0_hw8 k0_h1 => k0_hw8.2.1 k0_h1
theorem k0_off16_inb : ∀ (arg0 : BitVec 32) (v1 : BitVec 32) (v245 : BitVec 32) (k0_hw8 : k0_chk8 arg0 v1 v245), ∀ (k0_h1 : k0_cond1 arg0 v1 = 1#1), ∀ a, (k0_off16 v245) a + S8x128.size a ≤ S7688x256.size a := fun arg0 v1 v245 k0_hw8 k0_h1 => k0_hw8.2.2 k0_h1

def k0_mult9 (v275 : BitVec 32) : BitVec 32 :=
  let c1_i32_76 : BitVec 32 := 1#32
  let v295 : BitVec 32 := Scalar.shrsi v275 c1_i32_76
  v295

def k0_off17 (v275 : BitVec 32) : Fin 2 → Nat :=
  let c1_i32_76 : BitVec 32 := 1#32
  let v295 : BitVec 32 := Scalar.shrsi v275 c1_i32_76
  let v296 : BitVec 32 := v295
  let v297 : Index := Scalar.indexCast v296
  let c0_77 : Index := 0#32
  ![v297.toNat, 0]
def k0_off18 (v275 : BitVec 32) : Fin 2 → Nat :=
  let c1_i32_76 : BitVec 32 := 1#32
  let v295 : BitVec 32 := Scalar.shrsi v275 c1_i32_76
  let v296 : BitVec 32 := v295
  let v301 : Index := Scalar.indexCast v296
  let c128_78 : Index := 128#32
  ![v301.toNat, 128]

def k0_chk9 (arg0 : BitVec 32) (v1 : BitVec 32) (v275 : BitVec 32) : Prop :=
  (∀ (k0_h1 : k0_cond1 arg0 v1 = 1#1), 8 ∣ (k0_mult9 v275).toNat) ∧
  (∀ (k0_h1 : k0_cond1 arg0 v1 = 1#1), ∀ a, (k0_off17 v275) a + S8x128.size a ≤ S7688x256.size a) ∧
  (∀ (k0_h1 : k0_cond1 arg0 v1 = 1#1), ∀ a, (k0_off18 v275) a + S8x128.size a ≤ S7688x256.size a)
theorem k0_mult9_dvd : ∀ (arg0 : BitVec 32) (v1 : BitVec 32) (v275 : BitVec 32) (k0_hw9 : k0_chk9 arg0 v1 v275), ∀ (k0_h1 : k0_cond1 arg0 v1 = 1#1), 8 ∣ (k0_mult9 v275).toNat := fun arg0 v1 v275 k0_hw9 k0_h1 => k0_hw9.1 k0_h1
theorem k0_off17_inb : ∀ (arg0 : BitVec 32) (v1 : BitVec 32) (v275 : BitVec 32) (k0_hw9 : k0_chk9 arg0 v1 v275), ∀ (k0_h1 : k0_cond1 arg0 v1 = 1#1), ∀ a, (k0_off17 v275) a + S8x128.size a ≤ S7688x256.size a := fun arg0 v1 v275 k0_hw9 k0_h1 => k0_hw9.2.1 k0_h1
theorem k0_off18_inb : ∀ (arg0 : BitVec 32) (v1 : BitVec 32) (v275 : BitVec 32) (k0_hw9 : k0_chk9 arg0 v1 v275), ∀ (k0_h1 : k0_cond1 arg0 v1 = 1#1), ∀ a, (k0_off18 v275) a + S8x128.size a ≤ S7688x256.size a := fun arg0 v1 v275 k0_hw9 k0_h1 => k0_hw9.2.2 k0_h1

def k0_mult10 (v305 : BitVec 32) : BitVec 32 :=
  let c1_i32_83 : BitVec 32 := 1#32
  let v325 : BitVec 32 := Scalar.shrsi v305 c1_i32_83
  v325

def k0_off19 (v305 : BitVec 32) : Fin 2 → Nat :=
  let c1_i32_83 : BitVec 32 := 1#32
  let v325 : BitVec 32 := Scalar.shrsi v305 c1_i32_83
  let v326 : BitVec 32 := v325
  let v327 : Index := Scalar.indexCast v326
  let c0_84 : Index := 0#32
  ![v327.toNat, 0]
def k0_off20 (v305 : BitVec 32) : Fin 2 → Nat :=
  let c1_i32_83 : BitVec 32 := 1#32
  let v325 : BitVec 32 := Scalar.shrsi v305 c1_i32_83
  let v326 : BitVec 32 := v325
  let v331 : Index := Scalar.indexCast v326
  let c128_85 : Index := 128#32
  ![v331.toNat, 128]

def k0_chk10 (arg0 : BitVec 32) (v1 : BitVec 32) (v305 : BitVec 32) : Prop :=
  (∀ (k0_h1 : k0_cond1 arg0 v1 = 1#1), 8 ∣ (k0_mult10 v305).toNat) ∧
  (∀ (k0_h1 : k0_cond1 arg0 v1 = 1#1), ∀ a, (k0_off19 v305) a + S8x128.size a ≤ S7688x256.size a) ∧
  (∀ (k0_h1 : k0_cond1 arg0 v1 = 1#1), ∀ a, (k0_off20 v305) a + S8x128.size a ≤ S7688x256.size a)
theorem k0_mult10_dvd : ∀ (arg0 : BitVec 32) (v1 : BitVec 32) (v305 : BitVec 32) (k0_hw10 : k0_chk10 arg0 v1 v305), ∀ (k0_h1 : k0_cond1 arg0 v1 = 1#1), 8 ∣ (k0_mult10 v305).toNat := fun arg0 v1 v305 k0_hw10 k0_h1 => k0_hw10.1 k0_h1
theorem k0_off19_inb : ∀ (arg0 : BitVec 32) (v1 : BitVec 32) (v305 : BitVec 32) (k0_hw10 : k0_chk10 arg0 v1 v305), ∀ (k0_h1 : k0_cond1 arg0 v1 = 1#1), ∀ a, (k0_off19 v305) a + S8x128.size a ≤ S7688x256.size a := fun arg0 v1 v305 k0_hw10 k0_h1 => k0_hw10.2.1 k0_h1
theorem k0_off20_inb : ∀ (arg0 : BitVec 32) (v1 : BitVec 32) (v305 : BitVec 32) (k0_hw10 : k0_chk10 arg0 v1 v305), ∀ (k0_h1 : k0_cond1 arg0 v1 = 1#1), ∀ a, (k0_off20 v305) a + S8x128.size a ≤ S7688x256.size a := fun arg0 v1 v305 k0_hw10 k0_h1 => k0_hw10.2.2 k0_h1

def k0_mult11 (v335 : BitVec 32) : BitVec 32 :=
  let c1_i32_90 : BitVec 32 := 1#32
  let v355 : BitVec 32 := Scalar.shrsi v335 c1_i32_90
  v355

def k0_off21 (v335 : BitVec 32) : Fin 2 → Nat :=
  let c1_i32_90 : BitVec 32 := 1#32
  let v355 : BitVec 32 := Scalar.shrsi v335 c1_i32_90
  let v356 : BitVec 32 := v355
  let v357 : Index := Scalar.indexCast v356
  let c0_91 : Index := 0#32
  ![v357.toNat, 0]
def k0_off22 (v335 : BitVec 32) : Fin 2 → Nat :=
  let c1_i32_90 : BitVec 32 := 1#32
  let v355 : BitVec 32 := Scalar.shrsi v335 c1_i32_90
  let v356 : BitVec 32 := v355
  let v361 : Index := Scalar.indexCast v356
  let c128_92 : Index := 128#32
  ![v361.toNat, 128]

def k0_chk11 (arg0 : BitVec 32) (v1 : BitVec 32) (v335 : BitVec 32) : Prop :=
  (∀ (k0_h1 : k0_cond1 arg0 v1 = 1#1), 8 ∣ (k0_mult11 v335).toNat) ∧
  (∀ (k0_h1 : k0_cond1 arg0 v1 = 1#1), ∀ a, (k0_off21 v335) a + S8x128.size a ≤ S7688x256.size a) ∧
  (∀ (k0_h1 : k0_cond1 arg0 v1 = 1#1), ∀ a, (k0_off22 v335) a + S8x128.size a ≤ S7688x256.size a)
theorem k0_mult11_dvd : ∀ (arg0 : BitVec 32) (v1 : BitVec 32) (v335 : BitVec 32) (k0_hw11 : k0_chk11 arg0 v1 v335), ∀ (k0_h1 : k0_cond1 arg0 v1 = 1#1), 8 ∣ (k0_mult11 v335).toNat := fun arg0 v1 v335 k0_hw11 k0_h1 => k0_hw11.1 k0_h1
theorem k0_off21_inb : ∀ (arg0 : BitVec 32) (v1 : BitVec 32) (v335 : BitVec 32) (k0_hw11 : k0_chk11 arg0 v1 v335), ∀ (k0_h1 : k0_cond1 arg0 v1 = 1#1), ∀ a, (k0_off21 v335) a + S8x128.size a ≤ S7688x256.size a := fun arg0 v1 v335 k0_hw11 k0_h1 => k0_hw11.2.1 k0_h1
theorem k0_off22_inb : ∀ (arg0 : BitVec 32) (v1 : BitVec 32) (v335 : BitVec 32) (k0_hw11 : k0_chk11 arg0 v1 v335), ∀ (k0_h1 : k0_cond1 arg0 v1 = 1#1), ∀ a, (k0_off22 v335) a + S8x128.size a ≤ S7688x256.size a := fun arg0 v1 v335 k0_hw11 k0_h1 => k0_hw11.2.2 k0_h1

def k0_mult12 (v365 : BitVec 32) : BitVec 32 :=
  let c1_i32_97 : BitVec 32 := 1#32
  let v385 : BitVec 32 := Scalar.shrsi v365 c1_i32_97
  v385

def k0_off23 (v365 : BitVec 32) : Fin 2 → Nat :=
  let c1_i32_97 : BitVec 32 := 1#32
  let v385 : BitVec 32 := Scalar.shrsi v365 c1_i32_97
  let v386 : BitVec 32 := v385
  let v387 : Index := Scalar.indexCast v386
  let c0_98 : Index := 0#32
  ![v387.toNat, 0]
def k0_off24 (v365 : BitVec 32) : Fin 2 → Nat :=
  let c1_i32_97 : BitVec 32 := 1#32
  let v385 : BitVec 32 := Scalar.shrsi v365 c1_i32_97
  let v386 : BitVec 32 := v385
  let v391 : Index := Scalar.indexCast v386
  let c128_99 : Index := 128#32
  ![v391.toNat, 128]

def k0_chk12 (arg0 : BitVec 32) (v1 : BitVec 32) (v365 : BitVec 32) : Prop :=
  (∀ (k0_h1 : k0_cond1 arg0 v1 = 1#1), 8 ∣ (k0_mult12 v365).toNat) ∧
  (∀ (k0_h1 : k0_cond1 arg0 v1 = 1#1), ∀ a, (k0_off23 v365) a + S8x128.size a ≤ S7688x256.size a) ∧
  (∀ (k0_h1 : k0_cond1 arg0 v1 = 1#1), ∀ a, (k0_off24 v365) a + S8x128.size a ≤ S7688x256.size a)
theorem k0_mult12_dvd : ∀ (arg0 : BitVec 32) (v1 : BitVec 32) (v365 : BitVec 32) (k0_hw12 : k0_chk12 arg0 v1 v365), ∀ (k0_h1 : k0_cond1 arg0 v1 = 1#1), 8 ∣ (k0_mult12 v365).toNat := fun arg0 v1 v365 k0_hw12 k0_h1 => k0_hw12.1 k0_h1
theorem k0_off23_inb : ∀ (arg0 : BitVec 32) (v1 : BitVec 32) (v365 : BitVec 32) (k0_hw12 : k0_chk12 arg0 v1 v365), ∀ (k0_h1 : k0_cond1 arg0 v1 = 1#1), ∀ a, (k0_off23 v365) a + S8x128.size a ≤ S7688x256.size a := fun arg0 v1 v365 k0_hw12 k0_h1 => k0_hw12.2.1 k0_h1
theorem k0_off24_inb : ∀ (arg0 : BitVec 32) (v1 : BitVec 32) (v365 : BitVec 32) (k0_hw12 : k0_chk12 arg0 v1 v365), ∀ (k0_h1 : k0_cond1 arg0 v1 = 1#1), ∀ a, (k0_off24 v365) a + S8x128.size a ≤ S7688x256.size a := fun arg0 v1 v365 k0_hw12 k0_h1 => k0_hw12.2.2 k0_h1

def k0_mult13 (v395 : BitVec 32) : BitVec 32 :=
  let c1_i32_104 : BitVec 32 := 1#32
  let v415 : BitVec 32 := Scalar.shrsi v395 c1_i32_104
  v415

def k0_off25 (v395 : BitVec 32) : Fin 2 → Nat :=
  let c1_i32_104 : BitVec 32 := 1#32
  let v415 : BitVec 32 := Scalar.shrsi v395 c1_i32_104
  let v416 : BitVec 32 := v415
  let v417 : Index := Scalar.indexCast v416
  let c0_105 : Index := 0#32
  ![v417.toNat, 0]
def k0_off26 (v395 : BitVec 32) : Fin 2 → Nat :=
  let c1_i32_104 : BitVec 32 := 1#32
  let v415 : BitVec 32 := Scalar.shrsi v395 c1_i32_104
  let v416 : BitVec 32 := v415
  let v421 : Index := Scalar.indexCast v416
  let c128_106 : Index := 128#32
  ![v421.toNat, 128]

def k0_chk13 (arg0 : BitVec 32) (v1 : BitVec 32) (v395 : BitVec 32) : Prop :=
  (∀ (k0_h1 : k0_cond1 arg0 v1 = 1#1), 8 ∣ (k0_mult13 v395).toNat) ∧
  (∀ (k0_h1 : k0_cond1 arg0 v1 = 1#1), ∀ a, (k0_off25 v395) a + S8x128.size a ≤ S7688x256.size a) ∧
  (∀ (k0_h1 : k0_cond1 arg0 v1 = 1#1), ∀ a, (k0_off26 v395) a + S8x128.size a ≤ S7688x256.size a)
theorem k0_mult13_dvd : ∀ (arg0 : BitVec 32) (v1 : BitVec 32) (v395 : BitVec 32) (k0_hw13 : k0_chk13 arg0 v1 v395), ∀ (k0_h1 : k0_cond1 arg0 v1 = 1#1), 8 ∣ (k0_mult13 v395).toNat := fun arg0 v1 v395 k0_hw13 k0_h1 => k0_hw13.1 k0_h1
theorem k0_off25_inb : ∀ (arg0 : BitVec 32) (v1 : BitVec 32) (v395 : BitVec 32) (k0_hw13 : k0_chk13 arg0 v1 v395), ∀ (k0_h1 : k0_cond1 arg0 v1 = 1#1), ∀ a, (k0_off25 v395) a + S8x128.size a ≤ S7688x256.size a := fun arg0 v1 v395 k0_hw13 k0_h1 => k0_hw13.2.1 k0_h1
theorem k0_off26_inb : ∀ (arg0 : BitVec 32) (v1 : BitVec 32) (v395 : BitVec 32) (k0_hw13 : k0_chk13 arg0 v1 v395), ∀ (k0_h1 : k0_cond1 arg0 v1 = 1#1), ∀ a, (k0_off26 v395) a + S8x128.size a ≤ S7688x256.size a := fun arg0 v1 v395 k0_hw13 k0_h1 => k0_hw13.2.2 k0_h1

def k0_mult14 (v425 : BitVec 32) : BitVec 32 :=
  let c1_i32_111 : BitVec 32 := 1#32
  let v445 : BitVec 32 := Scalar.shrsi v425 c1_i32_111
  v445

def k0_off27 (v425 : BitVec 32) : Fin 2 → Nat :=
  let c1_i32_111 : BitVec 32 := 1#32
  let v445 : BitVec 32 := Scalar.shrsi v425 c1_i32_111
  let v446 : BitVec 32 := v445
  let v447 : Index := Scalar.indexCast v446
  let c0_112 : Index := 0#32
  ![v447.toNat, 0]
def k0_off28 (v425 : BitVec 32) : Fin 2 → Nat :=
  let c1_i32_111 : BitVec 32 := 1#32
  let v445 : BitVec 32 := Scalar.shrsi v425 c1_i32_111
  let v446 : BitVec 32 := v445
  let v451 : Index := Scalar.indexCast v446
  let c128_113 : Index := 128#32
  ![v451.toNat, 128]

def k0_chk14 (arg0 : BitVec 32) (v1 : BitVec 32) (v425 : BitVec 32) : Prop :=
  (∀ (k0_h1 : k0_cond1 arg0 v1 = 1#1), 8 ∣ (k0_mult14 v425).toNat) ∧
  (∀ (k0_h1 : k0_cond1 arg0 v1 = 1#1), ∀ a, (k0_off27 v425) a + S8x128.size a ≤ S7688x256.size a) ∧
  (∀ (k0_h1 : k0_cond1 arg0 v1 = 1#1), ∀ a, (k0_off28 v425) a + S8x128.size a ≤ S7688x256.size a)
theorem k0_mult14_dvd : ∀ (arg0 : BitVec 32) (v1 : BitVec 32) (v425 : BitVec 32) (k0_hw14 : k0_chk14 arg0 v1 v425), ∀ (k0_h1 : k0_cond1 arg0 v1 = 1#1), 8 ∣ (k0_mult14 v425).toNat := fun arg0 v1 v425 k0_hw14 k0_h1 => k0_hw14.1 k0_h1
theorem k0_off27_inb : ∀ (arg0 : BitVec 32) (v1 : BitVec 32) (v425 : BitVec 32) (k0_hw14 : k0_chk14 arg0 v1 v425), ∀ (k0_h1 : k0_cond1 arg0 v1 = 1#1), ∀ a, (k0_off27 v425) a + S8x128.size a ≤ S7688x256.size a := fun arg0 v1 v425 k0_hw14 k0_h1 => k0_hw14.2.1 k0_h1
theorem k0_off28_inb : ∀ (arg0 : BitVec 32) (v1 : BitVec 32) (v425 : BitVec 32) (k0_hw14 : k0_chk14 arg0 v1 v425), ∀ (k0_h1 : k0_cond1 arg0 v1 = 1#1), ∀ a, (k0_off28 v425) a + S8x128.size a ≤ S7688x256.size a := fun arg0 v1 v425 k0_hw14 k0_h1 => k0_hw14.2.2 k0_h1

def k0_mult15 (v455 : BitVec 32) : BitVec 32 :=
  let c1_i32_118 : BitVec 32 := 1#32
  let v475 : BitVec 32 := Scalar.shrsi v455 c1_i32_118
  v475

def k0_off29 (v455 : BitVec 32) : Fin 2 → Nat :=
  let c1_i32_118 : BitVec 32 := 1#32
  let v475 : BitVec 32 := Scalar.shrsi v455 c1_i32_118
  let v476 : BitVec 32 := v475
  let v477 : Index := Scalar.indexCast v476
  let c0_119 : Index := 0#32
  ![v477.toNat, 0]
def k0_off30 (v455 : BitVec 32) : Fin 2 → Nat :=
  let c1_i32_118 : BitVec 32 := 1#32
  let v475 : BitVec 32 := Scalar.shrsi v455 c1_i32_118
  let v476 : BitVec 32 := v475
  let v481 : Index := Scalar.indexCast v476
  let c128_120 : Index := 128#32
  ![v481.toNat, 128]

def k0_chk15 (arg0 : BitVec 32) (v1 : BitVec 32) (v455 : BitVec 32) : Prop :=
  (∀ (k0_h1 : k0_cond1 arg0 v1 = 1#1), 8 ∣ (k0_mult15 v455).toNat) ∧
  (∀ (k0_h1 : k0_cond1 arg0 v1 = 1#1), ∀ a, (k0_off29 v455) a + S8x128.size a ≤ S7688x256.size a) ∧
  (∀ (k0_h1 : k0_cond1 arg0 v1 = 1#1), ∀ a, (k0_off30 v455) a + S8x128.size a ≤ S7688x256.size a)
theorem k0_mult15_dvd : ∀ (arg0 : BitVec 32) (v1 : BitVec 32) (v455 : BitVec 32) (k0_hw15 : k0_chk15 arg0 v1 v455), ∀ (k0_h1 : k0_cond1 arg0 v1 = 1#1), 8 ∣ (k0_mult15 v455).toNat := fun arg0 v1 v455 k0_hw15 k0_h1 => k0_hw15.1 k0_h1
theorem k0_off29_inb : ∀ (arg0 : BitVec 32) (v1 : BitVec 32) (v455 : BitVec 32) (k0_hw15 : k0_chk15 arg0 v1 v455), ∀ (k0_h1 : k0_cond1 arg0 v1 = 1#1), ∀ a, (k0_off29 v455) a + S8x128.size a ≤ S7688x256.size a := fun arg0 v1 v455 k0_hw15 k0_h1 => k0_hw15.2.1 k0_h1
theorem k0_off30_inb : ∀ (arg0 : BitVec 32) (v1 : BitVec 32) (v455 : BitVec 32) (k0_hw15 : k0_chk15 arg0 v1 v455), ∀ (k0_h1 : k0_cond1 arg0 v1 = 1#1), ∀ a, (k0_off30 v455) a + S8x128.size a ≤ S7688x256.size a := fun arg0 v1 v455 k0_hw15 k0_h1 => k0_hw15.2.2 k0_h1

def k0_mult16 (v485 : BitVec 32) : BitVec 32 :=
  let c1_i32_125 : BitVec 32 := 1#32
  let v505 : BitVec 32 := Scalar.shrsi v485 c1_i32_125
  v505

def k0_off31 (v485 : BitVec 32) : Fin 2 → Nat :=
  let c1_i32_125 : BitVec 32 := 1#32
  let v505 : BitVec 32 := Scalar.shrsi v485 c1_i32_125
  let v506 : BitVec 32 := v505
  let v507 : Index := Scalar.indexCast v506
  let c0_126 : Index := 0#32
  ![v507.toNat, 0]
def k0_off32 (v485 : BitVec 32) : Fin 2 → Nat :=
  let c1_i32_125 : BitVec 32 := 1#32
  let v505 : BitVec 32 := Scalar.shrsi v485 c1_i32_125
  let v506 : BitVec 32 := v505
  let v511 : Index := Scalar.indexCast v506
  let c128_127 : Index := 128#32
  ![v511.toNat, 128]

def k0_chk16 (arg0 : BitVec 32) (v1 : BitVec 32) (v485 : BitVec 32) : Prop :=
  (∀ (k0_h1 : k0_cond1 arg0 v1 = 1#1), 8 ∣ (k0_mult16 v485).toNat) ∧
  (∀ (k0_h1 : k0_cond1 arg0 v1 = 1#1), ∀ a, (k0_off31 v485) a + S8x128.size a ≤ S7688x256.size a) ∧
  (∀ (k0_h1 : k0_cond1 arg0 v1 = 1#1), ∀ a, (k0_off32 v485) a + S8x128.size a ≤ S7688x256.size a)
theorem k0_mult16_dvd : ∀ (arg0 : BitVec 32) (v1 : BitVec 32) (v485 : BitVec 32) (k0_hw16 : k0_chk16 arg0 v1 v485), ∀ (k0_h1 : k0_cond1 arg0 v1 = 1#1), 8 ∣ (k0_mult16 v485).toNat := fun arg0 v1 v485 k0_hw16 k0_h1 => k0_hw16.1 k0_h1
theorem k0_off31_inb : ∀ (arg0 : BitVec 32) (v1 : BitVec 32) (v485 : BitVec 32) (k0_hw16 : k0_chk16 arg0 v1 v485), ∀ (k0_h1 : k0_cond1 arg0 v1 = 1#1), ∀ a, (k0_off31 v485) a + S8x128.size a ≤ S7688x256.size a := fun arg0 v1 v485 k0_hw16 k0_h1 => k0_hw16.2.1 k0_h1
theorem k0_off32_inb : ∀ (arg0 : BitVec 32) (v1 : BitVec 32) (v485 : BitVec 32) (k0_hw16 : k0_chk16 arg0 v1 v485), ∀ (k0_h1 : k0_cond1 arg0 v1 = 1#1), ∀ a, (k0_off32 v485) a + S8x128.size a ≤ S7688x256.size a := fun arg0 v1 v485 k0_hw16 k0_h1 => k0_hw16.2.2 k0_h1

def k0_mult17 (v515 : BitVec 32) : BitVec 32 :=
  let c1_i32_132 : BitVec 32 := 1#32
  let v535 : BitVec 32 := Scalar.shrsi v515 c1_i32_132
  v535

def k0_off33 (v515 : BitVec 32) : Fin 2 → Nat :=
  let c1_i32_132 : BitVec 32 := 1#32
  let v535 : BitVec 32 := Scalar.shrsi v515 c1_i32_132
  let v536 : BitVec 32 := v535
  let v537 : Index := Scalar.indexCast v536
  let c0_133 : Index := 0#32
  ![v537.toNat, 0]
def k0_off34 (v515 : BitVec 32) : Fin 2 → Nat :=
  let c1_i32_132 : BitVec 32 := 1#32
  let v535 : BitVec 32 := Scalar.shrsi v515 c1_i32_132
  let v536 : BitVec 32 := v535
  let v541 : Index := Scalar.indexCast v536
  let c128_134 : Index := 128#32
  ![v541.toNat, 128]

def k0_chk17 (arg0 : BitVec 32) (v1 : BitVec 32) (v515 : BitVec 32) : Prop :=
  (∀ (k0_h1 : k0_cond1 arg0 v1 = 1#1), 8 ∣ (k0_mult17 v515).toNat) ∧
  (∀ (k0_h1 : k0_cond1 arg0 v1 = 1#1), ∀ a, (k0_off33 v515) a + S8x128.size a ≤ S7688x256.size a) ∧
  (∀ (k0_h1 : k0_cond1 arg0 v1 = 1#1), ∀ a, (k0_off34 v515) a + S8x128.size a ≤ S7688x256.size a)
theorem k0_mult17_dvd : ∀ (arg0 : BitVec 32) (v1 : BitVec 32) (v515 : BitVec 32) (k0_hw17 : k0_chk17 arg0 v1 v515), ∀ (k0_h1 : k0_cond1 arg0 v1 = 1#1), 8 ∣ (k0_mult17 v515).toNat := fun arg0 v1 v515 k0_hw17 k0_h1 => k0_hw17.1 k0_h1
theorem k0_off33_inb : ∀ (arg0 : BitVec 32) (v1 : BitVec 32) (v515 : BitVec 32) (k0_hw17 : k0_chk17 arg0 v1 v515), ∀ (k0_h1 : k0_cond1 arg0 v1 = 1#1), ∀ a, (k0_off33 v515) a + S8x128.size a ≤ S7688x256.size a := fun arg0 v1 v515 k0_hw17 k0_h1 => k0_hw17.2.1 k0_h1
theorem k0_off34_inb : ∀ (arg0 : BitVec 32) (v1 : BitVec 32) (v515 : BitVec 32) (k0_hw17 : k0_chk17 arg0 v1 v515), ∀ (k0_h1 : k0_cond1 arg0 v1 = 1#1), ∀ a, (k0_off34 v515) a + S8x128.size a ≤ S7688x256.size a := fun arg0 v1 v515 k0_hw17 k0_h1 => k0_hw17.2.2 k0_h1

def k0_mult18 (v545 : BitVec 32) : BitVec 32 :=
  let c1_i32_139 : BitVec 32 := 1#32
  let v565 : BitVec 32 := Scalar.shrsi v545 c1_i32_139
  v565

def k0_off35 (v545 : BitVec 32) : Fin 2 → Nat :=
  let c1_i32_139 : BitVec 32 := 1#32
  let v565 : BitVec 32 := Scalar.shrsi v545 c1_i32_139
  let v566 : BitVec 32 := v565
  let v567 : Index := Scalar.indexCast v566
  let c0_140 : Index := 0#32
  ![v567.toNat, 0]
def k0_off36 (v545 : BitVec 32) : Fin 2 → Nat :=
  let c1_i32_139 : BitVec 32 := 1#32
  let v565 : BitVec 32 := Scalar.shrsi v545 c1_i32_139
  let v566 : BitVec 32 := v565
  let v571 : Index := Scalar.indexCast v566
  let c128_141 : Index := 128#32
  ![v571.toNat, 128]

def k0_chk18 (arg0 : BitVec 32) (v1 : BitVec 32) (v545 : BitVec 32) : Prop :=
  (∀ (k0_h1 : k0_cond1 arg0 v1 = 1#1), 8 ∣ (k0_mult18 v545).toNat) ∧
  (∀ (k0_h1 : k0_cond1 arg0 v1 = 1#1), ∀ a, (k0_off35 v545) a + S8x128.size a ≤ S7688x256.size a) ∧
  (∀ (k0_h1 : k0_cond1 arg0 v1 = 1#1), ∀ a, (k0_off36 v545) a + S8x128.size a ≤ S7688x256.size a)
theorem k0_mult18_dvd : ∀ (arg0 : BitVec 32) (v1 : BitVec 32) (v545 : BitVec 32) (k0_hw18 : k0_chk18 arg0 v1 v545), ∀ (k0_h1 : k0_cond1 arg0 v1 = 1#1), 8 ∣ (k0_mult18 v545).toNat := fun arg0 v1 v545 k0_hw18 k0_h1 => k0_hw18.1 k0_h1
theorem k0_off35_inb : ∀ (arg0 : BitVec 32) (v1 : BitVec 32) (v545 : BitVec 32) (k0_hw18 : k0_chk18 arg0 v1 v545), ∀ (k0_h1 : k0_cond1 arg0 v1 = 1#1), ∀ a, (k0_off35 v545) a + S8x128.size a ≤ S7688x256.size a := fun arg0 v1 v545 k0_hw18 k0_h1 => k0_hw18.2.1 k0_h1
theorem k0_off36_inb : ∀ (arg0 : BitVec 32) (v1 : BitVec 32) (v545 : BitVec 32) (k0_hw18 : k0_chk18 arg0 v1 v545), ∀ (k0_h1 : k0_cond1 arg0 v1 = 1#1), ∀ a, (k0_off36 v545) a + S8x128.size a ≤ S7688x256.size a := fun arg0 v1 v545 k0_hw18 k0_h1 => k0_hw18.2.2 k0_h1

def k0_mult19 (v575 : BitVec 32) : BitVec 32 :=
  let c1_i32_146 : BitVec 32 := 1#32
  let v595 : BitVec 32 := Scalar.shrsi v575 c1_i32_146
  v595

def k0_off37 (v575 : BitVec 32) : Fin 2 → Nat :=
  let c1_i32_146 : BitVec 32 := 1#32
  let v595 : BitVec 32 := Scalar.shrsi v575 c1_i32_146
  let v596 : BitVec 32 := v595
  let v597 : Index := Scalar.indexCast v596
  let c0_147 : Index := 0#32
  ![v597.toNat, 0]
def k0_off38 (v575 : BitVec 32) : Fin 2 → Nat :=
  let c1_i32_146 : BitVec 32 := 1#32
  let v595 : BitVec 32 := Scalar.shrsi v575 c1_i32_146
  let v596 : BitVec 32 := v595
  let v601 : Index := Scalar.indexCast v596
  let c128_148 : Index := 128#32
  ![v601.toNat, 128]

def k0_chk19 (arg0 : BitVec 32) (v1 : BitVec 32) (v575 : BitVec 32) : Prop :=
  (∀ (k0_h1 : k0_cond1 arg0 v1 = 1#1), 8 ∣ (k0_mult19 v575).toNat) ∧
  (∀ (k0_h1 : k0_cond1 arg0 v1 = 1#1), ∀ a, (k0_off37 v575) a + S8x128.size a ≤ S7688x256.size a) ∧
  (∀ (k0_h1 : k0_cond1 arg0 v1 = 1#1), ∀ a, (k0_off38 v575) a + S8x128.size a ≤ S7688x256.size a)
theorem k0_mult19_dvd : ∀ (arg0 : BitVec 32) (v1 : BitVec 32) (v575 : BitVec 32) (k0_hw19 : k0_chk19 arg0 v1 v575), ∀ (k0_h1 : k0_cond1 arg0 v1 = 1#1), 8 ∣ (k0_mult19 v575).toNat := fun arg0 v1 v575 k0_hw19 k0_h1 => k0_hw19.1 k0_h1
theorem k0_off37_inb : ∀ (arg0 : BitVec 32) (v1 : BitVec 32) (v575 : BitVec 32) (k0_hw19 : k0_chk19 arg0 v1 v575), ∀ (k0_h1 : k0_cond1 arg0 v1 = 1#1), ∀ a, (k0_off37 v575) a + S8x128.size a ≤ S7688x256.size a := fun arg0 v1 v575 k0_hw19 k0_h1 => k0_hw19.2.1 k0_h1
theorem k0_off38_inb : ∀ (arg0 : BitVec 32) (v1 : BitVec 32) (v575 : BitVec 32) (k0_hw19 : k0_chk19 arg0 v1 v575), ∀ (k0_h1 : k0_cond1 arg0 v1 = 1#1), ∀ a, (k0_off38 v575) a + S8x128.size a ≤ S7688x256.size a := fun arg0 v1 v575 k0_hw19 k0_h1 => k0_hw19.2.2 k0_h1

def k0_mult20 (v605 : BitVec 32) : BitVec 32 :=
  let c1_i32_153 : BitVec 32 := 1#32
  let v625 : BitVec 32 := Scalar.shrsi v605 c1_i32_153
  v625

def k0_off39 (v605 : BitVec 32) : Fin 2 → Nat :=
  let c1_i32_153 : BitVec 32 := 1#32
  let v625 : BitVec 32 := Scalar.shrsi v605 c1_i32_153
  let v626 : BitVec 32 := v625
  let v627 : Index := Scalar.indexCast v626
  let c0_154 : Index := 0#32
  ![v627.toNat, 0]
def k0_off40 (v605 : BitVec 32) : Fin 2 → Nat :=
  let c1_i32_153 : BitVec 32 := 1#32
  let v625 : BitVec 32 := Scalar.shrsi v605 c1_i32_153
  let v626 : BitVec 32 := v625
  let v631 : Index := Scalar.indexCast v626
  let c128_155 : Index := 128#32
  ![v631.toNat, 128]

def k0_chk20 (arg0 : BitVec 32) (v1 : BitVec 32) (v605 : BitVec 32) : Prop :=
  (∀ (k0_h1 : k0_cond1 arg0 v1 = 1#1), 8 ∣ (k0_mult20 v605).toNat) ∧
  (∀ (k0_h1 : k0_cond1 arg0 v1 = 1#1), ∀ a, (k0_off39 v605) a + S8x128.size a ≤ S7688x256.size a) ∧
  (∀ (k0_h1 : k0_cond1 arg0 v1 = 1#1), ∀ a, (k0_off40 v605) a + S8x128.size a ≤ S7688x256.size a)
theorem k0_mult20_dvd : ∀ (arg0 : BitVec 32) (v1 : BitVec 32) (v605 : BitVec 32) (k0_hw20 : k0_chk20 arg0 v1 v605), ∀ (k0_h1 : k0_cond1 arg0 v1 = 1#1), 8 ∣ (k0_mult20 v605).toNat := fun arg0 v1 v605 k0_hw20 k0_h1 => k0_hw20.1 k0_h1
theorem k0_off39_inb : ∀ (arg0 : BitVec 32) (v1 : BitVec 32) (v605 : BitVec 32) (k0_hw20 : k0_chk20 arg0 v1 v605), ∀ (k0_h1 : k0_cond1 arg0 v1 = 1#1), ∀ a, (k0_off39 v605) a + S8x128.size a ≤ S7688x256.size a := fun arg0 v1 v605 k0_hw20 k0_h1 => k0_hw20.2.1 k0_h1
theorem k0_off40_inb : ∀ (arg0 : BitVec 32) (v1 : BitVec 32) (v605 : BitVec 32) (k0_hw20 : k0_chk20 arg0 v1 v605), ∀ (k0_h1 : k0_cond1 arg0 v1 = 1#1), ∀ a, (k0_off40 v605) a + S8x128.size a ≤ S7688x256.size a := fun arg0 v1 v605 k0_hw20 k0_h1 => k0_hw20.2.2 k0_h1

def k0_mult21 (v635 : BitVec 32) : BitVec 32 :=
  let c1_i32_160 : BitVec 32 := 1#32
  let v655 : BitVec 32 := Scalar.shrsi v635 c1_i32_160
  v655

def k0_off41 (v635 : BitVec 32) : Fin 2 → Nat :=
  let c1_i32_160 : BitVec 32 := 1#32
  let v655 : BitVec 32 := Scalar.shrsi v635 c1_i32_160
  let v656 : BitVec 32 := v655
  let v657 : Index := Scalar.indexCast v656
  let c0_161 : Index := 0#32
  ![v657.toNat, 0]
def k0_off42 (v635 : BitVec 32) : Fin 2 → Nat :=
  let c1_i32_160 : BitVec 32 := 1#32
  let v655 : BitVec 32 := Scalar.shrsi v635 c1_i32_160
  let v656 : BitVec 32 := v655
  let v661 : Index := Scalar.indexCast v656
  let c128_162 : Index := 128#32
  ![v661.toNat, 128]

def k0_chk21 (arg0 : BitVec 32) (v1 : BitVec 32) (v635 : BitVec 32) : Prop :=
  (∀ (k0_h1 : k0_cond1 arg0 v1 = 1#1), 8 ∣ (k0_mult21 v635).toNat) ∧
  (∀ (k0_h1 : k0_cond1 arg0 v1 = 1#1), ∀ a, (k0_off41 v635) a + S8x128.size a ≤ S7688x256.size a) ∧
  (∀ (k0_h1 : k0_cond1 arg0 v1 = 1#1), ∀ a, (k0_off42 v635) a + S8x128.size a ≤ S7688x256.size a)
theorem k0_mult21_dvd : ∀ (arg0 : BitVec 32) (v1 : BitVec 32) (v635 : BitVec 32) (k0_hw21 : k0_chk21 arg0 v1 v635), ∀ (k0_h1 : k0_cond1 arg0 v1 = 1#1), 8 ∣ (k0_mult21 v635).toNat := fun arg0 v1 v635 k0_hw21 k0_h1 => k0_hw21.1 k0_h1
theorem k0_off41_inb : ∀ (arg0 : BitVec 32) (v1 : BitVec 32) (v635 : BitVec 32) (k0_hw21 : k0_chk21 arg0 v1 v635), ∀ (k0_h1 : k0_cond1 arg0 v1 = 1#1), ∀ a, (k0_off41 v635) a + S8x128.size a ≤ S7688x256.size a := fun arg0 v1 v635 k0_hw21 k0_h1 => k0_hw21.2.1 k0_h1
theorem k0_off42_inb : ∀ (arg0 : BitVec 32) (v1 : BitVec 32) (v635 : BitVec 32) (k0_hw21 : k0_chk21 arg0 v1 v635), ∀ (k0_h1 : k0_cond1 arg0 v1 = 1#1), ∀ a, (k0_off42 v635) a + S8x128.size a ≤ S7688x256.size a := fun arg0 v1 v635 k0_hw21 k0_h1 => k0_hw21.2.2 k0_h1

def k0_mult22 (v665 : BitVec 32) : BitVec 32 :=
  let c1_i32_167 : BitVec 32 := 1#32
  let v685 : BitVec 32 := Scalar.shrsi v665 c1_i32_167
  v685

def k0_off43 (v665 : BitVec 32) : Fin 2 → Nat :=
  let c1_i32_167 : BitVec 32 := 1#32
  let v685 : BitVec 32 := Scalar.shrsi v665 c1_i32_167
  let v686 : BitVec 32 := v685
  let v687 : Index := Scalar.indexCast v686
  let c0_168 : Index := 0#32
  ![v687.toNat, 0]
def k0_off44 (v665 : BitVec 32) : Fin 2 → Nat :=
  let c1_i32_167 : BitVec 32 := 1#32
  let v685 : BitVec 32 := Scalar.shrsi v665 c1_i32_167
  let v686 : BitVec 32 := v685
  let v691 : Index := Scalar.indexCast v686
  let c128_169 : Index := 128#32
  ![v691.toNat, 128]

def k0_chk22 (arg0 : BitVec 32) (v1 : BitVec 32) (v665 : BitVec 32) : Prop :=
  (∀ (k0_h1 : k0_cond1 arg0 v1 = 1#1), 8 ∣ (k0_mult22 v665).toNat) ∧
  (∀ (k0_h1 : k0_cond1 arg0 v1 = 1#1), ∀ a, (k0_off43 v665) a + S8x128.size a ≤ S7688x256.size a) ∧
  (∀ (k0_h1 : k0_cond1 arg0 v1 = 1#1), ∀ a, (k0_off44 v665) a + S8x128.size a ≤ S7688x256.size a)
theorem k0_mult22_dvd : ∀ (arg0 : BitVec 32) (v1 : BitVec 32) (v665 : BitVec 32) (k0_hw22 : k0_chk22 arg0 v1 v665), ∀ (k0_h1 : k0_cond1 arg0 v1 = 1#1), 8 ∣ (k0_mult22 v665).toNat := fun arg0 v1 v665 k0_hw22 k0_h1 => k0_hw22.1 k0_h1
theorem k0_off43_inb : ∀ (arg0 : BitVec 32) (v1 : BitVec 32) (v665 : BitVec 32) (k0_hw22 : k0_chk22 arg0 v1 v665), ∀ (k0_h1 : k0_cond1 arg0 v1 = 1#1), ∀ a, (k0_off43 v665) a + S8x128.size a ≤ S7688x256.size a := fun arg0 v1 v665 k0_hw22 k0_h1 => k0_hw22.2.1 k0_h1
theorem k0_off44_inb : ∀ (arg0 : BitVec 32) (v1 : BitVec 32) (v665 : BitVec 32) (k0_hw22 : k0_chk22 arg0 v1 v665), ∀ (k0_h1 : k0_cond1 arg0 v1 = 1#1), ∀ a, (k0_off44 v665) a + S8x128.size a ≤ S7688x256.size a := fun arg0 v1 v665 k0_hw22 k0_h1 => k0_hw22.2.2 k0_h1

def k0_mult23 (v695 : BitVec 32) : BitVec 32 :=
  let c1_i32_174 : BitVec 32 := 1#32
  let v715 : BitVec 32 := Scalar.shrsi v695 c1_i32_174
  v715

def k0_off45 (v695 : BitVec 32) : Fin 2 → Nat :=
  let c1_i32_174 : BitVec 32 := 1#32
  let v715 : BitVec 32 := Scalar.shrsi v695 c1_i32_174
  let v716 : BitVec 32 := v715
  let v717 : Index := Scalar.indexCast v716
  let c0_175 : Index := 0#32
  ![v717.toNat, 0]
def k0_off46 (v695 : BitVec 32) : Fin 2 → Nat :=
  let c1_i32_174 : BitVec 32 := 1#32
  let v715 : BitVec 32 := Scalar.shrsi v695 c1_i32_174
  let v716 : BitVec 32 := v715
  let v721 : Index := Scalar.indexCast v716
  let c128_176 : Index := 128#32
  ![v721.toNat, 128]

def k0_chk23 (arg0 : BitVec 32) (v1 : BitVec 32) (v695 : BitVec 32) : Prop :=
  (∀ (k0_h1 : k0_cond1 arg0 v1 = 1#1), 8 ∣ (k0_mult23 v695).toNat) ∧
  (∀ (k0_h1 : k0_cond1 arg0 v1 = 1#1), ∀ a, (k0_off45 v695) a + S8x128.size a ≤ S7688x256.size a) ∧
  (∀ (k0_h1 : k0_cond1 arg0 v1 = 1#1), ∀ a, (k0_off46 v695) a + S8x128.size a ≤ S7688x256.size a)
theorem k0_mult23_dvd : ∀ (arg0 : BitVec 32) (v1 : BitVec 32) (v695 : BitVec 32) (k0_hw23 : k0_chk23 arg0 v1 v695), ∀ (k0_h1 : k0_cond1 arg0 v1 = 1#1), 8 ∣ (k0_mult23 v695).toNat := fun arg0 v1 v695 k0_hw23 k0_h1 => k0_hw23.1 k0_h1
theorem k0_off45_inb : ∀ (arg0 : BitVec 32) (v1 : BitVec 32) (v695 : BitVec 32) (k0_hw23 : k0_chk23 arg0 v1 v695), ∀ (k0_h1 : k0_cond1 arg0 v1 = 1#1), ∀ a, (k0_off45 v695) a + S8x128.size a ≤ S7688x256.size a := fun arg0 v1 v695 k0_hw23 k0_h1 => k0_hw23.2.1 k0_h1
theorem k0_off46_inb : ∀ (arg0 : BitVec 32) (v1 : BitVec 32) (v695 : BitVec 32) (k0_hw23 : k0_chk23 arg0 v1 v695), ∀ (k0_h1 : k0_cond1 arg0 v1 = 1#1), ∀ a, (k0_off46 v695) a + S8x128.size a ≤ S7688x256.size a := fun arg0 v1 v695 k0_hw23 k0_h1 => k0_hw23.2.2 k0_h1

def k0_mult24 (v725 : BitVec 32) : BitVec 32 :=
  let c1_i32_181 : BitVec 32 := 1#32
  let v745 : BitVec 32 := Scalar.shrsi v725 c1_i32_181
  v745

def k0_off47 (v725 : BitVec 32) : Fin 2 → Nat :=
  let c1_i32_181 : BitVec 32 := 1#32
  let v745 : BitVec 32 := Scalar.shrsi v725 c1_i32_181
  let v746 : BitVec 32 := v745
  let v747 : Index := Scalar.indexCast v746
  let c0_182 : Index := 0#32
  ![v747.toNat, 0]
def k0_off48 (v725 : BitVec 32) : Fin 2 → Nat :=
  let c1_i32_181 : BitVec 32 := 1#32
  let v745 : BitVec 32 := Scalar.shrsi v725 c1_i32_181
  let v746 : BitVec 32 := v745
  let v751 : Index := Scalar.indexCast v746
  let c128_183 : Index := 128#32
  ![v751.toNat, 128]

def k0_chk24 (arg0 : BitVec 32) (v1 : BitVec 32) (v725 : BitVec 32) : Prop :=
  (∀ (k0_h1 : k0_cond1 arg0 v1 = 1#1), 8 ∣ (k0_mult24 v725).toNat) ∧
  (∀ (k0_h1 : k0_cond1 arg0 v1 = 1#1), ∀ a, (k0_off47 v725) a + S8x128.size a ≤ S7688x256.size a) ∧
  (∀ (k0_h1 : k0_cond1 arg0 v1 = 1#1), ∀ a, (k0_off48 v725) a + S8x128.size a ≤ S7688x256.size a)
theorem k0_mult24_dvd : ∀ (arg0 : BitVec 32) (v1 : BitVec 32) (v725 : BitVec 32) (k0_hw24 : k0_chk24 arg0 v1 v725), ∀ (k0_h1 : k0_cond1 arg0 v1 = 1#1), 8 ∣ (k0_mult24 v725).toNat := fun arg0 v1 v725 k0_hw24 k0_h1 => k0_hw24.1 k0_h1
theorem k0_off47_inb : ∀ (arg0 : BitVec 32) (v1 : BitVec 32) (v725 : BitVec 32) (k0_hw24 : k0_chk24 arg0 v1 v725), ∀ (k0_h1 : k0_cond1 arg0 v1 = 1#1), ∀ a, (k0_off47 v725) a + S8x128.size a ≤ S7688x256.size a := fun arg0 v1 v725 k0_hw24 k0_h1 => k0_hw24.2.1 k0_h1
theorem k0_off48_inb : ∀ (arg0 : BitVec 32) (v1 : BitVec 32) (v725 : BitVec 32) (k0_hw24 : k0_chk24 arg0 v1 v725), ∀ (k0_h1 : k0_cond1 arg0 v1 = 1#1), ∀ a, (k0_off48 v725) a + S8x128.size a ≤ S7688x256.size a := fun arg0 v1 v725 k0_hw24 k0_h1 => k0_hw24.2.2 k0_h1

def k0_mult25 (v755 : BitVec 32) : BitVec 32 :=
  let c1_i32_188 : BitVec 32 := 1#32
  let v775 : BitVec 32 := Scalar.shrsi v755 c1_i32_188
  v775

def k0_off49 (v755 : BitVec 32) : Fin 2 → Nat :=
  let c1_i32_188 : BitVec 32 := 1#32
  let v775 : BitVec 32 := Scalar.shrsi v755 c1_i32_188
  let v776 : BitVec 32 := v775
  let v777 : Index := Scalar.indexCast v776
  let c0_189 : Index := 0#32
  ![v777.toNat, 0]
def k0_off50 (v755 : BitVec 32) : Fin 2 → Nat :=
  let c1_i32_188 : BitVec 32 := 1#32
  let v775 : BitVec 32 := Scalar.shrsi v755 c1_i32_188
  let v776 : BitVec 32 := v775
  let v781 : Index := Scalar.indexCast v776
  let c128_190 : Index := 128#32
  ![v781.toNat, 128]

def k0_chk25 (arg0 : BitVec 32) (v1 : BitVec 32) (v755 : BitVec 32) : Prop :=
  (∀ (k0_h1 : k0_cond1 arg0 v1 = 1#1), 8 ∣ (k0_mult25 v755).toNat) ∧
  (∀ (k0_h1 : k0_cond1 arg0 v1 = 1#1), ∀ a, (k0_off49 v755) a + S8x128.size a ≤ S7688x256.size a) ∧
  (∀ (k0_h1 : k0_cond1 arg0 v1 = 1#1), ∀ a, (k0_off50 v755) a + S8x128.size a ≤ S7688x256.size a)
theorem k0_mult25_dvd : ∀ (arg0 : BitVec 32) (v1 : BitVec 32) (v755 : BitVec 32) (k0_hw25 : k0_chk25 arg0 v1 v755), ∀ (k0_h1 : k0_cond1 arg0 v1 = 1#1), 8 ∣ (k0_mult25 v755).toNat := fun arg0 v1 v755 k0_hw25 k0_h1 => k0_hw25.1 k0_h1
theorem k0_off49_inb : ∀ (arg0 : BitVec 32) (v1 : BitVec 32) (v755 : BitVec 32) (k0_hw25 : k0_chk25 arg0 v1 v755), ∀ (k0_h1 : k0_cond1 arg0 v1 = 1#1), ∀ a, (k0_off49 v755) a + S8x128.size a ≤ S7688x256.size a := fun arg0 v1 v755 k0_hw25 k0_h1 => k0_hw25.2.1 k0_h1
theorem k0_off50_inb : ∀ (arg0 : BitVec 32) (v1 : BitVec 32) (v755 : BitVec 32) (k0_hw25 : k0_chk25 arg0 v1 v755), ∀ (k0_h1 : k0_cond1 arg0 v1 = 1#1), ∀ a, (k0_off50 v755) a + S8x128.size a ≤ S7688x256.size a := fun arg0 v1 v755 k0_hw25 k0_h1 => k0_hw25.2.2 k0_h1

def k0_mult26 (v785 : BitVec 32) : BitVec 32 :=
  let c1_i32_195 : BitVec 32 := 1#32
  let v805 : BitVec 32 := Scalar.shrsi v785 c1_i32_195
  v805

def k0_off51 (v785 : BitVec 32) : Fin 2 → Nat :=
  let c1_i32_195 : BitVec 32 := 1#32
  let v805 : BitVec 32 := Scalar.shrsi v785 c1_i32_195
  let v806 : BitVec 32 := v805
  let v807 : Index := Scalar.indexCast v806
  let c0_196 : Index := 0#32
  ![v807.toNat, 0]
def k0_off52 (v785 : BitVec 32) : Fin 2 → Nat :=
  let c1_i32_195 : BitVec 32 := 1#32
  let v805 : BitVec 32 := Scalar.shrsi v785 c1_i32_195
  let v806 : BitVec 32 := v805
  let v811 : Index := Scalar.indexCast v806
  let c128_197 : Index := 128#32
  ![v811.toNat, 128]

def k0_chk26 (arg0 : BitVec 32) (v1 : BitVec 32) (v785 : BitVec 32) : Prop :=
  (∀ (k0_h1 : k0_cond1 arg0 v1 = 1#1), 8 ∣ (k0_mult26 v785).toNat) ∧
  (∀ (k0_h1 : k0_cond1 arg0 v1 = 1#1), ∀ a, (k0_off51 v785) a + S8x128.size a ≤ S7688x256.size a) ∧
  (∀ (k0_h1 : k0_cond1 arg0 v1 = 1#1), ∀ a, (k0_off52 v785) a + S8x128.size a ≤ S7688x256.size a)
theorem k0_mult26_dvd : ∀ (arg0 : BitVec 32) (v1 : BitVec 32) (v785 : BitVec 32) (k0_hw26 : k0_chk26 arg0 v1 v785), ∀ (k0_h1 : k0_cond1 arg0 v1 = 1#1), 8 ∣ (k0_mult26 v785).toNat := fun arg0 v1 v785 k0_hw26 k0_h1 => k0_hw26.1 k0_h1
theorem k0_off51_inb : ∀ (arg0 : BitVec 32) (v1 : BitVec 32) (v785 : BitVec 32) (k0_hw26 : k0_chk26 arg0 v1 v785), ∀ (k0_h1 : k0_cond1 arg0 v1 = 1#1), ∀ a, (k0_off51 v785) a + S8x128.size a ≤ S7688x256.size a := fun arg0 v1 v785 k0_hw26 k0_h1 => k0_hw26.2.1 k0_h1
theorem k0_off52_inb : ∀ (arg0 : BitVec 32) (v1 : BitVec 32) (v785 : BitVec 32) (k0_hw26 : k0_chk26 arg0 v1 v785), ∀ (k0_h1 : k0_cond1 arg0 v1 = 1#1), ∀ a, (k0_off52 v785) a + S8x128.size a ≤ S7688x256.size a := fun arg0 v1 v785 k0_hw26 k0_h1 => k0_hw26.2.2 k0_h1

def k0_mult27 (v815 : BitVec 32) : BitVec 32 :=
  let c1_i32_202 : BitVec 32 := 1#32
  let v835 : BitVec 32 := Scalar.shrsi v815 c1_i32_202
  v835

def k0_off53 (v815 : BitVec 32) : Fin 2 → Nat :=
  let c1_i32_202 : BitVec 32 := 1#32
  let v835 : BitVec 32 := Scalar.shrsi v815 c1_i32_202
  let v836 : BitVec 32 := v835
  let v837 : Index := Scalar.indexCast v836
  let c0_203 : Index := 0#32
  ![v837.toNat, 0]
def k0_off54 (v815 : BitVec 32) : Fin 2 → Nat :=
  let c1_i32_202 : BitVec 32 := 1#32
  let v835 : BitVec 32 := Scalar.shrsi v815 c1_i32_202
  let v836 : BitVec 32 := v835
  let v841 : Index := Scalar.indexCast v836
  let c128_204 : Index := 128#32
  ![v841.toNat, 128]

def k0_chk27 (arg0 : BitVec 32) (v1 : BitVec 32) (v815 : BitVec 32) : Prop :=
  (∀ (k0_h1 : k0_cond1 arg0 v1 = 1#1), 8 ∣ (k0_mult27 v815).toNat) ∧
  (∀ (k0_h1 : k0_cond1 arg0 v1 = 1#1), ∀ a, (k0_off53 v815) a + S8x128.size a ≤ S7688x256.size a) ∧
  (∀ (k0_h1 : k0_cond1 arg0 v1 = 1#1), ∀ a, (k0_off54 v815) a + S8x128.size a ≤ S7688x256.size a)
theorem k0_mult27_dvd : ∀ (arg0 : BitVec 32) (v1 : BitVec 32) (v815 : BitVec 32) (k0_hw27 : k0_chk27 arg0 v1 v815), ∀ (k0_h1 : k0_cond1 arg0 v1 = 1#1), 8 ∣ (k0_mult27 v815).toNat := fun arg0 v1 v815 k0_hw27 k0_h1 => k0_hw27.1 k0_h1
theorem k0_off53_inb : ∀ (arg0 : BitVec 32) (v1 : BitVec 32) (v815 : BitVec 32) (k0_hw27 : k0_chk27 arg0 v1 v815), ∀ (k0_h1 : k0_cond1 arg0 v1 = 1#1), ∀ a, (k0_off53 v815) a + S8x128.size a ≤ S7688x256.size a := fun arg0 v1 v815 k0_hw27 k0_h1 => k0_hw27.2.1 k0_h1
theorem k0_off54_inb : ∀ (arg0 : BitVec 32) (v1 : BitVec 32) (v815 : BitVec 32) (k0_hw27 : k0_chk27 arg0 v1 v815), ∀ (k0_h1 : k0_cond1 arg0 v1 = 1#1), ∀ a, (k0_off54 v815) a + S8x128.size a ≤ S7688x256.size a := fun arg0 v1 v815 k0_hw27 k0_h1 => k0_hw27.2.2 k0_h1

def k0_mult28 (v845 : BitVec 32) : BitVec 32 :=
  let c1_i32_209 : BitVec 32 := 1#32
  let v865 : BitVec 32 := Scalar.shrsi v845 c1_i32_209
  v865

def k0_off55 (v845 : BitVec 32) : Fin 2 → Nat :=
  let c1_i32_209 : BitVec 32 := 1#32
  let v865 : BitVec 32 := Scalar.shrsi v845 c1_i32_209
  let v866 : BitVec 32 := v865
  let v867 : Index := Scalar.indexCast v866
  let c0_210 : Index := 0#32
  ![v867.toNat, 0]
def k0_off56 (v845 : BitVec 32) : Fin 2 → Nat :=
  let c1_i32_209 : BitVec 32 := 1#32
  let v865 : BitVec 32 := Scalar.shrsi v845 c1_i32_209
  let v866 : BitVec 32 := v865
  let v871 : Index := Scalar.indexCast v866
  let c128_211 : Index := 128#32
  ![v871.toNat, 128]

def k0_chk28 (arg0 : BitVec 32) (v1 : BitVec 32) (v845 : BitVec 32) : Prop :=
  (∀ (k0_h1 : k0_cond1 arg0 v1 = 1#1), 8 ∣ (k0_mult28 v845).toNat) ∧
  (∀ (k0_h1 : k0_cond1 arg0 v1 = 1#1), ∀ a, (k0_off55 v845) a + S8x128.size a ≤ S7688x256.size a) ∧
  (∀ (k0_h1 : k0_cond1 arg0 v1 = 1#1), ∀ a, (k0_off56 v845) a + S8x128.size a ≤ S7688x256.size a)
theorem k0_mult28_dvd : ∀ (arg0 : BitVec 32) (v1 : BitVec 32) (v845 : BitVec 32) (k0_hw28 : k0_chk28 arg0 v1 v845), ∀ (k0_h1 : k0_cond1 arg0 v1 = 1#1), 8 ∣ (k0_mult28 v845).toNat := fun arg0 v1 v845 k0_hw28 k0_h1 => k0_hw28.1 k0_h1
theorem k0_off55_inb : ∀ (arg0 : BitVec 32) (v1 : BitVec 32) (v845 : BitVec 32) (k0_hw28 : k0_chk28 arg0 v1 v845), ∀ (k0_h1 : k0_cond1 arg0 v1 = 1#1), ∀ a, (k0_off55 v845) a + S8x128.size a ≤ S7688x256.size a := fun arg0 v1 v845 k0_hw28 k0_h1 => k0_hw28.2.1 k0_h1
theorem k0_off56_inb : ∀ (arg0 : BitVec 32) (v1 : BitVec 32) (v845 : BitVec 32) (k0_hw28 : k0_chk28 arg0 v1 v845), ∀ (k0_h1 : k0_cond1 arg0 v1 = 1#1), ∀ a, (k0_off56 v845) a + S8x128.size a ≤ S7688x256.size a := fun arg0 v1 v845 k0_hw28 k0_h1 => k0_hw28.2.2 k0_h1

def k0_mult29 (v875 : BitVec 32) : BitVec 32 :=
  let c1_i32_216 : BitVec 32 := 1#32
  let v895 : BitVec 32 := Scalar.shrsi v875 c1_i32_216
  v895

def k0_off57 (v875 : BitVec 32) : Fin 2 → Nat :=
  let c1_i32_216 : BitVec 32 := 1#32
  let v895 : BitVec 32 := Scalar.shrsi v875 c1_i32_216
  let v896 : BitVec 32 := v895
  let v897 : Index := Scalar.indexCast v896
  let c0_217 : Index := 0#32
  ![v897.toNat, 0]
def k0_off58 (v875 : BitVec 32) : Fin 2 → Nat :=
  let c1_i32_216 : BitVec 32 := 1#32
  let v895 : BitVec 32 := Scalar.shrsi v875 c1_i32_216
  let v896 : BitVec 32 := v895
  let v901 : Index := Scalar.indexCast v896
  let c128_218 : Index := 128#32
  ![v901.toNat, 128]

def k0_chk29 (arg0 : BitVec 32) (v1 : BitVec 32) (v875 : BitVec 32) : Prop :=
  (∀ (k0_h1 : k0_cond1 arg0 v1 = 1#1), 8 ∣ (k0_mult29 v875).toNat) ∧
  (∀ (k0_h1 : k0_cond1 arg0 v1 = 1#1), ∀ a, (k0_off57 v875) a + S8x128.size a ≤ S7688x256.size a) ∧
  (∀ (k0_h1 : k0_cond1 arg0 v1 = 1#1), ∀ a, (k0_off58 v875) a + S8x128.size a ≤ S7688x256.size a)
theorem k0_mult29_dvd : ∀ (arg0 : BitVec 32) (v1 : BitVec 32) (v875 : BitVec 32) (k0_hw29 : k0_chk29 arg0 v1 v875), ∀ (k0_h1 : k0_cond1 arg0 v1 = 1#1), 8 ∣ (k0_mult29 v875).toNat := fun arg0 v1 v875 k0_hw29 k0_h1 => k0_hw29.1 k0_h1
theorem k0_off57_inb : ∀ (arg0 : BitVec 32) (v1 : BitVec 32) (v875 : BitVec 32) (k0_hw29 : k0_chk29 arg0 v1 v875), ∀ (k0_h1 : k0_cond1 arg0 v1 = 1#1), ∀ a, (k0_off57 v875) a + S8x128.size a ≤ S7688x256.size a := fun arg0 v1 v875 k0_hw29 k0_h1 => k0_hw29.2.1 k0_h1
theorem k0_off58_inb : ∀ (arg0 : BitVec 32) (v1 : BitVec 32) (v875 : BitVec 32) (k0_hw29 : k0_chk29 arg0 v1 v875), ∀ (k0_h1 : k0_cond1 arg0 v1 = 1#1), ∀ a, (k0_off58 v875) a + S8x128.size a ≤ S7688x256.size a := fun arg0 v1 v875 k0_hw29 k0_h1 => k0_hw29.2.2 k0_h1

def k0_mult30 (v905 : BitVec 32) : BitVec 32 :=
  let c1_i32_223 : BitVec 32 := 1#32
  let v925 : BitVec 32 := Scalar.shrsi v905 c1_i32_223
  v925

def k0_off59 (v905 : BitVec 32) : Fin 2 → Nat :=
  let c1_i32_223 : BitVec 32 := 1#32
  let v925 : BitVec 32 := Scalar.shrsi v905 c1_i32_223
  let v926 : BitVec 32 := v925
  let v927 : Index := Scalar.indexCast v926
  let c0_224 : Index := 0#32
  ![v927.toNat, 0]
def k0_off60 (v905 : BitVec 32) : Fin 2 → Nat :=
  let c1_i32_223 : BitVec 32 := 1#32
  let v925 : BitVec 32 := Scalar.shrsi v905 c1_i32_223
  let v926 : BitVec 32 := v925
  let v931 : Index := Scalar.indexCast v926
  let c128_225 : Index := 128#32
  ![v931.toNat, 128]

def k0_chk30 (arg0 : BitVec 32) (v1 : BitVec 32) (v905 : BitVec 32) : Prop :=
  (∀ (k0_h1 : k0_cond1 arg0 v1 = 1#1), 8 ∣ (k0_mult30 v905).toNat) ∧
  (∀ (k0_h1 : k0_cond1 arg0 v1 = 1#1), ∀ a, (k0_off59 v905) a + S8x128.size a ≤ S7688x256.size a) ∧
  (∀ (k0_h1 : k0_cond1 arg0 v1 = 1#1), ∀ a, (k0_off60 v905) a + S8x128.size a ≤ S7688x256.size a)
theorem k0_mult30_dvd : ∀ (arg0 : BitVec 32) (v1 : BitVec 32) (v905 : BitVec 32) (k0_hw30 : k0_chk30 arg0 v1 v905), ∀ (k0_h1 : k0_cond1 arg0 v1 = 1#1), 8 ∣ (k0_mult30 v905).toNat := fun arg0 v1 v905 k0_hw30 k0_h1 => k0_hw30.1 k0_h1
theorem k0_off59_inb : ∀ (arg0 : BitVec 32) (v1 : BitVec 32) (v905 : BitVec 32) (k0_hw30 : k0_chk30 arg0 v1 v905), ∀ (k0_h1 : k0_cond1 arg0 v1 = 1#1), ∀ a, (k0_off59 v905) a + S8x128.size a ≤ S7688x256.size a := fun arg0 v1 v905 k0_hw30 k0_h1 => k0_hw30.2.1 k0_h1
theorem k0_off60_inb : ∀ (arg0 : BitVec 32) (v1 : BitVec 32) (v905 : BitVec 32) (k0_hw30 : k0_chk30 arg0 v1 v905), ∀ (k0_h1 : k0_cond1 arg0 v1 = 1#1), ∀ a, (k0_off60 v905) a + S8x128.size a ≤ S7688x256.size a := fun arg0 v1 v905 k0_hw30 k0_h1 => k0_hw30.2.2 k0_h1

def k0_mult31 (v935 : BitVec 32) : BitVec 32 :=
  let c1_i32_230 : BitVec 32 := 1#32
  let v955 : BitVec 32 := Scalar.shrsi v935 c1_i32_230
  v955

def k0_off61 (v935 : BitVec 32) : Fin 2 → Nat :=
  let c1_i32_230 : BitVec 32 := 1#32
  let v955 : BitVec 32 := Scalar.shrsi v935 c1_i32_230
  let v956 : BitVec 32 := v955
  let v957 : Index := Scalar.indexCast v956
  let c0_231 : Index := 0#32
  ![v957.toNat, 0]
def k0_off62 (v935 : BitVec 32) : Fin 2 → Nat :=
  let c1_i32_230 : BitVec 32 := 1#32
  let v955 : BitVec 32 := Scalar.shrsi v935 c1_i32_230
  let v956 : BitVec 32 := v955
  let v961 : Index := Scalar.indexCast v956
  let c128_232 : Index := 128#32
  ![v961.toNat, 128]

def k0_chk31 (arg0 : BitVec 32) (v1 : BitVec 32) (v935 : BitVec 32) : Prop :=
  (∀ (k0_h1 : k0_cond1 arg0 v1 = 1#1), 8 ∣ (k0_mult31 v935).toNat) ∧
  (∀ (k0_h1 : k0_cond1 arg0 v1 = 1#1), ∀ a, (k0_off61 v935) a + S8x128.size a ≤ S7688x256.size a) ∧
  (∀ (k0_h1 : k0_cond1 arg0 v1 = 1#1), ∀ a, (k0_off62 v935) a + S8x128.size a ≤ S7688x256.size a)
theorem k0_mult31_dvd : ∀ (arg0 : BitVec 32) (v1 : BitVec 32) (v935 : BitVec 32) (k0_hw31 : k0_chk31 arg0 v1 v935), ∀ (k0_h1 : k0_cond1 arg0 v1 = 1#1), 8 ∣ (k0_mult31 v935).toNat := fun arg0 v1 v935 k0_hw31 k0_h1 => k0_hw31.1 k0_h1
theorem k0_off61_inb : ∀ (arg0 : BitVec 32) (v1 : BitVec 32) (v935 : BitVec 32) (k0_hw31 : k0_chk31 arg0 v1 v935), ∀ (k0_h1 : k0_cond1 arg0 v1 = 1#1), ∀ a, (k0_off61 v935) a + S8x128.size a ≤ S7688x256.size a := fun arg0 v1 v935 k0_hw31 k0_h1 => k0_hw31.2.1 k0_h1
theorem k0_off62_inb : ∀ (arg0 : BitVec 32) (v1 : BitVec 32) (v935 : BitVec 32) (k0_hw31 : k0_chk31 arg0 v1 v935), ∀ (k0_h1 : k0_cond1 arg0 v1 = 1#1), ∀ a, (k0_off62 v935) a + S8x128.size a ≤ S7688x256.size a := fun arg0 v1 v935 k0_hw31 k0_h1 => k0_hw31.2.2 k0_h1

def k0_mult32 (v965 : BitVec 32) : BitVec 32 :=
  let c1_i32_237 : BitVec 32 := 1#32
  let v985 : BitVec 32 := Scalar.shrsi v965 c1_i32_237
  v985

def k0_off63 (v965 : BitVec 32) : Fin 2 → Nat :=
  let c1_i32_237 : BitVec 32 := 1#32
  let v985 : BitVec 32 := Scalar.shrsi v965 c1_i32_237
  let v986 : BitVec 32 := v985
  let v987 : Index := Scalar.indexCast v986
  let c0_238 : Index := 0#32
  ![v987.toNat, 0]
def k0_off64 (v965 : BitVec 32) : Fin 2 → Nat :=
  let c1_i32_237 : BitVec 32 := 1#32
  let v985 : BitVec 32 := Scalar.shrsi v965 c1_i32_237
  let v986 : BitVec 32 := v985
  let v991 : Index := Scalar.indexCast v986
  let c128_239 : Index := 128#32
  ![v991.toNat, 128]

def k0_chk32 (arg0 : BitVec 32) (v1 : BitVec 32) (v965 : BitVec 32) : Prop :=
  (∀ (k0_h1 : k0_cond1 arg0 v1 = 1#1), 8 ∣ (k0_mult32 v965).toNat) ∧
  (∀ (k0_h1 : k0_cond1 arg0 v1 = 1#1), ∀ a, (k0_off63 v965) a + S8x128.size a ≤ S7688x256.size a) ∧
  (∀ (k0_h1 : k0_cond1 arg0 v1 = 1#1), ∀ a, (k0_off64 v965) a + S8x128.size a ≤ S7688x256.size a)
theorem k0_mult32_dvd : ∀ (arg0 : BitVec 32) (v1 : BitVec 32) (v965 : BitVec 32) (k0_hw32 : k0_chk32 arg0 v1 v965), ∀ (k0_h1 : k0_cond1 arg0 v1 = 1#1), 8 ∣ (k0_mult32 v965).toNat := fun arg0 v1 v965 k0_hw32 k0_h1 => k0_hw32.1 k0_h1
theorem k0_off63_inb : ∀ (arg0 : BitVec 32) (v1 : BitVec 32) (v965 : BitVec 32) (k0_hw32 : k0_chk32 arg0 v1 v965), ∀ (k0_h1 : k0_cond1 arg0 v1 = 1#1), ∀ a, (k0_off63 v965) a + S8x128.size a ≤ S7688x256.size a := fun arg0 v1 v965 k0_hw32 k0_h1 => k0_hw32.2.1 k0_h1
theorem k0_off64_inb : ∀ (arg0 : BitVec 32) (v1 : BitVec 32) (v965 : BitVec 32) (k0_hw32 : k0_chk32 arg0 v1 v965), ∀ (k0_h1 : k0_cond1 arg0 v1 = 1#1), ∀ a, (k0_off64 v965) a + S8x128.size a ≤ S7688x256.size a := fun arg0 v1 v965 k0_hw32 k0_h1 => k0_hw32.2.2 k0_h1

def k0_mult33 (v995 : BitVec 32) : BitVec 32 :=
  let c1_i32_244 : BitVec 32 := 1#32
  let v1015 : BitVec 32 := Scalar.shrsi v995 c1_i32_244
  v1015

def k0_off65 (v995 : BitVec 32) : Fin 2 → Nat :=
  let c1_i32_244 : BitVec 32 := 1#32
  let v1015 : BitVec 32 := Scalar.shrsi v995 c1_i32_244
  let v1016 : BitVec 32 := v1015
  let v1017 : Index := Scalar.indexCast v1016
  let c0_245 : Index := 0#32
  ![v1017.toNat, 0]
def k0_off66 (v995 : BitVec 32) : Fin 2 → Nat :=
  let c1_i32_244 : BitVec 32 := 1#32
  let v1015 : BitVec 32 := Scalar.shrsi v995 c1_i32_244
  let v1016 : BitVec 32 := v1015
  let v1021 : Index := Scalar.indexCast v1016
  let c128_246 : Index := 128#32
  ![v1021.toNat, 128]

def k0_chk33 (arg0 : BitVec 32) (v1 : BitVec 32) (v995 : BitVec 32) : Prop :=
  (∀ (k0_h1 : k0_cond1 arg0 v1 = 1#1), 8 ∣ (k0_mult33 v995).toNat) ∧
  (∀ (k0_h1 : k0_cond1 arg0 v1 = 1#1), ∀ a, (k0_off65 v995) a + S8x128.size a ≤ S7688x256.size a) ∧
  (∀ (k0_h1 : k0_cond1 arg0 v1 = 1#1), ∀ a, (k0_off66 v995) a + S8x128.size a ≤ S7688x256.size a)
theorem k0_mult33_dvd : ∀ (arg0 : BitVec 32) (v1 : BitVec 32) (v995 : BitVec 32) (k0_hw33 : k0_chk33 arg0 v1 v995), ∀ (k0_h1 : k0_cond1 arg0 v1 = 1#1), 8 ∣ (k0_mult33 v995).toNat := fun arg0 v1 v995 k0_hw33 k0_h1 => k0_hw33.1 k0_h1
theorem k0_off65_inb : ∀ (arg0 : BitVec 32) (v1 : BitVec 32) (v995 : BitVec 32) (k0_hw33 : k0_chk33 arg0 v1 v995), ∀ (k0_h1 : k0_cond1 arg0 v1 = 1#1), ∀ a, (k0_off65 v995) a + S8x128.size a ≤ S7688x256.size a := fun arg0 v1 v995 k0_hw33 k0_h1 => k0_hw33.2.1 k0_h1
theorem k0_off66_inb : ∀ (arg0 : BitVec 32) (v1 : BitVec 32) (v995 : BitVec 32) (k0_hw33 : k0_chk33 arg0 v1 v995), ∀ (k0_h1 : k0_cond1 arg0 v1 = 1#1), ∀ a, (k0_off66 v995) a + S8x128.size a ≤ S7688x256.size a := fun arg0 v1 v995 k0_hw33 k0_h1 => k0_hw33.2.2 k0_h1

def k0_mult34 (v1025 : BitVec 32) : BitVec 32 :=
  let c1_i32_251 : BitVec 32 := 1#32
  let v1045 : BitVec 32 := Scalar.shrsi v1025 c1_i32_251
  v1045

def k0_off67 (v1025 : BitVec 32) : Fin 2 → Nat :=
  let c1_i32_251 : BitVec 32 := 1#32
  let v1045 : BitVec 32 := Scalar.shrsi v1025 c1_i32_251
  let v1046 : BitVec 32 := v1045
  let v1047 : Index := Scalar.indexCast v1046
  let c0_252 : Index := 0#32
  ![v1047.toNat, 0]
def k0_off68 (v1025 : BitVec 32) : Fin 2 → Nat :=
  let c1_i32_251 : BitVec 32 := 1#32
  let v1045 : BitVec 32 := Scalar.shrsi v1025 c1_i32_251
  let v1046 : BitVec 32 := v1045
  let v1051 : Index := Scalar.indexCast v1046
  let c128_253 : Index := 128#32
  ![v1051.toNat, 128]

def k0_chk34 (arg0 : BitVec 32) (v1 : BitVec 32) (v1025 : BitVec 32) : Prop :=
  (∀ (k0_h1 : k0_cond1 arg0 v1 = 1#1), 8 ∣ (k0_mult34 v1025).toNat) ∧
  (∀ (k0_h1 : k0_cond1 arg0 v1 = 1#1), ∀ a, (k0_off67 v1025) a + S8x128.size a ≤ S7688x256.size a) ∧
  (∀ (k0_h1 : k0_cond1 arg0 v1 = 1#1), ∀ a, (k0_off68 v1025) a + S8x128.size a ≤ S7688x256.size a)
theorem k0_mult34_dvd : ∀ (arg0 : BitVec 32) (v1 : BitVec 32) (v1025 : BitVec 32) (k0_hw34 : k0_chk34 arg0 v1 v1025), ∀ (k0_h1 : k0_cond1 arg0 v1 = 1#1), 8 ∣ (k0_mult34 v1025).toNat := fun arg0 v1 v1025 k0_hw34 k0_h1 => k0_hw34.1 k0_h1
theorem k0_off67_inb : ∀ (arg0 : BitVec 32) (v1 : BitVec 32) (v1025 : BitVec 32) (k0_hw34 : k0_chk34 arg0 v1 v1025), ∀ (k0_h1 : k0_cond1 arg0 v1 = 1#1), ∀ a, (k0_off67 v1025) a + S8x128.size a ≤ S7688x256.size a := fun arg0 v1 v1025 k0_hw34 k0_h1 => k0_hw34.2.1 k0_h1
theorem k0_off68_inb : ∀ (arg0 : BitVec 32) (v1 : BitVec 32) (v1025 : BitVec 32) (k0_hw34 : k0_chk34 arg0 v1 v1025), ∀ (k0_h1 : k0_cond1 arg0 v1 = 1#1), ∀ a, (k0_off68 v1025) a + S8x128.size a ≤ S7688x256.size a := fun arg0 v1 v1025 k0_hw34 k0_h1 => k0_hw34.2.2 k0_h1

def k0_mult35 (v1055 : BitVec 32) : BitVec 32 :=
  let c1_i32_258 : BitVec 32 := 1#32
  let v1075 : BitVec 32 := Scalar.shrsi v1055 c1_i32_258
  v1075

def k0_off69 (v1055 : BitVec 32) : Fin 2 → Nat :=
  let c1_i32_258 : BitVec 32 := 1#32
  let v1075 : BitVec 32 := Scalar.shrsi v1055 c1_i32_258
  let v1076 : BitVec 32 := v1075
  let v1077 : Index := Scalar.indexCast v1076
  let c0_259 : Index := 0#32
  ![v1077.toNat, 0]
def k0_off70 (v1055 : BitVec 32) : Fin 2 → Nat :=
  let c1_i32_258 : BitVec 32 := 1#32
  let v1075 : BitVec 32 := Scalar.shrsi v1055 c1_i32_258
  let v1076 : BitVec 32 := v1075
  let v1081 : Index := Scalar.indexCast v1076
  let c128_260 : Index := 128#32
  ![v1081.toNat, 128]

def k0_chk35 (arg0 : BitVec 32) (v1 : BitVec 32) (v1055 : BitVec 32) : Prop :=
  (∀ (k0_h1 : k0_cond1 arg0 v1 = 1#1), 8 ∣ (k0_mult35 v1055).toNat) ∧
  (∀ (k0_h1 : k0_cond1 arg0 v1 = 1#1), ∀ a, (k0_off69 v1055) a + S8x128.size a ≤ S7688x256.size a) ∧
  (∀ (k0_h1 : k0_cond1 arg0 v1 = 1#1), ∀ a, (k0_off70 v1055) a + S8x128.size a ≤ S7688x256.size a)
theorem k0_mult35_dvd : ∀ (arg0 : BitVec 32) (v1 : BitVec 32) (v1055 : BitVec 32) (k0_hw35 : k0_chk35 arg0 v1 v1055), ∀ (k0_h1 : k0_cond1 arg0 v1 = 1#1), 8 ∣ (k0_mult35 v1055).toNat := fun arg0 v1 v1055 k0_hw35 k0_h1 => k0_hw35.1 k0_h1
theorem k0_off69_inb : ∀ (arg0 : BitVec 32) (v1 : BitVec 32) (v1055 : BitVec 32) (k0_hw35 : k0_chk35 arg0 v1 v1055), ∀ (k0_h1 : k0_cond1 arg0 v1 = 1#1), ∀ a, (k0_off69 v1055) a + S8x128.size a ≤ S7688x256.size a := fun arg0 v1 v1055 k0_hw35 k0_h1 => k0_hw35.2.1 k0_h1
theorem k0_off70_inb : ∀ (arg0 : BitVec 32) (v1 : BitVec 32) (v1055 : BitVec 32) (k0_hw35 : k0_chk35 arg0 v1 v1055), ∀ (k0_h1 : k0_cond1 arg0 v1 = 1#1), ∀ a, (k0_off70 v1055) a + S8x128.size a ≤ S7688x256.size a := fun arg0 v1 v1055 k0_hw35 k0_h1 => k0_hw35.2.2 k0_h1

def k0_mult36 (v1085 : BitVec 32) : BitVec 32 :=
  let c1_i32_265 : BitVec 32 := 1#32
  let v1105 : BitVec 32 := Scalar.shrsi v1085 c1_i32_265
  v1105

def k0_off71 (v1085 : BitVec 32) : Fin 2 → Nat :=
  let c1_i32_265 : BitVec 32 := 1#32
  let v1105 : BitVec 32 := Scalar.shrsi v1085 c1_i32_265
  let v1106 : BitVec 32 := v1105
  let v1107 : Index := Scalar.indexCast v1106
  let c0_266 : Index := 0#32
  ![v1107.toNat, 0]
def k0_off72 (v1085 : BitVec 32) : Fin 2 → Nat :=
  let c1_i32_265 : BitVec 32 := 1#32
  let v1105 : BitVec 32 := Scalar.shrsi v1085 c1_i32_265
  let v1106 : BitVec 32 := v1105
  let v1111 : Index := Scalar.indexCast v1106
  let c128_267 : Index := 128#32
  ![v1111.toNat, 128]

def k0_chk36 (arg0 : BitVec 32) (v1 : BitVec 32) (v1085 : BitVec 32) : Prop :=
  (∀ (k0_h1 : k0_cond1 arg0 v1 = 1#1), 8 ∣ (k0_mult36 v1085).toNat) ∧
  (∀ (k0_h1 : k0_cond1 arg0 v1 = 1#1), ∀ a, (k0_off71 v1085) a + S8x128.size a ≤ S7688x256.size a) ∧
  (∀ (k0_h1 : k0_cond1 arg0 v1 = 1#1), ∀ a, (k0_off72 v1085) a + S8x128.size a ≤ S7688x256.size a)
theorem k0_mult36_dvd : ∀ (arg0 : BitVec 32) (v1 : BitVec 32) (v1085 : BitVec 32) (k0_hw36 : k0_chk36 arg0 v1 v1085), ∀ (k0_h1 : k0_cond1 arg0 v1 = 1#1), 8 ∣ (k0_mult36 v1085).toNat := fun arg0 v1 v1085 k0_hw36 k0_h1 => k0_hw36.1 k0_h1
theorem k0_off71_inb : ∀ (arg0 : BitVec 32) (v1 : BitVec 32) (v1085 : BitVec 32) (k0_hw36 : k0_chk36 arg0 v1 v1085), ∀ (k0_h1 : k0_cond1 arg0 v1 = 1#1), ∀ a, (k0_off71 v1085) a + S8x128.size a ≤ S7688x256.size a := fun arg0 v1 v1085 k0_hw36 k0_h1 => k0_hw36.2.1 k0_h1
theorem k0_off72_inb : ∀ (arg0 : BitVec 32) (v1 : BitVec 32) (v1085 : BitVec 32) (k0_hw36 : k0_chk36 arg0 v1 v1085), ∀ (k0_h1 : k0_cond1 arg0 v1 = 1#1), ∀ a, (k0_off72 v1085) a + S8x128.size a ≤ S7688x256.size a := fun arg0 v1 v1085 k0_hw36 k0_h1 => k0_hw36.2.2 k0_h1

def k0_mult37 (v1115 : BitVec 32) : BitVec 32 :=
  let c1_i32_272 : BitVec 32 := 1#32
  let v1135 : BitVec 32 := Scalar.shrsi v1115 c1_i32_272
  v1135

def k0_off73 (v1115 : BitVec 32) : Fin 2 → Nat :=
  let c1_i32_272 : BitVec 32 := 1#32
  let v1135 : BitVec 32 := Scalar.shrsi v1115 c1_i32_272
  let v1136 : BitVec 32 := v1135
  let v1137 : Index := Scalar.indexCast v1136
  let c0_273 : Index := 0#32
  ![v1137.toNat, 0]
def k0_off74 (v1115 : BitVec 32) : Fin 2 → Nat :=
  let c1_i32_272 : BitVec 32 := 1#32
  let v1135 : BitVec 32 := Scalar.shrsi v1115 c1_i32_272
  let v1136 : BitVec 32 := v1135
  let v1141 : Index := Scalar.indexCast v1136
  let c128_274 : Index := 128#32
  ![v1141.toNat, 128]

def k0_chk37 (arg0 : BitVec 32) (v1 : BitVec 32) (v1115 : BitVec 32) : Prop :=
  (∀ (k0_h1 : k0_cond1 arg0 v1 = 1#1), 8 ∣ (k0_mult37 v1115).toNat) ∧
  (∀ (k0_h1 : k0_cond1 arg0 v1 = 1#1), ∀ a, (k0_off73 v1115) a + S8x128.size a ≤ S7688x256.size a) ∧
  (∀ (k0_h1 : k0_cond1 arg0 v1 = 1#1), ∀ a, (k0_off74 v1115) a + S8x128.size a ≤ S7688x256.size a)
theorem k0_mult37_dvd : ∀ (arg0 : BitVec 32) (v1 : BitVec 32) (v1115 : BitVec 32) (k0_hw37 : k0_chk37 arg0 v1 v1115), ∀ (k0_h1 : k0_cond1 arg0 v1 = 1#1), 8 ∣ (k0_mult37 v1115).toNat := fun arg0 v1 v1115 k0_hw37 k0_h1 => k0_hw37.1 k0_h1
theorem k0_off73_inb : ∀ (arg0 : BitVec 32) (v1 : BitVec 32) (v1115 : BitVec 32) (k0_hw37 : k0_chk37 arg0 v1 v1115), ∀ (k0_h1 : k0_cond1 arg0 v1 = 1#1), ∀ a, (k0_off73 v1115) a + S8x128.size a ≤ S7688x256.size a := fun arg0 v1 v1115 k0_hw37 k0_h1 => k0_hw37.2.1 k0_h1
theorem k0_off74_inb : ∀ (arg0 : BitVec 32) (v1 : BitVec 32) (v1115 : BitVec 32) (k0_hw37 : k0_chk37 arg0 v1 v1115), ∀ (k0_h1 : k0_cond1 arg0 v1 = 1#1), ∀ a, (k0_off74 v1115) a + S8x128.size a ≤ S7688x256.size a := fun arg0 v1 v1115 k0_hw37 k0_h1 => k0_hw37.2.2 k0_h1

def k0_mult38 (v1145 : BitVec 32) : BitVec 32 :=
  let c1_i32_279 : BitVec 32 := 1#32
  let v1165 : BitVec 32 := Scalar.shrsi v1145 c1_i32_279
  v1165

def k0_off75 (v1145 : BitVec 32) : Fin 2 → Nat :=
  let c1_i32_279 : BitVec 32 := 1#32
  let v1165 : BitVec 32 := Scalar.shrsi v1145 c1_i32_279
  let v1166 : BitVec 32 := v1165
  let v1167 : Index := Scalar.indexCast v1166
  let c0_280 : Index := 0#32
  ![v1167.toNat, 0]
def k0_off76 (v1145 : BitVec 32) : Fin 2 → Nat :=
  let c1_i32_279 : BitVec 32 := 1#32
  let v1165 : BitVec 32 := Scalar.shrsi v1145 c1_i32_279
  let v1166 : BitVec 32 := v1165
  let v1171 : Index := Scalar.indexCast v1166
  let c128_281 : Index := 128#32
  ![v1171.toNat, 128]

def k0_chk38 (arg0 : BitVec 32) (v1 : BitVec 32) (v1145 : BitVec 32) : Prop :=
  (∀ (k0_h1 : k0_cond1 arg0 v1 = 1#1), 8 ∣ (k0_mult38 v1145).toNat) ∧
  (∀ (k0_h1 : k0_cond1 arg0 v1 = 1#1), ∀ a, (k0_off75 v1145) a + S8x128.size a ≤ S7688x256.size a) ∧
  (∀ (k0_h1 : k0_cond1 arg0 v1 = 1#1), ∀ a, (k0_off76 v1145) a + S8x128.size a ≤ S7688x256.size a)
theorem k0_mult38_dvd : ∀ (arg0 : BitVec 32) (v1 : BitVec 32) (v1145 : BitVec 32) (k0_hw38 : k0_chk38 arg0 v1 v1145), ∀ (k0_h1 : k0_cond1 arg0 v1 = 1#1), 8 ∣ (k0_mult38 v1145).toNat := fun arg0 v1 v1145 k0_hw38 k0_h1 => k0_hw38.1 k0_h1
theorem k0_off75_inb : ∀ (arg0 : BitVec 32) (v1 : BitVec 32) (v1145 : BitVec 32) (k0_hw38 : k0_chk38 arg0 v1 v1145), ∀ (k0_h1 : k0_cond1 arg0 v1 = 1#1), ∀ a, (k0_off75 v1145) a + S8x128.size a ≤ S7688x256.size a := fun arg0 v1 v1145 k0_hw38 k0_h1 => k0_hw38.2.1 k0_h1
theorem k0_off76_inb : ∀ (arg0 : BitVec 32) (v1 : BitVec 32) (v1145 : BitVec 32) (k0_hw38 : k0_chk38 arg0 v1 v1145), ∀ (k0_h1 : k0_cond1 arg0 v1 = 1#1), ∀ a, (k0_off76 v1145) a + S8x128.size a ≤ S7688x256.size a := fun arg0 v1 v1145 k0_hw38 k0_h1 => k0_hw38.2.2 k0_h1

def k0_mult39 (v1175 : BitVec 32) : BitVec 32 :=
  let c1_i32_286 : BitVec 32 := 1#32
  let v1195 : BitVec 32 := Scalar.shrsi v1175 c1_i32_286
  v1195

def k0_off77 (v1175 : BitVec 32) : Fin 2 → Nat :=
  let c1_i32_286 : BitVec 32 := 1#32
  let v1195 : BitVec 32 := Scalar.shrsi v1175 c1_i32_286
  let v1196 : BitVec 32 := v1195
  let v1197 : Index := Scalar.indexCast v1196
  let c0_287 : Index := 0#32
  ![v1197.toNat, 0]
def k0_off78 (v1175 : BitVec 32) : Fin 2 → Nat :=
  let c1_i32_286 : BitVec 32 := 1#32
  let v1195 : BitVec 32 := Scalar.shrsi v1175 c1_i32_286
  let v1196 : BitVec 32 := v1195
  let v1201 : Index := Scalar.indexCast v1196
  let c128_288 : Index := 128#32
  ![v1201.toNat, 128]

def k0_chk39 (arg0 : BitVec 32) (v1 : BitVec 32) (v1175 : BitVec 32) : Prop :=
  (∀ (k0_h1 : k0_cond1 arg0 v1 = 1#1), 8 ∣ (k0_mult39 v1175).toNat) ∧
  (∀ (k0_h1 : k0_cond1 arg0 v1 = 1#1), ∀ a, (k0_off77 v1175) a + S8x128.size a ≤ S7688x256.size a) ∧
  (∀ (k0_h1 : k0_cond1 arg0 v1 = 1#1), ∀ a, (k0_off78 v1175) a + S8x128.size a ≤ S7688x256.size a)
theorem k0_mult39_dvd : ∀ (arg0 : BitVec 32) (v1 : BitVec 32) (v1175 : BitVec 32) (k0_hw39 : k0_chk39 arg0 v1 v1175), ∀ (k0_h1 : k0_cond1 arg0 v1 = 1#1), 8 ∣ (k0_mult39 v1175).toNat := fun arg0 v1 v1175 k0_hw39 k0_h1 => k0_hw39.1 k0_h1
theorem k0_off77_inb : ∀ (arg0 : BitVec 32) (v1 : BitVec 32) (v1175 : BitVec 32) (k0_hw39 : k0_chk39 arg0 v1 v1175), ∀ (k0_h1 : k0_cond1 arg0 v1 = 1#1), ∀ a, (k0_off77 v1175) a + S8x128.size a ≤ S7688x256.size a := fun arg0 v1 v1175 k0_hw39 k0_h1 => k0_hw39.2.1 k0_h1
theorem k0_off78_inb : ∀ (arg0 : BitVec 32) (v1 : BitVec 32) (v1175 : BitVec 32) (k0_hw39 : k0_chk39 arg0 v1 v1175), ∀ (k0_h1 : k0_cond1 arg0 v1 = 1#1), ∀ a, (k0_off78 v1175) a + S8x128.size a ≤ S7688x256.size a := fun arg0 v1 v1175 k0_hw39 k0_h1 => k0_hw39.2.2 k0_h1

def k0_mult40 (v1205 : BitVec 32) : BitVec 32 :=
  let c1_i32_293 : BitVec 32 := 1#32
  let v1225 : BitVec 32 := Scalar.shrsi v1205 c1_i32_293
  v1225

def k0_off79 (v1205 : BitVec 32) : Fin 2 → Nat :=
  let c1_i32_293 : BitVec 32 := 1#32
  let v1225 : BitVec 32 := Scalar.shrsi v1205 c1_i32_293
  let v1226 : BitVec 32 := v1225
  let v1227 : Index := Scalar.indexCast v1226
  let c0_294 : Index := 0#32
  ![v1227.toNat, 0]
def k0_off80 (v1205 : BitVec 32) : Fin 2 → Nat :=
  let c1_i32_293 : BitVec 32 := 1#32
  let v1225 : BitVec 32 := Scalar.shrsi v1205 c1_i32_293
  let v1226 : BitVec 32 := v1225
  let v1231 : Index := Scalar.indexCast v1226
  let c128_295 : Index := 128#32
  ![v1231.toNat, 128]

def k0_chk40 (arg0 : BitVec 32) (v1 : BitVec 32) (v1205 : BitVec 32) : Prop :=
  (∀ (k0_h1 : k0_cond1 arg0 v1 = 1#1), 8 ∣ (k0_mult40 v1205).toNat) ∧
  (∀ (k0_h1 : k0_cond1 arg0 v1 = 1#1), ∀ a, (k0_off79 v1205) a + S8x128.size a ≤ S7688x256.size a) ∧
  (∀ (k0_h1 : k0_cond1 arg0 v1 = 1#1), ∀ a, (k0_off80 v1205) a + S8x128.size a ≤ S7688x256.size a)
theorem k0_mult40_dvd : ∀ (arg0 : BitVec 32) (v1 : BitVec 32) (v1205 : BitVec 32) (k0_hw40 : k0_chk40 arg0 v1 v1205), ∀ (k0_h1 : k0_cond1 arg0 v1 = 1#1), 8 ∣ (k0_mult40 v1205).toNat := fun arg0 v1 v1205 k0_hw40 k0_h1 => k0_hw40.1 k0_h1
theorem k0_off79_inb : ∀ (arg0 : BitVec 32) (v1 : BitVec 32) (v1205 : BitVec 32) (k0_hw40 : k0_chk40 arg0 v1 v1205), ∀ (k0_h1 : k0_cond1 arg0 v1 = 1#1), ∀ a, (k0_off79 v1205) a + S8x128.size a ≤ S7688x256.size a := fun arg0 v1 v1205 k0_hw40 k0_h1 => k0_hw40.2.1 k0_h1
theorem k0_off80_inb : ∀ (arg0 : BitVec 32) (v1 : BitVec 32) (v1205 : BitVec 32) (k0_hw40 : k0_chk40 arg0 v1 v1205), ∀ (k0_h1 : k0_cond1 arg0 v1 = 1#1), ∀ a, (k0_off80 v1205) a + S8x128.size a ≤ S7688x256.size a := fun arg0 v1 v1205 k0_hw40 k0_h1 => k0_hw40.2.2 k0_h1

def k0_mult41 (v1235 : BitVec 32) : BitVec 32 :=
  let c1_i32_300 : BitVec 32 := 1#32
  let v1255 : BitVec 32 := Scalar.shrsi v1235 c1_i32_300
  v1255

def k0_off81 (v1235 : BitVec 32) : Fin 2 → Nat :=
  let c1_i32_300 : BitVec 32 := 1#32
  let v1255 : BitVec 32 := Scalar.shrsi v1235 c1_i32_300
  let v1256 : BitVec 32 := v1255
  let v1257 : Index := Scalar.indexCast v1256
  let c0_301 : Index := 0#32
  ![v1257.toNat, 0]
def k0_off82 (v1235 : BitVec 32) : Fin 2 → Nat :=
  let c1_i32_300 : BitVec 32 := 1#32
  let v1255 : BitVec 32 := Scalar.shrsi v1235 c1_i32_300
  let v1256 : BitVec 32 := v1255
  let v1261 : Index := Scalar.indexCast v1256
  let c128_302 : Index := 128#32
  ![v1261.toNat, 128]

def k0_chk41 (arg0 : BitVec 32) (v1 : BitVec 32) (v1235 : BitVec 32) : Prop :=
  (∀ (k0_h1 : k0_cond1 arg0 v1 = 1#1), 8 ∣ (k0_mult41 v1235).toNat) ∧
  (∀ (k0_h1 : k0_cond1 arg0 v1 = 1#1), ∀ a, (k0_off81 v1235) a + S8x128.size a ≤ S7688x256.size a) ∧
  (∀ (k0_h1 : k0_cond1 arg0 v1 = 1#1), ∀ a, (k0_off82 v1235) a + S8x128.size a ≤ S7688x256.size a)
theorem k0_mult41_dvd : ∀ (arg0 : BitVec 32) (v1 : BitVec 32) (v1235 : BitVec 32) (k0_hw41 : k0_chk41 arg0 v1 v1235), ∀ (k0_h1 : k0_cond1 arg0 v1 = 1#1), 8 ∣ (k0_mult41 v1235).toNat := fun arg0 v1 v1235 k0_hw41 k0_h1 => k0_hw41.1 k0_h1
theorem k0_off81_inb : ∀ (arg0 : BitVec 32) (v1 : BitVec 32) (v1235 : BitVec 32) (k0_hw41 : k0_chk41 arg0 v1 v1235), ∀ (k0_h1 : k0_cond1 arg0 v1 = 1#1), ∀ a, (k0_off81 v1235) a + S8x128.size a ≤ S7688x256.size a := fun arg0 v1 v1235 k0_hw41 k0_h1 => k0_hw41.2.1 k0_h1
theorem k0_off82_inb : ∀ (arg0 : BitVec 32) (v1 : BitVec 32) (v1235 : BitVec 32) (k0_hw41 : k0_chk41 arg0 v1 v1235), ∀ (k0_h1 : k0_cond1 arg0 v1 = 1#1), ∀ a, (k0_off82 v1235) a + S8x128.size a ≤ S7688x256.size a := fun arg0 v1 v1235 k0_hw41 k0_h1 => k0_hw41.2.2 k0_h1

def k0_mult42 (v1265 : BitVec 32) : BitVec 32 :=
  let c1_i32_307 : BitVec 32 := 1#32
  let v1285 : BitVec 32 := Scalar.shrsi v1265 c1_i32_307
  v1285

def k0_off83 (v1265 : BitVec 32) : Fin 2 → Nat :=
  let c1_i32_307 : BitVec 32 := 1#32
  let v1285 : BitVec 32 := Scalar.shrsi v1265 c1_i32_307
  let v1286 : BitVec 32 := v1285
  let v1287 : Index := Scalar.indexCast v1286
  let c0_308 : Index := 0#32
  ![v1287.toNat, 0]
def k0_off84 (v1265 : BitVec 32) : Fin 2 → Nat :=
  let c1_i32_307 : BitVec 32 := 1#32
  let v1285 : BitVec 32 := Scalar.shrsi v1265 c1_i32_307
  let v1286 : BitVec 32 := v1285
  let v1291 : Index := Scalar.indexCast v1286
  let c128_309 : Index := 128#32
  ![v1291.toNat, 128]

def k0_chk42 (arg0 : BitVec 32) (v1 : BitVec 32) (v1265 : BitVec 32) : Prop :=
  (∀ (k0_h1 : k0_cond1 arg0 v1 = 1#1), 8 ∣ (k0_mult42 v1265).toNat) ∧
  (∀ (k0_h1 : k0_cond1 arg0 v1 = 1#1), ∀ a, (k0_off83 v1265) a + S8x128.size a ≤ S7688x256.size a) ∧
  (∀ (k0_h1 : k0_cond1 arg0 v1 = 1#1), ∀ a, (k0_off84 v1265) a + S8x128.size a ≤ S7688x256.size a)
theorem k0_mult42_dvd : ∀ (arg0 : BitVec 32) (v1 : BitVec 32) (v1265 : BitVec 32) (k0_hw42 : k0_chk42 arg0 v1 v1265), ∀ (k0_h1 : k0_cond1 arg0 v1 = 1#1), 8 ∣ (k0_mult42 v1265).toNat := fun arg0 v1 v1265 k0_hw42 k0_h1 => k0_hw42.1 k0_h1
theorem k0_off83_inb : ∀ (arg0 : BitVec 32) (v1 : BitVec 32) (v1265 : BitVec 32) (k0_hw42 : k0_chk42 arg0 v1 v1265), ∀ (k0_h1 : k0_cond1 arg0 v1 = 1#1), ∀ a, (k0_off83 v1265) a + S8x128.size a ≤ S7688x256.size a := fun arg0 v1 v1265 k0_hw42 k0_h1 => k0_hw42.2.1 k0_h1
theorem k0_off84_inb : ∀ (arg0 : BitVec 32) (v1 : BitVec 32) (v1265 : BitVec 32) (k0_hw42 : k0_chk42 arg0 v1 v1265), ∀ (k0_h1 : k0_cond1 arg0 v1 = 1#1), ∀ a, (k0_off84 v1265) a + S8x128.size a ≤ S7688x256.size a := fun arg0 v1 v1265 k0_hw42 k0_h1 => k0_hw42.2.2 k0_h1

def k0_mult43 (v1295 : BitVec 32) : BitVec 32 :=
  let c1_i32_314 : BitVec 32 := 1#32
  let v1315 : BitVec 32 := Scalar.shrsi v1295 c1_i32_314
  v1315

def k0_off85 (v1295 : BitVec 32) : Fin 2 → Nat :=
  let c1_i32_314 : BitVec 32 := 1#32
  let v1315 : BitVec 32 := Scalar.shrsi v1295 c1_i32_314
  let v1316 : BitVec 32 := v1315
  let v1317 : Index := Scalar.indexCast v1316
  let c0_315 : Index := 0#32
  ![v1317.toNat, 0]
def k0_off86 (v1295 : BitVec 32) : Fin 2 → Nat :=
  let c1_i32_314 : BitVec 32 := 1#32
  let v1315 : BitVec 32 := Scalar.shrsi v1295 c1_i32_314
  let v1316 : BitVec 32 := v1315
  let v1321 : Index := Scalar.indexCast v1316
  let c128_316 : Index := 128#32
  ![v1321.toNat, 128]

def k0_chk43 (arg0 : BitVec 32) (v1 : BitVec 32) (v1295 : BitVec 32) : Prop :=
  (∀ (k0_h1 : k0_cond1 arg0 v1 = 1#1), 8 ∣ (k0_mult43 v1295).toNat) ∧
  (∀ (k0_h1 : k0_cond1 arg0 v1 = 1#1), ∀ a, (k0_off85 v1295) a + S8x128.size a ≤ S7688x256.size a) ∧
  (∀ (k0_h1 : k0_cond1 arg0 v1 = 1#1), ∀ a, (k0_off86 v1295) a + S8x128.size a ≤ S7688x256.size a)
theorem k0_mult43_dvd : ∀ (arg0 : BitVec 32) (v1 : BitVec 32) (v1295 : BitVec 32) (k0_hw43 : k0_chk43 arg0 v1 v1295), ∀ (k0_h1 : k0_cond1 arg0 v1 = 1#1), 8 ∣ (k0_mult43 v1295).toNat := fun arg0 v1 v1295 k0_hw43 k0_h1 => k0_hw43.1 k0_h1
theorem k0_off85_inb : ∀ (arg0 : BitVec 32) (v1 : BitVec 32) (v1295 : BitVec 32) (k0_hw43 : k0_chk43 arg0 v1 v1295), ∀ (k0_h1 : k0_cond1 arg0 v1 = 1#1), ∀ a, (k0_off85 v1295) a + S8x128.size a ≤ S7688x256.size a := fun arg0 v1 v1295 k0_hw43 k0_h1 => k0_hw43.2.1 k0_h1
theorem k0_off86_inb : ∀ (arg0 : BitVec 32) (v1 : BitVec 32) (v1295 : BitVec 32) (k0_hw43 : k0_chk43 arg0 v1 v1295), ∀ (k0_h1 : k0_cond1 arg0 v1 = 1#1), ∀ a, (k0_off86 v1295) a + S8x128.size a ≤ S7688x256.size a := fun arg0 v1 v1295 k0_hw43 k0_h1 => k0_hw43.2.2 k0_h1

def k0_mult44 (v1325 : BitVec 32) : BitVec 32 :=
  let c1_i32_321 : BitVec 32 := 1#32
  let v1345 : BitVec 32 := Scalar.shrsi v1325 c1_i32_321
  v1345

def k0_off87 (v1325 : BitVec 32) : Fin 2 → Nat :=
  let c1_i32_321 : BitVec 32 := 1#32
  let v1345 : BitVec 32 := Scalar.shrsi v1325 c1_i32_321
  let v1346 : BitVec 32 := v1345
  let v1347 : Index := Scalar.indexCast v1346
  let c0_322 : Index := 0#32
  ![v1347.toNat, 0]
def k0_off88 (v1325 : BitVec 32) : Fin 2 → Nat :=
  let c1_i32_321 : BitVec 32 := 1#32
  let v1345 : BitVec 32 := Scalar.shrsi v1325 c1_i32_321
  let v1346 : BitVec 32 := v1345
  let v1351 : Index := Scalar.indexCast v1346
  let c128_323 : Index := 128#32
  ![v1351.toNat, 128]

def k0_chk44 (arg0 : BitVec 32) (v1 : BitVec 32) (v1325 : BitVec 32) : Prop :=
  (∀ (k0_h1 : k0_cond1 arg0 v1 = 1#1), 8 ∣ (k0_mult44 v1325).toNat) ∧
  (∀ (k0_h1 : k0_cond1 arg0 v1 = 1#1), ∀ a, (k0_off87 v1325) a + S8x128.size a ≤ S7688x256.size a) ∧
  (∀ (k0_h1 : k0_cond1 arg0 v1 = 1#1), ∀ a, (k0_off88 v1325) a + S8x128.size a ≤ S7688x256.size a)
theorem k0_mult44_dvd : ∀ (arg0 : BitVec 32) (v1 : BitVec 32) (v1325 : BitVec 32) (k0_hw44 : k0_chk44 arg0 v1 v1325), ∀ (k0_h1 : k0_cond1 arg0 v1 = 1#1), 8 ∣ (k0_mult44 v1325).toNat := fun arg0 v1 v1325 k0_hw44 k0_h1 => k0_hw44.1 k0_h1
theorem k0_off87_inb : ∀ (arg0 : BitVec 32) (v1 : BitVec 32) (v1325 : BitVec 32) (k0_hw44 : k0_chk44 arg0 v1 v1325), ∀ (k0_h1 : k0_cond1 arg0 v1 = 1#1), ∀ a, (k0_off87 v1325) a + S8x128.size a ≤ S7688x256.size a := fun arg0 v1 v1325 k0_hw44 k0_h1 => k0_hw44.2.1 k0_h1
theorem k0_off88_inb : ∀ (arg0 : BitVec 32) (v1 : BitVec 32) (v1325 : BitVec 32) (k0_hw44 : k0_chk44 arg0 v1 v1325), ∀ (k0_h1 : k0_cond1 arg0 v1 = 1#1), ∀ a, (k0_off88 v1325) a + S8x128.size a ≤ S7688x256.size a := fun arg0 v1 v1325 k0_hw44 k0_h1 => k0_hw44.2.2 k0_h1

def k0_mult45 (v1355 : BitVec 32) : BitVec 32 :=
  let c1_i32_328 : BitVec 32 := 1#32
  let v1375 : BitVec 32 := Scalar.shrsi v1355 c1_i32_328
  v1375

def k0_off89 (v1355 : BitVec 32) : Fin 2 → Nat :=
  let c1_i32_328 : BitVec 32 := 1#32
  let v1375 : BitVec 32 := Scalar.shrsi v1355 c1_i32_328
  let v1376 : BitVec 32 := v1375
  let v1377 : Index := Scalar.indexCast v1376
  let c0_329 : Index := 0#32
  ![v1377.toNat, 0]
def k0_off90 (v1355 : BitVec 32) : Fin 2 → Nat :=
  let c1_i32_328 : BitVec 32 := 1#32
  let v1375 : BitVec 32 := Scalar.shrsi v1355 c1_i32_328
  let v1376 : BitVec 32 := v1375
  let v1381 : Index := Scalar.indexCast v1376
  let c128_330 : Index := 128#32
  ![v1381.toNat, 128]

def k0_chk45 (arg0 : BitVec 32) (v1 : BitVec 32) (v1355 : BitVec 32) : Prop :=
  (∀ (k0_h1 : k0_cond1 arg0 v1 = 1#1), 8 ∣ (k0_mult45 v1355).toNat) ∧
  (∀ (k0_h1 : k0_cond1 arg0 v1 = 1#1), ∀ a, (k0_off89 v1355) a + S8x128.size a ≤ S7688x256.size a) ∧
  (∀ (k0_h1 : k0_cond1 arg0 v1 = 1#1), ∀ a, (k0_off90 v1355) a + S8x128.size a ≤ S7688x256.size a)
theorem k0_mult45_dvd : ∀ (arg0 : BitVec 32) (v1 : BitVec 32) (v1355 : BitVec 32) (k0_hw45 : k0_chk45 arg0 v1 v1355), ∀ (k0_h1 : k0_cond1 arg0 v1 = 1#1), 8 ∣ (k0_mult45 v1355).toNat := fun arg0 v1 v1355 k0_hw45 k0_h1 => k0_hw45.1 k0_h1
theorem k0_off89_inb : ∀ (arg0 : BitVec 32) (v1 : BitVec 32) (v1355 : BitVec 32) (k0_hw45 : k0_chk45 arg0 v1 v1355), ∀ (k0_h1 : k0_cond1 arg0 v1 = 1#1), ∀ a, (k0_off89 v1355) a + S8x128.size a ≤ S7688x256.size a := fun arg0 v1 v1355 k0_hw45 k0_h1 => k0_hw45.2.1 k0_h1
theorem k0_off90_inb : ∀ (arg0 : BitVec 32) (v1 : BitVec 32) (v1355 : BitVec 32) (k0_hw45 : k0_chk45 arg0 v1 v1355), ∀ (k0_h1 : k0_cond1 arg0 v1 = 1#1), ∀ a, (k0_off90 v1355) a + S8x128.size a ≤ S7688x256.size a := fun arg0 v1 v1355 k0_hw45 k0_h1 => k0_hw45.2.2 k0_h1

def k0_mult46 (v1385 : BitVec 32) : BitVec 32 :=
  let c1_i32_335 : BitVec 32 := 1#32
  let v1405 : BitVec 32 := Scalar.shrsi v1385 c1_i32_335
  v1405

def k0_off91 (v1385 : BitVec 32) : Fin 2 → Nat :=
  let c1_i32_335 : BitVec 32 := 1#32
  let v1405 : BitVec 32 := Scalar.shrsi v1385 c1_i32_335
  let v1406 : BitVec 32 := v1405
  let v1407 : Index := Scalar.indexCast v1406
  let c0_336 : Index := 0#32
  ![v1407.toNat, 0]
def k0_off92 (v1385 : BitVec 32) : Fin 2 → Nat :=
  let c1_i32_335 : BitVec 32 := 1#32
  let v1405 : BitVec 32 := Scalar.shrsi v1385 c1_i32_335
  let v1406 : BitVec 32 := v1405
  let v1411 : Index := Scalar.indexCast v1406
  let c128_337 : Index := 128#32
  ![v1411.toNat, 128]

def k0_chk46 (arg0 : BitVec 32) (v1 : BitVec 32) (v1385 : BitVec 32) : Prop :=
  (∀ (k0_h1 : k0_cond1 arg0 v1 = 1#1), 8 ∣ (k0_mult46 v1385).toNat) ∧
  (∀ (k0_h1 : k0_cond1 arg0 v1 = 1#1), ∀ a, (k0_off91 v1385) a + S8x128.size a ≤ S7688x256.size a) ∧
  (∀ (k0_h1 : k0_cond1 arg0 v1 = 1#1), ∀ a, (k0_off92 v1385) a + S8x128.size a ≤ S7688x256.size a)
theorem k0_mult46_dvd : ∀ (arg0 : BitVec 32) (v1 : BitVec 32) (v1385 : BitVec 32) (k0_hw46 : k0_chk46 arg0 v1 v1385), ∀ (k0_h1 : k0_cond1 arg0 v1 = 1#1), 8 ∣ (k0_mult46 v1385).toNat := fun arg0 v1 v1385 k0_hw46 k0_h1 => k0_hw46.1 k0_h1
theorem k0_off91_inb : ∀ (arg0 : BitVec 32) (v1 : BitVec 32) (v1385 : BitVec 32) (k0_hw46 : k0_chk46 arg0 v1 v1385), ∀ (k0_h1 : k0_cond1 arg0 v1 = 1#1), ∀ a, (k0_off91 v1385) a + S8x128.size a ≤ S7688x256.size a := fun arg0 v1 v1385 k0_hw46 k0_h1 => k0_hw46.2.1 k0_h1
theorem k0_off92_inb : ∀ (arg0 : BitVec 32) (v1 : BitVec 32) (v1385 : BitVec 32) (k0_hw46 : k0_chk46 arg0 v1 v1385), ∀ (k0_h1 : k0_cond1 arg0 v1 = 1#1), ∀ a, (k0_off92 v1385) a + S8x128.size a ≤ S7688x256.size a := fun arg0 v1 v1385 k0_hw46 k0_h1 => k0_hw46.2.2 k0_h1

def k0_mult47 (v1415 : BitVec 32) : BitVec 32 :=
  let c1_i32_342 : BitVec 32 := 1#32
  let v1435 : BitVec 32 := Scalar.shrsi v1415 c1_i32_342
  v1435

def k0_off93 (v1415 : BitVec 32) : Fin 2 → Nat :=
  let c1_i32_342 : BitVec 32 := 1#32
  let v1435 : BitVec 32 := Scalar.shrsi v1415 c1_i32_342
  let v1436 : BitVec 32 := v1435
  let v1437 : Index := Scalar.indexCast v1436
  let c0_343 : Index := 0#32
  ![v1437.toNat, 0]
def k0_off94 (v1415 : BitVec 32) : Fin 2 → Nat :=
  let c1_i32_342 : BitVec 32 := 1#32
  let v1435 : BitVec 32 := Scalar.shrsi v1415 c1_i32_342
  let v1436 : BitVec 32 := v1435
  let v1441 : Index := Scalar.indexCast v1436
  let c128_344 : Index := 128#32
  ![v1441.toNat, 128]

def k0_chk47 (arg0 : BitVec 32) (v1 : BitVec 32) (v1415 : BitVec 32) : Prop :=
  (∀ (k0_h1 : k0_cond1 arg0 v1 = 1#1), 8 ∣ (k0_mult47 v1415).toNat) ∧
  (∀ (k0_h1 : k0_cond1 arg0 v1 = 1#1), ∀ a, (k0_off93 v1415) a + S8x128.size a ≤ S7688x256.size a) ∧
  (∀ (k0_h1 : k0_cond1 arg0 v1 = 1#1), ∀ a, (k0_off94 v1415) a + S8x128.size a ≤ S7688x256.size a)
theorem k0_mult47_dvd : ∀ (arg0 : BitVec 32) (v1 : BitVec 32) (v1415 : BitVec 32) (k0_hw47 : k0_chk47 arg0 v1 v1415), ∀ (k0_h1 : k0_cond1 arg0 v1 = 1#1), 8 ∣ (k0_mult47 v1415).toNat := fun arg0 v1 v1415 k0_hw47 k0_h1 => k0_hw47.1 k0_h1
theorem k0_off93_inb : ∀ (arg0 : BitVec 32) (v1 : BitVec 32) (v1415 : BitVec 32) (k0_hw47 : k0_chk47 arg0 v1 v1415), ∀ (k0_h1 : k0_cond1 arg0 v1 = 1#1), ∀ a, (k0_off93 v1415) a + S8x128.size a ≤ S7688x256.size a := fun arg0 v1 v1415 k0_hw47 k0_h1 => k0_hw47.2.1 k0_h1
theorem k0_off94_inb : ∀ (arg0 : BitVec 32) (v1 : BitVec 32) (v1415 : BitVec 32) (k0_hw47 : k0_chk47 arg0 v1 v1415), ∀ (k0_h1 : k0_cond1 arg0 v1 = 1#1), ∀ a, (k0_off94 v1415) a + S8x128.size a ≤ S7688x256.size a := fun arg0 v1 v1415 k0_hw47 k0_h1 => k0_hw47.2.2 k0_h1

def k0_mult48 (v1445 : BitVec 32) : BitVec 32 :=
  let c1_i32_349 : BitVec 32 := 1#32
  let v1465 : BitVec 32 := Scalar.shrsi v1445 c1_i32_349
  v1465

def k0_off95 (v1445 : BitVec 32) : Fin 2 → Nat :=
  let c1_i32_349 : BitVec 32 := 1#32
  let v1465 : BitVec 32 := Scalar.shrsi v1445 c1_i32_349
  let v1466 : BitVec 32 := v1465
  let v1467 : Index := Scalar.indexCast v1466
  let c0_350 : Index := 0#32
  ![v1467.toNat, 0]
def k0_off96 (v1445 : BitVec 32) : Fin 2 → Nat :=
  let c1_i32_349 : BitVec 32 := 1#32
  let v1465 : BitVec 32 := Scalar.shrsi v1445 c1_i32_349
  let v1466 : BitVec 32 := v1465
  let v1471 : Index := Scalar.indexCast v1466
  let c128_351 : Index := 128#32
  ![v1471.toNat, 128]

def k0_chk48 (arg0 : BitVec 32) (v1 : BitVec 32) (v1445 : BitVec 32) : Prop :=
  (∀ (k0_h1 : k0_cond1 arg0 v1 = 1#1), 8 ∣ (k0_mult48 v1445).toNat) ∧
  (∀ (k0_h1 : k0_cond1 arg0 v1 = 1#1), ∀ a, (k0_off95 v1445) a + S8x128.size a ≤ S7688x256.size a) ∧
  (∀ (k0_h1 : k0_cond1 arg0 v1 = 1#1), ∀ a, (k0_off96 v1445) a + S8x128.size a ≤ S7688x256.size a)
theorem k0_mult48_dvd : ∀ (arg0 : BitVec 32) (v1 : BitVec 32) (v1445 : BitVec 32) (k0_hw48 : k0_chk48 arg0 v1 v1445), ∀ (k0_h1 : k0_cond1 arg0 v1 = 1#1), 8 ∣ (k0_mult48 v1445).toNat := fun arg0 v1 v1445 k0_hw48 k0_h1 => k0_hw48.1 k0_h1
theorem k0_off95_inb : ∀ (arg0 : BitVec 32) (v1 : BitVec 32) (v1445 : BitVec 32) (k0_hw48 : k0_chk48 arg0 v1 v1445), ∀ (k0_h1 : k0_cond1 arg0 v1 = 1#1), ∀ a, (k0_off95 v1445) a + S8x128.size a ≤ S7688x256.size a := fun arg0 v1 v1445 k0_hw48 k0_h1 => k0_hw48.2.1 k0_h1
theorem k0_off96_inb : ∀ (arg0 : BitVec 32) (v1 : BitVec 32) (v1445 : BitVec 32) (k0_hw48 : k0_chk48 arg0 v1 v1445), ∀ (k0_h1 : k0_cond1 arg0 v1 = 1#1), ∀ a, (k0_off96 v1445) a + S8x128.size a ≤ S7688x256.size a := fun arg0 v1 v1445 k0_hw48 k0_h1 => k0_hw48.2.2 k0_h1

def k0_mult49 (v1475 : BitVec 32) : BitVec 32 :=
  let c1_i32_356 : BitVec 32 := 1#32
  let v1495 : BitVec 32 := Scalar.shrsi v1475 c1_i32_356
  v1495

def k0_off97 (v1475 : BitVec 32) : Fin 2 → Nat :=
  let c1_i32_356 : BitVec 32 := 1#32
  let v1495 : BitVec 32 := Scalar.shrsi v1475 c1_i32_356
  let v1496 : BitVec 32 := v1495
  let v1497 : Index := Scalar.indexCast v1496
  let c0_357 : Index := 0#32
  ![v1497.toNat, 0]
def k0_off98 (v1475 : BitVec 32) : Fin 2 → Nat :=
  let c1_i32_356 : BitVec 32 := 1#32
  let v1495 : BitVec 32 := Scalar.shrsi v1475 c1_i32_356
  let v1496 : BitVec 32 := v1495
  let v1501 : Index := Scalar.indexCast v1496
  let c128_358 : Index := 128#32
  ![v1501.toNat, 128]

def k0_chk49 (arg0 : BitVec 32) (v1 : BitVec 32) (v1475 : BitVec 32) : Prop :=
  (∀ (k0_h1 : k0_cond1 arg0 v1 = 1#1), 8 ∣ (k0_mult49 v1475).toNat) ∧
  (∀ (k0_h1 : k0_cond1 arg0 v1 = 1#1), ∀ a, (k0_off97 v1475) a + S8x128.size a ≤ S7688x256.size a) ∧
  (∀ (k0_h1 : k0_cond1 arg0 v1 = 1#1), ∀ a, (k0_off98 v1475) a + S8x128.size a ≤ S7688x256.size a)
theorem k0_mult49_dvd : ∀ (arg0 : BitVec 32) (v1 : BitVec 32) (v1475 : BitVec 32) (k0_hw49 : k0_chk49 arg0 v1 v1475), ∀ (k0_h1 : k0_cond1 arg0 v1 = 1#1), 8 ∣ (k0_mult49 v1475).toNat := fun arg0 v1 v1475 k0_hw49 k0_h1 => k0_hw49.1 k0_h1
theorem k0_off97_inb : ∀ (arg0 : BitVec 32) (v1 : BitVec 32) (v1475 : BitVec 32) (k0_hw49 : k0_chk49 arg0 v1 v1475), ∀ (k0_h1 : k0_cond1 arg0 v1 = 1#1), ∀ a, (k0_off97 v1475) a + S8x128.size a ≤ S7688x256.size a := fun arg0 v1 v1475 k0_hw49 k0_h1 => k0_hw49.2.1 k0_h1
theorem k0_off98_inb : ∀ (arg0 : BitVec 32) (v1 : BitVec 32) (v1475 : BitVec 32) (k0_hw49 : k0_chk49 arg0 v1 v1475), ∀ (k0_h1 : k0_cond1 arg0 v1 = 1#1), ∀ a, (k0_off98 v1475) a + S8x128.size a ≤ S7688x256.size a := fun arg0 v1 v1475 k0_hw49 k0_h1 => k0_hw49.2.2 k0_h1

def k0_mult50 (v1505 : BitVec 32) : BitVec 32 :=
  let c1_i32_363 : BitVec 32 := 1#32
  let v1525 : BitVec 32 := Scalar.shrsi v1505 c1_i32_363
  v1525

def k0_off99 (v1505 : BitVec 32) : Fin 2 → Nat :=
  let c1_i32_363 : BitVec 32 := 1#32
  let v1525 : BitVec 32 := Scalar.shrsi v1505 c1_i32_363
  let v1526 : BitVec 32 := v1525
  let v1527 : Index := Scalar.indexCast v1526
  let c0_364 : Index := 0#32
  ![v1527.toNat, 0]
def k0_off100 (v1505 : BitVec 32) : Fin 2 → Nat :=
  let c1_i32_363 : BitVec 32 := 1#32
  let v1525 : BitVec 32 := Scalar.shrsi v1505 c1_i32_363
  let v1526 : BitVec 32 := v1525
  let v1531 : Index := Scalar.indexCast v1526
  let c128_365 : Index := 128#32
  ![v1531.toNat, 128]

def k0_chk50 (arg0 : BitVec 32) (v1 : BitVec 32) (v1505 : BitVec 32) : Prop :=
  (∀ (k0_h1 : k0_cond1 arg0 v1 = 1#1), 8 ∣ (k0_mult50 v1505).toNat) ∧
  (∀ (k0_h1 : k0_cond1 arg0 v1 = 1#1), ∀ a, (k0_off99 v1505) a + S8x128.size a ≤ S7688x256.size a) ∧
  (∀ (k0_h1 : k0_cond1 arg0 v1 = 1#1), ∀ a, (k0_off100 v1505) a + S8x128.size a ≤ S7688x256.size a)
theorem k0_mult50_dvd : ∀ (arg0 : BitVec 32) (v1 : BitVec 32) (v1505 : BitVec 32) (k0_hw50 : k0_chk50 arg0 v1 v1505), ∀ (k0_h1 : k0_cond1 arg0 v1 = 1#1), 8 ∣ (k0_mult50 v1505).toNat := fun arg0 v1 v1505 k0_hw50 k0_h1 => k0_hw50.1 k0_h1
theorem k0_off99_inb : ∀ (arg0 : BitVec 32) (v1 : BitVec 32) (v1505 : BitVec 32) (k0_hw50 : k0_chk50 arg0 v1 v1505), ∀ (k0_h1 : k0_cond1 arg0 v1 = 1#1), ∀ a, (k0_off99 v1505) a + S8x128.size a ≤ S7688x256.size a := fun arg0 v1 v1505 k0_hw50 k0_h1 => k0_hw50.2.1 k0_h1
theorem k0_off100_inb : ∀ (arg0 : BitVec 32) (v1 : BitVec 32) (v1505 : BitVec 32) (k0_hw50 : k0_chk50 arg0 v1 v1505), ∀ (k0_h1 : k0_cond1 arg0 v1 = 1#1), ∀ a, (k0_off100 v1505) a + S8x128.size a ≤ S7688x256.size a := fun arg0 v1 v1505 k0_hw50 k0_h1 => k0_hw50.2.2 k0_h1

def k0_mult51 (v1535 : BitVec 32) : BitVec 32 :=
  let c1_i32_370 : BitVec 32 := 1#32
  let v1555 : BitVec 32 := Scalar.shrsi v1535 c1_i32_370
  v1555

def k0_off101 (v1535 : BitVec 32) : Fin 2 → Nat :=
  let c1_i32_370 : BitVec 32 := 1#32
  let v1555 : BitVec 32 := Scalar.shrsi v1535 c1_i32_370
  let v1556 : BitVec 32 := v1555
  let v1557 : Index := Scalar.indexCast v1556
  let c0_371 : Index := 0#32
  ![v1557.toNat, 0]
def k0_off102 (v1535 : BitVec 32) : Fin 2 → Nat :=
  let c1_i32_370 : BitVec 32 := 1#32
  let v1555 : BitVec 32 := Scalar.shrsi v1535 c1_i32_370
  let v1556 : BitVec 32 := v1555
  let v1561 : Index := Scalar.indexCast v1556
  let c128_372 : Index := 128#32
  ![v1561.toNat, 128]

def k0_chk51 (arg0 : BitVec 32) (v1 : BitVec 32) (v1535 : BitVec 32) : Prop :=
  (∀ (k0_h1 : k0_cond1 arg0 v1 = 1#1), 8 ∣ (k0_mult51 v1535).toNat) ∧
  (∀ (k0_h1 : k0_cond1 arg0 v1 = 1#1), ∀ a, (k0_off101 v1535) a + S8x128.size a ≤ S7688x256.size a) ∧
  (∀ (k0_h1 : k0_cond1 arg0 v1 = 1#1), ∀ a, (k0_off102 v1535) a + S8x128.size a ≤ S7688x256.size a)
theorem k0_mult51_dvd : ∀ (arg0 : BitVec 32) (v1 : BitVec 32) (v1535 : BitVec 32) (k0_hw51 : k0_chk51 arg0 v1 v1535), ∀ (k0_h1 : k0_cond1 arg0 v1 = 1#1), 8 ∣ (k0_mult51 v1535).toNat := fun arg0 v1 v1535 k0_hw51 k0_h1 => k0_hw51.1 k0_h1
theorem k0_off101_inb : ∀ (arg0 : BitVec 32) (v1 : BitVec 32) (v1535 : BitVec 32) (k0_hw51 : k0_chk51 arg0 v1 v1535), ∀ (k0_h1 : k0_cond1 arg0 v1 = 1#1), ∀ a, (k0_off101 v1535) a + S8x128.size a ≤ S7688x256.size a := fun arg0 v1 v1535 k0_hw51 k0_h1 => k0_hw51.2.1 k0_h1
theorem k0_off102_inb : ∀ (arg0 : BitVec 32) (v1 : BitVec 32) (v1535 : BitVec 32) (k0_hw51 : k0_chk51 arg0 v1 v1535), ∀ (k0_h1 : k0_cond1 arg0 v1 = 1#1), ∀ a, (k0_off102 v1535) a + S8x128.size a ≤ S7688x256.size a := fun arg0 v1 v1535 k0_hw51 k0_h1 => k0_hw51.2.2 k0_h1

def k0_mult52 (v1565 : BitVec 32) : BitVec 32 :=
  let c1_i32_377 : BitVec 32 := 1#32
  let v1585 : BitVec 32 := Scalar.shrsi v1565 c1_i32_377
  v1585

def k0_off103 (v1565 : BitVec 32) : Fin 2 → Nat :=
  let c1_i32_377 : BitVec 32 := 1#32
  let v1585 : BitVec 32 := Scalar.shrsi v1565 c1_i32_377
  let v1586 : BitVec 32 := v1585
  let v1587 : Index := Scalar.indexCast v1586
  let c0_378 : Index := 0#32
  ![v1587.toNat, 0]
def k0_off104 (v1565 : BitVec 32) : Fin 2 → Nat :=
  let c1_i32_377 : BitVec 32 := 1#32
  let v1585 : BitVec 32 := Scalar.shrsi v1565 c1_i32_377
  let v1586 : BitVec 32 := v1585
  let v1591 : Index := Scalar.indexCast v1586
  let c128_379 : Index := 128#32
  ![v1591.toNat, 128]

def k0_chk52 (arg0 : BitVec 32) (v1 : BitVec 32) (v1565 : BitVec 32) : Prop :=
  (∀ (k0_h1 : k0_cond1 arg0 v1 = 1#1), 8 ∣ (k0_mult52 v1565).toNat) ∧
  (∀ (k0_h1 : k0_cond1 arg0 v1 = 1#1), ∀ a, (k0_off103 v1565) a + S8x128.size a ≤ S7688x256.size a) ∧
  (∀ (k0_h1 : k0_cond1 arg0 v1 = 1#1), ∀ a, (k0_off104 v1565) a + S8x128.size a ≤ S7688x256.size a)
theorem k0_mult52_dvd : ∀ (arg0 : BitVec 32) (v1 : BitVec 32) (v1565 : BitVec 32) (k0_hw52 : k0_chk52 arg0 v1 v1565), ∀ (k0_h1 : k0_cond1 arg0 v1 = 1#1), 8 ∣ (k0_mult52 v1565).toNat := fun arg0 v1 v1565 k0_hw52 k0_h1 => k0_hw52.1 k0_h1
theorem k0_off103_inb : ∀ (arg0 : BitVec 32) (v1 : BitVec 32) (v1565 : BitVec 32) (k0_hw52 : k0_chk52 arg0 v1 v1565), ∀ (k0_h1 : k0_cond1 arg0 v1 = 1#1), ∀ a, (k0_off103 v1565) a + S8x128.size a ≤ S7688x256.size a := fun arg0 v1 v1565 k0_hw52 k0_h1 => k0_hw52.2.1 k0_h1
theorem k0_off104_inb : ∀ (arg0 : BitVec 32) (v1 : BitVec 32) (v1565 : BitVec 32) (k0_hw52 : k0_chk52 arg0 v1 v1565), ∀ (k0_h1 : k0_cond1 arg0 v1 = 1#1), ∀ a, (k0_off104 v1565) a + S8x128.size a ≤ S7688x256.size a := fun arg0 v1 v1565 k0_hw52 k0_h1 => k0_hw52.2.2 k0_h1

def k0_mult53 (v1595 : BitVec 32) : BitVec 32 :=
  let c1_i32_384 : BitVec 32 := 1#32
  let v1615 : BitVec 32 := Scalar.shrsi v1595 c1_i32_384
  v1615

def k0_off105 (v1595 : BitVec 32) : Fin 2 → Nat :=
  let c1_i32_384 : BitVec 32 := 1#32
  let v1615 : BitVec 32 := Scalar.shrsi v1595 c1_i32_384
  let v1616 : BitVec 32 := v1615
  let v1617 : Index := Scalar.indexCast v1616
  let c0_385 : Index := 0#32
  ![v1617.toNat, 0]
def k0_off106 (v1595 : BitVec 32) : Fin 2 → Nat :=
  let c1_i32_384 : BitVec 32 := 1#32
  let v1615 : BitVec 32 := Scalar.shrsi v1595 c1_i32_384
  let v1616 : BitVec 32 := v1615
  let v1621 : Index := Scalar.indexCast v1616
  let c128_386 : Index := 128#32
  ![v1621.toNat, 128]

def k0_chk53 (arg0 : BitVec 32) (v1 : BitVec 32) (v1595 : BitVec 32) : Prop :=
  (∀ (k0_h1 : k0_cond1 arg0 v1 = 1#1), 8 ∣ (k0_mult53 v1595).toNat) ∧
  (∀ (k0_h1 : k0_cond1 arg0 v1 = 1#1), ∀ a, (k0_off105 v1595) a + S8x128.size a ≤ S7688x256.size a) ∧
  (∀ (k0_h1 : k0_cond1 arg0 v1 = 1#1), ∀ a, (k0_off106 v1595) a + S8x128.size a ≤ S7688x256.size a)
theorem k0_mult53_dvd : ∀ (arg0 : BitVec 32) (v1 : BitVec 32) (v1595 : BitVec 32) (k0_hw53 : k0_chk53 arg0 v1 v1595), ∀ (k0_h1 : k0_cond1 arg0 v1 = 1#1), 8 ∣ (k0_mult53 v1595).toNat := fun arg0 v1 v1595 k0_hw53 k0_h1 => k0_hw53.1 k0_h1
theorem k0_off105_inb : ∀ (arg0 : BitVec 32) (v1 : BitVec 32) (v1595 : BitVec 32) (k0_hw53 : k0_chk53 arg0 v1 v1595), ∀ (k0_h1 : k0_cond1 arg0 v1 = 1#1), ∀ a, (k0_off105 v1595) a + S8x128.size a ≤ S7688x256.size a := fun arg0 v1 v1595 k0_hw53 k0_h1 => k0_hw53.2.1 k0_h1
theorem k0_off106_inb : ∀ (arg0 : BitVec 32) (v1 : BitVec 32) (v1595 : BitVec 32) (k0_hw53 : k0_chk53 arg0 v1 v1595), ∀ (k0_h1 : k0_cond1 arg0 v1 = 1#1), ∀ a, (k0_off106 v1595) a + S8x128.size a ≤ S7688x256.size a := fun arg0 v1 v1595 k0_hw53 k0_h1 => k0_hw53.2.2 k0_h1

def k0_mult54 (v1625 : BitVec 32) : BitVec 32 :=
  let c1_i32_391 : BitVec 32 := 1#32
  let v1645 : BitVec 32 := Scalar.shrsi v1625 c1_i32_391
  v1645

def k0_off107 (v1625 : BitVec 32) : Fin 2 → Nat :=
  let c1_i32_391 : BitVec 32 := 1#32
  let v1645 : BitVec 32 := Scalar.shrsi v1625 c1_i32_391
  let v1646 : BitVec 32 := v1645
  let v1647 : Index := Scalar.indexCast v1646
  let c0_392 : Index := 0#32
  ![v1647.toNat, 0]
def k0_off108 (v1625 : BitVec 32) : Fin 2 → Nat :=
  let c1_i32_391 : BitVec 32 := 1#32
  let v1645 : BitVec 32 := Scalar.shrsi v1625 c1_i32_391
  let v1646 : BitVec 32 := v1645
  let v1651 : Index := Scalar.indexCast v1646
  let c128_393 : Index := 128#32
  ![v1651.toNat, 128]

def k0_chk54 (arg0 : BitVec 32) (v1 : BitVec 32) (v1625 : BitVec 32) : Prop :=
  (∀ (k0_h1 : k0_cond1 arg0 v1 = 1#1), 8 ∣ (k0_mult54 v1625).toNat) ∧
  (∀ (k0_h1 : k0_cond1 arg0 v1 = 1#1), ∀ a, (k0_off107 v1625) a + S8x128.size a ≤ S7688x256.size a) ∧
  (∀ (k0_h1 : k0_cond1 arg0 v1 = 1#1), ∀ a, (k0_off108 v1625) a + S8x128.size a ≤ S7688x256.size a)
theorem k0_mult54_dvd : ∀ (arg0 : BitVec 32) (v1 : BitVec 32) (v1625 : BitVec 32) (k0_hw54 : k0_chk54 arg0 v1 v1625), ∀ (k0_h1 : k0_cond1 arg0 v1 = 1#1), 8 ∣ (k0_mult54 v1625).toNat := fun arg0 v1 v1625 k0_hw54 k0_h1 => k0_hw54.1 k0_h1
theorem k0_off107_inb : ∀ (arg0 : BitVec 32) (v1 : BitVec 32) (v1625 : BitVec 32) (k0_hw54 : k0_chk54 arg0 v1 v1625), ∀ (k0_h1 : k0_cond1 arg0 v1 = 1#1), ∀ a, (k0_off107 v1625) a + S8x128.size a ≤ S7688x256.size a := fun arg0 v1 v1625 k0_hw54 k0_h1 => k0_hw54.2.1 k0_h1
theorem k0_off108_inb : ∀ (arg0 : BitVec 32) (v1 : BitVec 32) (v1625 : BitVec 32) (k0_hw54 : k0_chk54 arg0 v1 v1625), ∀ (k0_h1 : k0_cond1 arg0 v1 = 1#1), ∀ a, (k0_off108 v1625) a + S8x128.size a ≤ S7688x256.size a := fun arg0 v1 v1625 k0_hw54 k0_h1 => k0_hw54.2.2 k0_h1

def k0_mult55 (v1655 : BitVec 32) : BitVec 32 :=
  let c1_i32_398 : BitVec 32 := 1#32
  let v1675 : BitVec 32 := Scalar.shrsi v1655 c1_i32_398
  v1675

def k0_off109 (v1655 : BitVec 32) : Fin 2 → Nat :=
  let c1_i32_398 : BitVec 32 := 1#32
  let v1675 : BitVec 32 := Scalar.shrsi v1655 c1_i32_398
  let v1676 : BitVec 32 := v1675
  let v1677 : Index := Scalar.indexCast v1676
  let c0_399 : Index := 0#32
  ![v1677.toNat, 0]
def k0_off110 (v1655 : BitVec 32) : Fin 2 → Nat :=
  let c1_i32_398 : BitVec 32 := 1#32
  let v1675 : BitVec 32 := Scalar.shrsi v1655 c1_i32_398
  let v1676 : BitVec 32 := v1675
  let v1681 : Index := Scalar.indexCast v1676
  let c128_400 : Index := 128#32
  ![v1681.toNat, 128]

def k0_chk55 (arg0 : BitVec 32) (v1 : BitVec 32) (v1655 : BitVec 32) : Prop :=
  (∀ (k0_h1 : k0_cond1 arg0 v1 = 1#1), 8 ∣ (k0_mult55 v1655).toNat) ∧
  (∀ (k0_h1 : k0_cond1 arg0 v1 = 1#1), ∀ a, (k0_off109 v1655) a + S8x128.size a ≤ S7688x256.size a) ∧
  (∀ (k0_h1 : k0_cond1 arg0 v1 = 1#1), ∀ a, (k0_off110 v1655) a + S8x128.size a ≤ S7688x256.size a)
theorem k0_mult55_dvd : ∀ (arg0 : BitVec 32) (v1 : BitVec 32) (v1655 : BitVec 32) (k0_hw55 : k0_chk55 arg0 v1 v1655), ∀ (k0_h1 : k0_cond1 arg0 v1 = 1#1), 8 ∣ (k0_mult55 v1655).toNat := fun arg0 v1 v1655 k0_hw55 k0_h1 => k0_hw55.1 k0_h1
theorem k0_off109_inb : ∀ (arg0 : BitVec 32) (v1 : BitVec 32) (v1655 : BitVec 32) (k0_hw55 : k0_chk55 arg0 v1 v1655), ∀ (k0_h1 : k0_cond1 arg0 v1 = 1#1), ∀ a, (k0_off109 v1655) a + S8x128.size a ≤ S7688x256.size a := fun arg0 v1 v1655 k0_hw55 k0_h1 => k0_hw55.2.1 k0_h1
theorem k0_off110_inb : ∀ (arg0 : BitVec 32) (v1 : BitVec 32) (v1655 : BitVec 32) (k0_hw55 : k0_chk55 arg0 v1 v1655), ∀ (k0_h1 : k0_cond1 arg0 v1 = 1#1), ∀ a, (k0_off110 v1655) a + S8x128.size a ≤ S7688x256.size a := fun arg0 v1 v1655 k0_hw55 k0_h1 => k0_hw55.2.2 k0_h1

def k0_mult56 (v1685 : BitVec 32) : BitVec 32 :=
  let c1_i32_405 : BitVec 32 := 1#32
  let v1705 : BitVec 32 := Scalar.shrsi v1685 c1_i32_405
  v1705

def k0_off111 (v1685 : BitVec 32) : Fin 2 → Nat :=
  let c1_i32_405 : BitVec 32 := 1#32
  let v1705 : BitVec 32 := Scalar.shrsi v1685 c1_i32_405
  let v1706 : BitVec 32 := v1705
  let v1707 : Index := Scalar.indexCast v1706
  let c0_406 : Index := 0#32
  ![v1707.toNat, 0]
def k0_off112 (v1685 : BitVec 32) : Fin 2 → Nat :=
  let c1_i32_405 : BitVec 32 := 1#32
  let v1705 : BitVec 32 := Scalar.shrsi v1685 c1_i32_405
  let v1706 : BitVec 32 := v1705
  let v1711 : Index := Scalar.indexCast v1706
  let c128_407 : Index := 128#32
  ![v1711.toNat, 128]

def k0_chk56 (arg0 : BitVec 32) (v1 : BitVec 32) (v1685 : BitVec 32) : Prop :=
  (∀ (k0_h1 : k0_cond1 arg0 v1 = 1#1), 8 ∣ (k0_mult56 v1685).toNat) ∧
  (∀ (k0_h1 : k0_cond1 arg0 v1 = 1#1), ∀ a, (k0_off111 v1685) a + S8x128.size a ≤ S7688x256.size a) ∧
  (∀ (k0_h1 : k0_cond1 arg0 v1 = 1#1), ∀ a, (k0_off112 v1685) a + S8x128.size a ≤ S7688x256.size a)
theorem k0_mult56_dvd : ∀ (arg0 : BitVec 32) (v1 : BitVec 32) (v1685 : BitVec 32) (k0_hw56 : k0_chk56 arg0 v1 v1685), ∀ (k0_h1 : k0_cond1 arg0 v1 = 1#1), 8 ∣ (k0_mult56 v1685).toNat := fun arg0 v1 v1685 k0_hw56 k0_h1 => k0_hw56.1 k0_h1
theorem k0_off111_inb : ∀ (arg0 : BitVec 32) (v1 : BitVec 32) (v1685 : BitVec 32) (k0_hw56 : k0_chk56 arg0 v1 v1685), ∀ (k0_h1 : k0_cond1 arg0 v1 = 1#1), ∀ a, (k0_off111 v1685) a + S8x128.size a ≤ S7688x256.size a := fun arg0 v1 v1685 k0_hw56 k0_h1 => k0_hw56.2.1 k0_h1
theorem k0_off112_inb : ∀ (arg0 : BitVec 32) (v1 : BitVec 32) (v1685 : BitVec 32) (k0_hw56 : k0_chk56 arg0 v1 v1685), ∀ (k0_h1 : k0_cond1 arg0 v1 = 1#1), ∀ a, (k0_off112 v1685) a + S8x128.size a ≤ S7688x256.size a := fun arg0 v1 v1685 k0_hw56 k0_h1 => k0_hw56.2.2 k0_h1

def k0_mult57 (v1715 : BitVec 32) : BitVec 32 :=
  let c1_i32_412 : BitVec 32 := 1#32
  let v1735 : BitVec 32 := Scalar.shrsi v1715 c1_i32_412
  v1735

def k0_off113 (v1715 : BitVec 32) : Fin 2 → Nat :=
  let c1_i32_412 : BitVec 32 := 1#32
  let v1735 : BitVec 32 := Scalar.shrsi v1715 c1_i32_412
  let v1736 : BitVec 32 := v1735
  let v1737 : Index := Scalar.indexCast v1736
  let c0_413 : Index := 0#32
  ![v1737.toNat, 0]
def k0_off114 (v1715 : BitVec 32) : Fin 2 → Nat :=
  let c1_i32_412 : BitVec 32 := 1#32
  let v1735 : BitVec 32 := Scalar.shrsi v1715 c1_i32_412
  let v1736 : BitVec 32 := v1735
  let v1741 : Index := Scalar.indexCast v1736
  let c128_414 : Index := 128#32
  ![v1741.toNat, 128]

def k0_chk57 (arg0 : BitVec 32) (v1 : BitVec 32) (v1715 : BitVec 32) : Prop :=
  (∀ (k0_h1 : k0_cond1 arg0 v1 = 1#1), 8 ∣ (k0_mult57 v1715).toNat) ∧
  (∀ (k0_h1 : k0_cond1 arg0 v1 = 1#1), ∀ a, (k0_off113 v1715) a + S8x128.size a ≤ S7688x256.size a) ∧
  (∀ (k0_h1 : k0_cond1 arg0 v1 = 1#1), ∀ a, (k0_off114 v1715) a + S8x128.size a ≤ S7688x256.size a)
theorem k0_mult57_dvd : ∀ (arg0 : BitVec 32) (v1 : BitVec 32) (v1715 : BitVec 32) (k0_hw57 : k0_chk57 arg0 v1 v1715), ∀ (k0_h1 : k0_cond1 arg0 v1 = 1#1), 8 ∣ (k0_mult57 v1715).toNat := fun arg0 v1 v1715 k0_hw57 k0_h1 => k0_hw57.1 k0_h1
theorem k0_off113_inb : ∀ (arg0 : BitVec 32) (v1 : BitVec 32) (v1715 : BitVec 32) (k0_hw57 : k0_chk57 arg0 v1 v1715), ∀ (k0_h1 : k0_cond1 arg0 v1 = 1#1), ∀ a, (k0_off113 v1715) a + S8x128.size a ≤ S7688x256.size a := fun arg0 v1 v1715 k0_hw57 k0_h1 => k0_hw57.2.1 k0_h1
theorem k0_off114_inb : ∀ (arg0 : BitVec 32) (v1 : BitVec 32) (v1715 : BitVec 32) (k0_hw57 : k0_chk57 arg0 v1 v1715), ∀ (k0_h1 : k0_cond1 arg0 v1 = 1#1), ∀ a, (k0_off114 v1715) a + S8x128.size a ≤ S7688x256.size a := fun arg0 v1 v1715 k0_hw57 k0_h1 => k0_hw57.2.2 k0_h1

def k0_mult58 (v1745 : BitVec 32) : BitVec 32 :=
  let c1_i32_419 : BitVec 32 := 1#32
  let v1765 : BitVec 32 := Scalar.shrsi v1745 c1_i32_419
  v1765

def k0_off115 (v1745 : BitVec 32) : Fin 2 → Nat :=
  let c1_i32_419 : BitVec 32 := 1#32
  let v1765 : BitVec 32 := Scalar.shrsi v1745 c1_i32_419
  let v1766 : BitVec 32 := v1765
  let v1767 : Index := Scalar.indexCast v1766
  let c0_420 : Index := 0#32
  ![v1767.toNat, 0]
def k0_off116 (v1745 : BitVec 32) : Fin 2 → Nat :=
  let c1_i32_419 : BitVec 32 := 1#32
  let v1765 : BitVec 32 := Scalar.shrsi v1745 c1_i32_419
  let v1766 : BitVec 32 := v1765
  let v1771 : Index := Scalar.indexCast v1766
  let c128_421 : Index := 128#32
  ![v1771.toNat, 128]

def k0_chk58 (arg0 : BitVec 32) (v1 : BitVec 32) (v1745 : BitVec 32) : Prop :=
  (∀ (k0_h1 : k0_cond1 arg0 v1 = 1#1), 8 ∣ (k0_mult58 v1745).toNat) ∧
  (∀ (k0_h1 : k0_cond1 arg0 v1 = 1#1), ∀ a, (k0_off115 v1745) a + S8x128.size a ≤ S7688x256.size a) ∧
  (∀ (k0_h1 : k0_cond1 arg0 v1 = 1#1), ∀ a, (k0_off116 v1745) a + S8x128.size a ≤ S7688x256.size a)
theorem k0_mult58_dvd : ∀ (arg0 : BitVec 32) (v1 : BitVec 32) (v1745 : BitVec 32) (k0_hw58 : k0_chk58 arg0 v1 v1745), ∀ (k0_h1 : k0_cond1 arg0 v1 = 1#1), 8 ∣ (k0_mult58 v1745).toNat := fun arg0 v1 v1745 k0_hw58 k0_h1 => k0_hw58.1 k0_h1
theorem k0_off115_inb : ∀ (arg0 : BitVec 32) (v1 : BitVec 32) (v1745 : BitVec 32) (k0_hw58 : k0_chk58 arg0 v1 v1745), ∀ (k0_h1 : k0_cond1 arg0 v1 = 1#1), ∀ a, (k0_off115 v1745) a + S8x128.size a ≤ S7688x256.size a := fun arg0 v1 v1745 k0_hw58 k0_h1 => k0_hw58.2.1 k0_h1
theorem k0_off116_inb : ∀ (arg0 : BitVec 32) (v1 : BitVec 32) (v1745 : BitVec 32) (k0_hw58 : k0_chk58 arg0 v1 v1745), ∀ (k0_h1 : k0_cond1 arg0 v1 = 1#1), ∀ a, (k0_off116 v1745) a + S8x128.size a ≤ S7688x256.size a := fun arg0 v1 v1745 k0_hw58 k0_h1 => k0_hw58.2.2 k0_h1

def k0_mult59 (v1775 : BitVec 32) : BitVec 32 :=
  let c1_i32_426 : BitVec 32 := 1#32
  let v1795 : BitVec 32 := Scalar.shrsi v1775 c1_i32_426
  v1795

def k0_off117 (v1775 : BitVec 32) : Fin 2 → Nat :=
  let c1_i32_426 : BitVec 32 := 1#32
  let v1795 : BitVec 32 := Scalar.shrsi v1775 c1_i32_426
  let v1796 : BitVec 32 := v1795
  let v1797 : Index := Scalar.indexCast v1796
  let c0_427 : Index := 0#32
  ![v1797.toNat, 0]
def k0_off118 (v1775 : BitVec 32) : Fin 2 → Nat :=
  let c1_i32_426 : BitVec 32 := 1#32
  let v1795 : BitVec 32 := Scalar.shrsi v1775 c1_i32_426
  let v1796 : BitVec 32 := v1795
  let v1801 : Index := Scalar.indexCast v1796
  let c128_428 : Index := 128#32
  ![v1801.toNat, 128]

def k0_chk59 (arg0 : BitVec 32) (v1 : BitVec 32) (v1775 : BitVec 32) : Prop :=
  (∀ (k0_h1 : k0_cond1 arg0 v1 = 1#1), 8 ∣ (k0_mult59 v1775).toNat) ∧
  (∀ (k0_h1 : k0_cond1 arg0 v1 = 1#1), ∀ a, (k0_off117 v1775) a + S8x128.size a ≤ S7688x256.size a) ∧
  (∀ (k0_h1 : k0_cond1 arg0 v1 = 1#1), ∀ a, (k0_off118 v1775) a + S8x128.size a ≤ S7688x256.size a)
theorem k0_mult59_dvd : ∀ (arg0 : BitVec 32) (v1 : BitVec 32) (v1775 : BitVec 32) (k0_hw59 : k0_chk59 arg0 v1 v1775), ∀ (k0_h1 : k0_cond1 arg0 v1 = 1#1), 8 ∣ (k0_mult59 v1775).toNat := fun arg0 v1 v1775 k0_hw59 k0_h1 => k0_hw59.1 k0_h1
theorem k0_off117_inb : ∀ (arg0 : BitVec 32) (v1 : BitVec 32) (v1775 : BitVec 32) (k0_hw59 : k0_chk59 arg0 v1 v1775), ∀ (k0_h1 : k0_cond1 arg0 v1 = 1#1), ∀ a, (k0_off117 v1775) a + S8x128.size a ≤ S7688x256.size a := fun arg0 v1 v1775 k0_hw59 k0_h1 => k0_hw59.2.1 k0_h1
theorem k0_off118_inb : ∀ (arg0 : BitVec 32) (v1 : BitVec 32) (v1775 : BitVec 32) (k0_hw59 : k0_chk59 arg0 v1 v1775), ∀ (k0_h1 : k0_cond1 arg0 v1 = 1#1), ∀ a, (k0_off118 v1775) a + S8x128.size a ≤ S7688x256.size a := fun arg0 v1 v1775 k0_hw59 k0_h1 => k0_hw59.2.2 k0_h1

def k0_mult60 (v1805 : BitVec 32) : BitVec 32 :=
  let c1_i32_433 : BitVec 32 := 1#32
  let v1825 : BitVec 32 := Scalar.shrsi v1805 c1_i32_433
  v1825

def k0_off119 (v1805 : BitVec 32) : Fin 2 → Nat :=
  let c1_i32_433 : BitVec 32 := 1#32
  let v1825 : BitVec 32 := Scalar.shrsi v1805 c1_i32_433
  let v1826 : BitVec 32 := v1825
  let v1827 : Index := Scalar.indexCast v1826
  let c0_434 : Index := 0#32
  ![v1827.toNat, 0]
def k0_off120 (v1805 : BitVec 32) : Fin 2 → Nat :=
  let c1_i32_433 : BitVec 32 := 1#32
  let v1825 : BitVec 32 := Scalar.shrsi v1805 c1_i32_433
  let v1826 : BitVec 32 := v1825
  let v1831 : Index := Scalar.indexCast v1826
  let c128_435 : Index := 128#32
  ![v1831.toNat, 128]

def k0_chk60 (arg0 : BitVec 32) (v1 : BitVec 32) (v1805 : BitVec 32) : Prop :=
  (∀ (k0_h1 : k0_cond1 arg0 v1 = 1#1), 8 ∣ (k0_mult60 v1805).toNat) ∧
  (∀ (k0_h1 : k0_cond1 arg0 v1 = 1#1), ∀ a, (k0_off119 v1805) a + S8x128.size a ≤ S7688x256.size a) ∧
  (∀ (k0_h1 : k0_cond1 arg0 v1 = 1#1), ∀ a, (k0_off120 v1805) a + S8x128.size a ≤ S7688x256.size a)
theorem k0_mult60_dvd : ∀ (arg0 : BitVec 32) (v1 : BitVec 32) (v1805 : BitVec 32) (k0_hw60 : k0_chk60 arg0 v1 v1805), ∀ (k0_h1 : k0_cond1 arg0 v1 = 1#1), 8 ∣ (k0_mult60 v1805).toNat := fun arg0 v1 v1805 k0_hw60 k0_h1 => k0_hw60.1 k0_h1
theorem k0_off119_inb : ∀ (arg0 : BitVec 32) (v1 : BitVec 32) (v1805 : BitVec 32) (k0_hw60 : k0_chk60 arg0 v1 v1805), ∀ (k0_h1 : k0_cond1 arg0 v1 = 1#1), ∀ a, (k0_off119 v1805) a + S8x128.size a ≤ S7688x256.size a := fun arg0 v1 v1805 k0_hw60 k0_h1 => k0_hw60.2.1 k0_h1
theorem k0_off120_inb : ∀ (arg0 : BitVec 32) (v1 : BitVec 32) (v1805 : BitVec 32) (k0_hw60 : k0_chk60 arg0 v1 v1805), ∀ (k0_h1 : k0_cond1 arg0 v1 = 1#1), ∀ a, (k0_off120 v1805) a + S8x128.size a ≤ S7688x256.size a := fun arg0 v1 v1805 k0_hw60 k0_h1 => k0_hw60.2.2 k0_h1

def k0_mult61 (v1835 : BitVec 32) : BitVec 32 :=
  let c1_i32_440 : BitVec 32 := 1#32
  let v1855 : BitVec 32 := Scalar.shrsi v1835 c1_i32_440
  v1855

def k0_off121 (v1835 : BitVec 32) : Fin 2 → Nat :=
  let c1_i32_440 : BitVec 32 := 1#32
  let v1855 : BitVec 32 := Scalar.shrsi v1835 c1_i32_440
  let v1856 : BitVec 32 := v1855
  let v1857 : Index := Scalar.indexCast v1856
  let c0_441 : Index := 0#32
  ![v1857.toNat, 0]
def k0_off122 (v1835 : BitVec 32) : Fin 2 → Nat :=
  let c1_i32_440 : BitVec 32 := 1#32
  let v1855 : BitVec 32 := Scalar.shrsi v1835 c1_i32_440
  let v1856 : BitVec 32 := v1855
  let v1861 : Index := Scalar.indexCast v1856
  let c128_442 : Index := 128#32
  ![v1861.toNat, 128]

def k0_chk61 (arg0 : BitVec 32) (v1 : BitVec 32) (v1835 : BitVec 32) : Prop :=
  (∀ (k0_h1 : k0_cond1 arg0 v1 = 1#1), 8 ∣ (k0_mult61 v1835).toNat) ∧
  (∀ (k0_h1 : k0_cond1 arg0 v1 = 1#1), ∀ a, (k0_off121 v1835) a + S8x128.size a ≤ S7688x256.size a) ∧
  (∀ (k0_h1 : k0_cond1 arg0 v1 = 1#1), ∀ a, (k0_off122 v1835) a + S8x128.size a ≤ S7688x256.size a)
theorem k0_mult61_dvd : ∀ (arg0 : BitVec 32) (v1 : BitVec 32) (v1835 : BitVec 32) (k0_hw61 : k0_chk61 arg0 v1 v1835), ∀ (k0_h1 : k0_cond1 arg0 v1 = 1#1), 8 ∣ (k0_mult61 v1835).toNat := fun arg0 v1 v1835 k0_hw61 k0_h1 => k0_hw61.1 k0_h1
theorem k0_off121_inb : ∀ (arg0 : BitVec 32) (v1 : BitVec 32) (v1835 : BitVec 32) (k0_hw61 : k0_chk61 arg0 v1 v1835), ∀ (k0_h1 : k0_cond1 arg0 v1 = 1#1), ∀ a, (k0_off121 v1835) a + S8x128.size a ≤ S7688x256.size a := fun arg0 v1 v1835 k0_hw61 k0_h1 => k0_hw61.2.1 k0_h1
theorem k0_off122_inb : ∀ (arg0 : BitVec 32) (v1 : BitVec 32) (v1835 : BitVec 32) (k0_hw61 : k0_chk61 arg0 v1 v1835), ∀ (k0_h1 : k0_cond1 arg0 v1 = 1#1), ∀ a, (k0_off122 v1835) a + S8x128.size a ≤ S7688x256.size a := fun arg0 v1 v1835 k0_hw61 k0_h1 => k0_hw61.2.2 k0_h1

def k0_mult62 (v1865 : BitVec 32) : BitVec 32 :=
  let c1_i32_447 : BitVec 32 := 1#32
  let v1885 : BitVec 32 := Scalar.shrsi v1865 c1_i32_447
  v1885

def k0_off123 (v1865 : BitVec 32) : Fin 2 → Nat :=
  let c1_i32_447 : BitVec 32 := 1#32
  let v1885 : BitVec 32 := Scalar.shrsi v1865 c1_i32_447
  let v1886 : BitVec 32 := v1885
  let v1887 : Index := Scalar.indexCast v1886
  let c0_448 : Index := 0#32
  ![v1887.toNat, 0]
def k0_off124 (v1865 : BitVec 32) : Fin 2 → Nat :=
  let c1_i32_447 : BitVec 32 := 1#32
  let v1885 : BitVec 32 := Scalar.shrsi v1865 c1_i32_447
  let v1886 : BitVec 32 := v1885
  let v1891 : Index := Scalar.indexCast v1886
  let c128_449 : Index := 128#32
  ![v1891.toNat, 128]

def k0_chk62 (arg0 : BitVec 32) (v1 : BitVec 32) (v1865 : BitVec 32) : Prop :=
  (∀ (k0_h1 : k0_cond1 arg0 v1 = 1#1), 8 ∣ (k0_mult62 v1865).toNat) ∧
  (∀ (k0_h1 : k0_cond1 arg0 v1 = 1#1), ∀ a, (k0_off123 v1865) a + S8x128.size a ≤ S7688x256.size a) ∧
  (∀ (k0_h1 : k0_cond1 arg0 v1 = 1#1), ∀ a, (k0_off124 v1865) a + S8x128.size a ≤ S7688x256.size a)
theorem k0_mult62_dvd : ∀ (arg0 : BitVec 32) (v1 : BitVec 32) (v1865 : BitVec 32) (k0_hw62 : k0_chk62 arg0 v1 v1865), ∀ (k0_h1 : k0_cond1 arg0 v1 = 1#1), 8 ∣ (k0_mult62 v1865).toNat := fun arg0 v1 v1865 k0_hw62 k0_h1 => k0_hw62.1 k0_h1
theorem k0_off123_inb : ∀ (arg0 : BitVec 32) (v1 : BitVec 32) (v1865 : BitVec 32) (k0_hw62 : k0_chk62 arg0 v1 v1865), ∀ (k0_h1 : k0_cond1 arg0 v1 = 1#1), ∀ a, (k0_off123 v1865) a + S8x128.size a ≤ S7688x256.size a := fun arg0 v1 v1865 k0_hw62 k0_h1 => k0_hw62.2.1 k0_h1
theorem k0_off124_inb : ∀ (arg0 : BitVec 32) (v1 : BitVec 32) (v1865 : BitVec 32) (k0_hw62 : k0_chk62 arg0 v1 v1865), ∀ (k0_h1 : k0_cond1 arg0 v1 = 1#1), ∀ a, (k0_off124 v1865) a + S8x128.size a ≤ S7688x256.size a := fun arg0 v1 v1865 k0_hw62 k0_h1 => k0_hw62.2.2 k0_h1

def k0_mult63 (v1895 : BitVec 32) : BitVec 32 :=
  let c1_i32_454 : BitVec 32 := 1#32
  let v1915 : BitVec 32 := Scalar.shrsi v1895 c1_i32_454
  v1915

def k0_off125 (v1895 : BitVec 32) : Fin 2 → Nat :=
  let c1_i32_454 : BitVec 32 := 1#32
  let v1915 : BitVec 32 := Scalar.shrsi v1895 c1_i32_454
  let v1916 : BitVec 32 := v1915
  let v1917 : Index := Scalar.indexCast v1916
  let c0_455 : Index := 0#32
  ![v1917.toNat, 0]
def k0_off126 (v1895 : BitVec 32) : Fin 2 → Nat :=
  let c1_i32_454 : BitVec 32 := 1#32
  let v1915 : BitVec 32 := Scalar.shrsi v1895 c1_i32_454
  let v1916 : BitVec 32 := v1915
  let v1921 : Index := Scalar.indexCast v1916
  let c128_456 : Index := 128#32
  ![v1921.toNat, 128]

def k0_chk63 (arg0 : BitVec 32) (v1 : BitVec 32) (v1895 : BitVec 32) : Prop :=
  (∀ (k0_h1 : k0_cond1 arg0 v1 = 1#1), 8 ∣ (k0_mult63 v1895).toNat) ∧
  (∀ (k0_h1 : k0_cond1 arg0 v1 = 1#1), ∀ a, (k0_off125 v1895) a + S8x128.size a ≤ S7688x256.size a) ∧
  (∀ (k0_h1 : k0_cond1 arg0 v1 = 1#1), ∀ a, (k0_off126 v1895) a + S8x128.size a ≤ S7688x256.size a)
theorem k0_mult63_dvd : ∀ (arg0 : BitVec 32) (v1 : BitVec 32) (v1895 : BitVec 32) (k0_hw63 : k0_chk63 arg0 v1 v1895), ∀ (k0_h1 : k0_cond1 arg0 v1 = 1#1), 8 ∣ (k0_mult63 v1895).toNat := fun arg0 v1 v1895 k0_hw63 k0_h1 => k0_hw63.1 k0_h1
theorem k0_off125_inb : ∀ (arg0 : BitVec 32) (v1 : BitVec 32) (v1895 : BitVec 32) (k0_hw63 : k0_chk63 arg0 v1 v1895), ∀ (k0_h1 : k0_cond1 arg0 v1 = 1#1), ∀ a, (k0_off125 v1895) a + S8x128.size a ≤ S7688x256.size a := fun arg0 v1 v1895 k0_hw63 k0_h1 => k0_hw63.2.1 k0_h1
theorem k0_off126_inb : ∀ (arg0 : BitVec 32) (v1 : BitVec 32) (v1895 : BitVec 32) (k0_hw63 : k0_chk63 arg0 v1 v1895), ∀ (k0_h1 : k0_cond1 arg0 v1 = 1#1), ∀ a, (k0_off126 v1895) a + S8x128.size a ≤ S7688x256.size a := fun arg0 v1 v1895 k0_hw63 k0_h1 => k0_hw63.2.2 k0_h1

def k0_mult64 (v1925 : BitVec 32) : BitVec 32 :=
  let c1_i32_461 : BitVec 32 := 1#32
  let v1945 : BitVec 32 := Scalar.shrsi v1925 c1_i32_461
  v1945

def k0_off127 (v1925 : BitVec 32) : Fin 2 → Nat :=
  let c1_i32_461 : BitVec 32 := 1#32
  let v1945 : BitVec 32 := Scalar.shrsi v1925 c1_i32_461
  let v1946 : BitVec 32 := v1945
  let v1947 : Index := Scalar.indexCast v1946
  let c0_462 : Index := 0#32
  ![v1947.toNat, 0]
def k0_off128 (v1925 : BitVec 32) : Fin 2 → Nat :=
  let c1_i32_461 : BitVec 32 := 1#32
  let v1945 : BitVec 32 := Scalar.shrsi v1925 c1_i32_461
  let v1946 : BitVec 32 := v1945
  let v1951 : Index := Scalar.indexCast v1946
  let c128_463 : Index := 128#32
  ![v1951.toNat, 128]

def k0_chk64 (arg0 : BitVec 32) (v1 : BitVec 32) (v1925 : BitVec 32) : Prop :=
  (∀ (k0_h1 : k0_cond1 arg0 v1 = 1#1), 8 ∣ (k0_mult64 v1925).toNat) ∧
  (∀ (k0_h1 : k0_cond1 arg0 v1 = 1#1), ∀ a, (k0_off127 v1925) a + S8x128.size a ≤ S7688x256.size a) ∧
  (∀ (k0_h1 : k0_cond1 arg0 v1 = 1#1), ∀ a, (k0_off128 v1925) a + S8x128.size a ≤ S7688x256.size a)
theorem k0_mult64_dvd : ∀ (arg0 : BitVec 32) (v1 : BitVec 32) (v1925 : BitVec 32) (k0_hw64 : k0_chk64 arg0 v1 v1925), ∀ (k0_h1 : k0_cond1 arg0 v1 = 1#1), 8 ∣ (k0_mult64 v1925).toNat := fun arg0 v1 v1925 k0_hw64 k0_h1 => k0_hw64.1 k0_h1
theorem k0_off127_inb : ∀ (arg0 : BitVec 32) (v1 : BitVec 32) (v1925 : BitVec 32) (k0_hw64 : k0_chk64 arg0 v1 v1925), ∀ (k0_h1 : k0_cond1 arg0 v1 = 1#1), ∀ a, (k0_off127 v1925) a + S8x128.size a ≤ S7688x256.size a := fun arg0 v1 v1925 k0_hw64 k0_h1 => k0_hw64.2.1 k0_h1
theorem k0_off128_inb : ∀ (arg0 : BitVec 32) (v1 : BitVec 32) (v1925 : BitVec 32) (k0_hw64 : k0_chk64 arg0 v1 v1925), ∀ (k0_h1 : k0_cond1 arg0 v1 = 1#1), ∀ a, (k0_off128 v1925) a + S8x128.size a ≤ S7688x256.size a := fun arg0 v1 v1925 k0_hw64 k0_h1 => k0_hw64.2.2 k0_h1

def k0_mult65 (v1955 : BitVec 32) : BitVec 32 :=
  let c1_i32_468 : BitVec 32 := 1#32
  let v1975 : BitVec 32 := Scalar.shrsi v1955 c1_i32_468
  v1975

def k0_off129 (v1955 : BitVec 32) : Fin 2 → Nat :=
  let c1_i32_468 : BitVec 32 := 1#32
  let v1975 : BitVec 32 := Scalar.shrsi v1955 c1_i32_468
  let v1976 : BitVec 32 := v1975
  let v1977 : Index := Scalar.indexCast v1976
  let c0_469 : Index := 0#32
  ![v1977.toNat, 0]
def k0_off130 (v1955 : BitVec 32) : Fin 2 → Nat :=
  let c1_i32_468 : BitVec 32 := 1#32
  let v1975 : BitVec 32 := Scalar.shrsi v1955 c1_i32_468
  let v1976 : BitVec 32 := v1975
  let v1981 : Index := Scalar.indexCast v1976
  let c128_470 : Index := 128#32
  ![v1981.toNat, 128]

def k0_chk65 (arg0 : BitVec 32) (v1 : BitVec 32) (v1955 : BitVec 32) : Prop :=
  (∀ (k0_h1 : k0_cond1 arg0 v1 = 1#1), 8 ∣ (k0_mult65 v1955).toNat) ∧
  (∀ (k0_h1 : k0_cond1 arg0 v1 = 1#1), ∀ a, (k0_off129 v1955) a + S8x128.size a ≤ S7688x256.size a) ∧
  (∀ (k0_h1 : k0_cond1 arg0 v1 = 1#1), ∀ a, (k0_off130 v1955) a + S8x128.size a ≤ S7688x256.size a)
theorem k0_mult65_dvd : ∀ (arg0 : BitVec 32) (v1 : BitVec 32) (v1955 : BitVec 32) (k0_hw65 : k0_chk65 arg0 v1 v1955), ∀ (k0_h1 : k0_cond1 arg0 v1 = 1#1), 8 ∣ (k0_mult65 v1955).toNat := fun arg0 v1 v1955 k0_hw65 k0_h1 => k0_hw65.1 k0_h1
theorem k0_off129_inb : ∀ (arg0 : BitVec 32) (v1 : BitVec 32) (v1955 : BitVec 32) (k0_hw65 : k0_chk65 arg0 v1 v1955), ∀ (k0_h1 : k0_cond1 arg0 v1 = 1#1), ∀ a, (k0_off129 v1955) a + S8x128.size a ≤ S7688x256.size a := fun arg0 v1 v1955 k0_hw65 k0_h1 => k0_hw65.2.1 k0_h1
theorem k0_off130_inb : ∀ (arg0 : BitVec 32) (v1 : BitVec 32) (v1955 : BitVec 32) (k0_hw65 : k0_chk65 arg0 v1 v1955), ∀ (k0_h1 : k0_cond1 arg0 v1 = 1#1), ∀ a, (k0_off130 v1955) a + S8x128.size a ≤ S7688x256.size a := fun arg0 v1 v1955 k0_hw65 k0_h1 => k0_hw65.2.2 k0_h1

def k0_mult66 (v1985 : BitVec 32) : BitVec 32 :=
  let c1_i32_475 : BitVec 32 := 1#32
  let v2005 : BitVec 32 := Scalar.shrsi v1985 c1_i32_475
  v2005

def k0_off131 (v1985 : BitVec 32) : Fin 2 → Nat :=
  let c1_i32_475 : BitVec 32 := 1#32
  let v2005 : BitVec 32 := Scalar.shrsi v1985 c1_i32_475
  let v2006 : BitVec 32 := v2005
  let v2007 : Index := Scalar.indexCast v2006
  let c0_476 : Index := 0#32
  ![v2007.toNat, 0]
def k0_off132 (v1985 : BitVec 32) : Fin 2 → Nat :=
  let c1_i32_475 : BitVec 32 := 1#32
  let v2005 : BitVec 32 := Scalar.shrsi v1985 c1_i32_475
  let v2006 : BitVec 32 := v2005
  let v2011 : Index := Scalar.indexCast v2006
  let c128_477 : Index := 128#32
  ![v2011.toNat, 128]

def k0_chk66 (arg0 : BitVec 32) (v1 : BitVec 32) (v1985 : BitVec 32) : Prop :=
  (∀ (k0_h1 : k0_cond1 arg0 v1 = 1#1), 8 ∣ (k0_mult66 v1985).toNat) ∧
  (∀ (k0_h1 : k0_cond1 arg0 v1 = 1#1), ∀ a, (k0_off131 v1985) a + S8x128.size a ≤ S7688x256.size a) ∧
  (∀ (k0_h1 : k0_cond1 arg0 v1 = 1#1), ∀ a, (k0_off132 v1985) a + S8x128.size a ≤ S7688x256.size a)
theorem k0_mult66_dvd : ∀ (arg0 : BitVec 32) (v1 : BitVec 32) (v1985 : BitVec 32) (k0_hw66 : k0_chk66 arg0 v1 v1985), ∀ (k0_h1 : k0_cond1 arg0 v1 = 1#1), 8 ∣ (k0_mult66 v1985).toNat := fun arg0 v1 v1985 k0_hw66 k0_h1 => k0_hw66.1 k0_h1
theorem k0_off131_inb : ∀ (arg0 : BitVec 32) (v1 : BitVec 32) (v1985 : BitVec 32) (k0_hw66 : k0_chk66 arg0 v1 v1985), ∀ (k0_h1 : k0_cond1 arg0 v1 = 1#1), ∀ a, (k0_off131 v1985) a + S8x128.size a ≤ S7688x256.size a := fun arg0 v1 v1985 k0_hw66 k0_h1 => k0_hw66.2.1 k0_h1
theorem k0_off132_inb : ∀ (arg0 : BitVec 32) (v1 : BitVec 32) (v1985 : BitVec 32) (k0_hw66 : k0_chk66 arg0 v1 v1985), ∀ (k0_h1 : k0_cond1 arg0 v1 = 1#1), ∀ a, (k0_off132 v1985) a + S8x128.size a ≤ S7688x256.size a := fun arg0 v1 v1985 k0_hw66 k0_h1 => k0_hw66.2.2 k0_h1

def k0_mult67 (v2015 : BitVec 32) : BitVec 32 :=
  let c1_i32_482 : BitVec 32 := 1#32
  let v2035 : BitVec 32 := Scalar.shrsi v2015 c1_i32_482
  v2035

def k0_off133 (v2015 : BitVec 32) : Fin 2 → Nat :=
  let c1_i32_482 : BitVec 32 := 1#32
  let v2035 : BitVec 32 := Scalar.shrsi v2015 c1_i32_482
  let v2036 : BitVec 32 := v2035
  let v2037 : Index := Scalar.indexCast v2036
  let c0_483 : Index := 0#32
  ![v2037.toNat, 0]
def k0_off134 (v2015 : BitVec 32) : Fin 2 → Nat :=
  let c1_i32_482 : BitVec 32 := 1#32
  let v2035 : BitVec 32 := Scalar.shrsi v2015 c1_i32_482
  let v2036 : BitVec 32 := v2035
  let v2041 : Index := Scalar.indexCast v2036
  let c128_484 : Index := 128#32
  ![v2041.toNat, 128]

def k0_chk67 (arg0 : BitVec 32) (v1 : BitVec 32) (v2015 : BitVec 32) : Prop :=
  (∀ (k0_h1 : k0_cond1 arg0 v1 = 1#1), 8 ∣ (k0_mult67 v2015).toNat) ∧
  (∀ (k0_h1 : k0_cond1 arg0 v1 = 1#1), ∀ a, (k0_off133 v2015) a + S8x128.size a ≤ S7688x256.size a) ∧
  (∀ (k0_h1 : k0_cond1 arg0 v1 = 1#1), ∀ a, (k0_off134 v2015) a + S8x128.size a ≤ S7688x256.size a)
theorem k0_mult67_dvd : ∀ (arg0 : BitVec 32) (v1 : BitVec 32) (v2015 : BitVec 32) (k0_hw67 : k0_chk67 arg0 v1 v2015), ∀ (k0_h1 : k0_cond1 arg0 v1 = 1#1), 8 ∣ (k0_mult67 v2015).toNat := fun arg0 v1 v2015 k0_hw67 k0_h1 => k0_hw67.1 k0_h1
theorem k0_off133_inb : ∀ (arg0 : BitVec 32) (v1 : BitVec 32) (v2015 : BitVec 32) (k0_hw67 : k0_chk67 arg0 v1 v2015), ∀ (k0_h1 : k0_cond1 arg0 v1 = 1#1), ∀ a, (k0_off133 v2015) a + S8x128.size a ≤ S7688x256.size a := fun arg0 v1 v2015 k0_hw67 k0_h1 => k0_hw67.2.1 k0_h1
theorem k0_off134_inb : ∀ (arg0 : BitVec 32) (v1 : BitVec 32) (v2015 : BitVec 32) (k0_hw67 : k0_chk67 arg0 v1 v2015), ∀ (k0_h1 : k0_cond1 arg0 v1 = 1#1), ∀ a, (k0_off134 v2015) a + S8x128.size a ≤ S7688x256.size a := fun arg0 v1 v2015 k0_hw67 k0_h1 => k0_hw67.2.2 k0_h1

def k0_mult68 (v2045 : BitVec 32) : BitVec 32 :=
  let c1_i32_489 : BitVec 32 := 1#32
  let v2065 : BitVec 32 := Scalar.shrsi v2045 c1_i32_489
  v2065

def k0_off135 (v2045 : BitVec 32) : Fin 2 → Nat :=
  let c1_i32_489 : BitVec 32 := 1#32
  let v2065 : BitVec 32 := Scalar.shrsi v2045 c1_i32_489
  let v2066 : BitVec 32 := v2065
  let v2067 : Index := Scalar.indexCast v2066
  let c0_490 : Index := 0#32
  ![v2067.toNat, 0]
def k0_off136 (v2045 : BitVec 32) : Fin 2 → Nat :=
  let c1_i32_489 : BitVec 32 := 1#32
  let v2065 : BitVec 32 := Scalar.shrsi v2045 c1_i32_489
  let v2066 : BitVec 32 := v2065
  let v2071 : Index := Scalar.indexCast v2066
  let c128_491 : Index := 128#32
  ![v2071.toNat, 128]

def k0_chk68 (arg0 : BitVec 32) (v1 : BitVec 32) (v2045 : BitVec 32) : Prop :=
  (∀ (k0_h1 : k0_cond1 arg0 v1 = 1#1), 8 ∣ (k0_mult68 v2045).toNat) ∧
  (∀ (k0_h1 : k0_cond1 arg0 v1 = 1#1), ∀ a, (k0_off135 v2045) a + S8x128.size a ≤ S7688x256.size a) ∧
  (∀ (k0_h1 : k0_cond1 arg0 v1 = 1#1), ∀ a, (k0_off136 v2045) a + S8x128.size a ≤ S7688x256.size a)
theorem k0_mult68_dvd : ∀ (arg0 : BitVec 32) (v1 : BitVec 32) (v2045 : BitVec 32) (k0_hw68 : k0_chk68 arg0 v1 v2045), ∀ (k0_h1 : k0_cond1 arg0 v1 = 1#1), 8 ∣ (k0_mult68 v2045).toNat := fun arg0 v1 v2045 k0_hw68 k0_h1 => k0_hw68.1 k0_h1
theorem k0_off135_inb : ∀ (arg0 : BitVec 32) (v1 : BitVec 32) (v2045 : BitVec 32) (k0_hw68 : k0_chk68 arg0 v1 v2045), ∀ (k0_h1 : k0_cond1 arg0 v1 = 1#1), ∀ a, (k0_off135 v2045) a + S8x128.size a ≤ S7688x256.size a := fun arg0 v1 v2045 k0_hw68 k0_h1 => k0_hw68.2.1 k0_h1
theorem k0_off136_inb : ∀ (arg0 : BitVec 32) (v1 : BitVec 32) (v2045 : BitVec 32) (k0_hw68 : k0_chk68 arg0 v1 v2045), ∀ (k0_h1 : k0_cond1 arg0 v1 = 1#1), ∀ a, (k0_off136 v2045) a + S8x128.size a ≤ S7688x256.size a := fun arg0 v1 v2045 k0_hw68 k0_h1 => k0_hw68.2.2 k0_h1

def k0_mult69 (v2075 : BitVec 32) : BitVec 32 :=
  let c1_i32_496 : BitVec 32 := 1#32
  let v2095 : BitVec 32 := Scalar.shrsi v2075 c1_i32_496
  v2095

def k0_off137 (v2075 : BitVec 32) : Fin 2 → Nat :=
  let c1_i32_496 : BitVec 32 := 1#32
  let v2095 : BitVec 32 := Scalar.shrsi v2075 c1_i32_496
  let v2096 : BitVec 32 := v2095
  let v2097 : Index := Scalar.indexCast v2096
  let c0_497 : Index := 0#32
  ![v2097.toNat, 0]
def k0_off138 (v2075 : BitVec 32) : Fin 2 → Nat :=
  let c1_i32_496 : BitVec 32 := 1#32
  let v2095 : BitVec 32 := Scalar.shrsi v2075 c1_i32_496
  let v2096 : BitVec 32 := v2095
  let v2101 : Index := Scalar.indexCast v2096
  let c128_498 : Index := 128#32
  ![v2101.toNat, 128]

def k0_chk69 (arg0 : BitVec 32) (v1 : BitVec 32) (v2075 : BitVec 32) : Prop :=
  (∀ (k0_h1 : k0_cond1 arg0 v1 = 1#1), 8 ∣ (k0_mult69 v2075).toNat) ∧
  (∀ (k0_h1 : k0_cond1 arg0 v1 = 1#1), ∀ a, (k0_off137 v2075) a + S8x128.size a ≤ S7688x256.size a) ∧
  (∀ (k0_h1 : k0_cond1 arg0 v1 = 1#1), ∀ a, (k0_off138 v2075) a + S8x128.size a ≤ S7688x256.size a)
theorem k0_mult69_dvd : ∀ (arg0 : BitVec 32) (v1 : BitVec 32) (v2075 : BitVec 32) (k0_hw69 : k0_chk69 arg0 v1 v2075), ∀ (k0_h1 : k0_cond1 arg0 v1 = 1#1), 8 ∣ (k0_mult69 v2075).toNat := fun arg0 v1 v2075 k0_hw69 k0_h1 => k0_hw69.1 k0_h1
theorem k0_off137_inb : ∀ (arg0 : BitVec 32) (v1 : BitVec 32) (v2075 : BitVec 32) (k0_hw69 : k0_chk69 arg0 v1 v2075), ∀ (k0_h1 : k0_cond1 arg0 v1 = 1#1), ∀ a, (k0_off137 v2075) a + S8x128.size a ≤ S7688x256.size a := fun arg0 v1 v2075 k0_hw69 k0_h1 => k0_hw69.2.1 k0_h1
theorem k0_off138_inb : ∀ (arg0 : BitVec 32) (v1 : BitVec 32) (v2075 : BitVec 32) (k0_hw69 : k0_chk69 arg0 v1 v2075), ∀ (k0_h1 : k0_cond1 arg0 v1 = 1#1), ∀ a, (k0_off138 v2075) a + S8x128.size a ≤ S7688x256.size a := fun arg0 v1 v2075 k0_hw69 k0_h1 => k0_hw69.2.2 k0_h1

def k0_mult70 (v2105 : BitVec 32) : BitVec 32 :=
  let c1_i32_503 : BitVec 32 := 1#32
  let v2125 : BitVec 32 := Scalar.shrsi v2105 c1_i32_503
  v2125

def k0_off139 (v2105 : BitVec 32) : Fin 2 → Nat :=
  let c1_i32_503 : BitVec 32 := 1#32
  let v2125 : BitVec 32 := Scalar.shrsi v2105 c1_i32_503
  let v2126 : BitVec 32 := v2125
  let v2127 : Index := Scalar.indexCast v2126
  let c0_504 : Index := 0#32
  ![v2127.toNat, 0]
def k0_off140 (v2105 : BitVec 32) : Fin 2 → Nat :=
  let c1_i32_503 : BitVec 32 := 1#32
  let v2125 : BitVec 32 := Scalar.shrsi v2105 c1_i32_503
  let v2126 : BitVec 32 := v2125
  let v2131 : Index := Scalar.indexCast v2126
  let c128_505 : Index := 128#32
  ![v2131.toNat, 128]

def k0_chk70 (arg0 : BitVec 32) (v1 : BitVec 32) (v2105 : BitVec 32) : Prop :=
  (∀ (k0_h1 : k0_cond1 arg0 v1 = 1#1), 8 ∣ (k0_mult70 v2105).toNat) ∧
  (∀ (k0_h1 : k0_cond1 arg0 v1 = 1#1), ∀ a, (k0_off139 v2105) a + S8x128.size a ≤ S7688x256.size a) ∧
  (∀ (k0_h1 : k0_cond1 arg0 v1 = 1#1), ∀ a, (k0_off140 v2105) a + S8x128.size a ≤ S7688x256.size a)
theorem k0_mult70_dvd : ∀ (arg0 : BitVec 32) (v1 : BitVec 32) (v2105 : BitVec 32) (k0_hw70 : k0_chk70 arg0 v1 v2105), ∀ (k0_h1 : k0_cond1 arg0 v1 = 1#1), 8 ∣ (k0_mult70 v2105).toNat := fun arg0 v1 v2105 k0_hw70 k0_h1 => k0_hw70.1 k0_h1
theorem k0_off139_inb : ∀ (arg0 : BitVec 32) (v1 : BitVec 32) (v2105 : BitVec 32) (k0_hw70 : k0_chk70 arg0 v1 v2105), ∀ (k0_h1 : k0_cond1 arg0 v1 = 1#1), ∀ a, (k0_off139 v2105) a + S8x128.size a ≤ S7688x256.size a := fun arg0 v1 v2105 k0_hw70 k0_h1 => k0_hw70.2.1 k0_h1
theorem k0_off140_inb : ∀ (arg0 : BitVec 32) (v1 : BitVec 32) (v2105 : BitVec 32) (k0_hw70 : k0_chk70 arg0 v1 v2105), ∀ (k0_h1 : k0_cond1 arg0 v1 = 1#1), ∀ a, (k0_off140 v2105) a + S8x128.size a ≤ S7688x256.size a := fun arg0 v1 v2105 k0_hw70 k0_h1 => k0_hw70.2.2 k0_h1

def k0_mult71 (v2135 : BitVec 32) : BitVec 32 :=
  let c1_i32_510 : BitVec 32 := 1#32
  let v2155 : BitVec 32 := Scalar.shrsi v2135 c1_i32_510
  v2155

def k0_off141 (v2135 : BitVec 32) : Fin 2 → Nat :=
  let c1_i32_510 : BitVec 32 := 1#32
  let v2155 : BitVec 32 := Scalar.shrsi v2135 c1_i32_510
  let v2156 : BitVec 32 := v2155
  let v2157 : Index := Scalar.indexCast v2156
  let c0_511 : Index := 0#32
  ![v2157.toNat, 0]
def k0_off142 (v2135 : BitVec 32) : Fin 2 → Nat :=
  let c1_i32_510 : BitVec 32 := 1#32
  let v2155 : BitVec 32 := Scalar.shrsi v2135 c1_i32_510
  let v2156 : BitVec 32 := v2155
  let v2161 : Index := Scalar.indexCast v2156
  let c128_512 : Index := 128#32
  ![v2161.toNat, 128]

def k0_chk71 (arg0 : BitVec 32) (v1 : BitVec 32) (v2135 : BitVec 32) : Prop :=
  (∀ (k0_h1 : k0_cond1 arg0 v1 = 1#1), 8 ∣ (k0_mult71 v2135).toNat) ∧
  (∀ (k0_h1 : k0_cond1 arg0 v1 = 1#1), ∀ a, (k0_off141 v2135) a + S8x128.size a ≤ S7688x256.size a) ∧
  (∀ (k0_h1 : k0_cond1 arg0 v1 = 1#1), ∀ a, (k0_off142 v2135) a + S8x128.size a ≤ S7688x256.size a)
theorem k0_mult71_dvd : ∀ (arg0 : BitVec 32) (v1 : BitVec 32) (v2135 : BitVec 32) (k0_hw71 : k0_chk71 arg0 v1 v2135), ∀ (k0_h1 : k0_cond1 arg0 v1 = 1#1), 8 ∣ (k0_mult71 v2135).toNat := fun arg0 v1 v2135 k0_hw71 k0_h1 => k0_hw71.1 k0_h1
theorem k0_off141_inb : ∀ (arg0 : BitVec 32) (v1 : BitVec 32) (v2135 : BitVec 32) (k0_hw71 : k0_chk71 arg0 v1 v2135), ∀ (k0_h1 : k0_cond1 arg0 v1 = 1#1), ∀ a, (k0_off141 v2135) a + S8x128.size a ≤ S7688x256.size a := fun arg0 v1 v2135 k0_hw71 k0_h1 => k0_hw71.2.1 k0_h1
theorem k0_off142_inb : ∀ (arg0 : BitVec 32) (v1 : BitVec 32) (v2135 : BitVec 32) (k0_hw71 : k0_chk71 arg0 v1 v2135), ∀ (k0_h1 : k0_cond1 arg0 v1 = 1#1), ∀ a, (k0_off142 v2135) a + S8x128.size a ≤ S7688x256.size a := fun arg0 v1 v2135 k0_hw71 k0_h1 => k0_hw71.2.2 k0_h1

def k0_mult72 (v2165 : BitVec 32) : BitVec 32 :=
  let c1_i32_517 : BitVec 32 := 1#32
  let v2185 : BitVec 32 := Scalar.shrsi v2165 c1_i32_517
  v2185

def k0_off143 (v2165 : BitVec 32) : Fin 2 → Nat :=
  let c1_i32_517 : BitVec 32 := 1#32
  let v2185 : BitVec 32 := Scalar.shrsi v2165 c1_i32_517
  let v2186 : BitVec 32 := v2185
  let v2187 : Index := Scalar.indexCast v2186
  let c0_518 : Index := 0#32
  ![v2187.toNat, 0]
def k0_off144 (v2165 : BitVec 32) : Fin 2 → Nat :=
  let c1_i32_517 : BitVec 32 := 1#32
  let v2185 : BitVec 32 := Scalar.shrsi v2165 c1_i32_517
  let v2186 : BitVec 32 := v2185
  let v2191 : Index := Scalar.indexCast v2186
  let c128_519 : Index := 128#32
  ![v2191.toNat, 128]

def k0_chk72 (arg0 : BitVec 32) (v1 : BitVec 32) (v2165 : BitVec 32) : Prop :=
  (∀ (k0_h1 : k0_cond1 arg0 v1 = 1#1), 8 ∣ (k0_mult72 v2165).toNat) ∧
  (∀ (k0_h1 : k0_cond1 arg0 v1 = 1#1), ∀ a, (k0_off143 v2165) a + S8x128.size a ≤ S7688x256.size a) ∧
  (∀ (k0_h1 : k0_cond1 arg0 v1 = 1#1), ∀ a, (k0_off144 v2165) a + S8x128.size a ≤ S7688x256.size a)
theorem k0_mult72_dvd : ∀ (arg0 : BitVec 32) (v1 : BitVec 32) (v2165 : BitVec 32) (k0_hw72 : k0_chk72 arg0 v1 v2165), ∀ (k0_h1 : k0_cond1 arg0 v1 = 1#1), 8 ∣ (k0_mult72 v2165).toNat := fun arg0 v1 v2165 k0_hw72 k0_h1 => k0_hw72.1 k0_h1
theorem k0_off143_inb : ∀ (arg0 : BitVec 32) (v1 : BitVec 32) (v2165 : BitVec 32) (k0_hw72 : k0_chk72 arg0 v1 v2165), ∀ (k0_h1 : k0_cond1 arg0 v1 = 1#1), ∀ a, (k0_off143 v2165) a + S8x128.size a ≤ S7688x256.size a := fun arg0 v1 v2165 k0_hw72 k0_h1 => k0_hw72.2.1 k0_h1
theorem k0_off144_inb : ∀ (arg0 : BitVec 32) (v1 : BitVec 32) (v2165 : BitVec 32) (k0_hw72 : k0_chk72 arg0 v1 v2165), ∀ (k0_h1 : k0_cond1 arg0 v1 = 1#1), ∀ a, (k0_off144 v2165) a + S8x128.size a ≤ S7688x256.size a := fun arg0 v1 v2165 k0_hw72 k0_h1 => k0_hw72.2.2 k0_h1

def k0_mult73 (v2195 : BitVec 32) : BitVec 32 :=
  let c1_i32_524 : BitVec 32 := 1#32
  let v2215 : BitVec 32 := Scalar.shrsi v2195 c1_i32_524
  v2215

def k0_off145 (v2195 : BitVec 32) : Fin 2 → Nat :=
  let c1_i32_524 : BitVec 32 := 1#32
  let v2215 : BitVec 32 := Scalar.shrsi v2195 c1_i32_524
  let v2216 : BitVec 32 := v2215
  let v2217 : Index := Scalar.indexCast v2216
  let c0_525 : Index := 0#32
  ![v2217.toNat, 0]
def k0_off146 (v2195 : BitVec 32) : Fin 2 → Nat :=
  let c1_i32_524 : BitVec 32 := 1#32
  let v2215 : BitVec 32 := Scalar.shrsi v2195 c1_i32_524
  let v2216 : BitVec 32 := v2215
  let v2221 : Index := Scalar.indexCast v2216
  let c128_526 : Index := 128#32
  ![v2221.toNat, 128]

def k0_chk73 (arg0 : BitVec 32) (v1 : BitVec 32) (v2195 : BitVec 32) : Prop :=
  (∀ (k0_h1 : k0_cond1 arg0 v1 = 1#1), 8 ∣ (k0_mult73 v2195).toNat) ∧
  (∀ (k0_h1 : k0_cond1 arg0 v1 = 1#1), ∀ a, (k0_off145 v2195) a + S8x128.size a ≤ S7688x256.size a) ∧
  (∀ (k0_h1 : k0_cond1 arg0 v1 = 1#1), ∀ a, (k0_off146 v2195) a + S8x128.size a ≤ S7688x256.size a)
theorem k0_mult73_dvd : ∀ (arg0 : BitVec 32) (v1 : BitVec 32) (v2195 : BitVec 32) (k0_hw73 : k0_chk73 arg0 v1 v2195), ∀ (k0_h1 : k0_cond1 arg0 v1 = 1#1), 8 ∣ (k0_mult73 v2195).toNat := fun arg0 v1 v2195 k0_hw73 k0_h1 => k0_hw73.1 k0_h1
theorem k0_off145_inb : ∀ (arg0 : BitVec 32) (v1 : BitVec 32) (v2195 : BitVec 32) (k0_hw73 : k0_chk73 arg0 v1 v2195), ∀ (k0_h1 : k0_cond1 arg0 v1 = 1#1), ∀ a, (k0_off145 v2195) a + S8x128.size a ≤ S7688x256.size a := fun arg0 v1 v2195 k0_hw73 k0_h1 => k0_hw73.2.1 k0_h1
theorem k0_off146_inb : ∀ (arg0 : BitVec 32) (v1 : BitVec 32) (v2195 : BitVec 32) (k0_hw73 : k0_chk73 arg0 v1 v2195), ∀ (k0_h1 : k0_cond1 arg0 v1 = 1#1), ∀ a, (k0_off146 v2195) a + S8x128.size a ≤ S7688x256.size a := fun arg0 v1 v2195 k0_hw73 k0_h1 => k0_hw73.2.2 k0_h1

def k0_mult74 (v2225 : BitVec 32) : BitVec 32 :=
  let c1_i32_531 : BitVec 32 := 1#32
  let v2245 : BitVec 32 := Scalar.shrsi v2225 c1_i32_531
  v2245

def k0_off147 (v2225 : BitVec 32) : Fin 2 → Nat :=
  let c1_i32_531 : BitVec 32 := 1#32
  let v2245 : BitVec 32 := Scalar.shrsi v2225 c1_i32_531
  let v2246 : BitVec 32 := v2245
  let v2247 : Index := Scalar.indexCast v2246
  let c0_532 : Index := 0#32
  ![v2247.toNat, 0]
def k0_off148 (v2225 : BitVec 32) : Fin 2 → Nat :=
  let c1_i32_531 : BitVec 32 := 1#32
  let v2245 : BitVec 32 := Scalar.shrsi v2225 c1_i32_531
  let v2246 : BitVec 32 := v2245
  let v2251 : Index := Scalar.indexCast v2246
  let c128_533 : Index := 128#32
  ![v2251.toNat, 128]

def k0_chk74 (arg0 : BitVec 32) (v1 : BitVec 32) (v2225 : BitVec 32) : Prop :=
  (∀ (k0_h1 : k0_cond1 arg0 v1 = 1#1), 8 ∣ (k0_mult74 v2225).toNat) ∧
  (∀ (k0_h1 : k0_cond1 arg0 v1 = 1#1), ∀ a, (k0_off147 v2225) a + S8x128.size a ≤ S7688x256.size a) ∧
  (∀ (k0_h1 : k0_cond1 arg0 v1 = 1#1), ∀ a, (k0_off148 v2225) a + S8x128.size a ≤ S7688x256.size a)
theorem k0_mult74_dvd : ∀ (arg0 : BitVec 32) (v1 : BitVec 32) (v2225 : BitVec 32) (k0_hw74 : k0_chk74 arg0 v1 v2225), ∀ (k0_h1 : k0_cond1 arg0 v1 = 1#1), 8 ∣ (k0_mult74 v2225).toNat := fun arg0 v1 v2225 k0_hw74 k0_h1 => k0_hw74.1 k0_h1
theorem k0_off147_inb : ∀ (arg0 : BitVec 32) (v1 : BitVec 32) (v2225 : BitVec 32) (k0_hw74 : k0_chk74 arg0 v1 v2225), ∀ (k0_h1 : k0_cond1 arg0 v1 = 1#1), ∀ a, (k0_off147 v2225) a + S8x128.size a ≤ S7688x256.size a := fun arg0 v1 v2225 k0_hw74 k0_h1 => k0_hw74.2.1 k0_h1
theorem k0_off148_inb : ∀ (arg0 : BitVec 32) (v1 : BitVec 32) (v2225 : BitVec 32) (k0_hw74 : k0_chk74 arg0 v1 v2225), ∀ (k0_h1 : k0_cond1 arg0 v1 = 1#1), ∀ a, (k0_off148 v2225) a + S8x128.size a ≤ S7688x256.size a := fun arg0 v1 v2225 k0_hw74 k0_h1 => k0_hw74.2.2 k0_h1

def k0_mult75 (v2255 : BitVec 32) : BitVec 32 :=
  let c1_i32_538 : BitVec 32 := 1#32
  let v2275 : BitVec 32 := Scalar.shrsi v2255 c1_i32_538
  v2275

def k0_off149 (v2255 : BitVec 32) : Fin 2 → Nat :=
  let c1_i32_538 : BitVec 32 := 1#32
  let v2275 : BitVec 32 := Scalar.shrsi v2255 c1_i32_538
  let v2276 : BitVec 32 := v2275
  let v2277 : Index := Scalar.indexCast v2276
  let c0_539 : Index := 0#32
  ![v2277.toNat, 0]
def k0_off150 (v2255 : BitVec 32) : Fin 2 → Nat :=
  let c1_i32_538 : BitVec 32 := 1#32
  let v2275 : BitVec 32 := Scalar.shrsi v2255 c1_i32_538
  let v2276 : BitVec 32 := v2275
  let v2281 : Index := Scalar.indexCast v2276
  let c128_540 : Index := 128#32
  ![v2281.toNat, 128]

def k0_chk75 (arg0 : BitVec 32) (v1 : BitVec 32) (v2255 : BitVec 32) : Prop :=
  (∀ (k0_h1 : k0_cond1 arg0 v1 = 1#1), 8 ∣ (k0_mult75 v2255).toNat) ∧
  (∀ (k0_h1 : k0_cond1 arg0 v1 = 1#1), ∀ a, (k0_off149 v2255) a + S8x128.size a ≤ S7688x256.size a) ∧
  (∀ (k0_h1 : k0_cond1 arg0 v1 = 1#1), ∀ a, (k0_off150 v2255) a + S8x128.size a ≤ S7688x256.size a)
theorem k0_mult75_dvd : ∀ (arg0 : BitVec 32) (v1 : BitVec 32) (v2255 : BitVec 32) (k0_hw75 : k0_chk75 arg0 v1 v2255), ∀ (k0_h1 : k0_cond1 arg0 v1 = 1#1), 8 ∣ (k0_mult75 v2255).toNat := fun arg0 v1 v2255 k0_hw75 k0_h1 => k0_hw75.1 k0_h1
theorem k0_off149_inb : ∀ (arg0 : BitVec 32) (v1 : BitVec 32) (v2255 : BitVec 32) (k0_hw75 : k0_chk75 arg0 v1 v2255), ∀ (k0_h1 : k0_cond1 arg0 v1 = 1#1), ∀ a, (k0_off149 v2255) a + S8x128.size a ≤ S7688x256.size a := fun arg0 v1 v2255 k0_hw75 k0_h1 => k0_hw75.2.1 k0_h1
theorem k0_off150_inb : ∀ (arg0 : BitVec 32) (v1 : BitVec 32) (v2255 : BitVec 32) (k0_hw75 : k0_chk75 arg0 v1 v2255), ∀ (k0_h1 : k0_cond1 arg0 v1 = 1#1), ∀ a, (k0_off150 v2255) a + S8x128.size a ≤ S7688x256.size a := fun arg0 v1 v2255 k0_hw75 k0_h1 => k0_hw75.2.2 k0_h1

def k0_mult76 (v2285 : BitVec 32) : BitVec 32 :=
  let c1_i32_545 : BitVec 32 := 1#32
  let v2305 : BitVec 32 := Scalar.shrsi v2285 c1_i32_545
  v2305

def k0_off151 (v2285 : BitVec 32) : Fin 2 → Nat :=
  let c1_i32_545 : BitVec 32 := 1#32
  let v2305 : BitVec 32 := Scalar.shrsi v2285 c1_i32_545
  let v2306 : BitVec 32 := v2305
  let v2307 : Index := Scalar.indexCast v2306
  let c0_546 : Index := 0#32
  ![v2307.toNat, 0]
def k0_off152 (v2285 : BitVec 32) : Fin 2 → Nat :=
  let c1_i32_545 : BitVec 32 := 1#32
  let v2305 : BitVec 32 := Scalar.shrsi v2285 c1_i32_545
  let v2306 : BitVec 32 := v2305
  let v2311 : Index := Scalar.indexCast v2306
  let c128_547 : Index := 128#32
  ![v2311.toNat, 128]

def k0_chk76 (arg0 : BitVec 32) (v1 : BitVec 32) (v2285 : BitVec 32) : Prop :=
  (∀ (k0_h1 : k0_cond1 arg0 v1 = 1#1), 8 ∣ (k0_mult76 v2285).toNat) ∧
  (∀ (k0_h1 : k0_cond1 arg0 v1 = 1#1), ∀ a, (k0_off151 v2285) a + S8x128.size a ≤ S7688x256.size a) ∧
  (∀ (k0_h1 : k0_cond1 arg0 v1 = 1#1), ∀ a, (k0_off152 v2285) a + S8x128.size a ≤ S7688x256.size a)
theorem k0_mult76_dvd : ∀ (arg0 : BitVec 32) (v1 : BitVec 32) (v2285 : BitVec 32) (k0_hw76 : k0_chk76 arg0 v1 v2285), ∀ (k0_h1 : k0_cond1 arg0 v1 = 1#1), 8 ∣ (k0_mult76 v2285).toNat := fun arg0 v1 v2285 k0_hw76 k0_h1 => k0_hw76.1 k0_h1
theorem k0_off151_inb : ∀ (arg0 : BitVec 32) (v1 : BitVec 32) (v2285 : BitVec 32) (k0_hw76 : k0_chk76 arg0 v1 v2285), ∀ (k0_h1 : k0_cond1 arg0 v1 = 1#1), ∀ a, (k0_off151 v2285) a + S8x128.size a ≤ S7688x256.size a := fun arg0 v1 v2285 k0_hw76 k0_h1 => k0_hw76.2.1 k0_h1
theorem k0_off152_inb : ∀ (arg0 : BitVec 32) (v1 : BitVec 32) (v2285 : BitVec 32) (k0_hw76 : k0_chk76 arg0 v1 v2285), ∀ (k0_h1 : k0_cond1 arg0 v1 = 1#1), ∀ a, (k0_off152 v2285) a + S8x128.size a ≤ S7688x256.size a := fun arg0 v1 v2285 k0_hw76 k0_h1 => k0_hw76.2.2 k0_h1

def k0_mult77 (v2315 : BitVec 32) : BitVec 32 :=
  let c1_i32_552 : BitVec 32 := 1#32
  let v2335 : BitVec 32 := Scalar.shrsi v2315 c1_i32_552
  v2335

def k0_off153 (v2315 : BitVec 32) : Fin 2 → Nat :=
  let c1_i32_552 : BitVec 32 := 1#32
  let v2335 : BitVec 32 := Scalar.shrsi v2315 c1_i32_552
  let v2336 : BitVec 32 := v2335
  let v2337 : Index := Scalar.indexCast v2336
  let c0_553 : Index := 0#32
  ![v2337.toNat, 0]
def k0_off154 (v2315 : BitVec 32) : Fin 2 → Nat :=
  let c1_i32_552 : BitVec 32 := 1#32
  let v2335 : BitVec 32 := Scalar.shrsi v2315 c1_i32_552
  let v2336 : BitVec 32 := v2335
  let v2341 : Index := Scalar.indexCast v2336
  let c128_554 : Index := 128#32
  ![v2341.toNat, 128]

def k0_chk77 (arg0 : BitVec 32) (v1 : BitVec 32) (v2315 : BitVec 32) : Prop :=
  (∀ (k0_h1 : k0_cond1 arg0 v1 = 1#1), 8 ∣ (k0_mult77 v2315).toNat) ∧
  (∀ (k0_h1 : k0_cond1 arg0 v1 = 1#1), ∀ a, (k0_off153 v2315) a + S8x128.size a ≤ S7688x256.size a) ∧
  (∀ (k0_h1 : k0_cond1 arg0 v1 = 1#1), ∀ a, (k0_off154 v2315) a + S8x128.size a ≤ S7688x256.size a)
theorem k0_mult77_dvd : ∀ (arg0 : BitVec 32) (v1 : BitVec 32) (v2315 : BitVec 32) (k0_hw77 : k0_chk77 arg0 v1 v2315), ∀ (k0_h1 : k0_cond1 arg0 v1 = 1#1), 8 ∣ (k0_mult77 v2315).toNat := fun arg0 v1 v2315 k0_hw77 k0_h1 => k0_hw77.1 k0_h1
theorem k0_off153_inb : ∀ (arg0 : BitVec 32) (v1 : BitVec 32) (v2315 : BitVec 32) (k0_hw77 : k0_chk77 arg0 v1 v2315), ∀ (k0_h1 : k0_cond1 arg0 v1 = 1#1), ∀ a, (k0_off153 v2315) a + S8x128.size a ≤ S7688x256.size a := fun arg0 v1 v2315 k0_hw77 k0_h1 => k0_hw77.2.1 k0_h1
theorem k0_off154_inb : ∀ (arg0 : BitVec 32) (v1 : BitVec 32) (v2315 : BitVec 32) (k0_hw77 : k0_chk77 arg0 v1 v2315), ∀ (k0_h1 : k0_cond1 arg0 v1 = 1#1), ∀ a, (k0_off154 v2315) a + S8x128.size a ≤ S7688x256.size a := fun arg0 v1 v2315 k0_hw77 k0_h1 => k0_hw77.2.2 k0_h1

def k0_mult78 (v2345 : BitVec 32) : BitVec 32 :=
  let c1_i32_559 : BitVec 32 := 1#32
  let v2365 : BitVec 32 := Scalar.shrsi v2345 c1_i32_559
  v2365

def k0_off155 (v2345 : BitVec 32) : Fin 2 → Nat :=
  let c1_i32_559 : BitVec 32 := 1#32
  let v2365 : BitVec 32 := Scalar.shrsi v2345 c1_i32_559
  let v2366 : BitVec 32 := v2365
  let v2367 : Index := Scalar.indexCast v2366
  let c0_560 : Index := 0#32
  ![v2367.toNat, 0]
def k0_off156 (v2345 : BitVec 32) : Fin 2 → Nat :=
  let c1_i32_559 : BitVec 32 := 1#32
  let v2365 : BitVec 32 := Scalar.shrsi v2345 c1_i32_559
  let v2366 : BitVec 32 := v2365
  let v2371 : Index := Scalar.indexCast v2366
  let c128_561 : Index := 128#32
  ![v2371.toNat, 128]

def k0_chk78 (arg0 : BitVec 32) (v1 : BitVec 32) (v2345 : BitVec 32) : Prop :=
  (∀ (k0_h1 : k0_cond1 arg0 v1 = 1#1), 8 ∣ (k0_mult78 v2345).toNat) ∧
  (∀ (k0_h1 : k0_cond1 arg0 v1 = 1#1), ∀ a, (k0_off155 v2345) a + S8x128.size a ≤ S7688x256.size a) ∧
  (∀ (k0_h1 : k0_cond1 arg0 v1 = 1#1), ∀ a, (k0_off156 v2345) a + S8x128.size a ≤ S7688x256.size a)
theorem k0_mult78_dvd : ∀ (arg0 : BitVec 32) (v1 : BitVec 32) (v2345 : BitVec 32) (k0_hw78 : k0_chk78 arg0 v1 v2345), ∀ (k0_h1 : k0_cond1 arg0 v1 = 1#1), 8 ∣ (k0_mult78 v2345).toNat := fun arg0 v1 v2345 k0_hw78 k0_h1 => k0_hw78.1 k0_h1
theorem k0_off155_inb : ∀ (arg0 : BitVec 32) (v1 : BitVec 32) (v2345 : BitVec 32) (k0_hw78 : k0_chk78 arg0 v1 v2345), ∀ (k0_h1 : k0_cond1 arg0 v1 = 1#1), ∀ a, (k0_off155 v2345) a + S8x128.size a ≤ S7688x256.size a := fun arg0 v1 v2345 k0_hw78 k0_h1 => k0_hw78.2.1 k0_h1
theorem k0_off156_inb : ∀ (arg0 : BitVec 32) (v1 : BitVec 32) (v2345 : BitVec 32) (k0_hw78 : k0_chk78 arg0 v1 v2345), ∀ (k0_h1 : k0_cond1 arg0 v1 = 1#1), ∀ a, (k0_off156 v2345) a + S8x128.size a ≤ S7688x256.size a := fun arg0 v1 v2345 k0_hw78 k0_h1 => k0_hw78.2.2 k0_h1

def k0_mult79 (v2375 : BitVec 32) : BitVec 32 :=
  let c1_i32_566 : BitVec 32 := 1#32
  let v2395 : BitVec 32 := Scalar.shrsi v2375 c1_i32_566
  v2395

def k0_off157 (v2375 : BitVec 32) : Fin 2 → Nat :=
  let c1_i32_566 : BitVec 32 := 1#32
  let v2395 : BitVec 32 := Scalar.shrsi v2375 c1_i32_566
  let v2396 : BitVec 32 := v2395
  let v2397 : Index := Scalar.indexCast v2396
  let c0_567 : Index := 0#32
  ![v2397.toNat, 0]
def k0_off158 (v2375 : BitVec 32) : Fin 2 → Nat :=
  let c1_i32_566 : BitVec 32 := 1#32
  let v2395 : BitVec 32 := Scalar.shrsi v2375 c1_i32_566
  let v2396 : BitVec 32 := v2395
  let v2401 : Index := Scalar.indexCast v2396
  let c128_568 : Index := 128#32
  ![v2401.toNat, 128]

def k0_chk79 (arg0 : BitVec 32) (v1 : BitVec 32) (v2375 : BitVec 32) : Prop :=
  (∀ (k0_h1 : k0_cond1 arg0 v1 = 1#1), 8 ∣ (k0_mult79 v2375).toNat) ∧
  (∀ (k0_h1 : k0_cond1 arg0 v1 = 1#1), ∀ a, (k0_off157 v2375) a + S8x128.size a ≤ S7688x256.size a) ∧
  (∀ (k0_h1 : k0_cond1 arg0 v1 = 1#1), ∀ a, (k0_off158 v2375) a + S8x128.size a ≤ S7688x256.size a)
theorem k0_mult79_dvd : ∀ (arg0 : BitVec 32) (v1 : BitVec 32) (v2375 : BitVec 32) (k0_hw79 : k0_chk79 arg0 v1 v2375), ∀ (k0_h1 : k0_cond1 arg0 v1 = 1#1), 8 ∣ (k0_mult79 v2375).toNat := fun arg0 v1 v2375 k0_hw79 k0_h1 => k0_hw79.1 k0_h1
theorem k0_off157_inb : ∀ (arg0 : BitVec 32) (v1 : BitVec 32) (v2375 : BitVec 32) (k0_hw79 : k0_chk79 arg0 v1 v2375), ∀ (k0_h1 : k0_cond1 arg0 v1 = 1#1), ∀ a, (k0_off157 v2375) a + S8x128.size a ≤ S7688x256.size a := fun arg0 v1 v2375 k0_hw79 k0_h1 => k0_hw79.2.1 k0_h1
theorem k0_off158_inb : ∀ (arg0 : BitVec 32) (v1 : BitVec 32) (v2375 : BitVec 32) (k0_hw79 : k0_chk79 arg0 v1 v2375), ∀ (k0_h1 : k0_cond1 arg0 v1 = 1#1), ∀ a, (k0_off158 v2375) a + S8x128.size a ≤ S7688x256.size a := fun arg0 v1 v2375 k0_hw79 k0_h1 => k0_hw79.2.2 k0_h1

def k0_mult80 (v2405 : BitVec 32) : BitVec 32 :=
  let c1_i32_573 : BitVec 32 := 1#32
  let v2425 : BitVec 32 := Scalar.shrsi v2405 c1_i32_573
  v2425

def k0_off159 (v2405 : BitVec 32) : Fin 2 → Nat :=
  let c1_i32_573 : BitVec 32 := 1#32
  let v2425 : BitVec 32 := Scalar.shrsi v2405 c1_i32_573
  let v2426 : BitVec 32 := v2425
  let v2427 : Index := Scalar.indexCast v2426
  let c0_574 : Index := 0#32
  ![v2427.toNat, 0]
def k0_off160 (v2405 : BitVec 32) : Fin 2 → Nat :=
  let c1_i32_573 : BitVec 32 := 1#32
  let v2425 : BitVec 32 := Scalar.shrsi v2405 c1_i32_573
  let v2426 : BitVec 32 := v2425
  let v2431 : Index := Scalar.indexCast v2426
  let c128_575 : Index := 128#32
  ![v2431.toNat, 128]

def k0_chk80 (arg0 : BitVec 32) (v1 : BitVec 32) (v2405 : BitVec 32) : Prop :=
  (∀ (k0_h1 : k0_cond1 arg0 v1 = 1#1), 8 ∣ (k0_mult80 v2405).toNat) ∧
  (∀ (k0_h1 : k0_cond1 arg0 v1 = 1#1), ∀ a, (k0_off159 v2405) a + S8x128.size a ≤ S7688x256.size a) ∧
  (∀ (k0_h1 : k0_cond1 arg0 v1 = 1#1), ∀ a, (k0_off160 v2405) a + S8x128.size a ≤ S7688x256.size a)
theorem k0_mult80_dvd : ∀ (arg0 : BitVec 32) (v1 : BitVec 32) (v2405 : BitVec 32) (k0_hw80 : k0_chk80 arg0 v1 v2405), ∀ (k0_h1 : k0_cond1 arg0 v1 = 1#1), 8 ∣ (k0_mult80 v2405).toNat := fun arg0 v1 v2405 k0_hw80 k0_h1 => k0_hw80.1 k0_h1
theorem k0_off159_inb : ∀ (arg0 : BitVec 32) (v1 : BitVec 32) (v2405 : BitVec 32) (k0_hw80 : k0_chk80 arg0 v1 v2405), ∀ (k0_h1 : k0_cond1 arg0 v1 = 1#1), ∀ a, (k0_off159 v2405) a + S8x128.size a ≤ S7688x256.size a := fun arg0 v1 v2405 k0_hw80 k0_h1 => k0_hw80.2.1 k0_h1
theorem k0_off160_inb : ∀ (arg0 : BitVec 32) (v1 : BitVec 32) (v2405 : BitVec 32) (k0_hw80 : k0_chk80 arg0 v1 v2405), ∀ (k0_h1 : k0_cond1 arg0 v1 = 1#1), ∀ a, (k0_off160 v2405) a + S8x128.size a ≤ S7688x256.size a := fun arg0 v1 v2405 k0_hw80 k0_h1 => k0_hw80.2.2 k0_h1

def k0_mult81 (v2435 : BitVec 32) : BitVec 32 :=
  let c1_i32_580 : BitVec 32 := 1#32
  let v2455 : BitVec 32 := Scalar.shrsi v2435 c1_i32_580
  v2455

def k0_off161 (v2435 : BitVec 32) : Fin 2 → Nat :=
  let c1_i32_580 : BitVec 32 := 1#32
  let v2455 : BitVec 32 := Scalar.shrsi v2435 c1_i32_580
  let v2456 : BitVec 32 := v2455
  let v2457 : Index := Scalar.indexCast v2456
  let c0_581 : Index := 0#32
  ![v2457.toNat, 0]
def k0_off162 (v2435 : BitVec 32) : Fin 2 → Nat :=
  let c1_i32_580 : BitVec 32 := 1#32
  let v2455 : BitVec 32 := Scalar.shrsi v2435 c1_i32_580
  let v2456 : BitVec 32 := v2455
  let v2461 : Index := Scalar.indexCast v2456
  let c128_582 : Index := 128#32
  ![v2461.toNat, 128]

def k0_chk81 (arg0 : BitVec 32) (v1 : BitVec 32) (v2435 : BitVec 32) : Prop :=
  (∀ (k0_h1 : k0_cond1 arg0 v1 = 1#1), 8 ∣ (k0_mult81 v2435).toNat) ∧
  (∀ (k0_h1 : k0_cond1 arg0 v1 = 1#1), ∀ a, (k0_off161 v2435) a + S8x128.size a ≤ S7688x256.size a) ∧
  (∀ (k0_h1 : k0_cond1 arg0 v1 = 1#1), ∀ a, (k0_off162 v2435) a + S8x128.size a ≤ S7688x256.size a)
theorem k0_mult81_dvd : ∀ (arg0 : BitVec 32) (v1 : BitVec 32) (v2435 : BitVec 32) (k0_hw81 : k0_chk81 arg0 v1 v2435), ∀ (k0_h1 : k0_cond1 arg0 v1 = 1#1), 8 ∣ (k0_mult81 v2435).toNat := fun arg0 v1 v2435 k0_hw81 k0_h1 => k0_hw81.1 k0_h1
theorem k0_off161_inb : ∀ (arg0 : BitVec 32) (v1 : BitVec 32) (v2435 : BitVec 32) (k0_hw81 : k0_chk81 arg0 v1 v2435), ∀ (k0_h1 : k0_cond1 arg0 v1 = 1#1), ∀ a, (k0_off161 v2435) a + S8x128.size a ≤ S7688x256.size a := fun arg0 v1 v2435 k0_hw81 k0_h1 => k0_hw81.2.1 k0_h1
theorem k0_off162_inb : ∀ (arg0 : BitVec 32) (v1 : BitVec 32) (v2435 : BitVec 32) (k0_hw81 : k0_chk81 arg0 v1 v2435), ∀ (k0_h1 : k0_cond1 arg0 v1 = 1#1), ∀ a, (k0_off162 v2435) a + S8x128.size a ≤ S7688x256.size a := fun arg0 v1 v2435 k0_hw81 k0_h1 => k0_hw81.2.2 k0_h1

def k0_mult82 (v2465 : BitVec 32) : BitVec 32 :=
  let c1_i32_587 : BitVec 32 := 1#32
  let v2485 : BitVec 32 := Scalar.shrsi v2465 c1_i32_587
  v2485

def k0_off163 (v2465 : BitVec 32) : Fin 2 → Nat :=
  let c1_i32_587 : BitVec 32 := 1#32
  let v2485 : BitVec 32 := Scalar.shrsi v2465 c1_i32_587
  let v2486 : BitVec 32 := v2485
  let v2487 : Index := Scalar.indexCast v2486
  let c0_588 : Index := 0#32
  ![v2487.toNat, 0]
def k0_off164 (v2465 : BitVec 32) : Fin 2 → Nat :=
  let c1_i32_587 : BitVec 32 := 1#32
  let v2485 : BitVec 32 := Scalar.shrsi v2465 c1_i32_587
  let v2486 : BitVec 32 := v2485
  let v2491 : Index := Scalar.indexCast v2486
  let c128_589 : Index := 128#32
  ![v2491.toNat, 128]

def k0_chk82 (arg0 : BitVec 32) (v1 : BitVec 32) (v2465 : BitVec 32) : Prop :=
  (∀ (k0_h1 : k0_cond1 arg0 v1 = 1#1), 8 ∣ (k0_mult82 v2465).toNat) ∧
  (∀ (k0_h1 : k0_cond1 arg0 v1 = 1#1), ∀ a, (k0_off163 v2465) a + S8x128.size a ≤ S7688x256.size a) ∧
  (∀ (k0_h1 : k0_cond1 arg0 v1 = 1#1), ∀ a, (k0_off164 v2465) a + S8x128.size a ≤ S7688x256.size a)
theorem k0_mult82_dvd : ∀ (arg0 : BitVec 32) (v1 : BitVec 32) (v2465 : BitVec 32) (k0_hw82 : k0_chk82 arg0 v1 v2465), ∀ (k0_h1 : k0_cond1 arg0 v1 = 1#1), 8 ∣ (k0_mult82 v2465).toNat := fun arg0 v1 v2465 k0_hw82 k0_h1 => k0_hw82.1 k0_h1
theorem k0_off163_inb : ∀ (arg0 : BitVec 32) (v1 : BitVec 32) (v2465 : BitVec 32) (k0_hw82 : k0_chk82 arg0 v1 v2465), ∀ (k0_h1 : k0_cond1 arg0 v1 = 1#1), ∀ a, (k0_off163 v2465) a + S8x128.size a ≤ S7688x256.size a := fun arg0 v1 v2465 k0_hw82 k0_h1 => k0_hw82.2.1 k0_h1
theorem k0_off164_inb : ∀ (arg0 : BitVec 32) (v1 : BitVec 32) (v2465 : BitVec 32) (k0_hw82 : k0_chk82 arg0 v1 v2465), ∀ (k0_h1 : k0_cond1 arg0 v1 = 1#1), ∀ a, (k0_off164 v2465) a + S8x128.size a ≤ S7688x256.size a := fun arg0 v1 v2465 k0_hw82 k0_h1 => k0_hw82.2.2 k0_h1

def k0_mult83 (v2495 : BitVec 32) : BitVec 32 :=
  let c1_i32_594 : BitVec 32 := 1#32
  let v2515 : BitVec 32 := Scalar.shrsi v2495 c1_i32_594
  v2515

def k0_off165 (v2495 : BitVec 32) : Fin 2 → Nat :=
  let c1_i32_594 : BitVec 32 := 1#32
  let v2515 : BitVec 32 := Scalar.shrsi v2495 c1_i32_594
  let v2516 : BitVec 32 := v2515
  let v2517 : Index := Scalar.indexCast v2516
  let c0_595 : Index := 0#32
  ![v2517.toNat, 0]
def k0_off166 (v2495 : BitVec 32) : Fin 2 → Nat :=
  let c1_i32_594 : BitVec 32 := 1#32
  let v2515 : BitVec 32 := Scalar.shrsi v2495 c1_i32_594
  let v2516 : BitVec 32 := v2515
  let v2521 : Index := Scalar.indexCast v2516
  let c128_596 : Index := 128#32
  ![v2521.toNat, 128]

def k0_chk83 (arg0 : BitVec 32) (v1 : BitVec 32) (v2495 : BitVec 32) : Prop :=
  (∀ (k0_h1 : k0_cond1 arg0 v1 = 1#1), 8 ∣ (k0_mult83 v2495).toNat) ∧
  (∀ (k0_h1 : k0_cond1 arg0 v1 = 1#1), ∀ a, (k0_off165 v2495) a + S8x128.size a ≤ S7688x256.size a) ∧
  (∀ (k0_h1 : k0_cond1 arg0 v1 = 1#1), ∀ a, (k0_off166 v2495) a + S8x128.size a ≤ S7688x256.size a)
theorem k0_mult83_dvd : ∀ (arg0 : BitVec 32) (v1 : BitVec 32) (v2495 : BitVec 32) (k0_hw83 : k0_chk83 arg0 v1 v2495), ∀ (k0_h1 : k0_cond1 arg0 v1 = 1#1), 8 ∣ (k0_mult83 v2495).toNat := fun arg0 v1 v2495 k0_hw83 k0_h1 => k0_hw83.1 k0_h1
theorem k0_off165_inb : ∀ (arg0 : BitVec 32) (v1 : BitVec 32) (v2495 : BitVec 32) (k0_hw83 : k0_chk83 arg0 v1 v2495), ∀ (k0_h1 : k0_cond1 arg0 v1 = 1#1), ∀ a, (k0_off165 v2495) a + S8x128.size a ≤ S7688x256.size a := fun arg0 v1 v2495 k0_hw83 k0_h1 => k0_hw83.2.1 k0_h1
theorem k0_off166_inb : ∀ (arg0 : BitVec 32) (v1 : BitVec 32) (v2495 : BitVec 32) (k0_hw83 : k0_chk83 arg0 v1 v2495), ∀ (k0_h1 : k0_cond1 arg0 v1 = 1#1), ∀ a, (k0_off166 v2495) a + S8x128.size a ≤ S7688x256.size a := fun arg0 v1 v2495 k0_hw83 k0_h1 => k0_hw83.2.2 k0_h1

def k0_mult84 (v2525 : BitVec 32) : BitVec 32 :=
  let c1_i32_601 : BitVec 32 := 1#32
  let v2545 : BitVec 32 := Scalar.shrsi v2525 c1_i32_601
  v2545

def k0_off167 (v2525 : BitVec 32) : Fin 2 → Nat :=
  let c1_i32_601 : BitVec 32 := 1#32
  let v2545 : BitVec 32 := Scalar.shrsi v2525 c1_i32_601
  let v2546 : BitVec 32 := v2545
  let v2547 : Index := Scalar.indexCast v2546
  let c0_602 : Index := 0#32
  ![v2547.toNat, 0]
def k0_off168 (v2525 : BitVec 32) : Fin 2 → Nat :=
  let c1_i32_601 : BitVec 32 := 1#32
  let v2545 : BitVec 32 := Scalar.shrsi v2525 c1_i32_601
  let v2546 : BitVec 32 := v2545
  let v2551 : Index := Scalar.indexCast v2546
  let c128_603 : Index := 128#32
  ![v2551.toNat, 128]

def k0_chk84 (arg0 : BitVec 32) (v1 : BitVec 32) (v2525 : BitVec 32) : Prop :=
  (∀ (k0_h1 : k0_cond1 arg0 v1 = 1#1), 8 ∣ (k0_mult84 v2525).toNat) ∧
  (∀ (k0_h1 : k0_cond1 arg0 v1 = 1#1), ∀ a, (k0_off167 v2525) a + S8x128.size a ≤ S7688x256.size a) ∧
  (∀ (k0_h1 : k0_cond1 arg0 v1 = 1#1), ∀ a, (k0_off168 v2525) a + S8x128.size a ≤ S7688x256.size a)
theorem k0_mult84_dvd : ∀ (arg0 : BitVec 32) (v1 : BitVec 32) (v2525 : BitVec 32) (k0_hw84 : k0_chk84 arg0 v1 v2525), ∀ (k0_h1 : k0_cond1 arg0 v1 = 1#1), 8 ∣ (k0_mult84 v2525).toNat := fun arg0 v1 v2525 k0_hw84 k0_h1 => k0_hw84.1 k0_h1
theorem k0_off167_inb : ∀ (arg0 : BitVec 32) (v1 : BitVec 32) (v2525 : BitVec 32) (k0_hw84 : k0_chk84 arg0 v1 v2525), ∀ (k0_h1 : k0_cond1 arg0 v1 = 1#1), ∀ a, (k0_off167 v2525) a + S8x128.size a ≤ S7688x256.size a := fun arg0 v1 v2525 k0_hw84 k0_h1 => k0_hw84.2.1 k0_h1
theorem k0_off168_inb : ∀ (arg0 : BitVec 32) (v1 : BitVec 32) (v2525 : BitVec 32) (k0_hw84 : k0_chk84 arg0 v1 v2525), ∀ (k0_h1 : k0_cond1 arg0 v1 = 1#1), ∀ a, (k0_off168 v2525) a + S8x128.size a ≤ S7688x256.size a := fun arg0 v1 v2525 k0_hw84 k0_h1 => k0_hw84.2.2 k0_h1

def k0_mult85 (v2555 : BitVec 32) : BitVec 32 :=
  let c1_i32_608 : BitVec 32 := 1#32
  let v2575 : BitVec 32 := Scalar.shrsi v2555 c1_i32_608
  v2575

def k0_off169 (v2555 : BitVec 32) : Fin 2 → Nat :=
  let c1_i32_608 : BitVec 32 := 1#32
  let v2575 : BitVec 32 := Scalar.shrsi v2555 c1_i32_608
  let v2576 : BitVec 32 := v2575
  let v2577 : Index := Scalar.indexCast v2576
  let c0_609 : Index := 0#32
  ![v2577.toNat, 0]
def k0_off170 (v2555 : BitVec 32) : Fin 2 → Nat :=
  let c1_i32_608 : BitVec 32 := 1#32
  let v2575 : BitVec 32 := Scalar.shrsi v2555 c1_i32_608
  let v2576 : BitVec 32 := v2575
  let v2581 : Index := Scalar.indexCast v2576
  let c128_610 : Index := 128#32
  ![v2581.toNat, 128]

def k0_chk85 (arg0 : BitVec 32) (v1 : BitVec 32) (v2555 : BitVec 32) : Prop :=
  (∀ (k0_h1 : k0_cond1 arg0 v1 = 1#1), 8 ∣ (k0_mult85 v2555).toNat) ∧
  (∀ (k0_h1 : k0_cond1 arg0 v1 = 1#1), ∀ a, (k0_off169 v2555) a + S8x128.size a ≤ S7688x256.size a) ∧
  (∀ (k0_h1 : k0_cond1 arg0 v1 = 1#1), ∀ a, (k0_off170 v2555) a + S8x128.size a ≤ S7688x256.size a)
theorem k0_mult85_dvd : ∀ (arg0 : BitVec 32) (v1 : BitVec 32) (v2555 : BitVec 32) (k0_hw85 : k0_chk85 arg0 v1 v2555), ∀ (k0_h1 : k0_cond1 arg0 v1 = 1#1), 8 ∣ (k0_mult85 v2555).toNat := fun arg0 v1 v2555 k0_hw85 k0_h1 => k0_hw85.1 k0_h1
theorem k0_off169_inb : ∀ (arg0 : BitVec 32) (v1 : BitVec 32) (v2555 : BitVec 32) (k0_hw85 : k0_chk85 arg0 v1 v2555), ∀ (k0_h1 : k0_cond1 arg0 v1 = 1#1), ∀ a, (k0_off169 v2555) a + S8x128.size a ≤ S7688x256.size a := fun arg0 v1 v2555 k0_hw85 k0_h1 => k0_hw85.2.1 k0_h1
theorem k0_off170_inb : ∀ (arg0 : BitVec 32) (v1 : BitVec 32) (v2555 : BitVec 32) (k0_hw85 : k0_chk85 arg0 v1 v2555), ∀ (k0_h1 : k0_cond1 arg0 v1 = 1#1), ∀ a, (k0_off170 v2555) a + S8x128.size a ≤ S7688x256.size a := fun arg0 v1 v2555 k0_hw85 k0_h1 => k0_hw85.2.2 k0_h1

def k0_mult86 (v2585 : BitVec 32) : BitVec 32 :=
  let c1_i32_615 : BitVec 32 := 1#32
  let v2605 : BitVec 32 := Scalar.shrsi v2585 c1_i32_615
  v2605

def k0_off171 (v2585 : BitVec 32) : Fin 2 → Nat :=
  let c1_i32_615 : BitVec 32 := 1#32
  let v2605 : BitVec 32 := Scalar.shrsi v2585 c1_i32_615
  let v2606 : BitVec 32 := v2605
  let v2607 : Index := Scalar.indexCast v2606
  let c0_616 : Index := 0#32
  ![v2607.toNat, 0]
def k0_off172 (v2585 : BitVec 32) : Fin 2 → Nat :=
  let c1_i32_615 : BitVec 32 := 1#32
  let v2605 : BitVec 32 := Scalar.shrsi v2585 c1_i32_615
  let v2606 : BitVec 32 := v2605
  let v2611 : Index := Scalar.indexCast v2606
  let c128_617 : Index := 128#32
  ![v2611.toNat, 128]

def k0_chk86 (arg0 : BitVec 32) (v1 : BitVec 32) (v2585 : BitVec 32) : Prop :=
  (∀ (k0_h1 : k0_cond1 arg0 v1 = 1#1), 8 ∣ (k0_mult86 v2585).toNat) ∧
  (∀ (k0_h1 : k0_cond1 arg0 v1 = 1#1), ∀ a, (k0_off171 v2585) a + S8x128.size a ≤ S7688x256.size a) ∧
  (∀ (k0_h1 : k0_cond1 arg0 v1 = 1#1), ∀ a, (k0_off172 v2585) a + S8x128.size a ≤ S7688x256.size a)
theorem k0_mult86_dvd : ∀ (arg0 : BitVec 32) (v1 : BitVec 32) (v2585 : BitVec 32) (k0_hw86 : k0_chk86 arg0 v1 v2585), ∀ (k0_h1 : k0_cond1 arg0 v1 = 1#1), 8 ∣ (k0_mult86 v2585).toNat := fun arg0 v1 v2585 k0_hw86 k0_h1 => k0_hw86.1 k0_h1
theorem k0_off171_inb : ∀ (arg0 : BitVec 32) (v1 : BitVec 32) (v2585 : BitVec 32) (k0_hw86 : k0_chk86 arg0 v1 v2585), ∀ (k0_h1 : k0_cond1 arg0 v1 = 1#1), ∀ a, (k0_off171 v2585) a + S8x128.size a ≤ S7688x256.size a := fun arg0 v1 v2585 k0_hw86 k0_h1 => k0_hw86.2.1 k0_h1
theorem k0_off172_inb : ∀ (arg0 : BitVec 32) (v1 : BitVec 32) (v2585 : BitVec 32) (k0_hw86 : k0_chk86 arg0 v1 v2585), ∀ (k0_h1 : k0_cond1 arg0 v1 = 1#1), ∀ a, (k0_off172 v2585) a + S8x128.size a ≤ S7688x256.size a := fun arg0 v1 v2585 k0_hw86 k0_h1 => k0_hw86.2.2 k0_h1

def k0_mult87 (v2615 : BitVec 32) : BitVec 32 :=
  let c1_i32_622 : BitVec 32 := 1#32
  let v2635 : BitVec 32 := Scalar.shrsi v2615 c1_i32_622
  v2635

def k0_off173 (v2615 : BitVec 32) : Fin 2 → Nat :=
  let c1_i32_622 : BitVec 32 := 1#32
  let v2635 : BitVec 32 := Scalar.shrsi v2615 c1_i32_622
  let v2636 : BitVec 32 := v2635
  let v2637 : Index := Scalar.indexCast v2636
  let c0_623 : Index := 0#32
  ![v2637.toNat, 0]
def k0_off174 (v2615 : BitVec 32) : Fin 2 → Nat :=
  let c1_i32_622 : BitVec 32 := 1#32
  let v2635 : BitVec 32 := Scalar.shrsi v2615 c1_i32_622
  let v2636 : BitVec 32 := v2635
  let v2641 : Index := Scalar.indexCast v2636
  let c128_624 : Index := 128#32
  ![v2641.toNat, 128]

def k0_chk87 (arg0 : BitVec 32) (v1 : BitVec 32) (v2615 : BitVec 32) : Prop :=
  (∀ (k0_h1 : k0_cond1 arg0 v1 = 1#1), 8 ∣ (k0_mult87 v2615).toNat) ∧
  (∀ (k0_h1 : k0_cond1 arg0 v1 = 1#1), ∀ a, (k0_off173 v2615) a + S8x128.size a ≤ S7688x256.size a) ∧
  (∀ (k0_h1 : k0_cond1 arg0 v1 = 1#1), ∀ a, (k0_off174 v2615) a + S8x128.size a ≤ S7688x256.size a)
theorem k0_mult87_dvd : ∀ (arg0 : BitVec 32) (v1 : BitVec 32) (v2615 : BitVec 32) (k0_hw87 : k0_chk87 arg0 v1 v2615), ∀ (k0_h1 : k0_cond1 arg0 v1 = 1#1), 8 ∣ (k0_mult87 v2615).toNat := fun arg0 v1 v2615 k0_hw87 k0_h1 => k0_hw87.1 k0_h1
theorem k0_off173_inb : ∀ (arg0 : BitVec 32) (v1 : BitVec 32) (v2615 : BitVec 32) (k0_hw87 : k0_chk87 arg0 v1 v2615), ∀ (k0_h1 : k0_cond1 arg0 v1 = 1#1), ∀ a, (k0_off173 v2615) a + S8x128.size a ≤ S7688x256.size a := fun arg0 v1 v2615 k0_hw87 k0_h1 => k0_hw87.2.1 k0_h1
theorem k0_off174_inb : ∀ (arg0 : BitVec 32) (v1 : BitVec 32) (v2615 : BitVec 32) (k0_hw87 : k0_chk87 arg0 v1 v2615), ∀ (k0_h1 : k0_cond1 arg0 v1 = 1#1), ∀ a, (k0_off174 v2615) a + S8x128.size a ≤ S7688x256.size a := fun arg0 v1 v2615 k0_hw87 k0_h1 => k0_hw87.2.2 k0_h1

def k0_mult88 (v2645 : BitVec 32) : BitVec 32 :=
  let c1_i32_629 : BitVec 32 := 1#32
  let v2665 : BitVec 32 := Scalar.shrsi v2645 c1_i32_629
  v2665

def k0_off175 (v2645 : BitVec 32) : Fin 2 → Nat :=
  let c1_i32_629 : BitVec 32 := 1#32
  let v2665 : BitVec 32 := Scalar.shrsi v2645 c1_i32_629
  let v2666 : BitVec 32 := v2665
  let v2667 : Index := Scalar.indexCast v2666
  let c0_630 : Index := 0#32
  ![v2667.toNat, 0]
def k0_off176 (v2645 : BitVec 32) : Fin 2 → Nat :=
  let c1_i32_629 : BitVec 32 := 1#32
  let v2665 : BitVec 32 := Scalar.shrsi v2645 c1_i32_629
  let v2666 : BitVec 32 := v2665
  let v2671 : Index := Scalar.indexCast v2666
  let c128_631 : Index := 128#32
  ![v2671.toNat, 128]

def k0_chk88 (arg0 : BitVec 32) (v1 : BitVec 32) (v2645 : BitVec 32) : Prop :=
  (∀ (k0_h1 : k0_cond1 arg0 v1 = 1#1), 8 ∣ (k0_mult88 v2645).toNat) ∧
  (∀ (k0_h1 : k0_cond1 arg0 v1 = 1#1), ∀ a, (k0_off175 v2645) a + S8x128.size a ≤ S7688x256.size a) ∧
  (∀ (k0_h1 : k0_cond1 arg0 v1 = 1#1), ∀ a, (k0_off176 v2645) a + S8x128.size a ≤ S7688x256.size a)
theorem k0_mult88_dvd : ∀ (arg0 : BitVec 32) (v1 : BitVec 32) (v2645 : BitVec 32) (k0_hw88 : k0_chk88 arg0 v1 v2645), ∀ (k0_h1 : k0_cond1 arg0 v1 = 1#1), 8 ∣ (k0_mult88 v2645).toNat := fun arg0 v1 v2645 k0_hw88 k0_h1 => k0_hw88.1 k0_h1
theorem k0_off175_inb : ∀ (arg0 : BitVec 32) (v1 : BitVec 32) (v2645 : BitVec 32) (k0_hw88 : k0_chk88 arg0 v1 v2645), ∀ (k0_h1 : k0_cond1 arg0 v1 = 1#1), ∀ a, (k0_off175 v2645) a + S8x128.size a ≤ S7688x256.size a := fun arg0 v1 v2645 k0_hw88 k0_h1 => k0_hw88.2.1 k0_h1
theorem k0_off176_inb : ∀ (arg0 : BitVec 32) (v1 : BitVec 32) (v2645 : BitVec 32) (k0_hw88 : k0_chk88 arg0 v1 v2645), ∀ (k0_h1 : k0_cond1 arg0 v1 = 1#1), ∀ a, (k0_off176 v2645) a + S8x128.size a ≤ S7688x256.size a := fun arg0 v1 v2645 k0_hw88 k0_h1 => k0_hw88.2.2 k0_h1

def k0_mult89 (v2675 : BitVec 32) : BitVec 32 :=
  let c1_i32_636 : BitVec 32 := 1#32
  let v2695 : BitVec 32 := Scalar.shrsi v2675 c1_i32_636
  v2695

def k0_off177 (v2675 : BitVec 32) : Fin 2 → Nat :=
  let c1_i32_636 : BitVec 32 := 1#32
  let v2695 : BitVec 32 := Scalar.shrsi v2675 c1_i32_636
  let v2696 : BitVec 32 := v2695
  let v2697 : Index := Scalar.indexCast v2696
  let c0_637 : Index := 0#32
  ![v2697.toNat, 0]
def k0_off178 (v2675 : BitVec 32) : Fin 2 → Nat :=
  let c1_i32_636 : BitVec 32 := 1#32
  let v2695 : BitVec 32 := Scalar.shrsi v2675 c1_i32_636
  let v2696 : BitVec 32 := v2695
  let v2701 : Index := Scalar.indexCast v2696
  let c128_638 : Index := 128#32
  ![v2701.toNat, 128]

def k0_chk89 (arg0 : BitVec 32) (v1 : BitVec 32) (v2675 : BitVec 32) : Prop :=
  (∀ (k0_h1 : k0_cond1 arg0 v1 = 1#1), 8 ∣ (k0_mult89 v2675).toNat) ∧
  (∀ (k0_h1 : k0_cond1 arg0 v1 = 1#1), ∀ a, (k0_off177 v2675) a + S8x128.size a ≤ S7688x256.size a) ∧
  (∀ (k0_h1 : k0_cond1 arg0 v1 = 1#1), ∀ a, (k0_off178 v2675) a + S8x128.size a ≤ S7688x256.size a)
theorem k0_mult89_dvd : ∀ (arg0 : BitVec 32) (v1 : BitVec 32) (v2675 : BitVec 32) (k0_hw89 : k0_chk89 arg0 v1 v2675), ∀ (k0_h1 : k0_cond1 arg0 v1 = 1#1), 8 ∣ (k0_mult89 v2675).toNat := fun arg0 v1 v2675 k0_hw89 k0_h1 => k0_hw89.1 k0_h1
theorem k0_off177_inb : ∀ (arg0 : BitVec 32) (v1 : BitVec 32) (v2675 : BitVec 32) (k0_hw89 : k0_chk89 arg0 v1 v2675), ∀ (k0_h1 : k0_cond1 arg0 v1 = 1#1), ∀ a, (k0_off177 v2675) a + S8x128.size a ≤ S7688x256.size a := fun arg0 v1 v2675 k0_hw89 k0_h1 => k0_hw89.2.1 k0_h1
theorem k0_off178_inb : ∀ (arg0 : BitVec 32) (v1 : BitVec 32) (v2675 : BitVec 32) (k0_hw89 : k0_chk89 arg0 v1 v2675), ∀ (k0_h1 : k0_cond1 arg0 v1 = 1#1), ∀ a, (k0_off178 v2675) a + S8x128.size a ≤ S7688x256.size a := fun arg0 v1 v2675 k0_hw89 k0_h1 => k0_hw89.2.2 k0_h1

def k0_mult90 (v2705 : BitVec 32) : BitVec 32 :=
  let c1_i32_643 : BitVec 32 := 1#32
  let v2725 : BitVec 32 := Scalar.shrsi v2705 c1_i32_643
  v2725

def k0_off179 (v2705 : BitVec 32) : Fin 2 → Nat :=
  let c1_i32_643 : BitVec 32 := 1#32
  let v2725 : BitVec 32 := Scalar.shrsi v2705 c1_i32_643
  let v2726 : BitVec 32 := v2725
  let v2727 : Index := Scalar.indexCast v2726
  let c0_644 : Index := 0#32
  ![v2727.toNat, 0]
def k0_off180 (v2705 : BitVec 32) : Fin 2 → Nat :=
  let c1_i32_643 : BitVec 32 := 1#32
  let v2725 : BitVec 32 := Scalar.shrsi v2705 c1_i32_643
  let v2726 : BitVec 32 := v2725
  let v2731 : Index := Scalar.indexCast v2726
  let c128_645 : Index := 128#32
  ![v2731.toNat, 128]

def k0_chk90 (arg0 : BitVec 32) (v1 : BitVec 32) (v2705 : BitVec 32) : Prop :=
  (∀ (k0_h1 : k0_cond1 arg0 v1 = 1#1), 8 ∣ (k0_mult90 v2705).toNat) ∧
  (∀ (k0_h1 : k0_cond1 arg0 v1 = 1#1), ∀ a, (k0_off179 v2705) a + S8x128.size a ≤ S7688x256.size a) ∧
  (∀ (k0_h1 : k0_cond1 arg0 v1 = 1#1), ∀ a, (k0_off180 v2705) a + S8x128.size a ≤ S7688x256.size a)
theorem k0_mult90_dvd : ∀ (arg0 : BitVec 32) (v1 : BitVec 32) (v2705 : BitVec 32) (k0_hw90 : k0_chk90 arg0 v1 v2705), ∀ (k0_h1 : k0_cond1 arg0 v1 = 1#1), 8 ∣ (k0_mult90 v2705).toNat := fun arg0 v1 v2705 k0_hw90 k0_h1 => k0_hw90.1 k0_h1
theorem k0_off179_inb : ∀ (arg0 : BitVec 32) (v1 : BitVec 32) (v2705 : BitVec 32) (k0_hw90 : k0_chk90 arg0 v1 v2705), ∀ (k0_h1 : k0_cond1 arg0 v1 = 1#1), ∀ a, (k0_off179 v2705) a + S8x128.size a ≤ S7688x256.size a := fun arg0 v1 v2705 k0_hw90 k0_h1 => k0_hw90.2.1 k0_h1
theorem k0_off180_inb : ∀ (arg0 : BitVec 32) (v1 : BitVec 32) (v2705 : BitVec 32) (k0_hw90 : k0_chk90 arg0 v1 v2705), ∀ (k0_h1 : k0_cond1 arg0 v1 = 1#1), ∀ a, (k0_off180 v2705) a + S8x128.size a ≤ S7688x256.size a := fun arg0 v1 v2705 k0_hw90 k0_h1 => k0_hw90.2.2 k0_h1

def k0_mult91 (v2735 : BitVec 32) : BitVec 32 :=
  let c1_i32_650 : BitVec 32 := 1#32
  let v2755 : BitVec 32 := Scalar.shrsi v2735 c1_i32_650
  v2755

def k0_off181 (v2735 : BitVec 32) : Fin 2 → Nat :=
  let c1_i32_650 : BitVec 32 := 1#32
  let v2755 : BitVec 32 := Scalar.shrsi v2735 c1_i32_650
  let v2756 : BitVec 32 := v2755
  let v2757 : Index := Scalar.indexCast v2756
  let c0_651 : Index := 0#32
  ![v2757.toNat, 0]
def k0_off182 (v2735 : BitVec 32) : Fin 2 → Nat :=
  let c1_i32_650 : BitVec 32 := 1#32
  let v2755 : BitVec 32 := Scalar.shrsi v2735 c1_i32_650
  let v2756 : BitVec 32 := v2755
  let v2761 : Index := Scalar.indexCast v2756
  let c128_652 : Index := 128#32
  ![v2761.toNat, 128]

def k0_chk91 (arg0 : BitVec 32) (v1 : BitVec 32) (v2735 : BitVec 32) : Prop :=
  (∀ (k0_h1 : k0_cond1 arg0 v1 = 1#1), 8 ∣ (k0_mult91 v2735).toNat) ∧
  (∀ (k0_h1 : k0_cond1 arg0 v1 = 1#1), ∀ a, (k0_off181 v2735) a + S8x128.size a ≤ S7688x256.size a) ∧
  (∀ (k0_h1 : k0_cond1 arg0 v1 = 1#1), ∀ a, (k0_off182 v2735) a + S8x128.size a ≤ S7688x256.size a)
theorem k0_mult91_dvd : ∀ (arg0 : BitVec 32) (v1 : BitVec 32) (v2735 : BitVec 32) (k0_hw91 : k0_chk91 arg0 v1 v2735), ∀ (k0_h1 : k0_cond1 arg0 v1 = 1#1), 8 ∣ (k0_mult91 v2735).toNat := fun arg0 v1 v2735 k0_hw91 k0_h1 => k0_hw91.1 k0_h1
theorem k0_off181_inb : ∀ (arg0 : BitVec 32) (v1 : BitVec 32) (v2735 : BitVec 32) (k0_hw91 : k0_chk91 arg0 v1 v2735), ∀ (k0_h1 : k0_cond1 arg0 v1 = 1#1), ∀ a, (k0_off181 v2735) a + S8x128.size a ≤ S7688x256.size a := fun arg0 v1 v2735 k0_hw91 k0_h1 => k0_hw91.2.1 k0_h1
theorem k0_off182_inb : ∀ (arg0 : BitVec 32) (v1 : BitVec 32) (v2735 : BitVec 32) (k0_hw91 : k0_chk91 arg0 v1 v2735), ∀ (k0_h1 : k0_cond1 arg0 v1 = 1#1), ∀ a, (k0_off182 v2735) a + S8x128.size a ≤ S7688x256.size a := fun arg0 v1 v2735 k0_hw91 k0_h1 => k0_hw91.2.2 k0_h1

def k0_mult92 (v2765 : BitVec 32) : BitVec 32 :=
  let c1_i32_657 : BitVec 32 := 1#32
  let v2785 : BitVec 32 := Scalar.shrsi v2765 c1_i32_657
  v2785

def k0_off183 (v2765 : BitVec 32) : Fin 2 → Nat :=
  let c1_i32_657 : BitVec 32 := 1#32
  let v2785 : BitVec 32 := Scalar.shrsi v2765 c1_i32_657
  let v2786 : BitVec 32 := v2785
  let v2787 : Index := Scalar.indexCast v2786
  let c0_658 : Index := 0#32
  ![v2787.toNat, 0]
def k0_off184 (v2765 : BitVec 32) : Fin 2 → Nat :=
  let c1_i32_657 : BitVec 32 := 1#32
  let v2785 : BitVec 32 := Scalar.shrsi v2765 c1_i32_657
  let v2786 : BitVec 32 := v2785
  let v2791 : Index := Scalar.indexCast v2786
  let c128_659 : Index := 128#32
  ![v2791.toNat, 128]

def k0_chk92 (arg0 : BitVec 32) (v1 : BitVec 32) (v2765 : BitVec 32) : Prop :=
  (∀ (k0_h1 : k0_cond1 arg0 v1 = 1#1), 8 ∣ (k0_mult92 v2765).toNat) ∧
  (∀ (k0_h1 : k0_cond1 arg0 v1 = 1#1), ∀ a, (k0_off183 v2765) a + S8x128.size a ≤ S7688x256.size a) ∧
  (∀ (k0_h1 : k0_cond1 arg0 v1 = 1#1), ∀ a, (k0_off184 v2765) a + S8x128.size a ≤ S7688x256.size a)
theorem k0_mult92_dvd : ∀ (arg0 : BitVec 32) (v1 : BitVec 32) (v2765 : BitVec 32) (k0_hw92 : k0_chk92 arg0 v1 v2765), ∀ (k0_h1 : k0_cond1 arg0 v1 = 1#1), 8 ∣ (k0_mult92 v2765).toNat := fun arg0 v1 v2765 k0_hw92 k0_h1 => k0_hw92.1 k0_h1
theorem k0_off183_inb : ∀ (arg0 : BitVec 32) (v1 : BitVec 32) (v2765 : BitVec 32) (k0_hw92 : k0_chk92 arg0 v1 v2765), ∀ (k0_h1 : k0_cond1 arg0 v1 = 1#1), ∀ a, (k0_off183 v2765) a + S8x128.size a ≤ S7688x256.size a := fun arg0 v1 v2765 k0_hw92 k0_h1 => k0_hw92.2.1 k0_h1
theorem k0_off184_inb : ∀ (arg0 : BitVec 32) (v1 : BitVec 32) (v2765 : BitVec 32) (k0_hw92 : k0_chk92 arg0 v1 v2765), ∀ (k0_h1 : k0_cond1 arg0 v1 = 1#1), ∀ a, (k0_off184 v2765) a + S8x128.size a ≤ S7688x256.size a := fun arg0 v1 v2765 k0_hw92 k0_h1 => k0_hw92.2.2 k0_h1

def k0_mult93 (v2795 : BitVec 32) : BitVec 32 :=
  let c1_i32_664 : BitVec 32 := 1#32
  let v2815 : BitVec 32 := Scalar.shrsi v2795 c1_i32_664
  v2815

def k0_off185 (v2795 : BitVec 32) : Fin 2 → Nat :=
  let c1_i32_664 : BitVec 32 := 1#32
  let v2815 : BitVec 32 := Scalar.shrsi v2795 c1_i32_664
  let v2816 : BitVec 32 := v2815
  let v2817 : Index := Scalar.indexCast v2816
  let c0_665 : Index := 0#32
  ![v2817.toNat, 0]
def k0_off186 (v2795 : BitVec 32) : Fin 2 → Nat :=
  let c1_i32_664 : BitVec 32 := 1#32
  let v2815 : BitVec 32 := Scalar.shrsi v2795 c1_i32_664
  let v2816 : BitVec 32 := v2815
  let v2821 : Index := Scalar.indexCast v2816
  let c128_666 : Index := 128#32
  ![v2821.toNat, 128]

def k0_chk93 (arg0 : BitVec 32) (v1 : BitVec 32) (v2795 : BitVec 32) : Prop :=
  (∀ (k0_h1 : k0_cond1 arg0 v1 = 1#1), 8 ∣ (k0_mult93 v2795).toNat) ∧
  (∀ (k0_h1 : k0_cond1 arg0 v1 = 1#1), ∀ a, (k0_off185 v2795) a + S8x128.size a ≤ S7688x256.size a) ∧
  (∀ (k0_h1 : k0_cond1 arg0 v1 = 1#1), ∀ a, (k0_off186 v2795) a + S8x128.size a ≤ S7688x256.size a)
theorem k0_mult93_dvd : ∀ (arg0 : BitVec 32) (v1 : BitVec 32) (v2795 : BitVec 32) (k0_hw93 : k0_chk93 arg0 v1 v2795), ∀ (k0_h1 : k0_cond1 arg0 v1 = 1#1), 8 ∣ (k0_mult93 v2795).toNat := fun arg0 v1 v2795 k0_hw93 k0_h1 => k0_hw93.1 k0_h1
theorem k0_off185_inb : ∀ (arg0 : BitVec 32) (v1 : BitVec 32) (v2795 : BitVec 32) (k0_hw93 : k0_chk93 arg0 v1 v2795), ∀ (k0_h1 : k0_cond1 arg0 v1 = 1#1), ∀ a, (k0_off185 v2795) a + S8x128.size a ≤ S7688x256.size a := fun arg0 v1 v2795 k0_hw93 k0_h1 => k0_hw93.2.1 k0_h1
theorem k0_off186_inb : ∀ (arg0 : BitVec 32) (v1 : BitVec 32) (v2795 : BitVec 32) (k0_hw93 : k0_chk93 arg0 v1 v2795), ∀ (k0_h1 : k0_cond1 arg0 v1 = 1#1), ∀ a, (k0_off186 v2795) a + S8x128.size a ≤ S7688x256.size a := fun arg0 v1 v2795 k0_hw93 k0_h1 => k0_hw93.2.2 k0_h1

def k0_mult94 (v2825 : BitVec 32) : BitVec 32 :=
  let c1_i32_671 : BitVec 32 := 1#32
  let v2845 : BitVec 32 := Scalar.shrsi v2825 c1_i32_671
  v2845

def k0_off187 (v2825 : BitVec 32) : Fin 2 → Nat :=
  let c1_i32_671 : BitVec 32 := 1#32
  let v2845 : BitVec 32 := Scalar.shrsi v2825 c1_i32_671
  let v2846 : BitVec 32 := v2845
  let v2847 : Index := Scalar.indexCast v2846
  let c0_672 : Index := 0#32
  ![v2847.toNat, 0]
def k0_off188 (v2825 : BitVec 32) : Fin 2 → Nat :=
  let c1_i32_671 : BitVec 32 := 1#32
  let v2845 : BitVec 32 := Scalar.shrsi v2825 c1_i32_671
  let v2846 : BitVec 32 := v2845
  let v2851 : Index := Scalar.indexCast v2846
  let c128_673 : Index := 128#32
  ![v2851.toNat, 128]

def k0_chk94 (arg0 : BitVec 32) (v1 : BitVec 32) (v2825 : BitVec 32) : Prop :=
  (∀ (k0_h1 : k0_cond1 arg0 v1 = 1#1), 8 ∣ (k0_mult94 v2825).toNat) ∧
  (∀ (k0_h1 : k0_cond1 arg0 v1 = 1#1), ∀ a, (k0_off187 v2825) a + S8x128.size a ≤ S7688x256.size a) ∧
  (∀ (k0_h1 : k0_cond1 arg0 v1 = 1#1), ∀ a, (k0_off188 v2825) a + S8x128.size a ≤ S7688x256.size a)
theorem k0_mult94_dvd : ∀ (arg0 : BitVec 32) (v1 : BitVec 32) (v2825 : BitVec 32) (k0_hw94 : k0_chk94 arg0 v1 v2825), ∀ (k0_h1 : k0_cond1 arg0 v1 = 1#1), 8 ∣ (k0_mult94 v2825).toNat := fun arg0 v1 v2825 k0_hw94 k0_h1 => k0_hw94.1 k0_h1
theorem k0_off187_inb : ∀ (arg0 : BitVec 32) (v1 : BitVec 32) (v2825 : BitVec 32) (k0_hw94 : k0_chk94 arg0 v1 v2825), ∀ (k0_h1 : k0_cond1 arg0 v1 = 1#1), ∀ a, (k0_off187 v2825) a + S8x128.size a ≤ S7688x256.size a := fun arg0 v1 v2825 k0_hw94 k0_h1 => k0_hw94.2.1 k0_h1
theorem k0_off188_inb : ∀ (arg0 : BitVec 32) (v1 : BitVec 32) (v2825 : BitVec 32) (k0_hw94 : k0_chk94 arg0 v1 v2825), ∀ (k0_h1 : k0_cond1 arg0 v1 = 1#1), ∀ a, (k0_off188 v2825) a + S8x128.size a ≤ S7688x256.size a := fun arg0 v1 v2825 k0_hw94 k0_h1 => k0_hw94.2.2 k0_h1

def k0_mult95 (v2855 : BitVec 32) : BitVec 32 :=
  let c1_i32_678 : BitVec 32 := 1#32
  let v2875 : BitVec 32 := Scalar.shrsi v2855 c1_i32_678
  v2875

def k0_off189 (v2855 : BitVec 32) : Fin 2 → Nat :=
  let c1_i32_678 : BitVec 32 := 1#32
  let v2875 : BitVec 32 := Scalar.shrsi v2855 c1_i32_678
  let v2876 : BitVec 32 := v2875
  let v2877 : Index := Scalar.indexCast v2876
  let c0_679 : Index := 0#32
  ![v2877.toNat, 0]
def k0_off190 (v2855 : BitVec 32) : Fin 2 → Nat :=
  let c1_i32_678 : BitVec 32 := 1#32
  let v2875 : BitVec 32 := Scalar.shrsi v2855 c1_i32_678
  let v2876 : BitVec 32 := v2875
  let v2881 : Index := Scalar.indexCast v2876
  let c128_680 : Index := 128#32
  ![v2881.toNat, 128]

def k0_chk95 (arg0 : BitVec 32) (v1 : BitVec 32) (v2855 : BitVec 32) : Prop :=
  (∀ (k0_h1 : k0_cond1 arg0 v1 = 1#1), 8 ∣ (k0_mult95 v2855).toNat) ∧
  (∀ (k0_h1 : k0_cond1 arg0 v1 = 1#1), ∀ a, (k0_off189 v2855) a + S8x128.size a ≤ S7688x256.size a) ∧
  (∀ (k0_h1 : k0_cond1 arg0 v1 = 1#1), ∀ a, (k0_off190 v2855) a + S8x128.size a ≤ S7688x256.size a)
theorem k0_mult95_dvd : ∀ (arg0 : BitVec 32) (v1 : BitVec 32) (v2855 : BitVec 32) (k0_hw95 : k0_chk95 arg0 v1 v2855), ∀ (k0_h1 : k0_cond1 arg0 v1 = 1#1), 8 ∣ (k0_mult95 v2855).toNat := fun arg0 v1 v2855 k0_hw95 k0_h1 => k0_hw95.1 k0_h1
theorem k0_off189_inb : ∀ (arg0 : BitVec 32) (v1 : BitVec 32) (v2855 : BitVec 32) (k0_hw95 : k0_chk95 arg0 v1 v2855), ∀ (k0_h1 : k0_cond1 arg0 v1 = 1#1), ∀ a, (k0_off189 v2855) a + S8x128.size a ≤ S7688x256.size a := fun arg0 v1 v2855 k0_hw95 k0_h1 => k0_hw95.2.1 k0_h1
theorem k0_off190_inb : ∀ (arg0 : BitVec 32) (v1 : BitVec 32) (v2855 : BitVec 32) (k0_hw95 : k0_chk95 arg0 v1 v2855), ∀ (k0_h1 : k0_cond1 arg0 v1 = 1#1), ∀ a, (k0_off190 v2855) a + S8x128.size a ≤ S7688x256.size a := fun arg0 v1 v2855 k0_hw95 k0_h1 => k0_hw95.2.2 k0_h1

def k0_mult96 (v2885 : BitVec 32) : BitVec 32 :=
  let c1_i32_685 : BitVec 32 := 1#32
  let v2905 : BitVec 32 := Scalar.shrsi v2885 c1_i32_685
  v2905

def k0_off191 (v2885 : BitVec 32) : Fin 2 → Nat :=
  let c1_i32_685 : BitVec 32 := 1#32
  let v2905 : BitVec 32 := Scalar.shrsi v2885 c1_i32_685
  let v2906 : BitVec 32 := v2905
  let v2907 : Index := Scalar.indexCast v2906
  let c0_686 : Index := 0#32
  ![v2907.toNat, 0]
def k0_off192 (v2885 : BitVec 32) : Fin 2 → Nat :=
  let c1_i32_685 : BitVec 32 := 1#32
  let v2905 : BitVec 32 := Scalar.shrsi v2885 c1_i32_685
  let v2906 : BitVec 32 := v2905
  let v2911 : Index := Scalar.indexCast v2906
  let c128_687 : Index := 128#32
  ![v2911.toNat, 128]

def k0_chk96 (arg0 : BitVec 32) (v1 : BitVec 32) (v2885 : BitVec 32) : Prop :=
  (∀ (k0_h1 : k0_cond1 arg0 v1 = 1#1), 8 ∣ (k0_mult96 v2885).toNat) ∧
  (∀ (k0_h1 : k0_cond1 arg0 v1 = 1#1), ∀ a, (k0_off191 v2885) a + S8x128.size a ≤ S7688x256.size a) ∧
  (∀ (k0_h1 : k0_cond1 arg0 v1 = 1#1), ∀ a, (k0_off192 v2885) a + S8x128.size a ≤ S7688x256.size a)
theorem k0_mult96_dvd : ∀ (arg0 : BitVec 32) (v1 : BitVec 32) (v2885 : BitVec 32) (k0_hw96 : k0_chk96 arg0 v1 v2885), ∀ (k0_h1 : k0_cond1 arg0 v1 = 1#1), 8 ∣ (k0_mult96 v2885).toNat := fun arg0 v1 v2885 k0_hw96 k0_h1 => k0_hw96.1 k0_h1
theorem k0_off191_inb : ∀ (arg0 : BitVec 32) (v1 : BitVec 32) (v2885 : BitVec 32) (k0_hw96 : k0_chk96 arg0 v1 v2885), ∀ (k0_h1 : k0_cond1 arg0 v1 = 1#1), ∀ a, (k0_off191 v2885) a + S8x128.size a ≤ S7688x256.size a := fun arg0 v1 v2885 k0_hw96 k0_h1 => k0_hw96.2.1 k0_h1
theorem k0_off192_inb : ∀ (arg0 : BitVec 32) (v1 : BitVec 32) (v2885 : BitVec 32) (k0_hw96 : k0_chk96 arg0 v1 v2885), ∀ (k0_h1 : k0_cond1 arg0 v1 = 1#1), ∀ a, (k0_off192 v2885) a + S8x128.size a ≤ S7688x256.size a := fun arg0 v1 v2885 k0_hw96 k0_h1 => k0_hw96.2.2 k0_h1

def k0_mult97 (v2915 : BitVec 32) : BitVec 32 :=
  let c1_i32_692 : BitVec 32 := 1#32
  let v2935 : BitVec 32 := Scalar.shrsi v2915 c1_i32_692
  v2935

def k0_off193 (v2915 : BitVec 32) : Fin 2 → Nat :=
  let c1_i32_692 : BitVec 32 := 1#32
  let v2935 : BitVec 32 := Scalar.shrsi v2915 c1_i32_692
  let v2936 : BitVec 32 := v2935
  let v2937 : Index := Scalar.indexCast v2936
  let c0_693 : Index := 0#32
  ![v2937.toNat, 0]
def k0_off194 (v2915 : BitVec 32) : Fin 2 → Nat :=
  let c1_i32_692 : BitVec 32 := 1#32
  let v2935 : BitVec 32 := Scalar.shrsi v2915 c1_i32_692
  let v2936 : BitVec 32 := v2935
  let v2941 : Index := Scalar.indexCast v2936
  let c128_694 : Index := 128#32
  ![v2941.toNat, 128]

def k0_chk97 (arg0 : BitVec 32) (v1 : BitVec 32) (v2915 : BitVec 32) : Prop :=
  (∀ (k0_h1 : k0_cond1 arg0 v1 = 1#1), 8 ∣ (k0_mult97 v2915).toNat) ∧
  (∀ (k0_h1 : k0_cond1 arg0 v1 = 1#1), ∀ a, (k0_off193 v2915) a + S8x128.size a ≤ S7688x256.size a) ∧
  (∀ (k0_h1 : k0_cond1 arg0 v1 = 1#1), ∀ a, (k0_off194 v2915) a + S8x128.size a ≤ S7688x256.size a)
theorem k0_mult97_dvd : ∀ (arg0 : BitVec 32) (v1 : BitVec 32) (v2915 : BitVec 32) (k0_hw97 : k0_chk97 arg0 v1 v2915), ∀ (k0_h1 : k0_cond1 arg0 v1 = 1#1), 8 ∣ (k0_mult97 v2915).toNat := fun arg0 v1 v2915 k0_hw97 k0_h1 => k0_hw97.1 k0_h1
theorem k0_off193_inb : ∀ (arg0 : BitVec 32) (v1 : BitVec 32) (v2915 : BitVec 32) (k0_hw97 : k0_chk97 arg0 v1 v2915), ∀ (k0_h1 : k0_cond1 arg0 v1 = 1#1), ∀ a, (k0_off193 v2915) a + S8x128.size a ≤ S7688x256.size a := fun arg0 v1 v2915 k0_hw97 k0_h1 => k0_hw97.2.1 k0_h1
theorem k0_off194_inb : ∀ (arg0 : BitVec 32) (v1 : BitVec 32) (v2915 : BitVec 32) (k0_hw97 : k0_chk97 arg0 v1 v2915), ∀ (k0_h1 : k0_cond1 arg0 v1 = 1#1), ∀ a, (k0_off194 v2915) a + S8x128.size a ≤ S7688x256.size a := fun arg0 v1 v2915 k0_hw97 k0_h1 => k0_hw97.2.2 k0_h1

def k0_mult98 (v2945 : BitVec 32) : BitVec 32 :=
  let c1_i32_699 : BitVec 32 := 1#32
  let v2965 : BitVec 32 := Scalar.shrsi v2945 c1_i32_699
  v2965

def k0_off195 (v2945 : BitVec 32) : Fin 2 → Nat :=
  let c1_i32_699 : BitVec 32 := 1#32
  let v2965 : BitVec 32 := Scalar.shrsi v2945 c1_i32_699
  let v2966 : BitVec 32 := v2965
  let v2967 : Index := Scalar.indexCast v2966
  let c0_700 : Index := 0#32
  ![v2967.toNat, 0]
def k0_off196 (v2945 : BitVec 32) : Fin 2 → Nat :=
  let c1_i32_699 : BitVec 32 := 1#32
  let v2965 : BitVec 32 := Scalar.shrsi v2945 c1_i32_699
  let v2966 : BitVec 32 := v2965
  let v2971 : Index := Scalar.indexCast v2966
  let c128_701 : Index := 128#32
  ![v2971.toNat, 128]

def k0_chk98 (arg0 : BitVec 32) (v1 : BitVec 32) (v2945 : BitVec 32) : Prop :=
  (∀ (k0_h1 : k0_cond1 arg0 v1 = 1#1), 8 ∣ (k0_mult98 v2945).toNat) ∧
  (∀ (k0_h1 : k0_cond1 arg0 v1 = 1#1), ∀ a, (k0_off195 v2945) a + S8x128.size a ≤ S7688x256.size a) ∧
  (∀ (k0_h1 : k0_cond1 arg0 v1 = 1#1), ∀ a, (k0_off196 v2945) a + S8x128.size a ≤ S7688x256.size a)
theorem k0_mult98_dvd : ∀ (arg0 : BitVec 32) (v1 : BitVec 32) (v2945 : BitVec 32) (k0_hw98 : k0_chk98 arg0 v1 v2945), ∀ (k0_h1 : k0_cond1 arg0 v1 = 1#1), 8 ∣ (k0_mult98 v2945).toNat := fun arg0 v1 v2945 k0_hw98 k0_h1 => k0_hw98.1 k0_h1
theorem k0_off195_inb : ∀ (arg0 : BitVec 32) (v1 : BitVec 32) (v2945 : BitVec 32) (k0_hw98 : k0_chk98 arg0 v1 v2945), ∀ (k0_h1 : k0_cond1 arg0 v1 = 1#1), ∀ a, (k0_off195 v2945) a + S8x128.size a ≤ S7688x256.size a := fun arg0 v1 v2945 k0_hw98 k0_h1 => k0_hw98.2.1 k0_h1
theorem k0_off196_inb : ∀ (arg0 : BitVec 32) (v1 : BitVec 32) (v2945 : BitVec 32) (k0_hw98 : k0_chk98 arg0 v1 v2945), ∀ (k0_h1 : k0_cond1 arg0 v1 = 1#1), ∀ a, (k0_off196 v2945) a + S8x128.size a ≤ S7688x256.size a := fun arg0 v1 v2945 k0_hw98 k0_h1 => k0_hw98.2.2 k0_h1

def k0_mult99 (v2975 : BitVec 32) : BitVec 32 :=
  let c1_i32_706 : BitVec 32 := 1#32
  let v2995 : BitVec 32 := Scalar.shrsi v2975 c1_i32_706
  v2995

def k0_off197 (v2975 : BitVec 32) : Fin 2 → Nat :=
  let c1_i32_706 : BitVec 32 := 1#32
  let v2995 : BitVec 32 := Scalar.shrsi v2975 c1_i32_706
  let v2996 : BitVec 32 := v2995
  let v2997 : Index := Scalar.indexCast v2996
  let c0_707 : Index := 0#32
  ![v2997.toNat, 0]
def k0_off198 (v2975 : BitVec 32) : Fin 2 → Nat :=
  let c1_i32_706 : BitVec 32 := 1#32
  let v2995 : BitVec 32 := Scalar.shrsi v2975 c1_i32_706
  let v2996 : BitVec 32 := v2995
  let v3001 : Index := Scalar.indexCast v2996
  let c128_708 : Index := 128#32
  ![v3001.toNat, 128]

def k0_chk99 (arg0 : BitVec 32) (v1 : BitVec 32) (v2975 : BitVec 32) : Prop :=
  (∀ (k0_h1 : k0_cond1 arg0 v1 = 1#1), 8 ∣ (k0_mult99 v2975).toNat) ∧
  (∀ (k0_h1 : k0_cond1 arg0 v1 = 1#1), ∀ a, (k0_off197 v2975) a + S8x128.size a ≤ S7688x256.size a) ∧
  (∀ (k0_h1 : k0_cond1 arg0 v1 = 1#1), ∀ a, (k0_off198 v2975) a + S8x128.size a ≤ S7688x256.size a)
theorem k0_mult99_dvd : ∀ (arg0 : BitVec 32) (v1 : BitVec 32) (v2975 : BitVec 32) (k0_hw99 : k0_chk99 arg0 v1 v2975), ∀ (k0_h1 : k0_cond1 arg0 v1 = 1#1), 8 ∣ (k0_mult99 v2975).toNat := fun arg0 v1 v2975 k0_hw99 k0_h1 => k0_hw99.1 k0_h1
theorem k0_off197_inb : ∀ (arg0 : BitVec 32) (v1 : BitVec 32) (v2975 : BitVec 32) (k0_hw99 : k0_chk99 arg0 v1 v2975), ∀ (k0_h1 : k0_cond1 arg0 v1 = 1#1), ∀ a, (k0_off197 v2975) a + S8x128.size a ≤ S7688x256.size a := fun arg0 v1 v2975 k0_hw99 k0_h1 => k0_hw99.2.1 k0_h1
theorem k0_off198_inb : ∀ (arg0 : BitVec 32) (v1 : BitVec 32) (v2975 : BitVec 32) (k0_hw99 : k0_chk99 arg0 v1 v2975), ∀ (k0_h1 : k0_cond1 arg0 v1 = 1#1), ∀ a, (k0_off198 v2975) a + S8x128.size a ≤ S7688x256.size a := fun arg0 v1 v2975 k0_hw99 k0_h1 => k0_hw99.2.2 k0_h1

def k0_mult100 (v3005 : BitVec 32) : BitVec 32 :=
  let c1_i32_713 : BitVec 32 := 1#32
  let v3025 : BitVec 32 := Scalar.shrsi v3005 c1_i32_713
  v3025

def k0_off199 (v3005 : BitVec 32) : Fin 2 → Nat :=
  let c1_i32_713 : BitVec 32 := 1#32
  let v3025 : BitVec 32 := Scalar.shrsi v3005 c1_i32_713
  let v3026 : BitVec 32 := v3025
  let v3027 : Index := Scalar.indexCast v3026
  let c0_714 : Index := 0#32
  ![v3027.toNat, 0]
def k0_off200 (v3005 : BitVec 32) : Fin 2 → Nat :=
  let c1_i32_713 : BitVec 32 := 1#32
  let v3025 : BitVec 32 := Scalar.shrsi v3005 c1_i32_713
  let v3026 : BitVec 32 := v3025
  let v3031 : Index := Scalar.indexCast v3026
  let c128_715 : Index := 128#32
  ![v3031.toNat, 128]

def k0_chk100 (arg0 : BitVec 32) (v1 : BitVec 32) (v3005 : BitVec 32) : Prop :=
  (∀ (k0_h1 : k0_cond1 arg0 v1 = 1#1), 8 ∣ (k0_mult100 v3005).toNat) ∧
  (∀ (k0_h1 : k0_cond1 arg0 v1 = 1#1), ∀ a, (k0_off199 v3005) a + S8x128.size a ≤ S7688x256.size a) ∧
  (∀ (k0_h1 : k0_cond1 arg0 v1 = 1#1), ∀ a, (k0_off200 v3005) a + S8x128.size a ≤ S7688x256.size a)
theorem k0_mult100_dvd : ∀ (arg0 : BitVec 32) (v1 : BitVec 32) (v3005 : BitVec 32) (k0_hw100 : k0_chk100 arg0 v1 v3005), ∀ (k0_h1 : k0_cond1 arg0 v1 = 1#1), 8 ∣ (k0_mult100 v3005).toNat := fun arg0 v1 v3005 k0_hw100 k0_h1 => k0_hw100.1 k0_h1
theorem k0_off199_inb : ∀ (arg0 : BitVec 32) (v1 : BitVec 32) (v3005 : BitVec 32) (k0_hw100 : k0_chk100 arg0 v1 v3005), ∀ (k0_h1 : k0_cond1 arg0 v1 = 1#1), ∀ a, (k0_off199 v3005) a + S8x128.size a ≤ S7688x256.size a := fun arg0 v1 v3005 k0_hw100 k0_h1 => k0_hw100.2.1 k0_h1
theorem k0_off200_inb : ∀ (arg0 : BitVec 32) (v1 : BitVec 32) (v3005 : BitVec 32) (k0_hw100 : k0_chk100 arg0 v1 v3005), ∀ (k0_h1 : k0_cond1 arg0 v1 = 1#1), ∀ a, (k0_off200 v3005) a + S8x128.size a ≤ S7688x256.size a := fun arg0 v1 v3005 k0_hw100 k0_h1 => k0_hw100.2.2 k0_h1

def k0_mult101 (v3035 : BitVec 32) : BitVec 32 :=
  let c1_i32_720 : BitVec 32 := 1#32
  let v3055 : BitVec 32 := Scalar.shrsi v3035 c1_i32_720
  v3055

def k0_off201 (v3035 : BitVec 32) : Fin 2 → Nat :=
  let c1_i32_720 : BitVec 32 := 1#32
  let v3055 : BitVec 32 := Scalar.shrsi v3035 c1_i32_720
  let v3056 : BitVec 32 := v3055
  let v3057 : Index := Scalar.indexCast v3056
  let c0_721 : Index := 0#32
  ![v3057.toNat, 0]
def k0_off202 (v3035 : BitVec 32) : Fin 2 → Nat :=
  let c1_i32_720 : BitVec 32 := 1#32
  let v3055 : BitVec 32 := Scalar.shrsi v3035 c1_i32_720
  let v3056 : BitVec 32 := v3055
  let v3061 : Index := Scalar.indexCast v3056
  let c128_722 : Index := 128#32
  ![v3061.toNat, 128]

def k0_chk101 (arg0 : BitVec 32) (v1 : BitVec 32) (v3035 : BitVec 32) : Prop :=
  (∀ (k0_h1 : k0_cond1 arg0 v1 = 1#1), 8 ∣ (k0_mult101 v3035).toNat) ∧
  (∀ (k0_h1 : k0_cond1 arg0 v1 = 1#1), ∀ a, (k0_off201 v3035) a + S8x128.size a ≤ S7688x256.size a) ∧
  (∀ (k0_h1 : k0_cond1 arg0 v1 = 1#1), ∀ a, (k0_off202 v3035) a + S8x128.size a ≤ S7688x256.size a)
theorem k0_mult101_dvd : ∀ (arg0 : BitVec 32) (v1 : BitVec 32) (v3035 : BitVec 32) (k0_hw101 : k0_chk101 arg0 v1 v3035), ∀ (k0_h1 : k0_cond1 arg0 v1 = 1#1), 8 ∣ (k0_mult101 v3035).toNat := fun arg0 v1 v3035 k0_hw101 k0_h1 => k0_hw101.1 k0_h1
theorem k0_off201_inb : ∀ (arg0 : BitVec 32) (v1 : BitVec 32) (v3035 : BitVec 32) (k0_hw101 : k0_chk101 arg0 v1 v3035), ∀ (k0_h1 : k0_cond1 arg0 v1 = 1#1), ∀ a, (k0_off201 v3035) a + S8x128.size a ≤ S7688x256.size a := fun arg0 v1 v3035 k0_hw101 k0_h1 => k0_hw101.2.1 k0_h1
theorem k0_off202_inb : ∀ (arg0 : BitVec 32) (v1 : BitVec 32) (v3035 : BitVec 32) (k0_hw101 : k0_chk101 arg0 v1 v3035), ∀ (k0_h1 : k0_cond1 arg0 v1 = 1#1), ∀ a, (k0_off202 v3035) a + S8x128.size a ≤ S7688x256.size a := fun arg0 v1 v3035 k0_hw101 k0_h1 => k0_hw101.2.2 k0_h1

def k0_mult102 (v3065 : BitVec 32) : BitVec 32 :=
  let c1_i32_727 : BitVec 32 := 1#32
  let v3085 : BitVec 32 := Scalar.shrsi v3065 c1_i32_727
  v3085

def k0_off203 (v3065 : BitVec 32) : Fin 2 → Nat :=
  let c1_i32_727 : BitVec 32 := 1#32
  let v3085 : BitVec 32 := Scalar.shrsi v3065 c1_i32_727
  let v3086 : BitVec 32 := v3085
  let v3087 : Index := Scalar.indexCast v3086
  let c0_728 : Index := 0#32
  ![v3087.toNat, 0]
def k0_off204 (v3065 : BitVec 32) : Fin 2 → Nat :=
  let c1_i32_727 : BitVec 32 := 1#32
  let v3085 : BitVec 32 := Scalar.shrsi v3065 c1_i32_727
  let v3086 : BitVec 32 := v3085
  let v3091 : Index := Scalar.indexCast v3086
  let c128_729 : Index := 128#32
  ![v3091.toNat, 128]

def k0_chk102 (arg0 : BitVec 32) (v1 : BitVec 32) (v3065 : BitVec 32) : Prop :=
  (∀ (k0_h1 : k0_cond1 arg0 v1 = 1#1), 8 ∣ (k0_mult102 v3065).toNat) ∧
  (∀ (k0_h1 : k0_cond1 arg0 v1 = 1#1), ∀ a, (k0_off203 v3065) a + S8x128.size a ≤ S7688x256.size a) ∧
  (∀ (k0_h1 : k0_cond1 arg0 v1 = 1#1), ∀ a, (k0_off204 v3065) a + S8x128.size a ≤ S7688x256.size a)
theorem k0_mult102_dvd : ∀ (arg0 : BitVec 32) (v1 : BitVec 32) (v3065 : BitVec 32) (k0_hw102 : k0_chk102 arg0 v1 v3065), ∀ (k0_h1 : k0_cond1 arg0 v1 = 1#1), 8 ∣ (k0_mult102 v3065).toNat := fun arg0 v1 v3065 k0_hw102 k0_h1 => k0_hw102.1 k0_h1
theorem k0_off203_inb : ∀ (arg0 : BitVec 32) (v1 : BitVec 32) (v3065 : BitVec 32) (k0_hw102 : k0_chk102 arg0 v1 v3065), ∀ (k0_h1 : k0_cond1 arg0 v1 = 1#1), ∀ a, (k0_off203 v3065) a + S8x128.size a ≤ S7688x256.size a := fun arg0 v1 v3065 k0_hw102 k0_h1 => k0_hw102.2.1 k0_h1
theorem k0_off204_inb : ∀ (arg0 : BitVec 32) (v1 : BitVec 32) (v3065 : BitVec 32) (k0_hw102 : k0_chk102 arg0 v1 v3065), ∀ (k0_h1 : k0_cond1 arg0 v1 = 1#1), ∀ a, (k0_off204 v3065) a + S8x128.size a ≤ S7688x256.size a := fun arg0 v1 v3065 k0_hw102 k0_h1 => k0_hw102.2.2 k0_h1

def k0_mult103 (v3095 : BitVec 32) : BitVec 32 :=
  let c1_i32_734 : BitVec 32 := 1#32
  let v3115 : BitVec 32 := Scalar.shrsi v3095 c1_i32_734
  v3115

def k0_off205 (v3095 : BitVec 32) : Fin 2 → Nat :=
  let c1_i32_734 : BitVec 32 := 1#32
  let v3115 : BitVec 32 := Scalar.shrsi v3095 c1_i32_734
  let v3116 : BitVec 32 := v3115
  let v3117 : Index := Scalar.indexCast v3116
  let c0_735 : Index := 0#32
  ![v3117.toNat, 0]
def k0_off206 (v3095 : BitVec 32) : Fin 2 → Nat :=
  let c1_i32_734 : BitVec 32 := 1#32
  let v3115 : BitVec 32 := Scalar.shrsi v3095 c1_i32_734
  let v3116 : BitVec 32 := v3115
  let v3121 : Index := Scalar.indexCast v3116
  let c128_736 : Index := 128#32
  ![v3121.toNat, 128]

def k0_chk103 (arg0 : BitVec 32) (v1 : BitVec 32) (v3095 : BitVec 32) : Prop :=
  (∀ (k0_h1 : k0_cond1 arg0 v1 = 1#1), 8 ∣ (k0_mult103 v3095).toNat) ∧
  (∀ (k0_h1 : k0_cond1 arg0 v1 = 1#1), ∀ a, (k0_off205 v3095) a + S8x128.size a ≤ S7688x256.size a) ∧
  (∀ (k0_h1 : k0_cond1 arg0 v1 = 1#1), ∀ a, (k0_off206 v3095) a + S8x128.size a ≤ S7688x256.size a)
theorem k0_mult103_dvd : ∀ (arg0 : BitVec 32) (v1 : BitVec 32) (v3095 : BitVec 32) (k0_hw103 : k0_chk103 arg0 v1 v3095), ∀ (k0_h1 : k0_cond1 arg0 v1 = 1#1), 8 ∣ (k0_mult103 v3095).toNat := fun arg0 v1 v3095 k0_hw103 k0_h1 => k0_hw103.1 k0_h1
theorem k0_off205_inb : ∀ (arg0 : BitVec 32) (v1 : BitVec 32) (v3095 : BitVec 32) (k0_hw103 : k0_chk103 arg0 v1 v3095), ∀ (k0_h1 : k0_cond1 arg0 v1 = 1#1), ∀ a, (k0_off205 v3095) a + S8x128.size a ≤ S7688x256.size a := fun arg0 v1 v3095 k0_hw103 k0_h1 => k0_hw103.2.1 k0_h1
theorem k0_off206_inb : ∀ (arg0 : BitVec 32) (v1 : BitVec 32) (v3095 : BitVec 32) (k0_hw103 : k0_chk103 arg0 v1 v3095), ∀ (k0_h1 : k0_cond1 arg0 v1 = 1#1), ∀ a, (k0_off206 v3095) a + S8x128.size a ≤ S7688x256.size a := fun arg0 v1 v3095 k0_hw103 k0_h1 => k0_hw103.2.2 k0_h1

def k0_mult104 (v3125 : BitVec 32) : BitVec 32 :=
  let c1_i32_741 : BitVec 32 := 1#32
  let v3145 : BitVec 32 := Scalar.shrsi v3125 c1_i32_741
  v3145

def k0_off207 (v3125 : BitVec 32) : Fin 2 → Nat :=
  let c1_i32_741 : BitVec 32 := 1#32
  let v3145 : BitVec 32 := Scalar.shrsi v3125 c1_i32_741
  let v3146 : BitVec 32 := v3145
  let v3147 : Index := Scalar.indexCast v3146
  let c0_742 : Index := 0#32
  ![v3147.toNat, 0]
def k0_off208 (v3125 : BitVec 32) : Fin 2 → Nat :=
  let c1_i32_741 : BitVec 32 := 1#32
  let v3145 : BitVec 32 := Scalar.shrsi v3125 c1_i32_741
  let v3146 : BitVec 32 := v3145
  let v3151 : Index := Scalar.indexCast v3146
  let c128_743 : Index := 128#32
  ![v3151.toNat, 128]

def k0_chk104 (arg0 : BitVec 32) (v1 : BitVec 32) (v3125 : BitVec 32) : Prop :=
  (∀ (k0_h1 : k0_cond1 arg0 v1 = 1#1), 8 ∣ (k0_mult104 v3125).toNat) ∧
  (∀ (k0_h1 : k0_cond1 arg0 v1 = 1#1), ∀ a, (k0_off207 v3125) a + S8x128.size a ≤ S7688x256.size a) ∧
  (∀ (k0_h1 : k0_cond1 arg0 v1 = 1#1), ∀ a, (k0_off208 v3125) a + S8x128.size a ≤ S7688x256.size a)
theorem k0_mult104_dvd : ∀ (arg0 : BitVec 32) (v1 : BitVec 32) (v3125 : BitVec 32) (k0_hw104 : k0_chk104 arg0 v1 v3125), ∀ (k0_h1 : k0_cond1 arg0 v1 = 1#1), 8 ∣ (k0_mult104 v3125).toNat := fun arg0 v1 v3125 k0_hw104 k0_h1 => k0_hw104.1 k0_h1
theorem k0_off207_inb : ∀ (arg0 : BitVec 32) (v1 : BitVec 32) (v3125 : BitVec 32) (k0_hw104 : k0_chk104 arg0 v1 v3125), ∀ (k0_h1 : k0_cond1 arg0 v1 = 1#1), ∀ a, (k0_off207 v3125) a + S8x128.size a ≤ S7688x256.size a := fun arg0 v1 v3125 k0_hw104 k0_h1 => k0_hw104.2.1 k0_h1
theorem k0_off208_inb : ∀ (arg0 : BitVec 32) (v1 : BitVec 32) (v3125 : BitVec 32) (k0_hw104 : k0_chk104 arg0 v1 v3125), ∀ (k0_h1 : k0_cond1 arg0 v1 = 1#1), ∀ a, (k0_off208 v3125) a + S8x128.size a ≤ S7688x256.size a := fun arg0 v1 v3125 k0_hw104 k0_h1 => k0_hw104.2.2 k0_h1

def k0_mult105 (v3155 : BitVec 32) : BitVec 32 :=
  let c1_i32_748 : BitVec 32 := 1#32
  let v3175 : BitVec 32 := Scalar.shrsi v3155 c1_i32_748
  v3175

def k0_off209 (v3155 : BitVec 32) : Fin 2 → Nat :=
  let c1_i32_748 : BitVec 32 := 1#32
  let v3175 : BitVec 32 := Scalar.shrsi v3155 c1_i32_748
  let v3176 : BitVec 32 := v3175
  let v3177 : Index := Scalar.indexCast v3176
  let c0_749 : Index := 0#32
  ![v3177.toNat, 0]
def k0_off210 (v3155 : BitVec 32) : Fin 2 → Nat :=
  let c1_i32_748 : BitVec 32 := 1#32
  let v3175 : BitVec 32 := Scalar.shrsi v3155 c1_i32_748
  let v3176 : BitVec 32 := v3175
  let v3181 : Index := Scalar.indexCast v3176
  let c128_750 : Index := 128#32
  ![v3181.toNat, 128]

def k0_chk105 (arg0 : BitVec 32) (v1 : BitVec 32) (v3155 : BitVec 32) : Prop :=
  (∀ (k0_h1 : k0_cond1 arg0 v1 = 1#1), 8 ∣ (k0_mult105 v3155).toNat) ∧
  (∀ (k0_h1 : k0_cond1 arg0 v1 = 1#1), ∀ a, (k0_off209 v3155) a + S8x128.size a ≤ S7688x256.size a) ∧
  (∀ (k0_h1 : k0_cond1 arg0 v1 = 1#1), ∀ a, (k0_off210 v3155) a + S8x128.size a ≤ S7688x256.size a)
theorem k0_mult105_dvd : ∀ (arg0 : BitVec 32) (v1 : BitVec 32) (v3155 : BitVec 32) (k0_hw105 : k0_chk105 arg0 v1 v3155), ∀ (k0_h1 : k0_cond1 arg0 v1 = 1#1), 8 ∣ (k0_mult105 v3155).toNat := fun arg0 v1 v3155 k0_hw105 k0_h1 => k0_hw105.1 k0_h1
theorem k0_off209_inb : ∀ (arg0 : BitVec 32) (v1 : BitVec 32) (v3155 : BitVec 32) (k0_hw105 : k0_chk105 arg0 v1 v3155), ∀ (k0_h1 : k0_cond1 arg0 v1 = 1#1), ∀ a, (k0_off209 v3155) a + S8x128.size a ≤ S7688x256.size a := fun arg0 v1 v3155 k0_hw105 k0_h1 => k0_hw105.2.1 k0_h1
theorem k0_off210_inb : ∀ (arg0 : BitVec 32) (v1 : BitVec 32) (v3155 : BitVec 32) (k0_hw105 : k0_chk105 arg0 v1 v3155), ∀ (k0_h1 : k0_cond1 arg0 v1 = 1#1), ∀ a, (k0_off210 v3155) a + S8x128.size a ≤ S7688x256.size a := fun arg0 v1 v3155 k0_hw105 k0_h1 => k0_hw105.2.2 k0_h1

def k0_mult106 (v3185 : BitVec 32) : BitVec 32 :=
  let c1_i32_755 : BitVec 32 := 1#32
  let v3205 : BitVec 32 := Scalar.shrsi v3185 c1_i32_755
  v3205

def k0_off211 (v3185 : BitVec 32) : Fin 2 → Nat :=
  let c1_i32_755 : BitVec 32 := 1#32
  let v3205 : BitVec 32 := Scalar.shrsi v3185 c1_i32_755
  let v3206 : BitVec 32 := v3205
  let v3207 : Index := Scalar.indexCast v3206
  let c0_756 : Index := 0#32
  ![v3207.toNat, 0]
def k0_off212 (v3185 : BitVec 32) : Fin 2 → Nat :=
  let c1_i32_755 : BitVec 32 := 1#32
  let v3205 : BitVec 32 := Scalar.shrsi v3185 c1_i32_755
  let v3206 : BitVec 32 := v3205
  let v3211 : Index := Scalar.indexCast v3206
  let c128_757 : Index := 128#32
  ![v3211.toNat, 128]

def k0_chk106 (arg0 : BitVec 32) (v1 : BitVec 32) (v3185 : BitVec 32) : Prop :=
  (∀ (k0_h1 : k0_cond1 arg0 v1 = 1#1), 8 ∣ (k0_mult106 v3185).toNat) ∧
  (∀ (k0_h1 : k0_cond1 arg0 v1 = 1#1), ∀ a, (k0_off211 v3185) a + S8x128.size a ≤ S7688x256.size a) ∧
  (∀ (k0_h1 : k0_cond1 arg0 v1 = 1#1), ∀ a, (k0_off212 v3185) a + S8x128.size a ≤ S7688x256.size a)
theorem k0_mult106_dvd : ∀ (arg0 : BitVec 32) (v1 : BitVec 32) (v3185 : BitVec 32) (k0_hw106 : k0_chk106 arg0 v1 v3185), ∀ (k0_h1 : k0_cond1 arg0 v1 = 1#1), 8 ∣ (k0_mult106 v3185).toNat := fun arg0 v1 v3185 k0_hw106 k0_h1 => k0_hw106.1 k0_h1
theorem k0_off211_inb : ∀ (arg0 : BitVec 32) (v1 : BitVec 32) (v3185 : BitVec 32) (k0_hw106 : k0_chk106 arg0 v1 v3185), ∀ (k0_h1 : k0_cond1 arg0 v1 = 1#1), ∀ a, (k0_off211 v3185) a + S8x128.size a ≤ S7688x256.size a := fun arg0 v1 v3185 k0_hw106 k0_h1 => k0_hw106.2.1 k0_h1
theorem k0_off212_inb : ∀ (arg0 : BitVec 32) (v1 : BitVec 32) (v3185 : BitVec 32) (k0_hw106 : k0_chk106 arg0 v1 v3185), ∀ (k0_h1 : k0_cond1 arg0 v1 = 1#1), ∀ a, (k0_off212 v3185) a + S8x128.size a ≤ S7688x256.size a := fun arg0 v1 v3185 k0_hw106 k0_h1 => k0_hw106.2.2 k0_h1

def k0_mult107 (v3215 : BitVec 32) : BitVec 32 :=
  let c1_i32_762 : BitVec 32 := 1#32
  let v3235 : BitVec 32 := Scalar.shrsi v3215 c1_i32_762
  v3235

def k0_off213 (v3215 : BitVec 32) : Fin 2 → Nat :=
  let c1_i32_762 : BitVec 32 := 1#32
  let v3235 : BitVec 32 := Scalar.shrsi v3215 c1_i32_762
  let v3236 : BitVec 32 := v3235
  let v3237 : Index := Scalar.indexCast v3236
  let c0_763 : Index := 0#32
  ![v3237.toNat, 0]
def k0_off214 (v3215 : BitVec 32) : Fin 2 → Nat :=
  let c1_i32_762 : BitVec 32 := 1#32
  let v3235 : BitVec 32 := Scalar.shrsi v3215 c1_i32_762
  let v3236 : BitVec 32 := v3235
  let v3241 : Index := Scalar.indexCast v3236
  let c128_764 : Index := 128#32
  ![v3241.toNat, 128]

def k0_chk107 (arg0 : BitVec 32) (v1 : BitVec 32) (v3215 : BitVec 32) : Prop :=
  (∀ (k0_h1 : k0_cond1 arg0 v1 = 1#1), 8 ∣ (k0_mult107 v3215).toNat) ∧
  (∀ (k0_h1 : k0_cond1 arg0 v1 = 1#1), ∀ a, (k0_off213 v3215) a + S8x128.size a ≤ S7688x256.size a) ∧
  (∀ (k0_h1 : k0_cond1 arg0 v1 = 1#1), ∀ a, (k0_off214 v3215) a + S8x128.size a ≤ S7688x256.size a)
theorem k0_mult107_dvd : ∀ (arg0 : BitVec 32) (v1 : BitVec 32) (v3215 : BitVec 32) (k0_hw107 : k0_chk107 arg0 v1 v3215), ∀ (k0_h1 : k0_cond1 arg0 v1 = 1#1), 8 ∣ (k0_mult107 v3215).toNat := fun arg0 v1 v3215 k0_hw107 k0_h1 => k0_hw107.1 k0_h1
theorem k0_off213_inb : ∀ (arg0 : BitVec 32) (v1 : BitVec 32) (v3215 : BitVec 32) (k0_hw107 : k0_chk107 arg0 v1 v3215), ∀ (k0_h1 : k0_cond1 arg0 v1 = 1#1), ∀ a, (k0_off213 v3215) a + S8x128.size a ≤ S7688x256.size a := fun arg0 v1 v3215 k0_hw107 k0_h1 => k0_hw107.2.1 k0_h1
theorem k0_off214_inb : ∀ (arg0 : BitVec 32) (v1 : BitVec 32) (v3215 : BitVec 32) (k0_hw107 : k0_chk107 arg0 v1 v3215), ∀ (k0_h1 : k0_cond1 arg0 v1 = 1#1), ∀ a, (k0_off214 v3215) a + S8x128.size a ≤ S7688x256.size a := fun arg0 v1 v3215 k0_hw107 k0_h1 => k0_hw107.2.2 k0_h1

def k0_mult108 (v3245 : BitVec 32) : BitVec 32 :=
  let c1_i32_769 : BitVec 32 := 1#32
  let v3265 : BitVec 32 := Scalar.shrsi v3245 c1_i32_769
  v3265

def k0_off215 (v3245 : BitVec 32) : Fin 2 → Nat :=
  let c1_i32_769 : BitVec 32 := 1#32
  let v3265 : BitVec 32 := Scalar.shrsi v3245 c1_i32_769
  let v3266 : BitVec 32 := v3265
  let v3267 : Index := Scalar.indexCast v3266
  let c0_770 : Index := 0#32
  ![v3267.toNat, 0]
def k0_off216 (v3245 : BitVec 32) : Fin 2 → Nat :=
  let c1_i32_769 : BitVec 32 := 1#32
  let v3265 : BitVec 32 := Scalar.shrsi v3245 c1_i32_769
  let v3266 : BitVec 32 := v3265
  let v3271 : Index := Scalar.indexCast v3266
  let c128_771 : Index := 128#32
  ![v3271.toNat, 128]

def k0_chk108 (arg0 : BitVec 32) (v1 : BitVec 32) (v3245 : BitVec 32) : Prop :=
  (∀ (k0_h1 : k0_cond1 arg0 v1 = 1#1), 8 ∣ (k0_mult108 v3245).toNat) ∧
  (∀ (k0_h1 : k0_cond1 arg0 v1 = 1#1), ∀ a, (k0_off215 v3245) a + S8x128.size a ≤ S7688x256.size a) ∧
  (∀ (k0_h1 : k0_cond1 arg0 v1 = 1#1), ∀ a, (k0_off216 v3245) a + S8x128.size a ≤ S7688x256.size a)
theorem k0_mult108_dvd : ∀ (arg0 : BitVec 32) (v1 : BitVec 32) (v3245 : BitVec 32) (k0_hw108 : k0_chk108 arg0 v1 v3245), ∀ (k0_h1 : k0_cond1 arg0 v1 = 1#1), 8 ∣ (k0_mult108 v3245).toNat := fun arg0 v1 v3245 k0_hw108 k0_h1 => k0_hw108.1 k0_h1
theorem k0_off215_inb : ∀ (arg0 : BitVec 32) (v1 : BitVec 32) (v3245 : BitVec 32) (k0_hw108 : k0_chk108 arg0 v1 v3245), ∀ (k0_h1 : k0_cond1 arg0 v1 = 1#1), ∀ a, (k0_off215 v3245) a + S8x128.size a ≤ S7688x256.size a := fun arg0 v1 v3245 k0_hw108 k0_h1 => k0_hw108.2.1 k0_h1
theorem k0_off216_inb : ∀ (arg0 : BitVec 32) (v1 : BitVec 32) (v3245 : BitVec 32) (k0_hw108 : k0_chk108 arg0 v1 v3245), ∀ (k0_h1 : k0_cond1 arg0 v1 = 1#1), ∀ a, (k0_off216 v3245) a + S8x128.size a ≤ S7688x256.size a := fun arg0 v1 v3245 k0_hw108 k0_h1 => k0_hw108.2.2 k0_h1

def k0_mult109 (v3275 : BitVec 32) : BitVec 32 :=
  let c1_i32_776 : BitVec 32 := 1#32
  let v3295 : BitVec 32 := Scalar.shrsi v3275 c1_i32_776
  v3295

def k0_off217 (v3275 : BitVec 32) : Fin 2 → Nat :=
  let c1_i32_776 : BitVec 32 := 1#32
  let v3295 : BitVec 32 := Scalar.shrsi v3275 c1_i32_776
  let v3296 : BitVec 32 := v3295
  let v3297 : Index := Scalar.indexCast v3296
  let c0_777 : Index := 0#32
  ![v3297.toNat, 0]
def k0_off218 (v3275 : BitVec 32) : Fin 2 → Nat :=
  let c1_i32_776 : BitVec 32 := 1#32
  let v3295 : BitVec 32 := Scalar.shrsi v3275 c1_i32_776
  let v3296 : BitVec 32 := v3295
  let v3301 : Index := Scalar.indexCast v3296
  let c128_778 : Index := 128#32
  ![v3301.toNat, 128]

def k0_chk109 (arg0 : BitVec 32) (v1 : BitVec 32) (v3275 : BitVec 32) : Prop :=
  (∀ (k0_h1 : k0_cond1 arg0 v1 = 1#1), 8 ∣ (k0_mult109 v3275).toNat) ∧
  (∀ (k0_h1 : k0_cond1 arg0 v1 = 1#1), ∀ a, (k0_off217 v3275) a + S8x128.size a ≤ S7688x256.size a) ∧
  (∀ (k0_h1 : k0_cond1 arg0 v1 = 1#1), ∀ a, (k0_off218 v3275) a + S8x128.size a ≤ S7688x256.size a)
theorem k0_mult109_dvd : ∀ (arg0 : BitVec 32) (v1 : BitVec 32) (v3275 : BitVec 32) (k0_hw109 : k0_chk109 arg0 v1 v3275), ∀ (k0_h1 : k0_cond1 arg0 v1 = 1#1), 8 ∣ (k0_mult109 v3275).toNat := fun arg0 v1 v3275 k0_hw109 k0_h1 => k0_hw109.1 k0_h1
theorem k0_off217_inb : ∀ (arg0 : BitVec 32) (v1 : BitVec 32) (v3275 : BitVec 32) (k0_hw109 : k0_chk109 arg0 v1 v3275), ∀ (k0_h1 : k0_cond1 arg0 v1 = 1#1), ∀ a, (k0_off217 v3275) a + S8x128.size a ≤ S7688x256.size a := fun arg0 v1 v3275 k0_hw109 k0_h1 => k0_hw109.2.1 k0_h1
theorem k0_off218_inb : ∀ (arg0 : BitVec 32) (v1 : BitVec 32) (v3275 : BitVec 32) (k0_hw109 : k0_chk109 arg0 v1 v3275), ∀ (k0_h1 : k0_cond1 arg0 v1 = 1#1), ∀ a, (k0_off218 v3275) a + S8x128.size a ≤ S7688x256.size a := fun arg0 v1 v3275 k0_hw109 k0_h1 => k0_hw109.2.2 k0_h1

def k0_mult110 (v3305 : BitVec 32) : BitVec 32 :=
  let c1_i32_783 : BitVec 32 := 1#32
  let v3325 : BitVec 32 := Scalar.shrsi v3305 c1_i32_783
  v3325

def k0_off219 (v3305 : BitVec 32) : Fin 2 → Nat :=
  let c1_i32_783 : BitVec 32 := 1#32
  let v3325 : BitVec 32 := Scalar.shrsi v3305 c1_i32_783
  let v3326 : BitVec 32 := v3325
  let v3327 : Index := Scalar.indexCast v3326
  let c0_784 : Index := 0#32
  ![v3327.toNat, 0]
def k0_off220 (v3305 : BitVec 32) : Fin 2 → Nat :=
  let c1_i32_783 : BitVec 32 := 1#32
  let v3325 : BitVec 32 := Scalar.shrsi v3305 c1_i32_783
  let v3326 : BitVec 32 := v3325
  let v3331 : Index := Scalar.indexCast v3326
  let c128_785 : Index := 128#32
  ![v3331.toNat, 128]

def k0_chk110 (arg0 : BitVec 32) (v1 : BitVec 32) (v3305 : BitVec 32) : Prop :=
  (∀ (k0_h1 : k0_cond1 arg0 v1 = 1#1), 8 ∣ (k0_mult110 v3305).toNat) ∧
  (∀ (k0_h1 : k0_cond1 arg0 v1 = 1#1), ∀ a, (k0_off219 v3305) a + S8x128.size a ≤ S7688x256.size a) ∧
  (∀ (k0_h1 : k0_cond1 arg0 v1 = 1#1), ∀ a, (k0_off220 v3305) a + S8x128.size a ≤ S7688x256.size a)
theorem k0_mult110_dvd : ∀ (arg0 : BitVec 32) (v1 : BitVec 32) (v3305 : BitVec 32) (k0_hw110 : k0_chk110 arg0 v1 v3305), ∀ (k0_h1 : k0_cond1 arg0 v1 = 1#1), 8 ∣ (k0_mult110 v3305).toNat := fun arg0 v1 v3305 k0_hw110 k0_h1 => k0_hw110.1 k0_h1
theorem k0_off219_inb : ∀ (arg0 : BitVec 32) (v1 : BitVec 32) (v3305 : BitVec 32) (k0_hw110 : k0_chk110 arg0 v1 v3305), ∀ (k0_h1 : k0_cond1 arg0 v1 = 1#1), ∀ a, (k0_off219 v3305) a + S8x128.size a ≤ S7688x256.size a := fun arg0 v1 v3305 k0_hw110 k0_h1 => k0_hw110.2.1 k0_h1
theorem k0_off220_inb : ∀ (arg0 : BitVec 32) (v1 : BitVec 32) (v3305 : BitVec 32) (k0_hw110 : k0_chk110 arg0 v1 v3305), ∀ (k0_h1 : k0_cond1 arg0 v1 = 1#1), ∀ a, (k0_off220 v3305) a + S8x128.size a ≤ S7688x256.size a := fun arg0 v1 v3305 k0_hw110 k0_h1 => k0_hw110.2.2 k0_h1

def k0_mult111 (v3335 : BitVec 32) : BitVec 32 :=
  let c1_i32_790 : BitVec 32 := 1#32
  let v3355 : BitVec 32 := Scalar.shrsi v3335 c1_i32_790
  v3355

def k0_off221 (v3335 : BitVec 32) : Fin 2 → Nat :=
  let c1_i32_790 : BitVec 32 := 1#32
  let v3355 : BitVec 32 := Scalar.shrsi v3335 c1_i32_790
  let v3356 : BitVec 32 := v3355
  let v3357 : Index := Scalar.indexCast v3356
  let c0_791 : Index := 0#32
  ![v3357.toNat, 0]
def k0_off222 (v3335 : BitVec 32) : Fin 2 → Nat :=
  let c1_i32_790 : BitVec 32 := 1#32
  let v3355 : BitVec 32 := Scalar.shrsi v3335 c1_i32_790
  let v3356 : BitVec 32 := v3355
  let v3361 : Index := Scalar.indexCast v3356
  let c128_792 : Index := 128#32
  ![v3361.toNat, 128]

def k0_chk111 (arg0 : BitVec 32) (v1 : BitVec 32) (v3335 : BitVec 32) : Prop :=
  (∀ (k0_h1 : k0_cond1 arg0 v1 = 1#1), 8 ∣ (k0_mult111 v3335).toNat) ∧
  (∀ (k0_h1 : k0_cond1 arg0 v1 = 1#1), ∀ a, (k0_off221 v3335) a + S8x128.size a ≤ S7688x256.size a) ∧
  (∀ (k0_h1 : k0_cond1 arg0 v1 = 1#1), ∀ a, (k0_off222 v3335) a + S8x128.size a ≤ S7688x256.size a)
theorem k0_mult111_dvd : ∀ (arg0 : BitVec 32) (v1 : BitVec 32) (v3335 : BitVec 32) (k0_hw111 : k0_chk111 arg0 v1 v3335), ∀ (k0_h1 : k0_cond1 arg0 v1 = 1#1), 8 ∣ (k0_mult111 v3335).toNat := fun arg0 v1 v3335 k0_hw111 k0_h1 => k0_hw111.1 k0_h1
theorem k0_off221_inb : ∀ (arg0 : BitVec 32) (v1 : BitVec 32) (v3335 : BitVec 32) (k0_hw111 : k0_chk111 arg0 v1 v3335), ∀ (k0_h1 : k0_cond1 arg0 v1 = 1#1), ∀ a, (k0_off221 v3335) a + S8x128.size a ≤ S7688x256.size a := fun arg0 v1 v3335 k0_hw111 k0_h1 => k0_hw111.2.1 k0_h1
theorem k0_off222_inb : ∀ (arg0 : BitVec 32) (v1 : BitVec 32) (v3335 : BitVec 32) (k0_hw111 : k0_chk111 arg0 v1 v3335), ∀ (k0_h1 : k0_cond1 arg0 v1 = 1#1), ∀ a, (k0_off222 v3335) a + S8x128.size a ≤ S7688x256.size a := fun arg0 v1 v3335 k0_hw111 k0_h1 => k0_hw111.2.2 k0_h1

def k0_mult112 (v3365 : BitVec 32) : BitVec 32 :=
  let c1_i32_797 : BitVec 32 := 1#32
  let v3385 : BitVec 32 := Scalar.shrsi v3365 c1_i32_797
  v3385

def k0_off223 (v3365 : BitVec 32) : Fin 2 → Nat :=
  let c1_i32_797 : BitVec 32 := 1#32
  let v3385 : BitVec 32 := Scalar.shrsi v3365 c1_i32_797
  let v3386 : BitVec 32 := v3385
  let v3387 : Index := Scalar.indexCast v3386
  let c0_798 : Index := 0#32
  ![v3387.toNat, 0]
def k0_off224 (v3365 : BitVec 32) : Fin 2 → Nat :=
  let c1_i32_797 : BitVec 32 := 1#32
  let v3385 : BitVec 32 := Scalar.shrsi v3365 c1_i32_797
  let v3386 : BitVec 32 := v3385
  let v3391 : Index := Scalar.indexCast v3386
  let c128_799 : Index := 128#32
  ![v3391.toNat, 128]

def k0_chk112 (arg0 : BitVec 32) (v1 : BitVec 32) (v3365 : BitVec 32) : Prop :=
  (∀ (k0_h1 : k0_cond1 arg0 v1 = 1#1), 8 ∣ (k0_mult112 v3365).toNat) ∧
  (∀ (k0_h1 : k0_cond1 arg0 v1 = 1#1), ∀ a, (k0_off223 v3365) a + S8x128.size a ≤ S7688x256.size a) ∧
  (∀ (k0_h1 : k0_cond1 arg0 v1 = 1#1), ∀ a, (k0_off224 v3365) a + S8x128.size a ≤ S7688x256.size a)
theorem k0_mult112_dvd : ∀ (arg0 : BitVec 32) (v1 : BitVec 32) (v3365 : BitVec 32) (k0_hw112 : k0_chk112 arg0 v1 v3365), ∀ (k0_h1 : k0_cond1 arg0 v1 = 1#1), 8 ∣ (k0_mult112 v3365).toNat := fun arg0 v1 v3365 k0_hw112 k0_h1 => k0_hw112.1 k0_h1
theorem k0_off223_inb : ∀ (arg0 : BitVec 32) (v1 : BitVec 32) (v3365 : BitVec 32) (k0_hw112 : k0_chk112 arg0 v1 v3365), ∀ (k0_h1 : k0_cond1 arg0 v1 = 1#1), ∀ a, (k0_off223 v3365) a + S8x128.size a ≤ S7688x256.size a := fun arg0 v1 v3365 k0_hw112 k0_h1 => k0_hw112.2.1 k0_h1
theorem k0_off224_inb : ∀ (arg0 : BitVec 32) (v1 : BitVec 32) (v3365 : BitVec 32) (k0_hw112 : k0_chk112 arg0 v1 v3365), ∀ (k0_h1 : k0_cond1 arg0 v1 = 1#1), ∀ a, (k0_off224 v3365) a + S8x128.size a ≤ S7688x256.size a := fun arg0 v1 v3365 k0_hw112 k0_h1 => k0_hw112.2.2 k0_h1

def k0_mult113 (v3395 : BitVec 32) : BitVec 32 :=
  let c1_i32_804 : BitVec 32 := 1#32
  let v3415 : BitVec 32 := Scalar.shrsi v3395 c1_i32_804
  v3415

def k0_off225 (v3395 : BitVec 32) : Fin 2 → Nat :=
  let c1_i32_804 : BitVec 32 := 1#32
  let v3415 : BitVec 32 := Scalar.shrsi v3395 c1_i32_804
  let v3416 : BitVec 32 := v3415
  let v3417 : Index := Scalar.indexCast v3416
  let c0_805 : Index := 0#32
  ![v3417.toNat, 0]
def k0_off226 (v3395 : BitVec 32) : Fin 2 → Nat :=
  let c1_i32_804 : BitVec 32 := 1#32
  let v3415 : BitVec 32 := Scalar.shrsi v3395 c1_i32_804
  let v3416 : BitVec 32 := v3415
  let v3421 : Index := Scalar.indexCast v3416
  let c128_806 : Index := 128#32
  ![v3421.toNat, 128]

def k0_chk113 (arg0 : BitVec 32) (v1 : BitVec 32) (v3395 : BitVec 32) : Prop :=
  (∀ (k0_h1 : k0_cond1 arg0 v1 = 1#1), 8 ∣ (k0_mult113 v3395).toNat) ∧
  (∀ (k0_h1 : k0_cond1 arg0 v1 = 1#1), ∀ a, (k0_off225 v3395) a + S8x128.size a ≤ S7688x256.size a) ∧
  (∀ (k0_h1 : k0_cond1 arg0 v1 = 1#1), ∀ a, (k0_off226 v3395) a + S8x128.size a ≤ S7688x256.size a)
theorem k0_mult113_dvd : ∀ (arg0 : BitVec 32) (v1 : BitVec 32) (v3395 : BitVec 32) (k0_hw113 : k0_chk113 arg0 v1 v3395), ∀ (k0_h1 : k0_cond1 arg0 v1 = 1#1), 8 ∣ (k0_mult113 v3395).toNat := fun arg0 v1 v3395 k0_hw113 k0_h1 => k0_hw113.1 k0_h1
theorem k0_off225_inb : ∀ (arg0 : BitVec 32) (v1 : BitVec 32) (v3395 : BitVec 32) (k0_hw113 : k0_chk113 arg0 v1 v3395), ∀ (k0_h1 : k0_cond1 arg0 v1 = 1#1), ∀ a, (k0_off225 v3395) a + S8x128.size a ≤ S7688x256.size a := fun arg0 v1 v3395 k0_hw113 k0_h1 => k0_hw113.2.1 k0_h1
theorem k0_off226_inb : ∀ (arg0 : BitVec 32) (v1 : BitVec 32) (v3395 : BitVec 32) (k0_hw113 : k0_chk113 arg0 v1 v3395), ∀ (k0_h1 : k0_cond1 arg0 v1 = 1#1), ∀ a, (k0_off226 v3395) a + S8x128.size a ≤ S7688x256.size a := fun arg0 v1 v3395 k0_hw113 k0_h1 => k0_hw113.2.2 k0_h1

def k0_mult114 (v3425 : BitVec 32) : BitVec 32 :=
  let c1_i32_811 : BitVec 32 := 1#32
  let v3445 : BitVec 32 := Scalar.shrsi v3425 c1_i32_811
  v3445

def k0_off227 (v3425 : BitVec 32) : Fin 2 → Nat :=
  let c1_i32_811 : BitVec 32 := 1#32
  let v3445 : BitVec 32 := Scalar.shrsi v3425 c1_i32_811
  let v3446 : BitVec 32 := v3445
  let v3447 : Index := Scalar.indexCast v3446
  let c0_812 : Index := 0#32
  ![v3447.toNat, 0]
def k0_off228 (v3425 : BitVec 32) : Fin 2 → Nat :=
  let c1_i32_811 : BitVec 32 := 1#32
  let v3445 : BitVec 32 := Scalar.shrsi v3425 c1_i32_811
  let v3446 : BitVec 32 := v3445
  let v3451 : Index := Scalar.indexCast v3446
  let c128_813 : Index := 128#32
  ![v3451.toNat, 128]

def k0_chk114 (arg0 : BitVec 32) (v1 : BitVec 32) (v3425 : BitVec 32) : Prop :=
  (∀ (k0_h1 : k0_cond1 arg0 v1 = 1#1), 8 ∣ (k0_mult114 v3425).toNat) ∧
  (∀ (k0_h1 : k0_cond1 arg0 v1 = 1#1), ∀ a, (k0_off227 v3425) a + S8x128.size a ≤ S7688x256.size a) ∧
  (∀ (k0_h1 : k0_cond1 arg0 v1 = 1#1), ∀ a, (k0_off228 v3425) a + S8x128.size a ≤ S7688x256.size a)
theorem k0_mult114_dvd : ∀ (arg0 : BitVec 32) (v1 : BitVec 32) (v3425 : BitVec 32) (k0_hw114 : k0_chk114 arg0 v1 v3425), ∀ (k0_h1 : k0_cond1 arg0 v1 = 1#1), 8 ∣ (k0_mult114 v3425).toNat := fun arg0 v1 v3425 k0_hw114 k0_h1 => k0_hw114.1 k0_h1
theorem k0_off227_inb : ∀ (arg0 : BitVec 32) (v1 : BitVec 32) (v3425 : BitVec 32) (k0_hw114 : k0_chk114 arg0 v1 v3425), ∀ (k0_h1 : k0_cond1 arg0 v1 = 1#1), ∀ a, (k0_off227 v3425) a + S8x128.size a ≤ S7688x256.size a := fun arg0 v1 v3425 k0_hw114 k0_h1 => k0_hw114.2.1 k0_h1
theorem k0_off228_inb : ∀ (arg0 : BitVec 32) (v1 : BitVec 32) (v3425 : BitVec 32) (k0_hw114 : k0_chk114 arg0 v1 v3425), ∀ (k0_h1 : k0_cond1 arg0 v1 = 1#1), ∀ a, (k0_off228 v3425) a + S8x128.size a ≤ S7688x256.size a := fun arg0 v1 v3425 k0_hw114 k0_h1 => k0_hw114.2.2 k0_h1

def k0_mult115 (v3455 : BitVec 32) : BitVec 32 :=
  let c1_i32_818 : BitVec 32 := 1#32
  let v3475 : BitVec 32 := Scalar.shrsi v3455 c1_i32_818
  v3475

def k0_off229 (v3455 : BitVec 32) : Fin 2 → Nat :=
  let c1_i32_818 : BitVec 32 := 1#32
  let v3475 : BitVec 32 := Scalar.shrsi v3455 c1_i32_818
  let v3476 : BitVec 32 := v3475
  let v3477 : Index := Scalar.indexCast v3476
  let c0_819 : Index := 0#32
  ![v3477.toNat, 0]
def k0_off230 (v3455 : BitVec 32) : Fin 2 → Nat :=
  let c1_i32_818 : BitVec 32 := 1#32
  let v3475 : BitVec 32 := Scalar.shrsi v3455 c1_i32_818
  let v3476 : BitVec 32 := v3475
  let v3481 : Index := Scalar.indexCast v3476
  let c128_820 : Index := 128#32
  ![v3481.toNat, 128]

def k0_chk115 (arg0 : BitVec 32) (v1 : BitVec 32) (v3455 : BitVec 32) : Prop :=
  (∀ (k0_h1 : k0_cond1 arg0 v1 = 1#1), 8 ∣ (k0_mult115 v3455).toNat) ∧
  (∀ (k0_h1 : k0_cond1 arg0 v1 = 1#1), ∀ a, (k0_off229 v3455) a + S8x128.size a ≤ S7688x256.size a) ∧
  (∀ (k0_h1 : k0_cond1 arg0 v1 = 1#1), ∀ a, (k0_off230 v3455) a + S8x128.size a ≤ S7688x256.size a)
theorem k0_mult115_dvd : ∀ (arg0 : BitVec 32) (v1 : BitVec 32) (v3455 : BitVec 32) (k0_hw115 : k0_chk115 arg0 v1 v3455), ∀ (k0_h1 : k0_cond1 arg0 v1 = 1#1), 8 ∣ (k0_mult115 v3455).toNat := fun arg0 v1 v3455 k0_hw115 k0_h1 => k0_hw115.1 k0_h1
theorem k0_off229_inb : ∀ (arg0 : BitVec 32) (v1 : BitVec 32) (v3455 : BitVec 32) (k0_hw115 : k0_chk115 arg0 v1 v3455), ∀ (k0_h1 : k0_cond1 arg0 v1 = 1#1), ∀ a, (k0_off229 v3455) a + S8x128.size a ≤ S7688x256.size a := fun arg0 v1 v3455 k0_hw115 k0_h1 => k0_hw115.2.1 k0_h1
theorem k0_off230_inb : ∀ (arg0 : BitVec 32) (v1 : BitVec 32) (v3455 : BitVec 32) (k0_hw115 : k0_chk115 arg0 v1 v3455), ∀ (k0_h1 : k0_cond1 arg0 v1 = 1#1), ∀ a, (k0_off230 v3455) a + S8x128.size a ≤ S7688x256.size a := fun arg0 v1 v3455 k0_hw115 k0_h1 => k0_hw115.2.2 k0_h1

def k0_mult116 (v3485 : BitVec 32) : BitVec 32 :=
  let c1_i32_825 : BitVec 32 := 1#32
  let v3505 : BitVec 32 := Scalar.shrsi v3485 c1_i32_825
  v3505

def k0_off231 (v3485 : BitVec 32) : Fin 2 → Nat :=
  let c1_i32_825 : BitVec 32 := 1#32
  let v3505 : BitVec 32 := Scalar.shrsi v3485 c1_i32_825
  let v3506 : BitVec 32 := v3505
  let v3507 : Index := Scalar.indexCast v3506
  let c0_826 : Index := 0#32
  ![v3507.toNat, 0]
def k0_off232 (v3485 : BitVec 32) : Fin 2 → Nat :=
  let c1_i32_825 : BitVec 32 := 1#32
  let v3505 : BitVec 32 := Scalar.shrsi v3485 c1_i32_825
  let v3506 : BitVec 32 := v3505
  let v3511 : Index := Scalar.indexCast v3506
  let c128_827 : Index := 128#32
  ![v3511.toNat, 128]

def k0_chk116 (arg0 : BitVec 32) (v1 : BitVec 32) (v3485 : BitVec 32) : Prop :=
  (∀ (k0_h1 : k0_cond1 arg0 v1 = 1#1), 8 ∣ (k0_mult116 v3485).toNat) ∧
  (∀ (k0_h1 : k0_cond1 arg0 v1 = 1#1), ∀ a, (k0_off231 v3485) a + S8x128.size a ≤ S7688x256.size a) ∧
  (∀ (k0_h1 : k0_cond1 arg0 v1 = 1#1), ∀ a, (k0_off232 v3485) a + S8x128.size a ≤ S7688x256.size a)
theorem k0_mult116_dvd : ∀ (arg0 : BitVec 32) (v1 : BitVec 32) (v3485 : BitVec 32) (k0_hw116 : k0_chk116 arg0 v1 v3485), ∀ (k0_h1 : k0_cond1 arg0 v1 = 1#1), 8 ∣ (k0_mult116 v3485).toNat := fun arg0 v1 v3485 k0_hw116 k0_h1 => k0_hw116.1 k0_h1
theorem k0_off231_inb : ∀ (arg0 : BitVec 32) (v1 : BitVec 32) (v3485 : BitVec 32) (k0_hw116 : k0_chk116 arg0 v1 v3485), ∀ (k0_h1 : k0_cond1 arg0 v1 = 1#1), ∀ a, (k0_off231 v3485) a + S8x128.size a ≤ S7688x256.size a := fun arg0 v1 v3485 k0_hw116 k0_h1 => k0_hw116.2.1 k0_h1
theorem k0_off232_inb : ∀ (arg0 : BitVec 32) (v1 : BitVec 32) (v3485 : BitVec 32) (k0_hw116 : k0_chk116 arg0 v1 v3485), ∀ (k0_h1 : k0_cond1 arg0 v1 = 1#1), ∀ a, (k0_off232 v3485) a + S8x128.size a ≤ S7688x256.size a := fun arg0 v1 v3485 k0_hw116 k0_h1 => k0_hw116.2.2 k0_h1

def k0_mult117 (v3515 : BitVec 32) : BitVec 32 :=
  let c1_i32_832 : BitVec 32 := 1#32
  let v3535 : BitVec 32 := Scalar.shrsi v3515 c1_i32_832
  v3535

def k0_off233 (v3515 : BitVec 32) : Fin 2 → Nat :=
  let c1_i32_832 : BitVec 32 := 1#32
  let v3535 : BitVec 32 := Scalar.shrsi v3515 c1_i32_832
  let v3536 : BitVec 32 := v3535
  let v3537 : Index := Scalar.indexCast v3536
  let c0_833 : Index := 0#32
  ![v3537.toNat, 0]
def k0_off234 (v3515 : BitVec 32) : Fin 2 → Nat :=
  let c1_i32_832 : BitVec 32 := 1#32
  let v3535 : BitVec 32 := Scalar.shrsi v3515 c1_i32_832
  let v3536 : BitVec 32 := v3535
  let v3541 : Index := Scalar.indexCast v3536
  let c128_834 : Index := 128#32
  ![v3541.toNat, 128]

def k0_chk117 (arg0 : BitVec 32) (v1 : BitVec 32) (v3515 : BitVec 32) : Prop :=
  (∀ (k0_h1 : k0_cond1 arg0 v1 = 1#1), 8 ∣ (k0_mult117 v3515).toNat) ∧
  (∀ (k0_h1 : k0_cond1 arg0 v1 = 1#1), ∀ a, (k0_off233 v3515) a + S8x128.size a ≤ S7688x256.size a) ∧
  (∀ (k0_h1 : k0_cond1 arg0 v1 = 1#1), ∀ a, (k0_off234 v3515) a + S8x128.size a ≤ S7688x256.size a)
theorem k0_mult117_dvd : ∀ (arg0 : BitVec 32) (v1 : BitVec 32) (v3515 : BitVec 32) (k0_hw117 : k0_chk117 arg0 v1 v3515), ∀ (k0_h1 : k0_cond1 arg0 v1 = 1#1), 8 ∣ (k0_mult117 v3515).toNat := fun arg0 v1 v3515 k0_hw117 k0_h1 => k0_hw117.1 k0_h1
theorem k0_off233_inb : ∀ (arg0 : BitVec 32) (v1 : BitVec 32) (v3515 : BitVec 32) (k0_hw117 : k0_chk117 arg0 v1 v3515), ∀ (k0_h1 : k0_cond1 arg0 v1 = 1#1), ∀ a, (k0_off233 v3515) a + S8x128.size a ≤ S7688x256.size a := fun arg0 v1 v3515 k0_hw117 k0_h1 => k0_hw117.2.1 k0_h1
theorem k0_off234_inb : ∀ (arg0 : BitVec 32) (v1 : BitVec 32) (v3515 : BitVec 32) (k0_hw117 : k0_chk117 arg0 v1 v3515), ∀ (k0_h1 : k0_cond1 arg0 v1 = 1#1), ∀ a, (k0_off234 v3515) a + S8x128.size a ≤ S7688x256.size a := fun arg0 v1 v3515 k0_hw117 k0_h1 => k0_hw117.2.2 k0_h1

def k0_mult118 (v3545 : BitVec 32) : BitVec 32 :=
  let c1_i32_839 : BitVec 32 := 1#32
  let v3565 : BitVec 32 := Scalar.shrsi v3545 c1_i32_839
  v3565

def k0_off235 (v3545 : BitVec 32) : Fin 2 → Nat :=
  let c1_i32_839 : BitVec 32 := 1#32
  let v3565 : BitVec 32 := Scalar.shrsi v3545 c1_i32_839
  let v3566 : BitVec 32 := v3565
  let v3567 : Index := Scalar.indexCast v3566
  let c0_840 : Index := 0#32
  ![v3567.toNat, 0]
def k0_off236 (v3545 : BitVec 32) : Fin 2 → Nat :=
  let c1_i32_839 : BitVec 32 := 1#32
  let v3565 : BitVec 32 := Scalar.shrsi v3545 c1_i32_839
  let v3566 : BitVec 32 := v3565
  let v3571 : Index := Scalar.indexCast v3566
  let c128_841 : Index := 128#32
  ![v3571.toNat, 128]

def k0_chk118 (arg0 : BitVec 32) (v1 : BitVec 32) (v3545 : BitVec 32) : Prop :=
  (∀ (k0_h1 : k0_cond1 arg0 v1 = 1#1), 8 ∣ (k0_mult118 v3545).toNat) ∧
  (∀ (k0_h1 : k0_cond1 arg0 v1 = 1#1), ∀ a, (k0_off235 v3545) a + S8x128.size a ≤ S7688x256.size a) ∧
  (∀ (k0_h1 : k0_cond1 arg0 v1 = 1#1), ∀ a, (k0_off236 v3545) a + S8x128.size a ≤ S7688x256.size a)
theorem k0_mult118_dvd : ∀ (arg0 : BitVec 32) (v1 : BitVec 32) (v3545 : BitVec 32) (k0_hw118 : k0_chk118 arg0 v1 v3545), ∀ (k0_h1 : k0_cond1 arg0 v1 = 1#1), 8 ∣ (k0_mult118 v3545).toNat := fun arg0 v1 v3545 k0_hw118 k0_h1 => k0_hw118.1 k0_h1
theorem k0_off235_inb : ∀ (arg0 : BitVec 32) (v1 : BitVec 32) (v3545 : BitVec 32) (k0_hw118 : k0_chk118 arg0 v1 v3545), ∀ (k0_h1 : k0_cond1 arg0 v1 = 1#1), ∀ a, (k0_off235 v3545) a + S8x128.size a ≤ S7688x256.size a := fun arg0 v1 v3545 k0_hw118 k0_h1 => k0_hw118.2.1 k0_h1
theorem k0_off236_inb : ∀ (arg0 : BitVec 32) (v1 : BitVec 32) (v3545 : BitVec 32) (k0_hw118 : k0_chk118 arg0 v1 v3545), ∀ (k0_h1 : k0_cond1 arg0 v1 = 1#1), ∀ a, (k0_off236 v3545) a + S8x128.size a ≤ S7688x256.size a := fun arg0 v1 v3545 k0_hw118 k0_h1 => k0_hw118.2.2 k0_h1

def k0_mult119 (v3575 : BitVec 32) : BitVec 32 :=
  let c1_i32_846 : BitVec 32 := 1#32
  let v3595 : BitVec 32 := Scalar.shrsi v3575 c1_i32_846
  v3595

def k0_off237 (v3575 : BitVec 32) : Fin 2 → Nat :=
  let c1_i32_846 : BitVec 32 := 1#32
  let v3595 : BitVec 32 := Scalar.shrsi v3575 c1_i32_846
  let v3596 : BitVec 32 := v3595
  let v3597 : Index := Scalar.indexCast v3596
  let c0_847 : Index := 0#32
  ![v3597.toNat, 0]
def k0_off238 (v3575 : BitVec 32) : Fin 2 → Nat :=
  let c1_i32_846 : BitVec 32 := 1#32
  let v3595 : BitVec 32 := Scalar.shrsi v3575 c1_i32_846
  let v3596 : BitVec 32 := v3595
  let v3601 : Index := Scalar.indexCast v3596
  let c128_848 : Index := 128#32
  ![v3601.toNat, 128]

def k0_chk119 (arg0 : BitVec 32) (v1 : BitVec 32) (v3575 : BitVec 32) : Prop :=
  (∀ (k0_h1 : k0_cond1 arg0 v1 = 1#1), 8 ∣ (k0_mult119 v3575).toNat) ∧
  (∀ (k0_h1 : k0_cond1 arg0 v1 = 1#1), ∀ a, (k0_off237 v3575) a + S8x128.size a ≤ S7688x256.size a) ∧
  (∀ (k0_h1 : k0_cond1 arg0 v1 = 1#1), ∀ a, (k0_off238 v3575) a + S8x128.size a ≤ S7688x256.size a)
theorem k0_mult119_dvd : ∀ (arg0 : BitVec 32) (v1 : BitVec 32) (v3575 : BitVec 32) (k0_hw119 : k0_chk119 arg0 v1 v3575), ∀ (k0_h1 : k0_cond1 arg0 v1 = 1#1), 8 ∣ (k0_mult119 v3575).toNat := fun arg0 v1 v3575 k0_hw119 k0_h1 => k0_hw119.1 k0_h1
theorem k0_off237_inb : ∀ (arg0 : BitVec 32) (v1 : BitVec 32) (v3575 : BitVec 32) (k0_hw119 : k0_chk119 arg0 v1 v3575), ∀ (k0_h1 : k0_cond1 arg0 v1 = 1#1), ∀ a, (k0_off237 v3575) a + S8x128.size a ≤ S7688x256.size a := fun arg0 v1 v3575 k0_hw119 k0_h1 => k0_hw119.2.1 k0_h1
theorem k0_off238_inb : ∀ (arg0 : BitVec 32) (v1 : BitVec 32) (v3575 : BitVec 32) (k0_hw119 : k0_chk119 arg0 v1 v3575), ∀ (k0_h1 : k0_cond1 arg0 v1 = 1#1), ∀ a, (k0_off238 v3575) a + S8x128.size a ≤ S7688x256.size a := fun arg0 v1 v3575 k0_hw119 k0_h1 => k0_hw119.2.2 k0_h1

def k0_mult120 (v3605 : BitVec 32) : BitVec 32 :=
  let c1_i32_853 : BitVec 32 := 1#32
  let v3625 : BitVec 32 := Scalar.shrsi v3605 c1_i32_853
  v3625

def k0_off239 (v3605 : BitVec 32) : Fin 2 → Nat :=
  let c1_i32_853 : BitVec 32 := 1#32
  let v3625 : BitVec 32 := Scalar.shrsi v3605 c1_i32_853
  let v3626 : BitVec 32 := v3625
  let v3627 : Index := Scalar.indexCast v3626
  let c0_854 : Index := 0#32
  ![v3627.toNat, 0]
def k0_off240 (v3605 : BitVec 32) : Fin 2 → Nat :=
  let c1_i32_853 : BitVec 32 := 1#32
  let v3625 : BitVec 32 := Scalar.shrsi v3605 c1_i32_853
  let v3626 : BitVec 32 := v3625
  let v3631 : Index := Scalar.indexCast v3626
  let c128_855 : Index := 128#32
  ![v3631.toNat, 128]

def k0_chk120 (arg0 : BitVec 32) (v1 : BitVec 32) (v3605 : BitVec 32) : Prop :=
  (∀ (k0_h1 : k0_cond1 arg0 v1 = 1#1), 8 ∣ (k0_mult120 v3605).toNat) ∧
  (∀ (k0_h1 : k0_cond1 arg0 v1 = 1#1), ∀ a, (k0_off239 v3605) a + S8x128.size a ≤ S7688x256.size a) ∧
  (∀ (k0_h1 : k0_cond1 arg0 v1 = 1#1), ∀ a, (k0_off240 v3605) a + S8x128.size a ≤ S7688x256.size a)
theorem k0_mult120_dvd : ∀ (arg0 : BitVec 32) (v1 : BitVec 32) (v3605 : BitVec 32) (k0_hw120 : k0_chk120 arg0 v1 v3605), ∀ (k0_h1 : k0_cond1 arg0 v1 = 1#1), 8 ∣ (k0_mult120 v3605).toNat := fun arg0 v1 v3605 k0_hw120 k0_h1 => k0_hw120.1 k0_h1
theorem k0_off239_inb : ∀ (arg0 : BitVec 32) (v1 : BitVec 32) (v3605 : BitVec 32) (k0_hw120 : k0_chk120 arg0 v1 v3605), ∀ (k0_h1 : k0_cond1 arg0 v1 = 1#1), ∀ a, (k0_off239 v3605) a + S8x128.size a ≤ S7688x256.size a := fun arg0 v1 v3605 k0_hw120 k0_h1 => k0_hw120.2.1 k0_h1
theorem k0_off240_inb : ∀ (arg0 : BitVec 32) (v1 : BitVec 32) (v3605 : BitVec 32) (k0_hw120 : k0_chk120 arg0 v1 v3605), ∀ (k0_h1 : k0_cond1 arg0 v1 = 1#1), ∀ a, (k0_off240 v3605) a + S8x128.size a ≤ S7688x256.size a := fun arg0 v1 v3605 k0_hw120 k0_h1 => k0_hw120.2.2 k0_h1

def k0_mult121 (v3635 : BitVec 32) : BitVec 32 :=
  let c1_i32_860 : BitVec 32 := 1#32
  let v3655 : BitVec 32 := Scalar.shrsi v3635 c1_i32_860
  v3655

def k0_off241 (v3635 : BitVec 32) : Fin 2 → Nat :=
  let c1_i32_860 : BitVec 32 := 1#32
  let v3655 : BitVec 32 := Scalar.shrsi v3635 c1_i32_860
  let v3656 : BitVec 32 := v3655
  let v3657 : Index := Scalar.indexCast v3656
  let c0_861 : Index := 0#32
  ![v3657.toNat, 0]
def k0_off242 (v3635 : BitVec 32) : Fin 2 → Nat :=
  let c1_i32_860 : BitVec 32 := 1#32
  let v3655 : BitVec 32 := Scalar.shrsi v3635 c1_i32_860
  let v3656 : BitVec 32 := v3655
  let v3661 : Index := Scalar.indexCast v3656
  let c128_862 : Index := 128#32
  ![v3661.toNat, 128]

def k0_chk121 (arg0 : BitVec 32) (v1 : BitVec 32) (v3635 : BitVec 32) : Prop :=
  (∀ (k0_h1 : k0_cond1 arg0 v1 = 1#1), 8 ∣ (k0_mult121 v3635).toNat) ∧
  (∀ (k0_h1 : k0_cond1 arg0 v1 = 1#1), ∀ a, (k0_off241 v3635) a + S8x128.size a ≤ S7688x256.size a) ∧
  (∀ (k0_h1 : k0_cond1 arg0 v1 = 1#1), ∀ a, (k0_off242 v3635) a + S8x128.size a ≤ S7688x256.size a)
theorem k0_mult121_dvd : ∀ (arg0 : BitVec 32) (v1 : BitVec 32) (v3635 : BitVec 32) (k0_hw121 : k0_chk121 arg0 v1 v3635), ∀ (k0_h1 : k0_cond1 arg0 v1 = 1#1), 8 ∣ (k0_mult121 v3635).toNat := fun arg0 v1 v3635 k0_hw121 k0_h1 => k0_hw121.1 k0_h1
theorem k0_off241_inb : ∀ (arg0 : BitVec 32) (v1 : BitVec 32) (v3635 : BitVec 32) (k0_hw121 : k0_chk121 arg0 v1 v3635), ∀ (k0_h1 : k0_cond1 arg0 v1 = 1#1), ∀ a, (k0_off241 v3635) a + S8x128.size a ≤ S7688x256.size a := fun arg0 v1 v3635 k0_hw121 k0_h1 => k0_hw121.2.1 k0_h1
theorem k0_off242_inb : ∀ (arg0 : BitVec 32) (v1 : BitVec 32) (v3635 : BitVec 32) (k0_hw121 : k0_chk121 arg0 v1 v3635), ∀ (k0_h1 : k0_cond1 arg0 v1 = 1#1), ∀ a, (k0_off242 v3635) a + S8x128.size a ≤ S7688x256.size a := fun arg0 v1 v3635 k0_hw121 k0_h1 => k0_hw121.2.2 k0_h1

def k0_mult122 (v3665 : BitVec 32) : BitVec 32 :=
  let c1_i32_867 : BitVec 32 := 1#32
  let v3685 : BitVec 32 := Scalar.shrsi v3665 c1_i32_867
  v3685

def k0_off243 (v3665 : BitVec 32) : Fin 2 → Nat :=
  let c1_i32_867 : BitVec 32 := 1#32
  let v3685 : BitVec 32 := Scalar.shrsi v3665 c1_i32_867
  let v3686 : BitVec 32 := v3685
  let v3687 : Index := Scalar.indexCast v3686
  let c0_868 : Index := 0#32
  ![v3687.toNat, 0]
def k0_off244 (v3665 : BitVec 32) : Fin 2 → Nat :=
  let c1_i32_867 : BitVec 32 := 1#32
  let v3685 : BitVec 32 := Scalar.shrsi v3665 c1_i32_867
  let v3686 : BitVec 32 := v3685
  let v3691 : Index := Scalar.indexCast v3686
  let c128_869 : Index := 128#32
  ![v3691.toNat, 128]

def k0_chk122 (arg0 : BitVec 32) (v1 : BitVec 32) (v3665 : BitVec 32) : Prop :=
  (∀ (k0_h1 : k0_cond1 arg0 v1 = 1#1), 8 ∣ (k0_mult122 v3665).toNat) ∧
  (∀ (k0_h1 : k0_cond1 arg0 v1 = 1#1), ∀ a, (k0_off243 v3665) a + S8x128.size a ≤ S7688x256.size a) ∧
  (∀ (k0_h1 : k0_cond1 arg0 v1 = 1#1), ∀ a, (k0_off244 v3665) a + S8x128.size a ≤ S7688x256.size a)
theorem k0_mult122_dvd : ∀ (arg0 : BitVec 32) (v1 : BitVec 32) (v3665 : BitVec 32) (k0_hw122 : k0_chk122 arg0 v1 v3665), ∀ (k0_h1 : k0_cond1 arg0 v1 = 1#1), 8 ∣ (k0_mult122 v3665).toNat := fun arg0 v1 v3665 k0_hw122 k0_h1 => k0_hw122.1 k0_h1
theorem k0_off243_inb : ∀ (arg0 : BitVec 32) (v1 : BitVec 32) (v3665 : BitVec 32) (k0_hw122 : k0_chk122 arg0 v1 v3665), ∀ (k0_h1 : k0_cond1 arg0 v1 = 1#1), ∀ a, (k0_off243 v3665) a + S8x128.size a ≤ S7688x256.size a := fun arg0 v1 v3665 k0_hw122 k0_h1 => k0_hw122.2.1 k0_h1
theorem k0_off244_inb : ∀ (arg0 : BitVec 32) (v1 : BitVec 32) (v3665 : BitVec 32) (k0_hw122 : k0_chk122 arg0 v1 v3665), ∀ (k0_h1 : k0_cond1 arg0 v1 = 1#1), ∀ a, (k0_off244 v3665) a + S8x128.size a ≤ S7688x256.size a := fun arg0 v1 v3665 k0_hw122 k0_h1 => k0_hw122.2.2 k0_h1

def k0_mult123 (v3695 : BitVec 32) : BitVec 32 :=
  let c1_i32_874 : BitVec 32 := 1#32
  let v3715 : BitVec 32 := Scalar.shrsi v3695 c1_i32_874
  v3715

def k0_off245 (v3695 : BitVec 32) : Fin 2 → Nat :=
  let c1_i32_874 : BitVec 32 := 1#32
  let v3715 : BitVec 32 := Scalar.shrsi v3695 c1_i32_874
  let v3716 : BitVec 32 := v3715
  let v3717 : Index := Scalar.indexCast v3716
  let c0_875 : Index := 0#32
  ![v3717.toNat, 0]
def k0_off246 (v3695 : BitVec 32) : Fin 2 → Nat :=
  let c1_i32_874 : BitVec 32 := 1#32
  let v3715 : BitVec 32 := Scalar.shrsi v3695 c1_i32_874
  let v3716 : BitVec 32 := v3715
  let v3721 : Index := Scalar.indexCast v3716
  let c128_876 : Index := 128#32
  ![v3721.toNat, 128]

def k0_chk123 (arg0 : BitVec 32) (v1 : BitVec 32) (v3695 : BitVec 32) : Prop :=
  (∀ (k0_h1 : k0_cond1 arg0 v1 = 1#1), 8 ∣ (k0_mult123 v3695).toNat) ∧
  (∀ (k0_h1 : k0_cond1 arg0 v1 = 1#1), ∀ a, (k0_off245 v3695) a + S8x128.size a ≤ S7688x256.size a) ∧
  (∀ (k0_h1 : k0_cond1 arg0 v1 = 1#1), ∀ a, (k0_off246 v3695) a + S8x128.size a ≤ S7688x256.size a)
theorem k0_mult123_dvd : ∀ (arg0 : BitVec 32) (v1 : BitVec 32) (v3695 : BitVec 32) (k0_hw123 : k0_chk123 arg0 v1 v3695), ∀ (k0_h1 : k0_cond1 arg0 v1 = 1#1), 8 ∣ (k0_mult123 v3695).toNat := fun arg0 v1 v3695 k0_hw123 k0_h1 => k0_hw123.1 k0_h1
theorem k0_off245_inb : ∀ (arg0 : BitVec 32) (v1 : BitVec 32) (v3695 : BitVec 32) (k0_hw123 : k0_chk123 arg0 v1 v3695), ∀ (k0_h1 : k0_cond1 arg0 v1 = 1#1), ∀ a, (k0_off245 v3695) a + S8x128.size a ≤ S7688x256.size a := fun arg0 v1 v3695 k0_hw123 k0_h1 => k0_hw123.2.1 k0_h1
theorem k0_off246_inb : ∀ (arg0 : BitVec 32) (v1 : BitVec 32) (v3695 : BitVec 32) (k0_hw123 : k0_chk123 arg0 v1 v3695), ∀ (k0_h1 : k0_cond1 arg0 v1 = 1#1), ∀ a, (k0_off246 v3695) a + S8x128.size a ≤ S7688x256.size a := fun arg0 v1 v3695 k0_hw123 k0_h1 => k0_hw123.2.2 k0_h1

def k0_mult124 (v3725 : BitVec 32) : BitVec 32 :=
  let c1_i32_881 : BitVec 32 := 1#32
  let v3745 : BitVec 32 := Scalar.shrsi v3725 c1_i32_881
  v3745

def k0_off247 (v3725 : BitVec 32) : Fin 2 → Nat :=
  let c1_i32_881 : BitVec 32 := 1#32
  let v3745 : BitVec 32 := Scalar.shrsi v3725 c1_i32_881
  let v3746 : BitVec 32 := v3745
  let v3747 : Index := Scalar.indexCast v3746
  let c0_882 : Index := 0#32
  ![v3747.toNat, 0]
def k0_off248 (v3725 : BitVec 32) : Fin 2 → Nat :=
  let c1_i32_881 : BitVec 32 := 1#32
  let v3745 : BitVec 32 := Scalar.shrsi v3725 c1_i32_881
  let v3746 : BitVec 32 := v3745
  let v3751 : Index := Scalar.indexCast v3746
  let c128_883 : Index := 128#32
  ![v3751.toNat, 128]

def k0_chk124 (arg0 : BitVec 32) (v1 : BitVec 32) (v3725 : BitVec 32) : Prop :=
  (∀ (k0_h1 : k0_cond1 arg0 v1 = 1#1), 8 ∣ (k0_mult124 v3725).toNat) ∧
  (∀ (k0_h1 : k0_cond1 arg0 v1 = 1#1), ∀ a, (k0_off247 v3725) a + S8x128.size a ≤ S7688x256.size a) ∧
  (∀ (k0_h1 : k0_cond1 arg0 v1 = 1#1), ∀ a, (k0_off248 v3725) a + S8x128.size a ≤ S7688x256.size a)
theorem k0_mult124_dvd : ∀ (arg0 : BitVec 32) (v1 : BitVec 32) (v3725 : BitVec 32) (k0_hw124 : k0_chk124 arg0 v1 v3725), ∀ (k0_h1 : k0_cond1 arg0 v1 = 1#1), 8 ∣ (k0_mult124 v3725).toNat := fun arg0 v1 v3725 k0_hw124 k0_h1 => k0_hw124.1 k0_h1
theorem k0_off247_inb : ∀ (arg0 : BitVec 32) (v1 : BitVec 32) (v3725 : BitVec 32) (k0_hw124 : k0_chk124 arg0 v1 v3725), ∀ (k0_h1 : k0_cond1 arg0 v1 = 1#1), ∀ a, (k0_off247 v3725) a + S8x128.size a ≤ S7688x256.size a := fun arg0 v1 v3725 k0_hw124 k0_h1 => k0_hw124.2.1 k0_h1
theorem k0_off248_inb : ∀ (arg0 : BitVec 32) (v1 : BitVec 32) (v3725 : BitVec 32) (k0_hw124 : k0_chk124 arg0 v1 v3725), ∀ (k0_h1 : k0_cond1 arg0 v1 = 1#1), ∀ a, (k0_off248 v3725) a + S8x128.size a ≤ S7688x256.size a := fun arg0 v1 v3725 k0_hw124 k0_h1 => k0_hw124.2.2 k0_h1

def k0_mult125 (v3755 : BitVec 32) : BitVec 32 :=
  let c1_i32_888 : BitVec 32 := 1#32
  let v3775 : BitVec 32 := Scalar.shrsi v3755 c1_i32_888
  v3775

def k0_off249 (v3755 : BitVec 32) : Fin 2 → Nat :=
  let c1_i32_888 : BitVec 32 := 1#32
  let v3775 : BitVec 32 := Scalar.shrsi v3755 c1_i32_888
  let v3776 : BitVec 32 := v3775
  let v3777 : Index := Scalar.indexCast v3776
  let c0_889 : Index := 0#32
  ![v3777.toNat, 0]
def k0_off250 (v3755 : BitVec 32) : Fin 2 → Nat :=
  let c1_i32_888 : BitVec 32 := 1#32
  let v3775 : BitVec 32 := Scalar.shrsi v3755 c1_i32_888
  let v3776 : BitVec 32 := v3775
  let v3781 : Index := Scalar.indexCast v3776
  let c128_890 : Index := 128#32
  ![v3781.toNat, 128]

def k0_chk125 (arg0 : BitVec 32) (v1 : BitVec 32) (v3755 : BitVec 32) : Prop :=
  (∀ (k0_h1 : k0_cond1 arg0 v1 = 1#1), 8 ∣ (k0_mult125 v3755).toNat) ∧
  (∀ (k0_h1 : k0_cond1 arg0 v1 = 1#1), ∀ a, (k0_off249 v3755) a + S8x128.size a ≤ S7688x256.size a) ∧
  (∀ (k0_h1 : k0_cond1 arg0 v1 = 1#1), ∀ a, (k0_off250 v3755) a + S8x128.size a ≤ S7688x256.size a)
theorem k0_mult125_dvd : ∀ (arg0 : BitVec 32) (v1 : BitVec 32) (v3755 : BitVec 32) (k0_hw125 : k0_chk125 arg0 v1 v3755), ∀ (k0_h1 : k0_cond1 arg0 v1 = 1#1), 8 ∣ (k0_mult125 v3755).toNat := fun arg0 v1 v3755 k0_hw125 k0_h1 => k0_hw125.1 k0_h1
theorem k0_off249_inb : ∀ (arg0 : BitVec 32) (v1 : BitVec 32) (v3755 : BitVec 32) (k0_hw125 : k0_chk125 arg0 v1 v3755), ∀ (k0_h1 : k0_cond1 arg0 v1 = 1#1), ∀ a, (k0_off249 v3755) a + S8x128.size a ≤ S7688x256.size a := fun arg0 v1 v3755 k0_hw125 k0_h1 => k0_hw125.2.1 k0_h1
theorem k0_off250_inb : ∀ (arg0 : BitVec 32) (v1 : BitVec 32) (v3755 : BitVec 32) (k0_hw125 : k0_chk125 arg0 v1 v3755), ∀ (k0_h1 : k0_cond1 arg0 v1 = 1#1), ∀ a, (k0_off250 v3755) a + S8x128.size a ≤ S7688x256.size a := fun arg0 v1 v3755 k0_hw125 k0_h1 => k0_hw125.2.2 k0_h1

def k0_mult126 (v3785 : BitVec 32) : BitVec 32 :=
  let c1_i32_895 : BitVec 32 := 1#32
  let v3805 : BitVec 32 := Scalar.shrsi v3785 c1_i32_895
  v3805

def k0_off251 (v3785 : BitVec 32) : Fin 2 → Nat :=
  let c1_i32_895 : BitVec 32 := 1#32
  let v3805 : BitVec 32 := Scalar.shrsi v3785 c1_i32_895
  let v3806 : BitVec 32 := v3805
  let v3807 : Index := Scalar.indexCast v3806
  let c0_896 : Index := 0#32
  ![v3807.toNat, 0]
def k0_off252 (v3785 : BitVec 32) : Fin 2 → Nat :=
  let c1_i32_895 : BitVec 32 := 1#32
  let v3805 : BitVec 32 := Scalar.shrsi v3785 c1_i32_895
  let v3806 : BitVec 32 := v3805
  let v3811 : Index := Scalar.indexCast v3806
  let c128_897 : Index := 128#32
  ![v3811.toNat, 128]

def k0_chk126 (arg0 : BitVec 32) (v1 : BitVec 32) (v3785 : BitVec 32) : Prop :=
  (∀ (k0_h1 : k0_cond1 arg0 v1 = 1#1), 8 ∣ (k0_mult126 v3785).toNat) ∧
  (∀ (k0_h1 : k0_cond1 arg0 v1 = 1#1), ∀ a, (k0_off251 v3785) a + S8x128.size a ≤ S7688x256.size a) ∧
  (∀ (k0_h1 : k0_cond1 arg0 v1 = 1#1), ∀ a, (k0_off252 v3785) a + S8x128.size a ≤ S7688x256.size a)
theorem k0_mult126_dvd : ∀ (arg0 : BitVec 32) (v1 : BitVec 32) (v3785 : BitVec 32) (k0_hw126 : k0_chk126 arg0 v1 v3785), ∀ (k0_h1 : k0_cond1 arg0 v1 = 1#1), 8 ∣ (k0_mult126 v3785).toNat := fun arg0 v1 v3785 k0_hw126 k0_h1 => k0_hw126.1 k0_h1
theorem k0_off251_inb : ∀ (arg0 : BitVec 32) (v1 : BitVec 32) (v3785 : BitVec 32) (k0_hw126 : k0_chk126 arg0 v1 v3785), ∀ (k0_h1 : k0_cond1 arg0 v1 = 1#1), ∀ a, (k0_off251 v3785) a + S8x128.size a ≤ S7688x256.size a := fun arg0 v1 v3785 k0_hw126 k0_h1 => k0_hw126.2.1 k0_h1
theorem k0_off252_inb : ∀ (arg0 : BitVec 32) (v1 : BitVec 32) (v3785 : BitVec 32) (k0_hw126 : k0_chk126 arg0 v1 v3785), ∀ (k0_h1 : k0_cond1 arg0 v1 = 1#1), ∀ a, (k0_off252 v3785) a + S8x128.size a ≤ S7688x256.size a := fun arg0 v1 v3785 k0_hw126 k0_h1 => k0_hw126.2.2 k0_h1

def k0_mult127 (v3815 : BitVec 32) : BitVec 32 :=
  let c1_i32_902 : BitVec 32 := 1#32
  let v3835 : BitVec 32 := Scalar.shrsi v3815 c1_i32_902
  v3835

def k0_off253 (v3815 : BitVec 32) : Fin 2 → Nat :=
  let c1_i32_902 : BitVec 32 := 1#32
  let v3835 : BitVec 32 := Scalar.shrsi v3815 c1_i32_902
  let v3836 : BitVec 32 := v3835
  let v3837 : Index := Scalar.indexCast v3836
  let c0_903 : Index := 0#32
  ![v3837.toNat, 0]
def k0_off254 (v3815 : BitVec 32) : Fin 2 → Nat :=
  let c1_i32_902 : BitVec 32 := 1#32
  let v3835 : BitVec 32 := Scalar.shrsi v3815 c1_i32_902
  let v3836 : BitVec 32 := v3835
  let v3841 : Index := Scalar.indexCast v3836
  let c128_904 : Index := 128#32
  ![v3841.toNat, 128]

def k0_chk127 (arg0 : BitVec 32) (v1 : BitVec 32) (v3815 : BitVec 32) : Prop :=
  (∀ (k0_h1 : k0_cond1 arg0 v1 = 1#1), 8 ∣ (k0_mult127 v3815).toNat) ∧
  (∀ (k0_h1 : k0_cond1 arg0 v1 = 1#1), ∀ a, (k0_off253 v3815) a + S8x128.size a ≤ S7688x256.size a) ∧
  (∀ (k0_h1 : k0_cond1 arg0 v1 = 1#1), ∀ a, (k0_off254 v3815) a + S8x128.size a ≤ S7688x256.size a)
theorem k0_mult127_dvd : ∀ (arg0 : BitVec 32) (v1 : BitVec 32) (v3815 : BitVec 32) (k0_hw127 : k0_chk127 arg0 v1 v3815), ∀ (k0_h1 : k0_cond1 arg0 v1 = 1#1), 8 ∣ (k0_mult127 v3815).toNat := fun arg0 v1 v3815 k0_hw127 k0_h1 => k0_hw127.1 k0_h1
theorem k0_off253_inb : ∀ (arg0 : BitVec 32) (v1 : BitVec 32) (v3815 : BitVec 32) (k0_hw127 : k0_chk127 arg0 v1 v3815), ∀ (k0_h1 : k0_cond1 arg0 v1 = 1#1), ∀ a, (k0_off253 v3815) a + S8x128.size a ≤ S7688x256.size a := fun arg0 v1 v3815 k0_hw127 k0_h1 => k0_hw127.2.1 k0_h1
theorem k0_off254_inb : ∀ (arg0 : BitVec 32) (v1 : BitVec 32) (v3815 : BitVec 32) (k0_hw127 : k0_chk127 arg0 v1 v3815), ∀ (k0_h1 : k0_cond1 arg0 v1 = 1#1), ∀ a, (k0_off254 v3815) a + S8x128.size a ≤ S7688x256.size a := fun arg0 v1 v3815 k0_hw127 k0_h1 => k0_hw127.2.2 k0_h1

def k0_mult128 (v3845 : BitVec 32) : BitVec 32 :=
  let c1_i32_909 : BitVec 32 := 1#32
  let v3865 : BitVec 32 := Scalar.shrsi v3845 c1_i32_909
  v3865

def k0_off255 (v3845 : BitVec 32) : Fin 2 → Nat :=
  let c1_i32_909 : BitVec 32 := 1#32
  let v3865 : BitVec 32 := Scalar.shrsi v3845 c1_i32_909
  let v3866 : BitVec 32 := v3865
  let v3867 : Index := Scalar.indexCast v3866
  let c0_910 : Index := 0#32
  ![v3867.toNat, 0]
def k0_off256 (v3845 : BitVec 32) : Fin 2 → Nat :=
  let c1_i32_909 : BitVec 32 := 1#32
  let v3865 : BitVec 32 := Scalar.shrsi v3845 c1_i32_909
  let v3866 : BitVec 32 := v3865
  let v3871 : Index := Scalar.indexCast v3866
  let c128_911 : Index := 128#32
  ![v3871.toNat, 128]

def k0_chk128 (arg0 : BitVec 32) (v1 : BitVec 32) (v3845 : BitVec 32) : Prop :=
  (∀ (k0_h1 : k0_cond1 arg0 v1 = 1#1), 8 ∣ (k0_mult128 v3845).toNat) ∧
  (∀ (k0_h1 : k0_cond1 arg0 v1 = 1#1), ∀ a, (k0_off255 v3845) a + S8x128.size a ≤ S7688x256.size a) ∧
  (∀ (k0_h1 : k0_cond1 arg0 v1 = 1#1), ∀ a, (k0_off256 v3845) a + S8x128.size a ≤ S7688x256.size a)
theorem k0_mult128_dvd : ∀ (arg0 : BitVec 32) (v1 : BitVec 32) (v3845 : BitVec 32) (k0_hw128 : k0_chk128 arg0 v1 v3845), ∀ (k0_h1 : k0_cond1 arg0 v1 = 1#1), 8 ∣ (k0_mult128 v3845).toNat := fun arg0 v1 v3845 k0_hw128 k0_h1 => k0_hw128.1 k0_h1
theorem k0_off255_inb : ∀ (arg0 : BitVec 32) (v1 : BitVec 32) (v3845 : BitVec 32) (k0_hw128 : k0_chk128 arg0 v1 v3845), ∀ (k0_h1 : k0_cond1 arg0 v1 = 1#1), ∀ a, (k0_off255 v3845) a + S8x128.size a ≤ S7688x256.size a := fun arg0 v1 v3845 k0_hw128 k0_h1 => k0_hw128.2.1 k0_h1
theorem k0_off256_inb : ∀ (arg0 : BitVec 32) (v1 : BitVec 32) (v3845 : BitVec 32) (k0_hw128 : k0_chk128 arg0 v1 v3845), ∀ (k0_h1 : k0_cond1 arg0 v1 = 1#1), ∀ a, (k0_off256 v3845) a + S8x128.size a ≤ S7688x256.size a := fun arg0 v1 v3845 k0_hw128 k0_h1 => k0_hw128.2.2 k0_h1

@[reducible] def k0_t1_loop : Scf.Loop 32 :=
  let c0_i32_10 : BitVec 32 := 0#32
  let c128_i32_11 : BitVec 32 := 128#32
  let v34 : BitVec 32 := Scalar.addi c0_i32_10 c128_i32_11
  let c1_i32_12 : BitVec 32 := 1#32
  ⟨c0_i32_10, v34, c1_i32_12⟩
def k0_off257 (k0_t1 : Fin k0_t1_loop.trips) : Fin 1 → Nat :=
  let c0_i32_10 : BitVec 32 := 0#32
  let c1_i32_12 : BitVec 32 := 1#32
  let arg13 : BitVec 32 := Scf.iv c0_i32_10 c1_i32_12 k0_t1
  let v35 : Index := Scalar.indexCast arg13
  ![v35.toNat]
def k0_mult129 (k0_t1 : Fin k0_t1_loop.trips) : BitVec 32 :=
  let c8_i32 : BitVec 32 := 8#32
  let c0_i32_10 : BitVec 32 := 0#32
  let c1_i32_12 : BitVec 32 := 1#32
  let arg13 : BitVec 32 := Scf.iv c0_i32_10 c1_i32_12 k0_t1
  let v37 : BitVec 32 := Scalar.muli c8_i32 arg13
  v37
def k0_off258 (k0_t1 : Fin k0_t1_loop.trips) : Fin 2 → Nat :=
  let c8_i32 : BitVec 32 := 8#32
  let c0_i32_10 : BitVec 32 := 0#32
  let c1_i32_12 : BitVec 32 := 1#32
  let arg13 : BitVec 32 := Scf.iv c0_i32_10 c1_i32_12 k0_t1
  let v37 : BitVec 32 := Scalar.muli c8_i32 arg13
  let v38 : BitVec 32 := v37
  let v39 : Index := Scalar.indexCast v38
  let c0_14 : Index := 0#32
  ![v39.toNat, 0]
def k0_mult130 (v36 : BitVec 32) : BitVec 32 :=
  let c1_i32_18 : BitVec 32 := 1#32
  let v61 : BitVec 32 := Scalar.shrsi v36 c1_i32_18
  v61
def k0_cond2 (arg0 : BitVec 32) (v0 : BitVec 32) (v1 : BitVec 32) : BitVec 1 :=
  let c1_i32_0 : BitVec 32 := 1#32
  let v8 : BitVec 32 := Scalar.addi arg0 c1_i32_0
  let c128_i32_1 : BitVec 32 := 128#32
  let v9 : BitVec 32 := Scalar.muli v8 c128_i32_1
  let v10 : BitVec 1 := Scalar.cmpi .sgt v9 v1
  let v11 : BitVec 1 := Scalar.cmpi .slt arg0 v0
  let v12 : BitVec 1 := Scalar.andi v10 v11
  let v13 : BitVec 32 := Scalar.extui v12
  let c0_i32_2 : BitVec 32 := 0#32
  let v14 : BitVec 1 := Scalar.cmpi .ne v13 c0_i32_2
  v14

def k0_cond3 (arg0 : BitVec 32) (v1 : BitVec 32) (k0_t1 : Fin k0_t1_loop.trips) : BitVec 1 :=
  let c128_i32_15 : BitVec 32 := 128#32
  let v51 : BitVec 32 := Scalar.muli arg0 c128_i32_15
  let c0_i32_10 : BitVec 32 := 0#32
  let c1_i32_12 : BitVec 32 := 1#32
  let arg13 : BitVec 32 := Scf.iv c0_i32_10 c1_i32_12 k0_t1
  let v52 : BitVec 32 := Scalar.addi v51 arg13
  let v53 : BitVec 1 := Scalar.cmpi .slt v52 v1
  let v54 : BitVec 32 := Scalar.extui v53
  let c0_i32_16 : BitVec 32 := 0#32
  let v55 : BitVec 1 := Scalar.cmpi .ne v54 c0_i32_16
  v55

def k0_off259 (v36 : BitVec 32) : Fin 2 → Nat :=
  let c1_i32_18 : BitVec 32 := 1#32
  let v61 : BitVec 32 := Scalar.shrsi v36 c1_i32_18
  let v62 : BitVec 32 := v61
  let v75 : Index := Scalar.indexCast v62
  let c0_29 : Index := 0#32
  ![v75.toNat, 0]
def k0_off260 (v36 : BitVec 32) : Fin 2 → Nat :=
  let c1_i32_18 : BitVec 32 := 1#32
  let v61 : BitVec 32 := Scalar.shrsi v36 c1_i32_18
  let v62 : BitVec 32 := v61
  let v79 : Index := Scalar.indexCast v62
  let c128 : Index := 128#32
  ![v79.toNat, 128]
def k0_off261 (v36 : BitVec 32) : Fin 2 → Nat :=
  let c1_i32_18 : BitVec 32 := 1#32
  let v61 : BitVec 32 := Scalar.shrsi v36 c1_i32_18
  let v63 : Index := Scalar.indexCast v61
  let c0_19 : Index := 0#32
  ![v63.toNat, 0]
def k0_cond4 (arg0 : BitVec 32) (v1 : BitVec 32) (v2 : BitVec 32) (k0_t1 : Fin k0_t1_loop.trips) : BitVec 1 :=
  let c128_i32_15 : BitVec 32 := 128#32
  let v51 : BitVec 32 := Scalar.muli arg0 c128_i32_15
  let c0_i32_10 : BitVec 32 := 0#32
  let c1_i32_12 : BitVec 32 := 1#32
  let arg13 : BitVec 32 := Scf.iv c0_i32_10 c1_i32_12 k0_t1
  let v52 : BitVec 32 := Scalar.addi v51 arg13
  let v56 : BitVec 1 := Scalar.cmpi .sge v52 v1
  let v57 : BitVec 1 := Scalar.cmpi .slt v52 v2
  let v58 : BitVec 1 := Scalar.andi v56 v57
  let v59 : BitVec 32 := Scalar.extui v58
  let c0_i32_17 : BitVec 32 := 0#32
  let v60 : BitVec 1 := Scalar.cmpi .ne v59 c0_i32_17
  v60

def k0_chk129 (arg0 : BitVec 32) (v0 : BitVec 32) (v1 : BitVec 32) (v2 : BitVec 32) (k0_t1 : Fin k0_t1_loop.trips) (v36 : BitVec 32) : Prop :=
  (∀ (k0_h2 : k0_cond2 arg0 v0 v1 = 1#1), ∀ (k0_h3 : k0_cond3 arg0 v1 k0_t1 = 1#1), 8 ∣ (k0_mult130 v36).toNat) ∧
  (∀ (k0_h2 : k0_cond2 arg0 v0 v1 = 1#1), ∀ (k0_h3 : k0_cond3 arg0 v1 k0_t1 = 1#1), ∀ a, (k0_off259 v36) a + S8x128.size a ≤ S7688x256.size a) ∧
  (∀ (k0_h2 : k0_cond2 arg0 v0 v1 = 1#1), ∀ (k0_h3 : k0_cond3 arg0 v1 k0_t1 = 1#1), ∀ a, (k0_off260 v36) a + S8x128.size a ≤ S7688x256.size a) ∧
  (∀ (k0_h2 : k0_cond2 arg0 v0 v1 = 1#1), ∀ (k0_h4 : k0_cond4 arg0 v1 v2 k0_t1 = 1#1), ∀ a, (k0_off261 v36) a + S1x256.size a ≤ S7688x256.size a)
theorem k0_mult130_dvd : ∀ (arg0 : BitVec 32) (v0 : BitVec 32) (v1 : BitVec 32) (v2 : BitVec 32) (k0_t1 : Fin k0_t1_loop.trips) (v36 : BitVec 32) (k0_hw129 : k0_chk129 arg0 v0 v1 v2 k0_t1 v36), ∀ (k0_h2 : k0_cond2 arg0 v0 v1 = 1#1), ∀ (k0_h3 : k0_cond3 arg0 v1 k0_t1 = 1#1), 8 ∣ (k0_mult130 v36).toNat := fun arg0 v0 v1 v2 k0_t1 v36 k0_hw129 k0_h2 k0_h3 => k0_hw129.1 k0_h2 k0_h3
theorem k0_off259_inb : ∀ (arg0 : BitVec 32) (v0 : BitVec 32) (v1 : BitVec 32) (v2 : BitVec 32) (k0_t1 : Fin k0_t1_loop.trips) (v36 : BitVec 32) (k0_hw129 : k0_chk129 arg0 v0 v1 v2 k0_t1 v36), ∀ (k0_h2 : k0_cond2 arg0 v0 v1 = 1#1), ∀ (k0_h3 : k0_cond3 arg0 v1 k0_t1 = 1#1), ∀ a, (k0_off259 v36) a + S8x128.size a ≤ S7688x256.size a := fun arg0 v0 v1 v2 k0_t1 v36 k0_hw129 k0_h2 k0_h3 => k0_hw129.2.1 k0_h2 k0_h3
theorem k0_off260_inb : ∀ (arg0 : BitVec 32) (v0 : BitVec 32) (v1 : BitVec 32) (v2 : BitVec 32) (k0_t1 : Fin k0_t1_loop.trips) (v36 : BitVec 32) (k0_hw129 : k0_chk129 arg0 v0 v1 v2 k0_t1 v36), ∀ (k0_h2 : k0_cond2 arg0 v0 v1 = 1#1), ∀ (k0_h3 : k0_cond3 arg0 v1 k0_t1 = 1#1), ∀ a, (k0_off260 v36) a + S8x128.size a ≤ S7688x256.size a := fun arg0 v0 v1 v2 k0_t1 v36 k0_hw129 k0_h2 k0_h3 => k0_hw129.2.2.1 k0_h2 k0_h3
theorem k0_off261_inb : ∀ (arg0 : BitVec 32) (v0 : BitVec 32) (v1 : BitVec 32) (v2 : BitVec 32) (k0_t1 : Fin k0_t1_loop.trips) (v36 : BitVec 32) (k0_hw129 : k0_chk129 arg0 v0 v1 v2 k0_t1 v36), ∀ (k0_h2 : k0_cond2 arg0 v0 v1 = 1#1), ∀ (k0_h4 : k0_cond4 arg0 v1 v2 k0_t1 = 1#1), ∀ a, (k0_off261 v36) a + S1x256.size a ≤ S7688x256.size a := fun arg0 v0 v1 v2 k0_t1 v36 k0_hw129 k0_h2 k0_h4 => k0_hw129.2.2.2 k0_h2 k0_h4

def k0_mult131 (arg0 : BitVec 32) (v0 : BitVec 32) : BitVec 32 :=
  let v18 : BitVec 32 := Scalar.subi arg0 v0
  let c4_i32 : BitVec 32 := 4#32
  let v19 : BitVec 32 := Scalar.muli v18 c4_i32
  let c0_i32_4 : BitVec 32 := 0#32
  let v20 : BitVec 32 := Scalar.addi v19 c0_i32_4
  let c128_i32_5 : BitVec 32 := 128#32
  let v21 : BitVec 32 := Scalar.muli v20 c128_i32_5
  v21
def k0_cond5 (arg0 : BitVec 32) (v0 : BitVec 32) : BitVec 1 :=
  let v15 : BitVec 1 := Scalar.cmpi .sge arg0 v0
  let v16 : BitVec 32 := Scalar.extui v15
  let c0_i32_3 : BitVec 32 := 0#32
  let v17 : BitVec 1 := Scalar.cmpi .ne v16 c0_i32_3
  v17

def k0_off262 (arg0 : BitVec 32) (v0 : BitVec 32) (c0_i32_4 : BitVec 32) : Fin 2 → Nat :=
  let v18 : BitVec 32 := Scalar.subi arg0 v0
  let c4_i32 : BitVec 32 := 4#32
  let v19 : BitVec 32 := Scalar.muli v18 c4_i32
  let v20 : BitVec 32 := Scalar.addi v19 c0_i32_4
  let c128_i32_5 : BitVec 32 := 128#32
  let v21 : BitVec 32 := Scalar.muli v20 c128_i32_5
  let v22 : BitVec 32 := v21
  let v23 : Index := Scalar.indexCast v22
  let c0_6 : Index := 0#32
  ![v23.toNat, 0]
def k0_off263 (arg0 : BitVec 32) (v0 : BitVec 32) (c0_i32_4 : BitVec 32) : Fin 2 → Nat :=
  let v18 : BitVec 32 := Scalar.subi arg0 v0
  let c4_i32 : BitVec 32 := 4#32
  let v19 : BitVec 32 := Scalar.muli v18 c4_i32
  let v20 : BitVec 32 := Scalar.addi v19 c0_i32_4
  let c128_i32_5 : BitVec 32 := 128#32
  let v21 : BitVec 32 := Scalar.muli v20 c128_i32_5
  let v22 : BitVec 32 := v21
  let v26 : Index := Scalar.indexCast v22
  let c128 : Index := 128#32
  ![v26.toNat, 128]
def k0_off264 (arg0 : BitVec 32) (v0 : BitVec 32) (c0_i32_4 : BitVec 32) : Fin 2 → Nat :=
  let v18 : BitVec 32 := Scalar.subi arg0 v0
  let c4_i32 : BitVec 32 := 4#32
  let v19 : BitVec 32 := Scalar.muli v18 c4_i32
  let v20 : BitVec 32 := Scalar.addi v19 c0_i32_4
  let v37 : Index := Scalar.indexCast v20
  let c0_8 : Index := 0#32
  ![v37.toNat, 0]
def k0_mult132 (arg0 : BitVec 32) (v0 : BitVec 32) : BitVec 32 :=
  let v18 : BitVec 32 := Scalar.subi arg0 v0
  let c4_i32_16 : BitVec 32 := 4#32
  let v53 : BitVec 32 := Scalar.muli v18 c4_i32_16
  let c1_i32_17 : BitVec 32 := 1#32
  let v54 : BitVec 32 := Scalar.addi v53 c1_i32_17
  let c128_i32_18 : BitVec 32 := 128#32
  let v55 : BitVec 32 := Scalar.muli v54 c128_i32_18
  v55
def k0_mult133 (arg0 : BitVec 32) (v0 : BitVec 32) : BitVec 32 :=
  let v18 : BitVec 32 := Scalar.subi arg0 v0
  let c4_i32_31 : BitVec 32 := 4#32
  let v87 : BitVec 32 := Scalar.muli v18 c4_i32_31
  let c2_i32 : BitVec 32 := 2#32
  let v88 : BitVec 32 := Scalar.addi v87 c2_i32
  let c128_i32_32 : BitVec 32 := 128#32
  let v89 : BitVec 32 := Scalar.muli v88 c128_i32_32
  v89
def k0_mult134 (arg0 : BitVec 32) (v0 : BitVec 32) : BitVec 32 :=
  let v18 : BitVec 32 := Scalar.subi arg0 v0
  let c4_i32_44 : BitVec 32 := 4#32
  let v121 : BitVec 32 := Scalar.muli v18 c4_i32_44
  let c3_i32 : BitVec 32 := 3#32
  let v122 : BitVec 32 := Scalar.addi v121 c3_i32
  let c128_i32_45 : BitVec 32 := 128#32
  let v123 : BitVec 32 := Scalar.muli v122 c128_i32_45
  v123

def k0_chk130 (arg0 : BitVec 32) (v0 : BitVec 32) : Prop :=
  (∀ (k0_h5 : k0_cond5 arg0 v0 = 1#1), 128 ∣ (k0_mult131 arg0 v0).toNat) ∧
  (∀ (k0_h5 : k0_cond5 arg0 v0 = 1#1), ∀ (r : Fin 4), ∀ a, (k0_off262 arg0 v0 (BitVec.ofNat 32 r.val)) a + S128x128.size a ≤ S7688x256.size a) ∧
  (∀ (k0_h5 : k0_cond5 arg0 v0 = 1#1), ∀ (r : Fin 4), ∀ a, (k0_off263 arg0 v0 (BitVec.ofNat 32 r.val)) a + S128x128.size a ≤ S7688x256.size a) ∧
  (∀ (k0_h5 : k0_cond5 arg0 v0 = 1#1), ∀ (r : Fin 4), ∀ a, (k0_off264 arg0 v0 (BitVec.ofNat 32 r.val)) a + S1x128.size a ≤ S60x128.size a) ∧
  (∀ (k0_h5 : k0_cond5 arg0 v0 = 1#1), 128 ∣ (k0_mult132 arg0 v0).toNat) ∧
  (∀ (k0_h5 : k0_cond5 arg0 v0 = 1#1), 128 ∣ (k0_mult133 arg0 v0).toNat) ∧
  (∀ (k0_h5 : k0_cond5 arg0 v0 = 1#1), 128 ∣ (k0_mult134 arg0 v0).toNat)
theorem k0_mult131_dvd : ∀ (arg0 : BitVec 32) (v0 : BitVec 32) (k0_hw130 : k0_chk130 arg0 v0), ∀ (k0_h5 : k0_cond5 arg0 v0 = 1#1), 128 ∣ (k0_mult131 arg0 v0).toNat := fun arg0 v0 k0_hw130 k0_h5 => k0_hw130.1 k0_h5
theorem k0_off262_inb : ∀ (arg0 : BitVec 32) (v0 : BitVec 32) (k0_hw130 : k0_chk130 arg0 v0), ∀ (k0_h5 : k0_cond5 arg0 v0 = 1#1), ∀ (r : Fin 4), ∀ a, (k0_off262 arg0 v0 (BitVec.ofNat 32 r.val)) a + S128x128.size a ≤ S7688x256.size a := fun arg0 v0 k0_hw130 k0_h5 r => k0_hw130.2.1 k0_h5 r
theorem k0_off263_inb : ∀ (arg0 : BitVec 32) (v0 : BitVec 32) (k0_hw130 : k0_chk130 arg0 v0), ∀ (k0_h5 : k0_cond5 arg0 v0 = 1#1), ∀ (r : Fin 4), ∀ a, (k0_off263 arg0 v0 (BitVec.ofNat 32 r.val)) a + S128x128.size a ≤ S7688x256.size a := fun arg0 v0 k0_hw130 k0_h5 r => k0_hw130.2.2.1 k0_h5 r
theorem k0_off264_inb : ∀ (arg0 : BitVec 32) (v0 : BitVec 32) (k0_hw130 : k0_chk130 arg0 v0), ∀ (k0_h5 : k0_cond5 arg0 v0 = 1#1), ∀ (r : Fin 4), ∀ a, (k0_off264 arg0 v0 (BitVec.ofNat 32 r.val)) a + S1x128.size a ≤ S60x128.size a := fun arg0 v0 k0_hw130 k0_h5 r => k0_hw130.2.2.2.1 k0_h5 r
theorem k0_mult132_dvd : ∀ (arg0 : BitVec 32) (v0 : BitVec 32) (k0_hw130 : k0_chk130 arg0 v0), ∀ (k0_h5 : k0_cond5 arg0 v0 = 1#1), 128 ∣ (k0_mult132 arg0 v0).toNat := fun arg0 v0 k0_hw130 k0_h5 => k0_hw130.2.2.2.2.1 k0_h5
theorem k0_mult133_dvd : ∀ (arg0 : BitVec 32) (v0 : BitVec 32) (k0_hw130 : k0_chk130 arg0 v0), ∀ (k0_h5 : k0_cond5 arg0 v0 = 1#1), 128 ∣ (k0_mult133 arg0 v0).toNat := fun arg0 v0 k0_hw130 k0_h5 => k0_hw130.2.2.2.2.2.1 k0_h5
theorem k0_mult134_dvd : ∀ (arg0 : BitVec 32) (v0 : BitVec 32) (k0_hw130 : k0_chk130 arg0 v0), ∀ (k0_h5 : k0_cond5 arg0 v0 = 1#1), 128 ∣ (k0_mult134 arg0 v0).toNat := fun arg0 v0 k0_hw130 k0_h5 => k0_hw130.2.2.2.2.2.2 k0_h5

def cc0_transform_0 (inb_S3_S1_0 : ∀ a, (![0] : Fin 1 → Nat) a + S1.size a ≤ S3.size a) (numel1_S1 : S1.numel = 1) (pf : pre0.Contents (Elt F)) (b : grid0.Bounds) (i : (grid0.at b).Coords) : Fin 2 → Nat :=
  let arg0 : BitVec 32 := BitVec.ofNat 32 (i 0).val
  let c0 : Index := 0#32
  let v0 : BitVec 32 := pf.at 1 (Rect.unit (s := S3) ![0] S1.size inb_S3_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (inb_S3_S1_0 : ∀ a, (![0] : Fin 1 → Nat) a + S1.size a ≤ S3.size a) (numel1_S1 : S1.numel = 1) (pf : pre0.Contents (Elt F)) (b : grid0.Bounds) (i : (grid0.at b).Coords) : Fin 1 → Nat :=
  let arg0 : BitVec 32 := BitVec.ofNat 32 (i 0).val
  let c0 : Index := 0#32
  let v0 : BitVec 32 := pf.at 1 (Rect.unit (s := S3) ![0] S1.size inb_S3_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.addi c0_i32 v2
  let c0_i32_0 : BitVec 32 := 0#32
  ![v3.toNat]

def cc0_transform_2 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (inb_S3_S1_0 : ∀ a, (![0] : Fin 1 → Nat) a + S1.size a ≤ S3.size a) (numel1_S1 : S1.numel = 1) (pf : pre0.Contents (Elt F)) (b : grid0.Bounds) (i : (grid0.at b).Coords) : Fin 2 → Nat :=
  let arg0 : BitVec 32 := BitVec.ofNat 32 (i 0).val
  let c0 : Index := 0#32
  let v0 : BitVec 32 := pf.at 1 (Rect.unit (s := S3) ![0] S1.size inb_S3_S1_0) numel1_S1
  let v1 : BitVec 32 := Scalar.subi arg0 v0
  let c0_i32 : BitVec 32 := 0#32
  let v2 : BitVec 32 := Scalar.maxsi v1 c0_i32
  let c0_i32_0 : BitVec 32 := 0#32
  let v3 : BitVec 32 := Scalar.addi c0_i32_0 v2
  let c0_i32_1 : BitVec 32 := 0#32
  let c0_i32_2 : BitVec 32 := 0#32
  ![c0_i32_1.toNat, v3.toNat]

def cc0_transform_7 (inb_S3_S1_0 : ∀ a, (![0] : Fin 1 → Nat) a + S1.size a ≤ S3.size a) (numel1_S1 : S1.numel = 1) (pf : pre0.Contents (Elt F)) (b : grid0.Bounds) (i : (grid0.at b).Coords) : Fin 2 → Nat :=
  let arg0 : BitVec 32 := BitVec.ofNat 32 (i 0).val
  let c0 : Index := 0#32
  let v0 : BitVec 32 := pf.at 1 (Rect.unit (s := S3) ![0] S1.size inb_S3_S1_0) numel1_S1
  let v1 : BitVec 32 := Scalar.subi arg0 v0
  let c0_i32 : BitVec 32 := 0#32
  let v2 : BitVec 32 := Scalar.maxsi v1 c0_i32
  let c0_i32_0 : BitVec 32 := 0#32
  let v3 : BitVec 32 := Scalar.addi c0_i32_0 v2
  let c0_i32_1 : BitVec 32 := 0#32
  let c0_i32_2 : BitVec 32 := 0#32
  ![c0_i32_1.toNat, v3.toNat]

abbrev stage0_0 : Fin 2 → Memref sig .tc .vmem S1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S60x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S192x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference0Ideal.lean ====
abbrev S425984x128 : Shape := ⟨2, ![425984, 128]⟩
abbrev S212992 : Shape := ⟨1, ![212992]⟩
abbrev S6x32x64 : Shape := ⟨3, ![6, 32, 64]⟩
abbrev S60x128 : Shape := ⟨2, ![60, 128]⟩
abbrev S_ : Shape := ⟨0, ![]⟩
abbrev S192x30208 : Shape := ⟨2, ![192, 30208]⟩
abbrev S6x30208 : Shape := ⟨2, ![6, 30208]⟩
abbrev S425984x4x32 : Shape := ⟨3, ![425984, 4, 32]⟩
abbrev S425984x4x64 : Shape := ⟨3, ![425984, 4, 64]⟩
abbrev S192x64 : Shape := ⟨2, ![192, 64]⟩
abbrev S425984x4x192 : Shape := ⟨3, ![425984, 4, 192]⟩
abbrev S425984 : Shape := ⟨1, ![425984]⟩
abbrev S53248 : Shape := ⟨1, ![53248]⟩
abbrev S53248x8 : Shape := ⟨2, ![53248, 8]⟩
abbrev S1x425984 : Shape := ⟨2, ![1, 425984]⟩
abbrev S7680 : Shape := ⟨1, ![7680]⟩
abbrev S7680x1 : Shape := ⟨2, ![7680, 1]⟩
abbrev S7680x425984 : Shape := ⟨2, ![7680, 425984]⟩
abbrev S7680x425984x1x1 : Shape := ⟨4, ![7680, 425984, 1, 1]⟩
abbrev S1x425984x4x192 : Shape := ⟨4, ![1, 425984, 4, 192]⟩
abbrev S7680x425984x4x192 : Shape := ⟨4, ![7680, 425984, 4, 192]⟩
abbrev S7680x192 : Shape := ⟨2, ![7680, 192]⟩
abbrev S192x7680 : Shape := ⟨2, ![192, 7680]⟩
abbrev S192x60x128 : Shape := ⟨3, ![192, 60, 128]⟩
abbrev S1x60x128 : Shape := ⟨3, ![1, 60, 128]⟩
abbrev S60x128x1 : Shape := ⟨3, ![60, 128, 1]⟩
abbrev S6x32x7680 : Shape := ⟨3, ![6, 32, 7680]⟩
abbrev S6x7680 : Shape := ⟨2, ![6, 7680]⟩
abbrev S192x0 : Shape := ⟨2, ![192, 0]⟩
abbrev S192x22528 : Shape := ⟨2, ![192, 22528]⟩
abbrev S6x0 : Shape := ⟨2, ![6, 0]⟩
abbrev S6x22528 : Shape := ⟨2, ![6, 22528]⟩

abbrev nBuf : Space → Nat
  | .hbm => 91
  | .vmem => 0
  | .smem => 0
  | _ => 0

abbrev bufTy : (tb : Table) → Fin (tcTables nBuf tb) → BufTy
  | .hbm, ⟨0, _⟩ => ⟨S425984x128, .i32⟩
  | .hbm, ⟨1, _⟩ => ⟨S212992, .i32⟩
  | .hbm, ⟨2, _⟩ => ⟨S6x32x64, .bf16⟩
  | .hbm, ⟨3, _⟩ => ⟨S60x128, .i32⟩
  | .hbm, ⟨4, _⟩ => ⟨S_, .i32⟩
  | .hbm, ⟨5, _⟩ => ⟨S_, .i32⟩
  | .hbm, ⟨6, _⟩ => ⟨S192x30208, .f32⟩
  | .hbm, ⟨7, _⟩ => ⟨S6x30208, .f32⟩
  | .hbm, ⟨8, _⟩ => ⟨S_, .i32⟩
  | .hbm, ⟨9, _⟩ => ⟨S425984x128, .i32⟩
  | .hbm, ⟨10, _⟩ => ⟨S425984x128, .i32⟩
  | .hbm, ⟨11, _⟩ => ⟨S425984x128, .f32⟩
  | .hbm, ⟨12, _⟩ => ⟨S425984x128, .bf16⟩
  | .hbm, ⟨13, _⟩ => ⟨S425984x4x32, .bf16⟩
  | .hbm, ⟨14, _⟩ => ⟨S_, .i32⟩
  | .hbm, ⟨15, _⟩ => ⟨S425984x128, .i32⟩
  | .hbm, ⟨16, _⟩ => ⟨S425984x128, .i32⟩
  | .hbm, ⟨17, _⟩ => ⟨S425984x128, .f32⟩
  | .hbm, ⟨18, _⟩ => ⟨S425984x128, .bf16⟩
  | .hbm, ⟨19, _⟩ => ⟨S425984x4x32, .bf16⟩
  | .hbm, ⟨20, _⟩ => ⟨S425984x4x64, .bf16⟩
  | .hbm, ⟨21, _⟩ => ⟨S192x64, .bf16⟩
  | .hbm, ⟨22, _⟩ => ⟨S425984x4x192, .f32⟩
  | .hbm, ⟨23, _⟩ => ⟨S_, .f32⟩
  | .hbm, ⟨24, _⟩ => ⟨S425984x4x192, .f32⟩
  | .hbm, ⟨25, _⟩ => ⟨S425984x4x192, .f32⟩
  | .hbm, ⟨26, _⟩ => ⟨S_, .f32⟩
  | .hbm, ⟨27, _⟩ => ⟨S425984x4x192, .f32⟩
  | .hbm, ⟨28, _⟩ => ⟨S425984x4x192, .f32⟩
  | .hbm, ⟨29, _⟩ => ⟨S425984, .i32⟩
  | .hbm, ⟨30, _⟩ => ⟨S_, .i32⟩
  | .hbm, ⟨31, _⟩ => ⟨S425984, .i32⟩
  | .hbm, ⟨32, _⟩ => ⟨S425984, .i32⟩
  | .hbm, ⟨33, _⟩ => ⟨S425984, .i32⟩
  | .hbm, ⟨34, _⟩ => ⟨S_, .i32⟩
  | .hbm, ⟨35, _⟩ => ⟨S425984, .i32⟩
  | .hbm, ⟨36, _⟩ => ⟨S425984, .i32⟩
  | .hbm, ⟨37, _⟩ => ⟨S53248, .i32⟩
  | .hbm, ⟨38, _⟩ => ⟨S_, .i32⟩
  | .hbm, ⟨39, _⟩ => ⟨S53248, .i32⟩
  | .hbm, ⟨40, _⟩ => ⟨S53248, .i32⟩
  | .hbm, ⟨41, _⟩ => ⟨S53248x8, .i32⟩
  | .hbm, ⟨42, _⟩ => ⟨S425984, .i32⟩
  | .hbm, ⟨43, _⟩ => ⟨S425984, .i32⟩
  | .hbm, ⟨44, _⟩ => ⟨S425984, .i1⟩
  | .hbm, ⟨45, _⟩ => ⟨S425984, .i32⟩
  | .hbm, ⟨46, _⟩ => ⟨S425984, .i32⟩
  | .hbm, ⟨47, _⟩ => ⟨S425984, .i1⟩
  | .hbm, ⟨48, _⟩ => ⟨S_, .i32⟩
  | .hbm, ⟨49, _⟩ => ⟨S_, .i32⟩
  | .hbm, ⟨50, _⟩ => ⟨S425984, .i32⟩
  | .hbm, ⟨51, _⟩ => ⟨S425984, .i32⟩
  | .hbm, ⟨52, _⟩ => ⟨S425984, .i32⟩
  | .hbm, ⟨53, _⟩ => ⟨S1x425984, .i32⟩
  | .hbm, ⟨54, _⟩ => ⟨S7680, .i32⟩
  | .hbm, ⟨55, _⟩ => ⟨S7680x1, .i32⟩
  | .hbm, ⟨56, _⟩ => ⟨S7680x425984, .i32⟩
  | .hbm, ⟨57, _⟩ => ⟨S7680x425984, .i32⟩
  | .hbm, ⟨58, _⟩ => ⟨S7680x425984, .i1⟩
  | .hbm, ⟨59, _⟩ => ⟨S7680x425984x1x1, .i1⟩
  | .hbm, ⟨60, _⟩ => ⟨S1x425984x4x192, .f32⟩
  | .hbm, ⟨61, _⟩ => ⟨S_, .f32⟩
  | .hbm, ⟨62, _⟩ => ⟨S_, .f32⟩
  | .hbm, ⟨63, _⟩ => ⟨S7680x425984x4x192, .i1⟩
  | .hbm, ⟨64, _⟩ => ⟨S7680x425984x4x192, .f32⟩
  | .hbm, ⟨65, _⟩ => ⟨S7680x425984x4x192, .f32⟩
  | .hbm, ⟨66, _⟩ => ⟨S7680x425984x4x192, .f32⟩
  | .hbm, ⟨67, _⟩ => ⟨S_, .f32⟩
  | .hbm, ⟨68, _⟩ => ⟨S7680x192, .f32⟩
  | .hbm, ⟨69, _⟩ => ⟨S192x7680, .f32⟩
  | .hbm, ⟨70, _⟩ => ⟨S192x60x128, .f32⟩
  | .hbm, ⟨71, _⟩ => ⟨S1x60x128, .i32⟩
  | .hbm, ⟨72, _⟩ => ⟨S_, .i32⟩
  | .hbm, ⟨73, _⟩ => ⟨S1x60x128, .i32⟩
  | .hbm, ⟨74, _⟩ => ⟨S1x60x128, .i1⟩
  | .hbm, ⟨75, _⟩ => ⟨S_, .i32⟩
  | .hbm, ⟨76, _⟩ => ⟨S1x60x128, .i32⟩
  | .hbm, ⟨77, _⟩ => ⟨S1x60x128, .i32⟩
  | .hbm, ⟨78, _⟩ => ⟨S1x60x128, .i32⟩
  | .hbm, ⟨79, _⟩ => ⟨S60x128x1, .i32⟩
  | .hbm, ⟨80, _⟩ => ⟨S192x60x128, .f32⟩
  | .hbm, ⟨81, _⟩ => ⟨S192x7680, .f32⟩
  | .hbm, ⟨82, _⟩ => ⟨S6x32x7680, .f32⟩
  | .hbm, ⟨83, _⟩ => ⟨S_, .f32⟩
  | .hbm, ⟨84, _⟩ => ⟨S6x7680, .f32⟩
  | .hbm, ⟨85, _⟩ => ⟨S192x0, .f32⟩
  | .hbm, ⟨86, _⟩ => ⟨S192x22528, .f32⟩
  | .hbm, ⟨87, _⟩ => ⟨S192x30208, .f32⟩
  | .hbm, ⟨88, _⟩ => ⟨S6x0, .f32⟩
  | .hbm, ⟨89, _⟩ => ⟨S6x22528, .f32⟩
  | .hbm, ⟨90, _⟩ => ⟨S6x30208, .f32⟩
  | _, _ => ⟨S425984x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_call0_v0 : Ref sig .tc := ⟨.hbm, 49, rfl⟩
abbrev main_call0_v1 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call3_c : Ref sig .tc := ⟨.hbm, 72, rfl⟩
abbrev main_call3_v0 : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_8 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩

abbrev nD : Nat := 1
abbrev τ : Topo := Topo.v7x

variable {F : FTy → Type} [FloatOps F]
-- ==== Kernel2.lean ====
abbrev S425984x128 : Shape := ⟨2, ![425984, 128]⟩
abbrev S212992 : Shape := ⟨1, ![212992]⟩
abbrev S6x32x64 : Shape := ⟨3, ![6, 32, 64]⟩
abbrev S60x128 : Shape := ⟨2, ![60, 128]⟩
abbrev S_ : Shape := ⟨0, ![]⟩
abbrev S192x30208 : Shape := ⟨2, ![192, 30208]⟩
abbrev S6x30208 : Shape := ⟨2, ![6, 30208]⟩
abbrev S192x2x32 : Shape := ⟨3, ![192, 2, 32]⟩
abbrev S2x32x192 : Shape := ⟨3, ![2, 32, 192]⟩
abbrev S4x4 : Shape := ⟨2, ![4, 4]⟩
abbrev S2x1x32x1x192 : Shape := ⟨5, ![2, 1, 32, 1, 192]⟩
abbrev S1x4x1x4x1 : Shape := ⟨5, ![1, 4, 1, 4, 1]⟩
abbrev S2x4x32x4x192 : Shape := ⟨5, ![2, 4, 32, 4, 192]⟩
abbrev S2x4x32x4x128 : Shape := ⟨5, ![2, 4, 32, 4, 128]⟩
abbrev S256x512 : Shape := ⟨2, ![256, 512]⟩
abbrev S2x4x32x4x64 : Shape := ⟨5, ![2, 4, 32, 4, 64]⟩
abbrev S256x256 : Shape := ⟨2, ![256, 256]⟩
abbrev S256x768 : Shape := ⟨2, ![256, 768]⟩
abbrev S1 : Shape := ⟨1, ![1]⟩
abbrev S3 : Shape := ⟨1, ![3]⟩
abbrev S1024x128 : Shape := ⟨2, ![1024, 128]⟩
abbrev S128 : Shape := ⟨1, ![128]⟩
abbrev S192x512 : Shape := ⟨2, ![192, 512]⟩
abbrev S6x512 : Shape := ⟨2, ![6, 512]⟩
abbrev S7688x256 : Shape := ⟨2, ![7688, 256]⟩
abbrev S2x8x128 : Shape := ⟨3, ![2, 8, 128]⟩
abbrev S1024x768 : Shape := ⟨2, ![1024, 768]⟩
abbrev S1024x256 : Shape := ⟨2, ![1024, 256]⟩
abbrev S1x8x128 : Shape := ⟨3, ![1, 8, 128]⟩
abbrev S8x128 : Shape := ⟨2, ![8, 128]⟩
abbrev S8x768 : Shape := ⟨2, ![8, 768]⟩
abbrev S8x256 : Shape := ⟨2, ![8, 256]⟩
abbrev S1x256 : Shape := ⟨2, ![1, 256]⟩
abbrev S256 : Shape := ⟨1, ![256]⟩
abbrev S128x128 : Shape := ⟨2, ![128, 128]⟩
abbrev S64x128 : Shape := ⟨2, ![64, 128]⟩
abbrev S192x128 : Shape := ⟨2, ![192, 128]⟩
abbrev S1x128 : Shape := ⟨2, ![1, 128]⟩
abbrev S192x128x1 : Shape := ⟨3, ![192, 128, 1]⟩
abbrev S6x32x128 : Shape := ⟨3, ![6, 32, 128]⟩
abbrev S6x128 : Shape := ⟨2, ![6, 128]⟩

abbrev nBuf : Space → Nat
  | .hbm => 50
  | .vmem => 11
  | .smem => 4
  | _ => 0

abbrev bufTy : (tb : Table) → Fin (tcTables nBuf tb) → BufTy
  | .hbm, ⟨0, _⟩ => ⟨S425984x128, .i32⟩
  | .hbm, ⟨1, _⟩ => ⟨S212992, .i32⟩
  | .hbm, ⟨2, _⟩ => ⟨S6x32x64, .bf16⟩
  | .hbm, ⟨3, _⟩ => ⟨S60x128, .i32⟩
  | .hbm, ⟨4, _⟩ => ⟨S_, .i32⟩
  | .hbm, ⟨5, _⟩ => ⟨S_, .i32⟩
  | .hbm, ⟨6, _⟩ => ⟨S192x30208, .f32⟩
  | .hbm, ⟨7, _⟩ => ⟨S6x30208, .f32⟩
  | .hbm, ⟨8, _⟩ => ⟨S192x2x32, .bf16⟩
  | .hbm, ⟨9, _⟩ => ⟨S2x32x192, .bf16⟩
  | .hbm, ⟨10, _⟩ => ⟨S4x4, .i32⟩
  | .hbm, ⟨11, _⟩ => ⟨S4x4, .i32⟩
  | .hbm, ⟨12, _⟩ => ⟨S_, .i32⟩
  | .hbm, ⟨13, _⟩ => ⟨S4x4, .i32⟩
  | .hbm, ⟨14, _⟩ => ⟨S4x4, .i32⟩
  | .hbm, ⟨15, _⟩ => ⟨S4x4, .i1⟩
  | .hbm, ⟨16, _⟩ => ⟨S4x4, .bf16⟩
  | .hbm, ⟨17, _⟩ => ⟨S2x1x32x1x192, .bf16⟩
  | .hbm, ⟨18, _⟩ => ⟨S1x4x1x4x1, .bf16⟩
  | .hbm, ⟨19, _⟩ => ⟨S2x4x32x4x192, .bf16⟩
  | .hbm, ⟨20, _⟩ => ⟨S2x4x32x4x192, .bf16⟩
  | .hbm, ⟨21, _⟩ => ⟨S2x4x32x4x192, .bf16⟩
  | .hbm, ⟨22, _⟩ => ⟨S2x4x32x4x128, .bf16⟩
  | .hbm, ⟨23, _⟩ => ⟨S256x512, .bf16⟩
  | .hbm, ⟨24, _⟩ => ⟨S2x4x32x4x64, .bf16⟩
  | .hbm, ⟨25, _⟩ => ⟨S256x256, .bf16⟩
  | .hbm, ⟨26, _⟩ => ⟨S256x768, .bf16⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1, .i32⟩
  | .hbm, ⟨45, _⟩ => ⟨S1, .i32⟩
  | .hbm, ⟨46, _⟩ => ⟨S1, .i32⟩
  | .hbm, ⟨47, _⟩ => ⟨S_, .i32⟩
  | .hbm, ⟨48, _⟩ => ⟨S192x30208, .f32⟩
  | .hbm, ⟨49, _⟩ => ⟨S6x30208, .f32⟩
  | .local _ .vmem, ⟨0, _⟩ => ⟨S1024x128, .i32⟩
  | .local _ .vmem, ⟨1, _⟩ => ⟨S1024x128, .i32⟩
  | .local _ .vmem, ⟨2, _⟩ => ⟨S256x768, .bf16⟩
  | .local _ .vmem, ⟨3, _⟩ => ⟨S60x128, .i32⟩
  | .local _ .vmem, ⟨4, _⟩ => ⟨S192x512, .f32⟩
  | .local _ .vmem, ⟨5, _⟩ => ⟨S192x512, .f32⟩
  | .local _ .vmem, ⟨6, _⟩ => ⟨S6x512, .f32⟩
  | .local _ .vmem, ⟨7, _⟩ => ⟨S6x512, .f32⟩
  | .local _ .vmem, ⟨8, _⟩ => ⟨S7688x256, .f32⟩
  | .local _ .vmem, ⟨9, _⟩ => ⟨S2x8x128, .f32⟩
  | .local _ .vmem, ⟨10, _⟩ => ⟨S1024x768, .f32⟩
  | .local _ .smem, ⟨0, _⟩ => ⟨S_, .i32⟩
  | .local _ .smem, ⟨1, _⟩ => ⟨S3, .i32⟩
  | .local _ .smem, ⟨2, _⟩ => ⟨S128, .i32⟩
  | .local _ .smem, ⟨3, _⟩ => ⟨S128, .i32⟩
  | _, _ => ⟨S425984x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_0 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_c_2 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c : Ref sig .tc := ⟨.hbm, 38, rfl⟩
abbrev main_call0_v6 : Ref sig .tc := ⟨.hbm, 39, rfl⟩
abbrev main_call0_v7 : Ref sig .tc := ⟨.hbm, 40, rfl⟩
abbrev main_call0_c_0 : Ref sig .tc := ⟨.hbm, 41, rfl⟩
abbrev main_call0_v8 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_3 : Ref sig .tc := ⟨.hbm, 47, rfl⟩
abbrev main_v26_0 : Ref sig .tc := ⟨.hbm, 48, rfl⟩
abbrev main_v26_1 : Ref sig .tc := ⟨.hbm, 49, rfl⟩
abbrev main_v25 : Ref sig .tc := ⟨.smem, 0, rfl⟩
abbrev main_v24 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![0], ![true]⟩

abbrev pre0 : Pipeline.Prefetch sig := ⟨2, ![main_v25.idx, main_v24.idx], fun | 0 => main_v25.names | 1 => main_v24.names | ⟨_ + 2, h⟩ => absurd h (Nat.not_lt.2 (Nat.le_add_left _ _)), fun | 0 => rfl | 1 => rfl | ⟨_ + 2, h⟩ => absurd h (Nat.not_lt.2 (Nat.le_add_left _ _))⟩

def dynb0 (pf : pre0.Contents (Elt F)) : grid0.Bounds := ![(pf 0 fun a => a.elim0).toNat]

def k0_mult1 (v35 : BitVec 32) : BitVec 32 :=
  let c1_i32_19 : BitVec 32 := 1#32
  let v55 : BitVec 32 := Scalar.shrsi v35 c1_i32_19
  v55
def k0_cond1 (arg0 : BitVec 32) (v1 : BitVec 32) : BitVec 1 :=
  let c1_i32 : BitVec 32 := 1#32
  let v3 : BitVec 32 := Scalar.addi arg0 c1_i32
  let c128_i32 : BitVec 32 := 128#32
  let v4 : BitVec 32 := Scalar.muli v3 c128_i32
  let v5 : BitVec 1 := Scalar.cmpi .sle v4 v1
  let v6 : BitVec 32 := Scalar.extui v5
  let c0_i32 : BitVec 32 := 0#32
  let v7 : BitVec 1 := Scalar.cmpi .ne v6 c0_i32
  v7

def k0_off1 (v35 : BitVec 32) : Fin 2 → Nat :=
  let c1_i32_19 : BitVec 32 := 1#32
  let v55 : BitVec 32 := Scalar.shrsi v35 c1_i32_19
  let v56 : BitVec 32 := v55
  let v57 : Index := Scalar.indexCast v56
  let c0_20 : Index := 0#32
  ![v57.toNat, 0]
def k0_off2 (v35 : BitVec 32) : Fin 2 → Nat :=
  let c1_i32_19 : BitVec 32 := 1#32
  let v55 : BitVec 32 := Scalar.shrsi v35 c1_i32_19
  let v56 : BitVec 32 := v55
  let v61 : Index := Scalar.indexCast v56
  let c128 : Index := 128#32
  ![v61.toNat, 128]

def k0_chk1 (arg0 : BitVec 32) (v1 : BitVec 32) (v35 : BitVec 32) : Prop :=
  (∀ (k0_h1 : k0_cond1 arg0 v1 = 1#1), 8 ∣ (k0_mult1 v35).toNat) ∧
  (∀ (k0_h1 : k0_cond1 arg0 v1 = 1#1), ∀ a, (k0_off1 v35) a + S8x128.size a ≤ S7688x256.size a) ∧
  (∀ (k0_h1 : k0_cond1 arg0 v1 = 1#1), ∀ a, (k0_off2 v35) a + S8x128.size a ≤ S7688x256.size a)
theorem k0_mult1_dvd : ∀ (arg0 : BitVec 32) (v1 : BitVec 32) (v35 : BitVec 32) (k0_hw1 : k0_chk1 arg0 v1 v35), ∀ (k0_h1 : k0_cond1 arg0 v1 = 1#1), 8 ∣ (k0_mult1 v35).toNat := fun arg0 v1 v35 k0_hw1 k0_h1 => k0_hw1.1 k0_h1
theorem k0_off1_inb : ∀ (arg0 : BitVec 32) (v1 : BitVec 32) (v35 : BitVec 32) (k0_hw1 : k0_chk1 arg0 v1 v35), ∀ (k0_h1 : k0_cond1 arg0 v1 = 1#1), ∀ a, (k0_off1 v35) a + S8x128.size a ≤ S7688x256.size a := fun arg0 v1 v35 k0_hw1 k0_h1 => k0_hw1.2.1 k0_h1
theorem k0_off2_inb : ∀ (arg0 : BitVec 32) (v1 : BitVec 32) (v35 : BitVec 32) (k0_hw1 : k0_chk1 arg0 v1 v35), ∀ (k0_h1 : k0_cond1 arg0 v1 = 1#1), ∀ a, (k0_off2 v35) a + S8x128.size a ≤ S7688x256.size a := fun arg0 v1 v35 k0_hw1 k0_h1 => k0_hw1.2.2 k0_h1

def k0_mult2 (v65 : BitVec 32) : BitVec 32 :=
  let c1_i32_26 : BitVec 32 := 1#32
  let v85 : BitVec 32 := Scalar.shrsi v65 c1_i32_26
  v85

def k0_off3 (v65 : BitVec 32) : Fin 2 → Nat :=
  let c1_i32_26 : BitVec 32 := 1#32
  let v85 : BitVec 32 := Scalar.shrsi v65 c1_i32_26
  let v86 : BitVec 32 := v85
  let v87 : Index := Scalar.indexCast v86
  let c0_27 : Index := 0#32
  ![v87.toNat, 0]
def k0_off4 (v65 : BitVec 32) : Fin 2 → Nat :=
  let c1_i32_26 : BitVec 32 := 1#32
  let v85 : BitVec 32 := Scalar.shrsi v65 c1_i32_26
  let v86 : BitVec 32 := v85
  let v91 : Index := Scalar.indexCast v86
  let c128_28 : Index := 128#32
  ![v91.toNat, 128]

def k0_chk2 (arg0 : BitVec 32) (v1 : BitVec 32) (v65 : BitVec 32) : Prop :=
  (∀ (k0_h1 : k0_cond1 arg0 v1 = 1#1), 8 ∣ (k0_mult2 v65).toNat) ∧
  (∀ (k0_h1 : k0_cond1 arg0 v1 = 1#1), ∀ a, (k0_off3 v65) a + S8x128.size a ≤ S7688x256.size a) ∧
  (∀ (k0_h1 : k0_cond1 arg0 v1 = 1#1), ∀ a, (k0_off4 v65) a + S8x128.size a ≤ S7688x256.size a)
theorem k0_mult2_dvd : ∀ (arg0 : BitVec 32) (v1 : BitVec 32) (v65 : BitVec 32) (k0_hw2 : k0_chk2 arg0 v1 v65), ∀ (k0_h1 : k0_cond1 arg0 v1 = 1#1), 8 ∣ (k0_mult2 v65).toNat := fun arg0 v1 v65 k0_hw2 k0_h1 => k0_hw2.1 k0_h1
theorem k0_off3_inb : ∀ (arg0 : BitVec 32) (v1 : BitVec 32) (v65 : BitVec 32) (k0_hw2 : k0_chk2 arg0 v1 v65), ∀ (k0_h1 : k0_cond1 arg0 v1 = 1#1), ∀ a, (k0_off3 v65) a + S8x128.size a ≤ S7688x256.size a := fun arg0 v1 v65 k0_hw2 k0_h1 => k0_hw2.2.1 k0_h1
theorem k0_off4_inb : ∀ (arg0 : BitVec 32) (v1 : BitVec 32) (v65 : BitVec 32) (k0_hw2 : k0_chk2 arg0 v1 v65), ∀ (k0_h1 : k0_cond1 arg0 v1 = 1#1), ∀ a, (k0_off4 v65) a + S8x128.size a ≤ S7688x256.size a := fun arg0 v1 v65 k0_hw2 k0_h1 => k0_hw2.2.2 k0_h1

def k0_mult3 (v95 : BitVec 32) : BitVec 32 :=
  let c1_i32_34 : BitVec 32 := 1#32
  let v115 : BitVec 32 := Scalar.shrsi v95 c1_i32_34
  v115

def k0_off5 (v95 : BitVec 32) : Fin 2 → Nat :=
  let c1_i32_34 : BitVec 32 := 1#32
  let v115 : BitVec 32 := Scalar.shrsi v95 c1_i32_34
  let v116 : BitVec 32 := v115
  let v117 : Index := Scalar.indexCast v116
  let c0_35 : Index := 0#32
  ![v117.toNat, 0]
def k0_off6 (v95 : BitVec 32) : Fin 2 → Nat :=
  let c1_i32_34 : BitVec 32 := 1#32
  let v115 : BitVec 32 := Scalar.shrsi v95 c1_i32_34
  let v116 : BitVec 32 := v115
  let v121 : Index := Scalar.indexCast v116
  let c128_36 : Index := 128#32
  ![v121.toNat, 128]

def k0_chk3 (arg0 : BitVec 32) (v1 : BitVec 32) (v95 : BitVec 32) : Prop :=
  (∀ (k0_h1 : k0_cond1 arg0 v1 = 1#1), 8 ∣ (k0_mult3 v95).toNat) ∧
  (∀ (k0_h1 : k0_cond1 arg0 v1 = 1#1), ∀ a, (k0_off5 v95) a + S8x128.size a ≤ S7688x256.size a) ∧
  (∀ (k0_h1 : k0_cond1 arg0 v1 = 1#1), ∀ a, (k0_off6 v95) a + S8x128.size a ≤ S7688x256.size a)
theorem k0_mult3_dvd : ∀ (arg0 : BitVec 32) (v1 : BitVec 32) (v95 : BitVec 32) (k0_hw3 : k0_chk3 arg0 v1 v95), ∀ (k0_h1 : k0_cond1 arg0 v1 = 1#1), 8 ∣ (k0_mult3 v95).toNat := fun arg0 v1 v95 k0_hw3 k0_h1 => k0_hw3.1 k0_h1
theorem k0_off5_inb : ∀ (arg0 : BitVec 32) (v1 : BitVec 32) (v95 : BitVec 32) (k0_hw3 : k0_chk3 arg0 v1 v95), ∀ (k0_h1 : k0_cond1 arg0 v1 = 1#1), ∀ a, (k0_off5 v95) a + S8x128.size a ≤ S7688x256.size a := fun arg0 v1 v95 k0_hw3 k0_h1 => k0_hw3.2.1 k0_h1
theorem k0_off6_inb : ∀ (arg0 : BitVec 32) (v1 : BitVec 32) (v95 : BitVec 32) (k0_hw3 : k0_chk3 arg0 v1 v95), ∀ (k0_h1 : k0_cond1 arg0 v1 = 1#1), ∀ a, (k0_off6 v95) a + S8x128.size a ≤ S7688x256.size a := fun arg0 v1 v95 k0_hw3 k0_h1 => k0_hw3.2.2 k0_h1

def k0_mult4 (v125 : BitVec 32) : BitVec 32 :=
  let c1_i32_41 : BitVec 32 := 1#32
  let v145 : BitVec 32 := Scalar.shrsi v125 c1_i32_41
  v145

def k0_off7 (v125 : BitVec 32) : Fin 2 → Nat :=
  let c1_i32_41 : BitVec 32 := 1#32
  let v145 : BitVec 32 := Scalar.shrsi v125 c1_i32_41
  let v146 : BitVec 32 := v145
  let v147 : Index := Scalar.indexCast v146
  let c0_42 : Index := 0#32
  ![v147.toNat, 0]
def k0_off8 (v125 : BitVec 32) : Fin 2 → Nat :=
  let c1_i32_41 : BitVec 32 := 1#32
  let v145 : BitVec 32 := Scalar.shrsi v125 c1_i32_41
  let v146 : BitVec 32 := v145
  let v151 : Index := Scalar.indexCast v146
  let c128_43 : Index := 128#32
  ![v151.toNat, 128]

def k0_chk4 (arg0 : BitVec 32) (v1 : BitVec 32) (v125 : BitVec 32) : Prop :=
  (∀ (k0_h1 : k0_cond1 arg0 v1 = 1#1), 8 ∣ (k0_mult4 v125).toNat) ∧
  (∀ (k0_h1 : k0_cond1 arg0 v1 = 1#1), ∀ a, (k0_off7 v125) a + S8x128.size a ≤ S7688x256.size a) ∧
  (∀ (k0_h1 : k0_cond1 arg0 v1 = 1#1), ∀ a, (k0_off8 v125) a + S8x128.size a ≤ S7688x256.size a)
theorem k0_mult4_dvd : ∀ (arg0 : BitVec 32) (v1 : BitVec 32) (v125 : BitVec 32) (k0_hw4 : k0_chk4 arg0 v1 v125), ∀ (k0_h1 : k0_cond1 arg0 v1 = 1#1), 8 ∣ (k0_mult4 v125).toNat := fun arg0 v1 v125 k0_hw4 k0_h1 => k0_hw4.1 k0_h1
theorem k0_off7_inb : ∀ (arg0 : BitVec 32) (v1 : BitVec 32) (v125 : BitVec 32) (k0_hw4 : k0_chk4 arg0 v1 v125), ∀ (k0_h1 : k0_cond1 arg0 v1 = 1#1), ∀ a, (k0_off7 v125) a + S8x128.size a ≤ S7688x256.size a := fun arg0 v1 v125 k0_hw4 k0_h1 => k0_hw4.2.1 k0_h1
theorem k0_off8_inb : ∀ (arg0 : BitVec 32) (v1 : BitVec 32) (v125 : BitVec 32) (k0_hw4 : k0_chk4 arg0 v1 v125), ∀ (k0_h1 : k0_cond1 arg0 v1 = 1#1), ∀ a, (k0_off8 v125) a + S8x128.size a ≤ S7688x256.size a := fun arg0 v1 v125 k0_hw4 k0_h1 => k0_hw4.2.2 k0_h1

def k0_mult5 (v155 : BitVec 32) : BitVec 32 :=
  let c1_i32_48 : BitVec 32 := 1#32
  let v175 : BitVec 32 := Scalar.shrsi v155 c1_i32_48
  v175

def k0_off9 (v155 : BitVec 32) : Fin 2 → Nat :=
  let c1_i32_48 : BitVec 32 := 1#32
  let v175 : BitVec 32 := Scalar.shrsi v155 c1_i32_48
  let v176 : BitVec 32 := v175
  let v177 : Index := Scalar.indexCast v176
  let c0_49 : Index := 0#32
  ![v177.toNat, 0]
def k0_off10 (v155 : BitVec 32) : Fin 2 → Nat :=
  let c1_i32_48 : BitVec 32 := 1#32
  let v175 : BitVec 32 := Scalar.shrsi v155 c1_i32_48
  let v176 : BitVec 32 := v175
  let v181 : Index := Scalar.indexCast v176
  let c128_50 : Index := 128#32
  ![v181.toNat, 128]

def k0_chk5 (arg0 : BitVec 32) (v1 : BitVec 32) (v155 : BitVec 32) : Prop :=
  (∀ (k0_h1 : k0_cond1 arg0 v1 = 1#1), 8 ∣ (k0_mult5 v155).toNat) ∧
  (∀ (k0_h1 : k0_cond1 arg0 v1 = 1#1), ∀ a, (k0_off9 v155) a + S8x128.size a ≤ S7688x256.size a) ∧
  (∀ (k0_h1 : k0_cond1 arg0 v1 = 1#1), ∀ a, (k0_off10 v155) a + S8x128.size a ≤ S7688x256.size a)
theorem k0_mult5_dvd : ∀ (arg0 : BitVec 32) (v1 : BitVec 32) (v155 : BitVec 32) (k0_hw5 : k0_chk5 arg0 v1 v155), ∀ (k0_h1 : k0_cond1 arg0 v1 = 1#1), 8 ∣ (k0_mult5 v155).toNat := fun arg0 v1 v155 k0_hw5 k0_h1 => k0_hw5.1 k0_h1
theorem k0_off9_inb : ∀ (arg0 : BitVec 32) (v1 : BitVec 32) (v155 : BitVec 32) (k0_hw5 : k0_chk5 arg0 v1 v155), ∀ (k0_h1 : k0_cond1 arg0 v1 = 1#1), ∀ a, (k0_off9 v155) a + S8x128.size a ≤ S7688x256.size a := fun arg0 v1 v155 k0_hw5 k0_h1 => k0_hw5.2.1 k0_h1
theorem k0_off10_inb : ∀ (arg0 : BitVec 32) (v1 : BitVec 32) (v155 : BitVec 32) (k0_hw5 : k0_chk5 arg0 v1 v155), ∀ (k0_h1 : k0_cond1 arg0 v1 = 1#1), ∀ a, (k0_off10 v155) a + S8x128.size a ≤ S7688x256.size a := fun arg0 v1 v155 k0_hw5 k0_h1 => k0_hw5.2.2 k0_h1

def k0_mult6 (v185 : BitVec 32) : BitVec 32 :=
  let c1_i32_55 : BitVec 32 := 1#32
  let v205 : BitVec 32 := Scalar.shrsi v185 c1_i32_55
  v205

def k0_off11 (v185 : BitVec 32) : Fin 2 → Nat :=
  let c1_i32_55 : BitVec 32 := 1#32
  let v205 : BitVec 32 := Scalar.shrsi v185 c1_i32_55
  let v206 : BitVec 32 := v205
  let v207 : Index := Scalar.indexCast v206
  let c0_56 : Index := 0#32
  ![v207.toNat, 0]
def k0_off12 (v185 : BitVec 32) : Fin 2 → Nat :=
  let c1_i32_55 : BitVec 32 := 1#32
  let v205 : BitVec 32 := Scalar.shrsi v185 c1_i32_55
  let v206 : BitVec 32 := v205
  let v211 : Index := Scalar.indexCast v206
  let c128_57 : Index := 128#32
  ![v211.toNat, 128]

def k0_chk6 (arg0 : BitVec 32) (v1 : BitVec 32) (v185 : BitVec 32) : Prop :=
  (∀ (k0_h1 : k0_cond1 arg0 v1 = 1#1), 8 ∣ (k0_mult6 v185).toNat) ∧
  (∀ (k0_h1 : k0_cond1 arg0 v1 = 1#1), ∀ a, (k0_off11 v185) a + S8x128.size a ≤ S7688x256.size a) ∧
  (∀ (k0_h1 : k0_cond1 arg0 v1 = 1#1), ∀ a, (k0_off12 v185) a + S8x128.size a ≤ S7688x256.size a)
theorem k0_mult6_dvd : ∀ (arg0 : BitVec 32) (v1 : BitVec 32) (v185 : BitVec 32) (k0_hw6 : k0_chk6 arg0 v1 v185), ∀ (k0_h1 : k0_cond1 arg0 v1 = 1#1), 8 ∣ (k0_mult6 v185).toNat := fun arg0 v1 v185 k0_hw6 k0_h1 => k0_hw6.1 k0_h1
theorem k0_off11_inb : ∀ (arg0 : BitVec 32) (v1 : BitVec 32) (v185 : BitVec 32) (k0_hw6 : k0_chk6 arg0 v1 v185), ∀ (k0_h1 : k0_cond1 arg0 v1 = 1#1), ∀ a, (k0_off11 v185) a + S8x128.size a ≤ S7688x256.size a := fun arg0 v1 v185 k0_hw6 k0_h1 => k0_hw6.2.1 k0_h1
theorem k0_off12_inb : ∀ (arg0 : BitVec 32) (v1 : BitVec 32) (v185 : BitVec 32) (k0_hw6 : k0_chk6 arg0 v1 v185), ∀ (k0_h1 : k0_cond1 arg0 v1 = 1#1), ∀ a, (k0_off12 v185) a + S8x128.size a ≤ S7688x256.size a := fun arg0 v1 v185 k0_hw6 k0_h1 => k0_hw6.2.2 k0_h1

def k0_mult7 (v215 : BitVec 32) : BitVec 32 :=
  let c1_i32_62 : BitVec 32 := 1#32
  let v235 : BitVec 32 := Scalar.shrsi v215 c1_i32_62
  v235

def k0_off13 (v215 : BitVec 32) : Fin 2 → Nat :=
  let c1_i32_62 : BitVec 32 := 1#32
  let v235 : BitVec 32 := Scalar.shrsi v215 c1_i32_62
  let v236 : BitVec 32 := v235
  let v237 : Index := Scalar.indexCast v236
  let c0_63 : Index := 0#32
  ![v237.toNat, 0]
def k0_off14 (v215 : BitVec 32) : Fin 2 → Nat :=
  let c1_i32_62 : BitVec 32 := 1#32
  let v235 : BitVec 32 := Scalar.shrsi v215 c1_i32_62
  let v236 : BitVec 32 := v235
  let v241 : Index := Scalar.indexCast v236
  let c128_64 : Index := 128#32
  ![v241.toNat, 128]

def k0_chk7 (arg0 : BitVec 32) (v1 : BitVec 32) (v215 : BitVec 32) : Prop :=
  (∀ (k0_h1 : k0_cond1 arg0 v1 = 1#1), 8 ∣ (k0_mult7 v215).toNat) ∧
  (∀ (k0_h1 : k0_cond1 arg0 v1 = 1#1), ∀ a, (k0_off13 v215) a + S8x128.size a ≤ S7688x256.size a) ∧
  (∀ (k0_h1 : k0_cond1 arg0 v1 = 1#1), ∀ a, (k0_off14 v215) a + S8x128.size a ≤ S7688x256.size a)
theorem k0_mult7_dvd : ∀ (arg0 : BitVec 32) (v1 : BitVec 32) (v215 : BitVec 32) (k0_hw7 : k0_chk7 arg0 v1 v215), ∀ (k0_h1 : k0_cond1 arg0 v1 = 1#1), 8 ∣ (k0_mult7 v215).toNat := fun arg0 v1 v215 k0_hw7 k0_h1 => k0_hw7.1 k0_h1
theorem k0_off13_inb : ∀ (arg0 : BitVec 32) (v1 : BitVec 32) (v215 : BitVec 32) (k0_hw7 : k0_chk7 arg0 v1 v215), ∀ (k0_h1 : k0_cond1 arg0 v1 = 1#1), ∀ a, (k0_off13 v215) a + S8x128.size a ≤ S7688x256.size a := fun arg0 v1 v215 k0_hw7 k0_h1 => k0_hw7.2.1 k0_h1
theorem k0_off14_inb : ∀ (arg0 : BitVec 32) (v1 : BitVec 32) (v215 : BitVec 32) (k0_hw7 : k0_chk7 arg0 v1 v215), ∀ (k0_h1 : k0_cond1 arg0 v1 = 1#1), ∀ a, (k0_off14 v215) a + S8x128.size a ≤ S7688x256.size a := fun arg0 v1 v215 k0_hw7 k0_h1 => k0_hw7.2.2 k0_h1

def k0_mult8 (v245 : BitVec 32) : BitVec 32 :=
  let c1_i32_69 : BitVec 32 := 1#32
  let v265 : BitVec 32 := Scalar.shrsi v245 c1_i32_69
  v265

def k0_off15 (v245 : BitVec 32) : Fin 2 → Nat :=
  let c1_i32_69 : BitVec 32 := 1#32
  let v265 : BitVec 32 := Scalar.shrsi v245 c1_i32_69
  let v266 : BitVec 32 := v265
  let v267 : Index := Scalar.indexCast v266
  let c0_70 : Index := 0#32
  ![v267.toNat, 0]
def k0_off16 (v245 : BitVec 32) : Fin 2 → Nat :=
  let c1_i32_69 : BitVec 32 := 1#32
  let v265 : BitVec 32 := Scalar.shrsi v245 c1_i32_69
  let v266 : BitVec 32 := v265
  let v271 : Index := Scalar.indexCast v266
  let c128_71 : Index := 128#32
  ![v271.toNat, 128]

def k0_chk8 (arg0 : BitVec 32) (v1 : BitVec 32) (v245 : BitVec 32) : Prop :=
  (∀ (k0_h1 : k0_cond1 arg0 v1 = 1#1), 8 ∣ (k0_mult8 v245).toNat) ∧
  (∀ (k0_h1 : k0_cond1 arg0 v1 = 1#1), ∀ a, (k0_off15 v245) a + S8x128.size a ≤ S7688x256.size a) ∧
  (∀ (k0_h1 : k0_cond1 arg0 v1 = 1#1), ∀ a, (k0_off16 v245) a + S8x128.size a ≤ S7688x256.size a)
theorem k0_mult8_dvd : ∀ (arg0 : BitVec 32) (v1 : BitVec 32) (v245 : BitVec 32) (k0_hw8 : k0_chk8 arg0 v1 v245), ∀ (k0_h1 : k0_cond1 arg0 v1 = 1#1), 8 ∣ (k0_mult8 v245).toNat := fun arg0 v1 v245 k0_hw8 k0_h1 => k0_hw8.1 k0_h1
theorem k0_off15_inb : ∀ (arg0 : BitVec 32) (v1 : BitVec 32) (v245 : BitVec 32) (k0_hw8 : k0_chk8 arg0 v1 v245), ∀ (k0_h1 : k0_cond1 arg0 v1 = 1#1), ∀ a, (k0_off15 v245) a + S8x128.size a ≤ S7688x256.size a := fun arg0 v1 v245 k0_hw8 k0_h1 => k0_hw8.2.1 k0_h1
theorem k0_off16_inb : ∀ (arg0 : BitVec 32) (v1 : BitVec 32) (v245 : BitVec 32) (k0_hw8 : k0_chk8 arg0 v1 v245), ∀ (k0_h1 : k0_cond1 arg0 v1 = 1#1), ∀ a, (k0_off16 v245) a + S8x128.size a ≤ S7688x256.size a := fun arg0 v1 v245 k0_hw8 k0_h1 => k0_hw8.2.2 k0_h1

def k0_mult9 (v275 : BitVec 32) : BitVec 32 :=
  let c1_i32_76 : BitVec 32 := 1#32
  let v295 : BitVec 32 := Scalar.shrsi v275 c1_i32_76
  v295

def k0_off17 (v275 : BitVec 32) : Fin 2 → Nat :=
  let c1_i32_76 : BitVec 32 := 1#32
  let v295 : BitVec 32 := Scalar.shrsi v275 c1_i32_76
  let v296 : BitVec 32 := v295
  let v297 : Index := Scalar.indexCast v296
  let c0_77 : Index := 0#32
  ![v297.toNat, 0]
def k0_off18 (v275 : BitVec 32) : Fin 2 → Nat :=
  let c1_i32_76 : BitVec 32 := 1#32
  let v295 : BitVec 32 := Scalar.shrsi v275 c1_i32_76
  let v296 : BitVec 32 := v295
  let v301 : Index := Scalar.indexCast v296
  let c128_78 : Index := 128#32
  ![v301.toNat, 128]

def k0_chk9 (arg0 : BitVec 32) (v1 : BitVec 32) (v275 : BitVec 32) : Prop :=
  (∀ (k0_h1 : k0_cond1 arg0 v1 = 1#1), 8 ∣ (k0_mult9 v275).toNat) ∧
  (∀ (k0_h1 : k0_cond1 arg0 v1 = 1#1), ∀ a, (k0_off17 v275) a + S8x128.size a ≤ S7688x256.size a) ∧
  (∀ (k0_h1 : k0_cond1 arg0 v1 = 1#1), ∀ a, (k0_off18 v275) a + S8x128.size a ≤ S7688x256.size a)
theorem k0_mult9_dvd : ∀ (arg0 : BitVec 32) (v1 : BitVec 32) (v275 : BitVec 32) (k0_hw9 : k0_chk9 arg0 v1 v275), ∀ (k0_h1 : k0_cond1 arg0 v1 = 1#1), 8 ∣ (k0_mult9 v275).toNat := fun arg0 v1 v275 k0_hw9 k0_h1 => k0_hw9.1 k0_h1
theorem k0_off17_inb : ∀ (arg0 : BitVec 32) (v1 : BitVec 32) (v275 : BitVec 32) (k0_hw9 : k0_chk9 arg0 v1 v275), ∀ (k0_h1 : k0_cond1 arg0 v1 = 1#1), ∀ a, (k0_off17 v275) a + S8x128.size a ≤ S7688x256.size a := fun arg0 v1 v275 k0_hw9 k0_h1 => k0_hw9.2.1 k0_h1
theorem k0_off18_inb : ∀ (arg0 : BitVec 32) (v1 : BitVec 32) (v275 : BitVec 32) (k0_hw9 : k0_chk9 arg0 v1 v275), ∀ (k0_h1 : k0_cond1 arg0 v1 = 1#1), ∀ a, (k0_off18 v275) a + S8x128.size a ≤ S7688x256.size a := fun arg0 v1 v275 k0_hw9 k0_h1 => k0_hw9.2.2 k0_h1

def k0_mult10 (v305 : BitVec 32) : BitVec 32 :=
  let c1_i32_83 : BitVec 32 := 1#32
  let v325 : BitVec 32 := Scalar.shrsi v305 c1_i32_83
  v325

def k0_off19 (v305 : BitVec 32) : Fin 2 → Nat :=
  let c1_i32_83 : BitVec 32 := 1#32
  let v325 : BitVec 32 := Scalar.shrsi v305 c1_i32_83
  let v326 : BitVec 32 := v325
  let v327 : Index := Scalar.indexCast v326
  let c0_84 : Index := 0#32
  ![v327.toNat, 0]
def k0_off20 (v305 : BitVec 32) : Fin 2 → Nat :=
  let c1_i32_83 : BitVec 32 := 1#32
  let v325 : BitVec 32 := Scalar.shrsi v305 c1_i32_83
  let v326 : BitVec 32 := v325
  let v331 : Index := Scalar.indexCast v326
  let c128_85 : Index := 128#32
  ![v331.toNat, 128]

def k0_chk10 (arg0 : BitVec 32) (v1 : BitVec 32) (v305 : BitVec 32) : Prop :=
  (∀ (k0_h1 : k0_cond1 arg0 v1 = 1#1), 8 ∣ (k0_mult10 v305).toNat) ∧
  (∀ (k0_h1 : k0_cond1 arg0 v1 = 1#1), ∀ a, (k0_off19 v305) a + S8x128.size a ≤ S7688x256.size a) ∧
  (∀ (k0_h1 : k0_cond1 arg0 v1 = 1#1), ∀ a, (k0_off20 v305) a + S8x128.size a ≤ S7688x256.size a)
theorem k0_mult10_dvd : ∀ (arg0 : BitVec 32) (v1 : BitVec 32) (v305 : BitVec 32) (k0_hw10 : k0_chk10 arg0 v1 v305), ∀ (k0_h1 : k0_cond1 arg0 v1 = 1#1), 8 ∣ (k0_mult10 v305).toNat := fun arg0 v1 v305 k0_hw10 k0_h1 => k0_hw10.1 k0_h1
theorem k0_off19_inb : ∀ (arg0 : BitVec 32) (v1 : BitVec 32) (v305 : BitVec 32) (k0_hw10 : k0_chk10 arg0 v1 v305), ∀ (k0_h1 : k0_cond1 arg0 v1 = 1#1), ∀ a, (k0_off19 v305) a + S8x128.size a ≤ S7688x256.size a := fun arg0 v1 v305 k0_hw10 k0_h1 => k0_hw10.2.1 k0_h1
theorem k0_off20_inb : ∀ (arg0 : BitVec 32) (v1 : BitVec 32) (v305 : BitVec 32) (k0_hw10 : k0_chk10 arg0 v1 v305), ∀ (k0_h1 : k0_cond1 arg0 v1 = 1#1), ∀ a, (k0_off20 v305) a + S8x128.size a ≤ S7688x256.size a := fun arg0 v1 v305 k0_hw10 k0_h1 => k0_hw10.2.2 k0_h1

def k0_mult11 (v335 : BitVec 32) : BitVec 32 :=
  let c1_i32_90 : BitVec 32 := 1#32
  let v355 : BitVec 32 := Scalar.shrsi v335 c1_i32_90
  v355

def k0_off21 (v335 : BitVec 32) : Fin 2 → Nat :=
  let c1_i32_90 : BitVec 32 := 1#32
  let v355 : BitVec 32 := Scalar.shrsi v335 c1_i32_90
  let v356 : BitVec 32 := v355
  let v357 : Index := Scalar.indexCast v356
  let c0_91 : Index := 0#32
  ![v357.toNat, 0]
def k0_off22 (v335 : BitVec 32) : Fin 2 → Nat :=
  let c1_i32_90 : BitVec 32 := 1#32
  let v355 : BitVec 32 := Scalar.shrsi v335 c1_i32_90
  let v356 : BitVec 32 := v355
  let v361 : Index := Scalar.indexCast v356
  let c128_92 : Index := 128#32
  ![v361.toNat, 128]

def k0_chk11 (arg0 : BitVec 32) (v1 : BitVec 32) (v335 : BitVec 32) : Prop :=
  (∀ (k0_h1 : k0_cond1 arg0 v1 = 1#1), 8 ∣ (k0_mult11 v335).toNat) ∧
  (∀ (k0_h1 : k0_cond1 arg0 v1 = 1#1), ∀ a, (k0_off21 v335) a + S8x128.size a ≤ S7688x256.size a) ∧
  (∀ (k0_h1 : k0_cond1 arg0 v1 = 1#1), ∀ a, (k0_off22 v335) a + S8x128.size a ≤ S7688x256.size a)
theorem k0_mult11_dvd : ∀ (arg0 : BitVec 32) (v1 : BitVec 32) (v335 : BitVec 32) (k0_hw11 : k0_chk11 arg0 v1 v335), ∀ (k0_h1 : k0_cond1 arg0 v1 = 1#1), 8 ∣ (k0_mult11 v335).toNat := fun arg0 v1 v335 k0_hw11 k0_h1 => k0_hw11.1 k0_h1
theorem k0_off21_inb : ∀ (arg0 : BitVec 32) (v1 : BitVec 32) (v335 : BitVec 32) (k0_hw11 : k0_chk11 arg0 v1 v335), ∀ (k0_h1 : k0_cond1 arg0 v1 = 1#1), ∀ a, (k0_off21 v335) a + S8x128.size a ≤ S7688x256.size a := fun arg0 v1 v335 k0_hw11 k0_h1 => k0_hw11.2.1 k0_h1
theorem k0_off22_inb : ∀ (arg0 : BitVec 32) (v1 : BitVec 32) (v335 : BitVec 32) (k0_hw11 : k0_chk11 arg0 v1 v335), ∀ (k0_h1 : k0_cond1 arg0 v1 = 1#1), ∀ a, (k0_off22 v335) a + S8x128.size a ≤ S7688x256.size a := fun arg0 v1 v335 k0_hw11 k0_h1 => k0_hw11.2.2 k0_h1

def k0_mult12 (v365 : BitVec 32) : BitVec 32 :=
  let c1_i32_97 : BitVec 32 := 1#32
  let v385 : BitVec 32 := Scalar.shrsi v365 c1_i32_97
  v385

def k0_off23 (v365 : BitVec 32) : Fin 2 → Nat :=
  let c1_i32_97 : BitVec 32 := 1#32
  let v385 : BitVec 32 := Scalar.shrsi v365 c1_i32_97
  let v386 : BitVec 32 := v385
  let v387 : Index := Scalar.indexCast v386
  let c0_98 : Index := 0#32
  ![v387.toNat, 0]
def k0_off24 (v365 : BitVec 32) : Fin 2 → Nat :=
  let c1_i32_97 : BitVec 32 := 1#32
  let v385 : BitVec 32 := Scalar.shrsi v365 c1_i32_97
  let v386 : BitVec 32 := v385
  let v391 : Index := Scalar.indexCast v386
  let c128_99 : Index := 128#32
  ![v391.toNat, 128]

def k0_chk12 (arg0 : BitVec 32) (v1 : BitVec 32) (v365 : BitVec 32) : Prop :=
  (∀ (k0_h1 : k0_cond1 arg0 v1 = 1#1), 8 ∣ (k0_mult12 v365).toNat) ∧
  (∀ (k0_h1 : k0_cond1 arg0 v1 = 1#1), ∀ a, (k0_off23 v365) a + S8x128.size a ≤ S7688x256.size a) ∧
  (∀ (k0_h1 : k0_cond1 arg0 v1 = 1#1), ∀ a, (k0_off24 v365) a + S8x128.size a ≤ S7688x256.size a)
theorem k0_mult12_dvd : ∀ (arg0 : BitVec 32) (v1 : BitVec 32) (v365 : BitVec 32) (k0_hw12 : k0_chk12 arg0 v1 v365), ∀ (k0_h1 : k0_cond1 arg0 v1 = 1#1), 8 ∣ (k0_mult12 v365).toNat := fun arg0 v1 v365 k0_hw12 k0_h1 => k0_hw12.1 k0_h1
theorem k0_off23_inb : ∀ (arg0 : BitVec 32) (v1 : BitVec 32) (v365 : BitVec 32) (k0_hw12 : k0_chk12 arg0 v1 v365), ∀ (k0_h1 : k0_cond1 arg0 v1 = 1#1), ∀ a, (k0_off23 v365) a + S8x128.size a ≤ S7688x256.size a := fun arg0 v1 v365 k0_hw12 k0_h1 => k0_hw12.2.1 k0_h1
theorem k0_off24_inb : ∀ (arg0 : BitVec 32) (v1 : BitVec 32) (v365 : BitVec 32) (k0_hw12 : k0_chk12 arg0 v1 v365), ∀ (k0_h1 : k0_cond1 arg0 v1 = 1#1), ∀ a, (k0_off24 v365) a + S8x128.size a ≤ S7688x256.size a := fun arg0 v1 v365 k0_hw12 k0_h1 => k0_hw12.2.2 k0_h1

def k0_mult13 (v395 : BitVec 32) : BitVec 32 :=
  let c1_i32_104 : BitVec 32 := 1#32
  let v415 : BitVec 32 := Scalar.shrsi v395 c1_i32_104
  v415

def k0_off25 (v395 : BitVec 32) : Fin 2 → Nat :=
  let c1_i32_104 : BitVec 32 := 1#32
  let v415 : BitVec 32 := Scalar.shrsi v395 c1_i32_104
  let v416 : BitVec 32 := v415
  let v417 : Index := Scalar.indexCast v416
  let c0_105 : Index := 0#32
  ![v417.toNat, 0]
def k0_off26 (v395 : BitVec 32) : Fin 2 → Nat :=
  let c1_i32_104 : BitVec 32 := 1#32
  let v415 : BitVec 32 := Scalar.shrsi v395 c1_i32_104
  let v416 : BitVec 32 := v415
  let v421 : Index := Scalar.indexCast v416
  let c128_106 : Index := 128#32
  ![v421.toNat, 128]

def k0_chk13 (arg0 : BitVec 32) (v1 : BitVec 32) (v395 : BitVec 32) : Prop :=
  (∀ (k0_h1 : k0_cond1 arg0 v1 = 1#1), 8 ∣ (k0_mult13 v395).toNat) ∧
  (∀ (k0_h1 : k0_cond1 arg0 v1 = 1#1), ∀ a, (k0_off25 v395) a + S8x128.size a ≤ S7688x256.size a) ∧
  (∀ (k0_h1 : k0_cond1 arg0 v1 = 1#1), ∀ a, (k0_off26 v395) a + S8x128.size a ≤ S7688x256.size a)
theorem k0_mult13_dvd : ∀ (arg0 : BitVec 32) (v1 : BitVec 32) (v395 : BitVec 32) (k0_hw13 : k0_chk13 arg0 v1 v395), ∀ (k0_h1 : k0_cond1 arg0 v1 = 1#1), 8 ∣ (k0_mult13 v395).toNat := fun arg0 v1 v395 k0_hw13 k0_h1 => k0_hw13.1 k0_h1
theorem k0_off25_inb : ∀ (arg0 : BitVec 32) (v1 : BitVec 32) (v395 : BitVec 32) (k0_hw13 : k0_chk13 arg0 v1 v395), ∀ (k0_h1 : k0_cond1 arg0 v1 = 1#1), ∀ a, (k0_off25 v395) a + S8x128.size a ≤ S7688x256.size a := fun arg0 v1 v395 k0_hw13 k0_h1 => k0_hw13.2.1 k0_h1
theorem k0_off26_inb : ∀ (arg0 : BitVec 32) (v1 : BitVec 32) (v395 : BitVec 32) (k0_hw13 : k0_chk13 arg0 v1 v395), ∀ (k0_h1 : k0_cond1 arg0 v1 = 1#1), ∀ a, (k0_off26 v395) a + S8x128.size a ≤ S7688x256.size a := fun arg0 v1 v395 k0_hw13 k0_h1 => k0_hw13.2.2 k0_h1

def k0_mult14 (v425 : BitVec 32) : BitVec 32 :=
  let c1_i32_111 : BitVec 32 := 1#32
  let v445 : BitVec 32 := Scalar.shrsi v425 c1_i32_111
  v445

def k0_off27 (v425 : BitVec 32) : Fin 2 → Nat :=
  let c1_i32_111 : BitVec 32 := 1#32
  let v445 : BitVec 32 := Scalar.shrsi v425 c1_i32_111
  let v446 : BitVec 32 := v445
  let v447 : Index := Scalar.indexCast v446
  let c0_112 : Index := 0#32
  ![v447.toNat, 0]
def k0_off28 (v425 : BitVec 32) : Fin 2 → Nat :=
  let c1_i32_111 : BitVec 32 := 1#32
  let v445 : BitVec 32 := Scalar.shrsi v425 c1_i32_111
  let v446 : BitVec 32 := v445
  let v451 : Index := Scalar.indexCast v446
  let c128_113 : Index := 128#32
  ![v451.toNat, 128]

def k0_chk14 (arg0 : BitVec 32) (v1 : BitVec 32) (v425 : BitVec 32) : Prop :=
  (∀ (k0_h1 : k0_cond1 arg0 v1 = 1#1), 8 ∣ (k0_mult14 v425).toNat) ∧
  (∀ (k0_h1 : k0_cond1 arg0 v1 = 1#1), ∀ a, (k0_off27 v425) a + S8x128.size a ≤ S7688x256.size a) ∧
  (∀ (k0_h1 : k0_cond1 arg0 v1 = 1#1), ∀ a, (k0_off28 v425) a + S8x128.size a ≤ S7688x256.size a)
theorem k0_mult14_dvd : ∀ (arg0 : BitVec 32) (v1 : BitVec 32) (v425 : BitVec 32) (k0_hw14 : k0_chk14 arg0 v1 v425), ∀ (k0_h1 : k0_cond1 arg0 v1 = 1#1), 8 ∣ (k0_mult14 v425).toNat := fun arg0 v1 v425 k0_hw14 k0_h1 => k0_hw14.1 k0_h1
theorem k0_off27_inb : ∀ (arg0 : BitVec 32) (v1 : BitVec 32) (v425 : BitVec 32) (k0_hw14 : k0_chk14 arg0 v1 v425), ∀ (k0_h1 : k0_cond1 arg0 v1 = 1#1), ∀ a, (k0_off27 v425) a + S8x128.size a ≤ S7688x256.size a := fun arg0 v1 v425 k0_hw14 k0_h1 => k0_hw14.2.1 k0_h1
theorem k0_off28_inb : ∀ (arg0 : BitVec 32) (v1 : BitVec 32) (v425 : BitVec 32) (k0_hw14 : k0_chk14 arg0 v1 v425), ∀ (k0_h1 : k0_cond1 arg0 v1 = 1#1), ∀ a, (k0_off28 v425) a + S8x128.size a ≤ S7688x256.size a := fun arg0 v1 v425 k0_hw14 k0_h1 => k0_hw14.2.2 k0_h1

def k0_mult15 (v455 : BitVec 32) : BitVec 32 :=
  let c1_i32_118 : BitVec 32 := 1#32
  let v475 : BitVec 32 := Scalar.shrsi v455 c1_i32_118
  v475

def k0_off29 (v455 : BitVec 32) : Fin 2 → Nat :=
  let c1_i32_118 : BitVec 32 := 1#32
  let v475 : BitVec 32 := Scalar.shrsi v455 c1_i32_118
  let v476 : BitVec 32 := v475
  let v477 : Index := Scalar.indexCast v476
  let c0_119 : Index := 0#32
  ![v477.toNat, 0]
def k0_off30 (v455 : BitVec 32) : Fin 2 → Nat :=
  let c1_i32_118 : BitVec 32 := 1#32
  let v475 : BitVec 32 := Scalar.shrsi v455 c1_i32_118
  let v476 : BitVec 32 := v475
  let v481 : Index := Scalar.indexCast v476
  let c128_120 : Index := 128#32
  ![v481.toNat, 128]

def k0_chk15 (arg0 : BitVec 32) (v1 : BitVec 32) (v455 : BitVec 32) : Prop :=
  (∀ (k0_h1 : k0_cond1 arg0 v1 = 1#1), 8 ∣ (k0_mult15 v455).toNat) ∧
  (∀ (k0_h1 : k0_cond1 arg0 v1 = 1#1), ∀ a, (k0_off29 v455) a + S8x128.size a ≤ S7688x256.size a) ∧
  (∀ (k0_h1 : k0_cond1 arg0 v1 = 1#1), ∀ a, (k0_off30 v455) a + S8x128.size a ≤ S7688x256.size a)
theorem k0_mult15_dvd : ∀ (arg0 : BitVec 32) (v1 : BitVec 32) (v455 : BitVec 32) (k0_hw15 : k0_chk15 arg0 v1 v455), ∀ (k0_h1 : k0_cond1 arg0 v1 = 1#1), 8 ∣ (k0_mult15 v455).toNat := fun arg0 v1 v455 k0_hw15 k0_h1 => k0_hw15.1 k0_h1
theorem k0_off29_inb : ∀ (arg0 : BitVec 32) (v1 : BitVec 32) (v455 : BitVec 32) (k0_hw15 : k0_chk15 arg0 v1 v455), ∀ (k0_h1 : k0_cond1 arg0 v1 = 1#1), ∀ a, (k0_off29 v455) a + S8x128.size a ≤ S7688x256.size a := fun arg0 v1 v455 k0_hw15 k0_h1 => k0_hw15.2.1 k0_h1
theorem k0_off30_inb : ∀ (arg0 : BitVec 32) (v1 : BitVec 32) (v455 : BitVec 32) (k0_hw15 : k0_chk15 arg0 v1 v455), ∀ (k0_h1 : k0_cond1 arg0 v1 = 1#1), ∀ a, (k0_off30 v455) a + S8x128.size a ≤ S7688x256.size a := fun arg0 v1 v455 k0_hw15 k0_h1 => k0_hw15.2.2 k0_h1

def k0_mult16 (v485 : BitVec 32) : BitVec 32 :=
  let c1_i32_125 : BitVec 32 := 1#32
  let v505 : BitVec 32 := Scalar.shrsi v485 c1_i32_125
  v505

def k0_off31 (v485 : BitVec 32) : Fin 2 → Nat :=
  let c1_i32_125 : BitVec 32 := 1#32
  let v505 : BitVec 32 := Scalar.shrsi v485 c1_i32_125
  let v506 : BitVec 32 := v505
  let v507 : Index := Scalar.indexCast v506
  let c0_126 : Index := 0#32
  ![v507.toNat, 0]
def k0_off32 (v485 : BitVec 32) : Fin 2 → Nat :=
  let c1_i32_125 : BitVec 32 := 1#32
  let v505 : BitVec 32 := Scalar.shrsi v485 c1_i32_125
  let v506 : BitVec 32 := v505
  let v511 : Index := Scalar.indexCast v506
  let c128_127 : Index := 128#32
  ![v511.toNat, 128]

def k0_chk16 (arg0 : BitVec 32) (v1 : BitVec 32) (v485 : BitVec 32) : Prop :=
  (∀ (k0_h1 : k0_cond1 arg0 v1 = 1#1), 8 ∣ (k0_mult16 v485).toNat) ∧
  (∀ (k0_h1 : k0_cond1 arg0 v1 = 1#1), ∀ a, (k0_off31 v485) a + S8x128.size a ≤ S7688x256.size a) ∧
  (∀ (k0_h1 : k0_cond1 arg0 v1 = 1#1), ∀ a, (k0_off32 v485) a + S8x128.size a ≤ S7688x256.size a)
theorem k0_mult16_dvd : ∀ (arg0 : BitVec 32) (v1 : BitVec 32) (v485 : BitVec 32) (k0_hw16 : k0_chk16 arg0 v1 v485), ∀ (k0_h1 : k0_cond1 arg0 v1 = 1#1), 8 ∣ (k0_mult16 v485).toNat := fun arg0 v1 v485 k0_hw16 k0_h1 => k0_hw16.1 k0_h1
theorem k0_off31_inb : ∀ (arg0 : BitVec 32) (v1 : BitVec 32) (v485 : BitVec 32) (k0_hw16 : k0_chk16 arg0 v1 v485), ∀ (k0_h1 : k0_cond1 arg0 v1 = 1#1), ∀ a, (k0_off31 v485) a + S8x128.size a ≤ S7688x256.size a := fun arg0 v1 v485 k0_hw16 k0_h1 => k0_hw16.2.1 k0_h1
theorem k0_off32_inb : ∀ (arg0 : BitVec 32) (v1 : BitVec 32) (v485 : BitVec 32) (k0_hw16 : k0_chk16 arg0 v1 v485), ∀ (k0_h1 : k0_cond1 arg0 v1 = 1#1), ∀ a, (k0_off32 v485) a + S8x128.size a ≤ S7688x256.size a := fun arg0 v1 v485 k0_hw16 k0_h1 => k0_hw16.2.2 k0_h1

def k0_mult17 (v515 : BitVec 32) : BitVec 32 :=
  let c1_i32_132 : BitVec 32 := 1#32
  let v535 : BitVec 32 := Scalar.shrsi v515 c1_i32_132
  v535

def k0_off33 (v515 : BitVec 32) : Fin 2 → Nat :=
  let c1_i32_132 : BitVec 32 := 1#32
  let v535 : BitVec 32 := Scalar.shrsi v515 c1_i32_132
  let v536 : BitVec 32 := v535
  let v537 : Index := Scalar.indexCast v536
  let c0_133 : Index := 0#32
  ![v537.toNat, 0]
def k0_off34 (v515 : BitVec 32) : Fin 2 → Nat :=
  let c1_i32_132 : BitVec 32 := 1#32
  let v535 : BitVec 32 := Scalar.shrsi v515 c1_i32_132
  let v536 : BitVec 32 := v535
  let v541 : Index := Scalar.indexCast v536
  let c128_134 : Index := 128#32
  ![v541.toNat, 128]

def k0_chk17 (arg0 : BitVec 32) (v1 : BitVec 32) (v515 : BitVec 32) : Prop :=
  (∀ (k0_h1 : k0_cond1 arg0 v1 = 1#1), 8 ∣ (k0_mult17 v515).toNat) ∧
  (∀ (k0_h1 : k0_cond1 arg0 v1 = 1#1), ∀ a, (k0_off33 v515) a + S8x128.size a ≤ S7688x256.size a) ∧
  (∀ (k0_h1 : k0_cond1 arg0 v1 = 1#1), ∀ a, (k0_off34 v515) a + S8x128.size a ≤ S7688x256.size a)
theorem k0_mult17_dvd : ∀ (arg0 : BitVec 32) (v1 : BitVec 32) (v515 : BitVec 32) (k0_hw17 : k0_chk17 arg0 v1 v515), ∀ (k0_h1 : k0_cond1 arg0 v1 = 1#1), 8 ∣ (k0_mult17 v515).toNat := fun arg0 v1 v515 k0_hw17 k0_h1 => k0_hw17.1 k0_h1
theorem k0_off33_inb : ∀ (arg0 : BitVec 32) (v1 : BitVec 32) (v515 : BitVec 32) (k0_hw17 : k0_chk17 arg0 v1 v515), ∀ (k0_h1 : k0_cond1 arg0 v1 = 1#1), ∀ a, (k0_off33 v515) a + S8x128.size a ≤ S7688x256.size a := fun arg0 v1 v515 k0_hw17 k0_h1 => k0_hw17.2.1 k0_h1
theorem k0_off34_inb : ∀ (arg0 : BitVec 32) (v1 : BitVec 32) (v515 : BitVec 32) (k0_hw17 : k0_chk17 arg0 v1 v515), ∀ (k0_h1 : k0_cond1 arg0 v1 = 1#1), ∀ a, (k0_off34 v515) a + S8x128.size a ≤ S7688x256.size a := fun arg0 v1 v515 k0_hw17 k0_h1 => k0_hw17.2.2 k0_h1

def k0_mult18 (v545 : BitVec 32) : BitVec 32 :=
  let c1_i32_139 : BitVec 32 := 1#32
  let v565 : BitVec 32 := Scalar.shrsi v545 c1_i32_139
  v565

def k0_off35 (v545 : BitVec 32) : Fin 2 → Nat :=
  let c1_i32_139 : BitVec 32 := 1#32
  let v565 : BitVec 32 := Scalar.shrsi v545 c1_i32_139
  let v566 : BitVec 32 := v565
  let v567 : Index := Scalar.indexCast v566
  let c0_140 : Index := 0#32
  ![v567.toNat, 0]
def k0_off36 (v545 : BitVec 32) : Fin 2 → Nat :=
  let c1_i32_139 : BitVec 32 := 1#32
  let v565 : BitVec 32 := Scalar.shrsi v545 c1_i32_139
  let v566 : BitVec 32 := v565
  let v571 : Index := Scalar.indexCast v566
  let c128_141 : Index := 128#32
  ![v571.toNat, 128]

def k0_chk18 (arg0 : BitVec 32) (v1 : BitVec 32) (v545 : BitVec 32) : Prop :=
  (∀ (k0_h1 : k0_cond1 arg0 v1 = 1#1), 8 ∣ (k0_mult18 v545).toNat) ∧
  (∀ (k0_h1 : k0_cond1 arg0 v1 = 1#1), ∀ a, (k0_off35 v545) a + S8x128.size a ≤ S7688x256.size a) ∧
  (∀ (k0_h1 : k0_cond1 arg0 v1 = 1#1), ∀ a, (k0_off36 v545) a + S8x128.size a ≤ S7688x256.size a)
theorem k0_mult18_dvd : ∀ (arg0 : BitVec 32) (v1 : BitVec 32) (v545 : BitVec 32) (k0_hw18 : k0_chk18 arg0 v1 v545), ∀ (k0_h1 : k0_cond1 arg0 v1 = 1#1), 8 ∣ (k0_mult18 v545).toNat := fun arg0 v1 v545 k0_hw18 k0_h1 => k0_hw18.1 k0_h1
theorem k0_off35_inb : ∀ (arg0 : BitVec 32) (v1 : BitVec 32) (v545 : BitVec 32) (k0_hw18 : k0_chk18 arg0 v1 v545), ∀ (k0_h1 : k0_cond1 arg0 v1 = 1#1), ∀ a, (k0_off35 v545) a + S8x128.size a ≤ S7688x256.size a := fun arg0 v1 v545 k0_hw18 k0_h1 => k0_hw18.2.1 k0_h1
theorem k0_off36_inb : ∀ (arg0 : BitVec 32) (v1 : BitVec 32) (v545 : BitVec 32) (k0_hw18 : k0_chk18 arg0 v1 v545), ∀ (k0_h1 : k0_cond1 arg0 v1 = 1#1), ∀ a, (k0_off36 v545) a + S8x128.size a ≤ S7688x256.size a := fun arg0 v1 v545 k0_hw18 k0_h1 => k0_hw18.2.2 k0_h1

def k0_mult19 (v575 : BitVec 32) : BitVec 32 :=
  let c1_i32_146 : BitVec 32 := 1#32
  let v595 : BitVec 32 := Scalar.shrsi v575 c1_i32_146
  v595

def k0_off37 (v575 : BitVec 32) : Fin 2 → Nat :=
  let c1_i32_146 : BitVec 32 := 1#32
  let v595 : BitVec 32 := Scalar.shrsi v575 c1_i32_146
  let v596 : BitVec 32 := v595
  let v597 : Index := Scalar.indexCast v596
  let c0_147 : Index := 0#32
  ![v597.toNat, 0]
def k0_off38 (v575 : BitVec 32) : Fin 2 → Nat :=
  let c1_i32_146 : BitVec 32 := 1#32
  let v595 : BitVec 32 := Scalar.shrsi v575 c1_i32_146
  let v596 : BitVec 32 := v595
  let v601 : Index := Scalar.indexCast v596
  let c128_148 : Index := 128#32
  ![v601.toNat, 128]

def k0_chk19 (arg0 : BitVec 32) (v1 : BitVec 32) (v575 : BitVec 32) : Prop :=
  (∀ (k0_h1 : k0_cond1 arg0 v1 = 1#1), 8 ∣ (k0_mult19 v575).toNat) ∧
  (∀ (k0_h1 : k0_cond1 arg0 v1 = 1#1), ∀ a, (k0_off37 v575) a + S8x128.size a ≤ S7688x256.size a) ∧
  (∀ (k0_h1 : k0_cond1 arg0 v1 = 1#1), ∀ a, (k0_off38 v575) a + S8x128.size a ≤ S7688x256.size a)
theorem k0_mult19_dvd : ∀ (arg0 : BitVec 32) (v1 : BitVec 32) (v575 : BitVec 32) (k0_hw19 : k0_chk19 arg0 v1 v575), ∀ (k0_h1 : k0_cond1 arg0 v1 = 1#1), 8 ∣ (k0_mult19 v575).toNat := fun arg0 v1 v575 k0_hw19 k0_h1 => k0_hw19.1 k0_h1
theorem k0_off37_inb : ∀ (arg0 : BitVec 32) (v1 : BitVec 32) (v575 : BitVec 32) (k0_hw19 : k0_chk19 arg0 v1 v575), ∀ (k0_h1 : k0_cond1 arg0 v1 = 1#1), ∀ a, (k0_off37 v575) a + S8x128.size a ≤ S7688x256.size a := fun arg0 v1 v575 k0_hw19 k0_h1 => k0_hw19.2.1 k0_h1
theorem k0_off38_inb : ∀ (arg0 : BitVec 32) (v1 : BitVec 32) (v575 : BitVec 32) (k0_hw19 : k0_chk19 arg0 v1 v575), ∀ (k0_h1 : k0_cond1 arg0 v1 = 1#1), ∀ a, (k0_off38 v575) a + S8x128.size a ≤ S7688x256.size a := fun arg0 v1 v575 k0_hw19 k0_h1 => k0_hw19.2.2 k0_h1

def k0_mult20 (v605 : BitVec 32) : BitVec 32 :=
  let c1_i32_153 : BitVec 32 := 1#32
  let v625 : BitVec 32 := Scalar.shrsi v605 c1_i32_153
  v625

def k0_off39 (v605 : BitVec 32) : Fin 2 → Nat :=
  let c1_i32_153 : BitVec 32 := 1#32
  let v625 : BitVec 32 := Scalar.shrsi v605 c1_i32_153
  let v626 : BitVec 32 := v625
  let v627 : Index := Scalar.indexCast v626
  let c0_154 : Index := 0#32
  ![v627.toNat, 0]
def k0_off40 (v605 : BitVec 32) : Fin 2 → Nat :=
  let c1_i32_153 : BitVec 32 := 1#32
  let v625 : BitVec 32 := Scalar.shrsi v605 c1_i32_153
  let v626 : BitVec 32 := v625
  let v631 : Index := Scalar.indexCast v626
  let c128_155 : Index := 128#32
  ![v631.toNat, 128]

def k0_chk20 (arg0 : BitVec 32) (v1 : BitVec 32) (v605 : BitVec 32) : Prop :=
  (∀ (k0_h1 : k0_cond1 arg0 v1 = 1#1), 8 ∣ (k0_mult20 v605).toNat) ∧
  (∀ (k0_h1 : k0_cond1 arg0 v1 = 1#1), ∀ a, (k0_off39 v605) a + S8x128.size a ≤ S7688x256.size a) ∧
  (∀ (k0_h1 : k0_cond1 arg0 v1 = 1#1), ∀ a, (k0_off40 v605) a + S8x128.size a ≤ S7688x256.size a)
theorem k0_mult20_dvd : ∀ (arg0 : BitVec 32) (v1 : BitVec 32) (v605 : BitVec 32) (k0_hw20 : k0_chk20 arg0 v1 v605), ∀ (k0_h1 : k0_cond1 arg0 v1 = 1#1), 8 ∣ (k0_mult20 v605).toNat := fun arg0 v1 v605 k0_hw20 k0_h1 => k0_hw20.1 k0_h1
theorem k0_off39_inb : ∀ (arg0 : BitVec 32) (v1 : BitVec 32) (v605 : BitVec 32) (k0_hw20 : k0_chk20 arg0 v1 v605), ∀ (k0_h1 : k0_cond1 arg0 v1 = 1#1), ∀ a, (k0_off39 v605) a + S8x128.size a ≤ S7688x256.size a := fun arg0 v1 v605 k0_hw20 k0_h1 => k0_hw20.2.1 k0_h1
theorem k0_off40_inb : ∀ (arg0 : BitVec 32) (v1 : BitVec 32) (v605 : BitVec 32) (k0_hw20 : k0_chk20 arg0 v1 v605), ∀ (k0_h1 : k0_cond1 arg0 v1 = 1#1), ∀ a, (k0_off40 v605) a + S8x128.size a ≤ S7688x256.size a := fun arg0 v1 v605 k0_hw20 k0_h1 => k0_hw20.2.2 k0_h1

def k0_mult21 (v635 : BitVec 32) : BitVec 32 :=
  let c1_i32_160 : BitVec 32 := 1#32
  let v655 : BitVec 32 := Scalar.shrsi v635 c1_i32_160
  v655

def k0_off41 (v635 : BitVec 32) : Fin 2 → Nat :=
  let c1_i32_160 : BitVec 32 := 1#32
  let v655 : BitVec 32 := Scalar.shrsi v635 c1_i32_160
  let v656 : BitVec 32 := v655
  let v657 : Index := Scalar.indexCast v656
  let c0_161 : Index := 0#32
  ![v657.toNat, 0]
def k0_off42 (v635 : BitVec 32) : Fin 2 → Nat :=
  let c1_i32_160 : BitVec 32 := 1#32
  let v655 : BitVec 32 := Scalar.shrsi v635 c1_i32_160
  let v656 : BitVec 32 := v655
  let v661 : Index := Scalar.indexCast v656
  let c128_162 : Index := 128#32
  ![v661.toNat, 128]

def k0_chk21 (arg0 : BitVec 32) (v1 : BitVec 32) (v635 : BitVec 32) : Prop :=
  (∀ (k0_h1 : k0_cond1 arg0 v1 = 1#1), 8 ∣ (k0_mult21 v635).toNat) ∧
  (∀ (k0_h1 : k0_cond1 arg0 v1 = 1#1), ∀ a, (k0_off41 v635) a + S8x128.size a ≤ S7688x256.size a) ∧
  (∀ (k0_h1 : k0_cond1 arg0 v1 = 1#1), ∀ a, (k0_off42 v635) a + S8x128.size a ≤ S7688x256.size a)
theorem k0_mult21_dvd : ∀ (arg0 : BitVec 32) (v1 : BitVec 32) (v635 : BitVec 32) (k0_hw21 : k0_chk21 arg0 v1 v635), ∀ (k0_h1 : k0_cond1 arg0 v1 = 1#1), 8 ∣ (k0_mult21 v635).toNat := fun arg0 v1 v635 k0_hw21 k0_h1 => k0_hw21.1 k0_h1
theorem k0_off41_inb : ∀ (arg0 : BitVec 32) (v1 : BitVec 32) (v635 : BitVec 32) (k0_hw21 : k0_chk21 arg0 v1 v635), ∀ (k0_h1 : k0_cond1 arg0 v1 = 1#1), ∀ a, (k0_off41 v635) a + S8x128.size a ≤ S7688x256.size a := fun arg0 v1 v635 k0_hw21 k0_h1 => k0_hw21.2.1 k0_h1
theorem k0_off42_inb : ∀ (arg0 : BitVec 32) (v1 : BitVec 32) (v635 : BitVec 32) (k0_hw21 : k0_chk21 arg0 v1 v635), ∀ (k0_h1 : k0_cond1 arg0 v1 = 1#1), ∀ a, (k0_off42 v635) a + S8x128.size a ≤ S7688x256.size a := fun arg0 v1 v635 k0_hw21 k0_h1 => k0_hw21.2.2 k0_h1

def k0_mult22 (v665 : BitVec 32) : BitVec 32 :=
  let c1_i32_167 : BitVec 32 := 1#32
  let v685 : BitVec 32 := Scalar.shrsi v665 c1_i32_167
  v685

def k0_off43 (v665 : BitVec 32) : Fin 2 → Nat :=
  let c1_i32_167 : BitVec 32 := 1#32
  let v685 : BitVec 32 := Scalar.shrsi v665 c1_i32_167
  let v686 : BitVec 32 := v685
  let v687 : Index := Scalar.indexCast v686
  let c0_168 : Index := 0#32
  ![v687.toNat, 0]
def k0_off44 (v665 : BitVec 32) : Fin 2 → Nat :=
  let c1_i32_167 : BitVec 32 := 1#32
  let v685 : BitVec 32 := Scalar.shrsi v665 c1_i32_167
  let v686 : BitVec 32 := v685
  let v691 : Index := Scalar.indexCast v686
  let c128_169 : Index := 128#32
  ![v691.toNat, 128]

def k0_chk22 (arg0 : BitVec 32) (v1 : BitVec 32) (v665 : BitVec 32) : Prop :=
  (∀ (k0_h1 : k0_cond1 arg0 v1 = 1#1), 8 ∣ (k0_mult22 v665).toNat) ∧
  (∀ (k0_h1 : k0_cond1 arg0 v1 = 1#1), ∀ a, (k0_off43 v665) a + S8x128.size a ≤ S7688x256.size a) ∧
  (∀ (k0_h1 : k0_cond1 arg0 v1 = 1#1), ∀ a, (k0_off44 v665) a + S8x128.size a ≤ S7688x256.size a)
theorem k0_mult22_dvd : ∀ (arg0 : BitVec 32) (v1 : BitVec 32) (v665 : BitVec 32) (k0_hw22 : k0_chk22 arg0 v1 v665), ∀ (k0_h1 : k0_cond1 arg0 v1 = 1#1), 8 ∣ (k0_mult22 v665).toNat := fun arg0 v1 v665 k0_hw22 k0_h1 => k0_hw22.1 k0_h1
theorem k0_off43_inb : ∀ (arg0 : BitVec 32) (v1 : BitVec 32) (v665 : BitVec 32) (k0_hw22 : k0_chk22 arg0 v1 v665), ∀ (k0_h1 : k0_cond1 arg0 v1 = 1#1), ∀ a, (k0_off43 v665) a + S8x128.size a ≤ S7688x256.size a := fun arg0 v1 v665 k0_hw22 k0_h1 => k0_hw22.2.1 k0_h1
theorem k0_off44_inb : ∀ (arg0 : BitVec 32) (v1 : BitVec 32) (v665 : BitVec 32) (k0_hw22 : k0_chk22 arg0 v1 v665), ∀ (k0_h1 : k0_cond1 arg0 v1 = 1#1), ∀ a, (k0_off44 v665) a + S8x128.size a ≤ S7688x256.size a := fun arg0 v1 v665 k0_hw22 k0_h1 => k0_hw22.2.2 k0_h1

def k0_mult23 (v695 : BitVec 32) : BitVec 32 :=
  let c1_i32_174 : BitVec 32 := 1#32
  let v715 : BitVec 32 := Scalar.shrsi v695 c1_i32_174
  v715

def k0_off45 (v695 : BitVec 32) : Fin 2 → Nat :=
  let c1_i32_174 : BitVec 32 := 1#32
  let v715 : BitVec 32 := Scalar.shrsi v695 c1_i32_174
  let v716 : BitVec 32 := v715
  let v717 : Index := Scalar.indexCast v716
  let c0_175 : Index := 0#32
  ![v717.toNat, 0]
def k0_off46 (v695 : BitVec 32) : Fin 2 → Nat :=
  let c1_i32_174 : BitVec 32 := 1#32
  let v715 : BitVec 32 := Scalar.shrsi v695 c1_i32_174
  let v716 : BitVec 32 := v715
  let v721 : Index := Scalar.indexCast v716
  let c128_176 : Index := 128#32
  ![v721.toNat, 128]

def k0_chk23 (arg0 : BitVec 32) (v1 : BitVec 32) (v695 : BitVec 32) : Prop :=
  (∀ (k0_h1 : k0_cond1 arg0 v1 = 1#1), 8 ∣ (k0_mult23 v695).toNat) ∧
  (∀ (k0_h1 : k0_cond1 arg0 v1 = 1#1), ∀ a, (k0_off45 v695) a + S8x128.size a ≤ S7688x256.size a) ∧
  (∀ (k0_h1 : k0_cond1 arg0 v1 = 1#1), ∀ a, (k0_off46 v695) a + S8x128.size a ≤ S7688x256.size a)
theorem k0_mult23_dvd : ∀ (arg0 : BitVec 32) (v1 : BitVec 32) (v695 : BitVec 32) (k0_hw23 : k0_chk23 arg0 v1 v695), ∀ (k0_h1 : k0_cond1 arg0 v1 = 1#1), 8 ∣ (k0_mult23 v695).toNat := fun arg0 v1 v695 k0_hw23 k0_h1 => k0_hw23.1 k0_h1
theorem k0_off45_inb : ∀ (arg0 : BitVec 32) (v1 : BitVec 32) (v695 : BitVec 32) (k0_hw23 : k0_chk23 arg0 v1 v695), ∀ (k0_h1 : k0_cond1 arg0 v1 = 1#1), ∀ a, (k0_off45 v695) a + S8x128.size a ≤ S7688x256.size a := fun arg0 v1 v695 k0_hw23 k0_h1 => k0_hw23.2.1 k0_h1
theorem k0_off46_inb : ∀ (arg0 : BitVec 32) (v1 : BitVec 32) (v695 : BitVec 32) (k0_hw23 : k0_chk23 arg0 v1 v695), ∀ (k0_h1 : k0_cond1 arg0 v1 = 1#1), ∀ a, (k0_off46 v695) a + S8x128.size a ≤ S7688x256.size a := fun arg0 v1 v695 k0_hw23 k0_h1 => k0_hw23.2.2 k0_h1

def k0_mult24 (v725 : BitVec 32) : BitVec 32 :=
  let c1_i32_181 : BitVec 32 := 1#32
  let v745 : BitVec 32 := Scalar.shrsi v725 c1_i32_181
  v745

def k0_off47 (v725 : BitVec 32) : Fin 2 → Nat :=
  let c1_i32_181 : BitVec 32 := 1#32
  let v745 : BitVec 32 := Scalar.shrsi v725 c1_i32_181
  let v746 : BitVec 32 := v745
  let v747 : Index := Scalar.indexCast v746
  let c0_182 : Index := 0#32
  ![v747.toNat, 0]
def k0_off48 (v725 : BitVec 32) : Fin 2 → Nat :=
  let c1_i32_181 : BitVec 32 := 1#32
  let v745 : BitVec 32 := Scalar.shrsi v725 c1_i32_181
  let v746 : BitVec 32 := v745
  let v751 : Index := Scalar.indexCast v746
  let c128_183 : Index := 128#32
  ![v751.toNat, 128]

def k0_chk24 (arg0 : BitVec 32) (v1 : BitVec 32) (v725 : BitVec 32) : Prop :=
  (∀ (k0_h1 : k0_cond1 arg0 v1 = 1#1), 8 ∣ (k0_mult24 v725).toNat) ∧
  (∀ (k0_h1 : k0_cond1 arg0 v1 = 1#1), ∀ a, (k0_off47 v725) a + S8x128.size a ≤ S7688x256.size a) ∧
  (∀ (k0_h1 : k0_cond1 arg0 v1 = 1#1), ∀ a, (k0_off48 v725) a + S8x128.size a ≤ S7688x256.size a)
theorem k0_mult24_dvd : ∀ (arg0 : BitVec 32) (v1 : BitVec 32) (v725 : BitVec 32) (k0_hw24 : k0_chk24 arg0 v1 v725), ∀ (k0_h1 : k0_cond1 arg0 v1 = 1#1), 8 ∣ (k0_mult24 v725).toNat := fun arg0 v1 v725 k0_hw24 k0_h1 => k0_hw24.1 k0_h1
theorem k0_off47_inb : ∀ (arg0 : BitVec 32) (v1 : BitVec 32) (v725 : BitVec 32) (k0_hw24 : k0_chk24 arg0 v1 v725), ∀ (k0_h1 : k0_cond1 arg0 v1 = 1#1), ∀ a, (k0_off47 v725) a + S8x128.size a ≤ S7688x256.size a := fun arg0 v1 v725 k0_hw24 k0_h1 => k0_hw24.2.1 k0_h1
theorem k0_off48_inb : ∀ (arg0 : BitVec 32) (v1 : BitVec 32) (v725 : BitVec 32) (k0_hw24 : k0_chk24 arg0 v1 v725), ∀ (k0_h1 : k0_cond1 arg0 v1 = 1#1), ∀ a, (k0_off48 v725) a + S8x128.size a ≤ S7688x256.size a := fun arg0 v1 v725 k0_hw24 k0_h1 => k0_hw24.2.2 k0_h1

def k0_mult25 (v755 : BitVec 32) : BitVec 32 :=
  let c1_i32_188 : BitVec 32 := 1#32
  let v775 : BitVec 32 := Scalar.shrsi v755 c1_i32_188
  v775

def k0_off49 (v755 : BitVec 32) : Fin 2 → Nat :=
  let c1_i32_188 : BitVec 32 := 1#32
  let v775 : BitVec 32 := Scalar.shrsi v755 c1_i32_188
  let v776 : BitVec 32 := v775
  let v777 : Index := Scalar.indexCast v776
  let c0_189 : Index := 0#32
  ![v777.toNat, 0]
def k0_off50 (v755 : BitVec 32) : Fin 2 → Nat :=
  let c1_i32_188 : BitVec 32 := 1#32
  let v775 : BitVec 32 := Scalar.shrsi v755 c1_i32_188
  let v776 : BitVec 32 := v775
  let v781 : Index := Scalar.indexCast v776
  let c128_190 : Index := 128#32
  ![v781.toNat, 128]

def k0_chk25 (arg0 : BitVec 32) (v1 : BitVec 32) (v755 : BitVec 32) : Prop :=
  (∀ (k0_h1 : k0_cond1 arg0 v1 = 1#1), 8 ∣ (k0_mult25 v755).toNat) ∧
  (∀ (k0_h1 : k0_cond1 arg0 v1 = 1#1), ∀ a, (k0_off49 v755) a + S8x128.size a ≤ S7688x256.size a) ∧
  (∀ (k0_h1 : k0_cond1 arg0 v1 = 1#1), ∀ a, (k0_off50 v755) a + S8x128.size a ≤ S7688x256.size a)
theorem k0_mult25_dvd : ∀ (arg0 : BitVec 32) (v1 : BitVec 32) (v755 : BitVec 32) (k0_hw25 : k0_chk25 arg0 v1 v755), ∀ (k0_h1 : k0_cond1 arg0 v1 = 1#1), 8 ∣ (k0_mult25 v755).toNat := fun arg0 v1 v755 k0_hw25 k0_h1 => k0_hw25.1 k0_h1
theorem k0_off49_inb : ∀ (arg0 : BitVec 32) (v1 : BitVec 32) (v755 : BitVec 32) (k0_hw25 : k0_chk25 arg0 v1 v755), ∀ (k0_h1 : k0_cond1 arg0 v1 = 1#1), ∀ a, (k0_off49 v755) a + S8x128.size a ≤ S7688x256.size a := fun arg0 v1 v755 k0_hw25 k0_h1 => k0_hw25.2.1 k0_h1
theorem k0_off50_inb : ∀ (arg0 : BitVec 32) (v1 : BitVec 32) (v755 : BitVec 32) (k0_hw25 : k0_chk25 arg0 v1 v755), ∀ (k0_h1 : k0_cond1 arg0 v1 = 1#1), ∀ a, (k0_off50 v755) a + S8x128.size a ≤ S7688x256.size a := fun arg0 v1 v755 k0_hw25 k0_h1 => k0_hw25.2.2 k0_h1

def k0_mult26 (v785 : BitVec 32) : BitVec 32 :=
  let c1_i32_195 : BitVec 32 := 1#32
  let v805 : BitVec 32 := Scalar.shrsi v785 c1_i32_195
  v805

def k0_off51 (v785 : BitVec 32) : Fin 2 → Nat :=
  let c1_i32_195 : BitVec 32 := 1#32
  let v805 : BitVec 32 := Scalar.shrsi v785 c1_i32_195
  let v806 : BitVec 32 := v805
  let v807 : Index := Scalar.indexCast v806
  let c0_196 : Index := 0#32
  ![v807.toNat, 0]
def k0_off52 (v785 : BitVec 32) : Fin 2 → Nat :=
  let c1_i32_195 : BitVec 32 := 1#32
  let v805 : BitVec 32 := Scalar.shrsi v785 c1_i32_195
  let v806 : BitVec 32 := v805
  let v811 : Index := Scalar.indexCast v806
  let c128_197 : Index := 128#32
  ![v811.toNat, 128]

def k0_chk26 (arg0 : BitVec 32) (v1 : BitVec 32) (v785 : BitVec 32) : Prop :=
  (∀ (k0_h1 : k0_cond1 arg0 v1 = 1#1), 8 ∣ (k0_mult26 v785).toNat) ∧
  (∀ (k0_h1 : k0_cond1 arg0 v1 = 1#1), ∀ a, (k0_off51 v785) a + S8x128.size a ≤ S7688x256.size a) ∧
  (∀ (k0_h1 : k0_cond1 arg0 v1 = 1#1), ∀ a, (k0_off52 v785) a + S8x128.size a ≤ S7688x256.size a)
theorem k0_mult26_dvd : ∀ (arg0 : BitVec 32) (v1 : BitVec 32) (v785 : BitVec 32) (k0_hw26 : k0_chk26 arg0 v1 v785), ∀ (k0_h1 : k0_cond1 arg0 v1 = 1#1), 8 ∣ (k0_mult26 v785).toNat := fun arg0 v1 v785 k0_hw26 k0_h1 => k0_hw26.1 k0_h1
theorem k0_off51_inb : ∀ (arg0 : BitVec 32) (v1 : BitVec 32) (v785 : BitVec 32) (k0_hw26 : k0_chk26 arg0 v1 v785), ∀ (k0_h1 : k0_cond1 arg0 v1 = 1#1), ∀ a, (k0_off51 v785) a + S8x128.size a ≤ S7688x256.size a := fun arg0 v1 v785 k0_hw26 k0_h1 => k0_hw26.2.1 k0_h1
theorem k0_off52_inb : ∀ (arg0 : BitVec 32) (v1 : BitVec 32) (v785 : BitVec 32) (k0_hw26 : k0_chk26 arg0 v1 v785), ∀ (k0_h1 : k0_cond1 arg0 v1 = 1#1), ∀ a, (k0_off52 v785) a + S8x128.size a ≤ S7688x256.size a := fun arg0 v1 v785 k0_hw26 k0_h1 => k0_hw26.2.2 k0_h1

def k0_mult27 (v815 : BitVec 32) : BitVec 32 :=
  let c1_i32_202 : BitVec 32 := 1#32
  let v835 : BitVec 32 := Scalar.shrsi v815 c1_i32_202
  v835

def k0_off53 (v815 : BitVec 32) : Fin 2 → Nat :=
  let c1_i32_202 : BitVec 32 := 1#32
  let v835 : BitVec 32 := Scalar.shrsi v815 c1_i32_202
  let v836 : BitVec 32 := v835
  let v837 : Index := Scalar.indexCast v836
  let c0_203 : Index := 0#32
  ![v837.toNat, 0]
def k0_off54 (v815 : BitVec 32) : Fin 2 → Nat :=
  let c1_i32_202 : BitVec 32 := 1#32
  let v835 : BitVec 32 := Scalar.shrsi v815 c1_i32_202
  let v836 : BitVec 32 := v835
  let v841 : Index := Scalar.indexCast v836
  let c128_204 : Index := 128#32
  ![v841.toNat, 128]

def k0_chk27 (arg0 : BitVec 32) (v1 : BitVec 32) (v815 : BitVec 32) : Prop :=
  (∀ (k0_h1 : k0_cond1 arg0 v1 = 1#1), 8 ∣ (k0_mult27 v815).toNat) ∧
  (∀ (k0_h1 : k0_cond1 arg0 v1 = 1#1), ∀ a, (k0_off53 v815) a + S8x128.size a ≤ S7688x256.size a) ∧
  (∀ (k0_h1 : k0_cond1 arg0 v1 = 1#1), ∀ a, (k0_off54 v815) a + S8x128.size a ≤ S7688x256.size a)
theorem k0_mult27_dvd : ∀ (arg0 : BitVec 32) (v1 : BitVec 32) (v815 : BitVec 32) (k0_hw27 : k0_chk27 arg0 v1 v815), ∀ (k0_h1 : k0_cond1 arg0 v1 = 1#1), 8 ∣ (k0_mult27 v815).toNat := fun arg0 v1 v815 k0_hw27 k0_h1 => k0_hw27.1 k0_h1
theorem k0_off53_inb : ∀ (arg0 : BitVec 32) (v1 : BitVec 32) (v815 : BitVec 32) (k0_hw27 : k0_chk27 arg0 v1 v815), ∀ (k0_h1 : k0_cond1 arg0 v1 = 1#1), ∀ a, (k0_off53 v815) a + S8x128.size a ≤ S7688x256.size a := fun arg0 v1 v815 k0_hw27 k0_h1 => k0_hw27.2.1 k0_h1
theorem k0_off54_inb : ∀ (arg0 : BitVec 32) (v1 : BitVec 32) (v815 : BitVec 32) (k0_hw27 : k0_chk27 arg0 v1 v815), ∀ (k0_h1 : k0_cond1 arg0 v1 = 1#1), ∀ a, (k0_off54 v815) a + S8x128.size a ≤ S7688x256.size a := fun arg0 v1 v815 k0_hw27 k0_h1 => k0_hw27.2.2 k0_h1

def k0_mult28 (v845 : BitVec 32) : BitVec 32 :=
  let c1_i32_209 : BitVec 32 := 1#32
  let v865 : BitVec 32 := Scalar.shrsi v845 c1_i32_209
  v865

def k0_off55 (v845 : BitVec 32) : Fin 2 → Nat :=
  let c1_i32_209 : BitVec 32 := 1#32
  let v865 : BitVec 32 := Scalar.shrsi v845 c1_i32_209
  let v866 : BitVec 32 := v865
  let v867 : Index := Scalar.indexCast v866
  let c0_210 : Index := 0#32
  ![v867.toNat, 0]
def k0_off56 (v845 : BitVec 32) : Fin 2 → Nat :=
  let c1_i32_209 : BitVec 32 := 1#32
  let v865 : BitVec 32 := Scalar.shrsi v845 c1_i32_209
  let v866 : BitVec 32 := v865
  let v871 : Index := Scalar.indexCast v866
  let c128_211 : Index := 128#32
  ![v871.toNat, 128]

def k0_chk28 (arg0 : BitVec 32) (v1 : BitVec 32) (v845 : BitVec 32) : Prop :=
  (∀ (k0_h1 : k0_cond1 arg0 v1 = 1#1), 8 ∣ (k0_mult28 v845).toNat) ∧
  (∀ (k0_h1 : k0_cond1 arg0 v1 = 1#1), ∀ a, (k0_off55 v845) a + S8x128.size a ≤ S7688x256.size a) ∧
  (∀ (k0_h1 : k0_cond1 arg0 v1 = 1#1), ∀ a, (k0_off56 v845) a + S8x128.size a ≤ S7688x256.size a)
theorem k0_mult28_dvd : ∀ (arg0 : BitVec 32) (v1 : BitVec 32) (v845 : BitVec 32) (k0_hw28 : k0_chk28 arg0 v1 v845), ∀ (k0_h1 : k0_cond1 arg0 v1 = 1#1), 8 ∣ (k0_mult28 v845).toNat := fun arg0 v1 v845 k0_hw28 k0_h1 => k0_hw28.1 k0_h1
theorem k0_off55_inb : ∀ (arg0 : BitVec 32) (v1 : BitVec 32) (v845 : BitVec 32) (k0_hw28 : k0_chk28 arg0 v1 v845), ∀ (k0_h1 : k0_cond1 arg0 v1 = 1#1), ∀ a, (k0_off55 v845) a + S8x128.size a ≤ S7688x256.size a := fun arg0 v1 v845 k0_hw28 k0_h1 => k0_hw28.2.1 k0_h1
theorem k0_off56_inb : ∀ (arg0 : BitVec 32) (v1 : BitVec 32) (v845 : BitVec 32) (k0_hw28 : k0_chk28 arg0 v1 v845), ∀ (k0_h1 : k0_cond1 arg0 v1 = 1#1), ∀ a, (k0_off56 v845) a + S8x128.size a ≤ S7688x256.size a := fun arg0 v1 v845 k0_hw28 k0_h1 => k0_hw28.2.2 k0_h1

def k0_mult29 (v875 : BitVec 32) : BitVec 32 :=
  let c1_i32_216 : BitVec 32 := 1#32
  let v895 : BitVec 32 := Scalar.shrsi v875 c1_i32_216
  v895

def k0_off57 (v875 : BitVec 32) : Fin 2 → Nat :=
  let c1_i32_216 : BitVec 32 := 1#32
  let v895 : BitVec 32 := Scalar.shrsi v875 c1_i32_216
  let v896 : BitVec 32 := v895
  let v897 : Index := Scalar.indexCast v896
  let c0_217 : Index := 0#32
  ![v897.toNat, 0]
def k0_off58 (v875 : BitVec 32) : Fin 2 → Nat :=
  let c1_i32_216 : BitVec 32 := 1#32
  let v895 : BitVec 32 := Scalar.shrsi v875 c1_i32_216
  let v896 : BitVec 32 := v895
  let v901 : Index := Scalar.indexCast v896
  let c128_218 : Index := 128#32
  ![v901.toNat, 128]

def k0_chk29 (arg0 : BitVec 32) (v1 : BitVec 32) (v875 : BitVec 32) : Prop :=
  (∀ (k0_h1 : k0_cond1 arg0 v1 = 1#1), 8 ∣ (k0_mult29 v875).toNat) ∧
  (∀ (k0_h1 : k0_cond1 arg0 v1 = 1#1), ∀ a, (k0_off57 v875) a + S8x128.size a ≤ S7688x256.size a) ∧
  (∀ (k0_h1 : k0_cond1 arg0 v1 = 1#1), ∀ a, (k0_off58 v875) a + S8x128.size a ≤ S7688x256.size a)
theorem k0_mult29_dvd : ∀ (arg0 : BitVec 32) (v1 : BitVec 32) (v875 : BitVec 32) (k0_hw29 : k0_chk29 arg0 v1 v875), ∀ (k0_h1 : k0_cond1 arg0 v1 = 1#1), 8 ∣ (k0_mult29 v875).toNat := fun arg0 v1 v875 k0_hw29 k0_h1 => k0_hw29.1 k0_h1
theorem k0_off57_inb : ∀ (arg0 : BitVec 32) (v1 : BitVec 32) (v875 : BitVec 32) (k0_hw29 : k0_chk29 arg0 v1 v875), ∀ (k0_h1 : k0_cond1 arg0 v1 = 1#1), ∀ a, (k0_off57 v875) a + S8x128.size a ≤ S7688x256.size a := fun arg0 v1 v875 k0_hw29 k0_h1 => k0_hw29.2.1 k0_h1
theorem k0_off58_inb : ∀ (arg0 : BitVec 32) (v1 : BitVec 32) (v875 : BitVec 32) (k0_hw29 : k0_chk29 arg0 v1 v875), ∀ (k0_h1 : k0_cond1 arg0 v1 = 1#1), ∀ a, (k0_off58 v875) a + S8x128.size a ≤ S7688x256.size a := fun arg0 v1 v875 k0_hw29 k0_h1 => k0_hw29.2.2 k0_h1

def k0_mult30 (v905 : BitVec 32) : BitVec 32 :=
  let c1_i32_223 : BitVec 32 := 1#32
  let v925 : BitVec 32 := Scalar.shrsi v905 c1_i32_223
  v925

def k0_off59 (v905 : BitVec 32) : Fin 2 → Nat :=
  let c1_i32_223 : BitVec 32 := 1#32
  let v925 : BitVec 32 := Scalar.shrsi v905 c1_i32_223
  let v926 : BitVec 32 := v925
  let v927 : Index := Scalar.indexCast v926
  let c0_224 : Index := 0#32
  ![v927.toNat, 0]
def k0_off60 (v905 : BitVec 32) : Fin 2 → Nat :=
  let c1_i32_223 : BitVec 32 := 1#32
  let v925 : BitVec 32 := Scalar.shrsi v905 c1_i32_223
  let v926 : BitVec 32 := v925
  let v931 : Index := Scalar.indexCast v926
  let c128_225 : Index := 128#32
  ![v931.toNat, 128]

def k0_chk30 (arg0 : BitVec 32) (v1 : BitVec 32) (v905 : BitVec 32) : Prop :=
  (∀ (k0_h1 : k0_cond1 arg0 v1 = 1#1), 8 ∣ (k0_mult30 v905).toNat) ∧
  (∀ (k0_h1 : k0_cond1 arg0 v1 = 1#1), ∀ a, (k0_off59 v905) a + S8x128.size a ≤ S7688x256.size a) ∧
  (∀ (k0_h1 : k0_cond1 arg0 v1 = 1#1), ∀ a, (k0_off60 v905) a + S8x128.size a ≤ S7688x256.size a)
theorem k0_mult30_dvd : ∀ (arg0 : BitVec 32) (v1 : BitVec 32) (v905 : BitVec 32) (k0_hw30 : k0_chk30 arg0 v1 v905), ∀ (k0_h1 : k0_cond1 arg0 v1 = 1#1), 8 ∣ (k0_mult30 v905).toNat := fun arg0 v1 v905 k0_hw30 k0_h1 => k0_hw30.1 k0_h1
theorem k0_off59_inb : ∀ (arg0 : BitVec 32) (v1 : BitVec 32) (v905 : BitVec 32) (k0_hw30 : k0_chk30 arg0 v1 v905), ∀ (k0_h1 : k0_cond1 arg0 v1 = 1#1), ∀ a, (k0_off59 v905) a + S8x128.size a ≤ S7688x256.size a := fun arg0 v1 v905 k0_hw30 k0_h1 => k0_hw30.2.1 k0_h1
theorem k0_off60_inb : ∀ (arg0 : BitVec 32) (v1 : BitVec 32) (v905 : BitVec 32) (k0_hw30 : k0_chk30 arg0 v1 v905), ∀ (k0_h1 : k0_cond1 arg0 v1 = 1#1), ∀ a, (k0_off60 v905) a + S8x128.size a ≤ S7688x256.size a := fun arg0 v1 v905 k0_hw30 k0_h1 => k0_hw30.2.2 k0_h1

def k0_mult31 (v935 : BitVec 32) : BitVec 32 :=
  let c1_i32_230 : BitVec 32 := 1#32
  let v955 : BitVec 32 := Scalar.shrsi v935 c1_i32_230
  v955

def k0_off61 (v935 : BitVec 32) : Fin 2 → Nat :=
  let c1_i32_230 : BitVec 32 := 1#32
  let v955 : BitVec 32 := Scalar.shrsi v935 c1_i32_230
  let v956 : BitVec 32 := v955
  let v957 : Index := Scalar.indexCast v956
  let c0_231 : Index := 0#32
  ![v957.toNat, 0]
def k0_off62 (v935 : BitVec 32) : Fin 2 → Nat :=
  let c1_i32_230 : BitVec 32 := 1#32
  let v955 : BitVec 32 := Scalar.shrsi v935 c1_i32_230
  let v956 : BitVec 32 := v955
  let v961 : Index := Scalar.indexCast v956
  let c128_232 : Index := 128#32
  ![v961.toNat, 128]

def k0_chk31 (arg0 : BitVec 32) (v1 : BitVec 32) (v935 : BitVec 32) : Prop :=
  (∀ (k0_h1 : k0_cond1 arg0 v1 = 1#1), 8 ∣ (k0_mult31 v935).toNat) ∧
  (∀ (k0_h1 : k0_cond1 arg0 v1 = 1#1), ∀ a, (k0_off61 v935) a + S8x128.size a ≤ S7688x256.size a) ∧
  (∀ (k0_h1 : k0_cond1 arg0 v1 = 1#1), ∀ a, (k0_off62 v935) a + S8x128.size a ≤ S7688x256.size a)
theorem k0_mult31_dvd : ∀ (arg0 : BitVec 32) (v1 : BitVec 32) (v935 : BitVec 32) (k0_hw31 : k0_chk31 arg0 v1 v935), ∀ (k0_h1 : k0_cond1 arg0 v1 = 1#1), 8 ∣ (k0_mult31 v935).toNat := fun arg0 v1 v935 k0_hw31 k0_h1 => k0_hw31.1 k0_h1
theorem k0_off61_inb : ∀ (arg0 : BitVec 32) (v1 : BitVec 32) (v935 : BitVec 32) (k0_hw31 : k0_chk31 arg0 v1 v935), ∀ (k0_h1 : k0_cond1 arg0 v1 = 1#1), ∀ a, (k0_off61 v935) a + S8x128.size a ≤ S7688x256.size a := fun arg0 v1 v935 k0_hw31 k0_h1 => k0_hw31.2.1 k0_h1
theorem k0_off62_inb : ∀ (arg0 : BitVec 32) (v1 : BitVec 32) (v935 : BitVec 32) (k0_hw31 : k0_chk31 arg0 v1 v935), ∀ (k0_h1 : k0_cond1 arg0 v1 = 1#1), ∀ a, (k0_off62 v935) a + S8x128.size a ≤ S7688x256.size a := fun arg0 v1 v935 k0_hw31 k0_h1 => k0_hw31.2.2 k0_h1

def k0_mult32 (v965 : BitVec 32) : BitVec 32 :=
  let c1_i32_237 : BitVec 32 := 1#32
  let v985 : BitVec 32 := Scalar.shrsi v965 c1_i32_237
  v985

def k0_off63 (v965 : BitVec 32) : Fin 2 → Nat :=
  let c1_i32_237 : BitVec 32 := 1#32
  let v985 : BitVec 32 := Scalar.shrsi v965 c1_i32_237
  let v986 : BitVec 32 := v985
  let v987 : Index := Scalar.indexCast v986
  let c0_238 : Index := 0#32
  ![v987.toNat, 0]
def k0_off64 (v965 : BitVec 32) : Fin 2 → Nat :=
  let c1_i32_237 : BitVec 32 := 1#32
  let v985 : BitVec 32 := Scalar.shrsi v965 c1_i32_237
  let v986 : BitVec 32 := v985
  let v991 : Index := Scalar.indexCast v986
  let c128_239 : Index := 128#32
  ![v991.toNat, 128]

def k0_chk32 (arg0 : BitVec 32) (v1 : BitVec 32) (v965 : BitVec 32) : Prop :=
  (∀ (k0_h1 : k0_cond1 arg0 v1 = 1#1), 8 ∣ (k0_mult32 v965).toNat) ∧
  (∀ (k0_h1 : k0_cond1 arg0 v1 = 1#1), ∀ a, (k0_off63 v965) a + S8x128.size a ≤ S7688x256.size a) ∧
  (∀ (k0_h1 : k0_cond1 arg0 v1 = 1#1), ∀ a, (k0_off64 v965) a + S8x128.size a ≤ S7688x256.size a)
theorem k0_mult32_dvd : ∀ (arg0 : BitVec 32) (v1 : BitVec 32) (v965 : BitVec 32) (k0_hw32 : k0_chk32 arg0 v1 v965), ∀ (k0_h1 : k0_cond1 arg0 v1 = 1#1), 8 ∣ (k0_mult32 v965).toNat := fun arg0 v1 v965 k0_hw32 k0_h1 => k0_hw32.1 k0_h1
theorem k0_off63_inb : ∀ (arg0 : BitVec 32) (v1 : BitVec 32) (v965 : BitVec 32) (k0_hw32 : k0_chk32 arg0 v1 v965), ∀ (k0_h1 : k0_cond1 arg0 v1 = 1#1), ∀ a, (k0_off63 v965) a + S8x128.size a ≤ S7688x256.size a := fun arg0 v1 v965 k0_hw32 k0_h1 => k0_hw32.2.1 k0_h1
theorem k0_off64_inb : ∀ (arg0 : BitVec 32) (v1 : BitVec 32) (v965 : BitVec 32) (k0_hw32 : k0_chk32 arg0 v1 v965), ∀ (k0_h1 : k0_cond1 arg0 v1 = 1#1), ∀ a, (k0_off64 v965) a + S8x128.size a ≤ S7688x256.size a := fun arg0 v1 v965 k0_hw32 k0_h1 => k0_hw32.2.2 k0_h1

def k0_mult33 (v995 : BitVec 32) : BitVec 32 :=
  let c1_i32_244 : BitVec 32 := 1#32
  let v1015 : BitVec 32 := Scalar.shrsi v995 c1_i32_244
  v1015

def k0_off65 (v995 : BitVec 32) : Fin 2 → Nat :=
  let c1_i32_244 : BitVec 32 := 1#32
  let v1015 : BitVec 32 := Scalar.shrsi v995 c1_i32_244
  let v1016 : BitVec 32 := v1015
  let v1017 : Index := Scalar.indexCast v1016
  let c0_245 : Index := 0#32
  ![v1017.toNat, 0]
def k0_off66 (v995 : BitVec 32) : Fin 2 → Nat :=
  let c1_i32_244 : BitVec 32 := 1#32
  let v1015 : BitVec 32 := Scalar.shrsi v995 c1_i32_244
  let v1016 : BitVec 32 := v1015
  let v1021 : Index := Scalar.indexCast v1016
  let c128_246 : Index := 128#32
  ![v1021.toNat, 128]

def k0_chk33 (arg0 : BitVec 32) (v1 : BitVec 32) (v995 : BitVec 32) : Prop :=
  (∀ (k0_h1 : k0_cond1 arg0 v1 = 1#1), 8 ∣ (k0_mult33 v995).toNat) ∧
  (∀ (k0_h1 : k0_cond1 arg0 v1 = 1#1), ∀ a, (k0_off65 v995) a + S8x128.size a ≤ S7688x256.size a) ∧
  (∀ (k0_h1 : k0_cond1 arg0 v1 = 1#1), ∀ a, (k0_off66 v995) a + S8x128.size a ≤ S7688x256.size a)
theorem k0_mult33_dvd : ∀ (arg0 : BitVec 32) (v1 : BitVec 32) (v995 : BitVec 32) (k0_hw33 : k0_chk33 arg0 v1 v995), ∀ (k0_h1 : k0_cond1 arg0 v1 = 1#1), 8 ∣ (k0_mult33 v995).toNat := fun arg0 v1 v995 k0_hw33 k0_h1 => k0_hw33.1 k0_h1
theorem k0_off65_inb : ∀ (arg0 : BitVec 32) (v1 : BitVec 32) (v995 : BitVec 32) (k0_hw33 : k0_chk33 arg0 v1 v995), ∀ (k0_h1 : k0_cond1 arg0 v1 = 1#1), ∀ a, (k0_off65 v995) a + S8x128.size a ≤ S7688x256.size a := fun arg0 v1 v995 k0_hw33 k0_h1 => k0_hw33.2.1 k0_h1
theorem k0_off66_inb : ∀ (arg0 : BitVec 32) (v1 : BitVec 32) (v995 : BitVec 32) (k0_hw33 : k0_chk33 arg0 v1 v995), ∀ (k0_h1 : k0_cond1 arg0 v1 = 1#1), ∀ a, (k0_off66 v995) a + S8x128.size a ≤ S7688x256.size a := fun arg0 v1 v995 k0_hw33 k0_h1 => k0_hw33.2.2 k0_h1

def k0_mult34 (v1025 : BitVec 32) : BitVec 32 :=
  let c1_i32_251 : BitVec 32 := 1#32
  let v1045 : BitVec 32 := Scalar.shrsi v1025 c1_i32_251
  v1045

def k0_off67 (v1025 : BitVec 32) : Fin 2 → Nat :=
  let c1_i32_251 : BitVec 32 := 1#32
  let v1045 : BitVec 32 := Scalar.shrsi v1025 c1_i32_251
  let v1046 : BitVec 32 := v1045
  let v1047 : Index := Scalar.indexCast v1046
  let c0_252 : Index := 0#32
  ![v1047.toNat, 0]
def k0_off68 (v1025 : BitVec 32) : Fin 2 → Nat :=
  let c1_i32_251 : BitVec 32 := 1#32
  let v1045 : BitVec 32 := Scalar.shrsi v1025 c1_i32_251
  let v1046 : BitVec 32 := v1045
  let v1051 : Index := Scalar.indexCast v1046
  let c128_253 : Index := 128#32
  ![v1051.toNat, 128]

def k0_chk34 (arg0 : BitVec 32) (v1 : BitVec 32) (v1025 : BitVec 32) : Prop :=
  (∀ (k0_h1 : k0_cond1 arg0 v1 = 1#1), 8 ∣ (k0_mult34 v1025).toNat) ∧
  (∀ (k0_h1 : k0_cond1 arg0 v1 = 1#1), ∀ a, (k0_off67 v1025) a + S8x128.size a ≤ S7688x256.size a) ∧
  (∀ (k0_h1 : k0_cond1 arg0 v1 = 1#1), ∀ a, (k0_off68 v1025) a + S8x128.size a ≤ S7688x256.size a)
theorem k0_mult34_dvd : ∀ (arg0 : BitVec 32) (v1 : BitVec 32) (v1025 : BitVec 32) (k0_hw34 : k0_chk34 arg0 v1 v1025), ∀ (k0_h1 : k0_cond1 arg0 v1 = 1#1), 8 ∣ (k0_mult34 v1025).toNat := fun arg0 v1 v1025 k0_hw34 k0_h1 => k0_hw34.1 k0_h1
theorem k0_off67_inb : ∀ (arg0 : BitVec 32) (v1 : BitVec 32) (v1025 : BitVec 32) (k0_hw34 : k0_chk34 arg0 v1 v1025), ∀ (k0_h1 : k0_cond1 arg0 v1 = 1#1), ∀ a, (k0_off67 v1025) a + S8x128.size a ≤ S7688x256.size a := fun arg0 v1 v1025 k0_hw34 k0_h1 => k0_hw34.2.1 k0_h1
theorem k0_off68_inb : ∀ (arg0 : BitVec 32) (v1 : BitVec 32) (v1025 : BitVec 32) (k0_hw34 : k0_chk34 arg0 v1 v1025), ∀ (k0_h1 : k0_cond1 arg0 v1 = 1#1), ∀ a, (k0_off68 v1025) a + S8x128.size a ≤ S7688x256.size a := fun arg0 v1 v1025 k0_hw34 k0_h1 => k0_hw34.2.2 k0_h1

def k0_mult35 (v1055 : BitVec 32) : BitVec 32 :=
  let c1_i32_258 : BitVec 32 := 1#32
  let v1075 : BitVec 32 := Scalar.shrsi v1055 c1_i32_258
  v1075

def k0_off69 (v1055 : BitVec 32) : Fin 2 → Nat :=
  let c1_i32_258 : BitVec 32 := 1#32
  let v1075 : BitVec 32 := Scalar.shrsi v1055 c1_i32_258
  let v1076 : BitVec 32 := v1075
  let v1077 : Index := Scalar.indexCast v1076
  let c0_259 : Index := 0#32
  ![v1077.toNat, 0]
def k0_off70 (v1055 : BitVec 32) : Fin 2 → Nat :=
  let c1_i32_258 : BitVec 32 := 1#32
  let v1075 : BitVec 32 := Scalar.shrsi v1055 c1_i32_258
  let v1076 : BitVec 32 := v1075
  let v1081 : Index := Scalar.indexCast v1076
  let c128_260 : Index := 128#32
  ![v1081.toNat, 128]

def k0_chk35 (arg0 : BitVec 32) (v1 : BitVec 32) (v1055 : BitVec 32) : Prop :=
  (∀ (k0_h1 : k0_cond1 arg0 v1 = 1#1), 8 ∣ (k0_mult35 v1055).toNat) ∧
  (∀ (k0_h1 : k0_cond1 arg0 v1 = 1#1), ∀ a, (k0_off69 v1055) a + S8x128.size a ≤ S7688x256.size a) ∧
  (∀ (k0_h1 : k0_cond1 arg0 v1 = 1#1), ∀ a, (k0_off70 v1055) a + S8x128.size a ≤ S7688x256.size a)
theorem k0_mult35_dvd : ∀ (arg0 : BitVec 32) (v1 : BitVec 32) (v1055 : BitVec 32) (k0_hw35 : k0_chk35 arg0 v1 v1055), ∀ (k0_h1 : k0_cond1 arg0 v1 = 1#1), 8 ∣ (k0_mult35 v1055).toNat := fun arg0 v1 v1055 k0_hw35 k0_h1 => k0_hw35.1 k0_h1
theorem k0_off69_inb : ∀ (arg0 : BitVec 32) (v1 : BitVec 32) (v1055 : BitVec 32) (k0_hw35 : k0_chk35 arg0 v1 v1055), ∀ (k0_h1 : k0_cond1 arg0 v1 = 1#1), ∀ a, (k0_off69 v1055) a + S8x128.size a ≤ S7688x256.size a := fun arg0 v1 v1055 k0_hw35 k0_h1 => k0_hw35.2.1 k0_h1
theorem k0_off70_inb : ∀ (arg0 : BitVec 32) (v1 : BitVec 32) (v1055 : BitVec 32) (k0_hw35 : k0_chk35 arg0 v1 v1055), ∀ (k0_h1 : k0_cond1 arg0 v1 = 1#1), ∀ a, (k0_off70 v1055) a + S8x128.size a ≤ S7688x256.size a := fun arg0 v1 v1055 k0_hw35 k0_h1 => k0_hw35.2.2 k0_h1

def k0_mult36 (v1085 : BitVec 32) : BitVec 32 :=
  let c1_i32_265 : BitVec 32 := 1#32
  let v1105 : BitVec 32 := Scalar.shrsi v1085 c1_i32_265
  v1105

def k0_off71 (v1085 : BitVec 32) : Fin 2 → Nat :=
  let c1_i32_265 : BitVec 32 := 1#32
  let v1105 : BitVec 32 := Scalar.shrsi v1085 c1_i32_265
  let v1106 : BitVec 32 := v1105
  let v1107 : Index := Scalar.indexCast v1106
  let c0_266 : Index := 0#32
  ![v1107.toNat, 0]
def k0_off72 (v1085 : BitVec 32) : Fin 2 → Nat :=
  let c1_i32_265 : BitVec 32 := 1#32
  let v1105 : BitVec 32 := Scalar.shrsi v1085 c1_i32_265
  let v1106 : BitVec 32 := v1105
  let v1111 : Index := Scalar.indexCast v1106
  let c128_267 : Index := 128#32
  ![v1111.toNat, 128]

def k0_chk36 (arg0 : BitVec 32) (v1 : BitVec 32) (v1085 : BitVec 32) : Prop :=
  (∀ (k0_h1 : k0_cond1 arg0 v1 = 1#1), 8 ∣ (k0_mult36 v1085).toNat) ∧
  (∀ (k0_h1 : k0_cond1 arg0 v1 = 1#1), ∀ a, (k0_off71 v1085) a + S8x128.size a ≤ S7688x256.size a) ∧
  (∀ (k0_h1 : k0_cond1 arg0 v1 = 1#1), ∀ a, (k0_off72 v1085) a + S8x128.size a ≤ S7688x256.size a)
theorem k0_mult36_dvd : ∀ (arg0 : BitVec 32) (v1 : BitVec 32) (v1085 : BitVec 32) (k0_hw36 : k0_chk36 arg0 v1 v1085), ∀ (k0_h1 : k0_cond1 arg0 v1 = 1#1), 8 ∣ (k0_mult36 v1085).toNat := fun arg0 v1 v1085 k0_hw36 k0_h1 => k0_hw36.1 k0_h1
theorem k0_off71_inb : ∀ (arg0 : BitVec 32) (v1 : BitVec 32) (v1085 : BitVec 32) (k0_hw36 : k0_chk36 arg0 v1 v1085), ∀ (k0_h1 : k0_cond1 arg0 v1 = 1#1), ∀ a, (k0_off71 v1085) a + S8x128.size a ≤ S7688x256.size a := fun arg0 v1 v1085 k0_hw36 k0_h1 => k0_hw36.2.1 k0_h1
theorem k0_off72_inb : ∀ (arg0 : BitVec 32) (v1 : BitVec 32) (v1085 : BitVec 32) (k0_hw36 : k0_chk36 arg0 v1 v1085), ∀ (k0_h1 : k0_cond1 arg0 v1 = 1#1), ∀ a, (k0_off72 v1085) a + S8x128.size a ≤ S7688x256.size a := fun arg0 v1 v1085 k0_hw36 k0_h1 => k0_hw36.2.2 k0_h1

def k0_mult37 (v1115 : BitVec 32) : BitVec 32 :=
  let c1_i32_272 : BitVec 32 := 1#32
  let v1135 : BitVec 32 := Scalar.shrsi v1115 c1_i32_272
  v1135

def k0_off73 (v1115 : BitVec 32) : Fin 2 → Nat :=
  let c1_i32_272 : BitVec 32 := 1#32
  let v1135 : BitVec 32 := Scalar.shrsi v1115 c1_i32_272
  let v1136 : BitVec 32 := v1135
  let v1137 : Index := Scalar.indexCast v1136
  let c0_273 : Index := 0#32
  ![v1137.toNat, 0]
def k0_off74 (v1115 : BitVec 32) : Fin 2 → Nat :=
  let c1_i32_272 : BitVec 32 := 1#32
  let v1135 : BitVec 32 := Scalar.shrsi v1115 c1_i32_272
  let v1136 : BitVec 32 := v1135
  let v1141 : Index := Scalar.indexCast v1136
  let c128_274 : Index := 128#32
  ![v1141.toNat, 128]

def k0_chk37 (arg0 : BitVec 32) (v1 : BitVec 32) (v1115 : BitVec 32) : Prop :=
  (∀ (k0_h1 : k0_cond1 arg0 v1 = 1#1), 8 ∣ (k0_mult37 v1115).toNat) ∧
  (∀ (k0_h1 : k0_cond1 arg0 v1 = 1#1), ∀ a, (k0_off73 v1115) a + S8x128.size a ≤ S7688x256.size a) ∧
  (∀ (k0_h1 : k0_cond1 arg0 v1 = 1#1), ∀ a, (k0_off74 v1115) a + S8x128.size a ≤ S7688x256.size a)
theorem k0_mult37_dvd : ∀ (arg0 : BitVec 32) (v1 : BitVec 32) (v1115 : BitVec 32) (k0_hw37 : k0_chk37 arg0 v1 v1115), ∀ (k0_h1 : k0_cond1 arg0 v1 = 1#1), 8 ∣ (k0_mult37 v1115).toNat := fun arg0 v1 v1115 k0_hw37 k0_h1 => k0_hw37.1 k0_h1
theorem k0_off73_inb : ∀ (arg0 : BitVec 32) (v1 : BitVec 32) (v1115 : BitVec 32) (k0_hw37 : k0_chk37 arg0 v1 v1115), ∀ (k0_h1 : k0_cond1 arg0 v1 = 1#1), ∀ a, (k0_off73 v1115) a + S8x128.size a ≤ S7688x256.size a := fun arg0 v1 v1115 k0_hw37 k0_h1 => k0_hw37.2.1 k0_h1
theorem k0_off74_inb : ∀ (arg0 : BitVec 32) (v1 : BitVec 32) (v1115 : BitVec 32) (k0_hw37 : k0_chk37 arg0 v1 v1115), ∀ (k0_h1 : k0_cond1 arg0 v1 = 1#1), ∀ a, (k0_off74 v1115) a + S8x128.size a ≤ S7688x256.size a := fun arg0 v1 v1115 k0_hw37 k0_h1 => k0_hw37.2.2 k0_h1

def k0_mult38 (v1145 : BitVec 32) : BitVec 32 :=
  let c1_i32_279 : BitVec 32 := 1#32
  let v1165 : BitVec 32 := Scalar.shrsi v1145 c1_i32_279
  v1165

def k0_off75 (v1145 : BitVec 32) : Fin 2 → Nat :=
  let c1_i32_279 : BitVec 32 := 1#32
  let v1165 : BitVec 32 := Scalar.shrsi v1145 c1_i32_279
  let v1166 : BitVec 32 := v1165
  let v1167 : Index := Scalar.indexCast v1166
  let c0_280 : Index := 0#32
  ![v1167.toNat, 0]
def k0_off76 (v1145 : BitVec 32) : Fin 2 → Nat :=
  let c1_i32_279 : BitVec 32 := 1#32
  let v1165 : BitVec 32 := Scalar.shrsi v1145 c1_i32_279
  let v1166 : BitVec 32 := v1165
  let v1171 : Index := Scalar.indexCast v1166
  let c128_281 : Index := 128#32
  ![v1171.toNat, 128]

def k0_chk38 (arg0 : BitVec 32) (v1 : BitVec 32) (v1145 : BitVec 32) : Prop :=
  (∀ (k0_h1 : k0_cond1 arg0 v1 = 1#1), 8 ∣ (k0_mult38 v1145).toNat) ∧
  (∀ (k0_h1 : k0_cond1 arg0 v1 = 1#1), ∀ a, (k0_off75 v1145) a + S8x128.size a ≤ S7688x256.size a) ∧
  (∀ (k0_h1 : k0_cond1 arg0 v1 = 1#1), ∀ a, (k0_off76 v1145) a + S8x128.size a ≤ S7688x256.size a)
theorem k0_mult38_dvd : ∀ (arg0 : BitVec 32) (v1 : BitVec 32) (v1145 : BitVec 32) (k0_hw38 : k0_chk38 arg0 v1 v1145), ∀ (k0_h1 : k0_cond1 arg0 v1 = 1#1), 8 ∣ (k0_mult38 v1145).toNat := fun arg0 v1 v1145 k0_hw38 k0_h1 => k0_hw38.1 k0_h1
theorem k0_off75_inb : ∀ (arg0 : BitVec 32) (v1 : BitVec 32) (v1145 : BitVec 32) (k0_hw38 : k0_chk38 arg0 v1 v1145), ∀ (k0_h1 : k0_cond1 arg0 v1 = 1#1), ∀ a, (k0_off75 v1145) a + S8x128.size a ≤ S7688x256.size a := fun arg0 v1 v1145 k0_hw38 k0_h1 => k0_hw38.2.1 k0_h1
theorem k0_off76_inb : ∀ (arg0 : BitVec 32) (v1 : BitVec 32) (v1145 : BitVec 32) (k0_hw38 : k0_chk38 arg0 v1 v1145), ∀ (k0_h1 : k0_cond1 arg0 v1 = 1#1), ∀ a, (k0_off76 v1145) a + S8x128.size a ≤ S7688x256.size a := fun arg0 v1 v1145 k0_hw38 k0_h1 => k0_hw38.2.2 k0_h1

def k0_mult39 (v1175 : BitVec 32) : BitVec 32 :=
  let c1_i32_286 : BitVec 32 := 1#32
  let v1195 : BitVec 32 := Scalar.shrsi v1175 c1_i32_286
  v1195

def k0_off77 (v1175 : BitVec 32) : Fin 2 → Nat :=
  let c1_i32_286 : BitVec 32 := 1#32
  let v1195 : BitVec 32 := Scalar.shrsi v1175 c1_i32_286
  let v1196 : BitVec 32 := v1195
  let v1197 : Index := Scalar.indexCast v1196
  let c0_287 : Index := 0#32
  ![v1197.toNat, 0]
def k0_off78 (v1175 : BitVec 32) : Fin 2 → Nat :=
  let c1_i32_286 : BitVec 32 := 1#32
  let v1195 : BitVec 32 := Scalar.shrsi v1175 c1_i32_286
  let v1196 : BitVec 32 := v1195
  let v1201 : Index := Scalar.indexCast v1196
  let c128_288 : Index := 128#32
  ![v1201.toNat, 128]

def k0_chk39 (arg0 : BitVec 32) (v1 : BitVec 32) (v1175 : BitVec 32) : Prop :=
  (∀ (k0_h1 : k0_cond1 arg0 v1 = 1#1), 8 ∣ (k0_mult39 v1175).toNat) ∧
  (∀ (k0_h1 : k0_cond1 arg0 v1 = 1#1), ∀ a, (k0_off77 v1175) a + S8x128.size a ≤ S7688x256.size a) ∧
  (∀ (k0_h1 : k0_cond1 arg0 v1 = 1#1), ∀ a, (k0_off78 v1175) a + S8x128.size a ≤ S7688x256.size a)
theorem k0_mult39_dvd : ∀ (arg0 : BitVec 32) (v1 : BitVec 32) (v1175 : BitVec 32) (k0_hw39 : k0_chk39 arg0 v1 v1175), ∀ (k0_h1 : k0_cond1 arg0 v1 = 1#1), 8 ∣ (k0_mult39 v1175).toNat := fun arg0 v1 v1175 k0_hw39 k0_h1 => k0_hw39.1 k0_h1
theorem k0_off77_inb : ∀ (arg0 : BitVec 32) (v1 : BitVec 32) (v1175 : BitVec 32) (k0_hw39 : k0_chk39 arg0 v1 v1175), ∀ (k0_h1 : k0_cond1 arg0 v1 = 1#1), ∀ a, (k0_off77 v1175) a + S8x128.size a ≤ S7688x256.size a := fun arg0 v1 v1175 k0_hw39 k0_h1 => k0_hw39.2.1 k0_h1
theorem k0_off78_inb : ∀ (arg0 : BitVec 32) (v1 : BitVec 32) (v1175 : BitVec 32) (k0_hw39 : k0_chk39 arg0 v1 v1175), ∀ (k0_h1 : k0_cond1 arg0 v1 = 1#1), ∀ a, (k0_off78 v1175) a + S8x128.size a ≤ S7688x256.size a := fun arg0 v1 v1175 k0_hw39 k0_h1 => k0_hw39.2.2 k0_h1

def k0_mult40 (v1205 : BitVec 32) : BitVec 32 :=
  let c1_i32_293 : BitVec 32 := 1#32
  let v1225 : BitVec 32 := Scalar.shrsi v1205 c1_i32_293
  v1225

def k0_off79 (v1205 : BitVec 32) : Fin 2 → Nat :=
  let c1_i32_293 : BitVec 32 := 1#32
  let v1225 : BitVec 32 := Scalar.shrsi v1205 c1_i32_293
  let v1226 : BitVec 32 := v1225
  let v1227 : Index := Scalar.indexCast v1226
  let c0_294 : Index := 0#32
  ![v1227.toNat, 0]
def k0_off80 (v1205 : BitVec 32) : Fin 2 → Nat :=
  let c1_i32_293 : BitVec 32 := 1#32
  let v1225 : BitVec 32 := Scalar.shrsi v1205 c1_i32_293
  let v1226 : BitVec 32 := v1225
  let v1231 : Index := Scalar.indexCast v1226
  let c128_295 : Index := 128#32
  ![v1231.toNat, 128]

def k0_chk40 (arg0 : BitVec 32) (v1 : BitVec 32) (v1205 : BitVec 32) : Prop :=
  (∀ (k0_h1 : k0_cond1 arg0 v1 = 1#1), 8 ∣ (k0_mult40 v1205).toNat) ∧
  (∀ (k0_h1 : k0_cond1 arg0 v1 = 1#1), ∀ a, (k0_off79 v1205) a + S8x128.size a ≤ S7688x256.size a) ∧
  (∀ (k0_h1 : k0_cond1 arg0 v1 = 1#1), ∀ a, (k0_off80 v1205) a + S8x128.size a ≤ S7688x256.size a)
theorem k0_mult40_dvd : ∀ (arg0 : BitVec 32) (v1 : BitVec 32) (v1205 : BitVec 32) (k0_hw40 : k0_chk40 arg0 v1 v1205), ∀ (k0_h1 : k0_cond1 arg0 v1 = 1#1), 8 ∣ (k0_mult40 v1205).toNat := fun arg0 v1 v1205 k0_hw40 k0_h1 => k0_hw40.1 k0_h1
theorem k0_off79_inb : ∀ (arg0 : BitVec 32) (v1 : BitVec 32) (v1205 : BitVec 32) (k0_hw40 : k0_chk40 arg0 v1 v1205), ∀ (k0_h1 : k0_cond1 arg0 v1 = 1#1), ∀ a, (k0_off79 v1205) a + S8x128.size a ≤ S7688x256.size a := fun arg0 v1 v1205 k0_hw40 k0_h1 => k0_hw40.2.1 k0_h1
theorem k0_off80_inb : ∀ (arg0 : BitVec 32) (v1 : BitVec 32) (v1205 : BitVec 32) (k0_hw40 : k0_chk40 arg0 v1 v1205), ∀ (k0_h1 : k0_cond1 arg0 v1 = 1#1), ∀ a, (k0_off80 v1205) a + S8x128.size a ≤ S7688x256.size a := fun arg0 v1 v1205 k0_hw40 k0_h1 => k0_hw40.2.2 k0_h1

def k0_mult41 (v1235 : BitVec 32) : BitVec 32 :=
  let c1_i32_300 : BitVec 32 := 1#32
  let v1255 : BitVec 32 := Scalar.shrsi v1235 c1_i32_300
  v1255

def k0_off81 (v1235 : BitVec 32) : Fin 2 → Nat :=
  let c1_i32_300 : BitVec 32 := 1#32
  let v1255 : BitVec 32 := Scalar.shrsi v1235 c1_i32_300
  let v1256 : BitVec 32 := v1255
  let v1257 : Index := Scalar.indexCast v1256
  let c0_301 : Index := 0#32
  ![v1257.toNat, 0]
def k0_off82 (v1235 : BitVec 32) : Fin 2 → Nat :=
  let c1_i32_300 : BitVec 32 := 1#32
  let v1255 : BitVec 32 := Scalar.shrsi v1235 c1_i32_300
  let v1256 : BitVec 32 := v1255
  let v1261 : Index := Scalar.indexCast v1256
  let c128_302 : Index := 128#32
  ![v1261.toNat, 128]

def k0_chk41 (arg0 : BitVec 32) (v1 : BitVec 32) (v1235 : BitVec 32) : Prop :=
  (∀ (k0_h1 : k0_cond1 arg0 v1 = 1#1), 8 ∣ (k0_mult41 v1235).toNat) ∧
  (∀ (k0_h1 : k0_cond1 arg0 v1 = 1#1), ∀ a, (k0_off81 v1235) a + S8x128.size a ≤ S7688x256.size a) ∧
  (∀ (k0_h1 : k0_cond1 arg0 v1 = 1#1), ∀ a, (k0_off82 v1235) a + S8x128.size a ≤ S7688x256.size a)
theorem k0_mult41_dvd : ∀ (arg0 : BitVec 32) (v1 : BitVec 32) (v1235 : BitVec 32) (k0_hw41 : k0_chk41 arg0 v1 v1235), ∀ (k0_h1 : k0_cond1 arg0 v1 = 1#1), 8 ∣ (k0_mult41 v1235).toNat := fun arg0 v1 v1235 k0_hw41 k0_h1 => k0_hw41.1 k0_h1
theorem k0_off81_inb : ∀ (arg0 : BitVec 32) (v1 : BitVec 32) (v1235 : BitVec 32) (k0_hw41 : k0_chk41 arg0 v1 v1235), ∀ (k0_h1 : k0_cond1 arg0 v1 = 1#1), ∀ a, (k0_off81 v1235) a + S8x128.size a ≤ S7688x256.size a := fun arg0 v1 v1235 k0_hw41 k0_h1 => k0_hw41.2.1 k0_h1
theorem k0_off82_inb : ∀ (arg0 : BitVec 32) (v1 : BitVec 32) (v1235 : BitVec 32) (k0_hw41 : k0_chk41 arg0 v1 v1235), ∀ (k0_h1 : k0_cond1 arg0 v1 = 1#1), ∀ a, (k0_off82 v1235) a + S8x128.size a ≤ S7688x256.size a := fun arg0 v1 v1235 k0_hw41 k0_h1 => k0_hw41.2.2 k0_h1

def k0_mult42 (v1265 : BitVec 32) : BitVec 32 :=
  let c1_i32_307 : BitVec 32 := 1#32
  let v1285 : BitVec 32 := Scalar.shrsi v1265 c1_i32_307
  v1285

def k0_off83 (v1265 : BitVec 32) : Fin 2 → Nat :=
  let c1_i32_307 : BitVec 32 := 1#32
  let v1285 : BitVec 32 := Scalar.shrsi v1265 c1_i32_307
  let v1286 : BitVec 32 := v1285
  let v1287 : Index := Scalar.indexCast v1286
  let c0_308 : Index := 0#32
  ![v1287.toNat, 0]
def k0_off84 (v1265 : BitVec 32) : Fin 2 → Nat :=
  let c1_i32_307 : BitVec 32 := 1#32
  let v1285 : BitVec 32 := Scalar.shrsi v1265 c1_i32_307
  let v1286 : BitVec 32 := v1285
  let v1291 : Index := Scalar.indexCast v1286
  let c128_309 : Index := 128#32
  ![v1291.toNat, 128]

def k0_chk42 (arg0 : BitVec 32) (v1 : BitVec 32) (v1265 : BitVec 32) : Prop :=
  (∀ (k0_h1 : k0_cond1 arg0 v1 = 1#1), 8 ∣ (k0_mult42 v1265).toNat) ∧
  (∀ (k0_h1 : k0_cond1 arg0 v1 = 1#1), ∀ a, (k0_off83 v1265) a + S8x128.size a ≤ S7688x256.size a) ∧
  (∀ (k0_h1 : k0_cond1 arg0 v1 = 1#1), ∀ a, (k0_off84 v1265) a + S8x128.size a ≤ S7688x256.size a)
theorem k0_mult42_dvd : ∀ (arg0 : BitVec 32) (v1 : BitVec 32) (v1265 : BitVec 32) (k0_hw42 : k0_chk42 arg0 v1 v1265), ∀ (k0_h1 : k0_cond1 arg0 v1 = 1#1), 8 ∣ (k0_mult42 v1265).toNat := fun arg0 v1 v1265 k0_hw42 k0_h1 => k0_hw42.1 k0_h1
theorem k0_off83_inb : ∀ (arg0 : BitVec 32) (v1 : BitVec 32) (v1265 : BitVec 32) (k0_hw42 : k0_chk42 arg0 v1 v1265), ∀ (k0_h1 : k0_cond1 arg0 v1 = 1#1), ∀ a, (k0_off83 v1265) a + S8x128.size a ≤ S7688x256.size a := fun arg0 v1 v1265 k0_hw42 k0_h1 => k0_hw42.2.1 k0_h1
theorem k0_off84_inb : ∀ (arg0 : BitVec 32) (v1 : BitVec 32) (v1265 : BitVec 32) (k0_hw42 : k0_chk42 arg0 v1 v1265), ∀ (k0_h1 : k0_cond1 arg0 v1 = 1#1), ∀ a, (k0_off84 v1265) a + S8x128.size a ≤ S7688x256.size a := fun arg0 v1 v1265 k0_hw42 k0_h1 => k0_hw42.2.2 k0_h1

def k0_mult43 (v1295 : BitVec 32) : BitVec 32 :=
  let c1_i32_314 : BitVec 32 := 1#32
  let v1315 : BitVec 32 := Scalar.shrsi v1295 c1_i32_314
  v1315

def k0_off85 (v1295 : BitVec 32) : Fin 2 → Nat :=
  let c1_i32_314 : BitVec 32 := 1#32
  let v1315 : BitVec 32 := Scalar.shrsi v1295 c1_i32_314
  let v1316 : BitVec 32 := v1315
  let v1317 : Index := Scalar.indexCast v1316
  let c0_315 : Index := 0#32
  ![v1317.toNat, 0]
def k0_off86 (v1295 : BitVec 32) : Fin 2 → Nat :=
  let c1_i32_314 : BitVec 32 := 1#32
  let v1315 : BitVec 32 := Scalar.shrsi v1295 c1_i32_314
  let v1316 : BitVec 32 := v1315
  let v1321 : Index := Scalar.indexCast v1316
  let c128_316 : Index := 128#32
  ![v1321.toNat, 128]

def k0_chk43 (arg0 : BitVec 32) (v1 : BitVec 32) (v1295 : BitVec 32) : Prop :=
  (∀ (k0_h1 : k0_cond1 arg0 v1 = 1#1), 8 ∣ (k0_mult43 v1295).toNat) ∧
  (∀ (k0_h1 : k0_cond1 arg0 v1 = 1#1), ∀ a, (k0_off85 v1295) a + S8x128.size a ≤ S7688x256.size a) ∧
  (∀ (k0_h1 : k0_cond1 arg0 v1 = 1#1), ∀ a, (k0_off86 v1295) a + S8x128.size a ≤ S7688x256.size a)
theorem k0_mult43_dvd : ∀ (arg0 : BitVec 32) (v1 : BitVec 32) (v1295 : BitVec 32) (k0_hw43 : k0_chk43 arg0 v1 v1295), ∀ (k0_h1 : k0_cond1 arg0 v1 = 1#1), 8 ∣ (k0_mult43 v1295).toNat := fun arg0 v1 v1295 k0_hw43 k0_h1 => k0_hw43.1 k0_h1
theorem k0_off85_inb : ∀ (arg0 : BitVec 32) (v1 : BitVec 32) (v1295 : BitVec 32) (k0_hw43 : k0_chk43 arg0 v1 v1295), ∀ (k0_h1 : k0_cond1 arg0 v1 = 1#1), ∀ a, (k0_off85 v1295) a + S8x128.size a ≤ S7688x256.size a := fun arg0 v1 v1295 k0_hw43 k0_h1 => k0_hw43.2.1 k0_h1
theorem k0_off86_inb : ∀ (arg0 : BitVec 32) (v1 : BitVec 32) (v1295 : BitVec 32) (k0_hw43 : k0_chk43 arg0 v1 v1295), ∀ (k0_h1 : k0_cond1 arg0 v1 = 1#1), ∀ a, (k0_off86 v1295) a + S8x128.size a ≤ S7688x256.size a := fun arg0 v1 v1295 k0_hw43 k0_h1 => k0_hw43.2.2 k0_h1

def k0_mult44 (v1325 : BitVec 32) : BitVec 32 :=
  let c1_i32_321 : BitVec 32 := 1#32
  let v1345 : BitVec 32 := Scalar.shrsi v1325 c1_i32_321
  v1345

def k0_off87 (v1325 : BitVec 32) : Fin 2 → Nat :=
  let c1_i32_321 : BitVec 32 := 1#32
  let v1345 : BitVec 32 := Scalar.shrsi v1325 c1_i32_321
  let v1346 : BitVec 32 := v1345
  let v1347 : Index := Scalar.indexCast v1346
  let c0_322 : Index := 0#32
  ![v1347.toNat, 0]
def k0_off88 (v1325 : BitVec 32) : Fin 2 → Nat :=
  let c1_i32_321 : BitVec 32 := 1#32
  let v1345 : BitVec 32 := Scalar.shrsi v1325 c1_i32_321
  let v1346 : BitVec 32 := v1345
  let v1351 : Index := Scalar.indexCast v1346
  let c128_323 : Index := 128#32
  ![v1351.toNat, 128]

def k0_chk44 (arg0 : BitVec 32) (v1 : BitVec 32) (v1325 : BitVec 32) : Prop :=
  (∀ (k0_h1 : k0_cond1 arg0 v1 = 1#1), 8 ∣ (k0_mult44 v1325).toNat) ∧
  (∀ (k0_h1 : k0_cond1 arg0 v1 = 1#1), ∀ a, (k0_off87 v1325) a + S8x128.size a ≤ S7688x256.size a) ∧
  (∀ (k0_h1 : k0_cond1 arg0 v1 = 1#1), ∀ a, (k0_off88 v1325) a + S8x128.size a ≤ S7688x256.size a)
theorem k0_mult44_dvd : ∀ (arg0 : BitVec 32) (v1 : BitVec 32) (v1325 : BitVec 32) (k0_hw44 : k0_chk44 arg0 v1 v1325), ∀ (k0_h1 : k0_cond1 arg0 v1 = 1#1), 8 ∣ (k0_mult44 v1325).toNat := fun arg0 v1 v1325 k0_hw44 k0_h1 => k0_hw44.1 k0_h1
theorem k0_off87_inb : ∀ (arg0 : BitVec 32) (v1 : BitVec 32) (v1325 : BitVec 32) (k0_hw44 : k0_chk44 arg0 v1 v1325), ∀ (k0_h1 : k0_cond1 arg0 v1 = 1#1), ∀ a, (k0_off87 v1325) a + S8x128.size a ≤ S7688x256.size a := fun arg0 v1 v1325 k0_hw44 k0_h1 => k0_hw44.2.1 k0_h1
theorem k0_off88_inb : ∀ (arg0 : BitVec 32) (v1 : BitVec 32) (v1325 : BitVec 32) (k0_hw44 : k0_chk44 arg0 v1 v1325), ∀ (k0_h1 : k0_cond1 arg0 v1 = 1#1), ∀ a, (k0_off88 v1325) a + S8x128.size a ≤ S7688x256.size a := fun arg0 v1 v1325 k0_hw44 k0_h1 => k0_hw44.2.2 k0_h1

def k0_mult45 (v1355 : BitVec 32) : BitVec 32 :=
  let c1_i32_328 : BitVec 32 := 1#32
  let v1375 : BitVec 32 := Scalar.shrsi v1355 c1_i32_328
  v1375

def k0_off89 (v1355 : BitVec 32) : Fin 2 → Nat :=
  let c1_i32_328 : BitVec 32 := 1#32
  let v1375 : BitVec 32 := Scalar.shrsi v1355 c1_i32_328
  let v1376 : BitVec 32 := v1375
  let v1377 : Index := Scalar.indexCast v1376
  let c0_329 : Index := 0#32
  ![v1377.toNat, 0]
def k0_off90 (v1355 : BitVec 32) : Fin 2 → Nat :=
  let c1_i32_328 : BitVec 32 := 1#32
  let v1375 : BitVec 32 := Scalar.shrsi v1355 c1_i32_328
  let v1376 : BitVec 32 := v1375
  let v1381 : Index := Scalar.indexCast v1376
  let c128_330 : Index := 128#32
  ![v1381.toNat, 128]

def k0_chk45 (arg0 : BitVec 32) (v1 : BitVec 32) (v1355 : BitVec 32) : Prop :=
  (∀ (k0_h1 : k0_cond1 arg0 v1 = 1#1), 8 ∣ (k0_mult45 v1355).toNat) ∧
  (∀ (k0_h1 : k0_cond1 arg0 v1 = 1#1), ∀ a, (k0_off89 v1355) a + S8x128.size a ≤ S7688x256.size a) ∧
  (∀ (k0_h1 : k0_cond1 arg0 v1 = 1#1), ∀ a, (k0_off90 v1355) a + S8x128.size a ≤ S7688x256.size a)
theorem k0_mult45_dvd : ∀ (arg0 : BitVec 32) (v1 : BitVec 32) (v1355 : BitVec 32) (k0_hw45 : k0_chk45 arg0 v1 v1355), ∀ (k0_h1 : k0_cond1 arg0 v1 = 1#1), 8 ∣ (k0_mult45 v1355).toNat := fun arg0 v1 v1355 k0_hw45 k0_h1 => k0_hw45.1 k0_h1
theorem k0_off89_inb : ∀ (arg0 : BitVec 32) (v1 : BitVec 32) (v1355 : BitVec 32) (k0_hw45 : k0_chk45 arg0 v1 v1355), ∀ (k0_h1 : k0_cond1 arg0 v1 = 1#1), ∀ a, (k0_off89 v1355) a + S8x128.size a ≤ S7688x256.size a := fun arg0 v1 v1355 k0_hw45 k0_h1 => k0_hw45.2.1 k0_h1
theorem k0_off90_inb : ∀ (arg0 : BitVec 32) (v1 : BitVec 32) (v1355 : BitVec 32) (k0_hw45 : k0_chk45 arg0 v1 v1355), ∀ (k0_h1 : k0_cond1 arg0 v1 = 1#1), ∀ a, (k0_off90 v1355) a + S8x128.size a ≤ S7688x256.size a := fun arg0 v1 v1355 k0_hw45 k0_h1 => k0_hw45.2.2 k0_h1

def k0_mult46 (v1385 : BitVec 32) : BitVec 32 :=
  let c1_i32_335 : BitVec 32 := 1#32
  let v1405 : BitVec 32 := Scalar.shrsi v1385 c1_i32_335
  v1405

def k0_off91 (v1385 : BitVec 32) : Fin 2 → Nat :=
  let c1_i32_335 : BitVec 32 := 1#32
  let v1405 : BitVec 32 := Scalar.shrsi v1385 c1_i32_335
  let v1406 : BitVec 32 := v1405
  let v1407 : Index := Scalar.indexCast v1406
  let c0_336 : Index := 0#32
  ![v1407.toNat, 0]
def k0_off92 (v1385 : BitVec 32) : Fin 2 → Nat :=
  let c1_i32_335 : BitVec 32 := 1#32
  let v1405 : BitVec 32 := Scalar.shrsi v1385 c1_i32_335
  let v1406 : BitVec 32 := v1405
  let v1411 : Index := Scalar.indexCast v1406
  let c128_337 : Index := 128#32
  ![v1411.toNat, 128]

def k0_chk46 (arg0 : BitVec 32) (v1 : BitVec 32) (v1385 : BitVec 32) : Prop :=
  (∀ (k0_h1 : k0_cond1 arg0 v1 = 1#1), 8 ∣ (k0_mult46 v1385).toNat) ∧
  (∀ (k0_h1 : k0_cond1 arg0 v1 = 1#1), ∀ a, (k0_off91 v1385) a + S8x128.size a ≤ S7688x256.size a) ∧
  (∀ (k0_h1 : k0_cond1 arg0 v1 = 1#1), ∀ a, (k0_off92 v1385) a + S8x128.size a ≤ S7688x256.size a)
theorem k0_mult46_dvd : ∀ (arg0 : BitVec 32) (v1 : BitVec 32) (v1385 : BitVec 32) (k0_hw46 : k0_chk46 arg0 v1 v1385), ∀ (k0_h1 : k0_cond1 arg0 v1 = 1#1), 8 ∣ (k0_mult46 v1385).toNat := fun arg0 v1 v1385 k0_hw46 k0_h1 => k0_hw46.1 k0_h1
theorem k0_off91_inb : ∀ (arg0 : BitVec 32) (v1 : BitVec 32) (v1385 : BitVec 32) (k0_hw46 : k0_chk46 arg0 v1 v1385), ∀ (k0_h1 : k0_cond1 arg0 v1 = 1#1), ∀ a, (k0_off91 v1385) a + S8x128.size a ≤ S7688x256.size a := fun arg0 v1 v1385 k0_hw46 k0_h1 => k0_hw46.2.1 k0_h1
theorem k0_off92_inb : ∀ (arg0 : BitVec 32) (v1 : BitVec 32) (v1385 : BitVec 32) (k0_hw46 : k0_chk46 arg0 v1 v1385), ∀ (k0_h1 : k0_cond1 arg0 v1 = 1#1), ∀ a, (k0_off92 v1385) a + S8x128.size a ≤ S7688x256.size a := fun arg0 v1 v1385 k0_hw46 k0_h1 => k0_hw46.2.2 k0_h1

def k0_mult47 (v1415 : BitVec 32) : BitVec 32 :=
  let c1_i32_342 : BitVec 32 := 1#32
  let v1435 : BitVec 32 := Scalar.shrsi v1415 c1_i32_342
  v1435

def k0_off93 (v1415 : BitVec 32) : Fin 2 → Nat :=
  let c1_i32_342 : BitVec 32 := 1#32
  let v1435 : BitVec 32 := Scalar.shrsi v1415 c1_i32_342
  let v1436 : BitVec 32 := v1435
  let v1437 : Index := Scalar.indexCast v1436
  let c0_343 : Index := 0#32
  ![v1437.toNat, 0]
def k0_off94 (v1415 : BitVec 32) : Fin 2 → Nat :=
  let c1_i32_342 : BitVec 32 := 1#32
  let v1435 : BitVec 32 := Scalar.shrsi v1415 c1_i32_342
  let v1436 : BitVec 32 := v1435
  let v1441 : Index := Scalar.indexCast v1436
  let c128_344 : Index := 128#32
  ![v1441.toNat, 128]

def k0_chk47 (arg0 : BitVec 32) (v1 : BitVec 32) (v1415 : BitVec 32) : Prop :=
  (∀ (k0_h1 : k0_cond1 arg0 v1 = 1#1), 8 ∣ (k0_mult47 v1415).toNat) ∧
  (∀ (k0_h1 : k0_cond1 arg0 v1 = 1#1), ∀ a, (k0_off93 v1415) a + S8x128.size a ≤ S7688x256.size a) ∧
  (∀ (k0_h1 : k0_cond1 arg0 v1 = 1#1), ∀ a, (k0_off94 v1415) a + S8x128.size a ≤ S7688x256.size a)
theorem k0_mult47_dvd : ∀ (arg0 : BitVec 32) (v1 : BitVec 32) (v1415 : BitVec 32) (k0_hw47 : k0_chk47 arg0 v1 v1415), ∀ (k0_h1 : k0_cond1 arg0 v1 = 1#1), 8 ∣ (k0_mult47 v1415).toNat := fun arg0 v1 v1415 k0_hw47 k0_h1 => k0_hw47.1 k0_h1
theorem k0_off93_inb : ∀ (arg0 : BitVec 32) (v1 : BitVec 32) (v1415 : BitVec 32) (k0_hw47 : k0_chk47 arg0 v1 v1415), ∀ (k0_h1 : k0_cond1 arg0 v1 = 1#1), ∀ a, (k0_off93 v1415) a + S8x128.size a ≤ S7688x256.size a := fun arg0 v1 v1415 k0_hw47 k0_h1 => k0_hw47.2.1 k0_h1
theorem k0_off94_inb : ∀ (arg0 : BitVec 32) (v1 : BitVec 32) (v1415 : BitVec 32) (k0_hw47 : k0_chk47 arg0 v1 v1415), ∀ (k0_h1 : k0_cond1 arg0 v1 = 1#1), ∀ a, (k0_off94 v1415) a + S8x128.size a ≤ S7688x256.size a := fun arg0 v1 v1415 k0_hw47 k0_h1 => k0_hw47.2.2 k0_h1

def k0_mult48 (v1445 : BitVec 32) : BitVec 32 :=
  let c1_i32_349 : BitVec 32 := 1#32
  let v1465 : BitVec 32 := Scalar.shrsi v1445 c1_i32_349
  v1465

def k0_off95 (v1445 : BitVec 32) : Fin 2 → Nat :=
  let c1_i32_349 : BitVec 32 := 1#32
  let v1465 : BitVec 32 := Scalar.shrsi v1445 c1_i32_349
  let v1466 : BitVec 32 := v1465
  let v1467 : Index := Scalar.indexCast v1466
  let c0_350 : Index := 0#32
  ![v1467.toNat, 0]
def k0_off96 (v1445 : BitVec 32) : Fin 2 → Nat :=
  let c1_i32_349 : BitVec 32 := 1#32
  let v1465 : BitVec 32 := Scalar.shrsi v1445 c1_i32_349
  let v1466 : BitVec 32 := v1465
  let v1471 : Index := Scalar.indexCast v1466
  let c128_351 : Index := 128#32
  ![v1471.toNat, 128]

def k0_chk48 (arg0 : BitVec 32) (v1 : BitVec 32) (v1445 : BitVec 32) : Prop :=
  (∀ (k0_h1 : k0_cond1 arg0 v1 = 1#1), 8 ∣ (k0_mult48 v1445).toNat) ∧
  (∀ (k0_h1 : k0_cond1 arg0 v1 = 1#1), ∀ a, (k0_off95 v1445) a + S8x128.size a ≤ S7688x256.size a) ∧
  (∀ (k0_h1 : k0_cond1 arg0 v1 = 1#1), ∀ a, (k0_off96 v1445) a + S8x128.size a ≤ S7688x256.size a)
theorem k0_mult48_dvd : ∀ (arg0 : BitVec 32) (v1 : BitVec 32) (v1445 : BitVec 32) (k0_hw48 : k0_chk48 arg0 v1 v1445), ∀ (k0_h1 : k0_cond1 arg0 v1 = 1#1), 8 ∣ (k0_mult48 v1445).toNat := fun arg0 v1 v1445 k0_hw48 k0_h1 => k0_hw48.1 k0_h1
theorem k0_off95_inb : ∀ (arg0 : BitVec 32) (v1 : BitVec 32) (v1445 : BitVec 32) (k0_hw48 : k0_chk48 arg0 v1 v1445), ∀ (k0_h1 : k0_cond1 arg0 v1 = 1#1), ∀ a, (k0_off95 v1445) a + S8x128.size a ≤ S7688x256.size a := fun arg0 v1 v1445 k0_hw48 k0_h1 => k0_hw48.2.1 k0_h1
theorem k0_off96_inb : ∀ (arg0 : BitVec 32) (v1 : BitVec 32) (v1445 : BitVec 32) (k0_hw48 : k0_chk48 arg0 v1 v1445), ∀ (k0_h1 : k0_cond1 arg0 v1 = 1#1), ∀ a, (k0_off96 v1445) a + S8x128.size a ≤ S7688x256.size a := fun arg0 v1 v1445 k0_hw48 k0_h1 => k0_hw48.2.2 k0_h1

def k0_mult49 (v1475 : BitVec 32) : BitVec 32 :=
  let c1_i32_356 : BitVec 32 := 1#32
  let v1495 : BitVec 32 := Scalar.shrsi v1475 c1_i32_356
  v1495

def k0_off97 (v1475 : BitVec 32) : Fin 2 → Nat :=
  let c1_i32_356 : BitVec 32 := 1#32
  let v1495 : BitVec 32 := Scalar.shrsi v1475 c1_i32_356
  let v1496 : BitVec 32 := v1495
  let v1497 : Index := Scalar.indexCast v1496
  let c0_357 : Index := 0#32
  ![v1497.toNat, 0]
def k0_off98 (v1475 : BitVec 32) : Fin 2 → Nat :=
  let c1_i32_356 : BitVec 32 := 1#32
  let v1495 : BitVec 32 := Scalar.shrsi v1475 c1_i32_356
  let v1496 : BitVec 32 := v1495
  let v1501 : Index := Scalar.indexCast v1496
  let c128_358 : Index := 128#32
  ![v1501.toNat, 128]

def k0_chk49 (arg0 : BitVec 32) (v1 : BitVec 32) (v1475 : BitVec 32) : Prop :=
  (∀ (k0_h1 : k0_cond1 arg0 v1 = 1#1), 8 ∣ (k0_mult49 v1475).toNat) ∧
  (∀ (k0_h1 : k0_cond1 arg0 v1 = 1#1), ∀ a, (k0_off97 v1475) a + S8x128.size a ≤ S7688x256.size a) ∧
  (∀ (k0_h1 : k0_cond1 arg0 v1 = 1#1), ∀ a, (k0_off98 v1475) a + S8x128.size a ≤ S7688x256.size a)
theorem k0_mult49_dvd : ∀ (arg0 : BitVec 32) (v1 : BitVec 32) (v1475 : BitVec 32) (k0_hw49 : k0_chk49 arg0 v1 v1475), ∀ (k0_h1 : k0_cond1 arg0 v1 = 1#1), 8 ∣ (k0_mult49 v1475).toNat := fun arg0 v1 v1475 k0_hw49 k0_h1 => k0_hw49.1 k0_h1
theorem k0_off97_inb : ∀ (arg0 : BitVec 32) (v1 : BitVec 32) (v1475 : BitVec 32) (k0_hw49 : k0_chk49 arg0 v1 v1475), ∀ (k0_h1 : k0_cond1 arg0 v1 = 1#1), ∀ a, (k0_off97 v1475) a + S8x128.size a ≤ S7688x256.size a := fun arg0 v1 v1475 k0_hw49 k0_h1 => k0_hw49.2.1 k0_h1
theorem k0_off98_inb : ∀ (arg0 : BitVec 32) (v1 : BitVec 32) (v1475 : BitVec 32) (k0_hw49 : k0_chk49 arg0 v1 v1475), ∀ (k0_h1 : k0_cond1 arg0 v1 = 1#1), ∀ a, (k0_off98 v1475) a + S8x128.size a ≤ S7688x256.size a := fun arg0 v1 v1475 k0_hw49 k0_h1 => k0_hw49.2.2 k0_h1

def k0_mult50 (v1505 : BitVec 32) : BitVec 32 :=
  let c1_i32_363 : BitVec 32 := 1#32
  let v1525 : BitVec 32 := Scalar.shrsi v1505 c1_i32_363
  v1525

def k0_off99 (v1505 : BitVec 32) : Fin 2 → Nat :=
  let c1_i32_363 : BitVec 32 := 1#32
  let v1525 : BitVec 32 := Scalar.shrsi v1505 c1_i32_363
  let v1526 : BitVec 32 := v1525
  let v1527 : Index := Scalar.indexCast v1526
  let c0_364 : Index := 0#32
  ![v1527.toNat, 0]
def k0_off100 (v1505 : BitVec 32) : Fin 2 → Nat :=
  let c1_i32_363 : BitVec 32 := 1#32
  let v1525 : BitVec 32 := Scalar.shrsi v1505 c1_i32_363
  let v1526 : BitVec 32 := v1525
  let v1531 : Index := Scalar.indexCast v1526
  let c128_365 : Index := 128#32
  ![v1531.toNat, 128]

def k0_chk50 (arg0 : BitVec 32) (v1 : BitVec 32) (v1505 : BitVec 32) : Prop :=
  (∀ (k0_h1 : k0_cond1 arg0 v1 = 1#1), 8 ∣ (k0_mult50 v1505).toNat) ∧
  (∀ (k0_h1 : k0_cond1 arg0 v1 = 1#1), ∀ a, (k0_off99 v1505) a + S8x128.size a ≤ S7688x256.size a) ∧
  (∀ (k0_h1 : k0_cond1 arg0 v1 = 1#1), ∀ a, (k0_off100 v1505) a + S8x128.size a ≤ S7688x256.size a)
theorem k0_mult50_dvd : ∀ (arg0 : BitVec 32) (v1 : BitVec 32) (v1505 : BitVec 32) (k0_hw50 : k0_chk50 arg0 v1 v1505), ∀ (k0_h1 : k0_cond1 arg0 v1 = 1#1), 8 ∣ (k0_mult50 v1505).toNat := fun arg0 v1 v1505 k0_hw50 k0_h1 => k0_hw50.1 k0_h1
theorem k0_off99_inb : ∀ (arg0 : BitVec 32) (v1 : BitVec 32) (v1505 : BitVec 32) (k0_hw50 : k0_chk50 arg0 v1 v1505), ∀ (k0_h1 : k0_cond1 arg0 v1 = 1#1), ∀ a, (k0_off99 v1505) a + S8x128.size a ≤ S7688x256.size a := fun arg0 v1 v1505 k0_hw50 k0_h1 => k0_hw50.2.1 k0_h1
theorem k0_off100_inb : ∀ (arg0 : BitVec 32) (v1 : BitVec 32) (v1505 : BitVec 32) (k0_hw50 : k0_chk50 arg0 v1 v1505), ∀ (k0_h1 : k0_cond1 arg0 v1 = 1#1), ∀ a, (k0_off100 v1505) a + S8x128.size a ≤ S7688x256.size a := fun arg0 v1 v1505 k0_hw50 k0_h1 => k0_hw50.2.2 k0_h1

def k0_mult51 (v1535 : BitVec 32) : BitVec 32 :=
  let c1_i32_370 : BitVec 32 := 1#32
  let v1555 : BitVec 32 := Scalar.shrsi v1535 c1_i32_370
  v1555

def k0_off101 (v1535 : BitVec 32) : Fin 2 → Nat :=
  let c1_i32_370 : BitVec 32 := 1#32
  let v1555 : BitVec 32 := Scalar.shrsi v1535 c1_i32_370
  let v1556 : BitVec 32 := v1555
  let v1557 : Index := Scalar.indexCast v1556
  let c0_371 : Index := 0#32
  ![v1557.toNat, 0]
def k0_off102 (v1535 : BitVec 32) : Fin 2 → Nat :=
  let c1_i32_370 : BitVec 32 := 1#32
  let v1555 : BitVec 32 := Scalar.shrsi v1535 c1_i32_370
  let v1556 : BitVec 32 := v1555
  let v1561 : Index := Scalar.indexCast v1556
  let c128_372 : Index := 128#32
  ![v1561.toNat, 128]

def k0_chk51 (arg0 : BitVec 32) (v1 : BitVec 32) (v1535 : BitVec 32) : Prop :=
  (∀ (k0_h1 : k0_cond1 arg0 v1 = 1#1), 8 ∣ (k0_mult51 v1535).toNat) ∧
  (∀ (k0_h1 : k0_cond1 arg0 v1 = 1#1), ∀ a, (k0_off101 v1535) a + S8x128.size a ≤ S7688x256.size a) ∧
  (∀ (k0_h1 : k0_cond1 arg0 v1 = 1#1), ∀ a, (k0_off102 v1535) a + S8x128.size a ≤ S7688x256.size a)
theorem k0_mult51_dvd : ∀ (arg0 : BitVec 32) (v1 : BitVec 32) (v1535 : BitVec 32) (k0_hw51 : k0_chk51 arg0 v1 v1535), ∀ (k0_h1 : k0_cond1 arg0 v1 = 1#1), 8 ∣ (k0_mult51 v1535).toNat := fun arg0 v1 v1535 k0_hw51 k0_h1 => k0_hw51.1 k0_h1
theorem k0_off101_inb : ∀ (arg0 : BitVec 32) (v1 : BitVec 32) (v1535 : BitVec 32) (k0_hw51 : k0_chk51 arg0 v1 v1535), ∀ (k0_h1 : k0_cond1 arg0 v1 = 1#1), ∀ a, (k0_off101 v1535) a + S8x128.size a ≤ S7688x256.size a := fun arg0 v1 v1535 k0_hw51 k0_h1 => k0_hw51.2.1 k0_h1
theorem k0_off102_inb : ∀ (arg0 : BitVec 32) (v1 : BitVec 32) (v1535 : BitVec 32) (k0_hw51 : k0_chk51 arg0 v1 v1535), ∀ (k0_h1 : k0_cond1 arg0 v1 = 1#1), ∀ a, (k0_off102 v1535) a + S8x128.size a ≤ S7688x256.size a := fun arg0 v1 v1535 k0_hw51 k0_h1 => k0_hw51.2.2 k0_h1

def k0_mult52 (v1565 : BitVec 32) : BitVec 32 :=
  let c1_i32_377 : BitVec 32 := 1#32
  let v1585 : BitVec 32 := Scalar.shrsi v1565 c1_i32_377
  v1585

def k0_off103 (v1565 : BitVec 32) : Fin 2 → Nat :=
  let c1_i32_377 : BitVec 32 := 1#32
  let v1585 : BitVec 32 := Scalar.shrsi v1565 c1_i32_377
  let v1586 : BitVec 32 := v1585
  let v1587 : Index := Scalar.indexCast v1586
  let c0_378 : Index := 0#32
  ![v1587.toNat, 0]
def k0_off104 (v1565 : BitVec 32) : Fin 2 → Nat :=
  let c1_i32_377 : BitVec 32 := 1#32
  let v1585 : BitVec 32 := Scalar.shrsi v1565 c1_i32_377
  let v1586 : BitVec 32 := v1585
  let v1591 : Index := Scalar.indexCast v1586
  let c128_379 : Index := 128#32
  ![v1591.toNat, 128]

def k0_chk52 (arg0 : BitVec 32) (v1 : BitVec 32) (v1565 : BitVec 32) : Prop :=
  (∀ (k0_h1 : k0_cond1 arg0 v1 = 1#1), 8 ∣ (k0_mult52 v1565).toNat) ∧
  (∀ (k0_h1 : k0_cond1 arg0 v1 = 1#1), ∀ a, (k0_off103 v1565) a + S8x128.size a ≤ S7688x256.size a) ∧
  (∀ (k0_h1 : k0_cond1 arg0 v1 = 1#1), ∀ a, (k0_off104 v1565) a + S8x128.size a ≤ S7688x256.size a)
theorem k0_mult52_dvd : ∀ (arg0 : BitVec 32) (v1 : BitVec 32) (v1565 : BitVec 32) (k0_hw52 : k0_chk52 arg0 v1 v1565), ∀ (k0_h1 : k0_cond1 arg0 v1 = 1#1), 8 ∣ (k0_mult52 v1565).toNat := fun arg0 v1 v1565 k0_hw52 k0_h1 => k0_hw52.1 k0_h1
theorem k0_off103_inb : ∀ (arg0 : BitVec 32) (v1 : BitVec 32) (v1565 : BitVec 32) (k0_hw52 : k0_chk52 arg0 v1 v1565), ∀ (k0_h1 : k0_cond1 arg0 v1 = 1#1), ∀ a, (k0_off103 v1565) a + S8x128.size a ≤ S7688x256.size a := fun arg0 v1 v1565 k0_hw52 k0_h1 => k0_hw52.2.1 k0_h1
theorem k0_off104_inb : ∀ (arg0 : BitVec 32) (v1 : BitVec 32) (v1565 : BitVec 32) (k0_hw52 : k0_chk52 arg0 v1 v1565), ∀ (k0_h1 : k0_cond1 arg0 v1 = 1#1), ∀ a, (k0_off104 v1565) a + S8x128.size a ≤ S7688x256.size a := fun arg0 v1 v1565 k0_hw52 k0_h1 => k0_hw52.2.2 k0_h1

def k0_mult53 (v1595 : BitVec 32) : BitVec 32 :=
  let c1_i32_384 : BitVec 32 := 1#32
  let v1615 : BitVec 32 := Scalar.shrsi v1595 c1_i32_384
  v1615

def k0_off105 (v1595 : BitVec 32) : Fin 2 → Nat :=
  let c1_i32_384 : BitVec 32 := 1#32
  let v1615 : BitVec 32 := Scalar.shrsi v1595 c1_i32_384
  let v1616 : BitVec 32 := v1615
  let v1617 : Index := Scalar.indexCast v1616
  let c0_385 : Index := 0#32
  ![v1617.toNat, 0]
def k0_off106 (v1595 : BitVec 32) : Fin 2 → Nat :=
  let c1_i32_384 : BitVec 32 := 1#32
  let v1615 : BitVec 32 := Scalar.shrsi v1595 c1_i32_384
  let v1616 : BitVec 32 := v1615
  let v1621 : Index := Scalar.indexCast v1616
  let c128_386 : Index := 128#32
  ![v1621.toNat, 128]

def k0_chk53 (arg0 : BitVec 32) (v1 : BitVec 32) (v1595 : BitVec 32) : Prop :=
  (∀ (k0_h1 : k0_cond1 arg0 v1 = 1#1), 8 ∣ (k0_mult53 v1595).toNat) ∧
  (∀ (k0_h1 : k0_cond1 arg0 v1 = 1#1), ∀ a, (k0_off105 v1595) a + S8x128.size a ≤ S7688x256.size a) ∧
  (∀ (k0_h1 : k0_cond1 arg0 v1 = 1#1), ∀ a, (k0_off106 v1595) a + S8x128.size a ≤ S7688x256.size a)
theorem k0_mult53_dvd : ∀ (arg0 : BitVec 32) (v1 : BitVec 32) (v1595 : BitVec 32) (k0_hw53 : k0_chk53 arg0 v1 v1595), ∀ (k0_h1 : k0_cond1 arg0 v1 = 1#1), 8 ∣ (k0_mult53 v1595).toNat := fun arg0 v1 v1595 k0_hw53 k0_h1 => k0_hw53.1 k0_h1
theorem k0_off105_inb : ∀ (arg0 : BitVec 32) (v1 : BitVec 32) (v1595 : BitVec 32) (k0_hw53 : k0_chk53 arg0 v1 v1595), ∀ (k0_h1 : k0_cond1 arg0 v1 = 1#1), ∀ a, (k0_off105 v1595) a + S8x128.size a ≤ S7688x256.size a := fun arg0 v1 v1595 k0_hw53 k0_h1 => k0_hw53.2.1 k0_h1
theorem k0_off106_inb : ∀ (arg0 : BitVec 32) (v1 : BitVec 32) (v1595 : BitVec 32) (k0_hw53 : k0_chk53 arg0 v1 v1595), ∀ (k0_h1 : k0_cond1 arg0 v1 = 1#1), ∀ a, (k0_off106 v1595) a + S8x128.size a ≤ S7688x256.size a := fun arg0 v1 v1595 k0_hw53 k0_h1 => k0_hw53.2.2 k0_h1

def k0_mult54 (v1625 : BitVec 32) : BitVec 32 :=
  let c1_i32_391 : BitVec 32 := 1#32
  let v1645 : BitVec 32 := Scalar.shrsi v1625 c1_i32_391
  v1645

def k0_off107 (v1625 : BitVec 32) : Fin 2 → Nat :=
  let c1_i32_391 : BitVec 32 := 1#32
  let v1645 : BitVec 32 := Scalar.shrsi v1625 c1_i32_391
  let v1646 : BitVec 32 := v1645
  let v1647 : Index := Scalar.indexCast v1646
  let c0_392 : Index := 0#32
  ![v1647.toNat, 0]
def k0_off108 (v1625 : BitVec 32) : Fin 2 → Nat :=
  let c1_i32_391 : BitVec 32 := 1#32
  let v1645 : BitVec 32 := Scalar.shrsi v1625 c1_i32_391
  let v1646 : BitVec 32 := v1645
  let v1651 : Index := Scalar.indexCast v1646
  let c128_393 : Index := 128#32
  ![v1651.toNat, 128]

def k0_chk54 (arg0 : BitVec 32) (v1 : BitVec 32) (v1625 : BitVec 32) : Prop :=
  (∀ (k0_h1 : k0_cond1 arg0 v1 = 1#1), 8 ∣ (k0_mult54 v1625).toNat) ∧
  (∀ (k0_h1 : k0_cond1 arg0 v1 = 1#1), ∀ a, (k0_off107 v1625) a + S8x128.size a ≤ S7688x256.size a) ∧
  (∀ (k0_h1 : k0_cond1 arg0 v1 = 1#1), ∀ a, (k0_off108 v1625) a + S8x128.size a ≤ S7688x256.size a)
theorem k0_mult54_dvd : ∀ (arg0 : BitVec 32) (v1 : BitVec 32) (v1625 : BitVec 32) (k0_hw54 : k0_chk54 arg0 v1 v1625), ∀ (k0_h1 : k0_cond1 arg0 v1 = 1#1), 8 ∣ (k0_mult54 v1625).toNat := fun arg0 v1 v1625 k0_hw54 k0_h1 => k0_hw54.1 k0_h1
theorem k0_off107_inb : ∀ (arg0 : BitVec 32) (v1 : BitVec 32) (v1625 : BitVec 32) (k0_hw54 : k0_chk54 arg0 v1 v1625), ∀ (k0_h1 : k0_cond1 arg0 v1 = 1#1), ∀ a, (k0_off107 v1625) a + S8x128.size a ≤ S7688x256.size a := fun arg0 v1 v1625 k0_hw54 k0_h1 => k0_hw54.2.1 k0_h1
theorem k0_off108_inb : ∀ (arg0 : BitVec 32) (v1 : BitVec 32) (v1625 : BitVec 32) (k0_hw54 : k0_chk54 arg0 v1 v1625), ∀ (k0_h1 : k0_cond1 arg0 v1 = 1#1), ∀ a, (k0_off108 v1625) a + S8x128.size a ≤ S7688x256.size a := fun arg0 v1 v1625 k0_hw54 k0_h1 => k0_hw54.2.2 k0_h1

def k0_mult55 (v1655 : BitVec 32) : BitVec 32 :=
  let c1_i32_398 : BitVec 32 := 1#32
  let v1675 : BitVec 32 := Scalar.shrsi v1655 c1_i32_398
  v1675

def k0_off109 (v1655 : BitVec 32) : Fin 2 → Nat :=
  let c1_i32_398 : BitVec 32 := 1#32
  let v1675 : BitVec 32 := Scalar.shrsi v1655 c1_i32_398
  let v1676 : BitVec 32 := v1675
  let v1677 : Index := Scalar.indexCast v1676
  let c0_399 : Index := 0#32
  ![v1677.toNat, 0]
def k0_off110 (v1655 : BitVec 32) : Fin 2 → Nat :=
  let c1_i32_398 : BitVec 32 := 1#32
  let v1675 : BitVec 32 := Scalar.shrsi v1655 c1_i32_398
  let v1676 : BitVec 32 := v1675
  let v1681 : Index := Scalar.indexCast v1676
  let c128_400 : Index := 128#32
  ![v1681.toNat, 128]

def k0_chk55 (arg0 : BitVec 32) (v1 : BitVec 32) (v1655 : BitVec 32) : Prop :=
  (∀ (k0_h1 : k0_cond1 arg0 v1 = 1#1), 8 ∣ (k0_mult55 v1655).toNat) ∧
  (∀ (k0_h1 : k0_cond1 arg0 v1 = 1#1), ∀ a, (k0_off109 v1655) a + S8x128.size a ≤ S7688x256.size a) ∧
  (∀ (k0_h1 : k0_cond1 arg0 v1 = 1#1), ∀ a, (k0_off110 v1655) a + S8x128.size a ≤ S7688x256.size a)
theorem k0_mult55_dvd : ∀ (arg0 : BitVec 32) (v1 : BitVec 32) (v1655 : BitVec 32) (k0_hw55 : k0_chk55 arg0 v1 v1655), ∀ (k0_h1 : k0_cond1 arg0 v1 = 1#1), 8 ∣ (k0_mult55 v1655).toNat := fun arg0 v1 v1655 k0_hw55 k0_h1 => k0_hw55.1 k0_h1
theorem k0_off109_inb : ∀ (arg0 : BitVec 32) (v1 : BitVec 32) (v1655 : BitVec 32) (k0_hw55 : k0_chk55 arg0 v1 v1655), ∀ (k0_h1 : k0_cond1 arg0 v1 = 1#1), ∀ a, (k0_off109 v1655) a + S8x128.size a ≤ S7688x256.size a := fun arg0 v1 v1655 k0_hw55 k0_h1 => k0_hw55.2.1 k0_h1
theorem k0_off110_inb : ∀ (arg0 : BitVec 32) (v1 : BitVec 32) (v1655 : BitVec 32) (k0_hw55 : k0_chk55 arg0 v1 v1655), ∀ (k0_h1 : k0_cond1 arg0 v1 = 1#1), ∀ a, (k0_off110 v1655) a + S8x128.size a ≤ S7688x256.size a := fun arg0 v1 v1655 k0_hw55 k0_h1 => k0_hw55.2.2 k0_h1

def k0_mult56 (v1685 : BitVec 32) : BitVec 32 :=
  let c1_i32_405 : BitVec 32 := 1#32
  let v1705 : BitVec 32 := Scalar.shrsi v1685 c1_i32_405
  v1705

def k0_off111 (v1685 : BitVec 32) : Fin 2 → Nat :=
  let c1_i32_405 : BitVec 32 := 1#32
  let v1705 : BitVec 32 := Scalar.shrsi v1685 c1_i32_405
  let v1706 : BitVec 32 := v1705
  let v1707 : Index := Scalar.indexCast v1706
  let c0_406 : Index := 0#32
  ![v1707.toNat, 0]
def k0_off112 (v1685 : BitVec 32) : Fin 2 → Nat :=
  let c1_i32_405 : BitVec 32 := 1#32
  let v1705 : BitVec 32 := Scalar.shrsi v1685 c1_i32_405
  let v1706 : BitVec 32 := v1705
  let v1711 : Index := Scalar.indexCast v1706
  let c128_407 : Index := 128#32
  ![v1711.toNat, 128]

def k0_chk56 (arg0 : BitVec 32) (v1 : BitVec 32) (v1685 : BitVec 32) : Prop :=
  (∀ (k0_h1 : k0_cond1 arg0 v1 = 1#1), 8 ∣ (k0_mult56 v1685).toNat) ∧
  (∀ (k0_h1 : k0_cond1 arg0 v1 = 1#1), ∀ a, (k0_off111 v1685) a + S8x128.size a ≤ S7688x256.size a) ∧
  (∀ (k0_h1 : k0_cond1 arg0 v1 = 1#1), ∀ a, (k0_off112 v1685) a + S8x128.size a ≤ S7688x256.size a)
theorem k0_mult56_dvd : ∀ (arg0 : BitVec 32) (v1 : BitVec 32) (v1685 : BitVec 32) (k0_hw56 : k0_chk56 arg0 v1 v1685), ∀ (k0_h1 : k0_cond1 arg0 v1 = 1#1), 8 ∣ (k0_mult56 v1685).toNat := fun arg0 v1 v1685 k0_hw56 k0_h1 => k0_hw56.1 k0_h1
theorem k0_off111_inb : ∀ (arg0 : BitVec 32) (v1 : BitVec 32) (v1685 : BitVec 32) (k0_hw56 : k0_chk56 arg0 v1 v1685), ∀ (k0_h1 : k0_cond1 arg0 v1 = 1#1), ∀ a, (k0_off111 v1685) a + S8x128.size a ≤ S7688x256.size a := fun arg0 v1 v1685 k0_hw56 k0_h1 => k0_hw56.2.1 k0_h1
theorem k0_off112_inb : ∀ (arg0 : BitVec 32) (v1 : BitVec 32) (v1685 : BitVec 32) (k0_hw56 : k0_chk56 arg0 v1 v1685), ∀ (k0_h1 : k0_cond1 arg0 v1 = 1#1), ∀ a, (k0_off112 v1685) a + S8x128.size a ≤ S7688x256.size a := fun arg0 v1 v1685 k0_hw56 k0_h1 => k0_hw56.2.2 k0_h1

def k0_mult57 (v1715 : BitVec 32) : BitVec 32 :=
  let c1_i32_412 : BitVec 32 := 1#32
  let v1735 : BitVec 32 := Scalar.shrsi v1715 c1_i32_412
  v1735

def k0_off113 (v1715 : BitVec 32) : Fin 2 → Nat :=
  let c1_i32_412 : BitVec 32 := 1#32
  let v1735 : BitVec 32 := Scalar.shrsi v1715 c1_i32_412
  let v1736 : BitVec 32 := v1735
  let v1737 : Index := Scalar.indexCast v1736
  let c0_413 : Index := 0#32
  ![v1737.toNat, 0]
def k0_off114 (v1715 : BitVec 32) : Fin 2 → Nat :=
  let c1_i32_412 : BitVec 32 := 1#32
  let v1735 : BitVec 32 := Scalar.shrsi v1715 c1_i32_412
  let v1736 : BitVec 32 := v1735
  let v1741 : Index := Scalar.indexCast v1736
  let c128_414 : Index := 128#32
  ![v1741.toNat, 128]

def k0_chk57 (arg0 : BitVec 32) (v1 : BitVec 32) (v1715 : BitVec 32) : Prop :=
  (∀ (k0_h1 : k0_cond1 arg0 v1 = 1#1), 8 ∣ (k0_mult57 v1715).toNat) ∧
  (∀ (k0_h1 : k0_cond1 arg0 v1 = 1#1), ∀ a, (k0_off113 v1715) a + S8x128.size a ≤ S7688x256.size a) ∧
  (∀ (k0_h1 : k0_cond1 arg0 v1 = 1#1), ∀ a, (k0_off114 v1715) a + S8x128.size a ≤ S7688x256.size a)
theorem k0_mult57_dvd : ∀ (arg0 : BitVec 32) (v1 : BitVec 32) (v1715 : BitVec 32) (k0_hw57 : k0_chk57 arg0 v1 v1715), ∀ (k0_h1 : k0_cond1 arg0 v1 = 1#1), 8 ∣ (k0_mult57 v1715).toNat := fun arg0 v1 v1715 k0_hw57 k0_h1 => k0_hw57.1 k0_h1
theorem k0_off113_inb : ∀ (arg0 : BitVec 32) (v1 : BitVec 32) (v1715 : BitVec 32) (k0_hw57 : k0_chk57 arg0 v1 v1715), ∀ (k0_h1 : k0_cond1 arg0 v1 = 1#1), ∀ a, (k0_off113 v1715) a + S8x128.size a ≤ S7688x256.size a := fun arg0 v1 v1715 k0_hw57 k0_h1 => k0_hw57.2.1 k0_h1
theorem k0_off114_inb : ∀ (arg0 : BitVec 32) (v1 : BitVec 32) (v1715 : BitVec 32) (k0_hw57 : k0_chk57 arg0 v1 v1715), ∀ (k0_h1 : k0_cond1 arg0 v1 = 1#1), ∀ a, (k0_off114 v1715) a + S8x128.size a ≤ S7688x256.size a := fun arg0 v1 v1715 k0_hw57 k0_h1 => k0_hw57.2.2 k0_h1

def k0_mult58 (v1745 : BitVec 32) : BitVec 32 :=
  let c1_i32_419 : BitVec 32 := 1#32
  let v1765 : BitVec 32 := Scalar.shrsi v1745 c1_i32_419
  v1765

def k0_off115 (v1745 : BitVec 32) : Fin 2 → Nat :=
  let c1_i32_419 : BitVec 32 := 1#32
  let v1765 : BitVec 32 := Scalar.shrsi v1745 c1_i32_419
  let v1766 : BitVec 32 := v1765
  let v1767 : Index := Scalar.indexCast v1766
  let c0_420 : Index := 0#32
  ![v1767.toNat, 0]
def k0_off116 (v1745 : BitVec 32) : Fin 2 → Nat :=
  let c1_i32_419 : BitVec 32 := 1#32
  let v1765 : BitVec 32 := Scalar.shrsi v1745 c1_i32_419
  let v1766 : BitVec 32 := v1765
  let v1771 : Index := Scalar.indexCast v1766
  let c128_421 : Index := 128#32
  ![v1771.toNat, 128]

def k0_chk58 (arg0 : BitVec 32) (v1 : BitVec 32) (v1745 : BitVec 32) : Prop :=
  (∀ (k0_h1 : k0_cond1 arg0 v1 = 1#1), 8 ∣ (k0_mult58 v1745).toNat) ∧
  (∀ (k0_h1 : k0_cond1 arg0 v1 = 1#1), ∀ a, (k0_off115 v1745) a + S8x128.size a ≤ S7688x256.size a) ∧
  (∀ (k0_h1 : k0_cond1 arg0 v1 = 1#1), ∀ a, (k0_off116 v1745) a + S8x128.size a ≤ S7688x256.size a)
theorem k0_mult58_dvd : ∀ (arg0 : BitVec 32) (v1 : BitVec 32) (v1745 : BitVec 32) (k0_hw58 : k0_chk58 arg0 v1 v1745), ∀ (k0_h1 : k0_cond1 arg0 v1 = 1#1), 8 ∣ (k0_mult58 v1745).toNat := fun arg0 v1 v1745 k0_hw58 k0_h1 => k0_hw58.1 k0_h1
theorem k0_off115_inb : ∀ (arg0 : BitVec 32) (v1 : BitVec 32) (v1745 : BitVec 32) (k0_hw58 : k0_chk58 arg0 v1 v1745), ∀ (k0_h1 : k0_cond1 arg0 v1 = 1#1), ∀ a, (k0_off115 v1745) a + S8x128.size a ≤ S7688x256.size a := fun arg0 v1 v1745 k0_hw58 k0_h1 => k0_hw58.2.1 k0_h1
theorem k0_off116_inb : ∀ (arg0 : BitVec 32) (v1 : BitVec 32) (v1745 : BitVec 32) (k0_hw58 : k0_chk58 arg0 v1 v1745), ∀ (k0_h1 : k0_cond1 arg0 v1 = 1#1), ∀ a, (k0_off116 v1745) a + S8x128.size a ≤ S7688x256.size a := fun arg0 v1 v1745 k0_hw58 k0_h1 => k0_hw58.2.2 k0_h1

def k0_mult59 (v1775 : BitVec 32) : BitVec 32 :=
  let c1_i32_426 : BitVec 32 := 1#32
  let v1795 : BitVec 32 := Scalar.shrsi v1775 c1_i32_426
  v1795

def k0_off117 (v1775 : BitVec 32) : Fin 2 → Nat :=
  let c1_i32_426 : BitVec 32 := 1#32
  let v1795 : BitVec 32 := Scalar.shrsi v1775 c1_i32_426
  let v1796 : BitVec 32 := v1795
  let v1797 : Index := Scalar.indexCast v1796
  let c0_427 : Index := 0#32
  ![v1797.toNat, 0]
def k0_off118 (v1775 : BitVec 32) : Fin 2 → Nat :=
  let c1_i32_426 : BitVec 32 := 1#32
  let v1795 : BitVec 32 := Scalar.shrsi v1775 c1_i32_426
  let v1796 : BitVec 32 := v1795
  let v1801 : Index := Scalar.indexCast v1796
  let c128_428 : Index := 128#32
  ![v1801.toNat, 128]

def k0_chk59 (arg0 : BitVec 32) (v1 : BitVec 32) (v1775 : BitVec 32) : Prop :=
  (∀ (k0_h1 : k0_cond1 arg0 v1 = 1#1), 8 ∣ (k0_mult59 v1775).toNat) ∧
  (∀ (k0_h1 : k0_cond1 arg0 v1 = 1#1), ∀ a, (k0_off117 v1775) a + S8x128.size a ≤ S7688x256.size a) ∧
  (∀ (k0_h1 : k0_cond1 arg0 v1 = 1#1), ∀ a, (k0_off118 v1775) a + S8x128.size a ≤ S7688x256.size a)
theorem k0_mult59_dvd : ∀ (arg0 : BitVec 32) (v1 : BitVec 32) (v1775 : BitVec 32) (k0_hw59 : k0_chk59 arg0 v1 v1775), ∀ (k0_h1 : k0_cond1 arg0 v1 = 1#1), 8 ∣ (k0_mult59 v1775).toNat := fun arg0 v1 v1775 k0_hw59 k0_h1 => k0_hw59.1 k0_h1
theorem k0_off117_inb : ∀ (arg0 : BitVec 32) (v1 : BitVec 32) (v1775 : BitVec 32) (k0_hw59 : k0_chk59 arg0 v1 v1775), ∀ (k0_h1 : k0_cond1 arg0 v1 = 1#1), ∀ a, (k0_off117 v1775) a + S8x128.size a ≤ S7688x256.size a := fun arg0 v1 v1775 k0_hw59 k0_h1 => k0_hw59.2.1 k0_h1
theorem k0_off118_inb : ∀ (arg0 : BitVec 32) (v1 : BitVec 32) (v1775 : BitVec 32) (k0_hw59 : k0_chk59 arg0 v1 v1775), ∀ (k0_h1 : k0_cond1 arg0 v1 = 1#1), ∀ a, (k0_off118 v1775) a + S8x128.size a ≤ S7688x256.size a := fun arg0 v1 v1775 k0_hw59 k0_h1 => k0_hw59.2.2 k0_h1

def k0_mult60 (v1805 : BitVec 32) : BitVec 32 :=
  let c1_i32_433 : BitVec 32 := 1#32
  let v1825 : BitVec 32 := Scalar.shrsi v1805 c1_i32_433
  v1825

def k0_off119 (v1805 : BitVec 32) : Fin 2 → Nat :=
  let c1_i32_433 : BitVec 32 := 1#32
  let v1825 : BitVec 32 := Scalar.shrsi v1805 c1_i32_433
  let v1826 : BitVec 32 := v1825
  let v1827 : Index := Scalar.indexCast v1826
  let c0_434 : Index := 0#32
  ![v1827.toNat, 0]
def k0_off120 (v1805 : BitVec 32) : Fin 2 → Nat :=
  let c1_i32_433 : BitVec 32 := 1#32
  let v1825 : BitVec 32 := Scalar.shrsi v1805 c1_i32_433
  let v1826 : BitVec 32 := v1825
  let v1831 : Index := Scalar.indexCast v1826
  let c128_435 : Index := 128#32
  ![v1831.toNat, 128]

def k0_chk60 (arg0 : BitVec 32) (v1 : BitVec 32) (v1805 : BitVec 32) : Prop :=
  (∀ (k0_h1 : k0_cond1 arg0 v1 = 1#1), 8 ∣ (k0_mult60 v1805).toNat) ∧
  (∀ (k0_h1 : k0_cond1 arg0 v1 = 1#1), ∀ a, (k0_off119 v1805) a + S8x128.size a ≤ S7688x256.size a) ∧
  (∀ (k0_h1 : k0_cond1 arg0 v1 = 1#1), ∀ a, (k0_off120 v1805) a + S8x128.size a ≤ S7688x256.size a)
theorem k0_mult60_dvd : ∀ (arg0 : BitVec 32) (v1 : BitVec 32) (v1805 : BitVec 32) (k0_hw60 : k0_chk60 arg0 v1 v1805), ∀ (k0_h1 : k0_cond1 arg0 v1 = 1#1), 8 ∣ (k0_mult60 v1805).toNat := fun arg0 v1 v1805 k0_hw60 k0_h1 => k0_hw60.1 k0_h1
theorem k0_off119_inb : ∀ (arg0 : BitVec 32) (v1 : BitVec 32) (v1805 : BitVec 32) (k0_hw60 : k0_chk60 arg0 v1 v1805), ∀ (k0_h1 : k0_cond1 arg0 v1 = 1#1), ∀ a, (k0_off119 v1805) a + S8x128.size a ≤ S7688x256.size a := fun arg0 v1 v1805 k0_hw60 k0_h1 => k0_hw60.2.1 k0_h1
theorem k0_off120_inb : ∀ (arg0 : BitVec 32) (v1 : BitVec 32) (v1805 : BitVec 32) (k0_hw60 : k0_chk60 arg0 v1 v1805), ∀ (k0_h1 : k0_cond1 arg0 v1 = 1#1), ∀ a, (k0_off120 v1805) a + S8x128.size a ≤ S7688x256.size a := fun arg0 v1 v1805 k0_hw60 k0_h1 => k0_hw60.2.2 k0_h1

def k0_mult61 (v1835 : BitVec 32) : BitVec 32 :=
  let c1_i32_440 : BitVec 32 := 1#32
  let v1855 : BitVec 32 := Scalar.shrsi v1835 c1_i32_440
  v1855

def k0_off121 (v1835 : BitVec 32) : Fin 2 → Nat :=
  let c1_i32_440 : BitVec 32 := 1#32
  let v1855 : BitVec 32 := Scalar.shrsi v1835 c1_i32_440
  let v1856 : BitVec 32 := v1855
  let v1857 : Index := Scalar.indexCast v1856
  let c0_441 : Index := 0#32
  ![v1857.toNat, 0]
def k0_off122 (v1835 : BitVec 32) : Fin 2 → Nat :=
  let c1_i32_440 : BitVec 32 := 1#32
  let v1855 : BitVec 32 := Scalar.shrsi v1835 c1_i32_440
  let v1856 : BitVec 32 := v1855
  let v1861 : Index := Scalar.indexCast v1856
  let c128_442 : Index := 128#32
  ![v1861.toNat, 128]

def k0_chk61 (arg0 : BitVec 32) (v1 : BitVec 32) (v1835 : BitVec 32) : Prop :=
  (∀ (k0_h1 : k0_cond1 arg0 v1 = 1#1), 8 ∣ (k0_mult61 v1835).toNat) ∧
  (∀ (k0_h1 : k0_cond1 arg0 v1 = 1#1), ∀ a, (k0_off121 v1835) a + S8x128.size a ≤ S7688x256.size a) ∧
  (∀ (k0_h1 : k0_cond1 arg0 v1 = 1#1), ∀ a, (k0_off122 v1835) a + S8x128.size a ≤ S7688x256.size a)
theorem k0_mult61_dvd : ∀ (arg0 : BitVec 32) (v1 : BitVec 32) (v1835 : BitVec 32) (k0_hw61 : k0_chk61 arg0 v1 v1835), ∀ (k0_h1 : k0_cond1 arg0 v1 = 1#1), 8 ∣ (k0_mult61 v1835).toNat := fun arg0 v1 v1835 k0_hw61 k0_h1 => k0_hw61.1 k0_h1
theorem k0_off121_inb : ∀ (arg0 : BitVec 32) (v1 : BitVec 32) (v1835 : BitVec 32) (k0_hw61 : k0_chk61 arg0 v1 v1835), ∀ (k0_h1 : k0_cond1 arg0 v1 = 1#1), ∀ a, (k0_off121 v1835) a + S8x128.size a ≤ S7688x256.size a := fun arg0 v1 v1835 k0_hw61 k0_h1 => k0_hw61.2.1 k0_h1
theorem k0_off122_inb : ∀ (arg0 : BitVec 32) (v1 : BitVec 32) (v1835 : BitVec 32) (k0_hw61 : k0_chk61 arg0 v1 v1835), ∀ (k0_h1 : k0_cond1 arg0 v1 = 1#1), ∀ a, (k0_off122 v1835) a + S8x128.size a ≤ S7688x256.size a := fun arg0 v1 v1835 k0_hw61 k0_h1 => k0_hw61.2.2 k0_h1

def k0_mult62 (v1865 : BitVec 32) : BitVec 32 :=
  let c1_i32_447 : BitVec 32 := 1#32
  let v1885 : BitVec 32 := Scalar.shrsi v1865 c1_i32_447
  v1885

def k0_off123 (v1865 : BitVec 32) : Fin 2 → Nat :=
  let c1_i32_447 : BitVec 32 := 1#32
  let v1885 : BitVec 32 := Scalar.shrsi v1865 c1_i32_447
  let v1886 : BitVec 32 := v1885
  let v1887 : Index := Scalar.indexCast v1886
  let c0_448 : Index := 0#32
  ![v1887.toNat, 0]
def k0_off124 (v1865 : BitVec 32) : Fin 2 → Nat :=
  let c1_i32_447 : BitVec 32 := 1#32
  let v1885 : BitVec 32 := Scalar.shrsi v1865 c1_i32_447
  let v1886 : BitVec 32 := v1885
  let v1891 : Index := Scalar.indexCast v1886
  let c128_449 : Index := 128#32
  ![v1891.toNat, 128]

def k0_chk62 (arg0 : BitVec 32) (v1 : BitVec 32) (v1865 : BitVec 32) : Prop :=
  (∀ (k0_h1 : k0_cond1 arg0 v1 = 1#1), 8 ∣ (k0_mult62 v1865).toNat) ∧
  (∀ (k0_h1 : k0_cond1 arg0 v1 = 1#1), ∀ a, (k0_off123 v1865) a + S8x128.size a ≤ S7688x256.size a) ∧
  (∀ (k0_h1 : k0_cond1 arg0 v1 = 1#1), ∀ a, (k0_off124 v1865) a + S8x128.size a ≤ S7688x256.size a)
theorem k0_mult62_dvd : ∀ (arg0 : BitVec 32) (v1 : BitVec 32) (v1865 : BitVec 32) (k0_hw62 : k0_chk62 arg0 v1 v1865), ∀ (k0_h1 : k0_cond1 arg0 v1 = 1#1), 8 ∣ (k0_mult62 v1865).toNat := fun arg0 v1 v1865 k0_hw62 k0_h1 => k0_hw62.1 k0_h1
theorem k0_off123_inb : ∀ (arg0 : BitVec 32) (v1 : BitVec 32) (v1865 : BitVec 32) (k0_hw62 : k0_chk62 arg0 v1 v1865), ∀ (k0_h1 : k0_cond1 arg0 v1 = 1#1), ∀ a, (k0_off123 v1865) a + S8x128.size a ≤ S7688x256.size a := fun arg0 v1 v1865 k0_hw62 k0_h1 => k0_hw62.2.1 k0_h1
theorem k0_off124_inb : ∀ (arg0 : BitVec 32) (v1 : BitVec 32) (v1865 : BitVec 32) (k0_hw62 : k0_chk62 arg0 v1 v1865), ∀ (k0_h1 : k0_cond1 arg0 v1 = 1#1), ∀ a, (k0_off124 v1865) a + S8x128.size a ≤ S7688x256.size a := fun arg0 v1 v1865 k0_hw62 k0_h1 => k0_hw62.2.2 k0_h1

def k0_mult63 (v1895 : BitVec 32) : BitVec 32 :=
  let c1_i32_454 : BitVec 32 := 1#32
  let v1915 : BitVec 32 := Scalar.shrsi v1895 c1_i32_454
  v1915

def k0_off125 (v1895 : BitVec 32) : Fin 2 → Nat :=
  let c1_i32_454 : BitVec 32 := 1#32
  let v1915 : BitVec 32 := Scalar.shrsi v1895 c1_i32_454
  let v1916 : BitVec 32 := v1915
  let v1917 : Index := Scalar.indexCast v1916
  let c0_455 : Index := 0#32
  ![v1917.toNat, 0]
def k0_off126 (v1895 : BitVec 32) : Fin 2 → Nat :=
  let c1_i32_454 : BitVec 32 := 1#32
  let v1915 : BitVec 32 := Scalar.shrsi v1895 c1_i32_454
  let v1916 : BitVec 32 := v1915
  let v1921 : Index := Scalar.indexCast v1916
  let c128_456 : Index := 128#32
  ![v1921.toNat, 128]

def k0_chk63 (arg0 : BitVec 32) (v1 : BitVec 32) (v1895 : BitVec 32) : Prop :=
  (∀ (k0_h1 : k0_cond1 arg0 v1 = 1#1), 8 ∣ (k0_mult63 v1895).toNat) ∧
  (∀ (k0_h1 : k0_cond1 arg0 v1 = 1#1), ∀ a, (k0_off125 v1895) a + S8x128.size a ≤ S7688x256.size a) ∧
  (∀ (k0_h1 : k0_cond1 arg0 v1 = 1#1), ∀ a, (k0_off126 v1895) a + S8x128.size a ≤ S7688x256.size a)
theorem k0_mult63_dvd : ∀ (arg0 : BitVec 32) (v1 : BitVec 32) (v1895 : BitVec 32) (k0_hw63 : k0_chk63 arg0 v1 v1895), ∀ (k0_h1 : k0_cond1 arg0 v1 = 1#1), 8 ∣ (k0_mult63 v1895).toNat := fun arg0 v1 v1895 k0_hw63 k0_h1 => k0_hw63.1 k0_h1
theorem k0_off125_inb : ∀ (arg0 : BitVec 32) (v1 : BitVec 32) (v1895 : BitVec 32) (k0_hw63 : k0_chk63 arg0 v1 v1895), ∀ (k0_h1 : k0_cond1 arg0 v1 = 1#1), ∀ a, (k0_off125 v1895) a + S8x128.size a ≤ S7688x256.size a := fun arg0 v1 v1895 k0_hw63 k0_h1 => k0_hw63.2.1 k0_h1
theorem k0_off126_inb : ∀ (arg0 : BitVec 32) (v1 : BitVec 32) (v1895 : BitVec 32) (k0_hw63 : k0_chk63 arg0 v1 v1895), ∀ (k0_h1 : k0_cond1 arg0 v1 = 1#1), ∀ a, (k0_off126 v1895) a + S8x128.size a ≤ S7688x256.size a := fun arg0 v1 v1895 k0_hw63 k0_h1 => k0_hw63.2.2 k0_h1

def k0_mult64 (v1925 : BitVec 32) : BitVec 32 :=
  let c1_i32_461 : BitVec 32 := 1#32
  let v1945 : BitVec 32 := Scalar.shrsi v1925 c1_i32_461
  v1945

def k0_off127 (v1925 : BitVec 32) : Fin 2 → Nat :=
  let c1_i32_461 : BitVec 32 := 1#32
  let v1945 : BitVec 32 := Scalar.shrsi v1925 c1_i32_461
  let v1946 : BitVec 32 := v1945
  let v1947 : Index := Scalar.indexCast v1946
  let c0_462 : Index := 0#32
  ![v1947.toNat, 0]
def k0_off128 (v1925 : BitVec 32) : Fin 2 → Nat :=
  let c1_i32_461 : BitVec 32 := 1#32
  let v1945 : BitVec 32 := Scalar.shrsi v1925 c1_i32_461
  let v1946 : BitVec 32 := v1945
  let v1951 : Index := Scalar.indexCast v1946
  let c128_463 : Index := 128#32
  ![v1951.toNat, 128]

def k0_chk64 (arg0 : BitVec 32) (v1 : BitVec 32) (v1925 : BitVec 32) : Prop :=
  (∀ (k0_h1 : k0_cond1 arg0 v1 = 1#1), 8 ∣ (k0_mult64 v1925).toNat) ∧
  (∀ (k0_h1 : k0_cond1 arg0 v1 = 1#1), ∀ a, (k0_off127 v1925) a + S8x128.size a ≤ S7688x256.size a) ∧
  (∀ (k0_h1 : k0_cond1 arg0 v1 = 1#1), ∀ a, (k0_off128 v1925) a + S8x128.size a ≤ S7688x256.size a)
theorem k0_mult64_dvd : ∀ (arg0 : BitVec 32) (v1 : BitVec 32) (v1925 : BitVec 32) (k0_hw64 : k0_chk64 arg0 v1 v1925), ∀ (k0_h1 : k0_cond1 arg0 v1 = 1#1), 8 ∣ (k0_mult64 v1925).toNat := fun arg0 v1 v1925 k0_hw64 k0_h1 => k0_hw64.1 k0_h1
theorem k0_off127_inb : ∀ (arg0 : BitVec 32) (v1 : BitVec 32) (v1925 : BitVec 32) (k0_hw64 : k0_chk64 arg0 v1 v1925), ∀ (k0_h1 : k0_cond1 arg0 v1 = 1#1), ∀ a, (k0_off127 v1925) a + S8x128.size a ≤ S7688x256.size a := fun arg0 v1 v1925 k0_hw64 k0_h1 => k0_hw64.2.1 k0_h1
theorem k0_off128_inb : ∀ (arg0 : BitVec 32) (v1 : BitVec 32) (v1925 : BitVec 32) (k0_hw64 : k0_chk64 arg0 v1 v1925), ∀ (k0_h1 : k0_cond1 arg0 v1 = 1#1), ∀ a, (k0_off128 v1925) a + S8x128.size a ≤ S7688x256.size a := fun arg0 v1 v1925 k0_hw64 k0_h1 => k0_hw64.2.2 k0_h1

def k0_mult65 (v1955 : BitVec 32) : BitVec 32 :=
  let c1_i32_468 : BitVec 32 := 1#32
  let v1975 : BitVec 32 := Scalar.shrsi v1955 c1_i32_468
  v1975

def k0_off129 (v1955 : BitVec 32) : Fin 2 → Nat :=
  let c1_i32_468 : BitVec 32 := 1#32
  let v1975 : BitVec 32 := Scalar.shrsi v1955 c1_i32_468
  let v1976 : BitVec 32 := v1975
  let v1977 : Index := Scalar.indexCast v1976
  let c0_469 : Index := 0#32
  ![v1977.toNat, 0]
def k0_off130 (v1955 : BitVec 32) : Fin 2 → Nat :=
  let c1_i32_468 : BitVec 32 := 1#32
  let v1975 : BitVec 32 := Scalar.shrsi v1955 c1_i32_468
  let v1976 : BitVec 32 := v1975
  let v1981 : Index := Scalar.indexCast v1976
  let c128_470 : Index := 128#32
  ![v1981.toNat, 128]

def k0_chk65 (arg0 : BitVec 32) (v1 : BitVec 32) (v1955 : BitVec 32) : Prop :=
  (∀ (k0_h1 : k0_cond1 arg0 v1 = 1#1), 8 ∣ (k0_mult65 v1955).toNat) ∧
  (∀ (k0_h1 : k0_cond1 arg0 v1 = 1#1), ∀ a, (k0_off129 v1955) a + S8x128.size a ≤ S7688x256.size a) ∧
  (∀ (k0_h1 : k0_cond1 arg0 v1 = 1#1), ∀ a, (k0_off130 v1955) a + S8x128.size a ≤ S7688x256.size a)
theorem k0_mult65_dvd : ∀ (arg0 : BitVec 32) (v1 : BitVec 32) (v1955 : BitVec 32) (k0_hw65 : k0_chk65 arg0 v1 v1955), ∀ (k0_h1 : k0_cond1 arg0 v1 = 1#1), 8 ∣ (k0_mult65 v1955).toNat := fun arg0 v1 v1955 k0_hw65 k0_h1 => k0_hw65.1 k0_h1
theorem k0_off129_inb : ∀ (arg0 : BitVec 32) (v1 : BitVec 32) (v1955 : BitVec 32) (k0_hw65 : k0_chk65 arg0 v1 v1955), ∀ (k0_h1 : k0_cond1 arg0 v1 = 1#1), ∀ a, (k0_off129 v1955) a + S8x128.size a ≤ S7688x256.size a := fun arg0 v1 v1955 k0_hw65 k0_h1 => k0_hw65.2.1 k0_h1
theorem k0_off130_inb : ∀ (arg0 : BitVec 32) (v1 : BitVec 32) (v1955 : BitVec 32) (k0_hw65 : k0_chk65 arg0 v1 v1955), ∀ (k0_h1 : k0_cond1 arg0 v1 = 1#1), ∀ a, (k0_off130 v1955) a + S8x128.size a ≤ S7688x256.size a := fun arg0 v1 v1955 k0_hw65 k0_h1 => k0_hw65.2.2 k0_h1

def k0_mult66 (v1985 : BitVec 32) : BitVec 32 :=
  let c1_i32_475 : BitVec 32 := 1#32
  let v2005 : BitVec 32 := Scalar.shrsi v1985 c1_i32_475
  v2005

def k0_off131 (v1985 : BitVec 32) : Fin 2 → Nat :=
  let c1_i32_475 : BitVec 32 := 1#32
  let v2005 : BitVec 32 := Scalar.shrsi v1985 c1_i32_475
  let v2006 : BitVec 32 := v2005
  let v2007 : Index := Scalar.indexCast v2006
  let c0_476 : Index := 0#32
  ![v2007.toNat, 0]
def k0_off132 (v1985 : BitVec 32) : Fin 2 → Nat :=
  let c1_i32_475 : BitVec 32 := 1#32
  let v2005 : BitVec 32 := Scalar.shrsi v1985 c1_i32_475
  let v2006 : BitVec 32 := v2005
  let v2011 : Index := Scalar.indexCast v2006
  let c128_477 : Index := 128#32
  ![v2011.toNat, 128]

def k0_chk66 (arg0 : BitVec 32) (v1 : BitVec 32) (v1985 : BitVec 32) : Prop :=
  (∀ (k0_h1 : k0_cond1 arg0 v1 = 1#1), 8 ∣ (k0_mult66 v1985).toNat) ∧
  (∀ (k0_h1 : k0_cond1 arg0 v1 = 1#1), ∀ a, (k0_off131 v1985) a + S8x128.size a ≤ S7688x256.size a) ∧
  (∀ (k0_h1 : k0_cond1 arg0 v1 = 1#1), ∀ a, (k0_off132 v1985) a + S8x128.size a ≤ S7688x256.size a)
theorem k0_mult66_dvd : ∀ (arg0 : BitVec 32) (v1 : BitVec 32) (v1985 : BitVec 32) (k0_hw66 : k0_chk66 arg0 v1 v1985), ∀ (k0_h1 : k0_cond1 arg0 v1 = 1#1), 8 ∣ (k0_mult66 v1985).toNat := fun arg0 v1 v1985 k0_hw66 k0_h1 => k0_hw66.1 k0_h1
theorem k0_off131_inb : ∀ (arg0 : BitVec 32) (v1 : BitVec 32) (v1985 : BitVec 32) (k0_hw66 : k0_chk66 arg0 v1 v1985), ∀ (k0_h1 : k0_cond1 arg0 v1 = 1#1), ∀ a, (k0_off131 v1985) a + S8x128.size a ≤ S7688x256.size a := fun arg0 v1 v1985 k0_hw66 k0_h1 => k0_hw66.2.1 k0_h1
theorem k0_off132_inb : ∀ (arg0 : BitVec 32) (v1 : BitVec 32) (v1985 : BitVec 32) (k0_hw66 : k0_chk66 arg0 v1 v1985), ∀ (k0_h1 : k0_cond1 arg0 v1 = 1#1), ∀ a, (k0_off132 v1985) a + S8x128.size a ≤ S7688x256.size a := fun arg0 v1 v1985 k0_hw66 k0_h1 => k0_hw66.2.2 k0_h1

def k0_mult67 (v2015 : BitVec 32) : BitVec 32 :=
  let c1_i32_482 : BitVec 32 := 1#32
  let v2035 : BitVec 32 := Scalar.shrsi v2015 c1_i32_482
  v2035

def k0_off133 (v2015 : BitVec 32) : Fin 2 → Nat :=
  let c1_i32_482 : BitVec 32 := 1#32
  let v2035 : BitVec 32 := Scalar.shrsi v2015 c1_i32_482
  let v2036 : BitVec 32 := v2035
  let v2037 : Index := Scalar.indexCast v2036
  let c0_483 : Index := 0#32
  ![v2037.toNat, 0]
def k0_off134 (v2015 : BitVec 32) : Fin 2 → Nat :=
  let c1_i32_482 : BitVec 32 := 1#32
  let v2035 : BitVec 32 := Scalar.shrsi v2015 c1_i32_482
  let v2036 : BitVec 32 := v2035
  let v2041 : Index := Scalar.indexCast v2036
  let c128_484 : Index := 128#32
  ![v2041.toNat, 128]

def k0_chk67 (arg0 : BitVec 32) (v1 : BitVec 32) (v2015 : BitVec 32) : Prop :=
  (∀ (k0_h1 : k0_cond1 arg0 v1 = 1#1), 8 ∣ (k0_mult67 v2015).toNat) ∧
  (∀ (k0_h1 : k0_cond1 arg0 v1 = 1#1), ∀ a, (k0_off133 v2015) a + S8x128.size a ≤ S7688x256.size a) ∧
  (∀ (k0_h1 : k0_cond1 arg0 v1 = 1#1), ∀ a, (k0_off134 v2015) a + S8x128.size a ≤ S7688x256.size a)
theorem k0_mult67_dvd : ∀ (arg0 : BitVec 32) (v1 : BitVec 32) (v2015 : BitVec 32) (k0_hw67 : k0_chk67 arg0 v1 v2015), ∀ (k0_h1 : k0_cond1 arg0 v1 = 1#1), 8 ∣ (k0_mult67 v2015).toNat := fun arg0 v1 v2015 k0_hw67 k0_h1 => k0_hw67.1 k0_h1
theorem k0_off133_inb : ∀ (arg0 : BitVec 32) (v1 : BitVec 32) (v2015 : BitVec 32) (k0_hw67 : k0_chk67 arg0 v1 v2015), ∀ (k0_h1 : k0_cond1 arg0 v1 = 1#1), ∀ a, (k0_off133 v2015) a + S8x128.size a ≤ S7688x256.size a := fun arg0 v1 v2015 k0_hw67 k0_h1 => k0_hw67.2.1 k0_h1
theorem k0_off134_inb : ∀ (arg0 : BitVec 32) (v1 : BitVec 32) (v2015 : BitVec 32) (k0_hw67 : k0_chk67 arg0 v1 v2015), ∀ (k0_h1 : k0_cond1 arg0 v1 = 1#1), ∀ a, (k0_off134 v2015) a + S8x128.size a ≤ S7688x256.size a := fun arg0 v1 v2015 k0_hw67 k0_h1 => k0_hw67.2.2 k0_h1

def k0_mult68 (v2045 : BitVec 32) : BitVec 32 :=
  let c1_i32_489 : BitVec 32 := 1#32
  let v2065 : BitVec 32 := Scalar.shrsi v2045 c1_i32_489
  v2065

def k0_off135 (v2045 : BitVec 32) : Fin 2 → Nat :=
  let c1_i32_489 : BitVec 32 := 1#32
  let v2065 : BitVec 32 := Scalar.shrsi v2045 c1_i32_489
  let v2066 : BitVec 32 := v2065
  let v2067 : Index := Scalar.indexCast v2066
  let c0_490 : Index := 0#32
  ![v2067.toNat, 0]
def k0_off136 (v2045 : BitVec 32) : Fin 2 → Nat :=
  let c1_i32_489 : BitVec 32 := 1#32
  let v2065 : BitVec 32 := Scalar.shrsi v2045 c1_i32_489
  let v2066 : BitVec 32 := v2065
  let v2071 : Index := Scalar.indexCast v2066
  let c128_491 : Index := 128#32
  ![v2071.toNat, 128]

def k0_chk68 (arg0 : BitVec 32) (v1 : BitVec 32) (v2045 : BitVec 32) : Prop :=
  (∀ (k0_h1 : k0_cond1 arg0 v1 = 1#1), 8 ∣ (k0_mult68 v2045).toNat) ∧
  (∀ (k0_h1 : k0_cond1 arg0 v1 = 1#1), ∀ a, (k0_off135 v2045) a + S8x128.size a ≤ S7688x256.size a) ∧
  (∀ (k0_h1 : k0_cond1 arg0 v1 = 1#1), ∀ a, (k0_off136 v2045) a + S8x128.size a ≤ S7688x256.size a)
theorem k0_mult68_dvd : ∀ (arg0 : BitVec 32) (v1 : BitVec 32) (v2045 : BitVec 32) (k0_hw68 : k0_chk68 arg0 v1 v2045), ∀ (k0_h1 : k0_cond1 arg0 v1 = 1#1), 8 ∣ (k0_mult68 v2045).toNat := fun arg0 v1 v2045 k0_hw68 k0_h1 => k0_hw68.1 k0_h1
theorem k0_off135_inb : ∀ (arg0 : BitVec 32) (v1 : BitVec 32) (v2045 : BitVec 32) (k0_hw68 : k0_chk68 arg0 v1 v2045), ∀ (k0_h1 : k0_cond1 arg0 v1 = 1#1), ∀ a, (k0_off135 v2045) a + S8x128.size a ≤ S7688x256.size a := fun arg0 v1 v2045 k0_hw68 k0_h1 => k0_hw68.2.1 k0_h1
theorem k0_off136_inb : ∀ (arg0 : BitVec 32) (v1 : BitVec 32) (v2045 : BitVec 32) (k0_hw68 : k0_chk68 arg0 v1 v2045), ∀ (k0_h1 : k0_cond1 arg0 v1 = 1#1), ∀ a, (k0_off136 v2045) a + S8x128.size a ≤ S7688x256.size a := fun arg0 v1 v2045 k0_hw68 k0_h1 => k0_hw68.2.2 k0_h1

def k0_mult69 (v2075 : BitVec 32) : BitVec 32 :=
  let c1_i32_496 : BitVec 32 := 1#32
  let v2095 : BitVec 32 := Scalar.shrsi v2075 c1_i32_496
  v2095

def k0_off137 (v2075 : BitVec 32) : Fin 2 → Nat :=
  let c1_i32_496 : BitVec 32 := 1#32
  let v2095 : BitVec 32 := Scalar.shrsi v2075 c1_i32_496
  let v2096 : BitVec 32 := v2095
  let v2097 : Index := Scalar.indexCast v2096
  let c0_497 : Index := 0#32
  ![v2097.toNat, 0]
def k0_off138 (v2075 : BitVec 32) : Fin 2 → Nat :=
  let c1_i32_496 : BitVec 32 := 1#32
  let v2095 : BitVec 32 := Scalar.shrsi v2075 c1_i32_496
  let v2096 : BitVec 32 := v2095
  let v2101 : Index := Scalar.indexCast v2096
  let c128_498 : Index := 128#32
  ![v2101.toNat, 128]

def k0_chk69 (arg0 : BitVec 32) (v1 : BitVec 32) (v2075 : BitVec 32) : Prop :=
  (∀ (k0_h1 : k0_cond1 arg0 v1 = 1#1), 8 ∣ (k0_mult69 v2075).toNat) ∧
  (∀ (k0_h1 : k0_cond1 arg0 v1 = 1#1), ∀ a, (k0_off137 v2075) a + S8x128.size a ≤ S7688x256.size a) ∧
  (∀ (k0_h1 : k0_cond1 arg0 v1 = 1#1), ∀ a, (k0_off138 v2075) a + S8x128.size a ≤ S7688x256.size a)
theorem k0_mult69_dvd : ∀ (arg0 : BitVec 32) (v1 : BitVec 32) (v2075 : BitVec 32) (k0_hw69 : k0_chk69 arg0 v1 v2075), ∀ (k0_h1 : k0_cond1 arg0 v1 = 1#1), 8 ∣ (k0_mult69 v2075).toNat := fun arg0 v1 v2075 k0_hw69 k0_h1 => k0_hw69.1 k0_h1
theorem k0_off137_inb : ∀ (arg0 : BitVec 32) (v1 : BitVec 32) (v2075 : BitVec 32) (k0_hw69 : k0_chk69 arg0 v1 v2075), ∀ (k0_h1 : k0_cond1 arg0 v1 = 1#1), ∀ a, (k0_off137 v2075) a + S8x128.size a ≤ S7688x256.size a := fun arg0 v1 v2075 k0_hw69 k0_h1 => k0_hw69.2.1 k0_h1
theorem k0_off138_inb : ∀ (arg0 : BitVec 32) (v1 : BitVec 32) (v2075 : BitVec 32) (k0_hw69 : k0_chk69 arg0 v1 v2075), ∀ (k0_h1 : k0_cond1 arg0 v1 = 1#1), ∀ a, (k0_off138 v2075) a + S8x128.size a ≤ S7688x256.size a := fun arg0 v1 v2075 k0_hw69 k0_h1 => k0_hw69.2.2 k0_h1

def k0_mult70 (v2105 : BitVec 32) : BitVec 32 :=
  let c1_i32_503 : BitVec 32 := 1#32
  let v2125 : BitVec 32 := Scalar.shrsi v2105 c1_i32_503
  v2125

def k0_off139 (v2105 : BitVec 32) : Fin 2 → Nat :=
  let c1_i32_503 : BitVec 32 := 1#32
  let v2125 : BitVec 32 := Scalar.shrsi v2105 c1_i32_503
  let v2126 : BitVec 32 := v2125
  let v2127 : Index := Scalar.indexCast v2126
  let c0_504 : Index := 0#32
  ![v2127.toNat, 0]
def k0_off140 (v2105 : BitVec 32) : Fin 2 → Nat :=
  let c1_i32_503 : BitVec 32 := 1#32
  let v2125 : BitVec 32 := Scalar.shrsi v2105 c1_i32_503
  let v2126 : BitVec 32 := v2125
  let v2131 : Index := Scalar.indexCast v2126
  let c128_505 : Index := 128#32
  ![v2131.toNat, 128]

def k0_chk70 (arg0 : BitVec 32) (v1 : BitVec 32) (v2105 : BitVec 32) : Prop :=
  (∀ (k0_h1 : k0_cond1 arg0 v1 = 1#1), 8 ∣ (k0_mult70 v2105).toNat) ∧
  (∀ (k0_h1 : k0_cond1 arg0 v1 = 1#1), ∀ a, (k0_off139 v2105) a + S8x128.size a ≤ S7688x256.size a) ∧
  (∀ (k0_h1 : k0_cond1 arg0 v1 = 1#1), ∀ a, (k0_off140 v2105) a + S8x128.size a ≤ S7688x256.size a)
theorem k0_mult70_dvd : ∀ (arg0 : BitVec 32) (v1 : BitVec 32) (v2105 : BitVec 32) (k0_hw70 : k0_chk70 arg0 v1 v2105), ∀ (k0_h1 : k0_cond1 arg0 v1 = 1#1), 8 ∣ (k0_mult70 v2105).toNat := fun arg0 v1 v2105 k0_hw70 k0_h1 => k0_hw70.1 k0_h1
theorem k0_off139_inb : ∀ (arg0 : BitVec 32) (v1 : BitVec 32) (v2105 : BitVec 32) (k0_hw70 : k0_chk70 arg0 v1 v2105), ∀ (k0_h1 : k0_cond1 arg0 v1 = 1#1), ∀ a, (k0_off139 v2105) a + S8x128.size a ≤ S7688x256.size a := fun arg0 v1 v2105 k0_hw70 k0_h1 => k0_hw70.2.1 k0_h1
theorem k0_off140_inb : ∀ (arg0 : BitVec 32) (v1 : BitVec 32) (v2105 : BitVec 32) (k0_hw70 : k0_chk70 arg0 v1 v2105), ∀ (k0_h1 : k0_cond1 arg0 v1 = 1#1), ∀ a, (k0_off140 v2105) a + S8x128.size a ≤ S7688x256.size a := fun arg0 v1 v2105 k0_hw70 k0_h1 => k0_hw70.2.2 k0_h1

def k0_mult71 (v2135 : BitVec 32) : BitVec 32 :=
  let c1_i32_510 : BitVec 32 := 1#32
  let v2155 : BitVec 32 := Scalar.shrsi v2135 c1_i32_510
  v2155

def k0_off141 (v2135 : BitVec 32) : Fin 2 → Nat :=
  let c1_i32_510 : BitVec 32 := 1#32
  let v2155 : BitVec 32 := Scalar.shrsi v2135 c1_i32_510
  let v2156 : BitVec 32 := v2155
  let v2157 : Index := Scalar.indexCast v2156
  let c0_511 : Index := 0#32
  ![v2157.toNat, 0]
def k0_off142 (v2135 : BitVec 32) : Fin 2 → Nat :=
  let c1_i32_510 : BitVec 32 := 1#32
  let v2155 : BitVec 32 := Scalar.shrsi v2135 c1_i32_510
  let v2156 : BitVec 32 := v2155
  let v2161 : Index := Scalar.indexCast v2156
  let c128_512 : Index := 128#32
  ![v2161.toNat, 128]

def k0_chk71 (arg0 : BitVec 32) (v1 : BitVec 32) (v2135 : BitVec 32) : Prop :=
  (∀ (k0_h1 : k0_cond1 arg0 v1 = 1#1), 8 ∣ (k0_mult71 v2135).toNat) ∧
  (∀ (k0_h1 : k0_cond1 arg0 v1 = 1#1), ∀ a, (k0_off141 v2135) a + S8x128.size a ≤ S7688x256.size a) ∧
  (∀ (k0_h1 : k0_cond1 arg0 v1 = 1#1), ∀ a, (k0_off142 v2135) a + S8x128.size a ≤ S7688x256.size a)
theorem k0_mult71_dvd : ∀ (arg0 : BitVec 32) (v1 : BitVec 32) (v2135 : BitVec 32) (k0_hw71 : k0_chk71 arg0 v1 v2135), ∀ (k0_h1 : k0_cond1 arg0 v1 = 1#1), 8 ∣ (k0_mult71 v2135).toNat := fun arg0 v1 v2135 k0_hw71 k0_h1 => k0_hw71.1 k0_h1
theorem k0_off141_inb : ∀ (arg0 : BitVec 32) (v1 : BitVec 32) (v2135 : BitVec 32) (k0_hw71 : k0_chk71 arg0 v1 v2135), ∀ (k0_h1 : k0_cond1 arg0 v1 = 1#1), ∀ a, (k0_off141 v2135) a + S8x128.size a ≤ S7688x256.size a := fun arg0 v1 v2135 k0_hw71 k0_h1 => k0_hw71.2.1 k0_h1
theorem k0_off142_inb : ∀ (arg0 : BitVec 32) (v1 : BitVec 32) (v2135 : BitVec 32) (k0_hw71 : k0_chk71 arg0 v1 v2135), ∀ (k0_h1 : k0_cond1 arg0 v1 = 1#1), ∀ a, (k0_off142 v2135) a + S8x128.size a ≤ S7688x256.size a := fun arg0 v1 v2135 k0_hw71 k0_h1 => k0_hw71.2.2 k0_h1

def k0_mult72 (v2165 : BitVec 32) : BitVec 32 :=
  let c1_i32_517 : BitVec 32 := 1#32
  let v2185 : BitVec 32 := Scalar.shrsi v2165 c1_i32_517
  v2185

def k0_off143 (v2165 : BitVec 32) : Fin 2 → Nat :=
  let c1_i32_517 : BitVec 32 := 1#32
  let v2185 : BitVec 32 := Scalar.shrsi v2165 c1_i32_517
  let v2186 : BitVec 32 := v2185
  let v2187 : Index := Scalar.indexCast v2186
  let c0_518 : Index := 0#32
  ![v2187.toNat, 0]
def k0_off144 (v2165 : BitVec 32) : Fin 2 → Nat :=
  let c1_i32_517 : BitVec 32 := 1#32
  let v2185 : BitVec 32 := Scalar.shrsi v2165 c1_i32_517
  let v2186 : BitVec 32 := v2185
  let v2191 : Index := Scalar.indexCast v2186
  let c128_519 : Index := 128#32
  ![v2191.toNat, 128]

def k0_chk72 (arg0 : BitVec 32) (v1 : BitVec 32) (v2165 : BitVec 32) : Prop :=
  (∀ (k0_h1 : k0_cond1 arg0 v1 = 1#1), 8 ∣ (k0_mult72 v2165).toNat) ∧
  (∀ (k0_h1 : k0_cond1 arg0 v1 = 1#1), ∀ a, (k0_off143 v2165) a + S8x128.size a ≤ S7688x256.size a) ∧
  (∀ (k0_h1 : k0_cond1 arg0 v1 = 1#1), ∀ a, (k0_off144 v2165) a + S8x128.size a ≤ S7688x256.size a)
theorem k0_mult72_dvd : ∀ (arg0 : BitVec 32) (v1 : BitVec 32) (v2165 : BitVec 32) (k0_hw72 : k0_chk72 arg0 v1 v2165), ∀ (k0_h1 : k0_cond1 arg0 v1 = 1#1), 8 ∣ (k0_mult72 v2165).toNat := fun arg0 v1 v2165 k0_hw72 k0_h1 => k0_hw72.1 k0_h1
theorem k0_off143_inb : ∀ (arg0 : BitVec 32) (v1 : BitVec 32) (v2165 : BitVec 32) (k0_hw72 : k0_chk72 arg0 v1 v2165), ∀ (k0_h1 : k0_cond1 arg0 v1 = 1#1), ∀ a, (k0_off143 v2165) a + S8x128.size a ≤ S7688x256.size a := fun arg0 v1 v2165 k0_hw72 k0_h1 => k0_hw72.2.1 k0_h1
theorem k0_off144_inb : ∀ (arg0 : BitVec 32) (v1 : BitVec 32) (v2165 : BitVec 32) (k0_hw72 : k0_chk72 arg0 v1 v2165), ∀ (k0_h1 : k0_cond1 arg0 v1 = 1#1), ∀ a, (k0_off144 v2165) a + S8x128.size a ≤ S7688x256.size a := fun arg0 v1 v2165 k0_hw72 k0_h1 => k0_hw72.2.2 k0_h1

def k0_mult73 (v2195 : BitVec 32) : BitVec 32 :=
  let c1_i32_524 : BitVec 32 := 1#32
  let v2215 : BitVec 32 := Scalar.shrsi v2195 c1_i32_524
  v2215

def k0_off145 (v2195 : BitVec 32) : Fin 2 → Nat :=
  let c1_i32_524 : BitVec 32 := 1#32
  let v2215 : BitVec 32 := Scalar.shrsi v2195 c1_i32_524
  let v2216 : BitVec 32 := v2215
  let v2217 : Index := Scalar.indexCast v2216
  let c0_525 : Index := 0#32
  ![v2217.toNat, 0]
def k0_off146 (v2195 : BitVec 32) : Fin 2 → Nat :=
  let c1_i32_524 : BitVec 32 := 1#32
  let v2215 : BitVec 32 := Scalar.shrsi v2195 c1_i32_524
  let v2216 : BitVec 32 := v2215
  let v2221 : Index := Scalar.indexCast v2216
  let c128_526 : Index := 128#32
  ![v2221.toNat, 128]

def k0_chk73 (arg0 : BitVec 32) (v1 : BitVec 32) (v2195 : BitVec 32) : Prop :=
  (∀ (k0_h1 : k0_cond1 arg0 v1 = 1#1), 8 ∣ (k0_mult73 v2195).toNat) ∧
  (∀ (k0_h1 : k0_cond1 arg0 v1 = 1#1), ∀ a, (k0_off145 v2195) a + S8x128.size a ≤ S7688x256.size a) ∧
  (∀ (k0_h1 : k0_cond1 arg0 v1 = 1#1), ∀ a, (k0_off146 v2195) a + S8x128.size a ≤ S7688x256.size a)
theorem k0_mult73_dvd : ∀ (arg0 : BitVec 32) (v1 : BitVec 32) (v2195 : BitVec 32) (k0_hw73 : k0_chk73 arg0 v1 v2195), ∀ (k0_h1 : k0_cond1 arg0 v1 = 1#1), 8 ∣ (k0_mult73 v2195).toNat := fun arg0 v1 v2195 k0_hw73 k0_h1 => k0_hw73.1 k0_h1
theorem k0_off145_inb : ∀ (arg0 : BitVec 32) (v1 : BitVec 32) (v2195 : BitVec 32) (k0_hw73 : k0_chk73 arg0 v1 v2195), ∀ (k0_h1 : k0_cond1 arg0 v1 = 1#1), ∀ a, (k0_off145 v2195) a + S8x128.size a ≤ S7688x256.size a := fun arg0 v1 v2195 k0_hw73 k0_h1 => k0_hw73.2.1 k0_h1
theorem k0_off146_inb : ∀ (arg0 : BitVec 32) (v1 : BitVec 32) (v2195 : BitVec 32) (k0_hw73 : k0_chk73 arg0 v1 v2195), ∀ (k0_h1 : k0_cond1 arg0 v1 = 1#1), ∀ a, (k0_off146 v2195) a + S8x128.size a ≤ S7688x256.size a := fun arg0 v1 v2195 k0_hw73 k0_h1 => k0_hw73.2.2 k0_h1

def k0_mult74 (v2225 : BitVec 32) : BitVec 32 :=
  let c1_i32_531 : BitVec 32 := 1#32
  let v2245 : BitVec 32 := Scalar.shrsi v2225 c1_i32_531
  v2245

def k0_off147 (v2225 : BitVec 32) : Fin 2 → Nat :=
  let c1_i32_531 : BitVec 32 := 1#32
  let v2245 : BitVec 32 := Scalar.shrsi v2225 c1_i32_531
  let v2246 : BitVec 32 := v2245
  let v2247 : Index := Scalar.indexCast v2246
  let c0_532 : Index := 0#32
  ![v2247.toNat, 0]
def k0_off148 (v2225 : BitVec 32) : Fin 2 → Nat :=
  let c1_i32_531 : BitVec 32 := 1#32
  let v2245 : BitVec 32 := Scalar.shrsi v2225 c1_i32_531
  let v2246 : BitVec 32 := v2245
  let v2251 : Index := Scalar.indexCast v2246
  let c128_533 : Index := 128#32
  ![v2251.toNat, 128]

def k0_chk74 (arg0 : BitVec 32) (v1 : BitVec 32) (v2225 : BitVec 32) : Prop :=
  (∀ (k0_h1 : k0_cond1 arg0 v1 = 1#1), 8 ∣ (k0_mult74 v2225).toNat) ∧
  (∀ (k0_h1 : k0_cond1 arg0 v1 = 1#1), ∀ a, (k0_off147 v2225) a + S8x128.size a ≤ S7688x256.size a) ∧
  (∀ (k0_h1 : k0_cond1 arg0 v1 = 1#1), ∀ a, (k0_off148 v2225) a + S8x128.size a ≤ S7688x256.size a)
theorem k0_mult74_dvd : ∀ (arg0 : BitVec 32) (v1 : BitVec 32) (v2225 : BitVec 32) (k0_hw74 : k0_chk74 arg0 v1 v2225), ∀ (k0_h1 : k0_cond1 arg0 v1 = 1#1), 8 ∣ (k0_mult74 v2225).toNat := fun arg0 v1 v2225 k0_hw74 k0_h1 => k0_hw74.1 k0_h1
theorem k0_off147_inb : ∀ (arg0 : BitVec 32) (v1 : BitVec 32) (v2225 : BitVec 32) (k0_hw74 : k0_chk74 arg0 v1 v2225), ∀ (k0_h1 : k0_cond1 arg0 v1 = 1#1), ∀ a, (k0_off147 v2225) a + S8x128.size a ≤ S7688x256.size a := fun arg0 v1 v2225 k0_hw74 k0_h1 => k0_hw74.2.1 k0_h1
theorem k0_off148_inb : ∀ (arg0 : BitVec 32) (v1 : BitVec 32) (v2225 : BitVec 32) (k0_hw74 : k0_chk74 arg0 v1 v2225), ∀ (k0_h1 : k0_cond1 arg0 v1 = 1#1), ∀ a, (k0_off148 v2225) a + S8x128.size a ≤ S7688x256.size a := fun arg0 v1 v2225 k0_hw74 k0_h1 => k0_hw74.2.2 k0_h1

def k0_mult75 (v2255 : BitVec 32) : BitVec 32 :=
  let c1_i32_538 : BitVec 32 := 1#32
  let v2275 : BitVec 32 := Scalar.shrsi v2255 c1_i32_538
  v2275

def k0_off149 (v2255 : BitVec 32) : Fin 2 → Nat :=
  let c1_i32_538 : BitVec 32 := 1#32
  let v2275 : BitVec 32 := Scalar.shrsi v2255 c1_i32_538
  let v2276 : BitVec 32 := v2275
  let v2277 : Index := Scalar.indexCast v2276
  let c0_539 : Index := 0#32
  ![v2277.toNat, 0]
def k0_off150 (v2255 : BitVec 32) : Fin 2 → Nat :=
  let c1_i32_538 : BitVec 32 := 1#32
  let v2275 : BitVec 32 := Scalar.shrsi v2255 c1_i32_538
  let v2276 : BitVec 32 := v2275
  let v2281 : Index := Scalar.indexCast v2276
  let c128_540 : Index := 128#32
  ![v2281.toNat, 128]

def k0_chk75 (arg0 : BitVec 32) (v1 : BitVec 32) (v2255 : BitVec 32) : Prop :=
  (∀ (k0_h1 : k0_cond1 arg0 v1 = 1#1), 8 ∣ (k0_mult75 v2255).toNat) ∧
  (∀ (k0_h1 : k0_cond1 arg0 v1 = 1#1), ∀ a, (k0_off149 v2255) a + S8x128.size a ≤ S7688x256.size a) ∧
  (∀ (k0_h1 : k0_cond1 arg0 v1 = 1#1), ∀ a, (k0_off150 v2255) a + S8x128.size a ≤ S7688x256.size a)
theorem k0_mult75_dvd : ∀ (arg0 : BitVec 32) (v1 : BitVec 32) (v2255 : BitVec 32) (k0_hw75 : k0_chk75 arg0 v1 v2255), ∀ (k0_h1 : k0_cond1 arg0 v1 = 1#1), 8 ∣ (k0_mult75 v2255).toNat := fun arg0 v1 v2255 k0_hw75 k0_h1 => k0_hw75.1 k0_h1
theorem k0_off149_inb : ∀ (arg0 : BitVec 32) (v1 : BitVec 32) (v2255 : BitVec 32) (k0_hw75 : k0_chk75 arg0 v1 v2255), ∀ (k0_h1 : k0_cond1 arg0 v1 = 1#1), ∀ a, (k0_off149 v2255) a + S8x128.size a ≤ S7688x256.size a := fun arg0 v1 v2255 k0_hw75 k0_h1 => k0_hw75.2.1 k0_h1
theorem k0_off150_inb : ∀ (arg0 : BitVec 32) (v1 : BitVec 32) (v2255 : BitVec 32) (k0_hw75 : k0_chk75 arg0 v1 v2255), ∀ (k0_h1 : k0_cond1 arg0 v1 = 1#1), ∀ a, (k0_off150 v2255) a + S8x128.size a ≤ S7688x256.size a := fun arg0 v1 v2255 k0_hw75 k0_h1 => k0_hw75.2.2 k0_h1

def k0_mult76 (v2285 : BitVec 32) : BitVec 32 :=
  let c1_i32_545 : BitVec 32 := 1#32
  let v2305 : BitVec 32 := Scalar.shrsi v2285 c1_i32_545
  v2305

def k0_off151 (v2285 : BitVec 32) : Fin 2 → Nat :=
  let c1_i32_545 : BitVec 32 := 1#32
  let v2305 : BitVec 32 := Scalar.shrsi v2285 c1_i32_545
  let v2306 : BitVec 32 := v2305
  let v2307 : Index := Scalar.indexCast v2306
  let c0_546 : Index := 0#32
  ![v2307.toNat, 0]
def k0_off152 (v2285 : BitVec 32) : Fin 2 → Nat :=
  let c1_i32_545 : BitVec 32 := 1#32
  let v2305 : BitVec 32 := Scalar.shrsi v2285 c1_i32_545
  let v2306 : BitVec 32 := v2305
  let v2311 : Index := Scalar.indexCast v2306
  let c128_547 : Index := 128#32
  ![v2311.toNat, 128]

def k0_chk76 (arg0 : BitVec 32) (v1 : BitVec 32) (v2285 : BitVec 32) : Prop :=
  (∀ (k0_h1 : k0_cond1 arg0 v1 = 1#1), 8 ∣ (k0_mult76 v2285).toNat) ∧
  (∀ (k0_h1 : k0_cond1 arg0 v1 = 1#1), ∀ a, (k0_off151 v2285) a + S8x128.size a ≤ S7688x256.size a) ∧
  (∀ (k0_h1 : k0_cond1 arg0 v1 = 1#1), ∀ a, (k0_off152 v2285) a + S8x128.size a ≤ S7688x256.size a)
theorem k0_mult76_dvd : ∀ (arg0 : BitVec 32) (v1 : BitVec 32) (v2285 : BitVec 32) (k0_hw76 : k0_chk76 arg0 v1 v2285), ∀ (k0_h1 : k0_cond1 arg0 v1 = 1#1), 8 ∣ (k0_mult76 v2285).toNat := fun arg0 v1 v2285 k0_hw76 k0_h1 => k0_hw76.1 k0_h1
theorem k0_off151_inb : ∀ (arg0 : BitVec 32) (v1 : BitVec 32) (v2285 : BitVec 32) (k0_hw76 : k0_chk76 arg0 v1 v2285), ∀ (k0_h1 : k0_cond1 arg0 v1 = 1#1), ∀ a, (k0_off151 v2285) a + S8x128.size a ≤ S7688x256.size a := fun arg0 v1 v2285 k0_hw76 k0_h1 => k0_hw76.2.1 k0_h1
theorem k0_off152_inb : ∀ (arg0 : BitVec 32) (v1 : BitVec 32) (v2285 : BitVec 32) (k0_hw76 : k0_chk76 arg0 v1 v2285), ∀ (k0_h1 : k0_cond1 arg0 v1 = 1#1), ∀ a, (k0_off152 v2285) a + S8x128.size a ≤ S7688x256.size a := fun arg0 v1 v2285 k0_hw76 k0_h1 => k0_hw76.2.2 k0_h1

def k0_mult77 (v2315 : BitVec 32) : BitVec 32 :=
  let c1_i32_552 : BitVec 32 := 1#32
  let v2335 : BitVec 32 := Scalar.shrsi v2315 c1_i32_552
  v2335

def k0_off153 (v2315 : BitVec 32) : Fin 2 → Nat :=
  let c1_i32_552 : BitVec 32 := 1#32
  let v2335 : BitVec 32 := Scalar.shrsi v2315 c1_i32_552
  let v2336 : BitVec 32 := v2335
  let v2337 : Index := Scalar.indexCast v2336
  let c0_553 : Index := 0#32
  ![v2337.toNat, 0]
def k0_off154 (v2315 : BitVec 32) : Fin 2 → Nat :=
  let c1_i32_552 : BitVec 32 := 1#32
  let v2335 : BitVec 32 := Scalar.shrsi v2315 c1_i32_552
  let v2336 : BitVec 32 := v2335
  let v2341 : Index := Scalar.indexCast v2336
  let c128_554 : Index := 128#32
  ![v2341.toNat, 128]

def k0_chk77 (arg0 : BitVec 32) (v1 : BitVec 32) (v2315 : BitVec 32) : Prop :=
  (∀ (k0_h1 : k0_cond1 arg0 v1 = 1#1), 8 ∣ (k0_mult77 v2315).toNat) ∧
  (∀ (k0_h1 : k0_cond1 arg0 v1 = 1#1), ∀ a, (k0_off153 v2315) a + S8x128.size a ≤ S7688x256.size a) ∧
  (∀ (k0_h1 : k0_cond1 arg0 v1 = 1#1), ∀ a, (k0_off154 v2315) a + S8x128.size a ≤ S7688x256.size a)
theorem k0_mult77_dvd : ∀ (arg0 : BitVec 32) (v1 : BitVec 32) (v2315 : BitVec 32) (k0_hw77 : k0_chk77 arg0 v1 v2315), ∀ (k0_h1 : k0_cond1 arg0 v1 = 1#1), 8 ∣ (k0_mult77 v2315).toNat := fun arg0 v1 v2315 k0_hw77 k0_h1 => k0_hw77.1 k0_h1
theorem k0_off153_inb : ∀ (arg0 : BitVec 32) (v1 : BitVec 32) (v2315 : BitVec 32) (k0_hw77 : k0_chk77 arg0 v1 v2315), ∀ (k0_h1 : k0_cond1 arg0 v1 = 1#1), ∀ a, (k0_off153 v2315) a + S8x128.size a ≤ S7688x256.size a := fun arg0 v1 v2315 k0_hw77 k0_h1 => k0_hw77.2.1 k0_h1
theorem k0_off154_inb : ∀ (arg0 : BitVec 32) (v1 : BitVec 32) (v2315 : BitVec 32) (k0_hw77 : k0_chk77 arg0 v1 v2315), ∀ (k0_h1 : k0_cond1 arg0 v1 = 1#1), ∀ a, (k0_off154 v2315) a + S8x128.size a ≤ S7688x256.size a := fun arg0 v1 v2315 k0_hw77 k0_h1 => k0_hw77.2.2 k0_h1

def k0_mult78 (v2345 : BitVec 32) : BitVec 32 :=
  let c1_i32_559 : BitVec 32 := 1#32
  let v2365 : BitVec 32 := Scalar.shrsi v2345 c1_i32_559
  v2365

def k0_off155 (v2345 : BitVec 32) : Fin 2 → Nat :=
  let c1_i32_559 : BitVec 32 := 1#32
  let v2365 : BitVec 32 := Scalar.shrsi v2345 c1_i32_559
  let v2366 : BitVec 32 := v2365
  let v2367 : Index := Scalar.indexCast v2366
  let c0_560 : Index := 0#32
  ![v2367.toNat, 0]
def k0_off156 (v2345 : BitVec 32) : Fin 2 → Nat :=
  let c1_i32_559 : BitVec 32 := 1#32
  let v2365 : BitVec 32 := Scalar.shrsi v2345 c1_i32_559
  let v2366 : BitVec 32 := v2365
  let v2371 : Index := Scalar.indexCast v2366
  let c128_561 : Index := 128#32
  ![v2371.toNat, 128]

def k0_chk78 (arg0 : BitVec 32) (v1 : BitVec 32) (v2345 : BitVec 32) : Prop :=
  (∀ (k0_h1 : k0_cond1 arg0 v1 = 1#1), 8 ∣ (k0_mult78 v2345).toNat) ∧
  (∀ (k0_h1 : k0_cond1 arg0 v1 = 1#1), ∀ a, (k0_off155 v2345) a + S8x128.size a ≤ S7688x256.size a) ∧
  (∀ (k0_h1 : k0_cond1 arg0 v1 = 1#1), ∀ a, (k0_off156 v2345) a + S8x128.size a ≤ S7688x256.size a)
theorem k0_mult78_dvd : ∀ (arg0 : BitVec 32) (v1 : BitVec 32) (v2345 : BitVec 32) (k0_hw78 : k0_chk78 arg0 v1 v2345), ∀ (k0_h1 : k0_cond1 arg0 v1 = 1#1), 8 ∣ (k0_mult78 v2345).toNat := fun arg0 v1 v2345 k0_hw78 k0_h1 => k0_hw78.1 k0_h1
theorem k0_off155_inb : ∀ (arg0 : BitVec 32) (v1 : BitVec 32) (v2345 : BitVec 32) (k0_hw78 : k0_chk78 arg0 v1 v2345), ∀ (k0_h1 : k0_cond1 arg0 v1 = 1#1), ∀ a, (k0_off155 v2345) a + S8x128.size a ≤ S7688x256.size a := fun arg0 v1 v2345 k0_hw78 k0_h1 => k0_hw78.2.1 k0_h1
theorem k0_off156_inb : ∀ (arg0 : BitVec 32) (v1 : BitVec 32) (v2345 : BitVec 32) (k0_hw78 : k0_chk78 arg0 v1 v2345), ∀ (k0_h1 : k0_cond1 arg0 v1 = 1#1), ∀ a, (k0_off156 v2345) a + S8x128.size a ≤ S7688x256.size a := fun arg0 v1 v2345 k0_hw78 k0_h1 => k0_hw78.2.2 k0_h1

def k0_mult79 (v2375 : BitVec 32) : BitVec 32 :=
  let c1_i32_566 : BitVec 32 := 1#32
  let v2395 : BitVec 32 := Scalar.shrsi v2375 c1_i32_566
  v2395

def k0_off157 (v2375 : BitVec 32) : Fin 2 → Nat :=
  let c1_i32_566 : BitVec 32 := 1#32
  let v2395 : BitVec 32 := Scalar.shrsi v2375 c1_i32_566
  let v2396 : BitVec 32 := v2395
  let v2397 : Index := Scalar.indexCast v2396
  let c0_567 : Index := 0#32
  ![v2397.toNat, 0]
def k0_off158 (v2375 : BitVec 32) : Fin 2 → Nat :=
  let c1_i32_566 : BitVec 32 := 1#32
  let v2395 : BitVec 32 := Scalar.shrsi v2375 c1_i32_566
  let v2396 : BitVec 32 := v2395
  let v2401 : Index := Scalar.indexCast v2396
  let c128_568 : Index := 128#32
  ![v2401.toNat, 128]

def k0_chk79 (arg0 : BitVec 32) (v1 : BitVec 32) (v2375 : BitVec 32) : Prop :=
  (∀ (k0_h1 : k0_cond1 arg0 v1 = 1#1), 8 ∣ (k0_mult79 v2375).toNat) ∧
  (∀ (k0_h1 : k0_cond1 arg0 v1 = 1#1), ∀ a, (k0_off157 v2375) a + S8x128.size a ≤ S7688x256.size a) ∧
  (∀ (k0_h1 : k0_cond1 arg0 v1 = 1#1), ∀ a, (k0_off158 v2375) a + S8x128.size a ≤ S7688x256.size a)
theorem k0_mult79_dvd : ∀ (arg0 : BitVec 32) (v1 : BitVec 32) (v2375 : BitVec 32) (k0_hw79 : k0_chk79 arg0 v1 v2375), ∀ (k0_h1 : k0_cond1 arg0 v1 = 1#1), 8 ∣ (k0_mult79 v2375).toNat := fun arg0 v1 v2375 k0_hw79 k0_h1 => k0_hw79.1 k0_h1
theorem k0_off157_inb : ∀ (arg0 : BitVec 32) (v1 : BitVec 32) (v2375 : BitVec 32) (k0_hw79 : k0_chk79 arg0 v1 v2375), ∀ (k0_h1 : k0_cond1 arg0 v1 = 1#1), ∀ a, (k0_off157 v2375) a + S8x128.size a ≤ S7688x256.size a := fun arg0 v1 v2375 k0_hw79 k0_h1 => k0_hw79.2.1 k0_h1
theorem k0_off158_inb : ∀ (arg0 : BitVec 32) (v1 : BitVec 32) (v2375 : BitVec 32) (k0_hw79 : k0_chk79 arg0 v1 v2375), ∀ (k0_h1 : k0_cond1 arg0 v1 = 1#1), ∀ a, (k0_off158 v2375) a + S8x128.size a ≤ S7688x256.size a := fun arg0 v1 v2375 k0_hw79 k0_h1 => k0_hw79.2.2 k0_h1

def k0_mult80 (v2405 : BitVec 32) : BitVec 32 :=
  let c1_i32_573 : BitVec 32 := 1#32
  let v2425 : BitVec 32 := Scalar.shrsi v2405 c1_i32_573
  v2425

def k0_off159 (v2405 : BitVec 32) : Fin 2 → Nat :=
  let c1_i32_573 : BitVec 32 := 1#32
  let v2425 : BitVec 32 := Scalar.shrsi v2405 c1_i32_573
  let v2426 : BitVec 32 := v2425
  let v2427 : Index := Scalar.indexCast v2426
  let c0_574 : Index := 0#32
  ![v2427.toNat, 0]
def k0_off160 (v2405 : BitVec 32) : Fin 2 → Nat :=
  let c1_i32_573 : BitVec 32 := 1#32
  let v2425 : BitVec 32 := Scalar.shrsi v2405 c1_i32_573
  let v2426 : BitVec 32 := v2425
  let v2431 : Index := Scalar.indexCast v2426
  let c128_575 : Index := 128#32
  ![v2431.toNat, 128]

def k0_chk80 (arg0 : BitVec 32) (v1 : BitVec 32) (v2405 : BitVec 32) : Prop :=
  (∀ (k0_h1 : k0_cond1 arg0 v1 = 1#1), 8 ∣ (k0_mult80 v2405).toNat) ∧
  (∀ (k0_h1 : k0_cond1 arg0 v1 = 1#1), ∀ a, (k0_off159 v2405) a + S8x128.size a ≤ S7688x256.size a) ∧
  (∀ (k0_h1 : k0_cond1 arg0 v1 = 1#1), ∀ a, (k0_off160 v2405) a + S8x128.size a ≤ S7688x256.size a)
theorem k0_mult80_dvd : ∀ (arg0 : BitVec 32) (v1 : BitVec 32) (v2405 : BitVec 32) (k0_hw80 : k0_chk80 arg0 v1 v2405), ∀ (k0_h1 : k0_cond1 arg0 v1 = 1#1), 8 ∣ (k0_mult80 v2405).toNat := fun arg0 v1 v2405 k0_hw80 k0_h1 => k0_hw80.1 k0_h1
theorem k0_off159_inb : ∀ (arg0 : BitVec 32) (v1 : BitVec 32) (v2405 : BitVec 32) (k0_hw80 : k0_chk80 arg0 v1 v2405), ∀ (k0_h1 : k0_cond1 arg0 v1 = 1#1), ∀ a, (k0_off159 v2405) a + S8x128.size a ≤ S7688x256.size a := fun arg0 v1 v2405 k0_hw80 k0_h1 => k0_hw80.2.1 k0_h1
theorem k0_off160_inb : ∀ (arg0 : BitVec 32) (v1 : BitVec 32) (v2405 : BitVec 32) (k0_hw80 : k0_chk80 arg0 v1 v2405), ∀ (k0_h1 : k0_cond1 arg0 v1 = 1#1), ∀ a, (k0_off160 v2405) a + S8x128.size a ≤ S7688x256.size a := fun arg0 v1 v2405 k0_hw80 k0_h1 => k0_hw80.2.2 k0_h1

def k0_mult81 (v2435 : BitVec 32) : BitVec 32 :=
  let c1_i32_580 : BitVec 32 := 1#32
  let v2455 : BitVec 32 := Scalar.shrsi v2435 c1_i32_580
  v2455

def k0_off161 (v2435 : BitVec 32) : Fin 2 → Nat :=
  let c1_i32_580 : BitVec 32 := 1#32
  let v2455 : BitVec 32 := Scalar.shrsi v2435 c1_i32_580
  let v2456 : BitVec 32 := v2455
  let v2457 : Index := Scalar.indexCast v2456
  let c0_581 : Index := 0#32
  ![v2457.toNat, 0]
def k0_off162 (v2435 : BitVec 32) : Fin 2 → Nat :=
  let c1_i32_580 : BitVec 32 := 1#32
  let v2455 : BitVec 32 := Scalar.shrsi v2435 c1_i32_580
  let v2456 : BitVec 32 := v2455
  let v2461 : Index := Scalar.indexCast v2456
  let c128_582 : Index := 128#32
  ![v2461.toNat, 128]

def k0_chk81 (arg0 : BitVec 32) (v1 : BitVec 32) (v2435 : BitVec 32) : Prop :=
  (∀ (k0_h1 : k0_cond1 arg0 v1 = 1#1), 8 ∣ (k0_mult81 v2435).toNat) ∧
  (∀ (k0_h1 : k0_cond1 arg0 v1 = 1#1), ∀ a, (k0_off161 v2435) a + S8x128.size a ≤ S7688x256.size a) ∧
  (∀ (k0_h1 : k0_cond1 arg0 v1 = 1#1), ∀ a, (k0_off162 v2435) a + S8x128.size a ≤ S7688x256.size a)
theorem k0_mult81_dvd : ∀ (arg0 : BitVec 32) (v1 : BitVec 32) (v2435 : BitVec 32) (k0_hw81 : k0_chk81 arg0 v1 v2435), ∀ (k0_h1 : k0_cond1 arg0 v1 = 1#1), 8 ∣ (k0_mult81 v2435).toNat := fun arg0 v1 v2435 k0_hw81 k0_h1 => k0_hw81.1 k0_h1
theorem k0_off161_inb : ∀ (arg0 : BitVec 32) (v1 : BitVec 32) (v2435 : BitVec 32) (k0_hw81 : k0_chk81 arg0 v1 v2435), ∀ (k0_h1 : k0_cond1 arg0 v1 = 1#1), ∀ a, (k0_off161 v2435) a + S8x128.size a ≤ S7688x256.size a := fun arg0 v1 v2435 k0_hw81 k0_h1 => k0_hw81.2.1 k0_h1
theorem k0_off162_inb : ∀ (arg0 : BitVec 32) (v1 : BitVec 32) (v2435 : BitVec 32) (k0_hw81 : k0_chk81 arg0 v1 v2435), ∀ (k0_h1 : k0_cond1 arg0 v1 = 1#1), ∀ a, (k0_off162 v2435) a + S8x128.size a ≤ S7688x256.size a := fun arg0 v1 v2435 k0_hw81 k0_h1 => k0_hw81.2.2 k0_h1

def k0_mult82 (v2465 : BitVec 32) : BitVec 32 :=
  let c1_i32_587 : BitVec 32 := 1#32
  let v2485 : BitVec 32 := Scalar.shrsi v2465 c1_i32_587
  v2485

def k0_off163 (v2465 : BitVec 32) : Fin 2 → Nat :=
  let c1_i32_587 : BitVec 32 := 1#32
  let v2485 : BitVec 32 := Scalar.shrsi v2465 c1_i32_587
  let v2486 : BitVec 32 := v2485
  let v2487 : Index := Scalar.indexCast v2486
  let c0_588 : Index := 0#32
  ![v2487.toNat, 0]
def k0_off164 (v2465 : BitVec 32) : Fin 2 → Nat :=
  let c1_i32_587 : BitVec 32 := 1#32
  let v2485 : BitVec 32 := Scalar.shrsi v2465 c1_i32_587
  let v2486 : BitVec 32 := v2485
  let v2491 : Index := Scalar.indexCast v2486
  let c128_589 : Index := 128#32
  ![v2491.toNat, 128]

def k0_chk82 (arg0 : BitVec 32) (v1 : BitVec 32) (v2465 : BitVec 32) : Prop :=
  (∀ (k0_h1 : k0_cond1 arg0 v1 = 1#1), 8 ∣ (k0_mult82 v2465).toNat) ∧
  (∀ (k0_h1 : k0_cond1 arg0 v1 = 1#1), ∀ a, (k0_off163 v2465) a + S8x128.size a ≤ S7688x256.size a) ∧
  (∀ (k0_h1 : k0_cond1 arg0 v1 = 1#1), ∀ a, (k0_off164 v2465) a + S8x128.size a ≤ S7688x256.size a)
theorem k0_mult82_dvd : ∀ (arg0 : BitVec 32) (v1 : BitVec 32) (v2465 : BitVec 32) (k0_hw82 : k0_chk82 arg0 v1 v2465), ∀ (k0_h1 : k0_cond1 arg0 v1 = 1#1), 8 ∣ (k0_mult82 v2465).toNat := fun arg0 v1 v2465 k0_hw82 k0_h1 => k0_hw82.1 k0_h1
theorem k0_off163_inb : ∀ (arg0 : BitVec 32) (v1 : BitVec 32) (v2465 : BitVec 32) (k0_hw82 : k0_chk82 arg0 v1 v2465), ∀ (k0_h1 : k0_cond1 arg0 v1 = 1#1), ∀ a, (k0_off163 v2465) a + S8x128.size a ≤ S7688x256.size a := fun arg0 v1 v2465 k0_hw82 k0_h1 => k0_hw82.2.1 k0_h1
theorem k0_off164_inb : ∀ (arg0 : BitVec 32) (v1 : BitVec 32) (v2465 : BitVec 32) (k0_hw82 : k0_chk82 arg0 v1 v2465), ∀ (k0_h1 : k0_cond1 arg0 v1 = 1#1), ∀ a, (k0_off164 v2465) a + S8x128.size a ≤ S7688x256.size a := fun arg0 v1 v2465 k0_hw82 k0_h1 => k0_hw82.2.2 k0_h1

def k0_mult83 (v2495 : BitVec 32) : BitVec 32 :=
  let c1_i32_594 : BitVec 32 := 1#32
  let v2515 : BitVec 32 := Scalar.shrsi v2495 c1_i32_594
  v2515

def k0_off165 (v2495 : BitVec 32) : Fin 2 → Nat :=
  let c1_i32_594 : BitVec 32 := 1#32
  let v2515 : BitVec 32 := Scalar.shrsi v2495 c1_i32_594
  let v2516 : BitVec 32 := v2515
  let v2517 : Index := Scalar.indexCast v2516
  let c0_595 : Index := 0#32
  ![v2517.toNat, 0]
def k0_off166 (v2495 : BitVec 32) : Fin 2 → Nat :=
  let c1_i32_594 : BitVec 32 := 1#32
  let v2515 : BitVec 32 := Scalar.shrsi v2495 c1_i32_594
  let v2516 : BitVec 32 := v2515
  let v2521 : Index := Scalar.indexCast v2516
  let c128_596 : Index := 128#32
  ![v2521.toNat, 128]

def k0_chk83 (arg0 : BitVec 32) (v1 : BitVec 32) (v2495 : BitVec 32) : Prop :=
  (∀ (k0_h1 : k0_cond1 arg0 v1 = 1#1), 8 ∣ (k0_mult83 v2495).toNat) ∧
  (∀ (k0_h1 : k0_cond1 arg0 v1 = 1#1), ∀ a, (k0_off165 v2495) a + S8x128.size a ≤ S7688x256.size a) ∧
  (∀ (k0_h1 : k0_cond1 arg0 v1 = 1#1), ∀ a, (k0_off166 v2495) a + S8x128.size a ≤ S7688x256.size a)
theorem k0_mult83_dvd : ∀ (arg0 : BitVec 32) (v1 : BitVec 32) (v2495 : BitVec 32) (k0_hw83 : k0_chk83 arg0 v1 v2495), ∀ (k0_h1 : k0_cond1 arg0 v1 = 1#1), 8 ∣ (k0_mult83 v2495).toNat := fun arg0 v1 v2495 k0_hw83 k0_h1 => k0_hw83.1 k0_h1
theorem k0_off165_inb : ∀ (arg0 : BitVec 32) (v1 : BitVec 32) (v2495 : BitVec 32) (k0_hw83 : k0_chk83 arg0 v1 v2495), ∀ (k0_h1 : k0_cond1 arg0 v1 = 1#1), ∀ a, (k0_off165 v2495) a + S8x128.size a ≤ S7688x256.size a := fun arg0 v1 v2495 k0_hw83 k0_h1 => k0_hw83.2.1 k0_h1
theorem k0_off166_inb : ∀ (arg0 : BitVec 32) (v1 : BitVec 32) (v2495 : BitVec 32) (k0_hw83 : k0_chk83 arg0 v1 v2495), ∀ (k0_h1 : k0_cond1 arg0 v1 = 1#1), ∀ a, (k0_off166 v2495) a + S8x128.size a ≤ S7688x256.size a := fun arg0 v1 v2495 k0_hw83 k0_h1 => k0_hw83.2.2 k0_h1

def k0_mult84 (v2525 : BitVec 32) : BitVec 32 :=
  let c1_i32_601 : BitVec 32 := 1#32
  let v2545 : BitVec 32 := Scalar.shrsi v2525 c1_i32_601
  v2545

def k0_off167 (v2525 : BitVec 32) : Fin 2 → Nat :=
  let c1_i32_601 : BitVec 32 := 1#32
  let v2545 : BitVec 32 := Scalar.shrsi v2525 c1_i32_601
  let v2546 : BitVec 32 := v2545
  let v2547 : Index := Scalar.indexCast v2546
  let c0_602 : Index := 0#32
  ![v2547.toNat, 0]
def k0_off168 (v2525 : BitVec 32) : Fin 2 → Nat :=
  let c1_i32_601 : BitVec 32 := 1#32
  let v2545 : BitVec 32 := Scalar.shrsi v2525 c1_i32_601
  let v2546 : BitVec 32 := v2545
  let v2551 : Index := Scalar.indexCast v2546
  let c128_603 : Index := 128#32
  ![v2551.toNat, 128]

def k0_chk84 (arg0 : BitVec 32) (v1 : BitVec 32) (v2525 : BitVec 32) : Prop :=
  (∀ (k0_h1 : k0_cond1 arg0 v1 = 1#1), 8 ∣ (k0_mult84 v2525).toNat) ∧
  (∀ (k0_h1 : k0_cond1 arg0 v1 = 1#1), ∀ a, (k0_off167 v2525) a + S8x128.size a ≤ S7688x256.size a) ∧
  (∀ (k0_h1 : k0_cond1 arg0 v1 = 1#1), ∀ a, (k0_off168 v2525) a + S8x128.size a ≤ S7688x256.size a)
theorem k0_mult84_dvd : ∀ (arg0 : BitVec 32) (v1 : BitVec 32) (v2525 : BitVec 32) (k0_hw84 : k0_chk84 arg0 v1 v2525), ∀ (k0_h1 : k0_cond1 arg0 v1 = 1#1), 8 ∣ (k0_mult84 v2525).toNat := fun arg0 v1 v2525 k0_hw84 k0_h1 => k0_hw84.1 k0_h1
theorem k0_off167_inb : ∀ (arg0 : BitVec 32) (v1 : BitVec 32) (v2525 : BitVec 32) (k0_hw84 : k0_chk84 arg0 v1 v2525), ∀ (k0_h1 : k0_cond1 arg0 v1 = 1#1), ∀ a, (k0_off167 v2525) a + S8x128.size a ≤ S7688x256.size a := fun arg0 v1 v2525 k0_hw84 k0_h1 => k0_hw84.2.1 k0_h1
theorem k0_off168_inb : ∀ (arg0 : BitVec 32) (v1 : BitVec 32) (v2525 : BitVec 32) (k0_hw84 : k0_chk84 arg0 v1 v2525), ∀ (k0_h1 : k0_cond1 arg0 v1 = 1#1), ∀ a, (k0_off168 v2525) a + S8x128.size a ≤ S7688x256.size a := fun arg0 v1 v2525 k0_hw84 k0_h1 => k0_hw84.2.2 k0_h1

def k0_mult85 (v2555 : BitVec 32) : BitVec 32 :=
  let c1_i32_608 : BitVec 32 := 1#32
  let v2575 : BitVec 32 := Scalar.shrsi v2555 c1_i32_608
  v2575

def k0_off169 (v2555 : BitVec 32) : Fin 2 → Nat :=
  let c1_i32_608 : BitVec 32 := 1#32
  let v2575 : BitVec 32 := Scalar.shrsi v2555 c1_i32_608
  let v2576 : BitVec 32 := v2575
  let v2577 : Index := Scalar.indexCast v2576
  let c0_609 : Index := 0#32
  ![v2577.toNat, 0]
def k0_off170 (v2555 : BitVec 32) : Fin 2 → Nat :=
  let c1_i32_608 : BitVec 32 := 1#32
  let v2575 : BitVec 32 := Scalar.shrsi v2555 c1_i32_608
  let v2576 : BitVec 32 := v2575
  let v2581 : Index := Scalar.indexCast v2576
  let c128_610 : Index := 128#32
  ![v2581.toNat, 128]

def k0_chk85 (arg0 : BitVec 32) (v1 : BitVec 32) (v2555 : BitVec 32) : Prop :=
  (∀ (k0_h1 : k0_cond1 arg0 v1 = 1#1), 8 ∣ (k0_mult85 v2555).toNat) ∧
  (∀ (k0_h1 : k0_cond1 arg0 v1 = 1#1), ∀ a, (k0_off169 v2555) a + S8x128.size a ≤ S7688x256.size a) ∧
  (∀ (k0_h1 : k0_cond1 arg0 v1 = 1#1), ∀ a, (k0_off170 v2555) a + S8x128.size a ≤ S7688x256.size a)
theorem k0_mult85_dvd : ∀ (arg0 : BitVec 32) (v1 : BitVec 32) (v2555 : BitVec 32) (k0_hw85 : k0_chk85 arg0 v1 v2555), ∀ (k0_h1 : k0_cond1 arg0 v1 = 1#1), 8 ∣ (k0_mult85 v2555).toNat := fun arg0 v1 v2555 k0_hw85 k0_h1 => k0_hw85.1 k0_h1
theorem k0_off169_inb : ∀ (arg0 : BitVec 32) (v1 : BitVec 32) (v2555 : BitVec 32) (k0_hw85 : k0_chk85 arg0 v1 v2555), ∀ (k0_h1 : k0_cond1 arg0 v1 = 1#1), ∀ a, (k0_off169 v2555) a + S8x128.size a ≤ S7688x256.size a := fun arg0 v1 v2555 k0_hw85 k0_h1 => k0_hw85.2.1 k0_h1
theorem k0_off170_inb : ∀ (arg0 : BitVec 32) (v1 : BitVec 32) (v2555 : BitVec 32) (k0_hw85 : k0_chk85 arg0 v1 v2555), ∀ (k0_h1 : k0_cond1 arg0 v1 = 1#1), ∀ a, (k0_off170 v2555) a + S8x128.size a ≤ S7688x256.size a := fun arg0 v1 v2555 k0_hw85 k0_h1 => k0_hw85.2.2 k0_h1

def k0_mult86 (v2585 : BitVec 32) : BitVec 32 :=
  let c1_i32_615 : BitVec 32 := 1#32
  let v2605 : BitVec 32 := Scalar.shrsi v2585 c1_i32_615
  v2605

def k0_off171 (v2585 : BitVec 32) : Fin 2 → Nat :=
  let c1_i32_615 : BitVec 32 := 1#32
  let v2605 : BitVec 32 := Scalar.shrsi v2585 c1_i32_615
  let v2606 : BitVec 32 := v2605
  let v2607 : Index := Scalar.indexCast v2606
  let c0_616 : Index := 0#32
  ![v2607.toNat, 0]
def k0_off172 (v2585 : BitVec 32) : Fin 2 → Nat :=
  let c1_i32_615 : BitVec 32 := 1#32
  let v2605 : BitVec 32 := Scalar.shrsi v2585 c1_i32_615
  let v2606 : BitVec 32 := v2605
  let v2611 : Index := Scalar.indexCast v2606
  let c128_617 : Index := 128#32
  ![v2611.toNat, 128]

def k0_chk86 (arg0 : BitVec 32) (v1 : BitVec 32) (v2585 : BitVec 32) : Prop :=
  (∀ (k0_h1 : k0_cond1 arg0 v1 = 1#1), 8 ∣ (k0_mult86 v2585).toNat) ∧
  (∀ (k0_h1 : k0_cond1 arg0 v1 = 1#1), ∀ a, (k0_off171 v2585) a + S8x128.size a ≤ S7688x256.size a) ∧
  (∀ (k0_h1 : k0_cond1 arg0 v1 = 1#1), ∀ a, (k0_off172 v2585) a + S8x128.size a ≤ S7688x256.size a)
theorem k0_mult86_dvd : ∀ (arg0 : BitVec 32) (v1 : BitVec 32) (v2585 : BitVec 32) (k0_hw86 : k0_chk86 arg0 v1 v2585), ∀ (k0_h1 : k0_cond1 arg0 v1 = 1#1), 8 ∣ (k0_mult86 v2585).toNat := fun arg0 v1 v2585 k0_hw86 k0_h1 => k0_hw86.1 k0_h1
theorem k0_off171_inb : ∀ (arg0 : BitVec 32) (v1 : BitVec 32) (v2585 : BitVec 32) (k0_hw86 : k0_chk86 arg0 v1 v2585), ∀ (k0_h1 : k0_cond1 arg0 v1 = 1#1), ∀ a, (k0_off171 v2585) a + S8x128.size a ≤ S7688x256.size a := fun arg0 v1 v2585 k0_hw86 k0_h1 => k0_hw86.2.1 k0_h1
theorem k0_off172_inb : ∀ (arg0 : BitVec 32) (v1 : BitVec 32) (v2585 : BitVec 32) (k0_hw86 : k0_chk86 arg0 v1 v2585), ∀ (k0_h1 : k0_cond1 arg0 v1 = 1#1), ∀ a, (k0_off172 v2585) a + S8x128.size a ≤ S7688x256.size a := fun arg0 v1 v2585 k0_hw86 k0_h1 => k0_hw86.2.2 k0_h1

def k0_mult87 (v2615 : BitVec 32) : BitVec 32 :=
  let c1_i32_622 : BitVec 32 := 1#32
  let v2635 : BitVec 32 := Scalar.shrsi v2615 c1_i32_622
  v2635

def k0_off173 (v2615 : BitVec 32) : Fin 2 → Nat :=
  let c1_i32_622 : BitVec 32 := 1#32
  let v2635 : BitVec 32 := Scalar.shrsi v2615 c1_i32_622
  let v2636 : BitVec 32 := v2635
  let v2637 : Index := Scalar.indexCast v2636
  let c0_623 : Index := 0#32
  ![v2637.toNat, 0]
def k0_off174 (v2615 : BitVec 32) : Fin 2 → Nat :=
  let c1_i32_622 : BitVec 32 := 1#32
  let v2635 : BitVec 32 := Scalar.shrsi v2615 c1_i32_622
  let v2636 : BitVec 32 := v2635
  let v2641 : Index := Scalar.indexCast v2636
  let c128_624 : Index := 128#32
  ![v2641.toNat, 128]

def k0_chk87 (arg0 : BitVec 32) (v1 : BitVec 32) (v2615 : BitVec 32) : Prop :=
  (∀ (k0_h1 : k0_cond1 arg0 v1 = 1#1), 8 ∣ (k0_mult87 v2615).toNat) ∧
  (∀ (k0_h1 : k0_cond1 arg0 v1 = 1#1), ∀ a, (k0_off173 v2615) a + S8x128.size a ≤ S7688x256.size a) ∧
  (∀ (k0_h1 : k0_cond1 arg0 v1 = 1#1), ∀ a, (k0_off174 v2615) a + S8x128.size a ≤ S7688x256.size a)
theorem k0_mult87_dvd : ∀ (arg0 : BitVec 32) (v1 : BitVec 32) (v2615 : BitVec 32) (k0_hw87 : k0_chk87 arg0 v1 v2615), ∀ (k0_h1 : k0_cond1 arg0 v1 = 1#1), 8 ∣ (k0_mult87 v2615).toNat := fun arg0 v1 v2615 k0_hw87 k0_h1 => k0_hw87.1 k0_h1
theorem k0_off173_inb : ∀ (arg0 : BitVec 32) (v1 : BitVec 32) (v2615 : BitVec 32) (k0_hw87 : k0_chk87 arg0 v1 v2615), ∀ (k0_h1 : k0_cond1 arg0 v1 = 1#1), ∀ a, (k0_off173 v2615) a + S8x128.size a ≤ S7688x256.size a := fun arg0 v1 v2615 k0_hw87 k0_h1 => k0_hw87.2.1 k0_h1
theorem k0_off174_inb : ∀ (arg0 : BitVec 32) (v1 : BitVec 32) (v2615 : BitVec 32) (k0_hw87 : k0_chk87 arg0 v1 v2615), ∀ (k0_h1 : k0_cond1 arg0 v1 = 1#1), ∀ a, (k0_off174 v2615) a + S8x128.size a ≤ S7688x256.size a := fun arg0 v1 v2615 k0_hw87 k0_h1 => k0_hw87.2.2 k0_h1

def k0_mult88 (v2645 : BitVec 32) : BitVec 32 :=
  let c1_i32_629 : BitVec 32 := 1#32
  let v2665 : BitVec 32 := Scalar.shrsi v2645 c1_i32_629
  v2665

def k0_off175 (v2645 : BitVec 32) : Fin 2 → Nat :=
  let c1_i32_629 : BitVec 32 := 1#32
  let v2665 : BitVec 32 := Scalar.shrsi v2645 c1_i32_629
  let v2666 : BitVec 32 := v2665
  let v2667 : Index := Scalar.indexCast v2666
  let c0_630 : Index := 0#32
  ![v2667.toNat, 0]
def k0_off176 (v2645 : BitVec 32) : Fin 2 → Nat :=
  let c1_i32_629 : BitVec 32 := 1#32
  let v2665 : BitVec 32 := Scalar.shrsi v2645 c1_i32_629
  let v2666 : BitVec 32 := v2665
  let v2671 : Index := Scalar.indexCast v2666
  let c128_631 : Index := 128#32
  ![v2671.toNat, 128]

def k0_chk88 (arg0 : BitVec 32) (v1 : BitVec 32) (v2645 : BitVec 32) : Prop :=
  (∀ (k0_h1 : k0_cond1 arg0 v1 = 1#1), 8 ∣ (k0_mult88 v2645).toNat) ∧
  (∀ (k0_h1 : k0_cond1 arg0 v1 = 1#1), ∀ a, (k0_off175 v2645) a + S8x128.size a ≤ S7688x256.size a) ∧
  (∀ (k0_h1 : k0_cond1 arg0 v1 = 1#1), ∀ a, (k0_off176 v2645) a + S8x128.size a ≤ S7688x256.size a)
theorem k0_mult88_dvd : ∀ (arg0 : BitVec 32) (v1 : BitVec 32) (v2645 : BitVec 32) (k0_hw88 : k0_chk88 arg0 v1 v2645), ∀ (k0_h1 : k0_cond1 arg0 v1 = 1#1), 8 ∣ (k0_mult88 v2645).toNat := fun arg0 v1 v2645 k0_hw88 k0_h1 => k0_hw88.1 k0_h1
theorem k0_off175_inb : ∀ (arg0 : BitVec 32) (v1 : BitVec 32) (v2645 : BitVec 32) (k0_hw88 : k0_chk88 arg0 v1 v2645), ∀ (k0_h1 : k0_cond1 arg0 v1 = 1#1), ∀ a, (k0_off175 v2645) a + S8x128.size a ≤ S7688x256.size a := fun arg0 v1 v2645 k0_hw88 k0_h1 => k0_hw88.2.1 k0_h1
theorem k0_off176_inb : ∀ (arg0 : BitVec 32) (v1 : BitVec 32) (v2645 : BitVec 32) (k0_hw88 : k0_chk88 arg0 v1 v2645), ∀ (k0_h1 : k0_cond1 arg0 v1 = 1#1), ∀ a, (k0_off176 v2645) a + S8x128.size a ≤ S7688x256.size a := fun arg0 v1 v2645 k0_hw88 k0_h1 => k0_hw88.2.2 k0_h1

def k0_mult89 (v2675 : BitVec 32) : BitVec 32 :=
  let c1_i32_636 : BitVec 32 := 1#32
  let v2695 : BitVec 32 := Scalar.shrsi v2675 c1_i32_636
  v2695

def k0_off177 (v2675 : BitVec 32) : Fin 2 → Nat :=
  let c1_i32_636 : BitVec 32 := 1#32
  let v2695 : BitVec 32 := Scalar.shrsi v2675 c1_i32_636
  let v2696 : BitVec 32 := v2695
  let v2697 : Index := Scalar.indexCast v2696
  let c0_637 : Index := 0#32
  ![v2697.toNat, 0]
def k0_off178 (v2675 : BitVec 32) : Fin 2 → Nat :=
  let c1_i32_636 : BitVec 32 := 1#32
  let v2695 : BitVec 32 := Scalar.shrsi v2675 c1_i32_636
  let v2696 : BitVec 32 := v2695
  let v2701 : Index := Scalar.indexCast v2696
  let c128_638 : Index := 128#32
  ![v2701.toNat, 128]

def k0_chk89 (arg0 : BitVec 32) (v1 : BitVec 32) (v2675 : BitVec 32) : Prop :=
  (∀ (k0_h1 : k0_cond1 arg0 v1 = 1#1), 8 ∣ (k0_mult89 v2675).toNat) ∧
  (∀ (k0_h1 : k0_cond1 arg0 v1 = 1#1), ∀ a, (k0_off177 v2675) a + S8x128.size a ≤ S7688x256.size a) ∧
  (∀ (k0_h1 : k0_cond1 arg0 v1 = 1#1), ∀ a, (k0_off178 v2675) a + S8x128.size a ≤ S7688x256.size a)
theorem k0_mult89_dvd : ∀ (arg0 : BitVec 32) (v1 : BitVec 32) (v2675 : BitVec 32) (k0_hw89 : k0_chk89 arg0 v1 v2675), ∀ (k0_h1 : k0_cond1 arg0 v1 = 1#1), 8 ∣ (k0_mult89 v2675).toNat := fun arg0 v1 v2675 k0_hw89 k0_h1 => k0_hw89.1 k0_h1
theorem k0_off177_inb : ∀ (arg0 : BitVec 32) (v1 : BitVec 32) (v2675 : BitVec 32) (k0_hw89 : k0_chk89 arg0 v1 v2675), ∀ (k0_h1 : k0_cond1 arg0 v1 = 1#1), ∀ a, (k0_off177 v2675) a + S8x128.size a ≤ S7688x256.size a := fun arg0 v1 v2675 k0_hw89 k0_h1 => k0_hw89.2.1 k0_h1
theorem k0_off178_inb : ∀ (arg0 : BitVec 32) (v1 : BitVec 32) (v2675 : BitVec 32) (k0_hw89 : k0_chk89 arg0 v1 v2675), ∀ (k0_h1 : k0_cond1 arg0 v1 = 1#1), ∀ a, (k0_off178 v2675) a + S8x128.size a ≤ S7688x256.size a := fun arg0 v1 v2675 k0_hw89 k0_h1 => k0_hw89.2.2 k0_h1

def k0_mult90 (v2705 : BitVec 32) : BitVec 32 :=
  let c1_i32_643 : BitVec 32 := 1#32
  let v2725 : BitVec 32 := Scalar.shrsi v2705 c1_i32_643
  v2725

def k0_off179 (v2705 : BitVec 32) : Fin 2 → Nat :=
  let c1_i32_643 : BitVec 32 := 1#32
  let v2725 : BitVec 32 := Scalar.shrsi v2705 c1_i32_643
  let v2726 : BitVec 32 := v2725
  let v2727 : Index := Scalar.indexCast v2726
  let c0_644 : Index := 0#32
  ![v2727.toNat, 0]
def k0_off180 (v2705 : BitVec 32) : Fin 2 → Nat :=
  let c1_i32_643 : BitVec 32 := 1#32
  let v2725 : BitVec 32 := Scalar.shrsi v2705 c1_i32_643
  let v2726 : BitVec 32 := v2725
  let v2731 : Index := Scalar.indexCast v2726
  let c128_645 : Index := 128#32
  ![v2731.toNat, 128]

def k0_chk90 (arg0 : BitVec 32) (v1 : BitVec 32) (v2705 : BitVec 32) : Prop :=
  (∀ (k0_h1 : k0_cond1 arg0 v1 = 1#1), 8 ∣ (k0_mult90 v2705).toNat) ∧
  (∀ (k0_h1 : k0_cond1 arg0 v1 = 1#1), ∀ a, (k0_off179 v2705) a + S8x128.size a ≤ S7688x256.size a) ∧
  (∀ (k0_h1 : k0_cond1 arg0 v1 = 1#1), ∀ a, (k0_off180 v2705) a + S8x128.size a ≤ S7688x256.size a)
theorem k0_mult90_dvd : ∀ (arg0 : BitVec 32) (v1 : BitVec 32) (v2705 : BitVec 32) (k0_hw90 : k0_chk90 arg0 v1 v2705), ∀ (k0_h1 : k0_cond1 arg0 v1 = 1#1), 8 ∣ (k0_mult90 v2705).toNat := fun arg0 v1 v2705 k0_hw90 k0_h1 => k0_hw90.1 k0_h1
theorem k0_off179_inb : ∀ (arg0 : BitVec 32) (v1 : BitVec 32) (v2705 : BitVec 32) (k0_hw90 : k0_chk90 arg0 v1 v2705), ∀ (k0_h1 : k0_cond1 arg0 v1 = 1#1), ∀ a, (k0_off179 v2705) a + S8x128.size a ≤ S7688x256.size a := fun arg0 v1 v2705 k0_hw90 k0_h1 => k0_hw90.2.1 k0_h1
theorem k0_off180_inb : ∀ (arg0 : BitVec 32) (v1 : BitVec 32) (v2705 : BitVec 32) (k0_hw90 : k0_chk90 arg0 v1 v2705), ∀ (k0_h1 : k0_cond1 arg0 v1 = 1#1), ∀ a, (k0_off180 v2705) a + S8x128.size a ≤ S7688x256.size a := fun arg0 v1 v2705 k0_hw90 k0_h1 => k0_hw90.2.2 k0_h1

def k0_mult91 (v2735 : BitVec 32) : BitVec 32 :=
  let c1_i32_650 : BitVec 32 := 1#32
  let v2755 : BitVec 32 := Scalar.shrsi v2735 c1_i32_650
  v2755

def k0_off181 (v2735 : BitVec 32) : Fin 2 → Nat :=
  let c1_i32_650 : BitVec 32 := 1#32
  let v2755 : BitVec 32 := Scalar.shrsi v2735 c1_i32_650
  let v2756 : BitVec 32 := v2755
  let v2757 : Index := Scalar.indexCast v2756
  let c0_651 : Index := 0#32
  ![v2757.toNat, 0]
def k0_off182 (v2735 : BitVec 32) : Fin 2 → Nat :=
  let c1_i32_650 : BitVec 32 := 1#32
  let v2755 : BitVec 32 := Scalar.shrsi v2735 c1_i32_650
  let v2756 : BitVec 32 := v2755
  let v2761 : Index := Scalar.indexCast v2756
  let c128_652 : Index := 128#32
  ![v2761.toNat, 128]

def k0_chk91 (arg0 : BitVec 32) (v1 : BitVec 32) (v2735 : BitVec 32) : Prop :=
  (∀ (k0_h1 : k0_cond1 arg0 v1 = 1#1), 8 ∣ (k0_mult91 v2735).toNat) ∧
  (∀ (k0_h1 : k0_cond1 arg0 v1 = 1#1), ∀ a, (k0_off181 v2735) a + S8x128.size a ≤ S7688x256.size a) ∧
  (∀ (k0_h1 : k0_cond1 arg0 v1 = 1#1), ∀ a, (k0_off182 v2735) a + S8x128.size a ≤ S7688x256.size a)
theorem k0_mult91_dvd : ∀ (arg0 : BitVec 32) (v1 : BitVec 32) (v2735 : BitVec 32) (k0_hw91 : k0_chk91 arg0 v1 v2735), ∀ (k0_h1 : k0_cond1 arg0 v1 = 1#1), 8 ∣ (k0_mult91 v2735).toNat := fun arg0 v1 v2735 k0_hw91 k0_h1 => k0_hw91.1 k0_h1
theorem k0_off181_inb : ∀ (arg0 : BitVec 32) (v1 : BitVec 32) (v2735 : BitVec 32) (k0_hw91 : k0_chk91 arg0 v1 v2735), ∀ (k0_h1 : k0_cond1 arg0 v1 = 1#1), ∀ a, (k0_off181 v2735) a + S8x128.size a ≤ S7688x256.size a := fun arg0 v1 v2735 k0_hw91 k0_h1 => k0_hw91.2.1 k0_h1
theorem k0_off182_inb : ∀ (arg0 : BitVec 32) (v1 : BitVec 32) (v2735 : BitVec 32) (k0_hw91 : k0_chk91 arg0 v1 v2735), ∀ (k0_h1 : k0_cond1 arg0 v1 = 1#1), ∀ a, (k0_off182 v2735) a + S8x128.size a ≤ S7688x256.size a := fun arg0 v1 v2735 k0_hw91 k0_h1 => k0_hw91.2.2 k0_h1

def k0_mult92 (v2765 : BitVec 32) : BitVec 32 :=
  let c1_i32_657 : BitVec 32 := 1#32
  let v2785 : BitVec 32 := Scalar.shrsi v2765 c1_i32_657
  v2785

def k0_off183 (v2765 : BitVec 32) : Fin 2 → Nat :=
  let c1_i32_657 : BitVec 32 := 1#32
  let v2785 : BitVec 32 := Scalar.shrsi v2765 c1_i32_657
  let v2786 : BitVec 32 := v2785
  let v2787 : Index := Scalar.indexCast v2786
  let c0_658 : Index := 0#32
  ![v2787.toNat, 0]
def k0_off184 (v2765 : BitVec 32) : Fin 2 → Nat :=
  let c1_i32_657 : BitVec 32 := 1#32
  let v2785 : BitVec 32 := Scalar.shrsi v2765 c1_i32_657
  let v2786 : BitVec 32 := v2785
  let v2791 : Index := Scalar.indexCast v2786
  let c128_659 : Index := 128#32
  ![v2791.toNat, 128]

def k0_chk92 (arg0 : BitVec 32) (v1 : BitVec 32) (v2765 : BitVec 32) : Prop :=
  (∀ (k0_h1 : k0_cond1 arg0 v1 = 1#1), 8 ∣ (k0_mult92 v2765).toNat) ∧
  (∀ (k0_h1 : k0_cond1 arg0 v1 = 1#1), ∀ a, (k0_off183 v2765) a + S8x128.size a ≤ S7688x256.size a) ∧
  (∀ (k0_h1 : k0_cond1 arg0 v1 = 1#1), ∀ a, (k0_off184 v2765) a + S8x128.size a ≤ S7688x256.size a)
theorem k0_mult92_dvd : ∀ (arg0 : BitVec 32) (v1 : BitVec 32) (v2765 : BitVec 32) (k0_hw92 : k0_chk92 arg0 v1 v2765), ∀ (k0_h1 : k0_cond1 arg0 v1 = 1#1), 8 ∣ (k0_mult92 v2765).toNat := fun arg0 v1 v2765 k0_hw92 k0_h1 => k0_hw92.1 k0_h1
theorem k0_off183_inb : ∀ (arg0 : BitVec 32) (v1 : BitVec 32) (v2765 : BitVec 32) (k0_hw92 : k0_chk92 arg0 v1 v2765), ∀ (k0_h1 : k0_cond1 arg0 v1 = 1#1), ∀ a, (k0_off183 v2765) a + S8x128.size a ≤ S7688x256.size a := fun arg0 v1 v2765 k0_hw92 k0_h1 => k0_hw92.2.1 k0_h1
theorem k0_off184_inb : ∀ (arg0 : BitVec 32) (v1 : BitVec 32) (v2765 : BitVec 32) (k0_hw92 : k0_chk92 arg0 v1 v2765), ∀ (k0_h1 : k0_cond1 arg0 v1 = 1#1), ∀ a, (k0_off184 v2765) a + S8x128.size a ≤ S7688x256.size a := fun arg0 v1 v2765 k0_hw92 k0_h1 => k0_hw92.2.2 k0_h1

def k0_mult93 (v2795 : BitVec 32) : BitVec 32 :=
  let c1_i32_664 : BitVec 32 := 1#32
  let v2815 : BitVec 32 := Scalar.shrsi v2795 c1_i32_664
  v2815

def k0_off185 (v2795 : BitVec 32) : Fin 2 → Nat :=
  let c1_i32_664 : BitVec 32 := 1#32
  let v2815 : BitVec 32 := Scalar.shrsi v2795 c1_i32_664
  let v2816 : BitVec 32 := v2815
  let v2817 : Index := Scalar.indexCast v2816
  let c0_665 : Index := 0#32
  ![v2817.toNat, 0]
def k0_off186 (v2795 : BitVec 32) : Fin 2 → Nat :=
  let c1_i32_664 : BitVec 32 := 1#32
  let v2815 : BitVec 32 := Scalar.shrsi v2795 c1_i32_664
  let v2816 : BitVec 32 := v2815
  let v2821 : Index := Scalar.indexCast v2816
  let c128_666 : Index := 128#32
  ![v2821.toNat, 128]

def k0_chk93 (arg0 : BitVec 32) (v1 : BitVec 32) (v2795 : BitVec 32) : Prop :=
  (∀ (k0_h1 : k0_cond1 arg0 v1 = 1#1), 8 ∣ (k0_mult93 v2795).toNat) ∧
  (∀ (k0_h1 : k0_cond1 arg0 v1 = 1#1), ∀ a, (k0_off185 v2795) a + S8x128.size a ≤ S7688x256.size a) ∧
  (∀ (k0_h1 : k0_cond1 arg0 v1 = 1#1), ∀ a, (k0_off186 v2795) a + S8x128.size a ≤ S7688x256.size a)
theorem k0_mult93_dvd : ∀ (arg0 : BitVec 32) (v1 : BitVec 32) (v2795 : BitVec 32) (k0_hw93 : k0_chk93 arg0 v1 v2795), ∀ (k0_h1 : k0_cond1 arg0 v1 = 1#1), 8 ∣ (k0_mult93 v2795).toNat := fun arg0 v1 v2795 k0_hw93 k0_h1 => k0_hw93.1 k0_h1
theorem k0_off185_inb : ∀ (arg0 : BitVec 32) (v1 : BitVec 32) (v2795 : BitVec 32) (k0_hw93 : k0_chk93 arg0 v1 v2795), ∀ (k0_h1 : k0_cond1 arg0 v1 = 1#1), ∀ a, (k0_off185 v2795) a + S8x128.size a ≤ S7688x256.size a := fun arg0 v1 v2795 k0_hw93 k0_h1 => k0_hw93.2.1 k0_h1
theorem k0_off186_inb : ∀ (arg0 : BitVec 32) (v1 : BitVec 32) (v2795 : BitVec 32) (k0_hw93 : k0_chk93 arg0 v1 v2795), ∀ (k0_h1 : k0_cond1 arg0 v1 = 1#1), ∀ a, (k0_off186 v2795) a + S8x128.size a ≤ S7688x256.size a := fun arg0 v1 v2795 k0_hw93 k0_h1 => k0_hw93.2.2 k0_h1

def k0_mult94 (v2825 : BitVec 32) : BitVec 32 :=
  let c1_i32_671 : BitVec 32 := 1#32
  let v2845 : BitVec 32 := Scalar.shrsi v2825 c1_i32_671
  v2845

def k0_off187 (v2825 : BitVec 32) : Fin 2 → Nat :=
  let c1_i32_671 : BitVec 32 := 1#32
  let v2845 : BitVec 32 := Scalar.shrsi v2825 c1_i32_671
  let v2846 : BitVec 32 := v2845
  let v2847 : Index := Scalar.indexCast v2846
  let c0_672 : Index := 0#32
  ![v2847.toNat, 0]
def k0_off188 (v2825 : BitVec 32) : Fin 2 → Nat :=
  let c1_i32_671 : BitVec 32 := 1#32
  let v2845 : BitVec 32 := Scalar.shrsi v2825 c1_i32_671
  let v2846 : BitVec 32 := v2845
  let v2851 : Index := Scalar.indexCast v2846
  let c128_673 : Index := 128#32
  ![v2851.toNat, 128]

def k0_chk94 (arg0 : BitVec 32) (v1 : BitVec 32) (v2825 : BitVec 32) : Prop :=
  (∀ (k0_h1 : k0_cond1 arg0 v1 = 1#1), 8 ∣ (k0_mult94 v2825).toNat) ∧
  (∀ (k0_h1 : k0_cond1 arg0 v1 = 1#1), ∀ a, (k0_off187 v2825) a + S8x128.size a ≤ S7688x256.size a) ∧
  (∀ (k0_h1 : k0_cond1 arg0 v1 = 1#1), ∀ a, (k0_off188 v2825) a + S8x128.size a ≤ S7688x256.size a)
theorem k0_mult94_dvd : ∀ (arg0 : BitVec 32) (v1 : BitVec 32) (v2825 : BitVec 32) (k0_hw94 : k0_chk94 arg0 v1 v2825), ∀ (k0_h1 : k0_cond1 arg0 v1 = 1#1), 8 ∣ (k0_mult94 v2825).toNat := fun arg0 v1 v2825 k0_hw94 k0_h1 => k0_hw94.1 k0_h1
theorem k0_off187_inb : ∀ (arg0 : BitVec 32) (v1 : BitVec 32) (v2825 : BitVec 32) (k0_hw94 : k0_chk94 arg0 v1 v2825), ∀ (k0_h1 : k0_cond1 arg0 v1 = 1#1), ∀ a, (k0_off187 v2825) a + S8x128.size a ≤ S7688x256.size a := fun arg0 v1 v2825 k0_hw94 k0_h1 => k0_hw94.2.1 k0_h1
theorem k0_off188_inb : ∀ (arg0 : BitVec 32) (v1 : BitVec 32) (v2825 : BitVec 32) (k0_hw94 : k0_chk94 arg0 v1 v2825), ∀ (k0_h1 : k0_cond1 arg0 v1 = 1#1), ∀ a, (k0_off188 v2825) a + S8x128.size a ≤ S7688x256.size a := fun arg0 v1 v2825 k0_hw94 k0_h1 => k0_hw94.2.2 k0_h1

def k0_mult95 (v2855 : BitVec 32) : BitVec 32 :=
  let c1_i32_678 : BitVec 32 := 1#32
  let v2875 : BitVec 32 := Scalar.shrsi v2855 c1_i32_678
  v2875

def k0_off189 (v2855 : BitVec 32) : Fin 2 → Nat :=
  let c1_i32_678 : BitVec 32 := 1#32
  let v2875 : BitVec 32 := Scalar.shrsi v2855 c1_i32_678
  let v2876 : BitVec 32 := v2875
  let v2877 : Index := Scalar.indexCast v2876
  let c0_679 : Index := 0#32
  ![v2877.toNat, 0]
def k0_off190 (v2855 : BitVec 32) : Fin 2 → Nat :=
  let c1_i32_678 : BitVec 32 := 1#32
  let v2875 : BitVec 32 := Scalar.shrsi v2855 c1_i32_678
  let v2876 : BitVec 32 := v2875
  let v2881 : Index := Scalar.indexCast v2876
  let c128_680 : Index := 128#32
  ![v2881.toNat, 128]

def k0_chk95 (arg0 : BitVec 32) (v1 : BitVec 32) (v2855 : BitVec 32) : Prop :=
  (∀ (k0_h1 : k0_cond1 arg0 v1 = 1#1), 8 ∣ (k0_mult95 v2855).toNat) ∧
  (∀ (k0_h1 : k0_cond1 arg0 v1 = 1#1), ∀ a, (k0_off189 v2855) a + S8x128.size a ≤ S7688x256.size a) ∧
  (∀ (k0_h1 : k0_cond1 arg0 v1 = 1#1), ∀ a, (k0_off190 v2855) a + S8x128.size a ≤ S7688x256.size a)
theorem k0_mult95_dvd : ∀ (arg0 : BitVec 32) (v1 : BitVec 32) (v2855 : BitVec 32) (k0_hw95 : k0_chk95 arg0 v1 v2855), ∀ (k0_h1 : k0_cond1 arg0 v1 = 1#1), 8 ∣ (k0_mult95 v2855).toNat := fun arg0 v1 v2855 k0_hw95 k0_h1 => k0_hw95.1 k0_h1
theorem k0_off189_inb : ∀ (arg0 : BitVec 32) (v1 : BitVec 32) (v2855 : BitVec 32) (k0_hw95 : k0_chk95 arg0 v1 v2855), ∀ (k0_h1 : k0_cond1 arg0 v1 = 1#1), ∀ a, (k0_off189 v2855) a + S8x128.size a ≤ S7688x256.size a := fun arg0 v1 v2855 k0_hw95 k0_h1 => k0_hw95.2.1 k0_h1
theorem k0_off190_inb : ∀ (arg0 : BitVec 32) (v1 : BitVec 32) (v2855 : BitVec 32) (k0_hw95 : k0_chk95 arg0 v1 v2855), ∀ (k0_h1 : k0_cond1 arg0 v1 = 1#1), ∀ a, (k0_off190 v2855) a + S8x128.size a ≤ S7688x256.size a := fun arg0 v1 v2855 k0_hw95 k0_h1 => k0_hw95.2.2 k0_h1

def k0_mult96 (v2885 : BitVec 32) : BitVec 32 :=
  let c1_i32_685 : BitVec 32 := 1#32
  let v2905 : BitVec 32 := Scalar.shrsi v2885 c1_i32_685
  v2905

def k0_off191 (v2885 : BitVec 32) : Fin 2 → Nat :=
  let c1_i32_685 : BitVec 32 := 1#32
  let v2905 : BitVec 32 := Scalar.shrsi v2885 c1_i32_685
  let v2906 : BitVec 32 := v2905
  let v2907 : Index := Scalar.indexCast v2906
  let c0_686 : Index := 0#32
  ![v2907.toNat, 0]
def k0_off192 (v2885 : BitVec 32) : Fin 2 → Nat :=
  let c1_i32_685 : BitVec 32 := 1#32
  let v2905 : BitVec 32 := Scalar.shrsi v2885 c1_i32_685
  let v2906 : BitVec 32 := v2905
  let v2911 : Index := Scalar.indexCast v2906
  let c128_687 : Index := 128#32
  ![v2911.toNat, 128]

def k0_chk96 (arg0 : BitVec 32) (v1 : BitVec 32) (v2885 : BitVec 32) : Prop :=
  (∀ (k0_h1 : k0_cond1 arg0 v1 = 1#1), 8 ∣ (k0_mult96 v2885).toNat) ∧
  (∀ (k0_h1 : k0_cond1 arg0 v1 = 1#1), ∀ a, (k0_off191 v2885) a + S8x128.size a ≤ S7688x256.size a) ∧
  (∀ (k0_h1 : k0_cond1 arg0 v1 = 1#1), ∀ a, (k0_off192 v2885) a + S8x128.size a ≤ S7688x256.size a)
theorem k0_mult96_dvd : ∀ (arg0 : BitVec 32) (v1 : BitVec 32) (v2885 : BitVec 32) (k0_hw96 : k0_chk96 arg0 v1 v2885), ∀ (k0_h1 : k0_cond1 arg0 v1 = 1#1), 8 ∣ (k0_mult96 v2885).toNat := fun arg0 v1 v2885 k0_hw96 k0_h1 => k0_hw96.1 k0_h1
theorem k0_off191_inb : ∀ (arg0 : BitVec 32) (v1 : BitVec 32) (v2885 : BitVec 32) (k0_hw96 : k0_chk96 arg0 v1 v2885), ∀ (k0_h1 : k0_cond1 arg0 v1 = 1#1), ∀ a, (k0_off191 v2885) a + S8x128.size a ≤ S7688x256.size a := fun arg0 v1 v2885 k0_hw96 k0_h1 => k0_hw96.2.1 k0_h1
theorem k0_off192_inb : ∀ (arg0 : BitVec 32) (v1 : BitVec 32) (v2885 : BitVec 32) (k0_hw96 : k0_chk96 arg0 v1 v2885), ∀ (k0_h1 : k0_cond1 arg0 v1 = 1#1), ∀ a, (k0_off192 v2885) a + S8x128.size a ≤ S7688x256.size a := fun arg0 v1 v2885 k0_hw96 k0_h1 => k0_hw96.2.2 k0_h1

def k0_mult97 (v2915 : BitVec 32) : BitVec 32 :=
  let c1_i32_692 : BitVec 32 := 1#32
  let v2935 : BitVec 32 := Scalar.shrsi v2915 c1_i32_692
  v2935

def k0_off193 (v2915 : BitVec 32) : Fin 2 → Nat :=
  let c1_i32_692 : BitVec 32 := 1#32
  let v2935 : BitVec 32 := Scalar.shrsi v2915 c1_i32_692
  let v2936 : BitVec 32 := v2935
  let v2937 : Index := Scalar.indexCast v2936
  let c0_693 : Index := 0#32
  ![v2937.toNat, 0]
def k0_off194 (v2915 : BitVec 32) : Fin 2 → Nat :=
  let c1_i32_692 : BitVec 32 := 1#32
  let v2935 : BitVec 32 := Scalar.shrsi v2915 c1_i32_692
  let v2936 : BitVec 32 := v2935
  let v2941 : Index := Scalar.indexCast v2936
  let c128_694 : Index := 128#32
  ![v2941.toNat, 128]

def k0_chk97 (arg0 : BitVec 32) (v1 : BitVec 32) (v2915 : BitVec 32) : Prop :=
  (∀ (k0_h1 : k0_cond1 arg0 v1 = 1#1), 8 ∣ (k0_mult97 v2915).toNat) ∧
  (∀ (k0_h1 : k0_cond1 arg0 v1 = 1#1), ∀ a, (k0_off193 v2915) a + S8x128.size a ≤ S7688x256.size a) ∧
  (∀ (k0_h1 : k0_cond1 arg0 v1 = 1#1), ∀ a, (k0_off194 v2915) a + S8x128.size a ≤ S7688x256.size a)
theorem k0_mult97_dvd : ∀ (arg0 : BitVec 32) (v1 : BitVec 32) (v2915 : BitVec 32) (k0_hw97 : k0_chk97 arg0 v1 v2915), ∀ (k0_h1 : k0_cond1 arg0 v1 = 1#1), 8 ∣ (k0_mult97 v2915).toNat := fun arg0 v1 v2915 k0_hw97 k0_h1 => k0_hw97.1 k0_h1
theorem k0_off193_inb : ∀ (arg0 : BitVec 32) (v1 : BitVec 32) (v2915 : BitVec 32) (k0_hw97 : k0_chk97 arg0 v1 v2915), ∀ (k0_h1 : k0_cond1 arg0 v1 = 1#1), ∀ a, (k0_off193 v2915) a + S8x128.size a ≤ S7688x256.size a := fun arg0 v1 v2915 k0_hw97 k0_h1 => k0_hw97.2.1 k0_h1
theorem k0_off194_inb : ∀ (arg0 : BitVec 32) (v1 : BitVec 32) (v2915 : BitVec 32) (k0_hw97 : k0_chk97 arg0 v1 v2915), ∀ (k0_h1 : k0_cond1 arg0 v1 = 1#1), ∀ a, (k0_off194 v2915) a + S8x128.size a ≤ S7688x256.size a := fun arg0 v1 v2915 k0_hw97 k0_h1 => k0_hw97.2.2 k0_h1

def k0_mult98 (v2945 : BitVec 32) : BitVec 32 :=
  let c1_i32_699 : BitVec 32 := 1#32
  let v2965 : BitVec 32 := Scalar.shrsi v2945 c1_i32_699
  v2965

def k0_off195 (v2945 : BitVec 32) : Fin 2 → Nat :=
  let c1_i32_699 : BitVec 32 := 1#32
  let v2965 : BitVec 32 := Scalar.shrsi v2945 c1_i32_699
  let v2966 : BitVec 32 := v2965
  let v2967 : Index := Scalar.indexCast v2966
  let c0_700 : Index := 0#32
  ![v2967.toNat, 0]
def k0_off196 (v2945 : BitVec 32) : Fin 2 → Nat :=
  let c1_i32_699 : BitVec 32 := 1#32
  let v2965 : BitVec 32 := Scalar.shrsi v2945 c1_i32_699
  let v2966 : BitVec 32 := v2965
  let v2971 : Index := Scalar.indexCast v2966
  let c128_701 : Index := 128#32
  ![v2971.toNat, 128]

def k0_chk98 (arg0 : BitVec 32) (v1 : BitVec 32) (v2945 : BitVec 32) : Prop :=
  (∀ (k0_h1 : k0_cond1 arg0 v1 = 1#1), 8 ∣ (k0_mult98 v2945).toNat) ∧
  (∀ (k0_h1 : k0_cond1 arg0 v1 = 1#1), ∀ a, (k0_off195 v2945) a + S8x128.size a ≤ S7688x256.size a) ∧
  (∀ (k0_h1 : k0_cond1 arg0 v1 = 1#1), ∀ a, (k0_off196 v2945) a + S8x128.size a ≤ S7688x256.size a)
theorem k0_mult98_dvd : ∀ (arg0 : BitVec 32) (v1 : BitVec 32) (v2945 : BitVec 32) (k0_hw98 : k0_chk98 arg0 v1 v2945), ∀ (k0_h1 : k0_cond1 arg0 v1 = 1#1), 8 ∣ (k0_mult98 v2945).toNat := fun arg0 v1 v2945 k0_hw98 k0_h1 => k0_hw98.1 k0_h1
theorem k0_off195_inb : ∀ (arg0 : BitVec 32) (v1 : BitVec 32) (v2945 : BitVec 32) (k0_hw98 : k0_chk98 arg0 v1 v2945), ∀ (k0_h1 : k0_cond1 arg0 v1 = 1#1), ∀ a, (k0_off195 v2945) a + S8x128.size a ≤ S7688x256.size a := fun arg0 v1 v2945 k0_hw98 k0_h1 => k0_hw98.2.1 k0_h1
theorem k0_off196_inb : ∀ (arg0 : BitVec 32) (v1 : BitVec 32) (v2945 : BitVec 32) (k0_hw98 : k0_chk98 arg0 v1 v2945), ∀ (k0_h1 : k0_cond1 arg0 v1 = 1#1), ∀ a, (k0_off196 v2945) a + S8x128.size a ≤ S7688x256.size a := fun arg0 v1 v2945 k0_hw98 k0_h1 => k0_hw98.2.2 k0_h1

def k0_mult99 (v2975 : BitVec 32) : BitVec 32 :=
  let c1_i32_706 : BitVec 32 := 1#32
  let v2995 : BitVec 32 := Scalar.shrsi v2975 c1_i32_706
  v2995

def k0_off197 (v2975 : BitVec 32) : Fin 2 → Nat :=
  let c1_i32_706 : BitVec 32 := 1#32
  let v2995 : BitVec 32 := Scalar.shrsi v2975 c1_i32_706
  let v2996 : BitVec 32 := v2995
  let v2997 : Index := Scalar.indexCast v2996
  let c0_707 : Index := 0#32
  ![v2997.toNat, 0]
def k0_off198 (v2975 : BitVec 32) : Fin 2 → Nat :=
  let c1_i32_706 : BitVec 32 := 1#32
  let v2995 : BitVec 32 := Scalar.shrsi v2975 c1_i32_706
  let v2996 : BitVec 32 := v2995
  let v3001 : Index := Scalar.indexCast v2996
  let c128_708 : Index := 128#32
  ![v3001.toNat, 128]

def k0_chk99 (arg0 : BitVec 32) (v1 : BitVec 32) (v2975 : BitVec 32) : Prop :=
  (∀ (k0_h1 : k0_cond1 arg0 v1 = 1#1), 8 ∣ (k0_mult99 v2975).toNat) ∧
  (∀ (k0_h1 : k0_cond1 arg0 v1 = 1#1), ∀ a, (k0_off197 v2975) a + S8x128.size a ≤ S7688x256.size a) ∧
  (∀ (k0_h1 : k0_cond1 arg0 v1 = 1#1), ∀ a, (k0_off198 v2975) a + S8x128.size a ≤ S7688x256.size a)
theorem k0_mult99_dvd : ∀ (arg0 : BitVec 32) (v1 : BitVec 32) (v2975 : BitVec 32) (k0_hw99 : k0_chk99 arg0 v1 v2975), ∀ (k0_h1 : k0_cond1 arg0 v1 = 1#1), 8 ∣ (k0_mult99 v2975).toNat := fun arg0 v1 v2975 k0_hw99 k0_h1 => k0_hw99.1 k0_h1
theorem k0_off197_inb : ∀ (arg0 : BitVec 32) (v1 : BitVec 32) (v2975 : BitVec 32) (k0_hw99 : k0_chk99 arg0 v1 v2975), ∀ (k0_h1 : k0_cond1 arg0 v1 = 1#1), ∀ a, (k0_off197 v2975) a + S8x128.size a ≤ S7688x256.size a := fun arg0 v1 v2975 k0_hw99 k0_h1 => k0_hw99.2.1 k0_h1
theorem k0_off198_inb : ∀ (arg0 : BitVec 32) (v1 : BitVec 32) (v2975 : BitVec 32) (k0_hw99 : k0_chk99 arg0 v1 v2975), ∀ (k0_h1 : k0_cond1 arg0 v1 = 1#1), ∀ a, (k0_off198 v2975) a + S8x128.size a ≤ S7688x256.size a := fun arg0 v1 v2975 k0_hw99 k0_h1 => k0_hw99.2.2 k0_h1

def k0_mult100 (v3005 : BitVec 32) : BitVec 32 :=
  let c1_i32_713 : BitVec 32 := 1#32
  let v3025 : BitVec 32 := Scalar.shrsi v3005 c1_i32_713
  v3025

def k0_off199 (v3005 : BitVec 32) : Fin 2 → Nat :=
  let c1_i32_713 : BitVec 32 := 1#32
  let v3025 : BitVec 32 := Scalar.shrsi v3005 c1_i32_713
  let v3026 : BitVec 32 := v3025
  let v3027 : Index := Scalar.indexCast v3026
  let c0_714 : Index := 0#32
  ![v3027.toNat, 0]
def k0_off200 (v3005 : BitVec 32) : Fin 2 → Nat :=
  let c1_i32_713 : BitVec 32 := 1#32
  let v3025 : BitVec 32 := Scalar.shrsi v3005 c1_i32_713
  let v3026 : BitVec 32 := v3025
  let v3031 : Index := Scalar.indexCast v3026
  let c128_715 : Index := 128#32
  ![v3031.toNat, 128]

def k0_chk100 (arg0 : BitVec 32) (v1 : BitVec 32) (v3005 : BitVec 32) : Prop :=
  (∀ (k0_h1 : k0_cond1 arg0 v1 = 1#1), 8 ∣ (k0_mult100 v3005).toNat) ∧
  (∀ (k0_h1 : k0_cond1 arg0 v1 = 1#1), ∀ a, (k0_off199 v3005) a + S8x128.size a ≤ S7688x256.size a) ∧
  (∀ (k0_h1 : k0_cond1 arg0 v1 = 1#1), ∀ a, (k0_off200 v3005) a + S8x128.size a ≤ S7688x256.size a)
theorem k0_mult100_dvd : ∀ (arg0 : BitVec 32) (v1 : BitVec 32) (v3005 : BitVec 32) (k0_hw100 : k0_chk100 arg0 v1 v3005), ∀ (k0_h1 : k0_cond1 arg0 v1 = 1#1), 8 ∣ (k0_mult100 v3005).toNat := fun arg0 v1 v3005 k0_hw100 k0_h1 => k0_hw100.1 k0_h1
theorem k0_off199_inb : ∀ (arg0 : BitVec 32) (v1 : BitVec 32) (v3005 : BitVec 32) (k0_hw100 : k0_chk100 arg0 v1 v3005), ∀ (k0_h1 : k0_cond1 arg0 v1 = 1#1), ∀ a, (k0_off199 v3005) a + S8x128.size a ≤ S7688x256.size a := fun arg0 v1 v3005 k0_hw100 k0_h1 => k0_hw100.2.1 k0_h1
theorem k0_off200_inb : ∀ (arg0 : BitVec 32) (v1 : BitVec 32) (v3005 : BitVec 32) (k0_hw100 : k0_chk100 arg0 v1 v3005), ∀ (k0_h1 : k0_cond1 arg0 v1 = 1#1), ∀ a, (k0_off200 v3005) a + S8x128.size a ≤ S7688x256.size a := fun arg0 v1 v3005 k0_hw100 k0_h1 => k0_hw100.2.2 k0_h1

def k0_mult101 (v3035 : BitVec 32) : BitVec 32 :=
  let c1_i32_720 : BitVec 32 := 1#32
  let v3055 : BitVec 32 := Scalar.shrsi v3035 c1_i32_720
  v3055

def k0_off201 (v3035 : BitVec 32) : Fin 2 → Nat :=
  let c1_i32_720 : BitVec 32 := 1#32
  let v3055 : BitVec 32 := Scalar.shrsi v3035 c1_i32_720
  let v3056 : BitVec 32 := v3055
  let v3057 : Index := Scalar.indexCast v3056
  let c0_721 : Index := 0#32
  ![v3057.toNat, 0]
def k0_off202 (v3035 : BitVec 32) : Fin 2 → Nat :=
  let c1_i32_720 : BitVec 32 := 1#32
  let v3055 : BitVec 32 := Scalar.shrsi v3035 c1_i32_720
  let v3056 : BitVec 32 := v3055
  let v3061 : Index := Scalar.indexCast v3056
  let c128_722 : Index := 128#32
  ![v3061.toNat, 128]

def k0_chk101 (arg0 : BitVec 32) (v1 : BitVec 32) (v3035 : BitVec 32) : Prop :=
  (∀ (k0_h1 : k0_cond1 arg0 v1 = 1#1), 8 ∣ (k0_mult101 v3035).toNat) ∧
  (∀ (k0_h1 : k0_cond1 arg0 v1 = 1#1), ∀ a, (k0_off201 v3035) a + S8x128.size a ≤ S7688x256.size a) ∧
  (∀ (k0_h1 : k0_cond1 arg0 v1 = 1#1), ∀ a, (k0_off202 v3035) a + S8x128.size a ≤ S7688x256.size a)
theorem k0_mult101_dvd : ∀ (arg0 : BitVec 32) (v1 : BitVec 32) (v3035 : BitVec 32) (k0_hw101 : k0_chk101 arg0 v1 v3035), ∀ (k0_h1 : k0_cond1 arg0 v1 = 1#1), 8 ∣ (k0_mult101 v3035).toNat := fun arg0 v1 v3035 k0_hw101 k0_h1 => k0_hw101.1 k0_h1
theorem k0_off201_inb : ∀ (arg0 : BitVec 32) (v1 : BitVec 32) (v3035 : BitVec 32) (k0_hw101 : k0_chk101 arg0 v1 v3035), ∀ (k0_h1 : k0_cond1 arg0 v1 = 1#1), ∀ a, (k0_off201 v3035) a + S8x128.size a ≤ S7688x256.size a := fun arg0 v1 v3035 k0_hw101 k0_h1 => k0_hw101.2.1 k0_h1
theorem k0_off202_inb : ∀ (arg0 : BitVec 32) (v1 : BitVec 32) (v3035 : BitVec 32) (k0_hw101 : k0_chk101 arg0 v1 v3035), ∀ (k0_h1 : k0_cond1 arg0 v1 = 1#1), ∀ a, (k0_off202 v3035) a + S8x128.size a ≤ S7688x256.size a := fun arg0 v1 v3035 k0_hw101 k0_h1 => k0_hw101.2.2 k0_h1

def k0_mult102 (v3065 : BitVec 32) : BitVec 32 :=
  let c1_i32_727 : BitVec 32 := 1#32
  let v3085 : BitVec 32 := Scalar.shrsi v3065 c1_i32_727
  v3085

def k0_off203 (v3065 : BitVec 32) : Fin 2 → Nat :=
  let c1_i32_727 : BitVec 32 := 1#32
  let v3085 : BitVec 32 := Scalar.shrsi v3065 c1_i32_727
  let v3086 : BitVec 32 := v3085
  let v3087 : Index := Scalar.indexCast v3086
  let c0_728 : Index := 0#32
  ![v3087.toNat, 0]
def k0_off204 (v3065 : BitVec 32) : Fin 2 → Nat :=
  let c1_i32_727 : BitVec 32 := 1#32
  let v3085 : BitVec 32 := Scalar.shrsi v3065 c1_i32_727
  let v3086 : BitVec 32 := v3085
  let v3091 : Index := Scalar.indexCast v3086
  let c128_729 : Index := 128#32
  ![v3091.toNat, 128]

def k0_chk102 (arg0 : BitVec 32) (v1 : BitVec 32) (v3065 : BitVec 32) : Prop :=
  (∀ (k0_h1 : k0_cond1 arg0 v1 = 1#1), 8 ∣ (k0_mult102 v3065).toNat) ∧
  (∀ (k0_h1 : k0_cond1 arg0 v1 = 1#1), ∀ a, (k0_off203 v3065) a + S8x128.size a ≤ S7688x256.size a) ∧
  (∀ (k0_h1 : k0_cond1 arg0 v1 = 1#1), ∀ a, (k0_off204 v3065) a + S8x128.size a ≤ S7688x256.size a)
theorem k0_mult102_dvd : ∀ (arg0 : BitVec 32) (v1 : BitVec 32) (v3065 : BitVec 32) (k0_hw102 : k0_chk102 arg0 v1 v3065), ∀ (k0_h1 : k0_cond1 arg0 v1 = 1#1), 8 ∣ (k0_mult102 v3065).toNat := fun arg0 v1 v3065 k0_hw102 k0_h1 => k0_hw102.1 k0_h1
theorem k0_off203_inb : ∀ (arg0 : BitVec 32) (v1 : BitVec 32) (v3065 : BitVec 32) (k0_hw102 : k0_chk102 arg0 v1 v3065), ∀ (k0_h1 : k0_cond1 arg0 v1 = 1#1), ∀ a, (k0_off203 v3065) a + S8x128.size a ≤ S7688x256.size a := fun arg0 v1 v3065 k0_hw102 k0_h1 => k0_hw102.2.1 k0_h1
theorem k0_off204_inb : ∀ (arg0 : BitVec 32) (v1 : BitVec 32) (v3065 : BitVec 32) (k0_hw102 : k0_chk102 arg0 v1 v3065), ∀ (k0_h1 : k0_cond1 arg0 v1 = 1#1), ∀ a, (k0_off204 v3065) a + S8x128.size a ≤ S7688x256.size a := fun arg0 v1 v3065 k0_hw102 k0_h1 => k0_hw102.2.2 k0_h1

def k0_mult103 (v3095 : BitVec 32) : BitVec 32 :=
  let c1_i32_734 : BitVec 32 := 1#32
  let v3115 : BitVec 32 := Scalar.shrsi v3095 c1_i32_734
  v3115

def k0_off205 (v3095 : BitVec 32) : Fin 2 → Nat :=
  let c1_i32_734 : BitVec 32 := 1#32
  let v3115 : BitVec 32 := Scalar.shrsi v3095 c1_i32_734
  let v3116 : BitVec 32 := v3115
  let v3117 : Index := Scalar.indexCast v3116
  let c0_735 : Index := 0#32
  ![v3117.toNat, 0]
def k0_off206 (v3095 : BitVec 32) : Fin 2 → Nat :=
  let c1_i32_734 : BitVec 32 := 1#32
  let v3115 : BitVec 32 := Scalar.shrsi v3095 c1_i32_734
  let v3116 : BitVec 32 := v3115
  let v3121 : Index := Scalar.indexCast v3116
  let c128_736 : Index := 128#32
  ![v3121.toNat, 128]

def k0_chk103 (arg0 : BitVec 32) (v1 : BitVec 32) (v3095 : BitVec 32) : Prop :=
  (∀ (k0_h1 : k0_cond1 arg0 v1 = 1#1), 8 ∣ (k0_mult103 v3095).toNat) ∧
  (∀ (k0_h1 : k0_cond1 arg0 v1 = 1#1), ∀ a, (k0_off205 v3095) a + S8x128.size a ≤ S7688x256.size a) ∧
  (∀ (k0_h1 : k0_cond1 arg0 v1 = 1#1), ∀ a, (k0_off206 v3095) a + S8x128.size a ≤ S7688x256.size a)
theorem k0_mult103_dvd : ∀ (arg0 : BitVec 32) (v1 : BitVec 32) (v3095 : BitVec 32) (k0_hw103 : k0_chk103 arg0 v1 v3095), ∀ (k0_h1 : k0_cond1 arg0 v1 = 1#1), 8 ∣ (k0_mult103 v3095).toNat := fun arg0 v1 v3095 k0_hw103 k0_h1 => k0_hw103.1 k0_h1
theorem k0_off205_inb : ∀ (arg0 : BitVec 32) (v1 : BitVec 32) (v3095 : BitVec 32) (k0_hw103 : k0_chk103 arg0 v1 v3095), ∀ (k0_h1 : k0_cond1 arg0 v1 = 1#1), ∀ a, (k0_off205 v3095) a + S8x128.size a ≤ S7688x256.size a := fun arg0 v1 v3095 k0_hw103 k0_h1 => k0_hw103.2.1 k0_h1
theorem k0_off206_inb : ∀ (arg0 : BitVec 32) (v1 : BitVec 32) (v3095 : BitVec 32) (k0_hw103 : k0_chk103 arg0 v1 v3095), ∀ (k0_h1 : k0_cond1 arg0 v1 = 1#1), ∀ a, (k0_off206 v3095) a + S8x128.size a ≤ S7688x256.size a := fun arg0 v1 v3095 k0_hw103 k0_h1 => k0_hw103.2.2 k0_h1

def k0_mult104 (v3125 : BitVec 32) : BitVec 32 :=
  let c1_i32_741 : BitVec 32 := 1#32
  let v3145 : BitVec 32 := Scalar.shrsi v3125 c1_i32_741
  v3145

def k0_off207 (v3125 : BitVec 32) : Fin 2 → Nat :=
  let c1_i32_741 : BitVec 32 := 1#32
  let v3145 : BitVec 32 := Scalar.shrsi v3125 c1_i32_741
  let v3146 : BitVec 32 := v3145
  let v3147 : Index := Scalar.indexCast v3146
  let c0_742 : Index := 0#32
  ![v3147.toNat, 0]
def k0_off208 (v3125 : BitVec 32) : Fin 2 → Nat :=
  let c1_i32_741 : BitVec 32 := 1#32
  let v3145 : BitVec 32 := Scalar.shrsi v3125 c1_i32_741
  let v3146 : BitVec 32 := v3145
  let v3151 : Index := Scalar.indexCast v3146
  let c128_743 : Index := 128#32
  ![v3151.toNat, 128]

def k0_chk104 (arg0 : BitVec 32) (v1 : BitVec 32) (v3125 : BitVec 32) : Prop :=
  (∀ (k0_h1 : k0_cond1 arg0 v1 = 1#1), 8 ∣ (k0_mult104 v3125).toNat) ∧
  (∀ (k0_h1 : k0_cond1 arg0 v1 = 1#1), ∀ a, (k0_off207 v3125) a + S8x128.size a ≤ S7688x256.size a) ∧
  (∀ (k0_h1 : k0_cond1 arg0 v1 = 1#1), ∀ a, (k0_off208 v3125) a + S8x128.size a ≤ S7688x256.size a)
theorem k0_mult104_dvd : ∀ (arg0 : BitVec 32) (v1 : BitVec 32) (v3125 : BitVec 32) (k0_hw104 : k0_chk104 arg0 v1 v3125), ∀ (k0_h1 : k0_cond1 arg0 v1 = 1#1), 8 ∣ (k0_mult104 v3125).toNat := fun arg0 v1 v3125 k0_hw104 k0_h1 => k0_hw104.1 k0_h1
theorem k0_off207_inb : ∀ (arg0 : BitVec 32) (v1 : BitVec 32) (v3125 : BitVec 32) (k0_hw104 : k0_chk104 arg0 v1 v3125), ∀ (k0_h1 : k0_cond1 arg0 v1 = 1#1), ∀ a, (k0_off207 v3125) a + S8x128.size a ≤ S7688x256.size a := fun arg0 v1 v3125 k0_hw104 k0_h1 => k0_hw104.2.1 k0_h1
theorem k0_off208_inb : ∀ (arg0 : BitVec 32) (v1 : BitVec 32) (v3125 : BitVec 32) (k0_hw104 : k0_chk104 arg0 v1 v3125), ∀ (k0_h1 : k0_cond1 arg0 v1 = 1#1), ∀ a, (k0_off208 v3125) a + S8x128.size a ≤ S7688x256.size a := fun arg0 v1 v3125 k0_hw104 k0_h1 => k0_hw104.2.2 k0_h1

def k0_mult105 (v3155 : BitVec 32) : BitVec 32 :=
  let c1_i32_748 : BitVec 32 := 1#32
  let v3175 : BitVec 32 := Scalar.shrsi v3155 c1_i32_748
  v3175

def k0_off209 (v3155 : BitVec 32) : Fin 2 → Nat :=
  let c1_i32_748 : BitVec 32 := 1#32
  let v3175 : BitVec 32 := Scalar.shrsi v3155 c1_i32_748
  let v3176 : BitVec 32 := v3175
  let v3177 : Index := Scalar.indexCast v3176
  let c0_749 : Index := 0#32
  ![v3177.toNat, 0]
def k0_off210 (v3155 : BitVec 32) : Fin 2 → Nat :=
  let c1_i32_748 : BitVec 32 := 1#32
  let v3175 : BitVec 32 := Scalar.shrsi v3155 c1_i32_748
  let v3176 : BitVec 32 := v3175
  let v3181 : Index := Scalar.indexCast v3176
  let c128_750 : Index := 128#32
  ![v3181.toNat, 128]

def k0_chk105 (arg0 : BitVec 32) (v1 : BitVec 32) (v3155 : BitVec 32) : Prop :=
  (∀ (k0_h1 : k0_cond1 arg0 v1 = 1#1), 8 ∣ (k0_mult105 v3155).toNat) ∧
  (∀ (k0_h1 : k0_cond1 arg0 v1 = 1#1), ∀ a, (k0_off209 v3155) a + S8x128.size a ≤ S7688x256.size a) ∧
  (∀ (k0_h1 : k0_cond1 arg0 v1 = 1#1), ∀ a, (k0_off210 v3155) a + S8x128.size a ≤ S7688x256.size a)
theorem k0_mult105_dvd : ∀ (arg0 : BitVec 32) (v1 : BitVec 32) (v3155 : BitVec 32) (k0_hw105 : k0_chk105 arg0 v1 v3155), ∀ (k0_h1 : k0_cond1 arg0 v1 = 1#1), 8 ∣ (k0_mult105 v3155).toNat := fun arg0 v1 v3155 k0_hw105 k0_h1 => k0_hw105.1 k0_h1
theorem k0_off209_inb : ∀ (arg0 : BitVec 32) (v1 : BitVec 32) (v3155 : BitVec 32) (k0_hw105 : k0_chk105 arg0 v1 v3155), ∀ (k0_h1 : k0_cond1 arg0 v1 = 1#1), ∀ a, (k0_off209 v3155) a + S8x128.size a ≤ S7688x256.size a := fun arg0 v1 v3155 k0_hw105 k0_h1 => k0_hw105.2.1 k0_h1
theorem k0_off210_inb : ∀ (arg0 : BitVec 32) (v1 : BitVec 32) (v3155 : BitVec 32) (k0_hw105 : k0_chk105 arg0 v1 v3155), ∀ (k0_h1 : k0_cond1 arg0 v1 = 1#1), ∀ a, (k0_off210 v3155) a + S8x128.size a ≤ S7688x256.size a := fun arg0 v1 v3155 k0_hw105 k0_h1 => k0_hw105.2.2 k0_h1

def k0_mult106 (v3185 : BitVec 32) : BitVec 32 :=
  let c1_i32_755 : BitVec 32 := 1#32
  let v3205 : BitVec 32 := Scalar.shrsi v3185 c1_i32_755
  v3205

def k0_off211 (v3185 : BitVec 32) : Fin 2 → Nat :=
  let c1_i32_755 : BitVec 32 := 1#32
  let v3205 : BitVec 32 := Scalar.shrsi v3185 c1_i32_755
  let v3206 : BitVec 32 := v3205
  let v3207 : Index := Scalar.indexCast v3206
  let c0_756 : Index := 0#32
  ![v3207.toNat, 0]
def k0_off212 (v3185 : BitVec 32) : Fin 2 → Nat :=
  let c1_i32_755 : BitVec 32 := 1#32
  let v3205 : BitVec 32 := Scalar.shrsi v3185 c1_i32_755
  let v3206 : BitVec 32 := v3205
  let v3211 : Index := Scalar.indexCast v3206
  let c128_757 : Index := 128#32
  ![v3211.toNat, 128]

def k0_chk106 (arg0 : BitVec 32) (v1 : BitVec 32) (v3185 : BitVec 32) : Prop :=
  (∀ (k0_h1 : k0_cond1 arg0 v1 = 1#1), 8 ∣ (k0_mult106 v3185).toNat) ∧
  (∀ (k0_h1 : k0_cond1 arg0 v1 = 1#1), ∀ a, (k0_off211 v3185) a + S8x128.size a ≤ S7688x256.size a) ∧
  (∀ (k0_h1 : k0_cond1 arg0 v1 = 1#1), ∀ a, (k0_off212 v3185) a + S8x128.size a ≤ S7688x256.size a)
theorem k0_mult106_dvd : ∀ (arg0 : BitVec 32) (v1 : BitVec 32) (v3185 : BitVec 32) (k0_hw106 : k0_chk106 arg0 v1 v3185), ∀ (k0_h1 : k0_cond1 arg0 v1 = 1#1), 8 ∣ (k0_mult106 v3185).toNat := fun arg0 v1 v3185 k0_hw106 k0_h1 => k0_hw106.1 k0_h1
theorem k0_off211_inb : ∀ (arg0 : BitVec 32) (v1 : BitVec 32) (v3185 : BitVec 32) (k0_hw106 : k0_chk106 arg0 v1 v3185), ∀ (k0_h1 : k0_cond1 arg0 v1 = 1#1), ∀ a, (k0_off211 v3185) a + S8x128.size a ≤ S7688x256.size a := fun arg0 v1 v3185 k0_hw106 k0_h1 => k0_hw106.2.1 k0_h1
theorem k0_off212_inb : ∀ (arg0 : BitVec 32) (v1 : BitVec 32) (v3185 : BitVec 32) (k0_hw106 : k0_chk106 arg0 v1 v3185), ∀ (k0_h1 : k0_cond1 arg0 v1 = 1#1), ∀ a, (k0_off212 v3185) a + S8x128.size a ≤ S7688x256.size a := fun arg0 v1 v3185 k0_hw106 k0_h1 => k0_hw106.2.2 k0_h1

def k0_mult107 (v3215 : BitVec 32) : BitVec 32 :=
  let c1_i32_762 : BitVec 32 := 1#32
  let v3235 : BitVec 32 := Scalar.shrsi v3215 c1_i32_762
  v3235

def k0_off213 (v3215 : BitVec 32) : Fin 2 → Nat :=
  let c1_i32_762 : BitVec 32 := 1#32
  let v3235 : BitVec 32 := Scalar.shrsi v3215 c1_i32_762
  let v3236 : BitVec 32 := v3235
  let v3237 : Index := Scalar.indexCast v3236
  let c0_763 : Index := 0#32
  ![v3237.toNat, 0]
def k0_off214 (v3215 : BitVec 32) : Fin 2 → Nat :=
  let c1_i32_762 : BitVec 32 := 1#32
  let v3235 : BitVec 32 := Scalar.shrsi v3215 c1_i32_762
  let v3236 : BitVec 32 := v3235
  let v3241 : Index := Scalar.indexCast v3236
  let c128_764 : Index := 128#32
  ![v3241.toNat, 128]

def k0_chk107 (arg0 : BitVec 32) (v1 : BitVec 32) (v3215 : BitVec 32) : Prop :=
  (∀ (k0_h1 : k0_cond1 arg0 v1 = 1#1), 8 ∣ (k0_mult107 v3215).toNat) ∧
  (∀ (k0_h1 : k0_cond1 arg0 v1 = 1#1), ∀ a, (k0_off213 v3215) a + S8x128.size a ≤ S7688x256.size a) ∧
  (∀ (k0_h1 : k0_cond1 arg0 v1 = 1#1), ∀ a, (k0_off214 v3215) a + S8x128.size a ≤ S7688x256.size a)
theorem k0_mult107_dvd : ∀ (arg0 : BitVec 32) (v1 : BitVec 32) (v3215 : BitVec 32) (k0_hw107 : k0_chk107 arg0 v1 v3215), ∀ (k0_h1 : k0_cond1 arg0 v1 = 1#1), 8 ∣ (k0_mult107 v3215).toNat := fun arg0 v1 v3215 k0_hw107 k0_h1 => k0_hw107.1 k0_h1
theorem k0_off213_inb : ∀ (arg0 : BitVec 32) (v1 : BitVec 32) (v3215 : BitVec 32) (k0_hw107 : k0_chk107 arg0 v1 v3215), ∀ (k0_h1 : k0_cond1 arg0 v1 = 1#1), ∀ a, (k0_off213 v3215) a + S8x128.size a ≤ S7688x256.size a := fun arg0 v1 v3215 k0_hw107 k0_h1 => k0_hw107.2.1 k0_h1
theorem k0_off214_inb : ∀ (arg0 : BitVec 32) (v1 : BitVec 32) (v3215 : BitVec 32) (k0_hw107 : k0_chk107 arg0 v1 v3215), ∀ (k0_h1 : k0_cond1 arg0 v1 = 1#1), ∀ a, (k0_off214 v3215) a + S8x128.size a ≤ S7688x256.size a := fun arg0 v1 v3215 k0_hw107 k0_h1 => k0_hw107.2.2 k0_h1

def k0_mult108 (v3245 : BitVec 32) : BitVec 32 :=
  let c1_i32_769 : BitVec 32 := 1#32
  let v3265 : BitVec 32 := Scalar.shrsi v3245 c1_i32_769
  v3265

def k0_off215 (v3245 : BitVec 32) : Fin 2 → Nat :=
  let c1_i32_769 : BitVec 32 := 1#32
  let v3265 : BitVec 32 := Scalar.shrsi v3245 c1_i32_769
  let v3266 : BitVec 32 := v3265
  let v3267 : Index := Scalar.indexCast v3266
  let c0_770 : Index := 0#32
  ![v3267.toNat, 0]
def k0_off216 (v3245 : BitVec 32) : Fin 2 → Nat :=
  let c1_i32_769 : BitVec 32 := 1#32
  let v3265 : BitVec 32 := Scalar.shrsi v3245 c1_i32_769
  let v3266 : BitVec 32 := v3265
  let v3271 : Index := Scalar.indexCast v3266
  let c128_771 : Index := 128#32
  ![v3271.toNat, 128]

def k0_chk108 (arg0 : BitVec 32) (v1 : BitVec 32) (v3245 : BitVec 32) : Prop :=
  (∀ (k0_h1 : k0_cond1 arg0 v1 = 1#1), 8 ∣ (k0_mult108 v3245).toNat) ∧
  (∀ (k0_h1 : k0_cond1 arg0 v1 = 1#1), ∀ a, (k0_off215 v3245) a + S8x128.size a ≤ S7688x256.size a) ∧
  (∀ (k0_h1 : k0_cond1 arg0 v1 = 1#1), ∀ a, (k0_off216 v3245) a + S8x128.size a ≤ S7688x256.size a)
theorem k0_mult108_dvd : ∀ (arg0 : BitVec 32) (v1 : BitVec 32) (v3245 : BitVec 32) (k0_hw108 : k0_chk108 arg0 v1 v3245), ∀ (k0_h1 : k0_cond1 arg0 v1 = 1#1), 8 ∣ (k0_mult108 v3245).toNat := fun arg0 v1 v3245 k0_hw108 k0_h1 => k0_hw108.1 k0_h1
theorem k0_off215_inb : ∀ (arg0 : BitVec 32) (v1 : BitVec 32) (v3245 : BitVec 32) (k0_hw108 : k0_chk108 arg0 v1 v3245), ∀ (k0_h1 : k0_cond1 arg0 v1 = 1#1), ∀ a, (k0_off215 v3245) a + S8x128.size a ≤ S7688x256.size a := fun arg0 v1 v3245 k0_hw108 k0_h1 => k0_hw108.2.1 k0_h1
theorem k0_off216_inb : ∀ (arg0 : BitVec 32) (v1 : BitVec 32) (v3245 : BitVec 32) (k0_hw108 : k0_chk108 arg0 v1 v3245), ∀ (k0_h1 : k0_cond1 arg0 v1 = 1#1), ∀ a, (k0_off216 v3245) a + S8x128.size a ≤ S7688x256.size a := fun arg0 v1 v3245 k0_hw108 k0_h1 => k0_hw108.2.2 k0_h1

def k0_mult109 (v3275 : BitVec 32) : BitVec 32 :=
  let c1_i32_776 : BitVec 32 := 1#32
  let v3295 : BitVec 32 := Scalar.shrsi v3275 c1_i32_776
  v3295

def k0_off217 (v3275 : BitVec 32) : Fin 2 → Nat :=
  let c1_i32_776 : BitVec 32 := 1#32
  let v3295 : BitVec 32 := Scalar.shrsi v3275 c1_i32_776
  let v3296 : BitVec 32 := v3295
  let v3297 : Index := Scalar.indexCast v3296
  let c0_777 : Index := 0#32
  ![v3297.toNat, 0]
def k0_off218 (v3275 : BitVec 32) : Fin 2 → Nat :=
  let c1_i32_776 : BitVec 32 := 1#32
  let v3295 : BitVec 32 := Scalar.shrsi v3275 c1_i32_776
  let v3296 : BitVec 32 := v3295
  let v3301 : Index := Scalar.indexCast v3296
  let c128_778 : Index := 128#32
  ![v3301.toNat, 128]

def k0_chk109 (arg0 : BitVec 32) (v1 : BitVec 32) (v3275 : BitVec 32) : Prop :=
  (∀ (k0_h1 : k0_cond1 arg0 v1 = 1#1), 8 ∣ (k0_mult109 v3275).toNat) ∧
  (∀ (k0_h1 : k0_cond1 arg0 v1 = 1#1), ∀ a, (k0_off217 v3275) a + S8x128.size a ≤ S7688x256.size a) ∧
  (∀ (k0_h1 : k0_cond1 arg0 v1 = 1#1), ∀ a, (k0_off218 v3275) a + S8x128.size a ≤ S7688x256.size a)
theorem k0_mult109_dvd : ∀ (arg0 : BitVec 32) (v1 : BitVec 32) (v3275 : BitVec 32) (k0_hw109 : k0_chk109 arg0 v1 v3275), ∀ (k0_h1 : k0_cond1 arg0 v1 = 1#1), 8 ∣ (k0_mult109 v3275).toNat := fun arg0 v1 v3275 k0_hw109 k0_h1 => k0_hw109.1 k0_h1
theorem k0_off217_inb : ∀ (arg0 : BitVec 32) (v1 : BitVec 32) (v3275 : BitVec 32) (k0_hw109 : k0_chk109 arg0 v1 v3275), ∀ (k0_h1 : k0_cond1 arg0 v1 = 1#1), ∀ a, (k0_off217 v3275) a + S8x128.size a ≤ S7688x256.size a := fun arg0 v1 v3275 k0_hw109 k0_h1 => k0_hw109.2.1 k0_h1
theorem k0_off218_inb : ∀ (arg0 : BitVec 32) (v1 : BitVec 32) (v3275 : BitVec 32) (k0_hw109 : k0_chk109 arg0 v1 v3275), ∀ (k0_h1 : k0_cond1 arg0 v1 = 1#1), ∀ a, (k0_off218 v3275) a + S8x128.size a ≤ S7688x256.size a := fun arg0 v1 v3275 k0_hw109 k0_h1 => k0_hw109.2.2 k0_h1

def k0_mult110 (v3305 : BitVec 32) : BitVec 32 :=
  let c1_i32_783 : BitVec 32 := 1#32
  let v3325 : BitVec 32 := Scalar.shrsi v3305 c1_i32_783
  v3325

def k0_off219 (v3305 : BitVec 32) : Fin 2 → Nat :=
  let c1_i32_783 : BitVec 32 := 1#32
  let v3325 : BitVec 32 := Scalar.shrsi v3305 c1_i32_783
  let v3326 : BitVec 32 := v3325
  let v3327 : Index := Scalar.indexCast v3326
  let c0_784 : Index := 0#32
  ![v3327.toNat, 0]
def k0_off220 (v3305 : BitVec 32) : Fin 2 → Nat :=
  let c1_i32_783 : BitVec 32 := 1#32
  let v3325 : BitVec 32 := Scalar.shrsi v3305 c1_i32_783
  let v3326 : BitVec 32 := v3325
  let v3331 : Index := Scalar.indexCast v3326
  let c128_785 : Index := 128#32
  ![v3331.toNat, 128]

def k0_chk110 (arg0 : BitVec 32) (v1 : BitVec 32) (v3305 : BitVec 32) : Prop :=
  (∀ (k0_h1 : k0_cond1 arg0 v1 = 1#1), 8 ∣ (k0_mult110 v3305).toNat) ∧
  (∀ (k0_h1 : k0_cond1 arg0 v1 = 1#1), ∀ a, (k0_off219 v3305) a + S8x128.size a ≤ S7688x256.size a) ∧
  (∀ (k0_h1 : k0_cond1 arg0 v1 = 1#1), ∀ a, (k0_off220 v3305) a + S8x128.size a ≤ S7688x256.size a)
theorem k0_mult110_dvd : ∀ (arg0 : BitVec 32) (v1 : BitVec 32) (v3305 : BitVec 32) (k0_hw110 : k0_chk110 arg0 v1 v3305), ∀ (k0_h1 : k0_cond1 arg0 v1 = 1#1), 8 ∣ (k0_mult110 v3305).toNat := fun arg0 v1 v3305 k0_hw110 k0_h1 => k0_hw110.1 k0_h1
theorem k0_off219_inb : ∀ (arg0 : BitVec 32) (v1 : BitVec 32) (v3305 : BitVec 32) (k0_hw110 : k0_chk110 arg0 v1 v3305), ∀ (k0_h1 : k0_cond1 arg0 v1 = 1#1), ∀ a, (k0_off219 v3305) a + S8x128.size a ≤ S7688x256.size a := fun arg0 v1 v3305 k0_hw110 k0_h1 => k0_hw110.2.1 k0_h1
theorem k0_off220_inb : ∀ (arg0 : BitVec 32) (v1 : BitVec 32) (v3305 : BitVec 32) (k0_hw110 : k0_chk110 arg0 v1 v3305), ∀ (k0_h1 : k0_cond1 arg0 v1 = 1#1), ∀ a, (k0_off220 v3305) a + S8x128.size a ≤ S7688x256.size a := fun arg0 v1 v3305 k0_hw110 k0_h1 => k0_hw110.2.2 k0_h1

def k0_mult111 (v3335 : BitVec 32) : BitVec 32 :=
  let c1_i32_790 : BitVec 32 := 1#32
  let v3355 : BitVec 32 := Scalar.shrsi v3335 c1_i32_790
  v3355

def k0_off221 (v3335 : BitVec 32) : Fin 2 → Nat :=
  let c1_i32_790 : BitVec 32 := 1#32
  let v3355 : BitVec 32 := Scalar.shrsi v3335 c1_i32_790
  let v3356 : BitVec 32 := v3355
  let v3357 : Index := Scalar.indexCast v3356
  let c0_791 : Index := 0#32
  ![v3357.toNat, 0]
def k0_off222 (v3335 : BitVec 32) : Fin 2 → Nat :=
  let c1_i32_790 : BitVec 32 := 1#32
  let v3355 : BitVec 32 := Scalar.shrsi v3335 c1_i32_790
  let v3356 : BitVec 32 := v3355
  let v3361 : Index := Scalar.indexCast v3356
  let c128_792 : Index := 128#32
  ![v3361.toNat, 128]

def k0_chk111 (arg0 : BitVec 32) (v1 : BitVec 32) (v3335 : BitVec 32) : Prop :=
  (∀ (k0_h1 : k0_cond1 arg0 v1 = 1#1), 8 ∣ (k0_mult111 v3335).toNat) ∧
  (∀ (k0_h1 : k0_cond1 arg0 v1 = 1#1), ∀ a, (k0_off221 v3335) a + S8x128.size a ≤ S7688x256.size a) ∧
  (∀ (k0_h1 : k0_cond1 arg0 v1 = 1#1), ∀ a, (k0_off222 v3335) a + S8x128.size a ≤ S7688x256.size a)
theorem k0_mult111_dvd : ∀ (arg0 : BitVec 32) (v1 : BitVec 32) (v3335 : BitVec 32) (k0_hw111 : k0_chk111 arg0 v1 v3335), ∀ (k0_h1 : k0_cond1 arg0 v1 = 1#1), 8 ∣ (k0_mult111 v3335).toNat := fun arg0 v1 v3335 k0_hw111 k0_h1 => k0_hw111.1 k0_h1
theorem k0_off221_inb : ∀ (arg0 : BitVec 32) (v1 : BitVec 32) (v3335 : BitVec 32) (k0_hw111 : k0_chk111 arg0 v1 v3335), ∀ (k0_h1 : k0_cond1 arg0 v1 = 1#1), ∀ a, (k0_off221 v3335) a + S8x128.size a ≤ S7688x256.size a := fun arg0 v1 v3335 k0_hw111 k0_h1 => k0_hw111.2.1 k0_h1
theorem k0_off222_inb : ∀ (arg0 : BitVec 32) (v1 : BitVec 32) (v3335 : BitVec 32) (k0_hw111 : k0_chk111 arg0 v1 v3335), ∀ (k0_h1 : k0_cond1 arg0 v1 = 1#1), ∀ a, (k0_off222 v3335) a + S8x128.size a ≤ S7688x256.size a := fun arg0 v1 v3335 k0_hw111 k0_h1 => k0_hw111.2.2 k0_h1

def k0_mult112 (v3365 : BitVec 32) : BitVec 32 :=
  let c1_i32_797 : BitVec 32 := 1#32
  let v3385 : BitVec 32 := Scalar.shrsi v3365 c1_i32_797
  v3385

def k0_off223 (v3365 : BitVec 32) : Fin 2 → Nat :=
  let c1_i32_797 : BitVec 32 := 1#32
  let v3385 : BitVec 32 := Scalar.shrsi v3365 c1_i32_797
  let v3386 : BitVec 32 := v3385
  let v3387 : Index := Scalar.indexCast v3386
  let c0_798 : Index := 0#32
  ![v3387.toNat, 0]
def k0_off224 (v3365 : BitVec 32) : Fin 2 → Nat :=
  let c1_i32_797 : BitVec 32 := 1#32
  let v3385 : BitVec 32 := Scalar.shrsi v3365 c1_i32_797
  let v3386 : BitVec 32 := v3385
  let v3391 : Index := Scalar.indexCast v3386
  let c128_799 : Index := 128#32
  ![v3391.toNat, 128]

def k0_chk112 (arg0 : BitVec 32) (v1 : BitVec 32) (v3365 : BitVec 32) : Prop :=
  (∀ (k0_h1 : k0_cond1 arg0 v1 = 1#1), 8 ∣ (k0_mult112 v3365).toNat) ∧
  (∀ (k0_h1 : k0_cond1 arg0 v1 = 1#1), ∀ a, (k0_off223 v3365) a + S8x128.size a ≤ S7688x256.size a) ∧
  (∀ (k0_h1 : k0_cond1 arg0 v1 = 1#1), ∀ a, (k0_off224 v3365) a + S8x128.size a ≤ S7688x256.size a)
theorem k0_mult112_dvd : ∀ (arg0 : BitVec 32) (v1 : BitVec 32) (v3365 : BitVec 32) (k0_hw112 : k0_chk112 arg0 v1 v3365), ∀ (k0_h1 : k0_cond1 arg0 v1 = 1#1), 8 ∣ (k0_mult112 v3365).toNat := fun arg0 v1 v3365 k0_hw112 k0_h1 => k0_hw112.1 k0_h1
theorem k0_off223_inb : ∀ (arg0 : BitVec 32) (v1 : BitVec 32) (v3365 : BitVec 32) (k0_hw112 : k0_chk112 arg0 v1 v3365), ∀ (k0_h1 : k0_cond1 arg0 v1 = 1#1), ∀ a, (k0_off223 v3365) a + S8x128.size a ≤ S7688x256.size a := fun arg0 v1 v3365 k0_hw112 k0_h1 => k0_hw112.2.1 k0_h1
theorem k0_off224_inb : ∀ (arg0 : BitVec 32) (v1 : BitVec 32) (v3365 : BitVec 32) (k0_hw112 : k0_chk112 arg0 v1 v3365), ∀ (k0_h1 : k0_cond1 arg0 v1 = 1#1), ∀ a, (k0_off224 v3365) a + S8x128.size a ≤ S7688x256.size a := fun arg0 v1 v3365 k0_hw112 k0_h1 => k0_hw112.2.2 k0_h1

def k0_mult113 (v3395 : BitVec 32) : BitVec 32 :=
  let c1_i32_804 : BitVec 32 := 1#32
  let v3415 : BitVec 32 := Scalar.shrsi v3395 c1_i32_804
  v3415

def k0_off225 (v3395 : BitVec 32) : Fin 2 → Nat :=
  let c1_i32_804 : BitVec 32 := 1#32
  let v3415 : BitVec 32 := Scalar.shrsi v3395 c1_i32_804
  let v3416 : BitVec 32 := v3415
  let v3417 : Index := Scalar.indexCast v3416
  let c0_805 : Index := 0#32
  ![v3417.toNat, 0]
def k0_off226 (v3395 : BitVec 32) : Fin 2 → Nat :=
  let c1_i32_804 : BitVec 32 := 1#32
  let v3415 : BitVec 32 := Scalar.shrsi v3395 c1_i32_804
  let v3416 : BitVec 32 := v3415
  let v3421 : Index := Scalar.indexCast v3416
  let c128_806 : Index := 128#32
  ![v3421.toNat, 128]

def k0_chk113 (arg0 : BitVec 32) (v1 : BitVec 32) (v3395 : BitVec 32) : Prop :=
  (∀ (k0_h1 : k0_cond1 arg0 v1 = 1#1), 8 ∣ (k0_mult113 v3395).toNat) ∧
  (∀ (k0_h1 : k0_cond1 arg0 v1 = 1#1), ∀ a, (k0_off225 v3395) a + S8x128.size a ≤ S7688x256.size a) ∧
  (∀ (k0_h1 : k0_cond1 arg0 v1 = 1#1), ∀ a, (k0_off226 v3395) a + S8x128.size a ≤ S7688x256.size a)
theorem k0_mult113_dvd : ∀ (arg0 : BitVec 32) (v1 : BitVec 32) (v3395 : BitVec 32) (k0_hw113 : k0_chk113 arg0 v1 v3395), ∀ (k0_h1 : k0_cond1 arg0 v1 = 1#1), 8 ∣ (k0_mult113 v3395).toNat := fun arg0 v1 v3395 k0_hw113 k0_h1 => k0_hw113.1 k0_h1
theorem k0_off225_inb : ∀ (arg0 : BitVec 32) (v1 : BitVec 32) (v3395 : BitVec 32) (k0_hw113 : k0_chk113 arg0 v1 v3395), ∀ (k0_h1 : k0_cond1 arg0 v1 = 1#1), ∀ a, (k0_off225 v3395) a + S8x128.size a ≤ S7688x256.size a := fun arg0 v1 v3395 k0_hw113 k0_h1 => k0_hw113.2.1 k0_h1
theorem k0_off226_inb : ∀ (arg0 : BitVec 32) (v1 : BitVec 32) (v3395 : BitVec 32) (k0_hw113 : k0_chk113 arg0 v1 v3395), ∀ (k0_h1 : k0_cond1 arg0 v1 = 1#1), ∀ a, (k0_off226 v3395) a + S8x128.size a ≤ S7688x256.size a := fun arg0 v1 v3395 k0_hw113 k0_h1 => k0_hw113.2.2 k0_h1

def k0_mult114 (v3425 : BitVec 32) : BitVec 32 :=
  let c1_i32_811 : BitVec 32 := 1#32
  let v3445 : BitVec 32 := Scalar.shrsi v3425 c1_i32_811
  v3445

def k0_off227 (v3425 : BitVec 32) : Fin 2 → Nat :=
  let c1_i32_811 : BitVec 32 := 1#32
  let v3445 : BitVec 32 := Scalar.shrsi v3425 c1_i32_811
  let v3446 : BitVec 32 := v3445
  let v3447 : Index := Scalar.indexCast v3446
  let c0_812 : Index := 0#32
  ![v3447.toNat, 0]
def k0_off228 (v3425 : BitVec 32) : Fin 2 → Nat :=
  let c1_i32_811 : BitVec 32 := 1#32
  let v3445 : BitVec 32 := Scalar.shrsi v3425 c1_i32_811
  let v3446 : BitVec 32 := v3445
  let v3451 : Index := Scalar.indexCast v3446
  let c128_813 : Index := 128#32
  ![v3451.toNat, 128]

def k0_chk114 (arg0 : BitVec 32) (v1 : BitVec 32) (v3425 : BitVec 32) : Prop :=
  (∀ (k0_h1 : k0_cond1 arg0 v1 = 1#1), 8 ∣ (k0_mult114 v3425).toNat) ∧
  (∀ (k0_h1 : k0_cond1 arg0 v1 = 1#1), ∀ a, (k0_off227 v3425) a + S8x128.size a ≤ S7688x256.size a) ∧
  (∀ (k0_h1 : k0_cond1 arg0 v1 = 1#1), ∀ a, (k0_off228 v3425) a + S8x128.size a ≤ S7688x256.size a)
theorem k0_mult114_dvd : ∀ (arg0 : BitVec 32) (v1 : BitVec 32) (v3425 : BitVec 32) (k0_hw114 : k0_chk114 arg0 v1 v3425), ∀ (k0_h1 : k0_cond1 arg0 v1 = 1#1), 8 ∣ (k0_mult114 v3425).toNat := fun arg0 v1 v3425 k0_hw114 k0_h1 => k0_hw114.1 k0_h1
theorem k0_off227_inb : ∀ (arg0 : BitVec 32) (v1 : BitVec 32) (v3425 : BitVec 32) (k0_hw114 : k0_chk114 arg0 v1 v3425), ∀ (k0_h1 : k0_cond1 arg0 v1 = 1#1), ∀ a, (k0_off227 v3425) a + S8x128.size a ≤ S7688x256.size a := fun arg0 v1 v3425 k0_hw114 k0_h1 => k0_hw114.2.1 k0_h1
theorem k0_off228_inb : ∀ (arg0 : BitVec 32) (v1 : BitVec 32) (v3425 : BitVec 32) (k0_hw114 : k0_chk114 arg0 v1 v3425), ∀ (k0_h1 : k0_cond1 arg0 v1 = 1#1), ∀ a, (k0_off228 v3425) a + S8x128.size a ≤ S7688x256.size a := fun arg0 v1 v3425 k0_hw114 k0_h1 => k0_hw114.2.2 k0_h1

def k0_mult115 (v3455 : BitVec 32) : BitVec 32 :=
  let c1_i32_818 : BitVec 32 := 1#32
  let v3475 : BitVec 32 := Scalar.shrsi v3455 c1_i32_818
  v3475

def k0_off229 (v3455 : BitVec 32) : Fin 2 → Nat :=
  let c1_i32_818 : BitVec 32 := 1#32
  let v3475 : BitVec 32 := Scalar.shrsi v3455 c1_i32_818
  let v3476 : BitVec 32 := v3475
  let v3477 : Index := Scalar.indexCast v3476
  let c0_819 : Index := 0#32
  ![v3477.toNat, 0]
def k0_off230 (v3455 : BitVec 32) : Fin 2 → Nat :=
  let c1_i32_818 : BitVec 32 := 1#32
  let v3475 : BitVec 32 := Scalar.shrsi v3455 c1_i32_818
  let v3476 : BitVec 32 := v3475
  let v3481 : Index := Scalar.indexCast v3476
  let c128_820 : Index := 128#32
  ![v3481.toNat, 128]

def k0_chk115 (arg0 : BitVec 32) (v1 : BitVec 32) (v3455 : BitVec 32) : Prop :=
  (∀ (k0_h1 : k0_cond1 arg0 v1 = 1#1), 8 ∣ (k0_mult115 v3455).toNat) ∧
  (∀ (k0_h1 : k0_cond1 arg0 v1 = 1#1), ∀ a, (k0_off229 v3455) a + S8x128.size a ≤ S7688x256.size a) ∧
  (∀ (k0_h1 : k0_cond1 arg0 v1 = 1#1), ∀ a, (k0_off230 v3455) a + S8x128.size a ≤ S7688x256.size a)
theorem k0_mult115_dvd : ∀ (arg0 : BitVec 32) (v1 : BitVec 32) (v3455 : BitVec 32) (k0_hw115 : k0_chk115 arg0 v1 v3455), ∀ (k0_h1 : k0_cond1 arg0 v1 = 1#1), 8 ∣ (k0_mult115 v3455).toNat := fun arg0 v1 v3455 k0_hw115 k0_h1 => k0_hw115.1 k0_h1
theorem k0_off229_inb : ∀ (arg0 : BitVec 32) (v1 : BitVec 32) (v3455 : BitVec 32) (k0_hw115 : k0_chk115 arg0 v1 v3455), ∀ (k0_h1 : k0_cond1 arg0 v1 = 1#1), ∀ a, (k0_off229 v3455) a + S8x128.size a ≤ S7688x256.size a := fun arg0 v1 v3455 k0_hw115 k0_h1 => k0_hw115.2.1 k0_h1
theorem k0_off230_inb : ∀ (arg0 : BitVec 32) (v1 : BitVec 32) (v3455 : BitVec 32) (k0_hw115 : k0_chk115 arg0 v1 v3455), ∀ (k0_h1 : k0_cond1 arg0 v1 = 1#1), ∀ a, (k0_off230 v3455) a + S8x128.size a ≤ S7688x256.size a := fun arg0 v1 v3455 k0_hw115 k0_h1 => k0_hw115.2.2 k0_h1

def k0_mult116 (v3485 : BitVec 32) : BitVec 32 :=
  let c1_i32_825 : BitVec 32 := 1#32
  let v3505 : BitVec 32 := Scalar.shrsi v3485 c1_i32_825
  v3505

def k0_off231 (v3485 : BitVec 32) : Fin 2 → Nat :=
  let c1_i32_825 : BitVec 32 := 1#32
  let v3505 : BitVec 32 := Scalar.shrsi v3485 c1_i32_825
  let v3506 : BitVec 32 := v3505
  let v3507 : Index := Scalar.indexCast v3506
  let c0_826 : Index := 0#32
  ![v3507.toNat, 0]
def k0_off232 (v3485 : BitVec 32) : Fin 2 → Nat :=
  let c1_i32_825 : BitVec 32 := 1#32
  let v3505 : BitVec 32 := Scalar.shrsi v3485 c1_i32_825
  let v3506 : BitVec 32 := v3505
  let v3511 : Index := Scalar.indexCast v3506
  let c128_827 : Index := 128#32
  ![v3511.toNat, 128]

def k0_chk116 (arg0 : BitVec 32) (v1 : BitVec 32) (v3485 : BitVec 32) : Prop :=
  (∀ (k0_h1 : k0_cond1 arg0 v1 = 1#1), 8 ∣ (k0_mult116 v3485).toNat) ∧
  (∀ (k0_h1 : k0_cond1 arg0 v1 = 1#1), ∀ a, (k0_off231 v3485) a + S8x128.size a ≤ S7688x256.size a) ∧
  (∀ (k0_h1 : k0_cond1 arg0 v1 = 1#1), ∀ a, (k0_off232 v3485) a + S8x128.size a ≤ S7688x256.size a)
theorem k0_mult116_dvd : ∀ (arg0 : BitVec 32) (v1 : BitVec 32) (v3485 : BitVec 32) (k0_hw116 : k0_chk116 arg0 v1 v3485), ∀ (k0_h1 : k0_cond1 arg0 v1 = 1#1), 8 ∣ (k0_mult116 v3485).toNat := fun arg0 v1 v3485 k0_hw116 k0_h1 => k0_hw116.1 k0_h1
theorem k0_off231_inb : ∀ (arg0 : BitVec 32) (v1 : BitVec 32) (v3485 : BitVec 32) (k0_hw116 : k0_chk116 arg0 v1 v3485), ∀ (k0_h1 : k0_cond1 arg0 v1 = 1#1), ∀ a, (k0_off231 v3485) a + S8x128.size a ≤ S7688x256.size a := fun arg0 v1 v3485 k0_hw116 k0_h1 => k0_hw116.2.1 k0_h1
theorem k0_off232_inb : ∀ (arg0 : BitVec 32) (v1 : BitVec 32) (v3485 : BitVec 32) (k0_hw116 : k0_chk116 arg0 v1 v3485), ∀ (k0_h1 : k0_cond1 arg0 v1 = 1#1), ∀ a, (k0_off232 v3485) a + S8x128.size a ≤ S7688x256.size a := fun arg0 v1 v3485 k0_hw116 k0_h1 => k0_hw116.2.2 k0_h1

def k0_mult117 (v3515 : BitVec 32) : BitVec 32 :=
  let c1_i32_832 : BitVec 32 := 1#32
  let v3535 : BitVec 32 := Scalar.shrsi v3515 c1_i32_832
  v3535

def k0_off233 (v3515 : BitVec 32) : Fin 2 → Nat :=
  let c1_i32_832 : BitVec 32 := 1#32
  let v3535 : BitVec 32 := Scalar.shrsi v3515 c1_i32_832
  let v3536 : BitVec 32 := v3535
  let v3537 : Index := Scalar.indexCast v3536
  let c0_833 : Index := 0#32
  ![v3537.toNat, 0]
def k0_off234 (v3515 : BitVec 32) : Fin 2 → Nat :=
  let c1_i32_832 : BitVec 32 := 1#32
  let v3535 : BitVec 32 := Scalar.shrsi v3515 c1_i32_832
  let v3536 : BitVec 32 := v3535
  let v3541 : Index := Scalar.indexCast v3536
  let c128_834 : Index := 128#32
  ![v3541.toNat, 128]

def k0_chk117 (arg0 : BitVec 32) (v1 : BitVec 32) (v3515 : BitVec 32) : Prop :=
  (∀ (k0_h1 : k0_cond1 arg0 v1 = 1#1), 8 ∣ (k0_mult117 v3515).toNat) ∧
  (∀ (k0_h1 : k0_cond1 arg0 v1 = 1#1), ∀ a, (k0_off233 v3515) a + S8x128.size a ≤ S7688x256.size a) ∧
  (∀ (k0_h1 : k0_cond1 arg0 v1 = 1#1), ∀ a, (k0_off234 v3515) a + S8x128.size a ≤ S7688x256.size a)
theorem k0_mult117_dvd : ∀ (arg0 : BitVec 32) (v1 : BitVec 32) (v3515 : BitVec 32) (k0_hw117 : k0_chk117 arg0 v1 v3515), ∀ (k0_h1 : k0_cond1 arg0 v1 = 1#1), 8 ∣ (k0_mult117 v3515).toNat := fun arg0 v1 v3515 k0_hw117 k0_h1 => k0_hw117.1 k0_h1
theorem k0_off233_inb : ∀ (arg0 : BitVec 32) (v1 : BitVec 32) (v3515 : BitVec 32) (k0_hw117 : k0_chk117 arg0 v1 v3515), ∀ (k0_h1 : k0_cond1 arg0 v1 = 1#1), ∀ a, (k0_off233 v3515) a + S8x128.size a ≤ S7688x256.size a := fun arg0 v1 v3515 k0_hw117 k0_h1 => k0_hw117.2.1 k0_h1
theorem k0_off234_inb : ∀ (arg0 : BitVec 32) (v1 : BitVec 32) (v3515 : BitVec 32) (k0_hw117 : k0_chk117 arg0 v1 v3515), ∀ (k0_h1 : k0_cond1 arg0 v1 = 1#1), ∀ a, (k0_off234 v3515) a + S8x128.size a ≤ S7688x256.size a := fun arg0 v1 v3515 k0_hw117 k0_h1 => k0_hw117.2.2 k0_h1

def k0_mult118 (v3545 : BitVec 32) : BitVec 32 :=
  let c1_i32_839 : BitVec 32 := 1#32
  let v3565 : BitVec 32 := Scalar.shrsi v3545 c1_i32_839
  v3565

def k0_off235 (v3545 : BitVec 32) : Fin 2 → Nat :=
  let c1_i32_839 : BitVec 32 := 1#32
  let v3565 : BitVec 32 := Scalar.shrsi v3545 c1_i32_839
  let v3566 : BitVec 32 := v3565
  let v3567 : Index := Scalar.indexCast v3566
  let c0_840 : Index := 0#32
  ![v3567.toNat, 0]
def k0_off236 (v3545 : BitVec 32) : Fin 2 → Nat :=
  let c1_i32_839 : BitVec 32 := 1#32
  let v3565 : BitVec 32 := Scalar.shrsi v3545 c1_i32_839
  let v3566 : BitVec 32 := v3565
  let v3571 : Index := Scalar.indexCast v3566
  let c128_841 : Index := 128#32
  ![v3571.toNat, 128]

def k0_chk118 (arg0 : BitVec 32) (v1 : BitVec 32) (v3545 : BitVec 32) : Prop :=
  (∀ (k0_h1 : k0_cond1 arg0 v1 = 1#1), 8 ∣ (k0_mult118 v3545).toNat) ∧
  (∀ (k0_h1 : k0_cond1 arg0 v1 = 1#1), ∀ a, (k0_off235 v3545) a + S8x128.size a ≤ S7688x256.size a) ∧
  (∀ (k0_h1 : k0_cond1 arg0 v1 = 1#1), ∀ a, (k0_off236 v3545) a + S8x128.size a ≤ S7688x256.size a)
theorem k0_mult118_dvd : ∀ (arg0 : BitVec 32) (v1 : BitVec 32) (v3545 : BitVec 32) (k0_hw118 : k0_chk118 arg0 v1 v3545), ∀ (k0_h1 : k0_cond1 arg0 v1 = 1#1), 8 ∣ (k0_mult118 v3545).toNat := fun arg0 v1 v3545 k0_hw118 k0_h1 => k0_hw118.1 k0_h1
theorem k0_off235_inb : ∀ (arg0 : BitVec 32) (v1 : BitVec 32) (v3545 : BitVec 32) (k0_hw118 : k0_chk118 arg0 v1 v3545), ∀ (k0_h1 : k0_cond1 arg0 v1 = 1#1), ∀ a, (k0_off235 v3545) a + S8x128.size a ≤ S7688x256.size a := fun arg0 v1 v3545 k0_hw118 k0_h1 => k0_hw118.2.1 k0_h1
theorem k0_off236_inb : ∀ (arg0 : BitVec 32) (v1 : BitVec 32) (v3545 : BitVec 32) (k0_hw118 : k0_chk118 arg0 v1 v3545), ∀ (k0_h1 : k0_cond1 arg0 v1 = 1#1), ∀ a, (k0_off236 v3545) a + S8x128.size a ≤ S7688x256.size a := fun arg0 v1 v3545 k0_hw118 k0_h1 => k0_hw118.2.2 k0_h1

def k0_mult119 (v3575 : BitVec 32) : BitVec 32 :=
  let c1_i32_846 : BitVec 32 := 1#32
  let v3595 : BitVec 32 := Scalar.shrsi v3575 c1_i32_846
  v3595

def k0_off237 (v3575 : BitVec 32) : Fin 2 → Nat :=
  let c1_i32_846 : BitVec 32 := 1#32
  let v3595 : BitVec 32 := Scalar.shrsi v3575 c1_i32_846
  let v3596 : BitVec 32 := v3595
  let v3597 : Index := Scalar.indexCast v3596
  let c0_847 : Index := 0#32
  ![v3597.toNat, 0]
def k0_off238 (v3575 : BitVec 32) : Fin 2 → Nat :=
  let c1_i32_846 : BitVec 32 := 1#32
  let v3595 : BitVec 32 := Scalar.shrsi v3575 c1_i32_846
  let v3596 : BitVec 32 := v3595
  let v3601 : Index := Scalar.indexCast v3596
  let c128_848 : Index := 128#32
  ![v3601.toNat, 128]

def k0_chk119 (arg0 : BitVec 32) (v1 : BitVec 32) (v3575 : BitVec 32) : Prop :=
  (∀ (k0_h1 : k0_cond1 arg0 v1 = 1#1), 8 ∣ (k0_mult119 v3575).toNat) ∧
  (∀ (k0_h1 : k0_cond1 arg0 v1 = 1#1), ∀ a, (k0_off237 v3575) a + S8x128.size a ≤ S7688x256.size a) ∧
  (∀ (k0_h1 : k0_cond1 arg0 v1 = 1#1), ∀ a, (k0_off238 v3575) a + S8x128.size a ≤ S7688x256.size a)
theorem k0_mult119_dvd : ∀ (arg0 : BitVec 32) (v1 : BitVec 32) (v3575 : BitVec 32) (k0_hw119 : k0_chk119 arg0 v1 v3575), ∀ (k0_h1 : k0_cond1 arg0 v1 = 1#1), 8 ∣ (k0_mult119 v3575).toNat := fun arg0 v1 v3575 k0_hw119 k0_h1 => k0_hw119.1 k0_h1
theorem k0_off237_inb : ∀ (arg0 : BitVec 32) (v1 : BitVec 32) (v3575 : BitVec 32) (k0_hw119 : k0_chk119 arg0 v1 v3575), ∀ (k0_h1 : k0_cond1 arg0 v1 = 1#1), ∀ a, (k0_off237 v3575) a + S8x128.size a ≤ S7688x256.size a := fun arg0 v1 v3575 k0_hw119 k0_h1 => k0_hw119.2.1 k0_h1
theorem k0_off238_inb : ∀ (arg0 : BitVec 32) (v1 : BitVec 32) (v3575 : BitVec 32) (k0_hw119 : k0_chk119 arg0 v1 v3575), ∀ (k0_h1 : k0_cond1 arg0 v1 = 1#1), ∀ a, (k0_off238 v3575) a + S8x128.size a ≤ S7688x256.size a := fun arg0 v1 v3575 k0_hw119 k0_h1 => k0_hw119.2.2 k0_h1

def k0_mult120 (v3605 : BitVec 32) : BitVec 32 :=
  let c1_i32_853 : BitVec 32 := 1#32
  let v3625 : BitVec 32 := Scalar.shrsi v3605 c1_i32_853
  v3625

def k0_off239 (v3605 : BitVec 32) : Fin 2 → Nat :=
  let c1_i32_853 : BitVec 32 := 1#32
  let v3625 : BitVec 32 := Scalar.shrsi v3605 c1_i32_853
  let v3626 : BitVec 32 := v3625
  let v3627 : Index := Scalar.indexCast v3626
  let c0_854 : Index := 0#32
  ![v3627.toNat, 0]
def k0_off240 (v3605 : BitVec 32) : Fin 2 → Nat :=
  let c1_i32_853 : BitVec 32 := 1#32
  let v3625 : BitVec 32 := Scalar.shrsi v3605 c1_i32_853
  let v3626 : BitVec 32 := v3625
  let v3631 : Index := Scalar.indexCast v3626
  let c128_855 : Index := 128#32
  ![v3631.toNat, 128]

def k0_chk120 (arg0 : BitVec 32) (v1 : BitVec 32) (v3605 : BitVec 32) : Prop :=
  (∀ (k0_h1 : k0_cond1 arg0 v1 = 1#1), 8 ∣ (k0_mult120 v3605).toNat) ∧
  (∀ (k0_h1 : k0_cond1 arg0 v1 = 1#1), ∀ a, (k0_off239 v3605) a + S8x128.size a ≤ S7688x256.size a) ∧
  (∀ (k0_h1 : k0_cond1 arg0 v1 = 1#1), ∀ a, (k0_off240 v3605) a + S8x128.size a ≤ S7688x256.size a)
theorem k0_mult120_dvd : ∀ (arg0 : BitVec 32) (v1 : BitVec 32) (v3605 : BitVec 32) (k0_hw120 : k0_chk120 arg0 v1 v3605), ∀ (k0_h1 : k0_cond1 arg0 v1 = 1#1), 8 ∣ (k0_mult120 v3605).toNat := fun arg0 v1 v3605 k0_hw120 k0_h1 => k0_hw120.1 k0_h1
theorem k0_off239_inb : ∀ (arg0 : BitVec 32) (v1 : BitVec 32) (v3605 : BitVec 32) (k0_hw120 : k0_chk120 arg0 v1 v3605), ∀ (k0_h1 : k0_cond1 arg0 v1 = 1#1), ∀ a, (k0_off239 v3605) a + S8x128.size a ≤ S7688x256.size a := fun arg0 v1 v3605 k0_hw120 k0_h1 => k0_hw120.2.1 k0_h1
theorem k0_off240_inb : ∀ (arg0 : BitVec 32) (v1 : BitVec 32) (v3605 : BitVec 32) (k0_hw120 : k0_chk120 arg0 v1 v3605), ∀ (k0_h1 : k0_cond1 arg0 v1 = 1#1), ∀ a, (k0_off240 v3605) a + S8x128.size a ≤ S7688x256.size a := fun arg0 v1 v3605 k0_hw120 k0_h1 => k0_hw120.2.2 k0_h1

def k0_mult121 (v3635 : BitVec 32) : BitVec 32 :=
  let c1_i32_860 : BitVec 32 := 1#32
  let v3655 : BitVec 32 := Scalar.shrsi v3635 c1_i32_860
  v3655

def k0_off241 (v3635 : BitVec 32) : Fin 2 → Nat :=
  let c1_i32_860 : BitVec 32 := 1#32
  let v3655 : BitVec 32 := Scalar.shrsi v3635 c1_i32_860
  let v3656 : BitVec 32 := v3655
  let v3657 : Index := Scalar.indexCast v3656
  let c0_861 : Index := 0#32
  ![v3657.toNat, 0]
def k0_off242 (v3635 : BitVec 32) : Fin 2 → Nat :=
  let c1_i32_860 : BitVec 32 := 1#32
  let v3655 : BitVec 32 := Scalar.shrsi v3635 c1_i32_860
  let v3656 : BitVec 32 := v3655
  let v3661 : Index := Scalar.indexCast v3656
  let c128_862 : Index := 128#32
  ![v3661.toNat, 128]

def k0_chk121 (arg0 : BitVec 32) (v1 : BitVec 32) (v3635 : BitVec 32) : Prop :=
  (∀ (k0_h1 : k0_cond1 arg0 v1 = 1#1), 8 ∣ (k0_mult121 v3635).toNat) ∧
  (∀ (k0_h1 : k0_cond1 arg0 v1 = 1#1), ∀ a, (k0_off241 v3635) a + S8x128.size a ≤ S7688x256.size a) ∧
  (∀ (k0_h1 : k0_cond1 arg0 v1 = 1#1), ∀ a, (k0_off242 v3635) a + S8x128.size a ≤ S7688x256.size a)
theorem k0_mult121_dvd : ∀ (arg0 : BitVec 32) (v1 : BitVec 32) (v3635 : BitVec 32) (k0_hw121 : k0_chk121 arg0 v1 v3635), ∀ (k0_h1 : k0_cond1 arg0 v1 = 1#1), 8 ∣ (k0_mult121 v3635).toNat := fun arg0 v1 v3635 k0_hw121 k0_h1 => k0_hw121.1 k0_h1
theorem k0_off241_inb : ∀ (arg0 : BitVec 32) (v1 : BitVec 32) (v3635 : BitVec 32) (k0_hw121 : k0_chk121 arg0 v1 v3635), ∀ (k0_h1 : k0_cond1 arg0 v1 = 1#1), ∀ a, (k0_off241 v3635) a + S8x128.size a ≤ S7688x256.size a := fun arg0 v1 v3635 k0_hw121 k0_h1 => k0_hw121.2.1 k0_h1
theorem k0_off242_inb : ∀ (arg0 : BitVec 32) (v1 : BitVec 32) (v3635 : BitVec 32) (k0_hw121 : k0_chk121 arg0 v1 v3635), ∀ (k0_h1 : k0_cond1 arg0 v1 = 1#1), ∀ a, (k0_off242 v3635) a + S8x128.size a ≤ S7688x256.size a := fun arg0 v1 v3635 k0_hw121 k0_h1 => k0_hw121.2.2 k0_h1

def k0_mult122 (v3665 : BitVec 32) : BitVec 32 :=
  let c1_i32_867 : BitVec 32 := 1#32
  let v3685 : BitVec 32 := Scalar.shrsi v3665 c1_i32_867
  v3685

def k0_off243 (v3665 : BitVec 32) : Fin 2 → Nat :=
  let c1_i32_867 : BitVec 32 := 1#32
  let v3685 : BitVec 32 := Scalar.shrsi v3665 c1_i32_867
  let v3686 : BitVec 32 := v3685
  let v3687 : Index := Scalar.indexCast v3686
  let c0_868 : Index := 0#32
  ![v3687.toNat, 0]
def k0_off244 (v3665 : BitVec 32) : Fin 2 → Nat :=
  let c1_i32_867 : BitVec 32 := 1#32
  let v3685 : BitVec 32 := Scalar.shrsi v3665 c1_i32_867
  let v3686 : BitVec 32 := v3685
  let v3691 : Index := Scalar.indexCast v3686
  let c128_869 : Index := 128#32
  ![v3691.toNat, 128]

def k0_chk122 (arg0 : BitVec 32) (v1 : BitVec 32) (v3665 : BitVec 32) : Prop :=
  (∀ (k0_h1 : k0_cond1 arg0 v1 = 1#1), 8 ∣ (k0_mult122 v3665).toNat) ∧
  (∀ (k0_h1 : k0_cond1 arg0 v1 = 1#1), ∀ a, (k0_off243 v3665) a + S8x128.size a ≤ S7688x256.size a) ∧
  (∀ (k0_h1 : k0_cond1 arg0 v1 = 1#1), ∀ a, (k0_off244 v3665) a + S8x128.size a ≤ S7688x256.size a)
theorem k0_mult122_dvd : ∀ (arg0 : BitVec 32) (v1 : BitVec 32) (v3665 : BitVec 32) (k0_hw122 : k0_chk122 arg0 v1 v3665), ∀ (k0_h1 : k0_cond1 arg0 v1 = 1#1), 8 ∣ (k0_mult122 v3665).toNat := fun arg0 v1 v3665 k0_hw122 k0_h1 => k0_hw122.1 k0_h1
theorem k0_off243_inb : ∀ (arg0 : BitVec 32) (v1 : BitVec 32) (v3665 : BitVec 32) (k0_hw122 : k0_chk122 arg0 v1 v3665), ∀ (k0_h1 : k0_cond1 arg0 v1 = 1#1), ∀ a, (k0_off243 v3665) a + S8x128.size a ≤ S7688x256.size a := fun arg0 v1 v3665 k0_hw122 k0_h1 => k0_hw122.2.1 k0_h1
theorem k0_off244_inb : ∀ (arg0 : BitVec 32) (v1 : BitVec 32) (v3665 : BitVec 32) (k0_hw122 : k0_chk122 arg0 v1 v3665), ∀ (k0_h1 : k0_cond1 arg0 v1 = 1#1), ∀ a, (k0_off244 v3665) a + S8x128.size a ≤ S7688x256.size a := fun arg0 v1 v3665 k0_hw122 k0_h1 => k0_hw122.2.2 k0_h1

def k0_mult123 (v3695 : BitVec 32) : BitVec 32 :=
  let c1_i32_874 : BitVec 32 := 1#32
  let v3715 : BitVec 32 := Scalar.shrsi v3695 c1_i32_874
  v3715

def k0_off245 (v3695 : BitVec 32) : Fin 2 → Nat :=
  let c1_i32_874 : BitVec 32 := 1#32
  let v3715 : BitVec 32 := Scalar.shrsi v3695 c1_i32_874
  let v3716 : BitVec 32 := v3715
  let v3717 : Index := Scalar.indexCast v3716
  let c0_875 : Index := 0#32
  ![v3717.toNat, 0]
def k0_off246 (v3695 : BitVec 32) : Fin 2 → Nat :=
  let c1_i32_874 : BitVec 32 := 1#32
  let v3715 : BitVec 32 := Scalar.shrsi v3695 c1_i32_874
  let v3716 : BitVec 32 := v3715
  let v3721 : Index := Scalar.indexCast v3716
  let c128_876 : Index := 128#32
  ![v3721.toNat, 128]

def k0_chk123 (arg0 : BitVec 32) (v1 : BitVec 32) (v3695 : BitVec 32) : Prop :=
  (∀ (k0_h1 : k0_cond1 arg0 v1 = 1#1), 8 ∣ (k0_mult123 v3695).toNat) ∧
  (∀ (k0_h1 : k0_cond1 arg0 v1 = 1#1), ∀ a, (k0_off245 v3695) a + S8x128.size a ≤ S7688x256.size a) ∧
  (∀ (k0_h1 : k0_cond1 arg0 v1 = 1#1), ∀ a, (k0_off246 v3695) a + S8x128.size a ≤ S7688x256.size a)
theorem k0_mult123_dvd : ∀ (arg0 : BitVec 32) (v1 : BitVec 32) (v3695 : BitVec 32) (k0_hw123 : k0_chk123 arg0 v1 v3695), ∀ (k0_h1 : k0_cond1 arg0 v1 = 1#1), 8 ∣ (k0_mult123 v3695).toNat := fun arg0 v1 v3695 k0_hw123 k0_h1 => k0_hw123.1 k0_h1
theorem k0_off245_inb : ∀ (arg0 : BitVec 32) (v1 : BitVec 32) (v3695 : BitVec 32) (k0_hw123 : k0_chk123 arg0 v1 v3695), ∀ (k0_h1 : k0_cond1 arg0 v1 = 1#1), ∀ a, (k0_off245 v3695) a + S8x128.size a ≤ S7688x256.size a := fun arg0 v1 v3695 k0_hw123 k0_h1 => k0_hw123.2.1 k0_h1
theorem k0_off246_inb : ∀ (arg0 : BitVec 32) (v1 : BitVec 32) (v3695 : BitVec 32) (k0_hw123 : k0_chk123 arg0 v1 v3695), ∀ (k0_h1 : k0_cond1 arg0 v1 = 1#1), ∀ a, (k0_off246 v3695) a + S8x128.size a ≤ S7688x256.size a := fun arg0 v1 v3695 k0_hw123 k0_h1 => k0_hw123.2.2 k0_h1

def k0_mult124 (v3725 : BitVec 32) : BitVec 32 :=
  let c1_i32_881 : BitVec 32 := 1#32
  let v3745 : BitVec 32 := Scalar.shrsi v3725 c1_i32_881
  v3745

def k0_off247 (v3725 : BitVec 32) : Fin 2 → Nat :=
  let c1_i32_881 : BitVec 32 := 1#32
  let v3745 : BitVec 32 := Scalar.shrsi v3725 c1_i32_881
  let v3746 : BitVec 32 := v3745
  let v3747 : Index := Scalar.indexCast v3746
  let c0_882 : Index := 0#32
  ![v3747.toNat, 0]
def k0_off248 (v3725 : BitVec 32) : Fin 2 → Nat :=
  let c1_i32_881 : BitVec 32 := 1#32
  let v3745 : BitVec 32 := Scalar.shrsi v3725 c1_i32_881
  let v3746 : BitVec 32 := v3745
  let v3751 : Index := Scalar.indexCast v3746
  let c128_883 : Index := 128#32
  ![v3751.toNat, 128]

def k0_chk124 (arg0 : BitVec 32) (v1 : BitVec 32) (v3725 : BitVec 32) : Prop :=
  (∀ (k0_h1 : k0_cond1 arg0 v1 = 1#1), 8 ∣ (k0_mult124 v3725).toNat) ∧
  (∀ (k0_h1 : k0_cond1 arg0 v1 = 1#1), ∀ a, (k0_off247 v3725) a + S8x128.size a ≤ S7688x256.size a) ∧
  (∀ (k0_h1 : k0_cond1 arg0 v1 = 1#1), ∀ a, (k0_off248 v3725) a + S8x128.size a ≤ S7688x256.size a)
theorem k0_mult124_dvd : ∀ (arg0 : BitVec 32) (v1 : BitVec 32) (v3725 : BitVec 32) (k0_hw124 : k0_chk124 arg0 v1 v3725), ∀ (k0_h1 : k0_cond1 arg0 v1 = 1#1), 8 ∣ (k0_mult124 v3725).toNat := fun arg0 v1 v3725 k0_hw124 k0_h1 => k0_hw124.1 k0_h1
theorem k0_off247_inb : ∀ (arg0 : BitVec 32) (v1 : BitVec 32) (v3725 : BitVec 32) (k0_hw124 : k0_chk124 arg0 v1 v3725), ∀ (k0_h1 : k0_cond1 arg0 v1 = 1#1), ∀ a, (k0_off247 v3725) a + S8x128.size a ≤ S7688x256.size a := fun arg0 v1 v3725 k0_hw124 k0_h1 => k0_hw124.2.1 k0_h1
theorem k0_off248_inb : ∀ (arg0 : BitVec 32) (v1 : BitVec 32) (v3725 : BitVec 32) (k0_hw124 : k0_chk124 arg0 v1 v3725), ∀ (k0_h1 : k0_cond1 arg0 v1 = 1#1), ∀ a, (k0_off248 v3725) a + S8x128.size a ≤ S7688x256.size a := fun arg0 v1 v3725 k0_hw124 k0_h1 => k0_hw124.2.2 k0_h1

def k0_mult125 (v3755 : BitVec 32) : BitVec 32 :=
  let c1_i32_888 : BitVec 32 := 1#32
  let v3775 : BitVec 32 := Scalar.shrsi v3755 c1_i32_888
  v3775

def k0_off249 (v3755 : BitVec 32) : Fin 2 → Nat :=
  let c1_i32_888 : BitVec 32 := 1#32
  let v3775 : BitVec 32 := Scalar.shrsi v3755 c1_i32_888
  let v3776 : BitVec 32 := v3775
  let v3777 : Index := Scalar.indexCast v3776
  let c0_889 : Index := 0#32
  ![v3777.toNat, 0]
def k0_off250 (v3755 : BitVec 32) : Fin 2 → Nat :=
  let c1_i32_888 : BitVec 32 := 1#32
  let v3775 : BitVec 32 := Scalar.shrsi v3755 c1_i32_888
  let v3776 : BitVec 32 := v3775
  let v3781 : Index := Scalar.indexCast v3776
  let c128_890 : Index := 128#32
  ![v3781.toNat, 128]

def k0_chk125 (arg0 : BitVec 32) (v1 : BitVec 32) (v3755 : BitVec 32) : Prop :=
  (∀ (k0_h1 : k0_cond1 arg0 v1 = 1#1), 8 ∣ (k0_mult125 v3755).toNat) ∧
  (∀ (k0_h1 : k0_cond1 arg0 v1 = 1#1), ∀ a, (k0_off249 v3755) a + S8x128.size a ≤ S7688x256.size a) ∧
  (∀ (k0_h1 : k0_cond1 arg0 v1 = 1#1), ∀ a, (k0_off250 v3755) a + S8x128.size a ≤ S7688x256.size a)
theorem k0_mult125_dvd : ∀ (arg0 : BitVec 32) (v1 : BitVec 32) (v3755 : BitVec 32) (k0_hw125 : k0_chk125 arg0 v1 v3755), ∀ (k0_h1 : k0_cond1 arg0 v1 = 1#1), 8 ∣ (k0_mult125 v3755).toNat := fun arg0 v1 v3755 k0_hw125 k0_h1 => k0_hw125.1 k0_h1
theorem k0_off249_inb : ∀ (arg0 : BitVec 32) (v1 : BitVec 32) (v3755 : BitVec 32) (k0_hw125 : k0_chk125 arg0 v1 v3755), ∀ (k0_h1 : k0_cond1 arg0 v1 = 1#1), ∀ a, (k0_off249 v3755) a + S8x128.size a ≤ S7688x256.size a := fun arg0 v1 v3755 k0_hw125 k0_h1 => k0_hw125.2.1 k0_h1
theorem k0_off250_inb : ∀ (arg0 : BitVec 32) (v1 : BitVec 32) (v3755 : BitVec 32) (k0_hw125 : k0_chk125 arg0 v1 v3755), ∀ (k0_h1 : k0_cond1 arg0 v1 = 1#1), ∀ a, (k0_off250 v3755) a + S8x128.size a ≤ S7688x256.size a := fun arg0 v1 v3755 k0_hw125 k0_h1 => k0_hw125.2.2 k0_h1

def k0_mult126 (v3785 : BitVec 32) : BitVec 32 :=
  let c1_i32_895 : BitVec 32 := 1#32
  let v3805 : BitVec 32 := Scalar.shrsi v3785 c1_i32_895
  v3805

def k0_off251 (v3785 : BitVec 32) : Fin 2 → Nat :=
  let c1_i32_895 : BitVec 32 := 1#32
  let v3805 : BitVec 32 := Scalar.shrsi v3785 c1_i32_895
  let v3806 : BitVec 32 := v3805
  let v3807 : Index := Scalar.indexCast v3806
  let c0_896 : Index := 0#32
  ![v3807.toNat, 0]
def k0_off252 (v3785 : BitVec 32) : Fin 2 → Nat :=
  let c1_i32_895 : BitVec 32 := 1#32
  let v3805 : BitVec 32 := Scalar.shrsi v3785 c1_i32_895
  let v3806 : BitVec 32 := v3805
  let v3811 : Index := Scalar.indexCast v3806
  let c128_897 : Index := 128#32
  ![v3811.toNat, 128]

def k0_chk126 (arg0 : BitVec 32) (v1 : BitVec 32) (v3785 : BitVec 32) : Prop :=
  (∀ (k0_h1 : k0_cond1 arg0 v1 = 1#1), 8 ∣ (k0_mult126 v3785).toNat) ∧
  (∀ (k0_h1 : k0_cond1 arg0 v1 = 1#1), ∀ a, (k0_off251 v3785) a + S8x128.size a ≤ S7688x256.size a) ∧
  (∀ (k0_h1 : k0_cond1 arg0 v1 = 1#1), ∀ a, (k0_off252 v3785) a + S8x128.size a ≤ S7688x256.size a)
theorem k0_mult126_dvd : ∀ (arg0 : BitVec 32) (v1 : BitVec 32) (v3785 : BitVec 32) (k0_hw126 : k0_chk126 arg0 v1 v3785), ∀ (k0_h1 : k0_cond1 arg0 v1 = 1#1), 8 ∣ (k0_mult126 v3785).toNat := fun arg0 v1 v3785 k0_hw126 k0_h1 => k0_hw126.1 k0_h1
theorem k0_off251_inb : ∀ (arg0 : BitVec 32) (v1 : BitVec 32) (v3785 : BitVec 32) (k0_hw126 : k0_chk126 arg0 v1 v3785), ∀ (k0_h1 : k0_cond1 arg0 v1 = 1#1), ∀ a, (k0_off251 v3785) a + S8x128.size a ≤ S7688x256.size a := fun arg0 v1 v3785 k0_hw126 k0_h1 => k0_hw126.2.1 k0_h1
theorem k0_off252_inb : ∀ (arg0 : BitVec 32) (v1 : BitVec 32) (v3785 : BitVec 32) (k0_hw126 : k0_chk126 arg0 v1 v3785), ∀ (k0_h1 : k0_cond1 arg0 v1 = 1#1), ∀ a, (k0_off252 v3785) a + S8x128.size a ≤ S7688x256.size a := fun arg0 v1 v3785 k0_hw126 k0_h1 => k0_hw126.2.2 k0_h1

def k0_mult127 (v3815 : BitVec 32) : BitVec 32 :=
  let c1_i32_902 : BitVec 32 := 1#32
  let v3835 : BitVec 32 := Scalar.shrsi v3815 c1_i32_902
  v3835

def k0_off253 (v3815 : BitVec 32) : Fin 2 → Nat :=
  let c1_i32_902 : BitVec 32 := 1#32
  let v3835 : BitVec 32 := Scalar.shrsi v3815 c1_i32_902
  let v3836 : BitVec 32 := v3835
  let v3837 : Index := Scalar.indexCast v3836
  let c0_903 : Index := 0#32
  ![v3837.toNat, 0]
def k0_off254 (v3815 : BitVec 32) : Fin 2 → Nat :=
  let c1_i32_902 : BitVec 32 := 1#32
  let v3835 : BitVec 32 := Scalar.shrsi v3815 c1_i32_902
  let v3836 : BitVec 32 := v3835
  let v3841 : Index := Scalar.indexCast v3836
  let c128_904 : Index := 128#32
  ![v3841.toNat, 128]

def k0_chk127 (arg0 : BitVec 32) (v1 : BitVec 32) (v3815 : BitVec 32) : Prop :=
  (∀ (k0_h1 : k0_cond1 arg0 v1 = 1#1), 8 ∣ (k0_mult127 v3815).toNat) ∧
  (∀ (k0_h1 : k0_cond1 arg0 v1 = 1#1), ∀ a, (k0_off253 v3815) a + S8x128.size a ≤ S7688x256.size a) ∧
  (∀ (k0_h1 : k0_cond1 arg0 v1 = 1#1), ∀ a, (k0_off254 v3815) a + S8x128.size a ≤ S7688x256.size a)
theorem k0_mult127_dvd : ∀ (arg0 : BitVec 32) (v1 : BitVec 32) (v3815 : BitVec 32) (k0_hw127 : k0_chk127 arg0 v1 v3815), ∀ (k0_h1 : k0_cond1 arg0 v1 = 1#1), 8 ∣ (k0_mult127 v3815).toNat := fun arg0 v1 v3815 k0_hw127 k0_h1 => k0_hw127.1 k0_h1
theorem k0_off253_inb : ∀ (arg0 : BitVec 32) (v1 : BitVec 32) (v3815 : BitVec 32) (k0_hw127 : k0_chk127 arg0 v1 v3815), ∀ (k0_h1 : k0_cond1 arg0 v1 = 1#1), ∀ a, (k0_off253 v3815) a + S8x128.size a ≤ S7688x256.size a := fun arg0 v1 v3815 k0_hw127 k0_h1 => k0_hw127.2.1 k0_h1
theorem k0_off254_inb : ∀ (arg0 : BitVec 32) (v1 : BitVec 32) (v3815 : BitVec 32) (k0_hw127 : k0_chk127 arg0 v1 v3815), ∀ (k0_h1 : k0_cond1 arg0 v1 = 1#1), ∀ a, (k0_off254 v3815) a + S8x128.size a ≤ S7688x256.size a := fun arg0 v1 v3815 k0_hw127 k0_h1 => k0_hw127.2.2 k0_h1

def k0_mult128 (v3845 : BitVec 32) : BitVec 32 :=
  let c1_i32_909 : BitVec 32 := 1#32
  let v3865 : BitVec 32 := Scalar.shrsi v3845 c1_i32_909
  v3865

def k0_off255 (v3845 : BitVec 32) : Fin 2 → Nat :=
  let c1_i32_909 : BitVec 32 := 1#32
  let v3865 : BitVec 32 := Scalar.shrsi v3845 c1_i32_909
  let v3866 : BitVec 32 := v3865
  let v3867 : Index := Scalar.indexCast v3866
  let c0_910 : Index := 0#32
  ![v3867.toNat, 0]
def k0_off256 (v3845 : BitVec 32) : Fin 2 → Nat :=
  let c1_i32_909 : BitVec 32 := 1#32
  let v3865 : BitVec 32 := Scalar.shrsi v3845 c1_i32_909
  let v3866 : BitVec 32 := v3865
  let v3871 : Index := Scalar.indexCast v3866
  let c128_911 : Index := 128#32
  ![v3871.toNat, 128]

def k0_chk128 (arg0 : BitVec 32) (v1 : BitVec 32) (v3845 : BitVec 32) : Prop :=
  (∀ (k0_h1 : k0_cond1 arg0 v1 = 1#1), 8 ∣ (k0_mult128 v3845).toNat) ∧
  (∀ (k0_h1 : k0_cond1 arg0 v1 = 1#1), ∀ a, (k0_off255 v3845) a + S8x128.size a ≤ S7688x256.size a) ∧
  (∀ (k0_h1 : k0_cond1 arg0 v1 = 1#1), ∀ a, (k0_off256 v3845) a + S8x128.size a ≤ S7688x256.size a)
theorem k0_mult128_dvd : ∀ (arg0 : BitVec 32) (v1 : BitVec 32) (v3845 : BitVec 32) (k0_hw128 : k0_chk128 arg0 v1 v3845), ∀ (k0_h1 : k0_cond1 arg0 v1 = 1#1), 8 ∣ (k0_mult128 v3845).toNat := fun arg0 v1 v3845 k0_hw128 k0_h1 => k0_hw128.1 k0_h1
theorem k0_off255_inb : ∀ (arg0 : BitVec 32) (v1 : BitVec 32) (v3845 : BitVec 32) (k0_hw128 : k0_chk128 arg0 v1 v3845), ∀ (k0_h1 : k0_cond1 arg0 v1 = 1#1), ∀ a, (k0_off255 v3845) a + S8x128.size a ≤ S7688x256.size a := fun arg0 v1 v3845 k0_hw128 k0_h1 => k0_hw128.2.1 k0_h1
theorem k0_off256_inb : ∀ (arg0 : BitVec 32) (v1 : BitVec 32) (v3845 : BitVec 32) (k0_hw128 : k0_chk128 arg0 v1 v3845), ∀ (k0_h1 : k0_cond1 arg0 v1 = 1#1), ∀ a, (k0_off256 v3845) a + S8x128.size a ≤ S7688x256.size a := fun arg0 v1 v3845 k0_hw128 k0_h1 => k0_hw128.2.2 k0_h1

@[reducible] def k0_t1_loop : Scf.Loop 32 :=
  let c0_i32_10 : BitVec 32 := 0#32
  let c128_i32_11 : BitVec 32 := 128#32
  let v34 : BitVec 32 := Scalar.addi c0_i32_10 c128_i32_11
  let c1_i32_12 : BitVec 32 := 1#32
  ⟨c0_i32_10, v34, c1_i32_12⟩
def k0_off257 (k0_t1 : Fin k0_t1_loop.trips) : Fin 1 → Nat :=
  let c0_i32_10 : BitVec 32 := 0#32
  let c1_i32_12 : BitVec 32 := 1#32
  let arg13 : BitVec 32 := Scf.iv c0_i32_10 c1_i32_12 k0_t1
  let v35 : Index := Scalar.indexCast arg13
  ![v35.toNat]
def k0_mult129 (k0_t1 : Fin k0_t1_loop.trips) : BitVec 32 :=
  let c8_i32 : BitVec 32 := 8#32
  let c0_i32_10 : BitVec 32 := 0#32
  let c1_i32_12 : BitVec 32 := 1#32
  let arg13 : BitVec 32 := Scf.iv c0_i32_10 c1_i32_12 k0_t1
  let v37 : BitVec 32 := Scalar.muli c8_i32 arg13
  v37
def k0_off258 (k0_t1 : Fin k0_t1_loop.trips) : Fin 2 → Nat :=
  let c8_i32 : BitVec 32 := 8#32
  let c0_i32_10 : BitVec 32 := 0#32
  let c1_i32_12 : BitVec 32 := 1#32
  let arg13 : BitVec 32 := Scf.iv c0_i32_10 c1_i32_12 k0_t1
  let v37 : BitVec 32 := Scalar.muli c8_i32 arg13
  let v38 : BitVec 32 := v37
  let v39 : Index := Scalar.indexCast v38
  let c0_14 : Index := 0#32
  ![v39.toNat, 0]
def k0_mult130 (v36 : BitVec 32) : BitVec 32 :=
  let c1_i32_18 : BitVec 32 := 1#32
  let v61 : BitVec 32 := Scalar.shrsi v36 c1_i32_18
  v61
def k0_cond2 (arg0 : BitVec 32) (v0 : BitVec 32) (v1 : BitVec 32) : BitVec 1 :=
  let c1_i32_0 : BitVec 32 := 1#32
  let v8 : BitVec 32 := Scalar.addi arg0 c1_i32_0
  let c128_i32_1 : BitVec 32 := 128#32
  let v9 : BitVec 32 := Scalar.muli v8 c128_i32_1
  let v10 : BitVec 1 := Scalar.cmpi .sgt v9 v1
  let v11 : BitVec 1 := Scalar.cmpi .slt arg0 v0
  let v12 : BitVec 1 := Scalar.andi v10 v11
  let v13 : BitVec 32 := Scalar.extui v12
  let c0_i32_2 : BitVec 32 := 0#32
  let v14 : BitVec 1 := Scalar.cmpi .ne v13 c0_i32_2
  v14

def k0_cond3 (arg0 : BitVec 32) (v1 : BitVec 32) (k0_t1 : Fin k0_t1_loop.trips) : BitVec 1 :=
  let c128_i32_15 : BitVec 32 := 128#32
  let v51 : BitVec 32 := Scalar.muli arg0 c128_i32_15
  let c0_i32_10 : BitVec 32 := 0#32
  let c1_i32_12 : BitVec 32 := 1#32
  let arg13 : BitVec 32 := Scf.iv c0_i32_10 c1_i32_12 k0_t1
  let v52 : BitVec 32 := Scalar.addi v51 arg13
  let v53 : BitVec 1 := Scalar.cmpi .slt v52 v1
  let v54 : BitVec 32 := Scalar.extui v53
  let c0_i32_16 : BitVec 32 := 0#32
  let v55 : BitVec 1 := Scalar.cmpi .ne v54 c0_i32_16
  v55

def k0_off259 (v36 : BitVec 32) : Fin 2 → Nat :=
  let c1_i32_18 : BitVec 32 := 1#32
  let v61 : BitVec 32 := Scalar.shrsi v36 c1_i32_18
  let v62 : BitVec 32 := v61
  let v75 : Index := Scalar.indexCast v62
  let c0_29 : Index := 0#32
  ![v75.toNat, 0]
def k0_off260 (v36 : BitVec 32) : Fin 2 → Nat :=
  let c1_i32_18 : BitVec 32 := 1#32
  let v61 : BitVec 32 := Scalar.shrsi v36 c1_i32_18
  let v62 : BitVec 32 := v61
  let v79 : Index := Scalar.indexCast v62
  let c128 : Index := 128#32
  ![v79.toNat, 128]
def k0_off261 (v36 : BitVec 32) : Fin 2 → Nat :=
  let c1_i32_18 : BitVec 32 := 1#32
  let v61 : BitVec 32 := Scalar.shrsi v36 c1_i32_18
  let v63 : Index := Scalar.indexCast v61
  let c0_19 : Index := 0#32
  ![v63.toNat, 0]
def k0_cond4 (arg0 : BitVec 32) (v1 : BitVec 32) (v2 : BitVec 32) (k0_t1 : Fin k0_t1_loop.trips) : BitVec 1 :=
  let c128_i32_15 : BitVec 32 := 128#32
  let v51 : BitVec 32 := Scalar.muli arg0 c128_i32_15
  let c0_i32_10 : BitVec 32 := 0#32
  let c1_i32_12 : BitVec 32 := 1#32
  let arg13 : BitVec 32 := Scf.iv c0_i32_10 c1_i32_12 k0_t1
  let v52 : BitVec 32 := Scalar.addi v51 arg13
  let v56 : BitVec 1 := Scalar.cmpi .sge v52 v1
  let v57 : BitVec 1 := Scalar.cmpi .slt v52 v2
  let v58 : BitVec 1 := Scalar.andi v56 v57
  let v59 : BitVec 32 := Scalar.extui v58
  let c0_i32_17 : BitVec 32 := 0#32
  let v60 : BitVec 1 := Scalar.cmpi .ne v59 c0_i32_17
  v60

def k0_chk129 (arg0 : BitVec 32) (v0 : BitVec 32) (v1 : BitVec 32) (v2 : BitVec 32) (k0_t1 : Fin k0_t1_loop.trips) (v36 : BitVec 32) : Prop :=
  (∀ (k0_h2 : k0_cond2 arg0 v0 v1 = 1#1), ∀ (k0_h3 : k0_cond3 arg0 v1 k0_t1 = 1#1), 8 ∣ (k0_mult130 v36).toNat) ∧
  (∀ (k0_h2 : k0_cond2 arg0 v0 v1 = 1#1), ∀ (k0_h3 : k0_cond3 arg0 v1 k0_t1 = 1#1), ∀ a, (k0_off259 v36) a + S8x128.size a ≤ S7688x256.size a) ∧
  (∀ (k0_h2 : k0_cond2 arg0 v0 v1 = 1#1), ∀ (k0_h3 : k0_cond3 arg0 v1 k0_t1 = 1#1), ∀ a, (k0_off260 v36) a + S8x128.size a ≤ S7688x256.size a) ∧
  (∀ (k0_h2 : k0_cond2 arg0 v0 v1 = 1#1), ∀ (k0_h4 : k0_cond4 arg0 v1 v2 k0_t1 = 1#1), ∀ a, (k0_off261 v36) a + S1x256.size a ≤ S7688x256.size a)
theorem k0_mult130_dvd : ∀ (arg0 : BitVec 32) (v0 : BitVec 32) (v1 : BitVec 32) (v2 : BitVec 32) (k0_t1 : Fin k0_t1_loop.trips) (v36 : BitVec 32) (k0_hw129 : k0_chk129 arg0 v0 v1 v2 k0_t1 v36), ∀ (k0_h2 : k0_cond2 arg0 v0 v1 = 1#1), ∀ (k0_h3 : k0_cond3 arg0 v1 k0_t1 = 1#1), 8 ∣ (k0_mult130 v36).toNat := fun arg0 v0 v1 v2 k0_t1 v36 k0_hw129 k0_h2 k0_h3 => k0_hw129.1 k0_h2 k0_h3
theorem k0_off259_inb : ∀ (arg0 : BitVec 32) (v0 : BitVec 32) (v1 : BitVec 32) (v2 : BitVec 32) (k0_t1 : Fin k0_t1_loop.trips) (v36 : BitVec 32) (k0_hw129 : k0_chk129 arg0 v0 v1 v2 k0_t1 v36), ∀ (k0_h2 : k0_cond2 arg0 v0 v1 = 1#1), ∀ (k0_h3 : k0_cond3 arg0 v1 k0_t1 = 1#1), ∀ a, (k0_off259 v36) a + S8x128.size a ≤ S7688x256.size a := fun arg0 v0 v1 v2 k0_t1 v36 k0_hw129 k0_h2 k0_h3 => k0_hw129.2.1 k0_h2 k0_h3
theorem k0_off260_inb : ∀ (arg0 : BitVec 32) (v0 : BitVec 32) (v1 : BitVec 32) (v2 : BitVec 32) (k0_t1 : Fin k0_t1_loop.trips) (v36 : BitVec 32) (k0_hw129 : k0_chk129 arg0 v0 v1 v2 k0_t1 v36), ∀ (k0_h2 : k0_cond2 arg0 v0 v1 = 1#1), ∀ (k0_h3 : k0_cond3 arg0 v1 k0_t1 = 1#1), ∀ a, (k0_off260 v36) a + S8x128.size a ≤ S7688x256.size a := fun arg0 v0 v1 v2 k0_t1 v36 k0_hw129 k0_h2 k0_h3 => k0_hw129.2.2.1 k0_h2 k0_h3
theorem k0_off261_inb : ∀ (arg0 : BitVec 32) (v0 : BitVec 32) (v1 : BitVec 32) (v2 : BitVec 32) (k0_t1 : Fin k0_t1_loop.trips) (v36 : BitVec 32) (k0_hw129 : k0_chk129 arg0 v0 v1 v2 k0_t1 v36), ∀ (k0_h2 : k0_cond2 arg0 v0 v1 = 1#1), ∀ (k0_h4 : k0_cond4 arg0 v1 v2 k0_t1 = 1#1), ∀ a, (k0_off261 v36) a + S1x256.size a ≤ S7688x256.size a := fun arg0 v0 v1 v2 k0_t1 v36 k0_hw129 k0_h2 k0_h4 => k0_hw129.2.2.2 k0_h2 k0_h4

def k0_mult131 (arg0 : BitVec 32) (v0 : BitVec 32) : BitVec 32 :=
  let v18 : BitVec 32 := Scalar.subi arg0 v0
  let c4_i32 : BitVec 32 := 4#32
  let v19 : BitVec 32 := Scalar.muli v18 c4_i32
  let c0_i32_4 : BitVec 32 := 0#32
  let v20 : BitVec 32 := Scalar.addi v19 c0_i32_4
  let c128_i32_5 : BitVec 32 := 128#32
  let v21 : BitVec 32 := Scalar.muli v20 c128_i32_5
  v21
def k0_cond5 (arg0 : BitVec 32) (v0 : BitVec 32) : BitVec 1 :=
  let v15 : BitVec 1 := Scalar.cmpi .sge arg0 v0
  let v16 : BitVec 32 := Scalar.extui v15
  let c0_i32_3 : BitVec 32 := 0#32
  let v17 : BitVec 1 := Scalar.cmpi .ne v16 c0_i32_3
  v17

def k0_off262 (arg0 : BitVec 32) (v0 : BitVec 32) (c0_i32_4 : BitVec 32) : Fin 2 → Nat :=
  let v18 : BitVec 32 := Scalar.subi arg0 v0
  let c4_i32 : BitVec 32 := 4#32
  let v19 : BitVec 32 := Scalar.muli v18 c4_i32
  let v20 : BitVec 32 := Scalar.addi v19 c0_i32_4
  let c128_i32_5 : BitVec 32 := 128#32
  let v21 : BitVec 32 := Scalar.muli v20 c128_i32_5
  let v22 : BitVec 32 := v21
  let v23 : Index := Scalar.indexCast v22
  let c0_6 : Index := 0#32
  ![v23.toNat, 0]
def k0_off263 (arg0 : BitVec 32) (v0 : BitVec 32) (c0_i32_4 : BitVec 32) : Fin 2 → Nat :=
  let v18 : BitVec 32 := Scalar.subi arg0 v0
  let c4_i32 : BitVec 32 := 4#32
  let v19 : BitVec 32 := Scalar.muli v18 c4_i32
  let v20 : BitVec 32 := Scalar.addi v19 c0_i32_4
  let c128_i32_5 : BitVec 32 := 128#32
  let v21 : BitVec 32 := Scalar.muli v20 c128_i32_5
  let v22 : BitVec 32 := v21
  let v26 : Index := Scalar.indexCast v22
  let c128 : Index := 128#32
  ![v26.toNat, 128]
def k0_off264 (arg0 : BitVec 32) (v0 : BitVec 32) (c0_i32_4 : BitVec 32) : Fin 2 → Nat :=
  let v18 : BitVec 32 := Scalar.subi arg0 v0
  let c4_i32 : BitVec 32 := 4#32
  let v19 : BitVec 32 := Scalar.muli v18 c4_i32
  let v20 : BitVec 32 := Scalar.addi v19 c0_i32_4
  let v37 : Index := Scalar.indexCast v20
  let c0_8 : Index := 0#32
  ![v37.toNat, 0]
def k0_mult132 (arg0 : BitVec 32) (v0 : BitVec 32) : BitVec 32 :=
  let v18 : BitVec 32 := Scalar.subi arg0 v0
  let c4_i32_16 : BitVec 32 := 4#32
  let v53 : BitVec 32 := Scalar.muli v18 c4_i32_16
  let c1_i32_17 : BitVec 32 := 1#32
  let v54 : BitVec 32 := Scalar.addi v53 c1_i32_17
  let c128_i32_18 : BitVec 32 := 128#32
  let v55 : BitVec 32 := Scalar.muli v54 c128_i32_18
  v55
def k0_mult133 (arg0 : BitVec 32) (v0 : BitVec 32) : BitVec 32 :=
  let v18 : BitVec 32 := Scalar.subi arg0 v0
  let c4_i32_31 : BitVec 32 := 4#32
  let v87 : BitVec 32 := Scalar.muli v18 c4_i32_31
  let c2_i32 : BitVec 32 := 2#32
  let v88 : BitVec 32 := Scalar.addi v87 c2_i32
  let c128_i32_32 : BitVec 32 := 128#32
  let v89 : BitVec 32 := Scalar.muli v88 c128_i32_32
  v89
def k0_mult134 (arg0 : BitVec 32) (v0 : BitVec 32) : BitVec 32 :=
  let v18 : BitVec 32 := Scalar.subi arg0 v0
  let c4_i32_44 : BitVec 32 := 4#32
  let v121 : BitVec 32 := Scalar.muli v18 c4_i32_44
  let c3_i32 : BitVec 32 := 3#32
  let v122 : BitVec 32 := Scalar.addi v121 c3_i32
  let c128_i32_45 : BitVec 32 := 128#32
  let v123 : BitVec 32 := Scalar.muli v122 c128_i32_45
  v123

def k0_chk130 (arg0 : BitVec 32) (v0 : BitVec 32) : Prop :=
  (∀ (k0_h5 : k0_cond5 arg0 v0 = 1#1), 128 ∣ (k0_mult131 arg0 v0).toNat) ∧
  (∀ (k0_h5 : k0_cond5 arg0 v0 = 1#1), ∀ (r : Fin 4), ∀ a, (k0_off262 arg0 v0 (BitVec.ofNat 32 r.val)) a + S128x128.size a ≤ S7688x256.size a) ∧
  (∀ (k0_h5 : k0_cond5 arg0 v0 = 1#1), ∀ (r : Fin 4), ∀ a, (k0_off263 arg0 v0 (BitVec.ofNat 32 r.val)) a + S128x128.size a ≤ S7688x256.size a) ∧
  (∀ (k0_h5 : k0_cond5 arg0 v0 = 1#1), ∀ (r : Fin 4), ∀ a, (k0_off264 arg0 v0 (BitVec.ofNat 32 r.val)) a + S1x128.size a ≤ S60x128.size a) ∧
  (∀ (k0_h5 : k0_cond5 arg0 v0 = 1#1), 128 ∣ (k0_mult132 arg0 v0).toNat) ∧
  (∀ (k0_h5 : k0_cond5 arg0 v0 = 1#1), 128 ∣ (k0_mult133 arg0 v0).toNat) ∧
  (∀ (k0_h5 : k0_cond5 arg0 v0 = 1#1), 128 ∣ (k0_mult134 arg0 v0).toNat)
theorem k0_mult131_dvd : ∀ (arg0 : BitVec 32) (v0 : BitVec 32) (k0_hw130 : k0_chk130 arg0 v0), ∀ (k0_h5 : k0_cond5 arg0 v0 = 1#1), 128 ∣ (k0_mult131 arg0 v0).toNat := fun arg0 v0 k0_hw130 k0_h5 => k0_hw130.1 k0_h5
theorem k0_off262_inb : ∀ (arg0 : BitVec 32) (v0 : BitVec 32) (k0_hw130 : k0_chk130 arg0 v0), ∀ (k0_h5 : k0_cond5 arg0 v0 = 1#1), ∀ (r : Fin 4), ∀ a, (k0_off262 arg0 v0 (BitVec.ofNat 32 r.val)) a + S128x128.size a ≤ S7688x256.size a := fun arg0 v0 k0_hw130 k0_h5 r => k0_hw130.2.1 k0_h5 r
theorem k0_off263_inb : ∀ (arg0 : BitVec 32) (v0 : BitVec 32) (k0_hw130 : k0_chk130 arg0 v0), ∀ (k0_h5 : k0_cond5 arg0 v0 = 1#1), ∀ (r : Fin 4), ∀ a, (k0_off263 arg0 v0 (BitVec.ofNat 32 r.val)) a + S128x128.size a ≤ S7688x256.size a := fun arg0 v0 k0_hw130 k0_h5 r => k0_hw130.2.2.1 k0_h5 r
theorem k0_off264_inb : ∀ (arg0 : BitVec 32) (v0 : BitVec 32) (k0_hw130 : k0_chk130 arg0 v0), ∀ (k0_h5 : k0_cond5 arg0 v0 = 1#1), ∀ (r : Fin 4), ∀ a, (k0_off264 arg0 v0 (BitVec.ofNat 32 r.val)) a + S1x128.size a ≤ S60x128.size a := fun arg0 v0 k0_hw130 k0_h5 r => k0_hw130.2.2.2.1 k0_h5 r
theorem k0_mult132_dvd : ∀ (arg0 : BitVec 32) (v0 : BitVec 32) (k0_hw130 : k0_chk130 arg0 v0), ∀ (k0_h5 : k0_cond5 arg0 v0 = 1#1), 128 ∣ (k0_mult132 arg0 v0).toNat := fun arg0 v0 k0_hw130 k0_h5 => k0_hw130.2.2.2.2.1 k0_h5
theorem k0_mult133_dvd : ∀ (arg0 : BitVec 32) (v0 : BitVec 32) (k0_hw130 : k0_chk130 arg0 v0), ∀ (k0_h5 : k0_cond5 arg0 v0 = 1#1), 128 ∣ (k0_mult133 arg0 v0).toNat := fun arg0 v0 k0_hw130 k0_h5 => k0_hw130.2.2.2.2.2.1 k0_h5
theorem k0_mult134_dvd : ∀ (arg0 : BitVec 32) (v0 : BitVec 32) (k0_hw130 : k0_chk130 arg0 v0), ∀ (k0_h5 : k0_cond5 arg0 v0 = 1#1), 128 ∣ (k0_mult134 arg0 v0).toNat := fun arg0 v0 k0_hw130 k0_h5 => k0_hw130.2.2.2.2.2.2 k0_h5

def cc0_transform_0 (inb_S3_S1_0 : ∀ a, (![0] : Fin 1 → Nat) a + S1.size a ≤ S3.size a) (numel1_S1 : S1.numel = 1) (pf : pre0.Contents (Elt F)) (b : grid0.Bounds) (i : (grid0.at b).Coords) : Fin 2 → Nat :=
  let arg0 : BitVec 32 := BitVec.ofNat 32 (i 0).val
  let c0 : Index := 0#32
  let v0 : BitVec 32 := pf.at 1 (Rect.unit (s := S3) ![0] S1.size inb_S3_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (inb_S3_S1_0 : ∀ a, (![0] : Fin 1 → Nat) a + S1.size a ≤ S3.size a) (numel1_S1 : S1.numel = 1) (pf : pre0.Contents (Elt F)) (b : grid0.Bounds) (i : (grid0.at b).Coords) : Fin 1 → Nat :=
  let arg0 : BitVec 32 := BitVec.ofNat 32 (i 0).val
  let c0 : Index := 0#32
  let v0 : BitVec 32 := pf.at 1 (Rect.unit (s := S3) ![0] S1.size inb_S3_S1_0) numel1_S1
  let c1_i32 : BitVec 32 := 1#32
  let v1 : BitVec 32 := Scalar.subi v0 c1_i32
  let v2 : BitVec 32 := Scalar.minsi arg0 v1
  let c832_i32 : BitVec 32 := 832#32
  let v3 : BitVec 32 := Scalar.addi c832_i32 v2
  let c0_i32 : BitVec 32 := 0#32
  ![v3.toNat]

def cc0_transform_2 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (inb_S3_S1_0 : ∀ a, (![0] : Fin 1 → Nat) a + S1.size a ≤ S3.size a) (numel1_S1 : S1.numel = 1) (pf : pre0.Contents (Elt F)) (b : grid0.Bounds) (i : (grid0.at b).Coords) : Fin 2 → Nat :=
  let arg0 : BitVec 32 := BitVec.ofNat 32 (i 0).val
  let c0 : Index := 0#32
  let v0 : BitVec 32 := pf.at 1 (Rect.unit (s := S3) ![0] S1.size inb_S3_S1_0) numel1_S1
  let v1 : BitVec 32 := Scalar.subi arg0 v0
  let c0_i32 : BitVec 32 := 0#32
  let v2 : BitVec 32 := Scalar.maxsi v1 c0_i32
  let c30_i32 : BitVec 32 := 30#32
  let v3 : BitVec 32 := Scalar.addi c30_i32 v2
  let c0_i32_0 : BitVec 32 := 0#32
  let c0_i32_1 : BitVec 32 := 0#32
  ![c0_i32_0.toNat, v3.toNat]

def cc0_transform_7 (inb_S3_S1_0 : ∀ a, (![0] : Fin 1 → Nat) a + S1.size a ≤ S3.size a) (numel1_S1 : S1.numel = 1) (pf : pre0.Contents (Elt F)) (b : grid0.Bounds) (i : (grid0.at b).Coords) : Fin 2 → Nat :=
  let arg0 : BitVec 32 := BitVec.ofNat 32 (i 0).val
  let c0 : Index := 0#32
  let v0 : BitVec 32 := pf.at 1 (Rect.unit (s := S3) ![0] S1.size inb_S3_S1_0) numel1_S1
  let v1 : BitVec 32 := Scalar.subi arg0 v0
  let c0_i32 : BitVec 32 := 0#32
  let v2 : BitVec 32 := Scalar.maxsi v1 c0_i32
  let c30_i32 : BitVec 32 := 30#32
  let v3 : BitVec 32 := Scalar.addi c30_i32 v2
  let c0_i32_0 : BitVec 32 := 0#32
  let c0_i32_1 : BitVec 32 := 0#32
  ![c0_i32_0.toNat, v3.toNat]

abbrev stage0_0 : Fin 2 → Memref sig .tc .vmem S1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S60x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S192x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S425984x128 : Shape := ⟨2, ![425984, 128]⟩
abbrev S212992 : Shape := ⟨1, ![212992]⟩
abbrev S6x32x64 : Shape := ⟨3, ![6, 32, 64]⟩
abbrev S60x128 : Shape := ⟨2, ![60, 128]⟩
abbrev S_ : Shape := ⟨0, ![]⟩
abbrev S192x30208 : Shape := ⟨2, ![192, 30208]⟩
abbrev S6x30208 : Shape := ⟨2, ![6, 30208]⟩
abbrev S425984x4x32 : Shape := ⟨3, ![425984, 4, 32]⟩
abbrev S425984x4x64 : Shape := ⟨3, ![425984, 4, 64]⟩
abbrev S192x64 : Shape := ⟨2, ![192, 64]⟩
abbrev S425984x4x192 : Shape := ⟨3, ![425984, 4, 192]⟩
abbrev S425984 : Shape := ⟨1, ![425984]⟩
abbrev S53248 : Shape := ⟨1, ![53248]⟩
abbrev S53248x8 : Shape := ⟨2, ![53248, 8]⟩
abbrev S1x425984 : Shape := ⟨2, ![1, 425984]⟩
abbrev S7680 : Shape := ⟨1, ![7680]⟩
abbrev S7680x1 : Shape := ⟨2, ![7680, 1]⟩
abbrev S7680x425984 : Shape := ⟨2, ![7680, 425984]⟩
abbrev S7680x425984x1x1 : Shape := ⟨4, ![7680, 425984, 1, 1]⟩
abbrev S1x425984x4x192 : Shape := ⟨4, ![1, 425984, 4, 192]⟩
abbrev S7680x425984x4x192 : Shape := ⟨4, ![7680, 425984, 4, 192]⟩
abbrev S7680x192 : Shape := ⟨2, ![7680, 192]⟩
abbrev S192x7680 : Shape := ⟨2, ![192, 7680]⟩
abbrev S192x60x128 : Shape := ⟨3, ![192, 60, 128]⟩
abbrev S1x60x128 : Shape := ⟨3, ![1, 60, 128]⟩
abbrev S60x128x1 : Shape := ⟨3, ![60, 128, 1]⟩
abbrev S6x32x7680 : Shape := ⟨3, ![6, 32, 7680]⟩
abbrev S6x7680 : Shape := ⟨2, ![6, 7680]⟩
abbrev S192x15360 : Shape := ⟨2, ![192, 15360]⟩
abbrev S192x7168 : Shape := ⟨2, ![192, 7168]⟩
abbrev S6x15360 : Shape := ⟨2, ![6, 15360]⟩
abbrev S6x7168 : Shape := ⟨2, ![6, 7168]⟩

abbrev nBuf : Space → Nat
  | .hbm => 91
  | .vmem => 0
  | .smem => 0
  | _ => 0

abbrev bufTy : (tb : Table) → Fin (tcTables nBuf tb) → BufTy
  | .hbm, ⟨0, _⟩ => ⟨S425984x128, .i32⟩
  | .hbm, ⟨1, _⟩ => ⟨S212992, .i32⟩
  | .hbm, ⟨2, _⟩ => ⟨S6x32x64, .bf16⟩
  | .hbm, ⟨3, _⟩ => ⟨S60x128, .i32⟩
  | .hbm, ⟨4, _⟩ => ⟨S_, .i32⟩
  | .hbm, ⟨5, _⟩ => ⟨S_, .i32⟩
  | .hbm, ⟨6, _⟩ => ⟨S192x30208, .f32⟩
  | .hbm, ⟨7, _⟩ => ⟨S6x30208, .f32⟩
  | .hbm, ⟨8, _⟩ => ⟨S_, .i32⟩
  | .hbm, ⟨9, _⟩ => ⟨S425984x128, .i32⟩
  | .hbm, ⟨10, _⟩ => ⟨S425984x128, .i32⟩
  | .hbm, ⟨11, _⟩ => ⟨S425984x128, .f32⟩
  | .hbm, ⟨12, _⟩ => ⟨S425984x128, .bf16⟩
  | .hbm, ⟨13, _⟩ => ⟨S425984x4x32, .bf16⟩
  | .hbm, ⟨14, _⟩ => ⟨S_, .i32⟩
  | .hbm, ⟨15, _⟩ => ⟨S425984x128, .i32⟩
  | .hbm, ⟨16, _⟩ => ⟨S425984x128, .i32⟩
  | .hbm, ⟨17, _⟩ => ⟨S425984x128, .f32⟩
  | .hbm, ⟨18, _⟩ => ⟨S425984x128, .bf16⟩
  | .hbm, ⟨19, _⟩ => ⟨S425984x4x32, .bf16⟩
  | .hbm, ⟨20, _⟩ => ⟨S425984x4x64, .bf16⟩
  | .hbm, ⟨21, _⟩ => ⟨S192x64, .bf16⟩
  | .hbm, ⟨22, _⟩ => ⟨S425984x4x192, .f32⟩
  | .hbm, ⟨23, _⟩ => ⟨S_, .f32⟩
  | .hbm, ⟨24, _⟩ => ⟨S425984x4x192, .f32⟩
  | .hbm, ⟨25, _⟩ => ⟨S425984x4x192, .f32⟩
  | .hbm, ⟨26, _⟩ => ⟨S_, .f32⟩
  | .hbm, ⟨27, _⟩ => ⟨S425984x4x192, .f32⟩
  | .hbm, ⟨28, _⟩ => ⟨S425984x4x192, .f32⟩
  | .hbm, ⟨29, _⟩ => ⟨S425984, .i32⟩
  | .hbm, ⟨30, _⟩ => ⟨S_, .i32⟩
  | .hbm, ⟨31, _⟩ => ⟨S425984, .i32⟩
  | .hbm, ⟨32, _⟩ => ⟨S425984, .i32⟩
  | .hbm, ⟨33, _⟩ => ⟨S425984, .i32⟩
  | .hbm, ⟨34, _⟩ => ⟨S_, .i32⟩
  | .hbm, ⟨35, _⟩ => ⟨S425984, .i32⟩
  | .hbm, ⟨36, _⟩ => ⟨S425984, .i32⟩
  | .hbm, ⟨37, _⟩ => ⟨S53248, .i32⟩
  | .hbm, ⟨38, _⟩ => ⟨S_, .i32⟩
  | .hbm, ⟨39, _⟩ => ⟨S53248, .i32⟩
  | .hbm, ⟨40, _⟩ => ⟨S53248, .i32⟩
  | .hbm, ⟨41, _⟩ => ⟨S53248x8, .i32⟩
  | .hbm, ⟨42, _⟩ => ⟨S425984, .i32⟩
  | .hbm, ⟨43, _⟩ => ⟨S425984, .i32⟩
  | .hbm, ⟨44, _⟩ => ⟨S425984, .i1⟩
  | .hbm, ⟨45, _⟩ => ⟨S425984, .i32⟩
  | .hbm, ⟨46, _⟩ => ⟨S425984, .i32⟩
  | .hbm, ⟨47, _⟩ => ⟨S425984, .i1⟩
  | .hbm, ⟨48, _⟩ => ⟨S_, .i32⟩
  | .hbm, ⟨49, _⟩ => ⟨S_, .i32⟩
  | .hbm, ⟨50, _⟩ => ⟨S425984, .i32⟩
  | .hbm, ⟨51, _⟩ => ⟨S425984, .i32⟩
  | .hbm, ⟨52, _⟩ => ⟨S425984, .i32⟩
  | .hbm, ⟨53, _⟩ => ⟨S1x425984, .i32⟩
  | .hbm, ⟨54, _⟩ => ⟨S7680, .i32⟩
  | .hbm, ⟨55, _⟩ => ⟨S7680x1, .i32⟩
  | .hbm, ⟨56, _⟩ => ⟨S7680x425984, .i32⟩
  | .hbm, ⟨57, _⟩ => ⟨S7680x425984, .i32⟩
  | .hbm, ⟨58, _⟩ => ⟨S7680x425984, .i1⟩
  | .hbm, ⟨59, _⟩ => ⟨S7680x425984x1x1, .i1⟩
  | .hbm, ⟨60, _⟩ => ⟨S1x425984x4x192, .f32⟩
  | .hbm, ⟨61, _⟩ => ⟨S_, .f32⟩
  | .hbm, ⟨62, _⟩ => ⟨S_, .f32⟩
  | .hbm, ⟨63, _⟩ => ⟨S7680x425984x4x192, .i1⟩
  | .hbm, ⟨64, _⟩ => ⟨S7680x425984x4x192, .f32⟩
  | .hbm, ⟨65, _⟩ => ⟨S7680x425984x4x192, .f32⟩
  | .hbm, ⟨66, _⟩ => ⟨S7680x425984x4x192, .f32⟩
  | .hbm, ⟨67, _⟩ => ⟨S_, .f32⟩
  | .hbm, ⟨68, _⟩ => ⟨S7680x192, .f32⟩
  | .hbm, ⟨69, _⟩ => ⟨S192x7680, .f32⟩
  | .hbm, ⟨70, _⟩ => ⟨S192x60x128, .f32⟩
  | .hbm, ⟨71, _⟩ => ⟨S1x60x128, .i32⟩
  | .hbm, ⟨72, _⟩ => ⟨S_, .i32⟩
  | .hbm, ⟨73, _⟩ => ⟨S1x60x128, .i32⟩
  | .hbm, ⟨74, _⟩ => ⟨S1x60x128, .i1⟩
  | .hbm, ⟨75, _⟩ => ⟨S_, .i32⟩
  | .hbm, ⟨76, _⟩ => ⟨S1x60x128, .i32⟩
  | .hbm, ⟨77, _⟩ => ⟨S1x60x128, .i32⟩
  | .hbm, ⟨78, _⟩ => ⟨S1x60x128, .i32⟩
  | .hbm, ⟨79, _⟩ => ⟨S60x128x1, .i32⟩
  | .hbm, ⟨80, _⟩ => ⟨S192x60x128, .f32⟩
  | .hbm, ⟨81, _⟩ => ⟨S192x7680, .f32⟩
  | .hbm, ⟨82, _⟩ => ⟨S6x32x7680, .f32⟩
  | .hbm, ⟨83, _⟩ => ⟨S_, .f32⟩
  | .hbm, ⟨84, _⟩ => ⟨S6x7680, .f32⟩
  | .hbm, ⟨85, _⟩ => ⟨S192x15360, .f32⟩
  | .hbm, ⟨86, _⟩ => ⟨S192x7168, .f32⟩
  | .hbm, ⟨87, _⟩ => ⟨S192x30208, .f32⟩
  | .hbm, ⟨88, _⟩ => ⟨S6x15360, .f32⟩
  | .hbm, ⟨89, _⟩ => ⟨S6x7168, .f32⟩
  | .hbm, ⟨90, _⟩ => ⟨S6x30208, .f32⟩
  | _, _ => ⟨S425984x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_call0_v0 : Ref sig .tc := ⟨.hbm, 49, rfl⟩
abbrev main_call0_v1 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call3_c : Ref sig .tc := ⟨.hbm, 72, rfl⟩
abbrev main_call3_v0 : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_8 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩

abbrev nD : Nat := 1
abbrev τ : Topo := Topo.v7x

variable {F : FTy → Type} [FloatOps F]
-- ==== Proof.Body.lean ====
/-
  The kernel's body as a program over named pieces: the 128 units of a whole block as one recursion,
  a partial block's trip, a finishing point's windows.
-/
module

public import proofs.«01_k».proof.Proof.Gen.KernelIdeal

@[expose] public section

set_option maxRecDepth 8192

noncomputable section

namespace Cert.KernelIdeal.Units

open Idealize.ShloMosaic Idealize.SL.Sem
open Cert.KernelIdeal Cert.KernelIdeal.Gen

variable {F : FTy → Type} [FloatOps F]

/-- The last store of a unit: the second half of its running maximum. -/
def tailE (arg0 v1 : BitVec 32) (k0_h1 : k0_cond1 arg0 v1 = 1#1) (arg3 : Memref sig .tc .smem S128 .i32) (arg10 : Memref sig .tc .vmem S7688x256 .f32) (d : Elt F .i32) (hw : k0_chk1 arg0 v1 d) (s1 : FVec F S8x128 .f32) : Prog (TpuEff nD τ sig (Elt F) Λ₀ .tc) PUnit :=
  Prog.lift (.store arg10 (Rect.unit (s := S7688x256) (k0_off2 d) S8x128.size (k0_off2_inb arg0 v1 d hw k0_h1)) s1 Finset.univ (View.stores_vmem_bits_univ h_S8x128 rfl) (.inl rfl))

/-- From the read that precedes the second store on. -/
def tailD (arg0 v1 : BitVec 32) (k0_h1 : k0_cond1 arg0 v1 = 1#1) (arg3 : Memref sig .tc .smem S128 .i32) (arg10 : Memref sig .tc .vmem S7688x256 .f32) (d : Elt F .i32) (hw : k0_chk1 arg0 v1 d) (b1 : FVec F S8x128 .f32) : Prog (TpuEff nD τ sig (Elt F) Λ₀ .tc) PUnit := do
  let _ : Vec F S8x128 .f32 ← Prog.lift (.load arg10 (Rect.unit (s := S7688x256) (k0_off2 d) S8x128.size (k0_off2_inb arg0 v1 d hw k0_h1)).toLoadRect (View.loadsAt_vmem h_S8x128))
  tailE arg0 v1 k0_h1 arg3 arg10 d hw (shapeCast S8x128 b1 shapeCasts_S8x128_S8x128)

/-- From the first store on. -/
def tailC (arg0 v1 : BitVec 32) (k0_h1 : k0_cond1 arg0 v1 = 1#1) (arg3 : Memref sig .tc .smem S128 .i32) (arg10 : Memref sig .tc .vmem S7688x256 .f32) (d : Elt F .i32) (hw : k0_chk1 arg0 v1 d) (s0 b1 : FVec F S8x128 .f32) : Prog (TpuEff nD τ sig (Elt F) Λ₀ .tc) PUnit := do
  Prog.lift (.store arg10 (Rect.unit (s := S7688x256) (k0_off1 d) S8x128.size (k0_off1_inb arg0 v1 d hw k0_h1)) s0 Finset.univ (View.stores_vmem_bits_univ h_S8x128 rfl) (.inl rfl))
  tailD arg0 v1 k0_h1 arg3 arg10 d hw b1

/-- A unit's four memory operations, once its destination word is checked. -/
def tailB (arg0 v1 : BitVec 32) (k0_h1 : k0_cond1 arg0 v1 = 1#1) (arg3 : Memref sig .tc .smem S128 .i32) (arg10 : Memref sig .tc .vmem S7688x256 .f32) (d : Elt F .i32) (hw : k0_chk1 arg0 v1 d) (b0 b1 : FVec F S8x128 .f32) : Prog (TpuEff nD τ sig (Elt F) Λ₀ .tc) PUnit := do
  let _ : Vec F S8x128 .f32 ← Prog.lift (.load arg10 (Rect.unit (s := S7688x256) (k0_off1 d) S8x128.size (k0_off1_inb arg0 v1 d hw k0_h1)).toLoadRect (View.loadsAt_vmem h_S8x128))
  tailC arg0 v1 k0_h1 arg3 arg10 d hw (shapeCast S8x128 b0 shapeCasts_S8x128_S8x128) b1

/-- The check of a unit's destination word and what follows it. -/
def tailAs (arg0 v1 : BitVec 32) (k0_h1 : k0_cond1 arg0 v1 = 1#1) (arg3 : Memref sig .tc .smem S128 .i32) (arg10 : Memref sig .tc .vmem S7688x256 .f32) (d : Elt F .i32) (b0 b1 : FVec F S8x128 .f32) : Prog (TpuEff nD τ sig (Elt F) Λ₀ .tc) PUnit := do
  let hw ← Prog.lift (TpuEff.assume (k0_chk1 arg0 v1 d) (k0_chk1.dec arg0 v1 d))
  tailB arg0 v1 k0_h1 arg3 arg10 d hw.down b0 b1

theorem slices_unit (u : Nat) (hu : u < 128) : S1024x768.Slices ![8 * u, 0] S8x768 := by
  refine ⟨rfl, fun a => ?_⟩
  fin_cases a <;> simp [S1024x768, S8x768] <;> omega

theorem inb_unit (u : Nat) (hu : u < 128) : ∀ a, (![u] : Fin 1 → Nat) a + S1.size a ≤ S128.size a := by
  intro a; fin_cases a; simp [S1, S128]; omega

/-- The eight product rows of unit `u`. -/
def rows (o : FVec F S1024x768 .f32) (u : Nat) (hu : u < 128) : FVec F S8x768 .f32 :=
  extractStridedSlice S8x768 ![8 * u, 0] o (slices_unit u hu)

/-- The maximum over a row's four tokens, for the first 128 queries. -/
def max0 (r : FVec F S8x768 .f32) : FVec F S8x128 .f32 :=
  maximumf (maximumf (extractStridedSlice S8x128 ![0, 0] r slices_S8x768_o0_0_S8x128) (extractStridedSlice S8x128 ![0, 128] r slices_S8x768_o0_128_S8x128))
    (maximumf (extractStridedSlice S8x128 ![0, 256] r slices_S8x768_o0_256_S8x128) (extractStridedSlice S8x128 ![0, 384] r slices_S8x768_o0_384_S8x128))

/-- The maximum over two pairs of a row's tokens, for the last 64 queries. -/
def max1 (r : FVec F S8x768 .f32) : FVec F S8x128 .f32 :=
  maximumf (extractStridedSlice S8x128 ![0, 512] r slices_S8x768_o0_512_S8x128) (extractStridedSlice S8x128 ![0, 640] r slices_S8x768_o0_640_S8x128)

/-- The running maximum after a unit: the carry counts unless the unit is the first of its run. -/
def upd (d : BitVec 32) (m a : FVec F S8x128 .f32) : FVec F S8x128 .f32 :=
  maximumf m (Scalar.select (Scalar.cmpi .eq (Scalar.andi d 1#32) 1#32) (broadcast S8x128 (Scalar.ofBits .f32 0xFF800000#32)) a)

/-- The last `k` of the 128 units of a whole block from the running maximum `a0`, `a1`, and then `K`. -/
def unitsP (arg0 v1 : BitVec 32) (k0_h1 : k0_cond1 arg0 v1 = 1#1) (arg3 : Memref sig .tc .smem S128 .i32) (arg10 : Memref sig .tc .vmem S7688x256 .f32) (K : FVec F S8x128 .f32 → FVec F S8x128 .f32 → Prog (TpuEff nD τ sig (Elt F) Λ₀ .tc) PUnit) (o : FVec F S1024x768 .f32) : (k : Nat) → k ≤ 128 → FVec F S8x128 .f32 → FVec F S8x128 .f32 → Prog (TpuEff nD τ sig (Elt F) Λ₀ .tc) PUnit
  | 0, _, a0, a1 => K a0 a1
  | k + 1, h, a0, a1 => do
    let d : Elt F .i32 ← smemLoad arg3 (Rect.unit (s := S128) ![127 - k] S1.size (inb_unit (127 - k) (by omega))) numel1_S1 rfl
    tailAs arg0 v1 k0_h1 arg3 arg10 d (upd d (max0 (rows o (127 - k) (by omega))) a0) (upd d (max1 (rows o (127 - k) (by omega))) a1)
    unitsP arg0 v1 k0_h1 arg3 arg10 K o k (by omega) (upd d (max0 (rows o (127 - k) (by omega))) a0) (upd d (max1 (rows o (127 - k) (by omega))) a1)

/-- The product of the decoded rows with the right-hand matrix. -/
def prodOf (x : Vec F S1024x128 .i32) (r : Vec F S256x768 .bf16) : FVec F S1024x768 .f32 :=
  matmul dot_S1024x256_S256x768_S1024x768_1_0_0_1_n_n none
    (concatenate S1024x256 1
      [⟨S1024x128, truncf .bf16 (bitcastToFloat (F := F) .f32 (shli x (broadcast S1024x128 16#32))) bitsLt_bf16_f32⟩,
        ⟨S1024x128, truncf .bf16 (bitcastToFloat (F := F) .f32 (andi x (broadcast S1024x128 4294901760#32))) bitsLt_bf16_f32⟩]
      concatenates_S1024x128_S1024x128_S1024x256_d1)
    (shapeCast S256x768 r shapeCasts_S256x768_S256x768) (constant S1024x768 .f32 0x00000000#32)

/-- A whole block of normal units: the product, the carry read, the 128 units, and then `K`. -/
def headP (arg0 v1 : BitVec 32) (k0_h1 : k0_cond1 arg0 v1 = 1#1) (arg3 : Memref sig .tc .smem S128 .i32) (arg10 : Memref sig .tc .vmem S7688x256 .f32) (arg2 : Memref sig .tc .vmem S1024x128 .i32) (arg4 : Memref sig .tc .vmem S256x768 .bf16) (arg11 : Memref sig .tc .vmem S2x8x128 .f32)
    (K : FVec F S8x128 .f32 → FVec F S8x128 .f32 → Prog (TpuEff nD τ sig (Elt F) Λ₀ .tc) PUnit) : Prog (TpuEff nD τ sig (Elt F) Λ₀ .tc) PUnit := do
  let x : Vec F S1024x128 .i32 ← Prog.lift (.load arg2 (Rect.unit (s := S1024x128) ![0, 0] S1024x128.size inb_S1024x128_S1024x128_0_0).toLoadRect (View.loadsAt_vmem h_S1024x128))
  let r : Vec F S256x768 .bf16 ← Prog.lift (.load arg4 (Rect.unit (s := S256x768) ![0, 0] S256x768.size inb_S256x768_S256x768_0_0).toLoadRect (View.loadsAt_vmem h_S256x768))
  let c0 : Vec F S1x8x128 .f32 ← Prog.lift (.load arg11 (Rect.unit (s := S2x8x128) ![0, 0, 0] S1x8x128.size inb_S2x8x128_S1x8x128_0_0_0).toLoadRect (View.loadsAt_vmem h_S1x8x128))
  let c1 : Vec F S1x8x128 .f32 ← Prog.lift (.load arg11 (Rect.unit (s := S2x8x128) ![1, 0, 0] S1x8x128.size inb_S2x8x128_S1x8x128_1_0_0).toLoadRect (View.loadsAt_vmem h_S1x8x128))
  unitsP arg0 v1 k0_h1 arg3 arg10 K (prodOf x r) 128 le_rfl (shapeCast S8x128 c0 shapeCasts_S1x8x128_S8x128) (shapeCast S8x128 c1 shapeCasts_S1x8x128_S8x128)

/-- The carry stored back at the end of a whole block. -/
def carryP (arg11 : Memref sig .tc .vmem S2x8x128 .f32) (a0 a1 : FVec F S8x128 .f32) : Prog (TpuEff nD τ sig (Elt F) Λ₀ .tc) PUnit := do
  let _ : Vec F S1x8x128 .f32 ← Prog.lift (.load arg11 (Rect.unit (s := S2x8x128) ![0, 0, 0] S1x8x128.size inb_S2x8x128_S1x8x128_0_0_0).toLoadRect (View.loadsAt_vmem h_S1x8x128))
  Prog.lift (.store arg11 (Rect.unit (s := S2x8x128) ![0, 0, 0] S1x8x128.size inb_S2x8x128_S1x8x128_0_0_0) (shapeCast S1x8x128 a0 shapeCasts_S8x128_S1x8x128) Finset.univ (View.stores_vmem_bits_univ h_S1x8x128 rfl) (.inl rfl))
  let _ : Vec F S1x8x128 .f32 ← Prog.lift (.load arg11 (Rect.unit (s := S2x8x128) ![1, 0, 0] S1x8x128.size inb_S2x8x128_S1x8x128_1_0_0).toLoadRect (View.loadsAt_vmem h_S1x8x128))
  Prog.lift (.store arg11 (Rect.unit (s := S2x8x128) ![1, 0, 0] S1x8x128.size inb_S2x8x128_S1x8x128_1_0_0) (shapeCast S1x8x128 a1 shapeCasts_S8x128_S1x8x128) Finset.univ (View.stores_vmem_bits_univ h_S1x8x128 rfl) (.inl rfl))
  pure ⟨⟩

/-- An extra unit's row: the maximum of the row and of the unit's eight rows. -/
def rowUpd (r : FVec F S8x768 .f32) (m : Vec F S1x256 .f32) : FVec F S1x256 .f32 :=
  shapeCast S1x256 (maximumf m (shapeCast S1x256 (multiReduction .maximumf [0] S256
    (concatenate S8x256 1 [⟨S8x128, max0 r⟩, ⟨S8x128, max1 r⟩] concatenates_S8x128_S8x128_S8x256_d1) 0xFF800000#32 reduces_S8x256_S256 (.inl rfl) rfl)
    shapeCasts_S256_S1x256)) shapeCasts_S1x256_S1x256

/-- One trip of a partial block: unit `k` of the block, normal, extra or neither. -/
def tripP (arg0 v0 v1 v2 : BitVec 32) (k0_h2 : k0_cond2 arg0 v0 v1 = 1#1) (arg3 : Memref sig .tc .smem S128 .i32) (arg10 : Memref sig .tc .vmem S7688x256 .f32)
    (arg11 : Memref sig .tc .vmem S2x8x128 .f32) (arg12 : Memref sig .tc .vmem S1024x768 .f32) (k : Fin k0_t1_loop.trips) : Prog (TpuEff nD τ sig (Elt F) Λ₀ .tc) PUnit := do
  let d : Elt F .i32 ← smemLoad arg3 (Rect.unit (s := S128) (k0_off257 k) S1.size (k0_off257_inb k)) numel1_S1 rfl
  have hw : k0_chk129 arg0 v0 v1 v2 k d := (← Prog.lift (TpuEff.assume (k0_chk129 arg0 v0 v1 v2 k d) (k0_chk129.dec arg0 v0 v1 v2 k d))).down
  let r : Vec F S8x768 .f32 ← Prog.lift (.load arg12 (Rect.unit (s := S1024x768) (k0_off258 k) S8x768.size (k0_off258_inb k)).toLoadRect (View.loadsAt_vmem h_S8x768))
  if h3 : k0_cond3 arg0 v1 k = 1#1 then do
    let c0 : Vec F S1x8x128 .f32 ← Prog.lift (.load arg11 (Rect.unit (s := S2x8x128) ![0, 0, 0] S1x8x128.size inb_S2x8x128_S1x8x128_0_0_0).toLoadRect (View.loadsAt_vmem h_S1x8x128))
    let c1 : Vec F S1x8x128 .f32 ← Prog.lift (.load arg11 (Rect.unit (s := S2x8x128) ![1, 0, 0] S1x8x128.size inb_S2x8x128_S1x8x128_1_0_0).toLoadRect (View.loadsAt_vmem h_S1x8x128))
    let _ : Vec F S8x128 .f32 ← Prog.lift (.load arg10 (Rect.unit (s := S7688x256) (k0_off259 d) S8x128.size (k0_off259_inb arg0 v0 v1 v2 k d hw k0_h2 h3)).toLoadRect (View.loadsAt_vmem h_S8x128))
    Prog.lift (.store arg10 (Rect.unit (s := S7688x256) (k0_off259 d) S8x128.size (k0_off259_inb arg0 v0 v1 v2 k d hw k0_h2 h3)) (shapeCast S8x128 (upd d (max0 r) (shapeCast S8x128 c0 shapeCasts_S1x8x128_S8x128)) shapeCasts_S8x128_S8x128) Finset.univ (View.stores_vmem_bits_univ h_S8x128 rfl) (.inl rfl))
    let _ : Vec F S8x128 .f32 ← Prog.lift (.load arg10 (Rect.unit (s := S7688x256) (k0_off260 d) S8x128.size (k0_off260_inb arg0 v0 v1 v2 k d hw k0_h2 h3)).toLoadRect (View.loadsAt_vmem h_S8x128))
    Prog.lift (.store arg10 (Rect.unit (s := S7688x256) (k0_off260 d) S8x128.size (k0_off260_inb arg0 v0 v1 v2 k d hw k0_h2 h3)) (shapeCast S8x128 (upd d (max1 r) (shapeCast S8x128 c1 shapeCasts_S1x8x128_S8x128)) shapeCasts_S8x128_S8x128) Finset.univ (View.stores_vmem_bits_univ h_S8x128 rfl) (.inl rfl))
    carryP arg11 (upd d (max0 r) (shapeCast S8x128 c0 shapeCasts_S1x8x128_S8x128)) (upd d (max1 r) (shapeCast S8x128 c1 shapeCasts_S1x8x128_S8x128))
  else do
    pure ⟨⟩
  if h4 : k0_cond4 arg0 v1 v2 k = 1#1 then do
    let m : Vec F S1x256 .f32 ← Prog.lift (.load arg10 (Rect.unit (s := S7688x256) (k0_off261 d) S1x256.size (k0_off261_inb arg0 v0 v1 v2 k d hw k0_h2 h4)).toLoadRect (View.loadsAt_vmem h_S1x256))
    let _ : Vec F S1x256 .f32 ← Prog.lift (.load arg10 (Rect.unit (s := S7688x256) (k0_off261 d) S1x256.size (k0_off261_inb arg0 v0 v1 v2 k d hw k0_h2 h4)).toLoadRect (View.loadsAt_vmem h_S1x256))
    Prog.lift (.store arg10 (Rect.unit (s := S7688x256) (k0_off261 d) S1x256.size (k0_off261_inb arg0 v0 v1 v2 k d hw k0_h2 h4)) (rowUpd r m) Finset.univ (View.stores_vmem_bits_univ h_S1x256 rfl) (.inl rfl))
    pure ⟨⟩
  else do
    pure ⟨⟩
  pure ⟨⟩

/-- A partial block: the product into its scratch buffer, the 128 trips, and then `J`. -/
def partP (arg0 v0 v1 v2 : BitVec 32) (k0_h2 : k0_cond2 arg0 v0 v1 = 1#1) (arg2 : Memref sig .tc .vmem S1024x128 .i32) (arg3 : Memref sig .tc .smem S128 .i32)
    (arg4 : Memref sig .tc .vmem S256x768 .bf16) (arg10 : Memref sig .tc .vmem S7688x256 .f32) (arg11 : Memref sig .tc .vmem S2x8x128 .f32)
    (arg12 : Memref sig .tc .vmem S1024x768 .f32) (J : Prog (TpuEff nD τ sig (Elt F) Λ₀ .tc) PUnit) : Prog (TpuEff nD τ sig (Elt F) Λ₀ .tc) PUnit := do
  let x : Vec F S1024x128 .i32 ← Prog.lift (.load arg2 (Rect.unit (s := S1024x128) ![0, 0] S1024x128.size inb_S1024x128_S1024x128_0_0).toLoadRect (View.loadsAt_vmem h_S1024x128))
  let r : Vec F S256x768 .bf16 ← Prog.lift (.load arg4 (Rect.unit (s := S256x768) ![0, 0] S256x768.size inb_S256x768_S256x768_0_0).toLoadRect (View.loadsAt_vmem h_S256x768))
  let _ : Vec F S1024x768 .f32 ← Prog.lift (.load arg12 (Rect.unit (s := S1024x768) ![0, 0] S1024x768.size inb_S1024x768_S1024x768_0_0).toLoadRect (View.loadsAt_vmem h_S1024x768))
  Prog.lift (.store arg12 (Rect.unit (s := S1024x768) ![0, 0] S1024x768.size inb_S1024x768_S1024x768_0_0) (shapeCast S1024x768 (prodOf x r) shapeCasts_S1024x768_S1024x768) Finset.univ (View.stores_vmem_bits_univ h_S1024x768 rfl) (.inl rfl))
  Scf.Loop.for k0_t1_loop k0_t1_ok ⟨⟩ fun k _ => tripP arg0 v0 v1 v2 k0_h2 arg3 arg10 arg11 arg12 k
  J

/-- What one window of 128 columns of the first result holds, from the two halves of its accumulator rows and its permutation row. -/
def finWin (t0 t1 : Vec F S128x128 .f32) (rk : Vec F S1x128 .i32) : FVec F S192x128 .f32 :=
  have u : FVec F S128x128 .f32 := transpose S128x128 [1, 0] t1 transposes_S128x128_p1_0_S128x128
  have p : FVec F S192x128 .f32 := maximumf (subf (concatenate S192x128 0 [⟨S128x128, transpose S128x128 [1, 0] t0 transposes_S128x128_p1_0_S128x128⟩,
      ⟨S64x128, maximumf (extractStridedSlice S64x128 ![0, 0] u slices_S128x128_o0_0_S64x128) (extractStridedSlice S64x128 ![64, 0] u slices_S128x128_o64_0_S64x128)⟩]
      concatenates_S128x128_S64x128_S192x128_d0) (broadcast S192x128 (Scalar.ofBits .f32 0x3EE66666#32))) (broadcast S192x128 (Scalar.ofBits .f32 0x00000000#32))
  have k : IVec S192x128 32 := broadcastTo S192x128 (shapeCast S1x128 rk shapeCasts_S1x128_S1x128) broadcasts_S1x128_S192x128
  dynamicGather 1 p (shapeCast S192x128 (shapeCast S192x128x1 (select (cmpi .slt k (broadcast S192x128 0#32)) (addi k (broadcast S192x128 128#32)) k)
    shapeCasts_S192x128_S192x128x1) shapeCasts_S192x128x1_S192x128)

/-- The sums of a window over the query tokens. -/
def finSum (p : FVec F S192x128 .f32) : FVec F S6x128 .f32 :=
  multiReduction .add [1] S6x128 (shapeCast S6x32x128 p shapeCasts_S192x128_S6x32x128) 0x00000000#32 reduces_S6x32x128_S6x128 (.inl rfl) rfl

theorem inb_win8 (r : Fin 4) : ∀ a, (![0, 128 * r.val] : Fin 2 → Nat) a + S192x128.size a ≤ S192x512.size a := by
  revert r; decide

theorem inb_win9 (r : Fin 4) : ∀ a, (![0, 128 * r.val] : Fin 2 → Nat) a + S6x128.size a ≤ S6x512.size a := by
  revert r; decide

/-- One of the four windows of a finishing point. -/
def finP (arg0 v0 : BitVec 32) (hw : k0_chk130 arg0 v0) (k0_h5 : k0_cond5 arg0 v0 = 1#1) (arg5 : Memref sig .tc .vmem S60x128 .i32)
    (arg8 : Memref sig .tc .vmem S192x512 .f32) (arg9 : Memref sig .tc .vmem S6x512 .f32) (arg10 : Memref sig .tc .vmem S7688x256 .f32) (r : Fin 4) : Prog (TpuEff nD τ sig (Elt F) Λ₀ .tc) PUnit := do
  let t0 : Vec F S128x128 .f32 ← Prog.lift (.load arg10 (Rect.unit (s := S7688x256) (k0_off262 arg0 v0 (BitVec.ofNat 32 r.val)) S128x128.size (k0_off262_inb arg0 v0 hw k0_h5 r)).toLoadRect (View.loadsAt_vmem h_S128x128))
  let t1 : Vec F S128x128 .f32 ← Prog.lift (.load arg10 (Rect.unit (s := S7688x256) (k0_off263 arg0 v0 (BitVec.ofNat 32 r.val)) S128x128.size (k0_off263_inb arg0 v0 hw k0_h5 r)).toLoadRect (View.loadsAt_vmem h_S128x128))
  let rk : Vec F S1x128 .i32 ← Prog.lift (.load arg5 (Rect.unit (s := S60x128) (k0_off264 arg0 v0 (BitVec.ofNat 32 r.val)) S1x128.size (k0_off264_inb arg0 v0 hw k0_h5 r)).toLoadRect (View.loadsAt_vmem h_S1x128))
  let _ : Vec F S192x128 .f32 ← Prog.lift (.load arg8 (Rect.unit (s := S192x512) ![0, 128 * r.val] S192x128.size (inb_win8 r)).toLoadRect (View.loadsAt_vmem h_S192x128))
  Prog.lift (.store arg8 (Rect.unit (s := S192x512) ![0, 128 * r.val] S192x128.size (inb_win8 r)) (finWin t0 t1 rk) Finset.univ (View.stores_vmem_bits_univ h_S192x128 rfl) (.inl rfl))
  let _ : Vec F S6x128 .f32 ← Prog.lift (.load arg9 (Rect.unit (s := S6x512) ![0, 128 * r.val] S6x128.size (inb_win9 r)).toLoadRect (View.loadsAt_vmem h_S6x128))
  Prog.lift (.store arg9 (Rect.unit (s := S6x512) ![0, 128 * r.val] S6x128.size (inb_win9 r)) (finSum (finWin t0 t1 rk)) Finset.univ (View.stores_vmem_bits_univ h_S6x128 rfl) (.inl rfl))

/-- A finishing point's four windows, or nothing before the finishing points. -/
def finS (arg0 v0 : BitVec 32) (hw : k0_chk130 arg0 v0) (arg5 : Memref sig .tc .vmem S60x128 .i32)
    (arg8 : Memref sig .tc .vmem S192x512 .f32) (arg9 : Memref sig .tc .vmem S6x512 .f32) (arg10 : Memref sig .tc .vmem S7688x256 .f32) : Prog (TpuEff nD τ sig (Elt F) Λ₀ .tc) PUnit :=
  if h : k0_cond5 arg0 v0 = 1#1 then do
    finP arg0 v0 hw h arg5 arg8 arg9 arg10 0
    finP arg0 v0 hw h arg5 arg8 arg9 arg10 1
    finP arg0 v0 hw h arg5 arg8 arg9 arg10 2
    finP arg0 v0 hw h arg5 arg8 arg9 arg10 3
  else pure ⟨⟩

/-- A partial block if this point has one, and then `J`. -/
def partS (arg0 v0 v1 v2 : BitVec 32) (arg2 : Memref sig .tc .vmem S1024x128 .i32) (arg3 : Memref sig .tc .smem S128 .i32)
    (arg4 : Memref sig .tc .vmem S256x768 .bf16) (arg10 : Memref sig .tc .vmem S7688x256 .f32) (arg11 : Memref sig .tc .vmem S2x8x128 .f32)
    (arg12 : Memref sig .tc .vmem S1024x768 .f32) (J : Prog (TpuEff nD τ sig (Elt F) Λ₀ .tc) PUnit) : Prog (TpuEff nD τ sig (Elt F) Λ₀ .tc) PUnit :=
  if h : k0_cond2 arg0 v0 v1 = 1#1 then partP arg0 v0 v1 v2 h arg2 arg3 arg4 arg10 arg11 arg12 J else J

/-- A whole block of normal units if this point has one, and then `J`. -/
def normS (arg0 v1 : BitVec 32) (arg2 : Memref sig .tc .vmem S1024x128 .i32) (arg3 : Memref sig .tc .smem S128 .i32)
    (arg4 : Memref sig .tc .vmem S256x768 .bf16) (arg10 : Memref sig .tc .vmem S7688x256 .f32) (arg11 : Memref sig .tc .vmem S2x8x128 .f32)
    (J : Prog (TpuEff nD τ sig (Elt F) Λ₀ .tc) PUnit) : Prog (TpuEff nD τ sig (Elt F) Λ₀ .tc) PUnit :=
  if h : k0_cond1 arg0 v1 = 1#1 then headP arg0 v1 h arg3 arg10 arg2 arg4 arg11 (fun a0 a1 => carryP arg11 a0 a1 >>= fun _ => J) else J

/-- The body of the kernel at one grid point, over the named pieces above. -/
def rootP (arg0 : BitVec 32) (arg1 : Memref sig .tc .smem S3 .i32) (arg2 : Memref sig .tc .vmem S1024x128 .i32) (arg3 : Memref sig .tc .smem S128 .i32)
    (arg4 : Memref sig .tc .vmem S256x768 .bf16) (arg5 : Memref sig .tc .vmem S60x128 .i32) (arg8 : Memref sig .tc .vmem S192x512 .f32) (arg9 : Memref sig .tc .vmem S6x512 .f32)
    (arg10 : Memref sig .tc .vmem S7688x256 .f32) (arg11 : Memref sig .tc .vmem S2x8x128 .f32) (arg12 : Memref sig .tc .vmem S1024x768 .f32) : Prog (TpuEff nD τ sig (Elt F) Λ₀ .tc) PUnit := do
  let v0 : Elt F .i32 ← smemLoad arg1 (Rect.unit (s := S3) ![0] S1.size inb_S3_S1_0) numel1_S1 rfl
  let hw ← Prog.lift (TpuEff.assume (k0_chk130 arg0 v0) (k0_chk130.dec arg0 v0))
  let v1 : Elt F .i32 ← smemLoad arg1 (Rect.unit (s := S3) ![1] S1.size inb_S3_S1_1) numel1_S1 rfl
  let v2 : Elt F .i32 ← smemLoad arg1 (Rect.unit (s := S3) ![2] S1.size inb_S3_S1_2) numel1_S1 rfl
  normS arg0 v1 arg2 arg3 arg4 arg10 arg11 (partS arg0 v0 v1 v2 arg2 arg3 arg4 arg10 arg11 arg12 (finS arg0 v0 hw.down arg5 arg8 arg9 arg10))

end Cert.KernelIdeal.Units

end
-- ==== Proof.Own.lean ====
/-
  Loads and stores of a memref that is owned at stated contents.
-/
module

public import Idealize.ShloMosaic.Lib.Pipeline.Frame
public import Idealize.ShloMosaic.Lib.Tactic
public import Idealize.ShloMosaic.Lib.Transfers

@[expose] public section

noncomputable section

namespace Cert.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

local notation "𝕄" => MT nD τ sig Ix Val Name U Lvl

open Classical in
/-- The contents `X` with the rectangle `r` overwritten by `w`. -/
def put (X : s.Idx → Val e) (r : Rect s) (w : r.shape.Idx → Val e) : s.Idx → Val e :=
  fun j => if h : ∃ x, r.emb x = j then w h.choose else X j

theorem put_emb (X : s.Idx → Val e) (r : Rect s) (w : r.shape.Idx → Val e) (x : r.shape.Idx) : put X r w (r.emb x) = w x := by
  unfold put
  have h : ∃ x', r.emb x' = r.emb x := ⟨x, rfl⟩
  rw [dif_pos h]
  exact congrArg w (r.emb.injective h.choose_spec)

theorem put_of_not (X : s.Idx → Val e) (r : Rect s) (w : r.shape.Idx → Val e) (j : s.Idx) (h : ¬ ∃ x, r.emb x = j) : put X r w j = X j := by
  unfold put; rw [dif_neg h]

theorem own_load {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k (fun x => X (r.emb x))) Q)
        -∗ wp frame (wpE defs 𝒱 c bd) E (.op (.load m r.toLoadRect hl) k) Q) := by
  unfold owns
  iintro ⟨%f, %hf, H⟩ Hk
  subst hf
  iapply (wp_load_rect 𝒱 c bd E (Q := Q) (k := k) (hl := hl) (q := q) (f := f) (S := m.view.set) (View.set_slice_subset _ r)) $$ H
  iintro H
  iapply Hk
  iexists f
  isplitr
  · ipureintro; rfl
  iexact H

theorem own_store {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    (owns c m fullShare X : sProp 𝕄)
      ⊢ iprop((owns c m fullShare (put X r w) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  subst hf
  iapply (wp_store 𝒱 c bd E (Q := Q) (k := k) (w := w) (hx := hx) (hm := hm) (Mk := Finset.univ) (f := f) (S := m.view.set)
    (by rw [View.setOn_univ]; exact View.set_slice_subset _ r)) $$ H
  iintro H
  iapply Hk
  iexists (m.access r).write Val f w Finset.univ
  isplitr
  · ipureintro
    funext j
    by_cases h : ∃ x, r.emb x = j
    · obtain ⟨x, rfl⟩ := h
      rw [put_emb]
      exact View.read_write_of_mem (v := m.access r) f w (Finset.mem_univ x)
    · rw [put_of_not _ _ _ _ h]
      refine View.read_slice_write_of_not_mem r f w Finset.univ ?_
      intro hj
      exact h (by simpa using hj)
  iexact H

/-- A load at the head of a sequence. -/
theorem own_load_bind {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k (fun x => X (r.emb x))) Q)
        -∗ wp frame (wpE defs 𝒱 c bd) E (Prog.lift (.load m r.toLoadRect hl) >>= k) Q) :=
  own_load 𝒱 c bd E

/-- A store at the head of a sequence. -/
theorem own_store_bind {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    (owns c m fullShare X : sProp 𝕄)
      ⊢ iprop((owns c m fullShare (put X r w) -∗ wp frame (wpE defs 𝒱 c bd) E (k ⟨⟩) Q)
        -∗ wp frame (wpE defs 𝒱 c bd) E (Prog.lift (.store m r w Finset.univ hx hm) >>= k) Q) :=
  own_store 𝒱 c bd E

/-- A scalar load at the head of a sequence. -/
theorem own_smem_bind {m : Memref sig c.2.kind .smem s e} {r : Rect s} {h1 : r.shape.numel = 1} {hp : e.packing = 1}
    {k : Val e → Prog (TpuEff nD τ sig Val Λ c.2) α} {q : PosShare TreeShare} {X : s.Idx → Val e} :
    (owns c m q X : sProp 𝕄)
      ⊢ iprop((owns c m q X -∗ wp frame (wpE defs 𝒱 c bd) E (k (X (r.emb (Shape.Idx.first (h1.symm ▸ Nat.one_pos))))) Q)
        -∗ wp frame (wpE defs 𝒱 c bd) E (smemLoad m r h1 hp >>= k) Q) :=
  own_load 𝒱 c bd E (k := fun f => k (f (Shape.Idx.first (h1.symm ▸ Nat.one_pos))))

/-- A check at the head of a sequence, of something that holds. -/
theorem own_assume_bind {P : Prop} {d : Decidable P} {k : PLift P → Prog (TpuEff nD τ sig Val Λ c.2) α} (h : P) :
    wp (M := 𝕄) frame (wpE defs 𝒱 c bd) E (k ⟨h⟩) Q ⊢ wp frame (wpE defs 𝒱 c bd) E (Prog.lift (.assume P d) >>= k) Q :=
  wp_assume 𝒱 c bd E h

/-- The whole block, read at its own indices. -/
theorem emb_zero {off size : Fin s.rank → Nat} (h : ∀ a, off a + size a ≤ s.size a) (h0 : ∀ a, off a = 0) (hs : size = s.size)
    (x : (Rect.unit (s := s) off size h).shape.Idx) (a : Fin s.rank) : ((Rect.unit (s := s) off size h).emb x a).val = (x a).val := by
  rw [Rect.emb_apply]; simp [h0]

end Cert.Own

end
-- ==== Proof.State.lean ====
/-
  What the body leaves in its scratch buffers and blocks, as functions of what it finds there.
-/
module

public import proofs.«01_k».proof.Proof.Body
public import proofs.«01_k».proof.Proof.Own
public import Idealize.ShloMosaic.Lib.Pipeline.Value

@[expose] public section

set_option maxRecDepth 8192

noncomputable section

namespace Cert.KernelIdeal.Units

open Idealize.ShloMosaic Idealize.SL.Sem
open Cert.KernelIdeal Cert.KernelIdeal.Gen Cert.Own

variable {F : FTy → Type} [FloatOps F]

/-- The accumulator and the running maximum's two halves. -/
structure St (F : FTy → Type) where
  acc : Vec F S7688x256 .f32
  a0 : FVec F S8x128 .f32
  a1 : FVec F S8x128 .f32

/-- Eight rows of the accumulator overwritten, at the rows the word `d` names. -/
def acc8 (A : Vec F S7688x256 .f32) (d : BitVec 32) (b0 b1 : FVec F S8x128 .f32) : Vec F S7688x256 .f32 :=
  if h : (∀ a, k0_off1 d a + S8x128.size a ≤ S7688x256.size a) ∧ (∀ a, k0_off2 d a + S8x128.size a ≤ S7688x256.size a) then
    put (Val := Elt F) (e := .f32) (put (Val := Elt F) (e := .f32) A (Rect.unit (s := S7688x256) (k0_off1 d) S8x128.size h.1) b0) (Rect.unit (s := S7688x256) (k0_off2 d) S8x128.size h.2) b1
  else A

/-- One row of the accumulator raised to the maximum of a unit's eight rows. -/
def acc1 (A : Vec F S7688x256 .f32) (d : BitVec 32) (r : FVec F S8x768 .f32) : Vec F S7688x256 .f32 :=
  if h : ∀ a, k0_off261 d a + S1x256.size a ≤ S7688x256.size a then
    put (Val := Elt F) (e := .f32) A (Rect.unit (s := S7688x256) (k0_off261 d) S1x256.size h)
      (rowUpd r (fun x => A ((Rect.unit (s := S7688x256) (k0_off261 d) S1x256.size h).emb x)))
  else A

/-- The state after a normal unit of product rows `r`. -/
def nstep (r : FVec F S8x768 .f32) (d : BitVec 32) (σ : St F) : St F :=
  ⟨acc8 σ.acc d (upd d (max0 r) σ.a0) (upd d (max1 r) σ.a1), upd d (max0 r) σ.a0, upd d (max1 r) σ.a1⟩

/-- The state after an extra unit. -/
def estep (r : FVec F S8x768 .f32) (d : BitVec 32) (σ : St F) : St F := ⟨acc1 σ.acc d r, σ.a0, σ.a1⟩

/-- Destination word `u` of a block. -/
def dAt (D : Vec F S128 .i32) (u : Nat) (hu : u < 128) : BitVec 32 :=
  D ((Rect.unit (s := S128) ![u] S1.size (inb_unit u hu)).emb (Shape.Idx.first (numel1_S1.symm ▸ Nat.one_pos)))

/-- The state after the last `k` units of a whole block. -/
def unitsS (o : FVec F S1024x768 .f32) (D : Vec F S128 .i32) : (k : Nat) → k ≤ 128 → St F → St F
  | 0, _, σ => σ
  | k + 1, h, σ => unitsS o D k (by omega) (nstep (rows o (127 - k) (by omega)) (dAt D (127 - k) (by omega)) σ)

/-- The product rows a partial block's trip reads. -/
def rowsAt (o : Vec F S1024x768 .f32) (k : Fin k0_t1_loop.trips) : FVec F S8x768 .f32 :=
  fun x => o ((Rect.unit (s := S1024x768) (k0_off258 k) S8x768.size (k0_off258_inb k)).emb x)

/-- The destination word a partial block's trip reads. -/
def dTrip (D : Vec F S128 .i32) (k : Fin k0_t1_loop.trips) : BitVec 32 :=
  D ((Rect.unit (s := S128) (k0_off257 k) S1.size (k0_off257_inb k)).emb (Shape.Idx.first (numel1_S1.symm ▸ Nat.one_pos)))

/-- The state after trip `k` of a partial block. -/
def tstep (arg0 v1 v2 : BitVec 32) (o : Vec F S1024x768 .f32) (D : Vec F S128 .i32) (k : Fin k0_t1_loop.trips) (σ : St F) : St F :=
  let σ1 := if k0_cond3 arg0 v1 k = 1#1 then nstep (rowsAt o k) (dTrip D k) σ else σ
  if k0_cond4 arg0 v1 v2 k = 1#1 then estep (rowsAt o k) (dTrip D k) σ1 else σ1

/-- The state after the first `n` trips of a partial block. -/
def tripsS (arg0 v1 v2 : BitVec 32) (o : Vec F S1024x768 .f32) (D : Vec F S128 .i32) (σ : St F) : Nat → St F
  | 0 => σ
  | n + 1 => if h : n < k0_t1_loop.trips then tstep arg0 v1 v2 o D ⟨n, h⟩ (tripsS arg0 v1 v2 o D σ n) else tripsS arg0 v1 v2 o D σ n

/-- The halves of the running maximum that the carry buffer holds. -/
def ca0 (C : Vec F S2x8x128 .f32) : FVec F S8x128 .f32 :=
  shapeCast S8x128 (fun x => C ((Rect.unit (s := S2x8x128) ![0, 0, 0] S1x8x128.size inb_S2x8x128_S1x8x128_0_0_0).emb x)) shapeCasts_S1x8x128_S8x128
@[inherit_doc ca0] def ca1 (C : Vec F S2x8x128 .f32) : FVec F S8x128 .f32 :=
  shapeCast S8x128 (fun x => C ((Rect.unit (s := S2x8x128) ![1, 0, 0] S1x8x128.size inb_S2x8x128_S1x8x128_1_0_0).emb x)) shapeCasts_S1x8x128_S8x128

/-- The carry buffer with its halves overwritten. -/
def cput (C : Vec F S2x8x128 .f32) (b0 b1 : FVec F S8x128 .f32) : Vec F S2x8x128 .f32 :=
  put (Val := Elt F) (e := .f32) (put (Val := Elt F) (e := .f32) C (Rect.unit (s := S2x8x128) ![0, 0, 0] S1x8x128.size inb_S2x8x128_S1x8x128_0_0_0) (shapeCast S1x8x128 b0 shapeCasts_S8x128_S1x8x128))
    (Rect.unit (s := S2x8x128) ![1, 0, 0] S1x8x128.size inb_S2x8x128_S1x8x128_1_0_0) (shapeCast S1x8x128 b1 shapeCasts_S8x128_S1x8x128)

theorem ca1_cput (C : Vec F S2x8x128 .f32) (b0 b1 : FVec F S8x128 .f32) : ca1 (cput C b0 b1) = b1 := by
  unfold ca1 cput; simp only [put_emb]; exact shapeCast_shapeCast _ _ _

theorem ca0_cput (C : Vec F S2x8x128 .f32) (b0 b1 : FVec F S8x128 .f32) : ca0 (cput C b0 b1) = b0 := by
  unfold ca0 cput
  have h : ∀ x, ¬ ∃ y, (Rect.unit (s := S2x8x128) ![1, 0, 0] S1x8x128.size inb_S2x8x128_S1x8x128_1_0_0).emb y
      = (Rect.unit (s := S2x8x128) ![0, 0, 0] S1x8x128.size inb_S2x8x128_S1x8x128_0_0_0).emb x := by
    rintro x ⟨y, hy⟩
    have h0 := congrArg (fun z => (z 0).val) hy
    simp only [Rect.emb_apply] at h0
    have hx := (x 0).isLt
    simp [S1x8x128] at h0 hx
    omega
  simp only [put_of_not _ _ _ _ (h _), put_emb]
  exact shapeCast_shapeCast _ _ _

/-- What a finishing point's window `r` of the first result holds. -/
def winOf (arg0 v0 : BitVec 32) (hw : k0_chk130 arg0 v0) (h5 : k0_cond5 arg0 v0 = 1#1) (A : Vec F S7688x256 .f32) (K : Vec F S60x128 .i32) (r : Fin 4) : FVec F S192x128 .f32 :=
  finWin (fun x => A ((Rect.unit (s := S7688x256) (k0_off262 arg0 v0 (BitVec.ofNat 32 r.val)) S128x128.size (k0_off262_inb arg0 v0 hw h5 r)).emb x))
    (fun x => A ((Rect.unit (s := S7688x256) (k0_off263 arg0 v0 (BitVec.ofNat 32 r.val)) S128x128.size (k0_off263_inb arg0 v0 hw h5 r)).emb x))
    (fun x => K ((Rect.unit (s := S60x128) (k0_off264 arg0 v0 (BitVec.ofNat 32 r.val)) S1x128.size (k0_off264_inb arg0 v0 hw h5 r)).emb x))

/-- The first result's block after window `r`. -/
def put8 (Y : Vec F S192x512 .f32) (r : Fin 4) (w : FVec F S192x128 .f32) : Vec F S192x512 .f32 :=
  put (Val := Elt F) (e := .f32) Y (Rect.unit (s := S192x512) ![0, 128 * r.val] S192x128.size (inb_win8 r)) w
/-- The second result's block after window `r`. -/
def put9 (Y : Vec F S6x512 .f32) (r : Fin 4) (w : FVec F S6x128 .f32) : Vec F S6x512 .f32 :=
  put (Val := Elt F) (e := .f32) Y (Rect.unit (s := S6x512) ![0, 128 * r.val] S6x128.size (inb_win9 r)) w

/-- The first result's block after a finishing point. -/
def fin8 (arg0 v0 : BitVec 32) (hw : k0_chk130 arg0 v0) (h5 : k0_cond5 arg0 v0 = 1#1) (A : Vec F S7688x256 .f32) (K : Vec F S60x128 .i32) (Y : Vec F S192x512 .f32) : Vec F S192x512 .f32 :=
  put8 (put8 (put8 (put8 Y 0 (winOf arg0 v0 hw h5 A K 0)) 1 (winOf arg0 v0 hw h5 A K 1)) 2 (winOf arg0 v0 hw h5 A K 2)) 3 (winOf arg0 v0 hw h5 A K 3)
/-- The second result's block after a finishing point. -/
def fin9 (arg0 v0 : BitVec 32) (hw : k0_chk130 arg0 v0) (h5 : k0_cond5 arg0 v0 = 1#1) (A : Vec F S7688x256 .f32) (K : Vec F S60x128 .i32) (Y : Vec F S6x512 .f32) : Vec F S6x512 .f32 :=
  put9 (put9 (put9 (put9 Y 0 (finSum (winOf arg0 v0 hw h5 A K 0))) 1 (finSum (winOf arg0 v0 hw h5 A K 1))) 2 (finSum (winOf arg0 v0 hw h5 A K 2))) 3 (finSum (winOf arg0 v0 hw h5 A K 3))

/-- The state after the first of a point's three parts. -/
def normSt (arg0 v1 : BitVec 32) (X : Vec F S1024x128 .i32) (D : Vec F S128 .i32) (R : Vec F S256x768 .bf16) (σ : St F) : St F :=
  if k0_cond1 arg0 v1 = 1#1 then unitsS (prodOf X R) D 128 le_rfl σ else σ
/-- The state after the second of a point's three parts. -/
def partSt (arg0 v0 v1 v2 : BitVec 32) (X : Vec F S1024x128 .i32) (D : Vec F S128 .i32) (R : Vec F S256x768 .bf16) (σ : St F) : St F :=
  if k0_cond2 arg0 v0 v1 = 1#1 then tripsS arg0 v1 v2 (prodOf X R) D σ k0_t1_loop.trips else σ
/-- The state a point leaves. -/
def stepSt (arg0 v0 v1 v2 : BitVec 32) (X : Vec F S1024x128 .i32) (D : Vec F S128 .i32) (R : Vec F S256x768 .bf16) (σ : St F) : St F :=
  partSt arg0 v0 v1 v2 X D R (normSt arg0 v1 X D R σ)

end Cert.KernelIdeal.Units

end
-- ==== Proof.Run.lean ====
/-
  The body at one grid point, run: from its blocks and scratch buffers at stated contents to the same at what it leaves in them.
-/
module

public import proofs.«01_k».proof.Proof.State

@[expose] public section

set_option maxRecDepth 8192

noncomputable section

namespace Cert.KernelIdeal.Units

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Own

variable {F : FTy → Type} [FloatOps F]
variable {Ix : Type} [DecidableEq Ix] {Name : Type} [DecidableEq Name] {U : Type} [URA U] {Lvl : Type} [Preorder Lvl]
variable {defs : Defs nD τ sig (Elt F) Λ₀} (𝒱 : Variants) (c : Dev nD) (bd : Option 𝒱.V) (E : Set Name)

local notation "𝕄" => MT nD τ sig Ix (Elt F) Name U Lvl

variable {Q : PUnit → sProp (MT nD τ sig Ix (Elt F) Name U Lvl)}

/-- A unit's check and its two stores. -/
theorem run_tail (arg0 v1 : BitVec 32) (h1 : k0_cond1 arg0 v1 = 1#1) (arg3 : Memref sig .tc .smem S128 .i32) (arg10 : Memref sig .tc .vmem S7688x256 .f32)
    (d : BitVec 32) (hw : k0_chk1 arg0 v1 d) (b0 b1 : FVec F S8x128 .f32) (A : Vec F S7688x256 .f32) (k : PUnit → Prog (TpuEff nD τ sig (Elt F) Λ₀ .tc) PUnit) :
    (owns (c : Thread nD τ) arg10 fullShare A : sProp 𝕄)
      ⊢ iprop((owns (c : Thread nD τ) arg10 fullShare (acc8 A d b0 b1) -∗ wp frame (wpE defs 𝒱 c bd) E (k ⟨⟩) Q)
        -∗ wp frame (wpE defs 𝒱 c bd) E (tailAs (F := F) arg0 v1 h1 arg3 arg10 d b0 b1 >>= k) Q) := by
  have hA : acc8 A d b0 b1 = put (Val := Elt F) (e := .f32) (put (Val := Elt F) (e := .f32) A (Rect.unit (s := S7688x256) (k0_off1 d) S8x128.size (k0_off1_inb arg0 v1 d hw h1))
      (shapeCast S8x128 b0 shapeCasts_S8x128_S8x128)) (Rect.unit (s := S7688x256) (k0_off2 d) S8x128.size (k0_off2_inb arg0 v1 d hw h1)) (shapeCast S8x128 b1 shapeCasts_S8x128_S8x128) := by
    unfold acc8
    rw [dif_pos ⟨k0_off1_inb arg0 v1 d hw h1, k0_off2_inb arg0 v1 d hw h1⟩, shapeCast_self, shapeCast_self]
  rw [hA]
  unfold tailAs
  iintro H Hk
  iapply (own_assume_bind 𝒱 c bd E (Q := Q) (k := fun hw => tailB arg0 v1 h1 arg3 arg10 d hw.down b0 b1 >>= k) hw)
  unfold tailB
  iapply (own_load_bind 𝒱 c bd E (Q := Q)
    (k := fun _ => tailC arg0 v1 h1 arg3 arg10 d hw (shapeCast S8x128 b0 shapeCasts_S8x128_S8x128) b1 >>= k)) $$ H
  iintro H
  unfold tailC
  iapply (own_store_bind 𝒱 c bd E (Q := Q) (k := fun _ => tailD arg0 v1 h1 arg3 arg10 d hw b1 >>= k)) $$ H
  iintro H
  unfold tailD
  iapply (own_load_bind 𝒱 c bd E (Q := Q)
    (k := fun _ => tailE arg0 v1 h1 arg3 arg10 d hw (shapeCast S8x128 b1 shapeCasts_S8x128_S8x128) >>= k)) $$ H
  iintro H
  unfold tailE
  iapply (own_store_bind 𝒱 c bd E (Q := Q) (k := k)) $$ H
  iexact Hk

/-- A destination word read. -/
theorem run_word (arg3 : Memref sig .tc .smem S128 .i32) (u : Nat) (hu : u < 128) (D : Vec F S128 .i32) (q : PosShare TreeShare)
    (k : BitVec 32 → Prog (TpuEff nD τ sig (Elt F) Λ₀ .tc) PUnit) :
    (owns (c : Thread nD τ) arg3 q D : sProp 𝕄)
      ⊢ iprop((owns (c : Thread nD τ) arg3 q D -∗ wp frame (wpE defs 𝒱 c bd) E (k (dAt (F := F) D u hu)) Q)
        -∗ wp frame (wpE defs 𝒱 c bd) E ((smemLoad arg3 (Rect.unit (s := S128) ![u] S1.size (inb_unit u hu)) numel1_S1 rfl : Prog (TpuEff nD τ sig (Elt F) Λ₀ .tc) (Elt F .i32)) >>= k) Q) :=
  own_smem_bind (Val := Elt F) (e := .i32) (s := S128) (c : Thread nD τ) (𝒱 := 𝒱) bd E (Q := Q) (k := k)

/-- The last `k` units of a whole block. -/
theorem run_units (arg0 v1 : BitVec 32) (h1 : k0_cond1 arg0 v1 = 1#1) (arg3 : Memref sig .tc .smem S128 .i32) (arg10 : Memref sig .tc .vmem S7688x256 .f32)
    (K : FVec F S8x128 .f32 → FVec F S8x128 .f32 → Prog (TpuEff nD τ sig (Elt F) Λ₀ .tc) PUnit) (o : FVec F S1024x768 .f32) (D : Vec F S128 .i32) (q : PosShare TreeShare)
    (hw : ∀ u hu, k0_chk1 arg0 v1 (dAt (F := F) D u hu)) (k : Nat) :
    ∀ (h : k ≤ 128) (σ : St F),
    (iprop(owns (c : Thread nD τ) arg3 q D ∗ owns (c : Thread nD τ) arg10 fullShare σ.acc) : sProp 𝕄)
      ⊢ iprop((owns (c : Thread nD τ) arg3 q D -∗ owns (c : Thread nD τ) arg10 fullShare (unitsS o D k h σ).acc
            -∗ wp frame (wpE defs 𝒱 c bd) E (K (unitsS o D k h σ).a0 (unitsS o D k h σ).a1) Q)
        -∗ wp frame (wpE defs 𝒱 c bd) E (unitsP (F := F) arg0 v1 h1 arg3 arg10 K o k h σ.a0 σ.a1) Q) := by
  induction k with
  | zero =>
    intro h σ
    rw [unitsP, unitsS]
    iintro ⟨H3, HA⟩ Hk
    iapply Hk $$ H3
    iexact HA
  | succ k ih =>
    intro h σ
    have hu : 127 - k < 128 := by omega
    have hk : k ≤ 128 := by omega
    rw [unitsP, unitsS]
    iintro ⟨H3, HA⟩ Hk
    iapply (run_word 𝒱 c bd E (Q := Q) arg3 (127 - k) hu D q _) $$ H3
    iintro H3
    iapply (run_tail 𝒱 c bd E arg0 v1 h1 arg3 arg10 (dAt (F := F) D (127 - k) hu) (hw (127 - k) hu) _ _ σ.acc) $$ HA
    iintro HA
    have ih' := ih hk (nstep (rows o (127 - k) hu) (dAt (F := F) D (127 - k) hu) σ)
    iapply ih' $$ [H3 HA]
    · isplitl [H3]
      · iexact H3
      iexact HA
    iexact Hk

end Cert.KernelIdeal.Units

end
-- ==== Proof.Trip.lean ====
/-
  A partial block's trip, run, and its 128 trips.
-/
module

public import proofs.«01_k».proof.Proof.Run

@[expose] public section

set_option maxRecDepth 8192

noncomputable section

namespace Cert.KernelIdeal.Units

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Own

variable {F : FTy → Type} [FloatOps F]
variable {Ix : Type} [DecidableEq Ix] {Name : Type} [DecidableEq Name] {U : Type} [URA U] {Lvl : Type} [Preorder Lvl]
variable {defs : Defs nD τ sig (Elt F) Λ₀} (𝒱 : Variants) (c : Dev nD) (bd : Option 𝒱.V) (E : Set Name)

local notation "𝕄" => MT nD τ sig Ix (Elt F) Name U Lvl

variable {Q : PUnit → sProp (MT nD τ sig Ix (Elt F) Name U Lvl)}

section Loads

variable {sp : CoreSpace} {s : Shape} {e : EltTy}

theorem ld (m : Memref sig .tc sp s e) (r : Rect s) (hl : m.view.LoadsAt r.toLoadRect)
    (k : (r.shape.Idx → Elt F e) → Prog (TpuEff nD τ sig (Elt F) Λ₀ .tc) PUnit) (q : PosShare TreeShare) (X : s.Idx → Elt F e) :
    (owns (c : Thread nD τ) m q X : sProp 𝕄)
      ⊢ iprop((owns (c : Thread nD τ) m q X -∗ wp frame (wpE defs 𝒱 c bd) E (k (fun x => X (r.emb x))) Q)
        -∗ wp frame (wpE defs 𝒱 c bd) E ((Prog.lift (.load m r.toLoadRect hl) : Prog (TpuEff nD τ sig (Elt F) Λ₀ .tc) (r.shape.Idx → Elt F e)) >>= k) Q) :=
  own_load_bind 𝒱 (c : Thread nD τ) bd E

theorem st (m : Memref sig .tc sp s e) (r : Rect s) (w : r.shape.Idx → Elt F e)
    (hx : (m.access r).Stores Finset.univ) (hm : Finset.univ = Finset.univ ∨ ∀ a, r.stride a = 1)
    (k : PUnit → Prog (TpuEff nD τ sig (Elt F) Λ₀ .tc) PUnit) (X : s.Idx → Elt F e) :
    (owns (c : Thread nD τ) m fullShare X : sProp 𝕄)
      ⊢ iprop((owns (c : Thread nD τ) m fullShare (put X r w) -∗ wp frame (wpE defs 𝒱 c bd) E (k ⟨⟩) Q)
        -∗ wp frame (wpE defs 𝒱 c bd) E ((Prog.lift (.store m r w Finset.univ hx hm) : Prog (TpuEff nD τ sig (Elt F) Λ₀ .tc) PUnit) >>= k) Q) :=
  own_store_bind 𝒱 (c : Thread nD τ) bd E

theorem sm (m : Memref sig .tc .smem s e) (r : Rect s) (h1 : r.shape.numel = 1) (hp : e.packing = 1)
    (k : Elt F e → Prog (TpuEff nD τ sig (Elt F) Λ₀ .tc) PUnit) (q : PosShare TreeShare) (X : s.Idx → Elt F e) :
    (owns (c : Thread nD τ) m q X : sProp 𝕄)
      ⊢ iprop((owns (c : Thread nD τ) m q X -∗ wp frame (wpE defs 𝒱 c bd) E (k (X (r.emb (Shape.Idx.first (h1.symm ▸ Nat.one_pos))))) Q)
        -∗ wp frame (wpE defs 𝒱 c bd) E ((smemLoad m r h1 hp : Prog (TpuEff nD τ sig (Elt F) Λ₀ .tc) (Elt F e)) >>= k) Q) :=
  own_smem_bind 𝒱 (c : Thread nD τ) bd E

end Loads

/-- The carry stored. -/
theorem run_carry (arg11 : Memref sig .tc .vmem S2x8x128 .f32) (a0 a1 : FVec F S8x128 .f32) (C : Vec F S2x8x128 .f32)
    (k : PUnit → Prog (TpuEff nD τ sig (Elt F) Λ₀ .tc) PUnit) :
    (owns (c : Thread nD τ) arg11 fullShare C : sProp 𝕄)
      ⊢ iprop((owns (c : Thread nD τ) arg11 fullShare (cput C a0 a1) -∗ wp frame (wpE defs 𝒱 c bd) E (k ⟨⟩) Q)
        -∗ wp frame (wpE defs 𝒱 c bd) E (carryP (F := F) arg11 a0 a1 >>= k) Q) := by
  unfold carryP cput
  iintro H Hk
  iapply (ld 𝒱 c bd E (Q := Q)) $$ H
  iintro H
  iapply (st 𝒱 c bd E (Q := Q)) $$ H
  iintro H
  iapply (ld 𝒱 c bd E (Q := Q)) $$ H
  iintro H
  iapply (st 𝒱 c bd E (Q := Q)) $$ H
  iexact Hk

/-- A partial block's normal unit. -/
def tripN (arg0 v0 v1 v2 : BitVec 32) (k0_h2 : k0_cond2 arg0 v0 v1 = 1#1) (arg10 : Memref sig .tc .vmem S7688x256 .f32)
    (arg11 : Memref sig .tc .vmem S2x8x128 .f32) (k : Fin k0_t1_loop.trips) (d : BitVec 32) (hw : k0_chk129 arg0 v0 v1 v2 k d) (r : FVec F S8x768 .f32) (h3 : k0_cond3 arg0 v1 k = 1#1)
    (J : Prog (TpuEff nD τ sig (Elt F) Λ₀ .tc) PUnit) : Prog (TpuEff nD τ sig (Elt F) Λ₀ .tc) PUnit := do
  let c0 : Vec F S1x8x128 .f32 ← Prog.lift (.load arg11 (Rect.unit (s := S2x8x128) ![0, 0, 0] S1x8x128.size inb_S2x8x128_S1x8x128_0_0_0).toLoadRect (View.loadsAt_vmem h_S1x8x128))
  let c1 : Vec F S1x8x128 .f32 ← Prog.lift (.load arg11 (Rect.unit (s := S2x8x128) ![1, 0, 0] S1x8x128.size inb_S2x8x128_S1x8x128_1_0_0).toLoadRect (View.loadsAt_vmem h_S1x8x128))
  let _ : Vec F S8x128 .f32 ← Prog.lift (.load arg10 (Rect.unit (s := S7688x256) (k0_off259 d) S8x128.size (k0_off259_inb arg0 v0 v1 v2 k d hw k0_h2 h3)).toLoadRect (View.loadsAt_vmem h_S8x128))
  Prog.lift (.store arg10 (Rect.unit (s := S7688x256) (k0_off259 d) S8x128.size (k0_off259_inb arg0 v0 v1 v2 k d hw k0_h2 h3)) (shapeCast S8x128 (upd d (max0 r) (shapeCast S8x128 c0 shapeCasts_S1x8x128_S8x128)) shapeCasts_S8x128_S8x128) Finset.univ (View.stores_vmem_bits_univ h_S8x128 rfl) (.inl rfl))
  let _ : Vec F S8x128 .f32 ← Prog.lift (.load arg10 (Rect.unit (s := S7688x256) (k0_off260 d) S8x128.size (k0_off260_inb arg0 v0 v1 v2 k d hw k0_h2 h3)).toLoadRect (View.loadsAt_vmem h_S8x128))
  Prog.lift (.store arg10 (Rect.unit (s := S7688x256) (k0_off260 d) S8x128.size (k0_off260_inb arg0 v0 v1 v2 k d hw k0_h2 h3)) (shapeCast S8x128 (upd d (max1 r) (shapeCast S8x128 c1 shapeCasts_S1x8x128_S8x128)) shapeCasts_S8x128_S8x128) Finset.univ (View.stores_vmem_bits_univ h_S8x128 rfl) (.inl rfl))
  carryP arg11 (upd d (max0 r) (shapeCast S8x128 c0 shapeCasts_S1x8x128_S8x128)) (upd d (max1 r) (shapeCast S8x128 c1 shapeCasts_S1x8x128_S8x128))
  J

/-- A partial block's extra unit. -/
def tripE (arg0 v0 v1 v2 : BitVec 32) (k0_h2 : k0_cond2 arg0 v0 v1 = 1#1) (arg10 : Memref sig .tc .vmem S7688x256 .f32)
    (k : Fin k0_t1_loop.trips) (d : BitVec 32) (hw : k0_chk129 arg0 v0 v1 v2 k d) (r : FVec F S8x768 .f32) (h4 : k0_cond4 arg0 v1 v2 k = 1#1) :
    Prog (TpuEff nD τ sig (Elt F) Λ₀ .tc) PUnit := do
  let m : Vec F S1x256 .f32 ← Prog.lift (.load arg10 (Rect.unit (s := S7688x256) (k0_off261 d) S1x256.size (k0_off261_inb arg0 v0 v1 v2 k d hw k0_h2 h4)).toLoadRect (View.loadsAt_vmem h_S1x256))
  let _ : Vec F S1x256 .f32 ← Prog.lift (.load arg10 (Rect.unit (s := S7688x256) (k0_off261 d) S1x256.size (k0_off261_inb arg0 v0 v1 v2 k d hw k0_h2 h4)).toLoadRect (View.loadsAt_vmem h_S1x256))
  Prog.lift (.store arg10 (Rect.unit (s := S7688x256) (k0_off261 d) S1x256.size (k0_off261_inb arg0 v0 v1 v2 k d hw k0_h2 h4)) (rowUpd r m) Finset.univ (View.stores_vmem_bits_univ h_S1x256 rfl) (.inl rfl))
  pure ⟨⟩

/-- The trip's second branch. -/
def tripC (arg0 v0 v1 v2 : BitVec 32) (k0_h2 : k0_cond2 arg0 v0 v1 = 1#1) (arg10 : Memref sig .tc .vmem S7688x256 .f32)
    (k : Fin k0_t1_loop.trips) (d : BitVec 32) (hw : k0_chk129 arg0 v0 v1 v2 k d) (r : FVec F S8x768 .f32) :
    Prog (TpuEff nD τ sig (Elt F) Λ₀ .tc) PUnit :=
  if h4 : k0_cond4 arg0 v1 v2 k = 1#1 then tripE arg0 v0 v1 v2 k0_h2 arg10 k d hw r h4 else pure ⟨⟩

/-- The trip's branches. -/
def tripB (arg0 v0 v1 v2 : BitVec 32) (k0_h2 : k0_cond2 arg0 v0 v1 = 1#1) (arg10 : Memref sig .tc .vmem S7688x256 .f32)
    (arg11 : Memref sig .tc .vmem S2x8x128 .f32) (k : Fin k0_t1_loop.trips) (d : BitVec 32) (hw : k0_chk129 arg0 v0 v1 v2 k d) (r : FVec F S8x768 .f32) :
    Prog (TpuEff nD τ sig (Elt F) Λ₀ .tc) PUnit :=
  if h3 : k0_cond3 arg0 v1 k = 1#1 then tripN arg0 v0 v1 v2 k0_h2 arg10 arg11 k d hw r h3 (tripC arg0 v0 v1 v2 k0_h2 arg10 k d hw r)
    else tripC arg0 v0 v1 v2 k0_h2 arg10 k d hw r

theorem tripP_eq (arg0 v0 v1 v2 : BitVec 32) (k0_h2 : k0_cond2 arg0 v0 v1 = 1#1) (arg3 : Memref sig .tc .smem S128 .i32) (arg10 : Memref sig .tc .vmem S7688x256 .f32)
    (arg11 : Memref sig .tc .vmem S2x8x128 .f32) (arg12 : Memref sig .tc .vmem S1024x768 .f32) (k : Fin k0_t1_loop.trips) :
    tripP (F := F) arg0 v0 v1 v2 k0_h2 arg3 arg10 arg11 arg12 k
      = ((smemLoad arg3 (Rect.unit (s := S128) (k0_off257 k) S1.size (k0_off257_inb k)) numel1_S1 rfl : Prog (TpuEff nD τ sig (Elt F) Λ₀ .tc) (Elt F .i32)) >>= fun d : BitVec 32 =>
        (Prog.lift (TpuEff.assume (k0_chk129 arg0 v0 v1 v2 k d) (k0_chk129.dec arg0 v0 v1 v2 k d)) : Prog (TpuEff nD τ sig (Elt F) Λ₀ .tc) _) >>= fun hw =>
        (Prog.lift (.load arg12 (Rect.unit (s := S1024x768) (k0_off258 k) S8x768.size (k0_off258_inb k)).toLoadRect (View.loadsAt_vmem h_S8x768)) : Prog (TpuEff nD τ sig (Elt F) Λ₀ .tc) (Vec F S8x768 .f32)) >>= fun r =>
        tripB arg0 v0 v1 v2 k0_h2 arg10 arg11 k d hw.down r) := rfl

/-- The accumulator and the carry buffer at a state. -/
def Hold (arg10 : Memref sig .tc .vmem S7688x256 .f32) (arg11 : Memref sig .tc .vmem S2x8x128 .f32) (σ : St F) : sProp 𝕄 :=
  iprop(owns (c : Thread nD τ) arg10 fullShare σ.acc ∗ ∃ C : Vec F S2x8x128 .f32, ⌜ca0 C = σ.a0 ∧ ca1 C = σ.a1⌝ ∗ owns (c : Thread nD τ) arg11 fullShare C)

theorem run_tripN (arg0 v0 v1 v2 : BitVec 32) (k0_h2 : k0_cond2 arg0 v0 v1 = 1#1) (arg10 : Memref sig .tc .vmem S7688x256 .f32)
    (arg11 : Memref sig .tc .vmem S2x8x128 .f32) (k : Fin k0_t1_loop.trips) (d : BitVec 32) (hw : k0_chk129 arg0 v0 v1 v2 k d) (r : FVec F S8x768 .f32) (h3 : k0_cond3 arg0 v1 k = 1#1)
    (σ : St F) (J : Prog (TpuEff nD τ sig (Elt F) Λ₀ .tc) PUnit) :
    (Hold c arg10 arg11 σ : sProp 𝕄)
      ⊢ iprop((Hold c arg10 arg11 (nstep r d σ) -∗ wp frame (wpE defs 𝒱 c bd) E J Q)
        -∗ wp frame (wpE defs 𝒱 c bd) E (tripN arg0 v0 v1 v2 k0_h2 arg10 arg11 k d hw r h3 J) Q) := by
  have hA : (nstep r d σ).acc = put (Val := Elt F) (e := .f32) (put (Val := Elt F) (e := .f32) σ.acc (Rect.unit (s := S7688x256) (k0_off259 d) S8x128.size (k0_off259_inb arg0 v0 v1 v2 k d hw k0_h2 h3))
      (shapeCast S8x128 (upd d (max0 r) σ.a0) shapeCasts_S8x128_S8x128)) (Rect.unit (s := S7688x256) (k0_off260 d) S8x128.size (k0_off260_inb arg0 v0 v1 v2 k d hw k0_h2 h3)) (shapeCast S8x128 (upd d (max1 r) σ.a1) shapeCasts_S8x128_S8x128) := by
    show acc8 σ.acc d _ _ = _
    unfold acc8
    rw [dif_pos ⟨k0_off259_inb arg0 v0 v1 v2 k d hw k0_h2 h3, k0_off260_inb arg0 v0 v1 v2 k d hw k0_h2 h3⟩, shapeCast_self, shapeCast_self]
    rfl
  unfold Hold tripN
  rw [hA]
  iintro ⟨HA, %C, %hC, HC⟩ Hk
  iapply (ld 𝒱 c bd E (Q := Q)) $$ HC
  iintro HC
  iapply (ld 𝒱 c bd E (Q := Q)) $$ HC
  iintro HC
  iapply (ld 𝒱 c bd E (Q := Q)) $$ HA
  iintro HA
  iapply (st 𝒱 c bd E (Q := Q)) $$ HA
  iintro HA
  iapply (ld 𝒱 c bd E (Q := Q)) $$ HA
  iintro HA
  iapply (st 𝒱 c bd E (Q := Q)) $$ HA
  iintro HA
  iapply (run_carry 𝒱 c bd E (Q := Q) arg11 _ _ C) $$ HC
  iintro HC
  rw [show (shapeCast S8x128 (fun x => C ((Rect.unit (s := S2x8x128) ![0, 0, 0] S1x8x128.size inb_S2x8x128_S1x8x128_0_0_0).emb x)) shapeCasts_S1x8x128_S8x128) = σ.a0 from hC.1,
    show (shapeCast S8x128 (fun x => C ((Rect.unit (s := S2x8x128) ![1, 0, 0] S1x8x128.size inb_S2x8x128_S1x8x128_1_0_0).emb x)) shapeCasts_S1x8x128_S8x128) = σ.a1 from hC.2]
  iapply Hk
  isplitl [HA]
  · iexact HA
  iexists _
  isplitr
  swap
  · iexact HC
  ipureintro
  exact ⟨ca0_cput _ _ _, ca1_cput _ _ _⟩

theorem run_tripE (arg0 v0 v1 v2 : BitVec 32) (k0_h2 : k0_cond2 arg0 v0 v1 = 1#1) (arg10 : Memref sig .tc .vmem S7688x256 .f32)
    (arg11 : Memref sig .tc .vmem S2x8x128 .f32) (k : Fin k0_t1_loop.trips) (d : BitVec 32) (hw : k0_chk129 arg0 v0 v1 v2 k d) (r : FVec F S8x768 .f32) (h4 : k0_cond4 arg0 v1 v2 k = 1#1)
    (σ : St F) :
    (Hold c arg10 arg11 σ : sProp 𝕄)
      ⊢ iprop((Hold c arg10 arg11 (estep r d σ) -∗ Q ⟨⟩)
        -∗ wp frame (wpE defs 𝒱 c bd) E (tripE arg0 v0 v1 v2 k0_h2 arg10 k d hw r h4) Q) := by
  have hA : (estep r d σ).acc = put (Val := Elt F) (e := .f32) σ.acc (Rect.unit (s := S7688x256) (k0_off261 d) S1x256.size (k0_off261_inb arg0 v0 v1 v2 k d hw k0_h2 h4))
      (rowUpd r (fun x => σ.acc ((Rect.unit (s := S7688x256) (k0_off261 d) S1x256.size (k0_off261_inb arg0 v0 v1 v2 k d hw k0_h2 h4)).emb x))) := by
    show acc1 σ.acc d _ = _
    unfold acc1
    rw [dif_pos (k0_off261_inb arg0 v0 v1 v2 k d hw k0_h2 h4)]
  unfold Hold tripE
  rw [hA]
  iintro ⟨HA, HC⟩ Hk
  iapply (ld 𝒱 c bd E (Q := Q)) $$ HA
  iintro HA
  iapply (ld 𝒱 c bd E (Q := Q)) $$ HA
  iintro HA
  iapply (st 𝒱 c bd E (Q := Q)) $$ HA
  iintro HA
  iapply (le_wp_ret frame (wpE defs 𝒱 c bd) E)
  iapply Hk
  isplitl [HA]
  · iexact HA
  iexact HC

theorem run_tripC (arg0 v0 v1 v2 : BitVec 32) (k0_h2 : k0_cond2 arg0 v0 v1 = 1#1) (arg10 : Memref sig .tc .vmem S7688x256 .f32)
    (arg11 : Memref sig .tc .vmem S2x8x128 .f32) (k : Fin k0_t1_loop.trips) (d : BitVec 32) (hw : k0_chk129 arg0 v0 v1 v2 k d) (r : FVec F S8x768 .f32)
    (σ : St F) :
    (Hold c arg10 arg11 σ : sProp 𝕄)
      ⊢ iprop((Hold c arg10 arg11 (if k0_cond4 arg0 v1 v2 k = 1#1 then estep r d σ else σ) -∗ Q ⟨⟩)
        -∗ wp frame (wpE defs 𝒱 c bd) E (tripC arg0 v0 v1 v2 k0_h2 arg10 k d hw r) Q) := by
  unfold tripC
  by_cases h4 : k0_cond4 arg0 v1 v2 k = 1#1
  · rw [dif_pos h4, if_pos h4]
    exact run_tripE 𝒱 c bd E arg0 v0 v1 v2 k0_h2 arg10 arg11 k d hw r h4 σ
  · rw [dif_neg h4, if_neg h4]
    iintro HS Hk
    iapply (le_wp_ret frame (wpE defs 𝒱 c bd) E)
    iapply Hk $$ HS

theorem run_trip (arg0 v0 v1 v2 : BitVec 32) (k0_h2 : k0_cond2 arg0 v0 v1 = 1#1) (arg3 : Memref sig .tc .smem S128 .i32) (arg10 : Memref sig .tc .vmem S7688x256 .f32)
    (arg11 : Memref sig .tc .vmem S2x8x128 .f32) (arg12 : Memref sig .tc .vmem S1024x768 .f32) (k : Fin k0_t1_loop.trips)
    (D : Vec F S128 .i32) (P : Vec F S1024x768 .f32) (q : PosShare TreeShare) (hw : k0_chk129 arg0 v0 v1 v2 k (dTrip (F := F) D k)) (σ : St F) :
    (iprop(owns (c : Thread nD τ) arg3 q D ∗ owns (c : Thread nD τ) arg12 fullShare P ∗ Hold c arg10 arg11 σ) : sProp 𝕄)
      ⊢ wp frame (wpE defs 𝒱 c bd) E (tripP (F := F) arg0 v0 v1 v2 k0_h2 arg3 arg10 arg11 arg12 k)
        (fun _ => iprop(owns (c : Thread nD τ) arg3 q D ∗ owns (c : Thread nD τ) arg12 fullShare P ∗ Hold c arg10 arg11 (tstep arg0 v1 v2 P D k σ))) := by
  rw [tripP_eq]
  iintro ⟨H3, HP, HS⟩
  iapply (sm 𝒱 c bd E arg3 (Rect.unit (s := S128) (k0_off257 k) S1.size (k0_off257_inb k)) numel1_S1 rfl _ q D) $$ H3
  iintro H3
  iapply (own_assume_bind 𝒱 (c : Thread nD τ) bd E hw)
  iapply (ld 𝒱 c bd E) $$ HP
  iintro HP
  unfold tripB tstep
  by_cases h3 : k0_cond3 arg0 v1 k = 1#1
  · rw [dif_pos h3, if_pos h3]
    iapply (run_tripN 𝒱 c bd E arg0 v0 v1 v2 k0_h2 arg10 arg11 k _ hw _ h3 σ) $$ HS
    iintro HS
    iapply (run_tripC 𝒱 c bd E arg0 v0 v1 v2 k0_h2 arg10 arg11 k _ hw _ _) $$ HS
    iintro HS
    isplitl [H3]; · iexact H3
    isplitl [HP]; · iexact HP
    iexact HS
  · rw [dif_neg h3, if_neg h3]
    iapply (run_tripC 𝒱 c bd E arg0 v0 v1 v2 k0_h2 arg10 arg11 k _ hw _ _) $$ HS
    iintro HS
    isplitl [H3]; · iexact H3
    isplitl [HP]; · iexact HP
    iexact HS

end Cert.KernelIdeal.Units

end
-- ==== Proof.Point.lean ====
/-
  The body of the kernel at one grid point.
-/
module

public import proofs.«01_k».proof.Proof.Trip

@[expose] public section

set_option maxRecDepth 8192

noncomputable section

namespace Cert.KernelIdeal.Units

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Own

variable {F : FTy → Type} [FloatOps F]
variable {Ix : Type} [DecidableEq Ix] {Name : Type} [DecidableEq Name] {U : Type} [URA U] {Lvl : Type} [Preorder Lvl]
variable {defs : Defs nD τ sig (Elt F) Λ₀} (𝒱 : Variants) (c : Dev nD) (bd : Option 𝒱.V) (E : Set Name)

local notation "𝕄" => MT nD τ sig Ix (Elt F) Name U Lvl

variable {Q : PUnit → sProp (MT nD τ sig Ix (Elt F) Name U Lvl)}

/-- A whole block, read at its own indices. -/
theorem whole_eq {s : Shape} {α : Type} (off : Fin s.rank → Nat) (h : ∀ a, off a + s.size a ≤ s.size a) (h0 : ∀ a, off a = 0) (X : s.Idx → α) :
    (fun x : s.Idx => X ((Rect.unit (s := s) off s.size h).emb x)) = X := by
  funext x
  congr 1
  funext a
  apply Fin.ext
  exact emb_zero h h0 rfl x a

theorem whole_put {s : Shape} {Val : EltTy → Type} {e : EltTy} (off : Fin s.rank → Nat) (h : ∀ a, off a + s.size a ≤ s.size a) (h0 : ∀ a, off a = 0) (X w : s.Idx → Val e) :
    put X (Rect.unit (s := s) off s.size h) w = w := by
  funext x
  have hx : (Rect.unit (s := s) off s.size h).emb x = x := by
    funext a
    apply Fin.ext
    exact emb_zero h h0 rfl x a
  have := put_emb (Val := Val) (e := e) X (Rect.unit (s := s) off s.size h) w x
  rwa [hx] at this

/-- A whole block loaded. -/
theorem ldw {sp : CoreSpace} {s : Shape} {e : EltTy} (m : Memref sig .tc sp s e) (off : Fin s.rank → Nat) (h : ∀ a, off a + s.size a ≤ s.size a) (h0 : ∀ a, off a = 0)
    (hl : m.view.LoadsAt (Rect.unit (s := s) off s.size h).toLoadRect)
    (k : (s.Idx → Elt F e) → Prog (TpuEff nD τ sig (Elt F) Λ₀ .tc) PUnit) (q : PosShare TreeShare) (X : s.Idx → Elt F e) :
    (owns (c : Thread nD τ) m q X : sProp 𝕄)
      ⊢ iprop((owns (c : Thread nD τ) m q X -∗ wp frame (wpE defs 𝒱 c bd) E (k X) Q)
        -∗ wp frame (wpE defs 𝒱 c bd) E ((Prog.lift (.load m (Rect.unit (s := s) off s.size h).toLoadRect hl) : Prog (TpuEff nD τ sig (Elt F) Λ₀ .tc) (s.Idx → Elt F e)) >>= k) Q) := by
  have := ld (Ix := Ix) (Name := Name) (U := U) (Lvl := Lvl) (defs := defs) 𝒱 c bd E (Q := Q) m (Rect.unit (s := s) off s.size h) hl k q X
  rw [show (fun x => X ((Rect.unit (s := s) off s.size h).emb x)) = X from whole_eq off h h0 X] at this
  exact this

/-- A whole block stored. -/
theorem stw {sp : CoreSpace} {s : Shape} {e : EltTy} (m : Memref sig .tc sp s e) (off : Fin s.rank → Nat) (h : ∀ a, off a + s.size a ≤ s.size a) (h0 : ∀ a, off a = 0) (w : s.Idx → Elt F e)
    (hx : (m.access (Rect.unit (s := s) off s.size h)).Stores Finset.univ) (hm : Finset.univ = Finset.univ ∨ ∀ a, (Rect.unit (s := s) off s.size h).stride a = 1)
    (k : PUnit → Prog (TpuEff nD τ sig (Elt F) Λ₀ .tc) PUnit) (X : s.Idx → Elt F e) :
    (owns (c : Thread nD τ) m fullShare X : sProp 𝕄)
      ⊢ iprop((owns (c : Thread nD τ) m fullShare w -∗ wp frame (wpE defs 𝒱 c bd) E (k ⟨⟩) Q)
        -∗ wp frame (wpE defs 𝒱 c bd) E ((Prog.lift (.store m (Rect.unit (s := s) off s.size h) w Finset.univ hx hm) : Prog (TpuEff nD τ sig (Elt F) Λ₀ .tc) PUnit) >>= k) Q) := by
  have := st (Ix := Ix) (Name := Name) (U := U) (Lvl := Lvl) (defs := defs) 𝒱 c bd E (Q := Q) m (Rect.unit (s := s) off s.size h) w hx hm k X
  rw [whole_put (Val := Elt F) (e := e) off h h0 X w] at this
  exact this

theorem run_head (arg0 v1 : BitVec 32) (h1 : k0_cond1 arg0 v1 = 1#1) (arg3 : Memref sig .tc .smem S128 .i32) (arg10 : Memref sig .tc .vmem S7688x256 .f32) (arg2 : Memref sig .tc .vmem S1024x128 .i32) (arg4 : Memref sig .tc .vmem S256x768 .bf16) (arg11 : Memref sig .tc .vmem S2x8x128 .f32)
    (J : Prog (TpuEff nD τ sig (Elt F) Λ₀ .tc) PUnit) (X : Vec F S1024x128 .i32) (D : Vec F S128 .i32) (R : Vec F S256x768 .bf16) (q2 q3 q4 : PosShare TreeShare)
    (hw : ∀ u hu, k0_chk1 arg0 v1 (dAt (F := F) D u hu)) (σ : St F) :
    (iprop(owns (c : Thread nD τ) arg2 q2 X ∗ owns (c : Thread nD τ) arg3 q3 D ∗ owns (c : Thread nD τ) arg4 q4 R ∗ Hold c arg10 arg11 σ) : sProp 𝕄)
      ⊢ iprop((owns (c : Thread nD τ) arg2 q2 X -∗ owns (c : Thread nD τ) arg3 q3 D -∗ owns (c : Thread nD τ) arg4 q4 R -∗ Hold c arg10 arg11 (unitsS (prodOf X R) D 128 le_rfl σ) -∗ wp frame (wpE defs 𝒱 c bd) E J Q)
        -∗ wp frame (wpE defs 𝒱 c bd) E (headP arg0 v1 h1 arg3 arg10 arg2 arg4 arg11 (fun a0 a1 => carryP arg11 a0 a1 >>= fun _ => J)) Q) := by
  unfold Hold headP
  iintro ⟨H2, H3, H4, HA, %C, %hC, HC⟩ Hk
  iapply (ldw 𝒱 c bd E (Q := Q) arg2 ![0, 0] inb_S1024x128_S1024x128_0_0 (by intro a; fin_cases a <;> rfl)) $$ H2
  iintro H2
  iapply (ldw 𝒱 c bd E (Q := Q) arg4 ![0, 0] inb_S256x768_S256x768_0_0 (by intro a; fin_cases a <;> rfl)) $$ H4
  iintro H4
  iapply (ld 𝒱 c bd E (Q := Q)) $$ HC
  iintro HC
  iapply (ld 𝒱 c bd E (Q := Q)) $$ HC
  iintro HC
  rw [show (shapeCast S8x128 (fun x => C ((Rect.unit (s := S2x8x128) ![0, 0, 0] S1x8x128.size inb_S2x8x128_S1x8x128_0_0_0).emb x)) shapeCasts_S1x8x128_S8x128) = σ.a0 from hC.1,
    show (shapeCast S8x128 (fun x => C ((Rect.unit (s := S2x8x128) ![1, 0, 0] S1x8x128.size inb_S2x8x128_S1x8x128_1_0_0).emb x)) shapeCasts_S1x8x128_S8x128) = σ.a1 from hC.2]
  iapply (run_units 𝒱 c bd E (Q := Q) arg0 v1 h1 arg3 arg10 _ (prodOf X R) D q3 hw 128 le_rfl σ) $$ [H3 HA]
  · isplitl [H3]; · iexact H3
    iexact HA
  iintro H3 HA
  iapply (run_carry 𝒱 c bd E (Q := Q) arg11 _ _ C) $$ HC
  iintro HC
  iapply Hk $$ H2 H3 H4 [HA HC]
  isplitl [HA]
  · iexact HA
  iexists _
  isplitr
  swap
  · iexact HC
  ipureintro
  exact ⟨ca0_cput _ _ _, ca1_cput _ _ _⟩

theorem run_part (arg0 v0 v1 v2 : BitVec 32) (h2 : k0_cond2 arg0 v0 v1 = 1#1) (arg2 : Memref sig .tc .vmem S1024x128 .i32) (arg3 : Memref sig .tc .smem S128 .i32)
    (arg4 : Memref sig .tc .vmem S256x768 .bf16) (arg10 : Memref sig .tc .vmem S7688x256 .f32) (arg11 : Memref sig .tc .vmem S2x8x128 .f32)
    (arg12 : Memref sig .tc .vmem S1024x768 .f32)
    (J : Prog (TpuEff nD τ sig (Elt F) Λ₀ .tc) PUnit) (X : Vec F S1024x128 .i32) (D : Vec F S128 .i32) (R : Vec F S256x768 .bf16) (q2 q3 q4 : PosShare TreeShare)
    (hw : ∀ k, k0_chk129 arg0 v0 v1 v2 k (dTrip (F := F) D k)) (σ : St F) (P : Vec F S1024x768 .f32) :
    (iprop(owns (c : Thread nD τ) arg2 q2 X ∗ owns (c : Thread nD τ) arg3 q3 D ∗ owns (c : Thread nD τ) arg4 q4 R ∗ owns (c : Thread nD τ) arg12 fullShare P ∗ Hold c arg10 arg11 σ) : sProp 𝕄)
      ⊢ iprop((owns (c : Thread nD τ) arg2 q2 X -∗ owns (c : Thread nD τ) arg3 q3 D -∗ owns (c : Thread nD τ) arg4 q4 R -∗ owns (c : Thread nD τ) arg12 fullShare (prodOf X R) -∗ Hold c arg10 arg11 (tripsS arg0 v1 v2 (prodOf X R) D σ k0_t1_loop.trips) -∗ wp frame (wpE defs 𝒱 c bd) E J Q)
        -∗ wp frame (wpE defs 𝒱 c bd) E (partP arg0 v0 v1 v2 h2 arg2 arg3 arg4 arg10 arg11 arg12 J) Q) := by
  unfold partP
  iintro ⟨H2, H3, H4, HP, HS⟩ Hk
  iapply (ldw 𝒱 c bd E (Q := Q) arg2 ![0, 0] inb_S1024x128_S1024x128_0_0 (by intro a; fin_cases a <;> rfl)) $$ H2
  iintro H2
  iapply (ldw 𝒱 c bd E (Q := Q) arg4 ![0, 0] inb_S256x768_S256x768_0_0 (by intro a; fin_cases a <;> rfl)) $$ H4
  iintro H4
  iapply (ld 𝒱 c bd E (Q := Q)) $$ HP
  iintro HP
  rw [shapeCast_self]
  iapply (stw 𝒱 c bd E (Q := Q) arg12 ![0, 0] inb_S1024x768_S1024x768_0_0 (by intro a; fin_cases a <;> rfl)) $$ HP
  iintro HP
  iapply (Scf.wp_for_bind frame (wpE defs 𝒱 c bd) E k0_t1_loop.lb k0_t1_loop.ub k0_t1_loop.st k0_t1_ok (⟨⟩ : PUnit) (fun k _ => tripP arg0 v0 v1 v2 h2 arg3 arg10 arg11 arg12 k)
    (fun n _ => iprop(owns (c : Thread nD τ) arg3 q3 D ∗ owns (c : Thread nD τ) arg12 fullShare (prodOf X R) ∗ Hold c arg10 arg11 (tripsS arg0 v1 v2 (prodOf X R) D σ n)))
    (by
      intro k _
      have e : tripsS arg0 v1 v2 (prodOf X R) D σ (k.val + 1) = tstep arg0 v1 v2 (prodOf X R) D k (tripsS arg0 v1 v2 (prodOf X R) D σ k.val) := dif_pos k.isLt
      rw [e]
      exact run_trip 𝒱 c bd E arg0 v0 v1 v2 h2 arg3 arg10 arg11 arg12 k D (prodOf X R) q3 (hw k) _)) $$ [H3 HP HS]
  · isplitl [H3]; · iexact H3
    isplitl [HP]; · iexact HP
    iexact HS
  iintro %u ⟨H3, HP, HS⟩
  iapply Hk $$ H2 H3 H4 HP HS

theorem run_fin (arg0 v0 : BitVec 32) (hw : k0_chk130 arg0 v0) (h5 : k0_cond5 arg0 v0 = 1#1) (arg5 : Memref sig .tc .vmem S60x128 .i32)
    (arg8 : Memref sig .tc .vmem S192x512 .f32) (arg9 : Memref sig .tc .vmem S6x512 .f32) (arg10 : Memref sig .tc .vmem S7688x256 .f32) (r : Fin 4)
    (q5 : PosShare TreeShare) (A : Vec F S7688x256 .f32) (K : Vec F S60x128 .i32) (Y8 : Vec F S192x512 .f32) (Y9 : Vec F S6x512 .f32)
    {W : PUnit → sProp 𝕄} :
    (iprop(owns (c : Thread nD τ) arg5 q5 K ∗ owns (c : Thread nD τ) arg8 fullShare Y8 ∗ owns (c : Thread nD τ) arg9 fullShare Y9 ∗ owns (c : Thread nD τ) arg10 fullShare A) : sProp 𝕄)
      ⊢ iprop((owns (c : Thread nD τ) arg5 q5 K -∗ owns (c : Thread nD τ) arg8 fullShare (put8 Y8 r (winOf arg0 v0 hw h5 A K r))
          -∗ owns (c : Thread nD τ) arg9 fullShare (put9 Y9 r (finSum (winOf arg0 v0 hw h5 A K r))) -∗ owns (c : Thread nD τ) arg10 fullShare A -∗ W ⟨⟩)
        -∗ wp frame (wpE defs 𝒱 c bd) E (finP arg0 v0 hw h5 arg5 arg8 arg9 arg10 r) W) := by
  unfold finP put8 put9 winOf
  iintro ⟨H5, H8, H9, HA⟩ Hk
  iapply (ld 𝒱 c bd E) $$ HA
  iintro HA
  iapply (ld 𝒱 c bd E) $$ HA
  iintro HA
  iapply (ld 𝒱 c bd E) $$ H5
  iintro H5
  iapply (ld 𝒱 c bd E) $$ H8
  iintro H8
  iapply (st 𝒱 c bd E) $$ H8
  iintro H8
  iapply (ld 𝒱 c bd E) $$ H9
  iintro H9
  iapply (st 𝒱 c bd E (k := fun x => Prog.ret x)) $$ H9
  iintro H9
  iapply (le_wp_ret frame (wpE defs 𝒱 c bd) E)
  iapply Hk $$ [H5] [H8] [H9] [HA]
  · iexact H5
  · iexact H8
  · iexact H9
  · iexact HA

/-- The first result's block after a point. -/
def out8 (arg0 v0 : BitVec 32) (hw : k0_chk130 arg0 v0) (A : Vec F S7688x256 .f32) (K : Vec F S60x128 .i32) (Y : Vec F S192x512 .f32) : Vec F S192x512 .f32 :=
  if h5 : k0_cond5 arg0 v0 = 1#1 then fin8 arg0 v0 hw h5 A K Y else Y
/-- The second result's block after a point. -/
def out9 (arg0 v0 : BitVec 32) (hw : k0_chk130 arg0 v0) (A : Vec F S7688x256 .f32) (K : Vec F S60x128 .i32) (Y : Vec F S6x512 .f32) : Vec F S6x512 .f32 :=
  if h5 : k0_cond5 arg0 v0 = 1#1 then fin9 arg0 v0 hw h5 A K Y else Y

theorem run_finS (arg0 v0 : BitVec 32) (hw : k0_chk130 arg0 v0) (arg5 : Memref sig .tc .vmem S60x128 .i32)
    (arg8 : Memref sig .tc .vmem S192x512 .f32) (arg9 : Memref sig .tc .vmem S6x512 .f32) (arg10 : Memref sig .tc .vmem S7688x256 .f32)
    (q5 : PosShare TreeShare) (A : Vec F S7688x256 .f32) (K : Vec F S60x128 .i32) (Y8 : Vec F S192x512 .f32) (Y9 : Vec F S6x512 .f32) :
    (iprop(owns (c : Thread nD τ) arg5 q5 K ∗ owns (c : Thread nD τ) arg8 fullShare Y8 ∗ owns (c : Thread nD τ) arg9 fullShare Y9 ∗ owns (c : Thread nD τ) arg10 fullShare A) : sProp 𝕄)
      ⊢ iprop((owns (c : Thread nD τ) arg5 q5 K -∗ owns (c : Thread nD τ) arg8 fullShare (out8 arg0 v0 hw A K Y8)
          -∗ owns (c : Thread nD τ) arg9 fullShare (out9 arg0 v0 hw A K Y9) -∗ owns (c : Thread nD τ) arg10 fullShare A -∗ Q ⟨⟩)
        -∗ wp frame (wpE defs 𝒱 c bd) E (finS arg0 v0 hw arg5 arg8 arg9 arg10) Q) := by
  unfold finS out8 out9
  by_cases h5 : k0_cond5 arg0 v0 = 1#1
  · rw [dif_pos h5, dif_pos h5, dif_pos h5]
    unfold fin8 fin9
    iintro ⟨H5, H8, H9, HA⟩ Hk
    rw [wp_bind]
    iapply (run_fin 𝒱 c bd E arg0 v0 hw h5 arg5 arg8 arg9 arg10 0 q5 A K _ _) $$ [H5 H8 H9 HA]
    · isplitl [H5]; · iexact H5
      isplitl [H8]; · iexact H8
      isplitl [H9]; · iexact H9
      iexact HA
    iintro H5 H8 H9 HA
    rw [wp_bind]
    iapply (run_fin 𝒱 c bd E arg0 v0 hw h5 arg5 arg8 arg9 arg10 1 q5 A K _ _) $$ [H5 H8 H9 HA]
    · isplitl [H5]; · iexact H5
      isplitl [H8]; · iexact H8
      isplitl [H9]; · iexact H9
      iexact HA
    iintro H5 H8 H9 HA
    rw [wp_bind]
    iapply (run_fin 𝒱 c bd E arg0 v0 hw h5 arg5 arg8 arg9 arg10 2 q5 A K _ _) $$ [H5 H8 H9 HA]
    · isplitl [H5]; · iexact H5
      isplitl [H8]; · iexact H8
      isplitl [H9]; · iexact H9
      iexact HA
    iintro H5 H8 H9 HA
    iapply (run_fin 𝒱 c bd E arg0 v0 hw h5 arg5 arg8 arg9 arg10 3 q5 A K _ _) $$ [H5 H8 H9 HA]
    · isplitl [H5]; · iexact H5
      isplitl [H8]; · iexact H8
      isplitl [H9]; · iexact H9
      iexact HA
    iexact Hk
  · rw [dif_neg h5, dif_neg h5, dif_neg h5]
    iintro ⟨H5, H8, H9, HA⟩ Hk
    iapply (le_wp_ret frame (wpE defs 𝒱 c bd) E)
    iapply Hk $$ H5 H8 H9 HA

/-- Word `j` of the counts. -/
def ct0 (CT : Vec F S3 .i32) : Elt F .i32 := CT ((Rect.unit (s := S3) ![0] S1.size inb_S3_S1_0).emb (Shape.Idx.first (numel1_S1.symm ▸ Nat.one_pos)))
@[inherit_doc ct0] def ct1 (CT : Vec F S3 .i32) : Elt F .i32 := CT ((Rect.unit (s := S3) ![1] S1.size inb_S3_S1_1).emb (Shape.Idx.first (numel1_S1.symm ▸ Nat.one_pos)))
@[inherit_doc ct0] def ct2 (CT : Vec F S3 .i32) : Elt F .i32 := CT ((Rect.unit (s := S3) ![2] S1.size inb_S3_S1_2).emb (Shape.Idx.first (numel1_S1.symm ▸ Nat.one_pos)))

theorem run_root (arg0 : BitVec 32) (arg1 : Memref sig .tc .smem S3 .i32) (arg2 : Memref sig .tc .vmem S1024x128 .i32) (arg3 : Memref sig .tc .smem S128 .i32)
    (arg4 : Memref sig .tc .vmem S256x768 .bf16) (arg5 : Memref sig .tc .vmem S60x128 .i32) (arg8 : Memref sig .tc .vmem S192x512 .f32) (arg9 : Memref sig .tc .vmem S6x512 .f32)
    (arg10 : Memref sig .tc .vmem S7688x256 .f32) (arg11 : Memref sig .tc .vmem S2x8x128 .f32) (arg12 : Memref sig .tc .vmem S1024x768 .f32)
    (q1 q2 q3 q4 q5 : PosShare TreeShare) (CT : Vec F S3 .i32) (X : Vec F S1024x128 .i32) (D : Vec F S128 .i32) (R : Vec F S256x768 .bf16) (K : Vec F S60x128 .i32)
    (Y8 : Vec F S192x512 .f32) (Y9 : Vec F S6x512 .f32) (P : Vec F S1024x768 .f32) (σ : St F)
    (hw0 : k0_chk130 arg0 (ct0 (F := F) CT))
    (hw1 : k0_cond1 arg0 (ct1 (F := F) CT) = 1#1 → ∀ u hu, k0_chk1 arg0 (ct1 (F := F) CT) (dAt (F := F) D u hu))
    (hw2 : k0_cond2 arg0 (ct0 (F := F) CT) (ct1 (F := F) CT) = 1#1 → ∀ k, k0_chk129 arg0 (ct0 (F := F) CT) (ct1 (F := F) CT) (ct2 (F := F) CT) k (dTrip (F := F) D k)) :
    (iprop(owns (c : Thread nD τ) arg1 q1 CT ∗ owns (c : Thread nD τ) arg2 q2 X ∗ owns (c : Thread nD τ) arg3 q3 D ∗ owns (c : Thread nD τ) arg4 q4 R ∗ owns (c : Thread nD τ) arg5 q5 K
        ∗ owns (c : Thread nD τ) arg8 fullShare Y8 ∗ owns (c : Thread nD τ) arg9 fullShare Y9 ∗ owns (c : Thread nD τ) arg12 fullShare P ∗ Hold c arg10 arg11 σ) : sProp 𝕄)
      ⊢ iprop((owns (c : Thread nD τ) arg1 q1 CT -∗ owns (c : Thread nD τ) arg2 q2 X -∗ owns (c : Thread nD τ) arg3 q3 D -∗ owns (c : Thread nD τ) arg4 q4 R -∗ owns (c : Thread nD τ) arg5 q5 K
          -∗ owns (c : Thread nD τ) arg8 fullShare (out8 arg0 (ct0 (F := F) CT) hw0 (stepSt arg0 (ct0 (F := F) CT) (ct1 (F := F) CT) (ct2 (F := F) CT) X D R σ).acc K Y8)
          -∗ owns (c : Thread nD τ) arg9 fullShare (out9 arg0 (ct0 (F := F) CT) hw0 (stepSt arg0 (ct0 (F := F) CT) (ct1 (F := F) CT) (ct2 (F := F) CT) X D R σ).acc K Y9)
          -∗ (∃ P, owns (c : Thread nD τ) arg12 fullShare P)
          -∗ Hold c arg10 arg11 (stepSt arg0 (ct0 (F := F) CT) (ct1 (F := F) CT) (ct2 (F := F) CT) X D R σ) -∗ Q ⟨⟩)
        -∗ wp frame (wpE defs 𝒱 c bd) E (rootP (F := F) arg0 arg1 arg2 arg3 arg4 arg5 arg8 arg9 arg10 arg11 arg12) Q) := by
  unfold rootP stepSt
  iintro ⟨H1, H2, H3, H4, H5, H8, H9, HP, HS⟩ Hk
  iapply (sm 𝒱 c bd E arg1 (Rect.unit (s := S3) ![0] S1.size inb_S3_S1_0) numel1_S1 rfl _ q1 CT) $$ H1
  iintro H1
  iapply (own_assume_bind 𝒱 (c : Thread nD τ) bd E hw0)
  iapply (sm 𝒱 c bd E arg1 (Rect.unit (s := S3) ![1] S1.size inb_S3_S1_1) numel1_S1 rfl _ q1 CT) $$ H1
  iintro H1
  iapply (sm 𝒱 c bd E arg1 (Rect.unit (s := S3) ![2] S1.size inb_S3_S1_2) numel1_S1 rfl _ q1 CT) $$ H1
  iintro H1
  have tail : ∀ (σ' : St F) (P : Vec F S1024x768 .f32),
    (iprop(owns (c : Thread nD τ) arg2 q2 X ∗ owns (c : Thread nD τ) arg3 q3 D ∗ owns (c : Thread nD τ) arg4 q4 R ∗ owns (c : Thread nD τ) arg5 q5 K
        ∗ owns (c : Thread nD τ) arg8 fullShare Y8 ∗ owns (c : Thread nD τ) arg9 fullShare Y9 ∗ owns (c : Thread nD τ) arg12 fullShare P ∗ Hold c arg10 arg11 σ') : sProp 𝕄)
      ⊢ iprop((owns (c : Thread nD τ) arg2 q2 X -∗ owns (c : Thread nD τ) arg3 q3 D -∗ owns (c : Thread nD τ) arg4 q4 R -∗ owns (c : Thread nD τ) arg5 q5 K
          -∗ owns (c : Thread nD τ) arg8 fullShare (out8 arg0 (ct0 (F := F) CT) hw0 σ'.acc K Y8)
          -∗ owns (c : Thread nD τ) arg9 fullShare (out9 arg0 (ct0 (F := F) CT) hw0 σ'.acc K Y9)
          -∗ (∃ P, owns (c : Thread nD τ) arg12 fullShare P) -∗ Hold c arg10 arg11 σ' -∗ Q ⟨⟩)
        -∗ wp frame (wpE defs 𝒱 c bd) E (finS arg0 (ct0 (F := F) CT) hw0 arg5 arg8 arg9 arg10) Q) := by
    intro σ' P
    unfold Hold
    iintro ⟨H2, H3, H4, H5, H8, H9, HP, HA, HC⟩ Hk
    iapply (run_finS 𝒱 c bd E (Q := Q) arg0 (ct0 (F := F) CT) hw0 arg5 arg8 arg9 arg10 q5 σ'.acc K Y8 Y9) $$ [H5 H8 H9 HA]
    · isplitl [H5]; · iexact H5
      isplitl [H8]; · iexact H8
      isplitl [H9]; · iexact H9
      iexact HA
    iintro H5 H8 H9 HA
    iapply Hk $$ H2 H3 H4 H5 H8 H9 [HP] [HA HC]
    · iexists P; iexact HP
    · isplitl [HA]; · iexact HA
      iexact HC
  have mid : ∀ (σ' : St F),
    (iprop(owns (c : Thread nD τ) arg2 q2 X ∗ owns (c : Thread nD τ) arg3 q3 D ∗ owns (c : Thread nD τ) arg4 q4 R ∗ owns (c : Thread nD τ) arg5 q5 K
        ∗ owns (c : Thread nD τ) arg8 fullShare Y8 ∗ owns (c : Thread nD τ) arg9 fullShare Y9 ∗ owns (c : Thread nD τ) arg12 fullShare P ∗ Hold c arg10 arg11 σ') : sProp 𝕄)
      ⊢ iprop((owns (c : Thread nD τ) arg2 q2 X -∗ owns (c : Thread nD τ) arg3 q3 D -∗ owns (c : Thread nD τ) arg4 q4 R -∗ owns (c : Thread nD τ) arg5 q5 K
          -∗ owns (c : Thread nD τ) arg8 fullShare (out8 arg0 (ct0 (F := F) CT) hw0 (partSt arg0 (ct0 (F := F) CT) (ct1 (F := F) CT) (ct2 (F := F) CT) X D R σ').acc K Y8)
          -∗ owns (c : Thread nD τ) arg9 fullShare (out9 arg0 (ct0 (F := F) CT) hw0 (partSt arg0 (ct0 (F := F) CT) (ct1 (F := F) CT) (ct2 (F := F) CT) X D R σ').acc K Y9)
          -∗ (∃ P, owns (c : Thread nD τ) arg12 fullShare P) -∗ Hold c arg10 arg11 (partSt arg0 (ct0 (F := F) CT) (ct1 (F := F) CT) (ct2 (F := F) CT) X D R σ') -∗ Q ⟨⟩)
        -∗ wp frame (wpE defs 𝒱 c bd) E (partS arg0 (ct0 (F := F) CT) (ct1 (F := F) CT) (ct2 (F := F) CT) arg2 arg3 arg4 arg10 arg11 arg12 (finS arg0 (ct0 (F := F) CT) hw0 arg5 arg8 arg9 arg10)) Q) := by
    intro σ'
    unfold partS partSt
    by_cases h2 : k0_cond2 arg0 (ct0 (F := F) CT) (ct1 (F := F) CT) = 1#1
    · rw [dif_pos h2, if_pos h2]
      iintro ⟨H2, H3, H4, H5, H8, H9, HP, HS⟩ Hk
      iapply (run_part 𝒱 c bd E (Q := Q) arg0 _ _ _ h2 arg2 arg3 arg4 arg10 arg11 arg12 _ X D R q2 q3 q4 (hw2 h2) σ' P) $$ [H2 H3 H4 HP HS]
      · isplitl [H2]; · iexact H2
        isplitl [H3]; · iexact H3
        isplitl [H4]; · iexact H4
        isplitl [HP]; · iexact HP
        iexact HS
      iintro H2 H3 H4 HP HS
      iapply (tail _ _) $$ [H2 H3 H4 H5 H8 H9 HP HS]
      · isplitl [H2]; · iexact H2
        isplitl [H3]; · iexact H3
        isplitl [H4]; · iexact H4
        isplitl [H5]; · iexact H5
        isplitl [H8]; · iexact H8
        isplitl [H9]; · iexact H9
        isplitl [HP]; · iexact HP
        iexact HS
      iexact Hk
    · rw [dif_neg h2, if_neg h2]
      exact tail _ _
  have nrm : ∀ (σ' : St F),
    (iprop(owns (c : Thread nD τ) arg2 q2 X ∗ owns (c : Thread nD τ) arg3 q3 D ∗ owns (c : Thread nD τ) arg4 q4 R ∗ owns (c : Thread nD τ) arg5 q5 K
        ∗ owns (c : Thread nD τ) arg8 fullShare Y8 ∗ owns (c : Thread nD τ) arg9 fullShare Y9 ∗ owns (c : Thread nD τ) arg12 fullShare P ∗ Hold c arg10 arg11 σ') : sProp 𝕄)
      ⊢ iprop((owns (c : Thread nD τ) arg2 q2 X -∗ owns (c : Thread nD τ) arg3 q3 D -∗ owns (c : Thread nD τ) arg4 q4 R -∗ owns (c : Thread nD τ) arg5 q5 K
          -∗ owns (c : Thread nD τ) arg8 fullShare (out8 arg0 (ct0 (F := F) CT) hw0 (partSt arg0 (ct0 (F := F) CT) (ct1 (F := F) CT) (ct2 (F := F) CT) X D R (normSt arg0 (ct1 (F := F) CT) X D R σ')).acc K Y8)
          -∗ owns (c : Thread nD τ) arg9 fullShare (out9 arg0 (ct0 (F := F) CT) hw0 (partSt arg0 (ct0 (F := F) CT) (ct1 (F := F) CT) (ct2 (F := F) CT) X D R (normSt arg0 (ct1 (F := F) CT) X D R σ')).acc K Y9)
          -∗ (∃ P, owns (c : Thread nD τ) arg12 fullShare P) -∗ Hold c arg10 arg11 (partSt arg0 (ct0 (F := F) CT) (ct1 (F := F) CT) (ct2 (F := F) CT) X D R (normSt arg0 (ct1 (F := F) CT) X D R σ')) -∗ Q ⟨⟩)
        -∗ wp frame (wpE defs 𝒱 c bd) E (normS arg0 (ct1 (F := F) CT) arg2 arg3 arg4 arg10 arg11 (partS arg0 (ct0 (F := F) CT) (ct1 (F := F) CT) (ct2 (F := F) CT) arg2 arg3 arg4 arg10 arg11 arg12 (finS arg0 (ct0 (F := F) CT) hw0 arg5 arg8 arg9 arg10))) Q) := by
    intro σ'
    unfold normS normSt
    by_cases h1 : k0_cond1 arg0 (ct1 (F := F) CT) = 1#1
    · rw [dif_pos h1, if_pos h1]
      iintro ⟨H2, H3, H4, H5, H8, H9, HP, HS⟩ Hk
      iapply (run_head 𝒱 c bd E (Q := Q) arg0 _ h1 arg3 arg10 arg2 arg4 arg11 _ X D R q2 q3 q4 (hw1 h1) σ') $$ [H2 H3 H4 HS]
      · isplitl [H2]; · iexact H2
        isplitl [H3]; · iexact H3
        isplitl [H4]; · iexact H4
        iexact HS
      iintro H2 H3 H4 HS
      iapply (mid _) $$ [H2 H3 H4 H5 H8 H9 HP HS]
      · isplitl [H2]; · iexact H2
        isplitl [H3]; · iexact H3
        isplitl [H4]; · iexact H4
        isplitl [H5]; · iexact H5
        isplitl [H8]; · iexact H8
        isplitl [H9]; · iexact H9
        isplitl [HP]; · iexact HP
        iexact HS
      iexact Hk
    · rw [dif_neg h1, if_neg h1]
      exact mid _
  iapply (nrm σ) $$ [H2 H3 H4 H5 H8 H9 HP HS]
  · isplitl [H2]; · iexact H2
    isplitl [H3]; · iexact H3
    isplitl [H4]; · iexact H4
    isplitl [H5]; · iexact H5
    isplitl [H8]; · iexact H8
    isplitl [H9]; · iexact H9
    isplitl [HP]; · iexact HP
    iexact HS
  iapply Hk $$ H1

end Cert.KernelIdeal.Units

end
-- ==== Proof.StepsA.lean ====
/-
  The first 44 printed parts of a whole block, each against the recursion over units.
-/
module

public import proofs.«01_k».proof.Proof.Body

@[expose] public section

set_option maxRecDepth 8192

noncomputable section

namespace Cert.KernelIdeal.Units

open Idealize.ShloMosaic Idealize.SL.Sem
open Cert.KernelIdeal Cert.KernelIdeal.Gen

variable {F : FTy → Type} [FloatOps F]

local notation "V8" => FVec F S8x128 FTy.f32

def t1 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v35 : Elt F .i32) (k0_hw1 : k0_chk1 x0 v1 v35) (v51 : V8) (v54 : V8) (v56 : BitVec 32) : Prog (TpuEff nD τ sig (Elt F) Λ₀ .tc) PUnit :=
  tailB x0 v1 k0_h1 x3 x10 v35 k0_hw1 v51 v54 >>= fun _ => unitsP x0 v1 k0_h1 x3 x10 K v30 127 (by omega) v51 v54

def t2 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v81 : V8) (v84 : V8) (v95 : Elt F .i32) (k0_hw3 : k0_chk3 x0 v1 v95) (v96 : FVec F S8x768 .f32) (v99 : V8) (v100 : V8) : Prog (TpuEff nD τ sig (Elt F) Λ₀ .tc) PUnit :=
  tailB x0 v1 k0_h1 x3 x10 v95 k0_hw3 (maximumf (maximumf v99 (maximumf v100 (extractStridedSlice S8x128 ![0, 384] v96 slices_S8x768_o0_384_S8x128))) (Scalar.select (Scalar.cmpi .eq (Scalar.andi v95 (1#32)) (1#32)) (broadcast S8x128 (Scalar.ofBits .f32 0xFF800000#32)) v81)) (maximumf (maximumf (extractStridedSlice S8x128 ![0, 512] v96 slices_S8x768_o0_512_S8x128) (extractStridedSlice S8x128 ![0, 640] v96 slices_S8x768_o0_640_S8x128)) (Scalar.select (Scalar.cmpi .eq (Scalar.andi v95 (1#32)) (1#32)) (broadcast S8x128 (Scalar.ofBits .f32 0xFF800000#32)) v84)) >>= fun _ => unitsP x0 v1 k0_h1 x3 x10 K v30 125 (by omega) (maximumf (maximumf v99 (maximumf v100 (extractStridedSlice S8x128 ![0, 384] v96 slices_S8x768_o0_384_S8x128))) (Scalar.select (Scalar.cmpi .eq (Scalar.andi v95 (1#32)) (1#32)) (broadcast S8x128 (Scalar.ofBits .f32 0xFF800000#32)) v81)) (maximumf (maximumf (extractStridedSlice S8x128 ![0, 512] v96 slices_S8x768_o0_512_S8x128) (extractStridedSlice S8x128 ![0, 640] v96 slices_S8x768_o0_640_S8x128)) (Scalar.select (Scalar.cmpi .eq (Scalar.andi v95 (1#32)) (1#32)) (broadcast S8x128 (Scalar.ofBits .f32 0xFF800000#32)) v84))

def t3 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v125 : Elt F .i32) (k0_hw4 : k0_chk4 x0 v1 v125) (v141 : V8) (v144 : V8) (c1_i32_41 : BitVec 32) : Prog (TpuEff nD τ sig (Elt F) Λ₀ .tc) PUnit :=
  tailB x0 v1 k0_h1 x3 x10 v125 k0_hw4 v141 v144 >>= fun _ => unitsP x0 v1 k0_h1 x3 x10 K v30 124 (by omega) v141 v144

def t4 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v171 : V8) (v174 : V8) (v185 : Elt F .i32) (k0_hw6 : k0_chk6 x0 v1 v185) (v186 : FVec F S8x768 .f32) (v187 : V8) : Prog (TpuEff nD τ sig (Elt F) Λ₀ .tc) PUnit :=
  tailB x0 v1 k0_h1 x3 x10 v185 k0_hw6 (maximumf (maximumf (maximumf v187 (extractStridedSlice S8x128 ![0, 128] v186 slices_S8x768_o0_128_S8x128)) (maximumf (extractStridedSlice S8x128 ![0, 256] v186 slices_S8x768_o0_256_S8x128) (extractStridedSlice S8x128 ![0, 384] v186 slices_S8x768_o0_384_S8x128))) (Scalar.select (Scalar.cmpi .eq (Scalar.andi v185 (1#32)) (1#32)) (broadcast S8x128 (Scalar.ofBits .f32 0xFF800000#32)) v171)) (maximumf (maximumf (extractStridedSlice S8x128 ![0, 512] v186 slices_S8x768_o0_512_S8x128) (extractStridedSlice S8x128 ![0, 640] v186 slices_S8x768_o0_640_S8x128)) (Scalar.select (Scalar.cmpi .eq (Scalar.andi v185 (1#32)) (1#32)) (broadcast S8x128 (Scalar.ofBits .f32 0xFF800000#32)) v174)) >>= fun _ => unitsP x0 v1 k0_h1 x3 x10 K v30 122 (by omega) (maximumf (maximumf (maximumf v187 (extractStridedSlice S8x128 ![0, 128] v186 slices_S8x768_o0_128_S8x128)) (maximumf (extractStridedSlice S8x128 ![0, 256] v186 slices_S8x768_o0_256_S8x128) (extractStridedSlice S8x128 ![0, 384] v186 slices_S8x768_o0_384_S8x128))) (Scalar.select (Scalar.cmpi .eq (Scalar.andi v185 (1#32)) (1#32)) (broadcast S8x128 (Scalar.ofBits .f32 0xFF800000#32)) v171)) (maximumf (maximumf (extractStridedSlice S8x128 ![0, 512] v186 slices_S8x768_o0_512_S8x128) (extractStridedSlice S8x128 ![0, 640] v186 slices_S8x768_o0_640_S8x128)) (Scalar.select (Scalar.cmpi .eq (Scalar.andi v185 (1#32)) (1#32)) (broadcast S8x128 (Scalar.ofBits .f32 0xFF800000#32)) v174))

def t5 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v204 : V8) (v215 : Elt F .i32) (k0_hw7 : k0_chk7 x0 v1 v215) (v226 : V8) (v228 : BitVec 1) (v231 : V8) (v232 : V8) : Prog (TpuEff nD τ sig (Elt F) Λ₀ .tc) PUnit :=
  tailB x0 v1 k0_h1 x3 x10 v215 k0_hw7 v231 (maximumf v226 (Scalar.select v228 v232 v204)) >>= fun _ => unitsP x0 v1 k0_h1 x3 x10 K v30 121 (by omega) v231 (maximumf v226 (Scalar.select v228 v232 v204))

def t6 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v261 : V8) (v264 : V8) (v275 : Elt F .i32) : Prog (TpuEff nD τ sig (Elt F) Λ₀ .tc) PUnit :=
  tailAs x0 v1 k0_h1 x3 x10 v275 (maximumf (maximumf (maximumf (extractStridedSlice S8x128 ![0, 0] (extractStridedSlice S8x768 ![64, 0] v30 slices_S1024x768_o64_0_S8x768) slices_S8x768_o0_0_S8x128) (extractStridedSlice S8x128 ![0, 128] (extractStridedSlice S8x768 ![64, 0] v30 slices_S1024x768_o64_0_S8x768) slices_S8x768_o0_128_S8x128)) (maximumf (extractStridedSlice S8x128 ![0, 256] (extractStridedSlice S8x768 ![64, 0] v30 slices_S1024x768_o64_0_S8x768) slices_S8x768_o0_256_S8x128) (extractStridedSlice S8x128 ![0, 384] (extractStridedSlice S8x768 ![64, 0] v30 slices_S1024x768_o64_0_S8x768) slices_S8x768_o0_384_S8x128))) (Scalar.select (Scalar.cmpi .eq (Scalar.andi v275 (1#32)) (1#32)) (broadcast S8x128 (Scalar.ofBits .f32 0xFF800000#32)) v261)) (maximumf (maximumf (extractStridedSlice S8x128 ![0, 512] (extractStridedSlice S8x768 ![64, 0] v30 slices_S1024x768_o64_0_S8x768) slices_S8x768_o0_512_S8x128) (extractStridedSlice S8x128 ![0, 640] (extractStridedSlice S8x768 ![64, 0] v30 slices_S1024x768_o64_0_S8x768) slices_S8x768_o0_640_S8x128)) (Scalar.select (Scalar.cmpi .eq (Scalar.andi v275 (1#32)) (1#32)) (broadcast S8x128 (Scalar.ofBits .f32 0xFF800000#32)) v264)) >>= fun _ => unitsP x0 v1 k0_h1 x3 x10 K v30 119 (by omega) (maximumf (maximumf (maximumf (extractStridedSlice S8x128 ![0, 0] (extractStridedSlice S8x768 ![64, 0] v30 slices_S1024x768_o64_0_S8x768) slices_S8x768_o0_0_S8x128) (extractStridedSlice S8x128 ![0, 128] (extractStridedSlice S8x768 ![64, 0] v30 slices_S1024x768_o64_0_S8x768) slices_S8x768_o0_128_S8x128)) (maximumf (extractStridedSlice S8x128 ![0, 256] (extractStridedSlice S8x768 ![64, 0] v30 slices_S1024x768_o64_0_S8x768) slices_S8x768_o0_256_S8x128) (extractStridedSlice S8x128 ![0, 384] (extractStridedSlice S8x768 ![64, 0] v30 slices_S1024x768_o64_0_S8x768) slices_S8x768_o0_384_S8x128))) (Scalar.select (Scalar.cmpi .eq (Scalar.andi v275 (1#32)) (1#32)) (broadcast S8x128 (Scalar.ofBits .f32 0xFF800000#32)) v261)) (maximumf (maximumf (extractStridedSlice S8x128 ![0, 512] (extractStridedSlice S8x768 ![64, 0] v30 slices_S1024x768_o64_0_S8x768) slices_S8x768_o0_512_S8x128) (extractStridedSlice S8x128 ![0, 640] (extractStridedSlice S8x768 ![64, 0] v30 slices_S1024x768_o64_0_S8x768) slices_S8x768_o0_640_S8x128)) (Scalar.select (Scalar.cmpi .eq (Scalar.andi v275 (1#32)) (1#32)) (broadcast S8x128 (Scalar.ofBits .f32 0xFF800000#32)) v264))

def t7 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v294 : V8) (v305 : Elt F .i32) (k0_hw10 : k0_chk10 x0 v1 v305) (v313 : V8) (v316 : V8) (v318 : BitVec 1) (v320 : V8) : Prog (TpuEff nD τ sig (Elt F) Λ₀ .tc) PUnit :=
  tailB x0 v1 k0_h1 x3 x10 v305 k0_hw10 (maximumf v313 v320) (maximumf v316 (Scalar.select v318 (broadcast S8x128 (Scalar.ofBits .f32 0xFF800000#32)) v294)) >>= fun _ => unitsP x0 v1 k0_h1 x3 x10 K v30 118 (by omega) (maximumf v313 v320) (maximumf v316 (Scalar.select v318 (broadcast S8x128 (Scalar.ofBits .f32 0xFF800000#32)) v294))

def t8 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v335 : Elt F .i32) (k0_hw11 : k0_chk11 x0 v1 v335) (v351 : V8) (v354 : V8) (v364 : V8) : Prog (TpuEff nD τ sig (Elt F) Λ₀ .tc) PUnit :=
  tailE x0 v1 k0_h1 x3 x10 v335 k0_hw11 v364 >>= fun _ => unitsP x0 v1 k0_h1 x3 x10 K v30 117 (by omega) v351 v354

def t9 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v381 : V8) (v384 : V8) (v395 : Elt F .i32) (k0_hw13 : k0_chk13 x0 v1 v395) (v403 : V8) (v406 : V8) (v408 : BitVec 1) : Prog (TpuEff nD τ sig (Elt F) Λ₀ .tc) PUnit :=
  tailB x0 v1 k0_h1 x3 x10 v395 k0_hw13 (maximumf v403 (Scalar.select v408 (broadcast S8x128 (Scalar.ofBits .f32 0xFF800000#32)) v381)) (maximumf v406 (Scalar.select v408 (broadcast S8x128 (Scalar.ofBits .f32 0xFF800000#32)) v384)) >>= fun _ => unitsP x0 v1 k0_h1 x3 x10 K v30 115 (by omega) (maximumf v403 (Scalar.select v408 (broadcast S8x128 (Scalar.ofBits .f32 0xFF800000#32)) v381)) (maximumf v406 (Scalar.select v408 (broadcast S8x128 (Scalar.ofBits .f32 0xFF800000#32)) v384))

def t10 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v425 : Elt F .i32) (k0_hw14 : k0_chk14 x0 v1 v425) (v441 : V8) (v444 : V8) : Prog (TpuEff nD τ sig (Elt F) Λ₀ .tc) PUnit :=
  tailD x0 v1 k0_h1 x3 x10 v425 k0_hw14 v444 >>= fun _ => unitsP x0 v1 k0_h1 x3 x10 K v30 114 (by omega) v441 v444

def t11 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v471 : V8) (v474 : V8) (v485 : Elt F .i32) (k0_hw16 : k0_chk16 x0 v1 v485) (v493 : V8) (v496 : V8) (c1_i32_121 : BitVec 32) : Prog (TpuEff nD τ sig (Elt F) Λ₀ .tc) PUnit :=
  tailB x0 v1 k0_h1 x3 x10 v485 k0_hw16 (maximumf v493 (Scalar.select (Scalar.cmpi .eq (Scalar.andi v485 c1_i32_121) (1#32)) (broadcast S8x128 (Scalar.ofBits .f32 0xFF800000#32)) v471)) (maximumf v496 (Scalar.select (Scalar.cmpi .eq (Scalar.andi v485 c1_i32_121) (1#32)) (broadcast S8x128 (Scalar.ofBits .f32 0xFF800000#32)) v474)) >>= fun _ => unitsP x0 v1 k0_h1 x3 x10 K v30 112 (by omega) (maximumf v493 (Scalar.select (Scalar.cmpi .eq (Scalar.andi v485 c1_i32_121) (1#32)) (broadcast S8x128 (Scalar.ofBits .f32 0xFF800000#32)) v471)) (maximumf v496 (Scalar.select (Scalar.cmpi .eq (Scalar.andi v485 c1_i32_121) (1#32)) (broadcast S8x128 (Scalar.ofBits .f32 0xFF800000#32)) v474))

def t12 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v515 : Elt F .i32) (k0_hw17 : k0_chk17 x0 v1 v515) (v531 : V8) (v534 : V8) (v536 : BitVec 32) (v540 : V8) : Prog (TpuEff nD τ sig (Elt F) Λ₀ .tc) PUnit :=
  tailC x0 v1 k0_h1 x3 x10 v515 k0_hw17 v540 v534 >>= fun _ => unitsP x0 v1 k0_h1 x3 x10 K v30 111 (by omega) v531 v534

def t13 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v561 : V8) (v564 : V8) (v575 : Elt F .i32) (k0_hw19 : k0_chk19 x0 v1 v575) (v576 : FVec F S8x768 .f32) (v583 : V8) (v584 : V8) : Prog (TpuEff nD τ sig (Elt F) Λ₀ .tc) PUnit :=
  tailB x0 v1 k0_h1 x3 x10 v575 k0_hw19 (maximumf v583 (Scalar.select (Scalar.cmpi .eq (Scalar.andi v575 (1#32)) (1#32)) (broadcast S8x128 (Scalar.ofBits .f32 0xFF800000#32)) v561)) (maximumf (maximumf v584 (extractStridedSlice S8x128 ![0, 640] v576 slices_S8x768_o0_640_S8x128)) (Scalar.select (Scalar.cmpi .eq (Scalar.andi v575 (1#32)) (1#32)) (broadcast S8x128 (Scalar.ofBits .f32 0xFF800000#32)) v564)) >>= fun _ => unitsP x0 v1 k0_h1 x3 x10 K v30 109 (by omega) (maximumf v583 (Scalar.select (Scalar.cmpi .eq (Scalar.andi v575 (1#32)) (1#32)) (broadcast S8x128 (Scalar.ofBits .f32 0xFF800000#32)) v561)) (maximumf (maximumf v584 (extractStridedSlice S8x128 ![0, 640] v576 slices_S8x768_o0_640_S8x128)) (Scalar.select (Scalar.cmpi .eq (Scalar.andi v575 (1#32)) (1#32)) (broadcast S8x128 (Scalar.ofBits .f32 0xFF800000#32)) v564))

def t14 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v605 : Elt F .i32) (k0_hw20 : k0_chk20 x0 v1 v605) (v621 : V8) (v624 : V8) (v626 : BitVec 32) : Prog (TpuEff nD τ sig (Elt F) Λ₀ .tc) PUnit :=
  tailB x0 v1 k0_h1 x3 x10 v605 k0_hw20 v621 v624 >>= fun _ => unitsP x0 v1 k0_h1 x3 x10 K v30 108 (by omega) v621 v624

def t15 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v651 : V8) (v654 : V8) (v665 : Elt F .i32) (k0_hw22 : k0_chk22 x0 v1 v665) (v666 : FVec F S8x768 .f32) (v669 : V8) (v670 : V8) (v671 : V8) : Prog (TpuEff nD τ sig (Elt F) Λ₀ .tc) PUnit :=
  tailB x0 v1 k0_h1 x3 x10 v665 k0_hw22 (maximumf (maximumf v669 (maximumf v670 v671)) (Scalar.select (Scalar.cmpi .eq (Scalar.andi v665 (1#32)) (1#32)) (broadcast S8x128 (Scalar.ofBits .f32 0xFF800000#32)) v651)) (maximumf (maximumf (extractStridedSlice S8x128 ![0, 512] v666 slices_S8x768_o0_512_S8x128) (extractStridedSlice S8x128 ![0, 640] v666 slices_S8x768_o0_640_S8x128)) (Scalar.select (Scalar.cmpi .eq (Scalar.andi v665 (1#32)) (1#32)) (broadcast S8x128 (Scalar.ofBits .f32 0xFF800000#32)) v654)) >>= fun _ => unitsP x0 v1 k0_h1 x3 x10 K v30 106 (by omega) (maximumf (maximumf v669 (maximumf v670 v671)) (Scalar.select (Scalar.cmpi .eq (Scalar.andi v665 (1#32)) (1#32)) (broadcast S8x128 (Scalar.ofBits .f32 0xFF800000#32)) v651)) (maximumf (maximumf (extractStridedSlice S8x128 ![0, 512] v666 slices_S8x768_o0_512_S8x128) (extractStridedSlice S8x128 ![0, 640] v666 slices_S8x768_o0_640_S8x128)) (Scalar.select (Scalar.cmpi .eq (Scalar.andi v665 (1#32)) (1#32)) (broadcast S8x128 (Scalar.ofBits .f32 0xFF800000#32)) v654))

def t16 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v695 : Elt F .i32) (k0_hw23 : k0_chk23 x0 v1 v695) (v711 : V8) (v714 : V8) (v715 : BitVec 32) : Prog (TpuEff nD τ sig (Elt F) Λ₀ .tc) PUnit :=
  tailB x0 v1 k0_h1 x3 x10 v695 k0_hw23 v711 v714 >>= fun _ => unitsP x0 v1 k0_h1 x3 x10 K v30 105 (by omega) v711 v714

def t17 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v741 : V8) (v744 : V8) (v755 : Elt F .i32) (k0_hw25 : k0_chk25 x0 v1 v755) (v756 : FVec F S8x768 .f32) (v757 : V8) (v758 : V8) : Prog (TpuEff nD τ sig (Elt F) Λ₀ .tc) PUnit :=
  tailB x0 v1 k0_h1 x3 x10 v755 k0_hw25 (maximumf (maximumf (maximumf v757 v758) (maximumf (extractStridedSlice S8x128 ![0, 256] v756 slices_S8x768_o0_256_S8x128) (extractStridedSlice S8x128 ![0, 384] v756 slices_S8x768_o0_384_S8x128))) (Scalar.select (Scalar.cmpi .eq (Scalar.andi v755 (1#32)) (1#32)) (broadcast S8x128 (Scalar.ofBits .f32 0xFF800000#32)) v741)) (maximumf (maximumf (extractStridedSlice S8x128 ![0, 512] v756 slices_S8x768_o0_512_S8x128) (extractStridedSlice S8x128 ![0, 640] v756 slices_S8x768_o0_640_S8x128)) (Scalar.select (Scalar.cmpi .eq (Scalar.andi v755 (1#32)) (1#32)) (broadcast S8x128 (Scalar.ofBits .f32 0xFF800000#32)) v744)) >>= fun _ => unitsP x0 v1 k0_h1 x3 x10 K v30 103 (by omega) (maximumf (maximumf (maximumf v757 v758) (maximumf (extractStridedSlice S8x128 ![0, 256] v756 slices_S8x768_o0_256_S8x128) (extractStridedSlice S8x128 ![0, 384] v756 slices_S8x768_o0_384_S8x128))) (Scalar.select (Scalar.cmpi .eq (Scalar.andi v755 (1#32)) (1#32)) (broadcast S8x128 (Scalar.ofBits .f32 0xFF800000#32)) v741)) (maximumf (maximumf (extractStridedSlice S8x128 ![0, 512] v756 slices_S8x768_o0_512_S8x128) (extractStridedSlice S8x128 ![0, 640] v756 slices_S8x768_o0_640_S8x128)) (Scalar.select (Scalar.cmpi .eq (Scalar.andi v755 (1#32)) (1#32)) (broadcast S8x128 (Scalar.ofBits .f32 0xFF800000#32)) v744))

def t18 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v785 : Elt F .i32) (k0_hw26 : k0_chk26 x0 v1 v785) (v796 : V8) (v801 : V8) (v803 : V8) : Prog (TpuEff nD τ sig (Elt F) Λ₀ .tc) PUnit :=
  tailB x0 v1 k0_h1 x3 x10 v785 k0_hw26 v801 (maximumf v796 v803) >>= fun _ => unitsP x0 v1 k0_h1 x3 x10 K v30 102 (by omega) v801 (maximumf v796 v803)

def t19 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v831 : V8) (v834 : V8) (v845 : Elt F .i32) (k0_hw28 : k0_chk28 x0 v1 v845) : Prog (TpuEff nD τ sig (Elt F) Λ₀ .tc) PUnit :=
  tailB x0 v1 k0_h1 x3 x10 v845 k0_hw28 (maximumf (maximumf (maximumf (extractStridedSlice S8x128 ![0, 0] (extractStridedSlice S8x768 ![216, 0] v30 slices_S1024x768_o216_0_S8x768) slices_S8x768_o0_0_S8x128) (extractStridedSlice S8x128 ![0, 128] (extractStridedSlice S8x768 ![216, 0] v30 slices_S1024x768_o216_0_S8x768) slices_S8x768_o0_128_S8x128)) (maximumf (extractStridedSlice S8x128 ![0, 256] (extractStridedSlice S8x768 ![216, 0] v30 slices_S1024x768_o216_0_S8x768) slices_S8x768_o0_256_S8x128) (extractStridedSlice S8x128 ![0, 384] (extractStridedSlice S8x768 ![216, 0] v30 slices_S1024x768_o216_0_S8x768) slices_S8x768_o0_384_S8x128))) (Scalar.select (Scalar.cmpi .eq (Scalar.andi v845 (1#32)) (1#32)) (broadcast S8x128 (Scalar.ofBits .f32 0xFF800000#32)) v831)) (maximumf (maximumf (extractStridedSlice S8x128 ![0, 512] (extractStridedSlice S8x768 ![216, 0] v30 slices_S1024x768_o216_0_S8x768) slices_S8x768_o0_512_S8x128) (extractStridedSlice S8x128 ![0, 640] (extractStridedSlice S8x768 ![216, 0] v30 slices_S1024x768_o216_0_S8x768) slices_S8x768_o0_640_S8x128)) (Scalar.select (Scalar.cmpi .eq (Scalar.andi v845 (1#32)) (1#32)) (broadcast S8x128 (Scalar.ofBits .f32 0xFF800000#32)) v834)) >>= fun _ => unitsP x0 v1 k0_h1 x3 x10 K v30 100 (by omega) (maximumf (maximumf (maximumf (extractStridedSlice S8x128 ![0, 0] (extractStridedSlice S8x768 ![216, 0] v30 slices_S1024x768_o216_0_S8x768) slices_S8x768_o0_0_S8x128) (extractStridedSlice S8x128 ![0, 128] (extractStridedSlice S8x768 ![216, 0] v30 slices_S1024x768_o216_0_S8x768) slices_S8x768_o0_128_S8x128)) (maximumf (extractStridedSlice S8x128 ![0, 256] (extractStridedSlice S8x768 ![216, 0] v30 slices_S1024x768_o216_0_S8x768) slices_S8x768_o0_256_S8x128) (extractStridedSlice S8x128 ![0, 384] (extractStridedSlice S8x768 ![216, 0] v30 slices_S1024x768_o216_0_S8x768) slices_S8x768_o0_384_S8x128))) (Scalar.select (Scalar.cmpi .eq (Scalar.andi v845 (1#32)) (1#32)) (broadcast S8x128 (Scalar.ofBits .f32 0xFF800000#32)) v831)) (maximumf (maximumf (extractStridedSlice S8x128 ![0, 512] (extractStridedSlice S8x768 ![216, 0] v30 slices_S1024x768_o216_0_S8x768) slices_S8x768_o0_512_S8x128) (extractStridedSlice S8x128 ![0, 640] (extractStridedSlice S8x768 ![216, 0] v30 slices_S1024x768_o216_0_S8x768) slices_S8x768_o0_640_S8x128)) (Scalar.select (Scalar.cmpi .eq (Scalar.andi v845 (1#32)) (1#32)) (broadcast S8x128 (Scalar.ofBits .f32 0xFF800000#32)) v834))

def t20 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v864 : V8) (v875 : Elt F .i32) (k0_hw29 : k0_chk29 x0 v1 v875) (v886 : V8) (v888 : BitVec 1) (v891 : V8) : Prog (TpuEff nD τ sig (Elt F) Λ₀ .tc) PUnit :=
  tailB x0 v1 k0_h1 x3 x10 v875 k0_hw29 v891 (maximumf v886 (Scalar.select v888 (broadcast S8x128 (Scalar.ofBits .f32 0xFF800000#32)) v864)) >>= fun _ => unitsP x0 v1 k0_h1 x3 x10 K v30 99 (by omega) v891 (maximumf v886 (Scalar.select v888 (broadcast S8x128 (Scalar.ofBits .f32 0xFF800000#32)) v864))

def t21 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v921 : V8) (v924 : V8) : Prog (TpuEff nD τ sig (Elt F) Λ₀ .tc) PUnit :=
  unitsP x0 v1 k0_h1 x3 x10 K v30 98 (by omega) v921 v924

def t22 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v951 : V8) (v954 : V8) (v965 : Elt F .i32) (k0_hw32 : k0_chk32 x0 v1 v965) (v973 : V8) (v976 : V8) (v978 : BitVec 1) (cst_235 : F .f32) : Prog (TpuEff nD τ sig (Elt F) Λ₀ .tc) PUnit :=
  tailB x0 v1 k0_h1 x3 x10 v965 k0_hw32 (maximumf v973 (Scalar.select v978 (broadcast S8x128 cst_235) v951)) (maximumf v976 (Scalar.select v978 (broadcast S8x128 (Scalar.ofBits .f32 0xFF800000#32)) v954)) >>= fun _ => unitsP x0 v1 k0_h1 x3 x10 K v30 96 (by omega) (maximumf v973 (Scalar.select v978 (broadcast S8x128 cst_235) v951)) (maximumf v976 (Scalar.select v978 (broadcast S8x128 (Scalar.ofBits .f32 0xFF800000#32)) v954))

def t23 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v995 : Elt F .i32) (k0_hw33 : k0_chk33 x0 v1 v995) (v1011 : V8) (v1014 : V8) (v1022 : Vec F S8x128 .f32) : Prog (TpuEff nD τ sig (Elt F) Λ₀ .tc) PUnit :=
  tailE x0 v1 k0_h1 x3 x10 v995 k0_hw33 (shapeCast S8x128 v1014 shapeCasts_S8x128_S8x128) >>= fun _ => unitsP x0 v1 k0_h1 x3 x10 K v30 95 (by omega) v1011 v1014

def t24 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v1041 : V8) (v1044 : V8) (v1055 : Elt F .i32) (k0_hw35 : k0_chk35 x0 v1 v1055) (v1063 : V8) (v1066 : V8) (v1067 : BitVec 32) : Prog (TpuEff nD τ sig (Elt F) Λ₀ .tc) PUnit :=
  tailB x0 v1 k0_h1 x3 x10 v1055 k0_hw35 (maximumf v1063 (Scalar.select (Scalar.cmpi .eq v1067 (1#32)) (broadcast S8x128 (Scalar.ofBits .f32 0xFF800000#32)) v1041)) (maximumf v1066 (Scalar.select (Scalar.cmpi .eq v1067 (1#32)) (broadcast S8x128 (Scalar.ofBits .f32 0xFF800000#32)) v1044)) >>= fun _ => unitsP x0 v1 k0_h1 x3 x10 K v30 93 (by omega) (maximumf v1063 (Scalar.select (Scalar.cmpi .eq v1067 (1#32)) (broadcast S8x128 (Scalar.ofBits .f32 0xFF800000#32)) v1041)) (maximumf v1066 (Scalar.select (Scalar.cmpi .eq v1067 (1#32)) (broadcast S8x128 (Scalar.ofBits .f32 0xFF800000#32)) v1044))

def t25 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v1085 : Elt F .i32) (k0_hw36 : k0_chk36 x0 v1 v1085) (v1101 : V8) (v1104 : V8) (v1106 : BitVec 32) : Prog (TpuEff nD τ sig (Elt F) Λ₀ .tc) PUnit :=
  tailD x0 v1 k0_h1 x3 x10 v1085 k0_hw36 v1104 >>= fun _ => unitsP x0 v1 k0_h1 x3 x10 K v30 92 (by omega) v1101 v1104

def t26 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v1131 : V8) (v1134 : V8) (v1145 : Elt F .i32) (k0_hw38 : k0_chk38 x0 v1 v1145) (v1153 : V8) (v1154 : V8) (v1155 : V8) : Prog (TpuEff nD τ sig (Elt F) Λ₀ .tc) PUnit :=
  tailB x0 v1 k0_h1 x3 x10 v1145 k0_hw38 (maximumf v1153 (Scalar.select (Scalar.cmpi .eq (Scalar.andi v1145 (1#32)) (1#32)) (broadcast S8x128 (Scalar.ofBits .f32 0xFF800000#32)) v1131)) (maximumf (maximumf v1154 v1155) (Scalar.select (Scalar.cmpi .eq (Scalar.andi v1145 (1#32)) (1#32)) (broadcast S8x128 (Scalar.ofBits .f32 0xFF800000#32)) v1134)) >>= fun _ => unitsP x0 v1 k0_h1 x3 x10 K v30 90 (by omega) (maximumf v1153 (Scalar.select (Scalar.cmpi .eq (Scalar.andi v1145 (1#32)) (1#32)) (broadcast S8x128 (Scalar.ofBits .f32 0xFF800000#32)) v1131)) (maximumf (maximumf v1154 v1155) (Scalar.select (Scalar.cmpi .eq (Scalar.andi v1145 (1#32)) (1#32)) (broadcast S8x128 (Scalar.ofBits .f32 0xFF800000#32)) v1134))

def t27 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v1175 : Elt F .i32) (k0_hw39 : k0_chk39 x0 v1 v1175) (v1191 : V8) (v1194 : V8) (v1196 : BitVec 32) (v1198 : Vec F S8x128 .f32) : Prog (TpuEff nD τ sig (Elt F) Λ₀ .tc) PUnit :=
  tailC x0 v1 k0_h1 x3 x10 v1175 k0_hw39 (shapeCast S8x128 v1191 shapeCasts_S8x128_S8x128) v1194 >>= fun _ => unitsP x0 v1 k0_h1 x3 x10 K v30 89 (by omega) v1191 v1194

def t28 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v1221 : V8) (v1224 : V8) (v1235 : Elt F .i32) (k0_hw41 : k0_chk41 x0 v1 v1235) (v1236 : FVec F S8x768 .f32) (v1239 : V8) (v1242 : V8) : Prog (TpuEff nD τ sig (Elt F) Λ₀ .tc) PUnit :=
  tailB x0 v1 k0_h1 x3 x10 v1235 k0_hw41 (maximumf (maximumf v1239 v1242) (Scalar.select (Scalar.cmpi .eq (Scalar.andi v1235 (1#32)) (1#32)) (broadcast S8x128 (Scalar.ofBits .f32 0xFF800000#32)) v1221)) (maximumf (maximumf (extractStridedSlice S8x128 ![0, 512] v1236 slices_S8x768_o0_512_S8x128) (extractStridedSlice S8x128 ![0, 640] v1236 slices_S8x768_o0_640_S8x128)) (Scalar.select (Scalar.cmpi .eq (Scalar.andi v1235 (1#32)) (1#32)) (broadcast S8x128 (Scalar.ofBits .f32 0xFF800000#32)) v1224)) >>= fun _ => unitsP x0 v1 k0_h1 x3 x10 K v30 87 (by omega) (maximumf (maximumf v1239 v1242) (Scalar.select (Scalar.cmpi .eq (Scalar.andi v1235 (1#32)) (1#32)) (broadcast S8x128 (Scalar.ofBits .f32 0xFF800000#32)) v1221)) (maximumf (maximumf (extractStridedSlice S8x128 ![0, 512] v1236 slices_S8x768_o0_512_S8x128) (extractStridedSlice S8x128 ![0, 640] v1236 slices_S8x768_o0_640_S8x128)) (Scalar.select (Scalar.cmpi .eq (Scalar.andi v1235 (1#32)) (1#32)) (broadcast S8x128 (Scalar.ofBits .f32 0xFF800000#32)) v1224))

def t29 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v1265 : Elt F .i32) (k0_hw42 : k0_chk42 x0 v1 v1265) (v1281 : V8) (v1284 : V8) (v1286 : BitVec 32) : Prog (TpuEff nD τ sig (Elt F) Λ₀ .tc) PUnit :=
  tailB x0 v1 k0_h1 x3 x10 v1265 k0_hw42 v1281 v1284 >>= fun _ => unitsP x0 v1 k0_h1 x3 x10 K v30 86 (by omega) v1281 v1284

def t30 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v1311 : V8) (v1314 : V8) (v1325 : Elt F .i32) (k0_hw44 : k0_chk44 x0 v1 v1325) (v1326 : FVec F S8x768 .f32) (v1329 : V8) : Prog (TpuEff nD τ sig (Elt F) Λ₀ .tc) PUnit :=
  tailB x0 v1 k0_h1 x3 x10 v1325 k0_hw44 (maximumf (maximumf v1329 (maximumf (extractStridedSlice S8x128 ![0, 256] v1326 slices_S8x768_o0_256_S8x128) (extractStridedSlice S8x128 ![0, 384] v1326 slices_S8x768_o0_384_S8x128))) (Scalar.select (Scalar.cmpi .eq (Scalar.andi v1325 (1#32)) (1#32)) (broadcast S8x128 (Scalar.ofBits .f32 0xFF800000#32)) v1311)) (maximumf (maximumf (extractStridedSlice S8x128 ![0, 512] v1326 slices_S8x768_o0_512_S8x128) (extractStridedSlice S8x128 ![0, 640] v1326 slices_S8x768_o0_640_S8x128)) (Scalar.select (Scalar.cmpi .eq (Scalar.andi v1325 (1#32)) (1#32)) (broadcast S8x128 (Scalar.ofBits .f32 0xFF800000#32)) v1314)) >>= fun _ => unitsP x0 v1 k0_h1 x3 x10 K v30 84 (by omega) (maximumf (maximumf v1329 (maximumf (extractStridedSlice S8x128 ![0, 256] v1326 slices_S8x768_o0_256_S8x128) (extractStridedSlice S8x128 ![0, 384] v1326 slices_S8x768_o0_384_S8x128))) (Scalar.select (Scalar.cmpi .eq (Scalar.andi v1325 (1#32)) (1#32)) (broadcast S8x128 (Scalar.ofBits .f32 0xFF800000#32)) v1311)) (maximumf (maximumf (extractStridedSlice S8x128 ![0, 512] v1326 slices_S8x768_o0_512_S8x128) (extractStridedSlice S8x128 ![0, 640] v1326 slices_S8x768_o0_640_S8x128)) (Scalar.select (Scalar.cmpi .eq (Scalar.andi v1325 (1#32)) (1#32)) (broadcast S8x128 (Scalar.ofBits .f32 0xFF800000#32)) v1314))

def t31 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v1355 : Elt F .i32) (k0_hw45 : k0_chk45 x0 v1 v1355) (v1371 : V8) (v1374 : V8) : Prog (TpuEff nD τ sig (Elt F) Λ₀ .tc) PUnit :=
  tailB x0 v1 k0_h1 x3 x10 v1355 k0_hw45 v1371 v1374 >>= fun _ => unitsP x0 v1 k0_h1 x3 x10 K v30 83 (by omega) v1371 v1374

def t32 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v1401 : V8) (v1404 : V8) (v1415 : Elt F .i32) (k0_hw47 : k0_chk47 x0 v1 v1415) (v1416 : FVec F S8x768 .f32) : Prog (TpuEff nD τ sig (Elt F) Λ₀ .tc) PUnit :=
  tailB x0 v1 k0_h1 x3 x10 v1415 k0_hw47 (maximumf (maximumf (maximumf (extractStridedSlice S8x128 ![0, 0] v1416 slices_S8x768_o0_0_S8x128) (extractStridedSlice S8x128 ![0, 128] v1416 slices_S8x768_o0_128_S8x128)) (maximumf (extractStridedSlice S8x128 ![0, 256] v1416 slices_S8x768_o0_256_S8x128) (extractStridedSlice S8x128 ![0, 384] v1416 slices_S8x768_o0_384_S8x128))) (Scalar.select (Scalar.cmpi .eq (Scalar.andi v1415 (1#32)) (1#32)) (broadcast S8x128 (Scalar.ofBits .f32 0xFF800000#32)) v1401)) (maximumf (maximumf (extractStridedSlice S8x128 ![0, 512] v1416 slices_S8x768_o0_512_S8x128) (extractStridedSlice S8x128 ![0, 640] v1416 slices_S8x768_o0_640_S8x128)) (Scalar.select (Scalar.cmpi .eq (Scalar.andi v1415 (1#32)) (1#32)) (broadcast S8x128 (Scalar.ofBits .f32 0xFF800000#32)) v1404)) >>= fun _ => unitsP x0 v1 k0_h1 x3 x10 K v30 81 (by omega) (maximumf (maximumf (maximumf (extractStridedSlice S8x128 ![0, 0] v1416 slices_S8x768_o0_0_S8x128) (extractStridedSlice S8x128 ![0, 128] v1416 slices_S8x768_o0_128_S8x128)) (maximumf (extractStridedSlice S8x128 ![0, 256] v1416 slices_S8x768_o0_256_S8x128) (extractStridedSlice S8x128 ![0, 384] v1416 slices_S8x768_o0_384_S8x128))) (Scalar.select (Scalar.cmpi .eq (Scalar.andi v1415 (1#32)) (1#32)) (broadcast S8x128 (Scalar.ofBits .f32 0xFF800000#32)) v1401)) (maximumf (maximumf (extractStridedSlice S8x128 ![0, 512] v1416 slices_S8x768_o0_512_S8x128) (extractStridedSlice S8x128 ![0, 640] v1416 slices_S8x768_o0_640_S8x128)) (Scalar.select (Scalar.cmpi .eq (Scalar.andi v1415 (1#32)) (1#32)) (broadcast S8x128 (Scalar.ofBits .f32 0xFF800000#32)) v1404))

def t33 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v1434 : V8) (v1445 : Elt F .i32) (k0_hw48 : k0_chk48 x0 v1 v1445) (v1456 : V8) (v1458 : BitVec 1) (v1461 : V8) (cst_348 : F .f32) : Prog (TpuEff nD τ sig (Elt F) Λ₀ .tc) PUnit :=
  tailB x0 v1 k0_h1 x3 x10 v1445 k0_hw48 v1461 (maximumf v1456 (Scalar.select v1458 (broadcast S8x128 cst_348) v1434)) >>= fun _ => unitsP x0 v1 k0_h1 x3 x10 K v30 80 (by omega) v1461 (maximumf v1456 (Scalar.select v1458 (broadcast S8x128 cst_348) v1434))

def t34 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v1491 : V8) (v1494 : V8) : Prog (TpuEff nD τ sig (Elt F) Λ₀ .tc) PUnit :=
  unitsP x0 v1 k0_h1 x3 x10 K v30 79 (by omega) v1491 v1494

def t35 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v1521 : V8) (v1524 : V8) (v1535 : Elt F .i32) (k0_hw51 : k0_chk51 x0 v1 v1535) (v1543 : V8) (v1546 : V8) (v1548 : BitVec 1) (v1549 : V8) : Prog (TpuEff nD τ sig (Elt F) Λ₀ .tc) PUnit :=
  tailB x0 v1 k0_h1 x3 x10 v1535 k0_hw51 (maximumf v1543 (Scalar.select v1548 v1549 v1521)) (maximumf v1546 (Scalar.select v1548 (broadcast S8x128 (Scalar.ofBits .f32 0xFF800000#32)) v1524)) >>= fun _ => unitsP x0 v1 k0_h1 x3 x10 K v30 77 (by omega) (maximumf v1543 (Scalar.select v1548 v1549 v1521)) (maximumf v1546 (Scalar.select v1548 (broadcast S8x128 (Scalar.ofBits .f32 0xFF800000#32)) v1524))

def t36 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v1565 : Elt F .i32) (k0_hw52 : k0_chk52 x0 v1 v1565) (v1581 : V8) (v1584 : V8) : Prog (TpuEff nD τ sig (Elt F) Λ₀ .tc) PUnit :=
  tailE x0 v1 k0_h1 x3 x10 v1565 k0_hw52 (shapeCast S8x128 v1584 shapeCasts_S8x128_S8x128) >>= fun _ => unitsP x0 v1 k0_h1 x3 x10 K v30 76 (by omega) v1581 v1584

def t37 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v1611 : V8) (v1614 : V8) (v1625 : Elt F .i32) (k0_hw54 : k0_chk54 x0 v1 v1625) (v1633 : V8) (v1636 : V8) (v1637 : BitVec 32) (c1_i32_388 : BitVec 32) : Prog (TpuEff nD τ sig (Elt F) Λ₀ .tc) PUnit :=
  tailB x0 v1 k0_h1 x3 x10 v1625 k0_hw54 (maximumf v1633 (Scalar.select (Scalar.cmpi .eq v1637 c1_i32_388) (broadcast S8x128 (Scalar.ofBits .f32 0xFF800000#32)) v1611)) (maximumf v1636 (Scalar.select (Scalar.cmpi .eq v1637 c1_i32_388) (broadcast S8x128 (Scalar.ofBits .f32 0xFF800000#32)) v1614)) >>= fun _ => unitsP x0 v1 k0_h1 x3 x10 K v30 74 (by omega) (maximumf v1633 (Scalar.select (Scalar.cmpi .eq v1637 c1_i32_388) (broadcast S8x128 (Scalar.ofBits .f32 0xFF800000#32)) v1611)) (maximumf v1636 (Scalar.select (Scalar.cmpi .eq v1637 c1_i32_388) (broadcast S8x128 (Scalar.ofBits .f32 0xFF800000#32)) v1614))

def t38 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v1655 : Elt F .i32) (k0_hw55 : k0_chk55 x0 v1 v1655) (v1671 : V8) (v1674 : V8) : Prog (TpuEff nD τ sig (Elt F) Λ₀ .tc) PUnit :=
  tailD x0 v1 k0_h1 x3 x10 v1655 k0_hw55 v1674 >>= fun _ => unitsP x0 v1 k0_h1 x3 x10 K v30 73 (by omega) v1671 v1674

def t39 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v1701 : V8) (v1704 : V8) (v1715 : Elt F .i32) (k0_hw57 : k0_chk57 x0 v1 v1715) (v1723 : V8) (v1726 : V8) : Prog (TpuEff nD τ sig (Elt F) Λ₀ .tc) PUnit :=
  tailB x0 v1 k0_h1 x3 x10 v1715 k0_hw57 (maximumf v1723 (Scalar.select (Scalar.cmpi .eq (Scalar.andi v1715 (1#32)) (1#32)) (broadcast S8x128 (Scalar.ofBits .f32 0xFF800000#32)) v1701)) (maximumf v1726 (Scalar.select (Scalar.cmpi .eq (Scalar.andi v1715 (1#32)) (1#32)) (broadcast S8x128 (Scalar.ofBits .f32 0xFF800000#32)) v1704)) >>= fun _ => unitsP x0 v1 k0_h1 x3 x10 K v30 71 (by omega) (maximumf v1723 (Scalar.select (Scalar.cmpi .eq (Scalar.andi v1715 (1#32)) (1#32)) (broadcast S8x128 (Scalar.ofBits .f32 0xFF800000#32)) v1701)) (maximumf v1726 (Scalar.select (Scalar.cmpi .eq (Scalar.andi v1715 (1#32)) (1#32)) (broadcast S8x128 (Scalar.ofBits .f32 0xFF800000#32)) v1704))

def t40 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v1745 : Elt F .i32) (k0_hw58 : k0_chk58 x0 v1 v1745) (v1761 : V8) (v1764 : V8) (v1766 : BitVec 32) : Prog (TpuEff nD τ sig (Elt F) Λ₀ .tc) PUnit :=
  tailC x0 v1 k0_h1 x3 x10 v1745 k0_hw58 (shapeCast S8x128 v1761 shapeCasts_S8x128_S8x128) v1764 >>= fun _ => unitsP x0 v1 k0_h1 x3 x10 K v30 70 (by omega) v1761 v1764

def t41 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v1791 : V8) (v1794 : V8) (v1805 : Elt F .i32) (k0_hw60 : k0_chk60 x0 v1 v1805) (v1806 : FVec F S8x768 .f32) (v1813 : V8) : Prog (TpuEff nD τ sig (Elt F) Λ₀ .tc) PUnit :=
  tailB x0 v1 k0_h1 x3 x10 v1805 k0_hw60 (maximumf v1813 (Scalar.select (Scalar.cmpi .eq (Scalar.andi v1805 (1#32)) (1#32)) (broadcast S8x128 (Scalar.ofBits .f32 0xFF800000#32)) v1791)) (maximumf (maximumf (extractStridedSlice S8x128 ![0, 512] v1806 slices_S8x768_o0_512_S8x128) (extractStridedSlice S8x128 ![0, 640] v1806 slices_S8x768_o0_640_S8x128)) (Scalar.select (Scalar.cmpi .eq (Scalar.andi v1805 (1#32)) (1#32)) (broadcast S8x128 (Scalar.ofBits .f32 0xFF800000#32)) v1794)) >>= fun _ => unitsP x0 v1 k0_h1 x3 x10 K v30 68 (by omega) (maximumf v1813 (Scalar.select (Scalar.cmpi .eq (Scalar.andi v1805 (1#32)) (1#32)) (broadcast S8x128 (Scalar.ofBits .f32 0xFF800000#32)) v1791)) (maximumf (maximumf (extractStridedSlice S8x128 ![0, 512] v1806 slices_S8x768_o0_512_S8x128) (extractStridedSlice S8x128 ![0, 640] v1806 slices_S8x768_o0_640_S8x128)) (Scalar.select (Scalar.cmpi .eq (Scalar.andi v1805 (1#32)) (1#32)) (broadcast S8x128 (Scalar.ofBits .f32 0xFF800000#32)) v1794))

def t42 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v1835 : Elt F .i32) (k0_hw61 : k0_chk61 x0 v1 v1835) (v1851 : V8) (v1854 : V8) (v1856 : BitVec 32) : Prog (TpuEff nD τ sig (Elt F) Λ₀ .tc) PUnit :=
  tailB x0 v1 k0_h1 x3 x10 v1835 k0_hw61 v1851 v1854 >>= fun _ => unitsP x0 v1 k0_h1 x3 x10 K v30 67 (by omega) v1851 v1854

def t43 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v1881 : V8) (v1884 : V8) (v1895 : Elt F .i32) (k0_hw63 : k0_chk63 x0 v1 v1895) (v1896 : FVec F S8x768 .f32) (v1899 : V8) (v1900 : V8) : Prog (TpuEff nD τ sig (Elt F) Λ₀ .tc) PUnit :=
  tailB x0 v1 k0_h1 x3 x10 v1895 k0_hw63 (maximumf (maximumf v1899 (maximumf v1900 (extractStridedSlice S8x128 ![0, 384] v1896 slices_S8x768_o0_384_S8x128))) (Scalar.select (Scalar.cmpi .eq (Scalar.andi v1895 (1#32)) (1#32)) (broadcast S8x128 (Scalar.ofBits .f32 0xFF800000#32)) v1881)) (maximumf (maximumf (extractStridedSlice S8x128 ![0, 512] v1896 slices_S8x768_o0_512_S8x128) (extractStridedSlice S8x128 ![0, 640] v1896 slices_S8x768_o0_640_S8x128)) (Scalar.select (Scalar.cmpi .eq (Scalar.andi v1895 (1#32)) (1#32)) (broadcast S8x128 (Scalar.ofBits .f32 0xFF800000#32)) v1884)) >>= fun _ => unitsP x0 v1 k0_h1 x3 x10 K v30 65 (by omega) (maximumf (maximumf v1899 (maximumf v1900 (extractStridedSlice S8x128 ![0, 384] v1896 slices_S8x768_o0_384_S8x128))) (Scalar.select (Scalar.cmpi .eq (Scalar.andi v1895 (1#32)) (1#32)) (broadcast S8x128 (Scalar.ofBits .f32 0xFF800000#32)) v1881)) (maximumf (maximumf (extractStridedSlice S8x128 ![0, 512] v1896 slices_S8x768_o0_512_S8x128) (extractStridedSlice S8x128 ![0, 640] v1896 slices_S8x768_o0_640_S8x128)) (Scalar.select (Scalar.cmpi .eq (Scalar.andi v1895 (1#32)) (1#32)) (broadcast S8x128 (Scalar.ofBits .f32 0xFF800000#32)) v1884))

def t44 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v1925 : Elt F .i32) (k0_hw64 : k0_chk64 x0 v1 v1925) (v1941 : V8) (v1944 : V8) (c1_i32_461 : BitVec 32) : Prog (TpuEff nD τ sig (Elt F) Λ₀ .tc) PUnit :=
  tailB x0 v1 k0_h1 x3 x10 v1925 k0_hw64 v1941 v1944 >>= fun _ => unitsP x0 v1 k0_h1 x3 x10 K v30 64 (by omega) v1941 v1944

variable (b : grid0.Bounds) (i : grid0.Static) (x0 : BitVec 32) (x1 : Memref sig .tc .smem S3 .i32) (y1 : x1.IsWhole) (x2 : Memref sig .tc .vmem S1024x128 .i32) (y2 : x2.IsWhole) (x3 : Memref sig .tc .smem S128 .i32) (y3 : x3.IsWhole) (x4 : Memref sig .tc .vmem S256x768 .bf16) (y4 : x4.IsWhole) (x5 : Memref sig .tc .vmem S60x128 .i32) (y5 : x5.IsWhole) (x6 : Memref sig .tc .hbm S192x30208 .f32) (y6 : x6.IsWhole) (x7 : Memref sig .tc .hbm S6x30208 .f32) (y7 : x7.IsWhole) (x8 : Memref sig .tc .vmem S192x512 .f32) (y8 : x8.IsWhole) (x9 : Memref sig .tc .vmem S6x512 .f32) (y9 : x9.IsWhole) (x10 : Memref sig .tc .vmem S7688x256 .f32) (y10 : x10.IsWhole) (x11 : Memref sig .tc .vmem S2x8x128 .f32) (y11 : x11.IsWhole) (x12 : Memref sig .tc .vmem S1024x768 .f32) (y12 : x12.IsWhole) (v1 : Elt F .i32) (k0_h1 : k0_cond1 x0 v1 = 1#1)

theorem step1  (K : V8 → V8 → Prog (TpuEff nD τ sig (Elt F) Λ₀ .tc) PUnit) :
    (k0_part1 b i x0 x1 y1 x2 y2 x3 y3 x4 y4 x5 y5 x6 y6 x7 y7 x8 y8 x9 y9 x10 y10 x11 y11 x12 y12 v1 >>= fun r => t1 x0 v1 k0_h1 x3 x10 K r.1 r.2.1 r.2.2.1 r.2.2.2.1 r.2.2.2.2.1 r.2.2.2.2.2) = headP x0 v1 k0_h1 x3 x10 x2 x4 x11 K := by
  unfold k0_part1; rfl

theorem step2 (v30 : FVec F S1024x768 .f32) (v35 : Elt F .i32) (k0_hw1 : k0_chk1 x0 v1 v35) (v51 : V8) (v54 : V8) (v56 : BitVec 32) (K : V8 → V8 → Prog (TpuEff nD τ sig (Elt F) Λ₀ .tc) PUnit) :
    (k0_part2 b i x0 x1 y1 x2 y2 x3 y3 x4 y4 x5 y5 x6 y6 x7 y7 x8 y8 x9 y9 x10 y10 x11 y11 x12 y12 v1 k0_h1 v30 v35 k0_hw1 v51 v54 v56 >>= fun r => t2 x0 v1 k0_h1 x3 x10 K v30 r.1 r.2.1 r.2.2.1 r.2.2.2.1 r.2.2.2.2.1 r.2.2.2.2.2.1 r.2.2.2.2.2.2) = t1 x0 v1 k0_h1 x3 x10 K v30 v35 k0_hw1 v51 v54 v56 := by
  unfold k0_part2; rfl

theorem step3 (v30 : FVec F S1024x768 .f32) (v81 : V8) (v84 : V8) (v95 : Elt F .i32) (k0_hw3 : k0_chk3 x0 v1 v95) (v96 : FVec F S8x768 .f32) (v99 : V8) (v100 : V8) (K : V8 → V8 → Prog (TpuEff nD τ sig (Elt F) Λ₀ .tc) PUnit) :
    (k0_part3 b i x0 x1 y1 x2 y2 x3 y3 x4 y4 x5 y5 x6 y6 x7 y7 x8 y8 x9 y9 x10 y10 x11 y11 x12 y12 v1 k0_h1 v30 v81 v84 v95 k0_hw3 v96 v99 v100 >>= fun r => t3 x0 v1 k0_h1 x3 x10 K v30 r.1 r.2.1 r.2.2.1 r.2.2.2.1 r.2.2.2.2) = t2 x0 v1 k0_h1 x3 x10 K v30 v81 v84 v95 k0_hw3 v96 v99 v100 := by
  unfold k0_part3; rfl

theorem step4 (v30 : FVec F S1024x768 .f32) (v125 : Elt F .i32) (k0_hw4 : k0_chk4 x0 v1 v125) (v141 : V8) (v144 : V8) (c1_i32_41 : BitVec 32) (K : V8 → V8 → Prog (TpuEff nD τ sig (Elt F) Λ₀ .tc) PUnit) :
    (k0_part4 b i x0 x1 y1 x2 y2 x3 y3 x4 y4 x5 y5 x6 y6 x7 y7 x8 y8 x9 y9 x10 y10 x11 y11 x12 y12 v1 k0_h1 v30 v125 k0_hw4 v141 v144 c1_i32_41 >>= fun r => t4 x0 v1 k0_h1 x3 x10 K v30 r.1 r.2.1 r.2.2.1 r.2.2.2.1 r.2.2.2.2.1 r.2.2.2.2.2) = t3 x0 v1 k0_h1 x3 x10 K v30 v125 k0_hw4 v141 v144 c1_i32_41 := by
  unfold k0_part4; rfl

theorem step5 (v30 : FVec F S1024x768 .f32) (v171 : V8) (v174 : V8) (v185 : Elt F .i32) (k0_hw6 : k0_chk6 x0 v1 v185) (v186 : FVec F S8x768 .f32) (v187 : V8) (K : V8 → V8 → Prog (TpuEff nD τ sig (Elt F) Λ₀ .tc) PUnit) :
    (k0_part5 b i x0 x1 y1 x2 y2 x3 y3 x4 y4 x5 y5 x6 y6 x7 y7 x8 y8 x9 y9 x10 y10 x11 y11 x12 y12 v1 k0_h1 v30 v171 v174 v185 k0_hw6 v186 v187 >>= fun r => t5 x0 v1 k0_h1 x3 x10 K v30 r.1 r.2.1 r.2.2.1 r.2.2.2.1 r.2.2.2.2.1 r.2.2.2.2.2.1 r.2.2.2.2.2.2) = t4 x0 v1 k0_h1 x3 x10 K v30 v171 v174 v185 k0_hw6 v186 v187 := by
  unfold k0_part5; rfl

theorem step6 (v30 : FVec F S1024x768 .f32) (v204 : V8) (v215 : Elt F .i32) (k0_hw7 : k0_chk7 x0 v1 v215) (v226 : V8) (v228 : BitVec 1) (v231 : V8) (v232 : V8) (K : V8 → V8 → Prog (TpuEff nD τ sig (Elt F) Λ₀ .tc) PUnit) :
    (k0_part6 b i x0 x1 y1 x2 y2 x3 y3 x4 y4 x5 y5 x6 y6 x7 y7 x8 y8 x9 y9 x10 y10 x11 y11 x12 y12 v1 k0_h1 v30 v204 v215 k0_hw7 v226 v228 v231 v232 >>= fun r => t6 x0 v1 k0_h1 x3 x10 K v30 r.1 r.2.1 r.2.2) = t5 x0 v1 k0_h1 x3 x10 K v30 v204 v215 k0_hw7 v226 v228 v231 v232 := by
  unfold k0_part6; rfl

theorem step7 (v30 : FVec F S1024x768 .f32) (v261 : V8) (v264 : V8) (v275 : Elt F .i32) (K : V8 → V8 → Prog (TpuEff nD τ sig (Elt F) Λ₀ .tc) PUnit) :
    (k0_part7 b i x0 x1 y1 x2 y2 x3 y3 x4 y4 x5 y5 x6 y6 x7 y7 x8 y8 x9 y9 x10 y10 x11 y11 x12 y12 v1 k0_h1 v30 v261 v264 v275 >>= fun r => t7 x0 v1 k0_h1 x3 x10 K v30 r.1 r.2.1 r.2.2.1 r.2.2.2.1 r.2.2.2.2.1 r.2.2.2.2.2.1 r.2.2.2.2.2.2) = t6 x0 v1 k0_h1 x3 x10 K v30 v261 v264 v275 := by
  unfold k0_part7; rfl

theorem step8 (v30 : FVec F S1024x768 .f32) (v294 : V8) (v305 : Elt F .i32) (k0_hw10 : k0_chk10 x0 v1 v305) (v313 : V8) (v316 : V8) (v318 : BitVec 1) (v320 : V8) (K : V8 → V8 → Prog (TpuEff nD τ sig (Elt F) Λ₀ .tc) PUnit) :
    (k0_part8 b i x0 x1 y1 x2 y2 x3 y3 x4 y4 x5 y5 x6 y6 x7 y7 x8 y8 x9 y9 x10 y10 x11 y11 x12 y12 v1 k0_h1 v30 v294 v305 k0_hw10 v313 v316 v318 v320 >>= fun r => t8 x0 v1 k0_h1 x3 x10 K v30 r.1 r.2.1 r.2.2.1 r.2.2.2.1 r.2.2.2.2) = t7 x0 v1 k0_h1 x3 x10 K v30 v294 v305 k0_hw10 v313 v316 v318 v320 := by
  unfold k0_part8; rfl

theorem step9 (v30 : FVec F S1024x768 .f32) (v335 : Elt F .i32) (k0_hw11 : k0_chk11 x0 v1 v335) (v351 : V8) (v354 : V8) (v364 : V8) (K : V8 → V8 → Prog (TpuEff nD τ sig (Elt F) Λ₀ .tc) PUnit) :
    (k0_part9 b i x0 x1 y1 x2 y2 x3 y3 x4 y4 x5 y5 x6 y6 x7 y7 x8 y8 x9 y9 x10 y10 x11 y11 x12 y12 v1 k0_h1 v30 v335 k0_hw11 v351 v354 v364 >>= fun r => t9 x0 v1 k0_h1 x3 x10 K v30 r.1 r.2.1 r.2.2.1 r.2.2.2.1 r.2.2.2.2.1 r.2.2.2.2.2.1 r.2.2.2.2.2.2) = t8 x0 v1 k0_h1 x3 x10 K v30 v335 k0_hw11 v351 v354 v364 := by
  unfold k0_part9; rfl

theorem step10 (v30 : FVec F S1024x768 .f32) (v381 : V8) (v384 : V8) (v395 : Elt F .i32) (k0_hw13 : k0_chk13 x0 v1 v395) (v403 : V8) (v406 : V8) (v408 : BitVec 1) (K : V8 → V8 → Prog (TpuEff nD τ sig (Elt F) Λ₀ .tc) PUnit) :
    (k0_part10 b i x0 x1 y1 x2 y2 x3 y3 x4 y4 x5 y5 x6 y6 x7 y7 x8 y8 x9 y9 x10 y10 x11 y11 x12 y12 v1 k0_h1 v30 v381 v384 v395 k0_hw13 v403 v406 v408 >>= fun r => t10 x0 v1 k0_h1 x3 x10 K v30 r.1 r.2.1 r.2.2.1 r.2.2.2) = t9 x0 v1 k0_h1 x3 x10 K v30 v381 v384 v395 k0_hw13 v403 v406 v408 := by
  unfold k0_part10; rfl

theorem step11 (v30 : FVec F S1024x768 .f32) (v425 : Elt F .i32) (k0_hw14 : k0_chk14 x0 v1 v425) (v441 : V8) (v444 : V8) (K : V8 → V8 → Prog (TpuEff nD τ sig (Elt F) Λ₀ .tc) PUnit) :
    (k0_part11 b i x0 x1 y1 x2 y2 x3 y3 x4 y4 x5 y5 x6 y6 x7 y7 x8 y8 x9 y9 x10 y10 x11 y11 x12 y12 v1 k0_h1 v30 v425 k0_hw14 v441 v444 >>= fun r => t11 x0 v1 k0_h1 x3 x10 K v30 r.1 r.2.1 r.2.2.1 r.2.2.2.1 r.2.2.2.2.1 r.2.2.2.2.2.1 r.2.2.2.2.2.2) = t10 x0 v1 k0_h1 x3 x10 K v30 v425 k0_hw14 v441 v444 := by
  unfold k0_part11; rfl

theorem step12 (v30 : FVec F S1024x768 .f32) (v471 : V8) (v474 : V8) (v485 : Elt F .i32) (k0_hw16 : k0_chk16 x0 v1 v485) (v493 : V8) (v496 : V8) (c1_i32_121 : BitVec 32) (K : V8 → V8 → Prog (TpuEff nD τ sig (Elt F) Λ₀ .tc) PUnit) :
    (k0_part12 b i x0 x1 y1 x2 y2 x3 y3 x4 y4 x5 y5 x6 y6 x7 y7 x8 y8 x9 y9 x10 y10 x11 y11 x12 y12 v1 k0_h1 v30 v471 v474 v485 k0_hw16 v493 v496 c1_i32_121 >>= fun r => t12 x0 v1 k0_h1 x3 x10 K v30 r.1 r.2.1 r.2.2.1 r.2.2.2.1 r.2.2.2.2.1 r.2.2.2.2.2) = t11 x0 v1 k0_h1 x3 x10 K v30 v471 v474 v485 k0_hw16 v493 v496 c1_i32_121 := by
  unfold k0_part12; rfl

theorem step13 (v30 : FVec F S1024x768 .f32) (v515 : Elt F .i32) (k0_hw17 : k0_chk17 x0 v1 v515) (v531 : V8) (v534 : V8) (v536 : BitVec 32) (v540 : V8) (K : V8 → V8 → Prog (TpuEff nD τ sig (Elt F) Λ₀ .tc) PUnit) :
    (k0_part13 b i x0 x1 y1 x2 y2 x3 y3 x4 y4 x5 y5 x6 y6 x7 y7 x8 y8 x9 y9 x10 y10 x11 y11 x12 y12 v1 k0_h1 v30 v515 k0_hw17 v531 v534 v536 v540 >>= fun r => t13 x0 v1 k0_h1 x3 x10 K v30 r.1 r.2.1 r.2.2.1 r.2.2.2.1 r.2.2.2.2.1 r.2.2.2.2.2.1 r.2.2.2.2.2.2) = t12 x0 v1 k0_h1 x3 x10 K v30 v515 k0_hw17 v531 v534 v536 v540 := by
  unfold k0_part13; rfl

theorem step14 (v30 : FVec F S1024x768 .f32) (v561 : V8) (v564 : V8) (v575 : Elt F .i32) (k0_hw19 : k0_chk19 x0 v1 v575) (v576 : FVec F S8x768 .f32) (v583 : V8) (v584 : V8) (K : V8 → V8 → Prog (TpuEff nD τ sig (Elt F) Λ₀ .tc) PUnit) :
    (k0_part14 b i x0 x1 y1 x2 y2 x3 y3 x4 y4 x5 y5 x6 y6 x7 y7 x8 y8 x9 y9 x10 y10 x11 y11 x12 y12 v1 k0_h1 v30 v561 v564 v575 k0_hw19 v576 v583 v584 >>= fun r => t14 x0 v1 k0_h1 x3 x10 K v30 r.1 r.2.1 r.2.2.1 r.2.2.2.1 r.2.2.2.2) = t13 x0 v1 k0_h1 x3 x10 K v30 v561 v564 v575 k0_hw19 v576 v583 v584 := by
  unfold k0_part14; rfl

theorem step15 (v30 : FVec F S1024x768 .f32) (v605 : Elt F .i32) (k0_hw20 : k0_chk20 x0 v1 v605) (v621 : V8) (v624 : V8) (v626 : BitVec 32) (K : V8 → V8 → Prog (TpuEff nD τ sig (Elt F) Λ₀ .tc) PUnit) :
    (k0_part15 b i x0 x1 y1 x2 y2 x3 y3 x4 y4 x5 y5 x6 y6 x7 y7 x8 y8 x9 y9 x10 y10 x11 y11 x12 y12 v1 k0_h1 v30 v605 k0_hw20 v621 v624 v626 >>= fun r => t15 x0 v1 k0_h1 x3 x10 K v30 r.1 r.2.1 r.2.2.1 r.2.2.2.1 r.2.2.2.2.1 r.2.2.2.2.2.1 r.2.2.2.2.2.2.1 r.2.2.2.2.2.2.2) = t14 x0 v1 k0_h1 x3 x10 K v30 v605 k0_hw20 v621 v624 v626 := by
  unfold k0_part15; rfl

theorem step16 (v30 : FVec F S1024x768 .f32) (v651 : V8) (v654 : V8) (v665 : Elt F .i32) (k0_hw22 : k0_chk22 x0 v1 v665) (v666 : FVec F S8x768 .f32) (v669 : V8) (v670 : V8) (v671 : V8) (K : V8 → V8 → Prog (TpuEff nD τ sig (Elt F) Λ₀ .tc) PUnit) :
    (k0_part16 b i x0 x1 y1 x2 y2 x3 y3 x4 y4 x5 y5 x6 y6 x7 y7 x8 y8 x9 y9 x10 y10 x11 y11 x12 y12 v1 k0_h1 v30 v651 v654 v665 k0_hw22 v666 v669 v670 v671 >>= fun r => t16 x0 v1 k0_h1 x3 x10 K v30 r.1 r.2.1 r.2.2.1 r.2.2.2.1 r.2.2.2.2) = t15 x0 v1 k0_h1 x3 x10 K v30 v651 v654 v665 k0_hw22 v666 v669 v670 v671 := by
  unfold k0_part16; rfl

theorem step17 (v30 : FVec F S1024x768 .f32) (v695 : Elt F .i32) (k0_hw23 : k0_chk23 x0 v1 v695) (v711 : V8) (v714 : V8) (v715 : BitVec 32) (K : V8 → V8 → Prog (TpuEff nD τ sig (Elt F) Λ₀ .tc) PUnit) :
    (k0_part17 b i x0 x1 y1 x2 y2 x3 y3 x4 y4 x5 y5 x6 y6 x7 y7 x8 y8 x9 y9 x10 y10 x11 y11 x12 y12 v1 k0_h1 v30 v695 k0_hw23 v711 v714 v715 >>= fun r => t17 x0 v1 k0_h1 x3 x10 K v30 r.1 r.2.1 r.2.2.1 r.2.2.2.1 r.2.2.2.2.1 r.2.2.2.2.2.1 r.2.2.2.2.2.2) = t16 x0 v1 k0_h1 x3 x10 K v30 v695 k0_hw23 v711 v714 v715 := by
  unfold k0_part17; rfl

theorem step18 (v30 : FVec F S1024x768 .f32) (v741 : V8) (v744 : V8) (v755 : Elt F .i32) (k0_hw25 : k0_chk25 x0 v1 v755) (v756 : FVec F S8x768 .f32) (v757 : V8) (v758 : V8) (K : V8 → V8 → Prog (TpuEff nD τ sig (Elt F) Λ₀ .tc) PUnit) :
    (k0_part18 b i x0 x1 y1 x2 y2 x3 y3 x4 y4 x5 y5 x6 y6 x7 y7 x8 y8 x9 y9 x10 y10 x11 y11 x12 y12 v1 k0_h1 v30 v741 v744 v755 k0_hw25 v756 v757 v758 >>= fun r => t18 x0 v1 k0_h1 x3 x10 K v30 r.1 r.2.1 r.2.2.1 r.2.2.2.1 r.2.2.2.2) = t17 x0 v1 k0_h1 x3 x10 K v30 v741 v744 v755 k0_hw25 v756 v757 v758 := by
  unfold k0_part18; rfl

theorem step19 (v30 : FVec F S1024x768 .f32) (v785 : Elt F .i32) (k0_hw26 : k0_chk26 x0 v1 v785) (v796 : V8) (v801 : V8) (v803 : V8) (K : V8 → V8 → Prog (TpuEff nD τ sig (Elt F) Λ₀ .tc) PUnit) :
    (k0_part19 b i x0 x1 y1 x2 y2 x3 y3 x4 y4 x5 y5 x6 y6 x7 y7 x8 y8 x9 y9 x10 y10 x11 y11 x12 y12 v1 k0_h1 v30 v785 k0_hw26 v796 v801 v803 >>= fun r => t19 x0 v1 k0_h1 x3 x10 K v30 r.1 r.2.1 r.2.2.1 r.2.2.2) = t18 x0 v1 k0_h1 x3 x10 K v30 v785 k0_hw26 v796 v801 v803 := by
  unfold k0_part19; rfl

theorem step20 (v30 : FVec F S1024x768 .f32) (v831 : V8) (v834 : V8) (v845 : Elt F .i32) (k0_hw28 : k0_chk28 x0 v1 v845) (K : V8 → V8 → Prog (TpuEff nD τ sig (Elt F) Λ₀ .tc) PUnit) :
    (k0_part20 b i x0 x1 y1 x2 y2 x3 y3 x4 y4 x5 y5 x6 y6 x7 y7 x8 y8 x9 y9 x10 y10 x11 y11 x12 y12 v1 k0_h1 v30 v831 v834 v845 k0_hw28 >>= fun r => t20 x0 v1 k0_h1 x3 x10 K v30 r.1 r.2.1 r.2.2.1 r.2.2.2.1 r.2.2.2.2.1 r.2.2.2.2.2) = t19 x0 v1 k0_h1 x3 x10 K v30 v831 v834 v845 k0_hw28 := by
  unfold k0_part20; rfl

theorem step21 (v30 : FVec F S1024x768 .f32) (v864 : V8) (v875 : Elt F .i32) (k0_hw29 : k0_chk29 x0 v1 v875) (v886 : V8) (v888 : BitVec 1) (v891 : V8) (K : V8 → V8 → Prog (TpuEff nD τ sig (Elt F) Λ₀ .tc) PUnit) :
    (k0_part21 b i x0 x1 y1 x2 y2 x3 y3 x4 y4 x5 y5 x6 y6 x7 y7 x8 y8 x9 y9 x10 y10 x11 y11 x12 y12 v1 k0_h1 v30 v864 v875 k0_hw29 v886 v888 v891 >>= fun r => t21 x0 v1 k0_h1 x3 x10 K v30 r.1 r.2) = t20 x0 v1 k0_h1 x3 x10 K v30 v864 v875 k0_hw29 v886 v888 v891 := by
  unfold k0_part21; rfl

theorem step22 (v30 : FVec F S1024x768 .f32) (v921 : V8) (v924 : V8) (K : V8 → V8 → Prog (TpuEff nD τ sig (Elt F) Λ₀ .tc) PUnit) :
    (k0_part22 b i x0 x1 y1 x2 y2 x3 y3 x4 y4 x5 y5 x6 y6 x7 y7 x8 y8 x9 y9 x10 y10 x11 y11 x12 y12 v1 k0_h1 v30 v921 v924 >>= fun r => t22 x0 v1 k0_h1 x3 x10 K v30 r.1 r.2.1 r.2.2.1 r.2.2.2.1 r.2.2.2.2.1 r.2.2.2.2.2.1 r.2.2.2.2.2.2.1 r.2.2.2.2.2.2.2) = t21 x0 v1 k0_h1 x3 x10 K v30 v921 v924 := by
  unfold k0_part22; rfl

theorem step23 (v30 : FVec F S1024x768 .f32) (v951 : V8) (v954 : V8) (v965 : Elt F .i32) (k0_hw32 : k0_chk32 x0 v1 v965) (v973 : V8) (v976 : V8) (v978 : BitVec 1) (cst_235 : F .f32) (K : V8 → V8 → Prog (TpuEff nD τ sig (Elt F) Λ₀ .tc) PUnit) :
    (k0_part23 b i x0 x1 y1 x2 y2 x3 y3 x4 y4 x5 y5 x6 y6 x7 y7 x8 y8 x9 y9 x10 y10 x11 y11 x12 y12 v1 k0_h1 v30 v951 v954 v965 k0_hw32 v973 v976 v978 cst_235 >>= fun r => t23 x0 v1 k0_h1 x3 x10 K v30 r.1 r.2.1 r.2.2.1 r.2.2.2.1 r.2.2.2.2) = t22 x0 v1 k0_h1 x3 x10 K v30 v951 v954 v965 k0_hw32 v973 v976 v978 cst_235 := by
  unfold k0_part23; rfl

theorem step24 (v30 : FVec F S1024x768 .f32) (v995 : Elt F .i32) (k0_hw33 : k0_chk33 x0 v1 v995) (v1011 : V8) (v1014 : V8) (v1022 : Vec F S8x128 .f32) (K : V8 → V8 → Prog (TpuEff nD τ sig (Elt F) Λ₀ .tc) PUnit) :
    (k0_part24 b i x0 x1 y1 x2 y2 x3 y3 x4 y4 x5 y5 x6 y6 x7 y7 x8 y8 x9 y9 x10 y10 x11 y11 x12 y12 v1 k0_h1 v30 v995 k0_hw33 v1011 v1014 v1022 >>= fun r => t24 x0 v1 k0_h1 x3 x10 K v30 r.1 r.2.1 r.2.2.1 r.2.2.2.1 r.2.2.2.2.1 r.2.2.2.2.2.1 r.2.2.2.2.2.2) = t23 x0 v1 k0_h1 x3 x10 K v30 v995 k0_hw33 v1011 v1014 v1022 := by
  unfold k0_part24; rfl

theorem step25 (v30 : FVec F S1024x768 .f32) (v1041 : V8) (v1044 : V8) (v1055 : Elt F .i32) (k0_hw35 : k0_chk35 x0 v1 v1055) (v1063 : V8) (v1066 : V8) (v1067 : BitVec 32) (K : V8 → V8 → Prog (TpuEff nD τ sig (Elt F) Λ₀ .tc) PUnit) :
    (k0_part25 b i x0 x1 y1 x2 y2 x3 y3 x4 y4 x5 y5 x6 y6 x7 y7 x8 y8 x9 y9 x10 y10 x11 y11 x12 y12 v1 k0_h1 v30 v1041 v1044 v1055 k0_hw35 v1063 v1066 v1067 >>= fun r => t25 x0 v1 k0_h1 x3 x10 K v30 r.1 r.2.1 r.2.2.1 r.2.2.2.1 r.2.2.2.2) = t24 x0 v1 k0_h1 x3 x10 K v30 v1041 v1044 v1055 k0_hw35 v1063 v1066 v1067 := by
  unfold k0_part25; rfl

theorem step26 (v30 : FVec F S1024x768 .f32) (v1085 : Elt F .i32) (k0_hw36 : k0_chk36 x0 v1 v1085) (v1101 : V8) (v1104 : V8) (v1106 : BitVec 32) (K : V8 → V8 → Prog (TpuEff nD τ sig (Elt F) Λ₀ .tc) PUnit) :
    (k0_part26 b i x0 x1 y1 x2 y2 x3 y3 x4 y4 x5 y5 x6 y6 x7 y7 x8 y8 x9 y9 x10 y10 x11 y11 x12 y12 v1 k0_h1 v30 v1085 k0_hw36 v1101 v1104 v1106 >>= fun r => t26 x0 v1 k0_h1 x3 x10 K v30 r.1 r.2.1 r.2.2.1 r.2.2.2.1 r.2.2.2.2.1 r.2.2.2.2.2.1 r.2.2.2.2.2.2) = t25 x0 v1 k0_h1 x3 x10 K v30 v1085 k0_hw36 v1101 v1104 v1106 := by
  unfold k0_part26; rfl

theorem step27 (v30 : FVec F S1024x768 .f32) (v1131 : V8) (v1134 : V8) (v1145 : Elt F .i32) (k0_hw38 : k0_chk38 x0 v1 v1145) (v1153 : V8) (v1154 : V8) (v1155 : V8) (K : V8 → V8 → Prog (TpuEff nD τ sig (Elt F) Λ₀ .tc) PUnit) :
    (k0_part27 b i x0 x1 y1 x2 y2 x3 y3 x4 y4 x5 y5 x6 y6 x7 y7 x8 y8 x9 y9 x10 y10 x11 y11 x12 y12 v1 k0_h1 v30 v1131 v1134 v1145 k0_hw38 v1153 v1154 v1155 >>= fun r => t27 x0 v1 k0_h1 x3 x10 K v30 r.1 r.2.1 r.2.2.1 r.2.2.2.1 r.2.2.2.2.1 r.2.2.2.2.2) = t26 x0 v1 k0_h1 x3 x10 K v30 v1131 v1134 v1145 k0_hw38 v1153 v1154 v1155 := by
  unfold k0_part27; rfl

theorem step28 (v30 : FVec F S1024x768 .f32) (v1175 : Elt F .i32) (k0_hw39 : k0_chk39 x0 v1 v1175) (v1191 : V8) (v1194 : V8) (v1196 : BitVec 32) (v1198 : Vec F S8x128 .f32) (K : V8 → V8 → Prog (TpuEff nD τ sig (Elt F) Λ₀ .tc) PUnit) :
    (k0_part28 b i x0 x1 y1 x2 y2 x3 y3 x4 y4 x5 y5 x6 y6 x7 y7 x8 y8 x9 y9 x10 y10 x11 y11 x12 y12 v1 k0_h1 v30 v1175 k0_hw39 v1191 v1194 v1196 v1198 >>= fun r => t28 x0 v1 k0_h1 x3 x10 K v30 r.1 r.2.1 r.2.2.1 r.2.2.2.1 r.2.2.2.2.1 r.2.2.2.2.2.1 r.2.2.2.2.2.2) = t27 x0 v1 k0_h1 x3 x10 K v30 v1175 k0_hw39 v1191 v1194 v1196 v1198 := by
  unfold k0_part28; rfl

theorem step29 (v30 : FVec F S1024x768 .f32) (v1221 : V8) (v1224 : V8) (v1235 : Elt F .i32) (k0_hw41 : k0_chk41 x0 v1 v1235) (v1236 : FVec F S8x768 .f32) (v1239 : V8) (v1242 : V8) (K : V8 → V8 → Prog (TpuEff nD τ sig (Elt F) Λ₀ .tc) PUnit) :
    (k0_part29 b i x0 x1 y1 x2 y2 x3 y3 x4 y4 x5 y5 x6 y6 x7 y7 x8 y8 x9 y9 x10 y10 x11 y11 x12 y12 v1 k0_h1 v30 v1221 v1224 v1235 k0_hw41 v1236 v1239 v1242 >>= fun r => t29 x0 v1 k0_h1 x3 x10 K v30 r.1 r.2.1 r.2.2.1 r.2.2.2.1 r.2.2.2.2) = t28 x0 v1 k0_h1 x3 x10 K v30 v1221 v1224 v1235 k0_hw41 v1236 v1239 v1242 := by
  unfold k0_part29; rfl

theorem step30 (v30 : FVec F S1024x768 .f32) (v1265 : Elt F .i32) (k0_hw42 : k0_chk42 x0 v1 v1265) (v1281 : V8) (v1284 : V8) (v1286 : BitVec 32) (K : V8 → V8 → Prog (TpuEff nD τ sig (Elt F) Λ₀ .tc) PUnit) :
    (k0_part30 b i x0 x1 y1 x2 y2 x3 y3 x4 y4 x5 y5 x6 y6 x7 y7 x8 y8 x9 y9 x10 y10 x11 y11 x12 y12 v1 k0_h1 v30 v1265 k0_hw42 v1281 v1284 v1286 >>= fun r => t30 x0 v1 k0_h1 x3 x10 K v30 r.1 r.2.1 r.2.2.1 r.2.2.2.1 r.2.2.2.2.1 r.2.2.2.2.2) = t29 x0 v1 k0_h1 x3 x10 K v30 v1265 k0_hw42 v1281 v1284 v1286 := by
  unfold k0_part30; rfl

theorem step31 (v30 : FVec F S1024x768 .f32) (v1311 : V8) (v1314 : V8) (v1325 : Elt F .i32) (k0_hw44 : k0_chk44 x0 v1 v1325) (v1326 : FVec F S8x768 .f32) (v1329 : V8) (K : V8 → V8 → Prog (TpuEff nD τ sig (Elt F) Λ₀ .tc) PUnit) :
    (k0_part31 b i x0 x1 y1 x2 y2 x3 y3 x4 y4 x5 y5 x6 y6 x7 y7 x8 y8 x9 y9 x10 y10 x11 y11 x12 y12 v1 k0_h1 v30 v1311 v1314 v1325 k0_hw44 v1326 v1329 >>= fun r => t31 x0 v1 k0_h1 x3 x10 K v30 r.1 r.2.1 r.2.2.1 r.2.2.2) = t30 x0 v1 k0_h1 x3 x10 K v30 v1311 v1314 v1325 k0_hw44 v1326 v1329 := by
  unfold k0_part31; rfl

theorem step32 (v30 : FVec F S1024x768 .f32) (v1355 : Elt F .i32) (k0_hw45 : k0_chk45 x0 v1 v1355) (v1371 : V8) (v1374 : V8) (K : V8 → V8 → Prog (TpuEff nD τ sig (Elt F) Λ₀ .tc) PUnit) :
    (k0_part32 b i x0 x1 y1 x2 y2 x3 y3 x4 y4 x5 y5 x6 y6 x7 y7 x8 y8 x9 y9 x10 y10 x11 y11 x12 y12 v1 k0_h1 v30 v1355 k0_hw45 v1371 v1374 >>= fun r => t32 x0 v1 k0_h1 x3 x10 K v30 r.1 r.2.1 r.2.2.1 r.2.2.2.1 r.2.2.2.2) = t31 x0 v1 k0_h1 x3 x10 K v30 v1355 k0_hw45 v1371 v1374 := by
  unfold k0_part32; rfl

theorem step33 (v30 : FVec F S1024x768 .f32) (v1401 : V8) (v1404 : V8) (v1415 : Elt F .i32) (k0_hw47 : k0_chk47 x0 v1 v1415) (v1416 : FVec F S8x768 .f32) (K : V8 → V8 → Prog (TpuEff nD τ sig (Elt F) Λ₀ .tc) PUnit) :
    (k0_part33 b i x0 x1 y1 x2 y2 x3 y3 x4 y4 x5 y5 x6 y6 x7 y7 x8 y8 x9 y9 x10 y10 x11 y11 x12 y12 v1 k0_h1 v30 v1401 v1404 v1415 k0_hw47 v1416 >>= fun r => t33 x0 v1 k0_h1 x3 x10 K v30 r.1 r.2.1 r.2.2.1 r.2.2.2.1 r.2.2.2.2.1 r.2.2.2.2.2.1 r.2.2.2.2.2.2) = t32 x0 v1 k0_h1 x3 x10 K v30 v1401 v1404 v1415 k0_hw47 v1416 := by
  unfold k0_part33; rfl

theorem step34 (v30 : FVec F S1024x768 .f32) (v1434 : V8) (v1445 : Elt F .i32) (k0_hw48 : k0_chk48 x0 v1 v1445) (v1456 : V8) (v1458 : BitVec 1) (v1461 : V8) (cst_348 : F .f32) (K : V8 → V8 → Prog (TpuEff nD τ sig (Elt F) Λ₀ .tc) PUnit) :
    (k0_part34 b i x0 x1 y1 x2 y2 x3 y3 x4 y4 x5 y5 x6 y6 x7 y7 x8 y8 x9 y9 x10 y10 x11 y11 x12 y12 v1 k0_h1 v30 v1434 v1445 k0_hw48 v1456 v1458 v1461 cst_348 >>= fun r => t34 x0 v1 k0_h1 x3 x10 K v30 r.1 r.2) = t33 x0 v1 k0_h1 x3 x10 K v30 v1434 v1445 k0_hw48 v1456 v1458 v1461 cst_348 := by
  unfold k0_part34; rfl

theorem step35 (v30 : FVec F S1024x768 .f32) (v1491 : V8) (v1494 : V8) (K : V8 → V8 → Prog (TpuEff nD τ sig (Elt F) Λ₀ .tc) PUnit) :
    (k0_part35 b i x0 x1 y1 x2 y2 x3 y3 x4 y4 x5 y5 x6 y6 x7 y7 x8 y8 x9 y9 x10 y10 x11 y11 x12 y12 v1 k0_h1 v30 v1491 v1494 >>= fun r => t35 x0 v1 k0_h1 x3 x10 K v30 r.1 r.2.1 r.2.2.1 r.2.2.2.1 r.2.2.2.2.1 r.2.2.2.2.2.1 r.2.2.2.2.2.2.1 r.2.2.2.2.2.2.2) = t34 x0 v1 k0_h1 x3 x10 K v30 v1491 v1494 := by
  unfold k0_part35; rfl

theorem step36 (v30 : FVec F S1024x768 .f32) (v1521 : V8) (v1524 : V8) (v1535 : Elt F .i32) (k0_hw51 : k0_chk51 x0 v1 v1535) (v1543 : V8) (v1546 : V8) (v1548 : BitVec 1) (v1549 : V8) (K : V8 → V8 → Prog (TpuEff nD τ sig (Elt F) Λ₀ .tc) PUnit) :
    (k0_part36 b i x0 x1 y1 x2 y2 x3 y3 x4 y4 x5 y5 x6 y6 x7 y7 x8 y8 x9 y9 x10 y10 x11 y11 x12 y12 v1 k0_h1 v30 v1521 v1524 v1535 k0_hw51 v1543 v1546 v1548 v1549 >>= fun r => t36 x0 v1 k0_h1 x3 x10 K v30 r.1 r.2.1 r.2.2.1 r.2.2.2) = t35 x0 v1 k0_h1 x3 x10 K v30 v1521 v1524 v1535 k0_hw51 v1543 v1546 v1548 v1549 := by
  unfold k0_part36; rfl

theorem step37 (v30 : FVec F S1024x768 .f32) (v1565 : Elt F .i32) (k0_hw52 : k0_chk52 x0 v1 v1565) (v1581 : V8) (v1584 : V8) (K : V8 → V8 → Prog (TpuEff nD τ sig (Elt F) Λ₀ .tc) PUnit) :
    (k0_part37 b i x0 x1 y1 x2 y2 x3 y3 x4 y4 x5 y5 x6 y6 x7 y7 x8 y8 x9 y9 x10 y10 x11 y11 x12 y12 v1 k0_h1 v30 v1565 k0_hw52 v1581 v1584 >>= fun r => t37 x0 v1 k0_h1 x3 x10 K v30 r.1 r.2.1 r.2.2.1 r.2.2.2.1 r.2.2.2.2.1 r.2.2.2.2.2.1 r.2.2.2.2.2.2.1 r.2.2.2.2.2.2.2) = t36 x0 v1 k0_h1 x3 x10 K v30 v1565 k0_hw52 v1581 v1584 := by
  unfold k0_part37; rfl

theorem step38 (v30 : FVec F S1024x768 .f32) (v1611 : V8) (v1614 : V8) (v1625 : Elt F .i32) (k0_hw54 : k0_chk54 x0 v1 v1625) (v1633 : V8) (v1636 : V8) (v1637 : BitVec 32) (c1_i32_388 : BitVec 32) (K : V8 → V8 → Prog (TpuEff nD τ sig (Elt F) Λ₀ .tc) PUnit) :
    (k0_part38 b i x0 x1 y1 x2 y2 x3 y3 x4 y4 x5 y5 x6 y6 x7 y7 x8 y8 x9 y9 x10 y10 x11 y11 x12 y12 v1 k0_h1 v30 v1611 v1614 v1625 k0_hw54 v1633 v1636 v1637 c1_i32_388 >>= fun r => t38 x0 v1 k0_h1 x3 x10 K v30 r.1 r.2.1 r.2.2.1 r.2.2.2) = t37 x0 v1 k0_h1 x3 x10 K v30 v1611 v1614 v1625 k0_hw54 v1633 v1636 v1637 c1_i32_388 := by
  unfold k0_part38; rfl

theorem step39 (v30 : FVec F S1024x768 .f32) (v1655 : Elt F .i32) (k0_hw55 : k0_chk55 x0 v1 v1655) (v1671 : V8) (v1674 : V8) (K : V8 → V8 → Prog (TpuEff nD τ sig (Elt F) Λ₀ .tc) PUnit) :
    (k0_part39 b i x0 x1 y1 x2 y2 x3 y3 x4 y4 x5 y5 x6 y6 x7 y7 x8 y8 x9 y9 x10 y10 x11 y11 x12 y12 v1 k0_h1 v30 v1655 k0_hw55 v1671 v1674 >>= fun r => t39 x0 v1 k0_h1 x3 x10 K v30 r.1 r.2.1 r.2.2.1 r.2.2.2.1 r.2.2.2.2.1 r.2.2.2.2.2) = t38 x0 v1 k0_h1 x3 x10 K v30 v1655 k0_hw55 v1671 v1674 := by
  unfold k0_part39; rfl

theorem step40 (v30 : FVec F S1024x768 .f32) (v1701 : V8) (v1704 : V8) (v1715 : Elt F .i32) (k0_hw57 : k0_chk57 x0 v1 v1715) (v1723 : V8) (v1726 : V8) (K : V8 → V8 → Prog (TpuEff nD τ sig (Elt F) Λ₀ .tc) PUnit) :
    (k0_part40 b i x0 x1 y1 x2 y2 x3 y3 x4 y4 x5 y5 x6 y6 x7 y7 x8 y8 x9 y9 x10 y10 x11 y11 x12 y12 v1 k0_h1 v30 v1701 v1704 v1715 k0_hw57 v1723 v1726 >>= fun r => t40 x0 v1 k0_h1 x3 x10 K v30 r.1 r.2.1 r.2.2.1 r.2.2.2.1 r.2.2.2.2) = t39 x0 v1 k0_h1 x3 x10 K v30 v1701 v1704 v1715 k0_hw57 v1723 v1726 := by
  unfold k0_part40; rfl

theorem step41 (v30 : FVec F S1024x768 .f32) (v1745 : Elt F .i32) (k0_hw58 : k0_chk58 x0 v1 v1745) (v1761 : V8) (v1764 : V8) (v1766 : BitVec 32) (K : V8 → V8 → Prog (TpuEff nD τ sig (Elt F) Λ₀ .tc) PUnit) :
    (k0_part41 b i x0 x1 y1 x2 y2 x3 y3 x4 y4 x5 y5 x6 y6 x7 y7 x8 y8 x9 y9 x10 y10 x11 y11 x12 y12 v1 k0_h1 v30 v1745 k0_hw58 v1761 v1764 v1766 >>= fun r => t41 x0 v1 k0_h1 x3 x10 K v30 r.1 r.2.1 r.2.2.1 r.2.2.2.1 r.2.2.2.2.1 r.2.2.2.2.2) = t40 x0 v1 k0_h1 x3 x10 K v30 v1745 k0_hw58 v1761 v1764 v1766 := by
  unfold k0_part41; rfl

theorem step42 (v30 : FVec F S1024x768 .f32) (v1791 : V8) (v1794 : V8) (v1805 : Elt F .i32) (k0_hw60 : k0_chk60 x0 v1 v1805) (v1806 : FVec F S8x768 .f32) (v1813 : V8) (K : V8 → V8 → Prog (TpuEff nD τ sig (Elt F) Λ₀ .tc) PUnit) :
    (k0_part42 b i x0 x1 y1 x2 y2 x3 y3 x4 y4 x5 y5 x6 y6 x7 y7 x8 y8 x9 y9 x10 y10 x11 y11 x12 y12 v1 k0_h1 v30 v1791 v1794 v1805 k0_hw60 v1806 v1813 >>= fun r => t42 x0 v1 k0_h1 x3 x10 K v30 r.1 r.2.1 r.2.2.1 r.2.2.2.1 r.2.2.2.2) = t41 x0 v1 k0_h1 x3 x10 K v30 v1791 v1794 v1805 k0_hw60 v1806 v1813 := by
  unfold k0_part42; rfl

theorem step43 (v30 : FVec F S1024x768 .f32) (v1835 : Elt F .i32) (k0_hw61 : k0_chk61 x0 v1 v1835) (v1851 : V8) (v1854 : V8) (v1856 : BitVec 32) (K : V8 → V8 → Prog (TpuEff nD τ sig (Elt F) Λ₀ .tc) PUnit) :
    (k0_part43 b i x0 x1 y1 x2 y2 x3 y3 x4 y4 x5 y5 x6 y6 x7 y7 x8 y8 x9 y9 x10 y10 x11 y11 x12 y12 v1 k0_h1 v30 v1835 k0_hw61 v1851 v1854 v1856 >>= fun r => t43 x0 v1 k0_h1 x3 x10 K v30 r.1 r.2.1 r.2.2.1 r.2.2.2.1 r.2.2.2.2.1 r.2.2.2.2.2.1 r.2.2.2.2.2.2) = t42 x0 v1 k0_h1 x3 x10 K v30 v1835 k0_hw61 v1851 v1854 v1856 := by
  unfold k0_part43; rfl

theorem step44 (v30 : FVec F S1024x768 .f32) (v1881 : V8) (v1884 : V8) (v1895 : Elt F .i32) (k0_hw63 : k0_chk63 x0 v1 v1895) (v1896 : FVec F S8x768 .f32) (v1899 : V8) (v1900 : V8) (K : V8 → V8 → Prog (TpuEff nD τ sig (Elt F) Λ₀ .tc) PUnit) :
    (k0_part44 b i x0 x1 y1 x2 y2 x3 y3 x4 y4 x5 y5 x6 y6 x7 y7 x8 y8 x9 y9 x10 y10 x11 y11 x12 y12 v1 k0_h1 v30 v1881 v1884 v1895 k0_hw63 v1896 v1899 v1900 >>= fun r => t44 x0 v1 k0_h1 x3 x10 K v30 r.1 r.2.1 r.2.2.1 r.2.2.2.1 r.2.2.2.2) = t43 x0 v1 k0_h1 x3 x10 K v30 v1881 v1884 v1895 k0_hw63 v1896 v1899 v1900 := by
  unfold k0_part44; rfl

end Cert.KernelIdeal.Units

end
-- ==== Proof.StepsB.lean ====
/-
  The other 44 printed parts of a whole block, each against the recursion over units.
-/
module

public import proofs.«01_k».proof.Proof.StepsA

@[expose] public section

set_option maxRecDepth 8192

noncomputable section

namespace Cert.KernelIdeal.Units

open Idealize.ShloMosaic Idealize.SL.Sem
open Cert.KernelIdeal Cert.KernelIdeal.Gen

variable {F : FTy → Type} [FloatOps F]

local notation "V8" => FVec F S8x128 FTy.f32

def t45 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v1971 : V8) (v1974 : V8) (v1985 : Elt F .i32) (k0_hw66 : k0_chk66 x0 v1 v1985) (v1986 : FVec F S8x768 .f32) (v1987 : V8) : Prog (TpuEff nD τ sig (Elt F) Λ₀ .tc) PUnit :=
  tailB x0 v1 k0_h1 x3 x10 v1985 k0_hw66 (maximumf (maximumf (maximumf v1987 (extractStridedSlice S8x128 ![0, 128] v1986 slices_S8x768_o0_128_S8x128)) (maximumf (extractStridedSlice S8x128 ![0, 256] v1986 slices_S8x768_o0_256_S8x128) (extractStridedSlice S8x128 ![0, 384] v1986 slices_S8x768_o0_384_S8x128))) (Scalar.select (Scalar.cmpi .eq (Scalar.andi v1985 (1#32)) (1#32)) (broadcast S8x128 (Scalar.ofBits .f32 0xFF800000#32)) v1971)) (maximumf (maximumf (extractStridedSlice S8x128 ![0, 512] v1986 slices_S8x768_o0_512_S8x128) (extractStridedSlice S8x128 ![0, 640] v1986 slices_S8x768_o0_640_S8x128)) (Scalar.select (Scalar.cmpi .eq (Scalar.andi v1985 (1#32)) (1#32)) (broadcast S8x128 (Scalar.ofBits .f32 0xFF800000#32)) v1974)) >>= fun _ => unitsP x0 v1 k0_h1 x3 x10 K v30 62 (by omega) (maximumf (maximumf (maximumf v1987 (extractStridedSlice S8x128 ![0, 128] v1986 slices_S8x768_o0_128_S8x128)) (maximumf (extractStridedSlice S8x128 ![0, 256] v1986 slices_S8x768_o0_256_S8x128) (extractStridedSlice S8x128 ![0, 384] v1986 slices_S8x768_o0_384_S8x128))) (Scalar.select (Scalar.cmpi .eq (Scalar.andi v1985 (1#32)) (1#32)) (broadcast S8x128 (Scalar.ofBits .f32 0xFF800000#32)) v1971)) (maximumf (maximumf (extractStridedSlice S8x128 ![0, 512] v1986 slices_S8x768_o0_512_S8x128) (extractStridedSlice S8x128 ![0, 640] v1986 slices_S8x768_o0_640_S8x128)) (Scalar.select (Scalar.cmpi .eq (Scalar.andi v1985 (1#32)) (1#32)) (broadcast S8x128 (Scalar.ofBits .f32 0xFF800000#32)) v1974))

def t46 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v2004 : V8) (v2015 : Elt F .i32) (k0_hw67 : k0_chk67 x0 v1 v2015) (v2026 : V8) (v2028 : BitVec 1) (v2031 : V8) (v2032 : V8) : Prog (TpuEff nD τ sig (Elt F) Λ₀ .tc) PUnit :=
  tailB x0 v1 k0_h1 x3 x10 v2015 k0_hw67 v2031 (maximumf v2026 (Scalar.select v2028 v2032 v2004)) >>= fun _ => unitsP x0 v1 k0_h1 x3 x10 K v30 61 (by omega) v2031 (maximumf v2026 (Scalar.select v2028 v2032 v2004))

def t47 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v2061 : V8) (v2064 : V8) (v2075 : Elt F .i32) : Prog (TpuEff nD τ sig (Elt F) Λ₀ .tc) PUnit :=
  tailAs x0 v1 k0_h1 x3 x10 v2075 (maximumf (maximumf (maximumf (extractStridedSlice S8x128 ![0, 0] (extractStridedSlice S8x768 ![544, 0] v30 slices_S1024x768_o544_0_S8x768) slices_S8x768_o0_0_S8x128) (extractStridedSlice S8x128 ![0, 128] (extractStridedSlice S8x768 ![544, 0] v30 slices_S1024x768_o544_0_S8x768) slices_S8x768_o0_128_S8x128)) (maximumf (extractStridedSlice S8x128 ![0, 256] (extractStridedSlice S8x768 ![544, 0] v30 slices_S1024x768_o544_0_S8x768) slices_S8x768_o0_256_S8x128) (extractStridedSlice S8x128 ![0, 384] (extractStridedSlice S8x768 ![544, 0] v30 slices_S1024x768_o544_0_S8x768) slices_S8x768_o0_384_S8x128))) (Scalar.select (Scalar.cmpi .eq (Scalar.andi v2075 (1#32)) (1#32)) (broadcast S8x128 (Scalar.ofBits .f32 0xFF800000#32)) v2061)) (maximumf (maximumf (extractStridedSlice S8x128 ![0, 512] (extractStridedSlice S8x768 ![544, 0] v30 slices_S1024x768_o544_0_S8x768) slices_S8x768_o0_512_S8x128) (extractStridedSlice S8x128 ![0, 640] (extractStridedSlice S8x768 ![544, 0] v30 slices_S1024x768_o544_0_S8x768) slices_S8x768_o0_640_S8x128)) (Scalar.select (Scalar.cmpi .eq (Scalar.andi v2075 (1#32)) (1#32)) (broadcast S8x128 (Scalar.ofBits .f32 0xFF800000#32)) v2064)) >>= fun _ => unitsP x0 v1 k0_h1 x3 x10 K v30 59 (by omega) (maximumf (maximumf (maximumf (extractStridedSlice S8x128 ![0, 0] (extractStridedSlice S8x768 ![544, 0] v30 slices_S1024x768_o544_0_S8x768) slices_S8x768_o0_0_S8x128) (extractStridedSlice S8x128 ![0, 128] (extractStridedSlice S8x768 ![544, 0] v30 slices_S1024x768_o544_0_S8x768) slices_S8x768_o0_128_S8x128)) (maximumf (extractStridedSlice S8x128 ![0, 256] (extractStridedSlice S8x768 ![544, 0] v30 slices_S1024x768_o544_0_S8x768) slices_S8x768_o0_256_S8x128) (extractStridedSlice S8x128 ![0, 384] (extractStridedSlice S8x768 ![544, 0] v30 slices_S1024x768_o544_0_S8x768) slices_S8x768_o0_384_S8x128))) (Scalar.select (Scalar.cmpi .eq (Scalar.andi v2075 (1#32)) (1#32)) (broadcast S8x128 (Scalar.ofBits .f32 0xFF800000#32)) v2061)) (maximumf (maximumf (extractStridedSlice S8x128 ![0, 512] (extractStridedSlice S8x768 ![544, 0] v30 slices_S1024x768_o544_0_S8x768) slices_S8x768_o0_512_S8x128) (extractStridedSlice S8x128 ![0, 640] (extractStridedSlice S8x768 ![544, 0] v30 slices_S1024x768_o544_0_S8x768) slices_S8x768_o0_640_S8x128)) (Scalar.select (Scalar.cmpi .eq (Scalar.andi v2075 (1#32)) (1#32)) (broadcast S8x128 (Scalar.ofBits .f32 0xFF800000#32)) v2064))

def t48 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v2094 : V8) (v2105 : Elt F .i32) (k0_hw70 : k0_chk70 x0 v1 v2105) (v2113 : V8) (v2116 : V8) (v2118 : BitVec 1) (v2120 : V8) : Prog (TpuEff nD τ sig (Elt F) Λ₀ .tc) PUnit :=
  tailB x0 v1 k0_h1 x3 x10 v2105 k0_hw70 (maximumf v2113 v2120) (maximumf v2116 (Scalar.select v2118 (broadcast S8x128 (Scalar.ofBits .f32 0xFF800000#32)) v2094)) >>= fun _ => unitsP x0 v1 k0_h1 x3 x10 K v30 58 (by omega) (maximumf v2113 v2120) (maximumf v2116 (Scalar.select v2118 (broadcast S8x128 (Scalar.ofBits .f32 0xFF800000#32)) v2094))

def t49 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v2135 : Elt F .i32) (k0_hw71 : k0_chk71 x0 v1 v2135) (v2151 : V8) (v2154 : V8) (v2164 : V8) : Prog (TpuEff nD τ sig (Elt F) Λ₀ .tc) PUnit :=
  tailE x0 v1 k0_h1 x3 x10 v2135 k0_hw71 v2164 >>= fun _ => unitsP x0 v1 k0_h1 x3 x10 K v30 57 (by omega) v2151 v2154

def t50 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v2181 : V8) (v2184 : V8) (v2195 : Elt F .i32) (k0_hw73 : k0_chk73 x0 v1 v2195) (v2203 : V8) (v2206 : V8) (v2208 : BitVec 1) : Prog (TpuEff nD τ sig (Elt F) Λ₀ .tc) PUnit :=
  tailB x0 v1 k0_h1 x3 x10 v2195 k0_hw73 (maximumf v2203 (Scalar.select v2208 (broadcast S8x128 (Scalar.ofBits .f32 0xFF800000#32)) v2181)) (maximumf v2206 (Scalar.select v2208 (broadcast S8x128 (Scalar.ofBits .f32 0xFF800000#32)) v2184)) >>= fun _ => unitsP x0 v1 k0_h1 x3 x10 K v30 55 (by omega) (maximumf v2203 (Scalar.select v2208 (broadcast S8x128 (Scalar.ofBits .f32 0xFF800000#32)) v2181)) (maximumf v2206 (Scalar.select v2208 (broadcast S8x128 (Scalar.ofBits .f32 0xFF800000#32)) v2184))

def t51 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v2225 : Elt F .i32) (k0_hw74 : k0_chk74 x0 v1 v2225) (v2241 : V8) (v2244 : V8) : Prog (TpuEff nD τ sig (Elt F) Λ₀ .tc) PUnit :=
  tailD x0 v1 k0_h1 x3 x10 v2225 k0_hw74 v2244 >>= fun _ => unitsP x0 v1 k0_h1 x3 x10 K v30 54 (by omega) v2241 v2244

def t52 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v2271 : V8) (v2274 : V8) (v2285 : Elt F .i32) (k0_hw76 : k0_chk76 x0 v1 v2285) (v2293 : V8) (v2296 : V8) (c1_i32_541 : BitVec 32) : Prog (TpuEff nD τ sig (Elt F) Λ₀ .tc) PUnit :=
  tailB x0 v1 k0_h1 x3 x10 v2285 k0_hw76 (maximumf v2293 (Scalar.select (Scalar.cmpi .eq (Scalar.andi v2285 c1_i32_541) (1#32)) (broadcast S8x128 (Scalar.ofBits .f32 0xFF800000#32)) v2271)) (maximumf v2296 (Scalar.select (Scalar.cmpi .eq (Scalar.andi v2285 c1_i32_541) (1#32)) (broadcast S8x128 (Scalar.ofBits .f32 0xFF800000#32)) v2274)) >>= fun _ => unitsP x0 v1 k0_h1 x3 x10 K v30 52 (by omega) (maximumf v2293 (Scalar.select (Scalar.cmpi .eq (Scalar.andi v2285 c1_i32_541) (1#32)) (broadcast S8x128 (Scalar.ofBits .f32 0xFF800000#32)) v2271)) (maximumf v2296 (Scalar.select (Scalar.cmpi .eq (Scalar.andi v2285 c1_i32_541) (1#32)) (broadcast S8x128 (Scalar.ofBits .f32 0xFF800000#32)) v2274))

def t53 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v2315 : Elt F .i32) (k0_hw77 : k0_chk77 x0 v1 v2315) (v2331 : V8) (v2334 : V8) (v2336 : BitVec 32) (v2340 : V8) : Prog (TpuEff nD τ sig (Elt F) Λ₀ .tc) PUnit :=
  tailC x0 v1 k0_h1 x3 x10 v2315 k0_hw77 v2340 v2334 >>= fun _ => unitsP x0 v1 k0_h1 x3 x10 K v30 51 (by omega) v2331 v2334

def t54 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v2361 : V8) (v2364 : V8) (v2375 : Elt F .i32) (k0_hw79 : k0_chk79 x0 v1 v2375) (v2376 : FVec F S8x768 .f32) (v2383 : V8) (v2384 : V8) : Prog (TpuEff nD τ sig (Elt F) Λ₀ .tc) PUnit :=
  tailB x0 v1 k0_h1 x3 x10 v2375 k0_hw79 (maximumf v2383 (Scalar.select (Scalar.cmpi .eq (Scalar.andi v2375 (1#32)) (1#32)) (broadcast S8x128 (Scalar.ofBits .f32 0xFF800000#32)) v2361)) (maximumf (maximumf v2384 (extractStridedSlice S8x128 ![0, 640] v2376 slices_S8x768_o0_640_S8x128)) (Scalar.select (Scalar.cmpi .eq (Scalar.andi v2375 (1#32)) (1#32)) (broadcast S8x128 (Scalar.ofBits .f32 0xFF800000#32)) v2364)) >>= fun _ => unitsP x0 v1 k0_h1 x3 x10 K v30 49 (by omega) (maximumf v2383 (Scalar.select (Scalar.cmpi .eq (Scalar.andi v2375 (1#32)) (1#32)) (broadcast S8x128 (Scalar.ofBits .f32 0xFF800000#32)) v2361)) (maximumf (maximumf v2384 (extractStridedSlice S8x128 ![0, 640] v2376 slices_S8x768_o0_640_S8x128)) (Scalar.select (Scalar.cmpi .eq (Scalar.andi v2375 (1#32)) (1#32)) (broadcast S8x128 (Scalar.ofBits .f32 0xFF800000#32)) v2364))

def t55 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v2405 : Elt F .i32) (k0_hw80 : k0_chk80 x0 v1 v2405) (v2421 : V8) (v2424 : V8) (v2426 : BitVec 32) : Prog (TpuEff nD τ sig (Elt F) Λ₀ .tc) PUnit :=
  tailB x0 v1 k0_h1 x3 x10 v2405 k0_hw80 v2421 v2424 >>= fun _ => unitsP x0 v1 k0_h1 x3 x10 K v30 48 (by omega) v2421 v2424

def t56 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v2451 : V8) (v2454 : V8) (v2465 : Elt F .i32) (k0_hw82 : k0_chk82 x0 v1 v2465) (v2466 : FVec F S8x768 .f32) (v2469 : V8) (v2470 : V8) (v2471 : V8) : Prog (TpuEff nD τ sig (Elt F) Λ₀ .tc) PUnit :=
  tailB x0 v1 k0_h1 x3 x10 v2465 k0_hw82 (maximumf (maximumf v2469 (maximumf v2470 v2471)) (Scalar.select (Scalar.cmpi .eq (Scalar.andi v2465 (1#32)) (1#32)) (broadcast S8x128 (Scalar.ofBits .f32 0xFF800000#32)) v2451)) (maximumf (maximumf (extractStridedSlice S8x128 ![0, 512] v2466 slices_S8x768_o0_512_S8x128) (extractStridedSlice S8x128 ![0, 640] v2466 slices_S8x768_o0_640_S8x128)) (Scalar.select (Scalar.cmpi .eq (Scalar.andi v2465 (1#32)) (1#32)) (broadcast S8x128 (Scalar.ofBits .f32 0xFF800000#32)) v2454)) >>= fun _ => unitsP x0 v1 k0_h1 x3 x10 K v30 46 (by omega) (maximumf (maximumf v2469 (maximumf v2470 v2471)) (Scalar.select (Scalar.cmpi .eq (Scalar.andi v2465 (1#32)) (1#32)) (broadcast S8x128 (Scalar.ofBits .f32 0xFF800000#32)) v2451)) (maximumf (maximumf (extractStridedSlice S8x128 ![0, 512] v2466 slices_S8x768_o0_512_S8x128) (extractStridedSlice S8x128 ![0, 640] v2466 slices_S8x768_o0_640_S8x128)) (Scalar.select (Scalar.cmpi .eq (Scalar.andi v2465 (1#32)) (1#32)) (broadcast S8x128 (Scalar.ofBits .f32 0xFF800000#32)) v2454))

def t57 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v2495 : Elt F .i32) (k0_hw83 : k0_chk83 x0 v1 v2495) (v2511 : V8) (v2514 : V8) (v2515 : BitVec 32) : Prog (TpuEff nD τ sig (Elt F) Λ₀ .tc) PUnit :=
  tailB x0 v1 k0_h1 x3 x10 v2495 k0_hw83 v2511 v2514 >>= fun _ => unitsP x0 v1 k0_h1 x3 x10 K v30 45 (by omega) v2511 v2514

def t58 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v2541 : V8) (v2544 : V8) (v2555 : Elt F .i32) (k0_hw85 : k0_chk85 x0 v1 v2555) (v2556 : FVec F S8x768 .f32) (v2557 : V8) (v2558 : V8) : Prog (TpuEff nD τ sig (Elt F) Λ₀ .tc) PUnit :=
  tailB x0 v1 k0_h1 x3 x10 v2555 k0_hw85 (maximumf (maximumf (maximumf v2557 v2558) (maximumf (extractStridedSlice S8x128 ![0, 256] v2556 slices_S8x768_o0_256_S8x128) (extractStridedSlice S8x128 ![0, 384] v2556 slices_S8x768_o0_384_S8x128))) (Scalar.select (Scalar.cmpi .eq (Scalar.andi v2555 (1#32)) (1#32)) (broadcast S8x128 (Scalar.ofBits .f32 0xFF800000#32)) v2541)) (maximumf (maximumf (extractStridedSlice S8x128 ![0, 512] v2556 slices_S8x768_o0_512_S8x128) (extractStridedSlice S8x128 ![0, 640] v2556 slices_S8x768_o0_640_S8x128)) (Scalar.select (Scalar.cmpi .eq (Scalar.andi v2555 (1#32)) (1#32)) (broadcast S8x128 (Scalar.ofBits .f32 0xFF800000#32)) v2544)) >>= fun _ => unitsP x0 v1 k0_h1 x3 x10 K v30 43 (by omega) (maximumf (maximumf (maximumf v2557 v2558) (maximumf (extractStridedSlice S8x128 ![0, 256] v2556 slices_S8x768_o0_256_S8x128) (extractStridedSlice S8x128 ![0, 384] v2556 slices_S8x768_o0_384_S8x128))) (Scalar.select (Scalar.cmpi .eq (Scalar.andi v2555 (1#32)) (1#32)) (broadcast S8x128 (Scalar.ofBits .f32 0xFF800000#32)) v2541)) (maximumf (maximumf (extractStridedSlice S8x128 ![0, 512] v2556 slices_S8x768_o0_512_S8x128) (extractStridedSlice S8x128 ![0, 640] v2556 slices_S8x768_o0_640_S8x128)) (Scalar.select (Scalar.cmpi .eq (Scalar.andi v2555 (1#32)) (1#32)) (broadcast S8x128 (Scalar.ofBits .f32 0xFF800000#32)) v2544))

def t59 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v2585 : Elt F .i32) (k0_hw86 : k0_chk86 x0 v1 v2585) (v2596 : V8) (v2601 : V8) (v2603 : V8) : Prog (TpuEff nD τ sig (Elt F) Λ₀ .tc) PUnit :=
  tailB x0 v1 k0_h1 x3 x10 v2585 k0_hw86 v2601 (maximumf v2596 v2603) >>= fun _ => unitsP x0 v1 k0_h1 x3 x10 K v30 42 (by omega) v2601 (maximumf v2596 v2603)

def t60 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v2631 : V8) (v2634 : V8) (v2645 : Elt F .i32) (k0_hw88 : k0_chk88 x0 v1 v2645) : Prog (TpuEff nD τ sig (Elt F) Λ₀ .tc) PUnit :=
  tailB x0 v1 k0_h1 x3 x10 v2645 k0_hw88 (maximumf (maximumf (maximumf (extractStridedSlice S8x128 ![0, 0] (extractStridedSlice S8x768 ![696, 0] v30 slices_S1024x768_o696_0_S8x768) slices_S8x768_o0_0_S8x128) (extractStridedSlice S8x128 ![0, 128] (extractStridedSlice S8x768 ![696, 0] v30 slices_S1024x768_o696_0_S8x768) slices_S8x768_o0_128_S8x128)) (maximumf (extractStridedSlice S8x128 ![0, 256] (extractStridedSlice S8x768 ![696, 0] v30 slices_S1024x768_o696_0_S8x768) slices_S8x768_o0_256_S8x128) (extractStridedSlice S8x128 ![0, 384] (extractStridedSlice S8x768 ![696, 0] v30 slices_S1024x768_o696_0_S8x768) slices_S8x768_o0_384_S8x128))) (Scalar.select (Scalar.cmpi .eq (Scalar.andi v2645 (1#32)) (1#32)) (broadcast S8x128 (Scalar.ofBits .f32 0xFF800000#32)) v2631)) (maximumf (maximumf (extractStridedSlice S8x128 ![0, 512] (extractStridedSlice S8x768 ![696, 0] v30 slices_S1024x768_o696_0_S8x768) slices_S8x768_o0_512_S8x128) (extractStridedSlice S8x128 ![0, 640] (extractStridedSlice S8x768 ![696, 0] v30 slices_S1024x768_o696_0_S8x768) slices_S8x768_o0_640_S8x128)) (Scalar.select (Scalar.cmpi .eq (Scalar.andi v2645 (1#32)) (1#32)) (broadcast S8x128 (Scalar.ofBits .f32 0xFF800000#32)) v2634)) >>= fun _ => unitsP x0 v1 k0_h1 x3 x10 K v30 40 (by omega) (maximumf (maximumf (maximumf (extractStridedSlice S8x128 ![0, 0] (extractStridedSlice S8x768 ![696, 0] v30 slices_S1024x768_o696_0_S8x768) slices_S8x768_o0_0_S8x128) (extractStridedSlice S8x128 ![0, 128] (extractStridedSlice S8x768 ![696, 0] v30 slices_S1024x768_o696_0_S8x768) slices_S8x768_o0_128_S8x128)) (maximumf (extractStridedSlice S8x128 ![0, 256] (extractStridedSlice S8x768 ![696, 0] v30 slices_S1024x768_o696_0_S8x768) slices_S8x768_o0_256_S8x128) (extractStridedSlice S8x128 ![0, 384] (extractStridedSlice S8x768 ![696, 0] v30 slices_S1024x768_o696_0_S8x768) slices_S8x768_o0_384_S8x128))) (Scalar.select (Scalar.cmpi .eq (Scalar.andi v2645 (1#32)) (1#32)) (broadcast S8x128 (Scalar.ofBits .f32 0xFF800000#32)) v2631)) (maximumf (maximumf (extractStridedSlice S8x128 ![0, 512] (extractStridedSlice S8x768 ![696, 0] v30 slices_S1024x768_o696_0_S8x768) slices_S8x768_o0_512_S8x128) (extractStridedSlice S8x128 ![0, 640] (extractStridedSlice S8x768 ![696, 0] v30 slices_S1024x768_o696_0_S8x768) slices_S8x768_o0_640_S8x128)) (Scalar.select (Scalar.cmpi .eq (Scalar.andi v2645 (1#32)) (1#32)) (broadcast S8x128 (Scalar.ofBits .f32 0xFF800000#32)) v2634))

def t61 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v2664 : V8) (v2675 : Elt F .i32) (k0_hw89 : k0_chk89 x0 v1 v2675) (v2686 : V8) (v2688 : BitVec 1) (v2691 : V8) : Prog (TpuEff nD τ sig (Elt F) Λ₀ .tc) PUnit :=
  tailB x0 v1 k0_h1 x3 x10 v2675 k0_hw89 v2691 (maximumf v2686 (Scalar.select v2688 (broadcast S8x128 (Scalar.ofBits .f32 0xFF800000#32)) v2664)) >>= fun _ => unitsP x0 v1 k0_h1 x3 x10 K v30 39 (by omega) v2691 (maximumf v2686 (Scalar.select v2688 (broadcast S8x128 (Scalar.ofBits .f32 0xFF800000#32)) v2664))

def t62 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v2721 : V8) (v2724 : V8) : Prog (TpuEff nD τ sig (Elt F) Λ₀ .tc) PUnit :=
  unitsP x0 v1 k0_h1 x3 x10 K v30 38 (by omega) v2721 v2724

def t63 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v2751 : V8) (v2754 : V8) (v2765 : Elt F .i32) (k0_hw92 : k0_chk92 x0 v1 v2765) (v2773 : V8) (v2776 : V8) (v2778 : BitVec 1) (cst_655 : F .f32) : Prog (TpuEff nD τ sig (Elt F) Λ₀ .tc) PUnit :=
  tailB x0 v1 k0_h1 x3 x10 v2765 k0_hw92 (maximumf v2773 (Scalar.select v2778 (broadcast S8x128 cst_655) v2751)) (maximumf v2776 (Scalar.select v2778 (broadcast S8x128 (Scalar.ofBits .f32 0xFF800000#32)) v2754)) >>= fun _ => unitsP x0 v1 k0_h1 x3 x10 K v30 36 (by omega) (maximumf v2773 (Scalar.select v2778 (broadcast S8x128 cst_655) v2751)) (maximumf v2776 (Scalar.select v2778 (broadcast S8x128 (Scalar.ofBits .f32 0xFF800000#32)) v2754))

def t64 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v2795 : Elt F .i32) (k0_hw93 : k0_chk93 x0 v1 v2795) (v2811 : V8) (v2814 : V8) (v2822 : Vec F S8x128 .f32) : Prog (TpuEff nD τ sig (Elt F) Λ₀ .tc) PUnit :=
  tailE x0 v1 k0_h1 x3 x10 v2795 k0_hw93 (shapeCast S8x128 v2814 shapeCasts_S8x128_S8x128) >>= fun _ => unitsP x0 v1 k0_h1 x3 x10 K v30 35 (by omega) v2811 v2814

def t65 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v2841 : V8) (v2844 : V8) (v2855 : Elt F .i32) (k0_hw95 : k0_chk95 x0 v1 v2855) (v2863 : V8) (v2866 : V8) (v2867 : BitVec 32) : Prog (TpuEff nD τ sig (Elt F) Λ₀ .tc) PUnit :=
  tailB x0 v1 k0_h1 x3 x10 v2855 k0_hw95 (maximumf v2863 (Scalar.select (Scalar.cmpi .eq v2867 (1#32)) (broadcast S8x128 (Scalar.ofBits .f32 0xFF800000#32)) v2841)) (maximumf v2866 (Scalar.select (Scalar.cmpi .eq v2867 (1#32)) (broadcast S8x128 (Scalar.ofBits .f32 0xFF800000#32)) v2844)) >>= fun _ => unitsP x0 v1 k0_h1 x3 x10 K v30 33 (by omega) (maximumf v2863 (Scalar.select (Scalar.cmpi .eq v2867 (1#32)) (broadcast S8x128 (Scalar.ofBits .f32 0xFF800000#32)) v2841)) (maximumf v2866 (Scalar.select (Scalar.cmpi .eq v2867 (1#32)) (broadcast S8x128 (Scalar.ofBits .f32 0xFF800000#32)) v2844))

def t66 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v2885 : Elt F .i32) (k0_hw96 : k0_chk96 x0 v1 v2885) (v2901 : V8) (v2904 : V8) (v2906 : BitVec 32) : Prog (TpuEff nD τ sig (Elt F) Λ₀ .tc) PUnit :=
  tailD x0 v1 k0_h1 x3 x10 v2885 k0_hw96 v2904 >>= fun _ => unitsP x0 v1 k0_h1 x3 x10 K v30 32 (by omega) v2901 v2904

def t67 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v2931 : V8) (v2934 : V8) (v2945 : Elt F .i32) (k0_hw98 : k0_chk98 x0 v1 v2945) (v2953 : V8) (v2954 : V8) (v2955 : V8) : Prog (TpuEff nD τ sig (Elt F) Λ₀ .tc) PUnit :=
  tailB x0 v1 k0_h1 x3 x10 v2945 k0_hw98 (maximumf v2953 (Scalar.select (Scalar.cmpi .eq (Scalar.andi v2945 (1#32)) (1#32)) (broadcast S8x128 (Scalar.ofBits .f32 0xFF800000#32)) v2931)) (maximumf (maximumf v2954 v2955) (Scalar.select (Scalar.cmpi .eq (Scalar.andi v2945 (1#32)) (1#32)) (broadcast S8x128 (Scalar.ofBits .f32 0xFF800000#32)) v2934)) >>= fun _ => unitsP x0 v1 k0_h1 x3 x10 K v30 30 (by omega) (maximumf v2953 (Scalar.select (Scalar.cmpi .eq (Scalar.andi v2945 (1#32)) (1#32)) (broadcast S8x128 (Scalar.ofBits .f32 0xFF800000#32)) v2931)) (maximumf (maximumf v2954 v2955) (Scalar.select (Scalar.cmpi .eq (Scalar.andi v2945 (1#32)) (1#32)) (broadcast S8x128 (Scalar.ofBits .f32 0xFF800000#32)) v2934))

def t68 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v2975 : Elt F .i32) (k0_hw99 : k0_chk99 x0 v1 v2975) (v2991 : V8) (v2994 : V8) (v2996 : BitVec 32) (v2998 : Vec F S8x128 .f32) : Prog (TpuEff nD τ sig (Elt F) Λ₀ .tc) PUnit :=
  tailC x0 v1 k0_h1 x3 x10 v2975 k0_hw99 (shapeCast S8x128 v2991 shapeCasts_S8x128_S8x128) v2994 >>= fun _ => unitsP x0 v1 k0_h1 x3 x10 K v30 29 (by omega) v2991 v2994

def t69 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v3021 : V8) (v3024 : V8) (v3035 : Elt F .i32) (k0_hw101 : k0_chk101 x0 v1 v3035) (v3036 : FVec F S8x768 .f32) (v3039 : V8) (v3042 : V8) : Prog (TpuEff nD τ sig (Elt F) Λ₀ .tc) PUnit :=
  tailB x0 v1 k0_h1 x3 x10 v3035 k0_hw101 (maximumf (maximumf v3039 v3042) (Scalar.select (Scalar.cmpi .eq (Scalar.andi v3035 (1#32)) (1#32)) (broadcast S8x128 (Scalar.ofBits .f32 0xFF800000#32)) v3021)) (maximumf (maximumf (extractStridedSlice S8x128 ![0, 512] v3036 slices_S8x768_o0_512_S8x128) (extractStridedSlice S8x128 ![0, 640] v3036 slices_S8x768_o0_640_S8x128)) (Scalar.select (Scalar.cmpi .eq (Scalar.andi v3035 (1#32)) (1#32)) (broadcast S8x128 (Scalar.ofBits .f32 0xFF800000#32)) v3024)) >>= fun _ => unitsP x0 v1 k0_h1 x3 x10 K v30 27 (by omega) (maximumf (maximumf v3039 v3042) (Scalar.select (Scalar.cmpi .eq (Scalar.andi v3035 (1#32)) (1#32)) (broadcast S8x128 (Scalar.ofBits .f32 0xFF800000#32)) v3021)) (maximumf (maximumf (extractStridedSlice S8x128 ![0, 512] v3036 slices_S8x768_o0_512_S8x128) (extractStridedSlice S8x128 ![0, 640] v3036 slices_S8x768_o0_640_S8x128)) (Scalar.select (Scalar.cmpi .eq (Scalar.andi v3035 (1#32)) (1#32)) (broadcast S8x128 (Scalar.ofBits .f32 0xFF800000#32)) v3024))

def t70 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v3065 : Elt F .i32) (k0_hw102 : k0_chk102 x0 v1 v3065) (v3081 : V8) (v3084 : V8) (v3086 : BitVec 32) : Prog (TpuEff nD τ sig (Elt F) Λ₀ .tc) PUnit :=
  tailB x0 v1 k0_h1 x3 x10 v3065 k0_hw102 v3081 v3084 >>= fun _ => unitsP x0 v1 k0_h1 x3 x10 K v30 26 (by omega) v3081 v3084

def t71 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v3111 : V8) (v3114 : V8) (v3125 : Elt F .i32) (k0_hw104 : k0_chk104 x0 v1 v3125) (v3126 : FVec F S8x768 .f32) (v3129 : V8) : Prog (TpuEff nD τ sig (Elt F) Λ₀ .tc) PUnit :=
  tailB x0 v1 k0_h1 x3 x10 v3125 k0_hw104 (maximumf (maximumf v3129 (maximumf (extractStridedSlice S8x128 ![0, 256] v3126 slices_S8x768_o0_256_S8x128) (extractStridedSlice S8x128 ![0, 384] v3126 slices_S8x768_o0_384_S8x128))) (Scalar.select (Scalar.cmpi .eq (Scalar.andi v3125 (1#32)) (1#32)) (broadcast S8x128 (Scalar.ofBits .f32 0xFF800000#32)) v3111)) (maximumf (maximumf (extractStridedSlice S8x128 ![0, 512] v3126 slices_S8x768_o0_512_S8x128) (extractStridedSlice S8x128 ![0, 640] v3126 slices_S8x768_o0_640_S8x128)) (Scalar.select (Scalar.cmpi .eq (Scalar.andi v3125 (1#32)) (1#32)) (broadcast S8x128 (Scalar.ofBits .f32 0xFF800000#32)) v3114)) >>= fun _ => unitsP x0 v1 k0_h1 x3 x10 K v30 24 (by omega) (maximumf (maximumf v3129 (maximumf (extractStridedSlice S8x128 ![0, 256] v3126 slices_S8x768_o0_256_S8x128) (extractStridedSlice S8x128 ![0, 384] v3126 slices_S8x768_o0_384_S8x128))) (Scalar.select (Scalar.cmpi .eq (Scalar.andi v3125 (1#32)) (1#32)) (broadcast S8x128 (Scalar.ofBits .f32 0xFF800000#32)) v3111)) (maximumf (maximumf (extractStridedSlice S8x128 ![0, 512] v3126 slices_S8x768_o0_512_S8x128) (extractStridedSlice S8x128 ![0, 640] v3126 slices_S8x768_o0_640_S8x128)) (Scalar.select (Scalar.cmpi .eq (Scalar.andi v3125 (1#32)) (1#32)) (broadcast S8x128 (Scalar.ofBits .f32 0xFF800000#32)) v3114))

def t72 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v3155 : Elt F .i32) (k0_hw105 : k0_chk105 x0 v1 v3155) (v3171 : V8) (v3174 : V8) : Prog (TpuEff nD τ sig (Elt F) Λ₀ .tc) PUnit :=
  tailB x0 v1 k0_h1 x3 x10 v3155 k0_hw105 v3171 v3174 >>= fun _ => unitsP x0 v1 k0_h1 x3 x10 K v30 23 (by omega) v3171 v3174

def t73 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v3201 : V8) (v3204 : V8) (v3215 : Elt F .i32) (k0_hw107 : k0_chk107 x0 v1 v3215) (v3216 : FVec F S8x768 .f32) : Prog (TpuEff nD τ sig (Elt F) Λ₀ .tc) PUnit :=
  tailB x0 v1 k0_h1 x3 x10 v3215 k0_hw107 (maximumf (maximumf (maximumf (extractStridedSlice S8x128 ![0, 0] v3216 slices_S8x768_o0_0_S8x128) (extractStridedSlice S8x128 ![0, 128] v3216 slices_S8x768_o0_128_S8x128)) (maximumf (extractStridedSlice S8x128 ![0, 256] v3216 slices_S8x768_o0_256_S8x128) (extractStridedSlice S8x128 ![0, 384] v3216 slices_S8x768_o0_384_S8x128))) (Scalar.select (Scalar.cmpi .eq (Scalar.andi v3215 (1#32)) (1#32)) (broadcast S8x128 (Scalar.ofBits .f32 0xFF800000#32)) v3201)) (maximumf (maximumf (extractStridedSlice S8x128 ![0, 512] v3216 slices_S8x768_o0_512_S8x128) (extractStridedSlice S8x128 ![0, 640] v3216 slices_S8x768_o0_640_S8x128)) (Scalar.select (Scalar.cmpi .eq (Scalar.andi v3215 (1#32)) (1#32)) (broadcast S8x128 (Scalar.ofBits .f32 0xFF800000#32)) v3204)) >>= fun _ => unitsP x0 v1 k0_h1 x3 x10 K v30 21 (by omega) (maximumf (maximumf (maximumf (extractStridedSlice S8x128 ![0, 0] v3216 slices_S8x768_o0_0_S8x128) (extractStridedSlice S8x128 ![0, 128] v3216 slices_S8x768_o0_128_S8x128)) (maximumf (extractStridedSlice S8x128 ![0, 256] v3216 slices_S8x768_o0_256_S8x128) (extractStridedSlice S8x128 ![0, 384] v3216 slices_S8x768_o0_384_S8x128))) (Scalar.select (Scalar.cmpi .eq (Scalar.andi v3215 (1#32)) (1#32)) (broadcast S8x128 (Scalar.ofBits .f32 0xFF800000#32)) v3201)) (maximumf (maximumf (extractStridedSlice S8x128 ![0, 512] v3216 slices_S8x768_o0_512_S8x128) (extractStridedSlice S8x128 ![0, 640] v3216 slices_S8x768_o0_640_S8x128)) (Scalar.select (Scalar.cmpi .eq (Scalar.andi v3215 (1#32)) (1#32)) (broadcast S8x128 (Scalar.ofBits .f32 0xFF800000#32)) v3204))

def t74 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v3234 : V8) (v3245 : Elt F .i32) (k0_hw108 : k0_chk108 x0 v1 v3245) (v3256 : V8) (v3258 : BitVec 1) (v3261 : V8) (cst_768 : F .f32) : Prog (TpuEff nD τ sig (Elt F) Λ₀ .tc) PUnit :=
  tailB x0 v1 k0_h1 x3 x10 v3245 k0_hw108 v3261 (maximumf v3256 (Scalar.select v3258 (broadcast S8x128 cst_768) v3234)) >>= fun _ => unitsP x0 v1 k0_h1 x3 x10 K v30 20 (by omega) v3261 (maximumf v3256 (Scalar.select v3258 (broadcast S8x128 cst_768) v3234))

def t75 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v3291 : V8) (v3294 : V8) : Prog (TpuEff nD τ sig (Elt F) Λ₀ .tc) PUnit :=
  unitsP x0 v1 k0_h1 x3 x10 K v30 19 (by omega) v3291 v3294

def t76 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v3321 : V8) (v3324 : V8) (v3335 : Elt F .i32) (k0_hw111 : k0_chk111 x0 v1 v3335) (v3343 : V8) (v3346 : V8) (v3348 : BitVec 1) (v3349 : V8) : Prog (TpuEff nD τ sig (Elt F) Λ₀ .tc) PUnit :=
  tailB x0 v1 k0_h1 x3 x10 v3335 k0_hw111 (maximumf v3343 (Scalar.select v3348 v3349 v3321)) (maximumf v3346 (Scalar.select v3348 (broadcast S8x128 (Scalar.ofBits .f32 0xFF800000#32)) v3324)) >>= fun _ => unitsP x0 v1 k0_h1 x3 x10 K v30 17 (by omega) (maximumf v3343 (Scalar.select v3348 v3349 v3321)) (maximumf v3346 (Scalar.select v3348 (broadcast S8x128 (Scalar.ofBits .f32 0xFF800000#32)) v3324))

def t77 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v3365 : Elt F .i32) (k0_hw112 : k0_chk112 x0 v1 v3365) (v3381 : V8) (v3384 : V8) : Prog (TpuEff nD τ sig (Elt F) Λ₀ .tc) PUnit :=
  tailE x0 v1 k0_h1 x3 x10 v3365 k0_hw112 (shapeCast S8x128 v3384 shapeCasts_S8x128_S8x128) >>= fun _ => unitsP x0 v1 k0_h1 x3 x10 K v30 16 (by omega) v3381 v3384

def t78 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v3411 : V8) (v3414 : V8) (v3425 : Elt F .i32) (k0_hw114 : k0_chk114 x0 v1 v3425) (v3433 : V8) (v3436 : V8) (v3437 : BitVec 32) (c1_i32_808 : BitVec 32) : Prog (TpuEff nD τ sig (Elt F) Λ₀ .tc) PUnit :=
  tailB x0 v1 k0_h1 x3 x10 v3425 k0_hw114 (maximumf v3433 (Scalar.select (Scalar.cmpi .eq v3437 c1_i32_808) (broadcast S8x128 (Scalar.ofBits .f32 0xFF800000#32)) v3411)) (maximumf v3436 (Scalar.select (Scalar.cmpi .eq v3437 c1_i32_808) (broadcast S8x128 (Scalar.ofBits .f32 0xFF800000#32)) v3414)) >>= fun _ => unitsP x0 v1 k0_h1 x3 x10 K v30 14 (by omega) (maximumf v3433 (Scalar.select (Scalar.cmpi .eq v3437 c1_i32_808) (broadcast S8x128 (Scalar.ofBits .f32 0xFF800000#32)) v3411)) (maximumf v3436 (Scalar.select (Scalar.cmpi .eq v3437 c1_i32_808) (broadcast S8x128 (Scalar.ofBits .f32 0xFF800000#32)) v3414))

def t79 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v3455 : Elt F .i32) (k0_hw115 : k0_chk115 x0 v1 v3455) (v3471 : V8) (v3474 : V8) : Prog (TpuEff nD τ sig (Elt F) Λ₀ .tc) PUnit :=
  tailD x0 v1 k0_h1 x3 x10 v3455 k0_hw115 v3474 >>= fun _ => unitsP x0 v1 k0_h1 x3 x10 K v30 13 (by omega) v3471 v3474

def t80 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v3501 : V8) (v3504 : V8) (v3515 : Elt F .i32) (k0_hw117 : k0_chk117 x0 v1 v3515) (v3523 : V8) (v3526 : V8) : Prog (TpuEff nD τ sig (Elt F) Λ₀ .tc) PUnit :=
  tailB x0 v1 k0_h1 x3 x10 v3515 k0_hw117 (maximumf v3523 (Scalar.select (Scalar.cmpi .eq (Scalar.andi v3515 (1#32)) (1#32)) (broadcast S8x128 (Scalar.ofBits .f32 0xFF800000#32)) v3501)) (maximumf v3526 (Scalar.select (Scalar.cmpi .eq (Scalar.andi v3515 (1#32)) (1#32)) (broadcast S8x128 (Scalar.ofBits .f32 0xFF800000#32)) v3504)) >>= fun _ => unitsP x0 v1 k0_h1 x3 x10 K v30 11 (by omega) (maximumf v3523 (Scalar.select (Scalar.cmpi .eq (Scalar.andi v3515 (1#32)) (1#32)) (broadcast S8x128 (Scalar.ofBits .f32 0xFF800000#32)) v3501)) (maximumf v3526 (Scalar.select (Scalar.cmpi .eq (Scalar.andi v3515 (1#32)) (1#32)) (broadcast S8x128 (Scalar.ofBits .f32 0xFF800000#32)) v3504))

def t81 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v3545 : Elt F .i32) (k0_hw118 : k0_chk118 x0 v1 v3545) (v3561 : V8) (v3564 : V8) (v3566 : BitVec 32) : Prog (TpuEff nD τ sig (Elt F) Λ₀ .tc) PUnit :=
  tailC x0 v1 k0_h1 x3 x10 v3545 k0_hw118 (shapeCast S8x128 v3561 shapeCasts_S8x128_S8x128) v3564 >>= fun _ => unitsP x0 v1 k0_h1 x3 x10 K v30 10 (by omega) v3561 v3564

def t82 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v3591 : V8) (v3594 : V8) (v3605 : Elt F .i32) (k0_hw120 : k0_chk120 x0 v1 v3605) (v3606 : FVec F S8x768 .f32) (v3613 : V8) : Prog (TpuEff nD τ sig (Elt F) Λ₀ .tc) PUnit :=
  tailB x0 v1 k0_h1 x3 x10 v3605 k0_hw120 (maximumf v3613 (Scalar.select (Scalar.cmpi .eq (Scalar.andi v3605 (1#32)) (1#32)) (broadcast S8x128 (Scalar.ofBits .f32 0xFF800000#32)) v3591)) (maximumf (maximumf (extractStridedSlice S8x128 ![0, 512] v3606 slices_S8x768_o0_512_S8x128) (extractStridedSlice S8x128 ![0, 640] v3606 slices_S8x768_o0_640_S8x128)) (Scalar.select (Scalar.cmpi .eq (Scalar.andi v3605 (1#32)) (1#32)) (broadcast S8x128 (Scalar.ofBits .f32 0xFF800000#32)) v3594)) >>= fun _ => unitsP x0 v1 k0_h1 x3 x10 K v30 8 (by omega) (maximumf v3613 (Scalar.select (Scalar.cmpi .eq (Scalar.andi v3605 (1#32)) (1#32)) (broadcast S8x128 (Scalar.ofBits .f32 0xFF800000#32)) v3591)) (maximumf (maximumf (extractStridedSlice S8x128 ![0, 512] v3606 slices_S8x768_o0_512_S8x128) (extractStridedSlice S8x128 ![0, 640] v3606 slices_S8x768_o0_640_S8x128)) (Scalar.select (Scalar.cmpi .eq (Scalar.andi v3605 (1#32)) (1#32)) (broadcast S8x128 (Scalar.ofBits .f32 0xFF800000#32)) v3594))

def t83 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v3635 : Elt F .i32) (k0_hw121 : k0_chk121 x0 v1 v3635) (v3651 : V8) (v3654 : V8) (v3656 : BitVec 32) : Prog (TpuEff nD τ sig (Elt F) Λ₀ .tc) PUnit :=
  tailB x0 v1 k0_h1 x3 x10 v3635 k0_hw121 v3651 v3654 >>= fun _ => unitsP x0 v1 k0_h1 x3 x10 K v30 7 (by omega) v3651 v3654

def t84 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v3681 : V8) (v3684 : V8) (v3695 : Elt F .i32) (k0_hw123 : k0_chk123 x0 v1 v3695) (v3696 : FVec F S8x768 .f32) (v3699 : V8) (v3700 : V8) : Prog (TpuEff nD τ sig (Elt F) Λ₀ .tc) PUnit :=
  tailB x0 v1 k0_h1 x3 x10 v3695 k0_hw123 (maximumf (maximumf v3699 (maximumf v3700 (extractStridedSlice S8x128 ![0, 384] v3696 slices_S8x768_o0_384_S8x128))) (Scalar.select (Scalar.cmpi .eq (Scalar.andi v3695 (1#32)) (1#32)) (broadcast S8x128 (Scalar.ofBits .f32 0xFF800000#32)) v3681)) (maximumf (maximumf (extractStridedSlice S8x128 ![0, 512] v3696 slices_S8x768_o0_512_S8x128) (extractStridedSlice S8x128 ![0, 640] v3696 slices_S8x768_o0_640_S8x128)) (Scalar.select (Scalar.cmpi .eq (Scalar.andi v3695 (1#32)) (1#32)) (broadcast S8x128 (Scalar.ofBits .f32 0xFF800000#32)) v3684)) >>= fun _ => unitsP x0 v1 k0_h1 x3 x10 K v30 5 (by omega) (maximumf (maximumf v3699 (maximumf v3700 (extractStridedSlice S8x128 ![0, 384] v3696 slices_S8x768_o0_384_S8x128))) (Scalar.select (Scalar.cmpi .eq (Scalar.andi v3695 (1#32)) (1#32)) (broadcast S8x128 (Scalar.ofBits .f32 0xFF800000#32)) v3681)) (maximumf (maximumf (extractStridedSlice S8x128 ![0, 512] v3696 slices_S8x768_o0_512_S8x128) (extractStridedSlice S8x128 ![0, 640] v3696 slices_S8x768_o0_640_S8x128)) (Scalar.select (Scalar.cmpi .eq (Scalar.andi v3695 (1#32)) (1#32)) (broadcast S8x128 (Scalar.ofBits .f32 0xFF800000#32)) v3684))

def t85 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v3725 : Elt F .i32) (k0_hw124 : k0_chk124 x0 v1 v3725) (v3741 : V8) (v3744 : V8) (c1_i32_881 : BitVec 32) : Prog (TpuEff nD τ sig (Elt F) Λ₀ .tc) PUnit :=
  tailB x0 v1 k0_h1 x3 x10 v3725 k0_hw124 v3741 v3744 >>= fun _ => unitsP x0 v1 k0_h1 x3 x10 K v30 4 (by omega) v3741 v3744

def t86 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v3771 : V8) (v3774 : V8) (v3785 : Elt F .i32) (k0_hw126 : k0_chk126 x0 v1 v3785) (v3786 : FVec F S8x768 .f32) (v3787 : V8) : Prog (TpuEff nD τ sig (Elt F) Λ₀ .tc) PUnit :=
  tailB x0 v1 k0_h1 x3 x10 v3785 k0_hw126 (maximumf (maximumf (maximumf v3787 (extractStridedSlice S8x128 ![0, 128] v3786 slices_S8x768_o0_128_S8x128)) (maximumf (extractStridedSlice S8x128 ![0, 256] v3786 slices_S8x768_o0_256_S8x128) (extractStridedSlice S8x128 ![0, 384] v3786 slices_S8x768_o0_384_S8x128))) (Scalar.select (Scalar.cmpi .eq (Scalar.andi v3785 (1#32)) (1#32)) (broadcast S8x128 (Scalar.ofBits .f32 0xFF800000#32)) v3771)) (maximumf (maximumf (extractStridedSlice S8x128 ![0, 512] v3786 slices_S8x768_o0_512_S8x128) (extractStridedSlice S8x128 ![0, 640] v3786 slices_S8x768_o0_640_S8x128)) (Scalar.select (Scalar.cmpi .eq (Scalar.andi v3785 (1#32)) (1#32)) (broadcast S8x128 (Scalar.ofBits .f32 0xFF800000#32)) v3774)) >>= fun _ => unitsP x0 v1 k0_h1 x3 x10 K v30 2 (by omega) (maximumf (maximumf (maximumf v3787 (extractStridedSlice S8x128 ![0, 128] v3786 slices_S8x768_o0_128_S8x128)) (maximumf (extractStridedSlice S8x128 ![0, 256] v3786 slices_S8x768_o0_256_S8x128) (extractStridedSlice S8x128 ![0, 384] v3786 slices_S8x768_o0_384_S8x128))) (Scalar.select (Scalar.cmpi .eq (Scalar.andi v3785 (1#32)) (1#32)) (broadcast S8x128 (Scalar.ofBits .f32 0xFF800000#32)) v3771)) (maximumf (maximumf (extractStridedSlice S8x128 ![0, 512] v3786 slices_S8x768_o0_512_S8x128) (extractStridedSlice S8x128 ![0, 640] v3786 slices_S8x768_o0_640_S8x128)) (Scalar.select (Scalar.cmpi .eq (Scalar.andi v3785 (1#32)) (1#32)) (broadcast S8x128 (Scalar.ofBits .f32 0xFF800000#32)) v3774))

def t87 (x0 v1 : BitVec 32) (k0_h1 : k0_cond1 x0 v1 = 1#1) (x3 : Memref sig .tc .smem S128 .i32) (x10 : Memref sig .tc .vmem S7688x256 .f32) (K : V8 → V8 → Prog (TpuEff nD τ sig (Elt F) Λ₀ .tc) PUnit) (v30 : FVec F S1024x768 .f32) (v3804 : V8) (v3815 : Elt F .i32) (k0_hw127 : k0_chk127 x0 v1 v3815) (v3826 : V8) (v3828 : BitVec 1) (v3831 : V8) (v3832 : V8) : Prog (TpuEff nD τ sig (Elt F) Λ₀ .tc) PUnit :=
  tailB x0 v1 k0_h1 x3 x10 v3815 k0_hw127 v3831 (maximumf v3826 (Scalar.select v3828 v3832 v3804)) >>= fun _ => unitsP x0 v1 k0_h1 x3 x10 K v30 1 (by omega) v3831 (maximumf v3826 (Scalar.select v3828 v3832 v3804))

variable (b : grid0.Bounds) (i : grid0.Static) (x0 : BitVec 32) (x1 : Memref sig .tc .smem S3 .i32) (y1 : x1.IsWhole) (x2 : Memref sig .tc .vmem S1024x128 .i32) (y2 : x2.IsWhole) (x3 : Memref sig .tc .smem S128 .i32) (y3 : x3.IsWhole) (x4 : Memref sig .tc .vmem S256x768 .bf16) (y4 : x4.IsWhole) (x5 : Memref sig .tc .vmem S60x128 .i32) (y5 : x5.IsWhole) (x6 : Memref sig .tc .hbm S192x30208 .f32) (y6 : x6.IsWhole) (x7 : Memref sig .tc .hbm S6x30208 .f32) (y7 : x7.IsWhole) (x8 : Memref sig .tc .vmem S192x512 .f32) (y8 : x8.IsWhole) (x9 : Memref sig .tc .vmem S6x512 .f32) (y9 : x9.IsWhole) (x10 : Memref sig .tc .vmem S7688x256 .f32) (y10 : x10.IsWhole) (x11 : Memref sig .tc .vmem S2x8x128 .f32) (y11 : x11.IsWhole) (x12 : Memref sig .tc .vmem S1024x768 .f32) (y12 : x12.IsWhole) (v1 : Elt F .i32) (k0_h1 : k0_cond1 x0 v1 = 1#1)

theorem step45 (v30 : FVec F S1024x768 .f32) (v1925 : Elt F .i32) (k0_hw64 : k0_chk64 x0 v1 v1925) (v1941 : V8) (v1944 : V8) (c1_i32_461 : BitVec 32) (K : V8 → V8 → Prog (TpuEff nD τ sig (Elt F) Λ₀ .tc) PUnit) :
    (k0_part45 b i x0 x1 y1 x2 y2 x3 y3 x4 y4 x5 y5 x6 y6 x7 y7 x8 y8 x9 y9 x10 y10 x11 y11 x12 y12 v1 k0_h1 v30 v1925 k0_hw64 v1941 v1944 c1_i32_461 >>= fun r => t45 x0 v1 k0_h1 x3 x10 K v30 r.1 r.2.1 r.2.2.1 r.2.2.2.1 r.2.2.2.2.1 r.2.2.2.2.2) = t44 x0 v1 k0_h1 x3 x10 K v30 v1925 k0_hw64 v1941 v1944 c1_i32_461 := by
  unfold k0_part45; rfl

theorem step46 (v30 : FVec F S1024x768 .f32) (v1971 : V8) (v1974 : V8) (v1985 : Elt F .i32) (k0_hw66 : k0_chk66 x0 v1 v1985) (v1986 : FVec F S8x768 .f32) (v1987 : V8) (K : V8 → V8 → Prog (TpuEff nD τ sig (Elt F) Λ₀ .tc) PUnit) :
    (k0_part46 b i x0 x1 y1 x2 y2 x3 y3 x4 y4 x5 y5 x6 y6 x7 y7 x8 y8 x9 y9 x10 y10 x11 y11 x12 y12 v1 k0_h1 v30 v1971 v1974 v1985 k0_hw66 v1986 v1987 >>= fun r => t46 x0 v1 k0_h1 x3 x10 K v30 r.1 r.2.1 r.2.2.1 r.2.2.2.1 r.2.2.2.2.1 r.2.2.2.2.2.1 r.2.2.2.2.2.2) = t45 x0 v1 k0_h1 x3 x10 K v30 v1971 v1974 v1985 k0_hw66 v1986 v1987 := by
  unfold k0_part46; rfl

theorem step47 (v30 : FVec F S1024x768 .f32) (v2004 : V8) (v2015 : Elt F .i32) (k0_hw67 : k0_chk67 x0 v1 v2015) (v2026 : V8) (v2028 : BitVec 1) (v2031 : V8) (v2032 : V8) (K : V8 → V8 → Prog (TpuEff nD τ sig (Elt F) Λ₀ .tc) PUnit) :
    (k0_part47 b i x0 x1 y1 x2 y2 x3 y3 x4 y4 x5 y5 x6 y6 x7 y7 x8 y8 x9 y9 x10 y10 x11 y11 x12 y12 v1 k0_h1 v30 v2004 v2015 k0_hw67 v2026 v2028 v2031 v2032 >>= fun r => t47 x0 v1 k0_h1 x3 x10 K v30 r.1 r.2.1 r.2.2) = t46 x0 v1 k0_h1 x3 x10 K v30 v2004 v2015 k0_hw67 v2026 v2028 v2031 v2032 := by
  unfold k0_part47; rfl

theorem step48 (v30 : FVec F S1024x768 .f32) (v2061 : V8) (v2064 : V8) (v2075 : Elt F .i32) (K : V8 → V8 → Prog (TpuEff nD τ sig (Elt F) Λ₀ .tc) PUnit) :
    (k0_part48 b i x0 x1 y1 x2 y2 x3 y3 x4 y4 x5 y5 x6 y6 x7 y7 x8 y8 x9 y9 x10 y10 x11 y11 x12 y12 v1 k0_h1 v30 v2061 v2064 v2075 >>= fun r => t48 x0 v1 k0_h1 x3 x10 K v30 r.1 r.2.1 r.2.2.1 r.2.2.2.1 r.2.2.2.2.1 r.2.2.2.2.2.1 r.2.2.2.2.2.2) = t47 x0 v1 k0_h1 x3 x10 K v30 v2061 v2064 v2075 := by
  unfold k0_part48; rfl

theorem step49 (v30 : FVec F S1024x768 .f32) (v2094 : V8) (v2105 : Elt F .i32) (k0_hw70 : k0_chk70 x0 v1 v2105) (v2113 : V8) (v2116 : V8) (v2118 : BitVec 1) (v2120 : V8) (K : V8 → V8 → Prog (TpuEff nD τ sig (Elt F) Λ₀ .tc) PUnit) :
    (k0_part49 b i x0 x1 y1 x2 y2 x3 y3 x4 y4 x5 y5 x6 y6 x7 y7 x8 y8 x9 y9 x10 y10 x11 y11 x12 y12 v1 k0_h1 v30 v2094 v2105 k0_hw70 v2113 v2116 v2118 v2120 >>= fun r => t49 x0 v1 k0_h1 x3 x10 K v30 r.1 r.2.1 r.2.2.1 r.2.2.2.1 r.2.2.2.2) = t48 x0 v1 k0_h1 x3 x10 K v30 v2094 v2105 k0_hw70 v2113 v2116 v2118 v2120 := by
  unfold k0_part49; rfl

theorem step50 (v30 : FVec F S1024x768 .f32) (v2135 : Elt F .i32) (k0_hw71 : k0_chk71 x0 v1 v2135) (v2151 : V8) (v2154 : V8) (v2164 : V8) (K : V8 → V8 → Prog (TpuEff nD τ sig (Elt F) Λ₀ .tc) PUnit) :
    (k0_part50 b i x0 x1 y1 x2 y2 x3 y3 x4 y4 x5 y5 x6 y6 x7 y7 x8 y8 x9 y9 x10 y10 x11 y11 x12 y12 v1 k0_h1 v30 v2135 k0_hw71 v2151 v2154 v2164 >>= fun r => t50 x0 v1 k0_h1 x3 x10 K v30 r.1 r.2.1 r.2.2.1 r.2.2.2.1 r.2.2.2.2.1 r.2.2.2.2.2.1 r.2.2.2.2.2.2) = t49 x0 v1 k0_h1 x3 x10 K v30 v2135 k0_hw71 v2151 v2154 v2164 := by
  unfold k0_part50; rfl

theorem step51 (v30 : FVec F S1024x768 .f32) (v2181 : V8) (v2184 : V8) (v2195 : Elt F .i32) (k0_hw73 : k0_chk73 x0 v1 v2195) (v2203 : V8) (v2206 : V8) (v2208 : BitVec 1) (K : V8 → V8 → Prog (TpuEff nD τ sig (Elt F) Λ₀ .tc) PUnit) :
    (k0_part51 b i x0 x1 y1 x2 y2 x3 y3 x4 y4 x5 y5 x6 y6 x7 y7 x8 y8 x9 y9 x10 y10 x11 y11 x12 y12 v1 k0_h1 v30 v2181 v2184 v2195 k0_hw73 v2203 v2206 v2208 >>= fun r => t51 x0 v1 k0_h1 x3 x10 K v30 r.1 r.2.1 r.2.2.1 r.2.2.2) = t50 x0 v1 k0_h1 x3 x10 K v30 v2181 v2184 v2195 k0_hw73 v2203 v2206 v2208 := by
  unfold k0_part51; rfl

theorem step52 (v30 : FVec F S1024x768 .f32) (v2225 : Elt F .i32) (k0_hw74 : k0_chk74 x0 v1 v2225) (v2241 : V8) (v2244 : V8) (K : V8 → V8 → Prog (TpuEff nD τ sig (Elt F) Λ₀ .tc) PUnit) :
    (k0_part52 b i x0 x1 y1 x2 y2 x3 y3 x4 y4 x5 y5 x6 y6 x7 y7 x8 y8 x9 y9 x10 y10 x11 y11 x12 y12 v1 k0_h1 v30 v2225 k0_hw74 v2241 v2244 >>= fun r => t52 x0 v1 k0_h1 x3 x10 K v30 r.1 r.2.1 r.2.2.1 r.2.2.2.1 r.2.2.2.2.1 r.2.2.2.2.2.1 r.2.2.2.2.2.2) = t51 x0 v1 k0_h1 x3 x10 K v30 v2225 k0_hw74 v2241 v2244 := by
  unfold k0_part52; rfl

theorem step53 (v30 : FVec F S1024x768 .f32) (v2271 : V8) (v2274 : V8) (v2285 : Elt F .i32) (k0_hw76 : k0_chk76 x0 v1 v2285) (v2293 : V8) (v2296 : V8) (c1_i32_541 : BitVec 32) (K : V8 → V8 → Prog (TpuEff nD τ sig (Elt F) Λ₀ .tc) PUnit) :
    (k0_part53 b i x0 x1 y1 x2 y2 x3 y3 x4 y4 x5 y5 x6 y6 x7 y7 x8 y8 x9 y9 x10 y10 x11 y11 x12 y12 v1 k0_h1 v30 v2271 v2274 v2285 k0_hw76 v2293 v2296 c1_i32_541 >>= fun r => t53 x0 v1 k0_h1 x3 x10 K v30 r.1 r.2.1 r.2.2.1 r.2.2.2.1 r.2.2.2.2.1 r.2.2.2.2.2) = t52 x0 v1 k0_h1 x3 x10 K v30 v2271 v2274 v2285 k0_hw76 v2293 v2296 c1_i32_541 := by
  unfold k0_part53; rfl

theorem step54 (v30 : FVec F S1024x768 .f32) (v2315 : Elt F .i32) (k0_hw77 : k0_chk77 x0 v1 v2315) (v2331 : V8) (v2334 : V8) (v2336 : BitVec 32) (v2340 : V8) (K : V8 → V8 → Prog (TpuEff nD τ sig (Elt F) Λ₀ .tc) PUnit) :
    (k0_part54 b i x0 x1 y1 x2 y2 x3 y3 x4 y4 x5 y5 x6 y6 x7 y7 x8 y8 x9 y9 x10 y10 x11 y11 x12 y12 v1 k0_h1 v30 v2315 k0_hw77 v2331 v2334 v2336 v2340 >>= fun r => t54 x0 v1 k0_h1 x3 x10 K v30 r.1 r.2.1 r.2.2.1 r.2.2.2.1 r.2.2.2.2.1 r.2.2.2.2.2.1 r.2.2.2.2.2.2) = t53 x0 v1 k0_h1 x3 x10 K v30 v2315 k0_hw77 v2331 v2334 v2336 v2340 := by
  unfold k0_part54; rfl

theorem step55 (v30 : FVec F S1024x768 .f32) (v2361 : V8) (v2364 : V8) (v2375 : Elt F .i32) (k0_hw79 : k0_chk79 x0 v1 v2375) (v2376 : FVec F S8x768 .f32) (v2383 : V8) (v2384 : V8) (K : V8 → V8 → Prog (TpuEff nD τ sig (Elt F) Λ₀ .tc) PUnit) :
    (k0_part55 b i x0 x1 y1 x2 y2 x3 y3 x4 y4 x5 y5 x6 y6 x7 y7 x8 y8 x9 y9 x10 y10 x11 y11 x12 y12 v1 k0_h1 v30 v2361 v2364 v2375 k0_hw79 v2376 v2383 v2384 >>= fun r => t55 x0 v1 k0_h1 x3 x10 K v30 r.1 r.2.1 r.2.2.1 r.2.2.2.1 r.2.2.2.2) = t54 x0 v1 k0_h1 x3 x10 K v30 v2361 v2364 v2375 k0_hw79 v2376 v2383 v2384 := by
  unfold k0_part55; rfl

theorem step56 (v30 : FVec F S1024x768 .f32) (v2405 : Elt F .i32) (k0_hw80 : k0_chk80 x0 v1 v2405) (v2421 : V8) (v2424 : V8) (v2426 : BitVec 32) (K : V8 → V8 → Prog (TpuEff nD τ sig (Elt F) Λ₀ .tc) PUnit) :
    (k0_part56 b i x0 x1 y1 x2 y2 x3 y3 x4 y4 x5 y5 x6 y6 x7 y7 x8 y8 x9 y9 x10 y10 x11 y11 x12 y12 v1 k0_h1 v30 v2405 k0_hw80 v2421 v2424 v2426 >>= fun r => t56 x0 v1 k0_h1 x3 x10 K v30 r.1 r.2.1 r.2.2.1 r.2.2.2.1 r.2.2.2.2.1 r.2.2.2.2.2.1 r.2.2.2.2.2.2.1 r.2.2.2.2.2.2.2) = t55 x0 v1 k0_h1 x3 x10 K v30 v2405 k0_hw80 v2421 v2424 v2426 := by
  unfold k0_part56; rfl

theorem step57 (v30 : FVec F S1024x768 .f32) (v2451 : V8) (v2454 : V8) (v2465 : Elt F .i32) (k0_hw82 : k0_chk82 x0 v1 v2465) (v2466 : FVec F S8x768 .f32) (v2469 : V8) (v2470 : V8) (v2471 : V8) (K : V8 → V8 → Prog (TpuEff nD τ sig (Elt F) Λ₀ .tc) PUnit) :
    (k0_part57 b i x0 x1 y1 x2 y2 x3 y3 x4 y4 x5 y5 x6 y6 x7 y7 x8 y8 x9 y9 x10 y10 x11 y11 x12 y12 v1 k0_h1 v30 v2451 v2454 v2465 k0_hw82 v2466 v2469 v2470 v2471 >>= fun r => t57 x0 v1 k0_h1 x3 x10 K v30 r.1 r.2.1 r.2.2.1 r.2.2.2.1 r.2.2.2.2) = t56 x0 v1 k0_h1 x3 x10 K v30 v2451 v2454 v2465 k0_hw82 v2466 v2469 v2470 v2471 := by
  unfold k0_part57; rfl

theorem step58 (v30 : FVec F S1024x768 .f32) (v2495 : Elt F .i32) (k0_hw83 : k0_chk83 x0 v1 v2495) (v2511 : V8) (v2514 : V8) (v2515 : BitVec 32) (K : V8 → V8 → Prog (TpuEff nD τ sig (Elt F) Λ₀ .tc) PUnit) :
    (k0_part58 b i x0 x1 y1 x2 y2 x3 y3 x4 y4 x5 y5 x6 y6 x7 y7 x8 y8 x9 y9 x10 y10 x11 y11 x12 y12 v1 k0_h1 v30 v2495 k0_hw83 v2511 v2514 v2515 >>= fun r => t58 x0 v1 k0_h1 x3 x10 K v30 r.1 r.2.1 r.2.2.1 r.2.2.2.1 r.2.2.2.2.1 r.2.2.2.2.2.1 r.2.2.2.2.2.2) = t57 x0 v1 k0_h1 x3 x10 K v30 v2495 k0_hw83 v2511 v2514 v2515 := by
  unfold k0_part58; rfl

theorem step59 (v30 : FVec F S1024x768 .f32) (v2541 : V8) (v2544 : V8) (v2555 : Elt F .i32) (k0_hw85 : k0_chk85 x0 v1 v2555) (v2556 : FVec F S8x768 .f32) (v2557 : V8) (v2558 : V8) (K : V8 → V8 → Prog (TpuEff nD τ sig (Elt F) Λ₀ .tc) PUnit) :
    (k0_part59 b i x0 x1 y1 x2 y2 x3 y3 x4 y4 x5 y5 x6 y6 x7 y7 x8 y8 x9 y9 x10 y10 x11 y11 x12 y12 v1 k0_h1 v30 v2541 v2544 v2555 k0_hw85 v2556 v2557 v2558 >>= fun r => t59 x0 v1 k0_h1 x3 x10 K v30 r.1 r.2.1 r.2.2.1 r.2.2.2.1 r.2.2.2.2) = t58 x0 v1 k0_h1 x3 x10 K v30 v2541 v2544 v2555 k0_hw85 v2556 v2557 v2558 := by
  unfold k0_part59; rfl

theorem step60 (v30 : FVec F S1024x768 .f32) (v2585 : Elt F .i32) (k0_hw86 : k0_chk86 x0 v1 v2585) (v2596 : V8) (v2601 : V8) (v2603 : V8) (K : V8 → V8 → Prog (TpuEff nD τ sig (Elt F) Λ₀ .tc) PUnit) :
    (k0_part60 b i x0 x1 y1 x2 y2 x3 y3 x4 y4 x5 y5 x6 y6 x7 y7 x8 y8 x9 y9 x10 y10 x11 y11 x12 y12 v1 k0_h1 v30 v2585 k0_hw86 v2596 v2601 v2603 >>= fun r => t60 x0 v1 k0_h1 x3 x10 K v30 r.1 r.2.1 r.2.2.1 r.2.2.2) = t59 x0 v1 k0_h1 x3 x10 K v30 v2585 k0_hw86 v2596 v2601 v2603 := by
  unfold k0_part60; rfl

theorem step61 (v30 : FVec F S1024x768 .f32) (v2631 : V8) (v2634 : V8) (v2645 : Elt F .i32) (k0_hw88 : k0_chk88 x0 v1 v2645) (K : V8 → V8 → Prog (TpuEff nD τ sig (Elt F) Λ₀ .tc) PUnit) :
    (k0_part61 b i x0 x1 y1 x2 y2 x3 y3 x4 y4 x5 y5 x6 y6 x7 y7 x8 y8 x9 y9 x10 y10 x11 y11 x12 y12 v1 k0_h1 v30 v2631 v2634 v2645 k0_hw88 >>= fun r => t61 x0 v1 k0_h1 x3 x10 K v30 r.1 r.2.1 r.2.2.1 r.2.2.2.1 r.2.2.2.2.1 r.2.2.2.2.2) = t60 x0 v1 k0_h1 x3 x10 K v30 v2631 v2634 v2645 k0_hw88 := by
  unfold k0_part61; rfl

theorem step62 (v30 : FVec F S1024x768 .f32) (v2664 : V8) (v2675 : Elt F .i32) (k0_hw89 : k0_chk89 x0 v1 v2675) (v2686 : V8) (v2688 : BitVec 1) (v2691 : V8) (K : V8 → V8 → Prog (TpuEff nD τ sig (Elt F) Λ₀ .tc) PUnit) :
    (k0_part62 b i x0 x1 y1 x2 y2 x3 y3 x4 y4 x5 y5 x6 y6 x7 y7 x8 y8 x9 y9 x10 y10 x11 y11 x12 y12 v1 k0_h1 v30 v2664 v2675 k0_hw89 v2686 v2688 v2691 >>= fun r => t62 x0 v1 k0_h1 x3 x10 K v30 r.1 r.2) = t61 x0 v1 k0_h1 x3 x10 K v30 v2664 v2675 k0_hw89 v2686 v2688 v2691 := by
  unfold k0_part62; rfl

theorem step63 (v30 : FVec F S1024x768 .f32) (v2721 : V8) (v2724 : V8) (K : V8 → V8 → Prog (TpuEff nD τ sig (Elt F) Λ₀ .tc) PUnit) :
    (k0_part63 b i x0 x1 y1 x2 y2 x3 y3 x4 y4 x5 y5 x6 y6 x7 y7 x8 y8 x9 y9 x10 y10 x11 y11 x12 y12 v1 k0_h1 v30 v2721 v2724 >>= fun r => t63 x0 v1 k0_h1 x3 x10 K v30 r.1 r.2.1 r.2.2.1 r.2.2.2.1 r.2.2.2.2.1 r.2.2.2.2.2.1 r.2.2.2.2.2.2.1 r.2.2.2.2.2.2.2) = t62 x0 v1 k0_h1 x3 x10 K v30 v2721 v2724 := by
  unfold k0_part63; rfl

theorem step64 (v30 : FVec F S1024x768 .f32) (v2751 : V8) (v2754 : V8) (v2765 : Elt F .i32) (k0_hw92 : k0_chk92 x0 v1 v2765) (v2773 : V8) (v2776 : V8) (v2778 : BitVec 1) (cst_655 : F .f32) (K : V8 → V8 → Prog (TpuEff nD τ sig (Elt F) Λ₀ .tc) PUnit) :
    (k0_part64 b i x0 x1 y1 x2 y2 x3 y3 x4 y4 x5 y5 x6 y6 x7 y7 x8 y8 x9 y9 x10 y10 x11 y11 x12 y12 v1 k0_h1 v30 v2751 v2754 v2765 k0_hw92 v2773 v2776 v2778 cst_655 >>= fun r => t64 x0 v1 k0_h1 x3 x10 K v30 r.1 r.2.1 r.2.2.1 r.2.2.2.1 r.2.2.2.2) = t63 x0 v1 k0_h1 x3 x10 K v30 v2751 v2754 v2765 k0_hw92 v2773 v2776 v2778 cst_655 := by
  unfold k0_part64; rfl

theorem step65 (v30 : FVec F S1024x768 .f32) (v2795 : Elt F .i32) (k0_hw93 : k0_chk93 x0 v1 v2795) (v2811 : V8) (v2814 : V8) (v2822 : Vec F S8x128 .f32) (K : V8 → V8 → Prog (TpuEff nD τ sig (Elt F) Λ₀ .tc) PUnit) :
    (k0_part65 b i x0 x1 y1 x2 y2 x3 y3 x4 y4 x5 y5 x6 y6 x7 y7 x8 y8 x9 y9 x10 y10 x11 y11 x12 y12 v1 k0_h1 v30 v2795 k0_hw93 v2811 v2814 v2822 >>= fun r => t65 x0 v1 k0_h1 x3 x10 K v30 r.1 r.2.1 r.2.2.1 r.2.2.2.1 r.2.2.2.2.1 r.2.2.2.2.2.1 r.2.2.2.2.2.2) = t64 x0 v1 k0_h1 x3 x10 K v30 v2795 k0_hw93 v2811 v2814 v2822 := by
  unfold k0_part65; rfl

theorem step66 (v30 : FVec F S1024x768 .f32) (v2841 : V8) (v2844 : V8) (v2855 : Elt F .i32) (k0_hw95 : k0_chk95 x0 v1 v2855) (v2863 : V8) (v2866 : V8) (v2867 : BitVec 32) (K : V8 → V8 → Prog (TpuEff nD τ sig (Elt F) Λ₀ .tc) PUnit) :
    (k0_part66 b i x0 x1 y1 x2 y2 x3 y3 x4 y4 x5 y5 x6 y6 x7 y7 x8 y8 x9 y9 x10 y10 x11 y11 x12 y12 v1 k0_h1 v30 v2841 v2844 v2855 k0_hw95 v2863 v2866 v2867 >>= fun r => t66 x0 v1 k0_h1 x3 x10 K v30 r.1 r.2.1 r.2.2.1 r.2.2.2.1 r.2.2.2.2) = t65 x0 v1 k0_h1 x3 x10 K v30 v2841 v2844 v2855 k0_hw95 v2863 v2866 v2867 := by
  unfold k0_part66; rfl

theorem step67 (v30 : FVec F S1024x768 .f32) (v2885 : Elt F .i32) (k0_hw96 : k0_chk96 x0 v1 v2885) (v2901 : V8) (v2904 : V8) (v2906 : BitVec 32) (K : V8 → V8 → Prog (TpuEff nD τ sig (Elt F) Λ₀ .tc) PUnit) :
    (k0_part67 b i x0 x1 y1 x2 y2 x3 y3 x4 y4 x5 y5 x6 y6 x7 y7 x8 y8 x9 y9 x10 y10 x11 y11 x12 y12 v1 k0_h1 v30 v2885 k0_hw96 v2901 v2904 v2906 >>= fun r => t67 x0 v1 k0_h1 x3 x10 K v30 r.1 r.2.1 r.2.2.1 r.2.2.2.1 r.2.2.2.2.1 r.2.2.2.2.2.1 r.2.2.2.2.2.2) = t66 x0 v1 k0_h1 x3 x10 K v30 v2885 k0_hw96 v2901 v2904 v2906 := by
  unfold k0_part67; rfl

theorem step68 (v30 : FVec F S1024x768 .f32) (v2931 : V8) (v2934 : V8) (v2945 : Elt F .i32) (k0_hw98 : k0_chk98 x0 v1 v2945) (v2953 : V8) (v2954 : V8) (v2955 : V8) (K : V8 → V8 → Prog (TpuEff nD τ sig (Elt F) Λ₀ .tc) PUnit) :
    (k0_part68 b i x0 x1 y1 x2 y2 x3 y3 x4 y4 x5 y5 x6 y6 x7 y7 x8 y8 x9 y9 x10 y10 x11 y11 x12 y12 v1 k0_h1 v30 v2931 v2934 v2945 k0_hw98 v2953 v2954 v2955 >>= fun r => t68 x0 v1 k0_h1 x3 x10 K v30 r.1 r.2.1 r.2.2.1 r.2.2.2.1 r.2.2.2.2.1 r.2.2.2.2.2) = t67 x0 v1 k0_h1 x3 x10 K v30 v2931 v2934 v2945 k0_hw98 v2953 v2954 v2955 := by
  unfold k0_part68; rfl

theorem step69 (v30 : FVec F S1024x768 .f32) (v2975 : Elt F .i32) (k0_hw99 : k0_chk99 x0 v1 v2975) (v2991 : V8) (v2994 : V8) (v2996 : BitVec 32) (v2998 : Vec F S8x128 .f32) (K : V8 → V8 → Prog (TpuEff nD τ sig (Elt F) Λ₀ .tc) PUnit) :
    (k0_part69 b i x0 x1 y1 x2 y2 x3 y3 x4 y4 x5 y5 x6 y6 x7 y7 x8 y8 x9 y9 x10 y10 x11 y11 x12 y12 v1 k0_h1 v30 v2975 k0_hw99 v2991 v2994 v2996 v2998 >>= fun r => t69 x0 v1 k0_h1 x3 x10 K v30 r.1 r.2.1 r.2.2.1 r.2.2.2.1 r.2.2.2.2.1 r.2.2.2.2.2.1 r.2.2.2.2.2.2) = t68 x0 v1 k0_h1 x3 x10 K v30 v2975 k0_hw99 v2991 v2994 v2996 v2998 := by
  unfold k0_part69; rfl

theorem step70 (v30 : FVec F S1024x768 .f32) (v3021 : V8) (v3024 : V8) (v3035 : Elt F .i32) (k0_hw101 : k0_chk101 x0 v1 v3035) (v3036 : FVec F S8x768 .f32) (v3039 : V8) (v3042 : V8) (K : V8 → V8 → Prog (TpuEff nD τ sig (Elt F) Λ₀ .tc) PUnit) :
    (k0_part70 b i x0 x1 y1 x2 y2 x3 y3 x4 y4 x5 y5 x6 y6 x7 y7 x8 y8 x9 y9 x10 y10 x11 y11 x12 y12 v1 k0_h1 v30 v3021 v3024 v3035 k0_hw101 v3036 v3039 v3042 >>= fun r => t70 x0 v1 k0_h1 x3 x10 K v30 r.1 r.2.1 r.2.2.1 r.2.2.2.1 r.2.2.2.2) = t69 x0 v1 k0_h1 x3 x10 K v30 v3021 v3024 v3035 k0_hw101 v3036 v3039 v3042 := by
  unfold k0_part70; rfl

theorem step71 (v30 : FVec F S1024x768 .f32) (v3065 : Elt F .i32) (k0_hw102 : k0_chk102 x0 v1 v3065) (v3081 : V8) (v3084 : V8) (v3086 : BitVec 32) (K : V8 → V8 → Prog (TpuEff nD τ sig (Elt F) Λ₀ .tc) PUnit) :
    (k0_part71 b i x0 x1 y1 x2 y2 x3 y3 x4 y4 x5 y5 x6 y6 x7 y7 x8 y8 x9 y9 x10 y10 x11 y11 x12 y12 v1 k0_h1 v30 v3065 k0_hw102 v3081 v3084 v3086 >>= fun r => t71 x0 v1 k0_h1 x3 x10 K v30 r.1 r.2.1 r.2.2.1 r.2.2.2.1 r.2.2.2.2.1 r.2.2.2.2.2) = t70 x0 v1 k0_h1 x3 x10 K v30 v3065 k0_hw102 v3081 v3084 v3086 := by
  unfold k0_part71; rfl

theorem step72 (v30 : FVec F S1024x768 .f32) (v3111 : V8) (v3114 : V8) (v3125 : Elt F .i32) (k0_hw104 : k0_chk104 x0 v1 v3125) (v3126 : FVec F S8x768 .f32) (v3129 : V8) (K : V8 → V8 → Prog (TpuEff nD τ sig (Elt F) Λ₀ .tc) PUnit) :
    (k0_part72 b i x0 x1 y1 x2 y2 x3 y3 x4 y4 x5 y5 x6 y6 x7 y7 x8 y8 x9 y9 x10 y10 x11 y11 x12 y12 v1 k0_h1 v30 v3111 v3114 v3125 k0_hw104 v3126 v3129 >>= fun r => t72 x0 v1 k0_h1 x3 x10 K v30 r.1 r.2.1 r.2.2.1 r.2.2.2) = t71 x0 v1 k0_h1 x3 x10 K v30 v3111 v3114 v3125 k0_hw104 v3126 v3129 := by
  unfold k0_part72; rfl

theorem step73 (v30 : FVec F S1024x768 .f32) (v3155 : Elt F .i32) (k0_hw105 : k0_chk105 x0 v1 v3155) (v3171 : V8) (v3174 : V8) (K : V8 → V8 → Prog (TpuEff nD τ sig (Elt F) Λ₀ .tc) PUnit) :
    (k0_part73 b i x0 x1 y1 x2 y2 x3 y3 x4 y4 x5 y5 x6 y6 x7 y7 x8 y8 x9 y9 x10 y10 x11 y11 x12 y12 v1 k0_h1 v30 v3155 k0_hw105 v3171 v3174 >>= fun r => t73 x0 v1 k0_h1 x3 x10 K v30 r.1 r.2.1 r.2.2.1 r.2.2.2.1 r.2.2.2.2) = t72 x0 v1 k0_h1 x3 x10 K v30 v3155 k0_hw105 v3171 v3174 := by
  unfold k0_part73; rfl

theorem step74 (v30 : FVec F S1024x768 .f32) (v3201 : V8) (v3204 : V8) (v3215 : Elt F .i32) (k0_hw107 : k0_chk107 x0 v1 v3215) (v3216 : FVec F S8x768 .f32) (K : V8 → V8 → Prog (TpuEff nD τ sig (Elt F) Λ₀ .tc) PUnit) :
    (k0_part74 b i x0 x1 y1 x2 y2 x3 y3 x4 y4 x5 y5 x6 y6 x7 y7 x8 y8 x9 y9 x10 y10 x11 y11 x12 y12 v1 k0_h1 v30 v3201 v3204 v3215 k0_hw107 v3216 >>= fun r => t74 x0 v1 k0_h1 x3 x10 K v30 r.1 r.2.1 r.2.2.1 r.2.2.2.1 r.2.2.2.2.1 r.2.2.2.2.2.1 r.2.2.2.2.2.2) = t73 x0 v1 k0_h1 x3 x10 K v30 v3201 v3204 v3215 k0_hw107 v3216 := by
  unfold k0_part74; rfl

theorem step75 (v30 : FVec F S1024x768 .f32) (v3234 : V8) (v3245 : Elt F .i32) (k0_hw108 : k0_chk108 x0 v1 v3245) (v3256 : V8) (v3258 : BitVec 1) (v3261 : V8) (cst_768 : F .f32) (K : V8 → V8 → Prog (TpuEff nD τ sig (Elt F) Λ₀ .tc) PUnit) :
    (k0_part75 b i x0 x1 y1 x2 y2 x3 y3 x4 y4 x5 y5 x6 y6 x7 y7 x8 y8 x9 y9 x10 y10 x11 y11 x12 y12 v1 k0_h1 v30 v3234 v3245 k0_hw108 v3256 v3258 v3261 cst_768 >>= fun r => t75 x0 v1 k0_h1 x3 x10 K v30 r.1 r.2) = t74 x0 v1 k0_h1 x3 x10 K v30 v3234 v3245 k0_hw108 v3256 v3258 v3261 cst_768 := by
  unfold k0_part75; rfl

theorem step76 (v30 : FVec F S1024x768 .f32) (v3291 : V8) (v3294 : V8) (K : V8 → V8 → Prog (TpuEff nD τ sig (Elt F) Λ₀ .tc) PUnit) :
    (k0_part76 b i x0 x1 y1 x2 y2 x3 y3 x4 y4 x5 y5 x6 y6 x7 y7 x8 y8 x9 y9 x10 y10 x11 y11 x12 y12 v1 k0_h1 v30 v3291 v3294 >>= fun r => t76 x0 v1 k0_h1 x3 x10 K v30 r.1 r.2.1 r.2.2.1 r.2.2.2.1 r.2.2.2.2.1 r.2.2.2.2.2.1 r.2.2.2.2.2.2.1 r.2.2.2.2.2.2.2) = t75 x0 v1 k0_h1 x3 x10 K v30 v3291 v3294 := by
  unfold k0_part76; rfl

theorem step77 (v30 : FVec F S1024x768 .f32) (v3321 : V8) (v3324 : V8) (v3335 : Elt F .i32) (k0_hw111 : k0_chk111 x0 v1 v3335) (v3343 : V8) (v3346 : V8) (v3348 : BitVec 1) (v3349 : V8) (K : V8 → V8 → Prog (TpuEff nD τ sig (Elt F) Λ₀ .tc) PUnit) :
    (k0_part77 b i x0 x1 y1 x2 y2 x3 y3 x4 y4 x5 y5 x6 y6 x7 y7 x8 y8 x9 y9 x10 y10 x11 y11 x12 y12 v1 k0_h1 v30 v3321 v3324 v3335 k0_hw111 v3343 v3346 v3348 v3349 >>= fun r => t77 x0 v1 k0_h1 x3 x10 K v30 r.1 r.2.1 r.2.2.1 r.2.2.2) = t76 x0 v1 k0_h1 x3 x10 K v30 v3321 v3324 v3335 k0_hw111 v3343 v3346 v3348 v3349 := by
  unfold k0_part77; rfl

theorem step78 (v30 : FVec F S1024x768 .f32) (v3365 : Elt F .i32) (k0_hw112 : k0_chk112 x0 v1 v3365) (v3381 : V8) (v3384 : V8) (K : V8 → V8 → Prog (TpuEff nD τ sig (Elt F) Λ₀ .tc) PUnit) :
    (k0_part78 b i x0 x1 y1 x2 y2 x3 y3 x4 y4 x5 y5 x6 y6 x7 y7 x8 y8 x9 y9 x10 y10 x11 y11 x12 y12 v1 k0_h1 v30 v3365 k0_hw112 v3381 v3384 >>= fun r => t78 x0 v1 k0_h1 x3 x10 K v30 r.1 r.2.1 r.2.2.1 r.2.2.2.1 r.2.2.2.2.1 r.2.2.2.2.2.1 r.2.2.2.2.2.2.1 r.2.2.2.2.2.2.2) = t77 x0 v1 k0_h1 x3 x10 K v30 v3365 k0_hw112 v3381 v3384 := by
  unfold k0_part78; rfl

theorem step79 (v30 : FVec F S1024x768 .f32) (v3411 : V8) (v3414 : V8) (v3425 : Elt F .i32) (k0_hw114 : k0_chk114 x0 v1 v3425) (v3433 : V8) (v3436 : V8) (v3437 : BitVec 32) (c1_i32_808 : BitVec 32) (K : V8 → V8 → Prog (TpuEff nD τ sig (Elt F) Λ₀ .tc) PUnit) :
    (k0_part79 b i x0 x1 y1 x2 y2 x3 y3 x4 y4 x5 y5 x6 y6 x7 y7 x8 y8 x9 y9 x10 y10 x11 y11 x12 y12 v1 k0_h1 v30 v3411 v3414 v3425 k0_hw114 v3433 v3436 v3437 c1_i32_808 >>= fun r => t79 x0 v1 k0_h1 x3 x10 K v30 r.1 r.2.1 r.2.2.1 r.2.2.2) = t78 x0 v1 k0_h1 x3 x10 K v30 v3411 v3414 v3425 k0_hw114 v3433 v3436 v3437 c1_i32_808 := by
  unfold k0_part79; rfl

theorem step80 (v30 : FVec F S1024x768 .f32) (v3455 : Elt F .i32) (k0_hw115 : k0_chk115 x0 v1 v3455) (v3471 : V8) (v3474 : V8) (K : V8 → V8 → Prog (TpuEff nD τ sig (Elt F) Λ₀ .tc) PUnit) :
    (k0_part80 b i x0 x1 y1 x2 y2 x3 y3 x4 y4 x5 y5 x6 y6 x7 y7 x8 y8 x9 y9 x10 y10 x11 y11 x12 y12 v1 k0_h1 v30 v3455 k0_hw115 v3471 v3474 >>= fun r => t80 x0 v1 k0_h1 x3 x10 K v30 r.1 r.2.1 r.2.2.1 r.2.2.2.1 r.2.2.2.2.1 r.2.2.2.2.2) = t79 x0 v1 k0_h1 x3 x10 K v30 v3455 k0_hw115 v3471 v3474 := by
  unfold k0_part80; rfl

theorem step81 (v30 : FVec F S1024x768 .f32) (v3501 : V8) (v3504 : V8) (v3515 : Elt F .i32) (k0_hw117 : k0_chk117 x0 v1 v3515) (v3523 : V8) (v3526 : V8) (K : V8 → V8 → Prog (TpuEff nD τ sig (Elt F) Λ₀ .tc) PUnit) :
    (k0_part81 b i x0 x1 y1 x2 y2 x3 y3 x4 y4 x5 y5 x6 y6 x7 y7 x8 y8 x9 y9 x10 y10 x11 y11 x12 y12 v1 k0_h1 v30 v3501 v3504 v3515 k0_hw117 v3523 v3526 >>= fun r => t81 x0 v1 k0_h1 x3 x10 K v30 r.1 r.2.1 r.2.2.1 r.2.2.2.1 r.2.2.2.2) = t80 x0 v1 k0_h1 x3 x10 K v30 v3501 v3504 v3515 k0_hw117 v3523 v3526 := by
  unfold k0_part81; rfl

theorem step82 (v30 : FVec F S1024x768 .f32) (v3545 : Elt F .i32) (k0_hw118 : k0_chk118 x0 v1 v3545) (v3561 : V8) (v3564 : V8) (v3566 : BitVec 32) (K : V8 → V8 → Prog (TpuEff nD τ sig (Elt F) Λ₀ .tc) PUnit) :
    (k0_part82 b i x0 x1 y1 x2 y2 x3 y3 x4 y4 x5 y5 x6 y6 x7 y7 x8 y8 x9 y9 x10 y10 x11 y11 x12 y12 v1 k0_h1 v30 v3545 k0_hw118 v3561 v3564 v3566 >>= fun r => t82 x0 v1 k0_h1 x3 x10 K v30 r.1 r.2.1 r.2.2.1 r.2.2.2.1 r.2.2.2.2.1 r.2.2.2.2.2) = t81 x0 v1 k0_h1 x3 x10 K v30 v3545 k0_hw118 v3561 v3564 v3566 := by
  unfold k0_part82; rfl

theorem step83 (v30 : FVec F S1024x768 .f32) (v3591 : V8) (v3594 : V8) (v3605 : Elt F .i32) (k0_hw120 : k0_chk120 x0 v1 v3605) (v3606 : FVec F S8x768 .f32) (v3613 : V8) (K : V8 → V8 → Prog (TpuEff nD τ sig (Elt F) Λ₀ .tc) PUnit) :
    (k0_part83 b i x0 x1 y1 x2 y2 x3 y3 x4 y4 x5 y5 x6 y6 x7 y7 x8 y8 x9 y9 x10 y10 x11 y11 x12 y12 v1 k0_h1 v30 v3591 v3594 v3605 k0_hw120 v3606 v3613 >>= fun r => t83 x0 v1 k0_h1 x3 x10 K v30 r.1 r.2.1 r.2.2.1 r.2.2.2.1 r.2.2.2.2) = t82 x0 v1 k0_h1 x3 x10 K v30 v3591 v3594 v3605 k0_hw120 v3606 v3613 := by
  unfold k0_part83; rfl

theorem step84 (v30 : FVec F S1024x768 .f32) (v3635 : Elt F .i32) (k0_hw121 : k0_chk121 x0 v1 v3635) (v3651 : V8) (v3654 : V8) (v3656 : BitVec 32) (K : V8 → V8 → Prog (TpuEff nD τ sig (Elt F) Λ₀ .tc) PUnit) :
    (k0_part84 b i x0 x1 y1 x2 y2 x3 y3 x4 y4 x5 y5 x6 y6 x7 y7 x8 y8 x9 y9 x10 y10 x11 y11 x12 y12 v1 k0_h1 v30 v3635 k0_hw121 v3651 v3654 v3656 >>= fun r => t84 x0 v1 k0_h1 x3 x10 K v30 r.1 r.2.1 r.2.2.1 r.2.2.2.1 r.2.2.2.2.1 r.2.2.2.2.2.1 r.2.2.2.2.2.2) = t83 x0 v1 k0_h1 x3 x10 K v30 v3635 k0_hw121 v3651 v3654 v3656 := by
  unfold k0_part84; rfl

theorem step85 (v30 : FVec F S1024x768 .f32) (v3681 : V8) (v3684 : V8) (v3695 : Elt F .i32) (k0_hw123 : k0_chk123 x0 v1 v3695) (v3696 : FVec F S8x768 .f32) (v3699 : V8) (v3700 : V8) (K : V8 → V8 → Prog (TpuEff nD τ sig (Elt F) Λ₀ .tc) PUnit) :
    (k0_part85 b i x0 x1 y1 x2 y2 x3 y3 x4 y4 x5 y5 x6 y6 x7 y7 x8 y8 x9 y9 x10 y10 x11 y11 x12 y12 v1 k0_h1 v30 v3681 v3684 v3695 k0_hw123 v3696 v3699 v3700 >>= fun r => t85 x0 v1 k0_h1 x3 x10 K v30 r.1 r.2.1 r.2.2.1 r.2.2.2.1 r.2.2.2.2) = t84 x0 v1 k0_h1 x3 x10 K v30 v3681 v3684 v3695 k0_hw123 v3696 v3699 v3700 := by
  unfold k0_part85; rfl

theorem step86 (v30 : FVec F S1024x768 .f32) (v3725 : Elt F .i32) (k0_hw124 : k0_chk124 x0 v1 v3725) (v3741 : V8) (v3744 : V8) (c1_i32_881 : BitVec 32) (K : V8 → V8 → Prog (TpuEff nD τ sig (Elt F) Λ₀ .tc) PUnit) :
    (k0_part86 b i x0 x1 y1 x2 y2 x3 y3 x4 y4 x5 y5 x6 y6 x7 y7 x8 y8 x9 y9 x10 y10 x11 y11 x12 y12 v1 k0_h1 v30 v3725 k0_hw124 v3741 v3744 c1_i32_881 >>= fun r => t86 x0 v1 k0_h1 x3 x10 K v30 r.1 r.2.1 r.2.2.1 r.2.2.2.1 r.2.2.2.2.1 r.2.2.2.2.2) = t85 x0 v1 k0_h1 x3 x10 K v30 v3725 k0_hw124 v3741 v3744 c1_i32_881 := by
  unfold k0_part86; rfl

theorem step87 (v30 : FVec F S1024x768 .f32) (v3771 : V8) (v3774 : V8) (v3785 : Elt F .i32) (k0_hw126 : k0_chk126 x0 v1 v3785) (v3786 : FVec F S8x768 .f32) (v3787 : V8) (K : V8 → V8 → Prog (TpuEff nD τ sig (Elt F) Λ₀ .tc) PUnit) :
    (k0_part87 b i x0 x1 y1 x2 y2 x3 y3 x4 y4 x5 y5 x6 y6 x7 y7 x8 y8 x9 y9 x10 y10 x11 y11 x12 y12 v1 k0_h1 v30 v3771 v3774 v3785 k0_hw126 v3786 v3787 >>= fun r => t87 x0 v1 k0_h1 x3 x10 K v30 r.1 r.2.1 r.2.2.1 r.2.2.2.1 r.2.2.2.2.1 r.2.2.2.2.2.1 r.2.2.2.2.2.2) = t86 x0 v1 k0_h1 x3 x10 K v30 v3771 v3774 v3785 k0_hw126 v3786 v3787 := by
  unfold k0_part87; rfl

theorem step88 (v30 : FVec F S1024x768 .f32) (v3804 : V8) (v3815 : Elt F .i32) (k0_hw127 : k0_chk127 x0 v1 v3815) (v3826 : V8) (v3828 : BitVec 1) (v3831 : V8) (v3832 : V8) (K : V8 → V8 → Prog (TpuEff nD τ sig (Elt F) Λ₀ .tc) PUnit) :
    (k0_part88 b i x0 x1 y1 x2 y2 x3 y3 x4 y4 x5 y5 x6 y6 x7 y7 x8 y8 x9 y9 x10 y10 x11 y11 x12 y12 v1 k0_h1 v30 v3804 v3815 k0_hw127 v3826 v3828 v3831 v3832 >>= fun r => K r.1 r.2) = t87 x0 v1 k0_h1 x3 x10 K v30 v3804 v3815 k0_hw127 v3826 v3828 v3831 v3832 := by
  unfold k0_part88; rfl

end Cert.KernelIdeal.Units

end
-- ==== Proof.ChainB.lean ====
/-
  The printed parts of a whole block from the 61st on, chained.
-/
module

public import proofs.«01_k».proof.Proof.StepsB

@[expose] public section

set_option maxRecDepth 8192

noncomputable section

namespace Cert.KernelIdeal.Units

open Idealize.ShloMosaic Idealize.SL.Sem
open Cert.KernelIdeal Cert.KernelIdeal.Gen

variable {F : FTy → Type} [FloatOps F]

local notation "V8" => FVec F S8x128 FTy.f32

universe w

theorem chain_step {E : Type → Type w} {α β : Type} {p : Prog E α} {f g : α → Prog E β} {t : Prog E β} (h : ∀ r, f r = g r) (s : (p >>= g) = t) : (p >>= f) = t := by
  rw [funext h]; exact s

theorem chain_step' {E : Type → Type w} {α β γ : Type} {p : Prog E α} {f : α → Prog E β} {k : β → Prog E γ} {g : α → Prog E γ} {t : Prog E γ}
    (h : ∀ r, (f r >>= k) = g r) (s : (p >>= g) = t) : ((p >>= f) >>= k) = t := by
  rw [Prog.bind_assoc, funext h]; exact s

variable (b : grid0.Bounds) (i : grid0.Static) (x0 : BitVec 32) (x1 : Memref sig .tc .smem S3 .i32) (y1 : x1.IsWhole) (x2 : Memref sig .tc .vmem S1024x128 .i32) (y2 : x2.IsWhole) (x3 : Memref sig .tc .smem S128 .i32) (y3 : x3.IsWhole) (x4 : Memref sig .tc .vmem S256x768 .bf16) (y4 : x4.IsWhole) (x5 : Memref sig .tc .vmem S60x128 .i32) (y5 : x5.IsWhole) (x6 : Memref sig .tc .hbm S192x30208 .f32) (y6 : x6.IsWhole) (x7 : Memref sig .tc .hbm S6x30208 .f32) (y7 : x7.IsWhole) (x8 : Memref sig .tc .vmem S192x512 .f32) (y8 : x8.IsWhole) (x9 : Memref sig .tc .vmem S6x512 .f32) (y9 : x9.IsWhole) (x10 : Memref sig .tc .vmem S7688x256 .f32) (y10 : x10.IsWhole) (x11 : Memref sig .tc .vmem S2x8x128 .f32) (y11 : x11.IsWhole) (x12 : Memref sig .tc .vmem S1024x768 .f32) (y12 : x12.IsWhole) (v1 : Elt F .i32) (k0_h1 : k0_cond1 x0 v1 = 1#1)

/-- After the last printed part. -/
def r89 (K : V8 → V8 → Prog (TpuEff nD τ sig (Elt F) Λ₀ .tc) PUnit) (v3861 v3864 : V8) : Prog (TpuEff nD τ sig (Elt F) Λ₀ .tc) PUnit := K v3861 v3864

def r88 (K : V8 → V8 → Prog (TpuEff nD τ sig (Elt F) Λ₀ .tc) PUnit) (v30 : FVec F S1024x768 .f32) (v3804 : V8) (v3815 : Elt F .i32) (k0_hw127 : k0_chk127 x0 v1 v3815) (v3826 : V8) (v3828 : BitVec 1) (v3831 : V8) (v3832 : V8) : Prog (TpuEff nD τ sig (Elt F) Λ₀ .tc) PUnit := k0_part88 b i x0 x1 y1 x2 y2 x3 y3 x4 y4 x5 y5 x6 y6 x7 y7 x8 y8 x9 y9 x10 y10 x11 y11 x12 y12 v1 k0_h1 v30 v3804 v3815 k0_hw127 v3826 v3828 v3831 v3832 >>= fun r => r89 K r.1 r.2
theorem r88_eq (K : V8 → V8 → Prog (TpuEff nD τ sig (Elt F) Λ₀ .tc) PUnit) (v30 : FVec F S1024x768 .f32) (v3804 : V8) (v3815 : Elt F .i32) (k0_hw127 : k0_chk127 x0 v1 v3815) (v3826 : V8) (v3828 : BitVec 1) (v3831 : V8) (v3832 : V8) : r88 b i x0 x1 y1 x2 y2 x3 y3 x4 y4 x5 y5 x6 y6 x7 y7 x8 y8 x9 y9 x10 y10 x11 y11 x12 y12 v1 k0_h1 K v30 v3804 v3815 k0_hw127 v3826 v3828 v3831 v3832 = t87 x0 v1 k0_h1 x3 x10 K v30 v3804 v3815 k0_hw127 v3826 v3828 v3831 v3832 := by
  unfold r88; exact chain_step (fun r => rfl) (step88 b i x0 x1 y1 x2 y2 x3 y3 x4 y4 x5 y5 x6 y6 x7 y7 x8 y8 x9 y9 x10 y10 x11 y11 x12 y12 v1 k0_h1 v30 v3804 v3815 k0_hw127 v3826 v3828 v3831 v3832 K)

def r87 (K : V8 → V8 → Prog (TpuEff nD τ sig (Elt F) Λ₀ .tc) PUnit) (v30 : FVec F S1024x768 .f32) (v3771 : V8) (v3774 : V8) (v3785 : Elt F .i32) (k0_hw126 : k0_chk126 x0 v1 v3785) (v3786 : FVec F S8x768 .f32) (v3787 : V8) : Prog (TpuEff nD τ sig (Elt F) Λ₀ .tc) PUnit := k0_part87 b i x0 x1 y1 x2 y2 x3 y3 x4 y4 x5 y5 x6 y6 x7 y7 x8 y8 x9 y9 x10 y10 x11 y11 x12 y12 v1 k0_h1 v30 v3771 v3774 v3785 k0_hw126 v3786 v3787 >>= fun r => r88 b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2.1 r.2.2.2.2.2.1 r.2.2.2.2.2.2
theorem r87_eq (K : V8 → V8 → Prog (TpuEff nD τ sig (Elt F) Λ₀ .tc) PUnit) (v30 : FVec F S1024x768 .f32) (v3771 : V8) (v3774 : V8) (v3785 : Elt F .i32) (k0_hw126 : k0_chk126 x0 v1 v3785) (v3786 : FVec F S8x768 .f32) (v3787 : V8) : r87 b i x0 x1 y1 x2 y2 x3 y3 x4 y4 x5 y5 x6 y6 x7 y7 x8 y8 x9 y9 x10 y10 x11 y11 x12 y12 v1 k0_h1 K v30 v3771 v3774 v3785 k0_hw126 v3786 v3787 = t86 x0 v1 k0_h1 x3 x10 K v30 v3771 v3774 v3785 k0_hw126 v3786 v3787 := by
  unfold r87; exact chain_step (fun r => r88_eq b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2.1 r.2.2.2.2.2.1 r.2.2.2.2.2.2) (step87 b i x0 x1 y1 x2 y2 x3 y3 x4 y4 x5 y5 x6 y6 x7 y7 x8 y8 x9 y9 x10 y10 x11 y11 x12 y12 v1 k0_h1 v30 v3771 v3774 v3785 k0_hw126 v3786 v3787 K)

def r86 (K : V8 → V8 → Prog (TpuEff nD τ sig (Elt F) Λ₀ .tc) PUnit) (v30 : FVec F S1024x768 .f32) (v3725 : Elt F .i32) (k0_hw124 : k0_chk124 x0 v1 v3725) (v3741 : V8) (v3744 : V8) (c1_i32_881 : BitVec 32) : Prog (TpuEff nD τ sig (Elt F) Λ₀ .tc) PUnit := k0_part86 b i x0 x1 y1 x2 y2 x3 y3 x4 y4 x5 y5 x6 y6 x7 y7 x8 y8 x9 y9 x10 y10 x11 y11 x12 y12 v1 k0_h1 v30 v3725 k0_hw124 v3741 v3744 c1_i32_881 >>= fun r => r87 b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2.1 r.2.2.2.2.2
theorem r86_eq (K : V8 → V8 → Prog (TpuEff nD τ sig (Elt F) Λ₀ .tc) PUnit) (v30 : FVec F S1024x768 .f32) (v3725 : Elt F .i32) (k0_hw124 : k0_chk124 x0 v1 v3725) (v3741 : V8) (v3744 : V8) (c1_i32_881 : BitVec 32) : r86 b i x0 x1 y1 x2 y2 x3 y3 x4 y4 x5 y5 x6 y6 x7 y7 x8 y8 x9 y9 x10 y10 x11 y11 x12 y12 v1 k0_h1 K v30 v3725 k0_hw124 v3741 v3744 c1_i32_881 = t85 x0 v1 k0_h1 x3 x10 K v30 v3725 k0_hw124 v3741 v3744 c1_i32_881 := by
  unfold r86; exact chain_step (fun r => r87_eq b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2.1 r.2.2.2.2.2) (step86 b i x0 x1 y1 x2 y2 x3 y3 x4 y4 x5 y5 x6 y6 x7 y7 x8 y8 x9 y9 x10 y10 x11 y11 x12 y12 v1 k0_h1 v30 v3725 k0_hw124 v3741 v3744 c1_i32_881 K)

def r85 (K : V8 → V8 → Prog (TpuEff nD τ sig (Elt F) Λ₀ .tc) PUnit) (v30 : FVec F S1024x768 .f32) (v3681 : V8) (v3684 : V8) (v3695 : Elt F .i32) (k0_hw123 : k0_chk123 x0 v1 v3695) (v3696 : FVec F S8x768 .f32) (v3699 : V8) (v3700 : V8) : Prog (TpuEff nD τ sig (Elt F) Λ₀ .tc) PUnit := k0_part85 b i x0 x1 y1 x2 y2 x3 y3 x4 y4 x5 y5 x6 y6 x7 y7 x8 y8 x9 y9 x10 y10 x11 y11 x12 y12 v1 k0_h1 v30 v3681 v3684 v3695 k0_hw123 v3696 v3699 v3700 >>= fun r => r86 b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2
theorem r85_eq (K : V8 → V8 → Prog (TpuEff nD τ sig (Elt F) Λ₀ .tc) PUnit) (v30 : FVec F S1024x768 .f32) (v3681 : V8) (v3684 : V8) (v3695 : Elt F .i32) (k0_hw123 : k0_chk123 x0 v1 v3695) (v3696 : FVec F S8x768 .f32) (v3699 : V8) (v3700 : V8) : r85 b i x0 x1 y1 x2 y2 x3 y3 x4 y4 x5 y5 x6 y6 x7 y7 x8 y8 x9 y9 x10 y10 x11 y11 x12 y12 v1 k0_h1 K v30 v3681 v3684 v3695 k0_hw123 v3696 v3699 v3700 = t84 x0 v1 k0_h1 x3 x10 K v30 v3681 v3684 v3695 k0_hw123 v3696 v3699 v3700 := by
  unfold r85; exact chain_step (fun r => r86_eq b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2) (step85 b i x0 x1 y1 x2 y2 x3 y3 x4 y4 x5 y5 x6 y6 x7 y7 x8 y8 x9 y9 x10 y10 x11 y11 x12 y12 v1 k0_h1 v30 v3681 v3684 v3695 k0_hw123 v3696 v3699 v3700 K)

def r84 (K : V8 → V8 → Prog (TpuEff nD τ sig (Elt F) Λ₀ .tc) PUnit) (v30 : FVec F S1024x768 .f32) (v3635 : Elt F .i32) (k0_hw121 : k0_chk121 x0 v1 v3635) (v3651 : V8) (v3654 : V8) (v3656 : BitVec 32) : Prog (TpuEff nD τ sig (Elt F) Λ₀ .tc) PUnit := k0_part84 b i x0 x1 y1 x2 y2 x3 y3 x4 y4 x5 y5 x6 y6 x7 y7 x8 y8 x9 y9 x10 y10 x11 y11 x12 y12 v1 k0_h1 v30 v3635 k0_hw121 v3651 v3654 v3656 >>= fun r => r85 b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2.1 r.2.2.2.2.2.1 r.2.2.2.2.2.2
theorem r84_eq (K : V8 → V8 → Prog (TpuEff nD τ sig (Elt F) Λ₀ .tc) PUnit) (v30 : FVec F S1024x768 .f32) (v3635 : Elt F .i32) (k0_hw121 : k0_chk121 x0 v1 v3635) (v3651 : V8) (v3654 : V8) (v3656 : BitVec 32) : r84 b i x0 x1 y1 x2 y2 x3 y3 x4 y4 x5 y5 x6 y6 x7 y7 x8 y8 x9 y9 x10 y10 x11 y11 x12 y12 v1 k0_h1 K v30 v3635 k0_hw121 v3651 v3654 v3656 = t83 x0 v1 k0_h1 x3 x10 K v30 v3635 k0_hw121 v3651 v3654 v3656 := by
  unfold r84; exact chain_step (fun r => r85_eq b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2.1 r.2.2.2.2.2.1 r.2.2.2.2.2.2) (step84 b i x0 x1 y1 x2 y2 x3 y3 x4 y4 x5 y5 x6 y6 x7 y7 x8 y8 x9 y9 x10 y10 x11 y11 x12 y12 v1 k0_h1 v30 v3635 k0_hw121 v3651 v3654 v3656 K)

def r83 (K : V8 → V8 → Prog (TpuEff nD τ sig (Elt F) Λ₀ .tc) PUnit) (v30 : FVec F S1024x768 .f32) (v3591 : V8) (v3594 : V8) (v3605 : Elt F .i32) (k0_hw120 : k0_chk120 x0 v1 v3605) (v3606 : FVec F S8x768 .f32) (v3613 : V8) : Prog (TpuEff nD τ sig (Elt F) Λ₀ .tc) PUnit := k0_part83 b i x0 x1 y1 x2 y2 x3 y3 x4 y4 x5 y5 x6 y6 x7 y7 x8 y8 x9 y9 x10 y10 x11 y11 x12 y12 v1 k0_h1 v30 v3591 v3594 v3605 k0_hw120 v3606 v3613 >>= fun r => r84 b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2
theorem r83_eq (K : V8 → V8 → Prog (TpuEff nD τ sig (Elt F) Λ₀ .tc) PUnit) (v30 : FVec F S1024x768 .f32) (v3591 : V8) (v3594 : V8) (v3605 : Elt F .i32) (k0_hw120 : k0_chk120 x0 v1 v3605) (v3606 : FVec F S8x768 .f32) (v3613 : V8) : r83 b i x0 x1 y1 x2 y2 x3 y3 x4 y4 x5 y5 x6 y6 x7 y7 x8 y8 x9 y9 x10 y10 x11 y11 x12 y12 v1 k0_h1 K v30 v3591 v3594 v3605 k0_hw120 v3606 v3613 = t82 x0 v1 k0_h1 x3 x10 K v30 v3591 v3594 v3605 k0_hw120 v3606 v3613 := by
  unfold r83; exact chain_step (fun r => r84_eq b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2) (step83 b i x0 x1 y1 x2 y2 x3 y3 x4 y4 x5 y5 x6 y6 x7 y7 x8 y8 x9 y9 x10 y10 x11 y11 x12 y12 v1 k0_h1 v30 v3591 v3594 v3605 k0_hw120 v3606 v3613 K)

def r82 (K : V8 → V8 → Prog (TpuEff nD τ sig (Elt F) Λ₀ .tc) PUnit) (v30 : FVec F S1024x768 .f32) (v3545 : Elt F .i32) (k0_hw118 : k0_chk118 x0 v1 v3545) (v3561 : V8) (v3564 : V8) (v3566 : BitVec 32) : Prog (TpuEff nD τ sig (Elt F) Λ₀ .tc) PUnit := k0_part82 b i x0 x1 y1 x2 y2 x3 y3 x4 y4 x5 y5 x6 y6 x7 y7 x8 y8 x9 y9 x10 y10 x11 y11 x12 y12 v1 k0_h1 v30 v3545 k0_hw118 v3561 v3564 v3566 >>= fun r => r83 b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2.1 r.2.2.2.2.2
theorem r82_eq (K : V8 → V8 → Prog (TpuEff nD τ sig (Elt F) Λ₀ .tc) PUnit) (v30 : FVec F S1024x768 .f32) (v3545 : Elt F .i32) (k0_hw118 : k0_chk118 x0 v1 v3545) (v3561 : V8) (v3564 : V8) (v3566 : BitVec 32) : r82 b i x0 x1 y1 x2 y2 x3 y3 x4 y4 x5 y5 x6 y6 x7 y7 x8 y8 x9 y9 x10 y10 x11 y11 x12 y12 v1 k0_h1 K v30 v3545 k0_hw118 v3561 v3564 v3566 = t81 x0 v1 k0_h1 x3 x10 K v30 v3545 k0_hw118 v3561 v3564 v3566 := by
  unfold r82; exact chain_step (fun r => r83_eq b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2.1 r.2.2.2.2.2) (step82 b i x0 x1 y1 x2 y2 x3 y3 x4 y4 x5 y5 x6 y6 x7 y7 x8 y8 x9 y9 x10 y10 x11 y11 x12 y12 v1 k0_h1 v30 v3545 k0_hw118 v3561 v3564 v3566 K)

def r81 (K : V8 → V8 → Prog (TpuEff nD τ sig (Elt F) Λ₀ .tc) PUnit) (v30 : FVec F S1024x768 .f32) (v3501 : V8) (v3504 : V8) (v3515 : Elt F .i32) (k0_hw117 : k0_chk117 x0 v1 v3515) (v3523 : V8) (v3526 : V8) : Prog (TpuEff nD τ sig (Elt F) Λ₀ .tc) PUnit := k0_part81 b i x0 x1 y1 x2 y2 x3 y3 x4 y4 x5 y5 x6 y6 x7 y7 x8 y8 x9 y9 x10 y10 x11 y11 x12 y12 v1 k0_h1 v30 v3501 v3504 v3515 k0_hw117 v3523 v3526 >>= fun r => r82 b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2
theorem r81_eq (K : V8 → V8 → Prog (TpuEff nD τ sig (Elt F) Λ₀ .tc) PUnit) (v30 : FVec F S1024x768 .f32) (v3501 : V8) (v3504 : V8) (v3515 : Elt F .i32) (k0_hw117 : k0_chk117 x0 v1 v3515) (v3523 : V8) (v3526 : V8) : r81 b i x0 x1 y1 x2 y2 x3 y3 x4 y4 x5 y5 x6 y6 x7 y7 x8 y8 x9 y9 x10 y10 x11 y11 x12 y12 v1 k0_h1 K v30 v3501 v3504 v3515 k0_hw117 v3523 v3526 = t80 x0 v1 k0_h1 x3 x10 K v30 v3501 v3504 v3515 k0_hw117 v3523 v3526 := by
  unfold r81; exact chain_step (fun r => r82_eq b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2) (step81 b i x0 x1 y1 x2 y2 x3 y3 x4 y4 x5 y5 x6 y6 x7 y7 x8 y8 x9 y9 x10 y10 x11 y11 x12 y12 v1 k0_h1 v30 v3501 v3504 v3515 k0_hw117 v3523 v3526 K)

def r80 (K : V8 → V8 → Prog (TpuEff nD τ sig (Elt F) Λ₀ .tc) PUnit) (v30 : FVec F S1024x768 .f32) (v3455 : Elt F .i32) (k0_hw115 : k0_chk115 x0 v1 v3455) (v3471 : V8) (v3474 : V8) : Prog (TpuEff nD τ sig (Elt F) Λ₀ .tc) PUnit := k0_part80 b i x0 x1 y1 x2 y2 x3 y3 x4 y4 x5 y5 x6 y6 x7 y7 x8 y8 x9 y9 x10 y10 x11 y11 x12 y12 v1 k0_h1 v30 v3455 k0_hw115 v3471 v3474 >>= fun r => r81 b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2.1 r.2.2.2.2.2
theorem r80_eq (K : V8 → V8 → Prog (TpuEff nD τ sig (Elt F) Λ₀ .tc) PUnit) (v30 : FVec F S1024x768 .f32) (v3455 : Elt F .i32) (k0_hw115 : k0_chk115 x0 v1 v3455) (v3471 : V8) (v3474 : V8) : r80 b i x0 x1 y1 x2 y2 x3 y3 x4 y4 x5 y5 x6 y6 x7 y7 x8 y8 x9 y9 x10 y10 x11 y11 x12 y12 v1 k0_h1 K v30 v3455 k0_hw115 v3471 v3474 = t79 x0 v1 k0_h1 x3 x10 K v30 v3455 k0_hw115 v3471 v3474 := by
  unfold r80; exact chain_step (fun r => r81_eq b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2.1 r.2.2.2.2.2) (step80 b i x0 x1 y1 x2 y2 x3 y3 x4 y4 x5 y5 x6 y6 x7 y7 x8 y8 x9 y9 x10 y10 x11 y11 x12 y12 v1 k0_h1 v30 v3455 k0_hw115 v3471 v3474 K)

def r79 (K : V8 → V8 → Prog (TpuEff nD τ sig (Elt F) Λ₀ .tc) PUnit) (v30 : FVec F S1024x768 .f32) (v3411 : V8) (v3414 : V8) (v3425 : Elt F .i32) (k0_hw114 : k0_chk114 x0 v1 v3425) (v3433 : V8) (v3436 : V8) (v3437 : BitVec 32) (c1_i32_808 : BitVec 32) : Prog (TpuEff nD τ sig (Elt F) Λ₀ .tc) PUnit := k0_part79 b i x0 x1 y1 x2 y2 x3 y3 x4 y4 x5 y5 x6 y6 x7 y7 x8 y8 x9 y9 x10 y10 x11 y11 x12 y12 v1 k0_h1 v30 v3411 v3414 v3425 k0_hw114 v3433 v3436 v3437 c1_i32_808 >>= fun r => r80 b i x0 x1 y1 x2 y2 x3 y3 x4 y4 x5 y5 x6 y6 x7 y7 x8 y8 x9 y9 x10 y10 x11 y11 x12 y12 v1 k0_h1 K v30 r.1 r.2.1 r.2.2.1 r.2.2.2
theorem r79_eq (K : V8 → V8 → Prog (TpuEff nD τ sig (Elt F) Λ₀ .tc) PUnit) (v30 : FVec F S1024x768 .f32) (v3411 : V8) (v3414 : V8) (v3425 : Elt F .i32) (k0_hw114 : k0_chk114 x0 v1 v3425) (v3433 : V8) (v3436 : V8) (v3437 : BitVec 32) (c1_i32_808 : BitVec 32) : r79 b i x0 x1 y1 x2 y2 x3 y3 x4 y4 x5 y5 x6 y6 x7 y7 x8 y8 x9 y9 x10 y10 x11 y11 x12 y12 v1 k0_h1 K v30 v3411 v3414 v3425 k0_hw114 v3433 v3436 v3437 c1_i32_808 = t78 x0 v1 k0_h1 x3 x10 K v30 v3411 v3414 v3425 k0_hw114 v3433 v3436 v3437 c1_i32_808 := by
  unfold r79; exact chain_step (fun r => r80_eq b i x0 x1 y1 x2 y2 x3 y3 x4 y4 x5 y5 x6 y6 x7 y7 x8 y8 x9 y9 x10 y10 x11 y11 x12 y12 v1 k0_h1 K v30 r.1 r.2.1 r.2.2.1 r.2.2.2) (step79 b i x0 x1 y1 x2 y2 x3 y3 x4 y4 x5 y5 x6 y6 x7 y7 x8 y8 x9 y9 x10 y10 x11 y11 x12 y12 v1 k0_h1 v30 v3411 v3414 v3425 k0_hw114 v3433 v3436 v3437 c1_i32_808 K)

def r78 (K : V8 → V8 → Prog (TpuEff nD τ sig (Elt F) Λ₀ .tc) PUnit) (v30 : FVec F S1024x768 .f32) (v3365 : Elt F .i32) (k0_hw112 : k0_chk112 x0 v1 v3365) (v3381 : V8) (v3384 : V8) : Prog (TpuEff nD τ sig (Elt F) Λ₀ .tc) PUnit := k0_part78 b i x0 x1 y1 x2 y2 x3 y3 x4 y4 x5 y5 x6 y6 x7 y7 x8 y8 x9 y9 x10 y10 x11 y11 x12 y12 v1 k0_h1 v30 v3365 k0_hw112 v3381 v3384 >>= fun r => r79 b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2.1 r.2.2.2.2.2.1 r.2.2.2.2.2.2.1 r.2.2.2.2.2.2.2
theorem r78_eq (K : V8 → V8 → Prog (TpuEff nD τ sig (Elt F) Λ₀ .tc) PUnit) (v30 : FVec F S1024x768 .f32) (v3365 : Elt F .i32) (k0_hw112 : k0_chk112 x0 v1 v3365) (v3381 : V8) (v3384 : V8) : r78 b i x0 x1 y1 x2 y2 x3 y3 x4 y4 x5 y5 x6 y6 x7 y7 x8 y8 x9 y9 x10 y10 x11 y11 x12 y12 v1 k0_h1 K v30 v3365 k0_hw112 v3381 v3384 = t77 x0 v1 k0_h1 x3 x10 K v30 v3365 k0_hw112 v3381 v3384 := by
  unfold r78; exact chain_step (fun r => r79_eq b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2.1 r.2.2.2.2.2.1 r.2.2.2.2.2.2.1 r.2.2.2.2.2.2.2) (step78 b i x0 x1 y1 x2 y2 x3 y3 x4 y4 x5 y5 x6 y6 x7 y7 x8 y8 x9 y9 x10 y10 x11 y11 x12 y12 v1 k0_h1 v30 v3365 k0_hw112 v3381 v3384 K)

def r77 (K : V8 → V8 → Prog (TpuEff nD τ sig (Elt F) Λ₀ .tc) PUnit) (v30 : FVec F S1024x768 .f32) (v3321 : V8) (v3324 : V8) (v3335 : Elt F .i32) (k0_hw111 : k0_chk111 x0 v1 v3335) (v3343 : V8) (v3346 : V8) (v3348 : BitVec 1) (v3349 : V8) : Prog (TpuEff nD τ sig (Elt F) Λ₀ .tc) PUnit := k0_part77 b i x0 x1 y1 x2 y2 x3 y3 x4 y4 x5 y5 x6 y6 x7 y7 x8 y8 x9 y9 x10 y10 x11 y11 x12 y12 v1 k0_h1 v30 v3321 v3324 v3335 k0_hw111 v3343 v3346 v3348 v3349 >>= fun r => r78 b i x0 x1 y1 x2 y2 x3 y3 x4 y4 x5 y5 x6 y6 x7 y7 x8 y8 x9 y9 x10 y10 x11 y11 x12 y12 v1 k0_h1 K v30 r.1 r.2.1 r.2.2.1 r.2.2.2
theorem r77_eq (K : V8 → V8 → Prog (TpuEff nD τ sig (Elt F) Λ₀ .tc) PUnit) (v30 : FVec F S1024x768 .f32) (v3321 : V8) (v3324 : V8) (v3335 : Elt F .i32) (k0_hw111 : k0_chk111 x0 v1 v3335) (v3343 : V8) (v3346 : V8) (v3348 : BitVec 1) (v3349 : V8) : r77 b i x0 x1 y1 x2 y2 x3 y3 x4 y4 x5 y5 x6 y6 x7 y7 x8 y8 x9 y9 x10 y10 x11 y11 x12 y12 v1 k0_h1 K v30 v3321 v3324 v3335 k0_hw111 v3343 v3346 v3348 v3349 = t76 x0 v1 k0_h1 x3 x10 K v30 v3321 v3324 v3335 k0_hw111 v3343 v3346 v3348 v3349 := by
  unfold r77; exact chain_step (fun r => r78_eq b i x0 x1 y1 x2 y2 x3 y3 x4 y4 x5 y5 x6 y6 x7 y7 x8 y8 x9 y9 x10 y10 x11 y11 x12 y12 v1 k0_h1 K v30 r.1 r.2.1 r.2.2.1 r.2.2.2) (step77 b i x0 x1 y1 x2 y2 x3 y3 x4 y4 x5 y5 x6 y6 x7 y7 x8 y8 x9 y9 x10 y10 x11 y11 x12 y12 v1 k0_h1 v30 v3321 v3324 v3335 k0_hw111 v3343 v3346 v3348 v3349 K)

def r76 (K : V8 → V8 → Prog (TpuEff nD τ sig (Elt F) Λ₀ .tc) PUnit) (v30 : FVec F S1024x768 .f32) (v3291 : V8) (v3294 : V8) : Prog (TpuEff nD τ sig (Elt F) Λ₀ .tc) PUnit := k0_part76 b i x0 x1 y1 x2 y2 x3 y3 x4 y4 x5 y5 x6 y6 x7 y7 x8 y8 x9 y9 x10 y10 x11 y11 x12 y12 v1 k0_h1 v30 v3291 v3294 >>= fun r => r77 b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2.1 r.2.2.2.2.2.1 r.2.2.2.2.2.2.1 r.2.2.2.2.2.2.2
theorem r76_eq (K : V8 → V8 → Prog (TpuEff nD τ sig (Elt F) Λ₀ .tc) PUnit) (v30 : FVec F S1024x768 .f32) (v3291 : V8) (v3294 : V8) : r76 b i x0 x1 y1 x2 y2 x3 y3 x4 y4 x5 y5 x6 y6 x7 y7 x8 y8 x9 y9 x10 y10 x11 y11 x12 y12 v1 k0_h1 K v30 v3291 v3294 = t75 x0 v1 k0_h1 x3 x10 K v30 v3291 v3294 := by
  unfold r76; exact chain_step (fun r => r77_eq b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2.1 r.2.2.2.2.2.1 r.2.2.2.2.2.2.1 r.2.2.2.2.2.2.2) (step76 b i x0 x1 y1 x2 y2 x3 y3 x4 y4 x5 y5 x6 y6 x7 y7 x8 y8 x9 y9 x10 y10 x11 y11 x12 y12 v1 k0_h1 v30 v3291 v3294 K)

def r75 (K : V8 → V8 → Prog (TpuEff nD τ sig (Elt F) Λ₀ .tc) PUnit) (v30 : FVec F S1024x768 .f32) (v3234 : V8) (v3245 : Elt F .i32) (k0_hw108 : k0_chk108 x0 v1 v3245) (v3256 : V8) (v3258 : BitVec 1) (v3261 : V8) (cst_768 : F .f32) : Prog (TpuEff nD τ sig (Elt F) Λ₀ .tc) PUnit := k0_part75 b i x0 x1 y1 x2 y2 x3 y3 x4 y4 x5 y5 x6 y6 x7 y7 x8 y8 x9 y9 x10 y10 x11 y11 x12 y12 v1 k0_h1 v30 v3234 v3245 k0_hw108 v3256 v3258 v3261 cst_768 >>= fun r => r76 b i x0 x1 y1 x2 y2 x3 y3 x4 y4 x5 y5 x6 y6 x7 y7 x8 y8 x9 y9 x10 y10 x11 y11 x12 y12 v1 k0_h1 K v30 r.1 r.2
theorem r75_eq (K : V8 → V8 → Prog (TpuEff nD τ sig (Elt F) Λ₀ .tc) PUnit) (v30 : FVec F S1024x768 .f32) (v3234 : V8) (v3245 : Elt F .i32) (k0_hw108 : k0_chk108 x0 v1 v3245) (v3256 : V8) (v3258 : BitVec 1) (v3261 : V8) (cst_768 : F .f32) : r75 b i x0 x1 y1 x2 y2 x3 y3 x4 y4 x5 y5 x6 y6 x7 y7 x8 y8 x9 y9 x10 y10 x11 y11 x12 y12 v1 k0_h1 K v30 v3234 v3245 k0_hw108 v3256 v3258 v3261 cst_768 = t74 x0 v1 k0_h1 x3 x10 K v30 v3234 v3245 k0_hw108 v3256 v3258 v3261 cst_768 := by
  unfold r75; exact chain_step (fun r => r76_eq b i x0 x1 y1 x2 y2 x3 y3 x4 y4 x5 y5 x6 y6 x7 y7 x8 y8 x9 y9 x10 y10 x11 y11 x12 y12 v1 k0_h1 K v30 r.1 r.2) (step75 b i x0 x1 y1 x2 y2 x3 y3 x4 y4 x5 y5 x6 y6 x7 y7 x8 y8 x9 y9 x10 y10 x11 y11 x12 y12 v1 k0_h1 v30 v3234 v3245 k0_hw108 v3256 v3258 v3261 cst_768 K)

def r74 (K : V8 → V8 → Prog (TpuEff nD τ sig (Elt F) Λ₀ .tc) PUnit) (v30 : FVec F S1024x768 .f32) (v3201 : V8) (v3204 : V8) (v3215 : Elt F .i32) (k0_hw107 : k0_chk107 x0 v1 v3215) (v3216 : FVec F S8x768 .f32) : Prog (TpuEff nD τ sig (Elt F) Λ₀ .tc) PUnit := k0_part74 b i x0 x1 y1 x2 y2 x3 y3 x4 y4 x5 y5 x6 y6 x7 y7 x8 y8 x9 y9 x10 y10 x11 y11 x12 y12 v1 k0_h1 v30 v3201 v3204 v3215 k0_hw107 v3216 >>= fun r => r75 b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2.1 r.2.2.2.2.2.1 r.2.2.2.2.2.2
theorem r74_eq (K : V8 → V8 → Prog (TpuEff nD τ sig (Elt F) Λ₀ .tc) PUnit) (v30 : FVec F S1024x768 .f32) (v3201 : V8) (v3204 : V8) (v3215 : Elt F .i32) (k0_hw107 : k0_chk107 x0 v1 v3215) (v3216 : FVec F S8x768 .f32) : r74 b i x0 x1 y1 x2 y2 x3 y3 x4 y4 x5 y5 x6 y6 x7 y7 x8 y8 x9 y9 x10 y10 x11 y11 x12 y12 v1 k0_h1 K v30 v3201 v3204 v3215 k0_hw107 v3216 = t73 x0 v1 k0_h1 x3 x10 K v30 v3201 v3204 v3215 k0_hw107 v3216 := by
  unfold r74; exact chain_step (fun r => r75_eq b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2.1 r.2.2.2.2.2.1 r.2.2.2.2.2.2) (step74 b i x0 x1 y1 x2 y2 x3 y3 x4 y4 x5 y5 x6 y6 x7 y7 x8 y8 x9 y9 x10 y10 x11 y11 x12 y12 v1 k0_h1 v30 v3201 v3204 v3215 k0_hw107 v3216 K)

def r73 (K : V8 → V8 → Prog (TpuEff nD τ sig (Elt F) Λ₀ .tc) PUnit) (v30 : FVec F S1024x768 .f32) (v3155 : Elt F .i32) (k0_hw105 : k0_chk105 x0 v1 v3155) (v3171 : V8) (v3174 : V8) : Prog (TpuEff nD τ sig (Elt F) Λ₀ .tc) PUnit := k0_part73 b i x0 x1 y1 x2 y2 x3 y3 x4 y4 x5 y5 x6 y6 x7 y7 x8 y8 x9 y9 x10 y10 x11 y11 x12 y12 v1 k0_h1 v30 v3155 k0_hw105 v3171 v3174 >>= fun r => r74 b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2
theorem r73_eq (K : V8 → V8 → Prog (TpuEff nD τ sig (Elt F) Λ₀ .tc) PUnit) (v30 : FVec F S1024x768 .f32) (v3155 : Elt F .i32) (k0_hw105 : k0_chk105 x0 v1 v3155) (v3171 : V8) (v3174 : V8) : r73 b i x0 x1 y1 x2 y2 x3 y3 x4 y4 x5 y5 x6 y6 x7 y7 x8 y8 x9 y9 x10 y10 x11 y11 x12 y12 v1 k0_h1 K v30 v3155 k0_hw105 v3171 v3174 = t72 x0 v1 k0_h1 x3 x10 K v30 v3155 k0_hw105 v3171 v3174 := by
  unfold r73; exact chain_step (fun r => r74_eq b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2) (step73 b i x0 x1 y1 x2 y2 x3 y3 x4 y4 x5 y5 x6 y6 x7 y7 x8 y8 x9 y9 x10 y10 x11 y11 x12 y12 v1 k0_h1 v30 v3155 k0_hw105 v3171 v3174 K)

def r72 (K : V8 → V8 → Prog (TpuEff nD τ sig (Elt F) Λ₀ .tc) PUnit) (v30 : FVec F S1024x768 .f32) (v3111 : V8) (v3114 : V8) (v3125 : Elt F .i32) (k0_hw104 : k0_chk104 x0 v1 v3125) (v3126 : FVec F S8x768 .f32) (v3129 : V8) : Prog (TpuEff nD τ sig (Elt F) Λ₀ .tc) PUnit := k0_part72 b i x0 x1 y1 x2 y2 x3 y3 x4 y4 x5 y5 x6 y6 x7 y7 x8 y8 x9 y9 x10 y10 x11 y11 x12 y12 v1 k0_h1 v30 v3111 v3114 v3125 k0_hw104 v3126 v3129 >>= fun r => r73 b i x0 x1 y1 x2 y2 x3 y3 x4 y4 x5 y5 x6 y6 x7 y7 x8 y8 x9 y9 x10 y10 x11 y11 x12 y12 v1 k0_h1 K v30 r.1 r.2.1 r.2.2.1 r.2.2.2
theorem r72_eq (K : V8 → V8 → Prog (TpuEff nD τ sig (Elt F) Λ₀ .tc) PUnit) (v30 : FVec F S1024x768 .f32) (v3111 : V8) (v3114 : V8) (v3125 : Elt F .i32) (k0_hw104 : k0_chk104 x0 v1 v3125) (v3126 : FVec F S8x768 .f32) (v3129 : V8) : r72 b i x0 x1 y1 x2 y2 x3 y3 x4 y4 x5 y5 x6 y6 x7 y7 x8 y8 x9 y9 x10 y10 x11 y11 x12 y12 v1 k0_h1 K v30 v3111 v3114 v3125 k0_hw104 v3126 v3129 = t71 x0 v1 k0_h1 x3 x10 K v30 v3111 v3114 v3125 k0_hw104 v3126 v3129 := by
  unfold r72; exact chain_step (fun r => r73_eq b i x0 x1 y1 x2 y2 x3 y3 x4 y4 x5 y5 x6 y6 x7 y7 x8 y8 x9 y9 x10 y10 x11 y11 x12 y12 v1 k0_h1 K v30 r.1 r.2.1 r.2.2.1 r.2.2.2) (step72 b i x0 x1 y1 x2 y2 x3 y3 x4 y4 x5 y5 x6 y6 x7 y7 x8 y8 x9 y9 x10 y10 x11 y11 x12 y12 v1 k0_h1 v30 v3111 v3114 v3125 k0_hw104 v3126 v3129 K)

def r71 (K : V8 → V8 → Prog (TpuEff nD τ sig (Elt F) Λ₀ .tc) PUnit) (v30 : FVec F S1024x768 .f32) (v3065 : Elt F .i32) (k0_hw102 : k0_chk102 x0 v1 v3065) (v3081 : V8) (v3084 : V8) (v3086 : BitVec 32) : Prog (TpuEff nD τ sig (Elt F) Λ₀ .tc) PUnit := k0_part71 b i x0 x1 y1 x2 y2 x3 y3 x4 y4 x5 y5 x6 y6 x7 y7 x8 y8 x9 y9 x10 y10 x11 y11 x12 y12 v1 k0_h1 v30 v3065 k0_hw102 v3081 v3084 v3086 >>= fun r => r72 b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2.1 r.2.2.2.2.2
theorem r71_eq (K : V8 → V8 → Prog (TpuEff nD τ sig (Elt F) Λ₀ .tc) PUnit) (v30 : FVec F S1024x768 .f32) (v3065 : Elt F .i32) (k0_hw102 : k0_chk102 x0 v1 v3065) (v3081 : V8) (v3084 : V8) (v3086 : BitVec 32) : r71 b i x0 x1 y1 x2 y2 x3 y3 x4 y4 x5 y5 x6 y6 x7 y7 x8 y8 x9 y9 x10 y10 x11 y11 x12 y12 v1 k0_h1 K v30 v3065 k0_hw102 v3081 v3084 v3086 = t70 x0 v1 k0_h1 x3 x10 K v30 v3065 k0_hw102 v3081 v3084 v3086 := by
  unfold r71; exact chain_step (fun r => r72_eq b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2.1 r.2.2.2.2.2) (step71 b i x0 x1 y1 x2 y2 x3 y3 x4 y4 x5 y5 x6 y6 x7 y7 x8 y8 x9 y9 x10 y10 x11 y11 x12 y12 v1 k0_h1 v30 v3065 k0_hw102 v3081 v3084 v3086 K)

def r70 (K : V8 → V8 → Prog (TpuEff nD τ sig (Elt F) Λ₀ .tc) PUnit) (v30 : FVec F S1024x768 .f32) (v3021 : V8) (v3024 : V8) (v3035 : Elt F .i32) (k0_hw101 : k0_chk101 x0 v1 v3035) (v3036 : FVec F S8x768 .f32) (v3039 : V8) (v3042 : V8) : Prog (TpuEff nD τ sig (Elt F) Λ₀ .tc) PUnit := k0_part70 b i x0 x1 y1 x2 y2 x3 y3 x4 y4 x5 y5 x6 y6 x7 y7 x8 y8 x9 y9 x10 y10 x11 y11 x12 y12 v1 k0_h1 v30 v3021 v3024 v3035 k0_hw101 v3036 v3039 v3042 >>= fun r => r71 b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2
theorem r70_eq (K : V8 → V8 → Prog (TpuEff nD τ sig (Elt F) Λ₀ .tc) PUnit) (v30 : FVec F S1024x768 .f32) (v3021 : V8) (v3024 : V8) (v3035 : Elt F .i32) (k0_hw101 : k0_chk101 x0 v1 v3035) (v3036 : FVec F S8x768 .f32) (v3039 : V8) (v3042 : V8) : r70 b i x0 x1 y1 x2 y2 x3 y3 x4 y4 x5 y5 x6 y6 x7 y7 x8 y8 x9 y9 x10 y10 x11 y11 x12 y12 v1 k0_h1 K v30 v3021 v3024 v3035 k0_hw101 v3036 v3039 v3042 = t69 x0 v1 k0_h1 x3 x10 K v30 v3021 v3024 v3035 k0_hw101 v3036 v3039 v3042 := by
  unfold r70; exact chain_step (fun r => r71_eq b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2) (step70 b i x0 x1 y1 x2 y2 x3 y3 x4 y4 x5 y5 x6 y6 x7 y7 x8 y8 x9 y9 x10 y10 x11 y11 x12 y12 v1 k0_h1 v30 v3021 v3024 v3035 k0_hw101 v3036 v3039 v3042 K)

def r69 (K : V8 → V8 → Prog (TpuEff nD τ sig (Elt F) Λ₀ .tc) PUnit) (v30 : FVec F S1024x768 .f32) (v2975 : Elt F .i32) (k0_hw99 : k0_chk99 x0 v1 v2975) (v2991 : V8) (v2994 : V8) (v2996 : BitVec 32) (v2998 : Vec F S8x128 .f32) : Prog (TpuEff nD τ sig (Elt F) Λ₀ .tc) PUnit := k0_part69 b i x0 x1 y1 x2 y2 x3 y3 x4 y4 x5 y5 x6 y6 x7 y7 x8 y8 x9 y9 x10 y10 x11 y11 x12 y12 v1 k0_h1 v30 v2975 k0_hw99 v2991 v2994 v2996 v2998 >>= fun r => r70 b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2.1 r.2.2.2.2.2.1 r.2.2.2.2.2.2
theorem r69_eq (K : V8 → V8 → Prog (TpuEff nD τ sig (Elt F) Λ₀ .tc) PUnit) (v30 : FVec F S1024x768 .f32) (v2975 : Elt F .i32) (k0_hw99 : k0_chk99 x0 v1 v2975) (v2991 : V8) (v2994 : V8) (v2996 : BitVec 32) (v2998 : Vec F S8x128 .f32) : r69 b i x0 x1 y1 x2 y2 x3 y3 x4 y4 x5 y5 x6 y6 x7 y7 x8 y8 x9 y9 x10 y10 x11 y11 x12 y12 v1 k0_h1 K v30 v2975 k0_hw99 v2991 v2994 v2996 v2998 = t68 x0 v1 k0_h1 x3 x10 K v30 v2975 k0_hw99 v2991 v2994 v2996 v2998 := by
  unfold r69; exact chain_step (fun r => r70_eq b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2.1 r.2.2.2.2.2.1 r.2.2.2.2.2.2) (step69 b i x0 x1 y1 x2 y2 x3 y3 x4 y4 x5 y5 x6 y6 x7 y7 x8 y8 x9 y9 x10 y10 x11 y11 x12 y12 v1 k0_h1 v30 v2975 k0_hw99 v2991 v2994 v2996 v2998 K)

def r68 (K : V8 → V8 → Prog (TpuEff nD τ sig (Elt F) Λ₀ .tc) PUnit) (v30 : FVec F S1024x768 .f32) (v2931 : V8) (v2934 : V8) (v2945 : Elt F .i32) (k0_hw98 : k0_chk98 x0 v1 v2945) (v2953 : V8) (v2954 : V8) (v2955 : V8) : Prog (TpuEff nD τ sig (Elt F) Λ₀ .tc) PUnit := k0_part68 b i x0 x1 y1 x2 y2 x3 y3 x4 y4 x5 y5 x6 y6 x7 y7 x8 y8 x9 y9 x10 y10 x11 y11 x12 y12 v1 k0_h1 v30 v2931 v2934 v2945 k0_hw98 v2953 v2954 v2955 >>= fun r => r69 b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2.1 r.2.2.2.2.2
theorem r68_eq (K : V8 → V8 → Prog (TpuEff nD τ sig (Elt F) Λ₀ .tc) PUnit) (v30 : FVec F S1024x768 .f32) (v2931 : V8) (v2934 : V8) (v2945 : Elt F .i32) (k0_hw98 : k0_chk98 x0 v1 v2945) (v2953 : V8) (v2954 : V8) (v2955 : V8) : r68 b i x0 x1 y1 x2 y2 x3 y3 x4 y4 x5 y5 x6 y6 x7 y7 x8 y8 x9 y9 x10 y10 x11 y11 x12 y12 v1 k0_h1 K v30 v2931 v2934 v2945 k0_hw98 v2953 v2954 v2955 = t67 x0 v1 k0_h1 x3 x10 K v30 v2931 v2934 v2945 k0_hw98 v2953 v2954 v2955 := by
  unfold r68; exact chain_step (fun r => r69_eq b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2.1 r.2.2.2.2.2) (step68 b i x0 x1 y1 x2 y2 x3 y3 x4 y4 x5 y5 x6 y6 x7 y7 x8 y8 x9 y9 x10 y10 x11 y11 x12 y12 v1 k0_h1 v30 v2931 v2934 v2945 k0_hw98 v2953 v2954 v2955 K)

def r67 (K : V8 → V8 → Prog (TpuEff nD τ sig (Elt F) Λ₀ .tc) PUnit) (v30 : FVec F S1024x768 .f32) (v2885 : Elt F .i32) (k0_hw96 : k0_chk96 x0 v1 v2885) (v2901 : V8) (v2904 : V8) (v2906 : BitVec 32) : Prog (TpuEff nD τ sig (Elt F) Λ₀ .tc) PUnit := k0_part67 b i x0 x1 y1 x2 y2 x3 y3 x4 y4 x5 y5 x6 y6 x7 y7 x8 y8 x9 y9 x10 y10 x11 y11 x12 y12 v1 k0_h1 v30 v2885 k0_hw96 v2901 v2904 v2906 >>= fun r => r68 b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2.1 r.2.2.2.2.2.1 r.2.2.2.2.2.2
theorem r67_eq (K : V8 → V8 → Prog (TpuEff nD τ sig (Elt F) Λ₀ .tc) PUnit) (v30 : FVec F S1024x768 .f32) (v2885 : Elt F .i32) (k0_hw96 : k0_chk96 x0 v1 v2885) (v2901 : V8) (v2904 : V8) (v2906 : BitVec 32) : r67 b i x0 x1 y1 x2 y2 x3 y3 x4 y4 x5 y5 x6 y6 x7 y7 x8 y8 x9 y9 x10 y10 x11 y11 x12 y12 v1 k0_h1 K v30 v2885 k0_hw96 v2901 v2904 v2906 = t66 x0 v1 k0_h1 x3 x10 K v30 v2885 k0_hw96 v2901 v2904 v2906 := by
  unfold r67; exact chain_step (fun r => r68_eq b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2.1 r.2.2.2.2.2.1 r.2.2.2.2.2.2) (step67 b i x0 x1 y1 x2 y2 x3 y3 x4 y4 x5 y5 x6 y6 x7 y7 x8 y8 x9 y9 x10 y10 x11 y11 x12 y12 v1 k0_h1 v30 v2885 k0_hw96 v2901 v2904 v2906 K)

def r66 (K : V8 → V8 → Prog (TpuEff nD τ sig (Elt F) Λ₀ .tc) PUnit) (v30 : FVec F S1024x768 .f32) (v2841 : V8) (v2844 : V8) (v2855 : Elt F .i32) (k0_hw95 : k0_chk95 x0 v1 v2855) (v2863 : V8) (v2866 : V8) (v2867 : BitVec 32) : Prog (TpuEff nD τ sig (Elt F) Λ₀ .tc) PUnit := k0_part66 b i x0 x1 y1 x2 y2 x3 y3 x4 y4 x5 y5 x6 y6 x7 y7 x8 y8 x9 y9 x10 y10 x11 y11 x12 y12 v1 k0_h1 v30 v2841 v2844 v2855 k0_hw95 v2863 v2866 v2867 >>= fun r => r67 b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2
theorem r66_eq (K : V8 → V8 → Prog (TpuEff nD τ sig (Elt F) Λ₀ .tc) PUnit) (v30 : FVec F S1024x768 .f32) (v2841 : V8) (v2844 : V8) (v2855 : Elt F .i32) (k0_hw95 : k0_chk95 x0 v1 v2855) (v2863 : V8) (v2866 : V8) (v2867 : BitVec 32) : r66 b i x0 x1 y1 x2 y2 x3 y3 x4 y4 x5 y5 x6 y6 x7 y7 x8 y8 x9 y9 x10 y10 x11 y11 x12 y12 v1 k0_h1 K v30 v2841 v2844 v2855 k0_hw95 v2863 v2866 v2867 = t65 x0 v1 k0_h1 x3 x10 K v30 v2841 v2844 v2855 k0_hw95 v2863 v2866 v2867 := by
  unfold r66; exact chain_step (fun r => r67_eq b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2) (step66 b i x0 x1 y1 x2 y2 x3 y3 x4 y4 x5 y5 x6 y6 x7 y7 x8 y8 x9 y9 x10 y10 x11 y11 x12 y12 v1 k0_h1 v30 v2841 v2844 v2855 k0_hw95 v2863 v2866 v2867 K)

def r65 (K : V8 → V8 → Prog (TpuEff nD τ sig (Elt F) Λ₀ .tc) PUnit) (v30 : FVec F S1024x768 .f32) (v2795 : Elt F .i32) (k0_hw93 : k0_chk93 x0 v1 v2795) (v2811 : V8) (v2814 : V8) (v2822 : Vec F S8x128 .f32) : Prog (TpuEff nD τ sig (Elt F) Λ₀ .tc) PUnit := k0_part65 b i x0 x1 y1 x2 y2 x3 y3 x4 y4 x5 y5 x6 y6 x7 y7 x8 y8 x9 y9 x10 y10 x11 y11 x12 y12 v1 k0_h1 v30 v2795 k0_hw93 v2811 v2814 v2822 >>= fun r => r66 b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2.1 r.2.2.2.2.2.1 r.2.2.2.2.2.2
theorem r65_eq (K : V8 → V8 → Prog (TpuEff nD τ sig (Elt F) Λ₀ .tc) PUnit) (v30 : FVec F S1024x768 .f32) (v2795 : Elt F .i32) (k0_hw93 : k0_chk93 x0 v1 v2795) (v2811 : V8) (v2814 : V8) (v2822 : Vec F S8x128 .f32) : r65 b i x0 x1 y1 x2 y2 x3 y3 x4 y4 x5 y5 x6 y6 x7 y7 x8 y8 x9 y9 x10 y10 x11 y11 x12 y12 v1 k0_h1 K v30 v2795 k0_hw93 v2811 v2814 v2822 = t64 x0 v1 k0_h1 x3 x10 K v30 v2795 k0_hw93 v2811 v2814 v2822 := by
  unfold r65; exact chain_step (fun r => r66_eq b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2.1 r.2.2.2.2.2.1 r.2.2.2.2.2.2) (step65 b i x0 x1 y1 x2 y2 x3 y3 x4 y4 x5 y5 x6 y6 x7 y7 x8 y8 x9 y9 x10 y10 x11 y11 x12 y12 v1 k0_h1 v30 v2795 k0_hw93 v2811 v2814 v2822 K)

def r64 (K : V8 → V8 → Prog (TpuEff nD τ sig (Elt F) Λ₀ .tc) PUnit) (v30 : FVec F S1024x768 .f32) (v2751 : V8) (v2754 : V8) (v2765 : Elt F .i32) (k0_hw92 : k0_chk92 x0 v1 v2765) (v2773 : V8) (v2776 : V8) (v2778 : BitVec 1) (cst_655 : F .f32) : Prog (TpuEff nD τ sig (Elt F) Λ₀ .tc) PUnit := k0_part64 b i x0 x1 y1 x2 y2 x3 y3 x4 y4 x5 y5 x6 y6 x7 y7 x8 y8 x9 y9 x10 y10 x11 y11 x12 y12 v1 k0_h1 v30 v2751 v2754 v2765 k0_hw92 v2773 v2776 v2778 cst_655 >>= fun r => r65 b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2
theorem r64_eq (K : V8 → V8 → Prog (TpuEff nD τ sig (Elt F) Λ₀ .tc) PUnit) (v30 : FVec F S1024x768 .f32) (v2751 : V8) (v2754 : V8) (v2765 : Elt F .i32) (k0_hw92 : k0_chk92 x0 v1 v2765) (v2773 : V8) (v2776 : V8) (v2778 : BitVec 1) (cst_655 : F .f32) : r64 b i x0 x1 y1 x2 y2 x3 y3 x4 y4 x5 y5 x6 y6 x7 y7 x8 y8 x9 y9 x10 y10 x11 y11 x12 y12 v1 k0_h1 K v30 v2751 v2754 v2765 k0_hw92 v2773 v2776 v2778 cst_655 = t63 x0 v1 k0_h1 x3 x10 K v30 v2751 v2754 v2765 k0_hw92 v2773 v2776 v2778 cst_655 := by
  unfold r64; exact chain_step (fun r => r65_eq b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2) (step64 b i x0 x1 y1 x2 y2 x3 y3 x4 y4 x5 y5 x6 y6 x7 y7 x8 y8 x9 y9 x10 y10 x11 y11 x12 y12 v1 k0_h1 v30 v2751 v2754 v2765 k0_hw92 v2773 v2776 v2778 cst_655 K)

def r63 (K : V8 → V8 → Prog (TpuEff nD τ sig (Elt F) Λ₀ .tc) PUnit) (v30 : FVec F S1024x768 .f32) (v2721 : V8) (v2724 : V8) : Prog (TpuEff nD τ sig (Elt F) Λ₀ .tc) PUnit := k0_part63 b i x0 x1 y1 x2 y2 x3 y3 x4 y4 x5 y5 x6 y6 x7 y7 x8 y8 x9 y9 x10 y10 x11 y11 x12 y12 v1 k0_h1 v30 v2721 v2724 >>= fun r => r64 b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2.1 r.2.2.2.2.2.1 r.2.2.2.2.2.2.1 r.2.2.2.2.2.2.2
theorem r63_eq (K : V8 → V8 → Prog (TpuEff nD τ sig (Elt F) Λ₀ .tc) PUnit) (v30 : FVec F S1024x768 .f32) (v2721 : V8) (v2724 : V8) : r63 b i x0 x1 y1 x2 y2 x3 y3 x4 y4 x5 y5 x6 y6 x7 y7 x8 y8 x9 y9 x10 y10 x11 y11 x12 y12 v1 k0_h1 K v30 v2721 v2724 = t62 x0 v1 k0_h1 x3 x10 K v30 v2721 v2724 := by
  unfold r63; exact chain_step (fun r => r64_eq b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2.1 r.2.2.2.2.2.1 r.2.2.2.2.2.2.1 r.2.2.2.2.2.2.2) (step63 b i x0 x1 y1 x2 y2 x3 y3 x4 y4 x5 y5 x6 y6 x7 y7 x8 y8 x9 y9 x10 y10 x11 y11 x12 y12 v1 k0_h1 v30 v2721 v2724 K)

def r62 (K : V8 → V8 → Prog (TpuEff nD τ sig (Elt F) Λ₀ .tc) PUnit) (v30 : FVec F S1024x768 .f32) (v2664 : V8) (v2675 : Elt F .i32) (k0_hw89 : k0_chk89 x0 v1 v2675) (v2686 : V8) (v2688 : BitVec 1) (v2691 : V8) : Prog (TpuEff nD τ sig (Elt F) Λ₀ .tc) PUnit := k0_part62 b i x0 x1 y1 x2 y2 x3 y3 x4 y4 x5 y5 x6 y6 x7 y7 x8 y8 x9 y9 x10 y10 x11 y11 x12 y12 v1 k0_h1 v30 v2664 v2675 k0_hw89 v2686 v2688 v2691 >>= fun r => r63 b i x0 x1 y1 x2 y2 x3 y3 x4 y4 x5 y5 x6 y6 x7 y7 x8 y8 x9 y9 x10 y10 x11 y11 x12 y12 v1 k0_h1 K v30 r.1 r.2
theorem r62_eq (K : V8 → V8 → Prog (TpuEff nD τ sig (Elt F) Λ₀ .tc) PUnit) (v30 : FVec F S1024x768 .f32) (v2664 : V8) (v2675 : Elt F .i32) (k0_hw89 : k0_chk89 x0 v1 v2675) (v2686 : V8) (v2688 : BitVec 1) (v2691 : V8) : r62 b i x0 x1 y1 x2 y2 x3 y3 x4 y4 x5 y5 x6 y6 x7 y7 x8 y8 x9 y9 x10 y10 x11 y11 x12 y12 v1 k0_h1 K v30 v2664 v2675 k0_hw89 v2686 v2688 v2691 = t61 x0 v1 k0_h1 x3 x10 K v30 v2664 v2675 k0_hw89 v2686 v2688 v2691 := by
  unfold r62; exact chain_step (fun r => r63_eq b i x0 x1 y1 x2 y2 x3 y3 x4 y4 x5 y5 x6 y6 x7 y7 x8 y8 x9 y9 x10 y10 x11 y11 x12 y12 v1 k0_h1 K v30 r.1 r.2) (step62 b i x0 x1 y1 x2 y2 x3 y3 x4 y4 x5 y5 x6 y6 x7 y7 x8 y8 x9 y9 x10 y10 x11 y11 x12 y12 v1 k0_h1 v30 v2664 v2675 k0_hw89 v2686 v2688 v2691 K)

def r61 (K : V8 → V8 → Prog (TpuEff nD τ sig (Elt F) Λ₀ .tc) PUnit) (v30 : FVec F S1024x768 .f32) (v2631 : V8) (v2634 : V8) (v2645 : Elt F .i32) (k0_hw88 : k0_chk88 x0 v1 v2645) : Prog (TpuEff nD τ sig (Elt F) Λ₀ .tc) PUnit := k0_part61 b i x0 x1 y1 x2 y2 x3 y3 x4 y4 x5 y5 x6 y6 x7 y7 x8 y8 x9 y9 x10 y10 x11 y11 x12 y12 v1 k0_h1 v30 v2631 v2634 v2645 k0_hw88 >>= fun r => r62 b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2.1 r.2.2.2.2.2
theorem r61_eq (K : V8 → V8 → Prog (TpuEff nD τ sig (Elt F) Λ₀ .tc) PUnit) (v30 : FVec F S1024x768 .f32) (v2631 : V8) (v2634 : V8) (v2645 : Elt F .i32) (k0_hw88 : k0_chk88 x0 v1 v2645) : r61 b i x0 x1 y1 x2 y2 x3 y3 x4 y4 x5 y5 x6 y6 x7 y7 x8 y8 x9 y9 x10 y10 x11 y11 x12 y12 v1 k0_h1 K v30 v2631 v2634 v2645 k0_hw88 = t60 x0 v1 k0_h1 x3 x10 K v30 v2631 v2634 v2645 k0_hw88 := by
  unfold r61; exact chain_step (fun r => r62_eq b i x0 x1 y1 x2 y2 x3 y3 x4 y4 x5 y5 x6 y6 x7 y7 x8 y8 x9 y9 x10 y10 x11 y11 x12 y12 v1 k0_h1 K v30 r.1 r.2.1 r.2.2.1 r.2.2.2.1 r.2.2.2.2.1 r.2.2.2.2.2) (step61 b i x0 x1 y1 x2 y2 x3 y3 x4 y4 x5 y5 x6 y6 x7 y7 x8 y8 x9 y9 x10 y10 x11 y11 x12 y12 v1 k0_h1 v30 v2631 v2634 v2645 k0_hw88 K)

/-- What the sequence of the first 60 printed parts leaves. -/
abbrev Left : Type := Σ' (v30 : FVec F S1024x768 .f32) (v2631 : V8) (v2634 : V8) (v2645 : Elt F .i32), k0_chk88 x0 v1 v2645
def k61 (K : V8 → V8 → Prog (TpuEff nD τ sig (Elt F) Λ₀ .tc) PUnit) (r : Left (F := F) x0 v1) : Prog (TpuEff nD τ sig (Elt F) Λ₀ .tc) PUnit := r61 b i x0 x1 y1 x2 y2 x3 y3 x4 y4 x5 y5 x6 y6 x7 y7 x8 y8 x9 y9 x10 y10 x11 y11 x12 y12 v1 k0_h1 K r.1 r.2.1 r.2.2.1 r.2.2.2.1 r.2.2.2.2

end Cert.KernelIdeal.Units

end
-- ==== Proof.ChainA.lean ====
/-
  The first 60 printed parts of a whole block, chained.
-/
module

public import proofs.«01_k».proof.Proof.ChainB

@[expose] public section

set_option maxRecDepth 8192

noncomputable section

namespace Cert.KernelIdeal.Units

open Idealize.ShloMosaic Idealize.SL.Sem
open Cert.KernelIdeal Cert.KernelIdeal.Gen

variable {F : FTy → Type} [FloatOps F]

local notation "V8" => FVec F S8x128 FTy.f32

variable (b : grid0.Bounds) (i : grid0.Static) (x0 : BitVec 32) (x1 : Memref sig .tc .smem S3 .i32) (y1 : x1.IsWhole) (x2 : Memref sig .tc .vmem S1024x128 .i32) (y2 : x2.IsWhole) (x3 : Memref sig .tc .smem S128 .i32) (y3 : x3.IsWhole) (x4 : Memref sig .tc .vmem S256x768 .bf16) (y4 : x4.IsWhole) (x5 : Memref sig .tc .vmem S60x128 .i32) (y5 : x5.IsWhole) (x6 : Memref sig .tc .hbm S192x30208 .f32) (y6 : x6.IsWhole) (x7 : Memref sig .tc .hbm S6x30208 .f32) (y7 : x7.IsWhole) (x8 : Memref sig .tc .vmem S192x512 .f32) (y8 : x8.IsWhole) (x9 : Memref sig .tc .vmem S6x512 .f32) (y9 : x9.IsWhole) (x10 : Memref sig .tc .vmem S7688x256 .f32) (y10 : x10.IsWhole) (x11 : Memref sig .tc .vmem S2x8x128 .f32) (y11 : x11.IsWhole) (x12 : Memref sig .tc .vmem S1024x768 .f32) (y12 : x12.IsWhole) (v1 : Elt F .i32) (k0_h1 : k0_cond1 x0 v1 = 1#1)

def a60 (v30 : FVec F S1024x768 .f32) (v2585 : Elt F .i32) (k0_hw86 : k0_chk86 x0 v1 v2585) (v2596 : V8) (v2601 : V8) (v2603 : V8) : Prog (TpuEff nD τ sig (Elt F) Λ₀ .tc) (Left (F := F) x0 v1) := k0_part60 b i x0 x1 y1 x2 y2 x3 y3 x4 y4 x5 y5 x6 y6 x7 y7 x8 y8 x9 y9 x10 y10 x11 y11 x12 y12 v1 k0_h1 v30 v2585 k0_hw86 v2596 v2601 v2603 >>= fun r => pure ⟨v30, r.1, r.2.1, r.2.2.1, r.2.2.2⟩
theorem a60_eq (v30 : FVec F S1024x768 .f32) (v2585 : Elt F .i32) (k0_hw86 : k0_chk86 x0 v1 v2585) (v2596 : V8) (v2601 : V8) (v2603 : V8) (K : V8 → V8 → Prog (TpuEff nD τ sig (Elt F) Λ₀ .tc) PUnit) : (a60 b i x0 x1 y1 x2 y2 x3 y3 x4 y4 x5 y5 x6 y6 x7 y7 x8 y8 x9 y9 x10 y10 x11 y11 x12 y12 v1 k0_h1 v30 v2585 k0_hw86 v2596 v2601 v2603 >>= k61 b i x0 x1 y1 x2 y2 x3 y3 x4 y4 x5 y5 x6 y6 x7 y7 x8 y8 x9 y9 x10 y10 x11 y11 x12 y12 v1 k0_h1 K) = t59 x0 v1 k0_h1 x3 x10 K v30 v2585 k0_hw86 v2596 v2601 v2603 := by
  unfold a60; exact chain_step' (fun r => r61_eq b i x0 x1 y1 x2 y2 x3 y3 x4 y4 x5 y5 x6 y6 x7 y7 x8 y8 x9 y9 x10 y10 x11 y11 x12 y12 v1 k0_h1 K v30 r.1 r.2.1 r.2.2.1 r.2.2.2) (step60 b i x0 x1 y1 x2 y2 x3 y3 x4 y4 x5 y5 x6 y6 x7 y7 x8 y8 x9 y9 x10 y10 x11 y11 x12 y12 v1 k0_h1 v30 v2585 k0_hw86 v2596 v2601 v2603 K)

def a59 (v30 : FVec F S1024x768 .f32) (v2541 : V8) (v2544 : V8) (v2555 : Elt F .i32) (k0_hw85 : k0_chk85 x0 v1 v2555) (v2556 : FVec F S8x768 .f32) (v2557 : V8) (v2558 : V8) : Prog (TpuEff nD τ sig (Elt F) Λ₀ .tc) (Left (F := F) x0 v1) := k0_part59 b i x0 x1 y1 x2 y2 x3 y3 x4 y4 x5 y5 x6 y6 x7 y7 x8 y8 x9 y9 x10 y10 x11 y11 x12 y12 v1 k0_h1 v30 v2541 v2544 v2555 k0_hw85 v2556 v2557 v2558 >>= fun r => a60 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2
theorem a59_eq (v30 : FVec F S1024x768 .f32) (v2541 : V8) (v2544 : V8) (v2555 : Elt F .i32) (k0_hw85 : k0_chk85 x0 v1 v2555) (v2556 : FVec F S8x768 .f32) (v2557 : V8) (v2558 : V8) (K : V8 → V8 → Prog (TpuEff nD τ sig (Elt F) Λ₀ .tc) PUnit) : (a59 b i x0 x1 y1 x2 y2 x3 y3 x4 y4 x5 y5 x6 y6 x7 y7 x8 y8 x9 y9 x10 y10 x11 y11 x12 y12 v1 k0_h1 v30 v2541 v2544 v2555 k0_hw85 v2556 v2557 v2558 >>= k61 b i x0 x1 y1 x2 y2 x3 y3 x4 y4 x5 y5 x6 y6 x7 y7 x8 y8 x9 y9 x10 y10 x11 y11 x12 y12 v1 k0_h1 K) = t58 x0 v1 k0_h1 x3 x10 K v30 v2541 v2544 v2555 k0_hw85 v2556 v2557 v2558 := by
  unfold a59; exact chain_step' (fun r => a60_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2 K) (step59 b i x0 x1 y1 x2 y2 x3 y3 x4 y4 x5 y5 x6 y6 x7 y7 x8 y8 x9 y9 x10 y10 x11 y11 x12 y12 v1 k0_h1 v30 v2541 v2544 v2555 k0_hw85 v2556 v2557 v2558 K)

def a58 (v30 : FVec F S1024x768 .f32) (v2495 : Elt F .i32) (k0_hw83 : k0_chk83 x0 v1 v2495) (v2511 : V8) (v2514 : V8) (v2515 : BitVec 32) : Prog (TpuEff nD τ sig (Elt F) Λ₀ .tc) (Left (F := F) x0 v1) := k0_part58 b i x0 x1 y1 x2 y2 x3 y3 x4 y4 x5 y5 x6 y6 x7 y7 x8 y8 x9 y9 x10 y10 x11 y11 x12 y12 v1 k0_h1 v30 v2495 k0_hw83 v2511 v2514 v2515 >>= fun r => a59 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2
theorem a58_eq (v30 : FVec F S1024x768 .f32) (v2495 : Elt F .i32) (k0_hw83 : k0_chk83 x0 v1 v2495) (v2511 : V8) (v2514 : V8) (v2515 : BitVec 32) (K : V8 → V8 → Prog (TpuEff nD τ sig (Elt F) Λ₀ .tc) PUnit) : (a58 b i x0 x1 y1 x2 y2 x3 y3 x4 y4 x5 y5 x6 y6 x7 y7 x8 y8 x9 y9 x10 y10 x11 y11 x12 y12 v1 k0_h1 v30 v2495 k0_hw83 v2511 v2514 v2515 >>= k61 b i x0 x1 y1 x2 y2 x3 y3 x4 y4 x5 y5 x6 y6 x7 y7 x8 y8 x9 y9 x10 y10 x11 y11 x12 y12 v1 k0_h1 K) = t57 x0 v1 k0_h1 x3 x10 K v30 v2495 k0_hw83 v2511 v2514 v2515 := by
  unfold a58; exact chain_step' (fun r => a59_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2 K) (step58 b i x0 x1 y1 x2 y2 x3 y3 x4 y4 x5 y5 x6 y6 x7 y7 x8 y8 x9 y9 x10 y10 x11 y11 x12 y12 v1 k0_h1 v30 v2495 k0_hw83 v2511 v2514 v2515 K)

def a57 (v30 : FVec F S1024x768 .f32) (v2451 : V8) (v2454 : V8) (v2465 : Elt F .i32) (k0_hw82 : k0_chk82 x0 v1 v2465) (v2466 : FVec F S8x768 .f32) (v2469 : V8) (v2470 : V8) (v2471 : V8) : Prog (TpuEff nD τ sig (Elt F) Λ₀ .tc) (Left (F := F) x0 v1) := k0_part57 b i x0 x1 y1 x2 y2 x3 y3 x4 y4 x5 y5 x6 y6 x7 y7 x8 y8 x9 y9 x10 y10 x11 y11 x12 y12 v1 k0_h1 v30 v2451 v2454 v2465 k0_hw82 v2466 v2469 v2470 v2471 >>= fun r => a58 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2
theorem a57_eq (v30 : FVec F S1024x768 .f32) (v2451 : V8) (v2454 : V8) (v2465 : Elt F .i32) (k0_hw82 : k0_chk82 x0 v1 v2465) (v2466 : FVec F S8x768 .f32) (v2469 : V8) (v2470 : V8) (v2471 : V8) (K : V8 → V8 → Prog (TpuEff nD τ sig (Elt F) Λ₀ .tc) PUnit) : (a57 b i x0 x1 y1 x2 y2 x3 y3 x4 y4 x5 y5 x6 y6 x7 y7 x8 y8 x9 y9 x10 y10 x11 y11 x12 y12 v1 k0_h1 v30 v2451 v2454 v2465 k0_hw82 v2466 v2469 v2470 v2471 >>= k61 b i x0 x1 y1 x2 y2 x3 y3 x4 y4 x5 y5 x6 y6 x7 y7 x8 y8 x9 y9 x10 y10 x11 y11 x12 y12 v1 k0_h1 K) = t56 x0 v1 k0_h1 x3 x10 K v30 v2451 v2454 v2465 k0_hw82 v2466 v2469 v2470 v2471 := by
  unfold a57; exact chain_step' (fun r => a58_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2 K) (step57 b i x0 x1 y1 x2 y2 x3 y3 x4 y4 x5 y5 x6 y6 x7 y7 x8 y8 x9 y9 x10 y10 x11 y11 x12 y12 v1 k0_h1 v30 v2451 v2454 v2465 k0_hw82 v2466 v2469 v2470 v2471 K)

def a56 (v30 : FVec F S1024x768 .f32) (v2405 : Elt F .i32) (k0_hw80 : k0_chk80 x0 v1 v2405) (v2421 : V8) (v2424 : V8) (v2426 : BitVec 32) : Prog (TpuEff nD τ sig (Elt F) Λ₀ .tc) (Left (F := F) x0 v1) := k0_part56 b i x0 x1 y1 x2 y2 x3 y3 x4 y4 x5 y5 x6 y6 x7 y7 x8 y8 x9 y9 x10 y10 x11 y11 x12 y12 v1 k0_h1 v30 v2405 k0_hw80 v2421 v2424 v2426 >>= fun r => a57 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2.1 r.2.2.2.2.2.2.2
theorem a56_eq (v30 : FVec F S1024x768 .f32) (v2405 : Elt F .i32) (k0_hw80 : k0_chk80 x0 v1 v2405) (v2421 : V8) (v2424 : V8) (v2426 : BitVec 32) (K : V8 → V8 → Prog (TpuEff nD τ sig (Elt F) Λ₀ .tc) PUnit) : (a56 b i x0 x1 y1 x2 y2 x3 y3 x4 y4 x5 y5 x6 y6 x7 y7 x8 y8 x9 y9 x10 y10 x11 y11 x12 y12 v1 k0_h1 v30 v2405 k0_hw80 v2421 v2424 v2426 >>= k61 b i x0 x1 y1 x2 y2 x3 y3 x4 y4 x5 y5 x6 y6 x7 y7 x8 y8 x9 y9 x10 y10 x11 y11 x12 y12 v1 k0_h1 K) = t55 x0 v1 k0_h1 x3 x10 K v30 v2405 k0_hw80 v2421 v2424 v2426 := by
  unfold a56; exact chain_step' (fun r => a57_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2.1 r.2.2.2.2.2.2.2 K) (step56 b i x0 x1 y1 x2 y2 x3 y3 x4 y4 x5 y5 x6 y6 x7 y7 x8 y8 x9 y9 x10 y10 x11 y11 x12 y12 v1 k0_h1 v30 v2405 k0_hw80 v2421 v2424 v2426 K)

def a55 (v30 : FVec F S1024x768 .f32) (v2361 : V8) (v2364 : V8) (v2375 : Elt F .i32) (k0_hw79 : k0_chk79 x0 v1 v2375) (v2376 : FVec F S8x768 .f32) (v2383 : V8) (v2384 : V8) : Prog (TpuEff nD τ sig (Elt F) Λ₀ .tc) (Left (F := F) x0 v1) := k0_part55 b i x0 x1 y1 x2 y2 x3 y3 x4 y4 x5 y5 x6 y6 x7 y7 x8 y8 x9 y9 x10 y10 x11 y11 x12 y12 v1 k0_h1 v30 v2361 v2364 v2375 k0_hw79 v2376 v2383 v2384 >>= fun r => a56 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2
theorem a55_eq (v30 : FVec F S1024x768 .f32) (v2361 : V8) (v2364 : V8) (v2375 : Elt F .i32) (k0_hw79 : k0_chk79 x0 v1 v2375) (v2376 : FVec F S8x768 .f32) (v2383 : V8) (v2384 : V8) (K : V8 → V8 → Prog (TpuEff nD τ sig (Elt F) Λ₀ .tc) PUnit) : (a55 b i x0 x1 y1 x2 y2 x3 y3 x4 y4 x5 y5 x6 y6 x7 y7 x8 y8 x9 y9 x10 y10 x11 y11 x12 y12 v1 k0_h1 v30 v2361 v2364 v2375 k0_hw79 v2376 v2383 v2384 >>= k61 b i x0 x1 y1 x2 y2 x3 y3 x4 y4 x5 y5 x6 y6 x7 y7 x8 y8 x9 y9 x10 y10 x11 y11 x12 y12 v1 k0_h1 K) = t54 x0 v1 k0_h1 x3 x10 K v30 v2361 v2364 v2375 k0_hw79 v2376 v2383 v2384 := by
  unfold a55; exact chain_step' (fun r => a56_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2 K) (step55 b i x0 x1 y1 x2 y2 x3 y3 x4 y4 x5 y5 x6 y6 x7 y7 x8 y8 x9 y9 x10 y10 x11 y11 x12 y12 v1 k0_h1 v30 v2361 v2364 v2375 k0_hw79 v2376 v2383 v2384 K)

def a54 (v30 : FVec F S1024x768 .f32) (v2315 : Elt F .i32) (k0_hw77 : k0_chk77 x0 v1 v2315) (v2331 : V8) (v2334 : V8) (v2336 : BitVec 32) (v2340 : V8) : Prog (TpuEff nD τ sig (Elt F) Λ₀ .tc) (Left (F := F) x0 v1) := k0_part54 b i x0 x1 y1 x2 y2 x3 y3 x4 y4 x5 y5 x6 y6 x7 y7 x8 y8 x9 y9 x10 y10 x11 y11 x12 y12 v1 k0_h1 v30 v2315 k0_hw77 v2331 v2334 v2336 v2340 >>= fun r => a55 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2
theorem a54_eq (v30 : FVec F S1024x768 .f32) (v2315 : Elt F .i32) (k0_hw77 : k0_chk77 x0 v1 v2315) (v2331 : V8) (v2334 : V8) (v2336 : BitVec 32) (v2340 : V8) (K : V8 → V8 → Prog (TpuEff nD τ sig (Elt F) Λ₀ .tc) PUnit) : (a54 b i x0 x1 y1 x2 y2 x3 y3 x4 y4 x5 y5 x6 y6 x7 y7 x8 y8 x9 y9 x10 y10 x11 y11 x12 y12 v1 k0_h1 v30 v2315 k0_hw77 v2331 v2334 v2336 v2340 >>= k61 b i x0 x1 y1 x2 y2 x3 y3 x4 y4 x5 y5 x6 y6 x7 y7 x8 y8 x9 y9 x10 y10 x11 y11 x12 y12 v1 k0_h1 K) = t53 x0 v1 k0_h1 x3 x10 K v30 v2315 k0_hw77 v2331 v2334 v2336 v2340 := by
  unfold a54; exact chain_step' (fun r => a55_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2 K) (step54 b i x0 x1 y1 x2 y2 x3 y3 x4 y4 x5 y5 x6 y6 x7 y7 x8 y8 x9 y9 x10 y10 x11 y11 x12 y12 v1 k0_h1 v30 v2315 k0_hw77 v2331 v2334 v2336 v2340 K)

def a53 (v30 : FVec F S1024x768 .f32) (v2271 : V8) (v2274 : V8) (v2285 : Elt F .i32) (k0_hw76 : k0_chk76 x0 v1 v2285) (v2293 : V8) (v2296 : V8) (c1_i32_541 : BitVec 32) : Prog (TpuEff nD τ sig (Elt F) Λ₀ .tc) (Left (F := F) x0 v1) := k0_part53 b i x0 x1 y1 x2 y2 x3 y3 x4 y4 x5 y5 x6 y6 x7 y7 x8 y8 x9 y9 x10 y10 x11 y11 x12 y12 v1 k0_h1 v30 v2271 v2274 v2285 k0_hw76 v2293 v2296 c1_i32_541 >>= fun r => a54 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2
theorem a53_eq (v30 : FVec F S1024x768 .f32) (v2271 : V8) (v2274 : V8) (v2285 : Elt F .i32) (k0_hw76 : k0_chk76 x0 v1 v2285) (v2293 : V8) (v2296 : V8) (c1_i32_541 : BitVec 32) (K : V8 → V8 → Prog (TpuEff nD τ sig (Elt F) Λ₀ .tc) PUnit) : (a53 b i x0 x1 y1 x2 y2 x3 y3 x4 y4 x5 y5 x6 y6 x7 y7 x8 y8 x9 y9 x10 y10 x11 y11 x12 y12 v1 k0_h1 v30 v2271 v2274 v2285 k0_hw76 v2293 v2296 c1_i32_541 >>= k61 b i x0 x1 y1 x2 y2 x3 y3 x4 y4 x5 y5 x6 y6 x7 y7 x8 y8 x9 y9 x10 y10 x11 y11 x12 y12 v1 k0_h1 K) = t52 x0 v1 k0_h1 x3 x10 K v30 v2271 v2274 v2285 k0_hw76 v2293 v2296 c1_i32_541 := by
  unfold a53; exact chain_step' (fun r => a54_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2 K) (step53 b i x0 x1 y1 x2 y2 x3 y3 x4 y4 x5 y5 x6 y6 x7 y7 x8 y8 x9 y9 x10 y10 x11 y11 x12 y12 v1 k0_h1 v30 v2271 v2274 v2285 k0_hw76 v2293 v2296 c1_i32_541 K)

def a52 (v30 : FVec F S1024x768 .f32) (v2225 : Elt F .i32) (k0_hw74 : k0_chk74 x0 v1 v2225) (v2241 : V8) (v2244 : V8) : Prog (TpuEff nD τ sig (Elt F) Λ₀ .tc) (Left (F := F) x0 v1) := k0_part52 b i x0 x1 y1 x2 y2 x3 y3 x4 y4 x5 y5 x6 y6 x7 y7 x8 y8 x9 y9 x10 y10 x11 y11 x12 y12 v1 k0_h1 v30 v2225 k0_hw74 v2241 v2244 >>= fun r => a53 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2
theorem a52_eq (v30 : FVec F S1024x768 .f32) (v2225 : Elt F .i32) (k0_hw74 : k0_chk74 x0 v1 v2225) (v2241 : V8) (v2244 : V8) (K : V8 → V8 → Prog (TpuEff nD τ sig (Elt F) Λ₀ .tc) PUnit) : (a52 b i x0 x1 y1 x2 y2 x3 y3 x4 y4 x5 y5 x6 y6 x7 y7 x8 y8 x9 y9 x10 y10 x11 y11 x12 y12 v1 k0_h1 v30 v2225 k0_hw74 v2241 v2244 >>= k61 b i x0 x1 y1 x2 y2 x3 y3 x4 y4 x5 y5 x6 y6 x7 y7 x8 y8 x9 y9 x10 y10 x11 y11 x12 y12 v1 k0_h1 K) = t51 x0 v1 k0_h1 x3 x10 K v30 v2225 k0_hw74 v2241 v2244 := by
  unfold a52; exact chain_step' (fun r => a53_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2 K) (step52 b i x0 x1 y1 x2 y2 x3 y3 x4 y4 x5 y5 x6 y6 x7 y7 x8 y8 x9 y9 x10 y10 x11 y11 x12 y12 v1 k0_h1 v30 v2225 k0_hw74 v2241 v2244 K)

def a51 (v30 : FVec F S1024x768 .f32) (v2181 : V8) (v2184 : V8) (v2195 : Elt F .i32) (k0_hw73 : k0_chk73 x0 v1 v2195) (v2203 : V8) (v2206 : V8) (v2208 : BitVec 1) : Prog (TpuEff nD τ sig (Elt F) Λ₀ .tc) (Left (F := F) x0 v1) := k0_part51 b i x0 x1 y1 x2 y2 x3 y3 x4 y4 x5 y5 x6 y6 x7 y7 x8 y8 x9 y9 x10 y10 x11 y11 x12 y12 v1 k0_h1 v30 v2181 v2184 v2195 k0_hw73 v2203 v2206 v2208 >>= fun r => a52 b i x0 x1 y1 x2 y2 x3 y3 x4 y4 x5 y5 x6 y6 x7 y7 x8 y8 x9 y9 x10 y10 x11 y11 x12 y12 v1 k0_h1 v30 r.1 r.2.1 r.2.2.1 r.2.2.2
theorem a51_eq (v30 : FVec F S1024x768 .f32) (v2181 : V8) (v2184 : V8) (v2195 : Elt F .i32) (k0_hw73 : k0_chk73 x0 v1 v2195) (v2203 : V8) (v2206 : V8) (v2208 : BitVec 1) (K : V8 → V8 → Prog (TpuEff nD τ sig (Elt F) Λ₀ .tc) PUnit) : (a51 b i x0 x1 y1 x2 y2 x3 y3 x4 y4 x5 y5 x6 y6 x7 y7 x8 y8 x9 y9 x10 y10 x11 y11 x12 y12 v1 k0_h1 v30 v2181 v2184 v2195 k0_hw73 v2203 v2206 v2208 >>= k61 b i x0 x1 y1 x2 y2 x3 y3 x4 y4 x5 y5 x6 y6 x7 y7 x8 y8 x9 y9 x10 y10 x11 y11 x12 y12 v1 k0_h1 K) = t50 x0 v1 k0_h1 x3 x10 K v30 v2181 v2184 v2195 k0_hw73 v2203 v2206 v2208 := by
  unfold a51; exact chain_step' (fun r => a52_eq b i x0 x1 y1 x2 y2 x3 y3 x4 y4 x5 y5 x6 y6 x7 y7 x8 y8 x9 y9 x10 y10 x11 y11 x12 y12 v1 k0_h1 v30 r.1 r.2.1 r.2.2.1 r.2.2.2 K) (step51 b i x0 x1 y1 x2 y2 x3 y3 x4 y4 x5 y5 x6 y6 x7 y7 x8 y8 x9 y9 x10 y10 x11 y11 x12 y12 v1 k0_h1 v30 v2181 v2184 v2195 k0_hw73 v2203 v2206 v2208 K)

def a50 (v30 : FVec F S1024x768 .f32) (v2135 : Elt F .i32) (k0_hw71 : k0_chk71 x0 v1 v2135) (v2151 : V8) (v2154 : V8) (v2164 : V8) : Prog (TpuEff nD τ sig (Elt F) Λ₀ .tc) (Left (F := F) x0 v1) := k0_part50 b i x0 x1 y1 x2 y2 x3 y3 x4 y4 x5 y5 x6 y6 x7 y7 x8 y8 x9 y9 x10 y10 x11 y11 x12 y12 v1 k0_h1 v30 v2135 k0_hw71 v2151 v2154 v2164 >>= fun r => a51 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2
theorem a50_eq (v30 : FVec F S1024x768 .f32) (v2135 : Elt F .i32) (k0_hw71 : k0_chk71 x0 v1 v2135) (v2151 : V8) (v2154 : V8) (v2164 : V8) (K : V8 → V8 → Prog (TpuEff nD τ sig (Elt F) Λ₀ .tc) PUnit) : (a50 b i x0 x1 y1 x2 y2 x3 y3 x4 y4 x5 y5 x6 y6 x7 y7 x8 y8 x9 y9 x10 y10 x11 y11 x12 y12 v1 k0_h1 v30 v2135 k0_hw71 v2151 v2154 v2164 >>= k61 b i x0 x1 y1 x2 y2 x3 y3 x4 y4 x5 y5 x6 y6 x7 y7 x8 y8 x9 y9 x10 y10 x11 y11 x12 y12 v1 k0_h1 K) = t49 x0 v1 k0_h1 x3 x10 K v30 v2135 k0_hw71 v2151 v2154 v2164 := by
  unfold a50; exact chain_step' (fun r => a51_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2 K) (step50 b i x0 x1 y1 x2 y2 x3 y3 x4 y4 x5 y5 x6 y6 x7 y7 x8 y8 x9 y9 x10 y10 x11 y11 x12 y12 v1 k0_h1 v30 v2135 k0_hw71 v2151 v2154 v2164 K)

def a49 (v30 : FVec F S1024x768 .f32) (v2094 : V8) (v2105 : Elt F .i32) (k0_hw70 : k0_chk70 x0 v1 v2105) (v2113 : V8) (v2116 : V8) (v2118 : BitVec 1) (v2120 : V8) : Prog (TpuEff nD τ sig (Elt F) Λ₀ .tc) (Left (F := F) x0 v1) := k0_part49 b i x0 x1 y1 x2 y2 x3 y3 x4 y4 x5 y5 x6 y6 x7 y7 x8 y8 x9 y9 x10 y10 x11 y11 x12 y12 v1 k0_h1 v30 v2094 v2105 k0_hw70 v2113 v2116 v2118 v2120 >>= fun r => a50 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2
theorem a49_eq (v30 : FVec F S1024x768 .f32) (v2094 : V8) (v2105 : Elt F .i32) (k0_hw70 : k0_chk70 x0 v1 v2105) (v2113 : V8) (v2116 : V8) (v2118 : BitVec 1) (v2120 : V8) (K : V8 → V8 → Prog (TpuEff nD τ sig (Elt F) Λ₀ .tc) PUnit) : (a49 b i x0 x1 y1 x2 y2 x3 y3 x4 y4 x5 y5 x6 y6 x7 y7 x8 y8 x9 y9 x10 y10 x11 y11 x12 y12 v1 k0_h1 v30 v2094 v2105 k0_hw70 v2113 v2116 v2118 v2120 >>= k61 b i x0 x1 y1 x2 y2 x3 y3 x4 y4 x5 y5 x6 y6 x7 y7 x8 y8 x9 y9 x10 y10 x11 y11 x12 y12 v1 k0_h1 K) = t48 x0 v1 k0_h1 x3 x10 K v30 v2094 v2105 k0_hw70 v2113 v2116 v2118 v2120 := by
  unfold a49; exact chain_step' (fun r => a50_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2 K) (step49 b i x0 x1 y1 x2 y2 x3 y3 x4 y4 x5 y5 x6 y6 x7 y7 x8 y8 x9 y9 x10 y10 x11 y11 x12 y12 v1 k0_h1 v30 v2094 v2105 k0_hw70 v2113 v2116 v2118 v2120 K)

def a48 (v30 : FVec F S1024x768 .f32) (v2061 : V8) (v2064 : V8) (v2075 : Elt F .i32) : Prog (TpuEff nD τ sig (Elt F) Λ₀ .tc) (Left (F := F) x0 v1) := k0_part48 b i x0 x1 y1 x2 y2 x3 y3 x4 y4 x5 y5 x6 y6 x7 y7 x8 y8 x9 y9 x10 y10 x11 y11 x12 y12 v1 k0_h1 v30 v2061 v2064 v2075 >>= fun r => a49 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2
theorem a48_eq (v30 : FVec F S1024x768 .f32) (v2061 : V8) (v2064 : V8) (v2075 : Elt F .i32) (K : V8 → V8 → Prog (TpuEff nD τ sig (Elt F) Λ₀ .tc) PUnit) : (a48 b i x0 x1 y1 x2 y2 x3 y3 x4 y4 x5 y5 x6 y6 x7 y7 x8 y8 x9 y9 x10 y10 x11 y11 x12 y12 v1 k0_h1 v30 v2061 v2064 v2075 >>= k61 b i x0 x1 y1 x2 y2 x3 y3 x4 y4 x5 y5 x6 y6 x7 y7 x8 y8 x9 y9 x10 y10 x11 y11 x12 y12 v1 k0_h1 K) = t47 x0 v1 k0_h1 x3 x10 K v30 v2061 v2064 v2075 := by
  unfold a48; exact chain_step' (fun r => a49_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2 K) (step48 b i x0 x1 y1 x2 y2 x3 y3 x4 y4 x5 y5 x6 y6 x7 y7 x8 y8 x9 y9 x10 y10 x11 y11 x12 y12 v1 k0_h1 v30 v2061 v2064 v2075 K)

def a47 (v30 : FVec F S1024x768 .f32) (v2004 : V8) (v2015 : Elt F .i32) (k0_hw67 : k0_chk67 x0 v1 v2015) (v2026 : V8) (v2028 : BitVec 1) (v2031 : V8) (v2032 : V8) : Prog (TpuEff nD τ sig (Elt F) Λ₀ .tc) (Left (F := F) x0 v1) := k0_part47 b i x0 x1 y1 x2 y2 x3 y3 x4 y4 x5 y5 x6 y6 x7 y7 x8 y8 x9 y9 x10 y10 x11 y11 x12 y12 v1 k0_h1 v30 v2004 v2015 k0_hw67 v2026 v2028 v2031 v2032 >>= fun r => a48 b i x0 x1 y1 x2 y2 x3 y3 x4 y4 x5 y5 x6 y6 x7 y7 x8 y8 x9 y9 x10 y10 x11 y11 x12 y12 v1 k0_h1 v30 r.1 r.2.1 r.2.2
theorem a47_eq (v30 : FVec F S1024x768 .f32) (v2004 : V8) (v2015 : Elt F .i32) (k0_hw67 : k0_chk67 x0 v1 v2015) (v2026 : V8) (v2028 : BitVec 1) (v2031 : V8) (v2032 : V8) (K : V8 → V8 → Prog (TpuEff nD τ sig (Elt F) Λ₀ .tc) PUnit) : (a47 b i x0 x1 y1 x2 y2 x3 y3 x4 y4 x5 y5 x6 y6 x7 y7 x8 y8 x9 y9 x10 y10 x11 y11 x12 y12 v1 k0_h1 v30 v2004 v2015 k0_hw67 v2026 v2028 v2031 v2032 >>= k61 b i x0 x1 y1 x2 y2 x3 y3 x4 y4 x5 y5 x6 y6 x7 y7 x8 y8 x9 y9 x10 y10 x11 y11 x12 y12 v1 k0_h1 K) = t46 x0 v1 k0_h1 x3 x10 K v30 v2004 v2015 k0_hw67 v2026 v2028 v2031 v2032 := by
  unfold a47; exact chain_step' (fun r => a48_eq b i x0 x1 y1 x2 y2 x3 y3 x4 y4 x5 y5 x6 y6 x7 y7 x8 y8 x9 y9 x10 y10 x11 y11 x12 y12 v1 k0_h1 v30 r.1 r.2.1 r.2.2 K) (step47 b i x0 x1 y1 x2 y2 x3 y3 x4 y4 x5 y5 x6 y6 x7 y7 x8 y8 x9 y9 x10 y10 x11 y11 x12 y12 v1 k0_h1 v30 v2004 v2015 k0_hw67 v2026 v2028 v2031 v2032 K)

def a46 (v30 : FVec F S1024x768 .f32) (v1971 : V8) (v1974 : V8) (v1985 : Elt F .i32) (k0_hw66 : k0_chk66 x0 v1 v1985) (v1986 : FVec F S8x768 .f32) (v1987 : V8) : Prog (TpuEff nD τ sig (Elt F) Λ₀ .tc) (Left (F := F) x0 v1) := k0_part46 b i x0 x1 y1 x2 y2 x3 y3 x4 y4 x5 y5 x6 y6 x7 y7 x8 y8 x9 y9 x10 y10 x11 y11 x12 y12 v1 k0_h1 v30 v1971 v1974 v1985 k0_hw66 v1986 v1987 >>= fun r => a47 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2
theorem a46_eq (v30 : FVec F S1024x768 .f32) (v1971 : V8) (v1974 : V8) (v1985 : Elt F .i32) (k0_hw66 : k0_chk66 x0 v1 v1985) (v1986 : FVec F S8x768 .f32) (v1987 : V8) (K : V8 → V8 → Prog (TpuEff nD τ sig (Elt F) Λ₀ .tc) PUnit) : (a46 b i x0 x1 y1 x2 y2 x3 y3 x4 y4 x5 y5 x6 y6 x7 y7 x8 y8 x9 y9 x10 y10 x11 y11 x12 y12 v1 k0_h1 v30 v1971 v1974 v1985 k0_hw66 v1986 v1987 >>= k61 b i x0 x1 y1 x2 y2 x3 y3 x4 y4 x5 y5 x6 y6 x7 y7 x8 y8 x9 y9 x10 y10 x11 y11 x12 y12 v1 k0_h1 K) = t45 x0 v1 k0_h1 x3 x10 K v30 v1971 v1974 v1985 k0_hw66 v1986 v1987 := by
  unfold a46; exact chain_step' (fun r => a47_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2 K) (step46 b i x0 x1 y1 x2 y2 x3 y3 x4 y4 x5 y5 x6 y6 x7 y7 x8 y8 x9 y9 x10 y10 x11 y11 x12 y12 v1 k0_h1 v30 v1971 v1974 v1985 k0_hw66 v1986 v1987 K)

def a45 (v30 : FVec F S1024x768 .f32) (v1925 : Elt F .i32) (k0_hw64 : k0_chk64 x0 v1 v1925) (v1941 : V8) (v1944 : V8) (c1_i32_461 : BitVec 32) : Prog (TpuEff nD τ sig (Elt F) Λ₀ .tc) (Left (F := F) x0 v1) := k0_part45 b i x0 x1 y1 x2 y2 x3 y3 x4 y4 x5 y5 x6 y6 x7 y7 x8 y8 x9 y9 x10 y10 x11 y11 x12 y12 v1 k0_h1 v30 v1925 k0_hw64 v1941 v1944 c1_i32_461 >>= fun r => a46 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2
theorem a45_eq (v30 : FVec F S1024x768 .f32) (v1925 : Elt F .i32) (k0_hw64 : k0_chk64 x0 v1 v1925) (v1941 : V8) (v1944 : V8) (c1_i32_461 : BitVec 32) (K : V8 → V8 → Prog (TpuEff nD τ sig (Elt F) Λ₀ .tc) PUnit) : (a45 b i x0 x1 y1 x2 y2 x3 y3 x4 y4 x5 y5 x6 y6 x7 y7 x8 y8 x9 y9 x10 y10 x11 y11 x12 y12 v1 k0_h1 v30 v1925 k0_hw64 v1941 v1944 c1_i32_461 >>= k61 b i x0 x1 y1 x2 y2 x3 y3 x4 y4 x5 y5 x6 y6 x7 y7 x8 y8 x9 y9 x10 y10 x11 y11 x12 y12 v1 k0_h1 K) = t44 x0 v1 k0_h1 x3 x10 K v30 v1925 k0_hw64 v1941 v1944 c1_i32_461 := by
  unfold a45; exact chain_step' (fun r => a46_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2 K) (step45 b i x0 x1 y1 x2 y2 x3 y3 x4 y4 x5 y5 x6 y6 x7 y7 x8 y8 x9 y9 x10 y10 x11 y11 x12 y12 v1 k0_h1 v30 v1925 k0_hw64 v1941 v1944 c1_i32_461 K)

def a44 (v30 : FVec F S1024x768 .f32) (v1881 : V8) (v1884 : V8) (v1895 : Elt F .i32) (k0_hw63 : k0_chk63 x0 v1 v1895) (v1896 : FVec F S8x768 .f32) (v1899 : V8) (v1900 : V8) : Prog (TpuEff nD τ sig (Elt F) Λ₀ .tc) (Left (F := F) x0 v1) := k0_part44 b i x0 x1 y1 x2 y2 x3 y3 x4 y4 x5 y5 x6 y6 x7 y7 x8 y8 x9 y9 x10 y10 x11 y11 x12 y12 v1 k0_h1 v30 v1881 v1884 v1895 k0_hw63 v1896 v1899 v1900 >>= fun r => a45 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2
theorem a44_eq (v30 : FVec F S1024x768 .f32) (v1881 : V8) (v1884 : V8) (v1895 : Elt F .i32) (k0_hw63 : k0_chk63 x0 v1 v1895) (v1896 : FVec F S8x768 .f32) (v1899 : V8) (v1900 : V8) (K : V8 → V8 → Prog (TpuEff nD τ sig (Elt F) Λ₀ .tc) PUnit) : (a44 b i x0 x1 y1 x2 y2 x3 y3 x4 y4 x5 y5 x6 y6 x7 y7 x8 y8 x9 y9 x10 y10 x11 y11 x12 y12 v1 k0_h1 v30 v1881 v1884 v1895 k0_hw63 v1896 v1899 v1900 >>= k61 b i x0 x1 y1 x2 y2 x3 y3 x4 y4 x5 y5 x6 y6 x7 y7 x8 y8 x9 y9 x10 y10 x11 y11 x12 y12 v1 k0_h1 K) = t43 x0 v1 k0_h1 x3 x10 K v30 v1881 v1884 v1895 k0_hw63 v1896 v1899 v1900 := by
  unfold a44; exact chain_step' (fun r => a45_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2 K) (step44 b i x0 x1 y1 x2 y2 x3 y3 x4 y4 x5 y5 x6 y6 x7 y7 x8 y8 x9 y9 x10 y10 x11 y11 x12 y12 v1 k0_h1 v30 v1881 v1884 v1895 k0_hw63 v1896 v1899 v1900 K)

def a43 (v30 : FVec F S1024x768 .f32) (v1835 : Elt F .i32) (k0_hw61 : k0_chk61 x0 v1 v1835) (v1851 : V8) (v1854 : V8) (v1856 : BitVec 32) : Prog (TpuEff nD τ sig (Elt F) Λ₀ .tc) (Left (F := F) x0 v1) := k0_part43 b i x0 x1 y1 x2 y2 x3 y3 x4 y4 x5 y5 x6 y6 x7 y7 x8 y8 x9 y9 x10 y10 x11 y11 x12 y12 v1 k0_h1 v30 v1835 k0_hw61 v1851 v1854 v1856 >>= fun r => a44 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2
theorem a43_eq (v30 : FVec F S1024x768 .f32) (v1835 : Elt F .i32) (k0_hw61 : k0_chk61 x0 v1 v1835) (v1851 : V8) (v1854 : V8) (v1856 : BitVec 32) (K : V8 → V8 → Prog (TpuEff nD τ sig (Elt F) Λ₀ .tc) PUnit) : (a43 b i x0 x1 y1 x2 y2 x3 y3 x4 y4 x5 y5 x6 y6 x7 y7 x8 y8 x9 y9 x10 y10 x11 y11 x12 y12 v1 k0_h1 v30 v1835 k0_hw61 v1851 v1854 v1856 >>= k61 b i x0 x1 y1 x2 y2 x3 y3 x4 y4 x5 y5 x6 y6 x7 y7 x8 y8 x9 y9 x10 y10 x11 y11 x12 y12 v1 k0_h1 K) = t42 x0 v1 k0_h1 x3 x10 K v30 v1835 k0_hw61 v1851 v1854 v1856 := by
  unfold a43; exact chain_step' (fun r => a44_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2 K) (step43 b i x0 x1 y1 x2 y2 x3 y3 x4 y4 x5 y5 x6 y6 x7 y7 x8 y8 x9 y9 x10 y10 x11 y11 x12 y12 v1 k0_h1 v30 v1835 k0_hw61 v1851 v1854 v1856 K)

def a42 (v30 : FVec F S1024x768 .f32) (v1791 : V8) (v1794 : V8) (v1805 : Elt F .i32) (k0_hw60 : k0_chk60 x0 v1 v1805) (v1806 : FVec F S8x768 .f32) (v1813 : V8) : Prog (TpuEff nD τ sig (Elt F) Λ₀ .tc) (Left (F := F) x0 v1) := k0_part42 b i x0 x1 y1 x2 y2 x3 y3 x4 y4 x5 y5 x6 y6 x7 y7 x8 y8 x9 y9 x10 y10 x11 y11 x12 y12 v1 k0_h1 v30 v1791 v1794 v1805 k0_hw60 v1806 v1813 >>= fun r => a43 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2
theorem a42_eq (v30 : FVec F S1024x768 .f32) (v1791 : V8) (v1794 : V8) (v1805 : Elt F .i32) (k0_hw60 : k0_chk60 x0 v1 v1805) (v1806 : FVec F S8x768 .f32) (v1813 : V8) (K : V8 → V8 → Prog (TpuEff nD τ sig (Elt F) Λ₀ .tc) PUnit) : (a42 b i x0 x1 y1 x2 y2 x3 y3 x4 y4 x5 y5 x6 y6 x7 y7 x8 y8 x9 y9 x10 y10 x11 y11 x12 y12 v1 k0_h1 v30 v1791 v1794 v1805 k0_hw60 v1806 v1813 >>= k61 b i x0 x1 y1 x2 y2 x3 y3 x4 y4 x5 y5 x6 y6 x7 y7 x8 y8 x9 y9 x10 y10 x11 y11 x12 y12 v1 k0_h1 K) = t41 x0 v1 k0_h1 x3 x10 K v30 v1791 v1794 v1805 k0_hw60 v1806 v1813 := by
  unfold a42; exact chain_step' (fun r => a43_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2 K) (step42 b i x0 x1 y1 x2 y2 x3 y3 x4 y4 x5 y5 x6 y6 x7 y7 x8 y8 x9 y9 x10 y10 x11 y11 x12 y12 v1 k0_h1 v30 v1791 v1794 v1805 k0_hw60 v1806 v1813 K)

def a41 (v30 : FVec F S1024x768 .f32) (v1745 : Elt F .i32) (k0_hw58 : k0_chk58 x0 v1 v1745) (v1761 : V8) (v1764 : V8) (v1766 : BitVec 32) : Prog (TpuEff nD τ sig (Elt F) Λ₀ .tc) (Left (F := F) x0 v1) := k0_part41 b i x0 x1 y1 x2 y2 x3 y3 x4 y4 x5 y5 x6 y6 x7 y7 x8 y8 x9 y9 x10 y10 x11 y11 x12 y12 v1 k0_h1 v30 v1745 k0_hw58 v1761 v1764 v1766 >>= fun r => a42 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2
theorem a41_eq (v30 : FVec F S1024x768 .f32) (v1745 : Elt F .i32) (k0_hw58 : k0_chk58 x0 v1 v1745) (v1761 : V8) (v1764 : V8) (v1766 : BitVec 32) (K : V8 → V8 → Prog (TpuEff nD τ sig (Elt F) Λ₀ .tc) PUnit) : (a41 b i x0 x1 y1 x2 y2 x3 y3 x4 y4 x5 y5 x6 y6 x7 y7 x8 y8 x9 y9 x10 y10 x11 y11 x12 y12 v1 k0_h1 v30 v1745 k0_hw58 v1761 v1764 v1766 >>= k61 b i x0 x1 y1 x2 y2 x3 y3 x4 y4 x5 y5 x6 y6 x7 y7 x8 y8 x9 y9 x10 y10 x11 y11 x12 y12 v1 k0_h1 K) = t40 x0 v1 k0_h1 x3 x10 K v30 v1745 k0_hw58 v1761 v1764 v1766 := by
  unfold a41; exact chain_step' (fun r => a42_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2 K) (step41 b i x0 x1 y1 x2 y2 x3 y3 x4 y4 x5 y5 x6 y6 x7 y7 x8 y8 x9 y9 x10 y10 x11 y11 x12 y12 v1 k0_h1 v30 v1745 k0_hw58 v1761 v1764 v1766 K)

def a40 (v30 : FVec F S1024x768 .f32) (v1701 : V8) (v1704 : V8) (v1715 : Elt F .i32) (k0_hw57 : k0_chk57 x0 v1 v1715) (v1723 : V8) (v1726 : V8) : Prog (TpuEff nD τ sig (Elt F) Λ₀ .tc) (Left (F := F) x0 v1) := k0_part40 b i x0 x1 y1 x2 y2 x3 y3 x4 y4 x5 y5 x6 y6 x7 y7 x8 y8 x9 y9 x10 y10 x11 y11 x12 y12 v1 k0_h1 v30 v1701 v1704 v1715 k0_hw57 v1723 v1726 >>= fun r => a41 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2
theorem a40_eq (v30 : FVec F S1024x768 .f32) (v1701 : V8) (v1704 : V8) (v1715 : Elt F .i32) (k0_hw57 : k0_chk57 x0 v1 v1715) (v1723 : V8) (v1726 : V8) (K : V8 → V8 → Prog (TpuEff nD τ sig (Elt F) Λ₀ .tc) PUnit) : (a40 b i x0 x1 y1 x2 y2 x3 y3 x4 y4 x5 y5 x6 y6 x7 y7 x8 y8 x9 y9 x10 y10 x11 y11 x12 y12 v1 k0_h1 v30 v1701 v1704 v1715 k0_hw57 v1723 v1726 >>= k61 b i x0 x1 y1 x2 y2 x3 y3 x4 y4 x5 y5 x6 y6 x7 y7 x8 y8 x9 y9 x10 y10 x11 y11 x12 y12 v1 k0_h1 K) = t39 x0 v1 k0_h1 x3 x10 K v30 v1701 v1704 v1715 k0_hw57 v1723 v1726 := by
  unfold a40; exact chain_step' (fun r => a41_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2 K) (step40 b i x0 x1 y1 x2 y2 x3 y3 x4 y4 x5 y5 x6 y6 x7 y7 x8 y8 x9 y9 x10 y10 x11 y11 x12 y12 v1 k0_h1 v30 v1701 v1704 v1715 k0_hw57 v1723 v1726 K)

def a39 (v30 : FVec F S1024x768 .f32) (v1655 : Elt F .i32) (k0_hw55 : k0_chk55 x0 v1 v1655) (v1671 : V8) (v1674 : V8) : Prog (TpuEff nD τ sig (Elt F) Λ₀ .tc) (Left (F := F) x0 v1) := k0_part39 b i x0 x1 y1 x2 y2 x3 y3 x4 y4 x5 y5 x6 y6 x7 y7 x8 y8 x9 y9 x10 y10 x11 y11 x12 y12 v1 k0_h1 v30 v1655 k0_hw55 v1671 v1674 >>= fun r => a40 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2
theorem a39_eq (v30 : FVec F S1024x768 .f32) (v1655 : Elt F .i32) (k0_hw55 : k0_chk55 x0 v1 v1655) (v1671 : V8) (v1674 : V8) (K : V8 → V8 → Prog (TpuEff nD τ sig (Elt F) Λ₀ .tc) PUnit) : (a39 b i x0 x1 y1 x2 y2 x3 y3 x4 y4 x5 y5 x6 y6 x7 y7 x8 y8 x9 y9 x10 y10 x11 y11 x12 y12 v1 k0_h1 v30 v1655 k0_hw55 v1671 v1674 >>= k61 b i x0 x1 y1 x2 y2 x3 y3 x4 y4 x5 y5 x6 y6 x7 y7 x8 y8 x9 y9 x10 y10 x11 y11 x12 y12 v1 k0_h1 K) = t38 x0 v1 k0_h1 x3 x10 K v30 v1655 k0_hw55 v1671 v1674 := by
  unfold a39; exact chain_step' (fun r => a40_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2 K) (step39 b i x0 x1 y1 x2 y2 x3 y3 x4 y4 x5 y5 x6 y6 x7 y7 x8 y8 x9 y9 x10 y10 x11 y11 x12 y12 v1 k0_h1 v30 v1655 k0_hw55 v1671 v1674 K)

def a38 (v30 : FVec F S1024x768 .f32) (v1611 : V8) (v1614 : V8) (v1625 : Elt F .i32) (k0_hw54 : k0_chk54 x0 v1 v1625) (v1633 : V8) (v1636 : V8) (v1637 : BitVec 32) (c1_i32_388 : BitVec 32) : Prog (TpuEff nD τ sig (Elt F) Λ₀ .tc) (Left (F := F) x0 v1) := k0_part38 b i x0 x1 y1 x2 y2 x3 y3 x4 y4 x5 y5 x6 y6 x7 y7 x8 y8 x9 y9 x10 y10 x11 y11 x12 y12 v1 k0_h1 v30 v1611 v1614 v1625 k0_hw54 v1633 v1636 v1637 c1_i32_388 >>= fun r => a39 b i x0 x1 y1 x2 y2 x3 y3 x4 y4 x5 y5 x6 y6 x7 y7 x8 y8 x9 y9 x10 y10 x11 y11 x12 y12 v1 k0_h1 v30 r.1 r.2.1 r.2.2.1 r.2.2.2
theorem a38_eq (v30 : FVec F S1024x768 .f32) (v1611 : V8) (v1614 : V8) (v1625 : Elt F .i32) (k0_hw54 : k0_chk54 x0 v1 v1625) (v1633 : V8) (v1636 : V8) (v1637 : BitVec 32) (c1_i32_388 : BitVec 32) (K : V8 → V8 → Prog (TpuEff nD τ sig (Elt F) Λ₀ .tc) PUnit) : (a38 b i x0 x1 y1 x2 y2 x3 y3 x4 y4 x5 y5 x6 y6 x7 y7 x8 y8 x9 y9 x10 y10 x11 y11 x12 y12 v1 k0_h1 v30 v1611 v1614 v1625 k0_hw54 v1633 v1636 v1637 c1_i32_388 >>= k61 b i x0 x1 y1 x2 y2 x3 y3 x4 y4 x5 y5 x6 y6 x7 y7 x8 y8 x9 y9 x10 y10 x11 y11 x12 y12 v1 k0_h1 K) = t37 x0 v1 k0_h1 x3 x10 K v30 v1611 v1614 v1625 k0_hw54 v1633 v1636 v1637 c1_i32_388 := by
  unfold a38; exact chain_step' (fun r => a39_eq b i x0 x1 y1 x2 y2 x3 y3 x4 y4 x5 y5 x6 y6 x7 y7 x8 y8 x9 y9 x10 y10 x11 y11 x12 y12 v1 k0_h1 v30 r.1 r.2.1 r.2.2.1 r.2.2.2 K) (step38 b i x0 x1 y1 x2 y2 x3 y3 x4 y4 x5 y5 x6 y6 x7 y7 x8 y8 x9 y9 x10 y10 x11 y11 x12 y12 v1 k0_h1 v30 v1611 v1614 v1625 k0_hw54 v1633 v1636 v1637 c1_i32_388 K)

def a37 (v30 : FVec F S1024x768 .f32) (v1565 : Elt F .i32) (k0_hw52 : k0_chk52 x0 v1 v1565) (v1581 : V8) (v1584 : V8) : Prog (TpuEff nD τ sig (Elt F) Λ₀ .tc) (Left (F := F) x0 v1) := k0_part37 b i x0 x1 y1 x2 y2 x3 y3 x4 y4 x5 y5 x6 y6 x7 y7 x8 y8 x9 y9 x10 y10 x11 y11 x12 y12 v1 k0_h1 v30 v1565 k0_hw52 v1581 v1584 >>= fun r => a38 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2.1 r.2.2.2.2.2.2.2
theorem a37_eq (v30 : FVec F S1024x768 .f32) (v1565 : Elt F .i32) (k0_hw52 : k0_chk52 x0 v1 v1565) (v1581 : V8) (v1584 : V8) (K : V8 → V8 → Prog (TpuEff nD τ sig (Elt F) Λ₀ .tc) PUnit) : (a37 b i x0 x1 y1 x2 y2 x3 y3 x4 y4 x5 y5 x6 y6 x7 y7 x8 y8 x9 y9 x10 y10 x11 y11 x12 y12 v1 k0_h1 v30 v1565 k0_hw52 v1581 v1584 >>= k61 b i x0 x1 y1 x2 y2 x3 y3 x4 y4 x5 y5 x6 y6 x7 y7 x8 y8 x9 y9 x10 y10 x11 y11 x12 y12 v1 k0_h1 K) = t36 x0 v1 k0_h1 x3 x10 K v30 v1565 k0_hw52 v1581 v1584 := by
  unfold a37; exact chain_step' (fun r => a38_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2.1 r.2.2.2.2.2.2.2 K) (step37 b i x0 x1 y1 x2 y2 x3 y3 x4 y4 x5 y5 x6 y6 x7 y7 x8 y8 x9 y9 x10 y10 x11 y11 x12 y12 v1 k0_h1 v30 v1565 k0_hw52 v1581 v1584 K)

def a36 (v30 : FVec F S1024x768 .f32) (v1521 : V8) (v1524 : V8) (v1535 : Elt F .i32) (k0_hw51 : k0_chk51 x0 v1 v1535) (v1543 : V8) (v1546 : V8) (v1548 : BitVec 1) (v1549 : V8) : Prog (TpuEff nD τ sig (Elt F) Λ₀ .tc) (Left (F := F) x0 v1) := k0_part36 b i x0 x1 y1 x2 y2 x3 y3 x4 y4 x5 y5 x6 y6 x7 y7 x8 y8 x9 y9 x10 y10 x11 y11 x12 y12 v1 k0_h1 v30 v1521 v1524 v1535 k0_hw51 v1543 v1546 v1548 v1549 >>= fun r => a37 b i x0 x1 y1 x2 y2 x3 y3 x4 y4 x5 y5 x6 y6 x7 y7 x8 y8 x9 y9 x10 y10 x11 y11 x12 y12 v1 k0_h1 v30 r.1 r.2.1 r.2.2.1 r.2.2.2
theorem a36_eq (v30 : FVec F S1024x768 .f32) (v1521 : V8) (v1524 : V8) (v1535 : Elt F .i32) (k0_hw51 : k0_chk51 x0 v1 v1535) (v1543 : V8) (v1546 : V8) (v1548 : BitVec 1) (v1549 : V8) (K : V8 → V8 → Prog (TpuEff nD τ sig (Elt F) Λ₀ .tc) PUnit) : (a36 b i x0 x1 y1 x2 y2 x3 y3 x4 y4 x5 y5 x6 y6 x7 y7 x8 y8 x9 y9 x10 y10 x11 y11 x12 y12 v1 k0_h1 v30 v1521 v1524 v1535 k0_hw51 v1543 v1546 v1548 v1549 >>= k61 b i x0 x1 y1 x2 y2 x3 y3 x4 y4 x5 y5 x6 y6 x7 y7 x8 y8 x9 y9 x10 y10 x11 y11 x12 y12 v1 k0_h1 K) = t35 x0 v1 k0_h1 x3 x10 K v30 v1521 v1524 v1535 k0_hw51 v1543 v1546 v1548 v1549 := by
  unfold a36; exact chain_step' (fun r => a37_eq b i x0 x1 y1 x2 y2 x3 y3 x4 y4 x5 y5 x6 y6 x7 y7 x8 y8 x9 y9 x10 y10 x11 y11 x12 y12 v1 k0_h1 v30 r.1 r.2.1 r.2.2.1 r.2.2.2 K) (step36 b i x0 x1 y1 x2 y2 x3 y3 x4 y4 x5 y5 x6 y6 x7 y7 x8 y8 x9 y9 x10 y10 x11 y11 x12 y12 v1 k0_h1 v30 v1521 v1524 v1535 k0_hw51 v1543 v1546 v1548 v1549 K)

def a35 (v30 : FVec F S1024x768 .f32) (v1491 : V8) (v1494 : V8) : Prog (TpuEff nD τ sig (Elt F) Λ₀ .tc) (Left (F := F) x0 v1) := k0_part35 b i x0 x1 y1 x2 y2 x3 y3 x4 y4 x5 y5 x6 y6 x7 y7 x8 y8 x9 y9 x10 y10 x11 y11 x12 y12 v1 k0_h1 v30 v1491 v1494 >>= fun r => a36 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2.1 r.2.2.2.2.2.2.2
theorem a35_eq (v30 : FVec F S1024x768 .f32) (v1491 : V8) (v1494 : V8) (K : V8 → V8 → Prog (TpuEff nD τ sig (Elt F) Λ₀ .tc) PUnit) : (a35 b i x0 x1 y1 x2 y2 x3 y3 x4 y4 x5 y5 x6 y6 x7 y7 x8 y8 x9 y9 x10 y10 x11 y11 x12 y12 v1 k0_h1 v30 v1491 v1494 >>= k61 b i x0 x1 y1 x2 y2 x3 y3 x4 y4 x5 y5 x6 y6 x7 y7 x8 y8 x9 y9 x10 y10 x11 y11 x12 y12 v1 k0_h1 K) = t34 x0 v1 k0_h1 x3 x10 K v30 v1491 v1494 := by
  unfold a35; exact chain_step' (fun r => a36_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2.1 r.2.2.2.2.2.2.2 K) (step35 b i x0 x1 y1 x2 y2 x3 y3 x4 y4 x5 y5 x6 y6 x7 y7 x8 y8 x9 y9 x10 y10 x11 y11 x12 y12 v1 k0_h1 v30 v1491 v1494 K)

def a34 (v30 : FVec F S1024x768 .f32) (v1434 : V8) (v1445 : Elt F .i32) (k0_hw48 : k0_chk48 x0 v1 v1445) (v1456 : V8) (v1458 : BitVec 1) (v1461 : V8) (cst_348 : F .f32) : Prog (TpuEff nD τ sig (Elt F) Λ₀ .tc) (Left (F := F) x0 v1) := k0_part34 b i x0 x1 y1 x2 y2 x3 y3 x4 y4 x5 y5 x6 y6 x7 y7 x8 y8 x9 y9 x10 y10 x11 y11 x12 y12 v1 k0_h1 v30 v1434 v1445 k0_hw48 v1456 v1458 v1461 cst_348 >>= fun r => a35 b i x0 x1 y1 x2 y2 x3 y3 x4 y4 x5 y5 x6 y6 x7 y7 x8 y8 x9 y9 x10 y10 x11 y11 x12 y12 v1 k0_h1 v30 r.1 r.2
theorem a34_eq (v30 : FVec F S1024x768 .f32) (v1434 : V8) (v1445 : Elt F .i32) (k0_hw48 : k0_chk48 x0 v1 v1445) (v1456 : V8) (v1458 : BitVec 1) (v1461 : V8) (cst_348 : F .f32) (K : V8 → V8 → Prog (TpuEff nD τ sig (Elt F) Λ₀ .tc) PUnit) : (a34 b i x0 x1 y1 x2 y2 x3 y3 x4 y4 x5 y5 x6 y6 x7 y7 x8 y8 x9 y9 x10 y10 x11 y11 x12 y12 v1 k0_h1 v30 v1434 v1445 k0_hw48 v1456 v1458 v1461 cst_348 >>= k61 b i x0 x1 y1 x2 y2 x3 y3 x4 y4 x5 y5 x6 y6 x7 y7 x8 y8 x9 y9 x10 y10 x11 y11 x12 y12 v1 k0_h1 K) = t33 x0 v1 k0_h1 x3 x10 K v30 v1434 v1445 k0_hw48 v1456 v1458 v1461 cst_348 := by
  unfold a34; exact chain_step' (fun r => a35_eq b i x0 x1 y1 x2 y2 x3 y3 x4 y4 x5 y5 x6 y6 x7 y7 x8 y8 x9 y9 x10 y10 x11 y11 x12 y12 v1 k0_h1 v30 r.1 r.2 K) (step34 b i x0 x1 y1 x2 y2 x3 y3 x4 y4 x5 y5 x6 y6 x7 y7 x8 y8 x9 y9 x10 y10 x11 y11 x12 y12 v1 k0_h1 v30 v1434 v1445 k0_hw48 v1456 v1458 v1461 cst_348 K)

def a33 (v30 : FVec F S1024x768 .f32) (v1401 : V8) (v1404 : V8) (v1415 : Elt F .i32) (k0_hw47 : k0_chk47 x0 v1 v1415) (v1416 : FVec F S8x768 .f32) : Prog (TpuEff nD τ sig (Elt F) Λ₀ .tc) (Left (F := F) x0 v1) := k0_part33 b i x0 x1 y1 x2 y2 x3 y3 x4 y4 x5 y5 x6 y6 x7 y7 x8 y8 x9 y9 x10 y10 x11 y11 x12 y12 v1 k0_h1 v30 v1401 v1404 v1415 k0_hw47 v1416 >>= fun r => a34 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2
theorem a33_eq (v30 : FVec F S1024x768 .f32) (v1401 : V8) (v1404 : V8) (v1415 : Elt F .i32) (k0_hw47 : k0_chk47 x0 v1 v1415) (v1416 : FVec F S8x768 .f32) (K : V8 → V8 → Prog (TpuEff nD τ sig (Elt F) Λ₀ .tc) PUnit) : (a33 b i x0 x1 y1 x2 y2 x3 y3 x4 y4 x5 y5 x6 y6 x7 y7 x8 y8 x9 y9 x10 y10 x11 y11 x12 y12 v1 k0_h1 v30 v1401 v1404 v1415 k0_hw47 v1416 >>= k61 b i x0 x1 y1 x2 y2 x3 y3 x4 y4 x5 y5 x6 y6 x7 y7 x8 y8 x9 y9 x10 y10 x11 y11 x12 y12 v1 k0_h1 K) = t32 x0 v1 k0_h1 x3 x10 K v30 v1401 v1404 v1415 k0_hw47 v1416 := by
  unfold a33; exact chain_step' (fun r => a34_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2 K) (step33 b i x0 x1 y1 x2 y2 x3 y3 x4 y4 x5 y5 x6 y6 x7 y7 x8 y8 x9 y9 x10 y10 x11 y11 x12 y12 v1 k0_h1 v30 v1401 v1404 v1415 k0_hw47 v1416 K)

def a32 (v30 : FVec F S1024x768 .f32) (v1355 : Elt F .i32) (k0_hw45 : k0_chk45 x0 v1 v1355) (v1371 : V8) (v1374 : V8) : Prog (TpuEff nD τ sig (Elt F) Λ₀ .tc) (Left (F := F) x0 v1) := k0_part32 b i x0 x1 y1 x2 y2 x3 y3 x4 y4 x5 y5 x6 y6 x7 y7 x8 y8 x9 y9 x10 y10 x11 y11 x12 y12 v1 k0_h1 v30 v1355 k0_hw45 v1371 v1374 >>= fun r => a33 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2
theorem a32_eq (v30 : FVec F S1024x768 .f32) (v1355 : Elt F .i32) (k0_hw45 : k0_chk45 x0 v1 v1355) (v1371 : V8) (v1374 : V8) (K : V8 → V8 → Prog (TpuEff nD τ sig (Elt F) Λ₀ .tc) PUnit) : (a32 b i x0 x1 y1 x2 y2 x3 y3 x4 y4 x5 y5 x6 y6 x7 y7 x8 y8 x9 y9 x10 y10 x11 y11 x12 y12 v1 k0_h1 v30 v1355 k0_hw45 v1371 v1374 >>= k61 b i x0 x1 y1 x2 y2 x3 y3 x4 y4 x5 y5 x6 y6 x7 y7 x8 y8 x9 y9 x10 y10 x11 y11 x12 y12 v1 k0_h1 K) = t31 x0 v1 k0_h1 x3 x10 K v30 v1355 k0_hw45 v1371 v1374 := by
  unfold a32; exact chain_step' (fun r => a33_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2 K) (step32 b i x0 x1 y1 x2 y2 x3 y3 x4 y4 x5 y5 x6 y6 x7 y7 x8 y8 x9 y9 x10 y10 x11 y11 x12 y12 v1 k0_h1 v30 v1355 k0_hw45 v1371 v1374 K)

def a31 (v30 : FVec F S1024x768 .f32) (v1311 : V8) (v1314 : V8) (v1325 : Elt F .i32) (k0_hw44 : k0_chk44 x0 v1 v1325) (v1326 : FVec F S8x768 .f32) (v1329 : V8) : Prog (TpuEff nD τ sig (Elt F) Λ₀ .tc) (Left (F := F) x0 v1) := k0_part31 b i x0 x1 y1 x2 y2 x3 y3 x4 y4 x5 y5 x6 y6 x7 y7 x8 y8 x9 y9 x10 y10 x11 y11 x12 y12 v1 k0_h1 v30 v1311 v1314 v1325 k0_hw44 v1326 v1329 >>= fun r => a32 b i x0 x1 y1 x2 y2 x3 y3 x4 y4 x5 y5 x6 y6 x7 y7 x8 y8 x9 y9 x10 y10 x11 y11 x12 y12 v1 k0_h1 v30 r.1 r.2.1 r.2.2.1 r.2.2.2
theorem a31_eq (v30 : FVec F S1024x768 .f32) (v1311 : V8) (v1314 : V8) (v1325 : Elt F .i32) (k0_hw44 : k0_chk44 x0 v1 v1325) (v1326 : FVec F S8x768 .f32) (v1329 : V8) (K : V8 → V8 → Prog (TpuEff nD τ sig (Elt F) Λ₀ .tc) PUnit) : (a31 b i x0 x1 y1 x2 y2 x3 y3 x4 y4 x5 y5 x6 y6 x7 y7 x8 y8 x9 y9 x10 y10 x11 y11 x12 y12 v1 k0_h1 v30 v1311 v1314 v1325 k0_hw44 v1326 v1329 >>= k61 b i x0 x1 y1 x2 y2 x3 y3 x4 y4 x5 y5 x6 y6 x7 y7 x8 y8 x9 y9 x10 y10 x11 y11 x12 y12 v1 k0_h1 K) = t30 x0 v1 k0_h1 x3 x10 K v30 v1311 v1314 v1325 k0_hw44 v1326 v1329 := by
  unfold a31; exact chain_step' (fun r => a32_eq b i x0 x1 y1 x2 y2 x3 y3 x4 y4 x5 y5 x6 y6 x7 y7 x8 y8 x9 y9 x10 y10 x11 y11 x12 y12 v1 k0_h1 v30 r.1 r.2.1 r.2.2.1 r.2.2.2 K) (step31 b i x0 x1 y1 x2 y2 x3 y3 x4 y4 x5 y5 x6 y6 x7 y7 x8 y8 x9 y9 x10 y10 x11 y11 x12 y12 v1 k0_h1 v30 v1311 v1314 v1325 k0_hw44 v1326 v1329 K)

def a30 (v30 : FVec F S1024x768 .f32) (v1265 : Elt F .i32) (k0_hw42 : k0_chk42 x0 v1 v1265) (v1281 : V8) (v1284 : V8) (v1286 : BitVec 32) : Prog (TpuEff nD τ sig (Elt F) Λ₀ .tc) (Left (F := F) x0 v1) := k0_part30 b i x0 x1 y1 x2 y2 x3 y3 x4 y4 x5 y5 x6 y6 x7 y7 x8 y8 x9 y9 x10 y10 x11 y11 x12 y12 v1 k0_h1 v30 v1265 k0_hw42 v1281 v1284 v1286 >>= fun r => a31 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2
theorem a30_eq (v30 : FVec F S1024x768 .f32) (v1265 : Elt F .i32) (k0_hw42 : k0_chk42 x0 v1 v1265) (v1281 : V8) (v1284 : V8) (v1286 : BitVec 32) (K : V8 → V8 → Prog (TpuEff nD τ sig (Elt F) Λ₀ .tc) PUnit) : (a30 b i x0 x1 y1 x2 y2 x3 y3 x4 y4 x5 y5 x6 y6 x7 y7 x8 y8 x9 y9 x10 y10 x11 y11 x12 y12 v1 k0_h1 v30 v1265 k0_hw42 v1281 v1284 v1286 >>= k61 b i x0 x1 y1 x2 y2 x3 y3 x4 y4 x5 y5 x6 y6 x7 y7 x8 y8 x9 y9 x10 y10 x11 y11 x12 y12 v1 k0_h1 K) = t29 x0 v1 k0_h1 x3 x10 K v30 v1265 k0_hw42 v1281 v1284 v1286 := by
  unfold a30; exact chain_step' (fun r => a31_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2 K) (step30 b i x0 x1 y1 x2 y2 x3 y3 x4 y4 x5 y5 x6 y6 x7 y7 x8 y8 x9 y9 x10 y10 x11 y11 x12 y12 v1 k0_h1 v30 v1265 k0_hw42 v1281 v1284 v1286 K)

def a29 (v30 : FVec F S1024x768 .f32) (v1221 : V8) (v1224 : V8) (v1235 : Elt F .i32) (k0_hw41 : k0_chk41 x0 v1 v1235) (v1236 : FVec F S8x768 .f32) (v1239 : V8) (v1242 : V8) : Prog (TpuEff nD τ sig (Elt F) Λ₀ .tc) (Left (F := F) x0 v1) := k0_part29 b i x0 x1 y1 x2 y2 x3 y3 x4 y4 x5 y5 x6 y6 x7 y7 x8 y8 x9 y9 x10 y10 x11 y11 x12 y12 v1 k0_h1 v30 v1221 v1224 v1235 k0_hw41 v1236 v1239 v1242 >>= fun r => a30 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2
theorem a29_eq (v30 : FVec F S1024x768 .f32) (v1221 : V8) (v1224 : V8) (v1235 : Elt F .i32) (k0_hw41 : k0_chk41 x0 v1 v1235) (v1236 : FVec F S8x768 .f32) (v1239 : V8) (v1242 : V8) (K : V8 → V8 → Prog (TpuEff nD τ sig (Elt F) Λ₀ .tc) PUnit) : (a29 b i x0 x1 y1 x2 y2 x3 y3 x4 y4 x5 y5 x6 y6 x7 y7 x8 y8 x9 y9 x10 y10 x11 y11 x12 y12 v1 k0_h1 v30 v1221 v1224 v1235 k0_hw41 v1236 v1239 v1242 >>= k61 b i x0 x1 y1 x2 y2 x3 y3 x4 y4 x5 y5 x6 y6 x7 y7 x8 y8 x9 y9 x10 y10 x11 y11 x12 y12 v1 k0_h1 K) = t28 x0 v1 k0_h1 x3 x10 K v30 v1221 v1224 v1235 k0_hw41 v1236 v1239 v1242 := by
  unfold a29; exact chain_step' (fun r => a30_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2 K) (step29 b i x0 x1 y1 x2 y2 x3 y3 x4 y4 x5 y5 x6 y6 x7 y7 x8 y8 x9 y9 x10 y10 x11 y11 x12 y12 v1 k0_h1 v30 v1221 v1224 v1235 k0_hw41 v1236 v1239 v1242 K)

def a28 (v30 : FVec F S1024x768 .f32) (v1175 : Elt F .i32) (k0_hw39 : k0_chk39 x0 v1 v1175) (v1191 : V8) (v1194 : V8) (v1196 : BitVec 32) (v1198 : Vec F S8x128 .f32) : Prog (TpuEff nD τ sig (Elt F) Λ₀ .tc) (Left (F := F) x0 v1) := k0_part28 b i x0 x1 y1 x2 y2 x3 y3 x4 y4 x5 y5 x6 y6 x7 y7 x8 y8 x9 y9 x10 y10 x11 y11 x12 y12 v1 k0_h1 v30 v1175 k0_hw39 v1191 v1194 v1196 v1198 >>= fun r => a29 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2
theorem a28_eq (v30 : FVec F S1024x768 .f32) (v1175 : Elt F .i32) (k0_hw39 : k0_chk39 x0 v1 v1175) (v1191 : V8) (v1194 : V8) (v1196 : BitVec 32) (v1198 : Vec F S8x128 .f32) (K : V8 → V8 → Prog (TpuEff nD τ sig (Elt F) Λ₀ .tc) PUnit) : (a28 b i x0 x1 y1 x2 y2 x3 y3 x4 y4 x5 y5 x6 y6 x7 y7 x8 y8 x9 y9 x10 y10 x11 y11 x12 y12 v1 k0_h1 v30 v1175 k0_hw39 v1191 v1194 v1196 v1198 >>= k61 b i x0 x1 y1 x2 y2 x3 y3 x4 y4 x5 y5 x6 y6 x7 y7 x8 y8 x9 y9 x10 y10 x11 y11 x12 y12 v1 k0_h1 K) = t27 x0 v1 k0_h1 x3 x10 K v30 v1175 k0_hw39 v1191 v1194 v1196 v1198 := by
  unfold a28; exact chain_step' (fun r => a29_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2 K) (step28 b i x0 x1 y1 x2 y2 x3 y3 x4 y4 x5 y5 x6 y6 x7 y7 x8 y8 x9 y9 x10 y10 x11 y11 x12 y12 v1 k0_h1 v30 v1175 k0_hw39 v1191 v1194 v1196 v1198 K)

def a27 (v30 : FVec F S1024x768 .f32) (v1131 : V8) (v1134 : V8) (v1145 : Elt F .i32) (k0_hw38 : k0_chk38 x0 v1 v1145) (v1153 : V8) (v1154 : V8) (v1155 : V8) : Prog (TpuEff nD τ sig (Elt F) Λ₀ .tc) (Left (F := F) x0 v1) := k0_part27 b i x0 x1 y1 x2 y2 x3 y3 x4 y4 x5 y5 x6 y6 x7 y7 x8 y8 x9 y9 x10 y10 x11 y11 x12 y12 v1 k0_h1 v30 v1131 v1134 v1145 k0_hw38 v1153 v1154 v1155 >>= fun r => a28 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2
theorem a27_eq (v30 : FVec F S1024x768 .f32) (v1131 : V8) (v1134 : V8) (v1145 : Elt F .i32) (k0_hw38 : k0_chk38 x0 v1 v1145) (v1153 : V8) (v1154 : V8) (v1155 : V8) (K : V8 → V8 → Prog (TpuEff nD τ sig (Elt F) Λ₀ .tc) PUnit) : (a27 b i x0 x1 y1 x2 y2 x3 y3 x4 y4 x5 y5 x6 y6 x7 y7 x8 y8 x9 y9 x10 y10 x11 y11 x12 y12 v1 k0_h1 v30 v1131 v1134 v1145 k0_hw38 v1153 v1154 v1155 >>= k61 b i x0 x1 y1 x2 y2 x3 y3 x4 y4 x5 y5 x6 y6 x7 y7 x8 y8 x9 y9 x10 y10 x11 y11 x12 y12 v1 k0_h1 K) = t26 x0 v1 k0_h1 x3 x10 K v30 v1131 v1134 v1145 k0_hw38 v1153 v1154 v1155 := by
  unfold a27; exact chain_step' (fun r => a28_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2 K) (step27 b i x0 x1 y1 x2 y2 x3 y3 x4 y4 x5 y5 x6 y6 x7 y7 x8 y8 x9 y9 x10 y10 x11 y11 x12 y12 v1 k0_h1 v30 v1131 v1134 v1145 k0_hw38 v1153 v1154 v1155 K)

def a26 (v30 : FVec F S1024x768 .f32) (v1085 : Elt F .i32) (k0_hw36 : k0_chk36 x0 v1 v1085) (v1101 : V8) (v1104 : V8) (v1106 : BitVec 32) : Prog (TpuEff nD τ sig (Elt F) Λ₀ .tc) (Left (F := F) x0 v1) := k0_part26 b i x0 x1 y1 x2 y2 x3 y3 x4 y4 x5 y5 x6 y6 x7 y7 x8 y8 x9 y9 x10 y10 x11 y11 x12 y12 v1 k0_h1 v30 v1085 k0_hw36 v1101 v1104 v1106 >>= fun r => a27 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2
theorem a26_eq (v30 : FVec F S1024x768 .f32) (v1085 : Elt F .i32) (k0_hw36 : k0_chk36 x0 v1 v1085) (v1101 : V8) (v1104 : V8) (v1106 : BitVec 32) (K : V8 → V8 → Prog (TpuEff nD τ sig (Elt F) Λ₀ .tc) PUnit) : (a26 b i x0 x1 y1 x2 y2 x3 y3 x4 y4 x5 y5 x6 y6 x7 y7 x8 y8 x9 y9 x10 y10 x11 y11 x12 y12 v1 k0_h1 v30 v1085 k0_hw36 v1101 v1104 v1106 >>= k61 b i x0 x1 y1 x2 y2 x3 y3 x4 y4 x5 y5 x6 y6 x7 y7 x8 y8 x9 y9 x10 y10 x11 y11 x12 y12 v1 k0_h1 K) = t25 x0 v1 k0_h1 x3 x10 K v30 v1085 k0_hw36 v1101 v1104 v1106 := by
  unfold a26; exact chain_step' (fun r => a27_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2 K) (step26 b i x0 x1 y1 x2 y2 x3 y3 x4 y4 x5 y5 x6 y6 x7 y7 x8 y8 x9 y9 x10 y10 x11 y11 x12 y12 v1 k0_h1 v30 v1085 k0_hw36 v1101 v1104 v1106 K)

def a25 (v30 : FVec F S1024x768 .f32) (v1041 : V8) (v1044 : V8) (v1055 : Elt F .i32) (k0_hw35 : k0_chk35 x0 v1 v1055) (v1063 : V8) (v1066 : V8) (v1067 : BitVec 32) : Prog (TpuEff nD τ sig (Elt F) Λ₀ .tc) (Left (F := F) x0 v1) := k0_part25 b i x0 x1 y1 x2 y2 x3 y3 x4 y4 x5 y5 x6 y6 x7 y7 x8 y8 x9 y9 x10 y10 x11 y11 x12 y12 v1 k0_h1 v30 v1041 v1044 v1055 k0_hw35 v1063 v1066 v1067 >>= fun r => a26 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2
theorem a25_eq (v30 : FVec F S1024x768 .f32) (v1041 : V8) (v1044 : V8) (v1055 : Elt F .i32) (k0_hw35 : k0_chk35 x0 v1 v1055) (v1063 : V8) (v1066 : V8) (v1067 : BitVec 32) (K : V8 → V8 → Prog (TpuEff nD τ sig (Elt F) Λ₀ .tc) PUnit) : (a25 b i x0 x1 y1 x2 y2 x3 y3 x4 y4 x5 y5 x6 y6 x7 y7 x8 y8 x9 y9 x10 y10 x11 y11 x12 y12 v1 k0_h1 v30 v1041 v1044 v1055 k0_hw35 v1063 v1066 v1067 >>= k61 b i x0 x1 y1 x2 y2 x3 y3 x4 y4 x5 y5 x6 y6 x7 y7 x8 y8 x9 y9 x10 y10 x11 y11 x12 y12 v1 k0_h1 K) = t24 x0 v1 k0_h1 x3 x10 K v30 v1041 v1044 v1055 k0_hw35 v1063 v1066 v1067 := by
  unfold a25; exact chain_step' (fun r => a26_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2 K) (step25 b i x0 x1 y1 x2 y2 x3 y3 x4 y4 x5 y5 x6 y6 x7 y7 x8 y8 x9 y9 x10 y10 x11 y11 x12 y12 v1 k0_h1 v30 v1041 v1044 v1055 k0_hw35 v1063 v1066 v1067 K)

def a24 (v30 : FVec F S1024x768 .f32) (v995 : Elt F .i32) (k0_hw33 : k0_chk33 x0 v1 v995) (v1011 : V8) (v1014 : V8) (v1022 : Vec F S8x128 .f32) : Prog (TpuEff nD τ sig (Elt F) Λ₀ .tc) (Left (F := F) x0 v1) := k0_part24 b i x0 x1 y1 x2 y2 x3 y3 x4 y4 x5 y5 x6 y6 x7 y7 x8 y8 x9 y9 x10 y10 x11 y11 x12 y12 v1 k0_h1 v30 v995 k0_hw33 v1011 v1014 v1022 >>= fun r => a25 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2
theorem a24_eq (v30 : FVec F S1024x768 .f32) (v995 : Elt F .i32) (k0_hw33 : k0_chk33 x0 v1 v995) (v1011 : V8) (v1014 : V8) (v1022 : Vec F S8x128 .f32) (K : V8 → V8 → Prog (TpuEff nD τ sig (Elt F) Λ₀ .tc) PUnit) : (a24 b i x0 x1 y1 x2 y2 x3 y3 x4 y4 x5 y5 x6 y6 x7 y7 x8 y8 x9 y9 x10 y10 x11 y11 x12 y12 v1 k0_h1 v30 v995 k0_hw33 v1011 v1014 v1022 >>= k61 b i x0 x1 y1 x2 y2 x3 y3 x4 y4 x5 y5 x6 y6 x7 y7 x8 y8 x9 y9 x10 y10 x11 y11 x12 y12 v1 k0_h1 K) = t23 x0 v1 k0_h1 x3 x10 K v30 v995 k0_hw33 v1011 v1014 v1022 := by
  unfold a24; exact chain_step' (fun r => a25_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2 K) (step24 b i x0 x1 y1 x2 y2 x3 y3 x4 y4 x5 y5 x6 y6 x7 y7 x8 y8 x9 y9 x10 y10 x11 y11 x12 y12 v1 k0_h1 v30 v995 k0_hw33 v1011 v1014 v1022 K)

def a23 (v30 : FVec F S1024x768 .f32) (v951 : V8) (v954 : V8) (v965 : Elt F .i32) (k0_hw32 : k0_chk32 x0 v1 v965) (v973 : V8) (v976 : V8) (v978 : BitVec 1) (cst_235 : F .f32) : Prog (TpuEff nD τ sig (Elt F) Λ₀ .tc) (Left (F := F) x0 v1) := k0_part23 b i x0 x1 y1 x2 y2 x3 y3 x4 y4 x5 y5 x6 y6 x7 y7 x8 y8 x9 y9 x10 y10 x11 y11 x12 y12 v1 k0_h1 v30 v951 v954 v965 k0_hw32 v973 v976 v978 cst_235 >>= fun r => a24 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2
theorem a23_eq (v30 : FVec F S1024x768 .f32) (v951 : V8) (v954 : V8) (v965 : Elt F .i32) (k0_hw32 : k0_chk32 x0 v1 v965) (v973 : V8) (v976 : V8) (v978 : BitVec 1) (cst_235 : F .f32) (K : V8 → V8 → Prog (TpuEff nD τ sig (Elt F) Λ₀ .tc) PUnit) : (a23 b i x0 x1 y1 x2 y2 x3 y3 x4 y4 x5 y5 x6 y6 x7 y7 x8 y8 x9 y9 x10 y10 x11 y11 x12 y12 v1 k0_h1 v30 v951 v954 v965 k0_hw32 v973 v976 v978 cst_235 >>= k61 b i x0 x1 y1 x2 y2 x3 y3 x4 y4 x5 y5 x6 y6 x7 y7 x8 y8 x9 y9 x10 y10 x11 y11 x12 y12 v1 k0_h1 K) = t22 x0 v1 k0_h1 x3 x10 K v30 v951 v954 v965 k0_hw32 v973 v976 v978 cst_235 := by
  unfold a23; exact chain_step' (fun r => a24_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2 K) (step23 b i x0 x1 y1 x2 y2 x3 y3 x4 y4 x5 y5 x6 y6 x7 y7 x8 y8 x9 y9 x10 y10 x11 y11 x12 y12 v1 k0_h1 v30 v951 v954 v965 k0_hw32 v973 v976 v978 cst_235 K)

def a22 (v30 : FVec F S1024x768 .f32) (v921 : V8) (v924 : V8) : Prog (TpuEff nD τ sig (Elt F) Λ₀ .tc) (Left (F := F) x0 v1) := k0_part22 b i x0 x1 y1 x2 y2 x3 y3 x4 y4 x5 y5 x6 y6 x7 y7 x8 y8 x9 y9 x10 y10 x11 y11 x12 y12 v1 k0_h1 v30 v921 v924 >>= fun r => a23 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2.1 r.2.2.2.2.2.2.2
theorem a22_eq (v30 : FVec F S1024x768 .f32) (v921 : V8) (v924 : V8) (K : V8 → V8 → Prog (TpuEff nD τ sig (Elt F) Λ₀ .tc) PUnit) : (a22 b i x0 x1 y1 x2 y2 x3 y3 x4 y4 x5 y5 x6 y6 x7 y7 x8 y8 x9 y9 x10 y10 x11 y11 x12 y12 v1 k0_h1 v30 v921 v924 >>= k61 b i x0 x1 y1 x2 y2 x3 y3 x4 y4 x5 y5 x6 y6 x7 y7 x8 y8 x9 y9 x10 y10 x11 y11 x12 y12 v1 k0_h1 K) = t21 x0 v1 k0_h1 x3 x10 K v30 v921 v924 := by
  unfold a22; exact chain_step' (fun r => a23_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2.1 r.2.2.2.2.2.2.2 K) (step22 b i x0 x1 y1 x2 y2 x3 y3 x4 y4 x5 y5 x6 y6 x7 y7 x8 y8 x9 y9 x10 y10 x11 y11 x12 y12 v1 k0_h1 v30 v921 v924 K)

def a21 (v30 : FVec F S1024x768 .f32) (v864 : V8) (v875 : Elt F .i32) (k0_hw29 : k0_chk29 x0 v1 v875) (v886 : V8) (v888 : BitVec 1) (v891 : V8) : Prog (TpuEff nD τ sig (Elt F) Λ₀ .tc) (Left (F := F) x0 v1) := k0_part21 b i x0 x1 y1 x2 y2 x3 y3 x4 y4 x5 y5 x6 y6 x7 y7 x8 y8 x9 y9 x10 y10 x11 y11 x12 y12 v1 k0_h1 v30 v864 v875 k0_hw29 v886 v888 v891 >>= fun r => a22 b i x0 x1 y1 x2 y2 x3 y3 x4 y4 x5 y5 x6 y6 x7 y7 x8 y8 x9 y9 x10 y10 x11 y11 x12 y12 v1 k0_h1 v30 r.1 r.2
theorem a21_eq (v30 : FVec F S1024x768 .f32) (v864 : V8) (v875 : Elt F .i32) (k0_hw29 : k0_chk29 x0 v1 v875) (v886 : V8) (v888 : BitVec 1) (v891 : V8) (K : V8 → V8 → Prog (TpuEff nD τ sig (Elt F) Λ₀ .tc) PUnit) : (a21 b i x0 x1 y1 x2 y2 x3 y3 x4 y4 x5 y5 x6 y6 x7 y7 x8 y8 x9 y9 x10 y10 x11 y11 x12 y12 v1 k0_h1 v30 v864 v875 k0_hw29 v886 v888 v891 >>= k61 b i x0 x1 y1 x2 y2 x3 y3 x4 y4 x5 y5 x6 y6 x7 y7 x8 y8 x9 y9 x10 y10 x11 y11 x12 y12 v1 k0_h1 K) = t20 x0 v1 k0_h1 x3 x10 K v30 v864 v875 k0_hw29 v886 v888 v891 := by
  unfold a21; exact chain_step' (fun r => a22_eq b i x0 x1 y1 x2 y2 x3 y3 x4 y4 x5 y5 x6 y6 x7 y7 x8 y8 x9 y9 x10 y10 x11 y11 x12 y12 v1 k0_h1 v30 r.1 r.2 K) (step21 b i x0 x1 y1 x2 y2 x3 y3 x4 y4 x5 y5 x6 y6 x7 y7 x8 y8 x9 y9 x10 y10 x11 y11 x12 y12 v1 k0_h1 v30 v864 v875 k0_hw29 v886 v888 v891 K)

def a20 (v30 : FVec F S1024x768 .f32) (v831 : V8) (v834 : V8) (v845 : Elt F .i32) (k0_hw28 : k0_chk28 x0 v1 v845) : Prog (TpuEff nD τ sig (Elt F) Λ₀ .tc) (Left (F := F) x0 v1) := k0_part20 b i x0 x1 y1 x2 y2 x3 y3 x4 y4 x5 y5 x6 y6 x7 y7 x8 y8 x9 y9 x10 y10 x11 y11 x12 y12 v1 k0_h1 v30 v831 v834 v845 k0_hw28 >>= fun r => a21 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2
theorem a20_eq (v30 : FVec F S1024x768 .f32) (v831 : V8) (v834 : V8) (v845 : Elt F .i32) (k0_hw28 : k0_chk28 x0 v1 v845) (K : V8 → V8 → Prog (TpuEff nD τ sig (Elt F) Λ₀ .tc) PUnit) : (a20 b i x0 x1 y1 x2 y2 x3 y3 x4 y4 x5 y5 x6 y6 x7 y7 x8 y8 x9 y9 x10 y10 x11 y11 x12 y12 v1 k0_h1 v30 v831 v834 v845 k0_hw28 >>= k61 b i x0 x1 y1 x2 y2 x3 y3 x4 y4 x5 y5 x6 y6 x7 y7 x8 y8 x9 y9 x10 y10 x11 y11 x12 y12 v1 k0_h1 K) = t19 x0 v1 k0_h1 x3 x10 K v30 v831 v834 v845 k0_hw28 := by
  unfold a20; exact chain_step' (fun r => a21_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2 K) (step20 b i x0 x1 y1 x2 y2 x3 y3 x4 y4 x5 y5 x6 y6 x7 y7 x8 y8 x9 y9 x10 y10 x11 y11 x12 y12 v1 k0_h1 v30 v831 v834 v845 k0_hw28 K)

def a19 (v30 : FVec F S1024x768 .f32) (v785 : Elt F .i32) (k0_hw26 : k0_chk26 x0 v1 v785) (v796 : V8) (v801 : V8) (v803 : V8) : Prog (TpuEff nD τ sig (Elt F) Λ₀ .tc) (Left (F := F) x0 v1) := k0_part19 b i x0 x1 y1 x2 y2 x3 y3 x4 y4 x5 y5 x6 y6 x7 y7 x8 y8 x9 y9 x10 y10 x11 y11 x12 y12 v1 k0_h1 v30 v785 k0_hw26 v796 v801 v803 >>= fun r => a20 b i x0 x1 y1 x2 y2 x3 y3 x4 y4 x5 y5 x6 y6 x7 y7 x8 y8 x9 y9 x10 y10 x11 y11 x12 y12 v1 k0_h1 v30 r.1 r.2.1 r.2.2.1 r.2.2.2
theorem a19_eq (v30 : FVec F S1024x768 .f32) (v785 : Elt F .i32) (k0_hw26 : k0_chk26 x0 v1 v785) (v796 : V8) (v801 : V8) (v803 : V8) (K : V8 → V8 → Prog (TpuEff nD τ sig (Elt F) Λ₀ .tc) PUnit) : (a19 b i x0 x1 y1 x2 y2 x3 y3 x4 y4 x5 y5 x6 y6 x7 y7 x8 y8 x9 y9 x10 y10 x11 y11 x12 y12 v1 k0_h1 v30 v785 k0_hw26 v796 v801 v803 >>= k61 b i x0 x1 y1 x2 y2 x3 y3 x4 y4 x5 y5 x6 y6 x7 y7 x8 y8 x9 y9 x10 y10 x11 y11 x12 y12 v1 k0_h1 K) = t18 x0 v1 k0_h1 x3 x10 K v30 v785 k0_hw26 v796 v801 v803 := by
  unfold a19; exact chain_step' (fun r => a20_eq b i x0 x1 y1 x2 y2 x3 y3 x4 y4 x5 y5 x6 y6 x7 y7 x8 y8 x9 y9 x10 y10 x11 y11 x12 y12 v1 k0_h1 v30 r.1 r.2.1 r.2.2.1 r.2.2.2 K) (step19 b i x0 x1 y1 x2 y2 x3 y3 x4 y4 x5 y5 x6 y6 x7 y7 x8 y8 x9 y9 x10 y10 x11 y11 x12 y12 v1 k0_h1 v30 v785 k0_hw26 v796 v801 v803 K)

def a18 (v30 : FVec F S1024x768 .f32) (v741 : V8) (v744 : V8) (v755 : Elt F .i32) (k0_hw25 : k0_chk25 x0 v1 v755) (v756 : FVec F S8x768 .f32) (v757 : V8) (v758 : V8) : Prog (TpuEff nD τ sig (Elt F) Λ₀ .tc) (Left (F := F) x0 v1) := k0_part18 b i x0 x1 y1 x2 y2 x3 y3 x4 y4 x5 y5 x6 y6 x7 y7 x8 y8 x9 y9 x10 y10 x11 y11 x12 y12 v1 k0_h1 v30 v741 v744 v755 k0_hw25 v756 v757 v758 >>= fun r => a19 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2
theorem a18_eq (v30 : FVec F S1024x768 .f32) (v741 : V8) (v744 : V8) (v755 : Elt F .i32) (k0_hw25 : k0_chk25 x0 v1 v755) (v756 : FVec F S8x768 .f32) (v757 : V8) (v758 : V8) (K : V8 → V8 → Prog (TpuEff nD τ sig (Elt F) Λ₀ .tc) PUnit) : (a18 b i x0 x1 y1 x2 y2 x3 y3 x4 y4 x5 y5 x6 y6 x7 y7 x8 y8 x9 y9 x10 y10 x11 y11 x12 y12 v1 k0_h1 v30 v741 v744 v755 k0_hw25 v756 v757 v758 >>= k61 b i x0 x1 y1 x2 y2 x3 y3 x4 y4 x5 y5 x6 y6 x7 y7 x8 y8 x9 y9 x10 y10 x11 y11 x12 y12 v1 k0_h1 K) = t17 x0 v1 k0_h1 x3 x10 K v30 v741 v744 v755 k0_hw25 v756 v757 v758 := by
  unfold a18; exact chain_step' (fun r => a19_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2 K) (step18 b i x0 x1 y1 x2 y2 x3 y3 x4 y4 x5 y5 x6 y6 x7 y7 x8 y8 x9 y9 x10 y10 x11 y11 x12 y12 v1 k0_h1 v30 v741 v744 v755 k0_hw25 v756 v757 v758 K)

def a17 (v30 : FVec F S1024x768 .f32) (v695 : Elt F .i32) (k0_hw23 : k0_chk23 x0 v1 v695) (v711 : V8) (v714 : V8) (v715 : BitVec 32) : Prog (TpuEff nD τ sig (Elt F) Λ₀ .tc) (Left (F := F) x0 v1) := k0_part17 b i x0 x1 y1 x2 y2 x3 y3 x4 y4 x5 y5 x6 y6 x7 y7 x8 y8 x9 y9 x10 y10 x11 y11 x12 y12 v1 k0_h1 v30 v695 k0_hw23 v711 v714 v715 >>= fun r => a18 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2
theorem a17_eq (v30 : FVec F S1024x768 .f32) (v695 : Elt F .i32) (k0_hw23 : k0_chk23 x0 v1 v695) (v711 : V8) (v714 : V8) (v715 : BitVec 32) (K : V8 → V8 → Prog (TpuEff nD τ sig (Elt F) Λ₀ .tc) PUnit) : (a17 b i x0 x1 y1 x2 y2 x3 y3 x4 y4 x5 y5 x6 y6 x7 y7 x8 y8 x9 y9 x10 y10 x11 y11 x12 y12 v1 k0_h1 v30 v695 k0_hw23 v711 v714 v715 >>= k61 b i x0 x1 y1 x2 y2 x3 y3 x4 y4 x5 y5 x6 y6 x7 y7 x8 y8 x9 y9 x10 y10 x11 y11 x12 y12 v1 k0_h1 K) = t16 x0 v1 k0_h1 x3 x10 K v30 v695 k0_hw23 v711 v714 v715 := by
  unfold a17; exact chain_step' (fun r => a18_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2 K) (step17 b i x0 x1 y1 x2 y2 x3 y3 x4 y4 x5 y5 x6 y6 x7 y7 x8 y8 x9 y9 x10 y10 x11 y11 x12 y12 v1 k0_h1 v30 v695 k0_hw23 v711 v714 v715 K)

def a16 (v30 : FVec F S1024x768 .f32) (v651 : V8) (v654 : V8) (v665 : Elt F .i32) (k0_hw22 : k0_chk22 x0 v1 v665) (v666 : FVec F S8x768 .f32) (v669 : V8) (v670 : V8) (v671 : V8) : Prog (TpuEff nD τ sig (Elt F) Λ₀ .tc) (Left (F := F) x0 v1) := k0_part16 b i x0 x1 y1 x2 y2 x3 y3 x4 y4 x5 y5 x6 y6 x7 y7 x8 y8 x9 y9 x10 y10 x11 y11 x12 y12 v1 k0_h1 v30 v651 v654 v665 k0_hw22 v666 v669 v670 v671 >>= fun r => a17 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2
theorem a16_eq (v30 : FVec F S1024x768 .f32) (v651 : V8) (v654 : V8) (v665 : Elt F .i32) (k0_hw22 : k0_chk22 x0 v1 v665) (v666 : FVec F S8x768 .f32) (v669 : V8) (v670 : V8) (v671 : V8) (K : V8 → V8 → Prog (TpuEff nD τ sig (Elt F) Λ₀ .tc) PUnit) : (a16 b i x0 x1 y1 x2 y2 x3 y3 x4 y4 x5 y5 x6 y6 x7 y7 x8 y8 x9 y9 x10 y10 x11 y11 x12 y12 v1 k0_h1 v30 v651 v654 v665 k0_hw22 v666 v669 v670 v671 >>= k61 b i x0 x1 y1 x2 y2 x3 y3 x4 y4 x5 y5 x6 y6 x7 y7 x8 y8 x9 y9 x10 y10 x11 y11 x12 y12 v1 k0_h1 K) = t15 x0 v1 k0_h1 x3 x10 K v30 v651 v654 v665 k0_hw22 v666 v669 v670 v671 := by
  unfold a16; exact chain_step' (fun r => a17_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2 K) (step16 b i x0 x1 y1 x2 y2 x3 y3 x4 y4 x5 y5 x6 y6 x7 y7 x8 y8 x9 y9 x10 y10 x11 y11 x12 y12 v1 k0_h1 v30 v651 v654 v665 k0_hw22 v666 v669 v670 v671 K)

def a15 (v30 : FVec F S1024x768 .f32) (v605 : Elt F .i32) (k0_hw20 : k0_chk20 x0 v1 v605) (v621 : V8) (v624 : V8) (v626 : BitVec 32) : Prog (TpuEff nD τ sig (Elt F) Λ₀ .tc) (Left (F := F) x0 v1) := k0_part15 b i x0 x1 y1 x2 y2 x3 y3 x4 y4 x5 y5 x6 y6 x7 y7 x8 y8 x9 y9 x10 y10 x11 y11 x12 y12 v1 k0_h1 v30 v605 k0_hw20 v621 v624 v626 >>= fun r => a16 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2.1 r.2.2.2.2.2.2.2
theorem a15_eq (v30 : FVec F S1024x768 .f32) (v605 : Elt F .i32) (k0_hw20 : k0_chk20 x0 v1 v605) (v621 : V8) (v624 : V8) (v626 : BitVec 32) (K : V8 → V8 → Prog (TpuEff nD τ sig (Elt F) Λ₀ .tc) PUnit) : (a15 b i x0 x1 y1 x2 y2 x3 y3 x4 y4 x5 y5 x6 y6 x7 y7 x8 y8 x9 y9 x10 y10 x11 y11 x12 y12 v1 k0_h1 v30 v605 k0_hw20 v621 v624 v626 >>= k61 b i x0 x1 y1 x2 y2 x3 y3 x4 y4 x5 y5 x6 y6 x7 y7 x8 y8 x9 y9 x10 y10 x11 y11 x12 y12 v1 k0_h1 K) = t14 x0 v1 k0_h1 x3 x10 K v30 v605 k0_hw20 v621 v624 v626 := by
  unfold a15; exact chain_step' (fun r => a16_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2.1 r.2.2.2.2.2.2.2 K) (step15 b i x0 x1 y1 x2 y2 x3 y3 x4 y4 x5 y5 x6 y6 x7 y7 x8 y8 x9 y9 x10 y10 x11 y11 x12 y12 v1 k0_h1 v30 v605 k0_hw20 v621 v624 v626 K)

def a14 (v30 : FVec F S1024x768 .f32) (v561 : V8) (v564 : V8) (v575 : Elt F .i32) (k0_hw19 : k0_chk19 x0 v1 v575) (v576 : FVec F S8x768 .f32) (v583 : V8) (v584 : V8) : Prog (TpuEff nD τ sig (Elt F) Λ₀ .tc) (Left (F := F) x0 v1) := k0_part14 b i x0 x1 y1 x2 y2 x3 y3 x4 y4 x5 y5 x6 y6 x7 y7 x8 y8 x9 y9 x10 y10 x11 y11 x12 y12 v1 k0_h1 v30 v561 v564 v575 k0_hw19 v576 v583 v584 >>= fun r => a15 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2
theorem a14_eq (v30 : FVec F S1024x768 .f32) (v561 : V8) (v564 : V8) (v575 : Elt F .i32) (k0_hw19 : k0_chk19 x0 v1 v575) (v576 : FVec F S8x768 .f32) (v583 : V8) (v584 : V8) (K : V8 → V8 → Prog (TpuEff nD τ sig (Elt F) Λ₀ .tc) PUnit) : (a14 b i x0 x1 y1 x2 y2 x3 y3 x4 y4 x5 y5 x6 y6 x7 y7 x8 y8 x9 y9 x10 y10 x11 y11 x12 y12 v1 k0_h1 v30 v561 v564 v575 k0_hw19 v576 v583 v584 >>= k61 b i x0 x1 y1 x2 y2 x3 y3 x4 y4 x5 y5 x6 y6 x7 y7 x8 y8 x9 y9 x10 y10 x11 y11 x12 y12 v1 k0_h1 K) = t13 x0 v1 k0_h1 x3 x10 K v30 v561 v564 v575 k0_hw19 v576 v583 v584 := by
  unfold a14; exact chain_step' (fun r => a15_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2 K) (step14 b i x0 x1 y1 x2 y2 x3 y3 x4 y4 x5 y5 x6 y6 x7 y7 x8 y8 x9 y9 x10 y10 x11 y11 x12 y12 v1 k0_h1 v30 v561 v564 v575 k0_hw19 v576 v583 v584 K)

def a13 (v30 : FVec F S1024x768 .f32) (v515 : Elt F .i32) (k0_hw17 : k0_chk17 x0 v1 v515) (v531 : V8) (v534 : V8) (v536 : BitVec 32) (v540 : V8) : Prog (TpuEff nD τ sig (Elt F) Λ₀ .tc) (Left (F := F) x0 v1) := k0_part13 b i x0 x1 y1 x2 y2 x3 y3 x4 y4 x5 y5 x6 y6 x7 y7 x8 y8 x9 y9 x10 y10 x11 y11 x12 y12 v1 k0_h1 v30 v515 k0_hw17 v531 v534 v536 v540 >>= fun r => a14 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2
theorem a13_eq (v30 : FVec F S1024x768 .f32) (v515 : Elt F .i32) (k0_hw17 : k0_chk17 x0 v1 v515) (v531 : V8) (v534 : V8) (v536 : BitVec 32) (v540 : V8) (K : V8 → V8 → Prog (TpuEff nD τ sig (Elt F) Λ₀ .tc) PUnit) : (a13 b i x0 x1 y1 x2 y2 x3 y3 x4 y4 x5 y5 x6 y6 x7 y7 x8 y8 x9 y9 x10 y10 x11 y11 x12 y12 v1 k0_h1 v30 v515 k0_hw17 v531 v534 v536 v540 >>= k61 b i x0 x1 y1 x2 y2 x3 y3 x4 y4 x5 y5 x6 y6 x7 y7 x8 y8 x9 y9 x10 y10 x11 y11 x12 y12 v1 k0_h1 K) = t12 x0 v1 k0_h1 x3 x10 K v30 v515 k0_hw17 v531 v534 v536 v540 := by
  unfold a13; exact chain_step' (fun r => a14_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2 K) (step13 b i x0 x1 y1 x2 y2 x3 y3 x4 y4 x5 y5 x6 y6 x7 y7 x8 y8 x9 y9 x10 y10 x11 y11 x12 y12 v1 k0_h1 v30 v515 k0_hw17 v531 v534 v536 v540 K)

def a12 (v30 : FVec F S1024x768 .f32) (v471 : V8) (v474 : V8) (v485 : Elt F .i32) (k0_hw16 : k0_chk16 x0 v1 v485) (v493 : V8) (v496 : V8) (c1_i32_121 : BitVec 32) : Prog (TpuEff nD τ sig (Elt F) Λ₀ .tc) (Left (F := F) x0 v1) := k0_part12 b i x0 x1 y1 x2 y2 x3 y3 x4 y4 x5 y5 x6 y6 x7 y7 x8 y8 x9 y9 x10 y10 x11 y11 x12 y12 v1 k0_h1 v30 v471 v474 v485 k0_hw16 v493 v496 c1_i32_121 >>= fun r => a13 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2
theorem a12_eq (v30 : FVec F S1024x768 .f32) (v471 : V8) (v474 : V8) (v485 : Elt F .i32) (k0_hw16 : k0_chk16 x0 v1 v485) (v493 : V8) (v496 : V8) (c1_i32_121 : BitVec 32) (K : V8 → V8 → Prog (TpuEff nD τ sig (Elt F) Λ₀ .tc) PUnit) : (a12 b i x0 x1 y1 x2 y2 x3 y3 x4 y4 x5 y5 x6 y6 x7 y7 x8 y8 x9 y9 x10 y10 x11 y11 x12 y12 v1 k0_h1 v30 v471 v474 v485 k0_hw16 v493 v496 c1_i32_121 >>= k61 b i x0 x1 y1 x2 y2 x3 y3 x4 y4 x5 y5 x6 y6 x7 y7 x8 y8 x9 y9 x10 y10 x11 y11 x12 y12 v1 k0_h1 K) = t11 x0 v1 k0_h1 x3 x10 K v30 v471 v474 v485 k0_hw16 v493 v496 c1_i32_121 := by
  unfold a12; exact chain_step' (fun r => a13_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2 K) (step12 b i x0 x1 y1 x2 y2 x3 y3 x4 y4 x5 y5 x6 y6 x7 y7 x8 y8 x9 y9 x10 y10 x11 y11 x12 y12 v1 k0_h1 v30 v471 v474 v485 k0_hw16 v493 v496 c1_i32_121 K)

def a11 (v30 : FVec F S1024x768 .f32) (v425 : Elt F .i32) (k0_hw14 : k0_chk14 x0 v1 v425) (v441 : V8) (v444 : V8) : Prog (TpuEff nD τ sig (Elt F) Λ₀ .tc) (Left (F := F) x0 v1) := k0_part11 b i x0 x1 y1 x2 y2 x3 y3 x4 y4 x5 y5 x6 y6 x7 y7 x8 y8 x9 y9 x10 y10 x11 y11 x12 y12 v1 k0_h1 v30 v425 k0_hw14 v441 v444 >>= fun r => a12 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2
theorem a11_eq (v30 : FVec F S1024x768 .f32) (v425 : Elt F .i32) (k0_hw14 : k0_chk14 x0 v1 v425) (v441 : V8) (v444 : V8) (K : V8 → V8 → Prog (TpuEff nD τ sig (Elt F) Λ₀ .tc) PUnit) : (a11 b i x0 x1 y1 x2 y2 x3 y3 x4 y4 x5 y5 x6 y6 x7 y7 x8 y8 x9 y9 x10 y10 x11 y11 x12 y12 v1 k0_h1 v30 v425 k0_hw14 v441 v444 >>= k61 b i x0 x1 y1 x2 y2 x3 y3 x4 y4 x5 y5 x6 y6 x7 y7 x8 y8 x9 y9 x10 y10 x11 y11 x12 y12 v1 k0_h1 K) = t10 x0 v1 k0_h1 x3 x10 K v30 v425 k0_hw14 v441 v444 := by
  unfold a11; exact chain_step' (fun r => a12_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2 K) (step11 b i x0 x1 y1 x2 y2 x3 y3 x4 y4 x5 y5 x6 y6 x7 y7 x8 y8 x9 y9 x10 y10 x11 y11 x12 y12 v1 k0_h1 v30 v425 k0_hw14 v441 v444 K)

def a10 (v30 : FVec F S1024x768 .f32) (v381 : V8) (v384 : V8) (v395 : Elt F .i32) (k0_hw13 : k0_chk13 x0 v1 v395) (v403 : V8) (v406 : V8) (v408 : BitVec 1) : Prog (TpuEff nD τ sig (Elt F) Λ₀ .tc) (Left (F := F) x0 v1) := k0_part10 b i x0 x1 y1 x2 y2 x3 y3 x4 y4 x5 y5 x6 y6 x7 y7 x8 y8 x9 y9 x10 y10 x11 y11 x12 y12 v1 k0_h1 v30 v381 v384 v395 k0_hw13 v403 v406 v408 >>= fun r => a11 b i x0 x1 y1 x2 y2 x3 y3 x4 y4 x5 y5 x6 y6 x7 y7 x8 y8 x9 y9 x10 y10 x11 y11 x12 y12 v1 k0_h1 v30 r.1 r.2.1 r.2.2.1 r.2.2.2
theorem a10_eq (v30 : FVec F S1024x768 .f32) (v381 : V8) (v384 : V8) (v395 : Elt F .i32) (k0_hw13 : k0_chk13 x0 v1 v395) (v403 : V8) (v406 : V8) (v408 : BitVec 1) (K : V8 → V8 → Prog (TpuEff nD τ sig (Elt F) Λ₀ .tc) PUnit) : (a10 b i x0 x1 y1 x2 y2 x3 y3 x4 y4 x5 y5 x6 y6 x7 y7 x8 y8 x9 y9 x10 y10 x11 y11 x12 y12 v1 k0_h1 v30 v381 v384 v395 k0_hw13 v403 v406 v408 >>= k61 b i x0 x1 y1 x2 y2 x3 y3 x4 y4 x5 y5 x6 y6 x7 y7 x8 y8 x9 y9 x10 y10 x11 y11 x12 y12 v1 k0_h1 K) = t9 x0 v1 k0_h1 x3 x10 K v30 v381 v384 v395 k0_hw13 v403 v406 v408 := by
  unfold a10; exact chain_step' (fun r => a11_eq b i x0 x1 y1 x2 y2 x3 y3 x4 y4 x5 y5 x6 y6 x7 y7 x8 y8 x9 y9 x10 y10 x11 y11 x12 y12 v1 k0_h1 v30 r.1 r.2.1 r.2.2.1 r.2.2.2 K) (step10 b i x0 x1 y1 x2 y2 x3 y3 x4 y4 x5 y5 x6 y6 x7 y7 x8 y8 x9 y9 x10 y10 x11 y11 x12 y12 v1 k0_h1 v30 v381 v384 v395 k0_hw13 v403 v406 v408 K)

def a9 (v30 : FVec F S1024x768 .f32) (v335 : Elt F .i32) (k0_hw11 : k0_chk11 x0 v1 v335) (v351 : V8) (v354 : V8) (v364 : V8) : Prog (TpuEff nD τ sig (Elt F) Λ₀ .tc) (Left (F := F) x0 v1) := k0_part9 b i x0 x1 y1 x2 y2 x3 y3 x4 y4 x5 y5 x6 y6 x7 y7 x8 y8 x9 y9 x10 y10 x11 y11 x12 y12 v1 k0_h1 v30 v335 k0_hw11 v351 v354 v364 >>= fun r => a10 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2
theorem a9_eq (v30 : FVec F S1024x768 .f32) (v335 : Elt F .i32) (k0_hw11 : k0_chk11 x0 v1 v335) (v351 : V8) (v354 : V8) (v364 : V8) (K : V8 → V8 → Prog (TpuEff nD τ sig (Elt F) Λ₀ .tc) PUnit) : (a9 b i x0 x1 y1 x2 y2 x3 y3 x4 y4 x5 y5 x6 y6 x7 y7 x8 y8 x9 y9 x10 y10 x11 y11 x12 y12 v1 k0_h1 v30 v335 k0_hw11 v351 v354 v364 >>= k61 b i x0 x1 y1 x2 y2 x3 y3 x4 y4 x5 y5 x6 y6 x7 y7 x8 y8 x9 y9 x10 y10 x11 y11 x12 y12 v1 k0_h1 K) = t8 x0 v1 k0_h1 x3 x10 K v30 v335 k0_hw11 v351 v354 v364 := by
  unfold a9; exact chain_step' (fun r => a10_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2 K) (step9 b i x0 x1 y1 x2 y2 x3 y3 x4 y4 x5 y5 x6 y6 x7 y7 x8 y8 x9 y9 x10 y10 x11 y11 x12 y12 v1 k0_h1 v30 v335 k0_hw11 v351 v354 v364 K)

def a8 (v30 : FVec F S1024x768 .f32) (v294 : V8) (v305 : Elt F .i32) (k0_hw10 : k0_chk10 x0 v1 v305) (v313 : V8) (v316 : V8) (v318 : BitVec 1) (v320 : V8) : Prog (TpuEff nD τ sig (Elt F) Λ₀ .tc) (Left (F := F) x0 v1) := k0_part8 b i x0 x1 y1 x2 y2 x3 y3 x4 y4 x5 y5 x6 y6 x7 y7 x8 y8 x9 y9 x10 y10 x11 y11 x12 y12 v1 k0_h1 v30 v294 v305 k0_hw10 v313 v316 v318 v320 >>= fun r => a9 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2
theorem a8_eq (v30 : FVec F S1024x768 .f32) (v294 : V8) (v305 : Elt F .i32) (k0_hw10 : k0_chk10 x0 v1 v305) (v313 : V8) (v316 : V8) (v318 : BitVec 1) (v320 : V8) (K : V8 → V8 → Prog (TpuEff nD τ sig (Elt F) Λ₀ .tc) PUnit) : (a8 b i x0 x1 y1 x2 y2 x3 y3 x4 y4 x5 y5 x6 y6 x7 y7 x8 y8 x9 y9 x10 y10 x11 y11 x12 y12 v1 k0_h1 v30 v294 v305 k0_hw10 v313 v316 v318 v320 >>= k61 b i x0 x1 y1 x2 y2 x3 y3 x4 y4 x5 y5 x6 y6 x7 y7 x8 y8 x9 y9 x10 y10 x11 y11 x12 y12 v1 k0_h1 K) = t7 x0 v1 k0_h1 x3 x10 K v30 v294 v305 k0_hw10 v313 v316 v318 v320 := by
  unfold a8; exact chain_step' (fun r => a9_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2 K) (step8 b i x0 x1 y1 x2 y2 x3 y3 x4 y4 x5 y5 x6 y6 x7 y7 x8 y8 x9 y9 x10 y10 x11 y11 x12 y12 v1 k0_h1 v30 v294 v305 k0_hw10 v313 v316 v318 v320 K)

def a7 (v30 : FVec F S1024x768 .f32) (v261 : V8) (v264 : V8) (v275 : Elt F .i32) : Prog (TpuEff nD τ sig (Elt F) Λ₀ .tc) (Left (F := F) x0 v1) := k0_part7 b i x0 x1 y1 x2 y2 x3 y3 x4 y4 x5 y5 x6 y6 x7 y7 x8 y8 x9 y9 x10 y10 x11 y11 x12 y12 v1 k0_h1 v30 v261 v264 v275 >>= fun r => a8 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2
theorem a7_eq (v30 : FVec F S1024x768 .f32) (v261 : V8) (v264 : V8) (v275 : Elt F .i32) (K : V8 → V8 → Prog (TpuEff nD τ sig (Elt F) Λ₀ .tc) PUnit) : (a7 b i x0 x1 y1 x2 y2 x3 y3 x4 y4 x5 y5 x6 y6 x7 y7 x8 y8 x9 y9 x10 y10 x11 y11 x12 y12 v1 k0_h1 v30 v261 v264 v275 >>= k61 b i x0 x1 y1 x2 y2 x3 y3 x4 y4 x5 y5 x6 y6 x7 y7 x8 y8 x9 y9 x10 y10 x11 y11 x12 y12 v1 k0_h1 K) = t6 x0 v1 k0_h1 x3 x10 K v30 v261 v264 v275 := by
  unfold a7; exact chain_step' (fun r => a8_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2 K) (step7 b i x0 x1 y1 x2 y2 x3 y3 x4 y4 x5 y5 x6 y6 x7 y7 x8 y8 x9 y9 x10 y10 x11 y11 x12 y12 v1 k0_h1 v30 v261 v264 v275 K)

def a6 (v30 : FVec F S1024x768 .f32) (v204 : V8) (v215 : Elt F .i32) (k0_hw7 : k0_chk7 x0 v1 v215) (v226 : V8) (v228 : BitVec 1) (v231 : V8) (v232 : V8) : Prog (TpuEff nD τ sig (Elt F) Λ₀ .tc) (Left (F := F) x0 v1) := k0_part6 b i x0 x1 y1 x2 y2 x3 y3 x4 y4 x5 y5 x6 y6 x7 y7 x8 y8 x9 y9 x10 y10 x11 y11 x12 y12 v1 k0_h1 v30 v204 v215 k0_hw7 v226 v228 v231 v232 >>= fun r => a7 b i x0 x1 y1 x2 y2 x3 y3 x4 y4 x5 y5 x6 y6 x7 y7 x8 y8 x9 y9 x10 y10 x11 y11 x12 y12 v1 k0_h1 v30 r.1 r.2.1 r.2.2
theorem a6_eq (v30 : FVec F S1024x768 .f32) (v204 : V8) (v215 : Elt F .i32) (k0_hw7 : k0_chk7 x0 v1 v215) (v226 : V8) (v228 : BitVec 1) (v231 : V8) (v232 : V8) (K : V8 → V8 → Prog (TpuEff nD τ sig (Elt F) Λ₀ .tc) PUnit) : (a6 b i x0 x1 y1 x2 y2 x3 y3 x4 y4 x5 y5 x6 y6 x7 y7 x8 y8 x9 y9 x10 y10 x11 y11 x12 y12 v1 k0_h1 v30 v204 v215 k0_hw7 v226 v228 v231 v232 >>= k61 b i x0 x1 y1 x2 y2 x3 y3 x4 y4 x5 y5 x6 y6 x7 y7 x8 y8 x9 y9 x10 y10 x11 y11 x12 y12 v1 k0_h1 K) = t5 x0 v1 k0_h1 x3 x10 K v30 v204 v215 k0_hw7 v226 v228 v231 v232 := by
  unfold a6; exact chain_step' (fun r => a7_eq b i x0 x1 y1 x2 y2 x3 y3 x4 y4 x5 y5 x6 y6 x7 y7 x8 y8 x9 y9 x10 y10 x11 y11 x12 y12 v1 k0_h1 v30 r.1 r.2.1 r.2.2 K) (step6 b i x0 x1 y1 x2 y2 x3 y3 x4 y4 x5 y5 x6 y6 x7 y7 x8 y8 x9 y9 x10 y10 x11 y11 x12 y12 v1 k0_h1 v30 v204 v215 k0_hw7 v226 v228 v231 v232 K)

def a5 (v30 : FVec F S1024x768 .f32) (v171 : V8) (v174 : V8) (v185 : Elt F .i32) (k0_hw6 : k0_chk6 x0 v1 v185) (v186 : FVec F S8x768 .f32) (v187 : V8) : Prog (TpuEff nD τ sig (Elt F) Λ₀ .tc) (Left (F := F) x0 v1) := k0_part5 b i x0 x1 y1 x2 y2 x3 y3 x4 y4 x5 y5 x6 y6 x7 y7 x8 y8 x9 y9 x10 y10 x11 y11 x12 y12 v1 k0_h1 v30 v171 v174 v185 k0_hw6 v186 v187 >>= fun r => a6 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2
theorem a5_eq (v30 : FVec F S1024x768 .f32) (v171 : V8) (v174 : V8) (v185 : Elt F .i32) (k0_hw6 : k0_chk6 x0 v1 v185) (v186 : FVec F S8x768 .f32) (v187 : V8) (K : V8 → V8 → Prog (TpuEff nD τ sig (Elt F) Λ₀ .tc) PUnit) : (a5 b i x0 x1 y1 x2 y2 x3 y3 x4 y4 x5 y5 x6 y6 x7 y7 x8 y8 x9 y9 x10 y10 x11 y11 x12 y12 v1 k0_h1 v30 v171 v174 v185 k0_hw6 v186 v187 >>= k61 b i x0 x1 y1 x2 y2 x3 y3 x4 y4 x5 y5 x6 y6 x7 y7 x8 y8 x9 y9 x10 y10 x11 y11 x12 y12 v1 k0_h1 K) = t4 x0 v1 k0_h1 x3 x10 K v30 v171 v174 v185 k0_hw6 v186 v187 := by
  unfold a5; exact chain_step' (fun r => a6_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2 K) (step5 b i x0 x1 y1 x2 y2 x3 y3 x4 y4 x5 y5 x6 y6 x7 y7 x8 y8 x9 y9 x10 y10 x11 y11 x12 y12 v1 k0_h1 v30 v171 v174 v185 k0_hw6 v186 v187 K)

def a4 (v30 : FVec F S1024x768 .f32) (v125 : Elt F .i32) (k0_hw4 : k0_chk4 x0 v1 v125) (v141 : V8) (v144 : V8) (c1_i32_41 : BitVec 32) : Prog (TpuEff nD τ sig (Elt F) Λ₀ .tc) (Left (F := F) x0 v1) := k0_part4 b i x0 x1 y1 x2 y2 x3 y3 x4 y4 x5 y5 x6 y6 x7 y7 x8 y8 x9 y9 x10 y10 x11 y11 x12 y12 v1 k0_h1 v30 v125 k0_hw4 v141 v144 c1_i32_41 >>= fun r => a5 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2
theorem a4_eq (v30 : FVec F S1024x768 .f32) (v125 : Elt F .i32) (k0_hw4 : k0_chk4 x0 v1 v125) (v141 : V8) (v144 : V8) (c1_i32_41 : BitVec 32) (K : V8 → V8 → Prog (TpuEff nD τ sig (Elt F) Λ₀ .tc) PUnit) : (a4 b i x0 x1 y1 x2 y2 x3 y3 x4 y4 x5 y5 x6 y6 x7 y7 x8 y8 x9 y9 x10 y10 x11 y11 x12 y12 v1 k0_h1 v30 v125 k0_hw4 v141 v144 c1_i32_41 >>= k61 b i x0 x1 y1 x2 y2 x3 y3 x4 y4 x5 y5 x6 y6 x7 y7 x8 y8 x9 y9 x10 y10 x11 y11 x12 y12 v1 k0_h1 K) = t3 x0 v1 k0_h1 x3 x10 K v30 v125 k0_hw4 v141 v144 c1_i32_41 := by
  unfold a4; exact chain_step' (fun r => a5_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2 K) (step4 b i x0 x1 y1 x2 y2 x3 y3 x4 y4 x5 y5 x6 y6 x7 y7 x8 y8 x9 y9 x10 y10 x11 y11 x12 y12 v1 k0_h1 v30 v125 k0_hw4 v141 v144 c1_i32_41 K)

def a3 (v30 : FVec F S1024x768 .f32) (v81 : V8) (v84 : V8) (v95 : Elt F .i32) (k0_hw3 : k0_chk3 x0 v1 v95) (v96 : FVec F S8x768 .f32) (v99 : V8) (v100 : V8) : Prog (TpuEff nD τ sig (Elt F) Λ₀ .tc) (Left (F := F) x0 v1) := k0_part3 b i x0 x1 y1 x2 y2 x3 y3 x4 y4 x5 y5 x6 y6 x7 y7 x8 y8 x9 y9 x10 y10 x11 y11 x12 y12 v1 k0_h1 v30 v81 v84 v95 k0_hw3 v96 v99 v100 >>= fun r => a4 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2
theorem a3_eq (v30 : FVec F S1024x768 .f32) (v81 : V8) (v84 : V8) (v95 : Elt F .i32) (k0_hw3 : k0_chk3 x0 v1 v95) (v96 : FVec F S8x768 .f32) (v99 : V8) (v100 : V8) (K : V8 → V8 → Prog (TpuEff nD τ sig (Elt F) Λ₀ .tc) PUnit) : (a3 b i x0 x1 y1 x2 y2 x3 y3 x4 y4 x5 y5 x6 y6 x7 y7 x8 y8 x9 y9 x10 y10 x11 y11 x12 y12 v1 k0_h1 v30 v81 v84 v95 k0_hw3 v96 v99 v100 >>= k61 b i x0 x1 y1 x2 y2 x3 y3 x4 y4 x5 y5 x6 y6 x7 y7 x8 y8 x9 y9 x10 y10 x11 y11 x12 y12 v1 k0_h1 K) = t2 x0 v1 k0_h1 x3 x10 K v30 v81 v84 v95 k0_hw3 v96 v99 v100 := by
  unfold a3; exact chain_step' (fun r => a4_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2 K) (step3 b i x0 x1 y1 x2 y2 x3 y3 x4 y4 x5 y5 x6 y6 x7 y7 x8 y8 x9 y9 x10 y10 x11 y11 x12 y12 v1 k0_h1 v30 v81 v84 v95 k0_hw3 v96 v99 v100 K)

def a2 (v30 : FVec F S1024x768 .f32) (v35 : Elt F .i32) (k0_hw1 : k0_chk1 x0 v1 v35) (v51 : V8) (v54 : V8) (v56 : BitVec 32) : Prog (TpuEff nD τ sig (Elt F) Λ₀ .tc) (Left (F := F) x0 v1) := k0_part2 b i x0 x1 y1 x2 y2 x3 y3 x4 y4 x5 y5 x6 y6 x7 y7 x8 y8 x9 y9 x10 y10 x11 y11 x12 y12 v1 k0_h1 v30 v35 k0_hw1 v51 v54 v56 >>= fun r => a3 b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2
theorem a2_eq (v30 : FVec F S1024x768 .f32) (v35 : Elt F .i32) (k0_hw1 : k0_chk1 x0 v1 v35) (v51 : V8) (v54 : V8) (v56 : BitVec 32) (K : V8 → V8 → Prog (TpuEff nD τ sig (Elt F) Λ₀ .tc) PUnit) : (a2 b i x0 x1 y1 x2 y2 x3 y3 x4 y4 x5 y5 x6 y6 x7 y7 x8 y8 x9 y9 x10 y10 x11 y11 x12 y12 v1 k0_h1 v30 v35 k0_hw1 v51 v54 v56 >>= k61 b i x0 x1 y1 x2 y2 x3 y3 x4 y4 x5 y5 x6 y6 x7 y7 x8 y8 x9 y9 x10 y10 x11 y11 x12 y12 v1 k0_h1 K) = t1 x0 v1 k0_h1 x3 x10 K v30 v35 k0_hw1 v51 v54 v56 := by
  unfold a2; exact chain_step' (fun r => a3_eq b i x0 x1 y1 x2 y2 x3 y3 x4 y4 x5 y5 x6 y6 x7 y7 x8 y8 x9 y9 x10 y10 x11 y11 x12 y12 v1 k0_h1 v30 r.1 r.2.1 r.2.2.1 r.2.2.2.1 r.2.2.2.2.1 r.2.2.2.2.2.1 r.2.2.2.2.2.2 K) (step2 b i x0 x1 y1 x2 y2 x3 y3 x4 y4 x5 y5 x6 y6 x7 y7 x8 y8 x9 y9 x10 y10 x11 y11 x12 y12 v1 k0_h1 v30 v35 k0_hw1 v51 v54 v56 K)

def a1  : Prog (TpuEff nD τ sig (Elt F) Λ₀ .tc) (Left (F := F) x0 v1) := k0_part1 b i x0 x1 y1 x2 y2 x3 y3 x4 y4 x5 y5 x6 y6 x7 y7 x8 y8 x9 y9 x10 y10 x11 y11 x12 y12 v1 >>= fun r => a2 b i x0 x1 y1 x2 y2 x3 y3 x4 y4 x5 y5 x6 y6 x7 y7 x8 y8 x9 y9 x10 y10 x11 y11 x12 y12 v1 k0_h1 r.1 r.2.1 r.2.2.1 r.2.2.2.1 r.2.2.2.2.1 r.2.2.2.2.2
theorem a1_eq  (K : V8 → V8 → Prog (TpuEff nD τ sig (Elt F) Λ₀ .tc) PUnit) : (a1 b i x0 x1 y1 x2 y2 x3 y3 x4 y4 x5 y5 x6 y6 x7 y7 x8 y8 x9 y9 x10 y10 x11 y11 x12 y12 v1 k0_h1  >>= k61 b i x0 x1 y1 x2 y2 x3 y3 x4 y4 x5 y5 x6 y6 x7 y7 x8 y8 x9 y9 x10 y10 x11 y11 x12 y12 v1 k0_h1 K) = headP x0 v1 k0_h1 x3 x10 x2 x4 x11 K := by
  unfold a1; exact chain_step' (fun r => a2_eq b i x0 x1 y1 x2 y2 x3 y3 x4 y4 x5 y5 x6 y6 x7 y7 x8 y8 x9 y9 x10 y10 x11 y11 x12 y12 v1 k0_h1 r.1 r.2.1 r.2.2.1 r.2.2.2.1 r.2.2.2.2.1 r.2.2.2.2.2 K) (step1 b i x0 x1 y1 x2 y2 x3 y3 x4 y4 x5 y5 x6 y6 x7 y7 x8 y8 x9 y9 x10 y10 x11 y11 x12 y12 v1 k0_h1  K)

theorem part89_eq : k0_part89 b i x0 x1 y1 x2 y2 x3 y3 x4 y4 x5 y5 x6 y6 x7 y7 x8 y8 x9 y9 x10 y10 x11 y11 x12 y12 v1 k0_h1 = a1 b i x0 x1 y1 x2 y2 x3 y3 x4 y4 x5 y5 x6 y6 x7 y7 x8 y8 x9 y9 x10 y10 x11 y11 x12 y12 v1 k0_h1 := rfl

/-- A whole block's printed parts are the head and the recursion over its 128 units. -/
theorem norm_eq (K : V8 → V8 → Prog (TpuEff nD τ sig (Elt F) Λ₀ .tc) PUnit) : (k0_part89 b i x0 x1 y1 x2 y2 x3 y3 x4 y4 x5 y5 x6 y6 x7 y7 x8 y8 x9 y9 x10 y10 x11 y11 x12 y12 v1 k0_h1 >>= k61 b i x0 x1 y1 x2 y2 x3 y3 x4 y4 x5 y5 x6 y6 x7 y7 x8 y8 x9 y9 x10 y10 x11 y11 x12 y12 v1 k0_h1 K) = headP x0 v1 k0_h1 x3 x10 x2 x4 x11 K :=
  (congrArg (fun p => p >>= k61 b i x0 x1 y1 x2 y2 x3 y3 x4 y4 x5 y5 x6 y6 x7 y7 x8 y8 x9 y9 x10 y10 x11 y11 x12 y12 v1 k0_h1 K) (part89_eq b i x0 x1 y1 x2 y2 x3 y3 x4 y4 x5 y5 x6 y6 x7 y7 x8 y8 x9 y9 x10 y10 x11 y11 x12 y12 v1 k0_h1)).trans (a1_eq b i x0 x1 y1 x2 y2 x3 y3 x4 y4 x5 y5 x6 y6 x7 y7 x8 y8 x9 y9 x10 y10 x11 y11 x12 y12 v1 k0_h1 K)

end Cert.KernelIdeal.Units

end
-- ==== Proof.Root.lean ====
/-
  The printed body is the body over named pieces.
-/
module

public import proofs.«01_k».proof.Proof.ChainA

@[expose] public section

set_option maxRecDepth 8192

noncomputable section

namespace Cert.KernelIdeal.Units

open Idealize.ShloMosaic Idealize.SL.Sem
open Cert.KernelIdeal Cert.KernelIdeal.Gen

variable {F : FTy → Type} [FloatOps F]

variable (b : grid0.Bounds) (i : grid0.Static) (x0 : BitVec 32) (x1 : Memref sig .tc .smem S3 .i32) (y1 : x1.IsWhole) (x2 : Memref sig .tc .vmem S1024x128 .i32) (y2 : x2.IsWhole) (x3 : Memref sig .tc .smem S128 .i32) (y3 : x3.IsWhole) (x4 : Memref sig .tc .vmem S256x768 .bf16) (y4 : x4.IsWhole) (x5 : Memref sig .tc .vmem S60x128 .i32) (y5 : x5.IsWhole) (x6 : Memref sig .tc .hbm S192x30208 .f32) (y6 : x6.IsWhole) (x7 : Memref sig .tc .hbm S6x30208 .f32) (y7 : x7.IsWhole) (x8 : Memref sig .tc .vmem S192x512 .f32) (y8 : x8.IsWhole) (x9 : Memref sig .tc .vmem S6x512 .f32) (y9 : x9.IsWhole) (x10 : Memref sig .tc .vmem S7688x256 .f32) (y10 : x10.IsWhole) (x11 : Memref sig .tc .vmem S2x8x128 .f32) (y11 : x11.IsWhole) (x12 : Memref sig .tc .vmem S1024x768 .f32) (y12 : x12.IsWhole)

/-- The whole block as printed. -/
def normQ (v1 : Elt F .i32) (J : Prog (TpuEff nD τ sig (Elt F) Λ₀ .tc) PUnit) : Prog (TpuEff nD τ sig (Elt F) Λ₀ .tc) PUnit :=
  if k0_h1 : k0_cond1 x0 v1 = 1#1 then k0_part89 b i x0 x1 y1 x2 y2 x3 y3 x4 y4 x5 y5 x6 y6 x7 y7 x8 y8 x9 y9 x10 y10 x11 y11 x12 y12 v1 k0_h1 >>= k61 b i x0 x1 y1 x2 y2 x3 y3 x4 y4 x5 y5 x6 y6 x7 y7 x8 y8 x9 y9 x10 y10 x11 y11 x12 y12 v1 k0_h1 (fun a0 a1 => carryP x11 a0 a1 >>= fun _ => J) else J

theorem normQ_eq (v1 : Elt F .i32) (J : Prog (TpuEff nD τ sig (Elt F) Λ₀ .tc) PUnit) : normQ b i x0 x1 y1 x2 y2 x3 y3 x4 y4 x5 y5 x6 y6 x7 y7 x8 y8 x9 y9 x10 y10 x11 y11 x12 y12 v1 J = normS x0 v1 x2 x3 x4 x10 x11 J := by
  unfold normQ normS
  split
  · exact norm_eq b i x0 x1 y1 x2 y2 x3 y3 x4 y4 x5 y5 x6 y6 x7 y7 x8 y8 x9 y9 x10 y10 x11 y11 x12 y12 v1 _ _
  · rfl

def rootQ : Prog (TpuEff nD τ sig (Elt F) Λ₀ .tc) PUnit := do
  let v0 : Elt F .i32 ← smemLoad x1 (Rect.unit (s := S3) ![0] S1.size inb_S3_S1_0) numel1_S1 rfl
  let hw ← Prog.lift (TpuEff.assume (k0_chk130 x0 v0) (k0_chk130.dec x0 v0))
  let v1 : Elt F .i32 ← smemLoad x1 (Rect.unit (s := S3) ![1] S1.size inb_S3_S1_1) numel1_S1 rfl
  let v2 : Elt F .i32 ← smemLoad x1 (Rect.unit (s := S3) ![2] S1.size inb_S3_S1_2) numel1_S1 rfl
  normQ b i x0 x1 y1 x2 y2 x3 y3 x4 y4 x5 y5 x6 y6 x7 y7 x8 y8 x9 y9 x10 y10 x11 y11 x12 y12 v1 (partS x0 v0 v1 v2 x2 x3 x4 x10 x11 x12 (finS x0 v0 hw.down x5 x8 x9 x10))

theorem printed_eq : cc0_scores_1 (F := F) b i x0 x1 y1 x2 y2 x3 y3 x4 y4 x5 y5 x6 y6 x7 y7 x8 y8 x9 y9 x10 y10 x11 y11 x12 y12 = rootQ b i x0 x1 y1 x2 y2 x3 y3 x4 y4 x5 y5 x6 y6 x7 y7 x8 y8 x9 y9 x10 y10 x11 y11 x12 y12 := by
  rfl

/-- The printed body is the body over named pieces. -/
theorem body_eq : cc0_scores_1 (F := F) b i x0 x1 y1 x2 y2 x3 y3 x4 y4 x5 y5 x6 y6 x7 y7 x8 y8 x9 y9 x10 y10 x11 y11 x12 y12 = rootP x0 x1 x2 x3 x4 x5 x8 x9 x10 x11 x12 := by
  rw [printed_eq]; unfold rootQ rootP; simp only [normQ_eq]

end Cert.KernelIdeal.Units

end
-- ==== Proof.Call.lean ====
/-
  The call for any of the three chunks: the printed one, with the three constants that name the chunk's share of the destination words
  and of the results' columns as functions of the chunk `K`. At `K = 1` it is the printed call itself.
-/
module

public import proofs.«01_k».proof.Proof.Gen.KernelIdeal.Launch

@[expose] public section

set_option maxRecDepth 8192

noncomputable section

namespace Cert.KernelIdeal.Units

open Idealize.ShloMosaic Idealize.ShloMosaic.TcCoe
open Idealize.SL.Sem Cert.KernelIdeal Cert.KernelIdeal.Gen

variable {F : FTy → Type} [FloatOps F]

/-- The destination words' block at a point. -/
def tr1K (K : Fin 3) (inb_S3_S1_0 : ∀ a, (![0] : Fin 1 → Nat) a + S1.size a ≤ S3.size a) (numel1_S1 : S1.numel = 1) (pf : pre0.Contents (Elt F)) (b : grid0.Bounds) (i : (grid0.at b).Coords) : Fin 1 → Nat :=
  let arg0 : BitVec 32 := BitVec.ofNat 32 (i 0).val
  let c0 : Index := 0#32
  let v0 : BitVec 32 := pf.at 1 (Rect.unit (s := S3) ![0] S1.size inb_S3_S1_0) numel1_S1
  let c1_i32 : BitVec 32 := 1#32
  let v1 : BitVec 32 := Scalar.subi v0 c1_i32
  let v2 : BitVec 32 := Scalar.minsi arg0 v1
  let c416_i32 : BitVec 32 := BitVec.ofNat 32 (416 * K.val)
  let v3 : BitVec 32 := Scalar.addi c416_i32 v2
  let c0_i32 : BitVec 32 := 0#32
  ![v3.toNat]

/-- The block of the first result at a point. -/
def tr6K (K : Fin 3) (inb_S3_S1_0 : ∀ a, (![0] : Fin 1 → Nat) a + S1.size a ≤ S3.size a) (numel1_S1 : S1.numel = 1) (pf : pre0.Contents (Elt F)) (b : grid0.Bounds) (i : (grid0.at b).Coords) : Fin 2 → Nat :=
  let arg0 : BitVec 32 := BitVec.ofNat 32 (i 0).val
  let c0 : Index := 0#32
  let v0 : BitVec 32 := pf.at 1 (Rect.unit (s := S3) ![0] S1.size inb_S3_S1_0) numel1_S1
  let v1 : BitVec 32 := Scalar.subi arg0 v0
  let c0_i32 : BitVec 32 := 0#32
  let v2 : BitVec 32 := Scalar.maxsi v1 c0_i32
  let c15_i32 : BitVec 32 := BitVec.ofNat 32 (15 * K.val)
  let v3 : BitVec 32 := Scalar.addi c15_i32 v2
  let c0_i32_0 : BitVec 32 := 0#32
  let c0_i32_1 : BitVec 32 := 0#32
  ![c0_i32_0.toNat, v3.toNat]

/-- The block of the second. -/
def tr7K (K : Fin 3) (inb_S3_S1_0 : ∀ a, (![0] : Fin 1 → Nat) a + S1.size a ≤ S3.size a) (numel1_S1 : S1.numel = 1) (pf : pre0.Contents (Elt F)) (b : grid0.Bounds) (i : (grid0.at b).Coords) : Fin 2 → Nat :=
  let arg0 : BitVec 32 := BitVec.ofNat 32 (i 0).val
  let c0 : Index := 0#32
  let v0 : BitVec 32 := pf.at 1 (Rect.unit (s := S3) ![0] S1.size inb_S3_S1_0) numel1_S1
  let v1 : BitVec 32 := Scalar.subi arg0 v0
  let c0_i32 : BitVec 32 := 0#32
  let v2 : BitVec 32 := Scalar.maxsi v1 c0_i32
  let c15_i32 : BitVec 32 := BitVec.ofNat 32 (15 * K.val)
  let v3 : BitVec 32 := Scalar.addi c15_i32 v2
  let c0_i32_0 : BitVec 32 := 0#32
  let c0_i32_1 : BitVec 32 := 0#32
  ![c0_i32_0.toNat, v3.toNat]

theorem hreadsK_1 (K : Fin 3) (pf : pre0.Contents (Elt F)) (b : grid0.Bounds) (i i' : (grid0.at b).Coords)
    (h : ∀ a, reads0_1 a = true → i a = i' a) : tr1K K inb_S3_S1_0 numel1_S1 pf b i = tr1K K inb_S3_S1_0 numel1_S1 pf b i' := by
  unfold tr1K; simp only [h 0 rfl]

theorem hreadsK_4 (K : Fin 3) (pf : pre0.Contents (Elt F)) (b : grid0.Bounds) (i i' : (grid0.at b).Coords)
    (h : ∀ a, reads0_4 a = true → i a = i' a) : tr6K K inb_S3_S1_0 numel1_S1 pf b i = tr6K K inb_S3_S1_0 numel1_S1 pf b i' := by
  unfold tr6K; simp only [h 0 rfl]

theorem hreadsK_5 (K : Fin 3) (pf : pre0.Contents (Elt F)) (b : grid0.Bounds) (i i' : (grid0.at b).Coords)
    (h : ∀ a, reads0_5 a = true → i a = i' a) : tr7K K inb_S3_S1_0 numel1_S1 pf b i = tr7K K inb_S3_S1_0 numel1_S1 pf b i' := by
  unfold tr7K; simp only [h 0 rfl]

/-- The index maps. -/
abbrev ixK (K : Fin 3) (pf : pre0.Contents (Elt F)) : (w : Fin 6) → (grid0.at (dynb0 pf)).Coords → Fin (spec0 w).shape.rank → Nat := fun | 0 => cc0_transform_0 inb_S3_S1_0 numel1_S1 pf (dynb0 pf) | 1 => tr1K K inb_S3_S1_0 numel1_S1 pf (dynb0 pf) | 2 => cc0_transform_2 (dynb0 pf) | 3 => cc0_transform_3 (dynb0 pf) | 4 => tr6K K inb_S3_S1_0 numel1_S1 pf (dynb0 pf) | 5 => tr7K K inb_S3_S1_0 numel1_S1 pf (dynb0 pf) | ⟨_ + 6, h⟩ => absurd h (Nat.not_lt.2 (Nat.le_add_left _ _))
theorem hreadsK (K : Fin 3) : ∀ (pf : pre0.Contents (Elt F)) w (i i' : (grid0.at (dynb0 pf)).Coords), (∀ a, (spec0 w).reads a = true → i a = i' a) → ixK K pf w i = ixK K pf w i' := fun pf => fun | 0 => hreads0_0 pf (dynb0 pf) | 1 => hreadsK_1 K pf (dynb0 pf) | 2 => hreads0_2 (dynb0 pf) | 3 => hreads0_3 (dynb0 pf) | 4 => hreadsK_4 K pf (dynb0 pf) | 5 => hreadsK_5 K pf (dynb0 pf) | ⟨_ + 6, h⟩ => absurd h (Nat.not_lt.2 (Nat.le_add_left _ _))
/-- The side condition on the control words: every block is inside its array. -/
def okK (K : Fin 3) (pf : pre0.Contents (Elt F)) : Prop :=
  grid0.Admits (dynb0 pf) ∧
  (∀ i : (grid0.at (dynb0 pf)).Coords, ∃ h : (∀ a, (cc0_transform_0 inb_S3_S1_0 numel1_S1 pf (dynb0 pf) i a + 1) * S1024x128.size a ≤ S425984x128.size a), EltTy.bits .i32 = 32 ∨ (Rect.block (s := S425984x128) S1024x128.size (cc0_transform_0 inb_S3_S1_0 numel1_S1 pf (dynb0 pf) i) h).WholeWords (EltTy.packing .i32)) ∧
  (∀ i : (grid0.at (dynb0 pf)).Coords, ∃ h : (∀ a, (tr1K K inb_S3_S1_0 numel1_S1 pf (dynb0 pf) i a + 1) * S128.size a ≤ S212992.size a), EltTy.bits .i32 = 32 ∨ (Rect.block (s := S212992) S128.size (tr1K K inb_S3_S1_0 numel1_S1 pf (dynb0 pf) i) h).WholeWords (EltTy.packing .i32)) ∧
  (∀ i : (grid0.at (dynb0 pf)).Coords, ∃ h : (∀ a, (cc0_transform_2 (dynb0 pf) i a + 1) * S256x768.size a ≤ S256x768.size a), EltTy.bits .bf16 = 32 ∨ (Rect.block (s := S256x768) S256x768.size (cc0_transform_2 (dynb0 pf) i) h).WholeWords (EltTy.packing .bf16)) ∧
  (∀ i : (grid0.at (dynb0 pf)).Coords, ∃ h : (∀ a, (cc0_transform_3 (dynb0 pf) i a + 1) * S60x128.size a ≤ S60x128.size a), EltTy.bits .i32 = 32 ∨ (Rect.block (s := S60x128) S60x128.size (cc0_transform_3 (dynb0 pf) i) h).WholeWords (EltTy.packing .i32)) ∧
  (∀ i : (grid0.at (dynb0 pf)).Coords, ∃ h : (∀ a, (tr6K K inb_S3_S1_0 numel1_S1 pf (dynb0 pf) i a + 1) * S192x512.size a ≤ S192x30208.size a), EltTy.bits .f32 = 32 ∨ (Rect.block (s := S192x30208) S192x512.size (tr6K K inb_S3_S1_0 numel1_S1 pf (dynb0 pf) i) h).WholeWords (EltTy.packing .f32)) ∧
  (∀ i : (grid0.at (dynb0 pf)).Coords, ∃ h : (∀ a, (tr7K K inb_S3_S1_0 numel1_S1 pf (dynb0 pf) i a + 1) * S6x512.size a ≤ S6x30208.size a), EltTy.bits .f32 = 32 ∨ (Rect.block (s := S6x30208) S6x512.size (tr7K K inb_S3_S1_0 numel1_S1 pf (dynb0 pf) i) h).WholeWords (EltTy.packing .f32))
instance (K : Fin 3) (pf : pre0.Contents (Elt F)) : Decidable (okK K pf) := decidable_of_iff' _ (Iff.of_eq (okK.eq_1 K pf))
theorem hinbK (K : Fin 3) : ∀ (pf : pre0.Contents (Elt F)), okK K pf → ∀ w (i : (grid0.at (dynb0 pf)).Coords) a, (ixK K pf w i a + 1) * (spec0 w).size a ≤ (spec0 w).shape.size a :=
  fun pf hok => fun | 0 => fun i a => (hok.2.1 i).elim fun h _ => h a | 1 => fun i a => (hok.2.2.1 i).elim fun h _ => h a | 2 => fun i a => (hok.2.2.2.1 i).elim fun h _ => h a | 3 => fun i a => (hok.2.2.2.2.1 i).elim fun h _ => h a | 4 => fun i a => (hok.2.2.2.2.2.1 i).elim fun h _ => h a | 5 => fun i a => (hok.2.2.2.2.2.2 i).elim fun h _ => h a | ⟨_ + 6, h⟩ => absurd h (Nat.not_lt.2 (Nat.le_add_left _ _))
theorem hwxK (K : Fin 3) : ∀ (pf : pre0.Contents (Elt F)) (hok : okK K pf) w (i : (grid0.at (dynb0 pf)).Coords), (spec0 w).elt.bits = 32 ∨ (Rect.block (spec0 w).size (ixK K pf w i) (hinbK K pf hok w i)).WholeWords (spec0 w).elt.packing :=
  fun pf hok => fun | 0 => fun i => (hok.2.1 i).elim fun _ h => h | 1 => fun i => (hok.2.2.1 i).elim fun _ h => h | 2 => fun i => (hok.2.2.2.1 i).elim fun _ h => h | 3 => fun i => (hok.2.2.2.2.1 i).elim fun _ h => h | 4 => fun i => (hok.2.2.2.2.2.1 i).elim fun _ h => h | 5 => fun i => (hok.2.2.2.2.2.2 i).elim fun _ h => h | ⟨_ + 6, h⟩ => absurd h (Nat.not_lt.2 (Nat.le_add_left _ _))

/-- The call of chunk `K`. -/
abbrev pcfgK (K : Fin 3) : Pipeline.PCfg sig Λ₀ (Elt F) :=
  Pipeline.PCfg.ofSpecs pre0 grid0 hrank0 (fun pf => grid0.boundAt (dynb0 pf)) (fun _ _ h => grid0.boundAt_of_dyn h)
    6 spec0 hcount0 harr0 (ixK K) (hreadsK K) (okK K) (hinbK K) (hwxK K) 0 (fun pf _ t s => ⟨dynb0 pf, (grid0.at (dynb0 pf)).coords t, s⟩) (fun pf => idle0 pf (dynb0 pf))
abbrev pcfgsK (K : Fin 3) : Fin 1 → Pipeline.PCfg sig Λ₀ (Elt F) := fun _ => pcfgK K

/-- The program's labels and what they run. -/
def defsK (K : Fin 3) : Defs nD τ sig (Elt F) (Pipeline.Sig Λ₀ (Fin 1) fun p => (pcfgsK (F := F) K p).Adm) := Pipeline.defs (pcfgsK K) defs₀

/-- The program: the host operations, then the call. -/
def mainK (K : Fin 3) : Dev nD → Prog (TpuEff nD τ sig (Elt F) (Pipeline.Sig Λ₀ (Fin 1) fun p => (pcfgsK (F := F) K p).Adm) .tc) PUnit := fun _ =>
  Pipeline.chain (([hostOps0, hostOps0_1, hostOps0_2] : List (List (HloOp τ sig (Elt F)))).map StableHlo.seq ++ [Prog.lift (.customCall (Pipeline.entry 0) ())])

theorem cellOf_injK (K : Fin 3) (a : (p : Fin 1) → (pcfgsK (F := F) K p).Adm) :
    Function.Injective (Pipeline.cellOf (nD := nD) (τ := τ) (Pipeline.pin (pcfgsK (F := F) K) a)) :=
  Pipeline.cellOf_injective_of_table (Pipeline.pin (pcfgsK (F := F) K) a) semTab (fun | 0 => rfl | ⟨_ + 1, h⟩ => absurd h (Nat.not_lt.2 (Nat.le_add_left _ _))) semsDistinct semsDisjoint

theorem launchK (K : Fin 3) : Pipeline.PLaunchFacts (nD := nD) (τ := τ) (pcfgsK (F := F) K) 0 :=
  ⟨cellOf_injK K, winFacts0, preFacts0, block_pos0, arr_whole0, stage_whole0⟩

end Cert.KernelIdeal.Units

end
-- ==== Proof.Launch.lean ====
/-
  The run of the whole call: what each window's buffer holds at each grid point, the accumulators carried from point to point, and the
  run of the program from a memory whose control words pass the kernel's own checks.
-/
module

public import proofs.«01_k».proof.Proof.Point
public import proofs.«01_k».proof.Proof.Root
public import proofs.«01_k».proof.Proof.Call
public import Idealize.ShloMosaic.Lib.Pipeline.FrameBody

@[expose] public section

set_option maxRecDepth 8192

noncomputable section

namespace Cert.KernelIdeal.Units

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)
open Cert.KernelIdeal Cert.KernelIdeal.Gen Cert.Own

variable {F : FTy → Type} [FloatOps F]

local notation "𝕄" => MT nD τ sig Unit (Elt F) ℕ (UR sig nD τ) ℕ

/-- What the buffers hold when the call is entered, from the launch memory `m`. -/
def Vm (m : (ℓ : Loc nD τ sig) → Buf (Elt F) ℓ) (c : Dev nD) (b : Ref sig .tc) : Buf (Elt F) ((c : Thread nD τ).loc b) :=
  StableHlo.after ([hostOps0, hostOps0_1, hostOps0_2] : List (List (HloOp τ sig (Elt F)))).flatten (fun b => m (c, b)) b

variable {K : Fin 3} (a : (p : Fin 1) → (pcfgsK (F := F) K p).Adm) (V : (c : Dev nD) → (b : Ref sig .tc) → Buf (Elt F) ((c : Thread nD τ).loc b))

/-- The pipeline at the tables' contents. -/
abbrev CF : Cfg sig Λ₀ := (pcfgsK (F := F) K 0).at (a 0)

/-- The control words. -/
abbrev CTa : Vec F S3 .i32 := (a 0).1 1
/-- The grid coordinate as the word the body gets. -/
abbrev gi (t : Fin (CF a).N) : BitVec 32 := BitVec.ofNat 32 (((CF a).grid.coords t) 0).val
/-- The packed documents' block at a point. -/
abbrev xB (c : Dev nD) (t : Fin (CF a).N) : Vec F S1024x128 .i32 := (((CF a).win (0 : Fin 6)).blk t).view.read (Elt F) (V c (Pipeline.arrRef spec0 (0 : Fin 6)))
/-- The destination words' block at a point. -/
abbrev dB (c : Dev nD) (t : Fin (CF a).N) : Vec F S128 .i32 := (((CF a).win (1 : Fin 6)).blk t).view.read (Elt F) (V c (Pipeline.arrRef spec0 (1 : Fin 6)))
/-- The query matrix, as its window has it. -/
abbrev rB (c : Dev nD) (t : Fin (CF a).N) : Vec F S256x768 .bf16 := (((CF a).win (2 : Fin 6)).blk t).view.read (Elt F) (V c (Pipeline.arrRef spec0 (2 : Fin 6)))
/-- The rank table, as its window has it. -/
abbrev kB (c : Dev nD) (t : Fin (CF a).N) : Vec F S60x128 .i32 := (((CF a).win (3 : Fin 6)).blk t).view.read (Elt F) (V c (Pipeline.arrRef spec0 (3 : Fin 6)))

/-- The words the body reads pass its checks. -/
structure Checks : Prop where
  w0 : ∀ t : Fin (CF a).N, k0_chk130 (gi a t) (ct0 (F := F) (CTa a))
  w1 : ∀ (c : Dev nD) (t : Fin (CF a).N), k0_cond1 (gi a t) (ct1 (F := F) (CTa a)) = 1#1 → ∀ u hu, k0_chk1 (gi a t) (ct1 (F := F) (CTa a)) (dAt (F := F) (dB a V c t) u hu)
  w2 : ∀ (c : Dev nD) (t : Fin (CF a).N), k0_cond2 (gi a t) (ct0 (F := F) (CTa a)) (ct1 (F := F) (CTa a)) = 1#1 →
    ∀ k, k0_chk129 (gi a t) (ct0 (F := F) (CTa a)) (ct1 (F := F) (CTa a)) (ct2 (F := F) (CTa a)) k (dTrip (F := F) (dB a V c t) k)

/-- The accumulators point `t` leaves. -/
def stepT (c : Dev nD) (t : Fin (CF a).N) (σ : St F) : St F :=
  stepSt (gi a t) (ct0 (F := F) (CTa a)) (ct1 (F := F) (CTa a)) (ct2 (F := F) (CTa a)) (xB a V c t) (dB a V c t) (rB a V c t) σ

/-- The accumulators may hold `σ` before point `n`. -/
def Reach (c : Dev nD) : Nat → St F → Prop
  | 0, _ => True
  | n + 1, σ => ∃ σ', Reach c n σ' ∧ ∃ h : n < (CF a).N, σ = stepT a V c ⟨n, h⟩ σ'

variable (hc : Checks a V)

/-- The proof data on core `c`. -/
def rdat (c : Dev nD) : RDat τ (Elt F) Unit ℕ (UR sig nD τ) ℕ (CF a) c where
  A w := V c (Pipeline.arrRef spec0 w)
  after := fun | 0 => fun _ Y X => X = Y | 1 => fun _ Y X => X = Y | 2 => fun _ Y X => X = Y | 3 => fun _ Y X => X = Y
               | 4 => fun t Y X => ∃ σ, Reach a V c (t.val + 1) σ ∧ X = out8 (gi a t) (ct0 (F := F) (CTa a)) (hc.w0 t) σ.acc (kB a V c t) Y
               | 5 => fun t Y X => ∃ σ, Reach a V c (t.val + 1) σ ∧ X = out9 (gi a t) (ct0 (F := F) (CTa a)) (hc.w0 t) σ.acc (kB a V c t) Y
               | ⟨_ + 6, h⟩ => absurd h (Nat.not_lt.2 (Nat.le_add_left _ _))
  Φ t := iprop((∃ σ, ⌜Reach a V c t.val σ⌝ ∗ Hold c (Memref.whole cc0_scratch0) (Memref.whole cc0_scratch1) σ) ∗ (∃ P, owns (c : Thread nD τ) (Memref.whole cc0_scratch2) fullShare P)
    ∗ (∃ r, prngReg c r) ∗ Pipeline.ΦT pre0 (a 0).1 c)
  q _ := fullShare
  owed _ := 0

theorem found (c : Dev nD) (t : Fin (CF a).N) (Y : (w : Fin (CF a).W) → ((CF a).win w).block.Idx → Elt F ((CF a).win w).elt)
    (hY : ∀ w, (rdat a V hc c).Finds w t (Y w)) :
    Y (0 : Fin 6) = xB a V c t ∧ Y (1 : Fin 6) = dB a V c t ∧ Y (2 : Fin 6) = rB a V c t ∧ Y (3 : Fin 6) = kB a V c t := by
  have nz : ∀ e, Nonempty (Elt F e) := fun e => ⟨default⟩
  refine ⟨?_, ?_, ?_, ?_⟩
  · obtain ⟨d, e⟩ := (rdat a V hc c).finds_in_eq_fetched (0 : Fin 6) rfl (fun _ _ _ => rfl) (fun _ _ _ h => h) t _ (hY _)
    rw [e]; rfl
  · obtain ⟨d, e⟩ := (rdat a V hc c).finds_in_eq_fetched (1 : Fin 6) rfl (fun _ _ _ => rfl) (fun _ _ _ h => h) t _ (hY _)
    rw [e]; rfl
  · obtain ⟨d, e⟩ := (rdat a V hc c).finds_in_eq_fetched (2 : Fin 6) rfl (fun _ _ _ => rfl) (fun _ _ _ h => h) t _ (hY _)
    rw [e]; rfl
  · obtain ⟨d, e⟩ := (rdat a V hc c).finds_in_eq_fetched (3 : Fin 6) rfl (fun _ _ _ => rfl) (fun _ _ _ h => h) t _ (hY _)
    rw [e]; rfl

/-- The table of control words, out of the tables held. -/
theorem held_eq (c : Dev nD) : (Pipeline.ΦT pre0 (a 0).1 c : sProp 𝕄)
    = iprop((((c : Thread nD τ).loc (pre0.ref 0)) ↦{fullShare.right} (a 0).1 0) ∗ owns (c : Thread nD τ) (Memref.whole main_v24) fullShare.right (CTa a)) := by
  unfold Pipeline.ΦT Pipeline.prefHeld
  rw [owns_whole]
  exact bigSep_univ_eq_bigSepL [(0 : Fin 2), (1 : Fin 2)] (by decide) (by decide) _

theorem owes_eq (c : Dev nD) (t : Fin (CF a).N) : (rdat a V hc c).owesAt () t.succ = (rdat a V hc c).owesAt () t.castSucc := rfl

/-- The body's row of the table, as the function of its control flow. -/
theorem row_eq (t : Fin (CF a).N) : defs₀ (F := F) .tc (CF a).body ((CF a).bodyArgs t ((CF a).slots t))
    = rootP (gi a t) (Memref.whole main_v24) (((CF a).win (0 : Fin 6)).stage ((CF a).slots t (0 : Fin 6))) (((CF a).win (1 : Fin 6)).stage ((CF a).slots t (1 : Fin 6)))
      (((CF a).win (2 : Fin 6)).stage ((CF a).slots t (2 : Fin 6))) (((CF a).win (3 : Fin 6)).stage ((CF a).slots t (3 : Fin 6))) (((CF a).win (4 : Fin 6)).stage ((CF a).slots t (4 : Fin 6)))
      (((CF a).win (5 : Fin 6)).stage ((CF a).slots t (5 : Fin 6))) (Memref.whole cc0_scratch0) (Memref.whole cc0_scratch1) (Memref.whole cc0_scratch2) := by
  unfold defs₀; rw [Defs.onTc_tc]; exact body_eq ..

theorem phi_mk (c : Dev nD) (t : Fin (CF a).N) :
    (iprop((∃ σ, ⌜Reach a V c (t.val + 1) σ⌝ ∗ Hold c (Memref.whole cc0_scratch0) (Memref.whole cc0_scratch1) σ) ∗ (∃ P, owns (c : Thread nD τ) (Memref.whole cc0_scratch2) fullShare P)
      ∗ (∃ r, prngReg c r) ∗ (((c : Thread nD τ).loc (pre0.ref 0)) ↦{fullShare.right} (a 0).1 0) ∗ owns (c : Thread nD τ) (Memref.whole main_v24) fullShare.right (CTa a)) : sProp 𝕄)
      ⊢ (rdat a V hc c).Φ t.succ := by
  rw [← held_eq]; exact .rfl

theorem body_obligation (c : Dev nD) : (rdat a V hc c).BodyObligation (defs₀ (F := F)) Variants.none () Set.univ := fun t Y hY => by
  obtain ⟨e0, e1, e2, e3⟩ := found a V hc c t Y hY
  rw [row_eq, owes_eq]
  refine (sep_mono .rfl (sep_mono .rfl (Entails.of_eq (bigSep_W0 _)))).trans ?_
  refine .trans ?_ (wp_mono _ _ _ fun _ => sep_mono .rfl (sep_mono .rfl (Entails.of_eq (bigSep_W0 _).symm)))
  show iprop(((∃ σ, ⌜Reach a V c t.val σ⌝ ∗ Hold c (Memref.whole cc0_scratch0) (Memref.whole cc0_scratch1) σ) ∗ (∃ P, owns (c : Thread nD τ) (Memref.whole cc0_scratch2) fullShare P)
      ∗ (∃ r, prngReg c r) ∗ Pipeline.ΦT pre0 (a 0).1 c) ∗ _) ⊢ _
  rw [held_eq]
  iintro ⟨⟨⟨%σ, %hσ, HH⟩, ⟨%P, HP⟩, Hg, HT0, HT⟩, HO, H0, H1, H2, H3, H4, H5⟩
  rw [e0, e1, e2, e3]
  iapply (run_root Variants.none c none Set.univ (gi a t) (Memref.whole main_v24) (((CF a).win (0 : Fin 6)).stage ((CF a).slots t (0 : Fin 6))) (((CF a).win (1 : Fin 6)).stage ((CF a).slots t (1 : Fin 6)))
      (((CF a).win (2 : Fin 6)).stage ((CF a).slots t (2 : Fin 6))) (((CF a).win (3 : Fin 6)).stage ((CF a).slots t (3 : Fin 6))) (((CF a).win (4 : Fin 6)).stage ((CF a).slots t (4 : Fin 6)))
      (((CF a).win (5 : Fin 6)).stage ((CF a).slots t (5 : Fin 6))) (Memref.whole cc0_scratch0) (Memref.whole cc0_scratch1) (Memref.whole cc0_scratch2)
      fullShare.right fullShare fullShare fullShare fullShare (CTa a) (xB a V c t) (dB a V c t) (rB a V c t) (kB a V c t) (Y (4 : Fin 6)) (Y (5 : Fin 6)) P σ
      (hc.w0 t) (hc.w1 c t) (hc.w2 c t)) $$ [HT H0 H1 H2 H3 H4 H5 HP HH]
  · isplitl [HT]; · iexact HT
    isplitl [H0]; · iexact H0
    isplitl [H1]; · iexact H1
    isplitl [H2]; · iexact H2
    isplitl [H3]; · iexact H3
    isplitl [H4]; · iexact H4
    isplitl [H5]; · iexact H5
    isplitl [HP]; · iexact HP
    iexact HH
  iintro HT H0 H1 H2 H3 H4 H5 HP HH
  have hr : Reach a V c (t.val + 1) (stepT a V c t σ) := ⟨σ, hσ, t.isLt, rfl⟩
  isplitl [HH HP Hg HT0 HT]
  · iapply (phi_mk a V hc c t)
    isplitl [HH]
    · iexists (stepT a V c t σ); isplitr; · ipureintro; exact hr
      iexact HH
    isplitl [HP]; · iexact HP
    isplitl [Hg]; · iexact Hg
    isplitl [HT0]; · iexact HT0
    iexact HT
  isplitl [HO]; · iexact HO
  isplitl [H0]
  · iexists (xB a V c t); isplitr; · ipureintro; exact rfl
    iexact H0
  isplitl [H1]
  · iexists (dB a V c t); isplitr; · ipureintro; exact rfl
    iexact H1
  isplitl [H2]
  · iexists (rB a V c t); isplitr; · ipureintro; exact rfl
    iexact H2
  isplitl [H3]
  · iexists (kB a V c t); isplitr; · ipureintro; exact rfl
    iexact H3
  isplitl [H4]
  · iexists _; isplitr; swap; · iexact H4
    ipureintro; exact ⟨_, hr, rfl⟩
  · iexists _; isplitr; swap; · iexact H5
    ipureintro; exact ⟨_, hr, rfl⟩

theorem start (c : Dev nD) : iprop(Pipeline.ΦA (CF a).spec c ∗ Pipeline.ΦT pre0 (a 0).1 c) ⊢ (rdat a V hc c).Φ 0 := by
  show iprop(Pipeline.ΦA spec0 c ∗ Pipeline.ΦT pre0 (a 0).1 c) ⊢ iprop((∃ σ, ⌜Reach a V c 0 σ⌝ ∗ Hold c (Memref.whole cc0_scratch0) (Memref.whole cc0_scratch1) σ)
      ∗ (∃ P, owns (c : Thread nD τ) (Memref.whole cc0_scratch2) fullShare P) ∗ (∃ r, prngReg c r) ∗ Pipeline.ΦT pre0 (a 0).1 c)
  unfold Pipeline.ΦA Hold
  rw [scopedRest0_eq]
  simp only [owns_whole]
  iintro ⟨⟨⟨⟨%f0, H0⟩, ⟨%f1, H1⟩, ⟨%f2, H2⟩⟩, Hg⟩, HT⟩
  isplitl [H0 H1]
  · iexists (⟨f0, ca0 f1, ca1 f1⟩ : St F)
    isplitr; · ipureintro; exact trivial
    isplitl [H0]; · iexact H0
    iexists f1; isplitr; · ipureintro; exact ⟨rfl, rfl⟩
    iexact H1
  isplitl [H2]
  · iexists f2; iexact H2
  isplitl [Hg]; · iexact Hg
  iexact HT

theorem finish (c : Dev nD) : (rdat a V hc c).Φ (Fin.last (CF a).N) ⊢ Pipeline.ΦA (CF a).spec c := by
  show iprop((∃ σ, ⌜Reach a V c (CF a).N σ⌝ ∗ Hold c (Memref.whole cc0_scratch0) (Memref.whole cc0_scratch1) σ)
      ∗ (∃ P, owns (c : Thread nD τ) (Memref.whole cc0_scratch2) fullShare P) ∗ (∃ r, prngReg c r) ∗ Pipeline.ΦT pre0 (a 0).1 c) ⊢ Pipeline.ΦA spec0 c
  unfold Pipeline.ΦA Hold
  rw [scopedRest0_eq]
  simp only [owns_whole]
  iintro ⟨⟨%σ, -, H0, ⟨%C, -, H1⟩⟩, ⟨%P, H2⟩, Hg, -⟩
  isplitr [Hg]
  · isplitl [H0]; · iexists _; iexact H0
    isplitl [H1]; · iexists _; iexact H1
    iexists _; iexact H2
  iexact Hg

variable (m : (ℓ : Loc nD τ sig) → Buf (Elt F) ℓ) (g : Dev nD → PrngReg)

theorem hmain (K : Fin 3) : Pipeline.HMainP (Ix := Unit) (Name := ℕ) (U := UR sig nD τ) (Lvl := ℕ) (pcfgsK (F := F) K) 0 defs₀ Variants.none m (mainK (F := F) K) (Vm m) :=
  Pipeline.hmainP_prefixes (pcfgsK (F := F) K) 0 defs₀ Variants.none m (mainK K) [hostOps0, hostOps0_1, hostOps0_2]
    ⟨hostOps0_sub, hostOps0_1_sub, hostOps0_2_sub⟩ (by simp only [List.forall_cons, List.Forall]; refine ⟨?_, ?_, ?_⟩ <;> (repeat' constructor)) (fun c => rfl)

/-- The run: every execution ends, each result array holds what the write-backs left, and nothing else has changed since the call was
    entered. -/
theorem run_main (hc : Checks a (Vm m)) (hpf : ∀ c k, Vm m c (pre0.ref k) = (a 0).1 k) :
    θ_run (defsK K) (onTc (τ := τ) (mainK (F := F) K)) (s₀ m g)
      (fun r => RDat.FramePost (CF a) (rdat a (Vm m) hc) (Vm m) r ∧ r.2.sem = fun _ => 0) :=
  Pipeline.RDat.θ_run_frameP_track (Q' := _) (pcfgsK (F := F) K) a (0 : Fin 1) (launchK K) defs₀ Variants.none (rdat a (Vm m) hc) m g (mainK K)
    (hbody := body_obligation a (Vm m) hc) (hshare := fun c w => by unfold RDat.share; split <;> rfl) (howed := fun _ _ => rfl) (V := Vm m)
    (hmain := hmain m K) (hA := fun _ _ => rfl) (hpf := hpf) (hin := start a (Vm m) hc) (hout := finish a (Vm m) hc)

end Cert.KernelIdeal.Units

end
-- ==== Proof.Words.lean ====
/-
  What the precondition says of the counts and the destination words.
-/
module

public import Idealize.ShloMosaic.Lib.ReduceAll
public import Idealize.ShloMosaic.Lib.Affine
public import Idealize.ShloMosaic.Lib.StableHlo.Predicate
public import Idealize.ShloMosaic.Lib.ValueIdxCore
public import Idealize.ShloMosaic.Lib.Pipeline.Value

@[expose] public section

noncomputable section

namespace Cert.Words

open Idealize.ShloMosaic

/-- The row a destination word names. -/
def rowW (d : BitVec 32) : BitVec 32 := d.sshiftRight 1

/-- The destination word of unit `u` of chunk `K`. -/
def wordOf (K : Fin 3) (D : (⟨1, ![212992]⟩ : Shape).Idx → BitVec 32) (u : Nat) : BitVec 32 :=
  if h : u < 53248 then D (ValueIdx.ix1 (⟨53248 * K.val + u, by omega⟩ : Fin 212992)) else 0#32

theorem wordOf_lt (K : Fin 3) (D : (⟨1, ![212992]⟩ : Shape).Idx → BitVec 32) {u : Nat} (h : u < 53248) :
    wordOf K D u = D (ValueIdx.ix1 (⟨53248 * K.val + u, by omega⟩ : Fin 212992)) := dif_pos h

/-- The counts are those of a unit list, and every unit's rows lie in the accumulator. -/
structure InB (nn na : BitVec 32) (D : Nat → BitVec 32) : Prop where
  one_le : 1 ≤ na.toNat
  le_cap : na.toNat ≤ 53248
  nn_le : nn.toNat ≤ na.toNat
  norm : ∀ u, u < nn.toNat → (rowW (D u)).toNat ≤ 7680 ∧ 8 ∣ (rowW (D u)).toNat
  extra : ∀ u, nn.toNat ≤ u → u < na.toNat → (rowW (D u)).toNat < 7688

open IntOp in
/-- The comparisons the precondition makes, read as numbers. -/
theorem inB_mk {nn na : BitVec 32} {D : Nat → BitVec 32}
    (h0 : andi (andi (andi (cmpi .sge na 1#32) (cmpi .sle na 53248#32)) (cmpi .sge nn 0#32)) (cmpi .sle nn na) = 1#1)
    (h1 : ∀ u, u < 53248 → ori (cmpi .sge (BitVec.ofNat 32 u) nn)
      (andi (andi (cmpi .sge (rowW (D u)) 0#32) (cmpi .sle (rowW (D u)) 7680#32))
        (cmpi .eq (andi (rowW (D u)) 7#32) 0#32)) = 1#1)
    (h2 : ∀ u, u < 53248 → ori (ori (cmpi .slt (BitVec.ofNat 32 u) nn) (cmpi .sge (BitVec.ofNat 32 u) na))
      (andi (cmpi .sge (rowW (D u)) 0#32) (cmpi .slt (rowW (D u)) 7688#32)) = 1#1) :
    InB nn na D := by
  simp only [andi_eq_one, ori_eq_one, cmpi_sge, cmpi_sle, cmpi_slt, cmpi_eq] at h0 h1 h2
  have e1 : (1#32 : BitVec 32).toInt = 1 := by decide
  have e2 : (53248#32 : BitVec 32).toInt = 53248 := by decide
  have e3 : (0#32 : BitVec 32).toInt = 0 := by decide
  have e4 : (7680#32 : BitVec 32).toInt = 7680 := by decide
  have e5 : (7688#32 : BitVec 32).toInt = 7688 := by decide
  simp only [e1, e2, e3, e4, e5] at h0 h1 h2
  have key : ∀ x : BitVec 32, 0 ≤ x.toInt → x.toInt = (x.toNat : Int) := fun x hx => by
    have := x.isLt
    rw [BitVec.toInt_eq_toNat_cond] at hx ⊢; split at hx <;> split <;> omega
  have ku : ∀ u : Nat, u < 53248 → (BitVec.ofNat 32 u).toInt = (u : Int) := fun u hu => by
    rw [BitVec.toInt_eq_toNat_of_lt (by rw [BitVec.toNat_ofNat]; omega), BitVec.toNat_ofNat]; omega
  have ka := key na (by omega)
  have kn := key nn (by omega)
  refine ⟨by omega, by omega, by omega, fun u hu => ?_, fun u hu hu' => ?_⟩
  · have hu2 : u < 53248 := by omega
    rcases h1 u hu2 with h | ⟨⟨ha, hb⟩, hc⟩
    · rw [ku u hu2] at h; omega
    · have kr := key _ ha
      refine ⟨by omega, ?_⟩
      have h7 := congrArg BitVec.toNat hc
      have h71 : (IntOp.andi (rowW (D u)) 7#32).toNat = (rowW (D u)).toNat % 8 :=
        (BitVec.toNat_and _ _).trans (Nat.and_two_pow_sub_one_eq_mod _ 3)
      have h70 : (0#32 : BitVec 32).toNat = 0 := by decide
      omega
  · have hu2 : u < 53248 := by omega
    rcases h2 u hu2 with h | ⟨ha, hb⟩
    · rw [ku u hu2] at h; omega
    · have kr := key _ ha
      omega

theorem shr_one (u : ArithUnit) (d : BitVec 32) : IntOp.shrsi u d 1#32 = rowW d := by
  unfold IntOp.shrsi
  exact (if_pos (by decide)).trans rfl

section Decode

variable {F : FTy → Type} [FloatOps F]

local instance : Subsingleton (⟨0, ![]⟩ : Shape).Idx := ⟨fun a b => funext fun i => i.elim0⟩

theorem fill_i {s : Shape} {w : Nat} (h : (⟨0, ![]⟩ : Shape).BroadcastsInDim s ![]) (v : IVec (⟨0, ![]⟩ : Shape) w) (j : s.Idx)
    (z : (⟨0, ![]⟩ : Shape).Idx) : broadcastInDim s ![] h v j = v z := by
  unfold broadcastInDim
  exact congrArg v (Subsingleton.elim _ _)

theorem slice_of (K : Fin 3) (o : ℕ) (ho : o = 53248 * K.val) (x1 : IVec (⟨1, ![212992]⟩ : Shape) 32)
    (h : (⟨1, ![212992]⟩ : Shape).Slices ![o] (⟨1, ![53248]⟩ : Shape)) {u : Nat} (hu : u < 53248) :
    extractStridedSlice (⟨1, ![53248]⟩ : Shape) ![o] x1 h (ValueIdx.ix1 (⟨u, hu⟩ : Fin 53248)) = wordOf K x1 u := by
  subst ho
  have e := wordOf_lt K x1 hu
  rw [e]
  exact extractStridedSlice_apply _ _ _ _ _ fun a => by
    match a with
    | ⟨0, _⟩ => rfl

theorem iota_at {u : Nat} (hu : u < 53248) :
    iotaInDim (⟨1, ![53248]⟩ : Shape) 32 0 (ValueIdx.ix1 (⟨u, hu⟩ : Fin 53248)) = BitVec.ofNat 32 u := rfl

end Decode

end Cert.Words

end
-- ==== Proof.Nums.lean ====
/-
  The kernel's control-word arithmetic on small words, and its own checks as statements about numbers.
-/
module

public import proofs.«01_k».proof.Proof.Words
public import proofs.«01_k».proof.Proof.Gen.KernelIdeal

@[expose] public section

noncomputable section

namespace Cert.KernelIdeal.Units

open Idealize.ShloMosaic Cert.Words Cert.KernelIdeal.Gen

theorem toInt_small {x : BitVec 32} (h : x.toNat < 2 ^ 31) : x.toInt = (x.toNat : Int) :=
  BitVec.toInt_eq_toNat_of_lt (by omega)

theorem toNat_minsi {x y : BitVec 32} (hx : x.toNat < 2 ^ 31) (hy : y.toNat < 2 ^ 31) :
    (Scalar.minsi x y).toNat = min x.toNat y.toNat := by
  simp only [Scalar.minsi, IntOp.minsi]
  have ex := toInt_small hx
  have ey := toInt_small hy
  split <;> rename_i h <;> rw [BitVec.slt_iff_toInt_lt] at h <;> omega

theorem toNat_maxsi_sub {x y : BitVec 32} (hx : x.toNat < 2 ^ 31) (hy : y.toNat < 2 ^ 31) :
    (Scalar.maxsi (Scalar.subi x y) 0#32).toNat = x.toNat - y.toNat := by
  show (if BitVec.slt 0#32 (x - y) = true then x - y else 0#32).toNat = _
  have e0 : (0#32 : BitVec 32).toInt = 0 := by decide
  have e1 : (0#32 : BitVec 32).toNat = 0 := by decide
  have e3 := BitVec.toNat_sub x y
  have e4 : (x - y).toInt = if 2 * (x - y).toNat < 2 ^ 32 then ((x - y).toNat : Int) else ((x - y).toNat : Int) - (2 ^ 32 : Nat) :=
    BitVec.toInt_eq_toNat_cond _
  have e5 : (2 * (x - y).toNat < 2 ^ 32 ∧ (x - y).toInt = ((x - y).toNat : Int))
      ∨ (2 ^ 32 ≤ 2 * (x - y).toNat ∧ (x - y).toInt = ((x - y).toNat : Int) - (2 ^ 32 : Nat)) := by
    by_cases h : 2 * (x - y).toNat < 2 ^ 32
    · exact .inl ⟨h, e4.trans (if_pos h)⟩
    · exact .inr ⟨by omega, e4.trans (if_neg h)⟩
  by_cases h : BitVec.slt 0#32 (x - y) = true
  · rw [if_pos h]
    rw [BitVec.slt_iff_toInt_lt, e0] at h
    omega
  · rw [if_neg h]
    rw [BitVec.slt_iff_toInt_lt, e0] at h
    omega

theorem toNat_sub_one {x : BitVec 32} (hx : 1 ≤ x.toNat) : (Scalar.subi x 1#32).toNat = x.toNat - 1 := by
  have e1 : (1#32 : BitVec 32).toNat = 1 := by decide
  have := x.isLt
  simp only [Scalar.subi, IntOp.subi, BitVec.toNat_sub, e1]
  omega

theorem toNat_addi {x y : BitVec 32} (h : x.toNat + y.toNat < 2 ^ 32) : (Scalar.addi x y).toNat = x.toNat + y.toNat := by
  simp only [Scalar.addi, IntOp.addi, BitVec.toNat_add]
  omega

theorem toNat_muli {x y : BitVec 32} (h : x.toNat * y.toNat < 2 ^ 32) : (Scalar.muli x y).toNat = x.toNat * y.toNat := by
  simp only [Scalar.muli, IntOp.muli, BitVec.toNat_mul]
  exact Nat.mod_eq_of_lt h

theorem cond1_iff {g v1 : BitVec 32} (hg : g.toNat < 4096) (hv : v1.toNat < 2 ^ 31) :
    k0_cond1 g v1 = 1#1 ↔ (g.toNat + 1) * 128 ≤ v1.toNat := by
  have e1 : (1#32 : BitVec 32).toNat = 1 := by decide
  have e2 : (128#32 : BitVec 32).toNat = 128 := by decide
  have a1 := toNat_addi (x := g) (y := 1#32) (by omega)
  have a2 := toNat_muli (x := Scalar.addi g 1#32) (y := 128#32) (by rw [a1, e1, e2]; omega)
  rw [a1, e1, e2] at a2
  unfold k0_cond1
  rw [Scalar.guard_iff, Scalar.cmpi, IntOp.cmpi_sle, toInt_small (by omega), toInt_small hv]
  omega

theorem cond2_iff {g v0 v1 : BitVec 32} (hg : g.toNat < 4096) (h0 : v0.toNat < 2 ^ 31) (hv : v1.toNat < 2 ^ 31) :
    k0_cond2 g v0 v1 = 1#1 ↔ v1.toNat < (g.toNat + 1) * 128 ∧ g.toNat < v0.toNat := by
  have e1 : (1#32 : BitVec 32).toNat = 1 := by decide
  have e2 : (128#32 : BitVec 32).toNat = 128 := by decide
  have a1 := toNat_addi (x := g) (y := 1#32) (by omega)
  have a2 := toNat_muli (x := Scalar.addi g 1#32) (y := 128#32) (by rw [a1, e1, e2]; omega)
  rw [a1, e1, e2] at a2
  unfold k0_cond2
  rw [Scalar.guard_iff, Scalar.andi, IntOp.andi_eq_one, Scalar.cmpi, Scalar.cmpi, IntOp.cmpi_sgt, IntOp.cmpi_slt,
    toInt_small (x := Scalar.muli _ _) (by omega), toInt_small hv, toInt_small h0, toInt_small (x := g) (by omega)]
  omega

theorem cond5_iff {g v0 : BitVec 32} (hg : g.toNat < 4096) (h0 : v0.toNat < 2 ^ 31) :
    k0_cond5 g v0 = 1#1 ↔ v0.toNat ≤ g.toNat := by
  unfold k0_cond5
  rw [Scalar.guard_iff, Scalar.cmpi, IntOp.cmpi_sge, toInt_small h0, toInt_small (x := g) (by omega)]
  omega

/-- The unit a partial block's trip takes, as a word. -/
theorem unit_toNat {g : BitVec 32} (hg : g.toNat < 4096) (k : Fin k0_t1_loop.trips) (hk : k.val < 128) :
    (Scalar.addi (Scalar.muli g 128#32) (Scf.iv 0#32 1#32 k)).toNat = g.toNat * 128 + k.val := by
  have e2 : (128#32 : BitVec 32).toNat = 128 := by decide
  have a2 := toNat_muli (x := g) (y := 128#32) (by rw [e2]; omega)
  have a3 : (Scf.iv 0#32 1#32 k).toNat = k.val := by
    simp only [Scf.iv, BitVec.toNat_add, BitVec.toNat_mul, BitVec.toNat_ofNat]
    omega
  rw [e2] at a2
  rw [toNat_addi (by omega), a2, a3]

theorem cond3_iff {g v1 : BitVec 32} (hg : g.toNat < 4096) (hv : v1.toNat < 2 ^ 31) (k : Fin k0_t1_loop.trips) (hk : k.val < 128) :
    k0_cond3 g v1 k = 1#1 ↔ g.toNat * 128 + k.val < v1.toNat := by
  have a := unit_toNat hg k hk
  unfold k0_cond3
  rw [Scalar.guard_iff, Scalar.cmpi, IntOp.cmpi_slt, toInt_small (x := Scalar.addi _ _) (by omega), toInt_small hv]
  omega

theorem cond4_iff {g v1 v2 : BitVec 32} (hg : g.toNat < 4096) (hv : v1.toNat < 2 ^ 31) (hv2 : v2.toNat < 2 ^ 31)
    (k : Fin k0_t1_loop.trips) (hk : k.val < 128) :
    k0_cond4 g v1 v2 k = 1#1 ↔ v1.toNat ≤ g.toNat * 128 + k.val ∧ g.toNat * 128 + k.val < v2.toNat := by
  have a := unit_toNat hg k hk
  unfold k0_cond4
  rw [Scalar.guard_iff, Scalar.andi, IntOp.andi_eq_one, Scalar.cmpi, Scalar.cmpi, IntOp.cmpi_sge, IntOp.cmpi_slt,
    toInt_small (x := Scalar.addi _ _) (by omega), toInt_small hv, toInt_small hv2]
  omega

theorem scalar_shr (d : BitVec 32) : Scalar.shrsi d 1#32 = rowW d := shr_one _ d

theorem chk1_of {g v1 d : BitVec 32} (h : (rowW d).toNat ≤ 7680 ∧ 8 ∣ (rowW d).toNat) : k0_chk1 g v1 d := by
  refine ⟨fun _ => ?_, fun _ a => ?_, fun _ a => ?_⟩
  · simp only [k0_mult1, scalar_shr]; exact h.2
  · simp only [k0_off1, scalar_shr, Scalar.indexCast]
    match a with
    | ⟨0, _⟩ => show (rowW d).toNat + 8 ≤ 7688; omega
    | ⟨1, _⟩ => show 0 + 128 ≤ 256; omega
  · simp only [k0_off2, scalar_shr, Scalar.indexCast]
    match a with
    | ⟨0, _⟩ => show (rowW d).toNat + 8 ≤ 7688; omega
    | ⟨1, _⟩ => show 128 + 128 ≤ 256; omega

theorem chk129_of {g v0 v1 v2 d : BitVec 32} {k : Fin k0_t1_loop.trips}
    (h : k0_cond3 g v1 k = 1#1 → (rowW d).toNat ≤ 7680 ∧ 8 ∣ (rowW d).toNat)
    (h' : k0_cond4 g v1 v2 k = 1#1 → (rowW d).toNat < 7688) : k0_chk129 g v0 v1 v2 k d := by
  refine ⟨fun _ h3 => ?_, fun _ h3 a => ?_, fun _ h3 a => ?_, fun _ h4 a => ?_⟩
  · have := h h3
    simp only [k0_mult130, scalar_shr]; exact this.2
  · have := h h3
    simp only [k0_off259, scalar_shr, Scalar.indexCast]
    match a with
    | ⟨0, _⟩ => show (rowW d).toNat + 8 ≤ 7688; omega
    | ⟨1, _⟩ => show 0 + 128 ≤ 256; omega
  · have := h h3
    simp only [k0_off260, scalar_shr, Scalar.indexCast]
    match a with
    | ⟨0, _⟩ => show (rowW d).toNat + 8 ≤ 7688; omega
    | ⟨1, _⟩ => show 128 + 128 ≤ 256; omega
  · have := h' h4
    simp only [k0_off261, scalar_shr, Scalar.indexCast]
    match a with
    | ⟨0, _⟩ => show (rowW d).toNat + 1 ≤ 7688; omega
    | ⟨1, _⟩ => show 0 + 256 ≤ 256; omega

/-- A finish step's window number, as a word. -/
theorem win_toNat {g v0 : BitVec 32} (h : v0.toNat ≤ g.toNat) (h15 : g.toNat < v0.toNat + 15) (r : Nat) (hr : r < 4) :
    (Scalar.addi (Scalar.muli (Scalar.subi g v0) 4#32) (BitVec.ofNat 32 r)).toNat = (g.toNat - v0.toNat) * 4 + r := by
  have e4 : (4#32 : BitVec 32).toNat = 4 := by decide
  have es : (Scalar.subi g v0).toNat = g.toNat - v0.toNat := by
    have := g.isLt
    simp only [Scalar.subi, IntOp.subi, BitVec.toNat_sub]
    omega
  have em := toNat_muli (x := Scalar.subi g v0) (y := 4#32) (by rw [es, e4]; omega)
  rw [es, e4] at em
  have er : (BitVec.ofNat 32 r).toNat = r := by rw [BitVec.toNat_ofNat]; omega
  rw [toNat_addi (by omega), em, er]

theorem row_toNat {g v0 : BitVec 32} (h : v0.toNat ≤ g.toNat) (h15 : g.toNat < v0.toNat + 15) (r : Nat) (hr : r < 4) :
    (Scalar.muli (Scalar.addi (Scalar.muli (Scalar.subi g v0) 4#32) (BitVec.ofNat 32 r)) 128#32).toNat
      = ((g.toNat - v0.toNat) * 4 + r) * 128 := by
  have e2 : (128#32 : BitVec 32).toNat = 128 := by decide
  have ew := win_toNat h h15 r hr
  rw [toNat_muli (by rw [ew, e2]; omega), ew, e2]

theorem chk130_of {g v0 : BitVec 32} (hg : g.toNat < 4096) (h0 : v0.toNat < 4096) (h15 : g.toNat < v0.toNat + 15) : k0_chk130 g v0 := by
  have key : k0_cond5 g v0 = 1#1 → v0.toNat ≤ g.toNat := (cond5_iff hg (by omega)).1
  refine ⟨fun h5 => ?_, fun h5 r a => ?_, fun h5 r a => ?_, fun h5 r a => ?_, fun h5 => ?_, fun h5 => ?_, fun h5 => ?_⟩
  · exact ⟨_, (row_toNat (key h5) h15 0 (by omega)).trans (Nat.mul_comm _ _)⟩
  · have := row_toNat (key h5) h15 r.val r.isLt
    have hr := r.isLt
    simp only [k0_off262, Scalar.indexCast]
    match a with
    | ⟨0, _⟩ =>
      show (Scalar.muli (Scalar.addi (Scalar.muli (Scalar.subi g v0) 4#32) (BitVec.ofNat 32 r.val)) 128#32).toNat + 128 ≤ 7688
      omega
    | ⟨1, _⟩ => show 0 + 128 ≤ 256; omega
  · have := row_toNat (key h5) h15 r.val r.isLt
    have hr := r.isLt
    simp only [k0_off263, Scalar.indexCast]
    match a with
    | ⟨0, _⟩ =>
      show (Scalar.muli (Scalar.addi (Scalar.muli (Scalar.subi g v0) 4#32) (BitVec.ofNat 32 r.val)) 128#32).toNat + 128 ≤ 7688
      omega
    | ⟨1, _⟩ => show 128 + 128 ≤ 256; omega
  · have := win_toNat (key h5) h15 r.val r.isLt
    have hr := r.isLt
    simp only [k0_off264, Scalar.indexCast]
    match a with
    | ⟨0, _⟩ =>
      show (Scalar.addi (Scalar.muli (Scalar.subi g v0) 4#32) (BitVec.ofNat 32 r.val)).toNat + 1 ≤ 60
      omega
    | ⟨1, _⟩ => show 0 + 128 ≤ 128; omega
  · exact ⟨_, (row_toNat (key h5) h15 1 (by omega)).trans (Nat.mul_comm _ _)⟩
  · exact ⟨_, (row_toNat (key h5) h15 2 (by omega)).trans (Nat.mul_comm _ _)⟩
  · exact ⟨_, (row_toNat (key h5) h15 3 (by omega)).trans (Nat.mul_comm _ _)⟩

/-- The number of blocks the host computes from the number of units: a division rounded down. -/
def nblkW (na : BitVec 32) : BitVec 32 :=
  let x := IntOp.subi (IntOp.addi na 128#32) 1#32
  Scalar.select
    (IntOp.andi (IntOp.cmpi .ne (if x = 0 then 0 else if x.msb = true then -1 else 1)
        (if (128#32 : BitVec 32) = 0 then 0 else if BitVec.msb (128#32 : BitVec 32) = true then -1 else (1 : BitVec 32)))
      (IntOp.cmpi .ne (IntOp.remsi .host x 128#32) 0#32))
    (IntOp.subi (IntOp.divsi .host x 128#32) 1#32) (IntOp.divsi .host x 128#32)

theorem nblkW_toNat {na : BitVec 32} (h1 : 1 ≤ na.toNat) (h2 : na.toNat ≤ 53248) :
    (nblkW na).toNat = (na.toNat + 127) / 128 := by
  have hx : (IntOp.subi (IntOp.addi na 128#32) 1#32).toNat = na.toNat + 127 := by
    have e1 : (1#32 : BitVec 32).toNat = 1 := by decide
    have e2 : (128#32 : BitVec 32).toNat = 128 := by decide
    simp only [IntOp.subi, IntOp.addi, BitVec.toNat_sub, BitVec.toNat_add, e1, e2]
    omega
  unfold nblkW
  generalize hX : IntOp.subi (IntOp.addi na 128#32) 1#32 = x at hx ⊢
  have hx0 : x ≠ 0 := by rintro rfl; simp at hx
  have hm : x.msb = false := by rw [BitVec.msb_eq_false_iff_two_mul_lt]; omega
  have hd : (IntOp.divsi .host x 128#32).toNat = x.toNat / 128 := by
    unfold IntOp.divsi
    rw [if_neg (IntOp.not_corner_of_pos (by decide)), BitVec.sdiv_eq, hm, show (128#32 : BitVec 32).msb = false from by decide]
    exact BitVec.toNat_udiv
  have hs : IntOp.andi (IntOp.cmpi .ne (if x = 0 then 0 else if x.msb = true then -1 else 1)
        (if (128#32 : BitVec 32) = 0 then 0 else if BitVec.msb (128#32 : BitVec 32) = true then -1 else (1 : BitVec 32)))
      (IntOp.cmpi .ne (IntOp.remsi .host x 128#32) 0#32) = 0#1 := by
    rw [if_neg hx0, hm, if_neg (by decide : ¬ (128#32 : BitVec 32) = 0), show BitVec.msb (128#32 : BitVec 32) = false from by decide]
    generalize IntOp.cmpi .ne (IntOp.remsi .host x 128#32) 0#32 = c
    revert c
    decide
  simp only [hs]
  show (Scalar.select 0#1 _ (IntOp.divsi .host x 128#32)).toNat = _
  rw [show Scalar.select 0#1 (IntOp.subi (IntOp.divsi .host x 128#32) 1#32) (IntOp.divsi .host x 128#32) = IntOp.divsi .host x 128#32 from rfl, hd, hx]

end Cert.KernelIdeal.Units

end
-- ==== Proof.Host.lean ====
/-
  What the host operations before the call leave in the buffers the call reads: the arguments as
  they were, and the table of counts.
-/
module

public import proofs.«01_k».proof.Proof.Launch
public import proofs.«01_k».proof.Proof.Nums
public import Idealize.ShloMosaic.Lib.StableHlo.ReadAt
public import Idealize.ShloMosaic.Lib.ValueIdxCore

@[expose] public section

set_option maxRecDepth 8192

noncomputable section

namespace Cert.KernelIdeal.Units

open Idealize.ShloMosaic Idealize.ShloMosaic.TcCoe Idealize.SL.Sem Cert.KernelIdeal.Gen Cert.Words
open Idealize.ShloMosaic.Pipeline (RDat Cfg Window)

variable {F : FTy → Type} [FloatOps F]
variable (m : (ℓ : Loc nD τ sig) → Buf (Elt F) ℓ) (c : Dev nD)

theorem Vm_arg0 : Vm m c main_arg0 = m ((c.tc : Thread nD τ).loc main_arg0) := by
  unfold Vm
  after_reads_simp
theorem Vm_arg1 : Vm m c main_arg1 = m ((c.tc : Thread nD τ).loc main_arg1) := by
  unfold Vm
  after_reads_simp
theorem Vm_arg2 : Vm m c main_arg2 = m ((c.tc : Thread nD τ).loc main_arg2) := by
  unfold Vm
  after_reads_simp
theorem Vm_arg3 : Vm m c main_arg3 = m ((c.tc : Thread nD τ).loc main_arg3) := by
  unfold Vm
  after_reads_simp
theorem Vm_arg4 : Vm m c main_arg4 = m ((c.tc : Thread nD τ).loc main_arg4) := by
  unfold Vm
  after_reads_simp
theorem Vm_arg5 : Vm m c main_arg5 = m ((c.tc : Thread nD τ).loc main_arg5) := by
  unfold Vm
  after_reads_simp
theorem Vm_arg6 : Vm m c main_arg6 = m ((c.tc : Thread nD τ).loc main_arg6) := by
  unfold Vm
  after_reads_simp
theorem Vm_arg7 : Vm m c main_arg7 = m ((c.tc : Thread nD τ).loc main_arg7) := by
  unfold Vm
  after_reads_simp

/-- The one index of a scalar. -/
abbrev z0 : S_.Idx := Idealize.ShloMosaic.ix0

theorem Vm_v25 : Vm m c main_v25 z0 = Scalar.addi (nblkW (m ((c.tc : Thread nD τ).loc main_arg5) z0)) 15#32 := by
  unfold Vm
  after_reads_at
  rfl
theorem Vm_v24_0 : Vm m c main_v24 (ValueIdx.ix1 (0 : Fin 3)) = nblkW (m ((c.tc : Thread nD τ).loc main_arg5) z0) := by
  unfold Vm
  after_reads_at
  refine (congrFun (StableHlo.unary_result ..) _).trans ?_
  after_reads_at
  rfl
theorem Vm_v24_1 : Vm m c main_v24 (ValueIdx.ix1 (1 : Fin 3)) = m ((c.tc : Thread nD τ).loc main_arg4) z0 := by
  unfold Vm
  after_reads_at
  refine (congrFun (StableHlo.unary_result ..) _).trans ?_
  after_reads_at
theorem Vm_v24_2 : Vm m c main_v24 (ValueIdx.ix1 (2 : Fin 3)) = m ((c.tc : Thread nD τ).loc main_arg5) z0 := by
  unfold Vm
  after_reads_at
  refine (congrFun (StableHlo.unary_result ..) _).trans ?_
  after_reads_at

end Cert.KernelIdeal.Units

end
-- ==== Proof.Tables.lean ====
/-
  The tables of the call under the precondition: the grid and every window's block are in range, and
  the words the body reads pass its checks.
-/
module

public import proofs.«01_k».proof.Proof.Host

@[expose] public section

set_option maxRecDepth 8192

noncomputable section

namespace Cert.KernelIdeal.Units

open Idealize.ShloMosaic Idealize.ShloMosaic.TcCoe Idealize.SL.Sem Cert.KernelIdeal.Gen Cert.Words
open Idealize.ShloMosaic.Pipeline (RDat Cfg Window)

variable {F : FTy → Type} [FloatOps F]

theorem ct0_eq (CT : Vec F S3 .i32) : ct0 CT = CT (ValueIdx.ix1 (0 : Fin 3)) :=
  congrArg CT (funext fun a => match a with | ⟨0, _⟩ => rfl)
theorem ct1_eq (CT : Vec F S3 .i32) : ct1 CT = CT (ValueIdx.ix1 (1 : Fin 3)) :=
  congrArg CT (funext fun a => match a with | ⟨0, _⟩ => rfl)
theorem ct2_eq (CT : Vec F S3 .i32) : ct2 CT = CT (ValueIdx.ix1 (2 : Fin 3)) :=
  congrArg CT (funext fun a => match a with | ⟨0, _⟩ => rfl)

/-- The tables hold the block count, the grid's bound and the unit counts of `nn` and `na`. -/
structure Tab (pf : pre0.Contents (Elt F)) (nn na : BitVec 32) : Prop where
  bound : (pf 0 : Vec F S_ .i32) z0 = Scalar.addi (nblkW na) 15#32
  nblk : (pf 1 : Vec F S3 .i32) (ValueIdx.ix1 (0 : Fin 3)) = nblkW na
  norm : (pf 1 : Vec F S3 .i32) (ValueIdx.ix1 (1 : Fin 3)) = nn
  all : (pf 1 : Vec F S3 .i32) (ValueIdx.ix1 (2 : Fin 3)) = na

variable {pf : pre0.Contents (Elt F)} {nn na : BitVec 32} {D : Nat → BitVec 32}

theorem nblk_bounds (h : InB nn na D) : 1 ≤ (nblkW na).toNat ∧ (nblkW na).toNat ≤ 416 := by
  have := nblkW_toNat h.one_le h.le_cap
  have := h.one_le
  have := h.le_cap
  omega

theorem dynb_eq (T : Tab pf nn na) (h : InB nn na D) : dynb0 pf 0 = (nblkW na).toNat + 15 := by
  have e : dynb0 pf 0 = (Scalar.addi (nblkW na) 15#32).toNat := congrArg BitVec.toNat ((congrArg (pf 0) (funext fun a => a.elim0)).trans T.bound)
  have hb := nblk_bounds h
  have e15 : (15#32 : BitVec 32).toNat = 15 := by decide
  rw [e, toNat_addi (by omega), e15]

theorem bound_at (T : Tab pf nn na) (h : InB nn na D) : (grid0.at (dynb0 pf)).bound 0 = (nblkW na).toNat + 15 :=
  (Pipeline.Grid.boundAt_of_dyn_true (G := grid0) (b := dynb0 pf) (a := 0) rfl).trans (dynb_eq T h)

theorem N_at (T : Tab pf nn na) (h : InB nn na D) : (grid0.at (dynb0 pf)).N = (nblkW na).toNat + 15 := by
  have e : (grid0.at (dynb0 pf)).N = (grid0.at (dynb0 pf)).bound 0 * 1 := by
    show (List.ofFn (grid0.at (dynb0 pf)).bound).prod = _
    rfl
  rw [e, bound_at T h, Nat.mul_one]

theorem pf_at (T : Tab pf nn na) : pf.at 1 (Rect.unit (s := S3) ![0] S1.size inb_S3_S1_0) numel1_S1 = nblkW na :=
  (ct0_eq (pf 1)).trans T.nblk

theorem coord_lt (T : Tab pf nn na) (h : InB nn na D) (i : (grid0.at (dynb0 pf)).Coords) : (i 0).val < (nblkW na).toNat + 15 :=
  lt_of_lt_of_eq (i 0).isLt (bound_at T h)

theorem word_of_small {n : Nat} (h : n < 2 ^ 32) : (BitVec.ofNat 32 n).toNat = n := by
  rw [BitVec.toNat_ofNat]; exact Nat.mod_eq_of_lt h

theorem tr0_eq (T : Tab pf nn na) (h : InB nn na D) (i : (grid0.at (dynb0 pf)).Coords) :
    cc0_transform_0 inb_S3_S1_0 numel1_S1 pf (dynb0 pf) i 0 = min (i 0).val ((nblkW na).toNat - 1) := by
  have hb := nblk_bounds h
  have hi := coord_lt T h i
  have e1 := toNat_sub_one (x := nblkW na) hb.1
  have e2 := word_of_small (n := (i 0).val) (by omega)
  show (Scalar.minsi (BitVec.ofNat 32 (i 0).val) (Scalar.subi (pf.at 1 (Rect.unit (s := S3) ![0] S1.size inb_S3_S1_0) numel1_S1) 1#32)).toNat = _
  rw [pf_at T, toNat_minsi (by omega) (by omega), e1, e2]

theorem tr1_eq (K : Fin 3) (T : Tab pf nn na) (h : InB nn na D) (i : (grid0.at (dynb0 pf)).Coords) :
    tr1K K inb_S3_S1_0 numel1_S1 pf (dynb0 pf) i 0 = 416 * K.val + min (i 0).val ((nblkW na).toNat - 1) := by
  have hb := nblk_bounds h
  have hi := coord_lt T h i
  have e1 := toNat_sub_one (x := nblkW na) hb.1
  have e2 := word_of_small (n := (i 0).val) (by omega)
  have hK := K.isLt
  have e3 := word_of_small (n := 416 * K.val) (by omega)
  show (Scalar.addi (BitVec.ofNat 32 (416 * K.val)) (Scalar.minsi (BitVec.ofNat 32 (i 0).val) (Scalar.subi (pf.at 1 (Rect.unit (s := S3) ![0] S1.size inb_S3_S1_0) numel1_S1) 1#32))).toNat = _
  have e4 := toNat_minsi (x := BitVec.ofNat 32 (i 0).val) (y := Scalar.subi (nblkW na) 1#32) (by omega) (by omega)
  rw [pf_at T, toNat_addi (by omega), e4, e1, e2, e3]

theorem tr6_eq (K : Fin 3) (T : Tab pf nn na) (h : InB nn na D) (i : (grid0.at (dynb0 pf)).Coords) :
    tr6K K inb_S3_S1_0 numel1_S1 pf (dynb0 pf) i 1 = 15 * K.val + ((i 0).val - (nblkW na).toNat) := by
  have hb := nblk_bounds h
  have hi := coord_lt T h i
  have e2 := word_of_small (n := (i 0).val) (by omega)
  have hK := K.isLt
  have e3 := word_of_small (n := 15 * K.val) (by omega)
  show (Scalar.addi (BitVec.ofNat 32 (15 * K.val)) (Scalar.maxsi (Scalar.subi (BitVec.ofNat 32 (i 0).val) (pf.at 1 (Rect.unit (s := S3) ![0] S1.size inb_S3_S1_0) numel1_S1)) 0#32)).toNat = _
  have e4 := toNat_maxsi_sub (x := BitVec.ofNat 32 (i 0).val) (y := nblkW na) (by omega) (by omega)
  rw [pf_at T, toNat_addi (by omega), e4, e2, e3]

theorem tr7_eq (K : Fin 3) (T : Tab pf nn na) (h : InB nn na D) (i : (grid0.at (dynb0 pf)).Coords) :
    tr7K K inb_S3_S1_0 numel1_S1 pf (dynb0 pf) i 1 = 15 * K.val + ((i 0).val - (nblkW na).toNat) := tr6_eq K T h i

theorem okK_of (K : Fin 3) (T : Tab pf nn na) (h : InB nn na D) : okK K pf := by
  have hb := nblk_bounds h
  have hK := K.isLt
  refine ⟨?_, fun i => ⟨fun a => ?_, .inl rfl⟩, fun i => ⟨fun a => ?_, .inl rfl⟩, fun i => ⟨fun a => ?_, .inr ?_⟩, fun i => ⟨fun a => ?_, .inl rfl⟩,
    fun i => ⟨fun a => ?_, .inl rfl⟩, fun i => ⟨fun a => ?_, .inl rfl⟩⟩
  · show (grid0.at (dynb0 pf)).N + 2 < 2 ^ 31
    rw [N_at T h]; omega
  · match a with
    | ⟨0, _⟩ =>
      show (cc0_transform_0 inb_S3_S1_0 numel1_S1 pf (dynb0 pf) i 0 + 1) * 1024 ≤ 425984
      rw [tr0_eq T h]; omega
    | ⟨1, _⟩ => show (0 + 1) * 128 ≤ 128; omega
  · match a with
    | ⟨0, _⟩ =>
      show (tr1K K inb_S3_S1_0 numel1_S1 pf (dynb0 pf) i 0 + 1) * 128 ≤ 212992
      rw [tr1_eq K T h]; omega
  · match a with
    | ⟨0, _⟩ => show (0 + 1) * 256 ≤ 256; omega
    | ⟨1, _⟩ => show (0 + 1) * 768 ≤ 768; omega
  · exact Or.inr ⟨by decide, rfl, rfl, rfl⟩
  · match a with
    | ⟨0, _⟩ => show (0 + 1) * 60 ≤ 60; omega
    | ⟨1, _⟩ => show (0 + 1) * 128 ≤ 128; omega
  · have hi := coord_lt T h i
    match a with
    | ⟨0, _⟩ => show (0 + 1) * 192 ≤ 192; omega
    | ⟨1, _⟩ =>
      show (tr6K K inb_S3_S1_0 numel1_S1 pf (dynb0 pf) i 1 + 1) * 512 ≤ 30208
      rw [tr6_eq K T h]; omega
  · have hi := coord_lt T h i
    match a with
    | ⟨0, _⟩ => show (0 + 1) * 6 ≤ 6; omega
    | ⟨1, _⟩ =>
      show (tr7K K inb_S3_S1_0 numel1_S1 pf (dynb0 pf) i 1 + 1) * 512 ≤ 30208
      rw [tr7_eq K T h]; omega

variable (m : (ℓ : Loc nD τ sig) → Buf (Elt F) ℓ)

/-- The tables the host operations leave. -/
def pfOf : pre0.Contents (Elt F) := fun k => Vm m (0 : Dev nD) (pre0.ref k)

/-- The first count, of the memory. -/
abbrev nnOf : BitVec 32 := (m ((0 : Dev nD).tc.loc main_arg4) : Vec F S_ .i32) z0
/-- The second count, of the memory. -/
abbrev naOf : BitVec 32 := (m ((0 : Dev nD).tc.loc main_arg5) : Vec F S_ .i32) z0
/-- The destination words, of the memory. -/
abbrev wdOf (K : Fin 3) (m : (ℓ : Loc nD τ sig) → Buf (Elt F) ℓ) : Nat → BitVec 32 := wordOf K (m ((0 : Dev nD).tc.loc main_arg1) : Vec F S212992 .i32)

theorem tab_of : Tab (pfOf m) (nnOf m) (naOf m) :=
  ⟨Vm_v25 m 0, Vm_v24_0 m 0, Vm_v24_1 m 0, Vm_v24_2 m 0⟩

variable {K : Fin 3}

/-- The tables, admissible. -/
def admOf (h : InB (nnOf m) (naOf m) (wdOf K m)) : (p : Fin 1) → (pcfgsK (F := F) K p).Adm :=
  fun | 0 => ⟨pfOf m, okK_of K (tab_of m) h⟩

variable (hI : InB (nnOf m) (naOf m) (wdOf K m))

theorem hpf_of (c : Dev nD) (k : Fin 2) : Vm m c (pre0.ref k) = (admOf m hI 0).1 k := by
  obtain rfl : c = 0 := Subsingleton.elim _ _
  rfl

theorem gi_lt (t : Fin (CF (admOf m hI)).N) : (((CF (admOf m hI)).grid.coords t) 0).val < (nblkW (naOf m)).toNat + 15 :=
  coord_lt (tab_of m) hI ((CF (admOf m hI)).grid.coords t)

theorem gi_toNat (t : Fin (CF (admOf m hI)).N) : (gi (admOf m hI) t).toNat = (((CF (admOf m hI)).grid.coords t) 0).val := by
  have := gi_lt m hI t
  have hb := nblk_bounds hI
  exact word_of_small (by omega)

theorem ct0_of : ct0 (F := F) (CTa (admOf m hI)) = nblkW (naOf m) := (ct0_eq _).trans (tab_of m).nblk
theorem ct1_of : ct1 (F := F) (CTa (admOf m hI)) = nnOf m := (ct1_eq _).trans (tab_of m).norm
theorem ct2_of : ct2 (F := F) (CTa (admOf m hI)) = naOf m := (ct2_eq _).trans (tab_of m).all

/-- The destination words' block at a point of the units' part of the grid. -/
theorem dB_at (c : Dev nD) (t : Fin (CF (admOf m hI)).N) (hlt : (((CF (admOf m hI)).grid.coords t) 0).val < (nblkW (naOf m)).toNat) (u : Fin 128) :
    dB (admOf m hI) (Vm m) c t (ValueIdx.ix1 u) = wdOf K m ((((CF (admOf m hI)).grid.coords t) 0).val * 128 + u.val) := by
  obtain rfl : c = 0 := Subsingleton.elim _ _
  have hb := nblk_bounds hI
  have hu := u.isLt
  have e1 := tr1_eq K (tab_of m) hI ((CF (admOf m hI)).grid.coords t)
  have e := wordOf_lt K (m ((0 : Dev nD).tc.loc main_arg1) : Vec F S212992 .i32)
    (u := (((CF (admOf m hI)).grid.coords t) 0).val * 128 + u.val) (by omega)
  unfold wdOf
  rw [e]
  have e0 : dB (admOf m hI) (Vm m) 0 t (ValueIdx.ix1 u) = (Vm m 0 main_arg1 : Vec F S212992 .i32)
      ((((CF (admOf m hI)).win (1 : Fin 6)).blk t).view.emb (ValueIdx.ix1 u)) := rfl
  rw [e0, Vm_arg1]
  refine congrArg (m ((0 : Dev nD).tc.loc main_arg1) : Vec F S212992 .i32) (funext fun a => Fin.ext ?_)
  match a with
  | ⟨0, _⟩ =>
    show tr1K K inb_S3_S1_0 numel1_S1 (pfOf m) (dynb0 (pfOf m)) ((CF (admOf m hI)).grid.coords t) 0 * 128 + 1 * u.val = 53248 * K.val + _
    rw [e1]
    omega

theorem dAt_of (c : Dev nD) (t : Fin (CF (admOf m hI)).N) (hlt : (((CF (admOf m hI)).grid.coords t) 0).val < (nblkW (naOf m)).toNat)
    (u : Nat) (hu : u < 128) :
    dAt (F := F) (dB (admOf m hI) (Vm m) c t) u hu = wdOf K m ((((CF (admOf m hI)).grid.coords t) 0).val * 128 + u) := by
  refine Eq.trans ?_ (dB_at m hI c t hlt ⟨u, hu⟩)
  exact congrArg (dB (admOf m hI) (Vm m) c t) (funext fun a => Fin.ext (match a with | ⟨0, _⟩ => by show u + 1 * 0 = u; omega))

theorem trips_lt (k : Fin k0_t1_loop.trips) : k.val < 128 := lt_of_lt_of_eq k.isLt (by decide)

theorem dTrip_of (c : Dev nD) (t : Fin (CF (admOf m hI)).N) (hlt : (((CF (admOf m hI)).grid.coords t) 0).val < (nblkW (naOf m)).toNat)
    (k : Fin k0_t1_loop.trips) :
    dTrip (F := F) (dB (admOf m hI) (Vm m) c t) k = wdOf K m ((((CF (admOf m hI)).grid.coords t) 0).val * 128 + k.val) := by
  have hk := trips_lt k
  refine Eq.trans ?_ (dB_at m hI c t hlt ⟨k.val, hk⟩)
  exact congrArg (dB (admOf m hI) (Vm m) c t) (funext fun a => Fin.ext (match a with
    | ⟨0, _⟩ => by
      show (Scf.iv 0#32 1#32 k).toNat + 1 * 0 = k.val
      simp only [Scf.iv, BitVec.toNat_add, BitVec.toNat_mul, BitVec.toNat_ofNat]
      omega))

/-- Under the precondition the body's checks pass. -/
theorem checks_of : Checks (admOf m hI) (Vm m) := by
  have hb := nblk_bounds hI
  have hn := nblkW_toNat hI.one_le hI.le_cap
  have hle := hI.nn_le
  have hcap := hI.le_cap
  refine ⟨fun t => ?_, fun c t h1 u hu => ?_, fun c t h2 k => ?_⟩
  · have hg := gi_lt m hI t
    have eg := gi_toNat m hI t
    rw [ct0_of]
    exact chk130_of (by omega) (by omega) (by omega)
  · have hg := gi_lt m hI t
    have eg := gi_toNat m hI t
    rw [ct1_of, cond1_iff (by omega) (by omega)] at h1
    rw [dAt_of m hI c t (by omega)]
    exact chk1_of (hI.norm _ (by omega))
  · have hg := gi_lt m hI t
    have eg := gi_toNat m hI t
    have hk := trips_lt k
    rw [ct0_of, ct1_of, cond2_iff (by omega) (by omega) (by omega)] at h2
    rw [dTrip_of m hI c t (by omega), ct0_of, ct1_of, ct2_of]
    refine chk129_of (fun h3 => ?_) (fun h4 => ?_)
    · rw [cond3_iff (by omega) (by omega) k hk] at h3
      exact hI.norm _ (by omega)
    · rw [cond4_iff (by omega) (by omega) (by omega) k hk] at h4
      exact hI.extra _ (by omega) (by omega)

end Cert.KernelIdeal.Units

end
-- ==== Proof.Inv.lean ====
/-
  What the accumulator holds while the units of a list are taken one after another.
-/
module

public import Idealize.ShloMosaic.Lib.Pointwise

@[expose] public section

namespace Cert.Inv

/-- A list of units: `nn` normal ones, then the extra ones up to `na`; the row each names, whether it is the first of its group,
    and the maxima of its eight product rows, lane by lane. -/
structure Lst where
  nn : ℕ
  na : ℕ
  r : ℕ → ℕ
  fst : ℕ → Prop
  mv : ℕ → ℕ → ℕ → EReal
  le : nn ≤ na
  r8 : ∀ u < nn, r u % 8 = 0
  rle : ∀ u < nn, r u ≤ 7680
  follows : ∀ u < nn, fst u ∨ (1 ≤ u ∧ r (u - 1) = r u)
  once : ∀ u < nn, ∀ v < nn, fst u → fst v → r u = r v → r u < 7680 → u = v
  filled : ∀ g < 960, ∃ u < nn, r u = 8 * g

variable (L : Lst)

/-- Row `s` of unit `u` counts for slot `row`. -/
def Lst.Hit (u s row : ℕ) : Prop := (u < L.nn ∧ L.r u + s = row) ∨ (L.nn ≤ u ∧ u < L.na ∧ L.r u = row)

/-- The accumulator `acc` and the running maximum `car` after the first `G` units. -/
structure Lst.Inv (G : ℕ) (acc car : ℕ → ℕ → EReal) : Prop where
  acc : ∀ row < 7680, ∀ l < 256, (∃ u < G, u < L.nn ∧ L.r u = 8 * (row / 8)) → ∀ b,
    (acc row l ≤ b ↔ ∀ u < G, ∀ s < 8, L.Hit u s row → L.mv u s l ≤ b)
  car : 1 ≤ G → G ≤ L.nn → L.r (G - 1) < 7680 → ∀ s < 8, ∀ l < 256, ∀ b,
    (car s l ≤ b ↔ ∀ u < G, L.r u = L.r (G - 1) → L.mv u s l ≤ b)

variable {L}

theorem inv_zero (acc car : ℕ → ℕ → EReal) : L.Inv 0 acc car :=
  ⟨fun _ _ _ _ ⟨_, h, _⟩ => absurd h (Nat.not_lt_zero _), fun h => absurd h (by omega)⟩

/-- Some unit at or before `u` starts the group of `u`. -/
theorem exists_first (u : ℕ) (hu : u < L.nn) : ∃ v ≤ u, L.fst v ∧ L.r v = L.r u := by
  induction u with
  | zero => rcases L.follows 0 hu with h | ⟨h, _⟩
            · exact ⟨0, le_rfl, h, rfl⟩
            · omega
  | succ u ih =>
    rcases L.follows (u + 1) hu with h | ⟨_, h⟩
    · exact ⟨u + 1, le_rfl, h, rfl⟩
    · obtain ⟨v, hv, hf, hr⟩ := ih (by omega)
      exact ⟨v, by omega, hf, hr.trans h⟩

theorem inv_normal {G : ℕ} {acc car acc' car' : ℕ → ℕ → EReal} (hG : G < L.nn) (H : L.Inv G acc car)
    (h0 : L.fst G → ∀ s < 8, ∀ l < 256, ∀ b, car' s l ≤ b ↔ L.mv G s l ≤ b)
    (h1 : ¬ L.fst G → ∀ s < 8, ∀ l < 256, ∀ b, car' s l ≤ b ↔ L.mv G s l ≤ b ∧ car s l ≤ b)
    (h2 : ∀ row < 7680, ∀ l < 256, L.r G ≤ row → row < L.r G + 8 → acc' row l = car' (row - L.r G) l)
    (h3 : ∀ row < 7680, ∀ l < 256, ¬ (L.r G ≤ row ∧ row < L.r G + 8) → acc' row l = acc row l) :
    L.Inv (G + 1) acc' car' := by
  have hc : L.r G < 7680 → ∀ s < 8, ∀ l < 256, ∀ b, (car' s l ≤ b ↔ ∀ u < G + 1, L.r u = L.r G → L.mv u s l ≤ b) := by
    intro hr s hs l hl b
    by_cases hf : L.fst G
    · rw [h0 hf s hs l hl b]
      refine ⟨fun h u hu hru => ?_, fun h => h G (by omega) rfl⟩
      rcases Nat.lt_succ_iff_lt_or_eq.1 hu with hu | rfl
      · obtain ⟨v, hv, hvf, hvr⟩ := exists_first (L := L) u (by omega)
        have := L.once v (by omega) G hG hvf hf (hvr.trans hru) (by omega)
        omega
      · exact h
    · rcases L.follows G hG with h | ⟨h, hp⟩
      · exact absurd h hf
      · rw [h1 hf s hs l hl b, H.car h (by omega) (by omega) s hs l hl b]
        refine ⟨fun ⟨ha, hb⟩ u hu hru => ?_, fun h => ⟨h G (by omega) rfl, fun u hu hru => h u (by omega) (hru.trans hp)⟩⟩
        rcases Nat.lt_succ_iff_lt_or_eq.1 hu with hu | rfl
        · exact hb u hu (hru.trans hp.symm)
        · exact ha
  have h8 := L.r8 G hG
  refine ⟨fun row hrow l hl hex b => ?_, fun _ _ h => hc h⟩
  by_cases hin : L.r G ≤ row ∧ row < L.r G + 8
  · rw [h2 row hrow l hl hin.1 hin.2, hc (by omega) _ (by omega) l hl b]
    constructor
    · intro h u hu s hs hit
      rcases hit with ⟨hn, e⟩ | ⟨hn, _⟩
      · have h8u := L.r8 u hn
        have e1 : L.r u = L.r G := by omega
        have e2 : s = row - L.r G := by omega
        subst e2; exact h u hu e1
      · omega
    · intro h u hu hru
      exact h u hu _ (by omega) (.inl ⟨by omega, by omega⟩)
  · have hex' : ∃ u < G, u < L.nn ∧ L.r u = 8 * (row / 8) := by
      obtain ⟨u, hu, hn, e⟩ := hex
      rcases Nat.lt_succ_iff_lt_or_eq.1 hu with hu | rfl
      · exact ⟨u, hu, hn, e⟩
      · omega
    rw [h3 row hrow l hl hin, H.acc row hrow l hl hex' b]
    refine ⟨fun h u hu s hs hit => ?_, fun h u hu s hs hit => h u (by omega) s hs hit⟩
    rcases Nat.lt_succ_iff_lt_or_eq.1 hu with hu | rfl
    · exact h u hu s hs hit
    · rcases hit with ⟨_, e⟩ | ⟨hn, _⟩ <;> omega

theorem filled_by {G : ℕ} (hG : L.nn ≤ G) {row : ℕ} (hrow : row < 7680) : ∃ u < G, u < L.nn ∧ L.r u = 8 * (row / 8) := by
  obtain ⟨u, hu, e⟩ := L.filled (row / 8) (by omega)
  exact ⟨u, by omega, hu, e⟩

theorem inv_extra {G : ℕ} {acc car acc' car' : ℕ → ℕ → EReal} (hG : L.nn ≤ G) (hG' : G < L.na) (H : L.Inv G acc car)
    (h : ∀ row < 7680, ∀ l < 256, ∀ b, acc' row l ≤ b ↔ acc row l ≤ b ∧ (row = L.r G → ∀ s < 8, L.mv G s l ≤ b)) :
    L.Inv (G + 1) acc' car' := by
  refine ⟨fun row hrow l hl _ b => ?_, fun _ h => absurd h (by omega)⟩
  rw [h row hrow l hl b, H.acc row hrow l hl (filled_by hG hrow) b]
  constructor
  · rintro ⟨ha, hb⟩ u hu s hs hit
    rcases Nat.lt_succ_iff_lt_or_eq.1 hu with hu | rfl
    · exact ha u hu s hs hit
    · rcases hit with ⟨hn, _⟩ | ⟨_, _, e⟩
      · omega
      · exact hb e.symm s hs
  · intro h
    exact ⟨fun u hu s hs hit => h u (by omega) s hs hit, fun e s hs => h G (by omega) s hs (.inr ⟨hG, hG', e.symm⟩)⟩

theorem inv_skip {G : ℕ} {acc car car' : ℕ → ℕ → EReal} (hn : L.nn ≤ G) (hG : L.na ≤ G) (H : L.Inv G acc car) : L.Inv (G + 1) acc car' := by
  refine ⟨fun row hrow l hl _ b => ?_, fun _ h => absurd h (by omega)⟩
  rw [H.acc row hrow l hl (filled_by hn hrow) b]
  refine ⟨fun h u hu s hs hit => ?_, fun h u hu s hs hit => h u (by omega) s hs hit⟩
  rcases Nat.lt_succ_iff_lt_or_eq.1 hu with hu | rfl
  · exact h u hu s hs hit
  · rcases hit with ⟨hn', _⟩ | ⟨_, h', _⟩ <;> omega

/-- Once all units are taken, every slot is the least upper bound of the rows that count for it. -/
theorem inv_end {G : ℕ} {acc car : ℕ → ℕ → EReal} (hG : L.na ≤ G) (H : L.Inv G acc car) {row : ℕ} (hrow : row < 7680) {l : ℕ} (hl : l < 256)
    (b : EReal) : acc row l ≤ b ↔ ∀ u s, s < 8 → L.Hit u s row → L.mv u s l ≤ b := by
  rw [H.acc row hrow l hl (filled_by (L.le.trans hG) hrow) b]
  refine ⟨fun h u s hs hit => h u ?_ s hs hit, fun h u _ s hs hit => h u s hs hit⟩
  rcases hit with ⟨h, _⟩ | ⟨_, h, _⟩
  · exact lt_of_lt_of_le h (L.le.trans hG)
  · omega

end Cert.Inv
-- ==== Proof.Score.lean ====
/-
  The numbers both programs compare: a dot product of one row of packed halves with one query.
-/
module

public import proofs.«01_k».proof.Proof.Words
public import Idealize.ShloMosaic.Lib.Pointwise

@[expose] public section

noncomputable section

namespace Cert.Score

open Idealize.ShloMosaic Cert.Words

/-- The low half of a word, as the bf16 number it packs. -/
def lo (w : BitVec 32) : EReal := Ideal.ofBits .f32 (IntOp.shli .vector w 16#32)
/-- The high half. -/
def hi (w : BitVec 32) : EReal := Ideal.ofBits .f32 (IntOp.andi w 4294901760#32)

theorem shli_host (w : BitVec 32) : IntOp.shli .host w 16#32 = IntOp.shli .vector w 16#32 := by
  unfold IntOp.shli; simp

/-- The dot product of token `t` of row `r` with query `n`. -/
def score (X : (⟨2, ![425984, 128]⟩ : Shape).Idx → BitVec 32) (Q : (⟨3, ![6, 32, 64]⟩ : Shape).Idx → EReal)
    (r : Fin 425984) (t : Fin 4) (n : Fin 192) : EReal :=
  (∑ x : Fin 32, lo (X (ix2 r ⟨t.val * 32 + x.val, by omega⟩)) * Q (ix3 ⟨n.val / 32, by omega⟩ ⟨n.val % 32, by omega⟩ ⟨x.val, by omega⟩))
    + ∑ x : Fin 32, hi (X (ix2 r ⟨t.val * 32 + x.val, by omega⟩)) * Q (ix3 ⟨n.val / 32, by omega⟩ ⟨n.val % 32, by omega⟩ ⟨32 + x.val, by omega⟩)

/-- The threshold subtracted from a score. -/
def cut : EReal := Ideal.ofBits .f32 1055286886#32
/-- The least value a maximum starts from. -/
def bot : EReal := Ideal.ofBits .f32 4286578688#32

/-- The slot a row counts for. -/
def slotOf (K : Fin 3) (D : (⟨1, ![212992]⟩ : Shape).Idx → BitVec 32) (nn na : ℕ) (r : ℕ) : BitVec 32 :=
  if r / 8 < nn then rowW (wordOf K D (r / 8)) + BitVec.ofNat 32 (r % 8)
  else if r / 8 < na then rowW (wordOf K D (r / 8)) else 4294967295#32

theorem slt_nat (a : ℕ) (ha : a < 425984) (b : BitVec 32) (hb : b.toNat ≤ 53248) :
    IntOp.cmpi .slt (BitVec.ofNat 32 a) b = if a < b.toNat then 1#1 else 0#1 := by
  have h : (BitVec.ofNat 32 a).slt b = decide (a < b.toNat) := by
    rw [BitVec.slt_eq_decide, BitVec.toInt_eq_toNat_of_lt (by simp; omega), BitVec.toInt_eq_toNat_of_lt (by omega)]
    simp only [BitVec.toNat_ofNat, decide_eq_decide]
    omega
  simp only [IntOp.cmpi, h]
  by_cases hh : a < b.toNat <;> simp [hh]

theorem shr3 (a : ℕ) (ha : a < 425984) : IntOp.shrsi .host (BitVec.ofNat 32 a) 3#32 = BitVec.ofNat 32 (a / 8) := by
  unfold IntOp.shrsi
  rw [if_pos (by decide)]
  apply BitVec.eq_of_toNat_eq
  have hm : (BitVec.ofNat 32 a).msb = false := by
    rw [BitVec.msb_eq_false_iff_two_mul_lt]; simp; omega
  rw [BitVec.sshiftRight_eq', BitVec.sshiftRight_eq_of_msb_false hm]
  simp [Nat.shiftRight_eq_div_pow]
  omega

theorem and7 (a : ℕ) (ha : a < 425984) : IntOp.andi (BitVec.ofNat 32 a) 7#32 = BitVec.ofNat 32 (a % 8) := by
  unfold IntOp.andi
  apply BitVec.eq_of_toNat_eq
  have h := Nat.and_two_pow_sub_one_eq_mod a 3
  norm_num at h
  simp only [BitVec.toNat_and, BitVec.toNat_ofNat]
  rw [Nat.mod_eq_of_lt (by omega : a < 2 ^ 32), Nat.mod_eq_of_lt (by omega : 7 < 2 ^ 32), h]
  omega

theorem bot_eq : bot = ⊥ := by
  simp [bot, Ideal.ofBits, Ideal.ieee]

theorem cut_fin : ∃ x : ℝ, cut = (x : EReal) := by
  unfold cut Ideal.ofBits Ideal.ieee
  dsimp only
  rw [if_neg (by decide), if_neg (by decide)]
  exact ⟨_, rfl⟩

end Cert.Score

end
-- ==== Proof.Acc.lean ====
/-
  One unit's effect on the accumulator and the running maximum, lane by lane.
-/
module

public import proofs.«01_k».proof.Proof.State
public import proofs.«01_k».proof.Proof.Nums
public import proofs.«01_k».proof.Proof.Inv
public import proofs.«01_k».proof.Proof.Score
public import Idealize.ShloMosaic.Lib.Pointwise

@[expose] public section

set_option maxRecDepth 16384

noncomputable section

namespace Cert.KernelIdeal.Units

open Idealize.ShloMosaic Idealize.SL.Sem
open Cert.KernelIdeal Cert.KernelIdeal.Gen Cert.Own Cert.Words Cert.Score

/-- A rectangle of a matrix, read. -/
theorem get2 {A B p q : ℕ} {α : Type} (X : (⟨2, ![A, B]⟩ : Shape).Idx → α) {off : Fin 2 → ℕ} (h : ∀ a, off a + (![p, q] : Fin 2 → ℕ) a ≤ (⟨2, ![A, B]⟩ : Shape).size a)
    {o0 o1 : ℕ} (h0 : off 0 = o0) (h1 : off 1 = o1) (b0 : o0 + p ≤ A) (b1 : o1 + q ≤ B) (i : Fin p) (j : Fin q) :
    X ((Rect.unit (s := ⟨2, ![A, B]⟩) off ![p, q] h).emb (ix2 i j)) = X (ix2 ⟨o0 + i.val, by omega⟩ ⟨o1 + j.val, by omega⟩) := by
  refine congrArg X (funext fun a => Fin.ext ?_)
  rw [Rect.emb_apply]
  match a with
  | ⟨0, _⟩ => show off 0 + 1 * i.val = o0 + i.val; omega
  | ⟨1, _⟩ => show off 1 + 1 * j.val = o1 + j.val; omega

/-- A rectangle of a matrix overwritten. -/
theorem put2 {A B p q : ℕ} {Val : EltTy → Type} {e : EltTy} (X : (⟨2, ![A, B]⟩ : Shape).Idx → Val e) {off : Fin 2 → ℕ} (h : ∀ a, off a + (![p, q] : Fin 2 → ℕ) a ≤ (⟨2, ![A, B]⟩ : Shape).size a)
    (w : (⟨2, ![p, q]⟩ : Shape).Idx → Val e) {o0 o1 : ℕ} (h0 : off 0 = o0) (h1 : off 1 = o1) (i : Fin A) (j : Fin B) :
    put (Val := Val) (e := e) X (Rect.unit (s := ⟨2, ![A, B]⟩) off ![p, q] h) w (ix2 i j)
      = if hh : (o0 ≤ i.val ∧ i.val < o0 + p) ∧ o1 ≤ j.val ∧ j.val < o1 + q then w (ix2 ⟨i.val - o0, by omega⟩ ⟨j.val - o1, by omega⟩) else X (ix2 i j) := by
  by_cases hh : (o0 ≤ i.val ∧ i.val < o0 + p) ∧ o1 ≤ j.val ∧ j.val < o1 + q
  · rw [dif_pos hh]
    have e1 : ix2 i j = (Rect.unit (s := ⟨2, ![A, B]⟩) off ![p, q] h).emb (ix2 ⟨i.val - o0, by omega⟩ ⟨j.val - o1, by omega⟩) := by
      refine funext fun a => Fin.ext ?_
      rw [Rect.emb_apply]
      match a with
      | ⟨0, _⟩ => show i.val = off 0 + 1 * (i.val - o0); omega
      | ⟨1, _⟩ => show j.val = off 1 + 1 * (j.val - o1); omega
    rw [e1, put_emb]
  · rw [dif_neg hh, put_of_not]
    rintro ⟨x, hx⟩
    apply hh
    have c0 := congrArg (fun z => (z 0).val) hx
    have c1 := congrArg (fun z => (z 1).val) hx
    simp only [Rect.emb_apply] at c0 c1
    have l0 : (x 0).val < p := (x 0).isLt
    have l1 : (x 1).val < q := (x 1).isLt
    have c0' : off 0 + 1 * (x 0).val = i.val := c0
    have c1' : off 1 + 1 * (x 1).val = j.val := c1
    omega

/-- The accumulator by row and lane. -/
def accN (σ : St Ideal) (row l : ℕ) : EReal :=
  if h : row < 7688 ∧ l < 256 then (show EReal from σ.acc (ix2 ⟨row, h.1⟩ ⟨l, h.2⟩)) else 0

/-- The running maximum by row and lane. -/
def carN (σ : St Ideal) (s l : ℕ) : EReal :=
  if h : s < 8 ∧ l < 256 then
    (if h' : l < 128 then (show EReal from σ.a0 (ix2 ⟨s, h.1⟩ ⟨l, h'⟩)) else (show EReal from σ.a1 (ix2 ⟨s, h.1⟩ ⟨l - 128, by omega⟩)))
  else 0

/-- The maxima of a unit's product rows, by row and lane. -/
def pm (r : FVec Ideal S8x768 .f32) (s l : ℕ) : EReal :=
  if h : s < 8 ∧ l < 256 then
    (if h' : l < 128 then (show EReal from max0 r (ix2 ⟨s, h.1⟩ ⟨l, h'⟩)) else (show EReal from max1 r (ix2 ⟨s, h.1⟩ ⟨l - 128, by omega⟩)))
  else 0

theorem upd_at (d : BitVec 32) (x a : FVec Ideal S8x128 .f32) (i : Fin 8) (j : Fin 128) (b : EReal) :
    (show EReal from upd d x a (ix2 i j)) ≤ b ↔ (show EReal from x (ix2 i j)) ≤ b ∧ (d &&& 1#32 ≠ 1#32 → (show EReal from a (ix2 i j)) ≤ b) := by
  have e : (show EReal from upd d x a (ix2 i j)) = max (show EReal from x (ix2 i j))
      (Scalar.select (Scalar.cmpi .eq (Scalar.andi d 1#32) 1#32) bot (show EReal from a (ix2 i j))) := by
    pointwise [upd]
    rfl
  rw [e, max_le_iff]
  refine and_congr_right fun _ => ?_
  by_cases h : d &&& 1#32 = 1#32
  · have hc : Scalar.cmpi .eq (Scalar.andi d 1#32) 1#32 = 1#1 := IntOp.cmpi_eq.2 h
    rw [hc, bot_eq]
    exact ⟨fun _ hn => absurd h hn, fun _ => bot_le⟩
  · have hc : Scalar.cmpi .eq (Scalar.andi d 1#32) 1#32 = 0#1 := by
      rcases BitVec.eq_zero_or_eq_one (Scalar.cmpi .eq (Scalar.andi d 1#32) 1#32) with h0 | h1
      · exact h0
      · exact absurd (IntOp.cmpi_eq.1 h1) h
    rw [hc]
    exact ⟨fun hx _ => hx, fun hx => hx h⟩

theorem car_nstep (r : FVec Ideal S8x768 .f32) (d : BitVec 32) (σ : St Ideal) {s : ℕ} (hs : s < 8) {l : ℕ} (hl : l < 256) (b : EReal) :
    carN (nstep r d σ) s l ≤ b ↔ pm r s l ≤ b ∧ (d &&& 1#32 ≠ 1#32 → carN σ s l ≤ b) := by
  unfold carN pm
  simp only [dif_pos (And.intro hs hl)]
  by_cases h : l < 128
  · simp only [dif_pos h]; exact upd_at ..
  · simp only [dif_neg h]; exact upd_at ..

theorem acc_nstep (r : FVec Ideal S8x768 .f32) (d : BitVec 32) (hd : (rowW d).toNat ≤ 7680) (σ : St Ideal) {row : ℕ} (hr : row < 7688) {l : ℕ} (hl : l < 256) :
    accN (nstep r d σ) row l = if (rowW d).toNat ≤ row ∧ row < (rowW d).toNat + 8 then carN (nstep r d σ) (row - (rowW d).toNat) l else accN σ row l := by
  have o10 : k0_off1 d 0 = (rowW d).toNat := by simp only [k0_off1, scalar_shr, Scalar.indexCast]; rfl
  have o11 : k0_off1 d 1 = 0 := by simp only [k0_off1, scalar_shr, Scalar.indexCast]; rfl
  have o20 : k0_off2 d 0 = (rowW d).toNat := by simp only [k0_off2, scalar_shr, Scalar.indexCast]; rfl
  have o21 : k0_off2 d 1 = 128 := by simp only [k0_off2, scalar_shr, Scalar.indexCast]; rfl
  have hh : (∀ a, k0_off1 d a + S8x128.size a ≤ S7688x256.size a) ∧ (∀ a, k0_off2 d a + S8x128.size a ≤ S7688x256.size a) := by
    refine ⟨fun a => ?_, fun a => ?_⟩
    · match a with
      | ⟨0, _⟩ => show k0_off1 d 0 + 8 ≤ 7688; omega
      | ⟨1, _⟩ => show k0_off1 d 1 + 128 ≤ 256; omega
    · match a with
      | ⟨0, _⟩ => show k0_off2 d 0 + 8 ≤ 7688; omega
      | ⟨1, _⟩ => show k0_off2 d 1 + 128 ≤ 256; omega
  unfold accN
  simp only [dif_pos (And.intro hr hl)]
  have e : (nstep r d σ).acc = put (Val := Elt Ideal) (e := .f32) (put (Val := Elt Ideal) (e := .f32) σ.acc (Rect.unit (s := S7688x256) (k0_off1 d) S8x128.size hh.1) (nstep r d σ).a0)
      (Rect.unit (s := S7688x256) (k0_off2 d) S8x128.size hh.2) (nstep r d σ).a1 := by
    show acc8 _ _ _ _ = _
    unfold acc8; rw [dif_pos hh]; rfl
  rw [e]
  generalize nstep r d σ = τ
  refine (put2 (Val := Elt Ideal) (e := .f32) _ hh.2 τ.a1 o20 o21 ⟨row, hr⟩ ⟨l, hl⟩).trans ?_
  have i1 := put2 (Val := Elt Ideal) (e := .f32) σ.acc hh.1 τ.a0 o10 o11 ⟨row, hr⟩ ⟨l, hl⟩
  unfold carN
  by_cases h : (rowW d).toNat ≤ row ∧ row < (rowW d).toNat + 8
  · rw [if_pos h, dif_pos (⟨by omega, hl⟩ : row - (rowW d).toNat < 8 ∧ l < 256)]
    by_cases h' : l < 128
    · rw [dif_pos h', dif_neg (by dsimp only; omega)]
      exact i1.trans (dif_pos (by dsimp only; omega))
    · rw [dif_neg h', dif_pos (by dsimp only; omega)]
  · rw [if_neg h, dif_neg (by dsimp only; omega)]
    exact i1.trans (dif_neg (by dsimp only; omega))

theorem rowUpd_le (r : FVec Ideal S8x768 .f32) (m : Vec Ideal S1x256 .f32) (j : Fin 256) (b : EReal) :
    (show EReal from rowUpd r m (ix2 0 j)) ≤ b ↔ (show EReal from m (ix2 0 j)) ≤ b ∧ ∀ s < 8, pm r s j.val ≤ b := by
  have e : (show EReal from rowUpd r m (ix2 0 j)) = max (show EReal from m (ix2 0 j)) (Finset.fold max bot (fun x : Fin 8 => pm r x.val j.val) Finset.univ) := by
    pointwise [rowUpd]
    refine congrArg (max _) (congrArg (fun f => Finset.fold max bot f Finset.univ) (funext fun x => ?_))
    unfold pm
    rw [dif_pos (⟨x.isLt, j.isLt⟩ : x.val < 8 ∧ j.val < 256)]
  rw [e, max_le_iff, Finset.fold_max_le, bot_eq]
  exact and_congr_right fun _ => ⟨fun h s hs => h.2 ⟨s, hs⟩ (Finset.mem_univ _), fun h => ⟨bot_le, fun x _ => h x x.isLt⟩⟩

theorem acc_estep (r : FVec Ideal S8x768 .f32) (d : BitVec 32) (hd : (rowW d).toNat < 7688) (σ : St Ideal) {row : ℕ} (hr : row < 7688) {l : ℕ} (hl : l < 256) (b : EReal) :
    accN (estep r d σ) row l ≤ b ↔ accN σ row l ≤ b ∧ (row = (rowW d).toNat → ∀ s < 8, pm r s l ≤ b) := by
  have o0 : k0_off261 d 0 = (rowW d).toNat := by simp only [k0_off261, scalar_shr, Scalar.indexCast]; rfl
  have o1 : k0_off261 d 1 = 0 := by simp only [k0_off261, scalar_shr, Scalar.indexCast]; rfl
  have hh : ∀ a, k0_off261 d a + S1x256.size a ≤ S7688x256.size a := fun a => by
    match a with
    | ⟨0, _⟩ => show k0_off261 d 0 + 1 ≤ 7688; omega
    | ⟨1, _⟩ => show k0_off261 d 1 + 256 ≤ 256; omega
  unfold accN
  simp only [dif_pos (And.intro hr hl)]
  have e : (estep r d σ).acc = put (Val := Elt Ideal) (e := .f32) σ.acc (Rect.unit (s := S7688x256) (k0_off261 d) S1x256.size hh)
      (rowUpd r (fun x => σ.acc ((Rect.unit (s := S7688x256) (k0_off261 d) S1x256.size hh).emb x))) := by
    show acc1 _ _ _ = _
    unfold acc1; rw [dif_pos hh]
  rw [e]
  have i1 := put2 (Val := Elt Ideal) (e := .f32) σ.acc hh (rowUpd r (fun x => σ.acc ((Rect.unit (s := S7688x256) (k0_off261 d) S1x256.size hh).emb x))) o0 o1 ⟨row, hr⟩ ⟨l, hl⟩
  refine (Iff.of_eq (congrArg (· ≤ b) i1)).trans ?_
  by_cases h : row = (rowW d).toNat
  · rw [dif_pos (by dsimp only; omega)]
    have h1 : (⟨row - (rowW d).toNat, by omega⟩ : Fin 1) = 0 := Fin.ext (by show row - (rowW d).toNat = 0; omega)
    have h2 : (⟨l - 0, by omega⟩ : Fin 256) = ⟨l, hl⟩ := rfl
    dsimp only
    rw [h1]
    refine (rowUpd_le r _ ⟨l, hl⟩ b).trans (and_congr (Iff.of_eq (congrArg (· ≤ b) ?_)) ⟨fun hx _ => hx, fun hx => hx h⟩)
    refine (get2 σ.acc hh o0 o1 (by omega) (by omega) 0 ⟨l, hl⟩).trans (congrArg σ.acc ?_)
    refine funext fun a => Fin.ext ?_
    match a with
    | ⟨0, _⟩ => show (rowW d).toNat + 0 = row; omega
    | ⟨1, _⟩ => show 0 + l = l; omega
  · rw [dif_neg (by dsimp only; omega)]
    exact ⟨fun hx => ⟨hx, fun hx' => absurd hx' h⟩, fun hx => hx.1⟩

end Cert.KernelIdeal.Units

end
-- ==== Proof.Fold.lean ====
/-
  A block of units, one after another: the accumulator and the running maximum stay what the list of units says.
-/
module

public import proofs.«01_k».proof.Proof.Acc

@[expose] public section

set_option maxRecDepth 16384

noncomputable section

namespace Cert.KernelIdeal.Units

open Idealize.ShloMosaic Idealize.SL.Sem
open Cert.KernelIdeal Cert.KernelIdeal.Gen Cert.Own Cert.Words Cert.Score

variable {L : Cert.Inv.Lst}

theorem inv_nstep {G : ℕ} {r : FVec Ideal S8x768 .f32} {d : BitVec 32} {σ : St Ideal} (hG : G < L.nn) (H : L.Inv G (accN σ) (carN σ))
    (hr : (rowW d).toNat = L.r G) (hf : L.fst G ↔ d &&& 1#32 = 1#32) (hm : ∀ s < 8, ∀ l < 256, L.mv G s l = pm r s l) :
    L.Inv (G + 1) (accN (nstep r d σ)) (carN (nstep r d σ)) := by
  have h7 := L.rle G hG
  refine Cert.Inv.inv_normal hG H (fun h s hs l hl b => ?_) (fun h s hs l hl b => ?_) (fun row hrow l hl h1 h2 => ?_) (fun row hrow l hl h => ?_)
  · rw [car_nstep r d σ hs hl, hm s hs l hl]
    exact ⟨fun x => x.1, fun x => ⟨x, fun hn => absurd (hf.1 h) hn⟩⟩
  · rw [car_nstep r d σ hs hl, hm s hs l hl]
    exact and_congr_right fun _ => ⟨fun x => x fun hn => h (hf.2 hn), fun x _ => x⟩
  · rw [acc_nstep r d (by omega) σ (by omega) hl, if_pos (by omega), hr]
  · rw [acc_nstep r d (by omega) σ (by omega) hl, if_neg (by omega)]

theorem inv_estep {G : ℕ} {r : FVec Ideal S8x768 .f32} {d : BitVec 32} {σ : St Ideal} (hG : L.nn ≤ G) (hG' : G < L.na) (H : L.Inv G (accN σ) (carN σ))
    (hr : (rowW d).toNat = L.r G) (h8 : L.r G < 7688) (hm : ∀ s < 8, ∀ l < 256, L.mv G s l = pm r s l) :
    L.Inv (G + 1) (accN (estep r d σ)) (carN (estep r d σ)) := by
  refine Cert.Inv.inv_extra hG hG' H (fun row hrow l hl b => ?_)
  rw [acc_estep r d (by omega) σ (by omega) hl, hr]
  refine and_congr_right fun _ => forall_congr' fun _ => forall_congr' fun s => forall_congr' fun hs => ?_
  rw [hm s hs l hl]

/-- A block holds the units of the list from `base` on. -/
structure Blk (L : Cert.Inv.Lst) (base : ℕ) (o : FVec Ideal S1024x768 .f32) (D : Vec Ideal S128 .i32) : Prop where
  row : ∀ u (hu : u < 128), (rowW (dAt (F := Ideal) D u hu)).toNat = L.r (base + u)
  fst : ∀ u (hu : u < 128), L.fst (base + u) ↔ dAt (F := Ideal) D u hu &&& 1#32 = 1#32
  mv : ∀ u (hu : u < 128), ∀ s < 8, ∀ l < 256, L.mv (base + u) s l = pm (rows o u hu) s l

variable {base : ℕ} {o : FVec Ideal S1024x768 .f32} {D : Vec Ideal S128 .i32}

theorem inv_units (B : Blk L base o D) (hn : base + 128 ≤ L.nn) : ∀ (k : ℕ) (hk : k ≤ 128) (σ : St Ideal),
    L.Inv (base + (128 - k)) (accN σ) (carN σ) → L.Inv (base + 128) (accN (unitsS o D k hk σ)) (carN (unitsS o D k hk σ))
  | 0, _, σ, H => H
  | k + 1, hk, σ, H => by
    refine inv_units B hn k (by omega) _ ?_
    have e : base + (128 - k) = base + (127 - k) + 1 := by omega
    have e' : base + (128 - (k + 1)) = base + (127 - k) := by omega
    rw [e]; rw [e'] at H
    exact inv_nstep (by omega) H (B.row _ _) (B.fst _ _) (B.mv _ _)

theorem trips_eq : k0_t1_loop.trips = 128 := by decide

theorem iv_toNat (k : Fin k0_t1_loop.trips) (hk : k.val < 128) : (Scf.iv 0#32 1#32 k).toNat = k.val := by
  simp only [Scf.iv, BitVec.toNat_add, BitVec.toNat_mul, BitVec.toNat_ofNat]
  omega

theorem dTrip_dAt (D : Vec Ideal S128 .i32) (k : Fin k0_t1_loop.trips) (hk : k.val < 128) : dTrip (F := Ideal) D k = dAt (F := Ideal) D k.val hk := by
  unfold dTrip dAt
  refine congrArg D (funext fun a => Fin.ext ?_)
  match a with
  | ⟨0, _⟩ =>
    rw [Rect.emb_apply, Rect.emb_apply]
    have h : k0_off257 k 0 = k.val := iv_toNat k hk
    show k0_off257 k 0 + 1 * _ = k.val + 1 * _
    rw [h]

theorem rowsAt_rows (o : Vec Ideal S1024x768 .f32) (k : Fin k0_t1_loop.trips) (hk : k.val < 128) : rowsAt (F := Ideal) o k = rows (F := Ideal) o k.val hk := by
  funext x
  rw [eq_ix2 x]
  have h : k0_off258 k 0 = 8 * k.val := by
    have e8 : (8#32 : BitVec 32).toNat = 8 := by decide
    have hi := iv_toNat k hk
    have hm := toNat_muli (x := 8#32) (y := Scf.iv 0#32 1#32 k) (by rw [e8, hi]; omega)
    rw [e8, hi] at hm
    exact hm
  have h1 : k0_off258 k 1 = 0 := rfl
  refine (get2 (p := 8) (q := 768) o (k0_off258_inb k) h h1 (by omega) (by omega) (x 0) (x 1)).trans ?_
  symm
  pointwise [rows]

theorem inv_trips {g v1 v2 : BitVec 32} (hg : g.toNat < 4096) (h1 : v1.toNat = L.nn) (h2 : v2.toNat = L.na) (hb : base = g.toNat * 128) (hcap : L.na ≤ 53248)
    (hex : ∀ u, L.nn ≤ u → u < L.na → L.r u < 7688) (B : Blk L base o D) (σ : St Ideal) (H : L.Inv base (accN σ) (carN σ)) :
    ∀ n, n ≤ 128 → L.Inv (base + n) (accN (tripsS g v1 v2 o D σ n)) (carN (tripsS g v1 v2 o D σ n))
  | 0, _ => H
  | n + 1, hn => by
    show L.Inv (base + n + 1) _ _
    have ih := inv_trips hg h1 h2 hb hcap hex B σ H n (by omega)
    have hle := L.le
    have ht : n < k0_t1_loop.trips := by rw [trips_eq]; omega
    unfold tripsS
    rw [dif_pos ht]
    generalize tripsS g v1 v2 o D σ n = τ at ih ⊢
    unfold tstep
    have c3 := cond3_iff hg (v1 := v1) (by omega) ⟨n, ht⟩ (by show n < 128; omega)
    have c4 := cond4_iff hg (v1 := v1) (v2 := v2) (by omega) (by omega) ⟨n, ht⟩ (by show n < 128; omega)
    rw [h1, ← hb] at c3 c4
    rw [h2] at c4
    dsimp only at c3 c4
    rw [dTrip_dAt D ⟨n, ht⟩ (by show n < 128; omega), rowsAt_rows o ⟨n, ht⟩ (by show n < 128; omega)]
    by_cases hu : base + n < L.nn
    · rw [if_pos (c3.2 hu), if_neg (fun h => by have := (c4.1 h).1; omega)]
      exact inv_nstep hu ih (B.row _ _) (B.fst _ _) (B.mv _ _)
    · rw [if_neg (fun h => hu (c3.1 h))]
      by_cases hv : base + n < L.na
      · rw [if_pos (c4.2 ⟨by omega, hv⟩)]
        exact inv_estep (by omega) hv ih (B.row _ _) (hex _ (by omega) hv) (B.mv _ _)
      · rw [if_neg (fun h => hv (c4.1 h).2)]
        exact Cert.Inv.inv_skip (by omega) (by omega) ih

end Cert.KernelIdeal.Units

end
-- ==== Proof.Rhs.lean ====
/-
  The query matrix the call reads, and the products of a block of packed rows with it.
-/
module

public import proofs.«01_k».proof.Proof.Host
public import proofs.«01_k».proof.Proof.Acc

@[expose] public section

set_option maxRecDepth 16384
set_option maxHeartbeats 1000000

noncomputable section

namespace Cert.KernelIdeal.Units

open Idealize.ShloMosaic Idealize.ShloMosaic.TcCoe Idealize.SL.Sem Cert.KernelIdeal.Gen Cert.Words Cert.Score

/-- Every query against every token's place. -/
def full (Q : FVec Ideal S6x32x64 .bf16) : FVec Ideal S2x4x32x4x192 .bf16 :=
  mulf
    (broadcastInDim S2x4x32x4x192 ![0, 1, 2, 3, 4] bcast_S2x1x32x1x192_S2x4x32x4x192_0_1_2_3_4
      (broadcastInDim S2x1x32x1x192 ![0, 2, 4] bcast_S2x32x192_S2x1x32x1x192_0_2_4
        (transpose S2x32x192 [1, 2, 0] (shapeCast S192x2x32 Q shapeCasts_S6x32x64_S192x2x32) transposes_S192x2x32_S2x32x192_1_2_0)))
    (broadcastInDim S2x4x32x4x192 ![0, 1, 2, 3, 4] bcast_S1x4x1x4x1_S2x4x32x4x192_0_1_2_3_4
      (broadcastInDim S1x4x1x4x1 ![1, 3] bcast_S4x4_S1x4x1x4x1_1_3
        (uitofp FTy.bf16 (cmpi CmpIPredicate.eq
          (addi (iotaInDim S4x4 32 0) (broadcastInDim S4x4 ![] bcast_S_S4x4 (constantI S_ 32 0#32))) (iotaInDim S4x4 32 1)))))

/-- The matrix of queries, as the host lays it out. -/
def rhsOf (Q : FVec Ideal S6x32x64 .bf16) : FVec Ideal S256x768 .bf16 :=
  concatenate S256x768 1
    [⟨S256x512, shapeCast S256x512 (extractStridedSlice S2x4x32x4x128 ![0, 0, 0, 0, 0] (full Q) slices_S2x4x32x4x192_S2x4x32x4x128_0_0_0_0_0) shapeCasts_S2x4x32x4x128_S256x512⟩,
     ⟨S256x256, shapeCast S256x256 (extractStridedSlice S2x4x32x4x64 ![0, 0, 0, 0, 128] (full Q) slices_S2x4x32x4x192_S2x4x32x4x64_0_0_0_0_128) shapeCasts_S2x4x32x4x64_S256x256⟩]
    concatenates_S256x512_S256x256_S256x768_d1

theorem Vm_v17 (m : (ℓ : Loc nD τ sig) → Buf (Elt Ideal) ℓ) (c : Dev nD) : Vm m c main_v17 = rhsOf (m ((c.tc : Thread nD τ).loc main_arg2)) := by
  unfold Vm
  after_reads_simp
  refine congrArg₂ (fun (a : FVec Ideal S256x512 .bf16) (b : FVec Ideal S256x256 .bf16) => concatenate S256x768 1 [⟨S256x512, a⟩, ⟨S256x256, b⟩] concatenates_S256x512_S256x256_S256x768_d1) ?_ ?_
  · after_reads_simp
    rfl
  · after_reads_simp
    rfl

theorem full_at (Q : FVec Ideal S6x32x64 .bf16) (h : Fin 2) (t : Fin 4) (w : Fin 32) (t' : Fin 4) (n : Fin 192) :
    (show EReal from full Q (ix5 h t w t' n)) = if t = t' then (show EReal from Q (ix3 ⟨n.val / 32, by omega⟩ ⟨n.val % 32, by omega⟩ ⟨h.val * 32 + w.val, by omega⟩)) else 0 := by
  pointwise [full]
  have hb : ∀ t t' : Fin 4, IntOp.cmpi CmpIPredicate.eq (IntOp.addi (BitVec.ofNat 32 t.val) 0#32) (BitVec.ofNat 32 t'.val) = if t = t' then 1#1 else 0#1 := by decide
  rw [hb]
  by_cases h' : t = t'
  · rw [if_pos h', if_pos h']
    have : (FloatOps.uitofp (F := Ideal) FTy.bf16 (1#1 : BitVec 1) : EReal) = 1 := by simp [FloatOps.uitofp]
    exact (congrArg _ this).trans (mul_one _)
  · rw [if_neg h', if_neg h']
    have : (FloatOps.uitofp (F := Ideal) FTy.bf16 (0#1 : BitVec 1) : EReal) = 0 := by simp [FloatOps.uitofp]
    exact (congrArg _ this).trans (mul_zero _)

/-- The column of token `t` and query `n`. -/
def col (t : Fin 4) (n : Fin 192) : Fin 768 := if h : n.val < 128 then ⟨128 * t.val + n.val, by omega⟩ else ⟨512 + 64 * t.val + (n.val - 128), by omega⟩

theorem col_eq (t : Fin 4) (n : Fin 192) {j : ℕ} (hj : j < 768) (h : j = if n.val < 128 then 128 * t.val + n.val else 512 + 64 * t.val + (n.val - 128)) : col t n = ⟨j, hj⟩ := by
  refine Fin.ext ?_
  unfold col
  by_cases hn : n.val < 128
  · rw [dif_pos hn]; rw [if_pos hn] at h; exact h.symm
  · rw [dif_neg hn]; rw [if_neg hn] at h; exact h.symm

theorem rhs_at (Q : FVec Ideal S6x32x64 .bf16) (k : Fin 256) (t : Fin 4) (n : Fin 192) :
    (show EReal from rhsOf Q (ix2 k (col t n))) = if k.val / 32 % 4 = t.val then
      (show EReal from Q (ix3 ⟨n.val / 32, by omega⟩ ⟨n.val % 32, by omega⟩ ⟨k.val / 128 * 32 + k.val % 32, by omega⟩)) else 0 := by
  have e : ∀ j : Fin 768, (show EReal from rhsOf Q (ix2 k j)) = if h : j.val < 512 then (show EReal from full Q (ix5 ⟨k.val / 128, by omega⟩ ⟨k.val / 32 % 4, by omega⟩ ⟨k.val % 32, by omega⟩ ⟨j.val / 128, by omega⟩ ⟨j.val % 128, by omega⟩))
      else (show EReal from full Q (ix5 ⟨k.val / 128, by omega⟩ ⟨k.val / 32 % 4, by omega⟩ ⟨k.val % 32, by omega⟩ ⟨(j.val - 512) / 64, by omega⟩ ⟨128 + (j.val - 512) % 64, by omega⟩)) := by
    intro j
    pointwise [rhsOf]
  have key : ∀ (t' : Fin 4) (n' : Fin 192), t' = t → n' = n → (show EReal from full Q (ix5 ⟨k.val / 128, by omega⟩ ⟨k.val / 32 % 4, by omega⟩ ⟨k.val % 32, by omega⟩ t' n'))
      = if k.val / 32 % 4 = t.val then (show EReal from Q (ix3 ⟨n.val / 32, by omega⟩ ⟨n.val % 32, by omega⟩ ⟨k.val / 128 * 32 + k.val % 32, by omega⟩)) else 0 := by
    intro t' n' ht hn
    rw [ht, hn, full_at]
    by_cases h : k.val / 32 % 4 = t.val
    · rw [if_pos h, if_pos (Fin.ext h)]
    · rw [if_neg h, if_neg (fun h' => h (congrArg Fin.val h'))]
  rw [e]
  unfold col
  by_cases hn : n.val < 128
  · simp only [dif_pos hn]
    rw [dif_pos (by omega)]
    exact key _ _ (Fin.ext (by dsimp only; omega)) (Fin.ext (by dsimp only; omega))
  · simp only [dif_neg hn]
    rw [dif_neg (by omega)]
    exact key _ _ (Fin.ext (by dsimp only; omega)) (Fin.ext (by dsimp only; omega))

/-- A sum over the places of four tokens, of which one counts. -/
theorem sum_block (f : Fin 128 → EReal) (g : Fin 32 → EReal) (t : Fin 4) :
    (∑ x : Fin 128, f x * (if x.val / 32 % 4 = t.val then g ⟨x.val % 32, by omega⟩ else 0)) = ∑ w : Fin 32, f ⟨t.val * 32 + w.val, by omega⟩ * g w := by
  rw [← (finProdFinEquiv (m := 4) (n := 32)).sum_comp, Fintype.sum_prod_type, Finset.sum_eq_single t]
  · refine Finset.sum_congr rfl fun w _ => ?_
    have h1 : (finProdFinEquiv (m := 4) (n := 32) (t, w)) = (⟨t.val * 32 + w.val, by omega⟩ : Fin 128) := Fin.ext (by simp [finProdFinEquiv]; omega)
    rw [h1, if_pos (by dsimp only; omega)]
    exact congrArg _ (congrArg g (Fin.ext (by dsimp only; omega)))
  · intro t' _ ht
    refine Finset.sum_eq_zero fun w _ => ?_
    have h1 : (finProdFinEquiv (m := 4) (n := 32) (t', w)) = (⟨t'.val * 32 + w.val, by omega⟩ : Fin 128) := Fin.ext (by simp [finProdFinEquiv]; omega)
    rw [h1, if_neg (by dsimp only; intro h; exact ht (Fin.ext (by omega))), mul_zero]
  · intro h; exact absurd (Finset.mem_univ _) h

theorem prod_at (x : Vec Ideal S1024x128 .i32) (r : Vec Ideal S256x768 .bf16) (i : Fin 1024) (j : Fin 768) : (show EReal from prodOf x r (ix2 i j))
    = (∑ y : Fin 128, lo (x (ix2 i y)) * (show EReal from r (ix2 ⟨y.val, by omega⟩ j))) + ∑ y : Fin 128, hi (x (ix2 i y)) * (show EReal from r (ix2 ⟨128 + y.val, by omega⟩ j)) := by
  pointwise [prodOf]
  rfl

/-- The products of a block are the scores of its rows. -/
theorem prod_score (X : IVec S425984x128 32) (Q : FVec Ideal S6x32x64 .bf16) (x : Vec Ideal S1024x128 .i32) (i : Fin 1024) (row : Fin 425984)
    (hx : ∀ y : Fin 128, x (ix2 i y) = X (ix2 row y)) (t : Fin 4) (n : Fin 192) :
    (show EReal from prodOf x (rhsOf Q) (ix2 i (col t n))) = score X Q row t n := by
  rw [prod_at]
  unfold score
  simp only [hx]
  refine congrArg₂ (· + ·) ?_ ?_
  · rw [← sum_block (fun y => lo (X (ix2 row y))) (fun w => (show EReal from Q (ix3 ⟨n.val / 32, by omega⟩ ⟨n.val % 32, by omega⟩ ⟨w.val, by omega⟩))) t]
    refine Finset.sum_congr rfl fun y _ => congrArg _ ?_
    refine (rhs_at Q _ t n).trans ?_
    dsimp only
    refine if_congr Iff.rfl ?_ rfl
    exact congrArg (fun z => Q (ix3 _ _ z)) (Fin.ext (by dsimp only; omega))
  · rw [← sum_block (fun y => hi (X (ix2 row y))) (fun w => (show EReal from Q (ix3 ⟨n.val / 32, by omega⟩ ⟨n.val % 32, by omega⟩ ⟨32 + w.val, by omega⟩))) t]
    refine Finset.sum_congr rfl fun y _ => congrArg _ ?_
    refine (rhs_at Q _ t n).trans ?_
    dsimp only
    refine if_congr (by omega) ?_ rfl
    exact congrArg (fun z => Q (ix3 _ _ z)) (Fin.ext (by dsimp only; omega))

/-- The maxima of unit `u`'s row `s`, lane by lane. -/
def mvOf (X : IVec S425984x128 32) (Q : FVec Ideal S6x32x64 .bf16) (u s l : ℕ) : EReal :=
  if h : u < 53248 ∧ s < 8 ∧ l < 256 then
    (if h' : l < 128 then
      max (max (score X Q ⟨8 * u + s, by omega⟩ 0 ⟨l, by omega⟩) (score X Q ⟨8 * u + s, by omega⟩ 1 ⟨l, by omega⟩))
        (max (score X Q ⟨8 * u + s, by omega⟩ 2 ⟨l, by omega⟩) (score X Q ⟨8 * u + s, by omega⟩ 3 ⟨l, by omega⟩))
    else max (score X Q ⟨8 * u + s, by omega⟩ ⟨(l - 128) / 64, by omega⟩ ⟨128 + (l - 128) % 64, by omega⟩)
      (score X Q ⟨8 * u + s, by omega⟩ ⟨(l - 128) / 64 + 2, by omega⟩ ⟨128 + (l - 128) % 64, by omega⟩))
  else 0

/-- The maxima of a block's product rows are those of its units. -/
theorem mv_block (X : IVec S425984x128 32) (Q : FVec Ideal S6x32x64 .bf16) (x : Vec Ideal S1024x128 .i32) (base : ℕ) (hb : base + 128 ≤ 53248)
    (hx : ∀ (i : Fin 1024) (y : Fin 128), x (ix2 i y) = X (ix2 ⟨8 * base + i.val, by omega⟩ y)) (u : ℕ) (hu : u < 128) (s : ℕ) (hs : s < 8) (l : ℕ) (hl : l < 256) :
    mvOf X Q (base + u) s l = pm (rows (prodOf x (rhsOf Q)) u hu) s l := by
  have hi : ∀ (t : Fin 4) (n : Fin 192), score X Q ⟨8 * (base + u) + s, by omega⟩ t n = (show EReal from prodOf x (rhsOf Q) (ix2 ⟨8 * u + s, by omega⟩ (col t n))) := fun t n =>
    (prod_score X Q x ⟨8 * u + s, by omega⟩ ⟨8 * (base + u) + s, by omega⟩ (fun y => (hx _ y).trans (congrArg (fun z => X (ix2 z y)) (Fin.ext (by dsimp only; omega)))) t n).symm
  unfold mvOf pm
  rw [dif_pos (⟨by omega, hs, hl⟩ : base + u < 53248 ∧ s < 8 ∧ l < 256), dif_pos (⟨hs, hl⟩ : s < 8 ∧ l < 256)]
  generalize prodOf x (rhsOf Q) = o at hi ⊢
  by_cases h : l < 128
  · simp only [dif_pos h, hi]
    pointwise [rows, max0]
    have c : ∀ (t : Fin 4) (j : ℕ) (hj : j < 768), j = 128 * t.val + l → col t ⟨l, by omega⟩ = ⟨j, hj⟩ := fun t j hj e =>
      col_eq t _ hj (by rw [if_pos h]; exact e)
    rw [c 0 l (by omega) (by show l = 128 * 0 + l; omega), c 1 (128 + l) (by omega) rfl, c 2 (256 + l) (by omega) rfl, c 3 (384 + l) (by omega) rfl]
  · simp only [dif_neg h, hi]
    pointwise [rows, max1]
    rw [col_eq ⟨(l - 128) / 64, by omega⟩ ⟨128 + (l - 128) % 64, by omega⟩ (j := 512 + (l - 128)) (by omega) (by rw [if_neg (by dsimp only; omega)]; dsimp only; omega),
      col_eq ⟨(l - 128) / 64 + 2, by omega⟩ ⟨128 + (l - 128) % 64, by omega⟩ (j := 640 + (l - 128)) (by omega) (by rw [if_neg (by dsimp only; omega)]; dsimp only; omega)]

end Cert.KernelIdeal.Units

end
-- ==== Proof.Grouped.lean ====
/-
  What the precondition `grouped` says of the counts, the destination words and the ranks.
-/
module

public import proofs.«01_k».proof.Proof.Words
public import Idealize.ShloMosaic.Lib.Pointwise

@[expose] public section

set_option maxRecDepth 16384
set_option maxHeartbeats 2000000

noncomputable section

namespace Cert.Words

open Idealize.ShloMosaic

variable {F : FTy → Type} [FloatOps F]

/-- The unit list is grouped: what `Inv.Lst` asks of it. -/
structure Grp (nn : ℕ) (D : ℕ → BitVec 32) : Prop where
  follows : ∀ u < nn, (D u &&& 1#32 = 1#32) ∨ (1 ≤ u ∧ (rowW (D (u - 1))).toNat = (rowW (D u)).toNat)
  once : ∀ u < nn, ∀ v < nn, D u &&& 1#32 = 1#32 → D v &&& 1#32 = 1#32 → (rowW (D u)).toNat = (rowW (D v)).toNat →
    (rowW (D u)).toNat < 7680 → u = v
  filled : ∀ g < 960, ∃ u < nn, (rowW (D u)).toNat = 8 * g

local instance : Subsingleton (⟨0, ![]⟩ : Shape).Idx := ⟨fun a b => funext fun i => i.elim0⟩

theorem fold_ori {ι : Type} [DecidableEq ι] (f : ι → BitVec 1) (S : Finset ι) (h : Finset.fold IntOp.ori (0#1) f S = 1#1) : ∃ x ∈ S, f x = 1#1 := by
  induction S using Finset.induction_on with
  | empty => exact absurd h (by rw [Finset.fold_empty]; decide)
  | insert a S ha ih =>
    rw [Finset.fold_insert ha] at h
    rcases IntOp.ori_eq_one.1 h with h | h
    · exact ⟨a, Finset.mem_insert_self _ _, h⟩
    · obtain ⟨x, hx, hf⟩ := ih h
      exact ⟨x, Finset.mem_insert_of_mem hx, hf⟩

theorem slt_small {a b : BitVec 32} (ha : a.toNat < 2 ^ 31) (hb : b.toNat < 2 ^ 31) : IntOp.cmpi .slt a b = 1#1 ↔ a.toNat < b.toNat := by
  rw [IntOp.cmpi_slt, BitVec.toInt_eq_toNat_of_lt (by omega), BitVec.toInt_eq_toNat_of_lt (by omega)]; omega

end Cert.Words

end
-- ==== Proof.Reach.lean ====
/-
  The accumulator at every grid point: the maxima of the units taken so far.
-/
module

public import proofs.«01_k».proof.Proof.Tables
public import proofs.«01_k».proof.Proof.Fold
public import proofs.«01_k».proof.Proof.Rhs
public import proofs.«01_k».proof.Proof.Grouped

@[expose] public section

set_option maxRecDepth 16384

noncomputable section

namespace Cert.KernelIdeal.Units

open Idealize.ShloMosaic Idealize.ShloMosaic.TcCoe Idealize.SL.Sem Cert.KernelIdeal.Gen Cert.Words Cert.Score
open Idealize.ShloMosaic.Pipeline (RDat Cfg Window)

/-! ## The blocks of the inputs, for any floats -/

section any
variable {F : FTy → Type} [FloatOps F] {K : Fin 3} (m : (ℓ : Loc nD τ sig) → Buf (Elt F) ℓ) (hI : InB (nnOf m) (naOf m) (wdOf K m))

theorem coord_val {pf : pre0.Contents (Elt F)} {nn na : BitVec 32} {D : Nat → BitVec 32} (T : Tab pf nn na) (h : InB nn na D)
    (t : Fin (grid0.at (dynb0 pf)).N) : ((grid0.at (dynb0 pf)).coords t 0).val = t.val := by
  have ht := t.isLt
  have e := N_at T h
  have h := Pipeline.Grid.coords_val t (0 : Fin 1) (S := 1) (B := (nblkW na).toNat + 15) rfl (bound_at T h)
  rw [Nat.div_one, Nat.mod_eq_of_lt (by omega)] at h
  exact h

theorem coord_eq (t : Fin (CF (admOf m hI)).N) : (((CF (admOf m hI)).grid.coords t) 0).val = t.val :=
  coord_val (tab_of m) hI t

theorem xB_raw (c : Dev nD) (t : Fin (CF (admOf m hI)).N) (hlt : t.val < (nblkW (naOf m)).toNat) (i : Fin 1024) (y : Fin 128) :
    xB (admOf m hI) (Vm m) c t (ix2 i y) = (m ((0 : Dev nD).tc.loc main_arg0) : Vec F S425984x128 .i32)
      (ix2 ⟨8 * (t.val * 128) + i.val, by have := nblk_bounds hI; omega⟩ y) := by
  obtain rfl : c = 0 := Subsingleton.elim _ _
  have hb := nblk_bounds hI
  have e1 := tr0_eq (tab_of m) hI ((CF (admOf m hI)).grid.coords t)
  have ec := coord_eq m hI t
  have e0 : xB (admOf m hI) (Vm m) 0 t (ix2 i y) = (Vm m 0 main_arg0 : Vec F S425984x128 .i32)
      ((((CF (admOf m hI)).win (0 : Fin 6)).blk t).view.emb (ix2 i y)) := rfl
  rw [e0, Vm_arg0]
  refine congrArg (m ((0 : Dev nD).tc.loc main_arg0) : Vec F S425984x128 .i32) (funext fun a => Fin.ext ?_)
  match a with
  | ⟨0, _⟩ =>
    have h1 := Pipeline.Window.rect_emb_val ((CF (admOf m hI)).win (0 : Fin 6)) t (ix2 i y) (0 : Fin 2) rfl
    have h2' : ((CF (admOf m hI)).win (0 : Fin 6)).index t = cc0_transform_0 inb_S3_S1_0 numel1_S1 (pfOf m) (dynb0 (pfOf m)) ((CF (admOf m hI)).grid.coords t) := rfl
    have h2 : ((CF (admOf m hI)).win (0 : Fin 6)).index t (0 : Fin 2) = min (((CF (admOf m hI)).grid.coords t) 0).val ((nblkW (naOf m)).toNat - 1) := (congrFun h2' 0).trans e1
    have h3 : ((CF (admOf m hI)).win (0 : Fin 6)).size (0 : Fin 2) = 1024 := rfl
    refine h1.trans ?_
    rw [h2, h3, ec]
    show min t.val ((nblkW (naOf m)).toNat - 1) * 1024 + i.val = 8 * (t.val * 128) + i.val
    omega
  | ⟨1, _⟩ => show 0 * 128 + 1 * y.val = y.val; omega

theorem kB_raw (c : Dev nD) (t : Fin (CF (admOf m hI)).N) : kB (admOf m hI) (Vm m) c t = (m ((0 : Dev nD).tc.loc main_arg3) : Vec F S60x128 .i32) := by
  obtain rfl : c = 0 := Subsingleton.elim _ _
  funext x
  have e0 : kB (admOf m hI) (Vm m) 0 t x = (Vm m 0 main_arg3 : Vec F S60x128 .i32)
      ((((CF (admOf m hI)).win (3 : Fin 6)).blk t).view.emb x) := rfl
  rw [e0, Vm_arg3]
  refine congrArg (m ((0 : Dev nD).tc.loc main_arg3) : Vec F S60x128 .i32) (funext fun a => Fin.ext ?_)
  match a with
  | ⟨0, _⟩ => show 0 * 60 + 1 * (x 0).val = (x 0).val; omega
  | ⟨1, _⟩ => show 0 * 128 + 1 * (x 1).val = (x 1).val; omega

theorem rB_raw (c : Dev nD) (t : Fin (CF (admOf m hI)).N) : rB (admOf m hI) (Vm m) c t = (Vm m 0 main_v17 : Vec F S256x768 .bf16) := by
  obtain rfl : c = 0 := Subsingleton.elim _ _
  funext x
  have e0 : rB (admOf m hI) (Vm m) 0 t x = (Vm m 0 main_v17 : Vec F S256x768 .bf16)
      ((((CF (admOf m hI)).win (2 : Fin 6)).blk t).view.emb x) := rfl
  rw [e0]
  refine congrArg (Vm m 0 main_v17 : Vec F S256x768 .bf16) (funext fun a => Fin.ext ?_)
  match a with
  | ⟨0, _⟩ => show 0 * 256 + 1 * (x 0).val = (x 0).val; omega
  | ⟨1, _⟩ => show 0 * 768 + 1 * (x 1).val = (x 1).val; omega

end any

/-! ## The list of units, and the accumulator -/

variable (m : (ℓ : Loc nD τ sig) → Buf (Elt Ideal) ℓ)

/-- The packed rows, the queries and the ranks, of the memory. -/
abbrev xOf : IVec S425984x128 32 := m ((0 : Dev nD).tc.loc main_arg0)
abbrev qOf : FVec Ideal S6x32x64 .bf16 := m ((0 : Dev nD).tc.loc main_arg2)
abbrev kOf : IVec S60x128 32 := m ((0 : Dev nD).tc.loc main_arg3)

variable {K : Fin 3} (hI : InB (nnOf m) (naOf m) (wdOf K m)) (hG : Grp (nnOf m).toNat (wdOf K m))

/-- The list of units the memory holds. -/
def lst : Cert.Inv.Lst where
  nn := (nnOf m).toNat
  na := (naOf m).toNat
  r u := (rowW (wdOf K m u)).toNat
  fst u := wdOf K m u &&& 1#32 = 1#32
  mv := mvOf (xOf m) (qOf m)
  le := hI.nn_le
  r8 u hu := Nat.mod_eq_zero_of_dvd (hI.norm u hu).2
  rle u hu := (hI.norm u hu).1
  follows := hG.follows
  once := hG.once
  filled := hG.filled

theorem xB_at (c : Dev nD) (t : Fin (CF (admOf m hI)).N) (hlt : t.val < (nblkW (naOf m)).toNat) (i : Fin 1024) (y : Fin 128) :
    xB (admOf m hI) (Vm m) c t (ix2 i y) = xOf m (ix2 ⟨8 * (t.val * 128) + i.val, by have := nblk_bounds hI; omega⟩ y) :=
  xB_raw m hI c t hlt i y

theorem rB_eq (c : Dev nD) (t : Fin (CF (admOf m hI)).N) : rB (admOf m hI) (Vm m) c t = rhsOf (qOf m) :=
  (rB_raw m hI c t).trans (Vm_v17 m 0)

theorem kB_eq (c : Dev nD) (t : Fin (CF (admOf m hI)).N) : kB (admOf m hI) (Vm m) c t = kOf m := kB_raw m hI c t

theorem blk_of (c : Dev nD) (t : Fin (CF (admOf m hI)).N) (hlt : t.val < (nblkW (naOf m)).toNat) :
    Blk (lst m hI hG) (t.val * 128) (prodOf (F := Ideal) (xB (admOf m hI) (Vm m) c t) (rB (admOf m hI) (Vm m) c t)) (dB (admOf m hI) (Vm m) c t) := by
  have hb := nblk_bounds hI
  have hd : ∀ u (hu : u < 128), dAt (F := Ideal) (dB (admOf m hI) (Vm m) c t) u hu = wdOf K m (t.val * 128 + u) := fun u hu => by
    have := dAt_of m hI c t (by rw [coord_eq]; exact hlt) u hu
    rwa [coord_eq] at this
  refine ⟨fun u hu => ?_, fun u hu => ?_, fun u hu s hs l hl => ?_⟩
  · rw [hd]; rfl
  · rw [hd]; exact Iff.rfl
  · rw [rB_eq]
    exact mv_block (xOf m) (qOf m) _ (t.val * 128) (by omega) (xB_at m hI c t hlt) u hu s hs l hl

theorem reach_inv (c : Dev nD) : ∀ (n : ℕ) (σ : St Ideal), Reach (admOf m hI) (Vm m) c n σ →
    (lst m hI hG).Inv (min n (nblkW (naOf m)).toNat * 128) (accN σ) (carN σ)
  | 0, σ, _ => by rw [Nat.zero_min, Nat.zero_mul]; exact Cert.Inv.inv_zero _ _
  | n + 1, σ, ⟨σ', hr, h, e⟩ => by
    have ih := reach_inv c n σ' hr
    have hb := nblk_bounds hI
    have hn := nblkW_toNat hI.one_le hI.le_cap
    have hle := hI.nn_le
    have hcap := hI.le_cap
    have hg := gi_lt m hI ⟨n, h⟩
    have eg := gi_toNat m hI ⟨n, h⟩
    have ec := coord_eq m hI ⟨n, h⟩
    dsimp only at ec
    rw [ec] at eg hg
    have c1 := cond1_iff (g := gi (admOf m hI) ⟨n, h⟩) (v1 := nnOf m) (by omega) (by omega)
    have c2 := cond2_iff (g := gi (admOf m hI) ⟨n, h⟩) (v0 := nblkW (naOf m)) (v1 := nnOf m) (by omega) (by omega) (by omega)
    rw [eg] at c1 c2
    subst e
    unfold stepT stepSt partSt normSt
    rw [ct0_of, ct1_of, ct2_of]
    by_cases hlt : n < (nblkW (naOf m)).toNat
    · rw [Nat.min_eq_left (by omega)] at ih ⊢
      have B := blk_of m hI hG c ⟨n, h⟩ hlt
      by_cases h1 : (n + 1) * 128 ≤ (nnOf m).toNat
      · rw [if_pos (c1.2 h1), if_neg (fun x => by have := (c2.1 x).1; omega)]
        have := inv_units B (by show n * 128 + 128 ≤ (nnOf m).toNat; omega) 128 le_rfl σ' (by rw [Nat.sub_self, Nat.add_zero]; exact ih)
        rwa [show (n + 1) * 128 = n * 128 + 128 by omega]
      · rw [if_neg (fun x => h1 (c1.1 x)), if_pos (c2.2 ⟨by omega, hlt⟩), show k0_t1_loop.trips = 128 from trips_eq]
        have := inv_trips (base := n * 128) (g := gi (admOf m hI) ⟨n, h⟩) (v1 := nnOf m) (v2 := naOf m) (by omega) rfl rfl (by rw [eg]) hcap hI.extra B σ' ih 128 le_rfl
        rwa [show (n + 1) * 128 = n * 128 + 128 by omega]
    · rw [if_neg (show ¬ k0_cond1 (gi (admOf m hI) ⟨n, h⟩) (nnOf m) = 1#1 from fun x => by have := c1.1 x; omega), if_neg (show ¬ k0_cond2 (gi (admOf m hI) ⟨n, h⟩) (nblkW (naOf m)) (nnOf m) = 1#1 from fun x => hlt (c2.1 x).2)]
      rw [Nat.min_eq_right (by omega)] at ih ⊢
      exact ih

/-- At a finishing point every row of the accumulator holds the maxima of the units that count for it. -/
theorem reach_end (c : Dev nD) (n : ℕ) (hn : (nblkW (naOf m)).toNat ≤ n) (σ : St Ideal) (hr : Reach (admOf m hI) (Vm m) c n σ)
    {row : ℕ} (hrow : row < 7680) {l : ℕ} (hl : l < 256) (b : EReal) :
    accN σ row l ≤ b ↔ ∀ u s, s < 8 → (lst m hI hG).Hit u s row → mvOf (xOf m) (qOf m) u s l ≤ b := by
  have ih := reach_inv m hI hG c n σ hr
  have hn' := nblkW_toNat hI.one_le hI.le_cap
  rw [Nat.min_eq_right hn] at ih
  exact Cert.Inv.inv_end (by show (naOf m).toNat ≤ _; omega) ih hrow hl b

end Cert.KernelIdeal.Units

end
-- ==== Proof.Finish.lean ====
/-
  The windows of a finishing point: for each query and each slot of a window, the maximum over the rows that count for the
  slot, less the cut and no less than zero.
-/
module

public import proofs.«01_k».proof.Proof.Reach

@[expose] public section

set_option maxRecDepth 16384

noncomputable section

namespace Cert.KernelIdeal.Units

open Idealize.ShloMosaic Idealize.ShloMosaic.TcCoe Idealize.SL.Sem Cert.KernelIdeal.Gen Cert.Words Cert.Score
open Idealize.ShloMosaic.Pipeline (RDat Cfg Window)

/-! ## The two blocks of a finishing point -/

theorem put8_at (Y : Vec Ideal S192x512 .f32) (r : Fin 4) (w : FVec Ideal S192x128 .f32) (n : Fin 192) (j : Fin 512) :
    put8 Y r w (ix2 n j) = if j.val / 128 = r.val then w (ix2 n ⟨j.val % 128, by omega⟩) else Y (ix2 n j) := by
  have hr := r.isLt
  refine (put2 (Val := Elt Ideal) (e := .f32) Y (inb_win8 r) w (o0 := 0) (o1 := 128 * r.val) rfl rfl n j).trans ?_
  by_cases h : j.val / 128 = r.val
  · rw [dif_pos (by omega), if_pos h]
    congr 2
    apply Fin.ext
    show j.val - 128 * r.val = j.val % 128
    omega
  · rw [dif_neg (by omega), if_neg h]

theorem put9_at (Y : Vec Ideal S6x512 .f32) (r : Fin 4) (w : FVec Ideal S6x128 .f32) (n : Fin 6) (j : Fin 512) :
    put9 Y r w (ix2 n j) = if j.val / 128 = r.val then w (ix2 n ⟨j.val % 128, by omega⟩) else Y (ix2 n j) := by
  have hr := r.isLt
  refine (put2 (Val := Elt Ideal) (e := .f32) Y (inb_win9 r) w (o0 := 0) (o1 := 128 * r.val) rfl rfl n j).trans ?_
  by_cases h : j.val / 128 = r.val
  · rw [dif_pos (by omega), if_pos h]
    congr 2
    apply Fin.ext
    show j.val - 128 * r.val = j.val % 128
    omega
  · rw [dif_neg (by omega), if_neg h]

variable (g v0 : BitVec 32) (hw : k0_chk130 g v0) (h5 : k0_cond5 g v0 = 1#1) (A : Vec Ideal S7688x256 .f32) (K : Vec Ideal S60x128 .i32)

theorem fin8_at (Y : Vec Ideal S192x512 .f32) (n : Fin 192) (j : Fin 512) (r : Fin 4) (hr : j.val / 128 = r.val) :
    fin8 g v0 hw h5 A K Y (ix2 n j) = winOf g v0 hw h5 A K r (ix2 n ⟨j.val % 128, by omega⟩) := by
  unfold fin8
  rw [put8_at, put8_at, put8_at, put8_at, hr]
  match r with
  | 0 => rfl
  | 1 => rfl
  | 2 => rfl
  | 3 => rfl

theorem fin9_at (Y : Vec Ideal S6x512 .f32) (n : Fin 6) (j : Fin 512) (r : Fin 4) (hr : j.val / 128 = r.val) :
    fin9 g v0 hw h5 A K Y (ix2 n j) = finSum (winOf g v0 hw h5 A K r) (ix2 n ⟨j.val % 128, by omega⟩) := by
  unfold fin9
  rw [put9_at, put9_at, put9_at, put9_at, hr]
  match r with
  | 0 => rfl
  | 1 => rfl
  | 2 => rfl
  | 3 => rfl

theorem finSum_at (p : FVec Ideal S192x128 .f32) (i : Fin 6) (j : Fin 128) :
    finSum p (ix2 i j) = ∑ x : Fin 32, (show EReal from p (ix2 ⟨i.val * 32 + x.val, by omega⟩ j)) := by
  pointwise [finSum]

/-! ## One window -/

/-- A row of the accumulator at a query. -/
def topN (a : ℕ → ℕ → EReal) (row n : ℕ) : EReal := if n < 128 then a row n else max (a row n) (a row (64 + n))

theorem rank_word (k : BitVec 32) (h : k.toNat < 128) :
    (Scalar.select (IntOp.cmpi .slt k 0#32) (IntOp.addi k 128#32) k : BitVec 32).toNat % 128 = k.toNat := by
  have e : ∀ n : Fin 128, (Scalar.select (IntOp.cmpi .slt (BitVec.ofNat 32 n.val) 0#32) (IntOp.addi (BitVec.ofNat 32 n.val) 128#32) (BitVec.ofNat 32 n.val) : BitVec 32).toNat % 128 = n.val := by decide
  have := e ⟨k.toNat, h⟩
  have ek : BitVec.ofNat 32 k.toNat = k := BitVec.eq_of_toNat_eq (by rw [BitVec.toNat_ofNat]; exact Nat.mod_eq_of_lt k.isLt)
  dsimp only at this
  rwa [ek] at this

theorem finWin_at (a b : Vec Ideal S128x128 .f32) (k : Vec Ideal S1x128 .i32) (n : Fin 192) (q : Fin 128) (hk : (k (ix2 0 q)).toNat < 128) :
    finWin a b k (ix2 n q) = max ((if h : n.val < 128 then (show EReal from a (ix2 ⟨(k (ix2 0 q)).toNat, hk⟩ ⟨n.val, h⟩))
      else max (show EReal from b (ix2 ⟨(k (ix2 0 q)).toNat, hk⟩ ⟨n.val - 128, by omega⟩)) (show EReal from b (ix2 ⟨(k (ix2 0 q)).toNat, hk⟩ ⟨64 + (n.val - 128), by omega⟩))) - cut) 0 := by
  pointwise [finWin]
  have hf : (⟨(Scalar.select (IntOp.cmpi .slt (k (ix2 0 q)) 0#32) (IntOp.addi (k (ix2 0 q)) 128#32) (k (ix2 0 q)) : BitVec 32).toNat % 128, Nat.mod_lt _ (by decide)⟩ : Fin 128)
      = ⟨(k (ix2 0 q)).toNat, hk⟩ := Fin.ext (rank_word _ hk)
  exact congrArg (fun R : Fin 128 => max ((if h : n.val < 128 then (show EReal from a (ix2 R ⟨n.val, h⟩))
      else max (show EReal from b (ix2 R ⟨n.val - 128, by omega⟩)) (show EReal from b (ix2 R ⟨64 + (n.val - 128), by omega⟩))) - cut) 0) hf

theorem win_at (σ : St Ideal) (hle : v0.toNat ≤ g.toNat) (h15 : g.toNat < v0.toNat + 15) (r : Fin 4) (n : Fin 192) (q : Fin 128)
    (hk : (K (ix2 ⟨(g.toNat - v0.toNat) * 4 + r.val, by omega⟩ q)).toNat < 128) :
    winOf g v0 hw h5 σ.acc K r (ix2 n q)
      = max (topN (accN σ) (((g.toNat - v0.toNat) * 4 + r.val) * 128 + (K (ix2 ⟨(g.toNat - v0.toNat) * 4 + r.val, by omega⟩ q)).toNat) n.val - cut) 0 := by
  have hr := r.isLt
  have hn := n.isLt
  have ek : K ((Rect.unit (s := S60x128) (k0_off264 g v0 (BitVec.ofNat 32 r.val)) S1x128.size (k0_off264_inb g v0 hw h5 r)).emb (ix2 0 q))
      = K (ix2 ⟨(g.toNat - v0.toNat) * 4 + r.val, by omega⟩ q) :=
    (get2 K (k0_off264_inb g v0 hw h5 r) (o0 := (g.toNat - v0.toNat) * 4 + r.val) (o1 := 0) (win_toNat hle h15 r.val hr) rfl (by omega) (by omega) 0 q).trans
      (congrArg K (congrArg₂ ix2 (Fin.ext (Nat.add_zero _)) (Fin.ext (Nat.zero_add _))))
  unfold winOf
  refine (finWin_at _ _ _ n q (by rw [ek]; exact hk)).trans ?_
  refine congrArg (fun x : EReal => max (x - cut) 0) ?_
  have g1 := fun (i : Fin 128) (j : Fin 128) => get2 σ.acc (k0_off262_inb g v0 hw h5 r) (o0 := ((g.toNat - v0.toNat) * 4 + r.val) * 128) (o1 := 0) (row_toNat hle h15 r.val hr) rfl (by omega) (by omega) i j
  have g2 := fun (i : Fin 128) (j : Fin 128) => get2 σ.acc (k0_off263_inb g v0 hw h5 r) (o0 := ((g.toNat - v0.toNat) * 4 + r.val) * 128) (o1 := 128) (row_toNat hle h15 r.val hr) rfl (by omega) (by omega) i j
  unfold topN
  by_cases h : n.val < 128
  · rw [dif_pos h, if_pos h]
    refine (g1 _ _).trans ?_
    unfold accN
    rw [dif_pos (by omega)]
    exact congrArg σ.acc (congrArg₂ ix2 (Fin.ext (congrArg (((g.toNat - v0.toNat) * 4 + r.val) * 128 + ·) (congrArg BitVec.toNat ek))) (Fin.ext (Nat.zero_add _)))
  · rw [dif_neg h, if_neg h]
    refine congrArg₂ max ((g2 _ _).trans ?_) ((g2 _ _).trans ?_)
    · unfold accN
      rw [dif_pos (by omega)]
      exact congrArg σ.acc (congrArg₂ ix2 (Fin.ext (congrArg (((g.toNat - v0.toNat) * 4 + r.val) * 128 + ·) (congrArg BitVec.toNat ek))) (Fin.ext (by show 128 + (n.val - 128) = n.val; omega)))
    · unfold accN
      rw [dif_pos (by omega)]
      exact congrArg σ.acc (congrArg₂ ix2 (Fin.ext (congrArg (((g.toNat - v0.toNat) * 4 + r.val) * 128 + ·) (congrArg BitVec.toNat ek))) (Fin.ext (by show 128 + (64 + (n.val - 128)) = 64 + n.val; omega)))

/-! ## The maxima -/

theorem four (f : Fin 4 → EReal) (b : EReal) : (∀ t, f t ≤ b) ↔ (f 0 ≤ b ∧ f 1 ≤ b) ∧ f 2 ≤ b ∧ f 3 ≤ b :=
  ⟨fun h => ⟨⟨h 0, h 1⟩, h 2, h 3⟩, fun h t => match t with | 0 => h.1.1 | 1 => h.1.2 | 2 => h.2.1 | 3 => h.2.2⟩

theorem mv_le_lo (X : IVec S425984x128 32) (Q : FVec Ideal S6x32x64 .bf16) (r : Fin 425984) (n : Fin 192) (h : n.val < 128) (b : EReal) :
    mvOf X Q (r.val / 8) (r.val % 8) n.val ≤ b ↔ ∀ t, score X Q r t n ≤ b := by
  have e : (⟨8 * (r.val / 8) + r.val % 8, by omega⟩ : Fin 425984) = r := Fin.ext (by show 8 * (r.val / 8) + r.val % 8 = r.val; omega)
  unfold mvOf
  rw [dif_pos (by omega), dif_pos h, e, four, max_le_iff, max_le_iff, max_le_iff]

theorem mv_le_hi (X : IVec S425984x128 32) (Q : FVec Ideal S6x32x64 .bf16) (r : Fin 425984) (n : Fin 192) (h : ¬ n.val < 128) (b : EReal) :
    (mvOf X Q (r.val / 8) (r.val % 8) n.val ≤ b ∧ mvOf X Q (r.val / 8) (r.val % 8) (64 + n.val) ≤ b) ↔ ∀ t, score X Q r t n ≤ b := by
  have e : (⟨8 * (r.val / 8) + r.val % 8, by omega⟩ : Fin 425984) = r := Fin.ext (by show 8 * (r.val / 8) + r.val % 8 = r.val; omega)
  have a0 : (⟨(n.val - 128) / 64, by omega⟩ : Fin 4) = 0 := Fin.ext (by show (n.val - 128) / 64 = 0; omega)
  have a2 : (⟨(n.val - 128) / 64 + 2, by omega⟩ : Fin 4) = 2 := Fin.ext (by show (n.val - 128) / 64 + 2 = 2; omega)
  have a1 : (⟨(64 + n.val - 128) / 64, by omega⟩ : Fin 4) = 1 := Fin.ext (by show (64 + n.val - 128) / 64 = 1; omega)
  have a3 : (⟨(64 + n.val - 128) / 64 + 2, by omega⟩ : Fin 4) = 3 := Fin.ext (by show (64 + n.val - 128) / 64 + 2 = 3; omega)
  have b0 : (⟨128 + (n.val - 128) % 64, by omega⟩ : Fin 192) = n := Fin.ext (by show 128 + (n.val - 128) % 64 = n.val; omega)
  have b1 : (⟨128 + (64 + n.val - 128) % 64, by omega⟩ : Fin 192) = n := Fin.ext (by show 128 + (64 + n.val - 128) % 64 = n.val; omega)
  unfold mvOf
  rw [dif_pos (by omega), dif_neg h, dif_pos (by omega), dif_neg (by omega), e, a0, a1, a2, a3, b0, b1, four, max_le_iff, max_le_iff]
  exact ⟨fun h => ⟨⟨h.1.1, h.2.1⟩, h.1.2, h.2.2⟩, fun h => ⟨⟨h.1.1, h.2.1⟩, h.1.2, h.2.2⟩⟩

section fin
variable (m : (ℓ : Loc nD τ sig) → Buf (Elt Ideal) ℓ)
variable {K : Fin 3} (hI : InB (nnOf m) (naOf m) (wdOf K m)) (hG : Grp (nnOf m).toNat (wdOf K m))

theorem hit_lt {u s row : ℕ} (h : (lst m hI hG).Hit u s row) : u < 53248 := by
  have h1 : (nnOf m).toNat ≤ (naOf m).toNat := hI.nn_le
  have h2 : (naOf m).toNat ≤ 53248 := hI.le_cap
  rcases h with h | h
  · have : u < (nnOf m).toNat := h.1
    omega
  · have : u < (naOf m).toNat := h.2.1
    omega

theorem top_le (c : Dev nD) (k : ℕ) (hn : (nblkW (naOf m)).toNat ≤ k) (σ : St Ideal) (hr : Reach (admOf m hI) (Vm m) c k σ)
    {row : ℕ} (hrow : row < 7680) (n : Fin 192) (b : EReal) :
    topN (accN σ) row n.val ≤ b ↔ ∀ r : Fin 425984, (lst m hI hG).Hit (r.val / 8) (r.val % 8) row → ∀ t, score (xOf m) (qOf m) r t n ≤ b := by
  have key : ∀ P : ℕ → ℕ → Prop, (∀ u s, s < 8 → (lst m hI hG).Hit u s row → P u s) ↔ ∀ r : Fin 425984, (lst m hI hG).Hit (r.val / 8) (r.val % 8) row → P (r.val / 8) (r.val % 8) := fun P =>
    ⟨fun h r hh => h _ _ (by omega) hh, fun h u s hs hh => by
      have hu := hit_lt m hI hG hh
      have h1 : (8 * u + s) / 8 = u := by omega
      have h2 : (8 * u + s) % 8 = s := by omega
      have := h ⟨8 * u + s, by omega⟩
      dsimp only at this
      rw [h1, h2] at this
      exact this hh⟩
  have hn' := n.isLt
  unfold topN
  by_cases h : n.val < 128
  · rw [if_pos h, reach_end m hI hG c k hn σ hr hrow (by omega), key fun u s => mvOf (xOf m) (qOf m) u s n.val ≤ b]
    exact forall_congr' fun r => imp_congr_right fun _ => mv_le_lo _ _ r n h b
  · rw [if_neg h, max_le_iff, reach_end m hI hG c k hn σ hr hrow (by omega), reach_end m hI hG c k hn σ hr hrow (by omega),
      key fun u s => mvOf (xOf m) (qOf m) u s n.val ≤ b, key fun u s => mvOf (xOf m) (qOf m) u s (64 + n.val) ≤ b, ← forall_and]
    refine forall_congr' fun r => ?_
    rw [← mv_le_hi _ _ r n h b]
    tauto

theorem cut_le {x b : EReal} : x - cut ≤ b ↔ x ≤ b + cut := by
  obtain ⟨y, hy⟩ := cut_fin
  rw [hy]
  exact EReal.sub_le_iff_le_add (.inl (EReal.coe_ne_bot y)) (.inl (EReal.coe_ne_top y))

/-- What the results hold at a query and a column: the least value no less than zero and than every counted score less the cut. -/
def IsTop (row : ℕ) (n : Fin 192) (z : EReal) : Prop :=
  ∀ b : EReal, z ≤ b ↔ 0 ≤ b ∧ ∀ r : Fin 425984, (lst m hI hG).Hit (r.val / 8) (r.val % 8) row → ∀ t, score (xOf m) (qOf m) r t n - cut ≤ b

theorem IsTop.unique {row : ℕ} {n : Fin 192} {z z' : EReal} (h : IsTop m hI hG row n z) (h' : IsTop m hI hG row n z') : z = z' :=
  le_antisymm ((h _).2 ((h' _).1 le_rfl)) ((h' _).2 ((h _).1 le_rfl))

theorem isTop_max (c : Dev nD) (k : ℕ) (hn : (nblkW (naOf m)).toNat ≤ k) (σ : St Ideal) (hr : Reach (admOf m hI) (Vm m) c k σ)
    {row : ℕ} (hrow : row < 7680) (n : Fin 192) : IsTop m hI hG row n (max (topN (accN σ) row n.val - cut) 0) := fun b => by
  rw [max_le_iff, cut_le, top_le m hI hG c k hn σ hr hrow n, and_comm]
  simp only [cut_le]

/-- The row of the accumulator a column of the results takes. -/
def rowAt (j : Fin 7680) : ℕ := j.val / 128 * 128 + (kOf m (ix2 ⟨j.val / 128, by omega⟩ ⟨j.val % 128, by omega⟩)).toNat

theorem win_isTop (hK : ∀ w q, (kOf m (ix2 w q)).toNat < 128) (c : Dev nD) (t : Fin (CF (admOf m hI)).N) (hw : k0_chk130 (gi (admOf m hI) t) (nblkW (naOf m)))
    (h5 : k0_cond5 (gi (admOf m hI) t) (nblkW (naOf m)) = 1#1) (ht : (nblkW (naOf m)).toNat ≤ t.val) (σ : St Ideal) (hr : Reach (admOf m hI) (Vm m) c (t.val + 1) σ)
    (r : Fin 4) (n : Fin 192) (q : Fin 128) (j : Fin 7680) (hj : j.val = ((t.val - (nblkW (naOf m)).toNat) * 4 + r.val) * 128 + q.val) :
    IsTop m hI hG (rowAt m j) n (winOf (gi (admOf m hI) t) (nblkW (naOf m)) hw h5 σ.acc (kOf m) r (ix2 n q)) := by
  have hg := gi_lt m hI t
  have eg := gi_toNat m hI t
  have ec := coord_eq m hI t
  rw [ec] at eg hg
  have hr4 := r.isLt
  have hq := q.isLt
  rw [win_at _ _ hw h5 (kOf m) σ (by omega) (by omega) r n q (hK _ _)]
  have e1 : (⟨j.val / 128, by omega⟩ : Fin 60) = ⟨((gi (admOf m hI) t).toNat - (nblkW (naOf m)).toNat) * 4 + r.val, by omega⟩ := Fin.ext (by
    show j.val / 128 = ((gi (admOf m hI) t).toNat - (nblkW (naOf m)).toNat) * 4 + r.val; omega)
  have e2 : (⟨j.val % 128, by omega⟩ : Fin 128) = q := Fin.ext (by show j.val % 128 = q.val; omega)
  have e3 : rowAt m j = (((gi (admOf m hI) t).toNat - (nblkW (naOf m)).toNat) * 4 + r.val) * 128
      + (kOf m (ix2 ⟨((gi (admOf m hI) t).toNat - (nblkW (naOf m)).toNat) * 4 + r.val, by omega⟩ q)).toNat := by
    unfold rowAt
    rw [e1, e2]
    omega
  rw [← e3]
  refine isTop_max m hI hG c (t.val + 1) (by omega) σ hr ?_ n
  have := hK ⟨j.val / 128, by omega⟩ ⟨j.val % 128, by omega⟩
  unfold rowAt
  omega

end fin

end Cert.KernelIdeal.Units

end
-- ==== Proof.Arr.lean ====
/-
  The result arrays: each finishing point writes one block of columns, and the other columns stay.
-/
module

public import proofs.«01_k».proof.Proof.Reach

@[expose] public section

set_option maxRecDepth 16384

noncomputable section

namespace Cert.KernelIdeal.Units

open Idealize.ShloMosaic Idealize.ShloMosaic.TcCoe Idealize.SL.Sem Cert.KernelIdeal.Gen Cert.Words
open Idealize.ShloMosaic.Pipeline (RDat Cfg Window)

variable {F : FTy → Type} [FloatOps F]
variable {K : Fin 3} (m : (ℓ : Loc nD τ sig) → Buf (Elt F) ℓ) (hI : InB (nnOf m) (naOf m) (wdOf K m))

/-- The block of columns a point's windows lie at. -/
def cb (K : Fin 3) (m : (ℓ : Loc nD τ sig) → Buf (Elt F) ℓ) (t : ℕ) : ℕ := (15 * K.val + (t - (nblkW (naOf m)).toNat)) * 512

include hI in
theorem cb_le (t : ℕ) (ht : t < (nblkW (naOf m)).toNat + 15) : 7680 * K.val ≤ cb K m t ∧ cb K m t + 512 ≤ 7680 * K.val + 7680 := by
  have hb := nblk_bounds hI
  unfold cb
  omega

theorem t_lt (t : Fin (CF (admOf m hI)).N) : t.val < (nblkW (naOf m)).toNat + 15 := by
  have := gi_lt m hI t
  rwa [coord_eq] at this

/-! ## Window 4 -/

theorem Vm_v26_0 (c : Dev nD) : Vm m c main_v26_0 = m ((c.tc : Thread nD τ).loc main_arg6) := by
  unfold Vm
  after_reads_simp
  rfl

theorem idx4 (t : Fin (CF (admOf m hI)).N) (n : Fin 192) (j : Fin 512) :
    ((((CF (admOf m hI)).win (4 : Fin 6)).blk t).view.emb (ix2 n j)) = (ix2 n (⟨cb K m t.val + j.val, by have := cb_le m hI t.val (t_lt m hI t); omega⟩ : Fin 30208) : S192x30208.Idx) := by
  have e1 := tr6_eq K (tab_of m) hI ((CF (admOf m hI)).grid.coords t)
  have ec := coord_eq m hI t
  have h2 : ((CF (admOf m hI)).win (4 : Fin 6)).index t = tr6K K inb_S3_S1_0 numel1_S1 (pfOf m) (dynb0 (pfOf m)) ((CF (admOf m hI)).grid.coords t) := rfl
  have i1 : ((CF (admOf m hI)).win (4 : Fin 6)).index t (1 : Fin 2) = 15 * K.val + (((CF (admOf m hI)).grid.coords t 0).val - (nblkW (naOf m)).toNat) := (congrFun h2 1).trans e1
  have i0 : ((CF (admOf m hI)).win (4 : Fin 6)).index t (0 : Fin 2) = 0 := (congrFun h2 0).trans rfl
  funext a
  apply Fin.ext
  match a with
  | ⟨0, _⟩ =>
    have h1 := Pipeline.Window.rect_emb_val ((CF (admOf m hI)).win (4 : Fin 6)) t (ix2 n j) (0 : Fin 2) rfl
    rw [i0, Nat.zero_mul, Nat.zero_add] at h1
    exact h1
  | ⟨1, _⟩ =>
    have h1 := Pipeline.Window.rect_emb_val ((CF (admOf m hI)).win (4 : Fin 6)) t (ix2 n j) (1 : Fin 2) rfl
    have h3 : ((CF (admOf m hI)).win (4 : Fin 6)).size (1 : Fin 2) = 512 := rfl
    rw [i1, h3, ec] at h1
    exact h1

theorem flush4 (t : Fin (CF (admOf m hI)).N) (ht : (nblkW (naOf m)).toNat ≤ t.val) : ((CF (admOf m hI)).win (4 : Fin 6)).flush t = true := by
  have key : ∀ t : Fin (CF (admOf m hI)).N, ((CF (admOf m hI)).win (4 : Fin 6)).index t (1 : Fin 2) = 15 * K.val + (t.val - (nblkW (naOf m)).toNat) := fun t => by
    have e1 := tr6_eq K (tab_of m) hI ((CF (admOf m hI)).grid.coords t)
    have ec := coord_eq m hI t
    have h2 : ((CF (admOf m hI)).win (4 : Fin 6)).index t = tr6K K inb_S3_S1_0 numel1_S1 (pfOf m) (dynb0 (pfOf m)) ((CF (admOf m hI)).grid.coords t) := rfl
    refine ((congrFun h2 1).trans e1).trans ?_
    rw [ec]
  unfold Pipeline.Window.flush
  rw [Bool.and_eq_true, Bool.or_eq_true]
  refine ⟨rfl, ?_⟩
  by_cases h : t.val + 1 = (CF (admOf m hI)).N
  · exact .inl (decide_eq_true h)
  · refine .inr (decide_eq_true ⟨Nat.lt_of_le_of_ne t.isLt h, fun e => ?_⟩)
    have := congrFun e (1 : Fin 2)
    rw [key, key] at this
    dsimp only at this
    omega

theorem write4 (t : Fin (CF (admOf m hI)).N) (G₀ : Vec F S192x30208 .f32) (X : Vec F S192x512 .f32) (n : Fin 192) (J : Fin 30208) :
    ((((CF (admOf m hI)).win (4 : Fin 6)).blk t).view.write (Elt F) G₀ (((CF (admOf m hI)).win (4 : Fin 6)).cut ((CF (admOf m hI)).grid.coords t) X) Finset.univ : Vec F S192x30208 .f32) (ix2 n J)
      = if h : cb K m t.val ≤ J.val ∧ J.val < cb K m t.val + 512 then X (ix2 n ⟨J.val - cb K m t.val, by omega⟩) else G₀ (ix2 n J) := by
  by_cases h : cb K m t.val ≤ J.val ∧ J.val < cb K m t.val + 512
  · rw [dif_pos h]
    have e : ((((CF (admOf m hI)).win (4 : Fin 6)).blk t).view.emb (ix2 n (⟨J.val - cb K m t.val, by omega⟩ : Fin 512))) = (ix2 n J : S192x30208.Idx) :=
      (idx4 m hI t n _).trans (congrArg (ix2 n) (Fin.ext (by show cb K m t.val + (J.val - cb K m t.val) = J.val; omega)))
    have := View.write_emb_of_mem (v := (((CF (admOf m hI)).win (4 : Fin 6)).blk t).view) (Val := Elt F) G₀
      (((CF (admOf m hI)).win (4 : Fin 6)).cut ((CF (admOf m hI)).grid.coords t) X) (Finset.mem_univ (ix2 n (⟨J.val - cb K m t.val, by omega⟩ : Fin 512)))
    rw [e] at this
    exact this
  · rw [dif_neg h]
    refine View.write_of_not_mem (v := (((CF (admOf m hI)).win (4 : Fin 6)).blk t).view) (Val := Elt F) G₀ _ _ (fun hm => h ?_)
    obtain ⟨x, -, hx⟩ := Finset.mem_map.1 hm
    obtain ⟨y0, y1, rfl⟩ : ∃ (y0 : Fin 192) (y1 : Fin 512), x = ix2 y0 y1 := ⟨x (0 : Fin 2), x (1 : Fin 2), by
      funext a
      match a with
      | ⟨0, _⟩ => rfl
      | ⟨1, _⟩ => rfl⟩
    have e := congrArg Fin.val (congrFun ((idx4 m hI t y0 y1).symm.trans hx) (1 : Fin 2))
    have e' : cb K m t.val + y1.val = J.val := e
    have := y1.isLt
    omega

set_option maxHeartbeats 2000000 in
theorem arr4 (c : Dev nD) (Z : Fin 192 → Fin 7680 → Elt F .f32)
    (hout : ∀ (t : Fin (CF (admOf m hI)).N) (ht : (nblkW (naOf m)).toNat ≤ t.val) (X : Vec F S192x512 .f32), (rdat (admOf m hI) (Vm m) (checks_of m hI) c).Leaves (4 : Fin 6) t X →
      ∀ n j, X (ix2 n j) = Z n ⟨(t.val - (nblkW (naOf m)).toNat) * 512 + j.val, by have := t_lt m hI t; omega⟩) :
    ∀ (k : ℕ) (G : Vec F S192x30208 .f32), k ≤ (CF (admOf m hI)).N → (rdat (admOf m hI) (Vm m) (checks_of m hI) c).ArrAt (4 : Fin 6) k G →
      (∀ (n : Fin 192) (J : Fin 30208), (J.val < 7680 * K.val ∨ 7680 * K.val + 7680 ≤ J.val) → G (ix2 n J) = (m ((c.tc : Thread nD τ).loc main_arg6) : Vec F S192x30208 .f32) (ix2 n J))
      ∧ ∀ (n : Fin 192) (j : Fin 7680), j.val / 512 + (nblkW (naOf m)).toNat < k → G (ix2 n ⟨7680 * K.val + j.val, by omega⟩) = Z n j
  | 0, G, hk, hG => by
    have e : G = (m ((c.tc : Thread nD τ).loc main_arg6) : Vec F S192x30208 .f32) := (show G = Vm m c main_v26_0 from hG).trans (Vm_v26_0 m c)
    exact ⟨fun n J _ => by rw [e], fun n j h => absurd h (Nat.not_lt_zero _)⟩
  | k + 1, G, hk, hG => by
    have hlt : k < (CF (admOf m hI)).N := hk
    have ht := t_lt m hI ⟨k, hlt⟩
    have hb := cb_le m hI k ht
    unfold RDat.ArrAt at hG
    dsimp only at hG
    rw [dif_pos hlt] at hG
    by_cases hf : ((CF (admOf m hI)).win (4 : Fin 6)).flush ⟨k, hlt⟩ = true
    · rw [if_pos hf] at hG
      obtain ⟨G₀, X, hG₀, hX, rfl⟩ := hG
      obtain ⟨p, q⟩ := arr4 c Z hout k G₀ (by omega) hG₀
      refine ⟨fun n J hJ => ?_, fun n j hj => ?_⟩
      · refine (write4 m hI ⟨k, hlt⟩ G₀ X n J).trans ?_
        rw [dif_neg (by dsimp only; omega)]
        exact p n J hJ
      · refine (write4 m hI ⟨k, hlt⟩ G₀ X n _).trans ?_
        dsimp only
        by_cases hn : (nblkW (naOf m)).toNat ≤ k
        · by_cases hj' : j.val / 512 + (nblkW (naOf m)).toNat < k
          · rw [dif_neg (by unfold cb; omega)]
            exact q n j hj'
          · rw [dif_pos (by unfold cb; omega), hout ⟨k, hlt⟩ hn X hX n]
            refine congrArg (Z n) (Fin.ext ?_)
            show (k - (nblkW (naOf m)).toNat) * 512 + (7680 * K.val + j.val - cb K m k) = j.val
            unfold cb
            omega
        · omega
    · rw [if_neg hf] at hG
      obtain ⟨p, q⟩ := arr4 c Z hout k G (by omega) hG
      have hn : ¬ (nblkW (naOf m)).toNat ≤ k := fun hn => hf (flush4 m hI ⟨k, hlt⟩ hn)
      exact ⟨p, fun n j hj => by omega⟩

/-! ## Window 5 -/

theorem Vm_v26_1 (c : Dev nD) : Vm m c main_v26_1 = m ((c.tc : Thread nD τ).loc main_arg7) := by
  unfold Vm
  after_reads_simp
  rfl

theorem idx5 (t : Fin (CF (admOf m hI)).N) (n : Fin 6) (j : Fin 512) :
    ((((CF (admOf m hI)).win (5 : Fin 6)).blk t).view.emb (ix2 n j)) = (ix2 n (⟨cb K m t.val + j.val, by have := cb_le m hI t.val (t_lt m hI t); omega⟩ : Fin 30208) : S6x30208.Idx) := by
  have e1 := tr7_eq K (tab_of m) hI ((CF (admOf m hI)).grid.coords t)
  have ec := coord_eq m hI t
  have h2 : ((CF (admOf m hI)).win (5 : Fin 6)).index t = tr7K K inb_S3_S1_0 numel1_S1 (pfOf m) (dynb0 (pfOf m)) ((CF (admOf m hI)).grid.coords t) := rfl
  have i1 : ((CF (admOf m hI)).win (5 : Fin 6)).index t (1 : Fin 2) = 15 * K.val + (((CF (admOf m hI)).grid.coords t 0).val - (nblkW (naOf m)).toNat) := (congrFun h2 1).trans e1
  have i0 : ((CF (admOf m hI)).win (5 : Fin 6)).index t (0 : Fin 2) = 0 := (congrFun h2 0).trans rfl
  funext a
  apply Fin.ext
  match a with
  | ⟨0, _⟩ =>
    have h1 := Pipeline.Window.rect_emb_val ((CF (admOf m hI)).win (5 : Fin 6)) t (ix2 n j) (0 : Fin 2) rfl
    rw [i0, Nat.zero_mul, Nat.zero_add] at h1
    exact h1
  | ⟨1, _⟩ =>
    have h1 := Pipeline.Window.rect_emb_val ((CF (admOf m hI)).win (5 : Fin 6)) t (ix2 n j) (1 : Fin 2) rfl
    have h3 : ((CF (admOf m hI)).win (5 : Fin 6)).size (1 : Fin 2) = 512 := rfl
    rw [i1, h3, ec] at h1
    exact h1

theorem flush5 (t : Fin (CF (admOf m hI)).N) (ht : (nblkW (naOf m)).toNat ≤ t.val) : ((CF (admOf m hI)).win (5 : Fin 6)).flush t = true := by
  have key : ∀ t : Fin (CF (admOf m hI)).N, ((CF (admOf m hI)).win (5 : Fin 6)).index t (1 : Fin 2) = 15 * K.val + (t.val - (nblkW (naOf m)).toNat) := fun t => by
    have e1 := tr7_eq K (tab_of m) hI ((CF (admOf m hI)).grid.coords t)
    have ec := coord_eq m hI t
    have h2 : ((CF (admOf m hI)).win (5 : Fin 6)).index t = tr7K K inb_S3_S1_0 numel1_S1 (pfOf m) (dynb0 (pfOf m)) ((CF (admOf m hI)).grid.coords t) := rfl
    refine ((congrFun h2 1).trans e1).trans ?_
    rw [ec]
  unfold Pipeline.Window.flush
  rw [Bool.and_eq_true, Bool.or_eq_true]
  refine ⟨rfl, ?_⟩
  by_cases h : t.val + 1 = (CF (admOf m hI)).N
  · exact .inl (decide_eq_true h)
  · refine .inr (decide_eq_true ⟨Nat.lt_of_le_of_ne t.isLt h, fun e => ?_⟩)
    have := congrFun e (1 : Fin 2)
    rw [key, key] at this
    dsimp only at this
    omega

theorem write5 (t : Fin (CF (admOf m hI)).N) (G₀ : Vec F S6x30208 .f32) (X : Vec F S6x512 .f32) (n : Fin 6) (J : Fin 30208) :
    ((((CF (admOf m hI)).win (5 : Fin 6)).blk t).view.write (Elt F) G₀ (((CF (admOf m hI)).win (5 : Fin 6)).cut ((CF (admOf m hI)).grid.coords t) X) Finset.univ : Vec F S6x30208 .f32) (ix2 n J)
      = if h : cb K m t.val ≤ J.val ∧ J.val < cb K m t.val + 512 then X (ix2 n ⟨J.val - cb K m t.val, by omega⟩) else G₀ (ix2 n J) := by
  by_cases h : cb K m t.val ≤ J.val ∧ J.val < cb K m t.val + 512
  · rw [dif_pos h]
    have e : ((((CF (admOf m hI)).win (5 : Fin 6)).blk t).view.emb (ix2 n (⟨J.val - cb K m t.val, by omega⟩ : Fin 512))) = (ix2 n J : S6x30208.Idx) :=
      (idx5 m hI t n _).trans (congrArg (ix2 n) (Fin.ext (by show cb K m t.val + (J.val - cb K m t.val) = J.val; omega)))
    have := View.write_emb_of_mem (v := (((CF (admOf m hI)).win (5 : Fin 6)).blk t).view) (Val := Elt F) G₀
      (((CF (admOf m hI)).win (5 : Fin 6)).cut ((CF (admOf m hI)).grid.coords t) X) (Finset.mem_univ (ix2 n (⟨J.val - cb K m t.val, by omega⟩ : Fin 512)))
    rw [e] at this
    exact this
  · rw [dif_neg h]
    refine View.write_of_not_mem (v := (((CF (admOf m hI)).win (5 : Fin 6)).blk t).view) (Val := Elt F) G₀ _ _ (fun hm => h ?_)
    obtain ⟨x, -, hx⟩ := Finset.mem_map.1 hm
    obtain ⟨y0, y1, rfl⟩ : ∃ (y0 : Fin 6) (y1 : Fin 512), x = ix2 y0 y1 := ⟨x (0 : Fin 2), x (1 : Fin 2), by
      funext a
      match a with
      | ⟨0, _⟩ => rfl
      | ⟨1, _⟩ => rfl⟩
    have e := congrArg Fin.val (congrFun ((idx5 m hI t y0 y1).symm.trans hx) (1 : Fin 2))
    have e' : cb K m t.val + y1.val = J.val := e
    have := y1.isLt
    omega

set_option maxHeartbeats 2000000 in
theorem arr5 (c : Dev nD) (Z : Fin 6 → Fin 7680 → Elt F .f32)
    (hout : ∀ (t : Fin (CF (admOf m hI)).N) (ht : (nblkW (naOf m)).toNat ≤ t.val) (X : Vec F S6x512 .f32), (rdat (admOf m hI) (Vm m) (checks_of m hI) c).Leaves (5 : Fin 6) t X →
      ∀ n j, X (ix2 n j) = Z n ⟨(t.val - (nblkW (naOf m)).toNat) * 512 + j.val, by have := t_lt m hI t; omega⟩) :
    ∀ (k : ℕ) (G : Vec F S6x30208 .f32), k ≤ (CF (admOf m hI)).N → (rdat (admOf m hI) (Vm m) (checks_of m hI) c).ArrAt (5 : Fin 6) k G →
      (∀ (n : Fin 6) (J : Fin 30208), (J.val < 7680 * K.val ∨ 7680 * K.val + 7680 ≤ J.val) → G (ix2 n J) = (m ((c.tc : Thread nD τ).loc main_arg7) : Vec F S6x30208 .f32) (ix2 n J))
      ∧ ∀ (n : Fin 6) (j : Fin 7680), j.val / 512 + (nblkW (naOf m)).toNat < k → G (ix2 n ⟨7680 * K.val + j.val, by omega⟩) = Z n j
  | 0, G, hk, hG => by
    have e : G = (m ((c.tc : Thread nD τ).loc main_arg7) : Vec F S6x30208 .f32) := (show G = Vm m c main_v26_1 from hG).trans (Vm_v26_1 m c)
    exact ⟨fun n J _ => by rw [e], fun n j h => absurd h (Nat.not_lt_zero _)⟩
  | k + 1, G, hk, hG => by
    have hlt : k < (CF (admOf m hI)).N := hk
    have ht := t_lt m hI ⟨k, hlt⟩
    have hb := cb_le m hI k ht
    unfold RDat.ArrAt at hG
    dsimp only at hG
    rw [dif_pos hlt] at hG
    by_cases hf : ((CF (admOf m hI)).win (5 : Fin 6)).flush ⟨k, hlt⟩ = true
    · rw [if_pos hf] at hG
      obtain ⟨G₀, X, hG₀, hX, rfl⟩ := hG
      obtain ⟨p, q⟩ := arr5 c Z hout k G₀ (by omega) hG₀
      refine ⟨fun n J hJ => ?_, fun n j hj => ?_⟩
      · refine (write5 m hI ⟨k, hlt⟩ G₀ X n J).trans ?_
        rw [dif_neg (by dsimp only; omega)]
        exact p n J hJ
      · refine (write5 m hI ⟨k, hlt⟩ G₀ X n _).trans ?_
        dsimp only
        by_cases hn : (nblkW (naOf m)).toNat ≤ k
        · by_cases hj' : j.val / 512 + (nblkW (naOf m)).toNat < k
          · rw [dif_neg (by unfold cb; omega)]
            exact q n j hj'
          · rw [dif_pos (by unfold cb; omega), hout ⟨k, hlt⟩ hn X hX n]
            refine congrArg (Z n) (Fin.ext ?_)
            show (k - (nblkW (naOf m)).toNat) * 512 + (7680 * K.val + j.val - cb K m k) = j.val
            unfold cb
            omega
        · omega
    · rw [if_neg hf] at hG
      obtain ⟨p, q⟩ := arr5 c Z hout k G (by omega) hG
      have hn : ¬ (nblkW (naOf m)).toNat ≤ k := fun hn => hf (flush5 m hI ⟨k, hlt⟩ hn)
      exact ⟨p, fun n j hj => by omega⟩

end Cert.KernelIdeal.Units

end
-- ==== Proof.Ref.lean ====
/-
  The references' best of every document of a chunk, read at an index.
-/
module

public import proofs.«01_k».proof.Proof.Gen.ReferenceIdeal.Run
public import proofs.«01_k».proof.Proof.Score
public import Idealize.ShloMosaic.Lib.Pointwise

@[expose] public section

set_option maxRecDepth 16384
set_option maxHeartbeats 4000000

noncomputable section

namespace Cert.RefVal

open Idealize.ShloMosaic Idealize.SL.Sem Idealize.ShloMosaic.TcCoe
open Cert.ReferenceIdeal Cert.ReferenceIdeal.Gen Cert.Score Cert.Words

/-- A maximum over the two middle axes is at most `b` when every element is. -/
theorem reduce_le (x : FVec Ideal S7680x425984x4x192 .f32) (v : FVec Ideal S_ .f32) (row : Fin 7680) (n : Fin 192) (b : EReal) :
    Host.reduce (FloatOps.maximumf (F := Ideal) (φ := .f32)) x v reducesTo_S7680x425984x4x192_S7680x192_d1_2 h_S_ (ix2 row n) ≤ b
      ↔ v (Shape.Idx.first h_S_) ≤ b ∧ ∀ (r : Fin 425984) (t : Fin 4), x (ix4 row r t n) ≤ b := by
  have e : Host.reduce (FloatOps.maximumf (F := Ideal) (φ := .f32)) x v reducesTo_S7680x425984x4x192_S7680x192_d1_2 h_S_ (ix2 row n)
      = (Finset.univ.filter fun i => reducesTo_S7680x425984x4x192_S7680x192_d1_2.drop i = ix2 row n).fold (max : EReal → EReal → EReal) (v (Shape.Idx.first h_S_)) x :=
    Host.reduce_eq_fold (max : EReal → EReal → EReal) x v reducesTo_S7680x425984x4x192_S7680x192_d1_2 h_S_ (ix2 row n)
  rw [e, Finset.fold_max_le]
  refine and_congr_right fun _ => ⟨fun h r t => h _ ?_, fun h i hi => ?_⟩
  · refine Finset.mem_filter.2 ⟨Finset.mem_univ _, ?_⟩
    funext a
    match a with
    | ⟨0, _⟩ => rfl
    | ⟨1, _⟩ => rfl
  · have hd := (Finset.mem_filter.1 hi).2
    have h0 : i 0 = row := congrFun hd 0
    have h3 : i 3 = n := congrFun hd 1
    have := h (i 1) (i 2)
    have ei : ix4 row (i 1) (i 2) n = i := by rw [← h0, ← h3]; exact (eq_ix4 i).symm
    exact le_of_eq_of_le (congrArg x ei.symm) this

/-- The columns of a window in the order of their ranks. -/
theorem gather_at {α : Type} (x : S192x60x128.Idx → α) (idx : IVec S60x128x1 32) (n : Fin 192) (w : Fin 60) (j : Fin 128) :
    Host.gather gather_S192x60x128_S60x128x1_S192x60x128_0_2_1_0_2_2_19211 x idx (ix3 n w j)
      = x (ix3 n w ⟨min (idx (ix3 w j 0)).toInt.toNat 127, by omega⟩) := by
  set d := gather_S192x60x128_S60x128x1_S192x60x128_0_2_1_0_2_2_19211 with hd
  unfold Host.gather
  congr 1
  funext a
  refine Fin.ext ?_
  show d.start (ix3 n w j) idx a + d.batchCoord (ix3 n w j) a + d.offCoord (ix3 n w j) a = _
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · have h1 : d.start (ix3 n w j) idx 0 = 0 := by
      unfold GatherDims.start; exact dif_neg (by decide)
    have h2 : d.batchCoord (ix3 n w j) 0 = 0 := GatherDims.batchCoord_eq_zero _ _ _ (by decide)
    have h3 : d.offCoord (ix3 n w j) 0 = n.val := by
      unfold GatherDims.offCoord; rw [dif_pos (by decide)]; rfl
    rw [h1, h2, h3]; simp
  · have h1 : d.start (ix3 n w j) idx 1 = 0 := GatherDims.start_batching _ _ _ _ (by decide)
    have h2 : d.batchCoord (ix3 n w j) 1 = w.val := by
      unfold GatherDims.batchCoord; rw [dif_pos (by decide)]; rfl
    have h3 : d.offCoord (ix3 n w j) 1 = 0 := GatherDims.offCoord_eq_zero _ _ _ (by decide)
    rw [h1, h2, h3]; simp
  · have h2 : d.batchCoord (ix3 n w j) 2 = 0 := GatherDims.batchCoord_eq_zero _ _ _ (by decide)
    have h3 : d.offCoord (ix3 n w j) 2 = 0 := GatherDims.offCoord_eq_zero _ _ _ (by decide)
    rw [h2, h3]
    simp only [Nat.add_zero]
    unfold GatherDims.start
    rw [dif_pos (by decide)]
    have hsi : d.siIdx (ix3 n w j) ⟨List.idxOf (2 : Fin 3) d.startIndexMap, List.idxOf_lt_length_iff.2 (by decide)⟩ = ix3 w j 0 := by
      funext b; refine Fin.ext ?_
      match b with
      | ⟨0, _⟩ => rfl
      | ⟨1, _⟩ => rfl
      | ⟨2, _⟩ => rfl
    rw [hsi]
    rfl

/-- The chunk's destination words are a part of all of them. -/
theorem slicesK (K : Fin 3) : S212992.Slices ![53248 * K.val] S53248 := by
  revert K; decide

theorem win_at {α : Type} (y : S7680x192.Idx → α) (n : Fin 192) (w : Fin 60) (q : Fin 128) :
    shapeCast S192x60x128 (transpose S192x7680 [1, 0] y transposes_S7680x192_S192x7680_1_0) shapeCasts_S192x7680_S192x60x128 (ix3 n w q)
      = y (ix2 ⟨128 * w.val + q.val, by omega⟩ n) := by
  pointwise
  exact congrArg (fun k => y (ix2 k n)) (Fin.ext (by show w.val * 128 + q.val = 128 * w.val + q.val; omega))

theorem rank_at (k : IVec S60x128 32) (w : Fin 60) (q : Fin 128) (hk : (k (ix2 w q)).toNat < 128) :
    shapeCast S60x128x1 (select (cmpi .slt (broadcastInDim S1x60x128 ![1, 2] bcast_S60x128_S1x60x128_1_2 k) (broadcastInDim S1x60x128 ![] bcast_S_S1x60x128 (constantI S_ 32 0#32)))
      (addi (broadcastInDim S1x60x128 ![1, 2] bcast_S60x128_S1x60x128_1_2 k) (broadcastInDim S1x60x128 ![] bcast_S_S1x60x128 (constantI S_ 32 128#32)))
      (broadcastInDim S1x60x128 ![1, 2] bcast_S60x128_S1x60x128_1_2 k)) shapeCasts_S1x60x128_S60x128x1 (ix3 w q 0) = k (ix2 w q) := by
  pointwise
  have h : IntOp.cmpi .slt (k (ix2 w q)) 0#32 = 0#1 := by
    have : (k (ix2 w q)).slt 0#32 = false := by
      rw [BitVec.slt_eq_decide, BitVec.toInt_eq_toNat_of_lt (by omega)]; simp
    simp only [IntOp.cmpi, this]; rfl
  rw [h]; exact if_neg (by decide)

theorem mine_at (slot : IVec S425984 32) (p : FVec Ideal S425984x4x192 .f32) (row : Fin 7680) (r : Fin 425984) (t : Fin 4) (n : Fin 192) :
    (select (broadcastInDim S7680x425984x4x192 ![0, 1, 2, 3] bcast_S7680x425984x1x1_S7680x425984x4x192_0_1_2_3 (broadcastInDim S7680x425984x1x1 ![0, 1] bcast_S7680x425984_S7680x425984x1x1_0_1
      (cmpi .eq (broadcastInDim S7680x425984 ![0, 1] bcast_S1x425984_S7680x425984_0_1 (broadcastInDim S1x425984 ![1] bcast_S425984_S1x425984_1 slot))
        (broadcastInDim S7680x425984 ![0, 1] bcast_S7680x1_S7680x425984_0_1 (broadcastInDim S7680x1 ![0] bcast_S7680_S7680x1_0 (iotaInDim S7680 32 0))))))
      (broadcastInDim S7680x425984x4x192 ![0, 1, 2, 3] bcast_S1x425984x4x192_S7680x425984x4x192_0_1_2_3 (broadcastInDim S1x425984x4x192 ![1, 2, 3] bcast_S425984x4x192_S1x425984x4x192_1_2_3 p))
      (broadcastInDim S7680x425984x4x192 ![] bcast_S_S7680x425984x4x192 (id (constant (F := Ideal) S_ .f32 0x00000000#32))) : FVec Ideal S7680x425984x4x192 .f32) (ix4 row r t n)
      = if slot (ix1 r) = BitVec.ofNat 32 row.val then p (ix3 r t n) else (0 : EReal) := by
  pointwise
  have z : (id (constant (F := Ideal) S_ .f32 0x00000000#32)) ix0 = (0 : EReal) := Ideal.ofBits_zero_f32
  rw [z]
  by_cases h : slot (ix1 r) = BitVec.ofNat 32 row.val
  · rw [if_pos h]; exact if_pos (IntOp.cmpi_eq.2 h)
  · rw [if_neg h]; exact if_neg (fun h' => h (IntOp.cmpi_eq.1 h'))

theorem slot_at (K : Fin 3) (D : IVec S212992 32) (nn na : IVec S_ 32) (r : Fin 425984) (hn : (nn ix0).toNat ≤ 53248) (ha : (na ix0).toNat ≤ 53248) :
  (select (cmpi .slt (Host.shrsi (iotaInDim S425984 32 0) (broadcastInDim S425984 ![] bcast_S_S425984 (constantI S_ 32 3#32)))
     (broadcastInDim S425984 ![] bcast_S_S425984 nn))
   (addi (shapeCast S425984 (broadcastInDim S53248x8 ![0] bcast_S53248_S53248x8_0 (Host.shrsi (extractStridedSlice S53248 ![53248 * K.val] D (slicesK K))
       (broadcastInDim S53248 ![] bcast_S_S53248 (constantI S_ 32 1#32)))) shapeCasts_S53248x8_S425984)
       (andi (iotaInDim S425984 32 0) (broadcastInDim S425984 ![] bcast_S_S425984 (constantI S_ 32 7#32))))
   (select (cmpi .slt (Host.shrsi (iotaInDim S425984 32 0) (broadcastInDim S425984 ![] bcast_S_S425984 (constantI S_ 32 3#32)))
        (broadcastInDim S425984 ![] bcast_S_S425984 na))
        (shapeCast S425984 (broadcastInDim S53248x8 ![0] bcast_S53248_S53248x8_0 (Host.shrsi (extractStridedSlice S53248 ![53248 * K.val] D (slicesK K))
                                      (broadcastInDim S53248 ![] bcast_S_S53248 (constantI S_ 32 1#32)))) shapeCasts_S53248x8_S425984)
         (broadcastInDim S425984 ![] bcast_S_S425984 (id (constantI S_ 32 4294967295#32))))) (ix1 r) = slotOf K D (nn ix0).toNat (na ix0).toNat r.val := by
  pointwise
  rw [shr3 _ r.isLt, and7 _ r.isLt, shr_one, slt_nat _ (by omega) _ hn, slt_nat _ (by omega) _ ha]
  have hw : wordOf K D (r.val / 8) = D (ix1 ⟨53248 * K.val + r.val / 8, by omega⟩) := (wordOf_lt K D (by omega)).trans rfl
  rw [slotOf, hw]
  by_cases h1 : r.val / 8 < (nn ix0).toNat
  · simp only [if_pos h1]; exact if_pos rfl
  · simp only [if_neg h1]
    refine (if_neg (by decide)).trans ?_
    by_cases h2 : r.val / 8 < (na ix0).toNat
    · simp only [if_pos h2]; exact if_pos rfl
    · simp only [if_neg h2]; exact (if_neg (by decide)).trans rfl

theorem p_at (X : IVec S425984x128 32) (Q : FVec Ideal S6x32x64 .bf16) (r : Fin 425984) (t : Fin 4) (n : Fin 192) :
    (maximumf (subf (Host.dotGeneral dot_S425984x4x64_S192x64_S425984x4x192_2_1_01_0_n_n none
                            (concatenate S425984x4x64 2
                              [⟨S425984x4x32,
                                  shapeCast S425984x4x32
                                    (truncf FTy.bf16
                                      (bitcastToFloat FTy.f32
                                        (Host.shli X
                                          (broadcastInDim S425984x128 ![] bcast_S_S425984x128 (constantI S_ 32 16#32))))
                                      bitsLt_bf16_f32)
                                    shapeCasts_S425984x128_S425984x4x32⟩,
                                ⟨S425984x4x32,
                                  shapeCast S425984x4x32
                                    (truncf FTy.bf16
                                      (bitcastToFloat FTy.f32
                                        (andi X
                                          (broadcastInDim S425984x128 ![] bcast_S_S425984x128
                                            (constantI S_ 32 4294901760#32))))
                                      bitsLt_bf16_f32)
                                    shapeCasts_S425984x128_S425984x4x32⟩]
                              concatenates_S425984x4x32_S425984x4x32_S425984x4x64_d2)
                            (shapeCast S192x64 Q shapeCasts_S6x32x64_S192x64))
                          (broadcastInDim S425984x4x192 ![] bcast_S_S425984x4x192 (constant S_ FTy.f32 1055286886#32)))
                        (broadcastInDim S425984x4x192 ![] bcast_S_S425984x4x192 (constant S_ FTy.f32 0#32)) : FVec Ideal S425984x4x192 .f32) (ix3 r t n) = max (score X Q r t n - cut) 0 := by
  pointwise
  simp only [shli_host]
  rfl

/-- The slot of every row. -/
def SL (K : Fin 3) (x1 : IVec S212992 32) (x4 : IVec S_ 32) (x5 : IVec S_ 32) : IVec S425984 32 := (select (cmpi .slt (Host.shrsi (iotaInDim S425984 32 0) (broadcastInDim S425984 ![] bcast_S_S425984 (constantI S_ 32 3#32))) (broadcastInDim S425984 ![] bcast_S_S425984 x4)) (addi (shapeCast _ (broadcastInDim S53248x8 ![0] bcast_S53248_S53248x8_0 (Host.shrsi (extractStridedSlice S53248 ![53248 * K.val] x1 (slicesK K)) (broadcastInDim S53248 ![] bcast_S_S53248 (constantI S_ 32 1#32)))) shapeCasts_S53248x8_S425984) (andi (iotaInDim S425984 32 0) (broadcastInDim S425984 ![] bcast_S_S425984 (constantI S_ 32 7#32)))) (select (cmpi .slt (Host.shrsi (iotaInDim S425984 32 0) (broadcastInDim S425984 ![] bcast_S_S425984 (constantI S_ 32 3#32))) (broadcastInDim S425984 ![] bcast_S_S425984 x5)) (shapeCast _ (broadcastInDim S53248x8 ![0] bcast_S53248_S53248x8_0 (Host.shrsi (extractStridedSlice S53248 ![53248 * K.val] x1 (slicesK K)) (broadcastInDim S53248 ![] bcast_S_S53248 (constantI S_ 32 1#32)))) shapeCasts_S53248x8_S425984) (broadcastInDim S425984 ![] bcast_S_S425984 (id (constantI S_ 32 4294967295#32)))))
/-- What a score counts for. -/
def PP (x0 : IVec S425984x128 32) (x2 : FVec Ideal S6x32x64 .bf16) : FVec Ideal S425984x4x192 .f32 := (maximumf (subf (Host.dotGeneral dot_S425984x4x64_S192x64_S425984x4x192_2_1_01_0_n_n none (concatenate S425984x4x64 2 [⟨S425984x4x32, (shapeCast _ (truncf .bf16 (bitcastToFloat (F := Ideal) .f32 (Host.shli x0 (broadcastInDim S425984x128 ![] bcast_S_S425984x128 (constantI S_ 32 16#32)))) bitsLt_bf16_f32) shapeCasts_S425984x128_S425984x4x32)⟩, ⟨S425984x4x32, (shapeCast _ (truncf .bf16 (bitcastToFloat (F := Ideal) .f32 (andi x0 (broadcastInDim S425984x128 ![] bcast_S_S425984x128 (constantI S_ 32 4294901760#32)))) bitsLt_bf16_f32) shapeCasts_S425984x128_S425984x4x32)⟩] concatenates_S425984x4x32_S425984x4x32_S425984x4x64_d2) (shapeCast _ x2 shapeCasts_S6x32x64_S192x64)) (broadcastInDim S425984x4x192 ![] bcast_S_S425984x4x192 (constant S_ .f32 0x3EE66666#32))) (broadcastInDim S425984x4x192 ![] bcast_S_S425984x4x192 (constant S_ .f32 0x00000000#32)))
/-- The best of every slot. -/
def B (K : Fin 3) (x0 : IVec S425984x128 32) (x1 : IVec S212992 32) (x2 : FVec Ideal S6x32x64 .bf16) (x4 : IVec S_ 32) (x5 : IVec S_ 32) : FVec Ideal S7680x192 .f32 := (Host.reduce FloatOps.maximumf (select (broadcastInDim S7680x425984x4x192 ![0, 1, 2, 3] bcast_S7680x425984x1x1_S7680x425984x4x192_0_1_2_3 (broadcastInDim S7680x425984x1x1 ![0, 1] bcast_S7680x425984_S7680x425984x1x1_0_1 (cmpi .eq (broadcastInDim S7680x425984 ![0, 1] bcast_S1x425984_S7680x425984_0_1 (broadcastInDim S1x425984 ![1] bcast_S425984_S1x425984_1 (SL K x1 x4 x5))) (broadcastInDim S7680x425984 ![0, 1] bcast_S7680x1_S7680x425984_0_1 (broadcastInDim S7680x1 ![0] bcast_S7680_S7680x1_0 (iotaInDim S7680 32 0)))))) (broadcastInDim S7680x425984x4x192 ![0, 1, 2, 3] bcast_S1x425984x4x192_S7680x425984x4x192_0_1_2_3 (broadcastInDim S1x425984x4x192 ![1, 2, 3] bcast_S425984x4x192_S1x425984x4x192_1_2_3 (PP x0 x2))) (broadcastInDim S7680x425984x4x192 ![] bcast_S_S7680x425984x4x192 (id (constant S_ .f32 0x00000000#32)))) (constant S_ .f32 0xFF800000#32) reducesTo_S7680x425984x4x192_S7680x192_d1_2 h_S_)
/-- The best of every document of the chunk. -/
def Y (K : Fin 3) (x0 : IVec S425984x128 32) (x1 : IVec S212992 32) (x2 : FVec Ideal S6x32x64 .bf16) (x3 : IVec S60x128 32) (x4 : IVec S_ 32) (x5 : IVec S_ 32) : FVec Ideal S192x7680 .f32 := (shapeCast _ (Host.gather gather_S192x60x128_S60x128x1_S192x60x128_0_2_1_0_2_2_19211 (shapeCast _ (transpose S192x7680 [1, 0] (B K x0 x1 x2 x4 x5) transposes_S7680x192_S192x7680_1_0) shapeCasts_S192x7680_S192x60x128) (shapeCast _ (select (cmpi .slt (broadcastInDim S1x60x128 ![1, 2] bcast_S60x128_S1x60x128_1_2 x3) (broadcastInDim S1x60x128 ![] bcast_S_S1x60x128 (constantI S_ 32 0#32))) (addi (broadcastInDim S1x60x128 ![1, 2] bcast_S60x128_S1x60x128_1_2 x3) (broadcastInDim S1x60x128 ![] bcast_S_S1x60x128 (constantI S_ 32 128#32))) (broadcastInDim S1x60x128 ![1, 2] bcast_S60x128_S1x60x128_1_2 x3)) shapeCasts_S1x60x128_S60x128x1)) shapeCasts_S192x60x128_S192x7680)

theorem SL_at (K : Fin 3) (x1 : IVec S212992 32) (x4 : IVec S_ 32) (x5 : IVec S_ 32) (r : Fin 425984) (hn : (x4 ix0).toNat ≤ 53248)
    (ha : (x5 ix0).toNat ≤ 53248) :
    SL K x1 x4 x5 (ix1 r) = slotOf K x1 (x4 ix0).toNat
      (x5 ix0).toNat r.val := slot_at _ _ _ _ r hn ha

theorem PP_at (x0 : IVec S425984x128 32) (x2 : FVec Ideal S6x32x64 .bf16) (r : Fin 425984) (t : Fin 4) (n : Fin 192) : PP x0 x2 (ix3 r t n)
    = max (score x0 x2 r t n - cut) 0 := p_at _ _ r t n

theorem B_le (K : Fin 3) (x0 : IVec S425984x128 32) (x1 : IVec S212992 32) (x2 : FVec Ideal S6x32x64 .bf16) (x4 : IVec S_ 32) (x5 : IVec S_ 32) (row : Fin 7680) (n : Fin 192) (b : EReal) : B K x0 x1 x2 x4 x5 (ix2 row n) ≤ b
    ↔ bot ≤ b ∧ ∀ (r : Fin 425984) (t : Fin 4), (if SL K x1 x4 x5 (ix1 r) = BitVec.ofNat 32 row.val then PP x0 x2 (ix3 r t n) else (0 : EReal)) ≤ b := by
  unfold B
  rw [reduce_le]
  refine and_congr (Iff.of_eq rfl) (forall_congr' fun r => forall_congr' fun t => ?_)
  rw [mine_at]

theorem Y_at (K : Fin 3) (x0 : IVec S425984x128 32) (x1 : IVec S212992 32) (x2 : FVec Ideal S6x32x64 .bf16) (x3 : IVec S60x128 32) (x4 : IVec S_ 32) (x5 : IVec S_ 32) (n : Fin 192) (j : Fin 7680) (hk : ∀ w q, (x3 (ix2 w q)).toNat < 128) :
    Y K x0 x1 x2 x3 x4 x5 (ix2 n j) = B K x0 x1 x2 x4 x5 (ix2 ⟨128 * (j.val / 128) + (x3 (ix2 ⟨j.val / 128, by omega⟩ ⟨j.val % 128, by omega⟩)).toNat,
      by have := hk ⟨j.val / 128, by omega⟩ ⟨j.val % 128, by omega⟩; omega⟩ n) := by
  unfold Y
  generalize B K x0 x1 x2 x4 x5 = y
  have e : ∀ (x : FVec Ideal S192x60x128 .f32), shapeCast S192x7680 x shapeCasts_S192x60x128_S192x7680 (ix2 n j) = x (ix3 n ⟨j.val / 128, by omega⟩ ⟨j.val % 128, by omega⟩) := by
    intro x; pointwise
  rw [e, gather_at, win_at]
  have hq := hk ⟨j.val / 128, by omega⟩ ⟨j.val % 128, by omega⟩
  refine congrArg (fun k => y (ix2 k n)) (Fin.ext ?_)
  dsimp only
  rw [rank_at _ _ _ hq, BitVec.toInt_eq_toNat_of_lt (by omega)]
  omega

end Cert.RefVal

end
-- ==== Proof.Values.lean ====
/-
  What the results hold: the kernel's arrays and the reference's, element by element.
-/
module

public import proofs.«01_k».proof.Proof.Finish
public import proofs.«01_k».proof.Proof.Arr
public import proofs.«01_k».proof.Proof.Ref

@[expose] public section

set_option maxRecDepth 16384

noncomputable section

namespace Cert.KernelIdeal.Units

open Idealize.ShloMosaic Idealize.ShloMosaic.TcCoe Idealize.SL.Sem Cert.KernelIdeal.Gen Cert.Words Cert.Score
open Idealize.ShloMosaic.Pipeline (RDat Cfg Window)

variable (m : (ℓ : Loc nD τ sig) → Buf (Elt Ideal) ℓ)
variable {K : Fin 3} (hI : InB (nnOf m) (naOf m) (wdOf K m)) (hG : Grp (nnOf m).toNat (wdOf K m))

/-! ## The kernel's blocks -/

section blocks
variable (hK : ∀ w q, (kOf m (ix2 w q)).toNat < 128) (Z : Fin 192 → Fin 7680 → EReal) (hZ : ∀ n j, IsTop m hI hG (rowAt m j) n (Z n j))

include hK hZ in
theorem win_eq (c : Dev nD) (t : Fin (CF (admOf m hI)).N) (hw : k0_chk130 (gi (admOf m hI) t) (nblkW (naOf m)))
    (h5 : k0_cond5 (gi (admOf m hI) t) (nblkW (naOf m)) = 1#1) (ht : (nblkW (naOf m)).toNat ≤ t.val) (σ : St Ideal) (hr : Reach (admOf m hI) (Vm m) c (t.val + 1) σ)
    (r : Fin 4) (n : Fin 192) (j : Fin 512) (hj : j.val / 128 = r.val) :
    winOf (gi (admOf m hI) t) (nblkW (naOf m)) hw h5 σ.acc (kOf m) r (ix2 n ⟨j.val % 128, by omega⟩)
      = Z n ⟨(t.val - (nblkW (naOf m)).toNat) * 512 + j.val, by have := t_lt m hI t; omega⟩ := by
  have hlt := t_lt m hI t
  refine IsTop.unique m hI hG (win_isTop m hI hG hK c t hw h5 ht σ hr r n ⟨j.val % 128, by omega⟩ ⟨(t.val - (nblkW (naOf m)).toNat) * 512 + j.val, by omega⟩ ?_) (hZ _ _)
  show (t.val - (nblkW (naOf m)).toNat) * 512 + j.val = ((t.val - (nblkW (naOf m)).toNat) * 4 + r.val) * 128 + j.val % 128
  omega

include hK hZ in
theorem out8_eq (c : Dev nD) (t : Fin (CF (admOf m hI)).N) (ht : (nblkW (naOf m)).toNat ≤ t.val) (σ : St Ideal) (hr : Reach (admOf m hI) (Vm m) c (t.val + 1) σ)
    (v0 : BitVec 32) (hv : v0 = nblkW (naOf m)) (hw : k0_chk130 (gi (admOf m hI) t) v0) (Y : Vec Ideal S192x512 .f32) (n : Fin 192) (j : Fin 512) :
    out8 (gi (admOf m hI) t) v0 hw σ.acc (kOf m) Y (ix2 n j) = Z n ⟨(t.val - (nblkW (naOf m)).toNat) * 512 + j.val, by have := t_lt m hI t; omega⟩ := by
  subst hv
  have hlt := t_lt m hI t
  have hb := nblk_bounds hI
  have eg := gi_toNat m hI t
  rw [coord_eq] at eg
  have h5 : k0_cond5 (gi (admOf m hI) t) (nblkW (naOf m)) = 1#1 := (cond5_iff (by omega) (by omega)).2 (by omega)
  unfold out8
  rw [dif_pos h5, fin8_at _ _ hw h5 σ.acc (kOf m) Y n j ⟨j.val / 128, by omega⟩ rfl]
  exact win_eq m hI hG hK Z hZ c t hw h5 ht σ hr _ n j rfl

include hK hZ in
theorem out9_eq (c : Dev nD) (t : Fin (CF (admOf m hI)).N) (ht : (nblkW (naOf m)).toNat ≤ t.val) (σ : St Ideal) (hr : Reach (admOf m hI) (Vm m) c (t.val + 1) σ)
    (v0 : BitVec 32) (hv : v0 = nblkW (naOf m)) (hw : k0_chk130 (gi (admOf m hI) t) v0) (Y : Vec Ideal S6x512 .f32) (n : Fin 6) (j : Fin 512) :
    out9 (gi (admOf m hI) t) v0 hw σ.acc (kOf m) Y (ix2 n j)
      = ∑ x : Fin 32, Z ⟨n.val * 32 + x.val, by omega⟩ ⟨(t.val - (nblkW (naOf m)).toNat) * 512 + j.val, by have := t_lt m hI t; omega⟩ := by
  subst hv
  have hlt := t_lt m hI t
  have hb := nblk_bounds hI
  have eg := gi_toNat m hI t
  rw [coord_eq] at eg
  have h5 : k0_cond5 (gi (admOf m hI) t) (nblkW (naOf m)) = 1#1 := (cond5_iff (by omega) (by omega)).2 (by omega)
  unfold out9
  rw [dif_pos h5, fin9_at _ _ hw h5 σ.acc (kOf m) Y n j ⟨j.val / 128, by omega⟩ rfl]
  refine (finSum_at _ n _).trans (Finset.sum_congr rfl fun x _ => ?_)
  exact win_eq m hI hG hK Z hZ c t hw h5 ht σ hr _ _ j rfl

/-! ## The kernel's arrays -/

include hK hZ in
theorem final4 (c : Dev nD) (G : Vec Ideal S192x30208 .f32) (hA : (rdat (admOf m hI) (Vm m) (checks_of m hI) c).ArrAt (4 : Fin 6) (CF (admOf m hI)).N G)
    (n : Fin 192) (J : Fin 30208) : G (ix2 n J) = if h : J.val < 7680 * K.val then (m ((c.tc : Thread nD τ).loc main_arg6) : Vec Ideal S192x30208 .f32) (ix2 n J)
      else if h' : J.val < 7680 * K.val + 7680 then Z n ⟨J.val - 7680 * K.val, by omega⟩ else (m ((c.tc : Thread nD τ).loc main_arg6) : Vec Ideal S192x30208 .f32) (ix2 n J) := by
  obtain ⟨p, q⟩ := arr4 m hI c Z (fun t ht X hX n j => by
    obtain ⟨Y, -, σ, hr, e⟩ := hX
    rw [kB_eq] at e
    rw [e]
    exact out8_eq m hI hG hK Z hZ c t ht σ hr _ (ct0_of m hI) _ Y n j) _ G le_rfl hA
  by_cases h : J.val < 7680 * K.val
  · rw [dif_pos h]; exact p n J (.inl h)
  · rw [dif_neg h]
    by_cases h' : J.val < 7680 * K.val + 7680
    · rw [dif_pos h']
      have hN : (CF (admOf m hI)).N = (nblkW (naOf m)).toNat + 15 := N_at (tab_of m) hI
      have := q n ⟨J.val - 7680 * K.val, by omega⟩ (by dsimp only; omega)
      rw [← this]
      exact congrArg G (congrArg (ix2 n) (Fin.ext (by show J.val = 7680 * K.val + (J.val - 7680 * K.val); omega)))
    · rw [dif_neg h']; exact p n J (.inr (by omega))

include hK hZ in
theorem final5 (c : Dev nD) (G : Vec Ideal S6x30208 .f32) (hA : (rdat (admOf m hI) (Vm m) (checks_of m hI) c).ArrAt (5 : Fin 6) (CF (admOf m hI)).N G)
    (n : Fin 6) (J : Fin 30208) : (show EReal from G (ix2 n J)) = if h : J.val < 7680 * K.val then (show EReal from (m ((c.tc : Thread nD τ).loc main_arg7) : Vec Ideal S6x30208 .f32) (ix2 n J))
      else if h' : J.val < 7680 * K.val + 7680 then ∑ x : Fin 32, Z ⟨n.val * 32 + x.val, by omega⟩ ⟨J.val - 7680 * K.val, by omega⟩ else (show EReal from (m ((c.tc : Thread nD τ).loc main_arg7) : Vec Ideal S6x30208 .f32) (ix2 n J)) := by
  obtain ⟨p, q⟩ := arr5 m hI c (fun n j => ∑ x : Fin 32, Z ⟨n.val * 32 + x.val, by omega⟩ j) (fun t ht X hX n j => by
    obtain ⟨Y, -, σ, hr, e⟩ := hX
    rw [kB_eq] at e
    rw [e]
    exact out9_eq m hI hG hK Z hZ c t ht σ hr _ (ct0_of m hI) _ Y n j) _ G le_rfl hA
  by_cases h : J.val < 7680 * K.val
  · rw [dif_pos h]; exact p n J (.inl h)
  · rw [dif_neg h]
    by_cases h' : J.val < 7680 * K.val + 7680
    · rw [dif_pos h']
      have hN : (CF (admOf m hI)).N = (nblkW (naOf m)).toNat + 15 := N_at (tab_of m) hI
      have := q n ⟨J.val - 7680 * K.val, by omega⟩ (by dsimp only; omega)
      refine Eq.trans ?_ this
      exact congrArg G (congrArg (ix2 n) (Fin.ext (by show J.val = 7680 * K.val + (J.val - 7680 * K.val); omega)))
    · rw [dif_neg h']; exact p n J (.inr (by omega))

end blocks

/-! ## The reference -/

theorem slot_hit (r : ℕ) (hr : r < 425984) (row : ℕ) (hrow : row < 7680) :
    slotOf K (m ((0 : Dev nD).tc.loc main_arg1) : IVec S212992 32) (nnOf m).toNat (naOf m).toNat r = BitVec.ofNat 32 row ↔ (lst m hI hG).Hit (r / 8) (r % 8) row := by
  have hit : (lst m hI hG).Hit (r / 8) (r % 8) row ↔ (r / 8 < (nnOf m).toNat ∧ (rowW (wdOf K m (r / 8))).toNat + r % 8 = row)
    ∨ ((nnOf m).toNat ≤ r / 8 ∧ r / 8 < (naOf m).toNat ∧ (rowW (wdOf K m (r / 8))).toNat = row) := Iff.rfl
  rw [hit]
  have hle := hI.nn_le
  have e2 : (BitVec.ofNat 32 row).toNat = row := by rw [BitVec.toNat_ofNat]; omega
  unfold slotOf
  by_cases h1 : r / 8 < (nnOf m).toNat
  · rw [if_pos h1]
    have hb := (hI.norm _ h1).1
    have e3 : (rowW (wdOf K m (r / 8)) + BitVec.ofNat 32 (r % 8)).toNat = (rowW (wdOf K m (r / 8))).toNat + r % 8 := by
      rw [BitVec.toNat_add, BitVec.toNat_ofNat]; omega
    rw [← BitVec.toNat_inj, e2]
    refine (Iff.of_eq (congrArg (· = row) e3)).trans ?_
    omega
  · rw [if_neg h1]
    by_cases h2 : r / 8 < (naOf m).toNat
    · rw [if_pos h2, ← BitVec.toNat_inj, e2]
      show (rowW (wdOf K m (r / 8))).toNat = row ↔ _
      omega
    · rw [if_neg h2, ← BitVec.toNat_inj, e2]
      have : (4294967295#32 : BitVec 32).toNat = 4294967295 := by decide
      omega

theorem ref_isTop (x0 : IVec S425984x128 32) (x1 : IVec S212992 32) (x2 : FVec Ideal S6x32x64 .bf16) (x3 : IVec S60x128 32) (x4 x5 : IVec S_ 32)
    (h0 : x0 = xOf m) (h1 : x1 = (m ((0 : Dev nD).tc.loc main_arg1) : IVec S212992 32)) (h2 : x2 = qOf m)
    (h3 : x3 = kOf m) (h4 : x4 Idealize.ShloMosaic.ix0 = nnOf m) (h5 : x5 Idealize.ShloMosaic.ix0 = naOf m)
    (hK : ∀ w q, (kOf m (ix2 w q)).toNat < 128) (n : Fin 192) (j : Fin 7680) : IsTop m hI hG (rowAt m j) n (RefVal.Y K x0 x1 x2 x3 x4 x5 (ix2 n j)) := fun b => by
  have hle := hI.nn_le
  have hcap := hI.le_cap
  have hk : ∀ w q, (x3 (ix2 w q)).toNat < 128 := fun w q => by rw [h3]; exact hK w q
  have hrow : rowAt m j < 7680 := by
    have := hK ⟨j.val / 128, by omega⟩ ⟨j.val % 128, by omega⟩
    unfold rowAt
    omega
  have er : 128 * (j.val / 128) + (x3 (ix2 ⟨j.val / 128, by omega⟩ ⟨j.val % 128, by omega⟩)).toNat = rowAt m j := by
    rw [h3, Nat.mul_comm]; rfl
  rw [RefVal.Y_at K x0 x1 x2 x3 x4 x5 n j hk, RefVal.B_le, bot_eq]
  have step : ∀ (r : Fin 425984) (t : Fin 4),
      (if RefVal.SL K x1 x4 x5 (ix1 r) = BitVec.ofNat 32 (128 * (j.val / 128) + (x3 (ix2 ⟨j.val / 128, by omega⟩ ⟨j.val % 128, by omega⟩)).toNat) then RefVal.PP x0 x2 (ix3 r t n) else (0 : EReal)) ≤ b
      ↔ 0 ≤ b ∧ ((lst m hI hG).Hit (r.val / 8) (r.val % 8) (rowAt m j) → score (xOf m) (qOf m) r t n - cut ≤ b) := fun r t => by
    rw [er, RefVal.SL_at K x1 x4 x5 r (by rw [h4]; omega) (by rw [h5]; exact hcap), RefVal.PP_at, h0, h1, h2, h4, h5]
    have hs := slot_hit m hI hG r.val r.isLt (rowAt m j) hrow
    by_cases h : (lst m hI hG).Hit (r.val / 8) (r.val % 8) (rowAt m j)
    · rw [if_pos (hs.2 h), max_le_iff, and_comm]
      exact and_congr_right fun _ => ⟨fun x _ => x, fun x => x h⟩
    · rw [if_neg (fun x => h (hs.1 x))]
      exact ⟨fun x => ⟨x, fun y => absurd y h⟩, fun x => x.1⟩
  constructor
  · rintro ⟨-, h⟩
    have hh := fun r t => (step r t).1 (h r t)
    exact ⟨(hh 0 0).1, fun r hit t => (hh r t).2 hit⟩
  · rintro ⟨hb, h⟩
    exact ⟨bot_le, fun r t => (step r t).2 ⟨hb, fun hit => h r hit t⟩⟩

end Cert.KernelIdeal.Units

end
-- ==== Proof.Join.lean ====
/-
  The kernel's run, with what its results hold.
-/
module

public import proofs.«01_k».proof.Proof.Values

@[expose] public section

set_option maxRecDepth 16384

noncomputable section

namespace Cert.KernelIdeal.Units

open Idealize.ShloMosaic Idealize.ShloMosaic.TcCoe Idealize.SL.Sem Cert.KernelIdeal.Gen Cert.Words Cert.Score
open Idealize.ShloMosaic.Pipeline (RDat Cfg Window)

variable (m : (ℓ : Loc nD τ sig) → Buf (Elt Ideal) ℓ) (g : Dev nD → PrngReg)
variable {K : Fin 3} (hI : InB (nnOf m) (naOf m) (wdOf K m)) (hG : Grp (nnOf m).toNat (wdOf K m))

theorem ext2 {A B : ℕ} {α : Type} {X Y : (⟨2, ![A, B]⟩ : Shape).Idx → α} (h : ∀ i j, X (ix2 i j) = Y (ix2 i j)) : X = Y := by
  funext x
  have hx : x = ix2 (x (0 : Fin 2)) (x (1 : Fin 2)) := by
    funext a
    match a with
    | ⟨0, _⟩ => rfl
    | ⟨1, _⟩ => rfl
  rw [hx]
  exact h _ _

include hI hG in
theorem value_of (hK : ∀ w q, (kOf m (ix2 w q)).toNat < 128) (Z : Fin 192 → Fin 7680 → EReal) (hZ : ∀ n j, IsTop m hI hG (rowAt m j) n (Z n j))
    (R0 : Dev nD → Vec Ideal S192x30208 .f32) (R1 : Dev nD → Vec Ideal S6x30208 .f32)
    (h0 : ∀ c n (J : Fin 30208), R0 c (ix2 n J) = if h : J.val < 7680 * K.val then (m ((c.tc : Thread nD τ).loc main_arg6) : Vec Ideal S192x30208 .f32) (ix2 n J)
      else if h' : J.val < 7680 * K.val + 7680 then Z n ⟨J.val - 7680 * K.val, by omega⟩ else (m ((c.tc : Thread nD τ).loc main_arg6) : Vec Ideal S192x30208 .f32) (ix2 n J))
    (h1 : ∀ c (n : Fin 6) (J : Fin 30208), (show EReal from R1 c (ix2 n J)) = if h : J.val < 7680 * K.val then (show EReal from (m ((c.tc : Thread nD τ).loc main_arg7) : Vec Ideal S6x30208 .f32) (ix2 n J))
      else if h' : J.val < 7680 * K.val + 7680 then ∑ x : Fin 32, Z ⟨n.val * 32 + x.val, by omega⟩ ⟨J.val - 7680 * K.val, by omega⟩ else (show EReal from (m ((c.tc : Thread nD τ).loc main_arg7) : Vec Ideal S6x30208 .f32) (ix2 n J))) :
    θ_run (defsK K) (onTc (τ := τ) (mainK (F := Ideal) K)) ⟨m, fun _ => 0, g⟩ (fun r => ∀ c : Dev nD,
      r.2.mem ((c.tc : Thread nD τ).loc main_v26_0) = R0 c
      ∧ r.2.mem ((c.tc : Thread nD τ).loc main_v26_1) = R1 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (run_main (admOf m hI) m g (checks_of m hI) (hpf_of m hI)).mono ?_
  rintro r ⟨hF, hs⟩ c
  have hr := (hF c).2
  refine ⟨?_, ?_, ?_, ?_, ?_, ?_, ?_, ?_, ?_, ?_⟩
  · exact ext2 (A := 192) (B := 30208) (α := EReal) fun n J => (final4 m hI hG hK Z hZ c _ ((hF c).1 (4 : Fin 6)) n J).trans (h0 c n J).symm
  · exact ext2 (A := 6) (B := 30208) (α := EReal) fun n J => (final5 m hI hG hK Z hZ c _ ((hF c).1 (5 : Fin 6)) n J).trans (h1 c n J).symm
  · exact (RDat.FramePost.arr_in hF c (0 : Fin 6) rfl).trans (Vm_arg0 m c)
  · exact (RDat.FramePost.arr_in hF c (1 : Fin 6) rfl).trans (Vm_arg1 m c)
  · exact (hr _ (Pipeline.mem_restRefs_of (win := spec0) main_arg2 (by decide) (by decide))).trans (Vm_arg2 m c)
  · exact (RDat.FramePost.arr_in hF c (3 : Fin 6) rfl).trans (Vm_arg3 m c)
  · exact (hr _ (Pipeline.mem_restRefs_of (win := spec0) main_arg4 (by decide) (by decide))).trans (Vm_arg4 m c)
  · exact (hr _ (Pipeline.mem_restRefs_of (win := spec0) main_arg5 (by decide) (by decide))).trans (Vm_arg5 m c)
  · exact (hr _ (Pipeline.mem_restRefs_of (win := spec0) main_arg6 (by decide) (by decide))).trans (Vm_arg6 m c)
  · exact (hr _ (Pipeline.mem_restRefs_of (win := spec0) main_arg7 (by decide) (by decide))).trans (Vm_arg7 m c)

/-- What the memory and two pairs of arrays satisfy for the arrays to be the results of chunk `K`. -/
def Val (K : Fin 3) (m : (ℓ : Loc nD τ sig) → Buf (Elt Ideal) ℓ) (R0 : Dev nD → Vec Ideal S192x30208 .f32) (R1 : Dev nD → Vec Ideal S6x30208 .f32) : Prop :=
  ∃ (hI : InB (nnOf m) (naOf m) (wdOf K m)) (hG : Grp (nnOf m).toNat (wdOf K m)) (Z : Fin 192 → Fin 7680 → EReal),
    (∀ w q, (kOf m (ix2 w q)).toNat < 128) ∧ (∀ n j, IsTop m hI hG (rowAt m j) n (Z n j))
    ∧ (∀ c n (J : Fin 30208), R0 c (ix2 n J) = if h : J.val < 7680 * K.val then (m ((c.tc : Thread nD τ).loc main_arg6) : Vec Ideal S192x30208 .f32) (ix2 n J)
      else if h' : J.val < 7680 * K.val + 7680 then Z n ⟨J.val - 7680 * K.val, by omega⟩ else (m ((c.tc : Thread nD τ).loc main_arg6) : Vec Ideal S192x30208 .f32) (ix2 n J))
    ∧ (∀ c (n : Fin 6) (J : Fin 30208), (show EReal from R1 c (ix2 n J)) = if h : J.val < 7680 * K.val then (show EReal from (m ((c.tc : Thread nD τ).loc main_arg7) : Vec Ideal S6x30208 .f32) (ix2 n J))
      else if h' : J.val < 7680 * K.val + 7680 then ∑ x : Fin 32, Z ⟨n.val * 32 + x.val, by omega⟩ ⟨J.val - 7680 * K.val, by omega⟩ else (show EReal from (m ((c.tc : Thread nD τ).loc main_arg7) : Vec Ideal S6x30208 .f32) (ix2 n J)))

end Cert.KernelIdeal.Units

end
-- ==== Proof.Frames.lean ====
/-
  The call runs to the end under the precondition and leaves its arguments as they were.
-/
module

public import proofs.«01_k».proof.Proof.Tables

@[expose] public section

set_option maxRecDepth 8192

noncomputable section

namespace Cert.KernelIdeal.Units

open Idealize.ShloMosaic Idealize.ShloMosaic.TcCoe Idealize.SL.Sem Cert.KernelIdeal.Gen Cert.Words
open Idealize.ShloMosaic.Pipeline (RDat Cfg Window)

variable {F : FTy → Type} [FloatOps F]
variable {K : Fin 3} (m : (ℓ : Loc nD τ sig) → Buf (Elt F) ℓ) (g : Dev nD → PrngReg)

/-- What the frame claims: the arguments unchanged and the semaphores at zero. -/
theorem frame_of (hI : InB (nnOf m) (naOf m) (wdOf K m)) :
    θ_run (defsK K) (onTc (τ := τ) (mainK (F := F) K)) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine (run_main (admOf m hI) m g (checks_of m hI) (hpf_of m hI)).mono ?_
  rintro r ⟨hF, hs⟩
  refine ⟨fun c => ?_, hs⟩
  have hr := (hF c).2
  refine ⟨?_, ?_, ?_, ?_, ?_, ?_, ?_, ?_⟩
  · exact (RDat.FramePost.arr_in hF c (0 : Fin 6) rfl).trans (Vm_arg0 m c)
  · exact (RDat.FramePost.arr_in hF c (1 : Fin 6) rfl).trans (Vm_arg1 m c)
  · exact (hr _ (Pipeline.mem_restRefs_of (win := spec0) main_arg2 (by decide) (by decide))).trans (Vm_arg2 m c)
  · exact (RDat.FramePost.arr_in hF c (3 : Fin 6) rfl).trans (Vm_arg3 m c)
  · exact (hr _ (Pipeline.mem_restRefs_of (win := spec0) main_arg4 (by decide) (by decide))).trans (Vm_arg4 m c)
  · exact (hr _ (Pipeline.mem_restRefs_of (win := spec0) main_arg5 (by decide) (by decide))).trans (Vm_arg5 m c)
  · exact (hr _ (Pipeline.mem_restRefs_of (win := spec0) main_arg6 (by decide) (by decide))).trans (Vm_arg6 m c)
  · exact (hr _ (Pipeline.mem_restRefs_of (win := spec0) main_arg7 (by decide) (by decide))).trans (Vm_arg7 m c)

end Cert.KernelIdeal.Units

end
-- ==== Proof.Runs.lean ====
/-
  What every run of chunk `K` does, as statements without hypotheses left open.
-/
module

public import proofs.«01_k».proof.Proof.Join
public import proofs.«01_k».proof.Proof.Frames

@[expose] public section

set_option maxHeartbeats 4000000
set_option maxRecDepth 65536

noncomputable section

namespace Cert.KernelIdeal.Units

open Idealize.ShloMosaic Idealize.ShloMosaic.TcCoe Idealize.SL.Sem Cert.Words
open Cert.KernelIdeal.Gen

/-- The arguments unchanged and the semaphores at zero, after any run from a memory of a unit list. -/
def RunF (K : Fin 3) (F : FTy → Type) [FloatOps F] : Prop :=
  ∀ (m : (ℓ : Loc nD τ sig) → Buf (Elt F) ℓ) (g : Dev nD → PrngReg),
    InB ((m ((0 : Dev nD).tc.loc main_arg4) : Vec F S_ .i32) z0) ((m ((0 : Dev nD).tc.loc main_arg5) : Vec F S_ .i32) z0)
      (wordOf K (m ((0 : Dev nD).tc.loc main_arg1) : Vec F S212992 .i32)) →
    θ_run (defsK (F := F) K) (onTc (τ := τ) (mainK (F := F) K)) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)

/-- The results, after any run. -/
def RunV (K : Fin 3) : Prop :=
  ∀ (m : (ℓ : Loc nD τ sig) → Buf (Elt Ideal) ℓ) (g : Dev nD → PrngReg) (R0 : Dev nD → Vec Ideal S192x30208 .f32) (R1 : Dev nD → Vec Ideal S6x30208 .f32),
    Val K m R0 R1 →
    θ_run (defsK (F := Ideal) K) (onTc (τ := τ) (mainK (F := Ideal) K)) ⟨m, fun _ => 0, g⟩ (fun r => ∀ c : Dev nD,
      r.2.mem ((c.tc : Thread nD τ).loc main_v26_0) = R0 c
      ∧ r.2.mem ((c.tc : Thread nD τ).loc main_v26_1) = R1 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))

theorem runF (K : Fin 3) (F : FTy → Type) [FloatOps F] : RunF K F := fun m g hI => frame_of m g hI

theorem runV (K : Fin 3) : RunV K := fun m g R0 R1 ⟨hI, hG, Z, hK, hZ, h0, h1⟩ => value_of m g hI hG hK Z hZ R0 R1 h0 h1

end Cert.KernelIdeal.Units

end
-- ==== Proof.TwinKernel.lean ====
/-
  The program `Kernel` is the call of chunk 1: the same operations on the same buffers, so what holds of the one holds of the other.
-/
module

public import proofs.«01_k».proof.Proof.Gen.Kernel
public import proofs.«01_k».proof.Proof.Runs

@[expose] public section

set_option maxHeartbeats 4000000
set_option maxRecDepth 65536

noncomputable section

namespace Cert.Twin.Kernel

open Idealize.ShloMosaic Idealize.ShloMosaic.TcCoe Idealize.SL.Sem Cert.Words
open Cert.Kernel

attribute [local instance] Cert.Kernel.Gen.facts Cert.KernelIdeal.Gen.facts

/-- The arguments unchanged and the semaphores at zero, after any run from a memory of a unit list. -/
def RunF (F : FTy → Type) [FloatOps F] : Prop :=
  ∀ (m : (ℓ : Loc nD τ sig) → Buf (Elt F) ℓ) (g : Dev nD → PrngReg),
    InB ((m ((0 : Dev nD).tc.loc main_arg4) : Vec F S_ .i32) ix0) ((m ((0 : Dev nD).tc.loc main_arg5) : Vec F S_ .i32) ix0)
      (wordOf 1 (m ((0 : Dev nD).tc.loc main_arg1) : Vec F S212992 .i32)) →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)

theorem runF_eq (F : FTy → Type) [FloatOps F] : RunF F = Cert.KernelIdeal.Units.RunF 1 F := by chain_rfl

theorem runF (F : FTy → Type) [FloatOps F] : RunF F := (runF_eq F).mpr (Cert.KernelIdeal.Units.runF 1 F)

end Cert.Twin.Kernel

end
-- ==== Proof.TwinKernelIdeal.lean ====
/-
  The program `KernelIdeal` is the call of chunk 1: the same operations on the same buffers, so what holds of the one holds of the other.
-/
module

public import proofs.«01_k».proof.Proof.Runs

@[expose] public section

set_option maxHeartbeats 4000000
set_option maxRecDepth 65536

noncomputable section

namespace Cert.Twin.KernelIdeal

open Idealize.ShloMosaic Idealize.ShloMosaic.TcCoe Idealize.SL.Sem Cert.Words
open Cert.KernelIdeal

attribute [local instance] Cert.KernelIdeal.Gen.facts

/-- The arguments unchanged and the semaphores at zero, after any run from a memory of a unit list. -/
def RunF (F : FTy → Type) [FloatOps F] : Prop :=
  ∀ (m : (ℓ : Loc nD τ sig) → Buf (Elt F) ℓ) (g : Dev nD → PrngReg),
    InB ((m ((0 : Dev nD).tc.loc main_arg4) : Vec F S_ .i32) ix0) ((m ((0 : Dev nD).tc.loc main_arg5) : Vec F S_ .i32) ix0)
      (wordOf 1 (m ((0 : Dev nD).tc.loc main_arg1) : Vec F S212992 .i32)) →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)

/-- The results, after any run. -/
def RunV : Prop :=
  ∀ (m : (ℓ : Loc nD τ sig) → Buf (Elt Ideal) ℓ) (g : Dev nD → PrngReg) (R0 : Dev nD → Vec Ideal S192x30208 .f32) (R1 : Dev nD → Vec Ideal S6x30208 .f32),
    Cert.KernelIdeal.Units.Val 1 m R0 R1 →
    θ_run (defs (F := Ideal)) (onTc (τ := τ) (main (F := Ideal))) ⟨m, fun _ => 0, g⟩ (fun r => ∀ c : Dev nD,
      r.2.mem ((c.tc : Thread nD τ).loc main_v26_0) = R0 c
      ∧ r.2.mem ((c.tc : Thread nD τ).loc main_v26_1) = R1 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))

theorem runF_eq (F : FTy → Type) [FloatOps F] : RunF F = Cert.KernelIdeal.Units.RunF 1 F := by chain_rfl

theorem runF (F : FTy → Type) [FloatOps F] : RunF F := (runF_eq F).mpr (Cert.KernelIdeal.Units.runF 1 F)

theorem runV_eq : RunV = Cert.KernelIdeal.Units.RunV 1 := by chain_rfl

theorem runV : RunV := runV_eq.mpr (Cert.KernelIdeal.Units.runV 1)

end Cert.Twin.KernelIdeal

end
-- ==== Proof.TwinKernel0.lean ====
/-
  The program `Kernel0` is the call of chunk 0: the same operations on the same buffers, so what holds of the one holds of the other.
-/
module

public import proofs.«01_k».proof.Proof.Gen.Kernel0
public import proofs.«01_k».proof.Proof.Runs

@[expose] public section

set_option maxHeartbeats 4000000
set_option maxRecDepth 65536

noncomputable section

namespace Cert.Twin.Kernel0

open Idealize.ShloMosaic Idealize.ShloMosaic.TcCoe Idealize.SL.Sem Cert.Words
open Cert.Kernel0

attribute [local instance] Cert.Kernel0.Gen.facts Cert.KernelIdeal.Gen.facts

/-- The arguments unchanged and the semaphores at zero, after any run from a memory of a unit list. -/
def RunF (F : FTy → Type) [FloatOps F] : Prop :=
  ∀ (m : (ℓ : Loc nD τ sig) → Buf (Elt F) ℓ) (g : Dev nD → PrngReg),
    InB ((m ((0 : Dev nD).tc.loc main_arg4) : Vec F S_ .i32) ix0) ((m ((0 : Dev nD).tc.loc main_arg5) : Vec F S_ .i32) ix0)
      (wordOf 0 (m ((0 : Dev nD).tc.loc main_arg1) : Vec F S212992 .i32)) →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)

theorem runF_eq (F : FTy → Type) [FloatOps F] : RunF F = Cert.KernelIdeal.Units.RunF 0 F := by chain_rfl

theorem runF (F : FTy → Type) [FloatOps F] : RunF F := (runF_eq F).mpr (Cert.KernelIdeal.Units.runF 0 F)

end Cert.Twin.Kernel0

end
-- ==== Proof.TwinKernel0Ideal.lean ====
/-
  The program `Kernel0Ideal` is the call of chunk 0: the same operations on the same buffers, so what holds of the one holds of the other.
-/
module

public import proofs.«01_k».proof.Proof.Gen.Kernel0Ideal
public import proofs.«01_k».proof.Proof.Runs

@[expose] public section

set_option maxHeartbeats 4000000
set_option maxRecDepth 65536

noncomputable section

namespace Cert.Twin.Kernel0Ideal

open Idealize.ShloMosaic Idealize.ShloMosaic.TcCoe Idealize.SL.Sem Cert.Words
open Cert.Kernel0Ideal

attribute [local instance] Cert.Kernel0Ideal.Gen.facts Cert.KernelIdeal.Gen.facts

/-- The arguments unchanged and the semaphores at zero, after any run from a memory of a unit list. -/
def RunF (F : FTy → Type) [FloatOps F] : Prop :=
  ∀ (m : (ℓ : Loc nD τ sig) → Buf (Elt F) ℓ) (g : Dev nD → PrngReg),
    InB ((m ((0 : Dev nD).tc.loc main_arg4) : Vec F S_ .i32) ix0) ((m ((0 : Dev nD).tc.loc main_arg5) : Vec F S_ .i32) ix0)
      (wordOf 0 (m ((0 : Dev nD).tc.loc main_arg1) : Vec F S212992 .i32)) →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)

/-- The results, after any run. -/
def RunV : Prop :=
  ∀ (m : (ℓ : Loc nD τ sig) → Buf (Elt Ideal) ℓ) (g : Dev nD → PrngReg) (R0 : Dev nD → Vec Ideal S192x30208 .f32) (R1 : Dev nD → Vec Ideal S6x30208 .f32),
    Cert.KernelIdeal.Units.Val 0 m R0 R1 →
    θ_run (defs (F := Ideal)) (onTc (τ := τ) (main (F := Ideal))) ⟨m, fun _ => 0, g⟩ (fun r => ∀ c : Dev nD,
      r.2.mem ((c.tc : Thread nD τ).loc main_v26_0) = R0 c
      ∧ r.2.mem ((c.tc : Thread nD τ).loc main_v26_1) = R1 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))

theorem runF_eq (F : FTy → Type) [FloatOps F] : RunF F = Cert.KernelIdeal.Units.RunF 0 F := by chain_rfl

theorem runF (F : FTy → Type) [FloatOps F] : RunF F := (runF_eq F).mpr (Cert.KernelIdeal.Units.runF 0 F)

theorem runV_eq : RunV = Cert.KernelIdeal.Units.RunV 0 := by chain_rfl

theorem runV : RunV := runV_eq.mpr (Cert.KernelIdeal.Units.runV 0)

end Cert.Twin.Kernel0Ideal

end
-- ==== Proof.TwinKernel2.lean ====
/-
  The program `Kernel2` is the call of chunk 2: the same operations on the same buffers, so what holds of the one holds of the other.
-/
module

public import proofs.«01_k».proof.Proof.Gen.Kernel2
public import proofs.«01_k».proof.Proof.Runs

@[expose] public section

set_option maxHeartbeats 4000000
set_option maxRecDepth 65536

noncomputable section

namespace Cert.Twin.Kernel2

open Idealize.ShloMosaic Idealize.ShloMosaic.TcCoe Idealize.SL.Sem Cert.Words
open Cert.Kernel2

attribute [local instance] Cert.Kernel2.Gen.facts Cert.KernelIdeal.Gen.facts

/-- The arguments unchanged and the semaphores at zero, after any run from a memory of a unit list. -/
def RunF (F : FTy → Type) [FloatOps F] : Prop :=
  ∀ (m : (ℓ : Loc nD τ sig) → Buf (Elt F) ℓ) (g : Dev nD → PrngReg),
    InB ((m ((0 : Dev nD).tc.loc main_arg4) : Vec F S_ .i32) ix0) ((m ((0 : Dev nD).tc.loc main_arg5) : Vec F S_ .i32) ix0)
      (wordOf 2 (m ((0 : Dev nD).tc.loc main_arg1) : Vec F S212992 .i32)) →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)

theorem runF_eq (F : FTy → Type) [FloatOps F] : RunF F = Cert.KernelIdeal.Units.RunF 2 F := by chain_rfl

theorem runF (F : FTy → Type) [FloatOps F] : RunF F := (runF_eq F).mpr (Cert.KernelIdeal.Units.runF 2 F)

end Cert.Twin.Kernel2

end
-- ==== Proof.TwinKernel2Ideal.lean ====
/-
  The program `Kernel2Ideal` is the call of chunk 2: the same operations on the same buffers, so what holds of the one holds of the other.
-/
module

public import proofs.«01_k».proof.Proof.Gen.Kernel2Ideal
public import proofs.«01_k».proof.Proof.Runs

@[expose] public section

set_option maxHeartbeats 4000000
set_option maxRecDepth 65536

noncomputable section

namespace Cert.Twin.Kernel2Ideal

open Idealize.ShloMosaic Idealize.ShloMosaic.TcCoe Idealize.SL.Sem Cert.Words
open Cert.Kernel2Ideal

attribute [local instance] Cert.Kernel2Ideal.Gen.facts Cert.KernelIdeal.Gen.facts

/-- The arguments unchanged and the semaphores at zero, after any run from a memory of a unit list. -/
def RunF (F : FTy → Type) [FloatOps F] : Prop :=
  ∀ (m : (ℓ : Loc nD τ sig) → Buf (Elt F) ℓ) (g : Dev nD → PrngReg),
    InB ((m ((0 : Dev nD).tc.loc main_arg4) : Vec F S_ .i32) ix0) ((m ((0 : Dev nD).tc.loc main_arg5) : Vec F S_ .i32) ix0)
      (wordOf 2 (m ((0 : Dev nD).tc.loc main_arg1) : Vec F S212992 .i32)) →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)

/-- The results, after any run. -/
def RunV : Prop :=
  ∀ (m : (ℓ : Loc nD τ sig) → Buf (Elt Ideal) ℓ) (g : Dev nD → PrngReg) (R0 : Dev nD → Vec Ideal S192x30208 .f32) (R1 : Dev nD → Vec Ideal S6x30208 .f32),
    Cert.KernelIdeal.Units.Val 2 m R0 R1 →
    θ_run (defs (F := Ideal)) (onTc (τ := τ) (main (F := Ideal))) ⟨m, fun _ => 0, g⟩ (fun r => ∀ c : Dev nD,
      r.2.mem ((c.tc : Thread nD τ).loc main_v26_0) = R0 c
      ∧ r.2.mem ((c.tc : Thread nD τ).loc main_v26_1) = R1 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))

theorem runF_eq (F : FTy → Type) [FloatOps F] : RunF F = Cert.KernelIdeal.Units.RunF 2 F := by chain_rfl

theorem runF (F : FTy → Type) [FloatOps F] : RunF F := (runF_eq F).mpr (Cert.KernelIdeal.Units.runF 2 F)

theorem runV_eq : RunV = Cert.KernelIdeal.Units.RunV 2 := by chain_rfl

theorem runV : RunV := runV_eq.mpr (Cert.KernelIdeal.Units.runV 2)

end Cert.Twin.Kernel2Ideal

end
-- ==== Proof.Pre0.lean ====
/-
  What the preconditions of chunk 0 say of the counts, the destination words and the ranks.
-/
module

public import proofs.«01_k».proof.Proof.Grouped
public import proofs.«01_k».proof.Proof.Gen.Pre_in_bounds_0
public import proofs.«01_k».proof.Proof.Gen.Pre_grouped_0

@[expose] public section

set_option maxRecDepth 16384
set_option maxHeartbeats 2000000

noncomputable section

namespace Cert.Words

open Idealize.ShloMosaic

variable {F : FTy → Type} [FloatOps F]

local instance : Subsingleton (⟨0, ![]⟩ : Shape).Idx := ⟨fun a b => funext fun i => i.elim0⟩

theorem slice_at0 (x1 : IVec (⟨1, ![212992]⟩ : Shape) 32) (h : (⟨1, ![212992]⟩ : Shape).Slices ![0] (⟨1, ![53248]⟩ : Shape)) {u : Nat} (hu : u < 53248) :
    extractStridedSlice (⟨1, ![53248]⟩ : Shape) ![0] x1 h (ValueIdx.ix1 (⟨u, hu⟩ : Fin 53248)) = wordOf 0 x1 u := slice_of 0 _ rfl x1 h hu

/-- The precondition `in_bounds_0`, read as numbers. -/
theorem inB_of_pre0 [Cert.Pre_in_bounds_0.Facts] (x0 : IVec Cert.Pre_in_bounds_0.S425984x128 32) (x1 : IVec Cert.Pre_in_bounds_0.S212992 32)
    (x2 : FVec F Cert.Pre_in_bounds_0.S6x32x64 .bf16) (x3 : IVec Cert.Pre_in_bounds_0.S60x128 32)
    (nn na : IVec Cert.Pre_in_bounds_0.S_ 32) (x6 : FVec F Cert.Pre_in_bounds_0.S192x30208 .f32) (x7 : FVec F Cert.Pre_in_bounds_0.S6x30208 .f32)
    (z : Cert.Pre_in_bounds_0.S_.Idx)
    (h : Cert.Pre_in_bounds_0.fn x0 x1 x2 x3 nn na x6 x7 = fun _ => 1#1) :
    InB (nn z) (na z) (wordOf 0 x1) := by
  have hz := congrFun h z
  simp only [Cert.Pre_in_bounds_0.fn, Cert.Pre_in_bounds_0.fn_part1, Cert.Pre_in_bounds_0.fn_part2] at hz
  obtain ⟨hz, h36⟩ := IntOp.andi_eq_one.1 hz
  obtain ⟨h10, h24⟩ := IntOp.andi_eq_one.1 hz
  refine inB_mk h10 (fun u hu => ?_) (fun u hu => ?_)
  · have := Host.reduce_andi_all _ _ _ _ _ h24 (ValueIdx.ix1 (⟨u, hu⟩ : Fin 53248))
    simp only [ori, andi, cmpi, fill_i _ _ _ z, constantI, Host.shrsi, shr_one, slice_at0, iota_at] at this
    exact this
  · have := Host.reduce_andi_all _ _ _ _ _ h36 (ValueIdx.ix1 (⟨u, hu⟩ : Fin 53248))
    simp only [ori, andi, cmpi, fill_i _ _ _ z, constantI, Host.shrsi, shr_one, slice_at0, iota_at] at this
    exact this

/-- The first conjunct of the precondition `grouped_0` is `in_bounds_0`. -/
theorem inB_of_grouped0 [Cert.Pre_grouped_0.Facts] (x0 : IVec Cert.Pre_grouped_0.S425984x128 32) (x1 : IVec Cert.Pre_grouped_0.S212992 32)
    (x2 : FVec F Cert.Pre_grouped_0.S6x32x64 .bf16) (x3 : IVec Cert.Pre_grouped_0.S60x128 32)
    (nn na : IVec Cert.Pre_grouped_0.S_ 32) (x6 : FVec F Cert.Pre_grouped_0.S192x30208 .f32) (x7 : FVec F Cert.Pre_grouped_0.S6x30208 .f32)
    (z : Cert.Pre_grouped_0.S_.Idx)
    (h : Cert.Pre_grouped_0.fn x0 x1 x2 x3 nn na x6 x7 = fun _ => 1#1) :
    InB (nn z) (na z) (wordOf 0 x1) := by
  have hz := congrFun h z
  simp only [Cert.Pre_grouped_0.fn, Cert.Pre_grouped_0.fn_part1, Cert.Pre_grouped_0.fn_part2, Cert.Pre_grouped_0.fn_part3,
    Cert.Pre_grouped_0.fn_part4, Cert.Pre_grouped_0.fn_part5] at hz
  obtain ⟨hz, -⟩ := IntOp.andi_eq_one.1 hz
  obtain ⟨hz, -⟩ := IntOp.andi_eq_one.1 hz
  obtain ⟨hz, -⟩ := IntOp.andi_eq_one.1 hz
  obtain ⟨hz, -⟩ := IntOp.andi_eq_one.1 hz
  obtain ⟨hz, h36⟩ := IntOp.andi_eq_one.1 hz
  obtain ⟨h10, h24⟩ := IntOp.andi_eq_one.1 hz
  refine inB_mk h10 (fun u hu => ?_) (fun u hu => ?_)
  · have := Host.reduce_andi_all _ _ _ _ _ h24 (ValueIdx.ix1 (⟨u, hu⟩ : Fin 53248))
    simp only [ori, andi, cmpi, fill_i _ _ _ z, constantI, Host.shrsi, shr_one, slice_at0, iota_at] at this
    exact this
  · have := Host.reduce_andi_all _ _ _ _ _ h36 (ValueIdx.ix1 (⟨u, hu⟩ : Fin 53248))
    simp only [ori, andi, cmpi, fill_i _ _ _ z, constantI, Host.shrsi, shr_one, slice_at0, iota_at] at this
    exact this

theorem grouped_raw0 [Cert.Pre_grouped_0.Facts] (x0 : IVec Cert.Pre_grouped_0.S425984x128 32) (x1 : IVec Cert.Pre_grouped_0.S212992 32)
    (x2 : FVec F Cert.Pre_grouped_0.S6x32x64 .bf16) (x3 : IVec Cert.Pre_grouped_0.S60x128 32)
    (nn na : IVec Cert.Pre_grouped_0.S_ 32) (x6 : FVec F Cert.Pre_grouped_0.S192x30208 .f32) (x7 : FVec F Cert.Pre_grouped_0.S6x30208 .f32)
    (z : Cert.Pre_grouped_0.S_.Idx)
    (h : Cert.Pre_grouped_0.fn x0 x1 x2 x3 nn na x6 x7 = fun _ => 1#1) :
    Grp (nn z).toNat (wordOf 0 x1) ∧ ∀ w q, (x3 (ix2 w q)).toNat < 128 := by
  have hz := congrFun h z
  simp only [Cert.Pre_grouped_0.fn, Cert.Pre_grouped_0.fn_part1, Cert.Pre_grouped_0.fn_part2, Cert.Pre_grouped_0.fn_part3,
    Cert.Pre_grouped_0.fn_part4, Cert.Pre_grouped_0.fn_part5] at hz
  obtain ⟨hz, hR⟩ := IntOp.andi_eq_one.1 hz
  obtain ⟨hz, hL⟩ := IntOp.andi_eq_one.1 hz
  obtain ⟨hz, hO⟩ := IntOp.andi_eq_one.1 hz
  obtain ⟨hz, hF⟩ := IntOp.andi_eq_one.1 hz
  have e1 : ∀ u : Fin 53248, _ := fun u => Host.reduce_andi_all _ _ _ _ _ hF (ix1 u)
  have e2 : ∀ u v : Fin 53248, _ := fun u v => Host.reduce_andi_all _ _ _ _ _ hO (ix2 u v)
  have e3 : ∀ g : Fin 960, _ := fun g => Host.reduce_andi_all _ _ _ _ _ hL (ix1 g)
  have e4 : ∀ (w : Fin 60) (q : Fin 128), _ := fun w q => Host.reduce_andi_all _ _ _ _ _ hR (ix2 w q)
  clear hR hL hO hF hz
  have hI := inB_of_grouped0 x0 x1 x2 x3 nn na x6 x7 z h
  rw [Subsingleton.elim z ix0] at hI ⊢
  revert e1 e2 e3 e4
  pointwise
  intro e1 e2 e3 e4
  have hle := hI.nn_le
  have hcap := hI.le_cap
  have hw : ∀ u : Fin 53248, x1 (ix1 ⟨u.val, by omega⟩) = wordOf 0 x1 u.val := fun u => ((wordOf_lt 0 x1 u.isLt).trans (congrArg x1 (congrArg ix1 (Fin.ext (show 53248 * 0 + u.val = u.val by omega))))).symm
  have hnat : ∀ u : ℕ, u < 53248 → (BitVec.ofNat 32 u).toNat = u := fun u hu => by simp; omega
  have hslt : ∀ u : ℕ, u < 53248 → (IntOp.cmpi .slt (BitVec.ofNat 32 u) (nn ix0) = 1#1 ↔ u < (nn ix0).toNat) := fun u hu => by
    rw [slt_small (by rw [hnat u hu]; omega) (by omega), hnat u hu]
  have hsge : ∀ u : ℕ, u < 53248 → (IntOp.cmpi .sge (BitVec.ofNat 32 u) (nn ix0) = 1#1 ↔ (nn ix0).toNat ≤ u) := fun u hu => by
    rw [IntOp.cmpi_sge, BitVec.toInt_eq_toNat_of_lt (by omega), BitVec.toInt_eq_toNat_of_lt (by rw [hnat u hu]; omega), hnat u hu]; omega
  refine ⟨⟨fun u hu => ?_, fun u hu v hv hfu hfv hr hlt => ?_, fun g hg => ?_⟩, fun w q => ?_⟩
  · have e := e1 ⟨u, by omega⟩
    simp only [IntOp.ori_eq_one, IntOp.cmpi_eq, hsge u (by omega), shr_one, IntOp.andi] at e
    rcases e with (e | e) | e
    · omega
    · exact .inl ((congrArg (· &&& 1#32) (hw ⟨u, by omega⟩)).symm.trans e)
    · right
      have hn := (hI.norm u hu).1
      by_cases h0 : u < 1
      · rw [dif_pos h0] at e
        have e' := e.trans (congrArg rowW (hw ⟨u, by omega⟩))
        rw [← e'] at hn
        exact absurd hn (by decide)
      · rw [dif_neg h0] at e
        refine ⟨by omega, congrArg BitVec.toNat ?_⟩
        exact ((congrArg rowW (hw ⟨u - 1, by omega⟩)).symm.trans e).trans (congrArg rowW (hw ⟨u, by omega⟩))
  · have e := e2 ⟨u, by omega⟩ ⟨v, by omega⟩
    have wu := hw ⟨u, by omega⟩
    have wv := hw ⟨v, by omega⟩
    dsimp only at wu wv
    simp only [IntOp.ori_eq_one, IntOp.cmpi_eq, IntOp.cmpi_ne, IntOp.not_eq_one, IntOp.andi_eq_one, hslt u (by omega), hslt v (by omega), shr_one] at e
    rw [wu, wv] at e
    have k1 : IntOp.cmpi .slt (rowW (wordOf 0 x1 u)) 7680#32 = 1#1 := (slt_small (by omega) (by decide)).2 hlt
    have k2 : IntOp.cmpi .slt (rowW (wordOf 0 x1 v)) 7680#32 = 1#1 := (slt_small (by omega) (by decide)).2 (hr ▸ hlt)
    rcases e with ((e | e) | e) | e
    · have := congrArg BitVec.toNat e
      rwa [hnat u (by omega), hnat v (by omega)] at this
    · exact absurd ⟨⟨hu, hfu⟩, k1⟩ e
    · exact absurd ⟨⟨hv, hfv⟩, k2⟩ e
    · exact absurd (BitVec.eq_of_toNat_eq hr) e
  · obtain ⟨x, -, hx⟩ := fold_ori _ _ (e3 ⟨g, hg⟩)
    simp only [IntOp.cmpi_eq, IntOp.andi_eq_one, hslt x x.isLt, shr_one] at hx
    rw [hw x] at hx
    refine ⟨x, hx.1, ?_⟩
    rw [hx.2]
    show (8#32 * BitVec.ofNat 32 g).toNat = 8 * g
    simp [BitVec.toNat_mul]; omega
  · have e := e4 w q
    simp only [IntOp.andi_eq_one, IntOp.cmpi_sge, IntOp.cmpi_slt] at e
    have t0 : (0#32 : BitVec 32).toInt = 0 := by decide
    have t1 : (128#32 : BitVec 32).toInt = 128 := by decide
    rw [t0, t1, BitVec.toInt_eq_toNat_cond] at e
    split at e <;> omega

end Cert.Words

end
-- ==== Proof.RefOut0.lean ====
/-
  The two results of chunk 0's reference, read at an index.
-/
module

public import proofs.«01_k».proof.Proof.Gen.Reference0Ideal.Run
public import proofs.«01_k».proof.Proof.Ref
public import Idealize.ShloMosaic.Lib.Pointwise

@[expose] public section

set_option maxRecDepth 16384
set_option maxHeartbeats 4000000

noncomputable section

namespace Cert.RefVal0

open Idealize.ShloMosaic Idealize.SL.Sem Idealize.ShloMosaic.TcCoe
open Cert.Reference0Ideal Cert.Reference0Ideal.Gen

variable (m : (ℓ : Loc nD τ sig) → Buf (Elt Ideal) ℓ) (c : Dev nD)

/-- The first result. -/
def out0 : S192x30208.Idx → EReal := Value.res_main_v54 m c
/-- The second result. -/
def out1 : S6x30208.Idx → EReal := Value.res_main_v57 m c

/-- The arguments, by their element types. -/
def x0 : IVec S425984x128 32 := m ((c.tc : Thread nD τ).loc main_arg0)
def x1 : IVec S212992 32 := m ((c.tc : Thread nD τ).loc main_arg1)
def x2 : FVec Ideal S6x32x64 .bf16 := m ((c.tc : Thread nD τ).loc main_arg2)
def x3 : IVec S60x128 32 := m ((c.tc : Thread nD τ).loc main_arg3)
def x4 : IVec S_ 32 := m ((c.tc : Thread nD τ).loc main_arg4)
def x5 : IVec S_ 32 := m ((c.tc : Thread nD τ).loc main_arg5)
def x6 : FVec Ideal S192x30208 .f32 := m ((c.tc : Thread nD τ).loc main_arg6)
def x7 : FVec Ideal S6x30208 .f32 := m ((c.tc : Thread nD τ).loc main_arg7)

/-- The best of every document of the chunk. -/
abbrev Y : FVec Ideal S192x7680 .f32 := RefVal.Y 0 (x0 m c) (x1 m c) (x2 m c) (x3 m c) (x4 m c) (x5 m c)

theorem out0_eq : out0 m c = (concatenate S192x30208 1 [⟨S192x0, ((extractStridedSlice S192x0 ![0, 0] (x6 m c) slices_S192x30208_S192x0_0_0) : (⟨S192x0, .f32⟩ : BufTy).Contents (Elt Ideal))⟩, ⟨S192x7680, ((Y m c) : (⟨S192x7680, .f32⟩ : BufTy).Contents (Elt Ideal))⟩, ⟨S192x22528, ((extractStridedSlice S192x22528 ![0, 7680] (x6 m c) slices_S192x30208_S192x22528_0_7680) : (⟨S192x22528, .f32⟩ : BufTy).Contents (Elt Ideal))⟩] concatenates_S192x0_S192x7680_S192x22528_S192x30208_d1 : (⟨S192x30208, .f32⟩ : BufTy).Contents (Elt Ideal)) := rfl
theorem out1_eq : out1 m c = (concatenate S6x30208 1 [⟨S6x0, ((extractStridedSlice S6x0 ![0, 0] (x7 m c) slices_S6x30208_S6x0_0_0) : (⟨S6x0, .f32⟩ : BufTy).Contents (Elt Ideal))⟩, ⟨S6x7680, ((Host.reduceAdd (shapeCast _ (Y m c) shapeCasts_S192x7680_S6x32x7680) (constant S_ .f32 0x00000000#32) reducesTo_S6x32x7680_S6x7680_d1 h_S_) : (⟨S6x7680, .f32⟩ : BufTy).Contents (Elt Ideal))⟩, ⟨S6x22528, ((extractStridedSlice S6x22528 ![0, 7680] (x7 m c) slices_S6x30208_S6x22528_0_7680) : (⟨S6x22528, .f32⟩ : BufTy).Contents (Elt Ideal))⟩] concatenates_S6x0_S6x7680_S6x22528_S6x30208_d1 : (⟨S6x30208, .f32⟩ : BufTy).Contents (Elt Ideal)) := rfl

theorem out0_at (n : Fin 192) (j : Fin 30208) : out0 m c (ix2 n j)
    = if h : j.val < 0 then (x6 m c) (ix2 n j)
      else if h' : j.val < 7680 then Y m c (ix2 n ⟨j.val - 0, by omega⟩)
      else (x6 m c) (ix2 n j) := by
  rw [out0_eq]
  generalize Y m c = y
  pointwise
  by_cases h : j.val < 0
  · simp only [h, ↓reduceDIte]
  · simp only [h, ↓reduceDIte]
    by_cases h' : j.val < 7680
    · rw [dif_pos (by omega), dif_pos h']
    · rw [dif_neg (by omega), dif_neg h']
      exact congrArg (fun k => x6 m c (ix2 n k)) (Fin.ext (by show 7680 + (j.val - 0 - 7680) = j.val; omega))

theorem out1_at (n : Fin 6) (j : Fin 30208) : out1 m c (ix2 n j)
    = if h : j.val < 0 then (x7 m c) (ix2 n j)
      else if h' : j.val < 7680 then ∑ x : Fin 32, (show EReal from Y m c (ix2 ⟨n.val * 32 + x.val, by omega⟩ ⟨j.val - 0, by omega⟩))
      else (x7 m c) (ix2 n j) := by
  rw [out1_eq]
  generalize Y m c = y
  pointwise
  by_cases h : j.val < 0
  · simp only [h, ↓reduceDIte]
  · simp only [h, ↓reduceDIte]
    by_cases h' : j.val < 7680
    · rw [dif_pos (by omega), dif_pos h']
    · rw [dif_neg (by omega), dif_neg h']
      exact congrArg (fun k => x7 m c (ix2 n k)) (Fin.ext (by show 7680 + (j.val - 0 - 7680) = j.val; omega))

end Cert.RefVal0

end
-- ==== Proof.Pre1.lean ====
/-
  What the preconditions of chunk 1 say of the counts, the destination words and the ranks.
-/
module

public import proofs.«01_k».proof.Proof.Grouped
public import proofs.«01_k».proof.Proof.Gen.Pre_in_bounds
public import proofs.«01_k».proof.Proof.Gen.Pre_grouped

@[expose] public section

set_option maxRecDepth 16384
set_option maxHeartbeats 2000000

noncomputable section

namespace Cert.Words

open Idealize.ShloMosaic

variable {F : FTy → Type} [FloatOps F]

local instance : Subsingleton (⟨0, ![]⟩ : Shape).Idx := ⟨fun a b => funext fun i => i.elim0⟩

theorem slice_at1 (x1 : IVec (⟨1, ![212992]⟩ : Shape) 32) (h : (⟨1, ![212992]⟩ : Shape).Slices ![53248] (⟨1, ![53248]⟩ : Shape)) {u : Nat} (hu : u < 53248) :
    extractStridedSlice (⟨1, ![53248]⟩ : Shape) ![53248] x1 h (ValueIdx.ix1 (⟨u, hu⟩ : Fin 53248)) = wordOf 1 x1 u := slice_of 1 _ rfl x1 h hu

/-- The precondition `in_bounds`, read as numbers. -/
theorem inB_of_pre1 [Cert.Pre_in_bounds.Facts] (x0 : IVec Cert.Pre_in_bounds.S425984x128 32) (x1 : IVec Cert.Pre_in_bounds.S212992 32)
    (x2 : FVec F Cert.Pre_in_bounds.S6x32x64 .bf16) (x3 : IVec Cert.Pre_in_bounds.S60x128 32)
    (nn na : IVec Cert.Pre_in_bounds.S_ 32) (x6 : FVec F Cert.Pre_in_bounds.S192x30208 .f32) (x7 : FVec F Cert.Pre_in_bounds.S6x30208 .f32)
    (z : Cert.Pre_in_bounds.S_.Idx)
    (h : Cert.Pre_in_bounds.fn x0 x1 x2 x3 nn na x6 x7 = fun _ => 1#1) :
    InB (nn z) (na z) (wordOf 1 x1) := by
  have hz := congrFun h z
  simp only [Cert.Pre_in_bounds.fn, Cert.Pre_in_bounds.fn_part1, Cert.Pre_in_bounds.fn_part2] at hz
  obtain ⟨hz, h36⟩ := IntOp.andi_eq_one.1 hz
  obtain ⟨h10, h24⟩ := IntOp.andi_eq_one.1 hz
  refine inB_mk h10 (fun u hu => ?_) (fun u hu => ?_)
  · have := Host.reduce_andi_all _ _ _ _ _ h24 (ValueIdx.ix1 (⟨u, hu⟩ : Fin 53248))
    simp only [ori, andi, cmpi, fill_i _ _ _ z, constantI, Host.shrsi, shr_one, slice_at1, iota_at] at this
    exact this
  · have := Host.reduce_andi_all _ _ _ _ _ h36 (ValueIdx.ix1 (⟨u, hu⟩ : Fin 53248))
    simp only [ori, andi, cmpi, fill_i _ _ _ z, constantI, Host.shrsi, shr_one, slice_at1, iota_at] at this
    exact this

/-- The first conjunct of the precondition `grouped` is `in_bounds`. -/
theorem inB_of_grouped1 [Cert.Pre_grouped.Facts] (x0 : IVec Cert.Pre_grouped.S425984x128 32) (x1 : IVec Cert.Pre_grouped.S212992 32)
    (x2 : FVec F Cert.Pre_grouped.S6x32x64 .bf16) (x3 : IVec Cert.Pre_grouped.S60x128 32)
    (nn na : IVec Cert.Pre_grouped.S_ 32) (x6 : FVec F Cert.Pre_grouped.S192x30208 .f32) (x7 : FVec F Cert.Pre_grouped.S6x30208 .f32)
    (z : Cert.Pre_grouped.S_.Idx)
    (h : Cert.Pre_grouped.fn x0 x1 x2 x3 nn na x6 x7 = fun _ => 1#1) :
    InB (nn z) (na z) (wordOf 1 x1) := by
  have hz := congrFun h z
  simp only [Cert.Pre_grouped.fn, Cert.Pre_grouped.fn_part1, Cert.Pre_grouped.fn_part2, Cert.Pre_grouped.fn_part3,
    Cert.Pre_grouped.fn_part4, Cert.Pre_grouped.fn_part5] at hz
  obtain ⟨hz, -⟩ := IntOp.andi_eq_one.1 hz
  obtain ⟨hz, -⟩ := IntOp.andi_eq_one.1 hz
  obtain ⟨hz, -⟩ := IntOp.andi_eq_one.1 hz
  obtain ⟨hz, -⟩ := IntOp.andi_eq_one.1 hz
  obtain ⟨hz, h36⟩ := IntOp.andi_eq_one.1 hz
  obtain ⟨h10, h24⟩ := IntOp.andi_eq_one.1 hz
  refine inB_mk h10 (fun u hu => ?_) (fun u hu => ?_)
  · have := Host.reduce_andi_all _ _ _ _ _ h24 (ValueIdx.ix1 (⟨u, hu⟩ : Fin 53248))
    simp only [ori, andi, cmpi, fill_i _ _ _ z, constantI, Host.shrsi, shr_one, slice_at1, iota_at] at this
    exact this
  · have := Host.reduce_andi_all _ _ _ _ _ h36 (ValueIdx.ix1 (⟨u, hu⟩ : Fin 53248))
    simp only [ori, andi, cmpi, fill_i _ _ _ z, constantI, Host.shrsi, shr_one, slice_at1, iota_at] at this
    exact this

theorem grouped_raw1 [Cert.Pre_grouped.Facts] (x0 : IVec Cert.Pre_grouped.S425984x128 32) (x1 : IVec Cert.Pre_grouped.S212992 32)
    (x2 : FVec F Cert.Pre_grouped.S6x32x64 .bf16) (x3 : IVec Cert.Pre_grouped.S60x128 32)
    (nn na : IVec Cert.Pre_grouped.S_ 32) (x6 : FVec F Cert.Pre_grouped.S192x30208 .f32) (x7 : FVec F Cert.Pre_grouped.S6x30208 .f32)
    (z : Cert.Pre_grouped.S_.Idx)
    (h : Cert.Pre_grouped.fn x0 x1 x2 x3 nn na x6 x7 = fun _ => 1#1) :
    Grp (nn z).toNat (wordOf 1 x1) ∧ ∀ w q, (x3 (ix2 w q)).toNat < 128 := by
  have hz := congrFun h z
  simp only [Cert.Pre_grouped.fn, Cert.Pre_grouped.fn_part1, Cert.Pre_grouped.fn_part2, Cert.Pre_grouped.fn_part3,
    Cert.Pre_grouped.fn_part4, Cert.Pre_grouped.fn_part5] at hz
  obtain ⟨hz, hR⟩ := IntOp.andi_eq_one.1 hz
  obtain ⟨hz, hL⟩ := IntOp.andi_eq_one.1 hz
  obtain ⟨hz, hO⟩ := IntOp.andi_eq_one.1 hz
  obtain ⟨hz, hF⟩ := IntOp.andi_eq_one.1 hz
  have e1 : ∀ u : Fin 53248, _ := fun u => Host.reduce_andi_all _ _ _ _ _ hF (ix1 u)
  have e2 : ∀ u v : Fin 53248, _ := fun u v => Host.reduce_andi_all _ _ _ _ _ hO (ix2 u v)
  have e3 : ∀ g : Fin 960, _ := fun g => Host.reduce_andi_all _ _ _ _ _ hL (ix1 g)
  have e4 : ∀ (w : Fin 60) (q : Fin 128), _ := fun w q => Host.reduce_andi_all _ _ _ _ _ hR (ix2 w q)
  clear hR hL hO hF hz
  have hI := inB_of_grouped1 x0 x1 x2 x3 nn na x6 x7 z h
  rw [Subsingleton.elim z ix0] at hI ⊢
  revert e1 e2 e3 e4
  pointwise
  intro e1 e2 e3 e4
  have hle := hI.nn_le
  have hcap := hI.le_cap
  have hw : ∀ u : Fin 53248, x1 (ix1 ⟨53248 + u.val, by omega⟩) = wordOf 1 x1 u.val := fun u => ((wordOf_lt 1 x1 u.isLt).trans rfl).symm
  have hnat : ∀ u : ℕ, u < 53248 → (BitVec.ofNat 32 u).toNat = u := fun u hu => by simp; omega
  have hslt : ∀ u : ℕ, u < 53248 → (IntOp.cmpi .slt (BitVec.ofNat 32 u) (nn ix0) = 1#1 ↔ u < (nn ix0).toNat) := fun u hu => by
    rw [slt_small (by rw [hnat u hu]; omega) (by omega), hnat u hu]
  have hsge : ∀ u : ℕ, u < 53248 → (IntOp.cmpi .sge (BitVec.ofNat 32 u) (nn ix0) = 1#1 ↔ (nn ix0).toNat ≤ u) := fun u hu => by
    rw [IntOp.cmpi_sge, BitVec.toInt_eq_toNat_of_lt (by omega), BitVec.toInt_eq_toNat_of_lt (by rw [hnat u hu]; omega), hnat u hu]; omega
  refine ⟨⟨fun u hu => ?_, fun u hu v hv hfu hfv hr hlt => ?_, fun g hg => ?_⟩, fun w q => ?_⟩
  · have e := e1 ⟨u, by omega⟩
    simp only [IntOp.ori_eq_one, IntOp.cmpi_eq, hsge u (by omega), shr_one, IntOp.andi] at e
    rcases e with (e | e) | e
    · omega
    · exact .inl ((congrArg (· &&& 1#32) (hw ⟨u, by omega⟩)).symm.trans e)
    · right
      have hn := (hI.norm u hu).1
      by_cases h0 : u < 1
      · rw [dif_pos h0] at e
        have e' := e.trans (congrArg rowW (hw ⟨u, by omega⟩))
        rw [← e'] at hn
        exact absurd hn (by decide)
      · rw [dif_neg h0] at e
        refine ⟨by omega, congrArg BitVec.toNat ?_⟩
        exact ((congrArg rowW (hw ⟨u - 1, by omega⟩)).symm.trans e).trans (congrArg rowW (hw ⟨u, by omega⟩))
  · have e := e2 ⟨u, by omega⟩ ⟨v, by omega⟩
    have wu := hw ⟨u, by omega⟩
    have wv := hw ⟨v, by omega⟩
    dsimp only at wu wv
    simp only [IntOp.ori_eq_one, IntOp.cmpi_eq, IntOp.cmpi_ne, IntOp.not_eq_one, IntOp.andi_eq_one, hslt u (by omega), hslt v (by omega), shr_one] at e
    rw [wu, wv] at e
    have k1 : IntOp.cmpi .slt (rowW (wordOf 1 x1 u)) 7680#32 = 1#1 := (slt_small (by omega) (by decide)).2 hlt
    have k2 : IntOp.cmpi .slt (rowW (wordOf 1 x1 v)) 7680#32 = 1#1 := (slt_small (by omega) (by decide)).2 (hr ▸ hlt)
    rcases e with ((e | e) | e) | e
    · have := congrArg BitVec.toNat e
      rwa [hnat u (by omega), hnat v (by omega)] at this
    · exact absurd ⟨⟨hu, hfu⟩, k1⟩ e
    · exact absurd ⟨⟨hv, hfv⟩, k2⟩ e
    · exact absurd (BitVec.eq_of_toNat_eq hr) e
  · obtain ⟨x, -, hx⟩ := fold_ori _ _ (e3 ⟨g, hg⟩)
    simp only [IntOp.cmpi_eq, IntOp.andi_eq_one, hslt x x.isLt, shr_one] at hx
    rw [hw x] at hx
    refine ⟨x, hx.1, ?_⟩
    rw [hx.2]
    show (8#32 * BitVec.ofNat 32 g).toNat = 8 * g
    simp [BitVec.toNat_mul]; omega
  · have e := e4 w q
    simp only [IntOp.andi_eq_one, IntOp.cmpi_sge, IntOp.cmpi_slt] at e
    have t0 : (0#32 : BitVec 32).toInt = 0 := by decide
    have t1 : (128#32 : BitVec 32).toInt = 128 := by decide
    rw [t0, t1, BitVec.toInt_eq_toNat_cond] at e
    split at e <;> omega

end Cert.Words

end
-- ==== Proof.RefOut1.lean ====
/-
  The two results of chunk 1's reference, read at an index.
-/
module

public import proofs.«01_k».proof.Proof.Gen.ReferenceIdeal.Run
public import proofs.«01_k».proof.Proof.Ref
public import Idealize.ShloMosaic.Lib.Pointwise

@[expose] public section

set_option maxRecDepth 16384
set_option maxHeartbeats 4000000

noncomputable section

namespace Cert.RefVal1

open Idealize.ShloMosaic Idealize.SL.Sem Idealize.ShloMosaic.TcCoe
open Cert.ReferenceIdeal Cert.ReferenceIdeal.Gen

variable (m : (ℓ : Loc nD τ sig) → Buf (Elt Ideal) ℓ) (c : Dev nD)

/-- The first result. -/
def out0 : S192x30208.Idx → EReal := Value.res_main_v54 m c
/-- The second result. -/
def out1 : S6x30208.Idx → EReal := Value.res_main_v57 m c

/-- The arguments, by their element types. -/
def x0 : IVec S425984x128 32 := m ((c.tc : Thread nD τ).loc main_arg0)
def x1 : IVec S212992 32 := m ((c.tc : Thread nD τ).loc main_arg1)
def x2 : FVec Ideal S6x32x64 .bf16 := m ((c.tc : Thread nD τ).loc main_arg2)
def x3 : IVec S60x128 32 := m ((c.tc : Thread nD τ).loc main_arg3)
def x4 : IVec S_ 32 := m ((c.tc : Thread nD τ).loc main_arg4)
def x5 : IVec S_ 32 := m ((c.tc : Thread nD τ).loc main_arg5)
def x6 : FVec Ideal S192x30208 .f32 := m ((c.tc : Thread nD τ).loc main_arg6)
def x7 : FVec Ideal S6x30208 .f32 := m ((c.tc : Thread nD τ).loc main_arg7)

/-- The best of every document of the chunk. -/
abbrev Y : FVec Ideal S192x7680 .f32 := RefVal.Y 1 (x0 m c) (x1 m c) (x2 m c) (x3 m c) (x4 m c) (x5 m c)

theorem out0_eq : out0 m c = (concatenate S192x30208 1 [⟨S192x7680, ((extractStridedSlice S192x7680 ![0, 0] (x6 m c) slices_S192x30208_S192x7680_0_0) : (⟨S192x7680, .f32⟩ : BufTy).Contents (Elt Ideal))⟩, ⟨S192x7680, ((Y m c) : (⟨S192x7680, .f32⟩ : BufTy).Contents (Elt Ideal))⟩, ⟨S192x14848, ((extractStridedSlice S192x14848 ![0, 15360] (x6 m c) slices_S192x30208_S192x14848_0_15360) : (⟨S192x14848, .f32⟩ : BufTy).Contents (Elt Ideal))⟩] concatenates_S192x7680_S192x7680_S192x14848_S192x30208_d1 : (⟨S192x30208, .f32⟩ : BufTy).Contents (Elt Ideal)) := rfl
theorem out1_eq : out1 m c = (concatenate S6x30208 1 [⟨S6x7680, ((extractStridedSlice S6x7680 ![0, 0] (x7 m c) slices_S6x30208_S6x7680_0_0) : (⟨S6x7680, .f32⟩ : BufTy).Contents (Elt Ideal))⟩, ⟨S6x7680, ((Host.reduceAdd (shapeCast _ (Y m c) shapeCasts_S192x7680_S6x32x7680) (constant S_ .f32 0x00000000#32) reducesTo_S6x32x7680_S6x7680_d1 h_S_) : (⟨S6x7680, .f32⟩ : BufTy).Contents (Elt Ideal))⟩, ⟨S6x14848, ((extractStridedSlice S6x14848 ![0, 15360] (x7 m c) slices_S6x30208_S6x14848_0_15360) : (⟨S6x14848, .f32⟩ : BufTy).Contents (Elt Ideal))⟩] concatenates_S6x7680_S6x7680_S6x14848_S6x30208_d1 : (⟨S6x30208, .f32⟩ : BufTy).Contents (Elt Ideal)) := rfl

theorem out0_at (n : Fin 192) (j : Fin 30208) : out0 m c (ix2 n j)
    = if h : j.val < 7680 then (x6 m c) (ix2 n j)
      else if h' : j.val < 15360 then Y m c (ix2 n ⟨j.val - 7680, by omega⟩)
      else (x6 m c) (ix2 n j) := by
  rw [out0_eq]
  generalize Y m c = y
  pointwise
  by_cases h : j.val < 7680
  · simp only [h, ↓reduceDIte]
  · simp only [h, ↓reduceDIte]
    by_cases h' : j.val < 15360
    · rw [dif_pos (by omega), dif_pos h']
    · rw [dif_neg (by omega), dif_neg h']
      exact congrArg (fun k => x6 m c (ix2 n k)) (Fin.ext (by show 15360 + (j.val - 7680 - 7680) = j.val; omega))

theorem out1_at (n : Fin 6) (j : Fin 30208) : out1 m c (ix2 n j)
    = if h : j.val < 7680 then (x7 m c) (ix2 n j)
      else if h' : j.val < 15360 then ∑ x : Fin 32, (show EReal from Y m c (ix2 ⟨n.val * 32 + x.val, by omega⟩ ⟨j.val - 7680, by omega⟩))
      else (x7 m c) (ix2 n j) := by
  rw [out1_eq]
  generalize Y m c = y
  pointwise
  by_cases h : j.val < 7680
  · simp only [h, ↓reduceDIte]
  · simp only [h, ↓reduceDIte]
    by_cases h' : j.val < 15360
    · rw [dif_pos (by omega), dif_pos h']
    · rw [dif_neg (by omega), dif_neg h']
      exact congrArg (fun k => x7 m c (ix2 n k)) (Fin.ext (by show 15360 + (j.val - 7680 - 7680) = j.val; omega))

end Cert.RefVal1

end
-- ==== Proof.Pre2.lean ====
/-
  What the preconditions of chunk 2 say of the counts, the destination words and the ranks.
-/
module

public import proofs.«01_k».proof.Proof.Grouped
public import proofs.«01_k».proof.Proof.Gen.Pre_in_bounds_2
public import proofs.«01_k».proof.Proof.Gen.Pre_grouped_2

@[expose] public section

set_option maxRecDepth 16384
set_option maxHeartbeats 2000000

noncomputable section

namespace Cert.Words

open Idealize.ShloMosaic

variable {F : FTy → Type} [FloatOps F]

local instance : Subsingleton (⟨0, ![]⟩ : Shape).Idx := ⟨fun a b => funext fun i => i.elim0⟩

theorem slice_at2 (x1 : IVec (⟨1, ![212992]⟩ : Shape) 32) (h : (⟨1, ![212992]⟩ : Shape).Slices ![106496] (⟨1, ![53248]⟩ : Shape)) {u : Nat} (hu : u < 53248) :
    extractStridedSlice (⟨1, ![53248]⟩ : Shape) ![106496] x1 h (ValueIdx.ix1 (⟨u, hu⟩ : Fin 53248)) = wordOf 2 x1 u := slice_of 2 _ rfl x1 h hu

/-- The precondition `in_bounds_2`, read as numbers. -/
theorem inB_of_pre2 [Cert.Pre_in_bounds_2.Facts] (x0 : IVec Cert.Pre_in_bounds_2.S425984x128 32) (x1 : IVec Cert.Pre_in_bounds_2.S212992 32)
    (x2 : FVec F Cert.Pre_in_bounds_2.S6x32x64 .bf16) (x3 : IVec Cert.Pre_in_bounds_2.S60x128 32)
    (nn na : IVec Cert.Pre_in_bounds_2.S_ 32) (x6 : FVec F Cert.Pre_in_bounds_2.S192x30208 .f32) (x7 : FVec F Cert.Pre_in_bounds_2.S6x30208 .f32)
    (z : Cert.Pre_in_bounds_2.S_.Idx)
    (h : Cert.Pre_in_bounds_2.fn x0 x1 x2 x3 nn na x6 x7 = fun _ => 1#1) :
    InB (nn z) (na z) (wordOf 2 x1) := by
  have hz := congrFun h z
  simp only [Cert.Pre_in_bounds_2.fn, Cert.Pre_in_bounds_2.fn_part1, Cert.Pre_in_bounds_2.fn_part2] at hz
  obtain ⟨hz, h36⟩ := IntOp.andi_eq_one.1 hz
  obtain ⟨h10, h24⟩ := IntOp.andi_eq_one.1 hz
  refine inB_mk h10 (fun u hu => ?_) (fun u hu => ?_)
  · have := Host.reduce_andi_all _ _ _ _ _ h24 (ValueIdx.ix1 (⟨u, hu⟩ : Fin 53248))
    simp only [ori, andi, cmpi, fill_i _ _ _ z, constantI, Host.shrsi, shr_one, slice_at2, iota_at] at this
    exact this
  · have := Host.reduce_andi_all _ _ _ _ _ h36 (ValueIdx.ix1 (⟨u, hu⟩ : Fin 53248))
    simp only [ori, andi, cmpi, fill_i _ _ _ z, constantI, Host.shrsi, shr_one, slice_at2, iota_at] at this
    exact this

/-- The first conjunct of the precondition `grouped_2` is `in_bounds_2`. -/
theorem inB_of_grouped2 [Cert.Pre_grouped_2.Facts] (x0 : IVec Cert.Pre_grouped_2.S425984x128 32) (x1 : IVec Cert.Pre_grouped_2.S212992 32)
    (x2 : FVec F Cert.Pre_grouped_2.S6x32x64 .bf16) (x3 : IVec Cert.Pre_grouped_2.S60x128 32)
    (nn na : IVec Cert.Pre_grouped_2.S_ 32) (x6 : FVec F Cert.Pre_grouped_2.S192x30208 .f32) (x7 : FVec F Cert.Pre_grouped_2.S6x30208 .f32)
    (z : Cert.Pre_grouped_2.S_.Idx)
    (h : Cert.Pre_grouped_2.fn x0 x1 x2 x3 nn na x6 x7 = fun _ => 1#1) :
    InB (nn z) (na z) (wordOf 2 x1) := by
  have hz := congrFun h z
  simp only [Cert.Pre_grouped_2.fn, Cert.Pre_grouped_2.fn_part1, Cert.Pre_grouped_2.fn_part2, Cert.Pre_grouped_2.fn_part3,
    Cert.Pre_grouped_2.fn_part4, Cert.Pre_grouped_2.fn_part5] at hz
  obtain ⟨hz, -⟩ := IntOp.andi_eq_one.1 hz
  obtain ⟨hz, -⟩ := IntOp.andi_eq_one.1 hz
  obtain ⟨hz, -⟩ := IntOp.andi_eq_one.1 hz
  obtain ⟨hz, -⟩ := IntOp.andi_eq_one.1 hz
  obtain ⟨hz, h36⟩ := IntOp.andi_eq_one.1 hz
  obtain ⟨h10, h24⟩ := IntOp.andi_eq_one.1 hz
  refine inB_mk h10 (fun u hu => ?_) (fun u hu => ?_)
  · have := Host.reduce_andi_all _ _ _ _ _ h24 (ValueIdx.ix1 (⟨u, hu⟩ : Fin 53248))
    simp only [ori, andi, cmpi, fill_i _ _ _ z, constantI, Host.shrsi, shr_one, slice_at2, iota_at] at this
    exact this
  · have := Host.reduce_andi_all _ _ _ _ _ h36 (ValueIdx.ix1 (⟨u, hu⟩ : Fin 53248))
    simp only [ori, andi, cmpi, fill_i _ _ _ z, constantI, Host.shrsi, shr_one, slice_at2, iota_at] at this
    exact this

theorem grouped_raw2 [Cert.Pre_grouped_2.Facts] (x0 : IVec Cert.Pre_grouped_2.S425984x128 32) (x1 : IVec Cert.Pre_grouped_2.S212992 32)
    (x2 : FVec F Cert.Pre_grouped_2.S6x32x64 .bf16) (x3 : IVec Cert.Pre_grouped_2.S60x128 32)
    (nn na : IVec Cert.Pre_grouped_2.S_ 32) (x6 : FVec F Cert.Pre_grouped_2.S192x30208 .f32) (x7 : FVec F Cert.Pre_grouped_2.S6x30208 .f32)
    (z : Cert.Pre_grouped_2.S_.Idx)
    (h : Cert.Pre_grouped_2.fn x0 x1 x2 x3 nn na x6 x7 = fun _ => 1#1) :
    Grp (nn z).toNat (wordOf 2 x1) ∧ ∀ w q, (x3 (ix2 w q)).toNat < 128 := by
  have hz := congrFun h z
  simp only [Cert.Pre_grouped_2.fn, Cert.Pre_grouped_2.fn_part1, Cert.Pre_grouped_2.fn_part2, Cert.Pre_grouped_2.fn_part3,
    Cert.Pre_grouped_2.fn_part4, Cert.Pre_grouped_2.fn_part5] at hz
  obtain ⟨hz, hR⟩ := IntOp.andi_eq_one.1 hz
  obtain ⟨hz, hL⟩ := IntOp.andi_eq_one.1 hz
  obtain ⟨hz, hO⟩ := IntOp.andi_eq_one.1 hz
  obtain ⟨hz, hF⟩ := IntOp.andi_eq_one.1 hz
  have e1 : ∀ u : Fin 53248, _ := fun u => Host.reduce_andi_all _ _ _ _ _ hF (ix1 u)
  have e2 : ∀ u v : Fin 53248, _ := fun u v => Host.reduce_andi_all _ _ _ _ _ hO (ix2 u v)
  have e3 : ∀ g : Fin 960, _ := fun g => Host.reduce_andi_all _ _ _ _ _ hL (ix1 g)
  have e4 : ∀ (w : Fin 60) (q : Fin 128), _ := fun w q => Host.reduce_andi_all _ _ _ _ _ hR (ix2 w q)
  clear hR hL hO hF hz
  have hI := inB_of_grouped2 x0 x1 x2 x3 nn na x6 x7 z h
  rw [Subsingleton.elim z ix0] at hI ⊢
  revert e1 e2 e3 e4
  pointwise
  intro e1 e2 e3 e4
  have hle := hI.nn_le
  have hcap := hI.le_cap
  have hw : ∀ u : Fin 53248, x1 (ix1 ⟨106496 + u.val, by omega⟩) = wordOf 2 x1 u.val := fun u => ((wordOf_lt 2 x1 u.isLt).trans rfl).symm
  have hnat : ∀ u : ℕ, u < 53248 → (BitVec.ofNat 32 u).toNat = u := fun u hu => by simp; omega
  have hslt : ∀ u : ℕ, u < 53248 → (IntOp.cmpi .slt (BitVec.ofNat 32 u) (nn ix0) = 1#1 ↔ u < (nn ix0).toNat) := fun u hu => by
    rw [slt_small (by rw [hnat u hu]; omega) (by omega), hnat u hu]
  have hsge : ∀ u : ℕ, u < 53248 → (IntOp.cmpi .sge (BitVec.ofNat 32 u) (nn ix0) = 1#1 ↔ (nn ix0).toNat ≤ u) := fun u hu => by
    rw [IntOp.cmpi_sge, BitVec.toInt_eq_toNat_of_lt (by omega), BitVec.toInt_eq_toNat_of_lt (by rw [hnat u hu]; omega), hnat u hu]; omega
  refine ⟨⟨fun u hu => ?_, fun u hu v hv hfu hfv hr hlt => ?_, fun g hg => ?_⟩, fun w q => ?_⟩
  · have e := e1 ⟨u, by omega⟩
    simp only [IntOp.ori_eq_one, IntOp.cmpi_eq, hsge u (by omega), shr_one, IntOp.andi] at e
    rcases e with (e | e) | e
    · omega
    · exact .inl ((congrArg (· &&& 1#32) (hw ⟨u, by omega⟩)).symm.trans e)
    · right
      have hn := (hI.norm u hu).1
      by_cases h0 : u < 1
      · rw [dif_pos h0] at e
        have e' := e.trans (congrArg rowW (hw ⟨u, by omega⟩))
        rw [← e'] at hn
        exact absurd hn (by decide)
      · rw [dif_neg h0] at e
        refine ⟨by omega, congrArg BitVec.toNat ?_⟩
        exact ((congrArg rowW (hw ⟨u - 1, by omega⟩)).symm.trans e).trans (congrArg rowW (hw ⟨u, by omega⟩))
  · have e := e2 ⟨u, by omega⟩ ⟨v, by omega⟩
    have wu := hw ⟨u, by omega⟩
    have wv := hw ⟨v, by omega⟩
    dsimp only at wu wv
    simp only [IntOp.ori_eq_one, IntOp.cmpi_eq, IntOp.cmpi_ne, IntOp.not_eq_one, IntOp.andi_eq_one, hslt u (by omega), hslt v (by omega), shr_one] at e
    rw [wu, wv] at e
    have k1 : IntOp.cmpi .slt (rowW (wordOf 2 x1 u)) 7680#32 = 1#1 := (slt_small (by omega) (by decide)).2 hlt
    have k2 : IntOp.cmpi .slt (rowW (wordOf 2 x1 v)) 7680#32 = 1#1 := (slt_small (by omega) (by decide)).2 (hr ▸ hlt)
    rcases e with ((e | e) | e) | e
    · have := congrArg BitVec.toNat e
      rwa [hnat u (by omega), hnat v (by omega)] at this
    · exact absurd ⟨⟨hu, hfu⟩, k1⟩ e
    · exact absurd ⟨⟨hv, hfv⟩, k2⟩ e
    · exact absurd (BitVec.eq_of_toNat_eq hr) e
  · obtain ⟨x, -, hx⟩ := fold_ori _ _ (e3 ⟨g, hg⟩)
    simp only [IntOp.cmpi_eq, IntOp.andi_eq_one, hslt x x.isLt, shr_one] at hx
    rw [hw x] at hx
    refine ⟨x, hx.1, ?_⟩
    rw [hx.2]
    show (8#32 * BitVec.ofNat 32 g).toNat = 8 * g
    simp [BitVec.toNat_mul]; omega
  · have e := e4 w q
    simp only [IntOp.andi_eq_one, IntOp.cmpi_sge, IntOp.cmpi_slt] at e
    have t0 : (0#32 : BitVec 32).toInt = 0 := by decide
    have t1 : (128#32 : BitVec 32).toInt = 128 := by decide
    rw [t0, t1, BitVec.toInt_eq_toNat_cond] at e
    split at e <;> omega

end Cert.Words

end
-- ==== Proof.RefOut2.lean ====
/-
  The two results of chunk 2's reference, read at an index.
-/
module

public import proofs.«01_k».proof.Proof.Gen.Reference2Ideal.Run
public import proofs.«01_k».proof.Proof.Ref
public import Idealize.ShloMosaic.Lib.Pointwise

@[expose] public section

set_option maxRecDepth 16384
set_option maxHeartbeats 4000000

noncomputable section

namespace Cert.RefVal2

open Idealize.ShloMosaic Idealize.SL.Sem Idealize.ShloMosaic.TcCoe
open Cert.Reference2Ideal Cert.Reference2Ideal.Gen

variable (m : (ℓ : Loc nD τ sig) → Buf (Elt Ideal) ℓ) (c : Dev nD)

/-- The first result. -/
def out0 : S192x30208.Idx → EReal := Value.res_main_v54 m c
/-- The second result. -/
def out1 : S6x30208.Idx → EReal := Value.res_main_v57 m c

/-- The arguments, by their element types. -/
def x0 : IVec S425984x128 32 := m ((c.tc : Thread nD τ).loc main_arg0)
def x1 : IVec S212992 32 := m ((c.tc : Thread nD τ).loc main_arg1)
def x2 : FVec Ideal S6x32x64 .bf16 := m ((c.tc : Thread nD τ).loc main_arg2)
def x3 : IVec S60x128 32 := m ((c.tc : Thread nD τ).loc main_arg3)
def x4 : IVec S_ 32 := m ((c.tc : Thread nD τ).loc main_arg4)
def x5 : IVec S_ 32 := m ((c.tc : Thread nD τ).loc main_arg5)
def x6 : FVec Ideal S192x30208 .f32 := m ((c.tc : Thread nD τ).loc main_arg6)
def x7 : FVec Ideal S6x30208 .f32 := m ((c.tc : Thread nD τ).loc main_arg7)

/-- The best of every document of the chunk. -/
abbrev Y : FVec Ideal S192x7680 .f32 := RefVal.Y 2 (x0 m c) (x1 m c) (x2 m c) (x3 m c) (x4 m c) (x5 m c)

theorem out0_eq : out0 m c = (concatenate S192x30208 1 [⟨S192x15360, ((extractStridedSlice S192x15360 ![0, 0] (x6 m c) slices_S192x30208_S192x15360_0_0) : (⟨S192x15360, .f32⟩ : BufTy).Contents (Elt Ideal))⟩, ⟨S192x7680, ((Y m c) : (⟨S192x7680, .f32⟩ : BufTy).Contents (Elt Ideal))⟩, ⟨S192x7168, ((extractStridedSlice S192x7168 ![0, 23040] (x6 m c) slices_S192x30208_S192x7168_0_23040) : (⟨S192x7168, .f32⟩ : BufTy).Contents (Elt Ideal))⟩] concatenates_S192x15360_S192x7680_S192x7168_S192x30208_d1 : (⟨S192x30208, .f32⟩ : BufTy).Contents (Elt Ideal)) := rfl
theorem out1_eq : out1 m c = (concatenate S6x30208 1 [⟨S6x15360, ((extractStridedSlice S6x15360 ![0, 0] (x7 m c) slices_S6x30208_S6x15360_0_0) : (⟨S6x15360, .f32⟩ : BufTy).Contents (Elt Ideal))⟩, ⟨S6x7680, ((Host.reduceAdd (shapeCast _ (Y m c) shapeCasts_S192x7680_S6x32x7680) (constant S_ .f32 0x00000000#32) reducesTo_S6x32x7680_S6x7680_d1 h_S_) : (⟨S6x7680, .f32⟩ : BufTy).Contents (Elt Ideal))⟩, ⟨S6x7168, ((extractStridedSlice S6x7168 ![0, 23040] (x7 m c) slices_S6x30208_S6x7168_0_23040) : (⟨S6x7168, .f32⟩ : BufTy).Contents (Elt Ideal))⟩] concatenates_S6x15360_S6x7680_S6x7168_S6x30208_d1 : (⟨S6x30208, .f32⟩ : BufTy).Contents (Elt Ideal)) := rfl

theorem out0_at (n : Fin 192) (j : Fin 30208) : out0 m c (ix2 n j)
    = if h : j.val < 15360 then (x6 m c) (ix2 n j)
      else if h' : j.val < 23040 then Y m c (ix2 n ⟨j.val - 15360, by omega⟩)
      else (x6 m c) (ix2 n j) := by
  rw [out0_eq]
  generalize Y m c = y
  pointwise
  by_cases h : j.val < 15360
  · simp only [h, ↓reduceDIte]
  · simp only [h, ↓reduceDIte]
    by_cases h' : j.val < 23040
    · rw [dif_pos (by omega), dif_pos h']
    · rw [dif_neg (by omega), dif_neg h']
      exact congrArg (fun k => x6 m c (ix2 n k)) (Fin.ext (by show 23040 + (j.val - 15360 - 7680) = j.val; omega))

theorem out1_at (n : Fin 6) (j : Fin 30208) : out1 m c (ix2 n j)
    = if h : j.val < 15360 then (x7 m c) (ix2 n j)
      else if h' : j.val < 23040 then ∑ x : Fin 32, (show EReal from Y m c (ix2 ⟨n.val * 32 + x.val, by omega⟩ ⟨j.val - 15360, by omega⟩))
      else (x7 m c) (ix2 n j) := by
  rw [out1_eq]
  generalize Y m c = y
  pointwise
  by_cases h : j.val < 15360
  · simp only [h, ↓reduceDIte]
  · simp only [h, ↓reduceDIte]
    by_cases h' : j.val < 23040
    · rw [dif_pos (by omega), dif_pos h']
    · rw [dif_neg (by omega), dif_neg h']
      exact congrArg (fun k => x7 m c (ix2 n k)) (Fin.ext (by show 23040 + (j.val - 15360 - 7680) = j.val; omega))

end Cert.RefVal2

end
-- ==== Proof.lean ====
/-
  The claims of this certificate, for the calls of chunks 0, 1 and 2. The call is treated once, with the chunk as a variable
  (Proof/Call.lean, Proof/Runs.lean), and each printed program is that call at its chunk (Proof/Twin*.lean); the references are host
  operations only. The kernel's results and the reference's are described by the same bounds (Proof/Values.lean), so they are equal.
-/
module

public import proofs.«01_k».proof.Defs
public import proofs.«01_k».proof.Proof.Gen.Kernel
public import proofs.«01_k».proof.Proof.Gen.KernelIdeal
public import proofs.«01_k».proof.Proof.Gen.Kernel0
public import proofs.«01_k».proof.Proof.Gen.Kernel0Ideal
public import proofs.«01_k».proof.Proof.Gen.Kernel2
public import proofs.«01_k».proof.Proof.Gen.Kernel2Ideal
public import proofs.«01_k».proof.Proof.Gen.Pre_in_bounds
public import proofs.«01_k».proof.Proof.Gen.Pre_grouped
public import proofs.«01_k».proof.Proof.Gen.Pre_in_bounds_0
public import proofs.«01_k».proof.Proof.Gen.Pre_grouped_0
public import proofs.«01_k».proof.Proof.Gen.Pre_in_bounds_2
public import proofs.«01_k».proof.Proof.Gen.Pre_grouped_2
public import proofs.«01_k».proof.Proof.Gen.ReferenceIdeal
public import proofs.«01_k».proof.Proof.Gen.ReferenceIdeal.Run
public import proofs.«01_k».proof.Proof.Gen.Reference0Ideal
public import proofs.«01_k».proof.Proof.Gen.Reference0Ideal.Run
public import proofs.«01_k».proof.Proof.Gen.Reference2Ideal
public import proofs.«01_k».proof.Proof.Gen.Reference2Ideal.Run
public import proofs.«01_k».proof.Proof.TwinKernel
public import proofs.«01_k».proof.Proof.TwinKernelIdeal
public import proofs.«01_k».proof.Proof.TwinKernel0
public import proofs.«01_k».proof.Proof.TwinKernel0Ideal
public import proofs.«01_k».proof.Proof.TwinKernel2
public import proofs.«01_k».proof.Proof.TwinKernel2Ideal
public import proofs.«01_k».proof.Proof.Pre0
public import proofs.«01_k».proof.Proof.RefOut0
public import proofs.«01_k».proof.Proof.Pre1
public import proofs.«01_k».proof.Proof.RefOut1
public import proofs.«01_k».proof.Proof.Pre2
public import proofs.«01_k».proof.Proof.RefOut2

@[expose] public section

noncomputable section

namespace Cert.Proof

open Idealize.ShloMosaic Idealize.SL.Sem Cert.Words

attribute [local instance] Cert.Kernel.Gen.facts
  Cert.KernelIdeal.Gen.facts
  Cert.Kernel0.Gen.facts
  Cert.Kernel0Ideal.Gen.facts
  Cert.Kernel2.Gen.facts
  Cert.Kernel2Ideal.Gen.facts
  Cert.Pre_in_bounds.Gen.facts
  Cert.Pre_grouped.Gen.facts
  Cert.Pre_in_bounds_0.Gen.facts
  Cert.Pre_grouped_0.Gen.facts
  Cert.Pre_in_bounds_2.Gen.facts
  Cert.Pre_grouped_2.Gen.facts
  Cert.ReferenceIdeal.Gen.facts
  Cert.Reference0Ideal.Gen.facts
  Cert.Reference2Ideal.Gen.facts

/-! ## Chunk 1 -/

theorem frame_kernel1 : Cert.quiescent_Kernel := fun m g h =>
  Cert.Twin.Kernel.runF Bits m g (inB_of_pre1 _ _ _ _ _ _ _ _ ix0 (h 0))

theorem frame_ideal1 : Cert.quiescent_KernelIdeal := fun m g h =>
  Cert.Twin.KernelIdeal.runF Ideal m g (inB_of_pre1 _ _ _ _ _ _ _ _ ix0 (h 0))

theorem frame_ideal_grouped1 : Cert.quiescent_KernelIdeal_pre_grouped := fun m g h =>
  Cert.Twin.KernelIdeal.runF Ideal m g (inB_of_grouped1 _ _ _ _ _ _ _ _ ix0 (h 0))

theorem frame_reference1 : Cert.quiescent_ReferenceIdeal := fun m g _ =>
  (θ_run _ _ _).mono (fun r h => ⟨fun c => (h c).2.2, Idealize.ShloMosaic.sem_eq_zero_of_no_sems (by decide) r.2⟩)
    (Cert.ReferenceIdeal.Value.run m g)

theorem frame_reference_grouped1 : Cert.quiescent_ReferenceIdeal_pre_grouped := fun m g _ => frame_reference1 m g trivial

theorem algebraic1 : Cert.algebraic_KernelIdeal_ReferenceIdeal_pre_grouped := fun m g m' g' hp ha => by
  have hI : InB (Cert.KernelIdeal.Units.nnOf m) (Cert.KernelIdeal.Units.naOf m) (Cert.KernelIdeal.Units.wdOf 1 m) :=
    inB_of_grouped1 _ _ _ _ _ _ _ _ ix0 (hp 0)
  have hGK : Grp (Cert.KernelIdeal.Units.nnOf m).toNat (Cert.KernelIdeal.Units.wdOf 1 m) ∧ ∀ w q, (Cert.KernelIdeal.Units.kOf m (ix2 w q)).toNat < 128 :=
    grouped_raw1 _ _ _ _ _ _ _ _ ix0 (hp 0)
  obtain ⟨hG, hK⟩ := hGK
  have h0 := ha 0
  have hZ : ∀ n j, Cert.KernelIdeal.Units.IsTop m hI hG (Cert.KernelIdeal.Units.rowAt m j) n (Cert.RefVal1.Y m' (0 : Dev Cert.ReferenceIdeal.nD) (ix2 n j)) := fun n j =>
    Cert.KernelIdeal.Units.ref_isTop m hI hG _ _ _ _ _ _ h0.1 h0.2.1 h0.2.2.1 h0.2.2.2.1 (congrFun h0.2.2.2.2.1 ix0) (congrFun h0.2.2.2.2.2.1 ix0) hK n j
  refine ⟨fun c => Cert.ReferenceIdeal.Value.res_main_v54 m' c, fun c => Cert.ReferenceIdeal.Value.res_main_v57 m' c, ?_, ?_⟩
  · refine Cert.Twin.KernelIdeal.runV m g (fun c => Cert.RefVal1.out0 m' c) (fun c => Cert.RefVal1.out1 m' c)
      ⟨hI, hG, fun n j => Cert.RefVal1.Y m' (0 : Dev Cert.ReferenceIdeal.nD) (ix2 n j), hK, hZ, fun c n J => ?_, fun c n J => ?_⟩
    · obtain rfl : c = 0 := Subsingleton.elim _ _
      have e : Cert.RefVal1.x6 m' (0 : Dev Cert.ReferenceIdeal.nD) = m (((0 : Dev Cert.KernelIdeal.nD).tc : Thread Cert.KernelIdeal.nD Cert.KernelIdeal.τ).loc Cert.KernelIdeal.main_arg6) := h0.2.2.2.2.2.2.1
      refine (Cert.RefVal1.out0_at m' (0 : Dev Cert.ReferenceIdeal.nD) n J).trans ?_
      rw [e]
      rfl
    · obtain rfl : c = 0 := Subsingleton.elim _ _
      have e : Cert.RefVal1.x7 m' (0 : Dev Cert.ReferenceIdeal.nD) = m (((0 : Dev Cert.KernelIdeal.nD).tc : Thread Cert.KernelIdeal.nD Cert.KernelIdeal.τ).loc Cert.KernelIdeal.main_arg7) := h0.2.2.2.2.2.2.2
      refine (Cert.RefVal1.out1_at m' (0 : Dev Cert.ReferenceIdeal.nD) n J).trans ?_
      rw [e]
      rfl
  · exact (θ_run _ _ _).mono (fun r h => h) (Cert.ReferenceIdeal.Value.run m' g')

/-! ## Chunk 0 -/

theorem frame_kernel0 : Cert.quiescent_Kernel0 := fun m g h =>
  Cert.Twin.Kernel0.runF Bits m g (inB_of_pre0 _ _ _ _ _ _ _ _ ix0 (h 0))

theorem frame_ideal0 : Cert.quiescent_Kernel0Ideal := fun m g h =>
  Cert.Twin.Kernel0Ideal.runF Ideal m g (inB_of_pre0 _ _ _ _ _ _ _ _ ix0 (h 0))

theorem frame_ideal_grouped0 : Cert.quiescent_Kernel0Ideal_pre_grouped_0 := fun m g h =>
  Cert.Twin.Kernel0Ideal.runF Ideal m g (inB_of_grouped0 _ _ _ _ _ _ _ _ ix0 (h 0))

theorem frame_reference0 : Cert.quiescent_Reference0Ideal := fun m g _ =>
  (θ_run _ _ _).mono (fun r h => ⟨fun c => (h c).2.2, Idealize.ShloMosaic.sem_eq_zero_of_no_sems (by decide) r.2⟩)
    (Cert.Reference0Ideal.Value.run m g)

theorem frame_reference_grouped0 : Cert.quiescent_Reference0Ideal_pre_grouped_0 := fun m g _ => frame_reference0 m g trivial

theorem algebraic0 : Cert.algebraic_Kernel0Ideal_Reference0Ideal_pre_grouped_0 := fun m g m' g' hp ha => by
  have hI : InB (Cert.KernelIdeal.Units.nnOf m) (Cert.KernelIdeal.Units.naOf m) (Cert.KernelIdeal.Units.wdOf 0 m) :=
    inB_of_grouped0 _ _ _ _ _ _ _ _ ix0 (hp 0)
  have hGK : Grp (Cert.KernelIdeal.Units.nnOf m).toNat (Cert.KernelIdeal.Units.wdOf 0 m) ∧ ∀ w q, (Cert.KernelIdeal.Units.kOf m (ix2 w q)).toNat < 128 :=
    grouped_raw0 _ _ _ _ _ _ _ _ ix0 (hp 0)
  obtain ⟨hG, hK⟩ := hGK
  have h0 := ha 0
  have hZ : ∀ n j, Cert.KernelIdeal.Units.IsTop m hI hG (Cert.KernelIdeal.Units.rowAt m j) n (Cert.RefVal0.Y m' (0 : Dev Cert.Reference0Ideal.nD) (ix2 n j)) := fun n j =>
    Cert.KernelIdeal.Units.ref_isTop m hI hG _ _ _ _ _ _ h0.1 h0.2.1 h0.2.2.1 h0.2.2.2.1 (congrFun h0.2.2.2.2.1 ix0) (congrFun h0.2.2.2.2.2.1 ix0) hK n j
  refine ⟨fun c => Cert.Reference0Ideal.Value.res_main_v54 m' c, fun c => Cert.Reference0Ideal.Value.res_main_v57 m' c, ?_, ?_⟩
  · refine Cert.Twin.Kernel0Ideal.runV m g (fun c => Cert.RefVal0.out0 m' c) (fun c => Cert.RefVal0.out1 m' c)
      ⟨hI, hG, fun n j => Cert.RefVal0.Y m' (0 : Dev Cert.Reference0Ideal.nD) (ix2 n j), hK, hZ, fun c n J => ?_, fun c n J => ?_⟩
    · obtain rfl : c = 0 := Subsingleton.elim _ _
      have e : Cert.RefVal0.x6 m' (0 : Dev Cert.Reference0Ideal.nD) = m (((0 : Dev Cert.Kernel0Ideal.nD).tc : Thread Cert.Kernel0Ideal.nD Cert.Kernel0Ideal.τ).loc Cert.Kernel0Ideal.main_arg6) := h0.2.2.2.2.2.2.1
      refine (Cert.RefVal0.out0_at m' (0 : Dev Cert.Reference0Ideal.nD) n J).trans ?_
      rw [e]
      rfl
    · obtain rfl : c = 0 := Subsingleton.elim _ _
      have e : Cert.RefVal0.x7 m' (0 : Dev Cert.Reference0Ideal.nD) = m (((0 : Dev Cert.Kernel0Ideal.nD).tc : Thread Cert.Kernel0Ideal.nD Cert.Kernel0Ideal.τ).loc Cert.Kernel0Ideal.main_arg7) := h0.2.2.2.2.2.2.2
      refine (Cert.RefVal0.out1_at m' (0 : Dev Cert.Reference0Ideal.nD) n J).trans ?_
      rw [e]
      rfl
  · exact (θ_run _ _ _).mono (fun r h => h) (Cert.Reference0Ideal.Value.run m' g')

/-! ## Chunk 2 -/

theorem frame_kernel2 : Cert.quiescent_Kernel2 := fun m g h =>
  Cert.Twin.Kernel2.runF Bits m g (inB_of_pre2 _ _ _ _ _ _ _ _ ix0 (h 0))

theorem frame_ideal2 : Cert.quiescent_Kernel2Ideal := fun m g h =>
  Cert.Twin.Kernel2Ideal.runF Ideal m g (inB_of_pre2 _ _ _ _ _ _ _ _ ix0 (h 0))

theorem frame_ideal_grouped2 : Cert.quiescent_Kernel2Ideal_pre_grouped_2 := fun m g h =>
  Cert.Twin.Kernel2Ideal.runF Ideal m g (inB_of_grouped2 _ _ _ _ _ _ _ _ ix0 (h 0))

theorem frame_reference2 : Cert.quiescent_Reference2Ideal := fun m g _ =>
  (θ_run _ _ _).mono (fun r h => ⟨fun c => (h c).2.2, Idealize.ShloMosaic.sem_eq_zero_of_no_sems (by decide) r.2⟩)
    (Cert.Reference2Ideal.Value.run m g)

theorem frame_reference_grouped2 : Cert.quiescent_Reference2Ideal_pre_grouped_2 := fun m g _ => frame_reference2 m g trivial

theorem algebraic2 : Cert.algebraic_Kernel2Ideal_Reference2Ideal_pre_grouped_2 := fun m g m' g' hp ha => by
  have hI : InB (Cert.KernelIdeal.Units.nnOf m) (Cert.KernelIdeal.Units.naOf m) (Cert.KernelIdeal.Units.wdOf 2 m) :=
    inB_of_grouped2 _ _ _ _ _ _ _ _ ix0 (hp 0)
  have hGK : Grp (Cert.KernelIdeal.Units.nnOf m).toNat (Cert.KernelIdeal.Units.wdOf 2 m) ∧ ∀ w q, (Cert.KernelIdeal.Units.kOf m (ix2 w q)).toNat < 128 :=
    grouped_raw2 _ _ _ _ _ _ _ _ ix0 (hp 0)
  obtain ⟨hG, hK⟩ := hGK
  have h0 := ha 0
  have hZ : ∀ n j, Cert.KernelIdeal.Units.IsTop m hI hG (Cert.KernelIdeal.Units.rowAt m j) n (Cert.RefVal2.Y m' (0 : Dev Cert.Reference2Ideal.nD) (ix2 n j)) := fun n j =>
    Cert.KernelIdeal.Units.ref_isTop m hI hG _ _ _ _ _ _ h0.1 h0.2.1 h0.2.2.1 h0.2.2.2.1 (congrFun h0.2.2.2.2.1 ix0) (congrFun h0.2.2.2.2.2.1 ix0) hK n j
  refine ⟨fun c => Cert.Reference2Ideal.Value.res_main_v54 m' c, fun c => Cert.Reference2Ideal.Value.res_main_v57 m' c, ?_, ?_⟩
  · refine Cert.Twin.Kernel2Ideal.runV m g (fun c => Cert.RefVal2.out0 m' c) (fun c => Cert.RefVal2.out1 m' c)
      ⟨hI, hG, fun n j => Cert.RefVal2.Y m' (0 : Dev Cert.Reference2Ideal.nD) (ix2 n j), hK, hZ, fun c n J => ?_, fun c n J => ?_⟩
    · obtain rfl : c = 0 := Subsingleton.elim _ _
      have e : Cert.RefVal2.x6 m' (0 : Dev Cert.Reference2Ideal.nD) = m (((0 : Dev Cert.Kernel2Ideal.nD).tc : Thread Cert.Kernel2Ideal.nD Cert.Kernel2Ideal.τ).loc Cert.Kernel2Ideal.main_arg6) := h0.2.2.2.2.2.2.1
      refine (Cert.RefVal2.out0_at m' (0 : Dev Cert.Reference2Ideal.nD) n J).trans ?_
      rw [e]
      rfl
    · obtain rfl : c = 0 := Subsingleton.elim _ _
      have e : Cert.RefVal2.x7 m' (0 : Dev Cert.Reference2Ideal.nD) = m (((0 : Dev Cert.Kernel2Ideal.nD).tc : Thread Cert.Kernel2Ideal.nD Cert.Kernel2Ideal.τ).loc Cert.Kernel2Ideal.main_arg7) := h0.2.2.2.2.2.2.2
      refine (Cert.RefVal2.out1_at m' (0 : Dev Cert.Reference2Ideal.nD) n J).trans ?_
      rw [e]
      rfl
  · exact (θ_run _ _ _).mono (fun r h => h) (Cert.Reference2Ideal.Value.run m' g')

theorem claim : Cert.Claim :=
  ⟨Cert.Kernel.Gen.facts, Cert.KernelIdeal.Gen.facts, Cert.ReferenceIdeal.Gen.facts, Cert.Kernel0.Gen.facts, Cert.Kernel0Ideal.Gen.facts, Cert.Reference0Ideal.Gen.facts, Cert.Kernel2.Gen.facts, Cert.Kernel2Ideal.Gen.facts, Cert.Reference2Ideal.Gen.facts, Cert.Pre_in_bounds.Gen.facts, Cert.Pre_grouped.Gen.facts, Cert.Pre_in_bounds_0.Gen.facts, Cert.Pre_grouped_0.Gen.facts, Cert.Pre_in_bounds_2.Gen.facts, Cert.Pre_grouped_2.Gen.facts,
    frame_kernel1, frame_ideal1, frame_ideal_grouped1, frame_reference1, frame_reference_grouped1, frame_kernel0, frame_ideal0, frame_ideal_grouped0, frame_reference0, frame_reference_grouped0, frame_kernel2, frame_ideal2, frame_ideal_grouped2, frame_reference2, frame_reference_grouped2, trivial, algebraic1, trivial, algebraic0, trivial, algebraic2⟩

end Cert.Proof

end
